-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S20016x2x128 Cert.KernelIdeal.S20016x1x128
  ∧ IdealRules.bf16_pair.BufferStatement Cert.KernelIdeal.S12800x2x128 Cert.KernelIdeal.S12800x1x128
  ∧ IdealRules.bf16_pair.Statement Cert.KernelIdeal.S40032x128 Cert.KernelIdeal.S20016x128
  ∧ IdealRules.bf16_pair.Statement Cert.KernelIdeal.S8x2x128 Cert.KernelIdeal.S8x1x128
  ∧ IdealRules.bf16_pair.Statement Cert.KernelIdeal.S2x128 Cert.KernelIdeal.S1x128
  ∧ IdealRules.bf16_pair.Statement Cert.KernelIdeal.S16x128 Cert.KernelIdeal.S8x128
  ∧ IdealRules.bf16_pair.Statement Cert.KernelIdeal.S1x2x128 Cert.KernelIdeal.S1x1x128
  ∧ IdealRules.bf16_pair.Statement Cert.KernelIdeal.S512x2x128 Cert.KernelIdeal.S512x1x128
  ∧ IdealRules.bf16_pair.Statement Cert.KernelIdeal.S1024x128 Cert.KernelIdeal.S512x128

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x200 : Shape := ⟨2, ![64, 200]⟩
abbrev S10000x128 : Shape := ⟨2, ![10000, 128]⟩
abbrev S512x256 : Shape := ⟨2, ![512, 256]⟩
abbrev S512x128 : Shape := ⟨2, ![512, 128]⟩
abbrev S512 : Shape := ⟨1, ![512]⟩
abbrev S10000 : Shape := ⟨1, ![10000]⟩
abbrev S_ : Shape := ⟨0, ![]⟩

class Facts : Prop where
  bcast_S_S64x200 : S_.BroadcastsInDim S64x200 (![] : Fin 0 → Fin S64x200.rank)
  reducesTo_S64x200_S_d0_1 : S64x200.ReducesTo [0, 1] S_
  h_S_ : 0 < S_.numel

variable [Facts]

def fn {F : FTy → Type} [FloatOps F] (main_arg0 : IVec S64x200 32) (main_arg1 : IVec S64x200 32) (main_arg2 : FVec F S10000x128 .f32) (main_arg3 : FVec F S512x256 .f32) (main_arg4 : FVec F S512x128 .f32) (main_arg5 : FVec F S512 .f32) (main_arg6 : FVec F S512 .f32) (main_arg7 : FVec F S10000x128 .f32) (main_arg8 : FVec F S10000 .f32) : IVec S_ 1 :=
  let main_c : IVec S_ 32 := constantI S_ 32 0#32
  let main_v0 : IVec S64x200 32 := broadcastInDim S64x200 ![] bcast_S_S64x200 main_c
  let main_v1 : IVec S64x200 1 := cmpi .sge main_arg0 main_v0
  let main_c_0 : IVec S_ 32 := constantI S_ 32 10000#32
  let main_v2 : IVec S64x200 32 := broadcastInDim S64x200 ![] bcast_S_S64x200 main_c_0
  let main_v3 : IVec S64x200 1 := cmpi .slt main_arg0 main_v2
  let main_v4 : IVec S64x200 1 := andi main_v1 main_v3
  let main_c_1 : IVec S_ 1 := constantI S_ 1 1#1
  let main_v5 : IVec S_ 1 := (fun x v => Host.reduce IntOp.andi x v reducesTo_S64x200_S_d0_1 h_S_) main_v4 main_c_1
  let main_c_2 : IVec S_ 32 := constantI S_ 32 4294967295#32
  let main_v6 : IVec S64x200 32 := broadcastInDim S64x200 ![] bcast_S_S64x200 main_c_2
  let main_v7 : IVec S64x200 1 := cmpi .sge main_arg1 main_v6
  let main_c_3 : IVec S_ 32 := constantI S_ 32 1#32
  let main_v8 : IVec S64x200 32 := broadcastInDim S64x200 ![] bcast_S_S64x200 main_c_3
  let main_v9 : IVec S64x200 1 := cmpi .sle main_arg1 main_v8
  let main_v10 : IVec S64x200 1 := andi main_v7 main_v9
  let main_c_4 : IVec S_ 1 := constantI S_ 1 1#1
  let main_v11 : IVec S_ 1 := (fun x v => Host.reduce IntOp.andi x v reducesTo_S64x200_S_d0_1 h_S_) main_v10 main_c_4
  let main_v12 : IVec S_ 1 := andi main_v5 main_v11
  main_v12
-- ==== Kernel.lean ====
abbrev S64x200 : Shape := ⟨2, ![64, 200]⟩
abbrev S10000x128 : Shape := ⟨2, ![10000, 128]⟩
abbrev S512x256 : Shape := ⟨2, ![512, 256]⟩
abbrev S512x128 : Shape := ⟨2, ![512, 128]⟩
abbrev S512 : Shape := ⟨1, ![512]⟩
abbrev S10000 : Shape := ⟨1, ![10000]⟩
abbrev S_ : Shape := ⟨0, ![]⟩
abbrev S16x128 : Shape := ⟨2, ![16, 128]⟩
abbrev S20016x128 : Shape := ⟨2, ![20016, 128]⟩
abbrev S20016x1x128 : Shape := ⟨3, ![20016, 1, 128]⟩
abbrev S20016x2x128 : Shape := ⟨3, ![20016, 2, 128]⟩
abbrev S40032x128 : Shape := ⟨2, ![40032, 128]⟩
abbrev S8x128 : Shape := ⟨2, ![8, 128]⟩
abbrev S10008x128 : Shape := ⟨2, ![10008, 128]⟩
abbrev S8 : Shape := ⟨1, ![8]⟩
abbrev S10008 : Shape := ⟨1, ![10008]⟩
abbrev S1 : Shape := ⟨1, ![1]⟩
abbrev S10008x1 : Shape := ⟨2, ![10008, 1]⟩
abbrev S10008x127 : Shape := ⟨2, ![10008, 127]⟩
abbrev S10008x1x128 : Shape := ⟨3, ![10008, 1, 128]⟩
abbrev S10008x2x128 : Shape := ⟨3, ![10008, 2, 128]⟩
abbrev S200x64 : Shape := ⟨2, ![200, 64]⟩
abbrev S12800 : Shape := ⟨1, ![12800]⟩
abbrev S256 : Shape := ⟨1, ![256]⟩
abbrev S13056 : Shape := ⟨1, ![13056]⟩
abbrev S64x199 : Shape := ⟨2, ![64, 199]⟩
abbrev S64x1 : Shape := ⟨2, ![64, 1]⟩
abbrev S256x512 : Shape := ⟨2, ![256, 512]⟩
abbrev S128x512 : Shape := ⟨2, ![128, 512]⟩
abbrev S1x512 : Shape := ⟨2, ![1, 512]⟩
abbrev S12800x1 : Shape := ⟨2, ![12800, 1]⟩
abbrev S64x256 : Shape := ⟨2, ![64, 256]⟩
abbrev S12800x128 : Shape := ⟨2, ![12800, 128]⟩
abbrev S2 : Shape := ⟨1, ![2]⟩
abbrev S1x128 : Shape := ⟨2, ![1, 128]⟩
abbrev S64x128 : Shape := ⟨2, ![64, 128]⟩
abbrev S64x512 : Shape := ⟨2, ![64, 512]⟩
abbrev S512x1 : Shape := ⟨2, ![512, 1]⟩
abbrev S199x64 : Shape := ⟨2, ![199, 64]⟩

abbrev nBuf : Space → Nat
  | .hbm => 84
  | .vmem => 10
  | .smem => 2
  | _ => 0

abbrev bufTy : (tb : Table) → Fin (tcTables nBuf tb) → BufTy
  | .hbm, ⟨0, _⟩ => ⟨S64x200, .i32⟩
  | .hbm, ⟨1, _⟩ => ⟨S64x200, .i32⟩
  | .hbm, ⟨2, _⟩ => ⟨S10000x128, .f32⟩
  | .hbm, ⟨3, _⟩ => ⟨S512x256, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S10000x128, .f32⟩
  | .hbm, ⟨8, _⟩ => ⟨S10000, .f32⟩
  | .hbm, ⟨9, _⟩ => ⟨S10000x128, .bf16⟩
  | .hbm, ⟨10, _⟩ => ⟨S_, .bf16⟩
  | .hbm, ⟨11, _⟩ => ⟨S10000x128, .bf16⟩
  | .hbm, ⟨12, _⟩ => ⟨S_, .bf16⟩
  | .hbm, ⟨13, _⟩ => ⟨S16x128, .bf16⟩
  | .hbm, ⟨14, _⟩ => ⟨S20016x128, .bf16⟩
  | .hbm, ⟨15, _⟩ => ⟨S_, .bf16⟩
  | .hbm, ⟨16, _⟩ => ⟨S16x128, .bf16⟩
  | .hbm, ⟨17, _⟩ => ⟨S20016x128, .bf16⟩
  | .hbm, ⟨18, _⟩ => ⟨S20016x1x128, .bf16⟩
  | .hbm, ⟨19, _⟩ => ⟨S20016x1x128, .bf16⟩
  | .hbm, ⟨20, _⟩ => ⟨S20016x2x128, .bf16⟩
  | .hbm, ⟨21, _⟩ => ⟨S40032x128, .bf16⟩
  | .hbm, ⟨22, _⟩ => ⟨S_, .f32⟩
  | .hbm, ⟨23, _⟩ => ⟨S8x128, .f32⟩
  | .hbm, ⟨24, _⟩ => ⟨S10008x128, .f32⟩
  | .hbm, ⟨25, _⟩ => ⟨S_, .f32⟩
  | .hbm, ⟨26, _⟩ => ⟨S8, .f32⟩
  | .hbm, ⟨27, _⟩ => ⟨S10008, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S10008, .f32⟩
  | .hbm, ⟨32, _⟩ => ⟨S10008, .bf16⟩
  | .hbm, ⟨33, _⟩ => ⟨S10008x1, .bf16⟩
  | .hbm, ⟨34, _⟩ => ⟨S_, .bf16⟩
  | .hbm, ⟨35, _⟩ => ⟨S10008x127, .bf16⟩
  | .hbm, ⟨36, _⟩ => ⟨S10008x128, .bf16⟩
  | .hbm, ⟨37, _⟩ => ⟨S10008x128, .bf16⟩
  | .hbm, ⟨38, _⟩ => ⟨S10008x1x128, .bf16⟩
  | .hbm, ⟨39, _⟩ => ⟨S10008x1x128, .bf16⟩
  | .hbm, ⟨40, _⟩ => ⟨S10008x2x128, .bf16⟩
  | .hbm, ⟨41, _⟩ => ⟨S20016x128, .bf16⟩
  | .hbm, ⟨42, _⟩ => ⟨S200x64, .i32⟩
  | .hbm, ⟨43, _⟩ => ⟨S_, .i32⟩
  | .hbm, ⟨44, _⟩ => ⟨S200x64, .i32⟩
  | .hbm, ⟨45, _⟩ => ⟨S200x64, .i1⟩
  | .hbm, ⟨46, _⟩ => ⟨S200x64, .i32⟩
  | .hbm, ⟨47, _⟩ => ⟨S_, .i32⟩
  | .hbm, ⟨48, _⟩ => ⟨S200x64, .i32⟩
  | .hbm, ⟨49, _⟩ => ⟨S200x64, .i32⟩
  | .hbm, ⟨50, _⟩ => ⟨S200x64, .i32⟩
  | .hbm, ⟨51, _⟩ => ⟨S_, .i32⟩
  | .hbm, ⟨52, _⟩ => ⟨S_, .i32⟩
  | .hbm, ⟨53, _⟩ => ⟨S200x64, .i32⟩
  | .hbm, ⟨54, _⟩ => ⟨S200x64, .i32⟩
  | .hbm, ⟨55, _⟩ => ⟨S12800, .i32⟩
  | .hbm, ⟨56, _⟩ => ⟨S_, .i32⟩
  | .hbm, ⟨57, _⟩ => ⟨S256, .i32⟩
  | .hbm, ⟨58, _⟩ => ⟨S13056, .i32⟩
  | .hbm, ⟨59, _⟩ => ⟨S64x199, .i32⟩
  | .hbm, ⟨60, _⟩ => ⟨S_, .i32⟩
  | .hbm, ⟨61, _⟩ => ⟨S64x1, .i32⟩
  | .hbm, ⟨62, _⟩ => ⟨S64x200, .i32⟩
  | .hbm, ⟨63, _⟩ => ⟨S200x64, .i32⟩
  | .hbm, ⟨64, _⟩ => ⟨S_, .i32⟩
  | .hbm, ⟨65, _⟩ => ⟨S200x64, .i32⟩
  | .hbm, ⟨66, _⟩ => ⟨S200x64, .i1⟩
  | .hbm, ⟨67, _⟩ => ⟨S200x64, .i32⟩
  | .hbm, ⟨68, _⟩ => ⟨S_, .i32⟩
  | .hbm, ⟨69, _⟩ => ⟨S200x64, .i32⟩
  | .hbm, ⟨70, _⟩ => ⟨S200x64, .i32⟩
  | .hbm, ⟨71, _⟩ => ⟨S_, .i32⟩
  | .hbm, ⟨72, _⟩ => ⟨S_, .i32⟩
  | .hbm, ⟨73, _⟩ => ⟨S200x64, .i32⟩
  | .hbm, ⟨74, _⟩ => ⟨S200x64, .i32⟩
  | .hbm, ⟨75, _⟩ => ⟨S12800, .i32⟩
  | .hbm, ⟨76, _⟩ => ⟨S256x512, .f32⟩
  | .hbm, ⟨77, _⟩ => ⟨S128x512, .f32⟩
  | .hbm, ⟨78, _⟩ => ⟨S512, .f32⟩
  | .hbm, ⟨79, _⟩ => ⟨S1x512, .f32⟩
  | .hbm, ⟨80, _⟩ => ⟨S12800x1, .f32⟩
  | .hbm, ⟨81, _⟩ => ⟨S200x64, .f32⟩
  | .hbm, ⟨82, _⟩ => ⟨S199x64, .f32⟩
  | .hbm, ⟨83, _⟩ => ⟨S64x199, .f32⟩
  | .local _ .vmem, ⟨0, _⟩ => ⟨S256x512, .f32⟩
  | .local _ .vmem, ⟨1, _⟩ => ⟨S128x512, .f32⟩
  | .local _ .vmem, ⟨2, _⟩ => ⟨S1x512, .f32⟩
  | .local _ .vmem, ⟨3, _⟩ => ⟨S12800x1, .f32⟩
  | .local _ .vmem, ⟨4, _⟩ => ⟨S20016x128, .i32⟩
  | .local _ .vmem, ⟨5, _⟩ => ⟨S20016x128, .bf16⟩
  | .local _ .vmem, ⟨6, _⟩ => ⟨S64x256, .f32⟩
  | .local _ .vmem, ⟨7, _⟩ => ⟨S64x256, .f32⟩
  | .local _ .vmem, ⟨8, _⟩ => ⟨S12800x128, .f32⟩
  | .local _ .vmem, ⟨9, _⟩ => ⟨S12800x128, .i32⟩
  | .local _ .smem, ⟨0, _⟩ => ⟨S13056, .i32⟩
  | .local _ .smem, ⟨1, _⟩ => ⟨S12800, .i32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_call0_v0 : Ref sig .tc := ⟨.hbm, 52, rfl⟩
abbrev main_call0_v1 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_call1_v0 : Ref sig .tc := ⟨.hbm, 72, rfl⟩
abbrev main_call1_v1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

def k0_mult1 (v8 : BitVec 32) : BitVec 32 :=
  let c3_i32 : BitVec 32 := 3#32
  let v9 : BitVec 32 := Scalar.shrsi v8 c3_i32
  let c3_i32_1 : BitVec 32 := 3#32
  let v10 : BitVec 32 := Scalar.shli v9 c3_i32_1
  v10

def k0_off1 (v8 : BitVec 32) : Fin 2 → Nat :=
  let c3_i32 : BitVec 32 := 3#32
  let v9 : BitVec 32 := Scalar.shrsi v8 c3_i32
  let c3_i32_1 : BitVec 32 := 3#32
  let v10 : BitVec 32 := Scalar.shli v9 c3_i32_1
  let v11 : BitVec 32 := v10
  let v12 : Index := Scalar.indexCast v11
  let c0_2 : Index := 0#32
  ![v12.toNat, 0]

def k0_chk1 (v8 : BitVec 32) : Prop :=
  (8 ∣ (k0_mult1 v8).toNat) ∧
  (∀ a, (k0_off1 v8) a + S8x128.size a ≤ S20016x128.size a)
theorem k0_mult1_dvd : ∀ (v8 : BitVec 32) (k0_hw1 : k0_chk1 v8), 8 ∣ (k0_mult1 v8).toNat := fun v8 k0_hw1 => k0_hw1.1
theorem k0_off1_inb : ∀ (v8 : BitVec 32) (k0_hw1 : k0_chk1 v8), ∀ a, (k0_off1 v8) a + S8x128.size a ≤ S20016x128.size a := fun v8 k0_hw1 => k0_hw1.2

def k0_mult2 (v30 : BitVec 32) : BitVec 32 :=
  let c3_i32_7 : BitVec 32 := 3#32
  let v31 : BitVec 32 := Scalar.shrsi v30 c3_i32_7
  let c3_i32_8 : BitVec 32 := 3#32
  let v32 : BitVec 32 := Scalar.shli v31 c3_i32_8
  v32

def k0_off2 (v30 : BitVec 32) : Fin 2 → Nat :=
  let c3_i32_7 : BitVec 32 := 3#32
  let v31 : BitVec 32 := Scalar.shrsi v30 c3_i32_7
  let c3_i32_8 : BitVec 32 := 3#32
  let v32 : BitVec 32 := Scalar.shli v31 c3_i32_8
  let v33 : BitVec 32 := v32
  let v34 : Index := Scalar.indexCast v33
  let c0_9 : Index := 0#32
  ![v34.toNat, 0]

def k0_chk2 (v30 : BitVec 32) : Prop :=
  (8 ∣ (k0_mult2 v30).toNat) ∧
  (∀ a, (k0_off2 v30) a + S8x128.size a ≤ S20016x128.size a)
theorem k0_mult2_dvd : ∀ (v30 : BitVec 32) (k0_hw2 : k0_chk2 v30), 8 ∣ (k0_mult2 v30).toNat := fun v30 k0_hw2 => k0_hw2.1
theorem k0_off2_inb : ∀ (v30 : BitVec 32) (k0_hw2 : k0_chk2 v30), ∀ a, (k0_off2 v30) a + S8x128.size a ≤ S20016x128.size a := fun v30 k0_hw2 => k0_hw2.2

def k0_mult3 (v52 : BitVec 32) : BitVec 32 :=
  let c3_i32_18 : BitVec 32 := 3#32
  let v53 : BitVec 32 := Scalar.shrsi v52 c3_i32_18
  let c3_i32_19 : BitVec 32 := 3#32
  let v54 : BitVec 32 := Scalar.shli v53 c3_i32_19
  v54

def k0_off3 (v52 : BitVec 32) : Fin 2 → Nat :=
  let c3_i32_18 : BitVec 32 := 3#32
  let v53 : BitVec 32 := Scalar.shrsi v52 c3_i32_18
  let c3_i32_19 : BitVec 32 := 3#32
  let v54 : BitVec 32 := Scalar.shli v53 c3_i32_19
  let v55 : BitVec 32 := v54
  let v56 : Index := Scalar.indexCast v55
  let c0_20 : Index := 0#32
  ![v56.toNat, 0]

def k0_chk3 (v52 : BitVec 32) : Prop :=
  (8 ∣ (k0_mult3 v52).toNat) ∧
  (∀ a, (k0_off3 v52) a + S8x128.size a ≤ S20016x128.size a)
theorem k0_mult3_dvd : ∀ (v52 : BitVec 32) (k0_hw3 : k0_chk3 v52), 8 ∣ (k0_mult3 v52).toNat := fun v52 k0_hw3 => k0_hw3.1
theorem k0_off3_inb : ∀ (v52 : BitVec 32) (k0_hw3 : k0_chk3 v52), ∀ a, (k0_off3 v52) a + S8x128.size a ≤ S20016x128.size a := fun v52 k0_hw3 => k0_hw3.2

def k0_mult4 (v74 : BitVec 32) : BitVec 32 :=
  let c3_i32_29 : BitVec 32 := 3#32
  let v75 : BitVec 32 := Scalar.shrsi v74 c3_i32_29
  let c3_i32_30 : BitVec 32 := 3#32
  let v76 : BitVec 32 := Scalar.shli v75 c3_i32_30
  v76

def k0_off4 (v74 : BitVec 32) : Fin 2 → Nat :=
  let c3_i32_29 : BitVec 32 := 3#32
  let v75 : BitVec 32 := Scalar.shrsi v74 c3_i32_29
  let c3_i32_30 : BitVec 32 := 3#32
  let v76 : BitVec 32 := Scalar.shli v75 c3_i32_30
  let v77 : BitVec 32 := v76
  let v78 : Index := Scalar.indexCast v77
  let c0_31 : Index := 0#32
  ![v78.toNat, 0]

def k0_chk4 (v74 : BitVec 32) : Prop :=
  (8 ∣ (k0_mult4 v74).toNat) ∧
  (∀ a, (k0_off4 v74) a + S8x128.size a ≤ S20016x128.size a)
theorem k0_mult4_dvd : ∀ (v74 : BitVec 32) (k0_hw4 : k0_chk4 v74), 8 ∣ (k0_mult4 v74).toNat := fun v74 k0_hw4 => k0_hw4.1
theorem k0_off4_inb : ∀ (v74 : BitVec 32) (k0_hw4 : k0_chk4 v74), ∀ a, (k0_off4 v74) a + S8x128.size a ≤ S20016x128.size a := fun v74 k0_hw4 => k0_hw4.2

def k0_mult5 (v96 : BitVec 32) : BitVec 32 :=
  let c3_i32_40 : BitVec 32 := 3#32
  let v97 : BitVec 32 := Scalar.shrsi v96 c3_i32_40
  let c3_i32_41 : BitVec 32 := 3#32
  let v98 : BitVec 32 := Scalar.shli v97 c3_i32_41
  v98

def k0_off5 (v96 : BitVec 32) : Fin 2 → Nat :=
  let c3_i32_40 : BitVec 32 := 3#32
  let v97 : BitVec 32 := Scalar.shrsi v96 c3_i32_40
  let c3_i32_41 : BitVec 32 := 3#32
  let v98 : BitVec 32 := Scalar.shli v97 c3_i32_41
  let v99 : BitVec 32 := v98
  let v100 : Index := Scalar.indexCast v99
  let c0_42 : Index := 0#32
  ![v100.toNat, 0]

def k0_chk5 (v96 : BitVec 32) : Prop :=
  (8 ∣ (k0_mult5 v96).toNat) ∧
  (∀ a, (k0_off5 v96) a + S8x128.size a ≤ S20016x128.size a)
theorem k0_mult5_dvd : ∀ (v96 : BitVec 32) (k0_hw5 : k0_chk5 v96), 8 ∣ (k0_mult5 v96).toNat := fun v96 k0_hw5 => k0_hw5.1
theorem k0_off5_inb : ∀ (v96 : BitVec 32) (k0_hw5 : k0_chk5 v96), ∀ a, (k0_off5 v96) a + S8x128.size a ≤ S20016x128.size a := fun v96 k0_hw5 => k0_hw5.2

def k0_mult6 (v118 : BitVec 32) : BitVec 32 :=
  let c3_i32_51 : BitVec 32 := 3#32
  let v119 : BitVec 32 := Scalar.shrsi v118 c3_i32_51
  let c3_i32_52 : BitVec 32 := 3#32
  let v120 : BitVec 32 := Scalar.shli v119 c3_i32_52
  v120

def k0_off6 (v118 : BitVec 32) : Fin 2 → Nat :=
  let c3_i32_51 : BitVec 32 := 3#32
  let v119 : BitVec 32 := Scalar.shrsi v118 c3_i32_51
  let c3_i32_52 : BitVec 32 := 3#32
  let v120 : BitVec 32 := Scalar.shli v119 c3_i32_52
  let v121 : BitVec 32 := v120
  let v122 : Index := Scalar.indexCast v121
  let c0_53 : Index := 0#32
  ![v122.toNat, 0]

def k0_chk6 (v118 : BitVec 32) : Prop :=
  (8 ∣ (k0_mult6 v118).toNat) ∧
  (∀ a, (k0_off6 v118) a + S8x128.size a ≤ S20016x128.size a)
theorem k0_mult6_dvd : ∀ (v118 : BitVec 32) (k0_hw6 : k0_chk6 v118), 8 ∣ (k0_mult6 v118).toNat := fun v118 k0_hw6 => k0_hw6.1
theorem k0_off6_inb : ∀ (v118 : BitVec 32) (k0_hw6 : k0_chk6 v118), ∀ a, (k0_off6 v118) a + S8x128.size a ≤ S20016x128.size a := fun v118 k0_hw6 => k0_hw6.2

def k0_mult7 (v140 : BitVec 32) : BitVec 32 :=
  let c3_i32_62 : BitVec 32 := 3#32
  let v141 : BitVec 32 := Scalar.shrsi v140 c3_i32_62
  let c3_i32_63 : BitVec 32 := 3#32
  let v142 : BitVec 32 := Scalar.shli v141 c3_i32_63
  v142

def k0_off7 (v140 : BitVec 32) : Fin 2 → Nat :=
  let c3_i32_62 : BitVec 32 := 3#32
  let v141 : BitVec 32 := Scalar.shrsi v140 c3_i32_62
  let c3_i32_63 : BitVec 32 := 3#32
  let v142 : BitVec 32 := Scalar.shli v141 c3_i32_63
  let v143 : BitVec 32 := v142
  let v144 : Index := Scalar.indexCast v143
  let c0_64 : Index := 0#32
  ![v144.toNat, 0]

def k0_chk7 (v140 : BitVec 32) : Prop :=
  (8 ∣ (k0_mult7 v140).toNat) ∧
  (∀ a, (k0_off7 v140) a + S8x128.size a ≤ S20016x128.size a)
theorem k0_mult7_dvd : ∀ (v140 : BitVec 32) (k0_hw7 : k0_chk7 v140), 8 ∣ (k0_mult7 v140).toNat := fun v140 k0_hw7 => k0_hw7.1
theorem k0_off7_inb : ∀ (v140 : BitVec 32) (k0_hw7 : k0_chk7 v140), ∀ a, (k0_off7 v140) a + S8x128.size a ≤ S20016x128.size a := fun v140 k0_hw7 => k0_hw7.2

def k0_mult8 (v162 : BitVec 32) : BitVec 32 :=
  let c3_i32_73 : BitVec 32 := 3#32
  let v163 : BitVec 32 := Scalar.shrsi v162 c3_i32_73
  let c3_i32_74 : BitVec 32 := 3#32
  let v164 : BitVec 32 := Scalar.shli v163 c3_i32_74
  v164

def k0_off8 (v162 : BitVec 32) : Fin 2 → Nat :=
  let c3_i32_73 : BitVec 32 := 3#32
  let v163 : BitVec 32 := Scalar.shrsi v162 c3_i32_73
  let c3_i32_74 : BitVec 32 := 3#32
  let v164 : BitVec 32 := Scalar.shli v163 c3_i32_74
  let v165 : BitVec 32 := v164
  let v166 : Index := Scalar.indexCast v165
  let c0_75 : Index := 0#32
  ![v166.toNat, 0]

def k0_chk8 (v162 : BitVec 32) : Prop :=
  (8 ∣ (k0_mult8 v162).toNat) ∧
  (∀ a, (k0_off8 v162) a + S8x128.size a ≤ S20016x128.size a)
theorem k0_mult8_dvd : ∀ (v162 : BitVec 32) (k0_hw8 : k0_chk8 v162), 8 ∣ (k0_mult8 v162).toNat := fun v162 k0_hw8 => k0_hw8.1
theorem k0_off8_inb : ∀ (v162 : BitVec 32) (k0_hw8 : k0_chk8 v162), ∀ a, (k0_off8 v162) a + S8x128.size a ≤ S20016x128.size a := fun v162 k0_hw8 => k0_hw8.2

def k0_mult9 (v184 : BitVec 32) : BitVec 32 :=
  let c3_i32_84 : BitVec 32 := 3#32
  let v185 : BitVec 32 := Scalar.shrsi v184 c3_i32_84
  let c3_i32_85 : BitVec 32 := 3#32
  let v186 : BitVec 32 := Scalar.shli v185 c3_i32_85
  v186

def k0_off9 (v184 : BitVec 32) : Fin 2 → Nat :=
  let c3_i32_84 : BitVec 32 := 3#32
  let v185 : BitVec 32 := Scalar.shrsi v184 c3_i32_84
  let c3_i32_85 : BitVec 32 := 3#32
  let v186 : BitVec 32 := Scalar.shli v185 c3_i32_85
  let v187 : BitVec 32 := v186
  let v188 : Index := Scalar.indexCast v187
  let c0_86 : Index := 0#32
  ![v188.toNat, 0]

def k0_chk9 (v184 : BitVec 32) : Prop :=
  (8 ∣ (k0_mult9 v184).toNat) ∧
  (∀ a, (k0_off9 v184) a + S8x128.size a ≤ S20016x128.size a)
theorem k0_mult9_dvd : ∀ (v184 : BitVec 32) (k0_hw9 : k0_chk9 v184), 8 ∣ (k0_mult9 v184).toNat := fun v184 k0_hw9 => k0_hw9.1
theorem k0_off9_inb : ∀ (v184 : BitVec 32) (k0_hw9 : k0_chk9 v184), ∀ a, (k0_off9 v184) a + S8x128.size a ≤ S20016x128.size a := fun v184 k0_hw9 => k0_hw9.2

def k0_mult10 (v206 : BitVec 32) : BitVec 32 :=
  let c3_i32_95 : BitVec 32 := 3#32
  let v207 : BitVec 32 := Scalar.shrsi v206 c3_i32_95
  let c3_i32_96 : BitVec 32 := 3#32
  let v208 : BitVec 32 := Scalar.shli v207 c3_i32_96
  v208

def k0_off10 (v206 : BitVec 32) : Fin 2 → Nat :=
  let c3_i32_95 : BitVec 32 := 3#32
  let v207 : BitVec 32 := Scalar.shrsi v206 c3_i32_95
  let c3_i32_96 : BitVec 32 := 3#32
  let v208 : BitVec 32 := Scalar.shli v207 c3_i32_96
  let v209 : BitVec 32 := v208
  let v210 : Index := Scalar.indexCast v209
  let c0_97 : Index := 0#32
  ![v210.toNat, 0]

def k0_chk10 (v206 : BitVec 32) : Prop :=
  (8 ∣ (k0_mult10 v206).toNat) ∧
  (∀ a, (k0_off10 v206) a + S8x128.size a ≤ S20016x128.size a)
theorem k0_mult10_dvd : ∀ (v206 : BitVec 32) (k0_hw10 : k0_chk10 v206), 8 ∣ (k0_mult10 v206).toNat := fun v206 k0_hw10 => k0_hw10.1
theorem k0_off10_inb : ∀ (v206 : BitVec 32) (k0_hw10 : k0_chk10 v206), ∀ a, (k0_off10 v206) a + S8x128.size a ≤ S20016x128.size a := fun v206 k0_hw10 => k0_hw10.2

def k0_mult11 (v228 : BitVec 32) : BitVec 32 :=
  let c3_i32_106 : BitVec 32 := 3#32
  let v229 : BitVec 32 := Scalar.shrsi v228 c3_i32_106
  let c3_i32_107 : BitVec 32 := 3#32
  let v230 : BitVec 32 := Scalar.shli v229 c3_i32_107
  v230

def k0_off11 (v228 : BitVec 32) : Fin 2 → Nat :=
  let c3_i32_106 : BitVec 32 := 3#32
  let v229 : BitVec 32 := Scalar.shrsi v228 c3_i32_106
  let c3_i32_107 : BitVec 32 := 3#32
  let v230 : BitVec 32 := Scalar.shli v229 c3_i32_107
  let v231 : BitVec 32 := v230
  let v232 : Index := Scalar.indexCast v231
  let c0_108 : Index := 0#32
  ![v232.toNat, 0]

def k0_chk11 (v228 : BitVec 32) : Prop :=
  (8 ∣ (k0_mult11 v228).toNat) ∧
  (∀ a, (k0_off11 v228) a + S8x128.size a ≤ S20016x128.size a)
theorem k0_mult11_dvd : ∀ (v228 : BitVec 32) (k0_hw11 : k0_chk11 v228), 8 ∣ (k0_mult11 v228).toNat := fun v228 k0_hw11 => k0_hw11.1
theorem k0_off11_inb : ∀ (v228 : BitVec 32) (k0_hw11 : k0_chk11 v228), ∀ a, (k0_off11 v228) a + S8x128.size a ≤ S20016x128.size a := fun v228 k0_hw11 => k0_hw11.2

def k0_mult12 (v250 : BitVec 32) : BitVec 32 :=
  let c3_i32_117 : BitVec 32 := 3#32
  let v251 : BitVec 32 := Scalar.shrsi v250 c3_i32_117
  let c3_i32_118 : BitVec 32 := 3#32
  let v252 : BitVec 32 := Scalar.shli v251 c3_i32_118
  v252

def k0_off12 (v250 : BitVec 32) : Fin 2 → Nat :=
  let c3_i32_117 : BitVec 32 := 3#32
  let v251 : BitVec 32 := Scalar.shrsi v250 c3_i32_117
  let c3_i32_118 : BitVec 32 := 3#32
  let v252 : BitVec 32 := Scalar.shli v251 c3_i32_118
  let v253 : BitVec 32 := v252
  let v254 : Index := Scalar.indexCast v253
  let c0_119 : Index := 0#32
  ![v254.toNat, 0]

def k0_chk12 (v250 : BitVec 32) : Prop :=
  (8 ∣ (k0_mult12 v250).toNat) ∧
  (∀ a, (k0_off12 v250) a + S8x128.size a ≤ S20016x128.size a)
theorem k0_mult12_dvd : ∀ (v250 : BitVec 32) (k0_hw12 : k0_chk12 v250), 8 ∣ (k0_mult12 v250).toNat := fun v250 k0_hw12 => k0_hw12.1
theorem k0_off12_inb : ∀ (v250 : BitVec 32) (k0_hw12 : k0_chk12 v250), ∀ a, (k0_off12 v250) a + S8x128.size a ≤ S20016x128.size a := fun v250 k0_hw12 => k0_hw12.2

def k0_mult13 (v272 : BitVec 32) : BitVec 32 :=
  let c3_i32_128 : BitVec 32 := 3#32
  let v273 : BitVec 32 := Scalar.shrsi v272 c3_i32_128
  let c3_i32_129 : BitVec 32 := 3#32
  let v274 : BitVec 32 := Scalar.shli v273 c3_i32_129
  v274

def k0_off13 (v272 : BitVec 32) : Fin 2 → Nat :=
  let c3_i32_128 : BitVec 32 := 3#32
  let v273 : BitVec 32 := Scalar.shrsi v272 c3_i32_128
  let c3_i32_129 : BitVec 32 := 3#32
  let v274 : BitVec 32 := Scalar.shli v273 c3_i32_129
  let v275 : BitVec 32 := v274
  let v276 : Index := Scalar.indexCast v275
  let c0_130 : Index := 0#32
  ![v276.toNat, 0]

def k0_chk13 (v272 : BitVec 32) : Prop :=
  (8 ∣ (k0_mult13 v272).toNat) ∧
  (∀ a, (k0_off13 v272) a + S8x128.size a ≤ S20016x128.size a)
theorem k0_mult13_dvd : ∀ (v272 : BitVec 32) (k0_hw13 : k0_chk13 v272), 8 ∣ (k0_mult13 v272).toNat := fun v272 k0_hw13 => k0_hw13.1
theorem k0_off13_inb : ∀ (v272 : BitVec 32) (k0_hw13 : k0_chk13 v272), ∀ a, (k0_off13 v272) a + S8x128.size a ≤ S20016x128.size a := fun v272 k0_hw13 => k0_hw13.2

def k0_mult14 (v294 : BitVec 32) : BitVec 32 :=
  let c3_i32_139 : BitVec 32 := 3#32
  let v295 : BitVec 32 := Scalar.shrsi v294 c3_i32_139
  let c3_i32_140 : BitVec 32 := 3#32
  let v296 : BitVec 32 := Scalar.shli v295 c3_i32_140
  v296

def k0_off14 (v294 : BitVec 32) : Fin 2 → Nat :=
  let c3_i32_139 : BitVec 32 := 3#32
  let v295 : BitVec 32 := Scalar.shrsi v294 c3_i32_139
  let c3_i32_140 : BitVec 32 := 3#32
  let v296 : BitVec 32 := Scalar.shli v295 c3_i32_140
  let v297 : BitVec 32 := v296
  let v298 : Index := Scalar.indexCast v297
  let c0_141 : Index := 0#32
  ![v298.toNat, 0]

def k0_chk14 (v294 : BitVec 32) : Prop :=
  (8 ∣ (k0_mult14 v294).toNat) ∧
  (∀ a, (k0_off14 v294) a + S8x128.size a ≤ S20016x128.size a)
theorem k0_mult14_dvd : ∀ (v294 : BitVec 32) (k0_hw14 : k0_chk14 v294), 8 ∣ (k0_mult14 v294).toNat := fun v294 k0_hw14 => k0_hw14.1
theorem k0_off14_inb : ∀ (v294 : BitVec 32) (k0_hw14 : k0_chk14 v294), ∀ a, (k0_off14 v294) a + S8x128.size a ≤ S20016x128.size a := fun v294 k0_hw14 => k0_hw14.2

def k0_mult15 (v316 : BitVec 32) : BitVec 32 :=
  let c3_i32_150 : BitVec 32 := 3#32
  let v317 : BitVec 32 := Scalar.shrsi v316 c3_i32_150
  let c3_i32_151 : BitVec 32 := 3#32
  let v318 : BitVec 32 := Scalar.shli v317 c3_i32_151
  v318

def k0_off15 (v316 : BitVec 32) : Fin 2 → Nat :=
  let c3_i32_150 : BitVec 32 := 3#32
  let v317 : BitVec 32 := Scalar.shrsi v316 c3_i32_150
  let c3_i32_151 : BitVec 32 := 3#32
  let v318 : BitVec 32 := Scalar.shli v317 c3_i32_151
  let v319 : BitVec 32 := v318
  let v320 : Index := Scalar.indexCast v319
  let c0_152 : Index := 0#32
  ![v320.toNat, 0]

def k0_chk15 (v316 : BitVec 32) : Prop :=
  (8 ∣ (k0_mult15 v316).toNat) ∧
  (∀ a, (k0_off15 v316) a + S8x128.size a ≤ S20016x128.size a)
theorem k0_mult15_dvd : ∀ (v316 : BitVec 32) (k0_hw15 : k0_chk15 v316), 8 ∣ (k0_mult15 v316).toNat := fun v316 k0_hw15 => k0_hw15.1
theorem k0_off15_inb : ∀ (v316 : BitVec 32) (k0_hw15 : k0_chk15 v316), ∀ a, (k0_off15 v316) a + S8x128.size a ≤ S20016x128.size a := fun v316 k0_hw15 => k0_hw15.2

def k0_mult16 (v338 : BitVec 32) : BitVec 32 :=
  let c3_i32_161 : BitVec 32 := 3#32
  let v339 : BitVec 32 := Scalar.shrsi v338 c3_i32_161
  let c3_i32_162 : BitVec 32 := 3#32
  let v340 : BitVec 32 := Scalar.shli v339 c3_i32_162
  v340

def k0_off16 (v338 : BitVec 32) : Fin 2 → Nat :=
  let c3_i32_161 : BitVec 32 := 3#32
  let v339 : BitVec 32 := Scalar.shrsi v338 c3_i32_161
  let c3_i32_162 : BitVec 32 := 3#32
  let v340 : BitVec 32 := Scalar.shli v339 c3_i32_162
  let v341 : BitVec 32 := v340
  let v342 : Index := Scalar.indexCast v341
  let c0_163 : Index := 0#32
  ![v342.toNat, 0]

def k0_chk16 (v338 : BitVec 32) : Prop :=
  (8 ∣ (k0_mult16 v338).toNat) ∧
  (∀ a, (k0_off16 v338) a + S8x128.size a ≤ S20016x128.size a)
theorem k0_mult16_dvd : ∀ (v338 : BitVec 32) (k0_hw16 : k0_chk16 v338), 8 ∣ (k0_mult16 v338).toNat := fun v338 k0_hw16 => k0_hw16.1
theorem k0_off16_inb : ∀ (v338 : BitVec 32) (k0_hw16 : k0_chk16 v338), ∀ a, (k0_off16 v338) a + S8x128.size a ≤ S20016x128.size a := fun v338 k0_hw16 => k0_hw16.2

def k0_mult17 (v360 : BitVec 32) : BitVec 32 :=
  let c3_i32_172 : BitVec 32 := 3#32
  let v361 : BitVec 32 := Scalar.shrsi v360 c3_i32_172
  let c3_i32_173 : BitVec 32 := 3#32
  let v362 : BitVec 32 := Scalar.shli v361 c3_i32_173
  v362

def k0_off17 (v360 : BitVec 32) : Fin 2 → Nat :=
  let c3_i32_172 : BitVec 32 := 3#32
  let v361 : BitVec 32 := Scalar.shrsi v360 c3_i32_172
  let c3_i32_173 : BitVec 32 := 3#32
  let v362 : BitVec 32 := Scalar.shli v361 c3_i32_173
  let v363 : BitVec 32 := v362
  let v364 : Index := Scalar.indexCast v363
  let c0_174 : Index := 0#32
  ![v364.toNat, 0]

def k0_chk17 (v360 : BitVec 32) : Prop :=
  (8 ∣ (k0_mult17 v360).toNat) ∧
  (∀ a, (k0_off17 v360) a + S8x128.size a ≤ S20016x128.size a)
theorem k0_mult17_dvd : ∀ (v360 : BitVec 32) (k0_hw17 : k0_chk17 v360), 8 ∣ (k0_mult17 v360).toNat := fun v360 k0_hw17 => k0_hw17.1
theorem k0_off17_inb : ∀ (v360 : BitVec 32) (k0_hw17 : k0_chk17 v360), ∀ a, (k0_off17 v360) a + S8x128.size a ≤ S20016x128.size a := fun v360 k0_hw17 => k0_hw17.2

def k0_mult18 (v382 : BitVec 32) : BitVec 32 :=
  let c3_i32_183 : BitVec 32 := 3#32
  let v383 : BitVec 32 := Scalar.shrsi v382 c3_i32_183
  let c3_i32_184 : BitVec 32 := 3#32
  let v384 : BitVec 32 := Scalar.shli v383 c3_i32_184
  v384

def k0_off18 (v382 : BitVec 32) : Fin 2 → Nat :=
  let c3_i32_183 : BitVec 32 := 3#32
  let v383 : BitVec 32 := Scalar.shrsi v382 c3_i32_183
  let c3_i32_184 : BitVec 32 := 3#32
  let v384 : BitVec 32 := Scalar.shli v383 c3_i32_184
  let v385 : BitVec 32 := v384
  let v386 : Index := Scalar.indexCast v385
  let c0_185 : Index := 0#32
  ![v386.toNat, 0]

def k0_chk18 (v382 : BitVec 32) : Prop :=
  (8 ∣ (k0_mult18 v382).toNat) ∧
  (∀ a, (k0_off18 v382) a + S8x128.size a ≤ S20016x128.size a)
theorem k0_mult18_dvd : ∀ (v382 : BitVec 32) (k0_hw18 : k0_chk18 v382), 8 ∣ (k0_mult18 v382).toNat := fun v382 k0_hw18 => k0_hw18.1
theorem k0_off18_inb : ∀ (v382 : BitVec 32) (k0_hw18 : k0_chk18 v382), ∀ a, (k0_off18 v382) a + S8x128.size a ≤ S20016x128.size a := fun v382 k0_hw18 => k0_hw18.2

def k0_mult19 (v404 : BitVec 32) : BitVec 32 :=
  let c3_i32_194 : BitVec 32 := 3#32
  let v405 : BitVec 32 := Scalar.shrsi v404 c3_i32_194
  let c3_i32_195 : BitVec 32 := 3#32
  let v406 : BitVec 32 := Scalar.shli v405 c3_i32_195
  v406

def k0_off19 (v404 : BitVec 32) : Fin 2 → Nat :=
  let c3_i32_194 : BitVec 32 := 3#32
  let v405 : BitVec 32 := Scalar.shrsi v404 c3_i32_194
  let c3_i32_195 : BitVec 32 := 3#32
  let v406 : BitVec 32 := Scalar.shli v405 c3_i32_195
  let v407 : BitVec 32 := v406
  let v408 : Index := Scalar.indexCast v407
  let c0_196 : Index := 0#32
  ![v408.toNat, 0]

def k0_chk19 (v404 : BitVec 32) : Prop :=
  (8 ∣ (k0_mult19 v404).toNat) ∧
  (∀ a, (k0_off19 v404) a + S8x128.size a ≤ S20016x128.size a)
theorem k0_mult19_dvd : ∀ (v404 : BitVec 32) (k0_hw19 : k0_chk19 v404), 8 ∣ (k0_mult19 v404).toNat := fun v404 k0_hw19 => k0_hw19.1
theorem k0_off19_inb : ∀ (v404 : BitVec 32) (k0_hw19 : k0_chk19 v404), ∀ a, (k0_off19 v404) a + S8x128.size a ≤ S20016x128.size a := fun v404 k0_hw19 => k0_hw19.2

def k0_mult20 (v426 : BitVec 32) : BitVec 32 :=
  let c3_i32_205 : BitVec 32 := 3#32
  let v427 : BitVec 32 := Scalar.shrsi v426 c3_i32_205
  let c3_i32_206 : BitVec 32 := 3#32
  let v428 : BitVec 32 := Scalar.shli v427 c3_i32_206
  v428

def k0_off20 (v426 : BitVec 32) : Fin 2 → Nat :=
  let c3_i32_205 : BitVec 32 := 3#32
  let v427 : BitVec 32 := Scalar.shrsi v426 c3_i32_205
  let c3_i32_206 : BitVec 32 := 3#32
  let v428 : BitVec 32 := Scalar.shli v427 c3_i32_206
  let v429 : BitVec 32 := v428
  let v430 : Index := Scalar.indexCast v429
  let c0_207 : Index := 0#32
  ![v430.toNat, 0]

def k0_chk20 (v426 : BitVec 32) : Prop :=
  (8 ∣ (k0_mult20 v426).toNat) ∧
  (∀ a, (k0_off20 v426) a + S8x128.size a ≤ S20016x128.size a)
theorem k0_mult20_dvd : ∀ (v426 : BitVec 32) (k0_hw20 : k0_chk20 v426), 8 ∣ (k0_mult20 v426).toNat := fun v426 k0_hw20 => k0_hw20.1
theorem k0_off20_inb : ∀ (v426 : BitVec 32) (k0_hw20 : k0_chk20 v426), ∀ a, (k0_off20 v426) a + S8x128.size a ≤ S20016x128.size a := fun v426 k0_hw20 => k0_hw20.2

def k0_mult21 (v448 : BitVec 32) : BitVec 32 :=
  let c3_i32_216 : BitVec 32 := 3#32
  let v449 : BitVec 32 := Scalar.shrsi v448 c3_i32_216
  let c3_i32_217 : BitVec 32 := 3#32
  let v450 : BitVec 32 := Scalar.shli v449 c3_i32_217
  v450

def k0_off21 (v448 : BitVec 32) : Fin 2 → Nat :=
  let c3_i32_216 : BitVec 32 := 3#32
  let v449 : BitVec 32 := Scalar.shrsi v448 c3_i32_216
  let c3_i32_217 : BitVec 32 := 3#32
  let v450 : BitVec 32 := Scalar.shli v449 c3_i32_217
  let v451 : BitVec 32 := v450
  let v452 : Index := Scalar.indexCast v451
  let c0_218 : Index := 0#32
  ![v452.toNat, 0]

def k0_chk21 (v448 : BitVec 32) : Prop :=
  (8 ∣ (k0_mult21 v448).toNat) ∧
  (∀ a, (k0_off21 v448) a + S8x128.size a ≤ S20016x128.size a)
theorem k0_mult21_dvd : ∀ (v448 : BitVec 32) (k0_hw21 : k0_chk21 v448), 8 ∣ (k0_mult21 v448).toNat := fun v448 k0_hw21 => k0_hw21.1
theorem k0_off21_inb : ∀ (v448 : BitVec 32) (k0_hw21 : k0_chk21 v448), ∀ a, (k0_off21 v448) a + S8x128.size a ≤ S20016x128.size a := fun v448 k0_hw21 => k0_hw21.2

def k0_mult22 (v470 : BitVec 32) : BitVec 32 :=
  let c3_i32_227 : BitVec 32 := 3#32
  let v471 : BitVec 32 := Scalar.shrsi v470 c3_i32_227
  let c3_i32_228 : BitVec 32 := 3#32
  let v472 : BitVec 32 := Scalar.shli v471 c3_i32_228
  v472

def k0_off22 (v470 : BitVec 32) : Fin 2 → Nat :=
  let c3_i32_227 : BitVec 32 := 3#32
  let v471 : BitVec 32 := Scalar.shrsi v470 c3_i32_227
  let c3_i32_228 : BitVec 32 := 3#32
  let v472 : BitVec 32 := Scalar.shli v471 c3_i32_228
  let v473 : BitVec 32 := v472
  let v474 : Index := Scalar.indexCast v473
  let c0_229 : Index := 0#32
  ![v474.toNat, 0]

def k0_chk22 (v470 : BitVec 32) : Prop :=
  (8 ∣ (k0_mult22 v470).toNat) ∧
  (∀ a, (k0_off22 v470) a + S8x128.size a ≤ S20016x128.size a)
theorem k0_mult22_dvd : ∀ (v470 : BitVec 32) (k0_hw22 : k0_chk22 v470), 8 ∣ (k0_mult22 v470).toNat := fun v470 k0_hw22 => k0_hw22.1
theorem k0_off22_inb : ∀ (v470 : BitVec 32) (k0_hw22 : k0_chk22 v470), ∀ a, (k0_off22 v470) a + S8x128.size a ≤ S20016x128.size a := fun v470 k0_hw22 => k0_hw22.2

def k0_mult23 (v492 : BitVec 32) : BitVec 32 :=
  let c3_i32_238 : BitVec 32 := 3#32
  let v493 : BitVec 32 := Scalar.shrsi v492 c3_i32_238
  let c3_i32_239 : BitVec 32 := 3#32
  let v494 : BitVec 32 := Scalar.shli v493 c3_i32_239
  v494

def k0_off23 (v492 : BitVec 32) : Fin 2 → Nat :=
  let c3_i32_238 : BitVec 32 := 3#32
  let v493 : BitVec 32 := Scalar.shrsi v492 c3_i32_238
  let c3_i32_239 : BitVec 32 := 3#32
  let v494 : BitVec 32 := Scalar.shli v493 c3_i32_239
  let v495 : BitVec 32 := v494
  let v496 : Index := Scalar.indexCast v495
  let c0_240 : Index := 0#32
  ![v496.toNat, 0]

def k0_chk23 (v492 : BitVec 32) : Prop :=
  (8 ∣ (k0_mult23 v492).toNat) ∧
  (∀ a, (k0_off23 v492) a + S8x128.size a ≤ S20016x128.size a)
theorem k0_mult23_dvd : ∀ (v492 : BitVec 32) (k0_hw23 : k0_chk23 v492), 8 ∣ (k0_mult23 v492).toNat := fun v492 k0_hw23 => k0_hw23.1
theorem k0_off23_inb : ∀ (v492 : BitVec 32) (k0_hw23 : k0_chk23 v492), ∀ a, (k0_off23 v492) a + S8x128.size a ≤ S20016x128.size a := fun v492 k0_hw23 => k0_hw23.2

def k0_mult24 (v514 : BitVec 32) : BitVec 32 :=
  let c3_i32_249 : BitVec 32 := 3#32
  let v515 : BitVec 32 := Scalar.shrsi v514 c3_i32_249
  let c3_i32_250 : BitVec 32 := 3#32
  let v516 : BitVec 32 := Scalar.shli v515 c3_i32_250
  v516

def k0_off24 (v514 : BitVec 32) : Fin 2 → Nat :=
  let c3_i32_249 : BitVec 32 := 3#32
  let v515 : BitVec 32 := Scalar.shrsi v514 c3_i32_249
  let c3_i32_250 : BitVec 32 := 3#32
  let v516 : BitVec 32 := Scalar.shli v515 c3_i32_250
  let v517 : BitVec 32 := v516
  let v518 : Index := Scalar.indexCast v517
  let c0_251 : Index := 0#32
  ![v518.toNat, 0]

def k0_chk24 (v514 : BitVec 32) : Prop :=
  (8 ∣ (k0_mult24 v514).toNat) ∧
  (∀ a, (k0_off24 v514) a + S8x128.size a ≤ S20016x128.size a)
theorem k0_mult24_dvd : ∀ (v514 : BitVec 32) (k0_hw24 : k0_chk24 v514), 8 ∣ (k0_mult24 v514).toNat := fun v514 k0_hw24 => k0_hw24.1
theorem k0_off24_inb : ∀ (v514 : BitVec 32) (k0_hw24 : k0_chk24 v514), ∀ a, (k0_off24 v514) a + S8x128.size a ≤ S20016x128.size a := fun v514 k0_hw24 => k0_hw24.2

def k0_mult25 (v536 : BitVec 32) : BitVec 32 :=
  let c3_i32_260 : BitVec 32 := 3#32
  let v537 : BitVec 32 := Scalar.shrsi v536 c3_i32_260
  let c3_i32_261 : BitVec 32 := 3#32
  let v538 : BitVec 32 := Scalar.shli v537 c3_i32_261
  v538

def k0_off25 (v536 : BitVec 32) : Fin 2 → Nat :=
  let c3_i32_260 : BitVec 32 := 3#32
  let v537 : BitVec 32 := Scalar.shrsi v536 c3_i32_260
  let c3_i32_261 : BitVec 32 := 3#32
  let v538 : BitVec 32 := Scalar.shli v537 c3_i32_261
  let v539 : BitVec 32 := v538
  let v540 : Index := Scalar.indexCast v539
  let c0_262 : Index := 0#32
  ![v540.toNat, 0]

def k0_chk25 (v536 : BitVec 32) : Prop :=
  (8 ∣ (k0_mult25 v536).toNat) ∧
  (∀ a, (k0_off25 v536) a + S8x128.size a ≤ S20016x128.size a)
theorem k0_mult25_dvd : ∀ (v536 : BitVec 32) (k0_hw25 : k0_chk25 v536), 8 ∣ (k0_mult25 v536).toNat := fun v536 k0_hw25 => k0_hw25.1
theorem k0_off25_inb : ∀ (v536 : BitVec 32) (k0_hw25 : k0_chk25 v536), ∀ a, (k0_off25 v536) a + S8x128.size a ≤ S20016x128.size a := fun v536 k0_hw25 => k0_hw25.2

def k0_mult26 (v558 : BitVec 32) : BitVec 32 :=
  let c3_i32_271 : BitVec 32 := 3#32
  let v559 : BitVec 32 := Scalar.shrsi v558 c3_i32_271
  let c3_i32_272 : BitVec 32 := 3#32
  let v560 : BitVec 32 := Scalar.shli v559 c3_i32_272
  v560

def k0_off26 (v558 : BitVec 32) : Fin 2 → Nat :=
  let c3_i32_271 : BitVec 32 := 3#32
  let v559 : BitVec 32 := Scalar.shrsi v558 c3_i32_271
  let c3_i32_272 : BitVec 32 := 3#32
  let v560 : BitVec 32 := Scalar.shli v559 c3_i32_272
  let v561 : BitVec 32 := v560
  let v562 : Index := Scalar.indexCast v561
  let c0_273 : Index := 0#32
  ![v562.toNat, 0]

def k0_chk26 (v558 : BitVec 32) : Prop :=
  (8 ∣ (k0_mult26 v558).toNat) ∧
  (∀ a, (k0_off26 v558) a + S8x128.size a ≤ S20016x128.size a)
theorem k0_mult26_dvd : ∀ (v558 : BitVec 32) (k0_hw26 : k0_chk26 v558), 8 ∣ (k0_mult26 v558).toNat := fun v558 k0_hw26 => k0_hw26.1
theorem k0_off26_inb : ∀ (v558 : BitVec 32) (k0_hw26 : k0_chk26 v558), ∀ a, (k0_off26 v558) a + S8x128.size a ≤ S20016x128.size a := fun v558 k0_hw26 => k0_hw26.2

def k0_mult27 (v580 : BitVec 32) : BitVec 32 :=
  let c3_i32_282 : BitVec 32 := 3#32
  let v581 : BitVec 32 := Scalar.shrsi v580 c3_i32_282
  let c3_i32_283 : BitVec 32 := 3#32
  let v582 : BitVec 32 := Scalar.shli v581 c3_i32_283
  v582

def k0_off27 (v580 : BitVec 32) : Fin 2 → Nat :=
  let c3_i32_282 : BitVec 32 := 3#32
  let v581 : BitVec 32 := Scalar.shrsi v580 c3_i32_282
  let c3_i32_283 : BitVec 32 := 3#32
  let v582 : BitVec 32 := Scalar.shli v581 c3_i32_283
  let v583 : BitVec 32 := v582
  let v584 : Index := Scalar.indexCast v583
  let c0_284 : Index := 0#32
  ![v584.toNat, 0]

def k0_chk27 (v580 : BitVec 32) : Prop :=
  (8 ∣ (k0_mult27 v580).toNat) ∧
  (∀ a, (k0_off27 v580) a + S8x128.size a ≤ S20016x128.size a)
theorem k0_mult27_dvd : ∀ (v580 : BitVec 32) (k0_hw27 : k0_chk27 v580), 8 ∣ (k0_mult27 v580).toNat := fun v580 k0_hw27 => k0_hw27.1
theorem k0_off27_inb : ∀ (v580 : BitVec 32) (k0_hw27 : k0_chk27 v580), ∀ a, (k0_off27 v580) a + S8x128.size a ≤ S20016x128.size a := fun v580 k0_hw27 => k0_hw27.2

def k0_mult28 (v602 : BitVec 32) : BitVec 32 :=
  let c3_i32_293 : BitVec 32 := 3#32
  let v603 : BitVec 32 := Scalar.shrsi v602 c3_i32_293
  let c3_i32_294 : BitVec 32 := 3#32
  let v604 : BitVec 32 := Scalar.shli v603 c3_i32_294
  v604

def k0_off28 (v602 : BitVec 32) : Fin 2 → Nat :=
  let c3_i32_293 : BitVec 32 := 3#32
  let v603 : BitVec 32 := Scalar.shrsi v602 c3_i32_293
  let c3_i32_294 : BitVec 32 := 3#32
  let v604 : BitVec 32 := Scalar.shli v603 c3_i32_294
  let v605 : BitVec 32 := v604
  let v606 : Index := Scalar.indexCast v605
  let c0_295 : Index := 0#32
  ![v606.toNat, 0]

def k0_chk28 (v602 : BitVec 32) : Prop :=
  (8 ∣ (k0_mult28 v602).toNat) ∧
  (∀ a, (k0_off28 v602) a + S8x128.size a ≤ S20016x128.size a)
theorem k0_mult28_dvd : ∀ (v602 : BitVec 32) (k0_hw28 : k0_chk28 v602), 8 ∣ (k0_mult28 v602).toNat := fun v602 k0_hw28 => k0_hw28.1
theorem k0_off28_inb : ∀ (v602 : BitVec 32) (k0_hw28 : k0_chk28 v602), ∀ a, (k0_off28 v602) a + S8x128.size a ≤ S20016x128.size a := fun v602 k0_hw28 => k0_hw28.2

def k0_mult29 (v624 : BitVec 32) : BitVec 32 :=
  let c3_i32_304 : BitVec 32 := 3#32
  let v625 : BitVec 32 := Scalar.shrsi v624 c3_i32_304
  let c3_i32_305 : BitVec 32 := 3#32
  let v626 : BitVec 32 := Scalar.shli v625 c3_i32_305
  v626

def k0_off29 (v624 : BitVec 32) : Fin 2 → Nat :=
  let c3_i32_304 : BitVec 32 := 3#32
  let v625 : BitVec 32 := Scalar.shrsi v624 c3_i32_304
  let c3_i32_305 : BitVec 32 := 3#32
  let v626 : BitVec 32 := Scalar.shli v625 c3_i32_305
  let v627 : BitVec 32 := v626
  let v628 : Index := Scalar.indexCast v627
  let c0_306 : Index := 0#32
  ![v628.toNat, 0]

def k0_chk29 (v624 : BitVec 32) : Prop :=
  (8 ∣ (k0_mult29 v624).toNat) ∧
  (∀ a, (k0_off29 v624) a + S8x128.size a ≤ S20016x128.size a)
theorem k0_mult29_dvd : ∀ (v624 : BitVec 32) (k0_hw29 : k0_chk29 v624), 8 ∣ (k0_mult29 v624).toNat := fun v624 k0_hw29 => k0_hw29.1
theorem k0_off29_inb : ∀ (v624 : BitVec 32) (k0_hw29 : k0_chk29 v624), ∀ a, (k0_off29 v624) a + S8x128.size a ≤ S20016x128.size a := fun v624 k0_hw29 => k0_hw29.2

def k0_mult30 (v646 : BitVec 32) : BitVec 32 :=
  let c3_i32_315 : BitVec 32 := 3#32
  let v647 : BitVec 32 := Scalar.shrsi v646 c3_i32_315
  let c3_i32_316 : BitVec 32 := 3#32
  let v648 : BitVec 32 := Scalar.shli v647 c3_i32_316
  v648

def k0_off30 (v646 : BitVec 32) : Fin 2 → Nat :=
  let c3_i32_315 : BitVec 32 := 3#32
  let v647 : BitVec 32 := Scalar.shrsi v646 c3_i32_315
  let c3_i32_316 : BitVec 32 := 3#32
  let v648 : BitVec 32 := Scalar.shli v647 c3_i32_316
  let v649 : BitVec 32 := v648
  let v650 : Index := Scalar.indexCast v649
  let c0_317 : Index := 0#32
  ![v650.toNat, 0]

def k0_chk30 (v646 : BitVec 32) : Prop :=
  (8 ∣ (k0_mult30 v646).toNat) ∧
  (∀ a, (k0_off30 v646) a + S8x128.size a ≤ S20016x128.size a)
theorem k0_mult30_dvd : ∀ (v646 : BitVec 32) (k0_hw30 : k0_chk30 v646), 8 ∣ (k0_mult30 v646).toNat := fun v646 k0_hw30 => k0_hw30.1
theorem k0_off30_inb : ∀ (v646 : BitVec 32) (k0_hw30 : k0_chk30 v646), ∀ a, (k0_off30 v646) a + S8x128.size a ≤ S20016x128.size a := fun v646 k0_hw30 => k0_hw30.2

def k0_mult31 (v668 : BitVec 32) : BitVec 32 :=
  let c3_i32_326 : BitVec 32 := 3#32
  let v669 : BitVec 32 := Scalar.shrsi v668 c3_i32_326
  let c3_i32_327 : BitVec 32 := 3#32
  let v670 : BitVec 32 := Scalar.shli v669 c3_i32_327
  v670

def k0_off31 (v668 : BitVec 32) : Fin 2 → Nat :=
  let c3_i32_326 : BitVec 32 := 3#32
  let v669 : BitVec 32 := Scalar.shrsi v668 c3_i32_326
  let c3_i32_327 : BitVec 32 := 3#32
  let v670 : BitVec 32 := Scalar.shli v669 c3_i32_327
  let v671 : BitVec 32 := v670
  let v672 : Index := Scalar.indexCast v671
  let c0_328 : Index := 0#32
  ![v672.toNat, 0]

def k0_chk31 (v668 : BitVec 32) : Prop :=
  (8 ∣ (k0_mult31 v668).toNat) ∧
  (∀ a, (k0_off31 v668) a + S8x128.size a ≤ S20016x128.size a)
theorem k0_mult31_dvd : ∀ (v668 : BitVec 32) (k0_hw31 : k0_chk31 v668), 8 ∣ (k0_mult31 v668).toNat := fun v668 k0_hw31 => k0_hw31.1
theorem k0_off31_inb : ∀ (v668 : BitVec 32) (k0_hw31 : k0_chk31 v668), ∀ a, (k0_off31 v668) a + S8x128.size a ≤ S20016x128.size a := fun v668 k0_hw31 => k0_hw31.2

def k0_mult32 (v690 : BitVec 32) : BitVec 32 :=
  let c3_i32_337 : BitVec 32 := 3#32
  let v691 : BitVec 32 := Scalar.shrsi v690 c3_i32_337
  let c3_i32_338 : BitVec 32 := 3#32
  let v692 : BitVec 32 := Scalar.shli v691 c3_i32_338
  v692

def k0_off32 (v690 : BitVec 32) : Fin 2 → Nat :=
  let c3_i32_337 : BitVec 32 := 3#32
  let v691 : BitVec 32 := Scalar.shrsi v690 c3_i32_337
  let c3_i32_338 : BitVec 32 := 3#32
  let v692 : BitVec 32 := Scalar.shli v691 c3_i32_338
  let v693 : BitVec 32 := v692
  let v694 : Index := Scalar.indexCast v693
  let c0_339 : Index := 0#32
  ![v694.toNat, 0]

def k0_chk32 (v690 : BitVec 32) : Prop :=
  (8 ∣ (k0_mult32 v690).toNat) ∧
  (∀ a, (k0_off32 v690) a + S8x128.size a ≤ S20016x128.size a)
theorem k0_mult32_dvd : ∀ (v690 : BitVec 32) (k0_hw32 : k0_chk32 v690), 8 ∣ (k0_mult32 v690).toNat := fun v690 k0_hw32 => k0_hw32.1
theorem k0_off32_inb : ∀ (v690 : BitVec 32) (k0_hw32 : k0_chk32 v690), ∀ a, (k0_off32 v690) a + S8x128.size a ≤ S20016x128.size a := fun v690 k0_hw32 => k0_hw32.2

def k0_mult33 (v712 : BitVec 32) : BitVec 32 :=
  let c3_i32_348 : BitVec 32 := 3#32
  let v713 : BitVec 32 := Scalar.shrsi v712 c3_i32_348
  let c3_i32_349 : BitVec 32 := 3#32
  let v714 : BitVec 32 := Scalar.shli v713 c3_i32_349
  v714

def k0_off33 (v712 : BitVec 32) : Fin 2 → Nat :=
  let c3_i32_348 : BitVec 32 := 3#32
  let v713 : BitVec 32 := Scalar.shrsi v712 c3_i32_348
  let c3_i32_349 : BitVec 32 := 3#32
  let v714 : BitVec 32 := Scalar.shli v713 c3_i32_349
  let v715 : BitVec 32 := v714
  let v716 : Index := Scalar.indexCast v715
  let c0_350 : Index := 0#32
  ![v716.toNat, 0]

def k0_chk33 (v712 : BitVec 32) : Prop :=
  (8 ∣ (k0_mult33 v712).toNat) ∧
  (∀ a, (k0_off33 v712) a + S8x128.size a ≤ S20016x128.size a)
theorem k0_mult33_dvd : ∀ (v712 : BitVec 32) (k0_hw33 : k0_chk33 v712), 8 ∣ (k0_mult33 v712).toNat := fun v712 k0_hw33 => k0_hw33.1
theorem k0_off33_inb : ∀ (v712 : BitVec 32) (k0_hw33 : k0_chk33 v712), ∀ a, (k0_off33 v712) a + S8x128.size a ≤ S20016x128.size a := fun v712 k0_hw33 => k0_hw33.2

def k0_mult34 (v734 : BitVec 32) : BitVec 32 :=
  let c3_i32_359 : BitVec 32 := 3#32
  let v735 : BitVec 32 := Scalar.shrsi v734 c3_i32_359
  let c3_i32_360 : BitVec 32 := 3#32
  let v736 : BitVec 32 := Scalar.shli v735 c3_i32_360
  v736

def k0_off34 (v734 : BitVec 32) : Fin 2 → Nat :=
  let c3_i32_359 : BitVec 32 := 3#32
  let v735 : BitVec 32 := Scalar.shrsi v734 c3_i32_359
  let c3_i32_360 : BitVec 32 := 3#32
  let v736 : BitVec 32 := Scalar.shli v735 c3_i32_360
  let v737 : BitVec 32 := v736
  let v738 : Index := Scalar.indexCast v737
  let c0_361 : Index := 0#32
  ![v738.toNat, 0]

def k0_chk34 (v734 : BitVec 32) : Prop :=
  (8 ∣ (k0_mult34 v734).toNat) ∧
  (∀ a, (k0_off34 v734) a + S8x128.size a ≤ S20016x128.size a)
theorem k0_mult34_dvd : ∀ (v734 : BitVec 32) (k0_hw34 : k0_chk34 v734), 8 ∣ (k0_mult34 v734).toNat := fun v734 k0_hw34 => k0_hw34.1
theorem k0_off34_inb : ∀ (v734 : BitVec 32) (k0_hw34 : k0_chk34 v734), ∀ a, (k0_off34 v734) a + S8x128.size a ≤ S20016x128.size a := fun v734 k0_hw34 => k0_hw34.2

def k0_mult35 (v756 : BitVec 32) : BitVec 32 :=
  let c3_i32_370 : BitVec 32 := 3#32
  let v757 : BitVec 32 := Scalar.shrsi v756 c3_i32_370
  let c3_i32_371 : BitVec 32 := 3#32
  let v758 : BitVec 32 := Scalar.shli v757 c3_i32_371
  v758

def k0_off35 (v756 : BitVec 32) : Fin 2 → Nat :=
  let c3_i32_370 : BitVec 32 := 3#32
  let v757 : BitVec 32 := Scalar.shrsi v756 c3_i32_370
  let c3_i32_371 : BitVec 32 := 3#32
  let v758 : BitVec 32 := Scalar.shli v757 c3_i32_371
  let v759 : BitVec 32 := v758
  let v760 : Index := Scalar.indexCast v759
  let c0_372 : Index := 0#32
  ![v760.toNat, 0]

def k0_chk35 (v756 : BitVec 32) : Prop :=
  (8 ∣ (k0_mult35 v756).toNat) ∧
  (∀ a, (k0_off35 v756) a + S8x128.size a ≤ S20016x128.size a)
theorem k0_mult35_dvd : ∀ (v756 : BitVec 32) (k0_hw35 : k0_chk35 v756), 8 ∣ (k0_mult35 v756).toNat := fun v756 k0_hw35 => k0_hw35.1
theorem k0_off35_inb : ∀ (v756 : BitVec 32) (k0_hw35 : k0_chk35 v756), ∀ a, (k0_off35 v756) a + S8x128.size a ≤ S20016x128.size a := fun v756 k0_hw35 => k0_hw35.2

def k0_mult36 (v778 : BitVec 32) : BitVec 32 :=
  let c3_i32_381 : BitVec 32 := 3#32
  let v779 : BitVec 32 := Scalar.shrsi v778 c3_i32_381
  let c3_i32_382 : BitVec 32 := 3#32
  let v780 : BitVec 32 := Scalar.shli v779 c3_i32_382
  v780

def k0_off36 (v778 : BitVec 32) : Fin 2 → Nat :=
  let c3_i32_381 : BitVec 32 := 3#32
  let v779 : BitVec 32 := Scalar.shrsi v778 c3_i32_381
  let c3_i32_382 : BitVec 32 := 3#32
  let v780 : BitVec 32 := Scalar.shli v779 c3_i32_382
  let v781 : BitVec 32 := v780
  let v782 : Index := Scalar.indexCast v781
  let c0_383 : Index := 0#32
  ![v782.toNat, 0]

def k0_chk36 (v778 : BitVec 32) : Prop :=
  (8 ∣ (k0_mult36 v778).toNat) ∧
  (∀ a, (k0_off36 v778) a + S8x128.size a ≤ S20016x128.size a)
theorem k0_mult36_dvd : ∀ (v778 : BitVec 32) (k0_hw36 : k0_chk36 v778), 8 ∣ (k0_mult36 v778).toNat := fun v778 k0_hw36 => k0_hw36.1
theorem k0_off36_inb : ∀ (v778 : BitVec 32) (k0_hw36 : k0_chk36 v778), ∀ a, (k0_off36 v778) a + S8x128.size a ≤ S20016x128.size a := fun v778 k0_hw36 => k0_hw36.2

def k0_mult37 (v800 : BitVec 32) : BitVec 32 :=
  let c3_i32_392 : BitVec 32 := 3#32
  let v801 : BitVec 32 := Scalar.shrsi v800 c3_i32_392
  let c3_i32_393 : BitVec 32 := 3#32
  let v802 : BitVec 32 := Scalar.shli v801 c3_i32_393
  v802

def k0_off37 (v800 : BitVec 32) : Fin 2 → Nat :=
  let c3_i32_392 : BitVec 32 := 3#32
  let v801 : BitVec 32 := Scalar.shrsi v800 c3_i32_392
  let c3_i32_393 : BitVec 32 := 3#32
  let v802 : BitVec 32 := Scalar.shli v801 c3_i32_393
  let v803 : BitVec 32 := v802
  let v804 : Index := Scalar.indexCast v803
  let c0_394 : Index := 0#32
  ![v804.toNat, 0]

def k0_chk37 (v800 : BitVec 32) : Prop :=
  (8 ∣ (k0_mult37 v800).toNat) ∧
  (∀ a, (k0_off37 v800) a + S8x128.size a ≤ S20016x128.size a)
theorem k0_mult37_dvd : ∀ (v800 : BitVec 32) (k0_hw37 : k0_chk37 v800), 8 ∣ (k0_mult37 v800).toNat := fun v800 k0_hw37 => k0_hw37.1
theorem k0_off37_inb : ∀ (v800 : BitVec 32) (k0_hw37 : k0_chk37 v800), ∀ a, (k0_off37 v800) a + S8x128.size a ≤ S20016x128.size a := fun v800 k0_hw37 => k0_hw37.2

def k0_mult38 (v822 : BitVec 32) : BitVec 32 :=
  let c3_i32_403 : BitVec 32 := 3#32
  let v823 : BitVec 32 := Scalar.shrsi v822 c3_i32_403
  let c3_i32_404 : BitVec 32 := 3#32
  let v824 : BitVec 32 := Scalar.shli v823 c3_i32_404
  v824

def k0_off38 (v822 : BitVec 32) : Fin 2 → Nat :=
  let c3_i32_403 : BitVec 32 := 3#32
  let v823 : BitVec 32 := Scalar.shrsi v822 c3_i32_403
  let c3_i32_404 : BitVec 32 := 3#32
  let v824 : BitVec 32 := Scalar.shli v823 c3_i32_404
  let v825 : BitVec 32 := v824
  let v826 : Index := Scalar.indexCast v825
  let c0_405 : Index := 0#32
  ![v826.toNat, 0]

def k0_chk38 (v822 : BitVec 32) : Prop :=
  (8 ∣ (k0_mult38 v822).toNat) ∧
  (∀ a, (k0_off38 v822) a + S8x128.size a ≤ S20016x128.size a)
theorem k0_mult38_dvd : ∀ (v822 : BitVec 32) (k0_hw38 : k0_chk38 v822), 8 ∣ (k0_mult38 v822).toNat := fun v822 k0_hw38 => k0_hw38.1
theorem k0_off38_inb : ∀ (v822 : BitVec 32) (k0_hw38 : k0_chk38 v822), ∀ a, (k0_off38 v822) a + S8x128.size a ≤ S20016x128.size a := fun v822 k0_hw38 => k0_hw38.2

def k0_mult39 (v844 : BitVec 32) : BitVec 32 :=
  let c3_i32_414 : BitVec 32 := 3#32
  let v845 : BitVec 32 := Scalar.shrsi v844 c3_i32_414
  let c3_i32_415 : BitVec 32 := 3#32
  let v846 : BitVec 32 := Scalar.shli v845 c3_i32_415
  v846

def k0_off39 (v844 : BitVec 32) : Fin 2 → Nat :=
  let c3_i32_414 : BitVec 32 := 3#32
  let v845 : BitVec 32 := Scalar.shrsi v844 c3_i32_414
  let c3_i32_415 : BitVec 32 := 3#32
  let v846 : BitVec 32 := Scalar.shli v845 c3_i32_415
  let v847 : BitVec 32 := v846
  let v848 : Index := Scalar.indexCast v847
  let c0_416 : Index := 0#32
  ![v848.toNat, 0]

def k0_chk39 (v844 : BitVec 32) : Prop :=
  (8 ∣ (k0_mult39 v844).toNat) ∧
  (∀ a, (k0_off39 v844) a + S8x128.size a ≤ S20016x128.size a)
theorem k0_mult39_dvd : ∀ (v844 : BitVec 32) (k0_hw39 : k0_chk39 v844), 8 ∣ (k0_mult39 v844).toNat := fun v844 k0_hw39 => k0_hw39.1
theorem k0_off39_inb : ∀ (v844 : BitVec 32) (k0_hw39 : k0_chk39 v844), ∀ a, (k0_off39 v844) a + S8x128.size a ≤ S20016x128.size a := fun v844 k0_hw39 => k0_hw39.2

def k0_mult40 (v866 : BitVec 32) : BitVec 32 :=
  let c3_i32_425 : BitVec 32 := 3#32
  let v867 : BitVec 32 := Scalar.shrsi v866 c3_i32_425
  let c3_i32_426 : BitVec 32 := 3#32
  let v868 : BitVec 32 := Scalar.shli v867 c3_i32_426
  v868

def k0_off40 (v866 : BitVec 32) : Fin 2 → Nat :=
  let c3_i32_425 : BitVec 32 := 3#32
  let v867 : BitVec 32 := Scalar.shrsi v866 c3_i32_425
  let c3_i32_426 : BitVec 32 := 3#32
  let v868 : BitVec 32 := Scalar.shli v867 c3_i32_426
  let v869 : BitVec 32 := v868
  let v870 : Index := Scalar.indexCast v869
  let c0_427 : Index := 0#32
  ![v870.toNat, 0]

def k0_chk40 (v866 : BitVec 32) : Prop :=
  (8 ∣ (k0_mult40 v866).toNat) ∧
  (∀ a, (k0_off40 v866) a + S8x128.size a ≤ S20016x128.size a)
theorem k0_mult40_dvd : ∀ (v866 : BitVec 32) (k0_hw40 : k0_chk40 v866), 8 ∣ (k0_mult40 v866).toNat := fun v866 k0_hw40 => k0_hw40.1
theorem k0_off40_inb : ∀ (v866 : BitVec 32) (k0_hw40 : k0_chk40 v866), ∀ a, (k0_off40 v866) a + S8x128.size a ≤ S20016x128.size a := fun v866 k0_hw40 => k0_hw40.2

def k0_mult41 (v888 : BitVec 32) : BitVec 32 :=
  let c3_i32_436 : BitVec 32 := 3#32
  let v889 : BitVec 32 := Scalar.shrsi v888 c3_i32_436
  let c3_i32_437 : BitVec 32 := 3#32
  let v890 : BitVec 32 := Scalar.shli v889 c3_i32_437
  v890

def k0_off41 (v888 : BitVec 32) : Fin 2 → Nat :=
  let c3_i32_436 : BitVec 32 := 3#32
  let v889 : BitVec 32 := Scalar.shrsi v888 c3_i32_436
  let c3_i32_437 : BitVec 32 := 3#32
  let v890 : BitVec 32 := Scalar.shli v889 c3_i32_437
  let v891 : BitVec 32 := v890
  let v892 : Index := Scalar.indexCast v891
  let c0_438 : Index := 0#32
  ![v892.toNat, 0]

def k0_chk41 (v888 : BitVec 32) : Prop :=
  (8 ∣ (k0_mult41 v888).toNat) ∧
  (∀ a, (k0_off41 v888) a + S8x128.size a ≤ S20016x128.size a)
theorem k0_mult41_dvd : ∀ (v888 : BitVec 32) (k0_hw41 : k0_chk41 v888), 8 ∣ (k0_mult41 v888).toNat := fun v888 k0_hw41 => k0_hw41.1
theorem k0_off41_inb : ∀ (v888 : BitVec 32) (k0_hw41 : k0_chk41 v888), ∀ a, (k0_off41 v888) a + S8x128.size a ≤ S20016x128.size a := fun v888 k0_hw41 => k0_hw41.2

def k0_mult42 (v910 : BitVec 32) : BitVec 32 :=
  let c3_i32_447 : BitVec 32 := 3#32
  let v911 : BitVec 32 := Scalar.shrsi v910 c3_i32_447
  let c3_i32_448 : BitVec 32 := 3#32
  let v912 : BitVec 32 := Scalar.shli v911 c3_i32_448
  v912

def k0_off42 (v910 : BitVec 32) : Fin 2 → Nat :=
  let c3_i32_447 : BitVec 32 := 3#32
  let v911 : BitVec 32 := Scalar.shrsi v910 c3_i32_447
  let c3_i32_448 : BitVec 32 := 3#32
  let v912 : BitVec 32 := Scalar.shli v911 c3_i32_448
  let v913 : BitVec 32 := v912
  let v914 : Index := Scalar.indexCast v913
  let c0_449 : Index := 0#32
  ![v914.toNat, 0]

def k0_chk42 (v910 : BitVec 32) : Prop :=
  (8 ∣ (k0_mult42 v910).toNat) ∧
  (∀ a, (k0_off42 v910) a + S8x128.size a ≤ S20016x128.size a)
theorem k0_mult42_dvd : ∀ (v910 : BitVec 32) (k0_hw42 : k0_chk42 v910), 8 ∣ (k0_mult42 v910).toNat := fun v910 k0_hw42 => k0_hw42.1
theorem k0_off42_inb : ∀ (v910 : BitVec 32) (k0_hw42 : k0_chk42 v910), ∀ a, (k0_off42 v910) a + S8x128.size a ≤ S20016x128.size a := fun v910 k0_hw42 => k0_hw42.2

def k0_mult43 (v932 : BitVec 32) : BitVec 32 :=
  let c3_i32_458 : BitVec 32 := 3#32
  let v933 : BitVec 32 := Scalar.shrsi v932 c3_i32_458
  let c3_i32_459 : BitVec 32 := 3#32
  let v934 : BitVec 32 := Scalar.shli v933 c3_i32_459
  v934

def k0_off43 (v932 : BitVec 32) : Fin 2 → Nat :=
  let c3_i32_458 : BitVec 32 := 3#32
  let v933 : BitVec 32 := Scalar.shrsi v932 c3_i32_458
  let c3_i32_459 : BitVec 32 := 3#32
  let v934 : BitVec 32 := Scalar.shli v933 c3_i32_459
  let v935 : BitVec 32 := v934
  let v936 : Index := Scalar.indexCast v935
  let c0_460 : Index := 0#32
  ![v936.toNat, 0]

def k0_chk43 (v932 : BitVec 32) : Prop :=
  (8 ∣ (k0_mult43 v932).toNat) ∧
  (∀ a, (k0_off43 v932) a + S8x128.size a ≤ S20016x128.size a)
theorem k0_mult43_dvd : ∀ (v932 : BitVec 32) (k0_hw43 : k0_chk43 v932), 8 ∣ (k0_mult43 v932).toNat := fun v932 k0_hw43 => k0_hw43.1
theorem k0_off43_inb : ∀ (v932 : BitVec 32) (k0_hw43 : k0_chk43 v932), ∀ a, (k0_off43 v932) a + S8x128.size a ≤ S20016x128.size a := fun v932 k0_hw43 => k0_hw43.2

def k0_mult44 (v954 : BitVec 32) : BitVec 32 :=
  let c3_i32_469 : BitVec 32 := 3#32
  let v955 : BitVec 32 := Scalar.shrsi v954 c3_i32_469
  let c3_i32_470 : BitVec 32 := 3#32
  let v956 : BitVec 32 := Scalar.shli v955 c3_i32_470
  v956

def k0_off44 (v954 : BitVec 32) : Fin 2 → Nat :=
  let c3_i32_469 : BitVec 32 := 3#32
  let v955 : BitVec 32 := Scalar.shrsi v954 c3_i32_469
  let c3_i32_470 : BitVec 32 := 3#32
  let v956 : BitVec 32 := Scalar.shli v955 c3_i32_470
  let v957 : BitVec 32 := v956
  let v958 : Index := Scalar.indexCast v957
  let c0_471 : Index := 0#32
  ![v958.toNat, 0]

def k0_chk44 (v954 : BitVec 32) : Prop :=
  (8 ∣ (k0_mult44 v954).toNat) ∧
  (∀ a, (k0_off44 v954) a + S8x128.size a ≤ S20016x128.size a)
theorem k0_mult44_dvd : ∀ (v954 : BitVec 32) (k0_hw44 : k0_chk44 v954), 8 ∣ (k0_mult44 v954).toNat := fun v954 k0_hw44 => k0_hw44.1
theorem k0_off44_inb : ∀ (v954 : BitVec 32) (k0_hw44 : k0_chk44 v954), ∀ a, (k0_off44 v954) a + S8x128.size a ≤ S20016x128.size a := fun v954 k0_hw44 => k0_hw44.2

def k0_mult45 (v976 : BitVec 32) : BitVec 32 :=
  let c3_i32_480 : BitVec 32 := 3#32
  let v977 : BitVec 32 := Scalar.shrsi v976 c3_i32_480
  let c3_i32_481 : BitVec 32 := 3#32
  let v978 : BitVec 32 := Scalar.shli v977 c3_i32_481
  v978

def k0_off45 (v976 : BitVec 32) : Fin 2 → Nat :=
  let c3_i32_480 : BitVec 32 := 3#32
  let v977 : BitVec 32 := Scalar.shrsi v976 c3_i32_480
  let c3_i32_481 : BitVec 32 := 3#32
  let v978 : BitVec 32 := Scalar.shli v977 c3_i32_481
  let v979 : BitVec 32 := v978
  let v980 : Index := Scalar.indexCast v979
  let c0_482 : Index := 0#32
  ![v980.toNat, 0]

def k0_chk45 (v976 : BitVec 32) : Prop :=
  (8 ∣ (k0_mult45 v976).toNat) ∧
  (∀ a, (k0_off45 v976) a + S8x128.size a ≤ S20016x128.size a)
theorem k0_mult45_dvd : ∀ (v976 : BitVec 32) (k0_hw45 : k0_chk45 v976), 8 ∣ (k0_mult45 v976).toNat := fun v976 k0_hw45 => k0_hw45.1
theorem k0_off45_inb : ∀ (v976 : BitVec 32) (k0_hw45 : k0_chk45 v976), ∀ a, (k0_off45 v976) a + S8x128.size a ≤ S20016x128.size a := fun v976 k0_hw45 => k0_hw45.2

def k0_mult46 (v998 : BitVec 32) : BitVec 32 :=
  let c3_i32_491 : BitVec 32 := 3#32
  let v999 : BitVec 32 := Scalar.shrsi v998 c3_i32_491
  let c3_i32_492 : BitVec 32 := 3#32
  let v1000 : BitVec 32 := Scalar.shli v999 c3_i32_492
  v1000

def k0_off46 (v998 : BitVec 32) : Fin 2 → Nat :=
  let c3_i32_491 : BitVec 32 := 3#32
  let v999 : BitVec 32 := Scalar.shrsi v998 c3_i32_491
  let c3_i32_492 : BitVec 32 := 3#32
  let v1000 : BitVec 32 := Scalar.shli v999 c3_i32_492
  let v1001 : BitVec 32 := v1000
  let v1002 : Index := Scalar.indexCast v1001
  let c0_493 : Index := 0#32
  ![v1002.toNat, 0]

def k0_chk46 (v998 : BitVec 32) : Prop :=
  (8 ∣ (k0_mult46 v998).toNat) ∧
  (∀ a, (k0_off46 v998) a + S8x128.size a ≤ S20016x128.size a)
theorem k0_mult46_dvd : ∀ (v998 : BitVec 32) (k0_hw46 : k0_chk46 v998), 8 ∣ (k0_mult46 v998).toNat := fun v998 k0_hw46 => k0_hw46.1
theorem k0_off46_inb : ∀ (v998 : BitVec 32) (k0_hw46 : k0_chk46 v998), ∀ a, (k0_off46 v998) a + S8x128.size a ≤ S20016x128.size a := fun v998 k0_hw46 => k0_hw46.2

def k0_mult47 (v1020 : BitVec 32) : BitVec 32 :=
  let c3_i32_502 : BitVec 32 := 3#32
  let v1021 : BitVec 32 := Scalar.shrsi v1020 c3_i32_502
  let c3_i32_503 : BitVec 32 := 3#32
  let v1022 : BitVec 32 := Scalar.shli v1021 c3_i32_503
  v1022

def k0_off47 (v1020 : BitVec 32) : Fin 2 → Nat :=
  let c3_i32_502 : BitVec 32 := 3#32
  let v1021 : BitVec 32 := Scalar.shrsi v1020 c3_i32_502
  let c3_i32_503 : BitVec 32 := 3#32
  let v1022 : BitVec 32 := Scalar.shli v1021 c3_i32_503
  let v1023 : BitVec 32 := v1022
  let v1024 : Index := Scalar.indexCast v1023
  let c0_504 : Index := 0#32
  ![v1024.toNat, 0]

def k0_chk47 (v1020 : BitVec 32) : Prop :=
  (8 ∣ (k0_mult47 v1020).toNat) ∧
  (∀ a, (k0_off47 v1020) a + S8x128.size a ≤ S20016x128.size a)
theorem k0_mult47_dvd : ∀ (v1020 : BitVec 32) (k0_hw47 : k0_chk47 v1020), 8 ∣ (k0_mult47 v1020).toNat := fun v1020 k0_hw47 => k0_hw47.1
theorem k0_off47_inb : ∀ (v1020 : BitVec 32) (k0_hw47 : k0_chk47 v1020), ∀ a, (k0_off47 v1020) a + S8x128.size a ≤ S20016x128.size a := fun v1020 k0_hw47 => k0_hw47.2

def k0_mult48 (v1042 : BitVec 32) : BitVec 32 :=
  let c3_i32_513 : BitVec 32 := 3#32
  let v1043 : BitVec 32 := Scalar.shrsi v1042 c3_i32_513
  let c3_i32_514 : BitVec 32 := 3#32
  let v1044 : BitVec 32 := Scalar.shli v1043 c3_i32_514
  v1044

def k0_off48 (v1042 : BitVec 32) : Fin 2 → Nat :=
  let c3_i32_513 : BitVec 32 := 3#32
  let v1043 : BitVec 32 := Scalar.shrsi v1042 c3_i32_513
  let c3_i32_514 : BitVec 32 := 3#32
  let v1044 : BitVec 32 := Scalar.shli v1043 c3_i32_514
  let v1045 : BitVec 32 := v1044
  let v1046 : Index := Scalar.indexCast v1045
  let c0_515 : Index := 0#32
  ![v1046.toNat, 0]

def k0_chk48 (v1042 : BitVec 32) : Prop :=
  (8 ∣ (k0_mult48 v1042).toNat) ∧
  (∀ a, (k0_off48 v1042) a + S8x128.size a ≤ S20016x128.size a)
theorem k0_mult48_dvd : ∀ (v1042 : BitVec 32) (k0_hw48 : k0_chk48 v1042), 8 ∣ (k0_mult48 v1042).toNat := fun v1042 k0_hw48 => k0_hw48.1
theorem k0_off48_inb : ∀ (v1042 : BitVec 32) (k0_hw48 : k0_chk48 v1042), ∀ a, (k0_off48 v1042) a + S8x128.size a ≤ S20016x128.size a := fun v1042 k0_hw48 => k0_hw48.2

def k0_mult49 (v1064 : BitVec 32) : BitVec 32 :=
  let c3_i32_524 : BitVec 32 := 3#32
  let v1065 : BitVec 32 := Scalar.shrsi v1064 c3_i32_524
  let c3_i32_525 : BitVec 32 := 3#32
  let v1066 : BitVec 32 := Scalar.shli v1065 c3_i32_525
  v1066

def k0_off49 (v1064 : BitVec 32) : Fin 2 → Nat :=
  let c3_i32_524 : BitVec 32 := 3#32
  let v1065 : BitVec 32 := Scalar.shrsi v1064 c3_i32_524
  let c3_i32_525 : BitVec 32 := 3#32
  let v1066 : BitVec 32 := Scalar.shli v1065 c3_i32_525
  let v1067 : BitVec 32 := v1066
  let v1068 : Index := Scalar.indexCast v1067
  let c0_526 : Index := 0#32
  ![v1068.toNat, 0]

def k0_chk49 (v1064 : BitVec 32) : Prop :=
  (8 ∣ (k0_mult49 v1064).toNat) ∧
  (∀ a, (k0_off49 v1064) a + S8x128.size a ≤ S20016x128.size a)
theorem k0_mult49_dvd : ∀ (v1064 : BitVec 32) (k0_hw49 : k0_chk49 v1064), 8 ∣ (k0_mult49 v1064).toNat := fun v1064 k0_hw49 => k0_hw49.1
theorem k0_off49_inb : ∀ (v1064 : BitVec 32) (k0_hw49 : k0_chk49 v1064), ∀ a, (k0_off49 v1064) a + S8x128.size a ≤ S20016x128.size a := fun v1064 k0_hw49 => k0_hw49.2

def k0_mult50 (v1086 : BitVec 32) : BitVec 32 :=
  let c3_i32_535 : BitVec 32 := 3#32
  let v1087 : BitVec 32 := Scalar.shrsi v1086 c3_i32_535
  let c3_i32_536 : BitVec 32 := 3#32
  let v1088 : BitVec 32 := Scalar.shli v1087 c3_i32_536
  v1088

def k0_off50 (v1086 : BitVec 32) : Fin 2 → Nat :=
  let c3_i32_535 : BitVec 32 := 3#32
  let v1087 : BitVec 32 := Scalar.shrsi v1086 c3_i32_535
  let c3_i32_536 : BitVec 32 := 3#32
  let v1088 : BitVec 32 := Scalar.shli v1087 c3_i32_536
  let v1089 : BitVec 32 := v1088
  let v1090 : Index := Scalar.indexCast v1089
  let c0_537 : Index := 0#32
  ![v1090.toNat, 0]

def k0_chk50 (v1086 : BitVec 32) : Prop :=
  (8 ∣ (k0_mult50 v1086).toNat) ∧
  (∀ a, (k0_off50 v1086) a + S8x128.size a ≤ S20016x128.size a)
theorem k0_mult50_dvd : ∀ (v1086 : BitVec 32) (k0_hw50 : k0_chk50 v1086), 8 ∣ (k0_mult50 v1086).toNat := fun v1086 k0_hw50 => k0_hw50.1
theorem k0_off50_inb : ∀ (v1086 : BitVec 32) (k0_hw50 : k0_chk50 v1086), ∀ a, (k0_off50 v1086) a + S8x128.size a ≤ S20016x128.size a := fun v1086 k0_hw50 => k0_hw50.2

def k0_mult51 (v1108 : BitVec 32) : BitVec 32 :=
  let c3_i32_546 : BitVec 32 := 3#32
  let v1109 : BitVec 32 := Scalar.shrsi v1108 c3_i32_546
  let c3_i32_547 : BitVec 32 := 3#32
  let v1110 : BitVec 32 := Scalar.shli v1109 c3_i32_547
  v1110

def k0_off51 (v1108 : BitVec 32) : Fin 2 → Nat :=
  let c3_i32_546 : BitVec 32 := 3#32
  let v1109 : BitVec 32 := Scalar.shrsi v1108 c3_i32_546
  let c3_i32_547 : BitVec 32 := 3#32
  let v1110 : BitVec 32 := Scalar.shli v1109 c3_i32_547
  let v1111 : BitVec 32 := v1110
  let v1112 : Index := Scalar.indexCast v1111
  let c0_548 : Index := 0#32
  ![v1112.toNat, 0]

def k0_chk51 (v1108 : BitVec 32) : Prop :=
  (8 ∣ (k0_mult51 v1108).toNat) ∧
  (∀ a, (k0_off51 v1108) a + S8x128.size a ≤ S20016x128.size a)
theorem k0_mult51_dvd : ∀ (v1108 : BitVec 32) (k0_hw51 : k0_chk51 v1108), 8 ∣ (k0_mult51 v1108).toNat := fun v1108 k0_hw51 => k0_hw51.1
theorem k0_off51_inb : ∀ (v1108 : BitVec 32) (k0_hw51 : k0_chk51 v1108), ∀ a, (k0_off51 v1108) a + S8x128.size a ≤ S20016x128.size a := fun v1108 k0_hw51 => k0_hw51.2

def k0_mult52 (v1130 : BitVec 32) : BitVec 32 :=
  let c3_i32_557 : BitVec 32 := 3#32
  let v1131 : BitVec 32 := Scalar.shrsi v1130 c3_i32_557
  let c3_i32_558 : BitVec 32 := 3#32
  let v1132 : BitVec 32 := Scalar.shli v1131 c3_i32_558
  v1132

def k0_off52 (v1130 : BitVec 32) : Fin 2 → Nat :=
  let c3_i32_557 : BitVec 32 := 3#32
  let v1131 : BitVec 32 := Scalar.shrsi v1130 c3_i32_557
  let c3_i32_558 : BitVec 32 := 3#32
  let v1132 : BitVec 32 := Scalar.shli v1131 c3_i32_558
  let v1133 : BitVec 32 := v1132
  let v1134 : Index := Scalar.indexCast v1133
  let c0_559 : Index := 0#32
  ![v1134.toNat, 0]

def k0_chk52 (v1130 : BitVec 32) : Prop :=
  (8 ∣ (k0_mult52 v1130).toNat) ∧
  (∀ a, (k0_off52 v1130) a + S8x128.size a ≤ S20016x128.size a)
theorem k0_mult52_dvd : ∀ (v1130 : BitVec 32) (k0_hw52 : k0_chk52 v1130), 8 ∣ (k0_mult52 v1130).toNat := fun v1130 k0_hw52 => k0_hw52.1
theorem k0_off52_inb : ∀ (v1130 : BitVec 32) (k0_hw52 : k0_chk52 v1130), ∀ a, (k0_off52 v1130) a + S8x128.size a ≤ S20016x128.size a := fun v1130 k0_hw52 => k0_hw52.2

def k0_mult53 (v1152 : BitVec 32) : BitVec 32 :=
  let c3_i32_568 : BitVec 32 := 3#32
  let v1153 : BitVec 32 := Scalar.shrsi v1152 c3_i32_568
  let c3_i32_569 : BitVec 32 := 3#32
  let v1154 : BitVec 32 := Scalar.shli v1153 c3_i32_569
  v1154

def k0_off53 (v1152 : BitVec 32) : Fin 2 → Nat :=
  let c3_i32_568 : BitVec 32 := 3#32
  let v1153 : BitVec 32 := Scalar.shrsi v1152 c3_i32_568
  let c3_i32_569 : BitVec 32 := 3#32
  let v1154 : BitVec 32 := Scalar.shli v1153 c3_i32_569
  let v1155 : BitVec 32 := v1154
  let v1156 : Index := Scalar.indexCast v1155
  let c0_570 : Index := 0#32
  ![v1156.toNat, 0]

def k0_chk53 (v1152 : BitVec 32) : Prop :=
  (8 ∣ (k0_mult53 v1152).toNat) ∧
  (∀ a, (k0_off53 v1152) a + S8x128.size a ≤ S20016x128.size a)
theorem k0_mult53_dvd : ∀ (v1152 : BitVec 32) (k0_hw53 : k0_chk53 v1152), 8 ∣ (k0_mult53 v1152).toNat := fun v1152 k0_hw53 => k0_hw53.1
theorem k0_off53_inb : ∀ (v1152 : BitVec 32) (k0_hw53 : k0_chk53 v1152), ∀ a, (k0_off53 v1152) a + S8x128.size a ≤ S20016x128.size a := fun v1152 k0_hw53 => k0_hw53.2

def k0_mult54 (v1174 : BitVec 32) : BitVec 32 :=
  let c3_i32_579 : BitVec 32 := 3#32
  let v1175 : BitVec 32 := Scalar.shrsi v1174 c3_i32_579
  let c3_i32_580 : BitVec 32 := 3#32
  let v1176 : BitVec 32 := Scalar.shli v1175 c3_i32_580
  v1176

def k0_off54 (v1174 : BitVec 32) : Fin 2 → Nat :=
  let c3_i32_579 : BitVec 32 := 3#32
  let v1175 : BitVec 32 := Scalar.shrsi v1174 c3_i32_579
  let c3_i32_580 : BitVec 32 := 3#32
  let v1176 : BitVec 32 := Scalar.shli v1175 c3_i32_580
  let v1177 : BitVec 32 := v1176
  let v1178 : Index := Scalar.indexCast v1177
  let c0_581 : Index := 0#32
  ![v1178.toNat, 0]

def k0_chk54 (v1174 : BitVec 32) : Prop :=
  (8 ∣ (k0_mult54 v1174).toNat) ∧
  (∀ a, (k0_off54 v1174) a + S8x128.size a ≤ S20016x128.size a)
theorem k0_mult54_dvd : ∀ (v1174 : BitVec 32) (k0_hw54 : k0_chk54 v1174), 8 ∣ (k0_mult54 v1174).toNat := fun v1174 k0_hw54 => k0_hw54.1
theorem k0_off54_inb : ∀ (v1174 : BitVec 32) (k0_hw54 : k0_chk54 v1174), ∀ a, (k0_off54 v1174) a + S8x128.size a ≤ S20016x128.size a := fun v1174 k0_hw54 => k0_hw54.2

def k0_mult55 (v1196 : BitVec 32) : BitVec 32 :=
  let c3_i32_590 : BitVec 32 := 3#32
  let v1197 : BitVec 32 := Scalar.shrsi v1196 c3_i32_590
  let c3_i32_591 : BitVec 32 := 3#32
  let v1198 : BitVec 32 := Scalar.shli v1197 c3_i32_591
  v1198

def k0_off55 (v1196 : BitVec 32) : Fin 2 → Nat :=
  let c3_i32_590 : BitVec 32 := 3#32
  let v1197 : BitVec 32 := Scalar.shrsi v1196 c3_i32_590
  let c3_i32_591 : BitVec 32 := 3#32
  let v1198 : BitVec 32 := Scalar.shli v1197 c3_i32_591
  let v1199 : BitVec 32 := v1198
  let v1200 : Index := Scalar.indexCast v1199
  let c0_592 : Index := 0#32
  ![v1200.toNat, 0]

def k0_chk55 (v1196 : BitVec 32) : Prop :=
  (8 ∣ (k0_mult55 v1196).toNat) ∧
  (∀ a, (k0_off55 v1196) a + S8x128.size a ≤ S20016x128.size a)
theorem k0_mult55_dvd : ∀ (v1196 : BitVec 32) (k0_hw55 : k0_chk55 v1196), 8 ∣ (k0_mult55 v1196).toNat := fun v1196 k0_hw55 => k0_hw55.1
theorem k0_off55_inb : ∀ (v1196 : BitVec 32) (k0_hw55 : k0_chk55 v1196), ∀ a, (k0_off55 v1196) a + S8x128.size a ≤ S20016x128.size a := fun v1196 k0_hw55 => k0_hw55.2

def k0_mult56 (v1218 : BitVec 32) : BitVec 32 :=
  let c3_i32_601 : BitVec 32 := 3#32
  let v1219 : BitVec 32 := Scalar.shrsi v1218 c3_i32_601
  let c3_i32_602 : BitVec 32 := 3#32
  let v1220 : BitVec 32 := Scalar.shli v1219 c3_i32_602
  v1220

def k0_off56 (v1218 : BitVec 32) : Fin 2 → Nat :=
  let c3_i32_601 : BitVec 32 := 3#32
  let v1219 : BitVec 32 := Scalar.shrsi v1218 c3_i32_601
  let c3_i32_602 : BitVec 32 := 3#32
  let v1220 : BitVec 32 := Scalar.shli v1219 c3_i32_602
  let v1221 : BitVec 32 := v1220
  let v1222 : Index := Scalar.indexCast v1221
  let c0_603 : Index := 0#32
  ![v1222.toNat, 0]

def k0_chk56 (v1218 : BitVec 32) : Prop :=
  (8 ∣ (k0_mult56 v1218).toNat) ∧
  (∀ a, (k0_off56 v1218) a + S8x128.size a ≤ S20016x128.size a)
theorem k0_mult56_dvd : ∀ (v1218 : BitVec 32) (k0_hw56 : k0_chk56 v1218), 8 ∣ (k0_mult56 v1218).toNat := fun v1218 k0_hw56 => k0_hw56.1
theorem k0_off56_inb : ∀ (v1218 : BitVec 32) (k0_hw56 : k0_chk56 v1218), ∀ a, (k0_off56 v1218) a + S8x128.size a ≤ S20016x128.size a := fun v1218 k0_hw56 => k0_hw56.2

def k0_mult57 (v1240 : BitVec 32) : BitVec 32 :=
  let c3_i32_612 : BitVec 32 := 3#32
  let v1241 : BitVec 32 := Scalar.shrsi v1240 c3_i32_612
  let c3_i32_613 : BitVec 32 := 3#32
  let v1242 : BitVec 32 := Scalar.shli v1241 c3_i32_613
  v1242

def k0_off57 (v1240 : BitVec 32) : Fin 2 → Nat :=
  let c3_i32_612 : BitVec 32 := 3#32
  let v1241 : BitVec 32 := Scalar.shrsi v1240 c3_i32_612
  let c3_i32_613 : BitVec 32 := 3#32
  let v1242 : BitVec 32 := Scalar.shli v1241 c3_i32_613
  let v1243 : BitVec 32 := v1242
  let v1244 : Index := Scalar.indexCast v1243
  let c0_614 : Index := 0#32
  ![v1244.toNat, 0]

def k0_chk57 (v1240 : BitVec 32) : Prop :=
  (8 ∣ (k0_mult57 v1240).toNat) ∧
  (∀ a, (k0_off57 v1240) a + S8x128.size a ≤ S20016x128.size a)
theorem k0_mult57_dvd : ∀ (v1240 : BitVec 32) (k0_hw57 : k0_chk57 v1240), 8 ∣ (k0_mult57 v1240).toNat := fun v1240 k0_hw57 => k0_hw57.1
theorem k0_off57_inb : ∀ (v1240 : BitVec 32) (k0_hw57 : k0_chk57 v1240), ∀ a, (k0_off57 v1240) a + S8x128.size a ≤ S20016x128.size a := fun v1240 k0_hw57 => k0_hw57.2

def k0_mult58 (v1262 : BitVec 32) : BitVec 32 :=
  let c3_i32_623 : BitVec 32 := 3#32
  let v1263 : BitVec 32 := Scalar.shrsi v1262 c3_i32_623
  let c3_i32_624 : BitVec 32 := 3#32
  let v1264 : BitVec 32 := Scalar.shli v1263 c3_i32_624
  v1264

def k0_off58 (v1262 : BitVec 32) : Fin 2 → Nat :=
  let c3_i32_623 : BitVec 32 := 3#32
  let v1263 : BitVec 32 := Scalar.shrsi v1262 c3_i32_623
  let c3_i32_624 : BitVec 32 := 3#32
  let v1264 : BitVec 32 := Scalar.shli v1263 c3_i32_624
  let v1265 : BitVec 32 := v1264
  let v1266 : Index := Scalar.indexCast v1265
  let c0_625 : Index := 0#32
  ![v1266.toNat, 0]

def k0_chk58 (v1262 : BitVec 32) : Prop :=
  (8 ∣ (k0_mult58 v1262).toNat) ∧
  (∀ a, (k0_off58 v1262) a + S8x128.size a ≤ S20016x128.size a)
theorem k0_mult58_dvd : ∀ (v1262 : BitVec 32) (k0_hw58 : k0_chk58 v1262), 8 ∣ (k0_mult58 v1262).toNat := fun v1262 k0_hw58 => k0_hw58.1
theorem k0_off58_inb : ∀ (v1262 : BitVec 32) (k0_hw58 : k0_chk58 v1262), ∀ a, (k0_off58 v1262) a + S8x128.size a ≤ S20016x128.size a := fun v1262 k0_hw58 => k0_hw58.2

def k0_mult59 (v1284 : BitVec 32) : BitVec 32 :=
  let c3_i32_634 : BitVec 32 := 3#32
  let v1285 : BitVec 32 := Scalar.shrsi v1284 c3_i32_634
  let c3_i32_635 : BitVec 32 := 3#32
  let v1286 : BitVec 32 := Scalar.shli v1285 c3_i32_635
  v1286

def k0_off59 (v1284 : BitVec 32) : Fin 2 → Nat :=
  let c3_i32_634 : BitVec 32 := 3#32
  let v1285 : BitVec 32 := Scalar.shrsi v1284 c3_i32_634
  let c3_i32_635 : BitVec 32 := 3#32
  let v1286 : BitVec 32 := Scalar.shli v1285 c3_i32_635
  let v1287 : BitVec 32 := v1286
  let v1288 : Index := Scalar.indexCast v1287
  let c0_636 : Index := 0#32
  ![v1288.toNat, 0]

def k0_chk59 (v1284 : BitVec 32) : Prop :=
  (8 ∣ (k0_mult59 v1284).toNat) ∧
  (∀ a, (k0_off59 v1284) a + S8x128.size a ≤ S20016x128.size a)
theorem k0_mult59_dvd : ∀ (v1284 : BitVec 32) (k0_hw59 : k0_chk59 v1284), 8 ∣ (k0_mult59 v1284).toNat := fun v1284 k0_hw59 => k0_hw59.1
theorem k0_off59_inb : ∀ (v1284 : BitVec 32) (k0_hw59 : k0_chk59 v1284), ∀ a, (k0_off59 v1284) a + S8x128.size a ≤ S20016x128.size a := fun v1284 k0_hw59 => k0_hw59.2

def k0_mult60 (v1306 : BitVec 32) : BitVec 32 :=
  let c3_i32_645 : BitVec 32 := 3#32
  let v1307 : BitVec 32 := Scalar.shrsi v1306 c3_i32_645
  let c3_i32_646 : BitVec 32 := 3#32
  let v1308 : BitVec 32 := Scalar.shli v1307 c3_i32_646
  v1308

def k0_off60 (v1306 : BitVec 32) : Fin 2 → Nat :=
  let c3_i32_645 : BitVec 32 := 3#32
  let v1307 : BitVec 32 := Scalar.shrsi v1306 c3_i32_645
  let c3_i32_646 : BitVec 32 := 3#32
  let v1308 : BitVec 32 := Scalar.shli v1307 c3_i32_646
  let v1309 : BitVec 32 := v1308
  let v1310 : Index := Scalar.indexCast v1309
  let c0_647 : Index := 0#32
  ![v1310.toNat, 0]

def k0_chk60 (v1306 : BitVec 32) : Prop :=
  (8 ∣ (k0_mult60 v1306).toNat) ∧
  (∀ a, (k0_off60 v1306) a + S8x128.size a ≤ S20016x128.size a)
theorem k0_mult60_dvd : ∀ (v1306 : BitVec 32) (k0_hw60 : k0_chk60 v1306), 8 ∣ (k0_mult60 v1306).toNat := fun v1306 k0_hw60 => k0_hw60.1
theorem k0_off60_inb : ∀ (v1306 : BitVec 32) (k0_hw60 : k0_chk60 v1306), ∀ a, (k0_off60 v1306) a + S8x128.size a ≤ S20016x128.size a := fun v1306 k0_hw60 => k0_hw60.2

def k0_mult61 (v1328 : BitVec 32) : BitVec 32 :=
  let c3_i32_656 : BitVec 32 := 3#32
  let v1329 : BitVec 32 := Scalar.shrsi v1328 c3_i32_656
  let c3_i32_657 : BitVec 32 := 3#32
  let v1330 : BitVec 32 := Scalar.shli v1329 c3_i32_657
  v1330

def k0_off61 (v1328 : BitVec 32) : Fin 2 → Nat :=
  let c3_i32_656 : BitVec 32 := 3#32
  let v1329 : BitVec 32 := Scalar.shrsi v1328 c3_i32_656
  let c3_i32_657 : BitVec 32 := 3#32
  let v1330 : BitVec 32 := Scalar.shli v1329 c3_i32_657
  let v1331 : BitVec 32 := v1330
  let v1332 : Index := Scalar.indexCast v1331
  let c0_658 : Index := 0#32
  ![v1332.toNat, 0]

def k0_chk61 (v1328 : BitVec 32) : Prop :=
  (8 ∣ (k0_mult61 v1328).toNat) ∧
  (∀ a, (k0_off61 v1328) a + S8x128.size a ≤ S20016x128.size a)
theorem k0_mult61_dvd : ∀ (v1328 : BitVec 32) (k0_hw61 : k0_chk61 v1328), 8 ∣ (k0_mult61 v1328).toNat := fun v1328 k0_hw61 => k0_hw61.1
theorem k0_off61_inb : ∀ (v1328 : BitVec 32) (k0_hw61 : k0_chk61 v1328), ∀ a, (k0_off61 v1328) a + S8x128.size a ≤ S20016x128.size a := fun v1328 k0_hw61 => k0_hw61.2

def k0_mult62 (v1350 : BitVec 32) : BitVec 32 :=
  let c3_i32_667 : BitVec 32 := 3#32
  let v1351 : BitVec 32 := Scalar.shrsi v1350 c3_i32_667
  let c3_i32_668 : BitVec 32 := 3#32
  let v1352 : BitVec 32 := Scalar.shli v1351 c3_i32_668
  v1352

def k0_off62 (v1350 : BitVec 32) : Fin 2 → Nat :=
  let c3_i32_667 : BitVec 32 := 3#32
  let v1351 : BitVec 32 := Scalar.shrsi v1350 c3_i32_667
  let c3_i32_668 : BitVec 32 := 3#32
  let v1352 : BitVec 32 := Scalar.shli v1351 c3_i32_668
  let v1353 : BitVec 32 := v1352
  let v1354 : Index := Scalar.indexCast v1353
  let c0_669 : Index := 0#32
  ![v1354.toNat, 0]

def k0_chk62 (v1350 : BitVec 32) : Prop :=
  (8 ∣ (k0_mult62 v1350).toNat) ∧
  (∀ a, (k0_off62 v1350) a + S8x128.size a ≤ S20016x128.size a)
theorem k0_mult62_dvd : ∀ (v1350 : BitVec 32) (k0_hw62 : k0_chk62 v1350), 8 ∣ (k0_mult62 v1350).toNat := fun v1350 k0_hw62 => k0_hw62.1
theorem k0_off62_inb : ∀ (v1350 : BitVec 32) (k0_hw62 : k0_chk62 v1350), ∀ a, (k0_off62 v1350) a + S8x128.size a ≤ S20016x128.size a := fun v1350 k0_hw62 => k0_hw62.2

def k0_mult63 (v1372 : BitVec 32) : BitVec 32 :=
  let c3_i32_678 : BitVec 32 := 3#32
  let v1373 : BitVec 32 := Scalar.shrsi v1372 c3_i32_678
  let c3_i32_679 : BitVec 32 := 3#32
  let v1374 : BitVec 32 := Scalar.shli v1373 c3_i32_679
  v1374

def k0_off63 (v1372 : BitVec 32) : Fin 2 → Nat :=
  let c3_i32_678 : BitVec 32 := 3#32
  let v1373 : BitVec 32 := Scalar.shrsi v1372 c3_i32_678
  let c3_i32_679 : BitVec 32 := 3#32
  let v1374 : BitVec 32 := Scalar.shli v1373 c3_i32_679
  let v1375 : BitVec 32 := v1374
  let v1376 : Index := Scalar.indexCast v1375
  let c0_680 : Index := 0#32
  ![v1376.toNat, 0]

def k0_chk63 (v1372 : BitVec 32) : Prop :=
  (8 ∣ (k0_mult63 v1372).toNat) ∧
  (∀ a, (k0_off63 v1372) a + S8x128.size a ≤ S20016x128.size a)
theorem k0_mult63_dvd : ∀ (v1372 : BitVec 32) (k0_hw63 : k0_chk63 v1372), 8 ∣ (k0_mult63 v1372).toNat := fun v1372 k0_hw63 => k0_hw63.1
theorem k0_off63_inb : ∀ (v1372 : BitVec 32) (k0_hw63 : k0_chk63 v1372), ∀ a, (k0_off63 v1372) a + S8x128.size a ≤ S20016x128.size a := fun v1372 k0_hw63 => k0_hw63.2

def k0_mult64 (v1394 : BitVec 32) : BitVec 32 :=
  let c3_i32_689 : BitVec 32 := 3#32
  let v1395 : BitVec 32 := Scalar.shrsi v1394 c3_i32_689
  let c3_i32_690 : BitVec 32 := 3#32
  let v1396 : BitVec 32 := Scalar.shli v1395 c3_i32_690
  v1396

def k0_off64 (v1394 : BitVec 32) : Fin 2 → Nat :=
  let c3_i32_689 : BitVec 32 := 3#32
  let v1395 : BitVec 32 := Scalar.shrsi v1394 c3_i32_689
  let c3_i32_690 : BitVec 32 := 3#32
  let v1396 : BitVec 32 := Scalar.shli v1395 c3_i32_690
  let v1397 : BitVec 32 := v1396
  let v1398 : Index := Scalar.indexCast v1397
  let c0_691 : Index := 0#32
  ![v1398.toNat, 0]

def k0_chk64 (v1394 : BitVec 32) : Prop :=
  (8 ∣ (k0_mult64 v1394).toNat) ∧
  (∀ a, (k0_off64 v1394) a + S8x128.size a ≤ S20016x128.size a)
theorem k0_mult64_dvd : ∀ (v1394 : BitVec 32) (k0_hw64 : k0_chk64 v1394), 8 ∣ (k0_mult64 v1394).toNat := fun v1394 k0_hw64 => k0_hw64.1
theorem k0_off64_inb : ∀ (v1394 : BitVec 32) (k0_hw64 : k0_chk64 v1394), ∀ a, (k0_off64 v1394) a + S8x128.size a ≤ S20016x128.size a := fun v1394 k0_hw64 => k0_hw64.2

def k0_mult65 (v1416 : BitVec 32) : BitVec 32 :=
  let c3_i32_700 : BitVec 32 := 3#32
  let v1417 : BitVec 32 := Scalar.shrsi v1416 c3_i32_700
  let c3_i32_701 : BitVec 32 := 3#32
  let v1418 : BitVec 32 := Scalar.shli v1417 c3_i32_701
  v1418

def k0_off65 (v1416 : BitVec 32) : Fin 2 → Nat :=
  let c3_i32_700 : BitVec 32 := 3#32
  let v1417 : BitVec 32 := Scalar.shrsi v1416 c3_i32_700
  let c3_i32_701 : BitVec 32 := 3#32
  let v1418 : BitVec 32 := Scalar.shli v1417 c3_i32_701
  let v1419 : BitVec 32 := v1418
  let v1420 : Index := Scalar.indexCast v1419
  let c0_702 : Index := 0#32
  ![v1420.toNat, 0]

def k0_chk65 (v1416 : BitVec 32) : Prop :=
  (8 ∣ (k0_mult65 v1416).toNat) ∧
  (∀ a, (k0_off65 v1416) a + S8x128.size a ≤ S20016x128.size a)
theorem k0_mult65_dvd : ∀ (v1416 : BitVec 32) (k0_hw65 : k0_chk65 v1416), 8 ∣ (k0_mult65 v1416).toNat := fun v1416 k0_hw65 => k0_hw65.1
theorem k0_off65_inb : ∀ (v1416 : BitVec 32) (k0_hw65 : k0_chk65 v1416), ∀ a, (k0_off65 v1416) a + S8x128.size a ≤ S20016x128.size a := fun v1416 k0_hw65 => k0_hw65.2

def k0_mult66 (v1438 : BitVec 32) : BitVec 32 :=
  let c3_i32_711 : BitVec 32 := 3#32
  let v1439 : BitVec 32 := Scalar.shrsi v1438 c3_i32_711
  let c3_i32_712 : BitVec 32 := 3#32
  let v1440 : BitVec 32 := Scalar.shli v1439 c3_i32_712
  v1440

def k0_off66 (v1438 : BitVec 32) : Fin 2 → Nat :=
  let c3_i32_711 : BitVec 32 := 3#32
  let v1439 : BitVec 32 := Scalar.shrsi v1438 c3_i32_711
  let c3_i32_712 : BitVec 32 := 3#32
  let v1440 : BitVec 32 := Scalar.shli v1439 c3_i32_712
  let v1441 : BitVec 32 := v1440
  let v1442 : Index := Scalar.indexCast v1441
  let c0_713 : Index := 0#32
  ![v1442.toNat, 0]

def k0_chk66 (v1438 : BitVec 32) : Prop :=
  (8 ∣ (k0_mult66 v1438).toNat) ∧
  (∀ a, (k0_off66 v1438) a + S8x128.size a ≤ S20016x128.size a)
theorem k0_mult66_dvd : ∀ (v1438 : BitVec 32) (k0_hw66 : k0_chk66 v1438), 8 ∣ (k0_mult66 v1438).toNat := fun v1438 k0_hw66 => k0_hw66.1
theorem k0_off66_inb : ∀ (v1438 : BitVec 32) (k0_hw66 : k0_chk66 v1438), ∀ a, (k0_off66 v1438) a + S8x128.size a ≤ S20016x128.size a := fun v1438 k0_hw66 => k0_hw66.2

def k0_mult67 (v1460 : BitVec 32) : BitVec 32 :=
  let c3_i32_722 : BitVec 32 := 3#32
  let v1461 : BitVec 32 := Scalar.shrsi v1460 c3_i32_722
  let c3_i32_723 : BitVec 32 := 3#32
  let v1462 : BitVec 32 := Scalar.shli v1461 c3_i32_723
  v1462

def k0_off67 (v1460 : BitVec 32) : Fin 2 → Nat :=
  let c3_i32_722 : BitVec 32 := 3#32
  let v1461 : BitVec 32 := Scalar.shrsi v1460 c3_i32_722
  let c3_i32_723 : BitVec 32 := 3#32
  let v1462 : BitVec 32 := Scalar.shli v1461 c3_i32_723
  let v1463 : BitVec 32 := v1462
  let v1464 : Index := Scalar.indexCast v1463
  let c0_724 : Index := 0#32
  ![v1464.toNat, 0]

def k0_chk67 (v1460 : BitVec 32) : Prop :=
  (8 ∣ (k0_mult67 v1460).toNat) ∧
  (∀ a, (k0_off67 v1460) a + S8x128.size a ≤ S20016x128.size a)
theorem k0_mult67_dvd : ∀ (v1460 : BitVec 32) (k0_hw67 : k0_chk67 v1460), 8 ∣ (k0_mult67 v1460).toNat := fun v1460 k0_hw67 => k0_hw67.1
theorem k0_off67_inb : ∀ (v1460 : BitVec 32) (k0_hw67 : k0_chk67 v1460), ∀ a, (k0_off67 v1460) a + S8x128.size a ≤ S20016x128.size a := fun v1460 k0_hw67 => k0_hw67.2

def k0_mult68 (v1482 : BitVec 32) : BitVec 32 :=
  let c3_i32_733 : BitVec 32 := 3#32
  let v1483 : BitVec 32 := Scalar.shrsi v1482 c3_i32_733
  let c3_i32_734 : BitVec 32 := 3#32
  let v1484 : BitVec 32 := Scalar.shli v1483 c3_i32_734
  v1484

def k0_off68 (v1482 : BitVec 32) : Fin 2 → Nat :=
  let c3_i32_733 : BitVec 32 := 3#32
  let v1483 : BitVec 32 := Scalar.shrsi v1482 c3_i32_733
  let c3_i32_734 : BitVec 32 := 3#32
  let v1484 : BitVec 32 := Scalar.shli v1483 c3_i32_734
  let v1485 : BitVec 32 := v1484
  let v1486 : Index := Scalar.indexCast v1485
  let c0_735 : Index := 0#32
  ![v1486.toNat, 0]

def k0_chk68 (v1482 : BitVec 32) : Prop :=
  (8 ∣ (k0_mult68 v1482).toNat) ∧
  (∀ a, (k0_off68 v1482) a + S8x128.size a ≤ S20016x128.size a)
theorem k0_mult68_dvd : ∀ (v1482 : BitVec 32) (k0_hw68 : k0_chk68 v1482), 8 ∣ (k0_mult68 v1482).toNat := fun v1482 k0_hw68 => k0_hw68.1
theorem k0_off68_inb : ∀ (v1482 : BitVec 32) (k0_hw68 : k0_chk68 v1482), ∀ a, (k0_off68 v1482) a + S8x128.size a ≤ S20016x128.size a := fun v1482 k0_hw68 => k0_hw68.2

def k0_mult69 (v1504 : BitVec 32) : BitVec 32 :=
  let c3_i32_744 : BitVec 32 := 3#32
  let v1505 : BitVec 32 := Scalar.shrsi v1504 c3_i32_744
  let c3_i32_745 : BitVec 32 := 3#32
  let v1506 : BitVec 32 := Scalar.shli v1505 c3_i32_745
  v1506

def k0_off69 (v1504 : BitVec 32) : Fin 2 → Nat :=
  let c3_i32_744 : BitVec 32 := 3#32
  let v1505 : BitVec 32 := Scalar.shrsi v1504 c3_i32_744
  let c3_i32_745 : BitVec 32 := 3#32
  let v1506 : BitVec 32 := Scalar.shli v1505 c3_i32_745
  let v1507 : BitVec 32 := v1506
  let v1508 : Index := Scalar.indexCast v1507
  let c0_746 : Index := 0#32
  ![v1508.toNat, 0]

def k0_chk69 (v1504 : BitVec 32) : Prop :=
  (8 ∣ (k0_mult69 v1504).toNat) ∧
  (∀ a, (k0_off69 v1504) a + S8x128.size a ≤ S20016x128.size a)
theorem k0_mult69_dvd : ∀ (v1504 : BitVec 32) (k0_hw69 : k0_chk69 v1504), 8 ∣ (k0_mult69 v1504).toNat := fun v1504 k0_hw69 => k0_hw69.1
theorem k0_off69_inb : ∀ (v1504 : BitVec 32) (k0_hw69 : k0_chk69 v1504), ∀ a, (k0_off69 v1504) a + S8x128.size a ≤ S20016x128.size a := fun v1504 k0_hw69 => k0_hw69.2

def k0_mult70 (v1526 : BitVec 32) : BitVec 32 :=
  let c3_i32_755 : BitVec 32 := 3#32
  let v1527 : BitVec 32 := Scalar.shrsi v1526 c3_i32_755
  let c3_i32_756 : BitVec 32 := 3#32
  let v1528 : BitVec 32 := Scalar.shli v1527 c3_i32_756
  v1528

def k0_off70 (v1526 : BitVec 32) : Fin 2 → Nat :=
  let c3_i32_755 : BitVec 32 := 3#32
  let v1527 : BitVec 32 := Scalar.shrsi v1526 c3_i32_755
  let c3_i32_756 : BitVec 32 := 3#32
  let v1528 : BitVec 32 := Scalar.shli v1527 c3_i32_756
  let v1529 : BitVec 32 := v1528
  let v1530 : Index := Scalar.indexCast v1529
  let c0_757 : Index := 0#32
  ![v1530.toNat, 0]

def k0_chk70 (v1526 : BitVec 32) : Prop :=
  (8 ∣ (k0_mult70 v1526).toNat) ∧
  (∀ a, (k0_off70 v1526) a + S8x128.size a ≤ S20016x128.size a)
theorem k0_mult70_dvd : ∀ (v1526 : BitVec 32) (k0_hw70 : k0_chk70 v1526), 8 ∣ (k0_mult70 v1526).toNat := fun v1526 k0_hw70 => k0_hw70.1
theorem k0_off70_inb : ∀ (v1526 : BitVec 32) (k0_hw70 : k0_chk70 v1526), ∀ a, (k0_off70 v1526) a + S8x128.size a ≤ S20016x128.size a := fun v1526 k0_hw70 => k0_hw70.2

def k0_mult71 (v1548 : BitVec 32) : BitVec 32 :=
  let c3_i32_766 : BitVec 32 := 3#32
  let v1549 : BitVec 32 := Scalar.shrsi v1548 c3_i32_766
  let c3_i32_767 : BitVec 32 := 3#32
  let v1550 : BitVec 32 := Scalar.shli v1549 c3_i32_767
  v1550

def k0_off71 (v1548 : BitVec 32) : Fin 2 → Nat :=
  let c3_i32_766 : BitVec 32 := 3#32
  let v1549 : BitVec 32 := Scalar.shrsi v1548 c3_i32_766
  let c3_i32_767 : BitVec 32 := 3#32
  let v1550 : BitVec 32 := Scalar.shli v1549 c3_i32_767
  let v1551 : BitVec 32 := v1550
  let v1552 : Index := Scalar.indexCast v1551
  let c0_768 : Index := 0#32
  ![v1552.toNat, 0]

def k0_chk71 (v1548 : BitVec 32) : Prop :=
  (8 ∣ (k0_mult71 v1548).toNat) ∧
  (∀ a, (k0_off71 v1548) a + S8x128.size a ≤ S20016x128.size a)
theorem k0_mult71_dvd : ∀ (v1548 : BitVec 32) (k0_hw71 : k0_chk71 v1548), 8 ∣ (k0_mult71 v1548).toNat := fun v1548 k0_hw71 => k0_hw71.1
theorem k0_off71_inb : ∀ (v1548 : BitVec 32) (k0_hw71 : k0_chk71 v1548), ∀ a, (k0_off71 v1548) a + S8x128.size a ≤ S20016x128.size a := fun v1548 k0_hw71 => k0_hw71.2

def k0_mult72 (v1570 : BitVec 32) : BitVec 32 :=
  let c3_i32_777 : BitVec 32 := 3#32
  let v1571 : BitVec 32 := Scalar.shrsi v1570 c3_i32_777
  let c3_i32_778 : BitVec 32 := 3#32
  let v1572 : BitVec 32 := Scalar.shli v1571 c3_i32_778
  v1572

def k0_off72 (v1570 : BitVec 32) : Fin 2 → Nat :=
  let c3_i32_777 : BitVec 32 := 3#32
  let v1571 : BitVec 32 := Scalar.shrsi v1570 c3_i32_777
  let c3_i32_778 : BitVec 32 := 3#32
  let v1572 : BitVec 32 := Scalar.shli v1571 c3_i32_778
  let v1573 : BitVec 32 := v1572
  let v1574 : Index := Scalar.indexCast v1573
  let c0_779 : Index := 0#32
  ![v1574.toNat, 0]

def k0_chk72 (v1570 : BitVec 32) : Prop :=
  (8 ∣ (k0_mult72 v1570).toNat) ∧
  (∀ a, (k0_off72 v1570) a + S8x128.size a ≤ S20016x128.size a)
theorem k0_mult72_dvd : ∀ (v1570 : BitVec 32) (k0_hw72 : k0_chk72 v1570), 8 ∣ (k0_mult72 v1570).toNat := fun v1570 k0_hw72 => k0_hw72.1
theorem k0_off72_inb : ∀ (v1570 : BitVec 32) (k0_hw72 : k0_chk72 v1570), ∀ a, (k0_off72 v1570) a + S8x128.size a ≤ S20016x128.size a := fun v1570 k0_hw72 => k0_hw72.2

def k0_mult73 (v1592 : BitVec 32) : BitVec 32 :=
  let c3_i32_788 : BitVec 32 := 3#32
  let v1593 : BitVec 32 := Scalar.shrsi v1592 c3_i32_788
  let c3_i32_789 : BitVec 32 := 3#32
  let v1594 : BitVec 32 := Scalar.shli v1593 c3_i32_789
  v1594

def k0_off73 (v1592 : BitVec 32) : Fin 2 → Nat :=
  let c3_i32_788 : BitVec 32 := 3#32
  let v1593 : BitVec 32 := Scalar.shrsi v1592 c3_i32_788
  let c3_i32_789 : BitVec 32 := 3#32
  let v1594 : BitVec 32 := Scalar.shli v1593 c3_i32_789
  let v1595 : BitVec 32 := v1594
  let v1596 : Index := Scalar.indexCast v1595
  let c0_790 : Index := 0#32
  ![v1596.toNat, 0]

def k0_chk73 (v1592 : BitVec 32) : Prop :=
  (8 ∣ (k0_mult73 v1592).toNat) ∧
  (∀ a, (k0_off73 v1592) a + S8x128.size a ≤ S20016x128.size a)
theorem k0_mult73_dvd : ∀ (v1592 : BitVec 32) (k0_hw73 : k0_chk73 v1592), 8 ∣ (k0_mult73 v1592).toNat := fun v1592 k0_hw73 => k0_hw73.1
theorem k0_off73_inb : ∀ (v1592 : BitVec 32) (k0_hw73 : k0_chk73 v1592), ∀ a, (k0_off73 v1592) a + S8x128.size a ≤ S20016x128.size a := fun v1592 k0_hw73 => k0_hw73.2

def k0_mult74 (v1614 : BitVec 32) : BitVec 32 :=
  let c3_i32_799 : BitVec 32 := 3#32
  let v1615 : BitVec 32 := Scalar.shrsi v1614 c3_i32_799
  let c3_i32_800 : BitVec 32 := 3#32
  let v1616 : BitVec 32 := Scalar.shli v1615 c3_i32_800
  v1616

def k0_off74 (v1614 : BitVec 32) : Fin 2 → Nat :=
  let c3_i32_799 : BitVec 32 := 3#32
  let v1615 : BitVec 32 := Scalar.shrsi v1614 c3_i32_799
  let c3_i32_800 : BitVec 32 := 3#32
  let v1616 : BitVec 32 := Scalar.shli v1615 c3_i32_800
  let v1617 : BitVec 32 := v1616
  let v1618 : Index := Scalar.indexCast v1617
  let c0_801 : Index := 0#32
  ![v1618.toNat, 0]

def k0_chk74 (v1614 : BitVec 32) : Prop :=
  (8 ∣ (k0_mult74 v1614).toNat) ∧
  (∀ a, (k0_off74 v1614) a + S8x128.size a ≤ S20016x128.size a)
theorem k0_mult74_dvd : ∀ (v1614 : BitVec 32) (k0_hw74 : k0_chk74 v1614), 8 ∣ (k0_mult74 v1614).toNat := fun v1614 k0_hw74 => k0_hw74.1
theorem k0_off74_inb : ∀ (v1614 : BitVec 32) (k0_hw74 : k0_chk74 v1614), ∀ a, (k0_off74 v1614) a + S8x128.size a ≤ S20016x128.size a := fun v1614 k0_hw74 => k0_hw74.2

def k0_mult75 (v1636 : BitVec 32) : BitVec 32 :=
  let c3_i32_810 : BitVec 32 := 3#32
  let v1637 : BitVec 32 := Scalar.shrsi v1636 c3_i32_810
  let c3_i32_811 : BitVec 32 := 3#32
  let v1638 : BitVec 32 := Scalar.shli v1637 c3_i32_811
  v1638

def k0_off75 (v1636 : BitVec 32) : Fin 2 → Nat :=
  let c3_i32_810 : BitVec 32 := 3#32
  let v1637 : BitVec 32 := Scalar.shrsi v1636 c3_i32_810
  let c3_i32_811 : BitVec 32 := 3#32
  let v1638 : BitVec 32 := Scalar.shli v1637 c3_i32_811
  let v1639 : BitVec 32 := v1638
  let v1640 : Index := Scalar.indexCast v1639
  let c0_812 : Index := 0#32
  ![v1640.toNat, 0]

def k0_chk75 (v1636 : BitVec 32) : Prop :=
  (8 ∣ (k0_mult75 v1636).toNat) ∧
  (∀ a, (k0_off75 v1636) a + S8x128.size a ≤ S20016x128.size a)
theorem k0_mult75_dvd : ∀ (v1636 : BitVec 32) (k0_hw75 : k0_chk75 v1636), 8 ∣ (k0_mult75 v1636).toNat := fun v1636 k0_hw75 => k0_hw75.1
theorem k0_off75_inb : ∀ (v1636 : BitVec 32) (k0_hw75 : k0_chk75 v1636), ∀ a, (k0_off75 v1636) a + S8x128.size a ≤ S20016x128.size a := fun v1636 k0_hw75 => k0_hw75.2

def k0_mult76 (v1658 : BitVec 32) : BitVec 32 :=
  let c3_i32_821 : BitVec 32 := 3#32
  let v1659 : BitVec 32 := Scalar.shrsi v1658 c3_i32_821
  let c3_i32_822 : BitVec 32 := 3#32
  let v1660 : BitVec 32 := Scalar.shli v1659 c3_i32_822
  v1660

def k0_off76 (v1658 : BitVec 32) : Fin 2 → Nat :=
  let c3_i32_821 : BitVec 32 := 3#32
  let v1659 : BitVec 32 := Scalar.shrsi v1658 c3_i32_821
  let c3_i32_822 : BitVec 32 := 3#32
  let v1660 : BitVec 32 := Scalar.shli v1659 c3_i32_822
  let v1661 : BitVec 32 := v1660
  let v1662 : Index := Scalar.indexCast v1661
  let c0_823 : Index := 0#32
  ![v1662.toNat, 0]

def k0_chk76 (v1658 : BitVec 32) : Prop :=
  (8 ∣ (k0_mult76 v1658).toNat) ∧
  (∀ a, (k0_off76 v1658) a + S8x128.size a ≤ S20016x128.size a)
theorem k0_mult76_dvd : ∀ (v1658 : BitVec 32) (k0_hw76 : k0_chk76 v1658), 8 ∣ (k0_mult76 v1658).toNat := fun v1658 k0_hw76 => k0_hw76.1
theorem k0_off76_inb : ∀ (v1658 : BitVec 32) (k0_hw76 : k0_chk76 v1658), ∀ a, (k0_off76 v1658) a + S8x128.size a ≤ S20016x128.size a := fun v1658 k0_hw76 => k0_hw76.2

def k0_mult77 (v1680 : BitVec 32) : BitVec 32 :=
  let c3_i32_832 : BitVec 32 := 3#32
  let v1681 : BitVec 32 := Scalar.shrsi v1680 c3_i32_832
  let c3_i32_833 : BitVec 32 := 3#32
  let v1682 : BitVec 32 := Scalar.shli v1681 c3_i32_833
  v1682

def k0_off77 (v1680 : BitVec 32) : Fin 2 → Nat :=
  let c3_i32_832 : BitVec 32 := 3#32
  let v1681 : BitVec 32 := Scalar.shrsi v1680 c3_i32_832
  let c3_i32_833 : BitVec 32 := 3#32
  let v1682 : BitVec 32 := Scalar.shli v1681 c3_i32_833
  let v1683 : BitVec 32 := v1682
  let v1684 : Index := Scalar.indexCast v1683
  let c0_834 : Index := 0#32
  ![v1684.toNat, 0]

def k0_chk77 (v1680 : BitVec 32) : Prop :=
  (8 ∣ (k0_mult77 v1680).toNat) ∧
  (∀ a, (k0_off77 v1680) a + S8x128.size a ≤ S20016x128.size a)
theorem k0_mult77_dvd : ∀ (v1680 : BitVec 32) (k0_hw77 : k0_chk77 v1680), 8 ∣ (k0_mult77 v1680).toNat := fun v1680 k0_hw77 => k0_hw77.1
theorem k0_off77_inb : ∀ (v1680 : BitVec 32) (k0_hw77 : k0_chk77 v1680), ∀ a, (k0_off77 v1680) a + S8x128.size a ≤ S20016x128.size a := fun v1680 k0_hw77 => k0_hw77.2

def k0_mult78 (v1702 : BitVec 32) : BitVec 32 :=
  let c3_i32_843 : BitVec 32 := 3#32
  let v1703 : BitVec 32 := Scalar.shrsi v1702 c3_i32_843
  let c3_i32_844 : BitVec 32 := 3#32
  let v1704 : BitVec 32 := Scalar.shli v1703 c3_i32_844
  v1704

def k0_off78 (v1702 : BitVec 32) : Fin 2 → Nat :=
  let c3_i32_843 : BitVec 32 := 3#32
  let v1703 : BitVec 32 := Scalar.shrsi v1702 c3_i32_843
  let c3_i32_844 : BitVec 32 := 3#32
  let v1704 : BitVec 32 := Scalar.shli v1703 c3_i32_844
  let v1705 : BitVec 32 := v1704
  let v1706 : Index := Scalar.indexCast v1705
  let c0_845 : Index := 0#32
  ![v1706.toNat, 0]

def k0_chk78 (v1702 : BitVec 32) : Prop :=
  (8 ∣ (k0_mult78 v1702).toNat) ∧
  (∀ a, (k0_off78 v1702) a + S8x128.size a ≤ S20016x128.size a)
theorem k0_mult78_dvd : ∀ (v1702 : BitVec 32) (k0_hw78 : k0_chk78 v1702), 8 ∣ (k0_mult78 v1702).toNat := fun v1702 k0_hw78 => k0_hw78.1
theorem k0_off78_inb : ∀ (v1702 : BitVec 32) (k0_hw78 : k0_chk78 v1702), ∀ a, (k0_off78 v1702) a + S8x128.size a ≤ S20016x128.size a := fun v1702 k0_hw78 => k0_hw78.2

def k0_mult79 (v1724 : BitVec 32) : BitVec 32 :=
  let c3_i32_854 : BitVec 32 := 3#32
  let v1725 : BitVec 32 := Scalar.shrsi v1724 c3_i32_854
  let c3_i32_855 : BitVec 32 := 3#32
  let v1726 : BitVec 32 := Scalar.shli v1725 c3_i32_855
  v1726

def k0_off79 (v1724 : BitVec 32) : Fin 2 → Nat :=
  let c3_i32_854 : BitVec 32 := 3#32
  let v1725 : BitVec 32 := Scalar.shrsi v1724 c3_i32_854
  let c3_i32_855 : BitVec 32 := 3#32
  let v1726 : BitVec 32 := Scalar.shli v1725 c3_i32_855
  let v1727 : BitVec 32 := v1726
  let v1728 : Index := Scalar.indexCast v1727
  let c0_856 : Index := 0#32
  ![v1728.toNat, 0]

def k0_chk79 (v1724 : BitVec 32) : Prop :=
  (8 ∣ (k0_mult79 v1724).toNat) ∧
  (∀ a, (k0_off79 v1724) a + S8x128.size a ≤ S20016x128.size a)
theorem k0_mult79_dvd : ∀ (v1724 : BitVec 32) (k0_hw79 : k0_chk79 v1724), 8 ∣ (k0_mult79 v1724).toNat := fun v1724 k0_hw79 => k0_hw79.1
theorem k0_off79_inb : ∀ (v1724 : BitVec 32) (k0_hw79 : k0_chk79 v1724), ∀ a, (k0_off79 v1724) a + S8x128.size a ≤ S20016x128.size a := fun v1724 k0_hw79 => k0_hw79.2

def k0_mult80 (v1746 : BitVec 32) : BitVec 32 :=
  let c3_i32_865 : BitVec 32 := 3#32
  let v1747 : BitVec 32 := Scalar.shrsi v1746 c3_i32_865
  let c3_i32_866 : BitVec 32 := 3#32
  let v1748 : BitVec 32 := Scalar.shli v1747 c3_i32_866
  v1748

def k0_off80 (v1746 : BitVec 32) : Fin 2 → Nat :=
  let c3_i32_865 : BitVec 32 := 3#32
  let v1747 : BitVec 32 := Scalar.shrsi v1746 c3_i32_865
  let c3_i32_866 : BitVec 32 := 3#32
  let v1748 : BitVec 32 := Scalar.shli v1747 c3_i32_866
  let v1749 : BitVec 32 := v1748
  let v1750 : Index := Scalar.indexCast v1749
  let c0_867 : Index := 0#32
  ![v1750.toNat, 0]

def k0_chk80 (v1746 : BitVec 32) : Prop :=
  (8 ∣ (k0_mult80 v1746).toNat) ∧
  (∀ a, (k0_off80 v1746) a + S8x128.size a ≤ S20016x128.size a)
theorem k0_mult80_dvd : ∀ (v1746 : BitVec 32) (k0_hw80 : k0_chk80 v1746), 8 ∣ (k0_mult80 v1746).toNat := fun v1746 k0_hw80 => k0_hw80.1
theorem k0_off80_inb : ∀ (v1746 : BitVec 32) (k0_hw80 : k0_chk80 v1746), ∀ a, (k0_off80 v1746) a + S8x128.size a ≤ S20016x128.size a := fun v1746 k0_hw80 => k0_hw80.2

def k0_mult81 (v1768 : BitVec 32) : BitVec 32 :=
  let c3_i32_876 : BitVec 32 := 3#32
  let v1769 : BitVec 32 := Scalar.shrsi v1768 c3_i32_876
  let c3_i32_877 : BitVec 32 := 3#32
  let v1770 : BitVec 32 := Scalar.shli v1769 c3_i32_877
  v1770

def k0_off81 (v1768 : BitVec 32) : Fin 2 → Nat :=
  let c3_i32_876 : BitVec 32 := 3#32
  let v1769 : BitVec 32 := Scalar.shrsi v1768 c3_i32_876
  let c3_i32_877 : BitVec 32 := 3#32
  let v1770 : BitVec 32 := Scalar.shli v1769 c3_i32_877
  let v1771 : BitVec 32 := v1770
  let v1772 : Index := Scalar.indexCast v1771
  let c0_878 : Index := 0#32
  ![v1772.toNat, 0]

def k0_chk81 (v1768 : BitVec 32) : Prop :=
  (8 ∣ (k0_mult81 v1768).toNat) ∧
  (∀ a, (k0_off81 v1768) a + S8x128.size a ≤ S20016x128.size a)
theorem k0_mult81_dvd : ∀ (v1768 : BitVec 32) (k0_hw81 : k0_chk81 v1768), 8 ∣ (k0_mult81 v1768).toNat := fun v1768 k0_hw81 => k0_hw81.1
theorem k0_off81_inb : ∀ (v1768 : BitVec 32) (k0_hw81 : k0_chk81 v1768), ∀ a, (k0_off81 v1768) a + S8x128.size a ≤ S20016x128.size a := fun v1768 k0_hw81 => k0_hw81.2

def k0_mult82 (v1790 : BitVec 32) : BitVec 32 :=
  let c3_i32_887 : BitVec 32 := 3#32
  let v1791 : BitVec 32 := Scalar.shrsi v1790 c3_i32_887
  let c3_i32_888 : BitVec 32 := 3#32
  let v1792 : BitVec 32 := Scalar.shli v1791 c3_i32_888
  v1792

def k0_off82 (v1790 : BitVec 32) : Fin 2 → Nat :=
  let c3_i32_887 : BitVec 32 := 3#32
  let v1791 : BitVec 32 := Scalar.shrsi v1790 c3_i32_887
  let c3_i32_888 : BitVec 32 := 3#32
  let v1792 : BitVec 32 := Scalar.shli v1791 c3_i32_888
  let v1793 : BitVec 32 := v1792
  let v1794 : Index := Scalar.indexCast v1793
  let c0_889 : Index := 0#32
  ![v1794.toNat, 0]

def k0_chk82 (v1790 : BitVec 32) : Prop :=
  (8 ∣ (k0_mult82 v1790).toNat) ∧
  (∀ a, (k0_off82 v1790) a + S8x128.size a ≤ S20016x128.size a)
theorem k0_mult82_dvd : ∀ (v1790 : BitVec 32) (k0_hw82 : k0_chk82 v1790), 8 ∣ (k0_mult82 v1790).toNat := fun v1790 k0_hw82 => k0_hw82.1
theorem k0_off82_inb : ∀ (v1790 : BitVec 32) (k0_hw82 : k0_chk82 v1790), ∀ a, (k0_off82 v1790) a + S8x128.size a ≤ S20016x128.size a := fun v1790 k0_hw82 => k0_hw82.2

def k0_mult83 (v1812 : BitVec 32) : BitVec 32 :=
  let c3_i32_898 : BitVec 32 := 3#32
  let v1813 : BitVec 32 := Scalar.shrsi v1812 c3_i32_898
  let c3_i32_899 : BitVec 32 := 3#32
  let v1814 : BitVec 32 := Scalar.shli v1813 c3_i32_899
  v1814

def k0_off83 (v1812 : BitVec 32) : Fin 2 → Nat :=
  let c3_i32_898 : BitVec 32 := 3#32
  let v1813 : BitVec 32 := Scalar.shrsi v1812 c3_i32_898
  let c3_i32_899 : BitVec 32 := 3#32
  let v1814 : BitVec 32 := Scalar.shli v1813 c3_i32_899
  let v1815 : BitVec 32 := v1814
  let v1816 : Index := Scalar.indexCast v1815
  let c0_900 : Index := 0#32
  ![v1816.toNat, 0]

def k0_chk83 (v1812 : BitVec 32) : Prop :=
  (8 ∣ (k0_mult83 v1812).toNat) ∧
  (∀ a, (k0_off83 v1812) a + S8x128.size a ≤ S20016x128.size a)
theorem k0_mult83_dvd : ∀ (v1812 : BitVec 32) (k0_hw83 : k0_chk83 v1812), 8 ∣ (k0_mult83 v1812).toNat := fun v1812 k0_hw83 => k0_hw83.1
theorem k0_off83_inb : ∀ (v1812 : BitVec 32) (k0_hw83 : k0_chk83 v1812), ∀ a, (k0_off83 v1812) a + S8x128.size a ≤ S20016x128.size a := fun v1812 k0_hw83 => k0_hw83.2

def k0_mult84 (v1834 : BitVec 32) : BitVec 32 :=
  let c3_i32_909 : BitVec 32 := 3#32
  let v1835 : BitVec 32 := Scalar.shrsi v1834 c3_i32_909
  let c3_i32_910 : BitVec 32 := 3#32
  let v1836 : BitVec 32 := Scalar.shli v1835 c3_i32_910
  v1836

def k0_off84 (v1834 : BitVec 32) : Fin 2 → Nat :=
  let c3_i32_909 : BitVec 32 := 3#32
  let v1835 : BitVec 32 := Scalar.shrsi v1834 c3_i32_909
  let c3_i32_910 : BitVec 32 := 3#32
  let v1836 : BitVec 32 := Scalar.shli v1835 c3_i32_910
  let v1837 : BitVec 32 := v1836
  let v1838 : Index := Scalar.indexCast v1837
  let c0_911 : Index := 0#32
  ![v1838.toNat, 0]

def k0_chk84 (v1834 : BitVec 32) : Prop :=
  (8 ∣ (k0_mult84 v1834).toNat) ∧
  (∀ a, (k0_off84 v1834) a + S8x128.size a ≤ S20016x128.size a)
theorem k0_mult84_dvd : ∀ (v1834 : BitVec 32) (k0_hw84 : k0_chk84 v1834), 8 ∣ (k0_mult84 v1834).toNat := fun v1834 k0_hw84 => k0_hw84.1
theorem k0_off84_inb : ∀ (v1834 : BitVec 32) (k0_hw84 : k0_chk84 v1834), ∀ a, (k0_off84 v1834) a + S8x128.size a ≤ S20016x128.size a := fun v1834 k0_hw84 => k0_hw84.2

def k0_mult85 (v1856 : BitVec 32) : BitVec 32 :=
  let c3_i32_920 : BitVec 32 := 3#32
  let v1857 : BitVec 32 := Scalar.shrsi v1856 c3_i32_920
  let c3_i32_921 : BitVec 32 := 3#32
  let v1858 : BitVec 32 := Scalar.shli v1857 c3_i32_921
  v1858

def k0_off85 (v1856 : BitVec 32) : Fin 2 → Nat :=
  let c3_i32_920 : BitVec 32 := 3#32
  let v1857 : BitVec 32 := Scalar.shrsi v1856 c3_i32_920
  let c3_i32_921 : BitVec 32 := 3#32
  let v1858 : BitVec 32 := Scalar.shli v1857 c3_i32_921
  let v1859 : BitVec 32 := v1858
  let v1860 : Index := Scalar.indexCast v1859
  let c0_922 : Index := 0#32
  ![v1860.toNat, 0]

def k0_chk85 (v1856 : BitVec 32) : Prop :=
  (8 ∣ (k0_mult85 v1856).toNat) ∧
  (∀ a, (k0_off85 v1856) a + S8x128.size a ≤ S20016x128.size a)
theorem k0_mult85_dvd : ∀ (v1856 : BitVec 32) (k0_hw85 : k0_chk85 v1856), 8 ∣ (k0_mult85 v1856).toNat := fun v1856 k0_hw85 => k0_hw85.1
theorem k0_off85_inb : ∀ (v1856 : BitVec 32) (k0_hw85 : k0_chk85 v1856), ∀ a, (k0_off85 v1856) a + S8x128.size a ≤ S20016x128.size a := fun v1856 k0_hw85 => k0_hw85.2

def k0_mult86 (v1878 : BitVec 32) : BitVec 32 :=
  let c3_i32_931 : BitVec 32 := 3#32
  let v1879 : BitVec 32 := Scalar.shrsi v1878 c3_i32_931
  let c3_i32_932 : BitVec 32 := 3#32
  let v1880 : BitVec 32 := Scalar.shli v1879 c3_i32_932
  v1880

def k0_off86 (v1878 : BitVec 32) : Fin 2 → Nat :=
  let c3_i32_931 : BitVec 32 := 3#32
  let v1879 : BitVec 32 := Scalar.shrsi v1878 c3_i32_931
  let c3_i32_932 : BitVec 32 := 3#32
  let v1880 : BitVec 32 := Scalar.shli v1879 c3_i32_932
  let v1881 : BitVec 32 := v1880
  let v1882 : Index := Scalar.indexCast v1881
  let c0_933 : Index := 0#32
  ![v1882.toNat, 0]

def k0_chk86 (v1878 : BitVec 32) : Prop :=
  (8 ∣ (k0_mult86 v1878).toNat) ∧
  (∀ a, (k0_off86 v1878) a + S8x128.size a ≤ S20016x128.size a)
theorem k0_mult86_dvd : ∀ (v1878 : BitVec 32) (k0_hw86 : k0_chk86 v1878), 8 ∣ (k0_mult86 v1878).toNat := fun v1878 k0_hw86 => k0_hw86.1
theorem k0_off86_inb : ∀ (v1878 : BitVec 32) (k0_hw86 : k0_chk86 v1878), ∀ a, (k0_off86 v1878) a + S8x128.size a ≤ S20016x128.size a := fun v1878 k0_hw86 => k0_hw86.2

def k0_mult87 (v1900 : BitVec 32) : BitVec 32 :=
  let c3_i32_942 : BitVec 32 := 3#32
  let v1901 : BitVec 32 := Scalar.shrsi v1900 c3_i32_942
  let c3_i32_943 : BitVec 32 := 3#32
  let v1902 : BitVec 32 := Scalar.shli v1901 c3_i32_943
  v1902

def k0_off87 (v1900 : BitVec 32) : Fin 2 → Nat :=
  let c3_i32_942 : BitVec 32 := 3#32
  let v1901 : BitVec 32 := Scalar.shrsi v1900 c3_i32_942
  let c3_i32_943 : BitVec 32 := 3#32
  let v1902 : BitVec 32 := Scalar.shli v1901 c3_i32_943
  let v1903 : BitVec 32 := v1902
  let v1904 : Index := Scalar.indexCast v1903
  let c0_944 : Index := 0#32
  ![v1904.toNat, 0]

def k0_chk87 (v1900 : BitVec 32) : Prop :=
  (8 ∣ (k0_mult87 v1900).toNat) ∧
  (∀ a, (k0_off87 v1900) a + S8x128.size a ≤ S20016x128.size a)
theorem k0_mult87_dvd : ∀ (v1900 : BitVec 32) (k0_hw87 : k0_chk87 v1900), 8 ∣ (k0_mult87 v1900).toNat := fun v1900 k0_hw87 => k0_hw87.1
theorem k0_off87_inb : ∀ (v1900 : BitVec 32) (k0_hw87 : k0_chk87 v1900), ∀ a, (k0_off87 v1900) a + S8x128.size a ≤ S20016x128.size a := fun v1900 k0_hw87 => k0_hw87.2

def k0_mult88 (v1922 : BitVec 32) : BitVec 32 :=
  let c3_i32_953 : BitVec 32 := 3#32
  let v1923 : BitVec 32 := Scalar.shrsi v1922 c3_i32_953
  let c3_i32_954 : BitVec 32 := 3#32
  let v1924 : BitVec 32 := Scalar.shli v1923 c3_i32_954
  v1924

def k0_off88 (v1922 : BitVec 32) : Fin 2 → Nat :=
  let c3_i32_953 : BitVec 32 := 3#32
  let v1923 : BitVec 32 := Scalar.shrsi v1922 c3_i32_953
  let c3_i32_954 : BitVec 32 := 3#32
  let v1924 : BitVec 32 := Scalar.shli v1923 c3_i32_954
  let v1925 : BitVec 32 := v1924
  let v1926 : Index := Scalar.indexCast v1925
  let c0_955 : Index := 0#32
  ![v1926.toNat, 0]

def k0_chk88 (v1922 : BitVec 32) : Prop :=
  (8 ∣ (k0_mult88 v1922).toNat) ∧
  (∀ a, (k0_off88 v1922) a + S8x128.size a ≤ S20016x128.size a)
theorem k0_mult88_dvd : ∀ (v1922 : BitVec 32) (k0_hw88 : k0_chk88 v1922), 8 ∣ (k0_mult88 v1922).toNat := fun v1922 k0_hw88 => k0_hw88.1
theorem k0_off88_inb : ∀ (v1922 : BitVec 32) (k0_hw88 : k0_chk88 v1922), ∀ a, (k0_off88 v1922) a + S8x128.size a ≤ S20016x128.size a := fun v1922 k0_hw88 => k0_hw88.2

def k0_mult89 (v1944 : BitVec 32) : BitVec 32 :=
  let c3_i32_964 : BitVec 32 := 3#32
  let v1945 : BitVec 32 := Scalar.shrsi v1944 c3_i32_964
  let c3_i32_965 : BitVec 32 := 3#32
  let v1946 : BitVec 32 := Scalar.shli v1945 c3_i32_965
  v1946

def k0_off89 (v1944 : BitVec 32) : Fin 2 → Nat :=
  let c3_i32_964 : BitVec 32 := 3#32
  let v1945 : BitVec 32 := Scalar.shrsi v1944 c3_i32_964
  let c3_i32_965 : BitVec 32 := 3#32
  let v1946 : BitVec 32 := Scalar.shli v1945 c3_i32_965
  let v1947 : BitVec 32 := v1946
  let v1948 : Index := Scalar.indexCast v1947
  let c0_966 : Index := 0#32
  ![v1948.toNat, 0]

def k0_chk89 (v1944 : BitVec 32) : Prop :=
  (8 ∣ (k0_mult89 v1944).toNat) ∧
  (∀ a, (k0_off89 v1944) a + S8x128.size a ≤ S20016x128.size a)
theorem k0_mult89_dvd : ∀ (v1944 : BitVec 32) (k0_hw89 : k0_chk89 v1944), 8 ∣ (k0_mult89 v1944).toNat := fun v1944 k0_hw89 => k0_hw89.1
theorem k0_off89_inb : ∀ (v1944 : BitVec 32) (k0_hw89 : k0_chk89 v1944), ∀ a, (k0_off89 v1944) a + S8x128.size a ≤ S20016x128.size a := fun v1944 k0_hw89 => k0_hw89.2

def k0_mult90 (v1966 : BitVec 32) : BitVec 32 :=
  let c3_i32_975 : BitVec 32 := 3#32
  let v1967 : BitVec 32 := Scalar.shrsi v1966 c3_i32_975
  let c3_i32_976 : BitVec 32 := 3#32
  let v1968 : BitVec 32 := Scalar.shli v1967 c3_i32_976
  v1968

def k0_off90 (v1966 : BitVec 32) : Fin 2 → Nat :=
  let c3_i32_975 : BitVec 32 := 3#32
  let v1967 : BitVec 32 := Scalar.shrsi v1966 c3_i32_975
  let c3_i32_976 : BitVec 32 := 3#32
  let v1968 : BitVec 32 := Scalar.shli v1967 c3_i32_976
  let v1969 : BitVec 32 := v1968
  let v1970 : Index := Scalar.indexCast v1969
  let c0_977 : Index := 0#32
  ![v1970.toNat, 0]

def k0_chk90 (v1966 : BitVec 32) : Prop :=
  (8 ∣ (k0_mult90 v1966).toNat) ∧
  (∀ a, (k0_off90 v1966) a + S8x128.size a ≤ S20016x128.size a)
theorem k0_mult90_dvd : ∀ (v1966 : BitVec 32) (k0_hw90 : k0_chk90 v1966), 8 ∣ (k0_mult90 v1966).toNat := fun v1966 k0_hw90 => k0_hw90.1
theorem k0_off90_inb : ∀ (v1966 : BitVec 32) (k0_hw90 : k0_chk90 v1966), ∀ a, (k0_off90 v1966) a + S8x128.size a ≤ S20016x128.size a := fun v1966 k0_hw90 => k0_hw90.2

def k0_mult91 (v1988 : BitVec 32) : BitVec 32 :=
  let c3_i32_986 : BitVec 32 := 3#32
  let v1989 : BitVec 32 := Scalar.shrsi v1988 c3_i32_986
  let c3_i32_987 : BitVec 32 := 3#32
  let v1990 : BitVec 32 := Scalar.shli v1989 c3_i32_987
  v1990

def k0_off91 (v1988 : BitVec 32) : Fin 2 → Nat :=
  let c3_i32_986 : BitVec 32 := 3#32
  let v1989 : BitVec 32 := Scalar.shrsi v1988 c3_i32_986
  let c3_i32_987 : BitVec 32 := 3#32
  let v1990 : BitVec 32 := Scalar.shli v1989 c3_i32_987
  let v1991 : BitVec 32 := v1990
  let v1992 : Index := Scalar.indexCast v1991
  let c0_988 : Index := 0#32
  ![v1992.toNat, 0]

def k0_chk91 (v1988 : BitVec 32) : Prop :=
  (8 ∣ (k0_mult91 v1988).toNat) ∧
  (∀ a, (k0_off91 v1988) a + S8x128.size a ≤ S20016x128.size a)
theorem k0_mult91_dvd : ∀ (v1988 : BitVec 32) (k0_hw91 : k0_chk91 v1988), 8 ∣ (k0_mult91 v1988).toNat := fun v1988 k0_hw91 => k0_hw91.1
theorem k0_off91_inb : ∀ (v1988 : BitVec 32) (k0_hw91 : k0_chk91 v1988), ∀ a, (k0_off91 v1988) a + S8x128.size a ≤ S20016x128.size a := fun v1988 k0_hw91 => k0_hw91.2

def k0_mult92 (v2010 : BitVec 32) : BitVec 32 :=
  let c3_i32_997 : BitVec 32 := 3#32
  let v2011 : BitVec 32 := Scalar.shrsi v2010 c3_i32_997
  let c3_i32_998 : BitVec 32 := 3#32
  let v2012 : BitVec 32 := Scalar.shli v2011 c3_i32_998
  v2012

def k0_off92 (v2010 : BitVec 32) : Fin 2 → Nat :=
  let c3_i32_997 : BitVec 32 := 3#32
  let v2011 : BitVec 32 := Scalar.shrsi v2010 c3_i32_997
  let c3_i32_998 : BitVec 32 := 3#32
  let v2012 : BitVec 32 := Scalar.shli v2011 c3_i32_998
  let v2013 : BitVec 32 := v2012
  let v2014 : Index := Scalar.indexCast v2013
  let c0_999 : Index := 0#32
  ![v2014.toNat, 0]

def k0_chk92 (v2010 : BitVec 32) : Prop :=
  (8 ∣ (k0_mult92 v2010).toNat) ∧
  (∀ a, (k0_off92 v2010) a + S8x128.size a ≤ S20016x128.size a)
theorem k0_mult92_dvd : ∀ (v2010 : BitVec 32) (k0_hw92 : k0_chk92 v2010), 8 ∣ (k0_mult92 v2010).toNat := fun v2010 k0_hw92 => k0_hw92.1
theorem k0_off92_inb : ∀ (v2010 : BitVec 32) (k0_hw92 : k0_chk92 v2010), ∀ a, (k0_off92 v2010) a + S8x128.size a ≤ S20016x128.size a := fun v2010 k0_hw92 => k0_hw92.2

def k0_mult93 (v2032 : BitVec 32) : BitVec 32 :=
  let c3_i32_1008 : BitVec 32 := 3#32
  let v2033 : BitVec 32 := Scalar.shrsi v2032 c3_i32_1008
  let c3_i32_1009 : BitVec 32 := 3#32
  let v2034 : BitVec 32 := Scalar.shli v2033 c3_i32_1009
  v2034

def k0_off93 (v2032 : BitVec 32) : Fin 2 → Nat :=
  let c3_i32_1008 : BitVec 32 := 3#32
  let v2033 : BitVec 32 := Scalar.shrsi v2032 c3_i32_1008
  let c3_i32_1009 : BitVec 32 := 3#32
  let v2034 : BitVec 32 := Scalar.shli v2033 c3_i32_1009
  let v2035 : BitVec 32 := v2034
  let v2036 : Index := Scalar.indexCast v2035
  let c0_1010 : Index := 0#32
  ![v2036.toNat, 0]

def k0_chk93 (v2032 : BitVec 32) : Prop :=
  (8 ∣ (k0_mult93 v2032).toNat) ∧
  (∀ a, (k0_off93 v2032) a + S8x128.size a ≤ S20016x128.size a)
theorem k0_mult93_dvd : ∀ (v2032 : BitVec 32) (k0_hw93 : k0_chk93 v2032), 8 ∣ (k0_mult93 v2032).toNat := fun v2032 k0_hw93 => k0_hw93.1
theorem k0_off93_inb : ∀ (v2032 : BitVec 32) (k0_hw93 : k0_chk93 v2032), ∀ a, (k0_off93 v2032) a + S8x128.size a ≤ S20016x128.size a := fun v2032 k0_hw93 => k0_hw93.2

def k0_mult94 (v2054 : BitVec 32) : BitVec 32 :=
  let c3_i32_1019 : BitVec 32 := 3#32
  let v2055 : BitVec 32 := Scalar.shrsi v2054 c3_i32_1019
  let c3_i32_1020 : BitVec 32 := 3#32
  let v2056 : BitVec 32 := Scalar.shli v2055 c3_i32_1020
  v2056

def k0_off94 (v2054 : BitVec 32) : Fin 2 → Nat :=
  let c3_i32_1019 : BitVec 32 := 3#32
  let v2055 : BitVec 32 := Scalar.shrsi v2054 c3_i32_1019
  let c3_i32_1020 : BitVec 32 := 3#32
  let v2056 : BitVec 32 := Scalar.shli v2055 c3_i32_1020
  let v2057 : BitVec 32 := v2056
  let v2058 : Index := Scalar.indexCast v2057
  let c0_1021 : Index := 0#32
  ![v2058.toNat, 0]

def k0_chk94 (v2054 : BitVec 32) : Prop :=
  (8 ∣ (k0_mult94 v2054).toNat) ∧
  (∀ a, (k0_off94 v2054) a + S8x128.size a ≤ S20016x128.size a)
theorem k0_mult94_dvd : ∀ (v2054 : BitVec 32) (k0_hw94 : k0_chk94 v2054), 8 ∣ (k0_mult94 v2054).toNat := fun v2054 k0_hw94 => k0_hw94.1
theorem k0_off94_inb : ∀ (v2054 : BitVec 32) (k0_hw94 : k0_chk94 v2054), ∀ a, (k0_off94 v2054) a + S8x128.size a ≤ S20016x128.size a := fun v2054 k0_hw94 => k0_hw94.2

def k0_mult95 (v2076 : BitVec 32) : BitVec 32 :=
  let c3_i32_1030 : BitVec 32 := 3#32
  let v2077 : BitVec 32 := Scalar.shrsi v2076 c3_i32_1030
  let c3_i32_1031 : BitVec 32 := 3#32
  let v2078 : BitVec 32 := Scalar.shli v2077 c3_i32_1031
  v2078

def k0_off95 (v2076 : BitVec 32) : Fin 2 → Nat :=
  let c3_i32_1030 : BitVec 32 := 3#32
  let v2077 : BitVec 32 := Scalar.shrsi v2076 c3_i32_1030
  let c3_i32_1031 : BitVec 32 := 3#32
  let v2078 : BitVec 32 := Scalar.shli v2077 c3_i32_1031
  let v2079 : BitVec 32 := v2078
  let v2080 : Index := Scalar.indexCast v2079
  let c0_1032 : Index := 0#32
  ![v2080.toNat, 0]

def k0_chk95 (v2076 : BitVec 32) : Prop :=
  (8 ∣ (k0_mult95 v2076).toNat) ∧
  (∀ a, (k0_off95 v2076) a + S8x128.size a ≤ S20016x128.size a)
theorem k0_mult95_dvd : ∀ (v2076 : BitVec 32) (k0_hw95 : k0_chk95 v2076), 8 ∣ (k0_mult95 v2076).toNat := fun v2076 k0_hw95 => k0_hw95.1
theorem k0_off95_inb : ∀ (v2076 : BitVec 32) (k0_hw95 : k0_chk95 v2076), ∀ a, (k0_off95 v2076) a + S8x128.size a ≤ S20016x128.size a := fun v2076 k0_hw95 => k0_hw95.2

def k0_mult96 (v2098 : BitVec 32) : BitVec 32 :=
  let c3_i32_1041 : BitVec 32 := 3#32
  let v2099 : BitVec 32 := Scalar.shrsi v2098 c3_i32_1041
  let c3_i32_1042 : BitVec 32 := 3#32
  let v2100 : BitVec 32 := Scalar.shli v2099 c3_i32_1042
  v2100

def k0_off96 (v2098 : BitVec 32) : Fin 2 → Nat :=
  let c3_i32_1041 : BitVec 32 := 3#32
  let v2099 : BitVec 32 := Scalar.shrsi v2098 c3_i32_1041
  let c3_i32_1042 : BitVec 32 := 3#32
  let v2100 : BitVec 32 := Scalar.shli v2099 c3_i32_1042
  let v2101 : BitVec 32 := v2100
  let v2102 : Index := Scalar.indexCast v2101
  let c0_1043 : Index := 0#32
  ![v2102.toNat, 0]

def k0_chk96 (v2098 : BitVec 32) : Prop :=
  (8 ∣ (k0_mult96 v2098).toNat) ∧
  (∀ a, (k0_off96 v2098) a + S8x128.size a ≤ S20016x128.size a)
theorem k0_mult96_dvd : ∀ (v2098 : BitVec 32) (k0_hw96 : k0_chk96 v2098), 8 ∣ (k0_mult96 v2098).toNat := fun v2098 k0_hw96 => k0_hw96.1
theorem k0_off96_inb : ∀ (v2098 : BitVec 32) (k0_hw96 : k0_chk96 v2098), ∀ a, (k0_off96 v2098) a + S8x128.size a ≤ S20016x128.size a := fun v2098 k0_hw96 => k0_hw96.2

def k0_mult97 (v2120 : BitVec 32) : BitVec 32 :=
  let c3_i32_1052 : BitVec 32 := 3#32
  let v2121 : BitVec 32 := Scalar.shrsi v2120 c3_i32_1052
  let c3_i32_1053 : BitVec 32 := 3#32
  let v2122 : BitVec 32 := Scalar.shli v2121 c3_i32_1053
  v2122

def k0_off97 (v2120 : BitVec 32) : Fin 2 → Nat :=
  let c3_i32_1052 : BitVec 32 := 3#32
  let v2121 : BitVec 32 := Scalar.shrsi v2120 c3_i32_1052
  let c3_i32_1053 : BitVec 32 := 3#32
  let v2122 : BitVec 32 := Scalar.shli v2121 c3_i32_1053
  let v2123 : BitVec 32 := v2122
  let v2124 : Index := Scalar.indexCast v2123
  let c0_1054 : Index := 0#32
  ![v2124.toNat, 0]

def k0_chk97 (v2120 : BitVec 32) : Prop :=
  (8 ∣ (k0_mult97 v2120).toNat) ∧
  (∀ a, (k0_off97 v2120) a + S8x128.size a ≤ S20016x128.size a)
theorem k0_mult97_dvd : ∀ (v2120 : BitVec 32) (k0_hw97 : k0_chk97 v2120), 8 ∣ (k0_mult97 v2120).toNat := fun v2120 k0_hw97 => k0_hw97.1
theorem k0_off97_inb : ∀ (v2120 : BitVec 32) (k0_hw97 : k0_chk97 v2120), ∀ a, (k0_off97 v2120) a + S8x128.size a ≤ S20016x128.size a := fun v2120 k0_hw97 => k0_hw97.2

def k0_mult98 (v2142 : BitVec 32) : BitVec 32 :=
  let c3_i32_1063 : BitVec 32 := 3#32
  let v2143 : BitVec 32 := Scalar.shrsi v2142 c3_i32_1063
  let c3_i32_1064 : BitVec 32 := 3#32
  let v2144 : BitVec 32 := Scalar.shli v2143 c3_i32_1064
  v2144

def k0_off98 (v2142 : BitVec 32) : Fin 2 → Nat :=
  let c3_i32_1063 : BitVec 32 := 3#32
  let v2143 : BitVec 32 := Scalar.shrsi v2142 c3_i32_1063
  let c3_i32_1064 : BitVec 32 := 3#32
  let v2144 : BitVec 32 := Scalar.shli v2143 c3_i32_1064
  let v2145 : BitVec 32 := v2144
  let v2146 : Index := Scalar.indexCast v2145
  let c0_1065 : Index := 0#32
  ![v2146.toNat, 0]

def k0_chk98 (v2142 : BitVec 32) : Prop :=
  (8 ∣ (k0_mult98 v2142).toNat) ∧
  (∀ a, (k0_off98 v2142) a + S8x128.size a ≤ S20016x128.size a)
theorem k0_mult98_dvd : ∀ (v2142 : BitVec 32) (k0_hw98 : k0_chk98 v2142), 8 ∣ (k0_mult98 v2142).toNat := fun v2142 k0_hw98 => k0_hw98.1
theorem k0_off98_inb : ∀ (v2142 : BitVec 32) (k0_hw98 : k0_chk98 v2142), ∀ a, (k0_off98 v2142) a + S8x128.size a ≤ S20016x128.size a := fun v2142 k0_hw98 => k0_hw98.2

def k0_mult99 (v2164 : BitVec 32) : BitVec 32 :=
  let c3_i32_1074 : BitVec 32 := 3#32
  let v2165 : BitVec 32 := Scalar.shrsi v2164 c3_i32_1074
  let c3_i32_1075 : BitVec 32 := 3#32
  let v2166 : BitVec 32 := Scalar.shli v2165 c3_i32_1075
  v2166

def k0_off99 (v2164 : BitVec 32) : Fin 2 → Nat :=
  let c3_i32_1074 : BitVec 32 := 3#32
  let v2165 : BitVec 32 := Scalar.shrsi v2164 c3_i32_1074
  let c3_i32_1075 : BitVec 32 := 3#32
  let v2166 : BitVec 32 := Scalar.shli v2165 c3_i32_1075
  let v2167 : BitVec 32 := v2166
  let v2168 : Index := Scalar.indexCast v2167
  let c0_1076 : Index := 0#32
  ![v2168.toNat, 0]

def k0_chk99 (v2164 : BitVec 32) : Prop :=
  (8 ∣ (k0_mult99 v2164).toNat) ∧
  (∀ a, (k0_off99 v2164) a + S8x128.size a ≤ S20016x128.size a)
theorem k0_mult99_dvd : ∀ (v2164 : BitVec 32) (k0_hw99 : k0_chk99 v2164), 8 ∣ (k0_mult99 v2164).toNat := fun v2164 k0_hw99 => k0_hw99.1
theorem k0_off99_inb : ∀ (v2164 : BitVec 32) (k0_hw99 : k0_chk99 v2164), ∀ a, (k0_off99 v2164) a + S8x128.size a ≤ S20016x128.size a := fun v2164 k0_hw99 => k0_hw99.2

def k0_mult100 (v2186 : BitVec 32) : BitVec 32 :=
  let c3_i32_1085 : BitVec 32 := 3#32
  let v2187 : BitVec 32 := Scalar.shrsi v2186 c3_i32_1085
  let c3_i32_1086 : BitVec 32 := 3#32
  let v2188 : BitVec 32 := Scalar.shli v2187 c3_i32_1086
  v2188

def k0_off100 (v2186 : BitVec 32) : Fin 2 → Nat :=
  let c3_i32_1085 : BitVec 32 := 3#32
  let v2187 : BitVec 32 := Scalar.shrsi v2186 c3_i32_1085
  let c3_i32_1086 : BitVec 32 := 3#32
  let v2188 : BitVec 32 := Scalar.shli v2187 c3_i32_1086
  let v2189 : BitVec 32 := v2188
  let v2190 : Index := Scalar.indexCast v2189
  let c0_1087 : Index := 0#32
  ![v2190.toNat, 0]

def k0_chk100 (v2186 : BitVec 32) : Prop :=
  (8 ∣ (k0_mult100 v2186).toNat) ∧
  (∀ a, (k0_off100 v2186) a + S8x128.size a ≤ S20016x128.size a)
theorem k0_mult100_dvd : ∀ (v2186 : BitVec 32) (k0_hw100 : k0_chk100 v2186), 8 ∣ (k0_mult100 v2186).toNat := fun v2186 k0_hw100 => k0_hw100.1
theorem k0_off100_inb : ∀ (v2186 : BitVec 32) (k0_hw100 : k0_chk100 v2186), ∀ a, (k0_off100 v2186) a + S8x128.size a ≤ S20016x128.size a := fun v2186 k0_hw100 => k0_hw100.2

def k0_mult101 (v2208 : BitVec 32) : BitVec 32 :=
  let c3_i32_1096 : BitVec 32 := 3#32
  let v2209 : BitVec 32 := Scalar.shrsi v2208 c3_i32_1096
  let c3_i32_1097 : BitVec 32 := 3#32
  let v2210 : BitVec 32 := Scalar.shli v2209 c3_i32_1097
  v2210

def k0_off101 (v2208 : BitVec 32) : Fin 2 → Nat :=
  let c3_i32_1096 : BitVec 32 := 3#32
  let v2209 : BitVec 32 := Scalar.shrsi v2208 c3_i32_1096
  let c3_i32_1097 : BitVec 32 := 3#32
  let v2210 : BitVec 32 := Scalar.shli v2209 c3_i32_1097
  let v2211 : BitVec 32 := v2210
  let v2212 : Index := Scalar.indexCast v2211
  let c0_1098 : Index := 0#32
  ![v2212.toNat, 0]

def k0_chk101 (v2208 : BitVec 32) : Prop :=
  (8 ∣ (k0_mult101 v2208).toNat) ∧
  (∀ a, (k0_off101 v2208) a + S8x128.size a ≤ S20016x128.size a)
theorem k0_mult101_dvd : ∀ (v2208 : BitVec 32) (k0_hw101 : k0_chk101 v2208), 8 ∣ (k0_mult101 v2208).toNat := fun v2208 k0_hw101 => k0_hw101.1
theorem k0_off101_inb : ∀ (v2208 : BitVec 32) (k0_hw101 : k0_chk101 v2208), ∀ a, (k0_off101 v2208) a + S8x128.size a ≤ S20016x128.size a := fun v2208 k0_hw101 => k0_hw101.2

def k0_mult102 (v2230 : BitVec 32) : BitVec 32 :=
  let c3_i32_1107 : BitVec 32 := 3#32
  let v2231 : BitVec 32 := Scalar.shrsi v2230 c3_i32_1107
  let c3_i32_1108 : BitVec 32 := 3#32
  let v2232 : BitVec 32 := Scalar.shli v2231 c3_i32_1108
  v2232

def k0_off102 (v2230 : BitVec 32) : Fin 2 → Nat :=
  let c3_i32_1107 : BitVec 32 := 3#32
  let v2231 : BitVec 32 := Scalar.shrsi v2230 c3_i32_1107
  let c3_i32_1108 : BitVec 32 := 3#32
  let v2232 : BitVec 32 := Scalar.shli v2231 c3_i32_1108
  let v2233 : BitVec 32 := v2232
  let v2234 : Index := Scalar.indexCast v2233
  let c0_1109 : Index := 0#32
  ![v2234.toNat, 0]

def k0_chk102 (v2230 : BitVec 32) : Prop :=
  (8 ∣ (k0_mult102 v2230).toNat) ∧
  (∀ a, (k0_off102 v2230) a + S8x128.size a ≤ S20016x128.size a)
theorem k0_mult102_dvd : ∀ (v2230 : BitVec 32) (k0_hw102 : k0_chk102 v2230), 8 ∣ (k0_mult102 v2230).toNat := fun v2230 k0_hw102 => k0_hw102.1
theorem k0_off102_inb : ∀ (v2230 : BitVec 32) (k0_hw102 : k0_chk102 v2230), ∀ a, (k0_off102 v2230) a + S8x128.size a ≤ S20016x128.size a := fun v2230 k0_hw102 => k0_hw102.2

def k0_mult103 (v2252 : BitVec 32) : BitVec 32 :=
  let c3_i32_1118 : BitVec 32 := 3#32
  let v2253 : BitVec 32 := Scalar.shrsi v2252 c3_i32_1118
  let c3_i32_1119 : BitVec 32 := 3#32
  let v2254 : BitVec 32 := Scalar.shli v2253 c3_i32_1119
  v2254

def k0_off103 (v2252 : BitVec 32) : Fin 2 → Nat :=
  let c3_i32_1118 : BitVec 32 := 3#32
  let v2253 : BitVec 32 := Scalar.shrsi v2252 c3_i32_1118
  let c3_i32_1119 : BitVec 32 := 3#32
  let v2254 : BitVec 32 := Scalar.shli v2253 c3_i32_1119
  let v2255 : BitVec 32 := v2254
  let v2256 : Index := Scalar.indexCast v2255
  let c0_1120 : Index := 0#32
  ![v2256.toNat, 0]

def k0_chk103 (v2252 : BitVec 32) : Prop :=
  (8 ∣ (k0_mult103 v2252).toNat) ∧
  (∀ a, (k0_off103 v2252) a + S8x128.size a ≤ S20016x128.size a)
theorem k0_mult103_dvd : ∀ (v2252 : BitVec 32) (k0_hw103 : k0_chk103 v2252), 8 ∣ (k0_mult103 v2252).toNat := fun v2252 k0_hw103 => k0_hw103.1
theorem k0_off103_inb : ∀ (v2252 : BitVec 32) (k0_hw103 : k0_chk103 v2252), ∀ a, (k0_off103 v2252) a + S8x128.size a ≤ S20016x128.size a := fun v2252 k0_hw103 => k0_hw103.2

def k0_mult104 (v2274 : BitVec 32) : BitVec 32 :=
  let c3_i32_1129 : BitVec 32 := 3#32
  let v2275 : BitVec 32 := Scalar.shrsi v2274 c3_i32_1129
  let c3_i32_1130 : BitVec 32 := 3#32
  let v2276 : BitVec 32 := Scalar.shli v2275 c3_i32_1130
  v2276

def k0_off104 (v2274 : BitVec 32) : Fin 2 → Nat :=
  let c3_i32_1129 : BitVec 32 := 3#32
  let v2275 : BitVec 32 := Scalar.shrsi v2274 c3_i32_1129
  let c3_i32_1130 : BitVec 32 := 3#32
  let v2276 : BitVec 32 := Scalar.shli v2275 c3_i32_1130
  let v2277 : BitVec 32 := v2276
  let v2278 : Index := Scalar.indexCast v2277
  let c0_1131 : Index := 0#32
  ![v2278.toNat, 0]

def k0_chk104 (v2274 : BitVec 32) : Prop :=
  (8 ∣ (k0_mult104 v2274).toNat) ∧
  (∀ a, (k0_off104 v2274) a + S8x128.size a ≤ S20016x128.size a)
theorem k0_mult104_dvd : ∀ (v2274 : BitVec 32) (k0_hw104 : k0_chk104 v2274), 8 ∣ (k0_mult104 v2274).toNat := fun v2274 k0_hw104 => k0_hw104.1
theorem k0_off104_inb : ∀ (v2274 : BitVec 32) (k0_hw104 : k0_chk104 v2274), ∀ a, (k0_off104 v2274) a + S8x128.size a ≤ S20016x128.size a := fun v2274 k0_hw104 => k0_hw104.2

def k0_mult105 (v2296 : BitVec 32) : BitVec 32 :=
  let c3_i32_1140 : BitVec 32 := 3#32
  let v2297 : BitVec 32 := Scalar.shrsi v2296 c3_i32_1140
  let c3_i32_1141 : BitVec 32 := 3#32
  let v2298 : BitVec 32 := Scalar.shli v2297 c3_i32_1141
  v2298

def k0_off105 (v2296 : BitVec 32) : Fin 2 → Nat :=
  let c3_i32_1140 : BitVec 32 := 3#32
  let v2297 : BitVec 32 := Scalar.shrsi v2296 c3_i32_1140
  let c3_i32_1141 : BitVec 32 := 3#32
  let v2298 : BitVec 32 := Scalar.shli v2297 c3_i32_1141
  let v2299 : BitVec 32 := v2298
  let v2300 : Index := Scalar.indexCast v2299
  let c0_1142 : Index := 0#32
  ![v2300.toNat, 0]

def k0_chk105 (v2296 : BitVec 32) : Prop :=
  (8 ∣ (k0_mult105 v2296).toNat) ∧
  (∀ a, (k0_off105 v2296) a + S8x128.size a ≤ S20016x128.size a)
theorem k0_mult105_dvd : ∀ (v2296 : BitVec 32) (k0_hw105 : k0_chk105 v2296), 8 ∣ (k0_mult105 v2296).toNat := fun v2296 k0_hw105 => k0_hw105.1
theorem k0_off105_inb : ∀ (v2296 : BitVec 32) (k0_hw105 : k0_chk105 v2296), ∀ a, (k0_off105 v2296) a + S8x128.size a ≤ S20016x128.size a := fun v2296 k0_hw105 => k0_hw105.2

def k0_mult106 (v2318 : BitVec 32) : BitVec 32 :=
  let c3_i32_1151 : BitVec 32 := 3#32
  let v2319 : BitVec 32 := Scalar.shrsi v2318 c3_i32_1151
  let c3_i32_1152 : BitVec 32 := 3#32
  let v2320 : BitVec 32 := Scalar.shli v2319 c3_i32_1152
  v2320

def k0_off106 (v2318 : BitVec 32) : Fin 2 → Nat :=
  let c3_i32_1151 : BitVec 32 := 3#32
  let v2319 : BitVec 32 := Scalar.shrsi v2318 c3_i32_1151
  let c3_i32_1152 : BitVec 32 := 3#32
  let v2320 : BitVec 32 := Scalar.shli v2319 c3_i32_1152
  let v2321 : BitVec 32 := v2320
  let v2322 : Index := Scalar.indexCast v2321
  let c0_1153 : Index := 0#32
  ![v2322.toNat, 0]

def k0_chk106 (v2318 : BitVec 32) : Prop :=
  (8 ∣ (k0_mult106 v2318).toNat) ∧
  (∀ a, (k0_off106 v2318) a + S8x128.size a ≤ S20016x128.size a)
theorem k0_mult106_dvd : ∀ (v2318 : BitVec 32) (k0_hw106 : k0_chk106 v2318), 8 ∣ (k0_mult106 v2318).toNat := fun v2318 k0_hw106 => k0_hw106.1
theorem k0_off106_inb : ∀ (v2318 : BitVec 32) (k0_hw106 : k0_chk106 v2318), ∀ a, (k0_off106 v2318) a + S8x128.size a ≤ S20016x128.size a := fun v2318 k0_hw106 => k0_hw106.2

def k0_mult107 (v2340 : BitVec 32) : BitVec 32 :=
  let c3_i32_1162 : BitVec 32 := 3#32
  let v2341 : BitVec 32 := Scalar.shrsi v2340 c3_i32_1162
  let c3_i32_1163 : BitVec 32 := 3#32
  let v2342 : BitVec 32 := Scalar.shli v2341 c3_i32_1163
  v2342

def k0_off107 (v2340 : BitVec 32) : Fin 2 → Nat :=
  let c3_i32_1162 : BitVec 32 := 3#32
  let v2341 : BitVec 32 := Scalar.shrsi v2340 c3_i32_1162
  let c3_i32_1163 : BitVec 32 := 3#32
  let v2342 : BitVec 32 := Scalar.shli v2341 c3_i32_1163
  let v2343 : BitVec 32 := v2342
  let v2344 : Index := Scalar.indexCast v2343
  let c0_1164 : Index := 0#32
  ![v2344.toNat, 0]

def k0_chk107 (v2340 : BitVec 32) : Prop :=
  (8 ∣ (k0_mult107 v2340).toNat) ∧
  (∀ a, (k0_off107 v2340) a + S8x128.size a ≤ S20016x128.size a)
theorem k0_mult107_dvd : ∀ (v2340 : BitVec 32) (k0_hw107 : k0_chk107 v2340), 8 ∣ (k0_mult107 v2340).toNat := fun v2340 k0_hw107 => k0_hw107.1
theorem k0_off107_inb : ∀ (v2340 : BitVec 32) (k0_hw107 : k0_chk107 v2340), ∀ a, (k0_off107 v2340) a + S8x128.size a ≤ S20016x128.size a := fun v2340 k0_hw107 => k0_hw107.2

def k0_mult108 (v2362 : BitVec 32) : BitVec 32 :=
  let c3_i32_1173 : BitVec 32 := 3#32
  let v2363 : BitVec 32 := Scalar.shrsi v2362 c3_i32_1173
  let c3_i32_1174 : BitVec 32 := 3#32
  let v2364 : BitVec 32 := Scalar.shli v2363 c3_i32_1174
  v2364

def k0_off108 (v2362 : BitVec 32) : Fin 2 → Nat :=
  let c3_i32_1173 : BitVec 32 := 3#32
  let v2363 : BitVec 32 := Scalar.shrsi v2362 c3_i32_1173
  let c3_i32_1174 : BitVec 32 := 3#32
  let v2364 : BitVec 32 := Scalar.shli v2363 c3_i32_1174
  let v2365 : BitVec 32 := v2364
  let v2366 : Index := Scalar.indexCast v2365
  let c0_1175 : Index := 0#32
  ![v2366.toNat, 0]

def k0_chk108 (v2362 : BitVec 32) : Prop :=
  (8 ∣ (k0_mult108 v2362).toNat) ∧
  (∀ a, (k0_off108 v2362) a + S8x128.size a ≤ S20016x128.size a)
theorem k0_mult108_dvd : ∀ (v2362 : BitVec 32) (k0_hw108 : k0_chk108 v2362), 8 ∣ (k0_mult108 v2362).toNat := fun v2362 k0_hw108 => k0_hw108.1
theorem k0_off108_inb : ∀ (v2362 : BitVec 32) (k0_hw108 : k0_chk108 v2362), ∀ a, (k0_off108 v2362) a + S8x128.size a ≤ S20016x128.size a := fun v2362 k0_hw108 => k0_hw108.2

def k0_mult109 (v2384 : BitVec 32) : BitVec 32 :=
  let c3_i32_1184 : BitVec 32 := 3#32
  let v2385 : BitVec 32 := Scalar.shrsi v2384 c3_i32_1184
  let c3_i32_1185 : BitVec 32 := 3#32
  let v2386 : BitVec 32 := Scalar.shli v2385 c3_i32_1185
  v2386

def k0_off109 (v2384 : BitVec 32) : Fin 2 → Nat :=
  let c3_i32_1184 : BitVec 32 := 3#32
  let v2385 : BitVec 32 := Scalar.shrsi v2384 c3_i32_1184
  let c3_i32_1185 : BitVec 32 := 3#32
  let v2386 : BitVec 32 := Scalar.shli v2385 c3_i32_1185
  let v2387 : BitVec 32 := v2386
  let v2388 : Index := Scalar.indexCast v2387
  let c0_1186 : Index := 0#32
  ![v2388.toNat, 0]

def k0_chk109 (v2384 : BitVec 32) : Prop :=
  (8 ∣ (k0_mult109 v2384).toNat) ∧
  (∀ a, (k0_off109 v2384) a + S8x128.size a ≤ S20016x128.size a)
theorem k0_mult109_dvd : ∀ (v2384 : BitVec 32) (k0_hw109 : k0_chk109 v2384), 8 ∣ (k0_mult109 v2384).toNat := fun v2384 k0_hw109 => k0_hw109.1
theorem k0_off109_inb : ∀ (v2384 : BitVec 32) (k0_hw109 : k0_chk109 v2384), ∀ a, (k0_off109 v2384) a + S8x128.size a ≤ S20016x128.size a := fun v2384 k0_hw109 => k0_hw109.2

def k0_mult110 (v2406 : BitVec 32) : BitVec 32 :=
  let c3_i32_1195 : BitVec 32 := 3#32
  let v2407 : BitVec 32 := Scalar.shrsi v2406 c3_i32_1195
  let c3_i32_1196 : BitVec 32 := 3#32
  let v2408 : BitVec 32 := Scalar.shli v2407 c3_i32_1196
  v2408

def k0_off110 (v2406 : BitVec 32) : Fin 2 → Nat :=
  let c3_i32_1195 : BitVec 32 := 3#32
  let v2407 : BitVec 32 := Scalar.shrsi v2406 c3_i32_1195
  let c3_i32_1196 : BitVec 32 := 3#32
  let v2408 : BitVec 32 := Scalar.shli v2407 c3_i32_1196
  let v2409 : BitVec 32 := v2408
  let v2410 : Index := Scalar.indexCast v2409
  let c0_1197 : Index := 0#32
  ![v2410.toNat, 0]

def k0_chk110 (v2406 : BitVec 32) : Prop :=
  (8 ∣ (k0_mult110 v2406).toNat) ∧
  (∀ a, (k0_off110 v2406) a + S8x128.size a ≤ S20016x128.size a)
theorem k0_mult110_dvd : ∀ (v2406 : BitVec 32) (k0_hw110 : k0_chk110 v2406), 8 ∣ (k0_mult110 v2406).toNat := fun v2406 k0_hw110 => k0_hw110.1
theorem k0_off110_inb : ∀ (v2406 : BitVec 32) (k0_hw110 : k0_chk110 v2406), ∀ a, (k0_off110 v2406) a + S8x128.size a ≤ S20016x128.size a := fun v2406 k0_hw110 => k0_hw110.2

def k0_mult111 (v2428 : BitVec 32) : BitVec 32 :=
  let c3_i32_1206 : BitVec 32 := 3#32
  let v2429 : BitVec 32 := Scalar.shrsi v2428 c3_i32_1206
  let c3_i32_1207 : BitVec 32 := 3#32
  let v2430 : BitVec 32 := Scalar.shli v2429 c3_i32_1207
  v2430

def k0_off111 (v2428 : BitVec 32) : Fin 2 → Nat :=
  let c3_i32_1206 : BitVec 32 := 3#32
  let v2429 : BitVec 32 := Scalar.shrsi v2428 c3_i32_1206
  let c3_i32_1207 : BitVec 32 := 3#32
  let v2430 : BitVec 32 := Scalar.shli v2429 c3_i32_1207
  let v2431 : BitVec 32 := v2430
  let v2432 : Index := Scalar.indexCast v2431
  let c0_1208 : Index := 0#32
  ![v2432.toNat, 0]

def k0_chk111 (v2428 : BitVec 32) : Prop :=
  (8 ∣ (k0_mult111 v2428).toNat) ∧
  (∀ a, (k0_off111 v2428) a + S8x128.size a ≤ S20016x128.size a)
theorem k0_mult111_dvd : ∀ (v2428 : BitVec 32) (k0_hw111 : k0_chk111 v2428), 8 ∣ (k0_mult111 v2428).toNat := fun v2428 k0_hw111 => k0_hw111.1
theorem k0_off111_inb : ∀ (v2428 : BitVec 32) (k0_hw111 : k0_chk111 v2428), ∀ a, (k0_off111 v2428) a + S8x128.size a ≤ S20016x128.size a := fun v2428 k0_hw111 => k0_hw111.2

def k0_mult112 (v2450 : BitVec 32) : BitVec 32 :=
  let c3_i32_1217 : BitVec 32 := 3#32
  let v2451 : BitVec 32 := Scalar.shrsi v2450 c3_i32_1217
  let c3_i32_1218 : BitVec 32 := 3#32
  let v2452 : BitVec 32 := Scalar.shli v2451 c3_i32_1218
  v2452

def k0_off112 (v2450 : BitVec 32) : Fin 2 → Nat :=
  let c3_i32_1217 : BitVec 32 := 3#32
  let v2451 : BitVec 32 := Scalar.shrsi v2450 c3_i32_1217
  let c3_i32_1218 : BitVec 32 := 3#32
  let v2452 : BitVec 32 := Scalar.shli v2451 c3_i32_1218
  let v2453 : BitVec 32 := v2452
  let v2454 : Index := Scalar.indexCast v2453
  let c0_1219 : Index := 0#32
  ![v2454.toNat, 0]

def k0_chk112 (v2450 : BitVec 32) : Prop :=
  (8 ∣ (k0_mult112 v2450).toNat) ∧
  (∀ a, (k0_off112 v2450) a + S8x128.size a ≤ S20016x128.size a)
theorem k0_mult112_dvd : ∀ (v2450 : BitVec 32) (k0_hw112 : k0_chk112 v2450), 8 ∣ (k0_mult112 v2450).toNat := fun v2450 k0_hw112 => k0_hw112.1
theorem k0_off112_inb : ∀ (v2450 : BitVec 32) (k0_hw112 : k0_chk112 v2450), ∀ a, (k0_off112 v2450) a + S8x128.size a ≤ S20016x128.size a := fun v2450 k0_hw112 => k0_hw112.2

def k0_mult113 (v2472 : BitVec 32) : BitVec 32 :=
  let c3_i32_1228 : BitVec 32 := 3#32
  let v2473 : BitVec 32 := Scalar.shrsi v2472 c3_i32_1228
  let c3_i32_1229 : BitVec 32 := 3#32
  let v2474 : BitVec 32 := Scalar.shli v2473 c3_i32_1229
  v2474

def k0_off113 (v2472 : BitVec 32) : Fin 2 → Nat :=
  let c3_i32_1228 : BitVec 32 := 3#32
  let v2473 : BitVec 32 := Scalar.shrsi v2472 c3_i32_1228
  let c3_i32_1229 : BitVec 32 := 3#32
  let v2474 : BitVec 32 := Scalar.shli v2473 c3_i32_1229
  let v2475 : BitVec 32 := v2474
  let v2476 : Index := Scalar.indexCast v2475
  let c0_1230 : Index := 0#32
  ![v2476.toNat, 0]

def k0_chk113 (v2472 : BitVec 32) : Prop :=
  (8 ∣ (k0_mult113 v2472).toNat) ∧
  (∀ a, (k0_off113 v2472) a + S8x128.size a ≤ S20016x128.size a)
theorem k0_mult113_dvd : ∀ (v2472 : BitVec 32) (k0_hw113 : k0_chk113 v2472), 8 ∣ (k0_mult113 v2472).toNat := fun v2472 k0_hw113 => k0_hw113.1
theorem k0_off113_inb : ∀ (v2472 : BitVec 32) (k0_hw113 : k0_chk113 v2472), ∀ a, (k0_off113 v2472) a + S8x128.size a ≤ S20016x128.size a := fun v2472 k0_hw113 => k0_hw113.2

def k0_mult114 (v2494 : BitVec 32) : BitVec 32 :=
  let c3_i32_1239 : BitVec 32 := 3#32
  let v2495 : BitVec 32 := Scalar.shrsi v2494 c3_i32_1239
  let c3_i32_1240 : BitVec 32 := 3#32
  let v2496 : BitVec 32 := Scalar.shli v2495 c3_i32_1240
  v2496

def k0_off114 (v2494 : BitVec 32) : Fin 2 → Nat :=
  let c3_i32_1239 : BitVec 32 := 3#32
  let v2495 : BitVec 32 := Scalar.shrsi v2494 c3_i32_1239
  let c3_i32_1240 : BitVec 32 := 3#32
  let v2496 : BitVec 32 := Scalar.shli v2495 c3_i32_1240
  let v2497 : BitVec 32 := v2496
  let v2498 : Index := Scalar.indexCast v2497
  let c0_1241 : Index := 0#32
  ![v2498.toNat, 0]

def k0_chk114 (v2494 : BitVec 32) : Prop :=
  (8 ∣ (k0_mult114 v2494).toNat) ∧
  (∀ a, (k0_off114 v2494) a + S8x128.size a ≤ S20016x128.size a)
theorem k0_mult114_dvd : ∀ (v2494 : BitVec 32) (k0_hw114 : k0_chk114 v2494), 8 ∣ (k0_mult114 v2494).toNat := fun v2494 k0_hw114 => k0_hw114.1
theorem k0_off114_inb : ∀ (v2494 : BitVec 32) (k0_hw114 : k0_chk114 v2494), ∀ a, (k0_off114 v2494) a + S8x128.size a ≤ S20016x128.size a := fun v2494 k0_hw114 => k0_hw114.2

def k0_mult115 (v2516 : BitVec 32) : BitVec 32 :=
  let c3_i32_1250 : BitVec 32 := 3#32
  let v2517 : BitVec 32 := Scalar.shrsi v2516 c3_i32_1250
  let c3_i32_1251 : BitVec 32 := 3#32
  let v2518 : BitVec 32 := Scalar.shli v2517 c3_i32_1251
  v2518

def k0_off115 (v2516 : BitVec 32) : Fin 2 → Nat :=
  let c3_i32_1250 : BitVec 32 := 3#32
  let v2517 : BitVec 32 := Scalar.shrsi v2516 c3_i32_1250
  let c3_i32_1251 : BitVec 32 := 3#32
  let v2518 : BitVec 32 := Scalar.shli v2517 c3_i32_1251
  let v2519 : BitVec 32 := v2518
  let v2520 : Index := Scalar.indexCast v2519
  let c0_1252 : Index := 0#32
  ![v2520.toNat, 0]

def k0_chk115 (v2516 : BitVec 32) : Prop :=
  (8 ∣ (k0_mult115 v2516).toNat) ∧
  (∀ a, (k0_off115 v2516) a + S8x128.size a ≤ S20016x128.size a)
theorem k0_mult115_dvd : ∀ (v2516 : BitVec 32) (k0_hw115 : k0_chk115 v2516), 8 ∣ (k0_mult115 v2516).toNat := fun v2516 k0_hw115 => k0_hw115.1
theorem k0_off115_inb : ∀ (v2516 : BitVec 32) (k0_hw115 : k0_chk115 v2516), ∀ a, (k0_off115 v2516) a + S8x128.size a ≤ S20016x128.size a := fun v2516 k0_hw115 => k0_hw115.2

def k0_mult116 (v2538 : BitVec 32) : BitVec 32 :=
  let c3_i32_1261 : BitVec 32 := 3#32
  let v2539 : BitVec 32 := Scalar.shrsi v2538 c3_i32_1261
  let c3_i32_1262 : BitVec 32 := 3#32
  let v2540 : BitVec 32 := Scalar.shli v2539 c3_i32_1262
  v2540

def k0_off116 (v2538 : BitVec 32) : Fin 2 → Nat :=
  let c3_i32_1261 : BitVec 32 := 3#32
  let v2539 : BitVec 32 := Scalar.shrsi v2538 c3_i32_1261
  let c3_i32_1262 : BitVec 32 := 3#32
  let v2540 : BitVec 32 := Scalar.shli v2539 c3_i32_1262
  let v2541 : BitVec 32 := v2540
  let v2542 : Index := Scalar.indexCast v2541
  let c0_1263 : Index := 0#32
  ![v2542.toNat, 0]

def k0_chk116 (v2538 : BitVec 32) : Prop :=
  (8 ∣ (k0_mult116 v2538).toNat) ∧
  (∀ a, (k0_off116 v2538) a + S8x128.size a ≤ S20016x128.size a)
theorem k0_mult116_dvd : ∀ (v2538 : BitVec 32) (k0_hw116 : k0_chk116 v2538), 8 ∣ (k0_mult116 v2538).toNat := fun v2538 k0_hw116 => k0_hw116.1
theorem k0_off116_inb : ∀ (v2538 : BitVec 32) (k0_hw116 : k0_chk116 v2538), ∀ a, (k0_off116 v2538) a + S8x128.size a ≤ S20016x128.size a := fun v2538 k0_hw116 => k0_hw116.2

def k0_mult117 (v2560 : BitVec 32) : BitVec 32 :=
  let c3_i32_1272 : BitVec 32 := 3#32
  let v2561 : BitVec 32 := Scalar.shrsi v2560 c3_i32_1272
  let c3_i32_1273 : BitVec 32 := 3#32
  let v2562 : BitVec 32 := Scalar.shli v2561 c3_i32_1273
  v2562

def k0_off117 (v2560 : BitVec 32) : Fin 2 → Nat :=
  let c3_i32_1272 : BitVec 32 := 3#32
  let v2561 : BitVec 32 := Scalar.shrsi v2560 c3_i32_1272
  let c3_i32_1273 : BitVec 32 := 3#32
  let v2562 : BitVec 32 := Scalar.shli v2561 c3_i32_1273
  let v2563 : BitVec 32 := v2562
  let v2564 : Index := Scalar.indexCast v2563
  let c0_1274 : Index := 0#32
  ![v2564.toNat, 0]

def k0_chk117 (v2560 : BitVec 32) : Prop :=
  (8 ∣ (k0_mult117 v2560).toNat) ∧
  (∀ a, (k0_off117 v2560) a + S8x128.size a ≤ S20016x128.size a)
theorem k0_mult117_dvd : ∀ (v2560 : BitVec 32) (k0_hw117 : k0_chk117 v2560), 8 ∣ (k0_mult117 v2560).toNat := fun v2560 k0_hw117 => k0_hw117.1
theorem k0_off117_inb : ∀ (v2560 : BitVec 32) (k0_hw117 : k0_chk117 v2560), ∀ a, (k0_off117 v2560) a + S8x128.size a ≤ S20016x128.size a := fun v2560 k0_hw117 => k0_hw117.2

def k0_mult118 (v2582 : BitVec 32) : BitVec 32 :=
  let c3_i32_1283 : BitVec 32 := 3#32
  let v2583 : BitVec 32 := Scalar.shrsi v2582 c3_i32_1283
  let c3_i32_1284 : BitVec 32 := 3#32
  let v2584 : BitVec 32 := Scalar.shli v2583 c3_i32_1284
  v2584

def k0_off118 (v2582 : BitVec 32) : Fin 2 → Nat :=
  let c3_i32_1283 : BitVec 32 := 3#32
  let v2583 : BitVec 32 := Scalar.shrsi v2582 c3_i32_1283
  let c3_i32_1284 : BitVec 32 := 3#32
  let v2584 : BitVec 32 := Scalar.shli v2583 c3_i32_1284
  let v2585 : BitVec 32 := v2584
  let v2586 : Index := Scalar.indexCast v2585
  let c0_1285 : Index := 0#32
  ![v2586.toNat, 0]

def k0_chk118 (v2582 : BitVec 32) : Prop :=
  (8 ∣ (k0_mult118 v2582).toNat) ∧
  (∀ a, (k0_off118 v2582) a + S8x128.size a ≤ S20016x128.size a)
theorem k0_mult118_dvd : ∀ (v2582 : BitVec 32) (k0_hw118 : k0_chk118 v2582), 8 ∣ (k0_mult118 v2582).toNat := fun v2582 k0_hw118 => k0_hw118.1
theorem k0_off118_inb : ∀ (v2582 : BitVec 32) (k0_hw118 : k0_chk118 v2582), ∀ a, (k0_off118 v2582) a + S8x128.size a ≤ S20016x128.size a := fun v2582 k0_hw118 => k0_hw118.2

def k0_mult119 (v2604 : BitVec 32) : BitVec 32 :=
  let c3_i32_1294 : BitVec 32 := 3#32
  let v2605 : BitVec 32 := Scalar.shrsi v2604 c3_i32_1294
  let c3_i32_1295 : BitVec 32 := 3#32
  let v2606 : BitVec 32 := Scalar.shli v2605 c3_i32_1295
  v2606

def k0_off119 (v2604 : BitVec 32) : Fin 2 → Nat :=
  let c3_i32_1294 : BitVec 32 := 3#32
  let v2605 : BitVec 32 := Scalar.shrsi v2604 c3_i32_1294
  let c3_i32_1295 : BitVec 32 := 3#32
  let v2606 : BitVec 32 := Scalar.shli v2605 c3_i32_1295
  let v2607 : BitVec 32 := v2606
  let v2608 : Index := Scalar.indexCast v2607
  let c0_1296 : Index := 0#32
  ![v2608.toNat, 0]

def k0_chk119 (v2604 : BitVec 32) : Prop :=
  (8 ∣ (k0_mult119 v2604).toNat) ∧
  (∀ a, (k0_off119 v2604) a + S8x128.size a ≤ S20016x128.size a)
theorem k0_mult119_dvd : ∀ (v2604 : BitVec 32) (k0_hw119 : k0_chk119 v2604), 8 ∣ (k0_mult119 v2604).toNat := fun v2604 k0_hw119 => k0_hw119.1
theorem k0_off119_inb : ∀ (v2604 : BitVec 32) (k0_hw119 : k0_chk119 v2604), ∀ a, (k0_off119 v2604) a + S8x128.size a ≤ S20016x128.size a := fun v2604 k0_hw119 => k0_hw119.2

def k0_mult120 (v2626 : BitVec 32) : BitVec 32 :=
  let c3_i32_1305 : BitVec 32 := 3#32
  let v2627 : BitVec 32 := Scalar.shrsi v2626 c3_i32_1305
  let c3_i32_1306 : BitVec 32 := 3#32
  let v2628 : BitVec 32 := Scalar.shli v2627 c3_i32_1306
  v2628

def k0_off120 (v2626 : BitVec 32) : Fin 2 → Nat :=
  let c3_i32_1305 : BitVec 32 := 3#32
  let v2627 : BitVec 32 := Scalar.shrsi v2626 c3_i32_1305
  let c3_i32_1306 : BitVec 32 := 3#32
  let v2628 : BitVec 32 := Scalar.shli v2627 c3_i32_1306
  let v2629 : BitVec 32 := v2628
  let v2630 : Index := Scalar.indexCast v2629
  let c0_1307 : Index := 0#32
  ![v2630.toNat, 0]

def k0_chk120 (v2626 : BitVec 32) : Prop :=
  (8 ∣ (k0_mult120 v2626).toNat) ∧
  (∀ a, (k0_off120 v2626) a + S8x128.size a ≤ S20016x128.size a)
theorem k0_mult120_dvd : ∀ (v2626 : BitVec 32) (k0_hw120 : k0_chk120 v2626), 8 ∣ (k0_mult120 v2626).toNat := fun v2626 k0_hw120 => k0_hw120.1
theorem k0_off120_inb : ∀ (v2626 : BitVec 32) (k0_hw120 : k0_chk120 v2626), ∀ a, (k0_off120 v2626) a + S8x128.size a ≤ S20016x128.size a := fun v2626 k0_hw120 => k0_hw120.2

def k0_mult121 (v2648 : BitVec 32) : BitVec 32 :=
  let c3_i32_1316 : BitVec 32 := 3#32
  let v2649 : BitVec 32 := Scalar.shrsi v2648 c3_i32_1316
  let c3_i32_1317 : BitVec 32 := 3#32
  let v2650 : BitVec 32 := Scalar.shli v2649 c3_i32_1317
  v2650

def k0_off121 (v2648 : BitVec 32) : Fin 2 → Nat :=
  let c3_i32_1316 : BitVec 32 := 3#32
  let v2649 : BitVec 32 := Scalar.shrsi v2648 c3_i32_1316
  let c3_i32_1317 : BitVec 32 := 3#32
  let v2650 : BitVec 32 := Scalar.shli v2649 c3_i32_1317
  let v2651 : BitVec 32 := v2650
  let v2652 : Index := Scalar.indexCast v2651
  let c0_1318 : Index := 0#32
  ![v2652.toNat, 0]

def k0_chk121 (v2648 : BitVec 32) : Prop :=
  (8 ∣ (k0_mult121 v2648).toNat) ∧
  (∀ a, (k0_off121 v2648) a + S8x128.size a ≤ S20016x128.size a)
theorem k0_mult121_dvd : ∀ (v2648 : BitVec 32) (k0_hw121 : k0_chk121 v2648), 8 ∣ (k0_mult121 v2648).toNat := fun v2648 k0_hw121 => k0_hw121.1
theorem k0_off121_inb : ∀ (v2648 : BitVec 32) (k0_hw121 : k0_chk121 v2648), ∀ a, (k0_off121 v2648) a + S8x128.size a ≤ S20016x128.size a := fun v2648 k0_hw121 => k0_hw121.2

def k0_mult122 (v2670 : BitVec 32) : BitVec 32 :=
  let c3_i32_1327 : BitVec 32 := 3#32
  let v2671 : BitVec 32 := Scalar.shrsi v2670 c3_i32_1327
  let c3_i32_1328 : BitVec 32 := 3#32
  let v2672 : BitVec 32 := Scalar.shli v2671 c3_i32_1328
  v2672

def k0_off122 (v2670 : BitVec 32) : Fin 2 → Nat :=
  let c3_i32_1327 : BitVec 32 := 3#32
  let v2671 : BitVec 32 := Scalar.shrsi v2670 c3_i32_1327
  let c3_i32_1328 : BitVec 32 := 3#32
  let v2672 : BitVec 32 := Scalar.shli v2671 c3_i32_1328
  let v2673 : BitVec 32 := v2672
  let v2674 : Index := Scalar.indexCast v2673
  let c0_1329 : Index := 0#32
  ![v2674.toNat, 0]

def k0_chk122 (v2670 : BitVec 32) : Prop :=
  (8 ∣ (k0_mult122 v2670).toNat) ∧
  (∀ a, (k0_off122 v2670) a + S8x128.size a ≤ S20016x128.size a)
theorem k0_mult122_dvd : ∀ (v2670 : BitVec 32) (k0_hw122 : k0_chk122 v2670), 8 ∣ (k0_mult122 v2670).toNat := fun v2670 k0_hw122 => k0_hw122.1
theorem k0_off122_inb : ∀ (v2670 : BitVec 32) (k0_hw122 : k0_chk122 v2670), ∀ a, (k0_off122 v2670) a + S8x128.size a ≤ S20016x128.size a := fun v2670 k0_hw122 => k0_hw122.2

def k0_mult123 (v2692 : BitVec 32) : BitVec 32 :=
  let c3_i32_1338 : BitVec 32 := 3#32
  let v2693 : BitVec 32 := Scalar.shrsi v2692 c3_i32_1338
  let c3_i32_1339 : BitVec 32 := 3#32
  let v2694 : BitVec 32 := Scalar.shli v2693 c3_i32_1339
  v2694

def k0_off123 (v2692 : BitVec 32) : Fin 2 → Nat :=
  let c3_i32_1338 : BitVec 32 := 3#32
  let v2693 : BitVec 32 := Scalar.shrsi v2692 c3_i32_1338
  let c3_i32_1339 : BitVec 32 := 3#32
  let v2694 : BitVec 32 := Scalar.shli v2693 c3_i32_1339
  let v2695 : BitVec 32 := v2694
  let v2696 : Index := Scalar.indexCast v2695
  let c0_1340 : Index := 0#32
  ![v2696.toNat, 0]

def k0_chk123 (v2692 : BitVec 32) : Prop :=
  (8 ∣ (k0_mult123 v2692).toNat) ∧
  (∀ a, (k0_off123 v2692) a + S8x128.size a ≤ S20016x128.size a)
theorem k0_mult123_dvd : ∀ (v2692 : BitVec 32) (k0_hw123 : k0_chk123 v2692), 8 ∣ (k0_mult123 v2692).toNat := fun v2692 k0_hw123 => k0_hw123.1
theorem k0_off123_inb : ∀ (v2692 : BitVec 32) (k0_hw123 : k0_chk123 v2692), ∀ a, (k0_off123 v2692) a + S8x128.size a ≤ S20016x128.size a := fun v2692 k0_hw123 => k0_hw123.2

def k0_mult124 (v2714 : BitVec 32) : BitVec 32 :=
  let c3_i32_1349 : BitVec 32 := 3#32
  let v2715 : BitVec 32 := Scalar.shrsi v2714 c3_i32_1349
  let c3_i32_1350 : BitVec 32 := 3#32
  let v2716 : BitVec 32 := Scalar.shli v2715 c3_i32_1350
  v2716

def k0_off124 (v2714 : BitVec 32) : Fin 2 → Nat :=
  let c3_i32_1349 : BitVec 32 := 3#32
  let v2715 : BitVec 32 := Scalar.shrsi v2714 c3_i32_1349
  let c3_i32_1350 : BitVec 32 := 3#32
  let v2716 : BitVec 32 := Scalar.shli v2715 c3_i32_1350
  let v2717 : BitVec 32 := v2716
  let v2718 : Index := Scalar.indexCast v2717
  let c0_1351 : Index := 0#32
  ![v2718.toNat, 0]

def k0_chk124 (v2714 : BitVec 32) : Prop :=
  (8 ∣ (k0_mult124 v2714).toNat) ∧
  (∀ a, (k0_off124 v2714) a + S8x128.size a ≤ S20016x128.size a)
theorem k0_mult124_dvd : ∀ (v2714 : BitVec 32) (k0_hw124 : k0_chk124 v2714), 8 ∣ (k0_mult124 v2714).toNat := fun v2714 k0_hw124 => k0_hw124.1
theorem k0_off124_inb : ∀ (v2714 : BitVec 32) (k0_hw124 : k0_chk124 v2714), ∀ a, (k0_off124 v2714) a + S8x128.size a ≤ S20016x128.size a := fun v2714 k0_hw124 => k0_hw124.2

def k0_mult125 (v2736 : BitVec 32) : BitVec 32 :=
  let c3_i32_1360 : BitVec 32 := 3#32
  let v2737 : BitVec 32 := Scalar.shrsi v2736 c3_i32_1360
  let c3_i32_1361 : BitVec 32 := 3#32
  let v2738 : BitVec 32 := Scalar.shli v2737 c3_i32_1361
  v2738

def k0_off125 (v2736 : BitVec 32) : Fin 2 → Nat :=
  let c3_i32_1360 : BitVec 32 := 3#32
  let v2737 : BitVec 32 := Scalar.shrsi v2736 c3_i32_1360
  let c3_i32_1361 : BitVec 32 := 3#32
  let v2738 : BitVec 32 := Scalar.shli v2737 c3_i32_1361
  let v2739 : BitVec 32 := v2738
  let v2740 : Index := Scalar.indexCast v2739
  let c0_1362 : Index := 0#32
  ![v2740.toNat, 0]

def k0_chk125 (v2736 : BitVec 32) : Prop :=
  (8 ∣ (k0_mult125 v2736).toNat) ∧
  (∀ a, (k0_off125 v2736) a + S8x128.size a ≤ S20016x128.size a)
theorem k0_mult125_dvd : ∀ (v2736 : BitVec 32) (k0_hw125 : k0_chk125 v2736), 8 ∣ (k0_mult125 v2736).toNat := fun v2736 k0_hw125 => k0_hw125.1
theorem k0_off125_inb : ∀ (v2736 : BitVec 32) (k0_hw125 : k0_chk125 v2736), ∀ a, (k0_off125 v2736) a + S8x128.size a ≤ S20016x128.size a := fun v2736 k0_hw125 => k0_hw125.2

def k0_mult126 (v2758 : BitVec 32) : BitVec 32 :=
  let c3_i32_1371 : BitVec 32 := 3#32
  let v2759 : BitVec 32 := Scalar.shrsi v2758 c3_i32_1371
  let c3_i32_1372 : BitVec 32 := 3#32
  let v2760 : BitVec 32 := Scalar.shli v2759 c3_i32_1372
  v2760

def k0_off126 (v2758 : BitVec 32) : Fin 2 → Nat :=
  let c3_i32_1371 : BitVec 32 := 3#32
  let v2759 : BitVec 32 := Scalar.shrsi v2758 c3_i32_1371
  let c3_i32_1372 : BitVec 32 := 3#32
  let v2760 : BitVec 32 := Scalar.shli v2759 c3_i32_1372
  let v2761 : BitVec 32 := v2760
  let v2762 : Index := Scalar.indexCast v2761
  let c0_1373 : Index := 0#32
  ![v2762.toNat, 0]

def k0_chk126 (v2758 : BitVec 32) : Prop :=
  (8 ∣ (k0_mult126 v2758).toNat) ∧
  (∀ a, (k0_off126 v2758) a + S8x128.size a ≤ S20016x128.size a)
theorem k0_mult126_dvd : ∀ (v2758 : BitVec 32) (k0_hw126 : k0_chk126 v2758), 8 ∣ (k0_mult126 v2758).toNat := fun v2758 k0_hw126 => k0_hw126.1
theorem k0_off126_inb : ∀ (v2758 : BitVec 32) (k0_hw126 : k0_chk126 v2758), ∀ a, (k0_off126 v2758) a + S8x128.size a ≤ S20016x128.size a := fun v2758 k0_hw126 => k0_hw126.2

def k0_mult127 (v2780 : BitVec 32) : BitVec 32 :=
  let c3_i32_1382 : BitVec 32 := 3#32
  let v2781 : BitVec 32 := Scalar.shrsi v2780 c3_i32_1382
  let c3_i32_1383 : BitVec 32 := 3#32
  let v2782 : BitVec 32 := Scalar.shli v2781 c3_i32_1383
  v2782

def k0_off127 (v2780 : BitVec 32) : Fin 2 → Nat :=
  let c3_i32_1382 : BitVec 32 := 3#32
  let v2781 : BitVec 32 := Scalar.shrsi v2780 c3_i32_1382
  let c3_i32_1383 : BitVec 32 := 3#32
  let v2782 : BitVec 32 := Scalar.shli v2781 c3_i32_1383
  let v2783 : BitVec 32 := v2782
  let v2784 : Index := Scalar.indexCast v2783
  let c0_1384 : Index := 0#32
  ![v2784.toNat, 0]

def k0_chk127 (v2780 : BitVec 32) : Prop :=
  (8 ∣ (k0_mult127 v2780).toNat) ∧
  (∀ a, (k0_off127 v2780) a + S8x128.size a ≤ S20016x128.size a)
theorem k0_mult127_dvd : ∀ (v2780 : BitVec 32) (k0_hw127 : k0_chk127 v2780), 8 ∣ (k0_mult127 v2780).toNat := fun v2780 k0_hw127 => k0_hw127.1
theorem k0_off127_inb : ∀ (v2780 : BitVec 32) (k0_hw127 : k0_chk127 v2780), ∀ a, (k0_off127 v2780) a + S8x128.size a ≤ S20016x128.size a := fun v2780 k0_hw127 => k0_hw127.2

def k0_mult128 (v2802 : BitVec 32) : BitVec 32 :=
  let c3_i32_1393 : BitVec 32 := 3#32
  let v2803 : BitVec 32 := Scalar.shrsi v2802 c3_i32_1393
  let c3_i32_1394 : BitVec 32 := 3#32
  let v2804 : BitVec 32 := Scalar.shli v2803 c3_i32_1394
  v2804

def k0_off128 (v2802 : BitVec 32) : Fin 2 → Nat :=
  let c3_i32_1393 : BitVec 32 := 3#32
  let v2803 : BitVec 32 := Scalar.shrsi v2802 c3_i32_1393
  let c3_i32_1394 : BitVec 32 := 3#32
  let v2804 : BitVec 32 := Scalar.shli v2803 c3_i32_1394
  let v2805 : BitVec 32 := v2804
  let v2806 : Index := Scalar.indexCast v2805
  let c0_1395 : Index := 0#32
  ![v2806.toNat, 0]

def k0_chk128 (v2802 : BitVec 32) : Prop :=
  (8 ∣ (k0_mult128 v2802).toNat) ∧
  (∀ a, (k0_off128 v2802) a + S8x128.size a ≤ S20016x128.size a)
theorem k0_mult128_dvd : ∀ (v2802 : BitVec 32) (k0_hw128 : k0_chk128 v2802), 8 ∣ (k0_mult128 v2802).toNat := fun v2802 k0_hw128 => k0_hw128.1
theorem k0_off128_inb : ∀ (v2802 : BitVec 32) (k0_hw128 : k0_chk128 v2802), ∀ a, (k0_off128 v2802) a + S8x128.size a ≤ S20016x128.size a := fun v2802 k0_hw128 => k0_hw128.2

@[reducible] def k0_t1_loop : Scf.Loop 32 :=
  let c0_i32_1405 : BitVec 32 := 0#32
  let c100_i32 : BitVec 32 := 100#32
  let v2827 : BitVec 32 := Scalar.addi c0_i32_1405 c100_i32
  let c1_i32_1406 : BitVec 32 := 1#32
  ⟨c0_i32_1405, v2827, c1_i32_1406⟩
def k0_mult129 (k0_t1 : Fin k0_t1_loop.trips) : BitVec 32 :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c64_i32 : BitVec 32 := 64#32
  let v3205 : BitVec 32 := Scalar.muli v3179 c64_i32
  v3205
def k0_off129 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c64_i32 : BitVec 32 := 64#32
  let v3205 : BitVec 32 := Scalar.muli v3179 c64_i32
  let v3206 : BitVec 32 := v3205
  let v3207 : Index := Scalar.indexCast v3206
  let c0_1619 : Index := 0#32
  ![v3207.toNat, 0]
def k0_off130 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c0_i32_1622 : BitVec 32 := 0#32
  let v3213 : BitVec 32 := Scalar.addi v3212 c0_i32_1622
  let v3214 : Index := Scalar.indexCast v3213
  ![v3214.toNat]
def k0_mult130 (v3215 : BitVec 32) : BitVec 32 :=
  let c3_i32_1623 : BitVec 32 := 3#32
  let v3216 : BitVec 32 := Scalar.shrsi v3215 c3_i32_1623
  let c3_i32_1624 : BitVec 32 := 3#32
  let v3217 : BitVec 32 := Scalar.shli v3216 c3_i32_1624
  v3217

def k0_off131 (v3215 : BitVec 32) : Fin 2 → Nat :=
  let c3_i32_1623 : BitVec 32 := 3#32
  let v3216 : BitVec 32 := Scalar.shrsi v3215 c3_i32_1623
  let c3_i32_1624 : BitVec 32 := 3#32
  let v3217 : BitVec 32 := Scalar.shli v3216 c3_i32_1624
  let v3218 : BitVec 32 := v3217
  let v3219 : Index := Scalar.indexCast v3218
  let c0_1625 : Index := 0#32
  ![v3219.toNat, 0]

def k0_chk129 (v3215 : BitVec 32) : Prop :=
  (8 ∣ (k0_mult130 v3215).toNat) ∧
  (∀ a, (k0_off131 v3215) a + S8x128.size a ≤ S20016x128.size a)
theorem k0_mult130_dvd : ∀ (v3215 : BitVec 32) (k0_hw129 : k0_chk129 v3215), 8 ∣ (k0_mult130 v3215).toNat := fun v3215 k0_hw129 => k0_hw129.1
theorem k0_off131_inb : ∀ (v3215 : BitVec 32) (k0_hw129 : k0_chk129 v3215), ∀ a, (k0_off131 v3215) a + S8x128.size a ≤ S20016x128.size a := fun v3215 k0_hw129 => k0_hw129.2

def k0_off132 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c1_i32_1634 : BitVec 32 := 1#32
  let v3237 : BitVec 32 := Scalar.addi v3212 c1_i32_1634
  let v3238 : Index := Scalar.indexCast v3237
  ![v3238.toNat]
def k0_mult131 (v3239 : BitVec 32) : BitVec 32 :=
  let c3_i32_1635 : BitVec 32 := 3#32
  let v3240 : BitVec 32 := Scalar.shrsi v3239 c3_i32_1635
  let c3_i32_1636 : BitVec 32 := 3#32
  let v3241 : BitVec 32 := Scalar.shli v3240 c3_i32_1636
  v3241

def k0_off133 (v3239 : BitVec 32) : Fin 2 → Nat :=
  let c3_i32_1635 : BitVec 32 := 3#32
  let v3240 : BitVec 32 := Scalar.shrsi v3239 c3_i32_1635
  let c3_i32_1636 : BitVec 32 := 3#32
  let v3241 : BitVec 32 := Scalar.shli v3240 c3_i32_1636
  let v3242 : BitVec 32 := v3241
  let v3243 : Index := Scalar.indexCast v3242
  let c0_1637 : Index := 0#32
  ![v3243.toNat, 0]

def k0_chk130 (v3239 : BitVec 32) : Prop :=
  (8 ∣ (k0_mult131 v3239).toNat) ∧
  (∀ a, (k0_off133 v3239) a + S8x128.size a ≤ S20016x128.size a)
theorem k0_mult131_dvd : ∀ (v3239 : BitVec 32) (k0_hw130 : k0_chk130 v3239), 8 ∣ (k0_mult131 v3239).toNat := fun v3239 k0_hw130 => k0_hw130.1
theorem k0_off133_inb : ∀ (v3239 : BitVec 32) (k0_hw130 : k0_chk130 v3239), ∀ a, (k0_off133 v3239) a + S8x128.size a ≤ S20016x128.size a := fun v3239 k0_hw130 => k0_hw130.2

def k0_off134 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c2_i32_1646 : BitVec 32 := 2#32
  let v3261 : BitVec 32 := Scalar.addi v3212 c2_i32_1646
  let v3262 : Index := Scalar.indexCast v3261
  ![v3262.toNat]
def k0_mult132 (v3263 : BitVec 32) : BitVec 32 :=
  let c3_i32_1647 : BitVec 32 := 3#32
  let v3264 : BitVec 32 := Scalar.shrsi v3263 c3_i32_1647
  let c3_i32_1648 : BitVec 32 := 3#32
  let v3265 : BitVec 32 := Scalar.shli v3264 c3_i32_1648
  v3265

def k0_off135 (v3263 : BitVec 32) : Fin 2 → Nat :=
  let c3_i32_1647 : BitVec 32 := 3#32
  let v3264 : BitVec 32 := Scalar.shrsi v3263 c3_i32_1647
  let c3_i32_1648 : BitVec 32 := 3#32
  let v3265 : BitVec 32 := Scalar.shli v3264 c3_i32_1648
  let v3266 : BitVec 32 := v3265
  let v3267 : Index := Scalar.indexCast v3266
  let c0_1649 : Index := 0#32
  ![v3267.toNat, 0]

def k0_chk131 (v3263 : BitVec 32) : Prop :=
  (8 ∣ (k0_mult132 v3263).toNat) ∧
  (∀ a, (k0_off135 v3263) a + S8x128.size a ≤ S20016x128.size a)
theorem k0_mult132_dvd : ∀ (v3263 : BitVec 32) (k0_hw131 : k0_chk131 v3263), 8 ∣ (k0_mult132 v3263).toNat := fun v3263 k0_hw131 => k0_hw131.1
theorem k0_off135_inb : ∀ (v3263 : BitVec 32) (k0_hw131 : k0_chk131 v3263), ∀ a, (k0_off135 v3263) a + S8x128.size a ≤ S20016x128.size a := fun v3263 k0_hw131 => k0_hw131.2

def k0_off136 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c3_i32_1658 : BitVec 32 := 3#32
  let v3285 : BitVec 32 := Scalar.addi v3212 c3_i32_1658
  let v3286 : Index := Scalar.indexCast v3285
  ![v3286.toNat]
def k0_mult133 (v3287 : BitVec 32) : BitVec 32 :=
  let c3_i32_1659 : BitVec 32 := 3#32
  let v3288 : BitVec 32 := Scalar.shrsi v3287 c3_i32_1659
  let c3_i32_1660 : BitVec 32 := 3#32
  let v3289 : BitVec 32 := Scalar.shli v3288 c3_i32_1660
  v3289

def k0_off137 (v3287 : BitVec 32) : Fin 2 → Nat :=
  let c3_i32_1659 : BitVec 32 := 3#32
  let v3288 : BitVec 32 := Scalar.shrsi v3287 c3_i32_1659
  let c3_i32_1660 : BitVec 32 := 3#32
  let v3289 : BitVec 32 := Scalar.shli v3288 c3_i32_1660
  let v3290 : BitVec 32 := v3289
  let v3291 : Index := Scalar.indexCast v3290
  let c0_1661 : Index := 0#32
  ![v3291.toNat, 0]

def k0_chk132 (v3287 : BitVec 32) : Prop :=
  (8 ∣ (k0_mult133 v3287).toNat) ∧
  (∀ a, (k0_off137 v3287) a + S8x128.size a ≤ S20016x128.size a)
theorem k0_mult133_dvd : ∀ (v3287 : BitVec 32) (k0_hw132 : k0_chk132 v3287), 8 ∣ (k0_mult133 v3287).toNat := fun v3287 k0_hw132 => k0_hw132.1
theorem k0_off137_inb : ∀ (v3287 : BitVec 32) (k0_hw132 : k0_chk132 v3287), ∀ a, (k0_off137 v3287) a + S8x128.size a ≤ S20016x128.size a := fun v3287 k0_hw132 => k0_hw132.2

def k0_off138 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c4_i32 : BitVec 32 := 4#32
  let v3309 : BitVec 32 := Scalar.addi v3212 c4_i32
  let v3310 : Index := Scalar.indexCast v3309
  ![v3310.toNat]
def k0_mult134 (v3311 : BitVec 32) : BitVec 32 :=
  let c3_i32_1670 : BitVec 32 := 3#32
  let v3312 : BitVec 32 := Scalar.shrsi v3311 c3_i32_1670
  let c3_i32_1671 : BitVec 32 := 3#32
  let v3313 : BitVec 32 := Scalar.shli v3312 c3_i32_1671
  v3313

def k0_off139 (v3311 : BitVec 32) : Fin 2 → Nat :=
  let c3_i32_1670 : BitVec 32 := 3#32
  let v3312 : BitVec 32 := Scalar.shrsi v3311 c3_i32_1670
  let c3_i32_1671 : BitVec 32 := 3#32
  let v3313 : BitVec 32 := Scalar.shli v3312 c3_i32_1671
  let v3314 : BitVec 32 := v3313
  let v3315 : Index := Scalar.indexCast v3314
  let c0_1672 : Index := 0#32
  ![v3315.toNat, 0]

def k0_chk133 (v3311 : BitVec 32) : Prop :=
  (8 ∣ (k0_mult134 v3311).toNat) ∧
  (∀ a, (k0_off139 v3311) a + S8x128.size a ≤ S20016x128.size a)
theorem k0_mult134_dvd : ∀ (v3311 : BitVec 32) (k0_hw133 : k0_chk133 v3311), 8 ∣ (k0_mult134 v3311).toNat := fun v3311 k0_hw133 => k0_hw133.1
theorem k0_off139_inb : ∀ (v3311 : BitVec 32) (k0_hw133 : k0_chk133 v3311), ∀ a, (k0_off139 v3311) a + S8x128.size a ≤ S20016x128.size a := fun v3311 k0_hw133 => k0_hw133.2

def k0_off140 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c5_i32 : BitVec 32 := 5#32
  let v3333 : BitVec 32 := Scalar.addi v3212 c5_i32
  let v3334 : Index := Scalar.indexCast v3333
  ![v3334.toNat]
def k0_mult135 (v3335 : BitVec 32) : BitVec 32 :=
  let c3_i32_1681 : BitVec 32 := 3#32
  let v3336 : BitVec 32 := Scalar.shrsi v3335 c3_i32_1681
  let c3_i32_1682 : BitVec 32 := 3#32
  let v3337 : BitVec 32 := Scalar.shli v3336 c3_i32_1682
  v3337

def k0_off141 (v3335 : BitVec 32) : Fin 2 → Nat :=
  let c3_i32_1681 : BitVec 32 := 3#32
  let v3336 : BitVec 32 := Scalar.shrsi v3335 c3_i32_1681
  let c3_i32_1682 : BitVec 32 := 3#32
  let v3337 : BitVec 32 := Scalar.shli v3336 c3_i32_1682
  let v3338 : BitVec 32 := v3337
  let v3339 : Index := Scalar.indexCast v3338
  let c0_1683 : Index := 0#32
  ![v3339.toNat, 0]

def k0_chk134 (v3335 : BitVec 32) : Prop :=
  (8 ∣ (k0_mult135 v3335).toNat) ∧
  (∀ a, (k0_off141 v3335) a + S8x128.size a ≤ S20016x128.size a)
theorem k0_mult135_dvd : ∀ (v3335 : BitVec 32) (k0_hw134 : k0_chk134 v3335), 8 ∣ (k0_mult135 v3335).toNat := fun v3335 k0_hw134 => k0_hw134.1
theorem k0_off141_inb : ∀ (v3335 : BitVec 32) (k0_hw134 : k0_chk134 v3335), ∀ a, (k0_off141 v3335) a + S8x128.size a ≤ S20016x128.size a := fun v3335 k0_hw134 => k0_hw134.2

def k0_off142 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c6_i32 : BitVec 32 := 6#32
  let v3357 : BitVec 32 := Scalar.addi v3212 c6_i32
  let v3358 : Index := Scalar.indexCast v3357
  ![v3358.toNat]
def k0_mult136 (v3359 : BitVec 32) : BitVec 32 :=
  let c3_i32_1692 : BitVec 32 := 3#32
  let v3360 : BitVec 32 := Scalar.shrsi v3359 c3_i32_1692
  let c3_i32_1693 : BitVec 32 := 3#32
  let v3361 : BitVec 32 := Scalar.shli v3360 c3_i32_1693
  v3361

def k0_off143 (v3359 : BitVec 32) : Fin 2 → Nat :=
  let c3_i32_1692 : BitVec 32 := 3#32
  let v3360 : BitVec 32 := Scalar.shrsi v3359 c3_i32_1692
  let c3_i32_1693 : BitVec 32 := 3#32
  let v3361 : BitVec 32 := Scalar.shli v3360 c3_i32_1693
  let v3362 : BitVec 32 := v3361
  let v3363 : Index := Scalar.indexCast v3362
  let c0_1694 : Index := 0#32
  ![v3363.toNat, 0]

def k0_chk135 (v3359 : BitVec 32) : Prop :=
  (8 ∣ (k0_mult136 v3359).toNat) ∧
  (∀ a, (k0_off143 v3359) a + S8x128.size a ≤ S20016x128.size a)
theorem k0_mult136_dvd : ∀ (v3359 : BitVec 32) (k0_hw135 : k0_chk135 v3359), 8 ∣ (k0_mult136 v3359).toNat := fun v3359 k0_hw135 => k0_hw135.1
theorem k0_off143_inb : ∀ (v3359 : BitVec 32) (k0_hw135 : k0_chk135 v3359), ∀ a, (k0_off143 v3359) a + S8x128.size a ≤ S20016x128.size a := fun v3359 k0_hw135 => k0_hw135.2

def k0_off144 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c7_i32_1703 : BitVec 32 := 7#32
  let v3381 : BitVec 32 := Scalar.addi v3212 c7_i32_1703
  let v3382 : Index := Scalar.indexCast v3381
  ![v3382.toNat]
def k0_mult137 (v3383 : BitVec 32) : BitVec 32 :=
  let c3_i32_1704 : BitVec 32 := 3#32
  let v3384 : BitVec 32 := Scalar.shrsi v3383 c3_i32_1704
  let c3_i32_1705 : BitVec 32 := 3#32
  let v3385 : BitVec 32 := Scalar.shli v3384 c3_i32_1705
  v3385

def k0_off145 (v3383 : BitVec 32) : Fin 2 → Nat :=
  let c3_i32_1704 : BitVec 32 := 3#32
  let v3384 : BitVec 32 := Scalar.shrsi v3383 c3_i32_1704
  let c3_i32_1705 : BitVec 32 := 3#32
  let v3385 : BitVec 32 := Scalar.shli v3384 c3_i32_1705
  let v3386 : BitVec 32 := v3385
  let v3387 : Index := Scalar.indexCast v3386
  let c0_1706 : Index := 0#32
  ![v3387.toNat, 0]

def k0_chk136 (v3383 : BitVec 32) : Prop :=
  (8 ∣ (k0_mult137 v3383).toNat) ∧
  (∀ a, (k0_off145 v3383) a + S8x128.size a ≤ S20016x128.size a)
theorem k0_mult137_dvd : ∀ (v3383 : BitVec 32) (k0_hw136 : k0_chk136 v3383), 8 ∣ (k0_mult137 v3383).toNat := fun v3383 k0_hw136 => k0_hw136.1
theorem k0_off145_inb : ∀ (v3383 : BitVec 32) (k0_hw136 : k0_chk136 v3383), ∀ a, (k0_off145 v3383) a + S8x128.size a ≤ S20016x128.size a := fun v3383 k0_hw136 => k0_hw136.2

def k0_off146 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c8_i32 : BitVec 32 := 8#32
  let v3405 : BitVec 32 := Scalar.addi v3212 c8_i32
  let v3406 : Index := Scalar.indexCast v3405
  ![v3406.toNat]
def k0_mult138 (v3407 : BitVec 32) : BitVec 32 :=
  let c3_i32_1715 : BitVec 32 := 3#32
  let v3408 : BitVec 32 := Scalar.shrsi v3407 c3_i32_1715
  let c3_i32_1716 : BitVec 32 := 3#32
  let v3409 : BitVec 32 := Scalar.shli v3408 c3_i32_1716
  v3409

def k0_off147 (v3407 : BitVec 32) : Fin 2 → Nat :=
  let c3_i32_1715 : BitVec 32 := 3#32
  let v3408 : BitVec 32 := Scalar.shrsi v3407 c3_i32_1715
  let c3_i32_1716 : BitVec 32 := 3#32
  let v3409 : BitVec 32 := Scalar.shli v3408 c3_i32_1716
  let v3410 : BitVec 32 := v3409
  let v3411 : Index := Scalar.indexCast v3410
  let c0_1717 : Index := 0#32
  ![v3411.toNat, 0]

def k0_chk137 (v3407 : BitVec 32) : Prop :=
  (8 ∣ (k0_mult138 v3407).toNat) ∧
  (∀ a, (k0_off147 v3407) a + S8x128.size a ≤ S20016x128.size a)
theorem k0_mult138_dvd : ∀ (v3407 : BitVec 32) (k0_hw137 : k0_chk137 v3407), 8 ∣ (k0_mult138 v3407).toNat := fun v3407 k0_hw137 => k0_hw137.1
theorem k0_off147_inb : ∀ (v3407 : BitVec 32) (k0_hw137 : k0_chk137 v3407), ∀ a, (k0_off147 v3407) a + S8x128.size a ≤ S20016x128.size a := fun v3407 k0_hw137 => k0_hw137.2

def k0_off148 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c9_i32 : BitVec 32 := 9#32
  let v3429 : BitVec 32 := Scalar.addi v3212 c9_i32
  let v3430 : Index := Scalar.indexCast v3429
  ![v3430.toNat]
def k0_mult139 (v3431 : BitVec 32) : BitVec 32 :=
  let c3_i32_1726 : BitVec 32 := 3#32
  let v3432 : BitVec 32 := Scalar.shrsi v3431 c3_i32_1726
  let c3_i32_1727 : BitVec 32 := 3#32
  let v3433 : BitVec 32 := Scalar.shli v3432 c3_i32_1727
  v3433

def k0_off149 (v3431 : BitVec 32) : Fin 2 → Nat :=
  let c3_i32_1726 : BitVec 32 := 3#32
  let v3432 : BitVec 32 := Scalar.shrsi v3431 c3_i32_1726
  let c3_i32_1727 : BitVec 32 := 3#32
  let v3433 : BitVec 32 := Scalar.shli v3432 c3_i32_1727
  let v3434 : BitVec 32 := v3433
  let v3435 : Index := Scalar.indexCast v3434
  let c0_1728 : Index := 0#32
  ![v3435.toNat, 0]

def k0_chk138 (v3431 : BitVec 32) : Prop :=
  (8 ∣ (k0_mult139 v3431).toNat) ∧
  (∀ a, (k0_off149 v3431) a + S8x128.size a ≤ S20016x128.size a)
theorem k0_mult139_dvd : ∀ (v3431 : BitVec 32) (k0_hw138 : k0_chk138 v3431), 8 ∣ (k0_mult139 v3431).toNat := fun v3431 k0_hw138 => k0_hw138.1
theorem k0_off149_inb : ∀ (v3431 : BitVec 32) (k0_hw138 : k0_chk138 v3431), ∀ a, (k0_off149 v3431) a + S8x128.size a ≤ S20016x128.size a := fun v3431 k0_hw138 => k0_hw138.2

def k0_off150 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c10_i32 : BitVec 32 := 10#32
  let v3453 : BitVec 32 := Scalar.addi v3212 c10_i32
  let v3454 : Index := Scalar.indexCast v3453
  ![v3454.toNat]
def k0_mult140 (v3455 : BitVec 32) : BitVec 32 :=
  let c3_i32_1737 : BitVec 32 := 3#32
  let v3456 : BitVec 32 := Scalar.shrsi v3455 c3_i32_1737
  let c3_i32_1738 : BitVec 32 := 3#32
  let v3457 : BitVec 32 := Scalar.shli v3456 c3_i32_1738
  v3457

def k0_off151 (v3455 : BitVec 32) : Fin 2 → Nat :=
  let c3_i32_1737 : BitVec 32 := 3#32
  let v3456 : BitVec 32 := Scalar.shrsi v3455 c3_i32_1737
  let c3_i32_1738 : BitVec 32 := 3#32
  let v3457 : BitVec 32 := Scalar.shli v3456 c3_i32_1738
  let v3458 : BitVec 32 := v3457
  let v3459 : Index := Scalar.indexCast v3458
  let c0_1739 : Index := 0#32
  ![v3459.toNat, 0]

def k0_chk139 (v3455 : BitVec 32) : Prop :=
  (8 ∣ (k0_mult140 v3455).toNat) ∧
  (∀ a, (k0_off151 v3455) a + S8x128.size a ≤ S20016x128.size a)
theorem k0_mult140_dvd : ∀ (v3455 : BitVec 32) (k0_hw139 : k0_chk139 v3455), 8 ∣ (k0_mult140 v3455).toNat := fun v3455 k0_hw139 => k0_hw139.1
theorem k0_off151_inb : ∀ (v3455 : BitVec 32) (k0_hw139 : k0_chk139 v3455), ∀ a, (k0_off151 v3455) a + S8x128.size a ≤ S20016x128.size a := fun v3455 k0_hw139 => k0_hw139.2

def k0_off152 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c11_i32 : BitVec 32 := 11#32
  let v3477 : BitVec 32 := Scalar.addi v3212 c11_i32
  let v3478 : Index := Scalar.indexCast v3477
  ![v3478.toNat]
def k0_mult141 (v3479 : BitVec 32) : BitVec 32 :=
  let c3_i32_1748 : BitVec 32 := 3#32
  let v3480 : BitVec 32 := Scalar.shrsi v3479 c3_i32_1748
  let c3_i32_1749 : BitVec 32 := 3#32
  let v3481 : BitVec 32 := Scalar.shli v3480 c3_i32_1749
  v3481

def k0_off153 (v3479 : BitVec 32) : Fin 2 → Nat :=
  let c3_i32_1748 : BitVec 32 := 3#32
  let v3480 : BitVec 32 := Scalar.shrsi v3479 c3_i32_1748
  let c3_i32_1749 : BitVec 32 := 3#32
  let v3481 : BitVec 32 := Scalar.shli v3480 c3_i32_1749
  let v3482 : BitVec 32 := v3481
  let v3483 : Index := Scalar.indexCast v3482
  let c0_1750 : Index := 0#32
  ![v3483.toNat, 0]

def k0_chk140 (v3479 : BitVec 32) : Prop :=
  (8 ∣ (k0_mult141 v3479).toNat) ∧
  (∀ a, (k0_off153 v3479) a + S8x128.size a ≤ S20016x128.size a)
theorem k0_mult141_dvd : ∀ (v3479 : BitVec 32) (k0_hw140 : k0_chk140 v3479), 8 ∣ (k0_mult141 v3479).toNat := fun v3479 k0_hw140 => k0_hw140.1
theorem k0_off153_inb : ∀ (v3479 : BitVec 32) (k0_hw140 : k0_chk140 v3479), ∀ a, (k0_off153 v3479) a + S8x128.size a ≤ S20016x128.size a := fun v3479 k0_hw140 => k0_hw140.2

def k0_off154 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c12_i32 : BitVec 32 := 12#32
  let v3501 : BitVec 32 := Scalar.addi v3212 c12_i32
  let v3502 : Index := Scalar.indexCast v3501
  ![v3502.toNat]
def k0_mult142 (v3503 : BitVec 32) : BitVec 32 :=
  let c3_i32_1759 : BitVec 32 := 3#32
  let v3504 : BitVec 32 := Scalar.shrsi v3503 c3_i32_1759
  let c3_i32_1760 : BitVec 32 := 3#32
  let v3505 : BitVec 32 := Scalar.shli v3504 c3_i32_1760
  v3505

def k0_off155 (v3503 : BitVec 32) : Fin 2 → Nat :=
  let c3_i32_1759 : BitVec 32 := 3#32
  let v3504 : BitVec 32 := Scalar.shrsi v3503 c3_i32_1759
  let c3_i32_1760 : BitVec 32 := 3#32
  let v3505 : BitVec 32 := Scalar.shli v3504 c3_i32_1760
  let v3506 : BitVec 32 := v3505
  let v3507 : Index := Scalar.indexCast v3506
  let c0_1761 : Index := 0#32
  ![v3507.toNat, 0]

def k0_chk141 (v3503 : BitVec 32) : Prop :=
  (8 ∣ (k0_mult142 v3503).toNat) ∧
  (∀ a, (k0_off155 v3503) a + S8x128.size a ≤ S20016x128.size a)
theorem k0_mult142_dvd : ∀ (v3503 : BitVec 32) (k0_hw141 : k0_chk141 v3503), 8 ∣ (k0_mult142 v3503).toNat := fun v3503 k0_hw141 => k0_hw141.1
theorem k0_off155_inb : ∀ (v3503 : BitVec 32) (k0_hw141 : k0_chk141 v3503), ∀ a, (k0_off155 v3503) a + S8x128.size a ≤ S20016x128.size a := fun v3503 k0_hw141 => k0_hw141.2

def k0_off156 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c13_i32 : BitVec 32 := 13#32
  let v3525 : BitVec 32 := Scalar.addi v3212 c13_i32
  let v3526 : Index := Scalar.indexCast v3525
  ![v3526.toNat]
def k0_mult143 (v3527 : BitVec 32) : BitVec 32 :=
  let c3_i32_1770 : BitVec 32 := 3#32
  let v3528 : BitVec 32 := Scalar.shrsi v3527 c3_i32_1770
  let c3_i32_1771 : BitVec 32 := 3#32
  let v3529 : BitVec 32 := Scalar.shli v3528 c3_i32_1771
  v3529

def k0_off157 (v3527 : BitVec 32) : Fin 2 → Nat :=
  let c3_i32_1770 : BitVec 32 := 3#32
  let v3528 : BitVec 32 := Scalar.shrsi v3527 c3_i32_1770
  let c3_i32_1771 : BitVec 32 := 3#32
  let v3529 : BitVec 32 := Scalar.shli v3528 c3_i32_1771
  let v3530 : BitVec 32 := v3529
  let v3531 : Index := Scalar.indexCast v3530
  let c0_1772 : Index := 0#32
  ![v3531.toNat, 0]

def k0_chk142 (v3527 : BitVec 32) : Prop :=
  (8 ∣ (k0_mult143 v3527).toNat) ∧
  (∀ a, (k0_off157 v3527) a + S8x128.size a ≤ S20016x128.size a)
theorem k0_mult143_dvd : ∀ (v3527 : BitVec 32) (k0_hw142 : k0_chk142 v3527), 8 ∣ (k0_mult143 v3527).toNat := fun v3527 k0_hw142 => k0_hw142.1
theorem k0_off157_inb : ∀ (v3527 : BitVec 32) (k0_hw142 : k0_chk142 v3527), ∀ a, (k0_off157 v3527) a + S8x128.size a ≤ S20016x128.size a := fun v3527 k0_hw142 => k0_hw142.2

def k0_off158 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c14_i32 : BitVec 32 := 14#32
  let v3549 : BitVec 32 := Scalar.addi v3212 c14_i32
  let v3550 : Index := Scalar.indexCast v3549
  ![v3550.toNat]
def k0_mult144 (v3551 : BitVec 32) : BitVec 32 :=
  let c3_i32_1781 : BitVec 32 := 3#32
  let v3552 : BitVec 32 := Scalar.shrsi v3551 c3_i32_1781
  let c3_i32_1782 : BitVec 32 := 3#32
  let v3553 : BitVec 32 := Scalar.shli v3552 c3_i32_1782
  v3553

def k0_off159 (v3551 : BitVec 32) : Fin 2 → Nat :=
  let c3_i32_1781 : BitVec 32 := 3#32
  let v3552 : BitVec 32 := Scalar.shrsi v3551 c3_i32_1781
  let c3_i32_1782 : BitVec 32 := 3#32
  let v3553 : BitVec 32 := Scalar.shli v3552 c3_i32_1782
  let v3554 : BitVec 32 := v3553
  let v3555 : Index := Scalar.indexCast v3554
  let c0_1783 : Index := 0#32
  ![v3555.toNat, 0]

def k0_chk143 (v3551 : BitVec 32) : Prop :=
  (8 ∣ (k0_mult144 v3551).toNat) ∧
  (∀ a, (k0_off159 v3551) a + S8x128.size a ≤ S20016x128.size a)
theorem k0_mult144_dvd : ∀ (v3551 : BitVec 32) (k0_hw143 : k0_chk143 v3551), 8 ∣ (k0_mult144 v3551).toNat := fun v3551 k0_hw143 => k0_hw143.1
theorem k0_off159_inb : ∀ (v3551 : BitVec 32) (k0_hw143 : k0_chk143 v3551), ∀ a, (k0_off159 v3551) a + S8x128.size a ≤ S20016x128.size a := fun v3551 k0_hw143 => k0_hw143.2

def k0_off160 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c15_i32 : BitVec 32 := 15#32
  let v3573 : BitVec 32 := Scalar.addi v3212 c15_i32
  let v3574 : Index := Scalar.indexCast v3573
  ![v3574.toNat]
def k0_mult145 (v3575 : BitVec 32) : BitVec 32 :=
  let c3_i32_1792 : BitVec 32 := 3#32
  let v3576 : BitVec 32 := Scalar.shrsi v3575 c3_i32_1792
  let c3_i32_1793 : BitVec 32 := 3#32
  let v3577 : BitVec 32 := Scalar.shli v3576 c3_i32_1793
  v3577

def k0_off161 (v3575 : BitVec 32) : Fin 2 → Nat :=
  let c3_i32_1792 : BitVec 32 := 3#32
  let v3576 : BitVec 32 := Scalar.shrsi v3575 c3_i32_1792
  let c3_i32_1793 : BitVec 32 := 3#32
  let v3577 : BitVec 32 := Scalar.shli v3576 c3_i32_1793
  let v3578 : BitVec 32 := v3577
  let v3579 : Index := Scalar.indexCast v3578
  let c0_1794 : Index := 0#32
  ![v3579.toNat, 0]

def k0_chk144 (v3575 : BitVec 32) : Prop :=
  (8 ∣ (k0_mult145 v3575).toNat) ∧
  (∀ a, (k0_off161 v3575) a + S8x128.size a ≤ S20016x128.size a)
theorem k0_mult145_dvd : ∀ (v3575 : BitVec 32) (k0_hw144 : k0_chk144 v3575), 8 ∣ (k0_mult145 v3575).toNat := fun v3575 k0_hw144 => k0_hw144.1
theorem k0_off161_inb : ∀ (v3575 : BitVec 32) (k0_hw144 : k0_chk144 v3575), ∀ a, (k0_off161 v3575) a + S8x128.size a ≤ S20016x128.size a := fun v3575 k0_hw144 => k0_hw144.2

def k0_off162 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c16_i32_1803 : BitVec 32 := 16#32
  let v3597 : BitVec 32 := Scalar.addi v3212 c16_i32_1803
  let v3598 : Index := Scalar.indexCast v3597
  ![v3598.toNat]
def k0_mult146 (v3599 : BitVec 32) : BitVec 32 :=
  let c3_i32_1804 : BitVec 32 := 3#32
  let v3600 : BitVec 32 := Scalar.shrsi v3599 c3_i32_1804
  let c3_i32_1805 : BitVec 32 := 3#32
  let v3601 : BitVec 32 := Scalar.shli v3600 c3_i32_1805
  v3601

def k0_off163 (v3599 : BitVec 32) : Fin 2 → Nat :=
  let c3_i32_1804 : BitVec 32 := 3#32
  let v3600 : BitVec 32 := Scalar.shrsi v3599 c3_i32_1804
  let c3_i32_1805 : BitVec 32 := 3#32
  let v3601 : BitVec 32 := Scalar.shli v3600 c3_i32_1805
  let v3602 : BitVec 32 := v3601
  let v3603 : Index := Scalar.indexCast v3602
  let c0_1806 : Index := 0#32
  ![v3603.toNat, 0]

def k0_chk145 (v3599 : BitVec 32) : Prop :=
  (8 ∣ (k0_mult146 v3599).toNat) ∧
  (∀ a, (k0_off163 v3599) a + S8x128.size a ≤ S20016x128.size a)
theorem k0_mult146_dvd : ∀ (v3599 : BitVec 32) (k0_hw145 : k0_chk145 v3599), 8 ∣ (k0_mult146 v3599).toNat := fun v3599 k0_hw145 => k0_hw145.1
theorem k0_off163_inb : ∀ (v3599 : BitVec 32) (k0_hw145 : k0_chk145 v3599), ∀ a, (k0_off163 v3599) a + S8x128.size a ≤ S20016x128.size a := fun v3599 k0_hw145 => k0_hw145.2

def k0_off164 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c17_i32 : BitVec 32 := 17#32
  let v3621 : BitVec 32 := Scalar.addi v3212 c17_i32
  let v3622 : Index := Scalar.indexCast v3621
  ![v3622.toNat]
def k0_mult147 (v3623 : BitVec 32) : BitVec 32 :=
  let c3_i32_1815 : BitVec 32 := 3#32
  let v3624 : BitVec 32 := Scalar.shrsi v3623 c3_i32_1815
  let c3_i32_1816 : BitVec 32 := 3#32
  let v3625 : BitVec 32 := Scalar.shli v3624 c3_i32_1816
  v3625

def k0_off165 (v3623 : BitVec 32) : Fin 2 → Nat :=
  let c3_i32_1815 : BitVec 32 := 3#32
  let v3624 : BitVec 32 := Scalar.shrsi v3623 c3_i32_1815
  let c3_i32_1816 : BitVec 32 := 3#32
  let v3625 : BitVec 32 := Scalar.shli v3624 c3_i32_1816
  let v3626 : BitVec 32 := v3625
  let v3627 : Index := Scalar.indexCast v3626
  let c0_1817 : Index := 0#32
  ![v3627.toNat, 0]

def k0_chk146 (v3623 : BitVec 32) : Prop :=
  (8 ∣ (k0_mult147 v3623).toNat) ∧
  (∀ a, (k0_off165 v3623) a + S8x128.size a ≤ S20016x128.size a)
theorem k0_mult147_dvd : ∀ (v3623 : BitVec 32) (k0_hw146 : k0_chk146 v3623), 8 ∣ (k0_mult147 v3623).toNat := fun v3623 k0_hw146 => k0_hw146.1
theorem k0_off165_inb : ∀ (v3623 : BitVec 32) (k0_hw146 : k0_chk146 v3623), ∀ a, (k0_off165 v3623) a + S8x128.size a ≤ S20016x128.size a := fun v3623 k0_hw146 => k0_hw146.2

def k0_off166 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c18_i32 : BitVec 32 := 18#32
  let v3645 : BitVec 32 := Scalar.addi v3212 c18_i32
  let v3646 : Index := Scalar.indexCast v3645
  ![v3646.toNat]
def k0_mult148 (v3647 : BitVec 32) : BitVec 32 :=
  let c3_i32_1826 : BitVec 32 := 3#32
  let v3648 : BitVec 32 := Scalar.shrsi v3647 c3_i32_1826
  let c3_i32_1827 : BitVec 32 := 3#32
  let v3649 : BitVec 32 := Scalar.shli v3648 c3_i32_1827
  v3649

def k0_off167 (v3647 : BitVec 32) : Fin 2 → Nat :=
  let c3_i32_1826 : BitVec 32 := 3#32
  let v3648 : BitVec 32 := Scalar.shrsi v3647 c3_i32_1826
  let c3_i32_1827 : BitVec 32 := 3#32
  let v3649 : BitVec 32 := Scalar.shli v3648 c3_i32_1827
  let v3650 : BitVec 32 := v3649
  let v3651 : Index := Scalar.indexCast v3650
  let c0_1828 : Index := 0#32
  ![v3651.toNat, 0]

def k0_chk147 (v3647 : BitVec 32) : Prop :=
  (8 ∣ (k0_mult148 v3647).toNat) ∧
  (∀ a, (k0_off167 v3647) a + S8x128.size a ≤ S20016x128.size a)
theorem k0_mult148_dvd : ∀ (v3647 : BitVec 32) (k0_hw147 : k0_chk147 v3647), 8 ∣ (k0_mult148 v3647).toNat := fun v3647 k0_hw147 => k0_hw147.1
theorem k0_off167_inb : ∀ (v3647 : BitVec 32) (k0_hw147 : k0_chk147 v3647), ∀ a, (k0_off167 v3647) a + S8x128.size a ≤ S20016x128.size a := fun v3647 k0_hw147 => k0_hw147.2

def k0_off168 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c19_i32 : BitVec 32 := 19#32
  let v3669 : BitVec 32 := Scalar.addi v3212 c19_i32
  let v3670 : Index := Scalar.indexCast v3669
  ![v3670.toNat]
def k0_mult149 (v3671 : BitVec 32) : BitVec 32 :=
  let c3_i32_1837 : BitVec 32 := 3#32
  let v3672 : BitVec 32 := Scalar.shrsi v3671 c3_i32_1837
  let c3_i32_1838 : BitVec 32 := 3#32
  let v3673 : BitVec 32 := Scalar.shli v3672 c3_i32_1838
  v3673

def k0_off169 (v3671 : BitVec 32) : Fin 2 → Nat :=
  let c3_i32_1837 : BitVec 32 := 3#32
  let v3672 : BitVec 32 := Scalar.shrsi v3671 c3_i32_1837
  let c3_i32_1838 : BitVec 32 := 3#32
  let v3673 : BitVec 32 := Scalar.shli v3672 c3_i32_1838
  let v3674 : BitVec 32 := v3673
  let v3675 : Index := Scalar.indexCast v3674
  let c0_1839 : Index := 0#32
  ![v3675.toNat, 0]

def k0_chk148 (v3671 : BitVec 32) : Prop :=
  (8 ∣ (k0_mult149 v3671).toNat) ∧
  (∀ a, (k0_off169 v3671) a + S8x128.size a ≤ S20016x128.size a)
theorem k0_mult149_dvd : ∀ (v3671 : BitVec 32) (k0_hw148 : k0_chk148 v3671), 8 ∣ (k0_mult149 v3671).toNat := fun v3671 k0_hw148 => k0_hw148.1
theorem k0_off169_inb : ∀ (v3671 : BitVec 32) (k0_hw148 : k0_chk148 v3671), ∀ a, (k0_off169 v3671) a + S8x128.size a ≤ S20016x128.size a := fun v3671 k0_hw148 => k0_hw148.2

def k0_off170 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c20_i32 : BitVec 32 := 20#32
  let v3693 : BitVec 32 := Scalar.addi v3212 c20_i32
  let v3694 : Index := Scalar.indexCast v3693
  ![v3694.toNat]
def k0_mult150 (v3695 : BitVec 32) : BitVec 32 :=
  let c3_i32_1848 : BitVec 32 := 3#32
  let v3696 : BitVec 32 := Scalar.shrsi v3695 c3_i32_1848
  let c3_i32_1849 : BitVec 32 := 3#32
  let v3697 : BitVec 32 := Scalar.shli v3696 c3_i32_1849
  v3697

def k0_off171 (v3695 : BitVec 32) : Fin 2 → Nat :=
  let c3_i32_1848 : BitVec 32 := 3#32
  let v3696 : BitVec 32 := Scalar.shrsi v3695 c3_i32_1848
  let c3_i32_1849 : BitVec 32 := 3#32
  let v3697 : BitVec 32 := Scalar.shli v3696 c3_i32_1849
  let v3698 : BitVec 32 := v3697
  let v3699 : Index := Scalar.indexCast v3698
  let c0_1850 : Index := 0#32
  ![v3699.toNat, 0]

def k0_chk149 (v3695 : BitVec 32) : Prop :=
  (8 ∣ (k0_mult150 v3695).toNat) ∧
  (∀ a, (k0_off171 v3695) a + S8x128.size a ≤ S20016x128.size a)
theorem k0_mult150_dvd : ∀ (v3695 : BitVec 32) (k0_hw149 : k0_chk149 v3695), 8 ∣ (k0_mult150 v3695).toNat := fun v3695 k0_hw149 => k0_hw149.1
theorem k0_off171_inb : ∀ (v3695 : BitVec 32) (k0_hw149 : k0_chk149 v3695), ∀ a, (k0_off171 v3695) a + S8x128.size a ≤ S20016x128.size a := fun v3695 k0_hw149 => k0_hw149.2

def k0_off172 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c21_i32 : BitVec 32 := 21#32
  let v3717 : BitVec 32 := Scalar.addi v3212 c21_i32
  let v3718 : Index := Scalar.indexCast v3717
  ![v3718.toNat]
def k0_mult151 (v3719 : BitVec 32) : BitVec 32 :=
  let c3_i32_1859 : BitVec 32 := 3#32
  let v3720 : BitVec 32 := Scalar.shrsi v3719 c3_i32_1859
  let c3_i32_1860 : BitVec 32 := 3#32
  let v3721 : BitVec 32 := Scalar.shli v3720 c3_i32_1860
  v3721

def k0_off173 (v3719 : BitVec 32) : Fin 2 → Nat :=
  let c3_i32_1859 : BitVec 32 := 3#32
  let v3720 : BitVec 32 := Scalar.shrsi v3719 c3_i32_1859
  let c3_i32_1860 : BitVec 32 := 3#32
  let v3721 : BitVec 32 := Scalar.shli v3720 c3_i32_1860
  let v3722 : BitVec 32 := v3721
  let v3723 : Index := Scalar.indexCast v3722
  let c0_1861 : Index := 0#32
  ![v3723.toNat, 0]

def k0_chk150 (v3719 : BitVec 32) : Prop :=
  (8 ∣ (k0_mult151 v3719).toNat) ∧
  (∀ a, (k0_off173 v3719) a + S8x128.size a ≤ S20016x128.size a)
theorem k0_mult151_dvd : ∀ (v3719 : BitVec 32) (k0_hw150 : k0_chk150 v3719), 8 ∣ (k0_mult151 v3719).toNat := fun v3719 k0_hw150 => k0_hw150.1
theorem k0_off173_inb : ∀ (v3719 : BitVec 32) (k0_hw150 : k0_chk150 v3719), ∀ a, (k0_off173 v3719) a + S8x128.size a ≤ S20016x128.size a := fun v3719 k0_hw150 => k0_hw150.2

def k0_off174 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c22_i32 : BitVec 32 := 22#32
  let v3741 : BitVec 32 := Scalar.addi v3212 c22_i32
  let v3742 : Index := Scalar.indexCast v3741
  ![v3742.toNat]
def k0_mult152 (v3743 : BitVec 32) : BitVec 32 :=
  let c3_i32_1870 : BitVec 32 := 3#32
  let v3744 : BitVec 32 := Scalar.shrsi v3743 c3_i32_1870
  let c3_i32_1871 : BitVec 32 := 3#32
  let v3745 : BitVec 32 := Scalar.shli v3744 c3_i32_1871
  v3745

def k0_off175 (v3743 : BitVec 32) : Fin 2 → Nat :=
  let c3_i32_1870 : BitVec 32 := 3#32
  let v3744 : BitVec 32 := Scalar.shrsi v3743 c3_i32_1870
  let c3_i32_1871 : BitVec 32 := 3#32
  let v3745 : BitVec 32 := Scalar.shli v3744 c3_i32_1871
  let v3746 : BitVec 32 := v3745
  let v3747 : Index := Scalar.indexCast v3746
  let c0_1872 : Index := 0#32
  ![v3747.toNat, 0]

def k0_chk151 (v3743 : BitVec 32) : Prop :=
  (8 ∣ (k0_mult152 v3743).toNat) ∧
  (∀ a, (k0_off175 v3743) a + S8x128.size a ≤ S20016x128.size a)
theorem k0_mult152_dvd : ∀ (v3743 : BitVec 32) (k0_hw151 : k0_chk151 v3743), 8 ∣ (k0_mult152 v3743).toNat := fun v3743 k0_hw151 => k0_hw151.1
theorem k0_off175_inb : ∀ (v3743 : BitVec 32) (k0_hw151 : k0_chk151 v3743), ∀ a, (k0_off175 v3743) a + S8x128.size a ≤ S20016x128.size a := fun v3743 k0_hw151 => k0_hw151.2

def k0_off176 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c23_i32 : BitVec 32 := 23#32
  let v3765 : BitVec 32 := Scalar.addi v3212 c23_i32
  let v3766 : Index := Scalar.indexCast v3765
  ![v3766.toNat]
def k0_mult153 (v3767 : BitVec 32) : BitVec 32 :=
  let c3_i32_1881 : BitVec 32 := 3#32
  let v3768 : BitVec 32 := Scalar.shrsi v3767 c3_i32_1881
  let c3_i32_1882 : BitVec 32 := 3#32
  let v3769 : BitVec 32 := Scalar.shli v3768 c3_i32_1882
  v3769

def k0_off177 (v3767 : BitVec 32) : Fin 2 → Nat :=
  let c3_i32_1881 : BitVec 32 := 3#32
  let v3768 : BitVec 32 := Scalar.shrsi v3767 c3_i32_1881
  let c3_i32_1882 : BitVec 32 := 3#32
  let v3769 : BitVec 32 := Scalar.shli v3768 c3_i32_1882
  let v3770 : BitVec 32 := v3769
  let v3771 : Index := Scalar.indexCast v3770
  let c0_1883 : Index := 0#32
  ![v3771.toNat, 0]

def k0_chk152 (v3767 : BitVec 32) : Prop :=
  (8 ∣ (k0_mult153 v3767).toNat) ∧
  (∀ a, (k0_off177 v3767) a + S8x128.size a ≤ S20016x128.size a)
theorem k0_mult153_dvd : ∀ (v3767 : BitVec 32) (k0_hw152 : k0_chk152 v3767), 8 ∣ (k0_mult153 v3767).toNat := fun v3767 k0_hw152 => k0_hw152.1
theorem k0_off177_inb : ∀ (v3767 : BitVec 32) (k0_hw152 : k0_chk152 v3767), ∀ a, (k0_off177 v3767) a + S8x128.size a ≤ S20016x128.size a := fun v3767 k0_hw152 => k0_hw152.2

def k0_off178 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c24_i32 : BitVec 32 := 24#32
  let v3789 : BitVec 32 := Scalar.addi v3212 c24_i32
  let v3790 : Index := Scalar.indexCast v3789
  ![v3790.toNat]
def k0_mult154 (v3791 : BitVec 32) : BitVec 32 :=
  let c3_i32_1892 : BitVec 32 := 3#32
  let v3792 : BitVec 32 := Scalar.shrsi v3791 c3_i32_1892
  let c3_i32_1893 : BitVec 32 := 3#32
  let v3793 : BitVec 32 := Scalar.shli v3792 c3_i32_1893
  v3793

def k0_off179 (v3791 : BitVec 32) : Fin 2 → Nat :=
  let c3_i32_1892 : BitVec 32 := 3#32
  let v3792 : BitVec 32 := Scalar.shrsi v3791 c3_i32_1892
  let c3_i32_1893 : BitVec 32 := 3#32
  let v3793 : BitVec 32 := Scalar.shli v3792 c3_i32_1893
  let v3794 : BitVec 32 := v3793
  let v3795 : Index := Scalar.indexCast v3794
  let c0_1894 : Index := 0#32
  ![v3795.toNat, 0]

def k0_chk153 (v3791 : BitVec 32) : Prop :=
  (8 ∣ (k0_mult154 v3791).toNat) ∧
  (∀ a, (k0_off179 v3791) a + S8x128.size a ≤ S20016x128.size a)
theorem k0_mult154_dvd : ∀ (v3791 : BitVec 32) (k0_hw153 : k0_chk153 v3791), 8 ∣ (k0_mult154 v3791).toNat := fun v3791 k0_hw153 => k0_hw153.1
theorem k0_off179_inb : ∀ (v3791 : BitVec 32) (k0_hw153 : k0_chk153 v3791), ∀ a, (k0_off179 v3791) a + S8x128.size a ≤ S20016x128.size a := fun v3791 k0_hw153 => k0_hw153.2

def k0_off180 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c25_i32 : BitVec 32 := 25#32
  let v3813 : BitVec 32 := Scalar.addi v3212 c25_i32
  let v3814 : Index := Scalar.indexCast v3813
  ![v3814.toNat]
def k0_mult155 (v3815 : BitVec 32) : BitVec 32 :=
  let c3_i32_1903 : BitVec 32 := 3#32
  let v3816 : BitVec 32 := Scalar.shrsi v3815 c3_i32_1903
  let c3_i32_1904 : BitVec 32 := 3#32
  let v3817 : BitVec 32 := Scalar.shli v3816 c3_i32_1904
  v3817

def k0_off181 (v3815 : BitVec 32) : Fin 2 → Nat :=
  let c3_i32_1903 : BitVec 32 := 3#32
  let v3816 : BitVec 32 := Scalar.shrsi v3815 c3_i32_1903
  let c3_i32_1904 : BitVec 32 := 3#32
  let v3817 : BitVec 32 := Scalar.shli v3816 c3_i32_1904
  let v3818 : BitVec 32 := v3817
  let v3819 : Index := Scalar.indexCast v3818
  let c0_1905 : Index := 0#32
  ![v3819.toNat, 0]

def k0_chk154 (v3815 : BitVec 32) : Prop :=
  (8 ∣ (k0_mult155 v3815).toNat) ∧
  (∀ a, (k0_off181 v3815) a + S8x128.size a ≤ S20016x128.size a)
theorem k0_mult155_dvd : ∀ (v3815 : BitVec 32) (k0_hw154 : k0_chk154 v3815), 8 ∣ (k0_mult155 v3815).toNat := fun v3815 k0_hw154 => k0_hw154.1
theorem k0_off181_inb : ∀ (v3815 : BitVec 32) (k0_hw154 : k0_chk154 v3815), ∀ a, (k0_off181 v3815) a + S8x128.size a ≤ S20016x128.size a := fun v3815 k0_hw154 => k0_hw154.2

def k0_off182 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c26_i32 : BitVec 32 := 26#32
  let v3837 : BitVec 32 := Scalar.addi v3212 c26_i32
  let v3838 : Index := Scalar.indexCast v3837
  ![v3838.toNat]
def k0_mult156 (v3839 : BitVec 32) : BitVec 32 :=
  let c3_i32_1914 : BitVec 32 := 3#32
  let v3840 : BitVec 32 := Scalar.shrsi v3839 c3_i32_1914
  let c3_i32_1915 : BitVec 32 := 3#32
  let v3841 : BitVec 32 := Scalar.shli v3840 c3_i32_1915
  v3841

def k0_off183 (v3839 : BitVec 32) : Fin 2 → Nat :=
  let c3_i32_1914 : BitVec 32 := 3#32
  let v3840 : BitVec 32 := Scalar.shrsi v3839 c3_i32_1914
  let c3_i32_1915 : BitVec 32 := 3#32
  let v3841 : BitVec 32 := Scalar.shli v3840 c3_i32_1915
  let v3842 : BitVec 32 := v3841
  let v3843 : Index := Scalar.indexCast v3842
  let c0_1916 : Index := 0#32
  ![v3843.toNat, 0]

def k0_chk155 (v3839 : BitVec 32) : Prop :=
  (8 ∣ (k0_mult156 v3839).toNat) ∧
  (∀ a, (k0_off183 v3839) a + S8x128.size a ≤ S20016x128.size a)
theorem k0_mult156_dvd : ∀ (v3839 : BitVec 32) (k0_hw155 : k0_chk155 v3839), 8 ∣ (k0_mult156 v3839).toNat := fun v3839 k0_hw155 => k0_hw155.1
theorem k0_off183_inb : ∀ (v3839 : BitVec 32) (k0_hw155 : k0_chk155 v3839), ∀ a, (k0_off183 v3839) a + S8x128.size a ≤ S20016x128.size a := fun v3839 k0_hw155 => k0_hw155.2

def k0_off184 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c27_i32 : BitVec 32 := 27#32
  let v3861 : BitVec 32 := Scalar.addi v3212 c27_i32
  let v3862 : Index := Scalar.indexCast v3861
  ![v3862.toNat]
def k0_mult157 (v3863 : BitVec 32) : BitVec 32 :=
  let c3_i32_1925 : BitVec 32 := 3#32
  let v3864 : BitVec 32 := Scalar.shrsi v3863 c3_i32_1925
  let c3_i32_1926 : BitVec 32 := 3#32
  let v3865 : BitVec 32 := Scalar.shli v3864 c3_i32_1926
  v3865

def k0_off185 (v3863 : BitVec 32) : Fin 2 → Nat :=
  let c3_i32_1925 : BitVec 32 := 3#32
  let v3864 : BitVec 32 := Scalar.shrsi v3863 c3_i32_1925
  let c3_i32_1926 : BitVec 32 := 3#32
  let v3865 : BitVec 32 := Scalar.shli v3864 c3_i32_1926
  let v3866 : BitVec 32 := v3865
  let v3867 : Index := Scalar.indexCast v3866
  let c0_1927 : Index := 0#32
  ![v3867.toNat, 0]

def k0_chk156 (v3863 : BitVec 32) : Prop :=
  (8 ∣ (k0_mult157 v3863).toNat) ∧
  (∀ a, (k0_off185 v3863) a + S8x128.size a ≤ S20016x128.size a)
theorem k0_mult157_dvd : ∀ (v3863 : BitVec 32) (k0_hw156 : k0_chk156 v3863), 8 ∣ (k0_mult157 v3863).toNat := fun v3863 k0_hw156 => k0_hw156.1
theorem k0_off185_inb : ∀ (v3863 : BitVec 32) (k0_hw156 : k0_chk156 v3863), ∀ a, (k0_off185 v3863) a + S8x128.size a ≤ S20016x128.size a := fun v3863 k0_hw156 => k0_hw156.2

def k0_off186 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c28_i32 : BitVec 32 := 28#32
  let v3885 : BitVec 32 := Scalar.addi v3212 c28_i32
  let v3886 : Index := Scalar.indexCast v3885
  ![v3886.toNat]
def k0_mult158 (v3887 : BitVec 32) : BitVec 32 :=
  let c3_i32_1936 : BitVec 32 := 3#32
  let v3888 : BitVec 32 := Scalar.shrsi v3887 c3_i32_1936
  let c3_i32_1937 : BitVec 32 := 3#32
  let v3889 : BitVec 32 := Scalar.shli v3888 c3_i32_1937
  v3889

def k0_off187 (v3887 : BitVec 32) : Fin 2 → Nat :=
  let c3_i32_1936 : BitVec 32 := 3#32
  let v3888 : BitVec 32 := Scalar.shrsi v3887 c3_i32_1936
  let c3_i32_1937 : BitVec 32 := 3#32
  let v3889 : BitVec 32 := Scalar.shli v3888 c3_i32_1937
  let v3890 : BitVec 32 := v3889
  let v3891 : Index := Scalar.indexCast v3890
  let c0_1938 : Index := 0#32
  ![v3891.toNat, 0]

def k0_chk157 (v3887 : BitVec 32) : Prop :=
  (8 ∣ (k0_mult158 v3887).toNat) ∧
  (∀ a, (k0_off187 v3887) a + S8x128.size a ≤ S20016x128.size a)
theorem k0_mult158_dvd : ∀ (v3887 : BitVec 32) (k0_hw157 : k0_chk157 v3887), 8 ∣ (k0_mult158 v3887).toNat := fun v3887 k0_hw157 => k0_hw157.1
theorem k0_off187_inb : ∀ (v3887 : BitVec 32) (k0_hw157 : k0_chk157 v3887), ∀ a, (k0_off187 v3887) a + S8x128.size a ≤ S20016x128.size a := fun v3887 k0_hw157 => k0_hw157.2

def k0_off188 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c29_i32 : BitVec 32 := 29#32
  let v3909 : BitVec 32 := Scalar.addi v3212 c29_i32
  let v3910 : Index := Scalar.indexCast v3909
  ![v3910.toNat]
def k0_mult159 (v3911 : BitVec 32) : BitVec 32 :=
  let c3_i32_1947 : BitVec 32 := 3#32
  let v3912 : BitVec 32 := Scalar.shrsi v3911 c3_i32_1947
  let c3_i32_1948 : BitVec 32 := 3#32
  let v3913 : BitVec 32 := Scalar.shli v3912 c3_i32_1948
  v3913

def k0_off189 (v3911 : BitVec 32) : Fin 2 → Nat :=
  let c3_i32_1947 : BitVec 32 := 3#32
  let v3912 : BitVec 32 := Scalar.shrsi v3911 c3_i32_1947
  let c3_i32_1948 : BitVec 32 := 3#32
  let v3913 : BitVec 32 := Scalar.shli v3912 c3_i32_1948
  let v3914 : BitVec 32 := v3913
  let v3915 : Index := Scalar.indexCast v3914
  let c0_1949 : Index := 0#32
  ![v3915.toNat, 0]

def k0_chk158 (v3911 : BitVec 32) : Prop :=
  (8 ∣ (k0_mult159 v3911).toNat) ∧
  (∀ a, (k0_off189 v3911) a + S8x128.size a ≤ S20016x128.size a)
theorem k0_mult159_dvd : ∀ (v3911 : BitVec 32) (k0_hw158 : k0_chk158 v3911), 8 ∣ (k0_mult159 v3911).toNat := fun v3911 k0_hw158 => k0_hw158.1
theorem k0_off189_inb : ∀ (v3911 : BitVec 32) (k0_hw158 : k0_chk158 v3911), ∀ a, (k0_off189 v3911) a + S8x128.size a ≤ S20016x128.size a := fun v3911 k0_hw158 => k0_hw158.2

def k0_off190 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c30_i32 : BitVec 32 := 30#32
  let v3933 : BitVec 32 := Scalar.addi v3212 c30_i32
  let v3934 : Index := Scalar.indexCast v3933
  ![v3934.toNat]
def k0_mult160 (v3935 : BitVec 32) : BitVec 32 :=
  let c3_i32_1958 : BitVec 32 := 3#32
  let v3936 : BitVec 32 := Scalar.shrsi v3935 c3_i32_1958
  let c3_i32_1959 : BitVec 32 := 3#32
  let v3937 : BitVec 32 := Scalar.shli v3936 c3_i32_1959
  v3937

def k0_off191 (v3935 : BitVec 32) : Fin 2 → Nat :=
  let c3_i32_1958 : BitVec 32 := 3#32
  let v3936 : BitVec 32 := Scalar.shrsi v3935 c3_i32_1958
  let c3_i32_1959 : BitVec 32 := 3#32
  let v3937 : BitVec 32 := Scalar.shli v3936 c3_i32_1959
  let v3938 : BitVec 32 := v3937
  let v3939 : Index := Scalar.indexCast v3938
  let c0_1960 : Index := 0#32
  ![v3939.toNat, 0]

def k0_chk159 (v3935 : BitVec 32) : Prop :=
  (8 ∣ (k0_mult160 v3935).toNat) ∧
  (∀ a, (k0_off191 v3935) a + S8x128.size a ≤ S20016x128.size a)
theorem k0_mult160_dvd : ∀ (v3935 : BitVec 32) (k0_hw159 : k0_chk159 v3935), 8 ∣ (k0_mult160 v3935).toNat := fun v3935 k0_hw159 => k0_hw159.1
theorem k0_off191_inb : ∀ (v3935 : BitVec 32) (k0_hw159 : k0_chk159 v3935), ∀ a, (k0_off191 v3935) a + S8x128.size a ≤ S20016x128.size a := fun v3935 k0_hw159 => k0_hw159.2

def k0_off192 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c31_i32 : BitVec 32 := 31#32
  let v3957 : BitVec 32 := Scalar.addi v3212 c31_i32
  let v3958 : Index := Scalar.indexCast v3957
  ![v3958.toNat]
def k0_mult161 (v3959 : BitVec 32) : BitVec 32 :=
  let c3_i32_1969 : BitVec 32 := 3#32
  let v3960 : BitVec 32 := Scalar.shrsi v3959 c3_i32_1969
  let c3_i32_1970 : BitVec 32 := 3#32
  let v3961 : BitVec 32 := Scalar.shli v3960 c3_i32_1970
  v3961

def k0_off193 (v3959 : BitVec 32) : Fin 2 → Nat :=
  let c3_i32_1969 : BitVec 32 := 3#32
  let v3960 : BitVec 32 := Scalar.shrsi v3959 c3_i32_1969
  let c3_i32_1970 : BitVec 32 := 3#32
  let v3961 : BitVec 32 := Scalar.shli v3960 c3_i32_1970
  let v3962 : BitVec 32 := v3961
  let v3963 : Index := Scalar.indexCast v3962
  let c0_1971 : Index := 0#32
  ![v3963.toNat, 0]

def k0_chk160 (v3959 : BitVec 32) : Prop :=
  (8 ∣ (k0_mult161 v3959).toNat) ∧
  (∀ a, (k0_off193 v3959) a + S8x128.size a ≤ S20016x128.size a)
theorem k0_mult161_dvd : ∀ (v3959 : BitVec 32) (k0_hw160 : k0_chk160 v3959), 8 ∣ (k0_mult161 v3959).toNat := fun v3959 k0_hw160 => k0_hw160.1
theorem k0_off193_inb : ∀ (v3959 : BitVec 32) (k0_hw160 : k0_chk160 v3959), ∀ a, (k0_off193 v3959) a + S8x128.size a ≤ S20016x128.size a := fun v3959 k0_hw160 => k0_hw160.2

def k0_off194 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c32_i32 : BitVec 32 := 32#32
  let v3981 : BitVec 32 := Scalar.addi v3212 c32_i32
  let v3982 : Index := Scalar.indexCast v3981
  ![v3982.toNat]
def k0_mult162 (v3983 : BitVec 32) : BitVec 32 :=
  let c3_i32_1980 : BitVec 32 := 3#32
  let v3984 : BitVec 32 := Scalar.shrsi v3983 c3_i32_1980
  let c3_i32_1981 : BitVec 32 := 3#32
  let v3985 : BitVec 32 := Scalar.shli v3984 c3_i32_1981
  v3985

def k0_off195 (v3983 : BitVec 32) : Fin 2 → Nat :=
  let c3_i32_1980 : BitVec 32 := 3#32
  let v3984 : BitVec 32 := Scalar.shrsi v3983 c3_i32_1980
  let c3_i32_1981 : BitVec 32 := 3#32
  let v3985 : BitVec 32 := Scalar.shli v3984 c3_i32_1981
  let v3986 : BitVec 32 := v3985
  let v3987 : Index := Scalar.indexCast v3986
  let c0_1982 : Index := 0#32
  ![v3987.toNat, 0]

def k0_chk161 (v3983 : BitVec 32) : Prop :=
  (8 ∣ (k0_mult162 v3983).toNat) ∧
  (∀ a, (k0_off195 v3983) a + S8x128.size a ≤ S20016x128.size a)
theorem k0_mult162_dvd : ∀ (v3983 : BitVec 32) (k0_hw161 : k0_chk161 v3983), 8 ∣ (k0_mult162 v3983).toNat := fun v3983 k0_hw161 => k0_hw161.1
theorem k0_off195_inb : ∀ (v3983 : BitVec 32) (k0_hw161 : k0_chk161 v3983), ∀ a, (k0_off195 v3983) a + S8x128.size a ≤ S20016x128.size a := fun v3983 k0_hw161 => k0_hw161.2

def k0_off196 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c33_i32 : BitVec 32 := 33#32
  let v4005 : BitVec 32 := Scalar.addi v3212 c33_i32
  let v4006 : Index := Scalar.indexCast v4005
  ![v4006.toNat]
def k0_mult163 (v4007 : BitVec 32) : BitVec 32 :=
  let c3_i32_1991 : BitVec 32 := 3#32
  let v4008 : BitVec 32 := Scalar.shrsi v4007 c3_i32_1991
  let c3_i32_1992 : BitVec 32 := 3#32
  let v4009 : BitVec 32 := Scalar.shli v4008 c3_i32_1992
  v4009

def k0_off197 (v4007 : BitVec 32) : Fin 2 → Nat :=
  let c3_i32_1991 : BitVec 32 := 3#32
  let v4008 : BitVec 32 := Scalar.shrsi v4007 c3_i32_1991
  let c3_i32_1992 : BitVec 32 := 3#32
  let v4009 : BitVec 32 := Scalar.shli v4008 c3_i32_1992
  let v4010 : BitVec 32 := v4009
  let v4011 : Index := Scalar.indexCast v4010
  let c0_1993 : Index := 0#32
  ![v4011.toNat, 0]

def k0_chk162 (v4007 : BitVec 32) : Prop :=
  (8 ∣ (k0_mult163 v4007).toNat) ∧
  (∀ a, (k0_off197 v4007) a + S8x128.size a ≤ S20016x128.size a)
theorem k0_mult163_dvd : ∀ (v4007 : BitVec 32) (k0_hw162 : k0_chk162 v4007), 8 ∣ (k0_mult163 v4007).toNat := fun v4007 k0_hw162 => k0_hw162.1
theorem k0_off197_inb : ∀ (v4007 : BitVec 32) (k0_hw162 : k0_chk162 v4007), ∀ a, (k0_off197 v4007) a + S8x128.size a ≤ S20016x128.size a := fun v4007 k0_hw162 => k0_hw162.2

def k0_off198 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c34_i32 : BitVec 32 := 34#32
  let v4029 : BitVec 32 := Scalar.addi v3212 c34_i32
  let v4030 : Index := Scalar.indexCast v4029
  ![v4030.toNat]
def k0_mult164 (v4031 : BitVec 32) : BitVec 32 :=
  let c3_i32_2002 : BitVec 32 := 3#32
  let v4032 : BitVec 32 := Scalar.shrsi v4031 c3_i32_2002
  let c3_i32_2003 : BitVec 32 := 3#32
  let v4033 : BitVec 32 := Scalar.shli v4032 c3_i32_2003
  v4033

def k0_off199 (v4031 : BitVec 32) : Fin 2 → Nat :=
  let c3_i32_2002 : BitVec 32 := 3#32
  let v4032 : BitVec 32 := Scalar.shrsi v4031 c3_i32_2002
  let c3_i32_2003 : BitVec 32 := 3#32
  let v4033 : BitVec 32 := Scalar.shli v4032 c3_i32_2003
  let v4034 : BitVec 32 := v4033
  let v4035 : Index := Scalar.indexCast v4034
  let c0_2004 : Index := 0#32
  ![v4035.toNat, 0]

def k0_chk163 (v4031 : BitVec 32) : Prop :=
  (8 ∣ (k0_mult164 v4031).toNat) ∧
  (∀ a, (k0_off199 v4031) a + S8x128.size a ≤ S20016x128.size a)
theorem k0_mult164_dvd : ∀ (v4031 : BitVec 32) (k0_hw163 : k0_chk163 v4031), 8 ∣ (k0_mult164 v4031).toNat := fun v4031 k0_hw163 => k0_hw163.1
theorem k0_off199_inb : ∀ (v4031 : BitVec 32) (k0_hw163 : k0_chk163 v4031), ∀ a, (k0_off199 v4031) a + S8x128.size a ≤ S20016x128.size a := fun v4031 k0_hw163 => k0_hw163.2

def k0_off200 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c35_i32 : BitVec 32 := 35#32
  let v4053 : BitVec 32 := Scalar.addi v3212 c35_i32
  let v4054 : Index := Scalar.indexCast v4053
  ![v4054.toNat]
def k0_mult165 (v4055 : BitVec 32) : BitVec 32 :=
  let c3_i32_2013 : BitVec 32 := 3#32
  let v4056 : BitVec 32 := Scalar.shrsi v4055 c3_i32_2013
  let c3_i32_2014 : BitVec 32 := 3#32
  let v4057 : BitVec 32 := Scalar.shli v4056 c3_i32_2014
  v4057

def k0_off201 (v4055 : BitVec 32) : Fin 2 → Nat :=
  let c3_i32_2013 : BitVec 32 := 3#32
  let v4056 : BitVec 32 := Scalar.shrsi v4055 c3_i32_2013
  let c3_i32_2014 : BitVec 32 := 3#32
  let v4057 : BitVec 32 := Scalar.shli v4056 c3_i32_2014
  let v4058 : BitVec 32 := v4057
  let v4059 : Index := Scalar.indexCast v4058
  let c0_2015 : Index := 0#32
  ![v4059.toNat, 0]

def k0_chk164 (v4055 : BitVec 32) : Prop :=
  (8 ∣ (k0_mult165 v4055).toNat) ∧
  (∀ a, (k0_off201 v4055) a + S8x128.size a ≤ S20016x128.size a)
theorem k0_mult165_dvd : ∀ (v4055 : BitVec 32) (k0_hw164 : k0_chk164 v4055), 8 ∣ (k0_mult165 v4055).toNat := fun v4055 k0_hw164 => k0_hw164.1
theorem k0_off201_inb : ∀ (v4055 : BitVec 32) (k0_hw164 : k0_chk164 v4055), ∀ a, (k0_off201 v4055) a + S8x128.size a ≤ S20016x128.size a := fun v4055 k0_hw164 => k0_hw164.2

def k0_off202 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c36_i32 : BitVec 32 := 36#32
  let v4077 : BitVec 32 := Scalar.addi v3212 c36_i32
  let v4078 : Index := Scalar.indexCast v4077
  ![v4078.toNat]
def k0_mult166 (v4079 : BitVec 32) : BitVec 32 :=
  let c3_i32_2024 : BitVec 32 := 3#32
  let v4080 : BitVec 32 := Scalar.shrsi v4079 c3_i32_2024
  let c3_i32_2025 : BitVec 32 := 3#32
  let v4081 : BitVec 32 := Scalar.shli v4080 c3_i32_2025
  v4081

def k0_off203 (v4079 : BitVec 32) : Fin 2 → Nat :=
  let c3_i32_2024 : BitVec 32 := 3#32
  let v4080 : BitVec 32 := Scalar.shrsi v4079 c3_i32_2024
  let c3_i32_2025 : BitVec 32 := 3#32
  let v4081 : BitVec 32 := Scalar.shli v4080 c3_i32_2025
  let v4082 : BitVec 32 := v4081
  let v4083 : Index := Scalar.indexCast v4082
  let c0_2026 : Index := 0#32
  ![v4083.toNat, 0]

def k0_chk165 (v4079 : BitVec 32) : Prop :=
  (8 ∣ (k0_mult166 v4079).toNat) ∧
  (∀ a, (k0_off203 v4079) a + S8x128.size a ≤ S20016x128.size a)
theorem k0_mult166_dvd : ∀ (v4079 : BitVec 32) (k0_hw165 : k0_chk165 v4079), 8 ∣ (k0_mult166 v4079).toNat := fun v4079 k0_hw165 => k0_hw165.1
theorem k0_off203_inb : ∀ (v4079 : BitVec 32) (k0_hw165 : k0_chk165 v4079), ∀ a, (k0_off203 v4079) a + S8x128.size a ≤ S20016x128.size a := fun v4079 k0_hw165 => k0_hw165.2

def k0_off204 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c37_i32 : BitVec 32 := 37#32
  let v4101 : BitVec 32 := Scalar.addi v3212 c37_i32
  let v4102 : Index := Scalar.indexCast v4101
  ![v4102.toNat]
def k0_mult167 (v4103 : BitVec 32) : BitVec 32 :=
  let c3_i32_2035 : BitVec 32 := 3#32
  let v4104 : BitVec 32 := Scalar.shrsi v4103 c3_i32_2035
  let c3_i32_2036 : BitVec 32 := 3#32
  let v4105 : BitVec 32 := Scalar.shli v4104 c3_i32_2036
  v4105

def k0_off205 (v4103 : BitVec 32) : Fin 2 → Nat :=
  let c3_i32_2035 : BitVec 32 := 3#32
  let v4104 : BitVec 32 := Scalar.shrsi v4103 c3_i32_2035
  let c3_i32_2036 : BitVec 32 := 3#32
  let v4105 : BitVec 32 := Scalar.shli v4104 c3_i32_2036
  let v4106 : BitVec 32 := v4105
  let v4107 : Index := Scalar.indexCast v4106
  let c0_2037 : Index := 0#32
  ![v4107.toNat, 0]

def k0_chk166 (v4103 : BitVec 32) : Prop :=
  (8 ∣ (k0_mult167 v4103).toNat) ∧
  (∀ a, (k0_off205 v4103) a + S8x128.size a ≤ S20016x128.size a)
theorem k0_mult167_dvd : ∀ (v4103 : BitVec 32) (k0_hw166 : k0_chk166 v4103), 8 ∣ (k0_mult167 v4103).toNat := fun v4103 k0_hw166 => k0_hw166.1
theorem k0_off205_inb : ∀ (v4103 : BitVec 32) (k0_hw166 : k0_chk166 v4103), ∀ a, (k0_off205 v4103) a + S8x128.size a ≤ S20016x128.size a := fun v4103 k0_hw166 => k0_hw166.2

def k0_off206 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c38_i32 : BitVec 32 := 38#32
  let v4125 : BitVec 32 := Scalar.addi v3212 c38_i32
  let v4126 : Index := Scalar.indexCast v4125
  ![v4126.toNat]
def k0_mult168 (v4127 : BitVec 32) : BitVec 32 :=
  let c3_i32_2046 : BitVec 32 := 3#32
  let v4128 : BitVec 32 := Scalar.shrsi v4127 c3_i32_2046
  let c3_i32_2047 : BitVec 32 := 3#32
  let v4129 : BitVec 32 := Scalar.shli v4128 c3_i32_2047
  v4129

def k0_off207 (v4127 : BitVec 32) : Fin 2 → Nat :=
  let c3_i32_2046 : BitVec 32 := 3#32
  let v4128 : BitVec 32 := Scalar.shrsi v4127 c3_i32_2046
  let c3_i32_2047 : BitVec 32 := 3#32
  let v4129 : BitVec 32 := Scalar.shli v4128 c3_i32_2047
  let v4130 : BitVec 32 := v4129
  let v4131 : Index := Scalar.indexCast v4130
  let c0_2048 : Index := 0#32
  ![v4131.toNat, 0]

def k0_chk167 (v4127 : BitVec 32) : Prop :=
  (8 ∣ (k0_mult168 v4127).toNat) ∧
  (∀ a, (k0_off207 v4127) a + S8x128.size a ≤ S20016x128.size a)
theorem k0_mult168_dvd : ∀ (v4127 : BitVec 32) (k0_hw167 : k0_chk167 v4127), 8 ∣ (k0_mult168 v4127).toNat := fun v4127 k0_hw167 => k0_hw167.1
theorem k0_off207_inb : ∀ (v4127 : BitVec 32) (k0_hw167 : k0_chk167 v4127), ∀ a, (k0_off207 v4127) a + S8x128.size a ≤ S20016x128.size a := fun v4127 k0_hw167 => k0_hw167.2

def k0_off208 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c39_i32 : BitVec 32 := 39#32
  let v4149 : BitVec 32 := Scalar.addi v3212 c39_i32
  let v4150 : Index := Scalar.indexCast v4149
  ![v4150.toNat]
def k0_mult169 (v4151 : BitVec 32) : BitVec 32 :=
  let c3_i32_2057 : BitVec 32 := 3#32
  let v4152 : BitVec 32 := Scalar.shrsi v4151 c3_i32_2057
  let c3_i32_2058 : BitVec 32 := 3#32
  let v4153 : BitVec 32 := Scalar.shli v4152 c3_i32_2058
  v4153

def k0_off209 (v4151 : BitVec 32) : Fin 2 → Nat :=
  let c3_i32_2057 : BitVec 32 := 3#32
  let v4152 : BitVec 32 := Scalar.shrsi v4151 c3_i32_2057
  let c3_i32_2058 : BitVec 32 := 3#32
  let v4153 : BitVec 32 := Scalar.shli v4152 c3_i32_2058
  let v4154 : BitVec 32 := v4153
  let v4155 : Index := Scalar.indexCast v4154
  let c0_2059 : Index := 0#32
  ![v4155.toNat, 0]

def k0_chk168 (v4151 : BitVec 32) : Prop :=
  (8 ∣ (k0_mult169 v4151).toNat) ∧
  (∀ a, (k0_off209 v4151) a + S8x128.size a ≤ S20016x128.size a)
theorem k0_mult169_dvd : ∀ (v4151 : BitVec 32) (k0_hw168 : k0_chk168 v4151), 8 ∣ (k0_mult169 v4151).toNat := fun v4151 k0_hw168 => k0_hw168.1
theorem k0_off209_inb : ∀ (v4151 : BitVec 32) (k0_hw168 : k0_chk168 v4151), ∀ a, (k0_off209 v4151) a + S8x128.size a ≤ S20016x128.size a := fun v4151 k0_hw168 => k0_hw168.2

def k0_off210 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c40_i32 : BitVec 32 := 40#32
  let v4173 : BitVec 32 := Scalar.addi v3212 c40_i32
  let v4174 : Index := Scalar.indexCast v4173
  ![v4174.toNat]
def k0_mult170 (v4175 : BitVec 32) : BitVec 32 :=
  let c3_i32_2068 : BitVec 32 := 3#32
  let v4176 : BitVec 32 := Scalar.shrsi v4175 c3_i32_2068
  let c3_i32_2069 : BitVec 32 := 3#32
  let v4177 : BitVec 32 := Scalar.shli v4176 c3_i32_2069
  v4177

def k0_off211 (v4175 : BitVec 32) : Fin 2 → Nat :=
  let c3_i32_2068 : BitVec 32 := 3#32
  let v4176 : BitVec 32 := Scalar.shrsi v4175 c3_i32_2068
  let c3_i32_2069 : BitVec 32 := 3#32
  let v4177 : BitVec 32 := Scalar.shli v4176 c3_i32_2069
  let v4178 : BitVec 32 := v4177
  let v4179 : Index := Scalar.indexCast v4178
  let c0_2070 : Index := 0#32
  ![v4179.toNat, 0]

def k0_chk169 (v4175 : BitVec 32) : Prop :=
  (8 ∣ (k0_mult170 v4175).toNat) ∧
  (∀ a, (k0_off211 v4175) a + S8x128.size a ≤ S20016x128.size a)
theorem k0_mult170_dvd : ∀ (v4175 : BitVec 32) (k0_hw169 : k0_chk169 v4175), 8 ∣ (k0_mult170 v4175).toNat := fun v4175 k0_hw169 => k0_hw169.1
theorem k0_off211_inb : ∀ (v4175 : BitVec 32) (k0_hw169 : k0_chk169 v4175), ∀ a, (k0_off211 v4175) a + S8x128.size a ≤ S20016x128.size a := fun v4175 k0_hw169 => k0_hw169.2

def k0_off212 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c41_i32 : BitVec 32 := 41#32
  let v4197 : BitVec 32 := Scalar.addi v3212 c41_i32
  let v4198 : Index := Scalar.indexCast v4197
  ![v4198.toNat]
def k0_mult171 (v4199 : BitVec 32) : BitVec 32 :=
  let c3_i32_2079 : BitVec 32 := 3#32
  let v4200 : BitVec 32 := Scalar.shrsi v4199 c3_i32_2079
  let c3_i32_2080 : BitVec 32 := 3#32
  let v4201 : BitVec 32 := Scalar.shli v4200 c3_i32_2080
  v4201

def k0_off213 (v4199 : BitVec 32) : Fin 2 → Nat :=
  let c3_i32_2079 : BitVec 32 := 3#32
  let v4200 : BitVec 32 := Scalar.shrsi v4199 c3_i32_2079
  let c3_i32_2080 : BitVec 32 := 3#32
  let v4201 : BitVec 32 := Scalar.shli v4200 c3_i32_2080
  let v4202 : BitVec 32 := v4201
  let v4203 : Index := Scalar.indexCast v4202
  let c0_2081 : Index := 0#32
  ![v4203.toNat, 0]

def k0_chk170 (v4199 : BitVec 32) : Prop :=
  (8 ∣ (k0_mult171 v4199).toNat) ∧
  (∀ a, (k0_off213 v4199) a + S8x128.size a ≤ S20016x128.size a)
theorem k0_mult171_dvd : ∀ (v4199 : BitVec 32) (k0_hw170 : k0_chk170 v4199), 8 ∣ (k0_mult171 v4199).toNat := fun v4199 k0_hw170 => k0_hw170.1
theorem k0_off213_inb : ∀ (v4199 : BitVec 32) (k0_hw170 : k0_chk170 v4199), ∀ a, (k0_off213 v4199) a + S8x128.size a ≤ S20016x128.size a := fun v4199 k0_hw170 => k0_hw170.2

def k0_off214 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c42_i32 : BitVec 32 := 42#32
  let v4221 : BitVec 32 := Scalar.addi v3212 c42_i32
  let v4222 : Index := Scalar.indexCast v4221
  ![v4222.toNat]
def k0_mult172 (v4223 : BitVec 32) : BitVec 32 :=
  let c3_i32_2090 : BitVec 32 := 3#32
  let v4224 : BitVec 32 := Scalar.shrsi v4223 c3_i32_2090
  let c3_i32_2091 : BitVec 32 := 3#32
  let v4225 : BitVec 32 := Scalar.shli v4224 c3_i32_2091
  v4225

def k0_off215 (v4223 : BitVec 32) : Fin 2 → Nat :=
  let c3_i32_2090 : BitVec 32 := 3#32
  let v4224 : BitVec 32 := Scalar.shrsi v4223 c3_i32_2090
  let c3_i32_2091 : BitVec 32 := 3#32
  let v4225 : BitVec 32 := Scalar.shli v4224 c3_i32_2091
  let v4226 : BitVec 32 := v4225
  let v4227 : Index := Scalar.indexCast v4226
  let c0_2092 : Index := 0#32
  ![v4227.toNat, 0]

def k0_chk171 (v4223 : BitVec 32) : Prop :=
  (8 ∣ (k0_mult172 v4223).toNat) ∧
  (∀ a, (k0_off215 v4223) a + S8x128.size a ≤ S20016x128.size a)
theorem k0_mult172_dvd : ∀ (v4223 : BitVec 32) (k0_hw171 : k0_chk171 v4223), 8 ∣ (k0_mult172 v4223).toNat := fun v4223 k0_hw171 => k0_hw171.1
theorem k0_off215_inb : ∀ (v4223 : BitVec 32) (k0_hw171 : k0_chk171 v4223), ∀ a, (k0_off215 v4223) a + S8x128.size a ≤ S20016x128.size a := fun v4223 k0_hw171 => k0_hw171.2

def k0_off216 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c43_i32 : BitVec 32 := 43#32
  let v4245 : BitVec 32 := Scalar.addi v3212 c43_i32
  let v4246 : Index := Scalar.indexCast v4245
  ![v4246.toNat]
def k0_mult173 (v4247 : BitVec 32) : BitVec 32 :=
  let c3_i32_2101 : BitVec 32 := 3#32
  let v4248 : BitVec 32 := Scalar.shrsi v4247 c3_i32_2101
  let c3_i32_2102 : BitVec 32 := 3#32
  let v4249 : BitVec 32 := Scalar.shli v4248 c3_i32_2102
  v4249

def k0_off217 (v4247 : BitVec 32) : Fin 2 → Nat :=
  let c3_i32_2101 : BitVec 32 := 3#32
  let v4248 : BitVec 32 := Scalar.shrsi v4247 c3_i32_2101
  let c3_i32_2102 : BitVec 32 := 3#32
  let v4249 : BitVec 32 := Scalar.shli v4248 c3_i32_2102
  let v4250 : BitVec 32 := v4249
  let v4251 : Index := Scalar.indexCast v4250
  let c0_2103 : Index := 0#32
  ![v4251.toNat, 0]

def k0_chk172 (v4247 : BitVec 32) : Prop :=
  (8 ∣ (k0_mult173 v4247).toNat) ∧
  (∀ a, (k0_off217 v4247) a + S8x128.size a ≤ S20016x128.size a)
theorem k0_mult173_dvd : ∀ (v4247 : BitVec 32) (k0_hw172 : k0_chk172 v4247), 8 ∣ (k0_mult173 v4247).toNat := fun v4247 k0_hw172 => k0_hw172.1
theorem k0_off217_inb : ∀ (v4247 : BitVec 32) (k0_hw172 : k0_chk172 v4247), ∀ a, (k0_off217 v4247) a + S8x128.size a ≤ S20016x128.size a := fun v4247 k0_hw172 => k0_hw172.2

def k0_off218 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c44_i32 : BitVec 32 := 44#32
  let v4269 : BitVec 32 := Scalar.addi v3212 c44_i32
  let v4270 : Index := Scalar.indexCast v4269
  ![v4270.toNat]
def k0_mult174 (v4271 : BitVec 32) : BitVec 32 :=
  let c3_i32_2112 : BitVec 32 := 3#32
  let v4272 : BitVec 32 := Scalar.shrsi v4271 c3_i32_2112
  let c3_i32_2113 : BitVec 32 := 3#32
  let v4273 : BitVec 32 := Scalar.shli v4272 c3_i32_2113
  v4273

def k0_off219 (v4271 : BitVec 32) : Fin 2 → Nat :=
  let c3_i32_2112 : BitVec 32 := 3#32
  let v4272 : BitVec 32 := Scalar.shrsi v4271 c3_i32_2112
  let c3_i32_2113 : BitVec 32 := 3#32
  let v4273 : BitVec 32 := Scalar.shli v4272 c3_i32_2113
  let v4274 : BitVec 32 := v4273
  let v4275 : Index := Scalar.indexCast v4274
  let c0_2114 : Index := 0#32
  ![v4275.toNat, 0]

def k0_chk173 (v4271 : BitVec 32) : Prop :=
  (8 ∣ (k0_mult174 v4271).toNat) ∧
  (∀ a, (k0_off219 v4271) a + S8x128.size a ≤ S20016x128.size a)
theorem k0_mult174_dvd : ∀ (v4271 : BitVec 32) (k0_hw173 : k0_chk173 v4271), 8 ∣ (k0_mult174 v4271).toNat := fun v4271 k0_hw173 => k0_hw173.1
theorem k0_off219_inb : ∀ (v4271 : BitVec 32) (k0_hw173 : k0_chk173 v4271), ∀ a, (k0_off219 v4271) a + S8x128.size a ≤ S20016x128.size a := fun v4271 k0_hw173 => k0_hw173.2

def k0_off220 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c45_i32 : BitVec 32 := 45#32
  let v4293 : BitVec 32 := Scalar.addi v3212 c45_i32
  let v4294 : Index := Scalar.indexCast v4293
  ![v4294.toNat]
def k0_mult175 (v4295 : BitVec 32) : BitVec 32 :=
  let c3_i32_2123 : BitVec 32 := 3#32
  let v4296 : BitVec 32 := Scalar.shrsi v4295 c3_i32_2123
  let c3_i32_2124 : BitVec 32 := 3#32
  let v4297 : BitVec 32 := Scalar.shli v4296 c3_i32_2124
  v4297

def k0_off221 (v4295 : BitVec 32) : Fin 2 → Nat :=
  let c3_i32_2123 : BitVec 32 := 3#32
  let v4296 : BitVec 32 := Scalar.shrsi v4295 c3_i32_2123
  let c3_i32_2124 : BitVec 32 := 3#32
  let v4297 : BitVec 32 := Scalar.shli v4296 c3_i32_2124
  let v4298 : BitVec 32 := v4297
  let v4299 : Index := Scalar.indexCast v4298
  let c0_2125 : Index := 0#32
  ![v4299.toNat, 0]

def k0_chk174 (v4295 : BitVec 32) : Prop :=
  (8 ∣ (k0_mult175 v4295).toNat) ∧
  (∀ a, (k0_off221 v4295) a + S8x128.size a ≤ S20016x128.size a)
theorem k0_mult175_dvd : ∀ (v4295 : BitVec 32) (k0_hw174 : k0_chk174 v4295), 8 ∣ (k0_mult175 v4295).toNat := fun v4295 k0_hw174 => k0_hw174.1
theorem k0_off221_inb : ∀ (v4295 : BitVec 32) (k0_hw174 : k0_chk174 v4295), ∀ a, (k0_off221 v4295) a + S8x128.size a ≤ S20016x128.size a := fun v4295 k0_hw174 => k0_hw174.2

def k0_off222 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c46_i32 : BitVec 32 := 46#32
  let v4317 : BitVec 32 := Scalar.addi v3212 c46_i32
  let v4318 : Index := Scalar.indexCast v4317
  ![v4318.toNat]
def k0_mult176 (v4319 : BitVec 32) : BitVec 32 :=
  let c3_i32_2134 : BitVec 32 := 3#32
  let v4320 : BitVec 32 := Scalar.shrsi v4319 c3_i32_2134
  let c3_i32_2135 : BitVec 32 := 3#32
  let v4321 : BitVec 32 := Scalar.shli v4320 c3_i32_2135
  v4321

def k0_off223 (v4319 : BitVec 32) : Fin 2 → Nat :=
  let c3_i32_2134 : BitVec 32 := 3#32
  let v4320 : BitVec 32 := Scalar.shrsi v4319 c3_i32_2134
  let c3_i32_2135 : BitVec 32 := 3#32
  let v4321 : BitVec 32 := Scalar.shli v4320 c3_i32_2135
  let v4322 : BitVec 32 := v4321
  let v4323 : Index := Scalar.indexCast v4322
  let c0_2136 : Index := 0#32
  ![v4323.toNat, 0]

def k0_chk175 (v4319 : BitVec 32) : Prop :=
  (8 ∣ (k0_mult176 v4319).toNat) ∧
  (∀ a, (k0_off223 v4319) a + S8x128.size a ≤ S20016x128.size a)
theorem k0_mult176_dvd : ∀ (v4319 : BitVec 32) (k0_hw175 : k0_chk175 v4319), 8 ∣ (k0_mult176 v4319).toNat := fun v4319 k0_hw175 => k0_hw175.1
theorem k0_off223_inb : ∀ (v4319 : BitVec 32) (k0_hw175 : k0_chk175 v4319), ∀ a, (k0_off223 v4319) a + S8x128.size a ≤ S20016x128.size a := fun v4319 k0_hw175 => k0_hw175.2

def k0_off224 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c47_i32 : BitVec 32 := 47#32
  let v4341 : BitVec 32 := Scalar.addi v3212 c47_i32
  let v4342 : Index := Scalar.indexCast v4341
  ![v4342.toNat]
def k0_mult177 (v4343 : BitVec 32) : BitVec 32 :=
  let c3_i32_2145 : BitVec 32 := 3#32
  let v4344 : BitVec 32 := Scalar.shrsi v4343 c3_i32_2145
  let c3_i32_2146 : BitVec 32 := 3#32
  let v4345 : BitVec 32 := Scalar.shli v4344 c3_i32_2146
  v4345

def k0_off225 (v4343 : BitVec 32) : Fin 2 → Nat :=
  let c3_i32_2145 : BitVec 32 := 3#32
  let v4344 : BitVec 32 := Scalar.shrsi v4343 c3_i32_2145
  let c3_i32_2146 : BitVec 32 := 3#32
  let v4345 : BitVec 32 := Scalar.shli v4344 c3_i32_2146
  let v4346 : BitVec 32 := v4345
  let v4347 : Index := Scalar.indexCast v4346
  let c0_2147 : Index := 0#32
  ![v4347.toNat, 0]

def k0_chk176 (v4343 : BitVec 32) : Prop :=
  (8 ∣ (k0_mult177 v4343).toNat) ∧
  (∀ a, (k0_off225 v4343) a + S8x128.size a ≤ S20016x128.size a)
theorem k0_mult177_dvd : ∀ (v4343 : BitVec 32) (k0_hw176 : k0_chk176 v4343), 8 ∣ (k0_mult177 v4343).toNat := fun v4343 k0_hw176 => k0_hw176.1
theorem k0_off225_inb : ∀ (v4343 : BitVec 32) (k0_hw176 : k0_chk176 v4343), ∀ a, (k0_off225 v4343) a + S8x128.size a ≤ S20016x128.size a := fun v4343 k0_hw176 => k0_hw176.2

def k0_off226 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c48_i32 : BitVec 32 := 48#32
  let v4365 : BitVec 32 := Scalar.addi v3212 c48_i32
  let v4366 : Index := Scalar.indexCast v4365
  ![v4366.toNat]
def k0_mult178 (v4367 : BitVec 32) : BitVec 32 :=
  let c3_i32_2156 : BitVec 32 := 3#32
  let v4368 : BitVec 32 := Scalar.shrsi v4367 c3_i32_2156
  let c3_i32_2157 : BitVec 32 := 3#32
  let v4369 : BitVec 32 := Scalar.shli v4368 c3_i32_2157
  v4369

def k0_off227 (v4367 : BitVec 32) : Fin 2 → Nat :=
  let c3_i32_2156 : BitVec 32 := 3#32
  let v4368 : BitVec 32 := Scalar.shrsi v4367 c3_i32_2156
  let c3_i32_2157 : BitVec 32 := 3#32
  let v4369 : BitVec 32 := Scalar.shli v4368 c3_i32_2157
  let v4370 : BitVec 32 := v4369
  let v4371 : Index := Scalar.indexCast v4370
  let c0_2158 : Index := 0#32
  ![v4371.toNat, 0]

def k0_chk177 (v4367 : BitVec 32) : Prop :=
  (8 ∣ (k0_mult178 v4367).toNat) ∧
  (∀ a, (k0_off227 v4367) a + S8x128.size a ≤ S20016x128.size a)
theorem k0_mult178_dvd : ∀ (v4367 : BitVec 32) (k0_hw177 : k0_chk177 v4367), 8 ∣ (k0_mult178 v4367).toNat := fun v4367 k0_hw177 => k0_hw177.1
theorem k0_off227_inb : ∀ (v4367 : BitVec 32) (k0_hw177 : k0_chk177 v4367), ∀ a, (k0_off227 v4367) a + S8x128.size a ≤ S20016x128.size a := fun v4367 k0_hw177 => k0_hw177.2

def k0_off228 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c49_i32 : BitVec 32 := 49#32
  let v4389 : BitVec 32 := Scalar.addi v3212 c49_i32
  let v4390 : Index := Scalar.indexCast v4389
  ![v4390.toNat]
def k0_mult179 (v4391 : BitVec 32) : BitVec 32 :=
  let c3_i32_2167 : BitVec 32 := 3#32
  let v4392 : BitVec 32 := Scalar.shrsi v4391 c3_i32_2167
  let c3_i32_2168 : BitVec 32 := 3#32
  let v4393 : BitVec 32 := Scalar.shli v4392 c3_i32_2168
  v4393

def k0_off229 (v4391 : BitVec 32) : Fin 2 → Nat :=
  let c3_i32_2167 : BitVec 32 := 3#32
  let v4392 : BitVec 32 := Scalar.shrsi v4391 c3_i32_2167
  let c3_i32_2168 : BitVec 32 := 3#32
  let v4393 : BitVec 32 := Scalar.shli v4392 c3_i32_2168
  let v4394 : BitVec 32 := v4393
  let v4395 : Index := Scalar.indexCast v4394
  let c0_2169 : Index := 0#32
  ![v4395.toNat, 0]

def k0_chk178 (v4391 : BitVec 32) : Prop :=
  (8 ∣ (k0_mult179 v4391).toNat) ∧
  (∀ a, (k0_off229 v4391) a + S8x128.size a ≤ S20016x128.size a)
theorem k0_mult179_dvd : ∀ (v4391 : BitVec 32) (k0_hw178 : k0_chk178 v4391), 8 ∣ (k0_mult179 v4391).toNat := fun v4391 k0_hw178 => k0_hw178.1
theorem k0_off229_inb : ∀ (v4391 : BitVec 32) (k0_hw178 : k0_chk178 v4391), ∀ a, (k0_off229 v4391) a + S8x128.size a ≤ S20016x128.size a := fun v4391 k0_hw178 => k0_hw178.2

def k0_off230 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c50_i32 : BitVec 32 := 50#32
  let v4413 : BitVec 32 := Scalar.addi v3212 c50_i32
  let v4414 : Index := Scalar.indexCast v4413
  ![v4414.toNat]
def k0_mult180 (v4415 : BitVec 32) : BitVec 32 :=
  let c3_i32_2178 : BitVec 32 := 3#32
  let v4416 : BitVec 32 := Scalar.shrsi v4415 c3_i32_2178
  let c3_i32_2179 : BitVec 32 := 3#32
  let v4417 : BitVec 32 := Scalar.shli v4416 c3_i32_2179
  v4417

def k0_off231 (v4415 : BitVec 32) : Fin 2 → Nat :=
  let c3_i32_2178 : BitVec 32 := 3#32
  let v4416 : BitVec 32 := Scalar.shrsi v4415 c3_i32_2178
  let c3_i32_2179 : BitVec 32 := 3#32
  let v4417 : BitVec 32 := Scalar.shli v4416 c3_i32_2179
  let v4418 : BitVec 32 := v4417
  let v4419 : Index := Scalar.indexCast v4418
  let c0_2180 : Index := 0#32
  ![v4419.toNat, 0]

def k0_chk179 (v4415 : BitVec 32) : Prop :=
  (8 ∣ (k0_mult180 v4415).toNat) ∧
  (∀ a, (k0_off231 v4415) a + S8x128.size a ≤ S20016x128.size a)
theorem k0_mult180_dvd : ∀ (v4415 : BitVec 32) (k0_hw179 : k0_chk179 v4415), 8 ∣ (k0_mult180 v4415).toNat := fun v4415 k0_hw179 => k0_hw179.1
theorem k0_off231_inb : ∀ (v4415 : BitVec 32) (k0_hw179 : k0_chk179 v4415), ∀ a, (k0_off231 v4415) a + S8x128.size a ≤ S20016x128.size a := fun v4415 k0_hw179 => k0_hw179.2

def k0_off232 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c51_i32 : BitVec 32 := 51#32
  let v4437 : BitVec 32 := Scalar.addi v3212 c51_i32
  let v4438 : Index := Scalar.indexCast v4437
  ![v4438.toNat]
def k0_mult181 (v4439 : BitVec 32) : BitVec 32 :=
  let c3_i32_2189 : BitVec 32 := 3#32
  let v4440 : BitVec 32 := Scalar.shrsi v4439 c3_i32_2189
  let c3_i32_2190 : BitVec 32 := 3#32
  let v4441 : BitVec 32 := Scalar.shli v4440 c3_i32_2190
  v4441

def k0_off233 (v4439 : BitVec 32) : Fin 2 → Nat :=
  let c3_i32_2189 : BitVec 32 := 3#32
  let v4440 : BitVec 32 := Scalar.shrsi v4439 c3_i32_2189
  let c3_i32_2190 : BitVec 32 := 3#32
  let v4441 : BitVec 32 := Scalar.shli v4440 c3_i32_2190
  let v4442 : BitVec 32 := v4441
  let v4443 : Index := Scalar.indexCast v4442
  let c0_2191 : Index := 0#32
  ![v4443.toNat, 0]

def k0_chk180 (v4439 : BitVec 32) : Prop :=
  (8 ∣ (k0_mult181 v4439).toNat) ∧
  (∀ a, (k0_off233 v4439) a + S8x128.size a ≤ S20016x128.size a)
theorem k0_mult181_dvd : ∀ (v4439 : BitVec 32) (k0_hw180 : k0_chk180 v4439), 8 ∣ (k0_mult181 v4439).toNat := fun v4439 k0_hw180 => k0_hw180.1
theorem k0_off233_inb : ∀ (v4439 : BitVec 32) (k0_hw180 : k0_chk180 v4439), ∀ a, (k0_off233 v4439) a + S8x128.size a ≤ S20016x128.size a := fun v4439 k0_hw180 => k0_hw180.2

def k0_off234 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c52_i32 : BitVec 32 := 52#32
  let v4461 : BitVec 32 := Scalar.addi v3212 c52_i32
  let v4462 : Index := Scalar.indexCast v4461
  ![v4462.toNat]
def k0_mult182 (v4463 : BitVec 32) : BitVec 32 :=
  let c3_i32_2200 : BitVec 32 := 3#32
  let v4464 : BitVec 32 := Scalar.shrsi v4463 c3_i32_2200
  let c3_i32_2201 : BitVec 32 := 3#32
  let v4465 : BitVec 32 := Scalar.shli v4464 c3_i32_2201
  v4465

def k0_off235 (v4463 : BitVec 32) : Fin 2 → Nat :=
  let c3_i32_2200 : BitVec 32 := 3#32
  let v4464 : BitVec 32 := Scalar.shrsi v4463 c3_i32_2200
  let c3_i32_2201 : BitVec 32 := 3#32
  let v4465 : BitVec 32 := Scalar.shli v4464 c3_i32_2201
  let v4466 : BitVec 32 := v4465
  let v4467 : Index := Scalar.indexCast v4466
  let c0_2202 : Index := 0#32
  ![v4467.toNat, 0]

def k0_chk181 (v4463 : BitVec 32) : Prop :=
  (8 ∣ (k0_mult182 v4463).toNat) ∧
  (∀ a, (k0_off235 v4463) a + S8x128.size a ≤ S20016x128.size a)
theorem k0_mult182_dvd : ∀ (v4463 : BitVec 32) (k0_hw181 : k0_chk181 v4463), 8 ∣ (k0_mult182 v4463).toNat := fun v4463 k0_hw181 => k0_hw181.1
theorem k0_off235_inb : ∀ (v4463 : BitVec 32) (k0_hw181 : k0_chk181 v4463), ∀ a, (k0_off235 v4463) a + S8x128.size a ≤ S20016x128.size a := fun v4463 k0_hw181 => k0_hw181.2

def k0_off236 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c53_i32 : BitVec 32 := 53#32
  let v4485 : BitVec 32 := Scalar.addi v3212 c53_i32
  let v4486 : Index := Scalar.indexCast v4485
  ![v4486.toNat]
def k0_mult183 (v4487 : BitVec 32) : BitVec 32 :=
  let c3_i32_2211 : BitVec 32 := 3#32
  let v4488 : BitVec 32 := Scalar.shrsi v4487 c3_i32_2211
  let c3_i32_2212 : BitVec 32 := 3#32
  let v4489 : BitVec 32 := Scalar.shli v4488 c3_i32_2212
  v4489

def k0_off237 (v4487 : BitVec 32) : Fin 2 → Nat :=
  let c3_i32_2211 : BitVec 32 := 3#32
  let v4488 : BitVec 32 := Scalar.shrsi v4487 c3_i32_2211
  let c3_i32_2212 : BitVec 32 := 3#32
  let v4489 : BitVec 32 := Scalar.shli v4488 c3_i32_2212
  let v4490 : BitVec 32 := v4489
  let v4491 : Index := Scalar.indexCast v4490
  let c0_2213 : Index := 0#32
  ![v4491.toNat, 0]

def k0_chk182 (v4487 : BitVec 32) : Prop :=
  (8 ∣ (k0_mult183 v4487).toNat) ∧
  (∀ a, (k0_off237 v4487) a + S8x128.size a ≤ S20016x128.size a)
theorem k0_mult183_dvd : ∀ (v4487 : BitVec 32) (k0_hw182 : k0_chk182 v4487), 8 ∣ (k0_mult183 v4487).toNat := fun v4487 k0_hw182 => k0_hw182.1
theorem k0_off237_inb : ∀ (v4487 : BitVec 32) (k0_hw182 : k0_chk182 v4487), ∀ a, (k0_off237 v4487) a + S8x128.size a ≤ S20016x128.size a := fun v4487 k0_hw182 => k0_hw182.2

def k0_off238 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c54_i32 : BitVec 32 := 54#32
  let v4509 : BitVec 32 := Scalar.addi v3212 c54_i32
  let v4510 : Index := Scalar.indexCast v4509
  ![v4510.toNat]
def k0_mult184 (v4511 : BitVec 32) : BitVec 32 :=
  let c3_i32_2222 : BitVec 32 := 3#32
  let v4512 : BitVec 32 := Scalar.shrsi v4511 c3_i32_2222
  let c3_i32_2223 : BitVec 32 := 3#32
  let v4513 : BitVec 32 := Scalar.shli v4512 c3_i32_2223
  v4513

def k0_off239 (v4511 : BitVec 32) : Fin 2 → Nat :=
  let c3_i32_2222 : BitVec 32 := 3#32
  let v4512 : BitVec 32 := Scalar.shrsi v4511 c3_i32_2222
  let c3_i32_2223 : BitVec 32 := 3#32
  let v4513 : BitVec 32 := Scalar.shli v4512 c3_i32_2223
  let v4514 : BitVec 32 := v4513
  let v4515 : Index := Scalar.indexCast v4514
  let c0_2224 : Index := 0#32
  ![v4515.toNat, 0]

def k0_chk183 (v4511 : BitVec 32) : Prop :=
  (8 ∣ (k0_mult184 v4511).toNat) ∧
  (∀ a, (k0_off239 v4511) a + S8x128.size a ≤ S20016x128.size a)
theorem k0_mult184_dvd : ∀ (v4511 : BitVec 32) (k0_hw183 : k0_chk183 v4511), 8 ∣ (k0_mult184 v4511).toNat := fun v4511 k0_hw183 => k0_hw183.1
theorem k0_off239_inb : ∀ (v4511 : BitVec 32) (k0_hw183 : k0_chk183 v4511), ∀ a, (k0_off239 v4511) a + S8x128.size a ≤ S20016x128.size a := fun v4511 k0_hw183 => k0_hw183.2

def k0_off240 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c55_i32 : BitVec 32 := 55#32
  let v4533 : BitVec 32 := Scalar.addi v3212 c55_i32
  let v4534 : Index := Scalar.indexCast v4533
  ![v4534.toNat]
def k0_mult185 (v4535 : BitVec 32) : BitVec 32 :=
  let c3_i32_2233 : BitVec 32 := 3#32
  let v4536 : BitVec 32 := Scalar.shrsi v4535 c3_i32_2233
  let c3_i32_2234 : BitVec 32 := 3#32
  let v4537 : BitVec 32 := Scalar.shli v4536 c3_i32_2234
  v4537

def k0_off241 (v4535 : BitVec 32) : Fin 2 → Nat :=
  let c3_i32_2233 : BitVec 32 := 3#32
  let v4536 : BitVec 32 := Scalar.shrsi v4535 c3_i32_2233
  let c3_i32_2234 : BitVec 32 := 3#32
  let v4537 : BitVec 32 := Scalar.shli v4536 c3_i32_2234
  let v4538 : BitVec 32 := v4537
  let v4539 : Index := Scalar.indexCast v4538
  let c0_2235 : Index := 0#32
  ![v4539.toNat, 0]

def k0_chk184 (v4535 : BitVec 32) : Prop :=
  (8 ∣ (k0_mult185 v4535).toNat) ∧
  (∀ a, (k0_off241 v4535) a + S8x128.size a ≤ S20016x128.size a)
theorem k0_mult185_dvd : ∀ (v4535 : BitVec 32) (k0_hw184 : k0_chk184 v4535), 8 ∣ (k0_mult185 v4535).toNat := fun v4535 k0_hw184 => k0_hw184.1
theorem k0_off241_inb : ∀ (v4535 : BitVec 32) (k0_hw184 : k0_chk184 v4535), ∀ a, (k0_off241 v4535) a + S8x128.size a ≤ S20016x128.size a := fun v4535 k0_hw184 => k0_hw184.2

def k0_off242 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c56_i32 : BitVec 32 := 56#32
  let v4557 : BitVec 32 := Scalar.addi v3212 c56_i32
  let v4558 : Index := Scalar.indexCast v4557
  ![v4558.toNat]
def k0_mult186 (v4559 : BitVec 32) : BitVec 32 :=
  let c3_i32_2244 : BitVec 32 := 3#32
  let v4560 : BitVec 32 := Scalar.shrsi v4559 c3_i32_2244
  let c3_i32_2245 : BitVec 32 := 3#32
  let v4561 : BitVec 32 := Scalar.shli v4560 c3_i32_2245
  v4561

def k0_off243 (v4559 : BitVec 32) : Fin 2 → Nat :=
  let c3_i32_2244 : BitVec 32 := 3#32
  let v4560 : BitVec 32 := Scalar.shrsi v4559 c3_i32_2244
  let c3_i32_2245 : BitVec 32 := 3#32
  let v4561 : BitVec 32 := Scalar.shli v4560 c3_i32_2245
  let v4562 : BitVec 32 := v4561
  let v4563 : Index := Scalar.indexCast v4562
  let c0_2246 : Index := 0#32
  ![v4563.toNat, 0]

def k0_chk185 (v4559 : BitVec 32) : Prop :=
  (8 ∣ (k0_mult186 v4559).toNat) ∧
  (∀ a, (k0_off243 v4559) a + S8x128.size a ≤ S20016x128.size a)
theorem k0_mult186_dvd : ∀ (v4559 : BitVec 32) (k0_hw185 : k0_chk185 v4559), 8 ∣ (k0_mult186 v4559).toNat := fun v4559 k0_hw185 => k0_hw185.1
theorem k0_off243_inb : ∀ (v4559 : BitVec 32) (k0_hw185 : k0_chk185 v4559), ∀ a, (k0_off243 v4559) a + S8x128.size a ≤ S20016x128.size a := fun v4559 k0_hw185 => k0_hw185.2

def k0_off244 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c57_i32 : BitVec 32 := 57#32
  let v4581 : BitVec 32 := Scalar.addi v3212 c57_i32
  let v4582 : Index := Scalar.indexCast v4581
  ![v4582.toNat]
def k0_mult187 (v4583 : BitVec 32) : BitVec 32 :=
  let c3_i32_2255 : BitVec 32 := 3#32
  let v4584 : BitVec 32 := Scalar.shrsi v4583 c3_i32_2255
  let c3_i32_2256 : BitVec 32 := 3#32
  let v4585 : BitVec 32 := Scalar.shli v4584 c3_i32_2256
  v4585

def k0_off245 (v4583 : BitVec 32) : Fin 2 → Nat :=
  let c3_i32_2255 : BitVec 32 := 3#32
  let v4584 : BitVec 32 := Scalar.shrsi v4583 c3_i32_2255
  let c3_i32_2256 : BitVec 32 := 3#32
  let v4585 : BitVec 32 := Scalar.shli v4584 c3_i32_2256
  let v4586 : BitVec 32 := v4585
  let v4587 : Index := Scalar.indexCast v4586
  let c0_2257 : Index := 0#32
  ![v4587.toNat, 0]

def k0_chk186 (v4583 : BitVec 32) : Prop :=
  (8 ∣ (k0_mult187 v4583).toNat) ∧
  (∀ a, (k0_off245 v4583) a + S8x128.size a ≤ S20016x128.size a)
theorem k0_mult187_dvd : ∀ (v4583 : BitVec 32) (k0_hw186 : k0_chk186 v4583), 8 ∣ (k0_mult187 v4583).toNat := fun v4583 k0_hw186 => k0_hw186.1
theorem k0_off245_inb : ∀ (v4583 : BitVec 32) (k0_hw186 : k0_chk186 v4583), ∀ a, (k0_off245 v4583) a + S8x128.size a ≤ S20016x128.size a := fun v4583 k0_hw186 => k0_hw186.2

def k0_off246 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c58_i32 : BitVec 32 := 58#32
  let v4605 : BitVec 32 := Scalar.addi v3212 c58_i32
  let v4606 : Index := Scalar.indexCast v4605
  ![v4606.toNat]
def k0_mult188 (v4607 : BitVec 32) : BitVec 32 :=
  let c3_i32_2266 : BitVec 32 := 3#32
  let v4608 : BitVec 32 := Scalar.shrsi v4607 c3_i32_2266
  let c3_i32_2267 : BitVec 32 := 3#32
  let v4609 : BitVec 32 := Scalar.shli v4608 c3_i32_2267
  v4609

def k0_off247 (v4607 : BitVec 32) : Fin 2 → Nat :=
  let c3_i32_2266 : BitVec 32 := 3#32
  let v4608 : BitVec 32 := Scalar.shrsi v4607 c3_i32_2266
  let c3_i32_2267 : BitVec 32 := 3#32
  let v4609 : BitVec 32 := Scalar.shli v4608 c3_i32_2267
  let v4610 : BitVec 32 := v4609
  let v4611 : Index := Scalar.indexCast v4610
  let c0_2268 : Index := 0#32
  ![v4611.toNat, 0]

def k0_chk187 (v4607 : BitVec 32) : Prop :=
  (8 ∣ (k0_mult188 v4607).toNat) ∧
  (∀ a, (k0_off247 v4607) a + S8x128.size a ≤ S20016x128.size a)
theorem k0_mult188_dvd : ∀ (v4607 : BitVec 32) (k0_hw187 : k0_chk187 v4607), 8 ∣ (k0_mult188 v4607).toNat := fun v4607 k0_hw187 => k0_hw187.1
theorem k0_off247_inb : ∀ (v4607 : BitVec 32) (k0_hw187 : k0_chk187 v4607), ∀ a, (k0_off247 v4607) a + S8x128.size a ≤ S20016x128.size a := fun v4607 k0_hw187 => k0_hw187.2

def k0_off248 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c59_i32 : BitVec 32 := 59#32
  let v4629 : BitVec 32 := Scalar.addi v3212 c59_i32
  let v4630 : Index := Scalar.indexCast v4629
  ![v4630.toNat]
def k0_mult189 (v4631 : BitVec 32) : BitVec 32 :=
  let c3_i32_2277 : BitVec 32 := 3#32
  let v4632 : BitVec 32 := Scalar.shrsi v4631 c3_i32_2277
  let c3_i32_2278 : BitVec 32 := 3#32
  let v4633 : BitVec 32 := Scalar.shli v4632 c3_i32_2278
  v4633

def k0_off249 (v4631 : BitVec 32) : Fin 2 → Nat :=
  let c3_i32_2277 : BitVec 32 := 3#32
  let v4632 : BitVec 32 := Scalar.shrsi v4631 c3_i32_2277
  let c3_i32_2278 : BitVec 32 := 3#32
  let v4633 : BitVec 32 := Scalar.shli v4632 c3_i32_2278
  let v4634 : BitVec 32 := v4633
  let v4635 : Index := Scalar.indexCast v4634
  let c0_2279 : Index := 0#32
  ![v4635.toNat, 0]

def k0_chk188 (v4631 : BitVec 32) : Prop :=
  (8 ∣ (k0_mult189 v4631).toNat) ∧
  (∀ a, (k0_off249 v4631) a + S8x128.size a ≤ S20016x128.size a)
theorem k0_mult189_dvd : ∀ (v4631 : BitVec 32) (k0_hw188 : k0_chk188 v4631), 8 ∣ (k0_mult189 v4631).toNat := fun v4631 k0_hw188 => k0_hw188.1
theorem k0_off249_inb : ∀ (v4631 : BitVec 32) (k0_hw188 : k0_chk188 v4631), ∀ a, (k0_off249 v4631) a + S8x128.size a ≤ S20016x128.size a := fun v4631 k0_hw188 => k0_hw188.2

def k0_off250 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c60_i32 : BitVec 32 := 60#32
  let v4653 : BitVec 32 := Scalar.addi v3212 c60_i32
  let v4654 : Index := Scalar.indexCast v4653
  ![v4654.toNat]
def k0_mult190 (v4655 : BitVec 32) : BitVec 32 :=
  let c3_i32_2288 : BitVec 32 := 3#32
  let v4656 : BitVec 32 := Scalar.shrsi v4655 c3_i32_2288
  let c3_i32_2289 : BitVec 32 := 3#32
  let v4657 : BitVec 32 := Scalar.shli v4656 c3_i32_2289
  v4657

def k0_off251 (v4655 : BitVec 32) : Fin 2 → Nat :=
  let c3_i32_2288 : BitVec 32 := 3#32
  let v4656 : BitVec 32 := Scalar.shrsi v4655 c3_i32_2288
  let c3_i32_2289 : BitVec 32 := 3#32
  let v4657 : BitVec 32 := Scalar.shli v4656 c3_i32_2289
  let v4658 : BitVec 32 := v4657
  let v4659 : Index := Scalar.indexCast v4658
  let c0_2290 : Index := 0#32
  ![v4659.toNat, 0]

def k0_chk189 (v4655 : BitVec 32) : Prop :=
  (8 ∣ (k0_mult190 v4655).toNat) ∧
  (∀ a, (k0_off251 v4655) a + S8x128.size a ≤ S20016x128.size a)
theorem k0_mult190_dvd : ∀ (v4655 : BitVec 32) (k0_hw189 : k0_chk189 v4655), 8 ∣ (k0_mult190 v4655).toNat := fun v4655 k0_hw189 => k0_hw189.1
theorem k0_off251_inb : ∀ (v4655 : BitVec 32) (k0_hw189 : k0_chk189 v4655), ∀ a, (k0_off251 v4655) a + S8x128.size a ≤ S20016x128.size a := fun v4655 k0_hw189 => k0_hw189.2

def k0_off252 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c61_i32 : BitVec 32 := 61#32
  let v4677 : BitVec 32 := Scalar.addi v3212 c61_i32
  let v4678 : Index := Scalar.indexCast v4677
  ![v4678.toNat]
def k0_mult191 (v4679 : BitVec 32) : BitVec 32 :=
  let c3_i32_2299 : BitVec 32 := 3#32
  let v4680 : BitVec 32 := Scalar.shrsi v4679 c3_i32_2299
  let c3_i32_2300 : BitVec 32 := 3#32
  let v4681 : BitVec 32 := Scalar.shli v4680 c3_i32_2300
  v4681

def k0_off253 (v4679 : BitVec 32) : Fin 2 → Nat :=
  let c3_i32_2299 : BitVec 32 := 3#32
  let v4680 : BitVec 32 := Scalar.shrsi v4679 c3_i32_2299
  let c3_i32_2300 : BitVec 32 := 3#32
  let v4681 : BitVec 32 := Scalar.shli v4680 c3_i32_2300
  let v4682 : BitVec 32 := v4681
  let v4683 : Index := Scalar.indexCast v4682
  let c0_2301 : Index := 0#32
  ![v4683.toNat, 0]

def k0_chk190 (v4679 : BitVec 32) : Prop :=
  (8 ∣ (k0_mult191 v4679).toNat) ∧
  (∀ a, (k0_off253 v4679) a + S8x128.size a ≤ S20016x128.size a)
theorem k0_mult191_dvd : ∀ (v4679 : BitVec 32) (k0_hw190 : k0_chk190 v4679), 8 ∣ (k0_mult191 v4679).toNat := fun v4679 k0_hw190 => k0_hw190.1
theorem k0_off253_inb : ∀ (v4679 : BitVec 32) (k0_hw190 : k0_chk190 v4679), ∀ a, (k0_off253 v4679) a + S8x128.size a ≤ S20016x128.size a := fun v4679 k0_hw190 => k0_hw190.2

def k0_off254 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c62_i32 : BitVec 32 := 62#32
  let v4701 : BitVec 32 := Scalar.addi v3212 c62_i32
  let v4702 : Index := Scalar.indexCast v4701
  ![v4702.toNat]
def k0_mult192 (v4703 : BitVec 32) : BitVec 32 :=
  let c3_i32_2310 : BitVec 32 := 3#32
  let v4704 : BitVec 32 := Scalar.shrsi v4703 c3_i32_2310
  let c3_i32_2311 : BitVec 32 := 3#32
  let v4705 : BitVec 32 := Scalar.shli v4704 c3_i32_2311
  v4705

def k0_off255 (v4703 : BitVec 32) : Fin 2 → Nat :=
  let c3_i32_2310 : BitVec 32 := 3#32
  let v4704 : BitVec 32 := Scalar.shrsi v4703 c3_i32_2310
  let c3_i32_2311 : BitVec 32 := 3#32
  let v4705 : BitVec 32 := Scalar.shli v4704 c3_i32_2311
  let v4706 : BitVec 32 := v4705
  let v4707 : Index := Scalar.indexCast v4706
  let c0_2312 : Index := 0#32
  ![v4707.toNat, 0]

def k0_chk191 (v4703 : BitVec 32) : Prop :=
  (8 ∣ (k0_mult192 v4703).toNat) ∧
  (∀ a, (k0_off255 v4703) a + S8x128.size a ≤ S20016x128.size a)
theorem k0_mult192_dvd : ∀ (v4703 : BitVec 32) (k0_hw191 : k0_chk191 v4703), 8 ∣ (k0_mult192 v4703).toNat := fun v4703 k0_hw191 => k0_hw191.1
theorem k0_off255_inb : ∀ (v4703 : BitVec 32) (k0_hw191 : k0_chk191 v4703), ∀ a, (k0_off255 v4703) a + S8x128.size a ≤ S20016x128.size a := fun v4703 k0_hw191 => k0_hw191.2

def k0_off256 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c63_i32 : BitVec 32 := 63#32
  let v4725 : BitVec 32 := Scalar.addi v3212 c63_i32
  let v4726 : Index := Scalar.indexCast v4725
  ![v4726.toNat]
def k0_mult193 (v4727 : BitVec 32) : BitVec 32 :=
  let c3_i32_2321 : BitVec 32 := 3#32
  let v4728 : BitVec 32 := Scalar.shrsi v4727 c3_i32_2321
  let c3_i32_2322 : BitVec 32 := 3#32
  let v4729 : BitVec 32 := Scalar.shli v4728 c3_i32_2322
  v4729

def k0_off257 (v4727 : BitVec 32) : Fin 2 → Nat :=
  let c3_i32_2321 : BitVec 32 := 3#32
  let v4728 : BitVec 32 := Scalar.shrsi v4727 c3_i32_2321
  let c3_i32_2322 : BitVec 32 := 3#32
  let v4729 : BitVec 32 := Scalar.shli v4728 c3_i32_2322
  let v4730 : BitVec 32 := v4729
  let v4731 : Index := Scalar.indexCast v4730
  let c0_2323 : Index := 0#32
  ![v4731.toNat, 0]

def k0_chk192 (v4727 : BitVec 32) : Prop :=
  (8 ∣ (k0_mult193 v4727).toNat) ∧
  (∀ a, (k0_off257 v4727) a + S8x128.size a ≤ S20016x128.size a)
theorem k0_mult193_dvd : ∀ (v4727 : BitVec 32) (k0_hw192 : k0_chk192 v4727), 8 ∣ (k0_mult193 v4727).toNat := fun v4727 k0_hw192 => k0_hw192.1
theorem k0_off257_inb : ∀ (v4727 : BitVec 32) (k0_hw192 : k0_chk192 v4727), ∀ a, (k0_off257 v4727) a + S8x128.size a ≤ S20016x128.size a := fun v4727 k0_hw192 => k0_hw192.2

def k0_mult194 (k0_t1 : Fin k0_t1_loop.trips) : BitVec 32 :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c64_i32_2343 : BitVec 32 := 64#32
  let v4775 : BitVec 32 := Scalar.muli v4749 c64_i32_2343
  v4775
def k0_off258 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c64_i32_2343 : BitVec 32 := 64#32
  let v4775 : BitVec 32 := Scalar.muli v4749 c64_i32_2343
  let v4776 : BitVec 32 := v4775
  let v4777 : Index := Scalar.indexCast v4776
  let c0_2344 : Index := 0#32
  ![v4777.toNat, 0]
def k0_off259 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c0_i32_2347 : BitVec 32 := 0#32
  let v4783 : BitVec 32 := Scalar.addi v4782 c0_i32_2347
  let v4784 : Index := Scalar.indexCast v4783
  ![v4784.toNat]
def k0_mult195 (v4785 : BitVec 32) : BitVec 32 :=
  let c3_i32_2348 : BitVec 32 := 3#32
  let v4786 : BitVec 32 := Scalar.shrsi v4785 c3_i32_2348
  let c3_i32_2349 : BitVec 32 := 3#32
  let v4787 : BitVec 32 := Scalar.shli v4786 c3_i32_2349
  v4787

def k0_off260 (v4785 : BitVec 32) : Fin 2 → Nat :=
  let c3_i32_2348 : BitVec 32 := 3#32
  let v4786 : BitVec 32 := Scalar.shrsi v4785 c3_i32_2348
  let c3_i32_2349 : BitVec 32 := 3#32
  let v4787 : BitVec 32 := Scalar.shli v4786 c3_i32_2349
  let v4788 : BitVec 32 := v4787
  let v4789 : Index := Scalar.indexCast v4788
  let c0_2350 : Index := 0#32
  ![v4789.toNat, 0]

def k0_chk193 (v4785 : BitVec 32) : Prop :=
  (8 ∣ (k0_mult195 v4785).toNat) ∧
  (∀ a, (k0_off260 v4785) a + S8x128.size a ≤ S20016x128.size a)
theorem k0_mult195_dvd : ∀ (v4785 : BitVec 32) (k0_hw193 : k0_chk193 v4785), 8 ∣ (k0_mult195 v4785).toNat := fun v4785 k0_hw193 => k0_hw193.1
theorem k0_off260_inb : ∀ (v4785 : BitVec 32) (k0_hw193 : k0_chk193 v4785), ∀ a, (k0_off260 v4785) a + S8x128.size a ≤ S20016x128.size a := fun v4785 k0_hw193 => k0_hw193.2

def k0_off261 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c1_i32_2359 : BitVec 32 := 1#32
  let v4807 : BitVec 32 := Scalar.addi v4782 c1_i32_2359
  let v4808 : Index := Scalar.indexCast v4807
  ![v4808.toNat]
def k0_mult196 (v4809 : BitVec 32) : BitVec 32 :=
  let c3_i32_2360 : BitVec 32 := 3#32
  let v4810 : BitVec 32 := Scalar.shrsi v4809 c3_i32_2360
  let c3_i32_2361 : BitVec 32 := 3#32
  let v4811 : BitVec 32 := Scalar.shli v4810 c3_i32_2361
  v4811

def k0_off262 (v4809 : BitVec 32) : Fin 2 → Nat :=
  let c3_i32_2360 : BitVec 32 := 3#32
  let v4810 : BitVec 32 := Scalar.shrsi v4809 c3_i32_2360
  let c3_i32_2361 : BitVec 32 := 3#32
  let v4811 : BitVec 32 := Scalar.shli v4810 c3_i32_2361
  let v4812 : BitVec 32 := v4811
  let v4813 : Index := Scalar.indexCast v4812
  let c0_2362 : Index := 0#32
  ![v4813.toNat, 0]

def k0_chk194 (v4809 : BitVec 32) : Prop :=
  (8 ∣ (k0_mult196 v4809).toNat) ∧
  (∀ a, (k0_off262 v4809) a + S8x128.size a ≤ S20016x128.size a)
theorem k0_mult196_dvd : ∀ (v4809 : BitVec 32) (k0_hw194 : k0_chk194 v4809), 8 ∣ (k0_mult196 v4809).toNat := fun v4809 k0_hw194 => k0_hw194.1
theorem k0_off262_inb : ∀ (v4809 : BitVec 32) (k0_hw194 : k0_chk194 v4809), ∀ a, (k0_off262 v4809) a + S8x128.size a ≤ S20016x128.size a := fun v4809 k0_hw194 => k0_hw194.2

def k0_off263 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c2_i32_2371 : BitVec 32 := 2#32
  let v4831 : BitVec 32 := Scalar.addi v4782 c2_i32_2371
  let v4832 : Index := Scalar.indexCast v4831
  ![v4832.toNat]
def k0_mult197 (v4833 : BitVec 32) : BitVec 32 :=
  let c3_i32_2372 : BitVec 32 := 3#32
  let v4834 : BitVec 32 := Scalar.shrsi v4833 c3_i32_2372
  let c3_i32_2373 : BitVec 32 := 3#32
  let v4835 : BitVec 32 := Scalar.shli v4834 c3_i32_2373
  v4835

def k0_off264 (v4833 : BitVec 32) : Fin 2 → Nat :=
  let c3_i32_2372 : BitVec 32 := 3#32
  let v4834 : BitVec 32 := Scalar.shrsi v4833 c3_i32_2372
  let c3_i32_2373 : BitVec 32 := 3#32
  let v4835 : BitVec 32 := Scalar.shli v4834 c3_i32_2373
  let v4836 : BitVec 32 := v4835
  let v4837 : Index := Scalar.indexCast v4836
  let c0_2374 : Index := 0#32
  ![v4837.toNat, 0]

def k0_chk195 (v4833 : BitVec 32) : Prop :=
  (8 ∣ (k0_mult197 v4833).toNat) ∧
  (∀ a, (k0_off264 v4833) a + S8x128.size a ≤ S20016x128.size a)
theorem k0_mult197_dvd : ∀ (v4833 : BitVec 32) (k0_hw195 : k0_chk195 v4833), 8 ∣ (k0_mult197 v4833).toNat := fun v4833 k0_hw195 => k0_hw195.1
theorem k0_off264_inb : ∀ (v4833 : BitVec 32) (k0_hw195 : k0_chk195 v4833), ∀ a, (k0_off264 v4833) a + S8x128.size a ≤ S20016x128.size a := fun v4833 k0_hw195 => k0_hw195.2

def k0_off265 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c3_i32_2383 : BitVec 32 := 3#32
  let v4855 : BitVec 32 := Scalar.addi v4782 c3_i32_2383
  let v4856 : Index := Scalar.indexCast v4855
  ![v4856.toNat]
def k0_mult198 (v4857 : BitVec 32) : BitVec 32 :=
  let c3_i32_2384 : BitVec 32 := 3#32
  let v4858 : BitVec 32 := Scalar.shrsi v4857 c3_i32_2384
  let c3_i32_2385 : BitVec 32 := 3#32
  let v4859 : BitVec 32 := Scalar.shli v4858 c3_i32_2385
  v4859

def k0_off266 (v4857 : BitVec 32) : Fin 2 → Nat :=
  let c3_i32_2384 : BitVec 32 := 3#32
  let v4858 : BitVec 32 := Scalar.shrsi v4857 c3_i32_2384
  let c3_i32_2385 : BitVec 32 := 3#32
  let v4859 : BitVec 32 := Scalar.shli v4858 c3_i32_2385
  let v4860 : BitVec 32 := v4859
  let v4861 : Index := Scalar.indexCast v4860
  let c0_2386 : Index := 0#32
  ![v4861.toNat, 0]

def k0_chk196 (v4857 : BitVec 32) : Prop :=
  (8 ∣ (k0_mult198 v4857).toNat) ∧
  (∀ a, (k0_off266 v4857) a + S8x128.size a ≤ S20016x128.size a)
theorem k0_mult198_dvd : ∀ (v4857 : BitVec 32) (k0_hw196 : k0_chk196 v4857), 8 ∣ (k0_mult198 v4857).toNat := fun v4857 k0_hw196 => k0_hw196.1
theorem k0_off266_inb : ∀ (v4857 : BitVec 32) (k0_hw196 : k0_chk196 v4857), ∀ a, (k0_off266 v4857) a + S8x128.size a ≤ S20016x128.size a := fun v4857 k0_hw196 => k0_hw196.2

def k0_off267 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c4_i32_2395 : BitVec 32 := 4#32
  let v4879 : BitVec 32 := Scalar.addi v4782 c4_i32_2395
  let v4880 : Index := Scalar.indexCast v4879
  ![v4880.toNat]
def k0_mult199 (v4881 : BitVec 32) : BitVec 32 :=
  let c3_i32_2396 : BitVec 32 := 3#32
  let v4882 : BitVec 32 := Scalar.shrsi v4881 c3_i32_2396
  let c3_i32_2397 : BitVec 32 := 3#32
  let v4883 : BitVec 32 := Scalar.shli v4882 c3_i32_2397
  v4883

def k0_off268 (v4881 : BitVec 32) : Fin 2 → Nat :=
  let c3_i32_2396 : BitVec 32 := 3#32
  let v4882 : BitVec 32 := Scalar.shrsi v4881 c3_i32_2396
  let c3_i32_2397 : BitVec 32 := 3#32
  let v4883 : BitVec 32 := Scalar.shli v4882 c3_i32_2397
  let v4884 : BitVec 32 := v4883
  let v4885 : Index := Scalar.indexCast v4884
  let c0_2398 : Index := 0#32
  ![v4885.toNat, 0]

def k0_chk197 (v4881 : BitVec 32) : Prop :=
  (8 ∣ (k0_mult199 v4881).toNat) ∧
  (∀ a, (k0_off268 v4881) a + S8x128.size a ≤ S20016x128.size a)
theorem k0_mult199_dvd : ∀ (v4881 : BitVec 32) (k0_hw197 : k0_chk197 v4881), 8 ∣ (k0_mult199 v4881).toNat := fun v4881 k0_hw197 => k0_hw197.1
theorem k0_off268_inb : ∀ (v4881 : BitVec 32) (k0_hw197 : k0_chk197 v4881), ∀ a, (k0_off268 v4881) a + S8x128.size a ≤ S20016x128.size a := fun v4881 k0_hw197 => k0_hw197.2

def k0_off269 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c5_i32_2407 : BitVec 32 := 5#32
  let v4903 : BitVec 32 := Scalar.addi v4782 c5_i32_2407
  let v4904 : Index := Scalar.indexCast v4903
  ![v4904.toNat]
def k0_mult200 (v4905 : BitVec 32) : BitVec 32 :=
  let c3_i32_2408 : BitVec 32 := 3#32
  let v4906 : BitVec 32 := Scalar.shrsi v4905 c3_i32_2408
  let c3_i32_2409 : BitVec 32 := 3#32
  let v4907 : BitVec 32 := Scalar.shli v4906 c3_i32_2409
  v4907

def k0_off270 (v4905 : BitVec 32) : Fin 2 → Nat :=
  let c3_i32_2408 : BitVec 32 := 3#32
  let v4906 : BitVec 32 := Scalar.shrsi v4905 c3_i32_2408
  let c3_i32_2409 : BitVec 32 := 3#32
  let v4907 : BitVec 32 := Scalar.shli v4906 c3_i32_2409
  let v4908 : BitVec 32 := v4907
  let v4909 : Index := Scalar.indexCast v4908
  let c0_2410 : Index := 0#32
  ![v4909.toNat, 0]

def k0_chk198 (v4905 : BitVec 32) : Prop :=
  (8 ∣ (k0_mult200 v4905).toNat) ∧
  (∀ a, (k0_off270 v4905) a + S8x128.size a ≤ S20016x128.size a)
theorem k0_mult200_dvd : ∀ (v4905 : BitVec 32) (k0_hw198 : k0_chk198 v4905), 8 ∣ (k0_mult200 v4905).toNat := fun v4905 k0_hw198 => k0_hw198.1
theorem k0_off270_inb : ∀ (v4905 : BitVec 32) (k0_hw198 : k0_chk198 v4905), ∀ a, (k0_off270 v4905) a + S8x128.size a ≤ S20016x128.size a := fun v4905 k0_hw198 => k0_hw198.2

def k0_off271 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c6_i32_2419 : BitVec 32 := 6#32
  let v4927 : BitVec 32 := Scalar.addi v4782 c6_i32_2419
  let v4928 : Index := Scalar.indexCast v4927
  ![v4928.toNat]
def k0_mult201 (v4929 : BitVec 32) : BitVec 32 :=
  let c3_i32_2420 : BitVec 32 := 3#32
  let v4930 : BitVec 32 := Scalar.shrsi v4929 c3_i32_2420
  let c3_i32_2421 : BitVec 32 := 3#32
  let v4931 : BitVec 32 := Scalar.shli v4930 c3_i32_2421
  v4931

def k0_off272 (v4929 : BitVec 32) : Fin 2 → Nat :=
  let c3_i32_2420 : BitVec 32 := 3#32
  let v4930 : BitVec 32 := Scalar.shrsi v4929 c3_i32_2420
  let c3_i32_2421 : BitVec 32 := 3#32
  let v4931 : BitVec 32 := Scalar.shli v4930 c3_i32_2421
  let v4932 : BitVec 32 := v4931
  let v4933 : Index := Scalar.indexCast v4932
  let c0_2422 : Index := 0#32
  ![v4933.toNat, 0]

def k0_chk199 (v4929 : BitVec 32) : Prop :=
  (8 ∣ (k0_mult201 v4929).toNat) ∧
  (∀ a, (k0_off272 v4929) a + S8x128.size a ≤ S20016x128.size a)
theorem k0_mult201_dvd : ∀ (v4929 : BitVec 32) (k0_hw199 : k0_chk199 v4929), 8 ∣ (k0_mult201 v4929).toNat := fun v4929 k0_hw199 => k0_hw199.1
theorem k0_off272_inb : ∀ (v4929 : BitVec 32) (k0_hw199 : k0_chk199 v4929), ∀ a, (k0_off272 v4929) a + S8x128.size a ≤ S20016x128.size a := fun v4929 k0_hw199 => k0_hw199.2

def k0_off273 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c7_i32_2431 : BitVec 32 := 7#32
  let v4951 : BitVec 32 := Scalar.addi v4782 c7_i32_2431
  let v4952 : Index := Scalar.indexCast v4951
  ![v4952.toNat]
def k0_mult202 (v4953 : BitVec 32) : BitVec 32 :=
  let c3_i32_2432 : BitVec 32 := 3#32
  let v4954 : BitVec 32 := Scalar.shrsi v4953 c3_i32_2432
  let c3_i32_2433 : BitVec 32 := 3#32
  let v4955 : BitVec 32 := Scalar.shli v4954 c3_i32_2433
  v4955

def k0_off274 (v4953 : BitVec 32) : Fin 2 → Nat :=
  let c3_i32_2432 : BitVec 32 := 3#32
  let v4954 : BitVec 32 := Scalar.shrsi v4953 c3_i32_2432
  let c3_i32_2433 : BitVec 32 := 3#32
  let v4955 : BitVec 32 := Scalar.shli v4954 c3_i32_2433
  let v4956 : BitVec 32 := v4955
  let v4957 : Index := Scalar.indexCast v4956
  let c0_2434 : Index := 0#32
  ![v4957.toNat, 0]

def k0_chk200 (v4953 : BitVec 32) : Prop :=
  (8 ∣ (k0_mult202 v4953).toNat) ∧
  (∀ a, (k0_off274 v4953) a + S8x128.size a ≤ S20016x128.size a)
theorem k0_mult202_dvd : ∀ (v4953 : BitVec 32) (k0_hw200 : k0_chk200 v4953), 8 ∣ (k0_mult202 v4953).toNat := fun v4953 k0_hw200 => k0_hw200.1
theorem k0_off274_inb : ∀ (v4953 : BitVec 32) (k0_hw200 : k0_chk200 v4953), ∀ a, (k0_off274 v4953) a + S8x128.size a ≤ S20016x128.size a := fun v4953 k0_hw200 => k0_hw200.2

def k0_off275 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c8_i32_2443 : BitVec 32 := 8#32
  let v4975 : BitVec 32 := Scalar.addi v4782 c8_i32_2443
  let v4976 : Index := Scalar.indexCast v4975
  ![v4976.toNat]
def k0_mult203 (v4977 : BitVec 32) : BitVec 32 :=
  let c3_i32_2444 : BitVec 32 := 3#32
  let v4978 : BitVec 32 := Scalar.shrsi v4977 c3_i32_2444
  let c3_i32_2445 : BitVec 32 := 3#32
  let v4979 : BitVec 32 := Scalar.shli v4978 c3_i32_2445
  v4979

def k0_off276 (v4977 : BitVec 32) : Fin 2 → Nat :=
  let c3_i32_2444 : BitVec 32 := 3#32
  let v4978 : BitVec 32 := Scalar.shrsi v4977 c3_i32_2444
  let c3_i32_2445 : BitVec 32 := 3#32
  let v4979 : BitVec 32 := Scalar.shli v4978 c3_i32_2445
  let v4980 : BitVec 32 := v4979
  let v4981 : Index := Scalar.indexCast v4980
  let c0_2446 : Index := 0#32
  ![v4981.toNat, 0]

def k0_chk201 (v4977 : BitVec 32) : Prop :=
  (8 ∣ (k0_mult203 v4977).toNat) ∧
  (∀ a, (k0_off276 v4977) a + S8x128.size a ≤ S20016x128.size a)
theorem k0_mult203_dvd : ∀ (v4977 : BitVec 32) (k0_hw201 : k0_chk201 v4977), 8 ∣ (k0_mult203 v4977).toNat := fun v4977 k0_hw201 => k0_hw201.1
theorem k0_off276_inb : ∀ (v4977 : BitVec 32) (k0_hw201 : k0_chk201 v4977), ∀ a, (k0_off276 v4977) a + S8x128.size a ≤ S20016x128.size a := fun v4977 k0_hw201 => k0_hw201.2

def k0_off277 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c9_i32_2455 : BitVec 32 := 9#32
  let v4999 : BitVec 32 := Scalar.addi v4782 c9_i32_2455
  let v5000 : Index := Scalar.indexCast v4999
  ![v5000.toNat]
def k0_mult204 (v5001 : BitVec 32) : BitVec 32 :=
  let c3_i32_2456 : BitVec 32 := 3#32
  let v5002 : BitVec 32 := Scalar.shrsi v5001 c3_i32_2456
  let c3_i32_2457 : BitVec 32 := 3#32
  let v5003 : BitVec 32 := Scalar.shli v5002 c3_i32_2457
  v5003

def k0_off278 (v5001 : BitVec 32) : Fin 2 → Nat :=
  let c3_i32_2456 : BitVec 32 := 3#32
  let v5002 : BitVec 32 := Scalar.shrsi v5001 c3_i32_2456
  let c3_i32_2457 : BitVec 32 := 3#32
  let v5003 : BitVec 32 := Scalar.shli v5002 c3_i32_2457
  let v5004 : BitVec 32 := v5003
  let v5005 : Index := Scalar.indexCast v5004
  let c0_2458 : Index := 0#32
  ![v5005.toNat, 0]

def k0_chk202 (v5001 : BitVec 32) : Prop :=
  (8 ∣ (k0_mult204 v5001).toNat) ∧
  (∀ a, (k0_off278 v5001) a + S8x128.size a ≤ S20016x128.size a)
theorem k0_mult204_dvd : ∀ (v5001 : BitVec 32) (k0_hw202 : k0_chk202 v5001), 8 ∣ (k0_mult204 v5001).toNat := fun v5001 k0_hw202 => k0_hw202.1
theorem k0_off278_inb : ∀ (v5001 : BitVec 32) (k0_hw202 : k0_chk202 v5001), ∀ a, (k0_off278 v5001) a + S8x128.size a ≤ S20016x128.size a := fun v5001 k0_hw202 => k0_hw202.2

def k0_off279 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c10_i32_2467 : BitVec 32 := 10#32
  let v5023 : BitVec 32 := Scalar.addi v4782 c10_i32_2467
  let v5024 : Index := Scalar.indexCast v5023
  ![v5024.toNat]
def k0_mult205 (v5025 : BitVec 32) : BitVec 32 :=
  let c3_i32_2468 : BitVec 32 := 3#32
  let v5026 : BitVec 32 := Scalar.shrsi v5025 c3_i32_2468
  let c3_i32_2469 : BitVec 32 := 3#32
  let v5027 : BitVec 32 := Scalar.shli v5026 c3_i32_2469
  v5027

def k0_off280 (v5025 : BitVec 32) : Fin 2 → Nat :=
  let c3_i32_2468 : BitVec 32 := 3#32
  let v5026 : BitVec 32 := Scalar.shrsi v5025 c3_i32_2468
  let c3_i32_2469 : BitVec 32 := 3#32
  let v5027 : BitVec 32 := Scalar.shli v5026 c3_i32_2469
  let v5028 : BitVec 32 := v5027
  let v5029 : Index := Scalar.indexCast v5028
  let c0_2470 : Index := 0#32
  ![v5029.toNat, 0]

def k0_chk203 (v5025 : BitVec 32) : Prop :=
  (8 ∣ (k0_mult205 v5025).toNat) ∧
  (∀ a, (k0_off280 v5025) a + S8x128.size a ≤ S20016x128.size a)
theorem k0_mult205_dvd : ∀ (v5025 : BitVec 32) (k0_hw203 : k0_chk203 v5025), 8 ∣ (k0_mult205 v5025).toNat := fun v5025 k0_hw203 => k0_hw203.1
theorem k0_off280_inb : ∀ (v5025 : BitVec 32) (k0_hw203 : k0_chk203 v5025), ∀ a, (k0_off280 v5025) a + S8x128.size a ≤ S20016x128.size a := fun v5025 k0_hw203 => k0_hw203.2

def k0_off281 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c11_i32_2479 : BitVec 32 := 11#32
  let v5047 : BitVec 32 := Scalar.addi v4782 c11_i32_2479
  let v5048 : Index := Scalar.indexCast v5047
  ![v5048.toNat]
def k0_mult206 (v5049 : BitVec 32) : BitVec 32 :=
  let c3_i32_2480 : BitVec 32 := 3#32
  let v5050 : BitVec 32 := Scalar.shrsi v5049 c3_i32_2480
  let c3_i32_2481 : BitVec 32 := 3#32
  let v5051 : BitVec 32 := Scalar.shli v5050 c3_i32_2481
  v5051

def k0_off282 (v5049 : BitVec 32) : Fin 2 → Nat :=
  let c3_i32_2480 : BitVec 32 := 3#32
  let v5050 : BitVec 32 := Scalar.shrsi v5049 c3_i32_2480
  let c3_i32_2481 : BitVec 32 := 3#32
  let v5051 : BitVec 32 := Scalar.shli v5050 c3_i32_2481
  let v5052 : BitVec 32 := v5051
  let v5053 : Index := Scalar.indexCast v5052
  let c0_2482 : Index := 0#32
  ![v5053.toNat, 0]

def k0_chk204 (v5049 : BitVec 32) : Prop :=
  (8 ∣ (k0_mult206 v5049).toNat) ∧
  (∀ a, (k0_off282 v5049) a + S8x128.size a ≤ S20016x128.size a)
theorem k0_mult206_dvd : ∀ (v5049 : BitVec 32) (k0_hw204 : k0_chk204 v5049), 8 ∣ (k0_mult206 v5049).toNat := fun v5049 k0_hw204 => k0_hw204.1
theorem k0_off282_inb : ∀ (v5049 : BitVec 32) (k0_hw204 : k0_chk204 v5049), ∀ a, (k0_off282 v5049) a + S8x128.size a ≤ S20016x128.size a := fun v5049 k0_hw204 => k0_hw204.2

def k0_off283 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c12_i32_2491 : BitVec 32 := 12#32
  let v5071 : BitVec 32 := Scalar.addi v4782 c12_i32_2491
  let v5072 : Index := Scalar.indexCast v5071
  ![v5072.toNat]
def k0_mult207 (v5073 : BitVec 32) : BitVec 32 :=
  let c3_i32_2492 : BitVec 32 := 3#32
  let v5074 : BitVec 32 := Scalar.shrsi v5073 c3_i32_2492
  let c3_i32_2493 : BitVec 32 := 3#32
  let v5075 : BitVec 32 := Scalar.shli v5074 c3_i32_2493
  v5075

def k0_off284 (v5073 : BitVec 32) : Fin 2 → Nat :=
  let c3_i32_2492 : BitVec 32 := 3#32
  let v5074 : BitVec 32 := Scalar.shrsi v5073 c3_i32_2492
  let c3_i32_2493 : BitVec 32 := 3#32
  let v5075 : BitVec 32 := Scalar.shli v5074 c3_i32_2493
  let v5076 : BitVec 32 := v5075
  let v5077 : Index := Scalar.indexCast v5076
  let c0_2494 : Index := 0#32
  ![v5077.toNat, 0]

def k0_chk205 (v5073 : BitVec 32) : Prop :=
  (8 ∣ (k0_mult207 v5073).toNat) ∧
  (∀ a, (k0_off284 v5073) a + S8x128.size a ≤ S20016x128.size a)
theorem k0_mult207_dvd : ∀ (v5073 : BitVec 32) (k0_hw205 : k0_chk205 v5073), 8 ∣ (k0_mult207 v5073).toNat := fun v5073 k0_hw205 => k0_hw205.1
theorem k0_off284_inb : ∀ (v5073 : BitVec 32) (k0_hw205 : k0_chk205 v5073), ∀ a, (k0_off284 v5073) a + S8x128.size a ≤ S20016x128.size a := fun v5073 k0_hw205 => k0_hw205.2

def k0_off285 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c13_i32_2503 : BitVec 32 := 13#32
  let v5095 : BitVec 32 := Scalar.addi v4782 c13_i32_2503
  let v5096 : Index := Scalar.indexCast v5095
  ![v5096.toNat]
def k0_mult208 (v5097 : BitVec 32) : BitVec 32 :=
  let c3_i32_2504 : BitVec 32 := 3#32
  let v5098 : BitVec 32 := Scalar.shrsi v5097 c3_i32_2504
  let c3_i32_2505 : BitVec 32 := 3#32
  let v5099 : BitVec 32 := Scalar.shli v5098 c3_i32_2505
  v5099

def k0_off286 (v5097 : BitVec 32) : Fin 2 → Nat :=
  let c3_i32_2504 : BitVec 32 := 3#32
  let v5098 : BitVec 32 := Scalar.shrsi v5097 c3_i32_2504
  let c3_i32_2505 : BitVec 32 := 3#32
  let v5099 : BitVec 32 := Scalar.shli v5098 c3_i32_2505
  let v5100 : BitVec 32 := v5099
  let v5101 : Index := Scalar.indexCast v5100
  let c0_2506 : Index := 0#32
  ![v5101.toNat, 0]

def k0_chk206 (v5097 : BitVec 32) : Prop :=
  (8 ∣ (k0_mult208 v5097).toNat) ∧
  (∀ a, (k0_off286 v5097) a + S8x128.size a ≤ S20016x128.size a)
theorem k0_mult208_dvd : ∀ (v5097 : BitVec 32) (k0_hw206 : k0_chk206 v5097), 8 ∣ (k0_mult208 v5097).toNat := fun v5097 k0_hw206 => k0_hw206.1
theorem k0_off286_inb : ∀ (v5097 : BitVec 32) (k0_hw206 : k0_chk206 v5097), ∀ a, (k0_off286 v5097) a + S8x128.size a ≤ S20016x128.size a := fun v5097 k0_hw206 => k0_hw206.2

def k0_off287 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c14_i32_2515 : BitVec 32 := 14#32
  let v5119 : BitVec 32 := Scalar.addi v4782 c14_i32_2515
  let v5120 : Index := Scalar.indexCast v5119
  ![v5120.toNat]
def k0_mult209 (v5121 : BitVec 32) : BitVec 32 :=
  let c3_i32_2516 : BitVec 32 := 3#32
  let v5122 : BitVec 32 := Scalar.shrsi v5121 c3_i32_2516
  let c3_i32_2517 : BitVec 32 := 3#32
  let v5123 : BitVec 32 := Scalar.shli v5122 c3_i32_2517
  v5123

def k0_off288 (v5121 : BitVec 32) : Fin 2 → Nat :=
  let c3_i32_2516 : BitVec 32 := 3#32
  let v5122 : BitVec 32 := Scalar.shrsi v5121 c3_i32_2516
  let c3_i32_2517 : BitVec 32 := 3#32
  let v5123 : BitVec 32 := Scalar.shli v5122 c3_i32_2517
  let v5124 : BitVec 32 := v5123
  let v5125 : Index := Scalar.indexCast v5124
  let c0_2518 : Index := 0#32
  ![v5125.toNat, 0]

def k0_chk207 (v5121 : BitVec 32) : Prop :=
  (8 ∣ (k0_mult209 v5121).toNat) ∧
  (∀ a, (k0_off288 v5121) a + S8x128.size a ≤ S20016x128.size a)
theorem k0_mult209_dvd : ∀ (v5121 : BitVec 32) (k0_hw207 : k0_chk207 v5121), 8 ∣ (k0_mult209 v5121).toNat := fun v5121 k0_hw207 => k0_hw207.1
theorem k0_off288_inb : ∀ (v5121 : BitVec 32) (k0_hw207 : k0_chk207 v5121), ∀ a, (k0_off288 v5121) a + S8x128.size a ≤ S20016x128.size a := fun v5121 k0_hw207 => k0_hw207.2

def k0_off289 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c15_i32_2527 : BitVec 32 := 15#32
  let v5143 : BitVec 32 := Scalar.addi v4782 c15_i32_2527
  let v5144 : Index := Scalar.indexCast v5143
  ![v5144.toNat]
def k0_mult210 (v5145 : BitVec 32) : BitVec 32 :=
  let c3_i32_2528 : BitVec 32 := 3#32
  let v5146 : BitVec 32 := Scalar.shrsi v5145 c3_i32_2528
  let c3_i32_2529 : BitVec 32 := 3#32
  let v5147 : BitVec 32 := Scalar.shli v5146 c3_i32_2529
  v5147

def k0_off290 (v5145 : BitVec 32) : Fin 2 → Nat :=
  let c3_i32_2528 : BitVec 32 := 3#32
  let v5146 : BitVec 32 := Scalar.shrsi v5145 c3_i32_2528
  let c3_i32_2529 : BitVec 32 := 3#32
  let v5147 : BitVec 32 := Scalar.shli v5146 c3_i32_2529
  let v5148 : BitVec 32 := v5147
  let v5149 : Index := Scalar.indexCast v5148
  let c0_2530 : Index := 0#32
  ![v5149.toNat, 0]

def k0_chk208 (v5145 : BitVec 32) : Prop :=
  (8 ∣ (k0_mult210 v5145).toNat) ∧
  (∀ a, (k0_off290 v5145) a + S8x128.size a ≤ S20016x128.size a)
theorem k0_mult210_dvd : ∀ (v5145 : BitVec 32) (k0_hw208 : k0_chk208 v5145), 8 ∣ (k0_mult210 v5145).toNat := fun v5145 k0_hw208 => k0_hw208.1
theorem k0_off290_inb : ∀ (v5145 : BitVec 32) (k0_hw208 : k0_chk208 v5145), ∀ a, (k0_off290 v5145) a + S8x128.size a ≤ S20016x128.size a := fun v5145 k0_hw208 => k0_hw208.2

def k0_off291 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c16_i32_2539 : BitVec 32 := 16#32
  let v5167 : BitVec 32 := Scalar.addi v4782 c16_i32_2539
  let v5168 : Index := Scalar.indexCast v5167
  ![v5168.toNat]
def k0_mult211 (v5169 : BitVec 32) : BitVec 32 :=
  let c3_i32_2540 : BitVec 32 := 3#32
  let v5170 : BitVec 32 := Scalar.shrsi v5169 c3_i32_2540
  let c3_i32_2541 : BitVec 32 := 3#32
  let v5171 : BitVec 32 := Scalar.shli v5170 c3_i32_2541
  v5171

def k0_off292 (v5169 : BitVec 32) : Fin 2 → Nat :=
  let c3_i32_2540 : BitVec 32 := 3#32
  let v5170 : BitVec 32 := Scalar.shrsi v5169 c3_i32_2540
  let c3_i32_2541 : BitVec 32 := 3#32
  let v5171 : BitVec 32 := Scalar.shli v5170 c3_i32_2541
  let v5172 : BitVec 32 := v5171
  let v5173 : Index := Scalar.indexCast v5172
  let c0_2542 : Index := 0#32
  ![v5173.toNat, 0]

def k0_chk209 (v5169 : BitVec 32) : Prop :=
  (8 ∣ (k0_mult211 v5169).toNat) ∧
  (∀ a, (k0_off292 v5169) a + S8x128.size a ≤ S20016x128.size a)
theorem k0_mult211_dvd : ∀ (v5169 : BitVec 32) (k0_hw209 : k0_chk209 v5169), 8 ∣ (k0_mult211 v5169).toNat := fun v5169 k0_hw209 => k0_hw209.1
theorem k0_off292_inb : ∀ (v5169 : BitVec 32) (k0_hw209 : k0_chk209 v5169), ∀ a, (k0_off292 v5169) a + S8x128.size a ≤ S20016x128.size a := fun v5169 k0_hw209 => k0_hw209.2

def k0_off293 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c17_i32_2551 : BitVec 32 := 17#32
  let v5191 : BitVec 32 := Scalar.addi v4782 c17_i32_2551
  let v5192 : Index := Scalar.indexCast v5191
  ![v5192.toNat]
def k0_mult212 (v5193 : BitVec 32) : BitVec 32 :=
  let c3_i32_2552 : BitVec 32 := 3#32
  let v5194 : BitVec 32 := Scalar.shrsi v5193 c3_i32_2552
  let c3_i32_2553 : BitVec 32 := 3#32
  let v5195 : BitVec 32 := Scalar.shli v5194 c3_i32_2553
  v5195

def k0_off294 (v5193 : BitVec 32) : Fin 2 → Nat :=
  let c3_i32_2552 : BitVec 32 := 3#32
  let v5194 : BitVec 32 := Scalar.shrsi v5193 c3_i32_2552
  let c3_i32_2553 : BitVec 32 := 3#32
  let v5195 : BitVec 32 := Scalar.shli v5194 c3_i32_2553
  let v5196 : BitVec 32 := v5195
  let v5197 : Index := Scalar.indexCast v5196
  let c0_2554 : Index := 0#32
  ![v5197.toNat, 0]

def k0_chk210 (v5193 : BitVec 32) : Prop :=
  (8 ∣ (k0_mult212 v5193).toNat) ∧
  (∀ a, (k0_off294 v5193) a + S8x128.size a ≤ S20016x128.size a)
theorem k0_mult212_dvd : ∀ (v5193 : BitVec 32) (k0_hw210 : k0_chk210 v5193), 8 ∣ (k0_mult212 v5193).toNat := fun v5193 k0_hw210 => k0_hw210.1
theorem k0_off294_inb : ∀ (v5193 : BitVec 32) (k0_hw210 : k0_chk210 v5193), ∀ a, (k0_off294 v5193) a + S8x128.size a ≤ S20016x128.size a := fun v5193 k0_hw210 => k0_hw210.2

def k0_off295 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c18_i32_2563 : BitVec 32 := 18#32
  let v5215 : BitVec 32 := Scalar.addi v4782 c18_i32_2563
  let v5216 : Index := Scalar.indexCast v5215
  ![v5216.toNat]
def k0_mult213 (v5217 : BitVec 32) : BitVec 32 :=
  let c3_i32_2564 : BitVec 32 := 3#32
  let v5218 : BitVec 32 := Scalar.shrsi v5217 c3_i32_2564
  let c3_i32_2565 : BitVec 32 := 3#32
  let v5219 : BitVec 32 := Scalar.shli v5218 c3_i32_2565
  v5219

def k0_off296 (v5217 : BitVec 32) : Fin 2 → Nat :=
  let c3_i32_2564 : BitVec 32 := 3#32
  let v5218 : BitVec 32 := Scalar.shrsi v5217 c3_i32_2564
  let c3_i32_2565 : BitVec 32 := 3#32
  let v5219 : BitVec 32 := Scalar.shli v5218 c3_i32_2565
  let v5220 : BitVec 32 := v5219
  let v5221 : Index := Scalar.indexCast v5220
  let c0_2566 : Index := 0#32
  ![v5221.toNat, 0]

def k0_chk211 (v5217 : BitVec 32) : Prop :=
  (8 ∣ (k0_mult213 v5217).toNat) ∧
  (∀ a, (k0_off296 v5217) a + S8x128.size a ≤ S20016x128.size a)
theorem k0_mult213_dvd : ∀ (v5217 : BitVec 32) (k0_hw211 : k0_chk211 v5217), 8 ∣ (k0_mult213 v5217).toNat := fun v5217 k0_hw211 => k0_hw211.1
theorem k0_off296_inb : ∀ (v5217 : BitVec 32) (k0_hw211 : k0_chk211 v5217), ∀ a, (k0_off296 v5217) a + S8x128.size a ≤ S20016x128.size a := fun v5217 k0_hw211 => k0_hw211.2

def k0_off297 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c19_i32_2575 : BitVec 32 := 19#32
  let v5239 : BitVec 32 := Scalar.addi v4782 c19_i32_2575
  let v5240 : Index := Scalar.indexCast v5239
  ![v5240.toNat]
def k0_mult214 (v5241 : BitVec 32) : BitVec 32 :=
  let c3_i32_2576 : BitVec 32 := 3#32
  let v5242 : BitVec 32 := Scalar.shrsi v5241 c3_i32_2576
  let c3_i32_2577 : BitVec 32 := 3#32
  let v5243 : BitVec 32 := Scalar.shli v5242 c3_i32_2577
  v5243

def k0_off298 (v5241 : BitVec 32) : Fin 2 → Nat :=
  let c3_i32_2576 : BitVec 32 := 3#32
  let v5242 : BitVec 32 := Scalar.shrsi v5241 c3_i32_2576
  let c3_i32_2577 : BitVec 32 := 3#32
  let v5243 : BitVec 32 := Scalar.shli v5242 c3_i32_2577
  let v5244 : BitVec 32 := v5243
  let v5245 : Index := Scalar.indexCast v5244
  let c0_2578 : Index := 0#32
  ![v5245.toNat, 0]

def k0_chk212 (v5241 : BitVec 32) : Prop :=
  (8 ∣ (k0_mult214 v5241).toNat) ∧
  (∀ a, (k0_off298 v5241) a + S8x128.size a ≤ S20016x128.size a)
theorem k0_mult214_dvd : ∀ (v5241 : BitVec 32) (k0_hw212 : k0_chk212 v5241), 8 ∣ (k0_mult214 v5241).toNat := fun v5241 k0_hw212 => k0_hw212.1
theorem k0_off298_inb : ∀ (v5241 : BitVec 32) (k0_hw212 : k0_chk212 v5241), ∀ a, (k0_off298 v5241) a + S8x128.size a ≤ S20016x128.size a := fun v5241 k0_hw212 => k0_hw212.2

def k0_off299 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c20_i32_2587 : BitVec 32 := 20#32
  let v5263 : BitVec 32 := Scalar.addi v4782 c20_i32_2587
  let v5264 : Index := Scalar.indexCast v5263
  ![v5264.toNat]
def k0_mult215 (v5265 : BitVec 32) : BitVec 32 :=
  let c3_i32_2588 : BitVec 32 := 3#32
  let v5266 : BitVec 32 := Scalar.shrsi v5265 c3_i32_2588
  let c3_i32_2589 : BitVec 32 := 3#32
  let v5267 : BitVec 32 := Scalar.shli v5266 c3_i32_2589
  v5267

def k0_off300 (v5265 : BitVec 32) : Fin 2 → Nat :=
  let c3_i32_2588 : BitVec 32 := 3#32
  let v5266 : BitVec 32 := Scalar.shrsi v5265 c3_i32_2588
  let c3_i32_2589 : BitVec 32 := 3#32
  let v5267 : BitVec 32 := Scalar.shli v5266 c3_i32_2589
  let v5268 : BitVec 32 := v5267
  let v5269 : Index := Scalar.indexCast v5268
  let c0_2590 : Index := 0#32
  ![v5269.toNat, 0]

def k0_chk213 (v5265 : BitVec 32) : Prop :=
  (8 ∣ (k0_mult215 v5265).toNat) ∧
  (∀ a, (k0_off300 v5265) a + S8x128.size a ≤ S20016x128.size a)
theorem k0_mult215_dvd : ∀ (v5265 : BitVec 32) (k0_hw213 : k0_chk213 v5265), 8 ∣ (k0_mult215 v5265).toNat := fun v5265 k0_hw213 => k0_hw213.1
theorem k0_off300_inb : ∀ (v5265 : BitVec 32) (k0_hw213 : k0_chk213 v5265), ∀ a, (k0_off300 v5265) a + S8x128.size a ≤ S20016x128.size a := fun v5265 k0_hw213 => k0_hw213.2

def k0_off301 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c21_i32_2599 : BitVec 32 := 21#32
  let v5287 : BitVec 32 := Scalar.addi v4782 c21_i32_2599
  let v5288 : Index := Scalar.indexCast v5287
  ![v5288.toNat]
def k0_mult216 (v5289 : BitVec 32) : BitVec 32 :=
  let c3_i32_2600 : BitVec 32 := 3#32
  let v5290 : BitVec 32 := Scalar.shrsi v5289 c3_i32_2600
  let c3_i32_2601 : BitVec 32 := 3#32
  let v5291 : BitVec 32 := Scalar.shli v5290 c3_i32_2601
  v5291

def k0_off302 (v5289 : BitVec 32) : Fin 2 → Nat :=
  let c3_i32_2600 : BitVec 32 := 3#32
  let v5290 : BitVec 32 := Scalar.shrsi v5289 c3_i32_2600
  let c3_i32_2601 : BitVec 32 := 3#32
  let v5291 : BitVec 32 := Scalar.shli v5290 c3_i32_2601
  let v5292 : BitVec 32 := v5291
  let v5293 : Index := Scalar.indexCast v5292
  let c0_2602 : Index := 0#32
  ![v5293.toNat, 0]

def k0_chk214 (v5289 : BitVec 32) : Prop :=
  (8 ∣ (k0_mult216 v5289).toNat) ∧
  (∀ a, (k0_off302 v5289) a + S8x128.size a ≤ S20016x128.size a)
theorem k0_mult216_dvd : ∀ (v5289 : BitVec 32) (k0_hw214 : k0_chk214 v5289), 8 ∣ (k0_mult216 v5289).toNat := fun v5289 k0_hw214 => k0_hw214.1
theorem k0_off302_inb : ∀ (v5289 : BitVec 32) (k0_hw214 : k0_chk214 v5289), ∀ a, (k0_off302 v5289) a + S8x128.size a ≤ S20016x128.size a := fun v5289 k0_hw214 => k0_hw214.2

def k0_off303 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c22_i32_2611 : BitVec 32 := 22#32
  let v5311 : BitVec 32 := Scalar.addi v4782 c22_i32_2611
  let v5312 : Index := Scalar.indexCast v5311
  ![v5312.toNat]
def k0_mult217 (v5313 : BitVec 32) : BitVec 32 :=
  let c3_i32_2612 : BitVec 32 := 3#32
  let v5314 : BitVec 32 := Scalar.shrsi v5313 c3_i32_2612
  let c3_i32_2613 : BitVec 32 := 3#32
  let v5315 : BitVec 32 := Scalar.shli v5314 c3_i32_2613
  v5315

def k0_off304 (v5313 : BitVec 32) : Fin 2 → Nat :=
  let c3_i32_2612 : BitVec 32 := 3#32
  let v5314 : BitVec 32 := Scalar.shrsi v5313 c3_i32_2612
  let c3_i32_2613 : BitVec 32 := 3#32
  let v5315 : BitVec 32 := Scalar.shli v5314 c3_i32_2613
  let v5316 : BitVec 32 := v5315
  let v5317 : Index := Scalar.indexCast v5316
  let c0_2614 : Index := 0#32
  ![v5317.toNat, 0]

def k0_chk215 (v5313 : BitVec 32) : Prop :=
  (8 ∣ (k0_mult217 v5313).toNat) ∧
  (∀ a, (k0_off304 v5313) a + S8x128.size a ≤ S20016x128.size a)
theorem k0_mult217_dvd : ∀ (v5313 : BitVec 32) (k0_hw215 : k0_chk215 v5313), 8 ∣ (k0_mult217 v5313).toNat := fun v5313 k0_hw215 => k0_hw215.1
theorem k0_off304_inb : ∀ (v5313 : BitVec 32) (k0_hw215 : k0_chk215 v5313), ∀ a, (k0_off304 v5313) a + S8x128.size a ≤ S20016x128.size a := fun v5313 k0_hw215 => k0_hw215.2

def k0_off305 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c23_i32_2623 : BitVec 32 := 23#32
  let v5335 : BitVec 32 := Scalar.addi v4782 c23_i32_2623
  let v5336 : Index := Scalar.indexCast v5335
  ![v5336.toNat]
def k0_mult218 (v5337 : BitVec 32) : BitVec 32 :=
  let c3_i32_2624 : BitVec 32 := 3#32
  let v5338 : BitVec 32 := Scalar.shrsi v5337 c3_i32_2624
  let c3_i32_2625 : BitVec 32 := 3#32
  let v5339 : BitVec 32 := Scalar.shli v5338 c3_i32_2625
  v5339

def k0_off306 (v5337 : BitVec 32) : Fin 2 → Nat :=
  let c3_i32_2624 : BitVec 32 := 3#32
  let v5338 : BitVec 32 := Scalar.shrsi v5337 c3_i32_2624
  let c3_i32_2625 : BitVec 32 := 3#32
  let v5339 : BitVec 32 := Scalar.shli v5338 c3_i32_2625
  let v5340 : BitVec 32 := v5339
  let v5341 : Index := Scalar.indexCast v5340
  let c0_2626 : Index := 0#32
  ![v5341.toNat, 0]

def k0_chk216 (v5337 : BitVec 32) : Prop :=
  (8 ∣ (k0_mult218 v5337).toNat) ∧
  (∀ a, (k0_off306 v5337) a + S8x128.size a ≤ S20016x128.size a)
theorem k0_mult218_dvd : ∀ (v5337 : BitVec 32) (k0_hw216 : k0_chk216 v5337), 8 ∣ (k0_mult218 v5337).toNat := fun v5337 k0_hw216 => k0_hw216.1
theorem k0_off306_inb : ∀ (v5337 : BitVec 32) (k0_hw216 : k0_chk216 v5337), ∀ a, (k0_off306 v5337) a + S8x128.size a ≤ S20016x128.size a := fun v5337 k0_hw216 => k0_hw216.2

def k0_off307 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c24_i32_2635 : BitVec 32 := 24#32
  let v5359 : BitVec 32 := Scalar.addi v4782 c24_i32_2635
  let v5360 : Index := Scalar.indexCast v5359
  ![v5360.toNat]
def k0_mult219 (v5361 : BitVec 32) : BitVec 32 :=
  let c3_i32_2636 : BitVec 32 := 3#32
  let v5362 : BitVec 32 := Scalar.shrsi v5361 c3_i32_2636
  let c3_i32_2637 : BitVec 32 := 3#32
  let v5363 : BitVec 32 := Scalar.shli v5362 c3_i32_2637
  v5363

def k0_off308 (v5361 : BitVec 32) : Fin 2 → Nat :=
  let c3_i32_2636 : BitVec 32 := 3#32
  let v5362 : BitVec 32 := Scalar.shrsi v5361 c3_i32_2636
  let c3_i32_2637 : BitVec 32 := 3#32
  let v5363 : BitVec 32 := Scalar.shli v5362 c3_i32_2637
  let v5364 : BitVec 32 := v5363
  let v5365 : Index := Scalar.indexCast v5364
  let c0_2638 : Index := 0#32
  ![v5365.toNat, 0]

def k0_chk217 (v5361 : BitVec 32) : Prop :=
  (8 ∣ (k0_mult219 v5361).toNat) ∧
  (∀ a, (k0_off308 v5361) a + S8x128.size a ≤ S20016x128.size a)
theorem k0_mult219_dvd : ∀ (v5361 : BitVec 32) (k0_hw217 : k0_chk217 v5361), 8 ∣ (k0_mult219 v5361).toNat := fun v5361 k0_hw217 => k0_hw217.1
theorem k0_off308_inb : ∀ (v5361 : BitVec 32) (k0_hw217 : k0_chk217 v5361), ∀ a, (k0_off308 v5361) a + S8x128.size a ≤ S20016x128.size a := fun v5361 k0_hw217 => k0_hw217.2

def k0_off309 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c25_i32_2647 : BitVec 32 := 25#32
  let v5383 : BitVec 32 := Scalar.addi v4782 c25_i32_2647
  let v5384 : Index := Scalar.indexCast v5383
  ![v5384.toNat]
def k0_mult220 (v5385 : BitVec 32) : BitVec 32 :=
  let c3_i32_2648 : BitVec 32 := 3#32
  let v5386 : BitVec 32 := Scalar.shrsi v5385 c3_i32_2648
  let c3_i32_2649 : BitVec 32 := 3#32
  let v5387 : BitVec 32 := Scalar.shli v5386 c3_i32_2649
  v5387

def k0_off310 (v5385 : BitVec 32) : Fin 2 → Nat :=
  let c3_i32_2648 : BitVec 32 := 3#32
  let v5386 : BitVec 32 := Scalar.shrsi v5385 c3_i32_2648
  let c3_i32_2649 : BitVec 32 := 3#32
  let v5387 : BitVec 32 := Scalar.shli v5386 c3_i32_2649
  let v5388 : BitVec 32 := v5387
  let v5389 : Index := Scalar.indexCast v5388
  let c0_2650 : Index := 0#32
  ![v5389.toNat, 0]

def k0_chk218 (v5385 : BitVec 32) : Prop :=
  (8 ∣ (k0_mult220 v5385).toNat) ∧
  (∀ a, (k0_off310 v5385) a + S8x128.size a ≤ S20016x128.size a)
theorem k0_mult220_dvd : ∀ (v5385 : BitVec 32) (k0_hw218 : k0_chk218 v5385), 8 ∣ (k0_mult220 v5385).toNat := fun v5385 k0_hw218 => k0_hw218.1
theorem k0_off310_inb : ∀ (v5385 : BitVec 32) (k0_hw218 : k0_chk218 v5385), ∀ a, (k0_off310 v5385) a + S8x128.size a ≤ S20016x128.size a := fun v5385 k0_hw218 => k0_hw218.2

def k0_off311 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c26_i32_2659 : BitVec 32 := 26#32
  let v5407 : BitVec 32 := Scalar.addi v4782 c26_i32_2659
  let v5408 : Index := Scalar.indexCast v5407
  ![v5408.toNat]
def k0_mult221 (v5409 : BitVec 32) : BitVec 32 :=
  let c3_i32_2660 : BitVec 32 := 3#32
  let v5410 : BitVec 32 := Scalar.shrsi v5409 c3_i32_2660
  let c3_i32_2661 : BitVec 32 := 3#32
  let v5411 : BitVec 32 := Scalar.shli v5410 c3_i32_2661
  v5411

def k0_off312 (v5409 : BitVec 32) : Fin 2 → Nat :=
  let c3_i32_2660 : BitVec 32 := 3#32
  let v5410 : BitVec 32 := Scalar.shrsi v5409 c3_i32_2660
  let c3_i32_2661 : BitVec 32 := 3#32
  let v5411 : BitVec 32 := Scalar.shli v5410 c3_i32_2661
  let v5412 : BitVec 32 := v5411
  let v5413 : Index := Scalar.indexCast v5412
  let c0_2662 : Index := 0#32
  ![v5413.toNat, 0]

def k0_chk219 (v5409 : BitVec 32) : Prop :=
  (8 ∣ (k0_mult221 v5409).toNat) ∧
  (∀ a, (k0_off312 v5409) a + S8x128.size a ≤ S20016x128.size a)
theorem k0_mult221_dvd : ∀ (v5409 : BitVec 32) (k0_hw219 : k0_chk219 v5409), 8 ∣ (k0_mult221 v5409).toNat := fun v5409 k0_hw219 => k0_hw219.1
theorem k0_off312_inb : ∀ (v5409 : BitVec 32) (k0_hw219 : k0_chk219 v5409), ∀ a, (k0_off312 v5409) a + S8x128.size a ≤ S20016x128.size a := fun v5409 k0_hw219 => k0_hw219.2

def k0_off313 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c27_i32_2671 : BitVec 32 := 27#32
  let v5431 : BitVec 32 := Scalar.addi v4782 c27_i32_2671
  let v5432 : Index := Scalar.indexCast v5431
  ![v5432.toNat]
def k0_mult222 (v5433 : BitVec 32) : BitVec 32 :=
  let c3_i32_2672 : BitVec 32 := 3#32
  let v5434 : BitVec 32 := Scalar.shrsi v5433 c3_i32_2672
  let c3_i32_2673 : BitVec 32 := 3#32
  let v5435 : BitVec 32 := Scalar.shli v5434 c3_i32_2673
  v5435

def k0_off314 (v5433 : BitVec 32) : Fin 2 → Nat :=
  let c3_i32_2672 : BitVec 32 := 3#32
  let v5434 : BitVec 32 := Scalar.shrsi v5433 c3_i32_2672
  let c3_i32_2673 : BitVec 32 := 3#32
  let v5435 : BitVec 32 := Scalar.shli v5434 c3_i32_2673
  let v5436 : BitVec 32 := v5435
  let v5437 : Index := Scalar.indexCast v5436
  let c0_2674 : Index := 0#32
  ![v5437.toNat, 0]

def k0_chk220 (v5433 : BitVec 32) : Prop :=
  (8 ∣ (k0_mult222 v5433).toNat) ∧
  (∀ a, (k0_off314 v5433) a + S8x128.size a ≤ S20016x128.size a)
theorem k0_mult222_dvd : ∀ (v5433 : BitVec 32) (k0_hw220 : k0_chk220 v5433), 8 ∣ (k0_mult222 v5433).toNat := fun v5433 k0_hw220 => k0_hw220.1
theorem k0_off314_inb : ∀ (v5433 : BitVec 32) (k0_hw220 : k0_chk220 v5433), ∀ a, (k0_off314 v5433) a + S8x128.size a ≤ S20016x128.size a := fun v5433 k0_hw220 => k0_hw220.2

def k0_off315 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c28_i32_2683 : BitVec 32 := 28#32
  let v5455 : BitVec 32 := Scalar.addi v4782 c28_i32_2683
  let v5456 : Index := Scalar.indexCast v5455
  ![v5456.toNat]
def k0_mult223 (v5457 : BitVec 32) : BitVec 32 :=
  let c3_i32_2684 : BitVec 32 := 3#32
  let v5458 : BitVec 32 := Scalar.shrsi v5457 c3_i32_2684
  let c3_i32_2685 : BitVec 32 := 3#32
  let v5459 : BitVec 32 := Scalar.shli v5458 c3_i32_2685
  v5459

def k0_off316 (v5457 : BitVec 32) : Fin 2 → Nat :=
  let c3_i32_2684 : BitVec 32 := 3#32
  let v5458 : BitVec 32 := Scalar.shrsi v5457 c3_i32_2684
  let c3_i32_2685 : BitVec 32 := 3#32
  let v5459 : BitVec 32 := Scalar.shli v5458 c3_i32_2685
  let v5460 : BitVec 32 := v5459
  let v5461 : Index := Scalar.indexCast v5460
  let c0_2686 : Index := 0#32
  ![v5461.toNat, 0]

def k0_chk221 (v5457 : BitVec 32) : Prop :=
  (8 ∣ (k0_mult223 v5457).toNat) ∧
  (∀ a, (k0_off316 v5457) a + S8x128.size a ≤ S20016x128.size a)
theorem k0_mult223_dvd : ∀ (v5457 : BitVec 32) (k0_hw221 : k0_chk221 v5457), 8 ∣ (k0_mult223 v5457).toNat := fun v5457 k0_hw221 => k0_hw221.1
theorem k0_off316_inb : ∀ (v5457 : BitVec 32) (k0_hw221 : k0_chk221 v5457), ∀ a, (k0_off316 v5457) a + S8x128.size a ≤ S20016x128.size a := fun v5457 k0_hw221 => k0_hw221.2

def k0_off317 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c29_i32_2695 : BitVec 32 := 29#32
  let v5479 : BitVec 32 := Scalar.addi v4782 c29_i32_2695
  let v5480 : Index := Scalar.indexCast v5479
  ![v5480.toNat]
def k0_mult224 (v5481 : BitVec 32) : BitVec 32 :=
  let c3_i32_2696 : BitVec 32 := 3#32
  let v5482 : BitVec 32 := Scalar.shrsi v5481 c3_i32_2696
  let c3_i32_2697 : BitVec 32 := 3#32
  let v5483 : BitVec 32 := Scalar.shli v5482 c3_i32_2697
  v5483

def k0_off318 (v5481 : BitVec 32) : Fin 2 → Nat :=
  let c3_i32_2696 : BitVec 32 := 3#32
  let v5482 : BitVec 32 := Scalar.shrsi v5481 c3_i32_2696
  let c3_i32_2697 : BitVec 32 := 3#32
  let v5483 : BitVec 32 := Scalar.shli v5482 c3_i32_2697
  let v5484 : BitVec 32 := v5483
  let v5485 : Index := Scalar.indexCast v5484
  let c0_2698 : Index := 0#32
  ![v5485.toNat, 0]

def k0_chk222 (v5481 : BitVec 32) : Prop :=
  (8 ∣ (k0_mult224 v5481).toNat) ∧
  (∀ a, (k0_off318 v5481) a + S8x128.size a ≤ S20016x128.size a)
theorem k0_mult224_dvd : ∀ (v5481 : BitVec 32) (k0_hw222 : k0_chk222 v5481), 8 ∣ (k0_mult224 v5481).toNat := fun v5481 k0_hw222 => k0_hw222.1
theorem k0_off318_inb : ∀ (v5481 : BitVec 32) (k0_hw222 : k0_chk222 v5481), ∀ a, (k0_off318 v5481) a + S8x128.size a ≤ S20016x128.size a := fun v5481 k0_hw222 => k0_hw222.2

def k0_off319 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c30_i32_2707 : BitVec 32 := 30#32
  let v5503 : BitVec 32 := Scalar.addi v4782 c30_i32_2707
  let v5504 : Index := Scalar.indexCast v5503
  ![v5504.toNat]
def k0_mult225 (v5505 : BitVec 32) : BitVec 32 :=
  let c3_i32_2708 : BitVec 32 := 3#32
  let v5506 : BitVec 32 := Scalar.shrsi v5505 c3_i32_2708
  let c3_i32_2709 : BitVec 32 := 3#32
  let v5507 : BitVec 32 := Scalar.shli v5506 c3_i32_2709
  v5507

def k0_off320 (v5505 : BitVec 32) : Fin 2 → Nat :=
  let c3_i32_2708 : BitVec 32 := 3#32
  let v5506 : BitVec 32 := Scalar.shrsi v5505 c3_i32_2708
  let c3_i32_2709 : BitVec 32 := 3#32
  let v5507 : BitVec 32 := Scalar.shli v5506 c3_i32_2709
  let v5508 : BitVec 32 := v5507
  let v5509 : Index := Scalar.indexCast v5508
  let c0_2710 : Index := 0#32
  ![v5509.toNat, 0]

def k0_chk223 (v5505 : BitVec 32) : Prop :=
  (8 ∣ (k0_mult225 v5505).toNat) ∧
  (∀ a, (k0_off320 v5505) a + S8x128.size a ≤ S20016x128.size a)
theorem k0_mult225_dvd : ∀ (v5505 : BitVec 32) (k0_hw223 : k0_chk223 v5505), 8 ∣ (k0_mult225 v5505).toNat := fun v5505 k0_hw223 => k0_hw223.1
theorem k0_off320_inb : ∀ (v5505 : BitVec 32) (k0_hw223 : k0_chk223 v5505), ∀ a, (k0_off320 v5505) a + S8x128.size a ≤ S20016x128.size a := fun v5505 k0_hw223 => k0_hw223.2

def k0_off321 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c31_i32_2719 : BitVec 32 := 31#32
  let v5527 : BitVec 32 := Scalar.addi v4782 c31_i32_2719
  let v5528 : Index := Scalar.indexCast v5527
  ![v5528.toNat]
def k0_mult226 (v5529 : BitVec 32) : BitVec 32 :=
  let c3_i32_2720 : BitVec 32 := 3#32
  let v5530 : BitVec 32 := Scalar.shrsi v5529 c3_i32_2720
  let c3_i32_2721 : BitVec 32 := 3#32
  let v5531 : BitVec 32 := Scalar.shli v5530 c3_i32_2721
  v5531

def k0_off322 (v5529 : BitVec 32) : Fin 2 → Nat :=
  let c3_i32_2720 : BitVec 32 := 3#32
  let v5530 : BitVec 32 := Scalar.shrsi v5529 c3_i32_2720
  let c3_i32_2721 : BitVec 32 := 3#32
  let v5531 : BitVec 32 := Scalar.shli v5530 c3_i32_2721
  let v5532 : BitVec 32 := v5531
  let v5533 : Index := Scalar.indexCast v5532
  let c0_2722 : Index := 0#32
  ![v5533.toNat, 0]

def k0_chk224 (v5529 : BitVec 32) : Prop :=
  (8 ∣ (k0_mult226 v5529).toNat) ∧
  (∀ a, (k0_off322 v5529) a + S8x128.size a ≤ S20016x128.size a)
theorem k0_mult226_dvd : ∀ (v5529 : BitVec 32) (k0_hw224 : k0_chk224 v5529), 8 ∣ (k0_mult226 v5529).toNat := fun v5529 k0_hw224 => k0_hw224.1
theorem k0_off322_inb : ∀ (v5529 : BitVec 32) (k0_hw224 : k0_chk224 v5529), ∀ a, (k0_off322 v5529) a + S8x128.size a ≤ S20016x128.size a := fun v5529 k0_hw224 => k0_hw224.2

def k0_off323 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c32_i32_2731 : BitVec 32 := 32#32
  let v5551 : BitVec 32 := Scalar.addi v4782 c32_i32_2731
  let v5552 : Index := Scalar.indexCast v5551
  ![v5552.toNat]
def k0_mult227 (v5553 : BitVec 32) : BitVec 32 :=
  let c3_i32_2732 : BitVec 32 := 3#32
  let v5554 : BitVec 32 := Scalar.shrsi v5553 c3_i32_2732
  let c3_i32_2733 : BitVec 32 := 3#32
  let v5555 : BitVec 32 := Scalar.shli v5554 c3_i32_2733
  v5555

def k0_off324 (v5553 : BitVec 32) : Fin 2 → Nat :=
  let c3_i32_2732 : BitVec 32 := 3#32
  let v5554 : BitVec 32 := Scalar.shrsi v5553 c3_i32_2732
  let c3_i32_2733 : BitVec 32 := 3#32
  let v5555 : BitVec 32 := Scalar.shli v5554 c3_i32_2733
  let v5556 : BitVec 32 := v5555
  let v5557 : Index := Scalar.indexCast v5556
  let c0_2734 : Index := 0#32
  ![v5557.toNat, 0]

def k0_chk225 (v5553 : BitVec 32) : Prop :=
  (8 ∣ (k0_mult227 v5553).toNat) ∧
  (∀ a, (k0_off324 v5553) a + S8x128.size a ≤ S20016x128.size a)
theorem k0_mult227_dvd : ∀ (v5553 : BitVec 32) (k0_hw225 : k0_chk225 v5553), 8 ∣ (k0_mult227 v5553).toNat := fun v5553 k0_hw225 => k0_hw225.1
theorem k0_off324_inb : ∀ (v5553 : BitVec 32) (k0_hw225 : k0_chk225 v5553), ∀ a, (k0_off324 v5553) a + S8x128.size a ≤ S20016x128.size a := fun v5553 k0_hw225 => k0_hw225.2

def k0_off325 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c33_i32_2743 : BitVec 32 := 33#32
  let v5575 : BitVec 32 := Scalar.addi v4782 c33_i32_2743
  let v5576 : Index := Scalar.indexCast v5575
  ![v5576.toNat]
def k0_mult228 (v5577 : BitVec 32) : BitVec 32 :=
  let c3_i32_2744 : BitVec 32 := 3#32
  let v5578 : BitVec 32 := Scalar.shrsi v5577 c3_i32_2744
  let c3_i32_2745 : BitVec 32 := 3#32
  let v5579 : BitVec 32 := Scalar.shli v5578 c3_i32_2745
  v5579

def k0_off326 (v5577 : BitVec 32) : Fin 2 → Nat :=
  let c3_i32_2744 : BitVec 32 := 3#32
  let v5578 : BitVec 32 := Scalar.shrsi v5577 c3_i32_2744
  let c3_i32_2745 : BitVec 32 := 3#32
  let v5579 : BitVec 32 := Scalar.shli v5578 c3_i32_2745
  let v5580 : BitVec 32 := v5579
  let v5581 : Index := Scalar.indexCast v5580
  let c0_2746 : Index := 0#32
  ![v5581.toNat, 0]

def k0_chk226 (v5577 : BitVec 32) : Prop :=
  (8 ∣ (k0_mult228 v5577).toNat) ∧
  (∀ a, (k0_off326 v5577) a + S8x128.size a ≤ S20016x128.size a)
theorem k0_mult228_dvd : ∀ (v5577 : BitVec 32) (k0_hw226 : k0_chk226 v5577), 8 ∣ (k0_mult228 v5577).toNat := fun v5577 k0_hw226 => k0_hw226.1
theorem k0_off326_inb : ∀ (v5577 : BitVec 32) (k0_hw226 : k0_chk226 v5577), ∀ a, (k0_off326 v5577) a + S8x128.size a ≤ S20016x128.size a := fun v5577 k0_hw226 => k0_hw226.2

def k0_off327 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c34_i32_2755 : BitVec 32 := 34#32
  let v5599 : BitVec 32 := Scalar.addi v4782 c34_i32_2755
  let v5600 : Index := Scalar.indexCast v5599
  ![v5600.toNat]
def k0_mult229 (v5601 : BitVec 32) : BitVec 32 :=
  let c3_i32_2756 : BitVec 32 := 3#32
  let v5602 : BitVec 32 := Scalar.shrsi v5601 c3_i32_2756
  let c3_i32_2757 : BitVec 32 := 3#32
  let v5603 : BitVec 32 := Scalar.shli v5602 c3_i32_2757
  v5603

def k0_off328 (v5601 : BitVec 32) : Fin 2 → Nat :=
  let c3_i32_2756 : BitVec 32 := 3#32
  let v5602 : BitVec 32 := Scalar.shrsi v5601 c3_i32_2756
  let c3_i32_2757 : BitVec 32 := 3#32
  let v5603 : BitVec 32 := Scalar.shli v5602 c3_i32_2757
  let v5604 : BitVec 32 := v5603
  let v5605 : Index := Scalar.indexCast v5604
  let c0_2758 : Index := 0#32
  ![v5605.toNat, 0]

def k0_chk227 (v5601 : BitVec 32) : Prop :=
  (8 ∣ (k0_mult229 v5601).toNat) ∧
  (∀ a, (k0_off328 v5601) a + S8x128.size a ≤ S20016x128.size a)
theorem k0_mult229_dvd : ∀ (v5601 : BitVec 32) (k0_hw227 : k0_chk227 v5601), 8 ∣ (k0_mult229 v5601).toNat := fun v5601 k0_hw227 => k0_hw227.1
theorem k0_off328_inb : ∀ (v5601 : BitVec 32) (k0_hw227 : k0_chk227 v5601), ∀ a, (k0_off328 v5601) a + S8x128.size a ≤ S20016x128.size a := fun v5601 k0_hw227 => k0_hw227.2

def k0_off329 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c35_i32_2767 : BitVec 32 := 35#32
  let v5623 : BitVec 32 := Scalar.addi v4782 c35_i32_2767
  let v5624 : Index := Scalar.indexCast v5623
  ![v5624.toNat]
def k0_mult230 (v5625 : BitVec 32) : BitVec 32 :=
  let c3_i32_2768 : BitVec 32 := 3#32
  let v5626 : BitVec 32 := Scalar.shrsi v5625 c3_i32_2768
  let c3_i32_2769 : BitVec 32 := 3#32
  let v5627 : BitVec 32 := Scalar.shli v5626 c3_i32_2769
  v5627

def k0_off330 (v5625 : BitVec 32) : Fin 2 → Nat :=
  let c3_i32_2768 : BitVec 32 := 3#32
  let v5626 : BitVec 32 := Scalar.shrsi v5625 c3_i32_2768
  let c3_i32_2769 : BitVec 32 := 3#32
  let v5627 : BitVec 32 := Scalar.shli v5626 c3_i32_2769
  let v5628 : BitVec 32 := v5627
  let v5629 : Index := Scalar.indexCast v5628
  let c0_2770 : Index := 0#32
  ![v5629.toNat, 0]

def k0_chk228 (v5625 : BitVec 32) : Prop :=
  (8 ∣ (k0_mult230 v5625).toNat) ∧
  (∀ a, (k0_off330 v5625) a + S8x128.size a ≤ S20016x128.size a)
theorem k0_mult230_dvd : ∀ (v5625 : BitVec 32) (k0_hw228 : k0_chk228 v5625), 8 ∣ (k0_mult230 v5625).toNat := fun v5625 k0_hw228 => k0_hw228.1
theorem k0_off330_inb : ∀ (v5625 : BitVec 32) (k0_hw228 : k0_chk228 v5625), ∀ a, (k0_off330 v5625) a + S8x128.size a ≤ S20016x128.size a := fun v5625 k0_hw228 => k0_hw228.2

def k0_off331 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c36_i32_2779 : BitVec 32 := 36#32
  let v5647 : BitVec 32 := Scalar.addi v4782 c36_i32_2779
  let v5648 : Index := Scalar.indexCast v5647
  ![v5648.toNat]
def k0_mult231 (v5649 : BitVec 32) : BitVec 32 :=
  let c3_i32_2780 : BitVec 32 := 3#32
  let v5650 : BitVec 32 := Scalar.shrsi v5649 c3_i32_2780
  let c3_i32_2781 : BitVec 32 := 3#32
  let v5651 : BitVec 32 := Scalar.shli v5650 c3_i32_2781
  v5651

def k0_off332 (v5649 : BitVec 32) : Fin 2 → Nat :=
  let c3_i32_2780 : BitVec 32 := 3#32
  let v5650 : BitVec 32 := Scalar.shrsi v5649 c3_i32_2780
  let c3_i32_2781 : BitVec 32 := 3#32
  let v5651 : BitVec 32 := Scalar.shli v5650 c3_i32_2781
  let v5652 : BitVec 32 := v5651
  let v5653 : Index := Scalar.indexCast v5652
  let c0_2782 : Index := 0#32
  ![v5653.toNat, 0]

def k0_chk229 (v5649 : BitVec 32) : Prop :=
  (8 ∣ (k0_mult231 v5649).toNat) ∧
  (∀ a, (k0_off332 v5649) a + S8x128.size a ≤ S20016x128.size a)
theorem k0_mult231_dvd : ∀ (v5649 : BitVec 32) (k0_hw229 : k0_chk229 v5649), 8 ∣ (k0_mult231 v5649).toNat := fun v5649 k0_hw229 => k0_hw229.1
theorem k0_off332_inb : ∀ (v5649 : BitVec 32) (k0_hw229 : k0_chk229 v5649), ∀ a, (k0_off332 v5649) a + S8x128.size a ≤ S20016x128.size a := fun v5649 k0_hw229 => k0_hw229.2

def k0_off333 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c37_i32_2791 : BitVec 32 := 37#32
  let v5671 : BitVec 32 := Scalar.addi v4782 c37_i32_2791
  let v5672 : Index := Scalar.indexCast v5671
  ![v5672.toNat]
def k0_mult232 (v5673 : BitVec 32) : BitVec 32 :=
  let c3_i32_2792 : BitVec 32 := 3#32
  let v5674 : BitVec 32 := Scalar.shrsi v5673 c3_i32_2792
  let c3_i32_2793 : BitVec 32 := 3#32
  let v5675 : BitVec 32 := Scalar.shli v5674 c3_i32_2793
  v5675

def k0_off334 (v5673 : BitVec 32) : Fin 2 → Nat :=
  let c3_i32_2792 : BitVec 32 := 3#32
  let v5674 : BitVec 32 := Scalar.shrsi v5673 c3_i32_2792
  let c3_i32_2793 : BitVec 32 := 3#32
  let v5675 : BitVec 32 := Scalar.shli v5674 c3_i32_2793
  let v5676 : BitVec 32 := v5675
  let v5677 : Index := Scalar.indexCast v5676
  let c0_2794 : Index := 0#32
  ![v5677.toNat, 0]

def k0_chk230 (v5673 : BitVec 32) : Prop :=
  (8 ∣ (k0_mult232 v5673).toNat) ∧
  (∀ a, (k0_off334 v5673) a + S8x128.size a ≤ S20016x128.size a)
theorem k0_mult232_dvd : ∀ (v5673 : BitVec 32) (k0_hw230 : k0_chk230 v5673), 8 ∣ (k0_mult232 v5673).toNat := fun v5673 k0_hw230 => k0_hw230.1
theorem k0_off334_inb : ∀ (v5673 : BitVec 32) (k0_hw230 : k0_chk230 v5673), ∀ a, (k0_off334 v5673) a + S8x128.size a ≤ S20016x128.size a := fun v5673 k0_hw230 => k0_hw230.2

def k0_off335 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c38_i32_2803 : BitVec 32 := 38#32
  let v5695 : BitVec 32 := Scalar.addi v4782 c38_i32_2803
  let v5696 : Index := Scalar.indexCast v5695
  ![v5696.toNat]
def k0_mult233 (v5697 : BitVec 32) : BitVec 32 :=
  let c3_i32_2804 : BitVec 32 := 3#32
  let v5698 : BitVec 32 := Scalar.shrsi v5697 c3_i32_2804
  let c3_i32_2805 : BitVec 32 := 3#32
  let v5699 : BitVec 32 := Scalar.shli v5698 c3_i32_2805
  v5699

def k0_off336 (v5697 : BitVec 32) : Fin 2 → Nat :=
  let c3_i32_2804 : BitVec 32 := 3#32
  let v5698 : BitVec 32 := Scalar.shrsi v5697 c3_i32_2804
  let c3_i32_2805 : BitVec 32 := 3#32
  let v5699 : BitVec 32 := Scalar.shli v5698 c3_i32_2805
  let v5700 : BitVec 32 := v5699
  let v5701 : Index := Scalar.indexCast v5700
  let c0_2806 : Index := 0#32
  ![v5701.toNat, 0]

def k0_chk231 (v5697 : BitVec 32) : Prop :=
  (8 ∣ (k0_mult233 v5697).toNat) ∧
  (∀ a, (k0_off336 v5697) a + S8x128.size a ≤ S20016x128.size a)
theorem k0_mult233_dvd : ∀ (v5697 : BitVec 32) (k0_hw231 : k0_chk231 v5697), 8 ∣ (k0_mult233 v5697).toNat := fun v5697 k0_hw231 => k0_hw231.1
theorem k0_off336_inb : ∀ (v5697 : BitVec 32) (k0_hw231 : k0_chk231 v5697), ∀ a, (k0_off336 v5697) a + S8x128.size a ≤ S20016x128.size a := fun v5697 k0_hw231 => k0_hw231.2

def k0_off337 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c39_i32_2815 : BitVec 32 := 39#32
  let v5719 : BitVec 32 := Scalar.addi v4782 c39_i32_2815
  let v5720 : Index := Scalar.indexCast v5719
  ![v5720.toNat]
def k0_mult234 (v5721 : BitVec 32) : BitVec 32 :=
  let c3_i32_2816 : BitVec 32 := 3#32
  let v5722 : BitVec 32 := Scalar.shrsi v5721 c3_i32_2816
  let c3_i32_2817 : BitVec 32 := 3#32
  let v5723 : BitVec 32 := Scalar.shli v5722 c3_i32_2817
  v5723

def k0_off338 (v5721 : BitVec 32) : Fin 2 → Nat :=
  let c3_i32_2816 : BitVec 32 := 3#32
  let v5722 : BitVec 32 := Scalar.shrsi v5721 c3_i32_2816
  let c3_i32_2817 : BitVec 32 := 3#32
  let v5723 : BitVec 32 := Scalar.shli v5722 c3_i32_2817
  let v5724 : BitVec 32 := v5723
  let v5725 : Index := Scalar.indexCast v5724
  let c0_2818 : Index := 0#32
  ![v5725.toNat, 0]

def k0_chk232 (v5721 : BitVec 32) : Prop :=
  (8 ∣ (k0_mult234 v5721).toNat) ∧
  (∀ a, (k0_off338 v5721) a + S8x128.size a ≤ S20016x128.size a)
theorem k0_mult234_dvd : ∀ (v5721 : BitVec 32) (k0_hw232 : k0_chk232 v5721), 8 ∣ (k0_mult234 v5721).toNat := fun v5721 k0_hw232 => k0_hw232.1
theorem k0_off338_inb : ∀ (v5721 : BitVec 32) (k0_hw232 : k0_chk232 v5721), ∀ a, (k0_off338 v5721) a + S8x128.size a ≤ S20016x128.size a := fun v5721 k0_hw232 => k0_hw232.2

def k0_off339 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c40_i32_2827 : BitVec 32 := 40#32
  let v5743 : BitVec 32 := Scalar.addi v4782 c40_i32_2827
  let v5744 : Index := Scalar.indexCast v5743
  ![v5744.toNat]
def k0_mult235 (v5745 : BitVec 32) : BitVec 32 :=
  let c3_i32_2828 : BitVec 32 := 3#32
  let v5746 : BitVec 32 := Scalar.shrsi v5745 c3_i32_2828
  let c3_i32_2829 : BitVec 32 := 3#32
  let v5747 : BitVec 32 := Scalar.shli v5746 c3_i32_2829
  v5747

def k0_off340 (v5745 : BitVec 32) : Fin 2 → Nat :=
  let c3_i32_2828 : BitVec 32 := 3#32
  let v5746 : BitVec 32 := Scalar.shrsi v5745 c3_i32_2828
  let c3_i32_2829 : BitVec 32 := 3#32
  let v5747 : BitVec 32 := Scalar.shli v5746 c3_i32_2829
  let v5748 : BitVec 32 := v5747
  let v5749 : Index := Scalar.indexCast v5748
  let c0_2830 : Index := 0#32
  ![v5749.toNat, 0]

def k0_chk233 (v5745 : BitVec 32) : Prop :=
  (8 ∣ (k0_mult235 v5745).toNat) ∧
  (∀ a, (k0_off340 v5745) a + S8x128.size a ≤ S20016x128.size a)
theorem k0_mult235_dvd : ∀ (v5745 : BitVec 32) (k0_hw233 : k0_chk233 v5745), 8 ∣ (k0_mult235 v5745).toNat := fun v5745 k0_hw233 => k0_hw233.1
theorem k0_off340_inb : ∀ (v5745 : BitVec 32) (k0_hw233 : k0_chk233 v5745), ∀ a, (k0_off340 v5745) a + S8x128.size a ≤ S20016x128.size a := fun v5745 k0_hw233 => k0_hw233.2

def k0_off341 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c41_i32_2839 : BitVec 32 := 41#32
  let v5767 : BitVec 32 := Scalar.addi v4782 c41_i32_2839
  let v5768 : Index := Scalar.indexCast v5767
  ![v5768.toNat]
def k0_mult236 (v5769 : BitVec 32) : BitVec 32 :=
  let c3_i32_2840 : BitVec 32 := 3#32
  let v5770 : BitVec 32 := Scalar.shrsi v5769 c3_i32_2840
  let c3_i32_2841 : BitVec 32 := 3#32
  let v5771 : BitVec 32 := Scalar.shli v5770 c3_i32_2841
  v5771

def k0_off342 (v5769 : BitVec 32) : Fin 2 → Nat :=
  let c3_i32_2840 : BitVec 32 := 3#32
  let v5770 : BitVec 32 := Scalar.shrsi v5769 c3_i32_2840
  let c3_i32_2841 : BitVec 32 := 3#32
  let v5771 : BitVec 32 := Scalar.shli v5770 c3_i32_2841
  let v5772 : BitVec 32 := v5771
  let v5773 : Index := Scalar.indexCast v5772
  let c0_2842 : Index := 0#32
  ![v5773.toNat, 0]

def k0_chk234 (v5769 : BitVec 32) : Prop :=
  (8 ∣ (k0_mult236 v5769).toNat) ∧
  (∀ a, (k0_off342 v5769) a + S8x128.size a ≤ S20016x128.size a)
theorem k0_mult236_dvd : ∀ (v5769 : BitVec 32) (k0_hw234 : k0_chk234 v5769), 8 ∣ (k0_mult236 v5769).toNat := fun v5769 k0_hw234 => k0_hw234.1
theorem k0_off342_inb : ∀ (v5769 : BitVec 32) (k0_hw234 : k0_chk234 v5769), ∀ a, (k0_off342 v5769) a + S8x128.size a ≤ S20016x128.size a := fun v5769 k0_hw234 => k0_hw234.2

def k0_off343 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c42_i32_2851 : BitVec 32 := 42#32
  let v5791 : BitVec 32 := Scalar.addi v4782 c42_i32_2851
  let v5792 : Index := Scalar.indexCast v5791
  ![v5792.toNat]
def k0_mult237 (v5793 : BitVec 32) : BitVec 32 :=
  let c3_i32_2852 : BitVec 32 := 3#32
  let v5794 : BitVec 32 := Scalar.shrsi v5793 c3_i32_2852
  let c3_i32_2853 : BitVec 32 := 3#32
  let v5795 : BitVec 32 := Scalar.shli v5794 c3_i32_2853
  v5795

def k0_off344 (v5793 : BitVec 32) : Fin 2 → Nat :=
  let c3_i32_2852 : BitVec 32 := 3#32
  let v5794 : BitVec 32 := Scalar.shrsi v5793 c3_i32_2852
  let c3_i32_2853 : BitVec 32 := 3#32
  let v5795 : BitVec 32 := Scalar.shli v5794 c3_i32_2853
  let v5796 : BitVec 32 := v5795
  let v5797 : Index := Scalar.indexCast v5796
  let c0_2854 : Index := 0#32
  ![v5797.toNat, 0]

def k0_chk235 (v5793 : BitVec 32) : Prop :=
  (8 ∣ (k0_mult237 v5793).toNat) ∧
  (∀ a, (k0_off344 v5793) a + S8x128.size a ≤ S20016x128.size a)
theorem k0_mult237_dvd : ∀ (v5793 : BitVec 32) (k0_hw235 : k0_chk235 v5793), 8 ∣ (k0_mult237 v5793).toNat := fun v5793 k0_hw235 => k0_hw235.1
theorem k0_off344_inb : ∀ (v5793 : BitVec 32) (k0_hw235 : k0_chk235 v5793), ∀ a, (k0_off344 v5793) a + S8x128.size a ≤ S20016x128.size a := fun v5793 k0_hw235 => k0_hw235.2

def k0_off345 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c43_i32_2863 : BitVec 32 := 43#32
  let v5815 : BitVec 32 := Scalar.addi v4782 c43_i32_2863
  let v5816 : Index := Scalar.indexCast v5815
  ![v5816.toNat]
def k0_mult238 (v5817 : BitVec 32) : BitVec 32 :=
  let c3_i32_2864 : BitVec 32 := 3#32
  let v5818 : BitVec 32 := Scalar.shrsi v5817 c3_i32_2864
  let c3_i32_2865 : BitVec 32 := 3#32
  let v5819 : BitVec 32 := Scalar.shli v5818 c3_i32_2865
  v5819

def k0_off346 (v5817 : BitVec 32) : Fin 2 → Nat :=
  let c3_i32_2864 : BitVec 32 := 3#32
  let v5818 : BitVec 32 := Scalar.shrsi v5817 c3_i32_2864
  let c3_i32_2865 : BitVec 32 := 3#32
  let v5819 : BitVec 32 := Scalar.shli v5818 c3_i32_2865
  let v5820 : BitVec 32 := v5819
  let v5821 : Index := Scalar.indexCast v5820
  let c0_2866 : Index := 0#32
  ![v5821.toNat, 0]

def k0_chk236 (v5817 : BitVec 32) : Prop :=
  (8 ∣ (k0_mult238 v5817).toNat) ∧
  (∀ a, (k0_off346 v5817) a + S8x128.size a ≤ S20016x128.size a)
theorem k0_mult238_dvd : ∀ (v5817 : BitVec 32) (k0_hw236 : k0_chk236 v5817), 8 ∣ (k0_mult238 v5817).toNat := fun v5817 k0_hw236 => k0_hw236.1
theorem k0_off346_inb : ∀ (v5817 : BitVec 32) (k0_hw236 : k0_chk236 v5817), ∀ a, (k0_off346 v5817) a + S8x128.size a ≤ S20016x128.size a := fun v5817 k0_hw236 => k0_hw236.2

def k0_off347 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c44_i32_2875 : BitVec 32 := 44#32
  let v5839 : BitVec 32 := Scalar.addi v4782 c44_i32_2875
  let v5840 : Index := Scalar.indexCast v5839
  ![v5840.toNat]
def k0_mult239 (v5841 : BitVec 32) : BitVec 32 :=
  let c3_i32_2876 : BitVec 32 := 3#32
  let v5842 : BitVec 32 := Scalar.shrsi v5841 c3_i32_2876
  let c3_i32_2877 : BitVec 32 := 3#32
  let v5843 : BitVec 32 := Scalar.shli v5842 c3_i32_2877
  v5843

def k0_off348 (v5841 : BitVec 32) : Fin 2 → Nat :=
  let c3_i32_2876 : BitVec 32 := 3#32
  let v5842 : BitVec 32 := Scalar.shrsi v5841 c3_i32_2876
  let c3_i32_2877 : BitVec 32 := 3#32
  let v5843 : BitVec 32 := Scalar.shli v5842 c3_i32_2877
  let v5844 : BitVec 32 := v5843
  let v5845 : Index := Scalar.indexCast v5844
  let c0_2878 : Index := 0#32
  ![v5845.toNat, 0]

def k0_chk237 (v5841 : BitVec 32) : Prop :=
  (8 ∣ (k0_mult239 v5841).toNat) ∧
  (∀ a, (k0_off348 v5841) a + S8x128.size a ≤ S20016x128.size a)
theorem k0_mult239_dvd : ∀ (v5841 : BitVec 32) (k0_hw237 : k0_chk237 v5841), 8 ∣ (k0_mult239 v5841).toNat := fun v5841 k0_hw237 => k0_hw237.1
theorem k0_off348_inb : ∀ (v5841 : BitVec 32) (k0_hw237 : k0_chk237 v5841), ∀ a, (k0_off348 v5841) a + S8x128.size a ≤ S20016x128.size a := fun v5841 k0_hw237 => k0_hw237.2

def k0_off349 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c45_i32_2887 : BitVec 32 := 45#32
  let v5863 : BitVec 32 := Scalar.addi v4782 c45_i32_2887
  let v5864 : Index := Scalar.indexCast v5863
  ![v5864.toNat]
def k0_mult240 (v5865 : BitVec 32) : BitVec 32 :=
  let c3_i32_2888 : BitVec 32 := 3#32
  let v5866 : BitVec 32 := Scalar.shrsi v5865 c3_i32_2888
  let c3_i32_2889 : BitVec 32 := 3#32
  let v5867 : BitVec 32 := Scalar.shli v5866 c3_i32_2889
  v5867

def k0_off350 (v5865 : BitVec 32) : Fin 2 → Nat :=
  let c3_i32_2888 : BitVec 32 := 3#32
  let v5866 : BitVec 32 := Scalar.shrsi v5865 c3_i32_2888
  let c3_i32_2889 : BitVec 32 := 3#32
  let v5867 : BitVec 32 := Scalar.shli v5866 c3_i32_2889
  let v5868 : BitVec 32 := v5867
  let v5869 : Index := Scalar.indexCast v5868
  let c0_2890 : Index := 0#32
  ![v5869.toNat, 0]

def k0_chk238 (v5865 : BitVec 32) : Prop :=
  (8 ∣ (k0_mult240 v5865).toNat) ∧
  (∀ a, (k0_off350 v5865) a + S8x128.size a ≤ S20016x128.size a)
theorem k0_mult240_dvd : ∀ (v5865 : BitVec 32) (k0_hw238 : k0_chk238 v5865), 8 ∣ (k0_mult240 v5865).toNat := fun v5865 k0_hw238 => k0_hw238.1
theorem k0_off350_inb : ∀ (v5865 : BitVec 32) (k0_hw238 : k0_chk238 v5865), ∀ a, (k0_off350 v5865) a + S8x128.size a ≤ S20016x128.size a := fun v5865 k0_hw238 => k0_hw238.2

def k0_off351 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c46_i32_2899 : BitVec 32 := 46#32
  let v5887 : BitVec 32 := Scalar.addi v4782 c46_i32_2899
  let v5888 : Index := Scalar.indexCast v5887
  ![v5888.toNat]
def k0_mult241 (v5889 : BitVec 32) : BitVec 32 :=
  let c3_i32_2900 : BitVec 32 := 3#32
  let v5890 : BitVec 32 := Scalar.shrsi v5889 c3_i32_2900
  let c3_i32_2901 : BitVec 32 := 3#32
  let v5891 : BitVec 32 := Scalar.shli v5890 c3_i32_2901
  v5891

def k0_off352 (v5889 : BitVec 32) : Fin 2 → Nat :=
  let c3_i32_2900 : BitVec 32 := 3#32
  let v5890 : BitVec 32 := Scalar.shrsi v5889 c3_i32_2900
  let c3_i32_2901 : BitVec 32 := 3#32
  let v5891 : BitVec 32 := Scalar.shli v5890 c3_i32_2901
  let v5892 : BitVec 32 := v5891
  let v5893 : Index := Scalar.indexCast v5892
  let c0_2902 : Index := 0#32
  ![v5893.toNat, 0]

def k0_chk239 (v5889 : BitVec 32) : Prop :=
  (8 ∣ (k0_mult241 v5889).toNat) ∧
  (∀ a, (k0_off352 v5889) a + S8x128.size a ≤ S20016x128.size a)
theorem k0_mult241_dvd : ∀ (v5889 : BitVec 32) (k0_hw239 : k0_chk239 v5889), 8 ∣ (k0_mult241 v5889).toNat := fun v5889 k0_hw239 => k0_hw239.1
theorem k0_off352_inb : ∀ (v5889 : BitVec 32) (k0_hw239 : k0_chk239 v5889), ∀ a, (k0_off352 v5889) a + S8x128.size a ≤ S20016x128.size a := fun v5889 k0_hw239 => k0_hw239.2

def k0_off353 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c47_i32_2911 : BitVec 32 := 47#32
  let v5911 : BitVec 32 := Scalar.addi v4782 c47_i32_2911
  let v5912 : Index := Scalar.indexCast v5911
  ![v5912.toNat]
def k0_mult242 (v5913 : BitVec 32) : BitVec 32 :=
  let c3_i32_2912 : BitVec 32 := 3#32
  let v5914 : BitVec 32 := Scalar.shrsi v5913 c3_i32_2912
  let c3_i32_2913 : BitVec 32 := 3#32
  let v5915 : BitVec 32 := Scalar.shli v5914 c3_i32_2913
  v5915

def k0_off354 (v5913 : BitVec 32) : Fin 2 → Nat :=
  let c3_i32_2912 : BitVec 32 := 3#32
  let v5914 : BitVec 32 := Scalar.shrsi v5913 c3_i32_2912
  let c3_i32_2913 : BitVec 32 := 3#32
  let v5915 : BitVec 32 := Scalar.shli v5914 c3_i32_2913
  let v5916 : BitVec 32 := v5915
  let v5917 : Index := Scalar.indexCast v5916
  let c0_2914 : Index := 0#32
  ![v5917.toNat, 0]

def k0_chk240 (v5913 : BitVec 32) : Prop :=
  (8 ∣ (k0_mult242 v5913).toNat) ∧
  (∀ a, (k0_off354 v5913) a + S8x128.size a ≤ S20016x128.size a)
theorem k0_mult242_dvd : ∀ (v5913 : BitVec 32) (k0_hw240 : k0_chk240 v5913), 8 ∣ (k0_mult242 v5913).toNat := fun v5913 k0_hw240 => k0_hw240.1
theorem k0_off354_inb : ∀ (v5913 : BitVec 32) (k0_hw240 : k0_chk240 v5913), ∀ a, (k0_off354 v5913) a + S8x128.size a ≤ S20016x128.size a := fun v5913 k0_hw240 => k0_hw240.2

def k0_off355 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c48_i32_2923 : BitVec 32 := 48#32
  let v5935 : BitVec 32 := Scalar.addi v4782 c48_i32_2923
  let v5936 : Index := Scalar.indexCast v5935
  ![v5936.toNat]
def k0_mult243 (v5937 : BitVec 32) : BitVec 32 :=
  let c3_i32_2924 : BitVec 32 := 3#32
  let v5938 : BitVec 32 := Scalar.shrsi v5937 c3_i32_2924
  let c3_i32_2925 : BitVec 32 := 3#32
  let v5939 : BitVec 32 := Scalar.shli v5938 c3_i32_2925
  v5939

def k0_off356 (v5937 : BitVec 32) : Fin 2 → Nat :=
  let c3_i32_2924 : BitVec 32 := 3#32
  let v5938 : BitVec 32 := Scalar.shrsi v5937 c3_i32_2924
  let c3_i32_2925 : BitVec 32 := 3#32
  let v5939 : BitVec 32 := Scalar.shli v5938 c3_i32_2925
  let v5940 : BitVec 32 := v5939
  let v5941 : Index := Scalar.indexCast v5940
  let c0_2926 : Index := 0#32
  ![v5941.toNat, 0]

def k0_chk241 (v5937 : BitVec 32) : Prop :=
  (8 ∣ (k0_mult243 v5937).toNat) ∧
  (∀ a, (k0_off356 v5937) a + S8x128.size a ≤ S20016x128.size a)
theorem k0_mult243_dvd : ∀ (v5937 : BitVec 32) (k0_hw241 : k0_chk241 v5937), 8 ∣ (k0_mult243 v5937).toNat := fun v5937 k0_hw241 => k0_hw241.1
theorem k0_off356_inb : ∀ (v5937 : BitVec 32) (k0_hw241 : k0_chk241 v5937), ∀ a, (k0_off356 v5937) a + S8x128.size a ≤ S20016x128.size a := fun v5937 k0_hw241 => k0_hw241.2

def k0_off357 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c49_i32_2935 : BitVec 32 := 49#32
  let v5959 : BitVec 32 := Scalar.addi v4782 c49_i32_2935
  let v5960 : Index := Scalar.indexCast v5959
  ![v5960.toNat]
def k0_mult244 (v5961 : BitVec 32) : BitVec 32 :=
  let c3_i32_2936 : BitVec 32 := 3#32
  let v5962 : BitVec 32 := Scalar.shrsi v5961 c3_i32_2936
  let c3_i32_2937 : BitVec 32 := 3#32
  let v5963 : BitVec 32 := Scalar.shli v5962 c3_i32_2937
  v5963

def k0_off358 (v5961 : BitVec 32) : Fin 2 → Nat :=
  let c3_i32_2936 : BitVec 32 := 3#32
  let v5962 : BitVec 32 := Scalar.shrsi v5961 c3_i32_2936
  let c3_i32_2937 : BitVec 32 := 3#32
  let v5963 : BitVec 32 := Scalar.shli v5962 c3_i32_2937
  let v5964 : BitVec 32 := v5963
  let v5965 : Index := Scalar.indexCast v5964
  let c0_2938 : Index := 0#32
  ![v5965.toNat, 0]

def k0_chk242 (v5961 : BitVec 32) : Prop :=
  (8 ∣ (k0_mult244 v5961).toNat) ∧
  (∀ a, (k0_off358 v5961) a + S8x128.size a ≤ S20016x128.size a)
theorem k0_mult244_dvd : ∀ (v5961 : BitVec 32) (k0_hw242 : k0_chk242 v5961), 8 ∣ (k0_mult244 v5961).toNat := fun v5961 k0_hw242 => k0_hw242.1
theorem k0_off358_inb : ∀ (v5961 : BitVec 32) (k0_hw242 : k0_chk242 v5961), ∀ a, (k0_off358 v5961) a + S8x128.size a ≤ S20016x128.size a := fun v5961 k0_hw242 => k0_hw242.2

def k0_off359 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c50_i32_2947 : BitVec 32 := 50#32
  let v5983 : BitVec 32 := Scalar.addi v4782 c50_i32_2947
  let v5984 : Index := Scalar.indexCast v5983
  ![v5984.toNat]
def k0_mult245 (v5985 : BitVec 32) : BitVec 32 :=
  let c3_i32_2948 : BitVec 32 := 3#32
  let v5986 : BitVec 32 := Scalar.shrsi v5985 c3_i32_2948
  let c3_i32_2949 : BitVec 32 := 3#32
  let v5987 : BitVec 32 := Scalar.shli v5986 c3_i32_2949
  v5987

def k0_off360 (v5985 : BitVec 32) : Fin 2 → Nat :=
  let c3_i32_2948 : BitVec 32 := 3#32
  let v5986 : BitVec 32 := Scalar.shrsi v5985 c3_i32_2948
  let c3_i32_2949 : BitVec 32 := 3#32
  let v5987 : BitVec 32 := Scalar.shli v5986 c3_i32_2949
  let v5988 : BitVec 32 := v5987
  let v5989 : Index := Scalar.indexCast v5988
  let c0_2950 : Index := 0#32
  ![v5989.toNat, 0]

def k0_chk243 (v5985 : BitVec 32) : Prop :=
  (8 ∣ (k0_mult245 v5985).toNat) ∧
  (∀ a, (k0_off360 v5985) a + S8x128.size a ≤ S20016x128.size a)
theorem k0_mult245_dvd : ∀ (v5985 : BitVec 32) (k0_hw243 : k0_chk243 v5985), 8 ∣ (k0_mult245 v5985).toNat := fun v5985 k0_hw243 => k0_hw243.1
theorem k0_off360_inb : ∀ (v5985 : BitVec 32) (k0_hw243 : k0_chk243 v5985), ∀ a, (k0_off360 v5985) a + S8x128.size a ≤ S20016x128.size a := fun v5985 k0_hw243 => k0_hw243.2

def k0_off361 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c51_i32_2959 : BitVec 32 := 51#32
  let v6007 : BitVec 32 := Scalar.addi v4782 c51_i32_2959
  let v6008 : Index := Scalar.indexCast v6007
  ![v6008.toNat]
def k0_mult246 (v6009 : BitVec 32) : BitVec 32 :=
  let c3_i32_2960 : BitVec 32 := 3#32
  let v6010 : BitVec 32 := Scalar.shrsi v6009 c3_i32_2960
  let c3_i32_2961 : BitVec 32 := 3#32
  let v6011 : BitVec 32 := Scalar.shli v6010 c3_i32_2961
  v6011

def k0_off362 (v6009 : BitVec 32) : Fin 2 → Nat :=
  let c3_i32_2960 : BitVec 32 := 3#32
  let v6010 : BitVec 32 := Scalar.shrsi v6009 c3_i32_2960
  let c3_i32_2961 : BitVec 32 := 3#32
  let v6011 : BitVec 32 := Scalar.shli v6010 c3_i32_2961
  let v6012 : BitVec 32 := v6011
  let v6013 : Index := Scalar.indexCast v6012
  let c0_2962 : Index := 0#32
  ![v6013.toNat, 0]

def k0_chk244 (v6009 : BitVec 32) : Prop :=
  (8 ∣ (k0_mult246 v6009).toNat) ∧
  (∀ a, (k0_off362 v6009) a + S8x128.size a ≤ S20016x128.size a)
theorem k0_mult246_dvd : ∀ (v6009 : BitVec 32) (k0_hw244 : k0_chk244 v6009), 8 ∣ (k0_mult246 v6009).toNat := fun v6009 k0_hw244 => k0_hw244.1
theorem k0_off362_inb : ∀ (v6009 : BitVec 32) (k0_hw244 : k0_chk244 v6009), ∀ a, (k0_off362 v6009) a + S8x128.size a ≤ S20016x128.size a := fun v6009 k0_hw244 => k0_hw244.2

def k0_off363 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c52_i32_2971 : BitVec 32 := 52#32
  let v6031 : BitVec 32 := Scalar.addi v4782 c52_i32_2971
  let v6032 : Index := Scalar.indexCast v6031
  ![v6032.toNat]
def k0_mult247 (v6033 : BitVec 32) : BitVec 32 :=
  let c3_i32_2972 : BitVec 32 := 3#32
  let v6034 : BitVec 32 := Scalar.shrsi v6033 c3_i32_2972
  let c3_i32_2973 : BitVec 32 := 3#32
  let v6035 : BitVec 32 := Scalar.shli v6034 c3_i32_2973
  v6035

def k0_off364 (v6033 : BitVec 32) : Fin 2 → Nat :=
  let c3_i32_2972 : BitVec 32 := 3#32
  let v6034 : BitVec 32 := Scalar.shrsi v6033 c3_i32_2972
  let c3_i32_2973 : BitVec 32 := 3#32
  let v6035 : BitVec 32 := Scalar.shli v6034 c3_i32_2973
  let v6036 : BitVec 32 := v6035
  let v6037 : Index := Scalar.indexCast v6036
  let c0_2974 : Index := 0#32
  ![v6037.toNat, 0]

def k0_chk245 (v6033 : BitVec 32) : Prop :=
  (8 ∣ (k0_mult247 v6033).toNat) ∧
  (∀ a, (k0_off364 v6033) a + S8x128.size a ≤ S20016x128.size a)
theorem k0_mult247_dvd : ∀ (v6033 : BitVec 32) (k0_hw245 : k0_chk245 v6033), 8 ∣ (k0_mult247 v6033).toNat := fun v6033 k0_hw245 => k0_hw245.1
theorem k0_off364_inb : ∀ (v6033 : BitVec 32) (k0_hw245 : k0_chk245 v6033), ∀ a, (k0_off364 v6033) a + S8x128.size a ≤ S20016x128.size a := fun v6033 k0_hw245 => k0_hw245.2

def k0_off365 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c53_i32_2983 : BitVec 32 := 53#32
  let v6055 : BitVec 32 := Scalar.addi v4782 c53_i32_2983
  let v6056 : Index := Scalar.indexCast v6055
  ![v6056.toNat]
def k0_mult248 (v6057 : BitVec 32) : BitVec 32 :=
  let c3_i32_2984 : BitVec 32 := 3#32
  let v6058 : BitVec 32 := Scalar.shrsi v6057 c3_i32_2984
  let c3_i32_2985 : BitVec 32 := 3#32
  let v6059 : BitVec 32 := Scalar.shli v6058 c3_i32_2985
  v6059

def k0_off366 (v6057 : BitVec 32) : Fin 2 → Nat :=
  let c3_i32_2984 : BitVec 32 := 3#32
  let v6058 : BitVec 32 := Scalar.shrsi v6057 c3_i32_2984
  let c3_i32_2985 : BitVec 32 := 3#32
  let v6059 : BitVec 32 := Scalar.shli v6058 c3_i32_2985
  let v6060 : BitVec 32 := v6059
  let v6061 : Index := Scalar.indexCast v6060
  let c0_2986 : Index := 0#32
  ![v6061.toNat, 0]

def k0_chk246 (v6057 : BitVec 32) : Prop :=
  (8 ∣ (k0_mult248 v6057).toNat) ∧
  (∀ a, (k0_off366 v6057) a + S8x128.size a ≤ S20016x128.size a)
theorem k0_mult248_dvd : ∀ (v6057 : BitVec 32) (k0_hw246 : k0_chk246 v6057), 8 ∣ (k0_mult248 v6057).toNat := fun v6057 k0_hw246 => k0_hw246.1
theorem k0_off366_inb : ∀ (v6057 : BitVec 32) (k0_hw246 : k0_chk246 v6057), ∀ a, (k0_off366 v6057) a + S8x128.size a ≤ S20016x128.size a := fun v6057 k0_hw246 => k0_hw246.2

def k0_off367 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c54_i32_2995 : BitVec 32 := 54#32
  let v6079 : BitVec 32 := Scalar.addi v4782 c54_i32_2995
  let v6080 : Index := Scalar.indexCast v6079
  ![v6080.toNat]
def k0_mult249 (v6081 : BitVec 32) : BitVec 32 :=
  let c3_i32_2996 : BitVec 32 := 3#32
  let v6082 : BitVec 32 := Scalar.shrsi v6081 c3_i32_2996
  let c3_i32_2997 : BitVec 32 := 3#32
  let v6083 : BitVec 32 := Scalar.shli v6082 c3_i32_2997
  v6083

def k0_off368 (v6081 : BitVec 32) : Fin 2 → Nat :=
  let c3_i32_2996 : BitVec 32 := 3#32
  let v6082 : BitVec 32 := Scalar.shrsi v6081 c3_i32_2996
  let c3_i32_2997 : BitVec 32 := 3#32
  let v6083 : BitVec 32 := Scalar.shli v6082 c3_i32_2997
  let v6084 : BitVec 32 := v6083
  let v6085 : Index := Scalar.indexCast v6084
  let c0_2998 : Index := 0#32
  ![v6085.toNat, 0]

def k0_chk247 (v6081 : BitVec 32) : Prop :=
  (8 ∣ (k0_mult249 v6081).toNat) ∧
  (∀ a, (k0_off368 v6081) a + S8x128.size a ≤ S20016x128.size a)
theorem k0_mult249_dvd : ∀ (v6081 : BitVec 32) (k0_hw247 : k0_chk247 v6081), 8 ∣ (k0_mult249 v6081).toNat := fun v6081 k0_hw247 => k0_hw247.1
theorem k0_off368_inb : ∀ (v6081 : BitVec 32) (k0_hw247 : k0_chk247 v6081), ∀ a, (k0_off368 v6081) a + S8x128.size a ≤ S20016x128.size a := fun v6081 k0_hw247 => k0_hw247.2

def k0_off369 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c55_i32_3007 : BitVec 32 := 55#32
  let v6103 : BitVec 32 := Scalar.addi v4782 c55_i32_3007
  let v6104 : Index := Scalar.indexCast v6103
  ![v6104.toNat]
def k0_mult250 (v6105 : BitVec 32) : BitVec 32 :=
  let c3_i32_3008 : BitVec 32 := 3#32
  let v6106 : BitVec 32 := Scalar.shrsi v6105 c3_i32_3008
  let c3_i32_3009 : BitVec 32 := 3#32
  let v6107 : BitVec 32 := Scalar.shli v6106 c3_i32_3009
  v6107

def k0_off370 (v6105 : BitVec 32) : Fin 2 → Nat :=
  let c3_i32_3008 : BitVec 32 := 3#32
  let v6106 : BitVec 32 := Scalar.shrsi v6105 c3_i32_3008
  let c3_i32_3009 : BitVec 32 := 3#32
  let v6107 : BitVec 32 := Scalar.shli v6106 c3_i32_3009
  let v6108 : BitVec 32 := v6107
  let v6109 : Index := Scalar.indexCast v6108
  let c0_3010 : Index := 0#32
  ![v6109.toNat, 0]

def k0_chk248 (v6105 : BitVec 32) : Prop :=
  (8 ∣ (k0_mult250 v6105).toNat) ∧
  (∀ a, (k0_off370 v6105) a + S8x128.size a ≤ S20016x128.size a)
theorem k0_mult250_dvd : ∀ (v6105 : BitVec 32) (k0_hw248 : k0_chk248 v6105), 8 ∣ (k0_mult250 v6105).toNat := fun v6105 k0_hw248 => k0_hw248.1
theorem k0_off370_inb : ∀ (v6105 : BitVec 32) (k0_hw248 : k0_chk248 v6105), ∀ a, (k0_off370 v6105) a + S8x128.size a ≤ S20016x128.size a := fun v6105 k0_hw248 => k0_hw248.2

def k0_off371 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c56_i32_3019 : BitVec 32 := 56#32
  let v6127 : BitVec 32 := Scalar.addi v4782 c56_i32_3019
  let v6128 : Index := Scalar.indexCast v6127
  ![v6128.toNat]
def k0_mult251 (v6129 : BitVec 32) : BitVec 32 :=
  let c3_i32_3020 : BitVec 32 := 3#32
  let v6130 : BitVec 32 := Scalar.shrsi v6129 c3_i32_3020
  let c3_i32_3021 : BitVec 32 := 3#32
  let v6131 : BitVec 32 := Scalar.shli v6130 c3_i32_3021
  v6131

def k0_off372 (v6129 : BitVec 32) : Fin 2 → Nat :=
  let c3_i32_3020 : BitVec 32 := 3#32
  let v6130 : BitVec 32 := Scalar.shrsi v6129 c3_i32_3020
  let c3_i32_3021 : BitVec 32 := 3#32
  let v6131 : BitVec 32 := Scalar.shli v6130 c3_i32_3021
  let v6132 : BitVec 32 := v6131
  let v6133 : Index := Scalar.indexCast v6132
  let c0_3022 : Index := 0#32
  ![v6133.toNat, 0]

def k0_chk249 (v6129 : BitVec 32) : Prop :=
  (8 ∣ (k0_mult251 v6129).toNat) ∧
  (∀ a, (k0_off372 v6129) a + S8x128.size a ≤ S20016x128.size a)
theorem k0_mult251_dvd : ∀ (v6129 : BitVec 32) (k0_hw249 : k0_chk249 v6129), 8 ∣ (k0_mult251 v6129).toNat := fun v6129 k0_hw249 => k0_hw249.1
theorem k0_off372_inb : ∀ (v6129 : BitVec 32) (k0_hw249 : k0_chk249 v6129), ∀ a, (k0_off372 v6129) a + S8x128.size a ≤ S20016x128.size a := fun v6129 k0_hw249 => k0_hw249.2

def k0_off373 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c57_i32_3031 : BitVec 32 := 57#32
  let v6151 : BitVec 32 := Scalar.addi v4782 c57_i32_3031
  let v6152 : Index := Scalar.indexCast v6151
  ![v6152.toNat]
def k0_mult252 (v6153 : BitVec 32) : BitVec 32 :=
  let c3_i32_3032 : BitVec 32 := 3#32
  let v6154 : BitVec 32 := Scalar.shrsi v6153 c3_i32_3032
  let c3_i32_3033 : BitVec 32 := 3#32
  let v6155 : BitVec 32 := Scalar.shli v6154 c3_i32_3033
  v6155

def k0_off374 (v6153 : BitVec 32) : Fin 2 → Nat :=
  let c3_i32_3032 : BitVec 32 := 3#32
  let v6154 : BitVec 32 := Scalar.shrsi v6153 c3_i32_3032
  let c3_i32_3033 : BitVec 32 := 3#32
  let v6155 : BitVec 32 := Scalar.shli v6154 c3_i32_3033
  let v6156 : BitVec 32 := v6155
  let v6157 : Index := Scalar.indexCast v6156
  let c0_3034 : Index := 0#32
  ![v6157.toNat, 0]

def k0_chk250 (v6153 : BitVec 32) : Prop :=
  (8 ∣ (k0_mult252 v6153).toNat) ∧
  (∀ a, (k0_off374 v6153) a + S8x128.size a ≤ S20016x128.size a)
theorem k0_mult252_dvd : ∀ (v6153 : BitVec 32) (k0_hw250 : k0_chk250 v6153), 8 ∣ (k0_mult252 v6153).toNat := fun v6153 k0_hw250 => k0_hw250.1
theorem k0_off374_inb : ∀ (v6153 : BitVec 32) (k0_hw250 : k0_chk250 v6153), ∀ a, (k0_off374 v6153) a + S8x128.size a ≤ S20016x128.size a := fun v6153 k0_hw250 => k0_hw250.2

def k0_off375 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c58_i32_3043 : BitVec 32 := 58#32
  let v6175 : BitVec 32 := Scalar.addi v4782 c58_i32_3043
  let v6176 : Index := Scalar.indexCast v6175
  ![v6176.toNat]
def k0_mult253 (v6177 : BitVec 32) : BitVec 32 :=
  let c3_i32_3044 : BitVec 32 := 3#32
  let v6178 : BitVec 32 := Scalar.shrsi v6177 c3_i32_3044
  let c3_i32_3045 : BitVec 32 := 3#32
  let v6179 : BitVec 32 := Scalar.shli v6178 c3_i32_3045
  v6179

def k0_off376 (v6177 : BitVec 32) : Fin 2 → Nat :=
  let c3_i32_3044 : BitVec 32 := 3#32
  let v6178 : BitVec 32 := Scalar.shrsi v6177 c3_i32_3044
  let c3_i32_3045 : BitVec 32 := 3#32
  let v6179 : BitVec 32 := Scalar.shli v6178 c3_i32_3045
  let v6180 : BitVec 32 := v6179
  let v6181 : Index := Scalar.indexCast v6180
  let c0_3046 : Index := 0#32
  ![v6181.toNat, 0]

def k0_chk251 (v6177 : BitVec 32) : Prop :=
  (8 ∣ (k0_mult253 v6177).toNat) ∧
  (∀ a, (k0_off376 v6177) a + S8x128.size a ≤ S20016x128.size a)
theorem k0_mult253_dvd : ∀ (v6177 : BitVec 32) (k0_hw251 : k0_chk251 v6177), 8 ∣ (k0_mult253 v6177).toNat := fun v6177 k0_hw251 => k0_hw251.1
theorem k0_off376_inb : ∀ (v6177 : BitVec 32) (k0_hw251 : k0_chk251 v6177), ∀ a, (k0_off376 v6177) a + S8x128.size a ≤ S20016x128.size a := fun v6177 k0_hw251 => k0_hw251.2

def k0_off377 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c59_i32_3055 : BitVec 32 := 59#32
  let v6199 : BitVec 32 := Scalar.addi v4782 c59_i32_3055
  let v6200 : Index := Scalar.indexCast v6199
  ![v6200.toNat]
def k0_mult254 (v6201 : BitVec 32) : BitVec 32 :=
  let c3_i32_3056 : BitVec 32 := 3#32
  let v6202 : BitVec 32 := Scalar.shrsi v6201 c3_i32_3056
  let c3_i32_3057 : BitVec 32 := 3#32
  let v6203 : BitVec 32 := Scalar.shli v6202 c3_i32_3057
  v6203

def k0_off378 (v6201 : BitVec 32) : Fin 2 → Nat :=
  let c3_i32_3056 : BitVec 32 := 3#32
  let v6202 : BitVec 32 := Scalar.shrsi v6201 c3_i32_3056
  let c3_i32_3057 : BitVec 32 := 3#32
  let v6203 : BitVec 32 := Scalar.shli v6202 c3_i32_3057
  let v6204 : BitVec 32 := v6203
  let v6205 : Index := Scalar.indexCast v6204
  let c0_3058 : Index := 0#32
  ![v6205.toNat, 0]

def k0_chk252 (v6201 : BitVec 32) : Prop :=
  (8 ∣ (k0_mult254 v6201).toNat) ∧
  (∀ a, (k0_off378 v6201) a + S8x128.size a ≤ S20016x128.size a)
theorem k0_mult254_dvd : ∀ (v6201 : BitVec 32) (k0_hw252 : k0_chk252 v6201), 8 ∣ (k0_mult254 v6201).toNat := fun v6201 k0_hw252 => k0_hw252.1
theorem k0_off378_inb : ∀ (v6201 : BitVec 32) (k0_hw252 : k0_chk252 v6201), ∀ a, (k0_off378 v6201) a + S8x128.size a ≤ S20016x128.size a := fun v6201 k0_hw252 => k0_hw252.2

def k0_off379 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c60_i32_3067 : BitVec 32 := 60#32
  let v6223 : BitVec 32 := Scalar.addi v4782 c60_i32_3067
  let v6224 : Index := Scalar.indexCast v6223
  ![v6224.toNat]
def k0_mult255 (v6225 : BitVec 32) : BitVec 32 :=
  let c3_i32_3068 : BitVec 32 := 3#32
  let v6226 : BitVec 32 := Scalar.shrsi v6225 c3_i32_3068
  let c3_i32_3069 : BitVec 32 := 3#32
  let v6227 : BitVec 32 := Scalar.shli v6226 c3_i32_3069
  v6227

def k0_off380 (v6225 : BitVec 32) : Fin 2 → Nat :=
  let c3_i32_3068 : BitVec 32 := 3#32
  let v6226 : BitVec 32 := Scalar.shrsi v6225 c3_i32_3068
  let c3_i32_3069 : BitVec 32 := 3#32
  let v6227 : BitVec 32 := Scalar.shli v6226 c3_i32_3069
  let v6228 : BitVec 32 := v6227
  let v6229 : Index := Scalar.indexCast v6228
  let c0_3070 : Index := 0#32
  ![v6229.toNat, 0]

def k0_chk253 (v6225 : BitVec 32) : Prop :=
  (8 ∣ (k0_mult255 v6225).toNat) ∧
  (∀ a, (k0_off380 v6225) a + S8x128.size a ≤ S20016x128.size a)
theorem k0_mult255_dvd : ∀ (v6225 : BitVec 32) (k0_hw253 : k0_chk253 v6225), 8 ∣ (k0_mult255 v6225).toNat := fun v6225 k0_hw253 => k0_hw253.1
theorem k0_off380_inb : ∀ (v6225 : BitVec 32) (k0_hw253 : k0_chk253 v6225), ∀ a, (k0_off380 v6225) a + S8x128.size a ≤ S20016x128.size a := fun v6225 k0_hw253 => k0_hw253.2

def k0_off381 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c61_i32_3079 : BitVec 32 := 61#32
  let v6247 : BitVec 32 := Scalar.addi v4782 c61_i32_3079
  let v6248 : Index := Scalar.indexCast v6247
  ![v6248.toNat]
def k0_mult256 (v6249 : BitVec 32) : BitVec 32 :=
  let c3_i32_3080 : BitVec 32 := 3#32
  let v6250 : BitVec 32 := Scalar.shrsi v6249 c3_i32_3080
  let c3_i32_3081 : BitVec 32 := 3#32
  let v6251 : BitVec 32 := Scalar.shli v6250 c3_i32_3081
  v6251

def k0_off382 (v6249 : BitVec 32) : Fin 2 → Nat :=
  let c3_i32_3080 : BitVec 32 := 3#32
  let v6250 : BitVec 32 := Scalar.shrsi v6249 c3_i32_3080
  let c3_i32_3081 : BitVec 32 := 3#32
  let v6251 : BitVec 32 := Scalar.shli v6250 c3_i32_3081
  let v6252 : BitVec 32 := v6251
  let v6253 : Index := Scalar.indexCast v6252
  let c0_3082 : Index := 0#32
  ![v6253.toNat, 0]

def k0_chk254 (v6249 : BitVec 32) : Prop :=
  (8 ∣ (k0_mult256 v6249).toNat) ∧
  (∀ a, (k0_off382 v6249) a + S8x128.size a ≤ S20016x128.size a)
theorem k0_mult256_dvd : ∀ (v6249 : BitVec 32) (k0_hw254 : k0_chk254 v6249), 8 ∣ (k0_mult256 v6249).toNat := fun v6249 k0_hw254 => k0_hw254.1
theorem k0_off382_inb : ∀ (v6249 : BitVec 32) (k0_hw254 : k0_chk254 v6249), ∀ a, (k0_off382 v6249) a + S8x128.size a ≤ S20016x128.size a := fun v6249 k0_hw254 => k0_hw254.2

def k0_off383 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c62_i32_3091 : BitVec 32 := 62#32
  let v6271 : BitVec 32 := Scalar.addi v4782 c62_i32_3091
  let v6272 : Index := Scalar.indexCast v6271
  ![v6272.toNat]
def k0_mult257 (v6273 : BitVec 32) : BitVec 32 :=
  let c3_i32_3092 : BitVec 32 := 3#32
  let v6274 : BitVec 32 := Scalar.shrsi v6273 c3_i32_3092
  let c3_i32_3093 : BitVec 32 := 3#32
  let v6275 : BitVec 32 := Scalar.shli v6274 c3_i32_3093
  v6275

def k0_off384 (v6273 : BitVec 32) : Fin 2 → Nat :=
  let c3_i32_3092 : BitVec 32 := 3#32
  let v6274 : BitVec 32 := Scalar.shrsi v6273 c3_i32_3092
  let c3_i32_3093 : BitVec 32 := 3#32
  let v6275 : BitVec 32 := Scalar.shli v6274 c3_i32_3093
  let v6276 : BitVec 32 := v6275
  let v6277 : Index := Scalar.indexCast v6276
  let c0_3094 : Index := 0#32
  ![v6277.toNat, 0]

def k0_chk255 (v6273 : BitVec 32) : Prop :=
  (8 ∣ (k0_mult257 v6273).toNat) ∧
  (∀ a, (k0_off384 v6273) a + S8x128.size a ≤ S20016x128.size a)
theorem k0_mult257_dvd : ∀ (v6273 : BitVec 32) (k0_hw255 : k0_chk255 v6273), 8 ∣ (k0_mult257 v6273).toNat := fun v6273 k0_hw255 => k0_hw255.1
theorem k0_off384_inb : ∀ (v6273 : BitVec 32) (k0_hw255 : k0_chk255 v6273), ∀ a, (k0_off384 v6273) a + S8x128.size a ≤ S20016x128.size a := fun v6273 k0_hw255 => k0_hw255.2

def k0_off385 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c63_i32_3103 : BitVec 32 := 63#32
  let v6295 : BitVec 32 := Scalar.addi v4782 c63_i32_3103
  let v6296 : Index := Scalar.indexCast v6295
  ![v6296.toNat]
def k0_mult258 (v6297 : BitVec 32) : BitVec 32 :=
  let c3_i32_3104 : BitVec 32 := 3#32
  let v6298 : BitVec 32 := Scalar.shrsi v6297 c3_i32_3104
  let c3_i32_3105 : BitVec 32 := 3#32
  let v6299 : BitVec 32 := Scalar.shli v6298 c3_i32_3105
  v6299

def k0_off386 (v6297 : BitVec 32) : Fin 2 → Nat :=
  let c3_i32_3104 : BitVec 32 := 3#32
  let v6298 : BitVec 32 := Scalar.shrsi v6297 c3_i32_3104
  let c3_i32_3105 : BitVec 32 := 3#32
  let v6299 : BitVec 32 := Scalar.shli v6298 c3_i32_3105
  let v6300 : BitVec 32 := v6299
  let v6301 : Index := Scalar.indexCast v6300
  let c0_3106 : Index := 0#32
  ![v6301.toNat, 0]

def k0_chk256 (v6297 : BitVec 32) : Prop :=
  (8 ∣ (k0_mult258 v6297).toNat) ∧
  (∀ a, (k0_off386 v6297) a + S8x128.size a ≤ S20016x128.size a)
theorem k0_mult258_dvd : ∀ (v6297 : BitVec 32) (k0_hw256 : k0_chk256 v6297), 8 ∣ (k0_mult258 v6297).toNat := fun v6297 k0_hw256 => k0_hw256.1
theorem k0_off386_inb : ∀ (v6297 : BitVec 32) (k0_hw256 : k0_chk256 v6297), ∀ a, (k0_off386 v6297) a + S8x128.size a ≤ S20016x128.size a := fun v6297 k0_hw256 => k0_hw256.2

def k0_off387 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c0_i32_3117 : BitVec 32 := 0#32
  let v6321 : BitVec 32 := Scalar.addi v6320 c0_i32_3117
  let v6322 : Index := Scalar.indexCast v6321
  ![v6322.toNat]
def k0_mult259 (v6323 : BitVec 32) : BitVec 32 :=
  let c3_i32_3118 : BitVec 32 := 3#32
  let v6324 : BitVec 32 := Scalar.shrsi v6323 c3_i32_3118
  let c3_i32_3119 : BitVec 32 := 3#32
  let v6325 : BitVec 32 := Scalar.shli v6324 c3_i32_3119
  v6325

def k0_off388 (v6323 : BitVec 32) : Fin 2 → Nat :=
  let c3_i32_3118 : BitVec 32 := 3#32
  let v6324 : BitVec 32 := Scalar.shrsi v6323 c3_i32_3118
  let c3_i32_3119 : BitVec 32 := 3#32
  let v6325 : BitVec 32 := Scalar.shli v6324 c3_i32_3119
  let v6326 : BitVec 32 := v6325
  let v6328 : Index := Scalar.indexCast v6326
  let c0_3120 : Index := 0#32
  ![Nat.mul 2 v6328.toNat, 0]

def k0_chk257 (v6323 : BitVec 32) : Prop :=
  (8 ∣ (k0_mult259 v6323).toNat) ∧
  (∀ a, (k0_off388 v6323) a + S16x128.size a ≤ S20016x128.size a)
theorem k0_mult259_dvd : ∀ (v6323 : BitVec 32) (k0_hw257 : k0_chk257 v6323), 8 ∣ (k0_mult259 v6323).toNat := fun v6323 k0_hw257 => k0_hw257.1
theorem k0_off388_inb : ∀ (v6323 : BitVec 32) (k0_hw257 : k0_chk257 v6323), ∀ a, (k0_off388 v6323) a + S16x128.size a ≤ S20016x128.size a := fun v6323 k0_hw257 => k0_hw257.2

def k0_off389 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c0_i32_3123 : BitVec 32 := 0#32
  let v6334 : BitVec 32 := Scalar.addi v6320 c0_i32_3123
  let v6335 : Index := Scalar.indexCast v6334
  let c0_3124 : Index := 0#32
  ![v6335.toNat, 0]
def k0_off390 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c1_i32_3125 : BitVec 32 := 1#32
  let v6339 : BitVec 32 := Scalar.addi v6320 c1_i32_3125
  let v6340 : Index := Scalar.indexCast v6339
  ![v6340.toNat]
def k0_mult260 (v6341 : BitVec 32) : BitVec 32 :=
  let c3_i32_3126 : BitVec 32 := 3#32
  let v6342 : BitVec 32 := Scalar.shrsi v6341 c3_i32_3126
  let c3_i32_3127 : BitVec 32 := 3#32
  let v6343 : BitVec 32 := Scalar.shli v6342 c3_i32_3127
  v6343

def k0_off391 (v6341 : BitVec 32) : Fin 2 → Nat :=
  let c3_i32_3126 : BitVec 32 := 3#32
  let v6342 : BitVec 32 := Scalar.shrsi v6341 c3_i32_3126
  let c3_i32_3127 : BitVec 32 := 3#32
  let v6343 : BitVec 32 := Scalar.shli v6342 c3_i32_3127
  let v6344 : BitVec 32 := v6343
  let v6346 : Index := Scalar.indexCast v6344
  let c0_3128 : Index := 0#32
  ![Nat.mul 2 v6346.toNat, 0]

def k0_chk258 (v6341 : BitVec 32) : Prop :=
  (8 ∣ (k0_mult260 v6341).toNat) ∧
  (∀ a, (k0_off391 v6341) a + S16x128.size a ≤ S20016x128.size a)
theorem k0_mult260_dvd : ∀ (v6341 : BitVec 32) (k0_hw258 : k0_chk258 v6341), 8 ∣ (k0_mult260 v6341).toNat := fun v6341 k0_hw258 => k0_hw258.1
theorem k0_off391_inb : ∀ (v6341 : BitVec 32) (k0_hw258 : k0_chk258 v6341), ∀ a, (k0_off391 v6341) a + S16x128.size a ≤ S20016x128.size a := fun v6341 k0_hw258 => k0_hw258.2

def k0_off392 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c1_i32_3131 : BitVec 32 := 1#32
  let v6352 : BitVec 32 := Scalar.addi v6320 c1_i32_3131
  let v6353 : Index := Scalar.indexCast v6352
  let c0_3132 : Index := 0#32
  ![v6353.toNat, 0]
def k0_off393 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c2_i32_3133 : BitVec 32 := 2#32
  let v6357 : BitVec 32 := Scalar.addi v6320 c2_i32_3133
  let v6358 : Index := Scalar.indexCast v6357
  ![v6358.toNat]
def k0_mult261 (v6359 : BitVec 32) : BitVec 32 :=
  let c3_i32_3134 : BitVec 32 := 3#32
  let v6360 : BitVec 32 := Scalar.shrsi v6359 c3_i32_3134
  let c3_i32_3135 : BitVec 32 := 3#32
  let v6361 : BitVec 32 := Scalar.shli v6360 c3_i32_3135
  v6361

def k0_off394 (v6359 : BitVec 32) : Fin 2 → Nat :=
  let c3_i32_3134 : BitVec 32 := 3#32
  let v6360 : BitVec 32 := Scalar.shrsi v6359 c3_i32_3134
  let c3_i32_3135 : BitVec 32 := 3#32
  let v6361 : BitVec 32 := Scalar.shli v6360 c3_i32_3135
  let v6362 : BitVec 32 := v6361
  let v6364 : Index := Scalar.indexCast v6362
  let c0_3136 : Index := 0#32
  ![Nat.mul 2 v6364.toNat, 0]

def k0_chk259 (v6359 : BitVec 32) : Prop :=
  (8 ∣ (k0_mult261 v6359).toNat) ∧
  (∀ a, (k0_off394 v6359) a + S16x128.size a ≤ S20016x128.size a)
theorem k0_mult261_dvd : ∀ (v6359 : BitVec 32) (k0_hw259 : k0_chk259 v6359), 8 ∣ (k0_mult261 v6359).toNat := fun v6359 k0_hw259 => k0_hw259.1
theorem k0_off394_inb : ∀ (v6359 : BitVec 32) (k0_hw259 : k0_chk259 v6359), ∀ a, (k0_off394 v6359) a + S16x128.size a ≤ S20016x128.size a := fun v6359 k0_hw259 => k0_hw259.2

def k0_off395 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c2_i32_3139 : BitVec 32 := 2#32
  let v6370 : BitVec 32 := Scalar.addi v6320 c2_i32_3139
  let v6371 : Index := Scalar.indexCast v6370
  let c0_3140 : Index := 0#32
  ![v6371.toNat, 0]
def k0_off396 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c3_i32_3141 : BitVec 32 := 3#32
  let v6375 : BitVec 32 := Scalar.addi v6320 c3_i32_3141
  let v6376 : Index := Scalar.indexCast v6375
  ![v6376.toNat]
def k0_mult262 (v6377 : BitVec 32) : BitVec 32 :=
  let c3_i32_3142 : BitVec 32 := 3#32
  let v6378 : BitVec 32 := Scalar.shrsi v6377 c3_i32_3142
  let c3_i32_3143 : BitVec 32 := 3#32
  let v6379 : BitVec 32 := Scalar.shli v6378 c3_i32_3143
  v6379

def k0_off397 (v6377 : BitVec 32) : Fin 2 → Nat :=
  let c3_i32_3142 : BitVec 32 := 3#32
  let v6378 : BitVec 32 := Scalar.shrsi v6377 c3_i32_3142
  let c3_i32_3143 : BitVec 32 := 3#32
  let v6379 : BitVec 32 := Scalar.shli v6378 c3_i32_3143
  let v6380 : BitVec 32 := v6379
  let v6382 : Index := Scalar.indexCast v6380
  let c0_3144 : Index := 0#32
  ![Nat.mul 2 v6382.toNat, 0]

def k0_chk260 (v6377 : BitVec 32) : Prop :=
  (8 ∣ (k0_mult262 v6377).toNat) ∧
  (∀ a, (k0_off397 v6377) a + S16x128.size a ≤ S20016x128.size a)
theorem k0_mult262_dvd : ∀ (v6377 : BitVec 32) (k0_hw260 : k0_chk260 v6377), 8 ∣ (k0_mult262 v6377).toNat := fun v6377 k0_hw260 => k0_hw260.1
theorem k0_off397_inb : ∀ (v6377 : BitVec 32) (k0_hw260 : k0_chk260 v6377), ∀ a, (k0_off397 v6377) a + S16x128.size a ≤ S20016x128.size a := fun v6377 k0_hw260 => k0_hw260.2

def k0_off398 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c3_i32_3147 : BitVec 32 := 3#32
  let v6388 : BitVec 32 := Scalar.addi v6320 c3_i32_3147
  let v6389 : Index := Scalar.indexCast v6388
  let c0_3148 : Index := 0#32
  ![v6389.toNat, 0]
def k0_off399 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c4_i32_3149 : BitVec 32 := 4#32
  let v6393 : BitVec 32 := Scalar.addi v6320 c4_i32_3149
  let v6394 : Index := Scalar.indexCast v6393
  ![v6394.toNat]
def k0_mult263 (v6395 : BitVec 32) : BitVec 32 :=
  let c3_i32_3150 : BitVec 32 := 3#32
  let v6396 : BitVec 32 := Scalar.shrsi v6395 c3_i32_3150
  let c3_i32_3151 : BitVec 32 := 3#32
  let v6397 : BitVec 32 := Scalar.shli v6396 c3_i32_3151
  v6397

def k0_off400 (v6395 : BitVec 32) : Fin 2 → Nat :=
  let c3_i32_3150 : BitVec 32 := 3#32
  let v6396 : BitVec 32 := Scalar.shrsi v6395 c3_i32_3150
  let c3_i32_3151 : BitVec 32 := 3#32
  let v6397 : BitVec 32 := Scalar.shli v6396 c3_i32_3151
  let v6398 : BitVec 32 := v6397
  let v6400 : Index := Scalar.indexCast v6398
  let c0_3152 : Index := 0#32
  ![Nat.mul 2 v6400.toNat, 0]

def k0_chk261 (v6395 : BitVec 32) : Prop :=
  (8 ∣ (k0_mult263 v6395).toNat) ∧
  (∀ a, (k0_off400 v6395) a + S16x128.size a ≤ S20016x128.size a)
theorem k0_mult263_dvd : ∀ (v6395 : BitVec 32) (k0_hw261 : k0_chk261 v6395), 8 ∣ (k0_mult263 v6395).toNat := fun v6395 k0_hw261 => k0_hw261.1
theorem k0_off400_inb : ∀ (v6395 : BitVec 32) (k0_hw261 : k0_chk261 v6395), ∀ a, (k0_off400 v6395) a + S16x128.size a ≤ S20016x128.size a := fun v6395 k0_hw261 => k0_hw261.2

def k0_off401 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c4_i32_3155 : BitVec 32 := 4#32
  let v6406 : BitVec 32 := Scalar.addi v6320 c4_i32_3155
  let v6407 : Index := Scalar.indexCast v6406
  let c0_3156 : Index := 0#32
  ![v6407.toNat, 0]
def k0_off402 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c5_i32_3157 : BitVec 32 := 5#32
  let v6411 : BitVec 32 := Scalar.addi v6320 c5_i32_3157
  let v6412 : Index := Scalar.indexCast v6411
  ![v6412.toNat]
def k0_mult264 (v6413 : BitVec 32) : BitVec 32 :=
  let c3_i32_3158 : BitVec 32 := 3#32
  let v6414 : BitVec 32 := Scalar.shrsi v6413 c3_i32_3158
  let c3_i32_3159 : BitVec 32 := 3#32
  let v6415 : BitVec 32 := Scalar.shli v6414 c3_i32_3159
  v6415

def k0_off403 (v6413 : BitVec 32) : Fin 2 → Nat :=
  let c3_i32_3158 : BitVec 32 := 3#32
  let v6414 : BitVec 32 := Scalar.shrsi v6413 c3_i32_3158
  let c3_i32_3159 : BitVec 32 := 3#32
  let v6415 : BitVec 32 := Scalar.shli v6414 c3_i32_3159
  let v6416 : BitVec 32 := v6415
  let v6418 : Index := Scalar.indexCast v6416
  let c0_3160 : Index := 0#32
  ![Nat.mul 2 v6418.toNat, 0]

def k0_chk262 (v6413 : BitVec 32) : Prop :=
  (8 ∣ (k0_mult264 v6413).toNat) ∧
  (∀ a, (k0_off403 v6413) a + S16x128.size a ≤ S20016x128.size a)
theorem k0_mult264_dvd : ∀ (v6413 : BitVec 32) (k0_hw262 : k0_chk262 v6413), 8 ∣ (k0_mult264 v6413).toNat := fun v6413 k0_hw262 => k0_hw262.1
theorem k0_off403_inb : ∀ (v6413 : BitVec 32) (k0_hw262 : k0_chk262 v6413), ∀ a, (k0_off403 v6413) a + S16x128.size a ≤ S20016x128.size a := fun v6413 k0_hw262 => k0_hw262.2

def k0_off404 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c5_i32_3163 : BitVec 32 := 5#32
  let v6424 : BitVec 32 := Scalar.addi v6320 c5_i32_3163
  let v6425 : Index := Scalar.indexCast v6424
  let c0_3164 : Index := 0#32
  ![v6425.toNat, 0]
def k0_off405 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c6_i32_3165 : BitVec 32 := 6#32
  let v6429 : BitVec 32 := Scalar.addi v6320 c6_i32_3165
  let v6430 : Index := Scalar.indexCast v6429
  ![v6430.toNat]
def k0_mult265 (v6431 : BitVec 32) : BitVec 32 :=
  let c3_i32_3166 : BitVec 32 := 3#32
  let v6432 : BitVec 32 := Scalar.shrsi v6431 c3_i32_3166
  let c3_i32_3167 : BitVec 32 := 3#32
  let v6433 : BitVec 32 := Scalar.shli v6432 c3_i32_3167
  v6433

def k0_off406 (v6431 : BitVec 32) : Fin 2 → Nat :=
  let c3_i32_3166 : BitVec 32 := 3#32
  let v6432 : BitVec 32 := Scalar.shrsi v6431 c3_i32_3166
  let c3_i32_3167 : BitVec 32 := 3#32
  let v6433 : BitVec 32 := Scalar.shli v6432 c3_i32_3167
  let v6434 : BitVec 32 := v6433
  let v6436 : Index := Scalar.indexCast v6434
  let c0_3168 : Index := 0#32
  ![Nat.mul 2 v6436.toNat, 0]

def k0_chk263 (v6431 : BitVec 32) : Prop :=
  (8 ∣ (k0_mult265 v6431).toNat) ∧
  (∀ a, (k0_off406 v6431) a + S16x128.size a ≤ S20016x128.size a)
theorem k0_mult265_dvd : ∀ (v6431 : BitVec 32) (k0_hw263 : k0_chk263 v6431), 8 ∣ (k0_mult265 v6431).toNat := fun v6431 k0_hw263 => k0_hw263.1
theorem k0_off406_inb : ∀ (v6431 : BitVec 32) (k0_hw263 : k0_chk263 v6431), ∀ a, (k0_off406 v6431) a + S16x128.size a ≤ S20016x128.size a := fun v6431 k0_hw263 => k0_hw263.2

def k0_off407 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c6_i32_3171 : BitVec 32 := 6#32
  let v6442 : BitVec 32 := Scalar.addi v6320 c6_i32_3171
  let v6443 : Index := Scalar.indexCast v6442
  let c0_3172 : Index := 0#32
  ![v6443.toNat, 0]
def k0_off408 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c7_i32_3173 : BitVec 32 := 7#32
  let v6447 : BitVec 32 := Scalar.addi v6320 c7_i32_3173
  let v6448 : Index := Scalar.indexCast v6447
  ![v6448.toNat]
def k0_mult266 (v6449 : BitVec 32) : BitVec 32 :=
  let c3_i32_3174 : BitVec 32 := 3#32
  let v6450 : BitVec 32 := Scalar.shrsi v6449 c3_i32_3174
  let c3_i32_3175 : BitVec 32 := 3#32
  let v6451 : BitVec 32 := Scalar.shli v6450 c3_i32_3175
  v6451

def k0_off409 (v6449 : BitVec 32) : Fin 2 → Nat :=
  let c3_i32_3174 : BitVec 32 := 3#32
  let v6450 : BitVec 32 := Scalar.shrsi v6449 c3_i32_3174
  let c3_i32_3175 : BitVec 32 := 3#32
  let v6451 : BitVec 32 := Scalar.shli v6450 c3_i32_3175
  let v6452 : BitVec 32 := v6451
  let v6454 : Index := Scalar.indexCast v6452
  let c0_3176 : Index := 0#32
  ![Nat.mul 2 v6454.toNat, 0]

def k0_chk264 (v6449 : BitVec 32) : Prop :=
  (8 ∣ (k0_mult266 v6449).toNat) ∧
  (∀ a, (k0_off409 v6449) a + S16x128.size a ≤ S20016x128.size a)
theorem k0_mult266_dvd : ∀ (v6449 : BitVec 32) (k0_hw264 : k0_chk264 v6449), 8 ∣ (k0_mult266 v6449).toNat := fun v6449 k0_hw264 => k0_hw264.1
theorem k0_off409_inb : ∀ (v6449 : BitVec 32) (k0_hw264 : k0_chk264 v6449), ∀ a, (k0_off409 v6449) a + S16x128.size a ≤ S20016x128.size a := fun v6449 k0_hw264 => k0_hw264.2

def k0_off410 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c7_i32_3179 : BitVec 32 := 7#32
  let v6460 : BitVec 32 := Scalar.addi v6320 c7_i32_3179
  let v6461 : Index := Scalar.indexCast v6460
  let c0_3180 : Index := 0#32
  ![v6461.toNat, 0]
def k0_off411 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c8_i32_3181 : BitVec 32 := 8#32
  let v6465 : BitVec 32 := Scalar.addi v6320 c8_i32_3181
  let v6466 : Index := Scalar.indexCast v6465
  ![v6466.toNat]
def k0_mult267 (v6467 : BitVec 32) : BitVec 32 :=
  let c3_i32_3182 : BitVec 32 := 3#32
  let v6468 : BitVec 32 := Scalar.shrsi v6467 c3_i32_3182
  let c3_i32_3183 : BitVec 32 := 3#32
  let v6469 : BitVec 32 := Scalar.shli v6468 c3_i32_3183
  v6469

def k0_off412 (v6467 : BitVec 32) : Fin 2 → Nat :=
  let c3_i32_3182 : BitVec 32 := 3#32
  let v6468 : BitVec 32 := Scalar.shrsi v6467 c3_i32_3182
  let c3_i32_3183 : BitVec 32 := 3#32
  let v6469 : BitVec 32 := Scalar.shli v6468 c3_i32_3183
  let v6470 : BitVec 32 := v6469
  let v6472 : Index := Scalar.indexCast v6470
  let c0_3184 : Index := 0#32
  ![Nat.mul 2 v6472.toNat, 0]

def k0_chk265 (v6467 : BitVec 32) : Prop :=
  (8 ∣ (k0_mult267 v6467).toNat) ∧
  (∀ a, (k0_off412 v6467) a + S16x128.size a ≤ S20016x128.size a)
theorem k0_mult267_dvd : ∀ (v6467 : BitVec 32) (k0_hw265 : k0_chk265 v6467), 8 ∣ (k0_mult267 v6467).toNat := fun v6467 k0_hw265 => k0_hw265.1
theorem k0_off412_inb : ∀ (v6467 : BitVec 32) (k0_hw265 : k0_chk265 v6467), ∀ a, (k0_off412 v6467) a + S16x128.size a ≤ S20016x128.size a := fun v6467 k0_hw265 => k0_hw265.2

def k0_off413 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c8_i32_3187 : BitVec 32 := 8#32
  let v6478 : BitVec 32 := Scalar.addi v6320 c8_i32_3187
  let v6479 : Index := Scalar.indexCast v6478
  let c0_3188 : Index := 0#32
  ![v6479.toNat, 0]
def k0_off414 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c9_i32_3189 : BitVec 32 := 9#32
  let v6483 : BitVec 32 := Scalar.addi v6320 c9_i32_3189
  let v6484 : Index := Scalar.indexCast v6483
  ![v6484.toNat]
def k0_mult268 (v6485 : BitVec 32) : BitVec 32 :=
  let c3_i32_3190 : BitVec 32 := 3#32
  let v6486 : BitVec 32 := Scalar.shrsi v6485 c3_i32_3190
  let c3_i32_3191 : BitVec 32 := 3#32
  let v6487 : BitVec 32 := Scalar.shli v6486 c3_i32_3191
  v6487

def k0_off415 (v6485 : BitVec 32) : Fin 2 → Nat :=
  let c3_i32_3190 : BitVec 32 := 3#32
  let v6486 : BitVec 32 := Scalar.shrsi v6485 c3_i32_3190
  let c3_i32_3191 : BitVec 32 := 3#32
  let v6487 : BitVec 32 := Scalar.shli v6486 c3_i32_3191
  let v6488 : BitVec 32 := v6487
  let v6490 : Index := Scalar.indexCast v6488
  let c0_3192 : Index := 0#32
  ![Nat.mul 2 v6490.toNat, 0]

def k0_chk266 (v6485 : BitVec 32) : Prop :=
  (8 ∣ (k0_mult268 v6485).toNat) ∧
  (∀ a, (k0_off415 v6485) a + S16x128.size a ≤ S20016x128.size a)
theorem k0_mult268_dvd : ∀ (v6485 : BitVec 32) (k0_hw266 : k0_chk266 v6485), 8 ∣ (k0_mult268 v6485).toNat := fun v6485 k0_hw266 => k0_hw266.1
theorem k0_off415_inb : ∀ (v6485 : BitVec 32) (k0_hw266 : k0_chk266 v6485), ∀ a, (k0_off415 v6485) a + S16x128.size a ≤ S20016x128.size a := fun v6485 k0_hw266 => k0_hw266.2

def k0_off416 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c9_i32_3195 : BitVec 32 := 9#32
  let v6496 : BitVec 32 := Scalar.addi v6320 c9_i32_3195
  let v6497 : Index := Scalar.indexCast v6496
  let c0_3196 : Index := 0#32
  ![v6497.toNat, 0]
def k0_off417 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c10_i32_3197 : BitVec 32 := 10#32
  let v6501 : BitVec 32 := Scalar.addi v6320 c10_i32_3197
  let v6502 : Index := Scalar.indexCast v6501
  ![v6502.toNat]
def k0_mult269 (v6503 : BitVec 32) : BitVec 32 :=
  let c3_i32_3198 : BitVec 32 := 3#32
  let v6504 : BitVec 32 := Scalar.shrsi v6503 c3_i32_3198
  let c3_i32_3199 : BitVec 32 := 3#32
  let v6505 : BitVec 32 := Scalar.shli v6504 c3_i32_3199
  v6505

def k0_off418 (v6503 : BitVec 32) : Fin 2 → Nat :=
  let c3_i32_3198 : BitVec 32 := 3#32
  let v6504 : BitVec 32 := Scalar.shrsi v6503 c3_i32_3198
  let c3_i32_3199 : BitVec 32 := 3#32
  let v6505 : BitVec 32 := Scalar.shli v6504 c3_i32_3199
  let v6506 : BitVec 32 := v6505
  let v6508 : Index := Scalar.indexCast v6506
  let c0_3200 : Index := 0#32
  ![Nat.mul 2 v6508.toNat, 0]

def k0_chk267 (v6503 : BitVec 32) : Prop :=
  (8 ∣ (k0_mult269 v6503).toNat) ∧
  (∀ a, (k0_off418 v6503) a + S16x128.size a ≤ S20016x128.size a)
theorem k0_mult269_dvd : ∀ (v6503 : BitVec 32) (k0_hw267 : k0_chk267 v6503), 8 ∣ (k0_mult269 v6503).toNat := fun v6503 k0_hw267 => k0_hw267.1
theorem k0_off418_inb : ∀ (v6503 : BitVec 32) (k0_hw267 : k0_chk267 v6503), ∀ a, (k0_off418 v6503) a + S16x128.size a ≤ S20016x128.size a := fun v6503 k0_hw267 => k0_hw267.2

def k0_off419 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c10_i32_3203 : BitVec 32 := 10#32
  let v6514 : BitVec 32 := Scalar.addi v6320 c10_i32_3203
  let v6515 : Index := Scalar.indexCast v6514
  let c0_3204 : Index := 0#32
  ![v6515.toNat, 0]
def k0_off420 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c11_i32_3205 : BitVec 32 := 11#32
  let v6519 : BitVec 32 := Scalar.addi v6320 c11_i32_3205
  let v6520 : Index := Scalar.indexCast v6519
  ![v6520.toNat]
def k0_mult270 (v6521 : BitVec 32) : BitVec 32 :=
  let c3_i32_3206 : BitVec 32 := 3#32
  let v6522 : BitVec 32 := Scalar.shrsi v6521 c3_i32_3206
  let c3_i32_3207 : BitVec 32 := 3#32
  let v6523 : BitVec 32 := Scalar.shli v6522 c3_i32_3207
  v6523

def k0_off421 (v6521 : BitVec 32) : Fin 2 → Nat :=
  let c3_i32_3206 : BitVec 32 := 3#32
  let v6522 : BitVec 32 := Scalar.shrsi v6521 c3_i32_3206
  let c3_i32_3207 : BitVec 32 := 3#32
  let v6523 : BitVec 32 := Scalar.shli v6522 c3_i32_3207
  let v6524 : BitVec 32 := v6523
  let v6526 : Index := Scalar.indexCast v6524
  let c0_3208 : Index := 0#32
  ![Nat.mul 2 v6526.toNat, 0]

def k0_chk268 (v6521 : BitVec 32) : Prop :=
  (8 ∣ (k0_mult270 v6521).toNat) ∧
  (∀ a, (k0_off421 v6521) a + S16x128.size a ≤ S20016x128.size a)
theorem k0_mult270_dvd : ∀ (v6521 : BitVec 32) (k0_hw268 : k0_chk268 v6521), 8 ∣ (k0_mult270 v6521).toNat := fun v6521 k0_hw268 => k0_hw268.1
theorem k0_off421_inb : ∀ (v6521 : BitVec 32) (k0_hw268 : k0_chk268 v6521), ∀ a, (k0_off421 v6521) a + S16x128.size a ≤ S20016x128.size a := fun v6521 k0_hw268 => k0_hw268.2

def k0_off422 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c11_i32_3211 : BitVec 32 := 11#32
  let v6532 : BitVec 32 := Scalar.addi v6320 c11_i32_3211
  let v6533 : Index := Scalar.indexCast v6532
  let c0_3212 : Index := 0#32
  ![v6533.toNat, 0]
def k0_off423 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c12_i32_3213 : BitVec 32 := 12#32
  let v6537 : BitVec 32 := Scalar.addi v6320 c12_i32_3213
  let v6538 : Index := Scalar.indexCast v6537
  ![v6538.toNat]
def k0_mult271 (v6539 : BitVec 32) : BitVec 32 :=
  let c3_i32_3214 : BitVec 32 := 3#32
  let v6540 : BitVec 32 := Scalar.shrsi v6539 c3_i32_3214
  let c3_i32_3215 : BitVec 32 := 3#32
  let v6541 : BitVec 32 := Scalar.shli v6540 c3_i32_3215
  v6541

def k0_off424 (v6539 : BitVec 32) : Fin 2 → Nat :=
  let c3_i32_3214 : BitVec 32 := 3#32
  let v6540 : BitVec 32 := Scalar.shrsi v6539 c3_i32_3214
  let c3_i32_3215 : BitVec 32 := 3#32
  let v6541 : BitVec 32 := Scalar.shli v6540 c3_i32_3215
  let v6542 : BitVec 32 := v6541
  let v6544 : Index := Scalar.indexCast v6542
  let c0_3216 : Index := 0#32
  ![Nat.mul 2 v6544.toNat, 0]

def k0_chk269 (v6539 : BitVec 32) : Prop :=
  (8 ∣ (k0_mult271 v6539).toNat) ∧
  (∀ a, (k0_off424 v6539) a + S16x128.size a ≤ S20016x128.size a)
theorem k0_mult271_dvd : ∀ (v6539 : BitVec 32) (k0_hw269 : k0_chk269 v6539), 8 ∣ (k0_mult271 v6539).toNat := fun v6539 k0_hw269 => k0_hw269.1
theorem k0_off424_inb : ∀ (v6539 : BitVec 32) (k0_hw269 : k0_chk269 v6539), ∀ a, (k0_off424 v6539) a + S16x128.size a ≤ S20016x128.size a := fun v6539 k0_hw269 => k0_hw269.2

def k0_off425 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c12_i32_3219 : BitVec 32 := 12#32
  let v6550 : BitVec 32 := Scalar.addi v6320 c12_i32_3219
  let v6551 : Index := Scalar.indexCast v6550
  let c0_3220 : Index := 0#32
  ![v6551.toNat, 0]
def k0_off426 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c13_i32_3221 : BitVec 32 := 13#32
  let v6555 : BitVec 32 := Scalar.addi v6320 c13_i32_3221
  let v6556 : Index := Scalar.indexCast v6555
  ![v6556.toNat]
def k0_mult272 (v6557 : BitVec 32) : BitVec 32 :=
  let c3_i32_3222 : BitVec 32 := 3#32
  let v6558 : BitVec 32 := Scalar.shrsi v6557 c3_i32_3222
  let c3_i32_3223 : BitVec 32 := 3#32
  let v6559 : BitVec 32 := Scalar.shli v6558 c3_i32_3223
  v6559

def k0_off427 (v6557 : BitVec 32) : Fin 2 → Nat :=
  let c3_i32_3222 : BitVec 32 := 3#32
  let v6558 : BitVec 32 := Scalar.shrsi v6557 c3_i32_3222
  let c3_i32_3223 : BitVec 32 := 3#32
  let v6559 : BitVec 32 := Scalar.shli v6558 c3_i32_3223
  let v6560 : BitVec 32 := v6559
  let v6562 : Index := Scalar.indexCast v6560
  let c0_3224 : Index := 0#32
  ![Nat.mul 2 v6562.toNat, 0]

def k0_chk270 (v6557 : BitVec 32) : Prop :=
  (8 ∣ (k0_mult272 v6557).toNat) ∧
  (∀ a, (k0_off427 v6557) a + S16x128.size a ≤ S20016x128.size a)
theorem k0_mult272_dvd : ∀ (v6557 : BitVec 32) (k0_hw270 : k0_chk270 v6557), 8 ∣ (k0_mult272 v6557).toNat := fun v6557 k0_hw270 => k0_hw270.1
theorem k0_off427_inb : ∀ (v6557 : BitVec 32) (k0_hw270 : k0_chk270 v6557), ∀ a, (k0_off427 v6557) a + S16x128.size a ≤ S20016x128.size a := fun v6557 k0_hw270 => k0_hw270.2

def k0_off428 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c13_i32_3227 : BitVec 32 := 13#32
  let v6568 : BitVec 32 := Scalar.addi v6320 c13_i32_3227
  let v6569 : Index := Scalar.indexCast v6568
  let c0_3228 : Index := 0#32
  ![v6569.toNat, 0]
def k0_off429 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c14_i32_3229 : BitVec 32 := 14#32
  let v6573 : BitVec 32 := Scalar.addi v6320 c14_i32_3229
  let v6574 : Index := Scalar.indexCast v6573
  ![v6574.toNat]
def k0_mult273 (v6575 : BitVec 32) : BitVec 32 :=
  let c3_i32_3230 : BitVec 32 := 3#32
  let v6576 : BitVec 32 := Scalar.shrsi v6575 c3_i32_3230
  let c3_i32_3231 : BitVec 32 := 3#32
  let v6577 : BitVec 32 := Scalar.shli v6576 c3_i32_3231
  v6577

def k0_off430 (v6575 : BitVec 32) : Fin 2 → Nat :=
  let c3_i32_3230 : BitVec 32 := 3#32
  let v6576 : BitVec 32 := Scalar.shrsi v6575 c3_i32_3230
  let c3_i32_3231 : BitVec 32 := 3#32
  let v6577 : BitVec 32 := Scalar.shli v6576 c3_i32_3231
  let v6578 : BitVec 32 := v6577
  let v6580 : Index := Scalar.indexCast v6578
  let c0_3232 : Index := 0#32
  ![Nat.mul 2 v6580.toNat, 0]

def k0_chk271 (v6575 : BitVec 32) : Prop :=
  (8 ∣ (k0_mult273 v6575).toNat) ∧
  (∀ a, (k0_off430 v6575) a + S16x128.size a ≤ S20016x128.size a)
theorem k0_mult273_dvd : ∀ (v6575 : BitVec 32) (k0_hw271 : k0_chk271 v6575), 8 ∣ (k0_mult273 v6575).toNat := fun v6575 k0_hw271 => k0_hw271.1
theorem k0_off430_inb : ∀ (v6575 : BitVec 32) (k0_hw271 : k0_chk271 v6575), ∀ a, (k0_off430 v6575) a + S16x128.size a ≤ S20016x128.size a := fun v6575 k0_hw271 => k0_hw271.2

def k0_off431 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c14_i32_3235 : BitVec 32 := 14#32
  let v6586 : BitVec 32 := Scalar.addi v6320 c14_i32_3235
  let v6587 : Index := Scalar.indexCast v6586
  let c0_3236 : Index := 0#32
  ![v6587.toNat, 0]
def k0_off432 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c15_i32_3237 : BitVec 32 := 15#32
  let v6591 : BitVec 32 := Scalar.addi v6320 c15_i32_3237
  let v6592 : Index := Scalar.indexCast v6591
  ![v6592.toNat]
def k0_mult274 (v6593 : BitVec 32) : BitVec 32 :=
  let c3_i32_3238 : BitVec 32 := 3#32
  let v6594 : BitVec 32 := Scalar.shrsi v6593 c3_i32_3238
  let c3_i32_3239 : BitVec 32 := 3#32
  let v6595 : BitVec 32 := Scalar.shli v6594 c3_i32_3239
  v6595

def k0_off433 (v6593 : BitVec 32) : Fin 2 → Nat :=
  let c3_i32_3238 : BitVec 32 := 3#32
  let v6594 : BitVec 32 := Scalar.shrsi v6593 c3_i32_3238
  let c3_i32_3239 : BitVec 32 := 3#32
  let v6595 : BitVec 32 := Scalar.shli v6594 c3_i32_3239
  let v6596 : BitVec 32 := v6595
  let v6598 : Index := Scalar.indexCast v6596
  let c0_3240 : Index := 0#32
  ![Nat.mul 2 v6598.toNat, 0]

def k0_chk272 (v6593 : BitVec 32) : Prop :=
  (8 ∣ (k0_mult274 v6593).toNat) ∧
  (∀ a, (k0_off433 v6593) a + S16x128.size a ≤ S20016x128.size a)
theorem k0_mult274_dvd : ∀ (v6593 : BitVec 32) (k0_hw272 : k0_chk272 v6593), 8 ∣ (k0_mult274 v6593).toNat := fun v6593 k0_hw272 => k0_hw272.1
theorem k0_off433_inb : ∀ (v6593 : BitVec 32) (k0_hw272 : k0_chk272 v6593), ∀ a, (k0_off433 v6593) a + S16x128.size a ≤ S20016x128.size a := fun v6593 k0_hw272 => k0_hw272.2

def k0_off434 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c15_i32_3243 : BitVec 32 := 15#32
  let v6604 : BitVec 32 := Scalar.addi v6320 c15_i32_3243
  let v6605 : Index := Scalar.indexCast v6604
  let c0_3244 : Index := 0#32
  ![v6605.toNat, 0]
def k0_off435 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c16_i32_3245 : BitVec 32 := 16#32
  let v6609 : BitVec 32 := Scalar.addi v6320 c16_i32_3245
  let v6610 : Index := Scalar.indexCast v6609
  ![v6610.toNat]
def k0_mult275 (v6611 : BitVec 32) : BitVec 32 :=
  let c3_i32_3246 : BitVec 32 := 3#32
  let v6612 : BitVec 32 := Scalar.shrsi v6611 c3_i32_3246
  let c3_i32_3247 : BitVec 32 := 3#32
  let v6613 : BitVec 32 := Scalar.shli v6612 c3_i32_3247
  v6613

def k0_off436 (v6611 : BitVec 32) : Fin 2 → Nat :=
  let c3_i32_3246 : BitVec 32 := 3#32
  let v6612 : BitVec 32 := Scalar.shrsi v6611 c3_i32_3246
  let c3_i32_3247 : BitVec 32 := 3#32
  let v6613 : BitVec 32 := Scalar.shli v6612 c3_i32_3247
  let v6614 : BitVec 32 := v6613
  let v6616 : Index := Scalar.indexCast v6614
  let c0_3248 : Index := 0#32
  ![Nat.mul 2 v6616.toNat, 0]

def k0_chk273 (v6611 : BitVec 32) : Prop :=
  (8 ∣ (k0_mult275 v6611).toNat) ∧
  (∀ a, (k0_off436 v6611) a + S16x128.size a ≤ S20016x128.size a)
theorem k0_mult275_dvd : ∀ (v6611 : BitVec 32) (k0_hw273 : k0_chk273 v6611), 8 ∣ (k0_mult275 v6611).toNat := fun v6611 k0_hw273 => k0_hw273.1
theorem k0_off436_inb : ∀ (v6611 : BitVec 32) (k0_hw273 : k0_chk273 v6611), ∀ a, (k0_off436 v6611) a + S16x128.size a ≤ S20016x128.size a := fun v6611 k0_hw273 => k0_hw273.2

def k0_off437 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c16_i32_3251 : BitVec 32 := 16#32
  let v6622 : BitVec 32 := Scalar.addi v6320 c16_i32_3251
  let v6623 : Index := Scalar.indexCast v6622
  let c0_3252 : Index := 0#32
  ![v6623.toNat, 0]
def k0_off438 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c17_i32_3253 : BitVec 32 := 17#32
  let v6627 : BitVec 32 := Scalar.addi v6320 c17_i32_3253
  let v6628 : Index := Scalar.indexCast v6627
  ![v6628.toNat]
def k0_mult276 (v6629 : BitVec 32) : BitVec 32 :=
  let c3_i32_3254 : BitVec 32 := 3#32
  let v6630 : BitVec 32 := Scalar.shrsi v6629 c3_i32_3254
  let c3_i32_3255 : BitVec 32 := 3#32
  let v6631 : BitVec 32 := Scalar.shli v6630 c3_i32_3255
  v6631

def k0_off439 (v6629 : BitVec 32) : Fin 2 → Nat :=
  let c3_i32_3254 : BitVec 32 := 3#32
  let v6630 : BitVec 32 := Scalar.shrsi v6629 c3_i32_3254
  let c3_i32_3255 : BitVec 32 := 3#32
  let v6631 : BitVec 32 := Scalar.shli v6630 c3_i32_3255
  let v6632 : BitVec 32 := v6631
  let v6634 : Index := Scalar.indexCast v6632
  let c0_3256 : Index := 0#32
  ![Nat.mul 2 v6634.toNat, 0]

def k0_chk274 (v6629 : BitVec 32) : Prop :=
  (8 ∣ (k0_mult276 v6629).toNat) ∧
  (∀ a, (k0_off439 v6629) a + S16x128.size a ≤ S20016x128.size a)
theorem k0_mult276_dvd : ∀ (v6629 : BitVec 32) (k0_hw274 : k0_chk274 v6629), 8 ∣ (k0_mult276 v6629).toNat := fun v6629 k0_hw274 => k0_hw274.1
theorem k0_off439_inb : ∀ (v6629 : BitVec 32) (k0_hw274 : k0_chk274 v6629), ∀ a, (k0_off439 v6629) a + S16x128.size a ≤ S20016x128.size a := fun v6629 k0_hw274 => k0_hw274.2

def k0_off440 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c17_i32_3259 : BitVec 32 := 17#32
  let v6640 : BitVec 32 := Scalar.addi v6320 c17_i32_3259
  let v6641 : Index := Scalar.indexCast v6640
  let c0_3260 : Index := 0#32
  ![v6641.toNat, 0]
def k0_off441 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c18_i32_3261 : BitVec 32 := 18#32
  let v6645 : BitVec 32 := Scalar.addi v6320 c18_i32_3261
  let v6646 : Index := Scalar.indexCast v6645
  ![v6646.toNat]
def k0_mult277 (v6647 : BitVec 32) : BitVec 32 :=
  let c3_i32_3262 : BitVec 32 := 3#32
  let v6648 : BitVec 32 := Scalar.shrsi v6647 c3_i32_3262
  let c3_i32_3263 : BitVec 32 := 3#32
  let v6649 : BitVec 32 := Scalar.shli v6648 c3_i32_3263
  v6649

def k0_off442 (v6647 : BitVec 32) : Fin 2 → Nat :=
  let c3_i32_3262 : BitVec 32 := 3#32
  let v6648 : BitVec 32 := Scalar.shrsi v6647 c3_i32_3262
  let c3_i32_3263 : BitVec 32 := 3#32
  let v6649 : BitVec 32 := Scalar.shli v6648 c3_i32_3263
  let v6650 : BitVec 32 := v6649
  let v6652 : Index := Scalar.indexCast v6650
  let c0_3264 : Index := 0#32
  ![Nat.mul 2 v6652.toNat, 0]

def k0_chk275 (v6647 : BitVec 32) : Prop :=
  (8 ∣ (k0_mult277 v6647).toNat) ∧
  (∀ a, (k0_off442 v6647) a + S16x128.size a ≤ S20016x128.size a)
theorem k0_mult277_dvd : ∀ (v6647 : BitVec 32) (k0_hw275 : k0_chk275 v6647), 8 ∣ (k0_mult277 v6647).toNat := fun v6647 k0_hw275 => k0_hw275.1
theorem k0_off442_inb : ∀ (v6647 : BitVec 32) (k0_hw275 : k0_chk275 v6647), ∀ a, (k0_off442 v6647) a + S16x128.size a ≤ S20016x128.size a := fun v6647 k0_hw275 => k0_hw275.2

def k0_off443 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c18_i32_3267 : BitVec 32 := 18#32
  let v6658 : BitVec 32 := Scalar.addi v6320 c18_i32_3267
  let v6659 : Index := Scalar.indexCast v6658
  let c0_3268 : Index := 0#32
  ![v6659.toNat, 0]
def k0_off444 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c19_i32_3269 : BitVec 32 := 19#32
  let v6663 : BitVec 32 := Scalar.addi v6320 c19_i32_3269
  let v6664 : Index := Scalar.indexCast v6663
  ![v6664.toNat]
def k0_mult278 (v6665 : BitVec 32) : BitVec 32 :=
  let c3_i32_3270 : BitVec 32 := 3#32
  let v6666 : BitVec 32 := Scalar.shrsi v6665 c3_i32_3270
  let c3_i32_3271 : BitVec 32 := 3#32
  let v6667 : BitVec 32 := Scalar.shli v6666 c3_i32_3271
  v6667

def k0_off445 (v6665 : BitVec 32) : Fin 2 → Nat :=
  let c3_i32_3270 : BitVec 32 := 3#32
  let v6666 : BitVec 32 := Scalar.shrsi v6665 c3_i32_3270
  let c3_i32_3271 : BitVec 32 := 3#32
  let v6667 : BitVec 32 := Scalar.shli v6666 c3_i32_3271
  let v6668 : BitVec 32 := v6667
  let v6670 : Index := Scalar.indexCast v6668
  let c0_3272 : Index := 0#32
  ![Nat.mul 2 v6670.toNat, 0]

def k0_chk276 (v6665 : BitVec 32) : Prop :=
  (8 ∣ (k0_mult278 v6665).toNat) ∧
  (∀ a, (k0_off445 v6665) a + S16x128.size a ≤ S20016x128.size a)
theorem k0_mult278_dvd : ∀ (v6665 : BitVec 32) (k0_hw276 : k0_chk276 v6665), 8 ∣ (k0_mult278 v6665).toNat := fun v6665 k0_hw276 => k0_hw276.1
theorem k0_off445_inb : ∀ (v6665 : BitVec 32) (k0_hw276 : k0_chk276 v6665), ∀ a, (k0_off445 v6665) a + S16x128.size a ≤ S20016x128.size a := fun v6665 k0_hw276 => k0_hw276.2

def k0_off446 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c19_i32_3275 : BitVec 32 := 19#32
  let v6676 : BitVec 32 := Scalar.addi v6320 c19_i32_3275
  let v6677 : Index := Scalar.indexCast v6676
  let c0_3276 : Index := 0#32
  ![v6677.toNat, 0]
def k0_off447 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c20_i32_3277 : BitVec 32 := 20#32
  let v6681 : BitVec 32 := Scalar.addi v6320 c20_i32_3277
  let v6682 : Index := Scalar.indexCast v6681
  ![v6682.toNat]
def k0_mult279 (v6683 : BitVec 32) : BitVec 32 :=
  let c3_i32_3278 : BitVec 32 := 3#32
  let v6684 : BitVec 32 := Scalar.shrsi v6683 c3_i32_3278
  let c3_i32_3279 : BitVec 32 := 3#32
  let v6685 : BitVec 32 := Scalar.shli v6684 c3_i32_3279
  v6685

def k0_off448 (v6683 : BitVec 32) : Fin 2 → Nat :=
  let c3_i32_3278 : BitVec 32 := 3#32
  let v6684 : BitVec 32 := Scalar.shrsi v6683 c3_i32_3278
  let c3_i32_3279 : BitVec 32 := 3#32
  let v6685 : BitVec 32 := Scalar.shli v6684 c3_i32_3279
  let v6686 : BitVec 32 := v6685
  let v6688 : Index := Scalar.indexCast v6686
  let c0_3280 : Index := 0#32
  ![Nat.mul 2 v6688.toNat, 0]

def k0_chk277 (v6683 : BitVec 32) : Prop :=
  (8 ∣ (k0_mult279 v6683).toNat) ∧
  (∀ a, (k0_off448 v6683) a + S16x128.size a ≤ S20016x128.size a)
theorem k0_mult279_dvd : ∀ (v6683 : BitVec 32) (k0_hw277 : k0_chk277 v6683), 8 ∣ (k0_mult279 v6683).toNat := fun v6683 k0_hw277 => k0_hw277.1
theorem k0_off448_inb : ∀ (v6683 : BitVec 32) (k0_hw277 : k0_chk277 v6683), ∀ a, (k0_off448 v6683) a + S16x128.size a ≤ S20016x128.size a := fun v6683 k0_hw277 => k0_hw277.2

def k0_off449 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c20_i32_3283 : BitVec 32 := 20#32
  let v6694 : BitVec 32 := Scalar.addi v6320 c20_i32_3283
  let v6695 : Index := Scalar.indexCast v6694
  let c0_3284 : Index := 0#32
  ![v6695.toNat, 0]
def k0_off450 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c21_i32_3285 : BitVec 32 := 21#32
  let v6699 : BitVec 32 := Scalar.addi v6320 c21_i32_3285
  let v6700 : Index := Scalar.indexCast v6699
  ![v6700.toNat]
def k0_mult280 (v6701 : BitVec 32) : BitVec 32 :=
  let c3_i32_3286 : BitVec 32 := 3#32
  let v6702 : BitVec 32 := Scalar.shrsi v6701 c3_i32_3286
  let c3_i32_3287 : BitVec 32 := 3#32
  let v6703 : BitVec 32 := Scalar.shli v6702 c3_i32_3287
  v6703

def k0_off451 (v6701 : BitVec 32) : Fin 2 → Nat :=
  let c3_i32_3286 : BitVec 32 := 3#32
  let v6702 : BitVec 32 := Scalar.shrsi v6701 c3_i32_3286
  let c3_i32_3287 : BitVec 32 := 3#32
  let v6703 : BitVec 32 := Scalar.shli v6702 c3_i32_3287
  let v6704 : BitVec 32 := v6703
  let v6706 : Index := Scalar.indexCast v6704
  let c0_3288 : Index := 0#32
  ![Nat.mul 2 v6706.toNat, 0]

def k0_chk278 (v6701 : BitVec 32) : Prop :=
  (8 ∣ (k0_mult280 v6701).toNat) ∧
  (∀ a, (k0_off451 v6701) a + S16x128.size a ≤ S20016x128.size a)
theorem k0_mult280_dvd : ∀ (v6701 : BitVec 32) (k0_hw278 : k0_chk278 v6701), 8 ∣ (k0_mult280 v6701).toNat := fun v6701 k0_hw278 => k0_hw278.1
theorem k0_off451_inb : ∀ (v6701 : BitVec 32) (k0_hw278 : k0_chk278 v6701), ∀ a, (k0_off451 v6701) a + S16x128.size a ≤ S20016x128.size a := fun v6701 k0_hw278 => k0_hw278.2

def k0_off452 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c21_i32_3291 : BitVec 32 := 21#32
  let v6712 : BitVec 32 := Scalar.addi v6320 c21_i32_3291
  let v6713 : Index := Scalar.indexCast v6712
  let c0_3292 : Index := 0#32
  ![v6713.toNat, 0]
def k0_off453 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c22_i32_3293 : BitVec 32 := 22#32
  let v6717 : BitVec 32 := Scalar.addi v6320 c22_i32_3293
  let v6718 : Index := Scalar.indexCast v6717
  ![v6718.toNat]
def k0_mult281 (v6719 : BitVec 32) : BitVec 32 :=
  let c3_i32_3294 : BitVec 32 := 3#32
  let v6720 : BitVec 32 := Scalar.shrsi v6719 c3_i32_3294
  let c3_i32_3295 : BitVec 32 := 3#32
  let v6721 : BitVec 32 := Scalar.shli v6720 c3_i32_3295
  v6721

def k0_off454 (v6719 : BitVec 32) : Fin 2 → Nat :=
  let c3_i32_3294 : BitVec 32 := 3#32
  let v6720 : BitVec 32 := Scalar.shrsi v6719 c3_i32_3294
  let c3_i32_3295 : BitVec 32 := 3#32
  let v6721 : BitVec 32 := Scalar.shli v6720 c3_i32_3295
  let v6722 : BitVec 32 := v6721
  let v6724 : Index := Scalar.indexCast v6722
  let c0_3296 : Index := 0#32
  ![Nat.mul 2 v6724.toNat, 0]

def k0_chk279 (v6719 : BitVec 32) : Prop :=
  (8 ∣ (k0_mult281 v6719).toNat) ∧
  (∀ a, (k0_off454 v6719) a + S16x128.size a ≤ S20016x128.size a)
theorem k0_mult281_dvd : ∀ (v6719 : BitVec 32) (k0_hw279 : k0_chk279 v6719), 8 ∣ (k0_mult281 v6719).toNat := fun v6719 k0_hw279 => k0_hw279.1
theorem k0_off454_inb : ∀ (v6719 : BitVec 32) (k0_hw279 : k0_chk279 v6719), ∀ a, (k0_off454 v6719) a + S16x128.size a ≤ S20016x128.size a := fun v6719 k0_hw279 => k0_hw279.2

def k0_off455 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c22_i32_3299 : BitVec 32 := 22#32
  let v6730 : BitVec 32 := Scalar.addi v6320 c22_i32_3299
  let v6731 : Index := Scalar.indexCast v6730
  let c0_3300 : Index := 0#32
  ![v6731.toNat, 0]
def k0_off456 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c23_i32_3301 : BitVec 32 := 23#32
  let v6735 : BitVec 32 := Scalar.addi v6320 c23_i32_3301
  let v6736 : Index := Scalar.indexCast v6735
  ![v6736.toNat]
def k0_mult282 (v6737 : BitVec 32) : BitVec 32 :=
  let c3_i32_3302 : BitVec 32 := 3#32
  let v6738 : BitVec 32 := Scalar.shrsi v6737 c3_i32_3302
  let c3_i32_3303 : BitVec 32 := 3#32
  let v6739 : BitVec 32 := Scalar.shli v6738 c3_i32_3303
  v6739

def k0_off457 (v6737 : BitVec 32) : Fin 2 → Nat :=
  let c3_i32_3302 : BitVec 32 := 3#32
  let v6738 : BitVec 32 := Scalar.shrsi v6737 c3_i32_3302
  let c3_i32_3303 : BitVec 32 := 3#32
  let v6739 : BitVec 32 := Scalar.shli v6738 c3_i32_3303
  let v6740 : BitVec 32 := v6739
  let v6742 : Index := Scalar.indexCast v6740
  let c0_3304 : Index := 0#32
  ![Nat.mul 2 v6742.toNat, 0]

def k0_chk280 (v6737 : BitVec 32) : Prop :=
  (8 ∣ (k0_mult282 v6737).toNat) ∧
  (∀ a, (k0_off457 v6737) a + S16x128.size a ≤ S20016x128.size a)
theorem k0_mult282_dvd : ∀ (v6737 : BitVec 32) (k0_hw280 : k0_chk280 v6737), 8 ∣ (k0_mult282 v6737).toNat := fun v6737 k0_hw280 => k0_hw280.1
theorem k0_off457_inb : ∀ (v6737 : BitVec 32) (k0_hw280 : k0_chk280 v6737), ∀ a, (k0_off457 v6737) a + S16x128.size a ≤ S20016x128.size a := fun v6737 k0_hw280 => k0_hw280.2

def k0_off458 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c23_i32_3307 : BitVec 32 := 23#32
  let v6748 : BitVec 32 := Scalar.addi v6320 c23_i32_3307
  let v6749 : Index := Scalar.indexCast v6748
  let c0_3308 : Index := 0#32
  ![v6749.toNat, 0]
def k0_off459 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c24_i32_3309 : BitVec 32 := 24#32
  let v6753 : BitVec 32 := Scalar.addi v6320 c24_i32_3309
  let v6754 : Index := Scalar.indexCast v6753
  ![v6754.toNat]
def k0_mult283 (v6755 : BitVec 32) : BitVec 32 :=
  let c3_i32_3310 : BitVec 32 := 3#32
  let v6756 : BitVec 32 := Scalar.shrsi v6755 c3_i32_3310
  let c3_i32_3311 : BitVec 32 := 3#32
  let v6757 : BitVec 32 := Scalar.shli v6756 c3_i32_3311
  v6757

def k0_off460 (v6755 : BitVec 32) : Fin 2 → Nat :=
  let c3_i32_3310 : BitVec 32 := 3#32
  let v6756 : BitVec 32 := Scalar.shrsi v6755 c3_i32_3310
  let c3_i32_3311 : BitVec 32 := 3#32
  let v6757 : BitVec 32 := Scalar.shli v6756 c3_i32_3311
  let v6758 : BitVec 32 := v6757
  let v6760 : Index := Scalar.indexCast v6758
  let c0_3312 : Index := 0#32
  ![Nat.mul 2 v6760.toNat, 0]

def k0_chk281 (v6755 : BitVec 32) : Prop :=
  (8 ∣ (k0_mult283 v6755).toNat) ∧
  (∀ a, (k0_off460 v6755) a + S16x128.size a ≤ S20016x128.size a)
theorem k0_mult283_dvd : ∀ (v6755 : BitVec 32) (k0_hw281 : k0_chk281 v6755), 8 ∣ (k0_mult283 v6755).toNat := fun v6755 k0_hw281 => k0_hw281.1
theorem k0_off460_inb : ∀ (v6755 : BitVec 32) (k0_hw281 : k0_chk281 v6755), ∀ a, (k0_off460 v6755) a + S16x128.size a ≤ S20016x128.size a := fun v6755 k0_hw281 => k0_hw281.2

def k0_off461 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c24_i32_3315 : BitVec 32 := 24#32
  let v6766 : BitVec 32 := Scalar.addi v6320 c24_i32_3315
  let v6767 : Index := Scalar.indexCast v6766
  let c0_3316 : Index := 0#32
  ![v6767.toNat, 0]
def k0_off462 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c25_i32_3317 : BitVec 32 := 25#32
  let v6771 : BitVec 32 := Scalar.addi v6320 c25_i32_3317
  let v6772 : Index := Scalar.indexCast v6771
  ![v6772.toNat]
def k0_mult284 (v6773 : BitVec 32) : BitVec 32 :=
  let c3_i32_3318 : BitVec 32 := 3#32
  let v6774 : BitVec 32 := Scalar.shrsi v6773 c3_i32_3318
  let c3_i32_3319 : BitVec 32 := 3#32
  let v6775 : BitVec 32 := Scalar.shli v6774 c3_i32_3319
  v6775

def k0_off463 (v6773 : BitVec 32) : Fin 2 → Nat :=
  let c3_i32_3318 : BitVec 32 := 3#32
  let v6774 : BitVec 32 := Scalar.shrsi v6773 c3_i32_3318
  let c3_i32_3319 : BitVec 32 := 3#32
  let v6775 : BitVec 32 := Scalar.shli v6774 c3_i32_3319
  let v6776 : BitVec 32 := v6775
  let v6778 : Index := Scalar.indexCast v6776
  let c0_3320 : Index := 0#32
  ![Nat.mul 2 v6778.toNat, 0]

def k0_chk282 (v6773 : BitVec 32) : Prop :=
  (8 ∣ (k0_mult284 v6773).toNat) ∧
  (∀ a, (k0_off463 v6773) a + S16x128.size a ≤ S20016x128.size a)
theorem k0_mult284_dvd : ∀ (v6773 : BitVec 32) (k0_hw282 : k0_chk282 v6773), 8 ∣ (k0_mult284 v6773).toNat := fun v6773 k0_hw282 => k0_hw282.1
theorem k0_off463_inb : ∀ (v6773 : BitVec 32) (k0_hw282 : k0_chk282 v6773), ∀ a, (k0_off463 v6773) a + S16x128.size a ≤ S20016x128.size a := fun v6773 k0_hw282 => k0_hw282.2

def k0_off464 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c25_i32_3323 : BitVec 32 := 25#32
  let v6784 : BitVec 32 := Scalar.addi v6320 c25_i32_3323
  let v6785 : Index := Scalar.indexCast v6784
  let c0_3324 : Index := 0#32
  ![v6785.toNat, 0]
def k0_off465 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c26_i32_3325 : BitVec 32 := 26#32
  let v6789 : BitVec 32 := Scalar.addi v6320 c26_i32_3325
  let v6790 : Index := Scalar.indexCast v6789
  ![v6790.toNat]
def k0_mult285 (v6791 : BitVec 32) : BitVec 32 :=
  let c3_i32_3326 : BitVec 32 := 3#32
  let v6792 : BitVec 32 := Scalar.shrsi v6791 c3_i32_3326
  let c3_i32_3327 : BitVec 32 := 3#32
  let v6793 : BitVec 32 := Scalar.shli v6792 c3_i32_3327
  v6793

def k0_off466 (v6791 : BitVec 32) : Fin 2 → Nat :=
  let c3_i32_3326 : BitVec 32 := 3#32
  let v6792 : BitVec 32 := Scalar.shrsi v6791 c3_i32_3326
  let c3_i32_3327 : BitVec 32 := 3#32
  let v6793 : BitVec 32 := Scalar.shli v6792 c3_i32_3327
  let v6794 : BitVec 32 := v6793
  let v6796 : Index := Scalar.indexCast v6794
  let c0_3328 : Index := 0#32
  ![Nat.mul 2 v6796.toNat, 0]

def k0_chk283 (v6791 : BitVec 32) : Prop :=
  (8 ∣ (k0_mult285 v6791).toNat) ∧
  (∀ a, (k0_off466 v6791) a + S16x128.size a ≤ S20016x128.size a)
theorem k0_mult285_dvd : ∀ (v6791 : BitVec 32) (k0_hw283 : k0_chk283 v6791), 8 ∣ (k0_mult285 v6791).toNat := fun v6791 k0_hw283 => k0_hw283.1
theorem k0_off466_inb : ∀ (v6791 : BitVec 32) (k0_hw283 : k0_chk283 v6791), ∀ a, (k0_off466 v6791) a + S16x128.size a ≤ S20016x128.size a := fun v6791 k0_hw283 => k0_hw283.2

def k0_off467 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c26_i32_3331 : BitVec 32 := 26#32
  let v6802 : BitVec 32 := Scalar.addi v6320 c26_i32_3331
  let v6803 : Index := Scalar.indexCast v6802
  let c0_3332 : Index := 0#32
  ![v6803.toNat, 0]
def k0_off468 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c27_i32_3333 : BitVec 32 := 27#32
  let v6807 : BitVec 32 := Scalar.addi v6320 c27_i32_3333
  let v6808 : Index := Scalar.indexCast v6807
  ![v6808.toNat]
def k0_mult286 (v6809 : BitVec 32) : BitVec 32 :=
  let c3_i32_3334 : BitVec 32 := 3#32
  let v6810 : BitVec 32 := Scalar.shrsi v6809 c3_i32_3334
  let c3_i32_3335 : BitVec 32 := 3#32
  let v6811 : BitVec 32 := Scalar.shli v6810 c3_i32_3335
  v6811

def k0_off469 (v6809 : BitVec 32) : Fin 2 → Nat :=
  let c3_i32_3334 : BitVec 32 := 3#32
  let v6810 : BitVec 32 := Scalar.shrsi v6809 c3_i32_3334
  let c3_i32_3335 : BitVec 32 := 3#32
  let v6811 : BitVec 32 := Scalar.shli v6810 c3_i32_3335
  let v6812 : BitVec 32 := v6811
  let v6814 : Index := Scalar.indexCast v6812
  let c0_3336 : Index := 0#32
  ![Nat.mul 2 v6814.toNat, 0]

def k0_chk284 (v6809 : BitVec 32) : Prop :=
  (8 ∣ (k0_mult286 v6809).toNat) ∧
  (∀ a, (k0_off469 v6809) a + S16x128.size a ≤ S20016x128.size a)
theorem k0_mult286_dvd : ∀ (v6809 : BitVec 32) (k0_hw284 : k0_chk284 v6809), 8 ∣ (k0_mult286 v6809).toNat := fun v6809 k0_hw284 => k0_hw284.1
theorem k0_off469_inb : ∀ (v6809 : BitVec 32) (k0_hw284 : k0_chk284 v6809), ∀ a, (k0_off469 v6809) a + S16x128.size a ≤ S20016x128.size a := fun v6809 k0_hw284 => k0_hw284.2

def k0_off470 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c27_i32_3339 : BitVec 32 := 27#32
  let v6820 : BitVec 32 := Scalar.addi v6320 c27_i32_3339
  let v6821 : Index := Scalar.indexCast v6820
  let c0_3340 : Index := 0#32
  ![v6821.toNat, 0]
def k0_off471 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c28_i32_3341 : BitVec 32 := 28#32
  let v6825 : BitVec 32 := Scalar.addi v6320 c28_i32_3341
  let v6826 : Index := Scalar.indexCast v6825
  ![v6826.toNat]
def k0_mult287 (v6827 : BitVec 32) : BitVec 32 :=
  let c3_i32_3342 : BitVec 32 := 3#32
  let v6828 : BitVec 32 := Scalar.shrsi v6827 c3_i32_3342
  let c3_i32_3343 : BitVec 32 := 3#32
  let v6829 : BitVec 32 := Scalar.shli v6828 c3_i32_3343
  v6829

def k0_off472 (v6827 : BitVec 32) : Fin 2 → Nat :=
  let c3_i32_3342 : BitVec 32 := 3#32
  let v6828 : BitVec 32 := Scalar.shrsi v6827 c3_i32_3342
  let c3_i32_3343 : BitVec 32 := 3#32
  let v6829 : BitVec 32 := Scalar.shli v6828 c3_i32_3343
  let v6830 : BitVec 32 := v6829
  let v6832 : Index := Scalar.indexCast v6830
  let c0_3344 : Index := 0#32
  ![Nat.mul 2 v6832.toNat, 0]

def k0_chk285 (v6827 : BitVec 32) : Prop :=
  (8 ∣ (k0_mult287 v6827).toNat) ∧
  (∀ a, (k0_off472 v6827) a + S16x128.size a ≤ S20016x128.size a)
theorem k0_mult287_dvd : ∀ (v6827 : BitVec 32) (k0_hw285 : k0_chk285 v6827), 8 ∣ (k0_mult287 v6827).toNat := fun v6827 k0_hw285 => k0_hw285.1
theorem k0_off472_inb : ∀ (v6827 : BitVec 32) (k0_hw285 : k0_chk285 v6827), ∀ a, (k0_off472 v6827) a + S16x128.size a ≤ S20016x128.size a := fun v6827 k0_hw285 => k0_hw285.2

def k0_off473 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c28_i32_3347 : BitVec 32 := 28#32
  let v6838 : BitVec 32 := Scalar.addi v6320 c28_i32_3347
  let v6839 : Index := Scalar.indexCast v6838
  let c0_3348 : Index := 0#32
  ![v6839.toNat, 0]
def k0_off474 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c29_i32_3349 : BitVec 32 := 29#32
  let v6843 : BitVec 32 := Scalar.addi v6320 c29_i32_3349
  let v6844 : Index := Scalar.indexCast v6843
  ![v6844.toNat]
def k0_mult288 (v6845 : BitVec 32) : BitVec 32 :=
  let c3_i32_3350 : BitVec 32 := 3#32
  let v6846 : BitVec 32 := Scalar.shrsi v6845 c3_i32_3350
  let c3_i32_3351 : BitVec 32 := 3#32
  let v6847 : BitVec 32 := Scalar.shli v6846 c3_i32_3351
  v6847

def k0_off475 (v6845 : BitVec 32) : Fin 2 → Nat :=
  let c3_i32_3350 : BitVec 32 := 3#32
  let v6846 : BitVec 32 := Scalar.shrsi v6845 c3_i32_3350
  let c3_i32_3351 : BitVec 32 := 3#32
  let v6847 : BitVec 32 := Scalar.shli v6846 c3_i32_3351
  let v6848 : BitVec 32 := v6847
  let v6850 : Index := Scalar.indexCast v6848
  let c0_3352 : Index := 0#32
  ![Nat.mul 2 v6850.toNat, 0]

def k0_chk286 (v6845 : BitVec 32) : Prop :=
  (8 ∣ (k0_mult288 v6845).toNat) ∧
  (∀ a, (k0_off475 v6845) a + S16x128.size a ≤ S20016x128.size a)
theorem k0_mult288_dvd : ∀ (v6845 : BitVec 32) (k0_hw286 : k0_chk286 v6845), 8 ∣ (k0_mult288 v6845).toNat := fun v6845 k0_hw286 => k0_hw286.1
theorem k0_off475_inb : ∀ (v6845 : BitVec 32) (k0_hw286 : k0_chk286 v6845), ∀ a, (k0_off475 v6845) a + S16x128.size a ≤ S20016x128.size a := fun v6845 k0_hw286 => k0_hw286.2

def k0_off476 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c29_i32_3355 : BitVec 32 := 29#32
  let v6856 : BitVec 32 := Scalar.addi v6320 c29_i32_3355
  let v6857 : Index := Scalar.indexCast v6856
  let c0_3356 : Index := 0#32
  ![v6857.toNat, 0]
def k0_off477 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c30_i32_3357 : BitVec 32 := 30#32
  let v6861 : BitVec 32 := Scalar.addi v6320 c30_i32_3357
  let v6862 : Index := Scalar.indexCast v6861
  ![v6862.toNat]
def k0_mult289 (v6863 : BitVec 32) : BitVec 32 :=
  let c3_i32_3358 : BitVec 32 := 3#32
  let v6864 : BitVec 32 := Scalar.shrsi v6863 c3_i32_3358
  let c3_i32_3359 : BitVec 32 := 3#32
  let v6865 : BitVec 32 := Scalar.shli v6864 c3_i32_3359
  v6865

def k0_off478 (v6863 : BitVec 32) : Fin 2 → Nat :=
  let c3_i32_3358 : BitVec 32 := 3#32
  let v6864 : BitVec 32 := Scalar.shrsi v6863 c3_i32_3358
  let c3_i32_3359 : BitVec 32 := 3#32
  let v6865 : BitVec 32 := Scalar.shli v6864 c3_i32_3359
  let v6866 : BitVec 32 := v6865
  let v6868 : Index := Scalar.indexCast v6866
  let c0_3360 : Index := 0#32
  ![Nat.mul 2 v6868.toNat, 0]

def k0_chk287 (v6863 : BitVec 32) : Prop :=
  (8 ∣ (k0_mult289 v6863).toNat) ∧
  (∀ a, (k0_off478 v6863) a + S16x128.size a ≤ S20016x128.size a)
theorem k0_mult289_dvd : ∀ (v6863 : BitVec 32) (k0_hw287 : k0_chk287 v6863), 8 ∣ (k0_mult289 v6863).toNat := fun v6863 k0_hw287 => k0_hw287.1
theorem k0_off478_inb : ∀ (v6863 : BitVec 32) (k0_hw287 : k0_chk287 v6863), ∀ a, (k0_off478 v6863) a + S16x128.size a ≤ S20016x128.size a := fun v6863 k0_hw287 => k0_hw287.2

def k0_off479 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c30_i32_3363 : BitVec 32 := 30#32
  let v6874 : BitVec 32 := Scalar.addi v6320 c30_i32_3363
  let v6875 : Index := Scalar.indexCast v6874
  let c0_3364 : Index := 0#32
  ![v6875.toNat, 0]
def k0_off480 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c31_i32_3365 : BitVec 32 := 31#32
  let v6879 : BitVec 32 := Scalar.addi v6320 c31_i32_3365
  let v6880 : Index := Scalar.indexCast v6879
  ![v6880.toNat]
def k0_mult290 (v6881 : BitVec 32) : BitVec 32 :=
  let c3_i32_3366 : BitVec 32 := 3#32
  let v6882 : BitVec 32 := Scalar.shrsi v6881 c3_i32_3366
  let c3_i32_3367 : BitVec 32 := 3#32
  let v6883 : BitVec 32 := Scalar.shli v6882 c3_i32_3367
  v6883

def k0_off481 (v6881 : BitVec 32) : Fin 2 → Nat :=
  let c3_i32_3366 : BitVec 32 := 3#32
  let v6882 : BitVec 32 := Scalar.shrsi v6881 c3_i32_3366
  let c3_i32_3367 : BitVec 32 := 3#32
  let v6883 : BitVec 32 := Scalar.shli v6882 c3_i32_3367
  let v6884 : BitVec 32 := v6883
  let v6886 : Index := Scalar.indexCast v6884
  let c0_3368 : Index := 0#32
  ![Nat.mul 2 v6886.toNat, 0]

def k0_chk288 (v6881 : BitVec 32) : Prop :=
  (8 ∣ (k0_mult290 v6881).toNat) ∧
  (∀ a, (k0_off481 v6881) a + S16x128.size a ≤ S20016x128.size a)
theorem k0_mult290_dvd : ∀ (v6881 : BitVec 32) (k0_hw288 : k0_chk288 v6881), 8 ∣ (k0_mult290 v6881).toNat := fun v6881 k0_hw288 => k0_hw288.1
theorem k0_off481_inb : ∀ (v6881 : BitVec 32) (k0_hw288 : k0_chk288 v6881), ∀ a, (k0_off481 v6881) a + S16x128.size a ≤ S20016x128.size a := fun v6881 k0_hw288 => k0_hw288.2

def k0_off482 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c31_i32_3371 : BitVec 32 := 31#32
  let v6892 : BitVec 32 := Scalar.addi v6320 c31_i32_3371
  let v6893 : Index := Scalar.indexCast v6892
  let c0_3372 : Index := 0#32
  ![v6893.toNat, 0]
def k0_off483 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c32_i32_3373 : BitVec 32 := 32#32
  let v6897 : BitVec 32 := Scalar.addi v6320 c32_i32_3373
  let v6898 : Index := Scalar.indexCast v6897
  ![v6898.toNat]
def k0_mult291 (v6899 : BitVec 32) : BitVec 32 :=
  let c3_i32_3374 : BitVec 32 := 3#32
  let v6900 : BitVec 32 := Scalar.shrsi v6899 c3_i32_3374
  let c3_i32_3375 : BitVec 32 := 3#32
  let v6901 : BitVec 32 := Scalar.shli v6900 c3_i32_3375
  v6901

def k0_off484 (v6899 : BitVec 32) : Fin 2 → Nat :=
  let c3_i32_3374 : BitVec 32 := 3#32
  let v6900 : BitVec 32 := Scalar.shrsi v6899 c3_i32_3374
  let c3_i32_3375 : BitVec 32 := 3#32
  let v6901 : BitVec 32 := Scalar.shli v6900 c3_i32_3375
  let v6902 : BitVec 32 := v6901
  let v6904 : Index := Scalar.indexCast v6902
  let c0_3376 : Index := 0#32
  ![Nat.mul 2 v6904.toNat, 0]

def k0_chk289 (v6899 : BitVec 32) : Prop :=
  (8 ∣ (k0_mult291 v6899).toNat) ∧
  (∀ a, (k0_off484 v6899) a + S16x128.size a ≤ S20016x128.size a)
theorem k0_mult291_dvd : ∀ (v6899 : BitVec 32) (k0_hw289 : k0_chk289 v6899), 8 ∣ (k0_mult291 v6899).toNat := fun v6899 k0_hw289 => k0_hw289.1
theorem k0_off484_inb : ∀ (v6899 : BitVec 32) (k0_hw289 : k0_chk289 v6899), ∀ a, (k0_off484 v6899) a + S16x128.size a ≤ S20016x128.size a := fun v6899 k0_hw289 => k0_hw289.2

def k0_off485 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c32_i32_3379 : BitVec 32 := 32#32
  let v6910 : BitVec 32 := Scalar.addi v6320 c32_i32_3379
  let v6911 : Index := Scalar.indexCast v6910
  let c0_3380 : Index := 0#32
  ![v6911.toNat, 0]
def k0_off486 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c33_i32_3381 : BitVec 32 := 33#32
  let v6915 : BitVec 32 := Scalar.addi v6320 c33_i32_3381
  let v6916 : Index := Scalar.indexCast v6915
  ![v6916.toNat]
def k0_mult292 (v6917 : BitVec 32) : BitVec 32 :=
  let c3_i32_3382 : BitVec 32 := 3#32
  let v6918 : BitVec 32 := Scalar.shrsi v6917 c3_i32_3382
  let c3_i32_3383 : BitVec 32 := 3#32
  let v6919 : BitVec 32 := Scalar.shli v6918 c3_i32_3383
  v6919

def k0_off487 (v6917 : BitVec 32) : Fin 2 → Nat :=
  let c3_i32_3382 : BitVec 32 := 3#32
  let v6918 : BitVec 32 := Scalar.shrsi v6917 c3_i32_3382
  let c3_i32_3383 : BitVec 32 := 3#32
  let v6919 : BitVec 32 := Scalar.shli v6918 c3_i32_3383
  let v6920 : BitVec 32 := v6919
  let v6922 : Index := Scalar.indexCast v6920
  let c0_3384 : Index := 0#32
  ![Nat.mul 2 v6922.toNat, 0]

def k0_chk290 (v6917 : BitVec 32) : Prop :=
  (8 ∣ (k0_mult292 v6917).toNat) ∧
  (∀ a, (k0_off487 v6917) a + S16x128.size a ≤ S20016x128.size a)
theorem k0_mult292_dvd : ∀ (v6917 : BitVec 32) (k0_hw290 : k0_chk290 v6917), 8 ∣ (k0_mult292 v6917).toNat := fun v6917 k0_hw290 => k0_hw290.1
theorem k0_off487_inb : ∀ (v6917 : BitVec 32) (k0_hw290 : k0_chk290 v6917), ∀ a, (k0_off487 v6917) a + S16x128.size a ≤ S20016x128.size a := fun v6917 k0_hw290 => k0_hw290.2

def k0_off488 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c33_i32_3387 : BitVec 32 := 33#32
  let v6928 : BitVec 32 := Scalar.addi v6320 c33_i32_3387
  let v6929 : Index := Scalar.indexCast v6928
  let c0_3388 : Index := 0#32
  ![v6929.toNat, 0]
def k0_off489 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c34_i32_3389 : BitVec 32 := 34#32
  let v6933 : BitVec 32 := Scalar.addi v6320 c34_i32_3389
  let v6934 : Index := Scalar.indexCast v6933
  ![v6934.toNat]
def k0_mult293 (v6935 : BitVec 32) : BitVec 32 :=
  let c3_i32_3390 : BitVec 32 := 3#32
  let v6936 : BitVec 32 := Scalar.shrsi v6935 c3_i32_3390
  let c3_i32_3391 : BitVec 32 := 3#32
  let v6937 : BitVec 32 := Scalar.shli v6936 c3_i32_3391
  v6937

def k0_off490 (v6935 : BitVec 32) : Fin 2 → Nat :=
  let c3_i32_3390 : BitVec 32 := 3#32
  let v6936 : BitVec 32 := Scalar.shrsi v6935 c3_i32_3390
  let c3_i32_3391 : BitVec 32 := 3#32
  let v6937 : BitVec 32 := Scalar.shli v6936 c3_i32_3391
  let v6938 : BitVec 32 := v6937
  let v6940 : Index := Scalar.indexCast v6938
  let c0_3392 : Index := 0#32
  ![Nat.mul 2 v6940.toNat, 0]

def k0_chk291 (v6935 : BitVec 32) : Prop :=
  (8 ∣ (k0_mult293 v6935).toNat) ∧
  (∀ a, (k0_off490 v6935) a + S16x128.size a ≤ S20016x128.size a)
theorem k0_mult293_dvd : ∀ (v6935 : BitVec 32) (k0_hw291 : k0_chk291 v6935), 8 ∣ (k0_mult293 v6935).toNat := fun v6935 k0_hw291 => k0_hw291.1
theorem k0_off490_inb : ∀ (v6935 : BitVec 32) (k0_hw291 : k0_chk291 v6935), ∀ a, (k0_off490 v6935) a + S16x128.size a ≤ S20016x128.size a := fun v6935 k0_hw291 => k0_hw291.2

def k0_off491 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c34_i32_3395 : BitVec 32 := 34#32
  let v6946 : BitVec 32 := Scalar.addi v6320 c34_i32_3395
  let v6947 : Index := Scalar.indexCast v6946
  let c0_3396 : Index := 0#32
  ![v6947.toNat, 0]
def k0_off492 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c35_i32_3397 : BitVec 32 := 35#32
  let v6951 : BitVec 32 := Scalar.addi v6320 c35_i32_3397
  let v6952 : Index := Scalar.indexCast v6951
  ![v6952.toNat]
def k0_mult294 (v6953 : BitVec 32) : BitVec 32 :=
  let c3_i32_3398 : BitVec 32 := 3#32
  let v6954 : BitVec 32 := Scalar.shrsi v6953 c3_i32_3398
  let c3_i32_3399 : BitVec 32 := 3#32
  let v6955 : BitVec 32 := Scalar.shli v6954 c3_i32_3399
  v6955

def k0_off493 (v6953 : BitVec 32) : Fin 2 → Nat :=
  let c3_i32_3398 : BitVec 32 := 3#32
  let v6954 : BitVec 32 := Scalar.shrsi v6953 c3_i32_3398
  let c3_i32_3399 : BitVec 32 := 3#32
  let v6955 : BitVec 32 := Scalar.shli v6954 c3_i32_3399
  let v6956 : BitVec 32 := v6955
  let v6958 : Index := Scalar.indexCast v6956
  let c0_3400 : Index := 0#32
  ![Nat.mul 2 v6958.toNat, 0]

def k0_chk292 (v6953 : BitVec 32) : Prop :=
  (8 ∣ (k0_mult294 v6953).toNat) ∧
  (∀ a, (k0_off493 v6953) a + S16x128.size a ≤ S20016x128.size a)
theorem k0_mult294_dvd : ∀ (v6953 : BitVec 32) (k0_hw292 : k0_chk292 v6953), 8 ∣ (k0_mult294 v6953).toNat := fun v6953 k0_hw292 => k0_hw292.1
theorem k0_off493_inb : ∀ (v6953 : BitVec 32) (k0_hw292 : k0_chk292 v6953), ∀ a, (k0_off493 v6953) a + S16x128.size a ≤ S20016x128.size a := fun v6953 k0_hw292 => k0_hw292.2

def k0_off494 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c35_i32_3403 : BitVec 32 := 35#32
  let v6964 : BitVec 32 := Scalar.addi v6320 c35_i32_3403
  let v6965 : Index := Scalar.indexCast v6964
  let c0_3404 : Index := 0#32
  ![v6965.toNat, 0]
def k0_off495 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c36_i32_3405 : BitVec 32 := 36#32
  let v6969 : BitVec 32 := Scalar.addi v6320 c36_i32_3405
  let v6970 : Index := Scalar.indexCast v6969
  ![v6970.toNat]
def k0_mult295 (v6971 : BitVec 32) : BitVec 32 :=
  let c3_i32_3406 : BitVec 32 := 3#32
  let v6972 : BitVec 32 := Scalar.shrsi v6971 c3_i32_3406
  let c3_i32_3407 : BitVec 32 := 3#32
  let v6973 : BitVec 32 := Scalar.shli v6972 c3_i32_3407
  v6973

def k0_off496 (v6971 : BitVec 32) : Fin 2 → Nat :=
  let c3_i32_3406 : BitVec 32 := 3#32
  let v6972 : BitVec 32 := Scalar.shrsi v6971 c3_i32_3406
  let c3_i32_3407 : BitVec 32 := 3#32
  let v6973 : BitVec 32 := Scalar.shli v6972 c3_i32_3407
  let v6974 : BitVec 32 := v6973
  let v6976 : Index := Scalar.indexCast v6974
  let c0_3408 : Index := 0#32
  ![Nat.mul 2 v6976.toNat, 0]

def k0_chk293 (v6971 : BitVec 32) : Prop :=
  (8 ∣ (k0_mult295 v6971).toNat) ∧
  (∀ a, (k0_off496 v6971) a + S16x128.size a ≤ S20016x128.size a)
theorem k0_mult295_dvd : ∀ (v6971 : BitVec 32) (k0_hw293 : k0_chk293 v6971), 8 ∣ (k0_mult295 v6971).toNat := fun v6971 k0_hw293 => k0_hw293.1
theorem k0_off496_inb : ∀ (v6971 : BitVec 32) (k0_hw293 : k0_chk293 v6971), ∀ a, (k0_off496 v6971) a + S16x128.size a ≤ S20016x128.size a := fun v6971 k0_hw293 => k0_hw293.2

def k0_off497 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c36_i32_3411 : BitVec 32 := 36#32
  let v6982 : BitVec 32 := Scalar.addi v6320 c36_i32_3411
  let v6983 : Index := Scalar.indexCast v6982
  let c0_3412 : Index := 0#32
  ![v6983.toNat, 0]
def k0_off498 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c37_i32_3413 : BitVec 32 := 37#32
  let v6987 : BitVec 32 := Scalar.addi v6320 c37_i32_3413
  let v6988 : Index := Scalar.indexCast v6987
  ![v6988.toNat]
def k0_mult296 (v6989 : BitVec 32) : BitVec 32 :=
  let c3_i32_3414 : BitVec 32 := 3#32
  let v6990 : BitVec 32 := Scalar.shrsi v6989 c3_i32_3414
  let c3_i32_3415 : BitVec 32 := 3#32
  let v6991 : BitVec 32 := Scalar.shli v6990 c3_i32_3415
  v6991

def k0_off499 (v6989 : BitVec 32) : Fin 2 → Nat :=
  let c3_i32_3414 : BitVec 32 := 3#32
  let v6990 : BitVec 32 := Scalar.shrsi v6989 c3_i32_3414
  let c3_i32_3415 : BitVec 32 := 3#32
  let v6991 : BitVec 32 := Scalar.shli v6990 c3_i32_3415
  let v6992 : BitVec 32 := v6991
  let v6994 : Index := Scalar.indexCast v6992
  let c0_3416 : Index := 0#32
  ![Nat.mul 2 v6994.toNat, 0]

def k0_chk294 (v6989 : BitVec 32) : Prop :=
  (8 ∣ (k0_mult296 v6989).toNat) ∧
  (∀ a, (k0_off499 v6989) a + S16x128.size a ≤ S20016x128.size a)
theorem k0_mult296_dvd : ∀ (v6989 : BitVec 32) (k0_hw294 : k0_chk294 v6989), 8 ∣ (k0_mult296 v6989).toNat := fun v6989 k0_hw294 => k0_hw294.1
theorem k0_off499_inb : ∀ (v6989 : BitVec 32) (k0_hw294 : k0_chk294 v6989), ∀ a, (k0_off499 v6989) a + S16x128.size a ≤ S20016x128.size a := fun v6989 k0_hw294 => k0_hw294.2

def k0_off500 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c37_i32_3419 : BitVec 32 := 37#32
  let v7000 : BitVec 32 := Scalar.addi v6320 c37_i32_3419
  let v7001 : Index := Scalar.indexCast v7000
  let c0_3420 : Index := 0#32
  ![v7001.toNat, 0]
def k0_off501 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c38_i32_3421 : BitVec 32 := 38#32
  let v7005 : BitVec 32 := Scalar.addi v6320 c38_i32_3421
  let v7006 : Index := Scalar.indexCast v7005
  ![v7006.toNat]
def k0_mult297 (v7007 : BitVec 32) : BitVec 32 :=
  let c3_i32_3422 : BitVec 32 := 3#32
  let v7008 : BitVec 32 := Scalar.shrsi v7007 c3_i32_3422
  let c3_i32_3423 : BitVec 32 := 3#32
  let v7009 : BitVec 32 := Scalar.shli v7008 c3_i32_3423
  v7009

def k0_off502 (v7007 : BitVec 32) : Fin 2 → Nat :=
  let c3_i32_3422 : BitVec 32 := 3#32
  let v7008 : BitVec 32 := Scalar.shrsi v7007 c3_i32_3422
  let c3_i32_3423 : BitVec 32 := 3#32
  let v7009 : BitVec 32 := Scalar.shli v7008 c3_i32_3423
  let v7010 : BitVec 32 := v7009
  let v7012 : Index := Scalar.indexCast v7010
  let c0_3424 : Index := 0#32
  ![Nat.mul 2 v7012.toNat, 0]

def k0_chk295 (v7007 : BitVec 32) : Prop :=
  (8 ∣ (k0_mult297 v7007).toNat) ∧
  (∀ a, (k0_off502 v7007) a + S16x128.size a ≤ S20016x128.size a)
theorem k0_mult297_dvd : ∀ (v7007 : BitVec 32) (k0_hw295 : k0_chk295 v7007), 8 ∣ (k0_mult297 v7007).toNat := fun v7007 k0_hw295 => k0_hw295.1
theorem k0_off502_inb : ∀ (v7007 : BitVec 32) (k0_hw295 : k0_chk295 v7007), ∀ a, (k0_off502 v7007) a + S16x128.size a ≤ S20016x128.size a := fun v7007 k0_hw295 => k0_hw295.2

def k0_off503 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c38_i32_3427 : BitVec 32 := 38#32
  let v7018 : BitVec 32 := Scalar.addi v6320 c38_i32_3427
  let v7019 : Index := Scalar.indexCast v7018
  let c0_3428 : Index := 0#32
  ![v7019.toNat, 0]
def k0_off504 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c39_i32_3429 : BitVec 32 := 39#32
  let v7023 : BitVec 32 := Scalar.addi v6320 c39_i32_3429
  let v7024 : Index := Scalar.indexCast v7023
  ![v7024.toNat]
def k0_mult298 (v7025 : BitVec 32) : BitVec 32 :=
  let c3_i32_3430 : BitVec 32 := 3#32
  let v7026 : BitVec 32 := Scalar.shrsi v7025 c3_i32_3430
  let c3_i32_3431 : BitVec 32 := 3#32
  let v7027 : BitVec 32 := Scalar.shli v7026 c3_i32_3431
  v7027

def k0_off505 (v7025 : BitVec 32) : Fin 2 → Nat :=
  let c3_i32_3430 : BitVec 32 := 3#32
  let v7026 : BitVec 32 := Scalar.shrsi v7025 c3_i32_3430
  let c3_i32_3431 : BitVec 32 := 3#32
  let v7027 : BitVec 32 := Scalar.shli v7026 c3_i32_3431
  let v7028 : BitVec 32 := v7027
  let v7030 : Index := Scalar.indexCast v7028
  let c0_3432 : Index := 0#32
  ![Nat.mul 2 v7030.toNat, 0]

def k0_chk296 (v7025 : BitVec 32) : Prop :=
  (8 ∣ (k0_mult298 v7025).toNat) ∧
  (∀ a, (k0_off505 v7025) a + S16x128.size a ≤ S20016x128.size a)
theorem k0_mult298_dvd : ∀ (v7025 : BitVec 32) (k0_hw296 : k0_chk296 v7025), 8 ∣ (k0_mult298 v7025).toNat := fun v7025 k0_hw296 => k0_hw296.1
theorem k0_off505_inb : ∀ (v7025 : BitVec 32) (k0_hw296 : k0_chk296 v7025), ∀ a, (k0_off505 v7025) a + S16x128.size a ≤ S20016x128.size a := fun v7025 k0_hw296 => k0_hw296.2

def k0_off506 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c39_i32_3435 : BitVec 32 := 39#32
  let v7036 : BitVec 32 := Scalar.addi v6320 c39_i32_3435
  let v7037 : Index := Scalar.indexCast v7036
  let c0_3436 : Index := 0#32
  ![v7037.toNat, 0]
def k0_off507 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c40_i32_3437 : BitVec 32 := 40#32
  let v7041 : BitVec 32 := Scalar.addi v6320 c40_i32_3437
  let v7042 : Index := Scalar.indexCast v7041
  ![v7042.toNat]
def k0_mult299 (v7043 : BitVec 32) : BitVec 32 :=
  let c3_i32_3438 : BitVec 32 := 3#32
  let v7044 : BitVec 32 := Scalar.shrsi v7043 c3_i32_3438
  let c3_i32_3439 : BitVec 32 := 3#32
  let v7045 : BitVec 32 := Scalar.shli v7044 c3_i32_3439
  v7045

def k0_off508 (v7043 : BitVec 32) : Fin 2 → Nat :=
  let c3_i32_3438 : BitVec 32 := 3#32
  let v7044 : BitVec 32 := Scalar.shrsi v7043 c3_i32_3438
  let c3_i32_3439 : BitVec 32 := 3#32
  let v7045 : BitVec 32 := Scalar.shli v7044 c3_i32_3439
  let v7046 : BitVec 32 := v7045
  let v7048 : Index := Scalar.indexCast v7046
  let c0_3440 : Index := 0#32
  ![Nat.mul 2 v7048.toNat, 0]

def k0_chk297 (v7043 : BitVec 32) : Prop :=
  (8 ∣ (k0_mult299 v7043).toNat) ∧
  (∀ a, (k0_off508 v7043) a + S16x128.size a ≤ S20016x128.size a)
theorem k0_mult299_dvd : ∀ (v7043 : BitVec 32) (k0_hw297 : k0_chk297 v7043), 8 ∣ (k0_mult299 v7043).toNat := fun v7043 k0_hw297 => k0_hw297.1
theorem k0_off508_inb : ∀ (v7043 : BitVec 32) (k0_hw297 : k0_chk297 v7043), ∀ a, (k0_off508 v7043) a + S16x128.size a ≤ S20016x128.size a := fun v7043 k0_hw297 => k0_hw297.2

def k0_off509 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c40_i32_3443 : BitVec 32 := 40#32
  let v7054 : BitVec 32 := Scalar.addi v6320 c40_i32_3443
  let v7055 : Index := Scalar.indexCast v7054
  let c0_3444 : Index := 0#32
  ![v7055.toNat, 0]
def k0_off510 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c41_i32_3445 : BitVec 32 := 41#32
  let v7059 : BitVec 32 := Scalar.addi v6320 c41_i32_3445
  let v7060 : Index := Scalar.indexCast v7059
  ![v7060.toNat]
def k0_mult300 (v7061 : BitVec 32) : BitVec 32 :=
  let c3_i32_3446 : BitVec 32 := 3#32
  let v7062 : BitVec 32 := Scalar.shrsi v7061 c3_i32_3446
  let c3_i32_3447 : BitVec 32 := 3#32
  let v7063 : BitVec 32 := Scalar.shli v7062 c3_i32_3447
  v7063

def k0_off511 (v7061 : BitVec 32) : Fin 2 → Nat :=
  let c3_i32_3446 : BitVec 32 := 3#32
  let v7062 : BitVec 32 := Scalar.shrsi v7061 c3_i32_3446
  let c3_i32_3447 : BitVec 32 := 3#32
  let v7063 : BitVec 32 := Scalar.shli v7062 c3_i32_3447
  let v7064 : BitVec 32 := v7063
  let v7066 : Index := Scalar.indexCast v7064
  let c0_3448 : Index := 0#32
  ![Nat.mul 2 v7066.toNat, 0]

def k0_chk298 (v7061 : BitVec 32) : Prop :=
  (8 ∣ (k0_mult300 v7061).toNat) ∧
  (∀ a, (k0_off511 v7061) a + S16x128.size a ≤ S20016x128.size a)
theorem k0_mult300_dvd : ∀ (v7061 : BitVec 32) (k0_hw298 : k0_chk298 v7061), 8 ∣ (k0_mult300 v7061).toNat := fun v7061 k0_hw298 => k0_hw298.1
theorem k0_off511_inb : ∀ (v7061 : BitVec 32) (k0_hw298 : k0_chk298 v7061), ∀ a, (k0_off511 v7061) a + S16x128.size a ≤ S20016x128.size a := fun v7061 k0_hw298 => k0_hw298.2

def k0_off512 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c41_i32_3451 : BitVec 32 := 41#32
  let v7072 : BitVec 32 := Scalar.addi v6320 c41_i32_3451
  let v7073 : Index := Scalar.indexCast v7072
  let c0_3452 : Index := 0#32
  ![v7073.toNat, 0]
def k0_off513 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c42_i32_3453 : BitVec 32 := 42#32
  let v7077 : BitVec 32 := Scalar.addi v6320 c42_i32_3453
  let v7078 : Index := Scalar.indexCast v7077
  ![v7078.toNat]
def k0_mult301 (v7079 : BitVec 32) : BitVec 32 :=
  let c3_i32_3454 : BitVec 32 := 3#32
  let v7080 : BitVec 32 := Scalar.shrsi v7079 c3_i32_3454
  let c3_i32_3455 : BitVec 32 := 3#32
  let v7081 : BitVec 32 := Scalar.shli v7080 c3_i32_3455
  v7081

def k0_off514 (v7079 : BitVec 32) : Fin 2 → Nat :=
  let c3_i32_3454 : BitVec 32 := 3#32
  let v7080 : BitVec 32 := Scalar.shrsi v7079 c3_i32_3454
  let c3_i32_3455 : BitVec 32 := 3#32
  let v7081 : BitVec 32 := Scalar.shli v7080 c3_i32_3455
  let v7082 : BitVec 32 := v7081
  let v7084 : Index := Scalar.indexCast v7082
  let c0_3456 : Index := 0#32
  ![Nat.mul 2 v7084.toNat, 0]

def k0_chk299 (v7079 : BitVec 32) : Prop :=
  (8 ∣ (k0_mult301 v7079).toNat) ∧
  (∀ a, (k0_off514 v7079) a + S16x128.size a ≤ S20016x128.size a)
theorem k0_mult301_dvd : ∀ (v7079 : BitVec 32) (k0_hw299 : k0_chk299 v7079), 8 ∣ (k0_mult301 v7079).toNat := fun v7079 k0_hw299 => k0_hw299.1
theorem k0_off514_inb : ∀ (v7079 : BitVec 32) (k0_hw299 : k0_chk299 v7079), ∀ a, (k0_off514 v7079) a + S16x128.size a ≤ S20016x128.size a := fun v7079 k0_hw299 => k0_hw299.2

def k0_off515 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c42_i32_3459 : BitVec 32 := 42#32
  let v7090 : BitVec 32 := Scalar.addi v6320 c42_i32_3459
  let v7091 : Index := Scalar.indexCast v7090
  let c0_3460 : Index := 0#32
  ![v7091.toNat, 0]
def k0_off516 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c43_i32_3461 : BitVec 32 := 43#32
  let v7095 : BitVec 32 := Scalar.addi v6320 c43_i32_3461
  let v7096 : Index := Scalar.indexCast v7095
  ![v7096.toNat]
def k0_mult302 (v7097 : BitVec 32) : BitVec 32 :=
  let c3_i32_3462 : BitVec 32 := 3#32
  let v7098 : BitVec 32 := Scalar.shrsi v7097 c3_i32_3462
  let c3_i32_3463 : BitVec 32 := 3#32
  let v7099 : BitVec 32 := Scalar.shli v7098 c3_i32_3463
  v7099

def k0_off517 (v7097 : BitVec 32) : Fin 2 → Nat :=
  let c3_i32_3462 : BitVec 32 := 3#32
  let v7098 : BitVec 32 := Scalar.shrsi v7097 c3_i32_3462
  let c3_i32_3463 : BitVec 32 := 3#32
  let v7099 : BitVec 32 := Scalar.shli v7098 c3_i32_3463
  let v7100 : BitVec 32 := v7099
  let v7102 : Index := Scalar.indexCast v7100
  let c0_3464 : Index := 0#32
  ![Nat.mul 2 v7102.toNat, 0]

def k0_chk300 (v7097 : BitVec 32) : Prop :=
  (8 ∣ (k0_mult302 v7097).toNat) ∧
  (∀ a, (k0_off517 v7097) a + S16x128.size a ≤ S20016x128.size a)
theorem k0_mult302_dvd : ∀ (v7097 : BitVec 32) (k0_hw300 : k0_chk300 v7097), 8 ∣ (k0_mult302 v7097).toNat := fun v7097 k0_hw300 => k0_hw300.1
theorem k0_off517_inb : ∀ (v7097 : BitVec 32) (k0_hw300 : k0_chk300 v7097), ∀ a, (k0_off517 v7097) a + S16x128.size a ≤ S20016x128.size a := fun v7097 k0_hw300 => k0_hw300.2

def k0_off518 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c43_i32_3467 : BitVec 32 := 43#32
  let v7108 : BitVec 32 := Scalar.addi v6320 c43_i32_3467
  let v7109 : Index := Scalar.indexCast v7108
  let c0_3468 : Index := 0#32
  ![v7109.toNat, 0]
def k0_off519 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c44_i32_3469 : BitVec 32 := 44#32
  let v7113 : BitVec 32 := Scalar.addi v6320 c44_i32_3469
  let v7114 : Index := Scalar.indexCast v7113
  ![v7114.toNat]
def k0_mult303 (v7115 : BitVec 32) : BitVec 32 :=
  let c3_i32_3470 : BitVec 32 := 3#32
  let v7116 : BitVec 32 := Scalar.shrsi v7115 c3_i32_3470
  let c3_i32_3471 : BitVec 32 := 3#32
  let v7117 : BitVec 32 := Scalar.shli v7116 c3_i32_3471
  v7117

def k0_off520 (v7115 : BitVec 32) : Fin 2 → Nat :=
  let c3_i32_3470 : BitVec 32 := 3#32
  let v7116 : BitVec 32 := Scalar.shrsi v7115 c3_i32_3470
  let c3_i32_3471 : BitVec 32 := 3#32
  let v7117 : BitVec 32 := Scalar.shli v7116 c3_i32_3471
  let v7118 : BitVec 32 := v7117
  let v7120 : Index := Scalar.indexCast v7118
  let c0_3472 : Index := 0#32
  ![Nat.mul 2 v7120.toNat, 0]

def k0_chk301 (v7115 : BitVec 32) : Prop :=
  (8 ∣ (k0_mult303 v7115).toNat) ∧
  (∀ a, (k0_off520 v7115) a + S16x128.size a ≤ S20016x128.size a)
theorem k0_mult303_dvd : ∀ (v7115 : BitVec 32) (k0_hw301 : k0_chk301 v7115), 8 ∣ (k0_mult303 v7115).toNat := fun v7115 k0_hw301 => k0_hw301.1
theorem k0_off520_inb : ∀ (v7115 : BitVec 32) (k0_hw301 : k0_chk301 v7115), ∀ a, (k0_off520 v7115) a + S16x128.size a ≤ S20016x128.size a := fun v7115 k0_hw301 => k0_hw301.2

def k0_off521 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c44_i32_3475 : BitVec 32 := 44#32
  let v7126 : BitVec 32 := Scalar.addi v6320 c44_i32_3475
  let v7127 : Index := Scalar.indexCast v7126
  let c0_3476 : Index := 0#32
  ![v7127.toNat, 0]
def k0_off522 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c45_i32_3477 : BitVec 32 := 45#32
  let v7131 : BitVec 32 := Scalar.addi v6320 c45_i32_3477
  let v7132 : Index := Scalar.indexCast v7131
  ![v7132.toNat]
def k0_mult304 (v7133 : BitVec 32) : BitVec 32 :=
  let c3_i32_3478 : BitVec 32 := 3#32
  let v7134 : BitVec 32 := Scalar.shrsi v7133 c3_i32_3478
  let c3_i32_3479 : BitVec 32 := 3#32
  let v7135 : BitVec 32 := Scalar.shli v7134 c3_i32_3479
  v7135

def k0_off523 (v7133 : BitVec 32) : Fin 2 → Nat :=
  let c3_i32_3478 : BitVec 32 := 3#32
  let v7134 : BitVec 32 := Scalar.shrsi v7133 c3_i32_3478
  let c3_i32_3479 : BitVec 32 := 3#32
  let v7135 : BitVec 32 := Scalar.shli v7134 c3_i32_3479
  let v7136 : BitVec 32 := v7135
  let v7138 : Index := Scalar.indexCast v7136
  let c0_3480 : Index := 0#32
  ![Nat.mul 2 v7138.toNat, 0]

def k0_chk302 (v7133 : BitVec 32) : Prop :=
  (8 ∣ (k0_mult304 v7133).toNat) ∧
  (∀ a, (k0_off523 v7133) a + S16x128.size a ≤ S20016x128.size a)
theorem k0_mult304_dvd : ∀ (v7133 : BitVec 32) (k0_hw302 : k0_chk302 v7133), 8 ∣ (k0_mult304 v7133).toNat := fun v7133 k0_hw302 => k0_hw302.1
theorem k0_off523_inb : ∀ (v7133 : BitVec 32) (k0_hw302 : k0_chk302 v7133), ∀ a, (k0_off523 v7133) a + S16x128.size a ≤ S20016x128.size a := fun v7133 k0_hw302 => k0_hw302.2

def k0_off524 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c45_i32_3483 : BitVec 32 := 45#32
  let v7144 : BitVec 32 := Scalar.addi v6320 c45_i32_3483
  let v7145 : Index := Scalar.indexCast v7144
  let c0_3484 : Index := 0#32
  ![v7145.toNat, 0]
def k0_off525 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c46_i32_3485 : BitVec 32 := 46#32
  let v7149 : BitVec 32 := Scalar.addi v6320 c46_i32_3485
  let v7150 : Index := Scalar.indexCast v7149
  ![v7150.toNat]
def k0_mult305 (v7151 : BitVec 32) : BitVec 32 :=
  let c3_i32_3486 : BitVec 32 := 3#32
  let v7152 : BitVec 32 := Scalar.shrsi v7151 c3_i32_3486
  let c3_i32_3487 : BitVec 32 := 3#32
  let v7153 : BitVec 32 := Scalar.shli v7152 c3_i32_3487
  v7153

def k0_off526 (v7151 : BitVec 32) : Fin 2 → Nat :=
  let c3_i32_3486 : BitVec 32 := 3#32
  let v7152 : BitVec 32 := Scalar.shrsi v7151 c3_i32_3486
  let c3_i32_3487 : BitVec 32 := 3#32
  let v7153 : BitVec 32 := Scalar.shli v7152 c3_i32_3487
  let v7154 : BitVec 32 := v7153
  let v7156 : Index := Scalar.indexCast v7154
  let c0_3488 : Index := 0#32
  ![Nat.mul 2 v7156.toNat, 0]

def k0_chk303 (v7151 : BitVec 32) : Prop :=
  (8 ∣ (k0_mult305 v7151).toNat) ∧
  (∀ a, (k0_off526 v7151) a + S16x128.size a ≤ S20016x128.size a)
theorem k0_mult305_dvd : ∀ (v7151 : BitVec 32) (k0_hw303 : k0_chk303 v7151), 8 ∣ (k0_mult305 v7151).toNat := fun v7151 k0_hw303 => k0_hw303.1
theorem k0_off526_inb : ∀ (v7151 : BitVec 32) (k0_hw303 : k0_chk303 v7151), ∀ a, (k0_off526 v7151) a + S16x128.size a ≤ S20016x128.size a := fun v7151 k0_hw303 => k0_hw303.2

def k0_off527 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c46_i32_3491 : BitVec 32 := 46#32
  let v7162 : BitVec 32 := Scalar.addi v6320 c46_i32_3491
  let v7163 : Index := Scalar.indexCast v7162
  let c0_3492 : Index := 0#32
  ![v7163.toNat, 0]
def k0_off528 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c47_i32_3493 : BitVec 32 := 47#32
  let v7167 : BitVec 32 := Scalar.addi v6320 c47_i32_3493
  let v7168 : Index := Scalar.indexCast v7167
  ![v7168.toNat]
def k0_mult306 (v7169 : BitVec 32) : BitVec 32 :=
  let c3_i32_3494 : BitVec 32 := 3#32
  let v7170 : BitVec 32 := Scalar.shrsi v7169 c3_i32_3494
  let c3_i32_3495 : BitVec 32 := 3#32
  let v7171 : BitVec 32 := Scalar.shli v7170 c3_i32_3495
  v7171

def k0_off529 (v7169 : BitVec 32) : Fin 2 → Nat :=
  let c3_i32_3494 : BitVec 32 := 3#32
  let v7170 : BitVec 32 := Scalar.shrsi v7169 c3_i32_3494
  let c3_i32_3495 : BitVec 32 := 3#32
  let v7171 : BitVec 32 := Scalar.shli v7170 c3_i32_3495
  let v7172 : BitVec 32 := v7171
  let v7174 : Index := Scalar.indexCast v7172
  let c0_3496 : Index := 0#32
  ![Nat.mul 2 v7174.toNat, 0]

def k0_chk304 (v7169 : BitVec 32) : Prop :=
  (8 ∣ (k0_mult306 v7169).toNat) ∧
  (∀ a, (k0_off529 v7169) a + S16x128.size a ≤ S20016x128.size a)
theorem k0_mult306_dvd : ∀ (v7169 : BitVec 32) (k0_hw304 : k0_chk304 v7169), 8 ∣ (k0_mult306 v7169).toNat := fun v7169 k0_hw304 => k0_hw304.1
theorem k0_off529_inb : ∀ (v7169 : BitVec 32) (k0_hw304 : k0_chk304 v7169), ∀ a, (k0_off529 v7169) a + S16x128.size a ≤ S20016x128.size a := fun v7169 k0_hw304 => k0_hw304.2

def k0_off530 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c47_i32_3499 : BitVec 32 := 47#32
  let v7180 : BitVec 32 := Scalar.addi v6320 c47_i32_3499
  let v7181 : Index := Scalar.indexCast v7180
  let c0_3500 : Index := 0#32
  ![v7181.toNat, 0]
def k0_off531 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c48_i32_3501 : BitVec 32 := 48#32
  let v7185 : BitVec 32 := Scalar.addi v6320 c48_i32_3501
  let v7186 : Index := Scalar.indexCast v7185
  ![v7186.toNat]
def k0_mult307 (v7187 : BitVec 32) : BitVec 32 :=
  let c3_i32_3502 : BitVec 32 := 3#32
  let v7188 : BitVec 32 := Scalar.shrsi v7187 c3_i32_3502
  let c3_i32_3503 : BitVec 32 := 3#32
  let v7189 : BitVec 32 := Scalar.shli v7188 c3_i32_3503
  v7189

def k0_off532 (v7187 : BitVec 32) : Fin 2 → Nat :=
  let c3_i32_3502 : BitVec 32 := 3#32
  let v7188 : BitVec 32 := Scalar.shrsi v7187 c3_i32_3502
  let c3_i32_3503 : BitVec 32 := 3#32
  let v7189 : BitVec 32 := Scalar.shli v7188 c3_i32_3503
  let v7190 : BitVec 32 := v7189
  let v7192 : Index := Scalar.indexCast v7190
  let c0_3504 : Index := 0#32
  ![Nat.mul 2 v7192.toNat, 0]

def k0_chk305 (v7187 : BitVec 32) : Prop :=
  (8 ∣ (k0_mult307 v7187).toNat) ∧
  (∀ a, (k0_off532 v7187) a + S16x128.size a ≤ S20016x128.size a)
theorem k0_mult307_dvd : ∀ (v7187 : BitVec 32) (k0_hw305 : k0_chk305 v7187), 8 ∣ (k0_mult307 v7187).toNat := fun v7187 k0_hw305 => k0_hw305.1
theorem k0_off532_inb : ∀ (v7187 : BitVec 32) (k0_hw305 : k0_chk305 v7187), ∀ a, (k0_off532 v7187) a + S16x128.size a ≤ S20016x128.size a := fun v7187 k0_hw305 => k0_hw305.2

def k0_off533 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c48_i32_3507 : BitVec 32 := 48#32
  let v7198 : BitVec 32 := Scalar.addi v6320 c48_i32_3507
  let v7199 : Index := Scalar.indexCast v7198
  let c0_3508 : Index := 0#32
  ![v7199.toNat, 0]
def k0_off534 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c49_i32_3509 : BitVec 32 := 49#32
  let v7203 : BitVec 32 := Scalar.addi v6320 c49_i32_3509
  let v7204 : Index := Scalar.indexCast v7203
  ![v7204.toNat]
def k0_mult308 (v7205 : BitVec 32) : BitVec 32 :=
  let c3_i32_3510 : BitVec 32 := 3#32
  let v7206 : BitVec 32 := Scalar.shrsi v7205 c3_i32_3510
  let c3_i32_3511 : BitVec 32 := 3#32
  let v7207 : BitVec 32 := Scalar.shli v7206 c3_i32_3511
  v7207

def k0_off535 (v7205 : BitVec 32) : Fin 2 → Nat :=
  let c3_i32_3510 : BitVec 32 := 3#32
  let v7206 : BitVec 32 := Scalar.shrsi v7205 c3_i32_3510
  let c3_i32_3511 : BitVec 32 := 3#32
  let v7207 : BitVec 32 := Scalar.shli v7206 c3_i32_3511
  let v7208 : BitVec 32 := v7207
  let v7210 : Index := Scalar.indexCast v7208
  let c0_3512 : Index := 0#32
  ![Nat.mul 2 v7210.toNat, 0]

def k0_chk306 (v7205 : BitVec 32) : Prop :=
  (8 ∣ (k0_mult308 v7205).toNat) ∧
  (∀ a, (k0_off535 v7205) a + S16x128.size a ≤ S20016x128.size a)
theorem k0_mult308_dvd : ∀ (v7205 : BitVec 32) (k0_hw306 : k0_chk306 v7205), 8 ∣ (k0_mult308 v7205).toNat := fun v7205 k0_hw306 => k0_hw306.1
theorem k0_off535_inb : ∀ (v7205 : BitVec 32) (k0_hw306 : k0_chk306 v7205), ∀ a, (k0_off535 v7205) a + S16x128.size a ≤ S20016x128.size a := fun v7205 k0_hw306 => k0_hw306.2

def k0_off536 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c49_i32_3515 : BitVec 32 := 49#32
  let v7216 : BitVec 32 := Scalar.addi v6320 c49_i32_3515
  let v7217 : Index := Scalar.indexCast v7216
  let c0_3516 : Index := 0#32
  ![v7217.toNat, 0]
def k0_off537 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c50_i32_3517 : BitVec 32 := 50#32
  let v7221 : BitVec 32 := Scalar.addi v6320 c50_i32_3517
  let v7222 : Index := Scalar.indexCast v7221
  ![v7222.toNat]
def k0_mult309 (v7223 : BitVec 32) : BitVec 32 :=
  let c3_i32_3518 : BitVec 32 := 3#32
  let v7224 : BitVec 32 := Scalar.shrsi v7223 c3_i32_3518
  let c3_i32_3519 : BitVec 32 := 3#32
  let v7225 : BitVec 32 := Scalar.shli v7224 c3_i32_3519
  v7225

def k0_off538 (v7223 : BitVec 32) : Fin 2 → Nat :=
  let c3_i32_3518 : BitVec 32 := 3#32
  let v7224 : BitVec 32 := Scalar.shrsi v7223 c3_i32_3518
  let c3_i32_3519 : BitVec 32 := 3#32
  let v7225 : BitVec 32 := Scalar.shli v7224 c3_i32_3519
  let v7226 : BitVec 32 := v7225
  let v7228 : Index := Scalar.indexCast v7226
  let c0_3520 : Index := 0#32
  ![Nat.mul 2 v7228.toNat, 0]

def k0_chk307 (v7223 : BitVec 32) : Prop :=
  (8 ∣ (k0_mult309 v7223).toNat) ∧
  (∀ a, (k0_off538 v7223) a + S16x128.size a ≤ S20016x128.size a)
theorem k0_mult309_dvd : ∀ (v7223 : BitVec 32) (k0_hw307 : k0_chk307 v7223), 8 ∣ (k0_mult309 v7223).toNat := fun v7223 k0_hw307 => k0_hw307.1
theorem k0_off538_inb : ∀ (v7223 : BitVec 32) (k0_hw307 : k0_chk307 v7223), ∀ a, (k0_off538 v7223) a + S16x128.size a ≤ S20016x128.size a := fun v7223 k0_hw307 => k0_hw307.2

def k0_off539 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c50_i32_3523 : BitVec 32 := 50#32
  let v7234 : BitVec 32 := Scalar.addi v6320 c50_i32_3523
  let v7235 : Index := Scalar.indexCast v7234
  let c0_3524 : Index := 0#32
  ![v7235.toNat, 0]
def k0_off540 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c51_i32_3525 : BitVec 32 := 51#32
  let v7239 : BitVec 32 := Scalar.addi v6320 c51_i32_3525
  let v7240 : Index := Scalar.indexCast v7239
  ![v7240.toNat]
def k0_mult310 (v7241 : BitVec 32) : BitVec 32 :=
  let c3_i32_3526 : BitVec 32 := 3#32
  let v7242 : BitVec 32 := Scalar.shrsi v7241 c3_i32_3526
  let c3_i32_3527 : BitVec 32 := 3#32
  let v7243 : BitVec 32 := Scalar.shli v7242 c3_i32_3527
  v7243

def k0_off541 (v7241 : BitVec 32) : Fin 2 → Nat :=
  let c3_i32_3526 : BitVec 32 := 3#32
  let v7242 : BitVec 32 := Scalar.shrsi v7241 c3_i32_3526
  let c3_i32_3527 : BitVec 32 := 3#32
  let v7243 : BitVec 32 := Scalar.shli v7242 c3_i32_3527
  let v7244 : BitVec 32 := v7243
  let v7246 : Index := Scalar.indexCast v7244
  let c0_3528 : Index := 0#32
  ![Nat.mul 2 v7246.toNat, 0]

def k0_chk308 (v7241 : BitVec 32) : Prop :=
  (8 ∣ (k0_mult310 v7241).toNat) ∧
  (∀ a, (k0_off541 v7241) a + S16x128.size a ≤ S20016x128.size a)
theorem k0_mult310_dvd : ∀ (v7241 : BitVec 32) (k0_hw308 : k0_chk308 v7241), 8 ∣ (k0_mult310 v7241).toNat := fun v7241 k0_hw308 => k0_hw308.1
theorem k0_off541_inb : ∀ (v7241 : BitVec 32) (k0_hw308 : k0_chk308 v7241), ∀ a, (k0_off541 v7241) a + S16x128.size a ≤ S20016x128.size a := fun v7241 k0_hw308 => k0_hw308.2

def k0_off542 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c51_i32_3531 : BitVec 32 := 51#32
  let v7252 : BitVec 32 := Scalar.addi v6320 c51_i32_3531
  let v7253 : Index := Scalar.indexCast v7252
  let c0_3532 : Index := 0#32
  ![v7253.toNat, 0]
def k0_off543 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c52_i32_3533 : BitVec 32 := 52#32
  let v7257 : BitVec 32 := Scalar.addi v6320 c52_i32_3533
  let v7258 : Index := Scalar.indexCast v7257
  ![v7258.toNat]
def k0_mult311 (v7259 : BitVec 32) : BitVec 32 :=
  let c3_i32_3534 : BitVec 32 := 3#32
  let v7260 : BitVec 32 := Scalar.shrsi v7259 c3_i32_3534
  let c3_i32_3535 : BitVec 32 := 3#32
  let v7261 : BitVec 32 := Scalar.shli v7260 c3_i32_3535
  v7261

def k0_off544 (v7259 : BitVec 32) : Fin 2 → Nat :=
  let c3_i32_3534 : BitVec 32 := 3#32
  let v7260 : BitVec 32 := Scalar.shrsi v7259 c3_i32_3534
  let c3_i32_3535 : BitVec 32 := 3#32
  let v7261 : BitVec 32 := Scalar.shli v7260 c3_i32_3535
  let v7262 : BitVec 32 := v7261
  let v7264 : Index := Scalar.indexCast v7262
  let c0_3536 : Index := 0#32
  ![Nat.mul 2 v7264.toNat, 0]

def k0_chk309 (v7259 : BitVec 32) : Prop :=
  (8 ∣ (k0_mult311 v7259).toNat) ∧
  (∀ a, (k0_off544 v7259) a + S16x128.size a ≤ S20016x128.size a)
theorem k0_mult311_dvd : ∀ (v7259 : BitVec 32) (k0_hw309 : k0_chk309 v7259), 8 ∣ (k0_mult311 v7259).toNat := fun v7259 k0_hw309 => k0_hw309.1
theorem k0_off544_inb : ∀ (v7259 : BitVec 32) (k0_hw309 : k0_chk309 v7259), ∀ a, (k0_off544 v7259) a + S16x128.size a ≤ S20016x128.size a := fun v7259 k0_hw309 => k0_hw309.2

def k0_off545 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c52_i32_3539 : BitVec 32 := 52#32
  let v7270 : BitVec 32 := Scalar.addi v6320 c52_i32_3539
  let v7271 : Index := Scalar.indexCast v7270
  let c0_3540 : Index := 0#32
  ![v7271.toNat, 0]
def k0_off546 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c53_i32_3541 : BitVec 32 := 53#32
  let v7275 : BitVec 32 := Scalar.addi v6320 c53_i32_3541
  let v7276 : Index := Scalar.indexCast v7275
  ![v7276.toNat]
def k0_mult312 (v7277 : BitVec 32) : BitVec 32 :=
  let c3_i32_3542 : BitVec 32 := 3#32
  let v7278 : BitVec 32 := Scalar.shrsi v7277 c3_i32_3542
  let c3_i32_3543 : BitVec 32 := 3#32
  let v7279 : BitVec 32 := Scalar.shli v7278 c3_i32_3543
  v7279

def k0_off547 (v7277 : BitVec 32) : Fin 2 → Nat :=
  let c3_i32_3542 : BitVec 32 := 3#32
  let v7278 : BitVec 32 := Scalar.shrsi v7277 c3_i32_3542
  let c3_i32_3543 : BitVec 32 := 3#32
  let v7279 : BitVec 32 := Scalar.shli v7278 c3_i32_3543
  let v7280 : BitVec 32 := v7279
  let v7282 : Index := Scalar.indexCast v7280
  let c0_3544 : Index := 0#32
  ![Nat.mul 2 v7282.toNat, 0]

def k0_chk310 (v7277 : BitVec 32) : Prop :=
  (8 ∣ (k0_mult312 v7277).toNat) ∧
  (∀ a, (k0_off547 v7277) a + S16x128.size a ≤ S20016x128.size a)
theorem k0_mult312_dvd : ∀ (v7277 : BitVec 32) (k0_hw310 : k0_chk310 v7277), 8 ∣ (k0_mult312 v7277).toNat := fun v7277 k0_hw310 => k0_hw310.1
theorem k0_off547_inb : ∀ (v7277 : BitVec 32) (k0_hw310 : k0_chk310 v7277), ∀ a, (k0_off547 v7277) a + S16x128.size a ≤ S20016x128.size a := fun v7277 k0_hw310 => k0_hw310.2

def k0_off548 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c53_i32_3547 : BitVec 32 := 53#32
  let v7288 : BitVec 32 := Scalar.addi v6320 c53_i32_3547
  let v7289 : Index := Scalar.indexCast v7288
  let c0_3548 : Index := 0#32
  ![v7289.toNat, 0]
def k0_off549 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c54_i32_3549 : BitVec 32 := 54#32
  let v7293 : BitVec 32 := Scalar.addi v6320 c54_i32_3549
  let v7294 : Index := Scalar.indexCast v7293
  ![v7294.toNat]
def k0_mult313 (v7295 : BitVec 32) : BitVec 32 :=
  let c3_i32_3550 : BitVec 32 := 3#32
  let v7296 : BitVec 32 := Scalar.shrsi v7295 c3_i32_3550
  let c3_i32_3551 : BitVec 32 := 3#32
  let v7297 : BitVec 32 := Scalar.shli v7296 c3_i32_3551
  v7297

def k0_off550 (v7295 : BitVec 32) : Fin 2 → Nat :=
  let c3_i32_3550 : BitVec 32 := 3#32
  let v7296 : BitVec 32 := Scalar.shrsi v7295 c3_i32_3550
  let c3_i32_3551 : BitVec 32 := 3#32
  let v7297 : BitVec 32 := Scalar.shli v7296 c3_i32_3551
  let v7298 : BitVec 32 := v7297
  let v7300 : Index := Scalar.indexCast v7298
  let c0_3552 : Index := 0#32
  ![Nat.mul 2 v7300.toNat, 0]

def k0_chk311 (v7295 : BitVec 32) : Prop :=
  (8 ∣ (k0_mult313 v7295).toNat) ∧
  (∀ a, (k0_off550 v7295) a + S16x128.size a ≤ S20016x128.size a)
theorem k0_mult313_dvd : ∀ (v7295 : BitVec 32) (k0_hw311 : k0_chk311 v7295), 8 ∣ (k0_mult313 v7295).toNat := fun v7295 k0_hw311 => k0_hw311.1
theorem k0_off550_inb : ∀ (v7295 : BitVec 32) (k0_hw311 : k0_chk311 v7295), ∀ a, (k0_off550 v7295) a + S16x128.size a ≤ S20016x128.size a := fun v7295 k0_hw311 => k0_hw311.2

def k0_off551 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c54_i32_3555 : BitVec 32 := 54#32
  let v7306 : BitVec 32 := Scalar.addi v6320 c54_i32_3555
  let v7307 : Index := Scalar.indexCast v7306
  let c0_3556 : Index := 0#32
  ![v7307.toNat, 0]
def k0_off552 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c55_i32_3557 : BitVec 32 := 55#32
  let v7311 : BitVec 32 := Scalar.addi v6320 c55_i32_3557
  let v7312 : Index := Scalar.indexCast v7311
  ![v7312.toNat]
def k0_mult314 (v7313 : BitVec 32) : BitVec 32 :=
  let c3_i32_3558 : BitVec 32 := 3#32
  let v7314 : BitVec 32 := Scalar.shrsi v7313 c3_i32_3558
  let c3_i32_3559 : BitVec 32 := 3#32
  let v7315 : BitVec 32 := Scalar.shli v7314 c3_i32_3559
  v7315

def k0_off553 (v7313 : BitVec 32) : Fin 2 → Nat :=
  let c3_i32_3558 : BitVec 32 := 3#32
  let v7314 : BitVec 32 := Scalar.shrsi v7313 c3_i32_3558
  let c3_i32_3559 : BitVec 32 := 3#32
  let v7315 : BitVec 32 := Scalar.shli v7314 c3_i32_3559
  let v7316 : BitVec 32 := v7315
  let v7318 : Index := Scalar.indexCast v7316
  let c0_3560 : Index := 0#32
  ![Nat.mul 2 v7318.toNat, 0]

def k0_chk312 (v7313 : BitVec 32) : Prop :=
  (8 ∣ (k0_mult314 v7313).toNat) ∧
  (∀ a, (k0_off553 v7313) a + S16x128.size a ≤ S20016x128.size a)
theorem k0_mult314_dvd : ∀ (v7313 : BitVec 32) (k0_hw312 : k0_chk312 v7313), 8 ∣ (k0_mult314 v7313).toNat := fun v7313 k0_hw312 => k0_hw312.1
theorem k0_off553_inb : ∀ (v7313 : BitVec 32) (k0_hw312 : k0_chk312 v7313), ∀ a, (k0_off553 v7313) a + S16x128.size a ≤ S20016x128.size a := fun v7313 k0_hw312 => k0_hw312.2

def k0_off554 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c55_i32_3563 : BitVec 32 := 55#32
  let v7324 : BitVec 32 := Scalar.addi v6320 c55_i32_3563
  let v7325 : Index := Scalar.indexCast v7324
  let c0_3564 : Index := 0#32
  ![v7325.toNat, 0]
def k0_off555 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c56_i32_3565 : BitVec 32 := 56#32
  let v7329 : BitVec 32 := Scalar.addi v6320 c56_i32_3565
  let v7330 : Index := Scalar.indexCast v7329
  ![v7330.toNat]
def k0_mult315 (v7331 : BitVec 32) : BitVec 32 :=
  let c3_i32_3566 : BitVec 32 := 3#32
  let v7332 : BitVec 32 := Scalar.shrsi v7331 c3_i32_3566
  let c3_i32_3567 : BitVec 32 := 3#32
  let v7333 : BitVec 32 := Scalar.shli v7332 c3_i32_3567
  v7333

def k0_off556 (v7331 : BitVec 32) : Fin 2 → Nat :=
  let c3_i32_3566 : BitVec 32 := 3#32
  let v7332 : BitVec 32 := Scalar.shrsi v7331 c3_i32_3566
  let c3_i32_3567 : BitVec 32 := 3#32
  let v7333 : BitVec 32 := Scalar.shli v7332 c3_i32_3567
  let v7334 : BitVec 32 := v7333
  let v7336 : Index := Scalar.indexCast v7334
  let c0_3568 : Index := 0#32
  ![Nat.mul 2 v7336.toNat, 0]

def k0_chk313 (v7331 : BitVec 32) : Prop :=
  (8 ∣ (k0_mult315 v7331).toNat) ∧
  (∀ a, (k0_off556 v7331) a + S16x128.size a ≤ S20016x128.size a)
theorem k0_mult315_dvd : ∀ (v7331 : BitVec 32) (k0_hw313 : k0_chk313 v7331), 8 ∣ (k0_mult315 v7331).toNat := fun v7331 k0_hw313 => k0_hw313.1
theorem k0_off556_inb : ∀ (v7331 : BitVec 32) (k0_hw313 : k0_chk313 v7331), ∀ a, (k0_off556 v7331) a + S16x128.size a ≤ S20016x128.size a := fun v7331 k0_hw313 => k0_hw313.2

def k0_off557 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c56_i32_3571 : BitVec 32 := 56#32
  let v7342 : BitVec 32 := Scalar.addi v6320 c56_i32_3571
  let v7343 : Index := Scalar.indexCast v7342
  let c0_3572 : Index := 0#32
  ![v7343.toNat, 0]
def k0_off558 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c57_i32_3573 : BitVec 32 := 57#32
  let v7347 : BitVec 32 := Scalar.addi v6320 c57_i32_3573
  let v7348 : Index := Scalar.indexCast v7347
  ![v7348.toNat]
def k0_mult316 (v7349 : BitVec 32) : BitVec 32 :=
  let c3_i32_3574 : BitVec 32 := 3#32
  let v7350 : BitVec 32 := Scalar.shrsi v7349 c3_i32_3574
  let c3_i32_3575 : BitVec 32 := 3#32
  let v7351 : BitVec 32 := Scalar.shli v7350 c3_i32_3575
  v7351

def k0_off559 (v7349 : BitVec 32) : Fin 2 → Nat :=
  let c3_i32_3574 : BitVec 32 := 3#32
  let v7350 : BitVec 32 := Scalar.shrsi v7349 c3_i32_3574
  let c3_i32_3575 : BitVec 32 := 3#32
  let v7351 : BitVec 32 := Scalar.shli v7350 c3_i32_3575
  let v7352 : BitVec 32 := v7351
  let v7354 : Index := Scalar.indexCast v7352
  let c0_3576 : Index := 0#32
  ![Nat.mul 2 v7354.toNat, 0]

def k0_chk314 (v7349 : BitVec 32) : Prop :=
  (8 ∣ (k0_mult316 v7349).toNat) ∧
  (∀ a, (k0_off559 v7349) a + S16x128.size a ≤ S20016x128.size a)
theorem k0_mult316_dvd : ∀ (v7349 : BitVec 32) (k0_hw314 : k0_chk314 v7349), 8 ∣ (k0_mult316 v7349).toNat := fun v7349 k0_hw314 => k0_hw314.1
theorem k0_off559_inb : ∀ (v7349 : BitVec 32) (k0_hw314 : k0_chk314 v7349), ∀ a, (k0_off559 v7349) a + S16x128.size a ≤ S20016x128.size a := fun v7349 k0_hw314 => k0_hw314.2

def k0_off560 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c57_i32_3579 : BitVec 32 := 57#32
  let v7360 : BitVec 32 := Scalar.addi v6320 c57_i32_3579
  let v7361 : Index := Scalar.indexCast v7360
  let c0_3580 : Index := 0#32
  ![v7361.toNat, 0]
def k0_off561 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c58_i32_3581 : BitVec 32 := 58#32
  let v7365 : BitVec 32 := Scalar.addi v6320 c58_i32_3581
  let v7366 : Index := Scalar.indexCast v7365
  ![v7366.toNat]
def k0_mult317 (v7367 : BitVec 32) : BitVec 32 :=
  let c3_i32_3582 : BitVec 32 := 3#32
  let v7368 : BitVec 32 := Scalar.shrsi v7367 c3_i32_3582
  let c3_i32_3583 : BitVec 32 := 3#32
  let v7369 : BitVec 32 := Scalar.shli v7368 c3_i32_3583
  v7369

def k0_off562 (v7367 : BitVec 32) : Fin 2 → Nat :=
  let c3_i32_3582 : BitVec 32 := 3#32
  let v7368 : BitVec 32 := Scalar.shrsi v7367 c3_i32_3582
  let c3_i32_3583 : BitVec 32 := 3#32
  let v7369 : BitVec 32 := Scalar.shli v7368 c3_i32_3583
  let v7370 : BitVec 32 := v7369
  let v7372 : Index := Scalar.indexCast v7370
  let c0_3584 : Index := 0#32
  ![Nat.mul 2 v7372.toNat, 0]

def k0_chk315 (v7367 : BitVec 32) : Prop :=
  (8 ∣ (k0_mult317 v7367).toNat) ∧
  (∀ a, (k0_off562 v7367) a + S16x128.size a ≤ S20016x128.size a)
theorem k0_mult317_dvd : ∀ (v7367 : BitVec 32) (k0_hw315 : k0_chk315 v7367), 8 ∣ (k0_mult317 v7367).toNat := fun v7367 k0_hw315 => k0_hw315.1
theorem k0_off562_inb : ∀ (v7367 : BitVec 32) (k0_hw315 : k0_chk315 v7367), ∀ a, (k0_off562 v7367) a + S16x128.size a ≤ S20016x128.size a := fun v7367 k0_hw315 => k0_hw315.2

def k0_off563 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c58_i32_3587 : BitVec 32 := 58#32
  let v7378 : BitVec 32 := Scalar.addi v6320 c58_i32_3587
  let v7379 : Index := Scalar.indexCast v7378
  let c0_3588 : Index := 0#32
  ![v7379.toNat, 0]
def k0_off564 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c59_i32_3589 : BitVec 32 := 59#32
  let v7383 : BitVec 32 := Scalar.addi v6320 c59_i32_3589
  let v7384 : Index := Scalar.indexCast v7383
  ![v7384.toNat]
def k0_mult318 (v7385 : BitVec 32) : BitVec 32 :=
  let c3_i32_3590 : BitVec 32 := 3#32
  let v7386 : BitVec 32 := Scalar.shrsi v7385 c3_i32_3590
  let c3_i32_3591 : BitVec 32 := 3#32
  let v7387 : BitVec 32 := Scalar.shli v7386 c3_i32_3591
  v7387

def k0_off565 (v7385 : BitVec 32) : Fin 2 → Nat :=
  let c3_i32_3590 : BitVec 32 := 3#32
  let v7386 : BitVec 32 := Scalar.shrsi v7385 c3_i32_3590
  let c3_i32_3591 : BitVec 32 := 3#32
  let v7387 : BitVec 32 := Scalar.shli v7386 c3_i32_3591
  let v7388 : BitVec 32 := v7387
  let v7390 : Index := Scalar.indexCast v7388
  let c0_3592 : Index := 0#32
  ![Nat.mul 2 v7390.toNat, 0]

def k0_chk316 (v7385 : BitVec 32) : Prop :=
  (8 ∣ (k0_mult318 v7385).toNat) ∧
  (∀ a, (k0_off565 v7385) a + S16x128.size a ≤ S20016x128.size a)
theorem k0_mult318_dvd : ∀ (v7385 : BitVec 32) (k0_hw316 : k0_chk316 v7385), 8 ∣ (k0_mult318 v7385).toNat := fun v7385 k0_hw316 => k0_hw316.1
theorem k0_off565_inb : ∀ (v7385 : BitVec 32) (k0_hw316 : k0_chk316 v7385), ∀ a, (k0_off565 v7385) a + S16x128.size a ≤ S20016x128.size a := fun v7385 k0_hw316 => k0_hw316.2

def k0_off566 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c59_i32_3595 : BitVec 32 := 59#32
  let v7396 : BitVec 32 := Scalar.addi v6320 c59_i32_3595
  let v7397 : Index := Scalar.indexCast v7396
  let c0_3596 : Index := 0#32
  ![v7397.toNat, 0]
def k0_off567 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c60_i32_3597 : BitVec 32 := 60#32
  let v7401 : BitVec 32 := Scalar.addi v6320 c60_i32_3597
  let v7402 : Index := Scalar.indexCast v7401
  ![v7402.toNat]
def k0_mult319 (v7403 : BitVec 32) : BitVec 32 :=
  let c3_i32_3598 : BitVec 32 := 3#32
  let v7404 : BitVec 32 := Scalar.shrsi v7403 c3_i32_3598
  let c3_i32_3599 : BitVec 32 := 3#32
  let v7405 : BitVec 32 := Scalar.shli v7404 c3_i32_3599
  v7405

def k0_off568 (v7403 : BitVec 32) : Fin 2 → Nat :=
  let c3_i32_3598 : BitVec 32 := 3#32
  let v7404 : BitVec 32 := Scalar.shrsi v7403 c3_i32_3598
  let c3_i32_3599 : BitVec 32 := 3#32
  let v7405 : BitVec 32 := Scalar.shli v7404 c3_i32_3599
  let v7406 : BitVec 32 := v7405
  let v7408 : Index := Scalar.indexCast v7406
  let c0_3600 : Index := 0#32
  ![Nat.mul 2 v7408.toNat, 0]

def k0_chk317 (v7403 : BitVec 32) : Prop :=
  (8 ∣ (k0_mult319 v7403).toNat) ∧
  (∀ a, (k0_off568 v7403) a + S16x128.size a ≤ S20016x128.size a)
theorem k0_mult319_dvd : ∀ (v7403 : BitVec 32) (k0_hw317 : k0_chk317 v7403), 8 ∣ (k0_mult319 v7403).toNat := fun v7403 k0_hw317 => k0_hw317.1
theorem k0_off568_inb : ∀ (v7403 : BitVec 32) (k0_hw317 : k0_chk317 v7403), ∀ a, (k0_off568 v7403) a + S16x128.size a ≤ S20016x128.size a := fun v7403 k0_hw317 => k0_hw317.2

def k0_off569 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c60_i32_3603 : BitVec 32 := 60#32
  let v7414 : BitVec 32 := Scalar.addi v6320 c60_i32_3603
  let v7415 : Index := Scalar.indexCast v7414
  let c0_3604 : Index := 0#32
  ![v7415.toNat, 0]
def k0_off570 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c61_i32_3605 : BitVec 32 := 61#32
  let v7419 : BitVec 32 := Scalar.addi v6320 c61_i32_3605
  let v7420 : Index := Scalar.indexCast v7419
  ![v7420.toNat]
def k0_mult320 (v7421 : BitVec 32) : BitVec 32 :=
  let c3_i32_3606 : BitVec 32 := 3#32
  let v7422 : BitVec 32 := Scalar.shrsi v7421 c3_i32_3606
  let c3_i32_3607 : BitVec 32 := 3#32
  let v7423 : BitVec 32 := Scalar.shli v7422 c3_i32_3607
  v7423

def k0_off571 (v7421 : BitVec 32) : Fin 2 → Nat :=
  let c3_i32_3606 : BitVec 32 := 3#32
  let v7422 : BitVec 32 := Scalar.shrsi v7421 c3_i32_3606
  let c3_i32_3607 : BitVec 32 := 3#32
  let v7423 : BitVec 32 := Scalar.shli v7422 c3_i32_3607
  let v7424 : BitVec 32 := v7423
  let v7426 : Index := Scalar.indexCast v7424
  let c0_3608 : Index := 0#32
  ![Nat.mul 2 v7426.toNat, 0]

def k0_chk318 (v7421 : BitVec 32) : Prop :=
  (8 ∣ (k0_mult320 v7421).toNat) ∧
  (∀ a, (k0_off571 v7421) a + S16x128.size a ≤ S20016x128.size a)
theorem k0_mult320_dvd : ∀ (v7421 : BitVec 32) (k0_hw318 : k0_chk318 v7421), 8 ∣ (k0_mult320 v7421).toNat := fun v7421 k0_hw318 => k0_hw318.1
theorem k0_off571_inb : ∀ (v7421 : BitVec 32) (k0_hw318 : k0_chk318 v7421), ∀ a, (k0_off571 v7421) a + S16x128.size a ≤ S20016x128.size a := fun v7421 k0_hw318 => k0_hw318.2

def k0_off572 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c61_i32_3611 : BitVec 32 := 61#32
  let v7432 : BitVec 32 := Scalar.addi v6320 c61_i32_3611
  let v7433 : Index := Scalar.indexCast v7432
  let c0_3612 : Index := 0#32
  ![v7433.toNat, 0]
def k0_off573 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c62_i32_3613 : BitVec 32 := 62#32
  let v7437 : BitVec 32 := Scalar.addi v6320 c62_i32_3613
  let v7438 : Index := Scalar.indexCast v7437
  ![v7438.toNat]
def k0_mult321 (v7439 : BitVec 32) : BitVec 32 :=
  let c3_i32_3614 : BitVec 32 := 3#32
  let v7440 : BitVec 32 := Scalar.shrsi v7439 c3_i32_3614
  let c3_i32_3615 : BitVec 32 := 3#32
  let v7441 : BitVec 32 := Scalar.shli v7440 c3_i32_3615
  v7441

def k0_off574 (v7439 : BitVec 32) : Fin 2 → Nat :=
  let c3_i32_3614 : BitVec 32 := 3#32
  let v7440 : BitVec 32 := Scalar.shrsi v7439 c3_i32_3614
  let c3_i32_3615 : BitVec 32 := 3#32
  let v7441 : BitVec 32 := Scalar.shli v7440 c3_i32_3615
  let v7442 : BitVec 32 := v7441
  let v7444 : Index := Scalar.indexCast v7442
  let c0_3616 : Index := 0#32
  ![Nat.mul 2 v7444.toNat, 0]

def k0_chk319 (v7439 : BitVec 32) : Prop :=
  (8 ∣ (k0_mult321 v7439).toNat) ∧
  (∀ a, (k0_off574 v7439) a + S16x128.size a ≤ S20016x128.size a)
theorem k0_mult321_dvd : ∀ (v7439 : BitVec 32) (k0_hw319 : k0_chk319 v7439), 8 ∣ (k0_mult321 v7439).toNat := fun v7439 k0_hw319 => k0_hw319.1
theorem k0_off574_inb : ∀ (v7439 : BitVec 32) (k0_hw319 : k0_chk319 v7439), ∀ a, (k0_off574 v7439) a + S16x128.size a ≤ S20016x128.size a := fun v7439 k0_hw319 => k0_hw319.2

def k0_off575 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c62_i32_3619 : BitVec 32 := 62#32
  let v7450 : BitVec 32 := Scalar.addi v6320 c62_i32_3619
  let v7451 : Index := Scalar.indexCast v7450
  let c0_3620 : Index := 0#32
  ![v7451.toNat, 0]
def k0_off576 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c63_i32_3621 : BitVec 32 := 63#32
  let v7455 : BitVec 32 := Scalar.addi v6320 c63_i32_3621
  let v7456 : Index := Scalar.indexCast v7455
  ![v7456.toNat]
def k0_mult322 (v7457 : BitVec 32) : BitVec 32 :=
  let c3_i32_3622 : BitVec 32 := 3#32
  let v7458 : BitVec 32 := Scalar.shrsi v7457 c3_i32_3622
  let c3_i32_3623 : BitVec 32 := 3#32
  let v7459 : BitVec 32 := Scalar.shli v7458 c3_i32_3623
  v7459

def k0_off577 (v7457 : BitVec 32) : Fin 2 → Nat :=
  let c3_i32_3622 : BitVec 32 := 3#32
  let v7458 : BitVec 32 := Scalar.shrsi v7457 c3_i32_3622
  let c3_i32_3623 : BitVec 32 := 3#32
  let v7459 : BitVec 32 := Scalar.shli v7458 c3_i32_3623
  let v7460 : BitVec 32 := v7459
  let v7462 : Index := Scalar.indexCast v7460
  let c0_3624 : Index := 0#32
  ![Nat.mul 2 v7462.toNat, 0]

def k0_chk320 (v7457 : BitVec 32) : Prop :=
  (8 ∣ (k0_mult322 v7457).toNat) ∧
  (∀ a, (k0_off577 v7457) a + S16x128.size a ≤ S20016x128.size a)
theorem k0_mult322_dvd : ∀ (v7457 : BitVec 32) (k0_hw320 : k0_chk320 v7457), 8 ∣ (k0_mult322 v7457).toNat := fun v7457 k0_hw320 => k0_hw320.1
theorem k0_off577_inb : ∀ (v7457 : BitVec 32) (k0_hw320 : k0_chk320 v7457), ∀ a, (k0_off577 v7457) a + S16x128.size a ≤ S20016x128.size a := fun v7457 k0_hw320 => k0_hw320.2

def k0_off578 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c63_i32_3627 : BitVec 32 := 63#32
  let v7468 : BitVec 32 := Scalar.addi v6320 c63_i32_3627
  let v7469 : Index := Scalar.indexCast v7468
  let c0_3628 : Index := 0#32
  ![v7469.toNat, 0]
def k0_off579 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c64_i32_3629 : BitVec 32 := 64#32
  let v7473 : BitVec 32 := Scalar.addi v6320 c64_i32_3629
  let v7474 : Index := Scalar.indexCast v7473
  ![v7474.toNat]
def k0_mult323 (v7475 : BitVec 32) : BitVec 32 :=
  let c3_i32_3630 : BitVec 32 := 3#32
  let v7476 : BitVec 32 := Scalar.shrsi v7475 c3_i32_3630
  let c3_i32_3631 : BitVec 32 := 3#32
  let v7477 : BitVec 32 := Scalar.shli v7476 c3_i32_3631
  v7477

def k0_off580 (v7475 : BitVec 32) : Fin 2 → Nat :=
  let c3_i32_3630 : BitVec 32 := 3#32
  let v7476 : BitVec 32 := Scalar.shrsi v7475 c3_i32_3630
  let c3_i32_3631 : BitVec 32 := 3#32
  let v7477 : BitVec 32 := Scalar.shli v7476 c3_i32_3631
  let v7478 : BitVec 32 := v7477
  let v7480 : Index := Scalar.indexCast v7478
  let c0_3632 : Index := 0#32
  ![Nat.mul 2 v7480.toNat, 0]

def k0_chk321 (v7475 : BitVec 32) : Prop :=
  (8 ∣ (k0_mult323 v7475).toNat) ∧
  (∀ a, (k0_off580 v7475) a + S16x128.size a ≤ S20016x128.size a)
theorem k0_mult323_dvd : ∀ (v7475 : BitVec 32) (k0_hw321 : k0_chk321 v7475), 8 ∣ (k0_mult323 v7475).toNat := fun v7475 k0_hw321 => k0_hw321.1
theorem k0_off580_inb : ∀ (v7475 : BitVec 32) (k0_hw321 : k0_chk321 v7475), ∀ a, (k0_off580 v7475) a + S16x128.size a ≤ S20016x128.size a := fun v7475 k0_hw321 => k0_hw321.2

def k0_off581 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c64_i32_3635 : BitVec 32 := 64#32
  let v7486 : BitVec 32 := Scalar.addi v6320 c64_i32_3635
  let v7487 : Index := Scalar.indexCast v7486
  let c0_3636 : Index := 0#32
  ![v7487.toNat, 0]
def k0_off582 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c65_i32 : BitVec 32 := 65#32
  let v7491 : BitVec 32 := Scalar.addi v6320 c65_i32
  let v7492 : Index := Scalar.indexCast v7491
  ![v7492.toNat]
def k0_mult324 (v7493 : BitVec 32) : BitVec 32 :=
  let c3_i32_3637 : BitVec 32 := 3#32
  let v7494 : BitVec 32 := Scalar.shrsi v7493 c3_i32_3637
  let c3_i32_3638 : BitVec 32 := 3#32
  let v7495 : BitVec 32 := Scalar.shli v7494 c3_i32_3638
  v7495

def k0_off583 (v7493 : BitVec 32) : Fin 2 → Nat :=
  let c3_i32_3637 : BitVec 32 := 3#32
  let v7494 : BitVec 32 := Scalar.shrsi v7493 c3_i32_3637
  let c3_i32_3638 : BitVec 32 := 3#32
  let v7495 : BitVec 32 := Scalar.shli v7494 c3_i32_3638
  let v7496 : BitVec 32 := v7495
  let v7498 : Index := Scalar.indexCast v7496
  let c0_3639 : Index := 0#32
  ![Nat.mul 2 v7498.toNat, 0]

def k0_chk322 (v7493 : BitVec 32) : Prop :=
  (8 ∣ (k0_mult324 v7493).toNat) ∧
  (∀ a, (k0_off583 v7493) a + S16x128.size a ≤ S20016x128.size a)
theorem k0_mult324_dvd : ∀ (v7493 : BitVec 32) (k0_hw322 : k0_chk322 v7493), 8 ∣ (k0_mult324 v7493).toNat := fun v7493 k0_hw322 => k0_hw322.1
theorem k0_off583_inb : ∀ (v7493 : BitVec 32) (k0_hw322 : k0_chk322 v7493), ∀ a, (k0_off583 v7493) a + S16x128.size a ≤ S20016x128.size a := fun v7493 k0_hw322 => k0_hw322.2

def k0_off584 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c65_i32_3642 : BitVec 32 := 65#32
  let v7504 : BitVec 32 := Scalar.addi v6320 c65_i32_3642
  let v7505 : Index := Scalar.indexCast v7504
  let c0_3643 : Index := 0#32
  ![v7505.toNat, 0]
def k0_off585 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c66_i32 : BitVec 32 := 66#32
  let v7509 : BitVec 32 := Scalar.addi v6320 c66_i32
  let v7510 : Index := Scalar.indexCast v7509
  ![v7510.toNat]
def k0_mult325 (v7511 : BitVec 32) : BitVec 32 :=
  let c3_i32_3644 : BitVec 32 := 3#32
  let v7512 : BitVec 32 := Scalar.shrsi v7511 c3_i32_3644
  let c3_i32_3645 : BitVec 32 := 3#32
  let v7513 : BitVec 32 := Scalar.shli v7512 c3_i32_3645
  v7513

def k0_off586 (v7511 : BitVec 32) : Fin 2 → Nat :=
  let c3_i32_3644 : BitVec 32 := 3#32
  let v7512 : BitVec 32 := Scalar.shrsi v7511 c3_i32_3644
  let c3_i32_3645 : BitVec 32 := 3#32
  let v7513 : BitVec 32 := Scalar.shli v7512 c3_i32_3645
  let v7514 : BitVec 32 := v7513
  let v7516 : Index := Scalar.indexCast v7514
  let c0_3646 : Index := 0#32
  ![Nat.mul 2 v7516.toNat, 0]

def k0_chk323 (v7511 : BitVec 32) : Prop :=
  (8 ∣ (k0_mult325 v7511).toNat) ∧
  (∀ a, (k0_off586 v7511) a + S16x128.size a ≤ S20016x128.size a)
theorem k0_mult325_dvd : ∀ (v7511 : BitVec 32) (k0_hw323 : k0_chk323 v7511), 8 ∣ (k0_mult325 v7511).toNat := fun v7511 k0_hw323 => k0_hw323.1
theorem k0_off586_inb : ∀ (v7511 : BitVec 32) (k0_hw323 : k0_chk323 v7511), ∀ a, (k0_off586 v7511) a + S16x128.size a ≤ S20016x128.size a := fun v7511 k0_hw323 => k0_hw323.2

def k0_off587 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c66_i32_3649 : BitVec 32 := 66#32
  let v7522 : BitVec 32 := Scalar.addi v6320 c66_i32_3649
  let v7523 : Index := Scalar.indexCast v7522
  let c0_3650 : Index := 0#32
  ![v7523.toNat, 0]
def k0_off588 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c67_i32 : BitVec 32 := 67#32
  let v7527 : BitVec 32 := Scalar.addi v6320 c67_i32
  let v7528 : Index := Scalar.indexCast v7527
  ![v7528.toNat]
def k0_mult326 (v7529 : BitVec 32) : BitVec 32 :=
  let c3_i32_3651 : BitVec 32 := 3#32
  let v7530 : BitVec 32 := Scalar.shrsi v7529 c3_i32_3651
  let c3_i32_3652 : BitVec 32 := 3#32
  let v7531 : BitVec 32 := Scalar.shli v7530 c3_i32_3652
  v7531

def k0_off589 (v7529 : BitVec 32) : Fin 2 → Nat :=
  let c3_i32_3651 : BitVec 32 := 3#32
  let v7530 : BitVec 32 := Scalar.shrsi v7529 c3_i32_3651
  let c3_i32_3652 : BitVec 32 := 3#32
  let v7531 : BitVec 32 := Scalar.shli v7530 c3_i32_3652
  let v7532 : BitVec 32 := v7531
  let v7534 : Index := Scalar.indexCast v7532
  let c0_3653 : Index := 0#32
  ![Nat.mul 2 v7534.toNat, 0]

def k0_chk324 (v7529 : BitVec 32) : Prop :=
  (8 ∣ (k0_mult326 v7529).toNat) ∧
  (∀ a, (k0_off589 v7529) a + S16x128.size a ≤ S20016x128.size a)
theorem k0_mult326_dvd : ∀ (v7529 : BitVec 32) (k0_hw324 : k0_chk324 v7529), 8 ∣ (k0_mult326 v7529).toNat := fun v7529 k0_hw324 => k0_hw324.1
theorem k0_off589_inb : ∀ (v7529 : BitVec 32) (k0_hw324 : k0_chk324 v7529), ∀ a, (k0_off589 v7529) a + S16x128.size a ≤ S20016x128.size a := fun v7529 k0_hw324 => k0_hw324.2

def k0_off590 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c67_i32_3656 : BitVec 32 := 67#32
  let v7540 : BitVec 32 := Scalar.addi v6320 c67_i32_3656
  let v7541 : Index := Scalar.indexCast v7540
  let c0_3657 : Index := 0#32
  ![v7541.toNat, 0]
def k0_off591 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c68_i32 : BitVec 32 := 68#32
  let v7545 : BitVec 32 := Scalar.addi v6320 c68_i32
  let v7546 : Index := Scalar.indexCast v7545
  ![v7546.toNat]
def k0_mult327 (v7547 : BitVec 32) : BitVec 32 :=
  let c3_i32_3658 : BitVec 32 := 3#32
  let v7548 : BitVec 32 := Scalar.shrsi v7547 c3_i32_3658
  let c3_i32_3659 : BitVec 32 := 3#32
  let v7549 : BitVec 32 := Scalar.shli v7548 c3_i32_3659
  v7549

def k0_off592 (v7547 : BitVec 32) : Fin 2 → Nat :=
  let c3_i32_3658 : BitVec 32 := 3#32
  let v7548 : BitVec 32 := Scalar.shrsi v7547 c3_i32_3658
  let c3_i32_3659 : BitVec 32 := 3#32
  let v7549 : BitVec 32 := Scalar.shli v7548 c3_i32_3659
  let v7550 : BitVec 32 := v7549
  let v7552 : Index := Scalar.indexCast v7550
  let c0_3660 : Index := 0#32
  ![Nat.mul 2 v7552.toNat, 0]

def k0_chk325 (v7547 : BitVec 32) : Prop :=
  (8 ∣ (k0_mult327 v7547).toNat) ∧
  (∀ a, (k0_off592 v7547) a + S16x128.size a ≤ S20016x128.size a)
theorem k0_mult327_dvd : ∀ (v7547 : BitVec 32) (k0_hw325 : k0_chk325 v7547), 8 ∣ (k0_mult327 v7547).toNat := fun v7547 k0_hw325 => k0_hw325.1
theorem k0_off592_inb : ∀ (v7547 : BitVec 32) (k0_hw325 : k0_chk325 v7547), ∀ a, (k0_off592 v7547) a + S16x128.size a ≤ S20016x128.size a := fun v7547 k0_hw325 => k0_hw325.2

def k0_off593 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c68_i32_3663 : BitVec 32 := 68#32
  let v7558 : BitVec 32 := Scalar.addi v6320 c68_i32_3663
  let v7559 : Index := Scalar.indexCast v7558
  let c0_3664 : Index := 0#32
  ![v7559.toNat, 0]
def k0_off594 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c69_i32 : BitVec 32 := 69#32
  let v7563 : BitVec 32 := Scalar.addi v6320 c69_i32
  let v7564 : Index := Scalar.indexCast v7563
  ![v7564.toNat]
def k0_mult328 (v7565 : BitVec 32) : BitVec 32 :=
  let c3_i32_3665 : BitVec 32 := 3#32
  let v7566 : BitVec 32 := Scalar.shrsi v7565 c3_i32_3665
  let c3_i32_3666 : BitVec 32 := 3#32
  let v7567 : BitVec 32 := Scalar.shli v7566 c3_i32_3666
  v7567

def k0_off595 (v7565 : BitVec 32) : Fin 2 → Nat :=
  let c3_i32_3665 : BitVec 32 := 3#32
  let v7566 : BitVec 32 := Scalar.shrsi v7565 c3_i32_3665
  let c3_i32_3666 : BitVec 32 := 3#32
  let v7567 : BitVec 32 := Scalar.shli v7566 c3_i32_3666
  let v7568 : BitVec 32 := v7567
  let v7570 : Index := Scalar.indexCast v7568
  let c0_3667 : Index := 0#32
  ![Nat.mul 2 v7570.toNat, 0]

def k0_chk326 (v7565 : BitVec 32) : Prop :=
  (8 ∣ (k0_mult328 v7565).toNat) ∧
  (∀ a, (k0_off595 v7565) a + S16x128.size a ≤ S20016x128.size a)
theorem k0_mult328_dvd : ∀ (v7565 : BitVec 32) (k0_hw326 : k0_chk326 v7565), 8 ∣ (k0_mult328 v7565).toNat := fun v7565 k0_hw326 => k0_hw326.1
theorem k0_off595_inb : ∀ (v7565 : BitVec 32) (k0_hw326 : k0_chk326 v7565), ∀ a, (k0_off595 v7565) a + S16x128.size a ≤ S20016x128.size a := fun v7565 k0_hw326 => k0_hw326.2

def k0_off596 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c69_i32_3670 : BitVec 32 := 69#32
  let v7576 : BitVec 32 := Scalar.addi v6320 c69_i32_3670
  let v7577 : Index := Scalar.indexCast v7576
  let c0_3671 : Index := 0#32
  ![v7577.toNat, 0]
def k0_off597 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c70_i32 : BitVec 32 := 70#32
  let v7581 : BitVec 32 := Scalar.addi v6320 c70_i32
  let v7582 : Index := Scalar.indexCast v7581
  ![v7582.toNat]
def k0_mult329 (v7583 : BitVec 32) : BitVec 32 :=
  let c3_i32_3672 : BitVec 32 := 3#32
  let v7584 : BitVec 32 := Scalar.shrsi v7583 c3_i32_3672
  let c3_i32_3673 : BitVec 32 := 3#32
  let v7585 : BitVec 32 := Scalar.shli v7584 c3_i32_3673
  v7585

def k0_off598 (v7583 : BitVec 32) : Fin 2 → Nat :=
  let c3_i32_3672 : BitVec 32 := 3#32
  let v7584 : BitVec 32 := Scalar.shrsi v7583 c3_i32_3672
  let c3_i32_3673 : BitVec 32 := 3#32
  let v7585 : BitVec 32 := Scalar.shli v7584 c3_i32_3673
  let v7586 : BitVec 32 := v7585
  let v7588 : Index := Scalar.indexCast v7586
  let c0_3674 : Index := 0#32
  ![Nat.mul 2 v7588.toNat, 0]

def k0_chk327 (v7583 : BitVec 32) : Prop :=
  (8 ∣ (k0_mult329 v7583).toNat) ∧
  (∀ a, (k0_off598 v7583) a + S16x128.size a ≤ S20016x128.size a)
theorem k0_mult329_dvd : ∀ (v7583 : BitVec 32) (k0_hw327 : k0_chk327 v7583), 8 ∣ (k0_mult329 v7583).toNat := fun v7583 k0_hw327 => k0_hw327.1
theorem k0_off598_inb : ∀ (v7583 : BitVec 32) (k0_hw327 : k0_chk327 v7583), ∀ a, (k0_off598 v7583) a + S16x128.size a ≤ S20016x128.size a := fun v7583 k0_hw327 => k0_hw327.2

def k0_off599 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c70_i32_3677 : BitVec 32 := 70#32
  let v7594 : BitVec 32 := Scalar.addi v6320 c70_i32_3677
  let v7595 : Index := Scalar.indexCast v7594
  let c0_3678 : Index := 0#32
  ![v7595.toNat, 0]
def k0_off600 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c71_i32 : BitVec 32 := 71#32
  let v7599 : BitVec 32 := Scalar.addi v6320 c71_i32
  let v7600 : Index := Scalar.indexCast v7599
  ![v7600.toNat]
def k0_mult330 (v7601 : BitVec 32) : BitVec 32 :=
  let c3_i32_3679 : BitVec 32 := 3#32
  let v7602 : BitVec 32 := Scalar.shrsi v7601 c3_i32_3679
  let c3_i32_3680 : BitVec 32 := 3#32
  let v7603 : BitVec 32 := Scalar.shli v7602 c3_i32_3680
  v7603

def k0_off601 (v7601 : BitVec 32) : Fin 2 → Nat :=
  let c3_i32_3679 : BitVec 32 := 3#32
  let v7602 : BitVec 32 := Scalar.shrsi v7601 c3_i32_3679
  let c3_i32_3680 : BitVec 32 := 3#32
  let v7603 : BitVec 32 := Scalar.shli v7602 c3_i32_3680
  let v7604 : BitVec 32 := v7603
  let v7606 : Index := Scalar.indexCast v7604
  let c0_3681 : Index := 0#32
  ![Nat.mul 2 v7606.toNat, 0]

def k0_chk328 (v7601 : BitVec 32) : Prop :=
  (8 ∣ (k0_mult330 v7601).toNat) ∧
  (∀ a, (k0_off601 v7601) a + S16x128.size a ≤ S20016x128.size a)
theorem k0_mult330_dvd : ∀ (v7601 : BitVec 32) (k0_hw328 : k0_chk328 v7601), 8 ∣ (k0_mult330 v7601).toNat := fun v7601 k0_hw328 => k0_hw328.1
theorem k0_off601_inb : ∀ (v7601 : BitVec 32) (k0_hw328 : k0_chk328 v7601), ∀ a, (k0_off601 v7601) a + S16x128.size a ≤ S20016x128.size a := fun v7601 k0_hw328 => k0_hw328.2

def k0_off602 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c71_i32_3684 : BitVec 32 := 71#32
  let v7612 : BitVec 32 := Scalar.addi v6320 c71_i32_3684
  let v7613 : Index := Scalar.indexCast v7612
  let c0_3685 : Index := 0#32
  ![v7613.toNat, 0]
def k0_off603 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c72_i32 : BitVec 32 := 72#32
  let v7617 : BitVec 32 := Scalar.addi v6320 c72_i32
  let v7618 : Index := Scalar.indexCast v7617
  ![v7618.toNat]
def k0_mult331 (v7619 : BitVec 32) : BitVec 32 :=
  let c3_i32_3686 : BitVec 32 := 3#32
  let v7620 : BitVec 32 := Scalar.shrsi v7619 c3_i32_3686
  let c3_i32_3687 : BitVec 32 := 3#32
  let v7621 : BitVec 32 := Scalar.shli v7620 c3_i32_3687
  v7621

def k0_off604 (v7619 : BitVec 32) : Fin 2 → Nat :=
  let c3_i32_3686 : BitVec 32 := 3#32
  let v7620 : BitVec 32 := Scalar.shrsi v7619 c3_i32_3686
  let c3_i32_3687 : BitVec 32 := 3#32
  let v7621 : BitVec 32 := Scalar.shli v7620 c3_i32_3687
  let v7622 : BitVec 32 := v7621
  let v7624 : Index := Scalar.indexCast v7622
  let c0_3688 : Index := 0#32
  ![Nat.mul 2 v7624.toNat, 0]

def k0_chk329 (v7619 : BitVec 32) : Prop :=
  (8 ∣ (k0_mult331 v7619).toNat) ∧
  (∀ a, (k0_off604 v7619) a + S16x128.size a ≤ S20016x128.size a)
theorem k0_mult331_dvd : ∀ (v7619 : BitVec 32) (k0_hw329 : k0_chk329 v7619), 8 ∣ (k0_mult331 v7619).toNat := fun v7619 k0_hw329 => k0_hw329.1
theorem k0_off604_inb : ∀ (v7619 : BitVec 32) (k0_hw329 : k0_chk329 v7619), ∀ a, (k0_off604 v7619) a + S16x128.size a ≤ S20016x128.size a := fun v7619 k0_hw329 => k0_hw329.2

def k0_off605 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c72_i32_3691 : BitVec 32 := 72#32
  let v7630 : BitVec 32 := Scalar.addi v6320 c72_i32_3691
  let v7631 : Index := Scalar.indexCast v7630
  let c0_3692 : Index := 0#32
  ![v7631.toNat, 0]
def k0_off606 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c73_i32 : BitVec 32 := 73#32
  let v7635 : BitVec 32 := Scalar.addi v6320 c73_i32
  let v7636 : Index := Scalar.indexCast v7635
  ![v7636.toNat]
def k0_mult332 (v7637 : BitVec 32) : BitVec 32 :=
  let c3_i32_3693 : BitVec 32 := 3#32
  let v7638 : BitVec 32 := Scalar.shrsi v7637 c3_i32_3693
  let c3_i32_3694 : BitVec 32 := 3#32
  let v7639 : BitVec 32 := Scalar.shli v7638 c3_i32_3694
  v7639

def k0_off607 (v7637 : BitVec 32) : Fin 2 → Nat :=
  let c3_i32_3693 : BitVec 32 := 3#32
  let v7638 : BitVec 32 := Scalar.shrsi v7637 c3_i32_3693
  let c3_i32_3694 : BitVec 32 := 3#32
  let v7639 : BitVec 32 := Scalar.shli v7638 c3_i32_3694
  let v7640 : BitVec 32 := v7639
  let v7642 : Index := Scalar.indexCast v7640
  let c0_3695 : Index := 0#32
  ![Nat.mul 2 v7642.toNat, 0]

def k0_chk330 (v7637 : BitVec 32) : Prop :=
  (8 ∣ (k0_mult332 v7637).toNat) ∧
  (∀ a, (k0_off607 v7637) a + S16x128.size a ≤ S20016x128.size a)
theorem k0_mult332_dvd : ∀ (v7637 : BitVec 32) (k0_hw330 : k0_chk330 v7637), 8 ∣ (k0_mult332 v7637).toNat := fun v7637 k0_hw330 => k0_hw330.1
theorem k0_off607_inb : ∀ (v7637 : BitVec 32) (k0_hw330 : k0_chk330 v7637), ∀ a, (k0_off607 v7637) a + S16x128.size a ≤ S20016x128.size a := fun v7637 k0_hw330 => k0_hw330.2

def k0_off608 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c73_i32_3698 : BitVec 32 := 73#32
  let v7648 : BitVec 32 := Scalar.addi v6320 c73_i32_3698
  let v7649 : Index := Scalar.indexCast v7648
  let c0_3699 : Index := 0#32
  ![v7649.toNat, 0]
def k0_off609 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c74_i32 : BitVec 32 := 74#32
  let v7653 : BitVec 32 := Scalar.addi v6320 c74_i32
  let v7654 : Index := Scalar.indexCast v7653
  ![v7654.toNat]
def k0_mult333 (v7655 : BitVec 32) : BitVec 32 :=
  let c3_i32_3700 : BitVec 32 := 3#32
  let v7656 : BitVec 32 := Scalar.shrsi v7655 c3_i32_3700
  let c3_i32_3701 : BitVec 32 := 3#32
  let v7657 : BitVec 32 := Scalar.shli v7656 c3_i32_3701
  v7657

def k0_off610 (v7655 : BitVec 32) : Fin 2 → Nat :=
  let c3_i32_3700 : BitVec 32 := 3#32
  let v7656 : BitVec 32 := Scalar.shrsi v7655 c3_i32_3700
  let c3_i32_3701 : BitVec 32 := 3#32
  let v7657 : BitVec 32 := Scalar.shli v7656 c3_i32_3701
  let v7658 : BitVec 32 := v7657
  let v7660 : Index := Scalar.indexCast v7658
  let c0_3702 : Index := 0#32
  ![Nat.mul 2 v7660.toNat, 0]

def k0_chk331 (v7655 : BitVec 32) : Prop :=
  (8 ∣ (k0_mult333 v7655).toNat) ∧
  (∀ a, (k0_off610 v7655) a + S16x128.size a ≤ S20016x128.size a)
theorem k0_mult333_dvd : ∀ (v7655 : BitVec 32) (k0_hw331 : k0_chk331 v7655), 8 ∣ (k0_mult333 v7655).toNat := fun v7655 k0_hw331 => k0_hw331.1
theorem k0_off610_inb : ∀ (v7655 : BitVec 32) (k0_hw331 : k0_chk331 v7655), ∀ a, (k0_off610 v7655) a + S16x128.size a ≤ S20016x128.size a := fun v7655 k0_hw331 => k0_hw331.2

def k0_off611 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c74_i32_3705 : BitVec 32 := 74#32
  let v7666 : BitVec 32 := Scalar.addi v6320 c74_i32_3705
  let v7667 : Index := Scalar.indexCast v7666
  let c0_3706 : Index := 0#32
  ![v7667.toNat, 0]
def k0_off612 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c75_i32 : BitVec 32 := 75#32
  let v7671 : BitVec 32 := Scalar.addi v6320 c75_i32
  let v7672 : Index := Scalar.indexCast v7671
  ![v7672.toNat]
def k0_mult334 (v7673 : BitVec 32) : BitVec 32 :=
  let c3_i32_3707 : BitVec 32 := 3#32
  let v7674 : BitVec 32 := Scalar.shrsi v7673 c3_i32_3707
  let c3_i32_3708 : BitVec 32 := 3#32
  let v7675 : BitVec 32 := Scalar.shli v7674 c3_i32_3708
  v7675

def k0_off613 (v7673 : BitVec 32) : Fin 2 → Nat :=
  let c3_i32_3707 : BitVec 32 := 3#32
  let v7674 : BitVec 32 := Scalar.shrsi v7673 c3_i32_3707
  let c3_i32_3708 : BitVec 32 := 3#32
  let v7675 : BitVec 32 := Scalar.shli v7674 c3_i32_3708
  let v7676 : BitVec 32 := v7675
  let v7678 : Index := Scalar.indexCast v7676
  let c0_3709 : Index := 0#32
  ![Nat.mul 2 v7678.toNat, 0]

def k0_chk332 (v7673 : BitVec 32) : Prop :=
  (8 ∣ (k0_mult334 v7673).toNat) ∧
  (∀ a, (k0_off613 v7673) a + S16x128.size a ≤ S20016x128.size a)
theorem k0_mult334_dvd : ∀ (v7673 : BitVec 32) (k0_hw332 : k0_chk332 v7673), 8 ∣ (k0_mult334 v7673).toNat := fun v7673 k0_hw332 => k0_hw332.1
theorem k0_off613_inb : ∀ (v7673 : BitVec 32) (k0_hw332 : k0_chk332 v7673), ∀ a, (k0_off613 v7673) a + S16x128.size a ≤ S20016x128.size a := fun v7673 k0_hw332 => k0_hw332.2

def k0_off614 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c75_i32_3712 : BitVec 32 := 75#32
  let v7684 : BitVec 32 := Scalar.addi v6320 c75_i32_3712
  let v7685 : Index := Scalar.indexCast v7684
  let c0_3713 : Index := 0#32
  ![v7685.toNat, 0]
def k0_off615 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c76_i32 : BitVec 32 := 76#32
  let v7689 : BitVec 32 := Scalar.addi v6320 c76_i32
  let v7690 : Index := Scalar.indexCast v7689
  ![v7690.toNat]
def k0_mult335 (v7691 : BitVec 32) : BitVec 32 :=
  let c3_i32_3714 : BitVec 32 := 3#32
  let v7692 : BitVec 32 := Scalar.shrsi v7691 c3_i32_3714
  let c3_i32_3715 : BitVec 32 := 3#32
  let v7693 : BitVec 32 := Scalar.shli v7692 c3_i32_3715
  v7693

def k0_off616 (v7691 : BitVec 32) : Fin 2 → Nat :=
  let c3_i32_3714 : BitVec 32 := 3#32
  let v7692 : BitVec 32 := Scalar.shrsi v7691 c3_i32_3714
  let c3_i32_3715 : BitVec 32 := 3#32
  let v7693 : BitVec 32 := Scalar.shli v7692 c3_i32_3715
  let v7694 : BitVec 32 := v7693
  let v7696 : Index := Scalar.indexCast v7694
  let c0_3716 : Index := 0#32
  ![Nat.mul 2 v7696.toNat, 0]

def k0_chk333 (v7691 : BitVec 32) : Prop :=
  (8 ∣ (k0_mult335 v7691).toNat) ∧
  (∀ a, (k0_off616 v7691) a + S16x128.size a ≤ S20016x128.size a)
theorem k0_mult335_dvd : ∀ (v7691 : BitVec 32) (k0_hw333 : k0_chk333 v7691), 8 ∣ (k0_mult335 v7691).toNat := fun v7691 k0_hw333 => k0_hw333.1
theorem k0_off616_inb : ∀ (v7691 : BitVec 32) (k0_hw333 : k0_chk333 v7691), ∀ a, (k0_off616 v7691) a + S16x128.size a ≤ S20016x128.size a := fun v7691 k0_hw333 => k0_hw333.2

def k0_off617 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c76_i32_3719 : BitVec 32 := 76#32
  let v7702 : BitVec 32 := Scalar.addi v6320 c76_i32_3719
  let v7703 : Index := Scalar.indexCast v7702
  let c0_3720 : Index := 0#32
  ![v7703.toNat, 0]
def k0_off618 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c77_i32 : BitVec 32 := 77#32
  let v7707 : BitVec 32 := Scalar.addi v6320 c77_i32
  let v7708 : Index := Scalar.indexCast v7707
  ![v7708.toNat]
def k0_mult336 (v7709 : BitVec 32) : BitVec 32 :=
  let c3_i32_3721 : BitVec 32 := 3#32
  let v7710 : BitVec 32 := Scalar.shrsi v7709 c3_i32_3721
  let c3_i32_3722 : BitVec 32 := 3#32
  let v7711 : BitVec 32 := Scalar.shli v7710 c3_i32_3722
  v7711

def k0_off619 (v7709 : BitVec 32) : Fin 2 → Nat :=
  let c3_i32_3721 : BitVec 32 := 3#32
  let v7710 : BitVec 32 := Scalar.shrsi v7709 c3_i32_3721
  let c3_i32_3722 : BitVec 32 := 3#32
  let v7711 : BitVec 32 := Scalar.shli v7710 c3_i32_3722
  let v7712 : BitVec 32 := v7711
  let v7714 : Index := Scalar.indexCast v7712
  let c0_3723 : Index := 0#32
  ![Nat.mul 2 v7714.toNat, 0]

def k0_chk334 (v7709 : BitVec 32) : Prop :=
  (8 ∣ (k0_mult336 v7709).toNat) ∧
  (∀ a, (k0_off619 v7709) a + S16x128.size a ≤ S20016x128.size a)
theorem k0_mult336_dvd : ∀ (v7709 : BitVec 32) (k0_hw334 : k0_chk334 v7709), 8 ∣ (k0_mult336 v7709).toNat := fun v7709 k0_hw334 => k0_hw334.1
theorem k0_off619_inb : ∀ (v7709 : BitVec 32) (k0_hw334 : k0_chk334 v7709), ∀ a, (k0_off619 v7709) a + S16x128.size a ≤ S20016x128.size a := fun v7709 k0_hw334 => k0_hw334.2

def k0_off620 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c77_i32_3726 : BitVec 32 := 77#32
  let v7720 : BitVec 32 := Scalar.addi v6320 c77_i32_3726
  let v7721 : Index := Scalar.indexCast v7720
  let c0_3727 : Index := 0#32
  ![v7721.toNat, 0]
def k0_off621 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c78_i32 : BitVec 32 := 78#32
  let v7725 : BitVec 32 := Scalar.addi v6320 c78_i32
  let v7726 : Index := Scalar.indexCast v7725
  ![v7726.toNat]
def k0_mult337 (v7727 : BitVec 32) : BitVec 32 :=
  let c3_i32_3728 : BitVec 32 := 3#32
  let v7728 : BitVec 32 := Scalar.shrsi v7727 c3_i32_3728
  let c3_i32_3729 : BitVec 32 := 3#32
  let v7729 : BitVec 32 := Scalar.shli v7728 c3_i32_3729
  v7729

def k0_off622 (v7727 : BitVec 32) : Fin 2 → Nat :=
  let c3_i32_3728 : BitVec 32 := 3#32
  let v7728 : BitVec 32 := Scalar.shrsi v7727 c3_i32_3728
  let c3_i32_3729 : BitVec 32 := 3#32
  let v7729 : BitVec 32 := Scalar.shli v7728 c3_i32_3729
  let v7730 : BitVec 32 := v7729
  let v7732 : Index := Scalar.indexCast v7730
  let c0_3730 : Index := 0#32
  ![Nat.mul 2 v7732.toNat, 0]

def k0_chk335 (v7727 : BitVec 32) : Prop :=
  (8 ∣ (k0_mult337 v7727).toNat) ∧
  (∀ a, (k0_off622 v7727) a + S16x128.size a ≤ S20016x128.size a)
theorem k0_mult337_dvd : ∀ (v7727 : BitVec 32) (k0_hw335 : k0_chk335 v7727), 8 ∣ (k0_mult337 v7727).toNat := fun v7727 k0_hw335 => k0_hw335.1
theorem k0_off622_inb : ∀ (v7727 : BitVec 32) (k0_hw335 : k0_chk335 v7727), ∀ a, (k0_off622 v7727) a + S16x128.size a ≤ S20016x128.size a := fun v7727 k0_hw335 => k0_hw335.2

def k0_off623 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c78_i32_3733 : BitVec 32 := 78#32
  let v7738 : BitVec 32 := Scalar.addi v6320 c78_i32_3733
  let v7739 : Index := Scalar.indexCast v7738
  let c0_3734 : Index := 0#32
  ![v7739.toNat, 0]
def k0_off624 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c79_i32 : BitVec 32 := 79#32
  let v7743 : BitVec 32 := Scalar.addi v6320 c79_i32
  let v7744 : Index := Scalar.indexCast v7743
  ![v7744.toNat]
def k0_mult338 (v7745 : BitVec 32) : BitVec 32 :=
  let c3_i32_3735 : BitVec 32 := 3#32
  let v7746 : BitVec 32 := Scalar.shrsi v7745 c3_i32_3735
  let c3_i32_3736 : BitVec 32 := 3#32
  let v7747 : BitVec 32 := Scalar.shli v7746 c3_i32_3736
  v7747

def k0_off625 (v7745 : BitVec 32) : Fin 2 → Nat :=
  let c3_i32_3735 : BitVec 32 := 3#32
  let v7746 : BitVec 32 := Scalar.shrsi v7745 c3_i32_3735
  let c3_i32_3736 : BitVec 32 := 3#32
  let v7747 : BitVec 32 := Scalar.shli v7746 c3_i32_3736
  let v7748 : BitVec 32 := v7747
  let v7750 : Index := Scalar.indexCast v7748
  let c0_3737 : Index := 0#32
  ![Nat.mul 2 v7750.toNat, 0]

def k0_chk336 (v7745 : BitVec 32) : Prop :=
  (8 ∣ (k0_mult338 v7745).toNat) ∧
  (∀ a, (k0_off625 v7745) a + S16x128.size a ≤ S20016x128.size a)
theorem k0_mult338_dvd : ∀ (v7745 : BitVec 32) (k0_hw336 : k0_chk336 v7745), 8 ∣ (k0_mult338 v7745).toNat := fun v7745 k0_hw336 => k0_hw336.1
theorem k0_off625_inb : ∀ (v7745 : BitVec 32) (k0_hw336 : k0_chk336 v7745), ∀ a, (k0_off625 v7745) a + S16x128.size a ≤ S20016x128.size a := fun v7745 k0_hw336 => k0_hw336.2

def k0_off626 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c79_i32_3740 : BitVec 32 := 79#32
  let v7756 : BitVec 32 := Scalar.addi v6320 c79_i32_3740
  let v7757 : Index := Scalar.indexCast v7756
  let c0_3741 : Index := 0#32
  ![v7757.toNat, 0]
def k0_off627 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c80_i32 : BitVec 32 := 80#32
  let v7761 : BitVec 32 := Scalar.addi v6320 c80_i32
  let v7762 : Index := Scalar.indexCast v7761
  ![v7762.toNat]
def k0_mult339 (v7763 : BitVec 32) : BitVec 32 :=
  let c3_i32_3742 : BitVec 32 := 3#32
  let v7764 : BitVec 32 := Scalar.shrsi v7763 c3_i32_3742
  let c3_i32_3743 : BitVec 32 := 3#32
  let v7765 : BitVec 32 := Scalar.shli v7764 c3_i32_3743
  v7765

def k0_off628 (v7763 : BitVec 32) : Fin 2 → Nat :=
  let c3_i32_3742 : BitVec 32 := 3#32
  let v7764 : BitVec 32 := Scalar.shrsi v7763 c3_i32_3742
  let c3_i32_3743 : BitVec 32 := 3#32
  let v7765 : BitVec 32 := Scalar.shli v7764 c3_i32_3743
  let v7766 : BitVec 32 := v7765
  let v7768 : Index := Scalar.indexCast v7766
  let c0_3744 : Index := 0#32
  ![Nat.mul 2 v7768.toNat, 0]

def k0_chk337 (v7763 : BitVec 32) : Prop :=
  (8 ∣ (k0_mult339 v7763).toNat) ∧
  (∀ a, (k0_off628 v7763) a + S16x128.size a ≤ S20016x128.size a)
theorem k0_mult339_dvd : ∀ (v7763 : BitVec 32) (k0_hw337 : k0_chk337 v7763), 8 ∣ (k0_mult339 v7763).toNat := fun v7763 k0_hw337 => k0_hw337.1
theorem k0_off628_inb : ∀ (v7763 : BitVec 32) (k0_hw337 : k0_chk337 v7763), ∀ a, (k0_off628 v7763) a + S16x128.size a ≤ S20016x128.size a := fun v7763 k0_hw337 => k0_hw337.2

def k0_off629 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c80_i32_3747 : BitVec 32 := 80#32
  let v7774 : BitVec 32 := Scalar.addi v6320 c80_i32_3747
  let v7775 : Index := Scalar.indexCast v7774
  let c0_3748 : Index := 0#32
  ![v7775.toNat, 0]
def k0_off630 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c81_i32 : BitVec 32 := 81#32
  let v7779 : BitVec 32 := Scalar.addi v6320 c81_i32
  let v7780 : Index := Scalar.indexCast v7779
  ![v7780.toNat]
def k0_mult340 (v7781 : BitVec 32) : BitVec 32 :=
  let c3_i32_3749 : BitVec 32 := 3#32
  let v7782 : BitVec 32 := Scalar.shrsi v7781 c3_i32_3749
  let c3_i32_3750 : BitVec 32 := 3#32
  let v7783 : BitVec 32 := Scalar.shli v7782 c3_i32_3750
  v7783

def k0_off631 (v7781 : BitVec 32) : Fin 2 → Nat :=
  let c3_i32_3749 : BitVec 32 := 3#32
  let v7782 : BitVec 32 := Scalar.shrsi v7781 c3_i32_3749
  let c3_i32_3750 : BitVec 32 := 3#32
  let v7783 : BitVec 32 := Scalar.shli v7782 c3_i32_3750
  let v7784 : BitVec 32 := v7783
  let v7786 : Index := Scalar.indexCast v7784
  let c0_3751 : Index := 0#32
  ![Nat.mul 2 v7786.toNat, 0]

def k0_chk338 (v7781 : BitVec 32) : Prop :=
  (8 ∣ (k0_mult340 v7781).toNat) ∧
  (∀ a, (k0_off631 v7781) a + S16x128.size a ≤ S20016x128.size a)
theorem k0_mult340_dvd : ∀ (v7781 : BitVec 32) (k0_hw338 : k0_chk338 v7781), 8 ∣ (k0_mult340 v7781).toNat := fun v7781 k0_hw338 => k0_hw338.1
theorem k0_off631_inb : ∀ (v7781 : BitVec 32) (k0_hw338 : k0_chk338 v7781), ∀ a, (k0_off631 v7781) a + S16x128.size a ≤ S20016x128.size a := fun v7781 k0_hw338 => k0_hw338.2

def k0_off632 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c81_i32_3754 : BitVec 32 := 81#32
  let v7792 : BitVec 32 := Scalar.addi v6320 c81_i32_3754
  let v7793 : Index := Scalar.indexCast v7792
  let c0_3755 : Index := 0#32
  ![v7793.toNat, 0]
def k0_off633 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c82_i32 : BitVec 32 := 82#32
  let v7797 : BitVec 32 := Scalar.addi v6320 c82_i32
  let v7798 : Index := Scalar.indexCast v7797
  ![v7798.toNat]
def k0_mult341 (v7799 : BitVec 32) : BitVec 32 :=
  let c3_i32_3756 : BitVec 32 := 3#32
  let v7800 : BitVec 32 := Scalar.shrsi v7799 c3_i32_3756
  let c3_i32_3757 : BitVec 32 := 3#32
  let v7801 : BitVec 32 := Scalar.shli v7800 c3_i32_3757
  v7801

def k0_off634 (v7799 : BitVec 32) : Fin 2 → Nat :=
  let c3_i32_3756 : BitVec 32 := 3#32
  let v7800 : BitVec 32 := Scalar.shrsi v7799 c3_i32_3756
  let c3_i32_3757 : BitVec 32 := 3#32
  let v7801 : BitVec 32 := Scalar.shli v7800 c3_i32_3757
  let v7802 : BitVec 32 := v7801
  let v7804 : Index := Scalar.indexCast v7802
  let c0_3758 : Index := 0#32
  ![Nat.mul 2 v7804.toNat, 0]

def k0_chk339 (v7799 : BitVec 32) : Prop :=
  (8 ∣ (k0_mult341 v7799).toNat) ∧
  (∀ a, (k0_off634 v7799) a + S16x128.size a ≤ S20016x128.size a)
theorem k0_mult341_dvd : ∀ (v7799 : BitVec 32) (k0_hw339 : k0_chk339 v7799), 8 ∣ (k0_mult341 v7799).toNat := fun v7799 k0_hw339 => k0_hw339.1
theorem k0_off634_inb : ∀ (v7799 : BitVec 32) (k0_hw339 : k0_chk339 v7799), ∀ a, (k0_off634 v7799) a + S16x128.size a ≤ S20016x128.size a := fun v7799 k0_hw339 => k0_hw339.2

def k0_off635 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c82_i32_3761 : BitVec 32 := 82#32
  let v7810 : BitVec 32 := Scalar.addi v6320 c82_i32_3761
  let v7811 : Index := Scalar.indexCast v7810
  let c0_3762 : Index := 0#32
  ![v7811.toNat, 0]
def k0_off636 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c83_i32 : BitVec 32 := 83#32
  let v7815 : BitVec 32 := Scalar.addi v6320 c83_i32
  let v7816 : Index := Scalar.indexCast v7815
  ![v7816.toNat]
def k0_mult342 (v7817 : BitVec 32) : BitVec 32 :=
  let c3_i32_3763 : BitVec 32 := 3#32
  let v7818 : BitVec 32 := Scalar.shrsi v7817 c3_i32_3763
  let c3_i32_3764 : BitVec 32 := 3#32
  let v7819 : BitVec 32 := Scalar.shli v7818 c3_i32_3764
  v7819

def k0_off637 (v7817 : BitVec 32) : Fin 2 → Nat :=
  let c3_i32_3763 : BitVec 32 := 3#32
  let v7818 : BitVec 32 := Scalar.shrsi v7817 c3_i32_3763
  let c3_i32_3764 : BitVec 32 := 3#32
  let v7819 : BitVec 32 := Scalar.shli v7818 c3_i32_3764
  let v7820 : BitVec 32 := v7819
  let v7822 : Index := Scalar.indexCast v7820
  let c0_3765 : Index := 0#32
  ![Nat.mul 2 v7822.toNat, 0]

def k0_chk340 (v7817 : BitVec 32) : Prop :=
  (8 ∣ (k0_mult342 v7817).toNat) ∧
  (∀ a, (k0_off637 v7817) a + S16x128.size a ≤ S20016x128.size a)
theorem k0_mult342_dvd : ∀ (v7817 : BitVec 32) (k0_hw340 : k0_chk340 v7817), 8 ∣ (k0_mult342 v7817).toNat := fun v7817 k0_hw340 => k0_hw340.1
theorem k0_off637_inb : ∀ (v7817 : BitVec 32) (k0_hw340 : k0_chk340 v7817), ∀ a, (k0_off637 v7817) a + S16x128.size a ≤ S20016x128.size a := fun v7817 k0_hw340 => k0_hw340.2

def k0_off638 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c83_i32_3768 : BitVec 32 := 83#32
  let v7828 : BitVec 32 := Scalar.addi v6320 c83_i32_3768
  let v7829 : Index := Scalar.indexCast v7828
  let c0_3769 : Index := 0#32
  ![v7829.toNat, 0]
def k0_off639 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c84_i32 : BitVec 32 := 84#32
  let v7833 : BitVec 32 := Scalar.addi v6320 c84_i32
  let v7834 : Index := Scalar.indexCast v7833
  ![v7834.toNat]
def k0_mult343 (v7835 : BitVec 32) : BitVec 32 :=
  let c3_i32_3770 : BitVec 32 := 3#32
  let v7836 : BitVec 32 := Scalar.shrsi v7835 c3_i32_3770
  let c3_i32_3771 : BitVec 32 := 3#32
  let v7837 : BitVec 32 := Scalar.shli v7836 c3_i32_3771
  v7837

def k0_off640 (v7835 : BitVec 32) : Fin 2 → Nat :=
  let c3_i32_3770 : BitVec 32 := 3#32
  let v7836 : BitVec 32 := Scalar.shrsi v7835 c3_i32_3770
  let c3_i32_3771 : BitVec 32 := 3#32
  let v7837 : BitVec 32 := Scalar.shli v7836 c3_i32_3771
  let v7838 : BitVec 32 := v7837
  let v7840 : Index := Scalar.indexCast v7838
  let c0_3772 : Index := 0#32
  ![Nat.mul 2 v7840.toNat, 0]

def k0_chk341 (v7835 : BitVec 32) : Prop :=
  (8 ∣ (k0_mult343 v7835).toNat) ∧
  (∀ a, (k0_off640 v7835) a + S16x128.size a ≤ S20016x128.size a)
theorem k0_mult343_dvd : ∀ (v7835 : BitVec 32) (k0_hw341 : k0_chk341 v7835), 8 ∣ (k0_mult343 v7835).toNat := fun v7835 k0_hw341 => k0_hw341.1
theorem k0_off640_inb : ∀ (v7835 : BitVec 32) (k0_hw341 : k0_chk341 v7835), ∀ a, (k0_off640 v7835) a + S16x128.size a ≤ S20016x128.size a := fun v7835 k0_hw341 => k0_hw341.2

def k0_off641 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c84_i32_3775 : BitVec 32 := 84#32
  let v7846 : BitVec 32 := Scalar.addi v6320 c84_i32_3775
  let v7847 : Index := Scalar.indexCast v7846
  let c0_3776 : Index := 0#32
  ![v7847.toNat, 0]
def k0_off642 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c85_i32 : BitVec 32 := 85#32
  let v7851 : BitVec 32 := Scalar.addi v6320 c85_i32
  let v7852 : Index := Scalar.indexCast v7851
  ![v7852.toNat]
def k0_mult344 (v7853 : BitVec 32) : BitVec 32 :=
  let c3_i32_3777 : BitVec 32 := 3#32
  let v7854 : BitVec 32 := Scalar.shrsi v7853 c3_i32_3777
  let c3_i32_3778 : BitVec 32 := 3#32
  let v7855 : BitVec 32 := Scalar.shli v7854 c3_i32_3778
  v7855

def k0_off643 (v7853 : BitVec 32) : Fin 2 → Nat :=
  let c3_i32_3777 : BitVec 32 := 3#32
  let v7854 : BitVec 32 := Scalar.shrsi v7853 c3_i32_3777
  let c3_i32_3778 : BitVec 32 := 3#32
  let v7855 : BitVec 32 := Scalar.shli v7854 c3_i32_3778
  let v7856 : BitVec 32 := v7855
  let v7858 : Index := Scalar.indexCast v7856
  let c0_3779 : Index := 0#32
  ![Nat.mul 2 v7858.toNat, 0]

def k0_chk342 (v7853 : BitVec 32) : Prop :=
  (8 ∣ (k0_mult344 v7853).toNat) ∧
  (∀ a, (k0_off643 v7853) a + S16x128.size a ≤ S20016x128.size a)
theorem k0_mult344_dvd : ∀ (v7853 : BitVec 32) (k0_hw342 : k0_chk342 v7853), 8 ∣ (k0_mult344 v7853).toNat := fun v7853 k0_hw342 => k0_hw342.1
theorem k0_off643_inb : ∀ (v7853 : BitVec 32) (k0_hw342 : k0_chk342 v7853), ∀ a, (k0_off643 v7853) a + S16x128.size a ≤ S20016x128.size a := fun v7853 k0_hw342 => k0_hw342.2

def k0_off644 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c85_i32_3782 : BitVec 32 := 85#32
  let v7864 : BitVec 32 := Scalar.addi v6320 c85_i32_3782
  let v7865 : Index := Scalar.indexCast v7864
  let c0_3783 : Index := 0#32
  ![v7865.toNat, 0]
def k0_off645 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c86_i32 : BitVec 32 := 86#32
  let v7869 : BitVec 32 := Scalar.addi v6320 c86_i32
  let v7870 : Index := Scalar.indexCast v7869
  ![v7870.toNat]
def k0_mult345 (v7871 : BitVec 32) : BitVec 32 :=
  let c3_i32_3784 : BitVec 32 := 3#32
  let v7872 : BitVec 32 := Scalar.shrsi v7871 c3_i32_3784
  let c3_i32_3785 : BitVec 32 := 3#32
  let v7873 : BitVec 32 := Scalar.shli v7872 c3_i32_3785
  v7873

def k0_off646 (v7871 : BitVec 32) : Fin 2 → Nat :=
  let c3_i32_3784 : BitVec 32 := 3#32
  let v7872 : BitVec 32 := Scalar.shrsi v7871 c3_i32_3784
  let c3_i32_3785 : BitVec 32 := 3#32
  let v7873 : BitVec 32 := Scalar.shli v7872 c3_i32_3785
  let v7874 : BitVec 32 := v7873
  let v7876 : Index := Scalar.indexCast v7874
  let c0_3786 : Index := 0#32
  ![Nat.mul 2 v7876.toNat, 0]

def k0_chk343 (v7871 : BitVec 32) : Prop :=
  (8 ∣ (k0_mult345 v7871).toNat) ∧
  (∀ a, (k0_off646 v7871) a + S16x128.size a ≤ S20016x128.size a)
theorem k0_mult345_dvd : ∀ (v7871 : BitVec 32) (k0_hw343 : k0_chk343 v7871), 8 ∣ (k0_mult345 v7871).toNat := fun v7871 k0_hw343 => k0_hw343.1
theorem k0_off646_inb : ∀ (v7871 : BitVec 32) (k0_hw343 : k0_chk343 v7871), ∀ a, (k0_off646 v7871) a + S16x128.size a ≤ S20016x128.size a := fun v7871 k0_hw343 => k0_hw343.2

def k0_off647 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c86_i32_3789 : BitVec 32 := 86#32
  let v7882 : BitVec 32 := Scalar.addi v6320 c86_i32_3789
  let v7883 : Index := Scalar.indexCast v7882
  let c0_3790 : Index := 0#32
  ![v7883.toNat, 0]
def k0_off648 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c87_i32 : BitVec 32 := 87#32
  let v7887 : BitVec 32 := Scalar.addi v6320 c87_i32
  let v7888 : Index := Scalar.indexCast v7887
  ![v7888.toNat]
def k0_mult346 (v7889 : BitVec 32) : BitVec 32 :=
  let c3_i32_3791 : BitVec 32 := 3#32
  let v7890 : BitVec 32 := Scalar.shrsi v7889 c3_i32_3791
  let c3_i32_3792 : BitVec 32 := 3#32
  let v7891 : BitVec 32 := Scalar.shli v7890 c3_i32_3792
  v7891

def k0_off649 (v7889 : BitVec 32) : Fin 2 → Nat :=
  let c3_i32_3791 : BitVec 32 := 3#32
  let v7890 : BitVec 32 := Scalar.shrsi v7889 c3_i32_3791
  let c3_i32_3792 : BitVec 32 := 3#32
  let v7891 : BitVec 32 := Scalar.shli v7890 c3_i32_3792
  let v7892 : BitVec 32 := v7891
  let v7894 : Index := Scalar.indexCast v7892
  let c0_3793 : Index := 0#32
  ![Nat.mul 2 v7894.toNat, 0]

def k0_chk344 (v7889 : BitVec 32) : Prop :=
  (8 ∣ (k0_mult346 v7889).toNat) ∧
  (∀ a, (k0_off649 v7889) a + S16x128.size a ≤ S20016x128.size a)
theorem k0_mult346_dvd : ∀ (v7889 : BitVec 32) (k0_hw344 : k0_chk344 v7889), 8 ∣ (k0_mult346 v7889).toNat := fun v7889 k0_hw344 => k0_hw344.1
theorem k0_off649_inb : ∀ (v7889 : BitVec 32) (k0_hw344 : k0_chk344 v7889), ∀ a, (k0_off649 v7889) a + S16x128.size a ≤ S20016x128.size a := fun v7889 k0_hw344 => k0_hw344.2

def k0_off650 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c87_i32_3796 : BitVec 32 := 87#32
  let v7900 : BitVec 32 := Scalar.addi v6320 c87_i32_3796
  let v7901 : Index := Scalar.indexCast v7900
  let c0_3797 : Index := 0#32
  ![v7901.toNat, 0]
def k0_off651 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c88_i32 : BitVec 32 := 88#32
  let v7905 : BitVec 32 := Scalar.addi v6320 c88_i32
  let v7906 : Index := Scalar.indexCast v7905
  ![v7906.toNat]
def k0_mult347 (v7907 : BitVec 32) : BitVec 32 :=
  let c3_i32_3798 : BitVec 32 := 3#32
  let v7908 : BitVec 32 := Scalar.shrsi v7907 c3_i32_3798
  let c3_i32_3799 : BitVec 32 := 3#32
  let v7909 : BitVec 32 := Scalar.shli v7908 c3_i32_3799
  v7909

def k0_off652 (v7907 : BitVec 32) : Fin 2 → Nat :=
  let c3_i32_3798 : BitVec 32 := 3#32
  let v7908 : BitVec 32 := Scalar.shrsi v7907 c3_i32_3798
  let c3_i32_3799 : BitVec 32 := 3#32
  let v7909 : BitVec 32 := Scalar.shli v7908 c3_i32_3799
  let v7910 : BitVec 32 := v7909
  let v7912 : Index := Scalar.indexCast v7910
  let c0_3800 : Index := 0#32
  ![Nat.mul 2 v7912.toNat, 0]

def k0_chk345 (v7907 : BitVec 32) : Prop :=
  (8 ∣ (k0_mult347 v7907).toNat) ∧
  (∀ a, (k0_off652 v7907) a + S16x128.size a ≤ S20016x128.size a)
theorem k0_mult347_dvd : ∀ (v7907 : BitVec 32) (k0_hw345 : k0_chk345 v7907), 8 ∣ (k0_mult347 v7907).toNat := fun v7907 k0_hw345 => k0_hw345.1
theorem k0_off652_inb : ∀ (v7907 : BitVec 32) (k0_hw345 : k0_chk345 v7907), ∀ a, (k0_off652 v7907) a + S16x128.size a ≤ S20016x128.size a := fun v7907 k0_hw345 => k0_hw345.2

def k0_off653 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c88_i32_3803 : BitVec 32 := 88#32
  let v7918 : BitVec 32 := Scalar.addi v6320 c88_i32_3803
  let v7919 : Index := Scalar.indexCast v7918
  let c0_3804 : Index := 0#32
  ![v7919.toNat, 0]
def k0_off654 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c89_i32 : BitVec 32 := 89#32
  let v7923 : BitVec 32 := Scalar.addi v6320 c89_i32
  let v7924 : Index := Scalar.indexCast v7923
  ![v7924.toNat]
def k0_mult348 (v7925 : BitVec 32) : BitVec 32 :=
  let c3_i32_3805 : BitVec 32 := 3#32
  let v7926 : BitVec 32 := Scalar.shrsi v7925 c3_i32_3805
  let c3_i32_3806 : BitVec 32 := 3#32
  let v7927 : BitVec 32 := Scalar.shli v7926 c3_i32_3806
  v7927

def k0_off655 (v7925 : BitVec 32) : Fin 2 → Nat :=
  let c3_i32_3805 : BitVec 32 := 3#32
  let v7926 : BitVec 32 := Scalar.shrsi v7925 c3_i32_3805
  let c3_i32_3806 : BitVec 32 := 3#32
  let v7927 : BitVec 32 := Scalar.shli v7926 c3_i32_3806
  let v7928 : BitVec 32 := v7927
  let v7930 : Index := Scalar.indexCast v7928
  let c0_3807 : Index := 0#32
  ![Nat.mul 2 v7930.toNat, 0]

def k0_chk346 (v7925 : BitVec 32) : Prop :=
  (8 ∣ (k0_mult348 v7925).toNat) ∧
  (∀ a, (k0_off655 v7925) a + S16x128.size a ≤ S20016x128.size a)
theorem k0_mult348_dvd : ∀ (v7925 : BitVec 32) (k0_hw346 : k0_chk346 v7925), 8 ∣ (k0_mult348 v7925).toNat := fun v7925 k0_hw346 => k0_hw346.1
theorem k0_off655_inb : ∀ (v7925 : BitVec 32) (k0_hw346 : k0_chk346 v7925), ∀ a, (k0_off655 v7925) a + S16x128.size a ≤ S20016x128.size a := fun v7925 k0_hw346 => k0_hw346.2

def k0_off656 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c89_i32_3810 : BitVec 32 := 89#32
  let v7936 : BitVec 32 := Scalar.addi v6320 c89_i32_3810
  let v7937 : Index := Scalar.indexCast v7936
  let c0_3811 : Index := 0#32
  ![v7937.toNat, 0]
def k0_off657 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c90_i32 : BitVec 32 := 90#32
  let v7941 : BitVec 32 := Scalar.addi v6320 c90_i32
  let v7942 : Index := Scalar.indexCast v7941
  ![v7942.toNat]
def k0_mult349 (v7943 : BitVec 32) : BitVec 32 :=
  let c3_i32_3812 : BitVec 32 := 3#32
  let v7944 : BitVec 32 := Scalar.shrsi v7943 c3_i32_3812
  let c3_i32_3813 : BitVec 32 := 3#32
  let v7945 : BitVec 32 := Scalar.shli v7944 c3_i32_3813
  v7945

def k0_off658 (v7943 : BitVec 32) : Fin 2 → Nat :=
  let c3_i32_3812 : BitVec 32 := 3#32
  let v7944 : BitVec 32 := Scalar.shrsi v7943 c3_i32_3812
  let c3_i32_3813 : BitVec 32 := 3#32
  let v7945 : BitVec 32 := Scalar.shli v7944 c3_i32_3813
  let v7946 : BitVec 32 := v7945
  let v7948 : Index := Scalar.indexCast v7946
  let c0_3814 : Index := 0#32
  ![Nat.mul 2 v7948.toNat, 0]

def k0_chk347 (v7943 : BitVec 32) : Prop :=
  (8 ∣ (k0_mult349 v7943).toNat) ∧
  (∀ a, (k0_off658 v7943) a + S16x128.size a ≤ S20016x128.size a)
theorem k0_mult349_dvd : ∀ (v7943 : BitVec 32) (k0_hw347 : k0_chk347 v7943), 8 ∣ (k0_mult349 v7943).toNat := fun v7943 k0_hw347 => k0_hw347.1
theorem k0_off658_inb : ∀ (v7943 : BitVec 32) (k0_hw347 : k0_chk347 v7943), ∀ a, (k0_off658 v7943) a + S16x128.size a ≤ S20016x128.size a := fun v7943 k0_hw347 => k0_hw347.2

def k0_off659 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c90_i32_3817 : BitVec 32 := 90#32
  let v7954 : BitVec 32 := Scalar.addi v6320 c90_i32_3817
  let v7955 : Index := Scalar.indexCast v7954
  let c0_3818 : Index := 0#32
  ![v7955.toNat, 0]
def k0_off660 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c91_i32 : BitVec 32 := 91#32
  let v7959 : BitVec 32 := Scalar.addi v6320 c91_i32
  let v7960 : Index := Scalar.indexCast v7959
  ![v7960.toNat]
def k0_mult350 (v7961 : BitVec 32) : BitVec 32 :=
  let c3_i32_3819 : BitVec 32 := 3#32
  let v7962 : BitVec 32 := Scalar.shrsi v7961 c3_i32_3819
  let c3_i32_3820 : BitVec 32 := 3#32
  let v7963 : BitVec 32 := Scalar.shli v7962 c3_i32_3820
  v7963

def k0_off661 (v7961 : BitVec 32) : Fin 2 → Nat :=
  let c3_i32_3819 : BitVec 32 := 3#32
  let v7962 : BitVec 32 := Scalar.shrsi v7961 c3_i32_3819
  let c3_i32_3820 : BitVec 32 := 3#32
  let v7963 : BitVec 32 := Scalar.shli v7962 c3_i32_3820
  let v7964 : BitVec 32 := v7963
  let v7966 : Index := Scalar.indexCast v7964
  let c0_3821 : Index := 0#32
  ![Nat.mul 2 v7966.toNat, 0]

def k0_chk348 (v7961 : BitVec 32) : Prop :=
  (8 ∣ (k0_mult350 v7961).toNat) ∧
  (∀ a, (k0_off661 v7961) a + S16x128.size a ≤ S20016x128.size a)
theorem k0_mult350_dvd : ∀ (v7961 : BitVec 32) (k0_hw348 : k0_chk348 v7961), 8 ∣ (k0_mult350 v7961).toNat := fun v7961 k0_hw348 => k0_hw348.1
theorem k0_off661_inb : ∀ (v7961 : BitVec 32) (k0_hw348 : k0_chk348 v7961), ∀ a, (k0_off661 v7961) a + S16x128.size a ≤ S20016x128.size a := fun v7961 k0_hw348 => k0_hw348.2

def k0_off662 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c91_i32_3824 : BitVec 32 := 91#32
  let v7972 : BitVec 32 := Scalar.addi v6320 c91_i32_3824
  let v7973 : Index := Scalar.indexCast v7972
  let c0_3825 : Index := 0#32
  ![v7973.toNat, 0]
def k0_off663 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c92_i32 : BitVec 32 := 92#32
  let v7977 : BitVec 32 := Scalar.addi v6320 c92_i32
  let v7978 : Index := Scalar.indexCast v7977
  ![v7978.toNat]
def k0_mult351 (v7979 : BitVec 32) : BitVec 32 :=
  let c3_i32_3826 : BitVec 32 := 3#32
  let v7980 : BitVec 32 := Scalar.shrsi v7979 c3_i32_3826
  let c3_i32_3827 : BitVec 32 := 3#32
  let v7981 : BitVec 32 := Scalar.shli v7980 c3_i32_3827
  v7981

def k0_off664 (v7979 : BitVec 32) : Fin 2 → Nat :=
  let c3_i32_3826 : BitVec 32 := 3#32
  let v7980 : BitVec 32 := Scalar.shrsi v7979 c3_i32_3826
  let c3_i32_3827 : BitVec 32 := 3#32
  let v7981 : BitVec 32 := Scalar.shli v7980 c3_i32_3827
  let v7982 : BitVec 32 := v7981
  let v7984 : Index := Scalar.indexCast v7982
  let c0_3828 : Index := 0#32
  ![Nat.mul 2 v7984.toNat, 0]

def k0_chk349 (v7979 : BitVec 32) : Prop :=
  (8 ∣ (k0_mult351 v7979).toNat) ∧
  (∀ a, (k0_off664 v7979) a + S16x128.size a ≤ S20016x128.size a)
theorem k0_mult351_dvd : ∀ (v7979 : BitVec 32) (k0_hw349 : k0_chk349 v7979), 8 ∣ (k0_mult351 v7979).toNat := fun v7979 k0_hw349 => k0_hw349.1
theorem k0_off664_inb : ∀ (v7979 : BitVec 32) (k0_hw349 : k0_chk349 v7979), ∀ a, (k0_off664 v7979) a + S16x128.size a ≤ S20016x128.size a := fun v7979 k0_hw349 => k0_hw349.2

def k0_off665 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c92_i32_3831 : BitVec 32 := 92#32
  let v7990 : BitVec 32 := Scalar.addi v6320 c92_i32_3831
  let v7991 : Index := Scalar.indexCast v7990
  let c0_3832 : Index := 0#32
  ![v7991.toNat, 0]
def k0_off666 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c93_i32 : BitVec 32 := 93#32
  let v7995 : BitVec 32 := Scalar.addi v6320 c93_i32
  let v7996 : Index := Scalar.indexCast v7995
  ![v7996.toNat]
def k0_mult352 (v7997 : BitVec 32) : BitVec 32 :=
  let c3_i32_3833 : BitVec 32 := 3#32
  let v7998 : BitVec 32 := Scalar.shrsi v7997 c3_i32_3833
  let c3_i32_3834 : BitVec 32 := 3#32
  let v7999 : BitVec 32 := Scalar.shli v7998 c3_i32_3834
  v7999

def k0_off667 (v7997 : BitVec 32) : Fin 2 → Nat :=
  let c3_i32_3833 : BitVec 32 := 3#32
  let v7998 : BitVec 32 := Scalar.shrsi v7997 c3_i32_3833
  let c3_i32_3834 : BitVec 32 := 3#32
  let v7999 : BitVec 32 := Scalar.shli v7998 c3_i32_3834
  let v8000 : BitVec 32 := v7999
  let v8002 : Index := Scalar.indexCast v8000
  let c0_3835 : Index := 0#32
  ![Nat.mul 2 v8002.toNat, 0]

def k0_chk350 (v7997 : BitVec 32) : Prop :=
  (8 ∣ (k0_mult352 v7997).toNat) ∧
  (∀ a, (k0_off667 v7997) a + S16x128.size a ≤ S20016x128.size a)
theorem k0_mult352_dvd : ∀ (v7997 : BitVec 32) (k0_hw350 : k0_chk350 v7997), 8 ∣ (k0_mult352 v7997).toNat := fun v7997 k0_hw350 => k0_hw350.1
theorem k0_off667_inb : ∀ (v7997 : BitVec 32) (k0_hw350 : k0_chk350 v7997), ∀ a, (k0_off667 v7997) a + S16x128.size a ≤ S20016x128.size a := fun v7997 k0_hw350 => k0_hw350.2

def k0_off668 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c93_i32_3838 : BitVec 32 := 93#32
  let v8008 : BitVec 32 := Scalar.addi v6320 c93_i32_3838
  let v8009 : Index := Scalar.indexCast v8008
  let c0_3839 : Index := 0#32
  ![v8009.toNat, 0]
def k0_off669 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c94_i32 : BitVec 32 := 94#32
  let v8013 : BitVec 32 := Scalar.addi v6320 c94_i32
  let v8014 : Index := Scalar.indexCast v8013
  ![v8014.toNat]
def k0_mult353 (v8015 : BitVec 32) : BitVec 32 :=
  let c3_i32_3840 : BitVec 32 := 3#32
  let v8016 : BitVec 32 := Scalar.shrsi v8015 c3_i32_3840
  let c3_i32_3841 : BitVec 32 := 3#32
  let v8017 : BitVec 32 := Scalar.shli v8016 c3_i32_3841
  v8017

def k0_off670 (v8015 : BitVec 32) : Fin 2 → Nat :=
  let c3_i32_3840 : BitVec 32 := 3#32
  let v8016 : BitVec 32 := Scalar.shrsi v8015 c3_i32_3840
  let c3_i32_3841 : BitVec 32 := 3#32
  let v8017 : BitVec 32 := Scalar.shli v8016 c3_i32_3841
  let v8018 : BitVec 32 := v8017
  let v8020 : Index := Scalar.indexCast v8018
  let c0_3842 : Index := 0#32
  ![Nat.mul 2 v8020.toNat, 0]

def k0_chk351 (v8015 : BitVec 32) : Prop :=
  (8 ∣ (k0_mult353 v8015).toNat) ∧
  (∀ a, (k0_off670 v8015) a + S16x128.size a ≤ S20016x128.size a)
theorem k0_mult353_dvd : ∀ (v8015 : BitVec 32) (k0_hw351 : k0_chk351 v8015), 8 ∣ (k0_mult353 v8015).toNat := fun v8015 k0_hw351 => k0_hw351.1
theorem k0_off670_inb : ∀ (v8015 : BitVec 32) (k0_hw351 : k0_chk351 v8015), ∀ a, (k0_off670 v8015) a + S16x128.size a ≤ S20016x128.size a := fun v8015 k0_hw351 => k0_hw351.2

def k0_off671 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c94_i32_3845 : BitVec 32 := 94#32
  let v8026 : BitVec 32 := Scalar.addi v6320 c94_i32_3845
  let v8027 : Index := Scalar.indexCast v8026
  let c0_3846 : Index := 0#32
  ![v8027.toNat, 0]
def k0_off672 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c95_i32 : BitVec 32 := 95#32
  let v8031 : BitVec 32 := Scalar.addi v6320 c95_i32
  let v8032 : Index := Scalar.indexCast v8031
  ![v8032.toNat]
def k0_mult354 (v8033 : BitVec 32) : BitVec 32 :=
  let c3_i32_3847 : BitVec 32 := 3#32
  let v8034 : BitVec 32 := Scalar.shrsi v8033 c3_i32_3847
  let c3_i32_3848 : BitVec 32 := 3#32
  let v8035 : BitVec 32 := Scalar.shli v8034 c3_i32_3848
  v8035

def k0_off673 (v8033 : BitVec 32) : Fin 2 → Nat :=
  let c3_i32_3847 : BitVec 32 := 3#32
  let v8034 : BitVec 32 := Scalar.shrsi v8033 c3_i32_3847
  let c3_i32_3848 : BitVec 32 := 3#32
  let v8035 : BitVec 32 := Scalar.shli v8034 c3_i32_3848
  let v8036 : BitVec 32 := v8035
  let v8038 : Index := Scalar.indexCast v8036
  let c0_3849 : Index := 0#32
  ![Nat.mul 2 v8038.toNat, 0]

def k0_chk352 (v8033 : BitVec 32) : Prop :=
  (8 ∣ (k0_mult354 v8033).toNat) ∧
  (∀ a, (k0_off673 v8033) a + S16x128.size a ≤ S20016x128.size a)
theorem k0_mult354_dvd : ∀ (v8033 : BitVec 32) (k0_hw352 : k0_chk352 v8033), 8 ∣ (k0_mult354 v8033).toNat := fun v8033 k0_hw352 => k0_hw352.1
theorem k0_off673_inb : ∀ (v8033 : BitVec 32) (k0_hw352 : k0_chk352 v8033), ∀ a, (k0_off673 v8033) a + S16x128.size a ≤ S20016x128.size a := fun v8033 k0_hw352 => k0_hw352.2

def k0_off674 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c95_i32_3852 : BitVec 32 := 95#32
  let v8044 : BitVec 32 := Scalar.addi v6320 c95_i32_3852
  let v8045 : Index := Scalar.indexCast v8044
  let c0_3853 : Index := 0#32
  ![v8045.toNat, 0]
def k0_off675 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c96_i32 : BitVec 32 := 96#32
  let v8049 : BitVec 32 := Scalar.addi v6320 c96_i32
  let v8050 : Index := Scalar.indexCast v8049
  ![v8050.toNat]
def k0_mult355 (v8051 : BitVec 32) : BitVec 32 :=
  let c3_i32_3854 : BitVec 32 := 3#32
  let v8052 : BitVec 32 := Scalar.shrsi v8051 c3_i32_3854
  let c3_i32_3855 : BitVec 32 := 3#32
  let v8053 : BitVec 32 := Scalar.shli v8052 c3_i32_3855
  v8053

def k0_off676 (v8051 : BitVec 32) : Fin 2 → Nat :=
  let c3_i32_3854 : BitVec 32 := 3#32
  let v8052 : BitVec 32 := Scalar.shrsi v8051 c3_i32_3854
  let c3_i32_3855 : BitVec 32 := 3#32
  let v8053 : BitVec 32 := Scalar.shli v8052 c3_i32_3855
  let v8054 : BitVec 32 := v8053
  let v8056 : Index := Scalar.indexCast v8054
  let c0_3856 : Index := 0#32
  ![Nat.mul 2 v8056.toNat, 0]

def k0_chk353 (v8051 : BitVec 32) : Prop :=
  (8 ∣ (k0_mult355 v8051).toNat) ∧
  (∀ a, (k0_off676 v8051) a + S16x128.size a ≤ S20016x128.size a)
theorem k0_mult355_dvd : ∀ (v8051 : BitVec 32) (k0_hw353 : k0_chk353 v8051), 8 ∣ (k0_mult355 v8051).toNat := fun v8051 k0_hw353 => k0_hw353.1
theorem k0_off676_inb : ∀ (v8051 : BitVec 32) (k0_hw353 : k0_chk353 v8051), ∀ a, (k0_off676 v8051) a + S16x128.size a ≤ S20016x128.size a := fun v8051 k0_hw353 => k0_hw353.2

def k0_off677 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c96_i32_3859 : BitVec 32 := 96#32
  let v8062 : BitVec 32 := Scalar.addi v6320 c96_i32_3859
  let v8063 : Index := Scalar.indexCast v8062
  let c0_3860 : Index := 0#32
  ![v8063.toNat, 0]
def k0_off678 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c97_i32 : BitVec 32 := 97#32
  let v8067 : BitVec 32 := Scalar.addi v6320 c97_i32
  let v8068 : Index := Scalar.indexCast v8067
  ![v8068.toNat]
def k0_mult356 (v8069 : BitVec 32) : BitVec 32 :=
  let c3_i32_3861 : BitVec 32 := 3#32
  let v8070 : BitVec 32 := Scalar.shrsi v8069 c3_i32_3861
  let c3_i32_3862 : BitVec 32 := 3#32
  let v8071 : BitVec 32 := Scalar.shli v8070 c3_i32_3862
  v8071

def k0_off679 (v8069 : BitVec 32) : Fin 2 → Nat :=
  let c3_i32_3861 : BitVec 32 := 3#32
  let v8070 : BitVec 32 := Scalar.shrsi v8069 c3_i32_3861
  let c3_i32_3862 : BitVec 32 := 3#32
  let v8071 : BitVec 32 := Scalar.shli v8070 c3_i32_3862
  let v8072 : BitVec 32 := v8071
  let v8074 : Index := Scalar.indexCast v8072
  let c0_3863 : Index := 0#32
  ![Nat.mul 2 v8074.toNat, 0]

def k0_chk354 (v8069 : BitVec 32) : Prop :=
  (8 ∣ (k0_mult356 v8069).toNat) ∧
  (∀ a, (k0_off679 v8069) a + S16x128.size a ≤ S20016x128.size a)
theorem k0_mult356_dvd : ∀ (v8069 : BitVec 32) (k0_hw354 : k0_chk354 v8069), 8 ∣ (k0_mult356 v8069).toNat := fun v8069 k0_hw354 => k0_hw354.1
theorem k0_off679_inb : ∀ (v8069 : BitVec 32) (k0_hw354 : k0_chk354 v8069), ∀ a, (k0_off679 v8069) a + S16x128.size a ≤ S20016x128.size a := fun v8069 k0_hw354 => k0_hw354.2

def k0_off680 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c97_i32_3866 : BitVec 32 := 97#32
  let v8080 : BitVec 32 := Scalar.addi v6320 c97_i32_3866
  let v8081 : Index := Scalar.indexCast v8080
  let c0_3867 : Index := 0#32
  ![v8081.toNat, 0]
def k0_off681 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c98_i32 : BitVec 32 := 98#32
  let v8085 : BitVec 32 := Scalar.addi v6320 c98_i32
  let v8086 : Index := Scalar.indexCast v8085
  ![v8086.toNat]
def k0_mult357 (v8087 : BitVec 32) : BitVec 32 :=
  let c3_i32_3868 : BitVec 32 := 3#32
  let v8088 : BitVec 32 := Scalar.shrsi v8087 c3_i32_3868
  let c3_i32_3869 : BitVec 32 := 3#32
  let v8089 : BitVec 32 := Scalar.shli v8088 c3_i32_3869
  v8089

def k0_off682 (v8087 : BitVec 32) : Fin 2 → Nat :=
  let c3_i32_3868 : BitVec 32 := 3#32
  let v8088 : BitVec 32 := Scalar.shrsi v8087 c3_i32_3868
  let c3_i32_3869 : BitVec 32 := 3#32
  let v8089 : BitVec 32 := Scalar.shli v8088 c3_i32_3869
  let v8090 : BitVec 32 := v8089
  let v8092 : Index := Scalar.indexCast v8090
  let c0_3870 : Index := 0#32
  ![Nat.mul 2 v8092.toNat, 0]

def k0_chk355 (v8087 : BitVec 32) : Prop :=
  (8 ∣ (k0_mult357 v8087).toNat) ∧
  (∀ a, (k0_off682 v8087) a + S16x128.size a ≤ S20016x128.size a)
theorem k0_mult357_dvd : ∀ (v8087 : BitVec 32) (k0_hw355 : k0_chk355 v8087), 8 ∣ (k0_mult357 v8087).toNat := fun v8087 k0_hw355 => k0_hw355.1
theorem k0_off682_inb : ∀ (v8087 : BitVec 32) (k0_hw355 : k0_chk355 v8087), ∀ a, (k0_off682 v8087) a + S16x128.size a ≤ S20016x128.size a := fun v8087 k0_hw355 => k0_hw355.2

def k0_off683 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c98_i32_3873 : BitVec 32 := 98#32
  let v8098 : BitVec 32 := Scalar.addi v6320 c98_i32_3873
  let v8099 : Index := Scalar.indexCast v8098
  let c0_3874 : Index := 0#32
  ![v8099.toNat, 0]
def k0_off684 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c99_i32 : BitVec 32 := 99#32
  let v8103 : BitVec 32 := Scalar.addi v6320 c99_i32
  let v8104 : Index := Scalar.indexCast v8103
  ![v8104.toNat]
def k0_mult358 (v8105 : BitVec 32) : BitVec 32 :=
  let c3_i32_3875 : BitVec 32 := 3#32
  let v8106 : BitVec 32 := Scalar.shrsi v8105 c3_i32_3875
  let c3_i32_3876 : BitVec 32 := 3#32
  let v8107 : BitVec 32 := Scalar.shli v8106 c3_i32_3876
  v8107

def k0_off685 (v8105 : BitVec 32) : Fin 2 → Nat :=
  let c3_i32_3875 : BitVec 32 := 3#32
  let v8106 : BitVec 32 := Scalar.shrsi v8105 c3_i32_3875
  let c3_i32_3876 : BitVec 32 := 3#32
  let v8107 : BitVec 32 := Scalar.shli v8106 c3_i32_3876
  let v8108 : BitVec 32 := v8107
  let v8110 : Index := Scalar.indexCast v8108
  let c0_3877 : Index := 0#32
  ![Nat.mul 2 v8110.toNat, 0]

def k0_chk356 (v8105 : BitVec 32) : Prop :=
  (8 ∣ (k0_mult358 v8105).toNat) ∧
  (∀ a, (k0_off685 v8105) a + S16x128.size a ≤ S20016x128.size a)
theorem k0_mult358_dvd : ∀ (v8105 : BitVec 32) (k0_hw356 : k0_chk356 v8105), 8 ∣ (k0_mult358 v8105).toNat := fun v8105 k0_hw356 => k0_hw356.1
theorem k0_off685_inb : ∀ (v8105 : BitVec 32) (k0_hw356 : k0_chk356 v8105), ∀ a, (k0_off685 v8105) a + S16x128.size a ≤ S20016x128.size a := fun v8105 k0_hw356 => k0_hw356.2

def k0_off686 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c99_i32_3880 : BitVec 32 := 99#32
  let v8116 : BitVec 32 := Scalar.addi v6320 c99_i32_3880
  let v8117 : Index := Scalar.indexCast v8116
  let c0_3881 : Index := 0#32
  ![v8117.toNat, 0]
def k0_off687 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c100_i32_3882 : BitVec 32 := 100#32
  let v8121 : BitVec 32 := Scalar.addi v6320 c100_i32_3882
  let v8122 : Index := Scalar.indexCast v8121
  ![v8122.toNat]
def k0_mult359 (v8123 : BitVec 32) : BitVec 32 :=
  let c3_i32_3883 : BitVec 32 := 3#32
  let v8124 : BitVec 32 := Scalar.shrsi v8123 c3_i32_3883
  let c3_i32_3884 : BitVec 32 := 3#32
  let v8125 : BitVec 32 := Scalar.shli v8124 c3_i32_3884
  v8125

def k0_off688 (v8123 : BitVec 32) : Fin 2 → Nat :=
  let c3_i32_3883 : BitVec 32 := 3#32
  let v8124 : BitVec 32 := Scalar.shrsi v8123 c3_i32_3883
  let c3_i32_3884 : BitVec 32 := 3#32
  let v8125 : BitVec 32 := Scalar.shli v8124 c3_i32_3884
  let v8126 : BitVec 32 := v8125
  let v8128 : Index := Scalar.indexCast v8126
  let c0_3885 : Index := 0#32
  ![Nat.mul 2 v8128.toNat, 0]

def k0_chk357 (v8123 : BitVec 32) : Prop :=
  (8 ∣ (k0_mult359 v8123).toNat) ∧
  (∀ a, (k0_off688 v8123) a + S16x128.size a ≤ S20016x128.size a)
theorem k0_mult359_dvd : ∀ (v8123 : BitVec 32) (k0_hw357 : k0_chk357 v8123), 8 ∣ (k0_mult359 v8123).toNat := fun v8123 k0_hw357 => k0_hw357.1
theorem k0_off688_inb : ∀ (v8123 : BitVec 32) (k0_hw357 : k0_chk357 v8123), ∀ a, (k0_off688 v8123) a + S16x128.size a ≤ S20016x128.size a := fun v8123 k0_hw357 => k0_hw357.2

def k0_off689 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c100_i32_3888 : BitVec 32 := 100#32
  let v8134 : BitVec 32 := Scalar.addi v6320 c100_i32_3888
  let v8135 : Index := Scalar.indexCast v8134
  let c0_3889 : Index := 0#32
  ![v8135.toNat, 0]
def k0_off690 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c101_i32 : BitVec 32 := 101#32
  let v8139 : BitVec 32 := Scalar.addi v6320 c101_i32
  let v8140 : Index := Scalar.indexCast v8139
  ![v8140.toNat]
def k0_mult360 (v8141 : BitVec 32) : BitVec 32 :=
  let c3_i32_3890 : BitVec 32 := 3#32
  let v8142 : BitVec 32 := Scalar.shrsi v8141 c3_i32_3890
  let c3_i32_3891 : BitVec 32 := 3#32
  let v8143 : BitVec 32 := Scalar.shli v8142 c3_i32_3891
  v8143

def k0_off691 (v8141 : BitVec 32) : Fin 2 → Nat :=
  let c3_i32_3890 : BitVec 32 := 3#32
  let v8142 : BitVec 32 := Scalar.shrsi v8141 c3_i32_3890
  let c3_i32_3891 : BitVec 32 := 3#32
  let v8143 : BitVec 32 := Scalar.shli v8142 c3_i32_3891
  let v8144 : BitVec 32 := v8143
  let v8146 : Index := Scalar.indexCast v8144
  let c0_3892 : Index := 0#32
  ![Nat.mul 2 v8146.toNat, 0]

def k0_chk358 (v8141 : BitVec 32) : Prop :=
  (8 ∣ (k0_mult360 v8141).toNat) ∧
  (∀ a, (k0_off691 v8141) a + S16x128.size a ≤ S20016x128.size a)
theorem k0_mult360_dvd : ∀ (v8141 : BitVec 32) (k0_hw358 : k0_chk358 v8141), 8 ∣ (k0_mult360 v8141).toNat := fun v8141 k0_hw358 => k0_hw358.1
theorem k0_off691_inb : ∀ (v8141 : BitVec 32) (k0_hw358 : k0_chk358 v8141), ∀ a, (k0_off691 v8141) a + S16x128.size a ≤ S20016x128.size a := fun v8141 k0_hw358 => k0_hw358.2

def k0_off692 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c101_i32_3895 : BitVec 32 := 101#32
  let v8152 : BitVec 32 := Scalar.addi v6320 c101_i32_3895
  let v8153 : Index := Scalar.indexCast v8152
  let c0_3896 : Index := 0#32
  ![v8153.toNat, 0]
def k0_off693 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c102_i32 : BitVec 32 := 102#32
  let v8157 : BitVec 32 := Scalar.addi v6320 c102_i32
  let v8158 : Index := Scalar.indexCast v8157
  ![v8158.toNat]
def k0_mult361 (v8159 : BitVec 32) : BitVec 32 :=
  let c3_i32_3897 : BitVec 32 := 3#32
  let v8160 : BitVec 32 := Scalar.shrsi v8159 c3_i32_3897
  let c3_i32_3898 : BitVec 32 := 3#32
  let v8161 : BitVec 32 := Scalar.shli v8160 c3_i32_3898
  v8161

def k0_off694 (v8159 : BitVec 32) : Fin 2 → Nat :=
  let c3_i32_3897 : BitVec 32 := 3#32
  let v8160 : BitVec 32 := Scalar.shrsi v8159 c3_i32_3897
  let c3_i32_3898 : BitVec 32 := 3#32
  let v8161 : BitVec 32 := Scalar.shli v8160 c3_i32_3898
  let v8162 : BitVec 32 := v8161
  let v8164 : Index := Scalar.indexCast v8162
  let c0_3899 : Index := 0#32
  ![Nat.mul 2 v8164.toNat, 0]

def k0_chk359 (v8159 : BitVec 32) : Prop :=
  (8 ∣ (k0_mult361 v8159).toNat) ∧
  (∀ a, (k0_off694 v8159) a + S16x128.size a ≤ S20016x128.size a)
theorem k0_mult361_dvd : ∀ (v8159 : BitVec 32) (k0_hw359 : k0_chk359 v8159), 8 ∣ (k0_mult361 v8159).toNat := fun v8159 k0_hw359 => k0_hw359.1
theorem k0_off694_inb : ∀ (v8159 : BitVec 32) (k0_hw359 : k0_chk359 v8159), ∀ a, (k0_off694 v8159) a + S16x128.size a ≤ S20016x128.size a := fun v8159 k0_hw359 => k0_hw359.2

def k0_off695 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c102_i32_3902 : BitVec 32 := 102#32
  let v8170 : BitVec 32 := Scalar.addi v6320 c102_i32_3902
  let v8171 : Index := Scalar.indexCast v8170
  let c0_3903 : Index := 0#32
  ![v8171.toNat, 0]
def k0_off696 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c103_i32 : BitVec 32 := 103#32
  let v8175 : BitVec 32 := Scalar.addi v6320 c103_i32
  let v8176 : Index := Scalar.indexCast v8175
  ![v8176.toNat]
def k0_mult362 (v8177 : BitVec 32) : BitVec 32 :=
  let c3_i32_3904 : BitVec 32 := 3#32
  let v8178 : BitVec 32 := Scalar.shrsi v8177 c3_i32_3904
  let c3_i32_3905 : BitVec 32 := 3#32
  let v8179 : BitVec 32 := Scalar.shli v8178 c3_i32_3905
  v8179

def k0_off697 (v8177 : BitVec 32) : Fin 2 → Nat :=
  let c3_i32_3904 : BitVec 32 := 3#32
  let v8178 : BitVec 32 := Scalar.shrsi v8177 c3_i32_3904
  let c3_i32_3905 : BitVec 32 := 3#32
  let v8179 : BitVec 32 := Scalar.shli v8178 c3_i32_3905
  let v8180 : BitVec 32 := v8179
  let v8182 : Index := Scalar.indexCast v8180
  let c0_3906 : Index := 0#32
  ![Nat.mul 2 v8182.toNat, 0]

def k0_chk360 (v8177 : BitVec 32) : Prop :=
  (8 ∣ (k0_mult362 v8177).toNat) ∧
  (∀ a, (k0_off697 v8177) a + S16x128.size a ≤ S20016x128.size a)
theorem k0_mult362_dvd : ∀ (v8177 : BitVec 32) (k0_hw360 : k0_chk360 v8177), 8 ∣ (k0_mult362 v8177).toNat := fun v8177 k0_hw360 => k0_hw360.1
theorem k0_off697_inb : ∀ (v8177 : BitVec 32) (k0_hw360 : k0_chk360 v8177), ∀ a, (k0_off697 v8177) a + S16x128.size a ≤ S20016x128.size a := fun v8177 k0_hw360 => k0_hw360.2

def k0_off698 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c103_i32_3909 : BitVec 32 := 103#32
  let v8188 : BitVec 32 := Scalar.addi v6320 c103_i32_3909
  let v8189 : Index := Scalar.indexCast v8188
  let c0_3910 : Index := 0#32
  ![v8189.toNat, 0]
def k0_off699 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c104_i32 : BitVec 32 := 104#32
  let v8193 : BitVec 32 := Scalar.addi v6320 c104_i32
  let v8194 : Index := Scalar.indexCast v8193
  ![v8194.toNat]
def k0_mult363 (v8195 : BitVec 32) : BitVec 32 :=
  let c3_i32_3911 : BitVec 32 := 3#32
  let v8196 : BitVec 32 := Scalar.shrsi v8195 c3_i32_3911
  let c3_i32_3912 : BitVec 32 := 3#32
  let v8197 : BitVec 32 := Scalar.shli v8196 c3_i32_3912
  v8197

def k0_off700 (v8195 : BitVec 32) : Fin 2 → Nat :=
  let c3_i32_3911 : BitVec 32 := 3#32
  let v8196 : BitVec 32 := Scalar.shrsi v8195 c3_i32_3911
  let c3_i32_3912 : BitVec 32 := 3#32
  let v8197 : BitVec 32 := Scalar.shli v8196 c3_i32_3912
  let v8198 : BitVec 32 := v8197
  let v8200 : Index := Scalar.indexCast v8198
  let c0_3913 : Index := 0#32
  ![Nat.mul 2 v8200.toNat, 0]

def k0_chk361 (v8195 : BitVec 32) : Prop :=
  (8 ∣ (k0_mult363 v8195).toNat) ∧
  (∀ a, (k0_off700 v8195) a + S16x128.size a ≤ S20016x128.size a)
theorem k0_mult363_dvd : ∀ (v8195 : BitVec 32) (k0_hw361 : k0_chk361 v8195), 8 ∣ (k0_mult363 v8195).toNat := fun v8195 k0_hw361 => k0_hw361.1
theorem k0_off700_inb : ∀ (v8195 : BitVec 32) (k0_hw361 : k0_chk361 v8195), ∀ a, (k0_off700 v8195) a + S16x128.size a ≤ S20016x128.size a := fun v8195 k0_hw361 => k0_hw361.2

def k0_off701 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c104_i32_3916 : BitVec 32 := 104#32
  let v8206 : BitVec 32 := Scalar.addi v6320 c104_i32_3916
  let v8207 : Index := Scalar.indexCast v8206
  let c0_3917 : Index := 0#32
  ![v8207.toNat, 0]
def k0_off702 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c105_i32 : BitVec 32 := 105#32
  let v8211 : BitVec 32 := Scalar.addi v6320 c105_i32
  let v8212 : Index := Scalar.indexCast v8211
  ![v8212.toNat]
def k0_mult364 (v8213 : BitVec 32) : BitVec 32 :=
  let c3_i32_3918 : BitVec 32 := 3#32
  let v8214 : BitVec 32 := Scalar.shrsi v8213 c3_i32_3918
  let c3_i32_3919 : BitVec 32 := 3#32
  let v8215 : BitVec 32 := Scalar.shli v8214 c3_i32_3919
  v8215

def k0_off703 (v8213 : BitVec 32) : Fin 2 → Nat :=
  let c3_i32_3918 : BitVec 32 := 3#32
  let v8214 : BitVec 32 := Scalar.shrsi v8213 c3_i32_3918
  let c3_i32_3919 : BitVec 32 := 3#32
  let v8215 : BitVec 32 := Scalar.shli v8214 c3_i32_3919
  let v8216 : BitVec 32 := v8215
  let v8218 : Index := Scalar.indexCast v8216
  let c0_3920 : Index := 0#32
  ![Nat.mul 2 v8218.toNat, 0]

def k0_chk362 (v8213 : BitVec 32) : Prop :=
  (8 ∣ (k0_mult364 v8213).toNat) ∧
  (∀ a, (k0_off703 v8213) a + S16x128.size a ≤ S20016x128.size a)
theorem k0_mult364_dvd : ∀ (v8213 : BitVec 32) (k0_hw362 : k0_chk362 v8213), 8 ∣ (k0_mult364 v8213).toNat := fun v8213 k0_hw362 => k0_hw362.1
theorem k0_off703_inb : ∀ (v8213 : BitVec 32) (k0_hw362 : k0_chk362 v8213), ∀ a, (k0_off703 v8213) a + S16x128.size a ≤ S20016x128.size a := fun v8213 k0_hw362 => k0_hw362.2

def k0_off704 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c105_i32_3923 : BitVec 32 := 105#32
  let v8224 : BitVec 32 := Scalar.addi v6320 c105_i32_3923
  let v8225 : Index := Scalar.indexCast v8224
  let c0_3924 : Index := 0#32
  ![v8225.toNat, 0]
def k0_off705 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c106_i32 : BitVec 32 := 106#32
  let v8229 : BitVec 32 := Scalar.addi v6320 c106_i32
  let v8230 : Index := Scalar.indexCast v8229
  ![v8230.toNat]
def k0_mult365 (v8231 : BitVec 32) : BitVec 32 :=
  let c3_i32_3925 : BitVec 32 := 3#32
  let v8232 : BitVec 32 := Scalar.shrsi v8231 c3_i32_3925
  let c3_i32_3926 : BitVec 32 := 3#32
  let v8233 : BitVec 32 := Scalar.shli v8232 c3_i32_3926
  v8233

def k0_off706 (v8231 : BitVec 32) : Fin 2 → Nat :=
  let c3_i32_3925 : BitVec 32 := 3#32
  let v8232 : BitVec 32 := Scalar.shrsi v8231 c3_i32_3925
  let c3_i32_3926 : BitVec 32 := 3#32
  let v8233 : BitVec 32 := Scalar.shli v8232 c3_i32_3926
  let v8234 : BitVec 32 := v8233
  let v8236 : Index := Scalar.indexCast v8234
  let c0_3927 : Index := 0#32
  ![Nat.mul 2 v8236.toNat, 0]

def k0_chk363 (v8231 : BitVec 32) : Prop :=
  (8 ∣ (k0_mult365 v8231).toNat) ∧
  (∀ a, (k0_off706 v8231) a + S16x128.size a ≤ S20016x128.size a)
theorem k0_mult365_dvd : ∀ (v8231 : BitVec 32) (k0_hw363 : k0_chk363 v8231), 8 ∣ (k0_mult365 v8231).toNat := fun v8231 k0_hw363 => k0_hw363.1
theorem k0_off706_inb : ∀ (v8231 : BitVec 32) (k0_hw363 : k0_chk363 v8231), ∀ a, (k0_off706 v8231) a + S16x128.size a ≤ S20016x128.size a := fun v8231 k0_hw363 => k0_hw363.2

def k0_off707 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c106_i32_3930 : BitVec 32 := 106#32
  let v8242 : BitVec 32 := Scalar.addi v6320 c106_i32_3930
  let v8243 : Index := Scalar.indexCast v8242
  let c0_3931 : Index := 0#32
  ![v8243.toNat, 0]
def k0_off708 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c107_i32 : BitVec 32 := 107#32
  let v8247 : BitVec 32 := Scalar.addi v6320 c107_i32
  let v8248 : Index := Scalar.indexCast v8247
  ![v8248.toNat]
def k0_mult366 (v8249 : BitVec 32) : BitVec 32 :=
  let c3_i32_3932 : BitVec 32 := 3#32
  let v8250 : BitVec 32 := Scalar.shrsi v8249 c3_i32_3932
  let c3_i32_3933 : BitVec 32 := 3#32
  let v8251 : BitVec 32 := Scalar.shli v8250 c3_i32_3933
  v8251

def k0_off709 (v8249 : BitVec 32) : Fin 2 → Nat :=
  let c3_i32_3932 : BitVec 32 := 3#32
  let v8250 : BitVec 32 := Scalar.shrsi v8249 c3_i32_3932
  let c3_i32_3933 : BitVec 32 := 3#32
  let v8251 : BitVec 32 := Scalar.shli v8250 c3_i32_3933
  let v8252 : BitVec 32 := v8251
  let v8254 : Index := Scalar.indexCast v8252
  let c0_3934 : Index := 0#32
  ![Nat.mul 2 v8254.toNat, 0]

def k0_chk364 (v8249 : BitVec 32) : Prop :=
  (8 ∣ (k0_mult366 v8249).toNat) ∧
  (∀ a, (k0_off709 v8249) a + S16x128.size a ≤ S20016x128.size a)
theorem k0_mult366_dvd : ∀ (v8249 : BitVec 32) (k0_hw364 : k0_chk364 v8249), 8 ∣ (k0_mult366 v8249).toNat := fun v8249 k0_hw364 => k0_hw364.1
theorem k0_off709_inb : ∀ (v8249 : BitVec 32) (k0_hw364 : k0_chk364 v8249), ∀ a, (k0_off709 v8249) a + S16x128.size a ≤ S20016x128.size a := fun v8249 k0_hw364 => k0_hw364.2

def k0_off710 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c107_i32_3937 : BitVec 32 := 107#32
  let v8260 : BitVec 32 := Scalar.addi v6320 c107_i32_3937
  let v8261 : Index := Scalar.indexCast v8260
  let c0_3938 : Index := 0#32
  ![v8261.toNat, 0]
def k0_off711 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c108_i32 : BitVec 32 := 108#32
  let v8265 : BitVec 32 := Scalar.addi v6320 c108_i32
  let v8266 : Index := Scalar.indexCast v8265
  ![v8266.toNat]
def k0_mult367 (v8267 : BitVec 32) : BitVec 32 :=
  let c3_i32_3939 : BitVec 32 := 3#32
  let v8268 : BitVec 32 := Scalar.shrsi v8267 c3_i32_3939
  let c3_i32_3940 : BitVec 32 := 3#32
  let v8269 : BitVec 32 := Scalar.shli v8268 c3_i32_3940
  v8269

def k0_off712 (v8267 : BitVec 32) : Fin 2 → Nat :=
  let c3_i32_3939 : BitVec 32 := 3#32
  let v8268 : BitVec 32 := Scalar.shrsi v8267 c3_i32_3939
  let c3_i32_3940 : BitVec 32 := 3#32
  let v8269 : BitVec 32 := Scalar.shli v8268 c3_i32_3940
  let v8270 : BitVec 32 := v8269
  let v8272 : Index := Scalar.indexCast v8270
  let c0_3941 : Index := 0#32
  ![Nat.mul 2 v8272.toNat, 0]

def k0_chk365 (v8267 : BitVec 32) : Prop :=
  (8 ∣ (k0_mult367 v8267).toNat) ∧
  (∀ a, (k0_off712 v8267) a + S16x128.size a ≤ S20016x128.size a)
theorem k0_mult367_dvd : ∀ (v8267 : BitVec 32) (k0_hw365 : k0_chk365 v8267), 8 ∣ (k0_mult367 v8267).toNat := fun v8267 k0_hw365 => k0_hw365.1
theorem k0_off712_inb : ∀ (v8267 : BitVec 32) (k0_hw365 : k0_chk365 v8267), ∀ a, (k0_off712 v8267) a + S16x128.size a ≤ S20016x128.size a := fun v8267 k0_hw365 => k0_hw365.2

def k0_off713 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c108_i32_3944 : BitVec 32 := 108#32
  let v8278 : BitVec 32 := Scalar.addi v6320 c108_i32_3944
  let v8279 : Index := Scalar.indexCast v8278
  let c0_3945 : Index := 0#32
  ![v8279.toNat, 0]
def k0_off714 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c109_i32 : BitVec 32 := 109#32
  let v8283 : BitVec 32 := Scalar.addi v6320 c109_i32
  let v8284 : Index := Scalar.indexCast v8283
  ![v8284.toNat]
def k0_mult368 (v8285 : BitVec 32) : BitVec 32 :=
  let c3_i32_3946 : BitVec 32 := 3#32
  let v8286 : BitVec 32 := Scalar.shrsi v8285 c3_i32_3946
  let c3_i32_3947 : BitVec 32 := 3#32
  let v8287 : BitVec 32 := Scalar.shli v8286 c3_i32_3947
  v8287

def k0_off715 (v8285 : BitVec 32) : Fin 2 → Nat :=
  let c3_i32_3946 : BitVec 32 := 3#32
  let v8286 : BitVec 32 := Scalar.shrsi v8285 c3_i32_3946
  let c3_i32_3947 : BitVec 32 := 3#32
  let v8287 : BitVec 32 := Scalar.shli v8286 c3_i32_3947
  let v8288 : BitVec 32 := v8287
  let v8290 : Index := Scalar.indexCast v8288
  let c0_3948 : Index := 0#32
  ![Nat.mul 2 v8290.toNat, 0]

def k0_chk366 (v8285 : BitVec 32) : Prop :=
  (8 ∣ (k0_mult368 v8285).toNat) ∧
  (∀ a, (k0_off715 v8285) a + S16x128.size a ≤ S20016x128.size a)
theorem k0_mult368_dvd : ∀ (v8285 : BitVec 32) (k0_hw366 : k0_chk366 v8285), 8 ∣ (k0_mult368 v8285).toNat := fun v8285 k0_hw366 => k0_hw366.1
theorem k0_off715_inb : ∀ (v8285 : BitVec 32) (k0_hw366 : k0_chk366 v8285), ∀ a, (k0_off715 v8285) a + S16x128.size a ≤ S20016x128.size a := fun v8285 k0_hw366 => k0_hw366.2

def k0_off716 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c109_i32_3951 : BitVec 32 := 109#32
  let v8296 : BitVec 32 := Scalar.addi v6320 c109_i32_3951
  let v8297 : Index := Scalar.indexCast v8296
  let c0_3952 : Index := 0#32
  ![v8297.toNat, 0]
def k0_off717 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c110_i32 : BitVec 32 := 110#32
  let v8301 : BitVec 32 := Scalar.addi v6320 c110_i32
  let v8302 : Index := Scalar.indexCast v8301
  ![v8302.toNat]
def k0_mult369 (v8303 : BitVec 32) : BitVec 32 :=
  let c3_i32_3953 : BitVec 32 := 3#32
  let v8304 : BitVec 32 := Scalar.shrsi v8303 c3_i32_3953
  let c3_i32_3954 : BitVec 32 := 3#32
  let v8305 : BitVec 32 := Scalar.shli v8304 c3_i32_3954
  v8305

def k0_off718 (v8303 : BitVec 32) : Fin 2 → Nat :=
  let c3_i32_3953 : BitVec 32 := 3#32
  let v8304 : BitVec 32 := Scalar.shrsi v8303 c3_i32_3953
  let c3_i32_3954 : BitVec 32 := 3#32
  let v8305 : BitVec 32 := Scalar.shli v8304 c3_i32_3954
  let v8306 : BitVec 32 := v8305
  let v8308 : Index := Scalar.indexCast v8306
  let c0_3955 : Index := 0#32
  ![Nat.mul 2 v8308.toNat, 0]

def k0_chk367 (v8303 : BitVec 32) : Prop :=
  (8 ∣ (k0_mult369 v8303).toNat) ∧
  (∀ a, (k0_off718 v8303) a + S16x128.size a ≤ S20016x128.size a)
theorem k0_mult369_dvd : ∀ (v8303 : BitVec 32) (k0_hw367 : k0_chk367 v8303), 8 ∣ (k0_mult369 v8303).toNat := fun v8303 k0_hw367 => k0_hw367.1
theorem k0_off718_inb : ∀ (v8303 : BitVec 32) (k0_hw367 : k0_chk367 v8303), ∀ a, (k0_off718 v8303) a + S16x128.size a ≤ S20016x128.size a := fun v8303 k0_hw367 => k0_hw367.2

def k0_off719 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c110_i32_3958 : BitVec 32 := 110#32
  let v8314 : BitVec 32 := Scalar.addi v6320 c110_i32_3958
  let v8315 : Index := Scalar.indexCast v8314
  let c0_3959 : Index := 0#32
  ![v8315.toNat, 0]
def k0_off720 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c111_i32 : BitVec 32 := 111#32
  let v8319 : BitVec 32 := Scalar.addi v6320 c111_i32
  let v8320 : Index := Scalar.indexCast v8319
  ![v8320.toNat]
def k0_mult370 (v8321 : BitVec 32) : BitVec 32 :=
  let c3_i32_3960 : BitVec 32 := 3#32
  let v8322 : BitVec 32 := Scalar.shrsi v8321 c3_i32_3960
  let c3_i32_3961 : BitVec 32 := 3#32
  let v8323 : BitVec 32 := Scalar.shli v8322 c3_i32_3961
  v8323

def k0_off721 (v8321 : BitVec 32) : Fin 2 → Nat :=
  let c3_i32_3960 : BitVec 32 := 3#32
  let v8322 : BitVec 32 := Scalar.shrsi v8321 c3_i32_3960
  let c3_i32_3961 : BitVec 32 := 3#32
  let v8323 : BitVec 32 := Scalar.shli v8322 c3_i32_3961
  let v8324 : BitVec 32 := v8323
  let v8326 : Index := Scalar.indexCast v8324
  let c0_3962 : Index := 0#32
  ![Nat.mul 2 v8326.toNat, 0]

def k0_chk368 (v8321 : BitVec 32) : Prop :=
  (8 ∣ (k0_mult370 v8321).toNat) ∧
  (∀ a, (k0_off721 v8321) a + S16x128.size a ≤ S20016x128.size a)
theorem k0_mult370_dvd : ∀ (v8321 : BitVec 32) (k0_hw368 : k0_chk368 v8321), 8 ∣ (k0_mult370 v8321).toNat := fun v8321 k0_hw368 => k0_hw368.1
theorem k0_off721_inb : ∀ (v8321 : BitVec 32) (k0_hw368 : k0_chk368 v8321), ∀ a, (k0_off721 v8321) a + S16x128.size a ≤ S20016x128.size a := fun v8321 k0_hw368 => k0_hw368.2

def k0_off722 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c111_i32_3965 : BitVec 32 := 111#32
  let v8332 : BitVec 32 := Scalar.addi v6320 c111_i32_3965
  let v8333 : Index := Scalar.indexCast v8332
  let c0_3966 : Index := 0#32
  ![v8333.toNat, 0]
def k0_off723 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c112_i32 : BitVec 32 := 112#32
  let v8337 : BitVec 32 := Scalar.addi v6320 c112_i32
  let v8338 : Index := Scalar.indexCast v8337
  ![v8338.toNat]
def k0_mult371 (v8339 : BitVec 32) : BitVec 32 :=
  let c3_i32_3967 : BitVec 32 := 3#32
  let v8340 : BitVec 32 := Scalar.shrsi v8339 c3_i32_3967
  let c3_i32_3968 : BitVec 32 := 3#32
  let v8341 : BitVec 32 := Scalar.shli v8340 c3_i32_3968
  v8341

def k0_off724 (v8339 : BitVec 32) : Fin 2 → Nat :=
  let c3_i32_3967 : BitVec 32 := 3#32
  let v8340 : BitVec 32 := Scalar.shrsi v8339 c3_i32_3967
  let c3_i32_3968 : BitVec 32 := 3#32
  let v8341 : BitVec 32 := Scalar.shli v8340 c3_i32_3968
  let v8342 : BitVec 32 := v8341
  let v8344 : Index := Scalar.indexCast v8342
  let c0_3969 : Index := 0#32
  ![Nat.mul 2 v8344.toNat, 0]

def k0_chk369 (v8339 : BitVec 32) : Prop :=
  (8 ∣ (k0_mult371 v8339).toNat) ∧
  (∀ a, (k0_off724 v8339) a + S16x128.size a ≤ S20016x128.size a)
theorem k0_mult371_dvd : ∀ (v8339 : BitVec 32) (k0_hw369 : k0_chk369 v8339), 8 ∣ (k0_mult371 v8339).toNat := fun v8339 k0_hw369 => k0_hw369.1
theorem k0_off724_inb : ∀ (v8339 : BitVec 32) (k0_hw369 : k0_chk369 v8339), ∀ a, (k0_off724 v8339) a + S16x128.size a ≤ S20016x128.size a := fun v8339 k0_hw369 => k0_hw369.2

def k0_off725 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c112_i32_3972 : BitVec 32 := 112#32
  let v8350 : BitVec 32 := Scalar.addi v6320 c112_i32_3972
  let v8351 : Index := Scalar.indexCast v8350
  let c0_3973 : Index := 0#32
  ![v8351.toNat, 0]
def k0_off726 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c113_i32 : BitVec 32 := 113#32
  let v8355 : BitVec 32 := Scalar.addi v6320 c113_i32
  let v8356 : Index := Scalar.indexCast v8355
  ![v8356.toNat]
def k0_mult372 (v8357 : BitVec 32) : BitVec 32 :=
  let c3_i32_3974 : BitVec 32 := 3#32
  let v8358 : BitVec 32 := Scalar.shrsi v8357 c3_i32_3974
  let c3_i32_3975 : BitVec 32 := 3#32
  let v8359 : BitVec 32 := Scalar.shli v8358 c3_i32_3975
  v8359

def k0_off727 (v8357 : BitVec 32) : Fin 2 → Nat :=
  let c3_i32_3974 : BitVec 32 := 3#32
  let v8358 : BitVec 32 := Scalar.shrsi v8357 c3_i32_3974
  let c3_i32_3975 : BitVec 32 := 3#32
  let v8359 : BitVec 32 := Scalar.shli v8358 c3_i32_3975
  let v8360 : BitVec 32 := v8359
  let v8362 : Index := Scalar.indexCast v8360
  let c0_3976 : Index := 0#32
  ![Nat.mul 2 v8362.toNat, 0]

def k0_chk370 (v8357 : BitVec 32) : Prop :=
  (8 ∣ (k0_mult372 v8357).toNat) ∧
  (∀ a, (k0_off727 v8357) a + S16x128.size a ≤ S20016x128.size a)
theorem k0_mult372_dvd : ∀ (v8357 : BitVec 32) (k0_hw370 : k0_chk370 v8357), 8 ∣ (k0_mult372 v8357).toNat := fun v8357 k0_hw370 => k0_hw370.1
theorem k0_off727_inb : ∀ (v8357 : BitVec 32) (k0_hw370 : k0_chk370 v8357), ∀ a, (k0_off727 v8357) a + S16x128.size a ≤ S20016x128.size a := fun v8357 k0_hw370 => k0_hw370.2

def k0_off728 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c113_i32_3979 : BitVec 32 := 113#32
  let v8368 : BitVec 32 := Scalar.addi v6320 c113_i32_3979
  let v8369 : Index := Scalar.indexCast v8368
  let c0_3980 : Index := 0#32
  ![v8369.toNat, 0]
def k0_off729 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c114_i32 : BitVec 32 := 114#32
  let v8373 : BitVec 32 := Scalar.addi v6320 c114_i32
  let v8374 : Index := Scalar.indexCast v8373
  ![v8374.toNat]
def k0_mult373 (v8375 : BitVec 32) : BitVec 32 :=
  let c3_i32_3981 : BitVec 32 := 3#32
  let v8376 : BitVec 32 := Scalar.shrsi v8375 c3_i32_3981
  let c3_i32_3982 : BitVec 32 := 3#32
  let v8377 : BitVec 32 := Scalar.shli v8376 c3_i32_3982
  v8377

def k0_off730 (v8375 : BitVec 32) : Fin 2 → Nat :=
  let c3_i32_3981 : BitVec 32 := 3#32
  let v8376 : BitVec 32 := Scalar.shrsi v8375 c3_i32_3981
  let c3_i32_3982 : BitVec 32 := 3#32
  let v8377 : BitVec 32 := Scalar.shli v8376 c3_i32_3982
  let v8378 : BitVec 32 := v8377
  let v8380 : Index := Scalar.indexCast v8378
  let c0_3983 : Index := 0#32
  ![Nat.mul 2 v8380.toNat, 0]

def k0_chk371 (v8375 : BitVec 32) : Prop :=
  (8 ∣ (k0_mult373 v8375).toNat) ∧
  (∀ a, (k0_off730 v8375) a + S16x128.size a ≤ S20016x128.size a)
theorem k0_mult373_dvd : ∀ (v8375 : BitVec 32) (k0_hw371 : k0_chk371 v8375), 8 ∣ (k0_mult373 v8375).toNat := fun v8375 k0_hw371 => k0_hw371.1
theorem k0_off730_inb : ∀ (v8375 : BitVec 32) (k0_hw371 : k0_chk371 v8375), ∀ a, (k0_off730 v8375) a + S16x128.size a ≤ S20016x128.size a := fun v8375 k0_hw371 => k0_hw371.2

def k0_off731 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c114_i32_3986 : BitVec 32 := 114#32
  let v8386 : BitVec 32 := Scalar.addi v6320 c114_i32_3986
  let v8387 : Index := Scalar.indexCast v8386
  let c0_3987 : Index := 0#32
  ![v8387.toNat, 0]
def k0_off732 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c115_i32 : BitVec 32 := 115#32
  let v8391 : BitVec 32 := Scalar.addi v6320 c115_i32
  let v8392 : Index := Scalar.indexCast v8391
  ![v8392.toNat]
def k0_mult374 (v8393 : BitVec 32) : BitVec 32 :=
  let c3_i32_3988 : BitVec 32 := 3#32
  let v8394 : BitVec 32 := Scalar.shrsi v8393 c3_i32_3988
  let c3_i32_3989 : BitVec 32 := 3#32
  let v8395 : BitVec 32 := Scalar.shli v8394 c3_i32_3989
  v8395

def k0_off733 (v8393 : BitVec 32) : Fin 2 → Nat :=
  let c3_i32_3988 : BitVec 32 := 3#32
  let v8394 : BitVec 32 := Scalar.shrsi v8393 c3_i32_3988
  let c3_i32_3989 : BitVec 32 := 3#32
  let v8395 : BitVec 32 := Scalar.shli v8394 c3_i32_3989
  let v8396 : BitVec 32 := v8395
  let v8398 : Index := Scalar.indexCast v8396
  let c0_3990 : Index := 0#32
  ![Nat.mul 2 v8398.toNat, 0]

def k0_chk372 (v8393 : BitVec 32) : Prop :=
  (8 ∣ (k0_mult374 v8393).toNat) ∧
  (∀ a, (k0_off733 v8393) a + S16x128.size a ≤ S20016x128.size a)
theorem k0_mult374_dvd : ∀ (v8393 : BitVec 32) (k0_hw372 : k0_chk372 v8393), 8 ∣ (k0_mult374 v8393).toNat := fun v8393 k0_hw372 => k0_hw372.1
theorem k0_off733_inb : ∀ (v8393 : BitVec 32) (k0_hw372 : k0_chk372 v8393), ∀ a, (k0_off733 v8393) a + S16x128.size a ≤ S20016x128.size a := fun v8393 k0_hw372 => k0_hw372.2

def k0_off734 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c115_i32_3993 : BitVec 32 := 115#32
  let v8404 : BitVec 32 := Scalar.addi v6320 c115_i32_3993
  let v8405 : Index := Scalar.indexCast v8404
  let c0_3994 : Index := 0#32
  ![v8405.toNat, 0]
def k0_off735 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c116_i32 : BitVec 32 := 116#32
  let v8409 : BitVec 32 := Scalar.addi v6320 c116_i32
  let v8410 : Index := Scalar.indexCast v8409
  ![v8410.toNat]
def k0_mult375 (v8411 : BitVec 32) : BitVec 32 :=
  let c3_i32_3995 : BitVec 32 := 3#32
  let v8412 : BitVec 32 := Scalar.shrsi v8411 c3_i32_3995
  let c3_i32_3996 : BitVec 32 := 3#32
  let v8413 : BitVec 32 := Scalar.shli v8412 c3_i32_3996
  v8413

def k0_off736 (v8411 : BitVec 32) : Fin 2 → Nat :=
  let c3_i32_3995 : BitVec 32 := 3#32
  let v8412 : BitVec 32 := Scalar.shrsi v8411 c3_i32_3995
  let c3_i32_3996 : BitVec 32 := 3#32
  let v8413 : BitVec 32 := Scalar.shli v8412 c3_i32_3996
  let v8414 : BitVec 32 := v8413
  let v8416 : Index := Scalar.indexCast v8414
  let c0_3997 : Index := 0#32
  ![Nat.mul 2 v8416.toNat, 0]

def k0_chk373 (v8411 : BitVec 32) : Prop :=
  (8 ∣ (k0_mult375 v8411).toNat) ∧
  (∀ a, (k0_off736 v8411) a + S16x128.size a ≤ S20016x128.size a)
theorem k0_mult375_dvd : ∀ (v8411 : BitVec 32) (k0_hw373 : k0_chk373 v8411), 8 ∣ (k0_mult375 v8411).toNat := fun v8411 k0_hw373 => k0_hw373.1
theorem k0_off736_inb : ∀ (v8411 : BitVec 32) (k0_hw373 : k0_chk373 v8411), ∀ a, (k0_off736 v8411) a + S16x128.size a ≤ S20016x128.size a := fun v8411 k0_hw373 => k0_hw373.2

def k0_off737 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c116_i32_4000 : BitVec 32 := 116#32
  let v8422 : BitVec 32 := Scalar.addi v6320 c116_i32_4000
  let v8423 : Index := Scalar.indexCast v8422
  let c0_4001 : Index := 0#32
  ![v8423.toNat, 0]
def k0_off738 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c117_i32 : BitVec 32 := 117#32
  let v8427 : BitVec 32 := Scalar.addi v6320 c117_i32
  let v8428 : Index := Scalar.indexCast v8427
  ![v8428.toNat]
def k0_mult376 (v8429 : BitVec 32) : BitVec 32 :=
  let c3_i32_4002 : BitVec 32 := 3#32
  let v8430 : BitVec 32 := Scalar.shrsi v8429 c3_i32_4002
  let c3_i32_4003 : BitVec 32 := 3#32
  let v8431 : BitVec 32 := Scalar.shli v8430 c3_i32_4003
  v8431

def k0_off739 (v8429 : BitVec 32) : Fin 2 → Nat :=
  let c3_i32_4002 : BitVec 32 := 3#32
  let v8430 : BitVec 32 := Scalar.shrsi v8429 c3_i32_4002
  let c3_i32_4003 : BitVec 32 := 3#32
  let v8431 : BitVec 32 := Scalar.shli v8430 c3_i32_4003
  let v8432 : BitVec 32 := v8431
  let v8434 : Index := Scalar.indexCast v8432
  let c0_4004 : Index := 0#32
  ![Nat.mul 2 v8434.toNat, 0]

def k0_chk374 (v8429 : BitVec 32) : Prop :=
  (8 ∣ (k0_mult376 v8429).toNat) ∧
  (∀ a, (k0_off739 v8429) a + S16x128.size a ≤ S20016x128.size a)
theorem k0_mult376_dvd : ∀ (v8429 : BitVec 32) (k0_hw374 : k0_chk374 v8429), 8 ∣ (k0_mult376 v8429).toNat := fun v8429 k0_hw374 => k0_hw374.1
theorem k0_off739_inb : ∀ (v8429 : BitVec 32) (k0_hw374 : k0_chk374 v8429), ∀ a, (k0_off739 v8429) a + S16x128.size a ≤ S20016x128.size a := fun v8429 k0_hw374 => k0_hw374.2

def k0_off740 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c117_i32_4007 : BitVec 32 := 117#32
  let v8440 : BitVec 32 := Scalar.addi v6320 c117_i32_4007
  let v8441 : Index := Scalar.indexCast v8440
  let c0_4008 : Index := 0#32
  ![v8441.toNat, 0]
def k0_off741 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c118_i32 : BitVec 32 := 118#32
  let v8445 : BitVec 32 := Scalar.addi v6320 c118_i32
  let v8446 : Index := Scalar.indexCast v8445
  ![v8446.toNat]
def k0_mult377 (v8447 : BitVec 32) : BitVec 32 :=
  let c3_i32_4009 : BitVec 32 := 3#32
  let v8448 : BitVec 32 := Scalar.shrsi v8447 c3_i32_4009
  let c3_i32_4010 : BitVec 32 := 3#32
  let v8449 : BitVec 32 := Scalar.shli v8448 c3_i32_4010
  v8449

def k0_off742 (v8447 : BitVec 32) : Fin 2 → Nat :=
  let c3_i32_4009 : BitVec 32 := 3#32
  let v8448 : BitVec 32 := Scalar.shrsi v8447 c3_i32_4009
  let c3_i32_4010 : BitVec 32 := 3#32
  let v8449 : BitVec 32 := Scalar.shli v8448 c3_i32_4010
  let v8450 : BitVec 32 := v8449
  let v8452 : Index := Scalar.indexCast v8450
  let c0_4011 : Index := 0#32
  ![Nat.mul 2 v8452.toNat, 0]

def k0_chk375 (v8447 : BitVec 32) : Prop :=
  (8 ∣ (k0_mult377 v8447).toNat) ∧
  (∀ a, (k0_off742 v8447) a + S16x128.size a ≤ S20016x128.size a)
theorem k0_mult377_dvd : ∀ (v8447 : BitVec 32) (k0_hw375 : k0_chk375 v8447), 8 ∣ (k0_mult377 v8447).toNat := fun v8447 k0_hw375 => k0_hw375.1
theorem k0_off742_inb : ∀ (v8447 : BitVec 32) (k0_hw375 : k0_chk375 v8447), ∀ a, (k0_off742 v8447) a + S16x128.size a ≤ S20016x128.size a := fun v8447 k0_hw375 => k0_hw375.2

def k0_off743 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c118_i32_4014 : BitVec 32 := 118#32
  let v8458 : BitVec 32 := Scalar.addi v6320 c118_i32_4014
  let v8459 : Index := Scalar.indexCast v8458
  let c0_4015 : Index := 0#32
  ![v8459.toNat, 0]
def k0_off744 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c119_i32 : BitVec 32 := 119#32
  let v8463 : BitVec 32 := Scalar.addi v6320 c119_i32
  let v8464 : Index := Scalar.indexCast v8463
  ![v8464.toNat]
def k0_mult378 (v8465 : BitVec 32) : BitVec 32 :=
  let c3_i32_4016 : BitVec 32 := 3#32
  let v8466 : BitVec 32 := Scalar.shrsi v8465 c3_i32_4016
  let c3_i32_4017 : BitVec 32 := 3#32
  let v8467 : BitVec 32 := Scalar.shli v8466 c3_i32_4017
  v8467

def k0_off745 (v8465 : BitVec 32) : Fin 2 → Nat :=
  let c3_i32_4016 : BitVec 32 := 3#32
  let v8466 : BitVec 32 := Scalar.shrsi v8465 c3_i32_4016
  let c3_i32_4017 : BitVec 32 := 3#32
  let v8467 : BitVec 32 := Scalar.shli v8466 c3_i32_4017
  let v8468 : BitVec 32 := v8467
  let v8470 : Index := Scalar.indexCast v8468
  let c0_4018 : Index := 0#32
  ![Nat.mul 2 v8470.toNat, 0]

def k0_chk376 (v8465 : BitVec 32) : Prop :=
  (8 ∣ (k0_mult378 v8465).toNat) ∧
  (∀ a, (k0_off745 v8465) a + S16x128.size a ≤ S20016x128.size a)
theorem k0_mult378_dvd : ∀ (v8465 : BitVec 32) (k0_hw376 : k0_chk376 v8465), 8 ∣ (k0_mult378 v8465).toNat := fun v8465 k0_hw376 => k0_hw376.1
theorem k0_off745_inb : ∀ (v8465 : BitVec 32) (k0_hw376 : k0_chk376 v8465), ∀ a, (k0_off745 v8465) a + S16x128.size a ≤ S20016x128.size a := fun v8465 k0_hw376 => k0_hw376.2

def k0_off746 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c119_i32_4021 : BitVec 32 := 119#32
  let v8476 : BitVec 32 := Scalar.addi v6320 c119_i32_4021
  let v8477 : Index := Scalar.indexCast v8476
  let c0_4022 : Index := 0#32
  ![v8477.toNat, 0]
def k0_off747 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c120_i32 : BitVec 32 := 120#32
  let v8481 : BitVec 32 := Scalar.addi v6320 c120_i32
  let v8482 : Index := Scalar.indexCast v8481
  ![v8482.toNat]
def k0_mult379 (v8483 : BitVec 32) : BitVec 32 :=
  let c3_i32_4023 : BitVec 32 := 3#32
  let v8484 : BitVec 32 := Scalar.shrsi v8483 c3_i32_4023
  let c3_i32_4024 : BitVec 32 := 3#32
  let v8485 : BitVec 32 := Scalar.shli v8484 c3_i32_4024
  v8485

def k0_off748 (v8483 : BitVec 32) : Fin 2 → Nat :=
  let c3_i32_4023 : BitVec 32 := 3#32
  let v8484 : BitVec 32 := Scalar.shrsi v8483 c3_i32_4023
  let c3_i32_4024 : BitVec 32 := 3#32
  let v8485 : BitVec 32 := Scalar.shli v8484 c3_i32_4024
  let v8486 : BitVec 32 := v8485
  let v8488 : Index := Scalar.indexCast v8486
  let c0_4025 : Index := 0#32
  ![Nat.mul 2 v8488.toNat, 0]

def k0_chk377 (v8483 : BitVec 32) : Prop :=
  (8 ∣ (k0_mult379 v8483).toNat) ∧
  (∀ a, (k0_off748 v8483) a + S16x128.size a ≤ S20016x128.size a)
theorem k0_mult379_dvd : ∀ (v8483 : BitVec 32) (k0_hw377 : k0_chk377 v8483), 8 ∣ (k0_mult379 v8483).toNat := fun v8483 k0_hw377 => k0_hw377.1
theorem k0_off748_inb : ∀ (v8483 : BitVec 32) (k0_hw377 : k0_chk377 v8483), ∀ a, (k0_off748 v8483) a + S16x128.size a ≤ S20016x128.size a := fun v8483 k0_hw377 => k0_hw377.2

def k0_off749 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c120_i32_4028 : BitVec 32 := 120#32
  let v8494 : BitVec 32 := Scalar.addi v6320 c120_i32_4028
  let v8495 : Index := Scalar.indexCast v8494
  let c0_4029 : Index := 0#32
  ![v8495.toNat, 0]
def k0_off750 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c121_i32 : BitVec 32 := 121#32
  let v8499 : BitVec 32 := Scalar.addi v6320 c121_i32
  let v8500 : Index := Scalar.indexCast v8499
  ![v8500.toNat]
def k0_mult380 (v8501 : BitVec 32) : BitVec 32 :=
  let c3_i32_4030 : BitVec 32 := 3#32
  let v8502 : BitVec 32 := Scalar.shrsi v8501 c3_i32_4030
  let c3_i32_4031 : BitVec 32 := 3#32
  let v8503 : BitVec 32 := Scalar.shli v8502 c3_i32_4031
  v8503

def k0_off751 (v8501 : BitVec 32) : Fin 2 → Nat :=
  let c3_i32_4030 : BitVec 32 := 3#32
  let v8502 : BitVec 32 := Scalar.shrsi v8501 c3_i32_4030
  let c3_i32_4031 : BitVec 32 := 3#32
  let v8503 : BitVec 32 := Scalar.shli v8502 c3_i32_4031
  let v8504 : BitVec 32 := v8503
  let v8506 : Index := Scalar.indexCast v8504
  let c0_4032 : Index := 0#32
  ![Nat.mul 2 v8506.toNat, 0]

def k0_chk378 (v8501 : BitVec 32) : Prop :=
  (8 ∣ (k0_mult380 v8501).toNat) ∧
  (∀ a, (k0_off751 v8501) a + S16x128.size a ≤ S20016x128.size a)
theorem k0_mult380_dvd : ∀ (v8501 : BitVec 32) (k0_hw378 : k0_chk378 v8501), 8 ∣ (k0_mult380 v8501).toNat := fun v8501 k0_hw378 => k0_hw378.1
theorem k0_off751_inb : ∀ (v8501 : BitVec 32) (k0_hw378 : k0_chk378 v8501), ∀ a, (k0_off751 v8501) a + S16x128.size a ≤ S20016x128.size a := fun v8501 k0_hw378 => k0_hw378.2

def k0_off752 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c121_i32_4035 : BitVec 32 := 121#32
  let v8512 : BitVec 32 := Scalar.addi v6320 c121_i32_4035
  let v8513 : Index := Scalar.indexCast v8512
  let c0_4036 : Index := 0#32
  ![v8513.toNat, 0]
def k0_off753 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c122_i32 : BitVec 32 := 122#32
  let v8517 : BitVec 32 := Scalar.addi v6320 c122_i32
  let v8518 : Index := Scalar.indexCast v8517
  ![v8518.toNat]
def k0_mult381 (v8519 : BitVec 32) : BitVec 32 :=
  let c3_i32_4037 : BitVec 32 := 3#32
  let v8520 : BitVec 32 := Scalar.shrsi v8519 c3_i32_4037
  let c3_i32_4038 : BitVec 32 := 3#32
  let v8521 : BitVec 32 := Scalar.shli v8520 c3_i32_4038
  v8521

def k0_off754 (v8519 : BitVec 32) : Fin 2 → Nat :=
  let c3_i32_4037 : BitVec 32 := 3#32
  let v8520 : BitVec 32 := Scalar.shrsi v8519 c3_i32_4037
  let c3_i32_4038 : BitVec 32 := 3#32
  let v8521 : BitVec 32 := Scalar.shli v8520 c3_i32_4038
  let v8522 : BitVec 32 := v8521
  let v8524 : Index := Scalar.indexCast v8522
  let c0_4039 : Index := 0#32
  ![Nat.mul 2 v8524.toNat, 0]

def k0_chk379 (v8519 : BitVec 32) : Prop :=
  (8 ∣ (k0_mult381 v8519).toNat) ∧
  (∀ a, (k0_off754 v8519) a + S16x128.size a ≤ S20016x128.size a)
theorem k0_mult381_dvd : ∀ (v8519 : BitVec 32) (k0_hw379 : k0_chk379 v8519), 8 ∣ (k0_mult381 v8519).toNat := fun v8519 k0_hw379 => k0_hw379.1
theorem k0_off754_inb : ∀ (v8519 : BitVec 32) (k0_hw379 : k0_chk379 v8519), ∀ a, (k0_off754 v8519) a + S16x128.size a ≤ S20016x128.size a := fun v8519 k0_hw379 => k0_hw379.2

def k0_off755 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c122_i32_4042 : BitVec 32 := 122#32
  let v8530 : BitVec 32 := Scalar.addi v6320 c122_i32_4042
  let v8531 : Index := Scalar.indexCast v8530
  let c0_4043 : Index := 0#32
  ![v8531.toNat, 0]
def k0_off756 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c123_i32 : BitVec 32 := 123#32
  let v8535 : BitVec 32 := Scalar.addi v6320 c123_i32
  let v8536 : Index := Scalar.indexCast v8535
  ![v8536.toNat]
def k0_mult382 (v8537 : BitVec 32) : BitVec 32 :=
  let c3_i32_4044 : BitVec 32 := 3#32
  let v8538 : BitVec 32 := Scalar.shrsi v8537 c3_i32_4044
  let c3_i32_4045 : BitVec 32 := 3#32
  let v8539 : BitVec 32 := Scalar.shli v8538 c3_i32_4045
  v8539

def k0_off757 (v8537 : BitVec 32) : Fin 2 → Nat :=
  let c3_i32_4044 : BitVec 32 := 3#32
  let v8538 : BitVec 32 := Scalar.shrsi v8537 c3_i32_4044
  let c3_i32_4045 : BitVec 32 := 3#32
  let v8539 : BitVec 32 := Scalar.shli v8538 c3_i32_4045
  let v8540 : BitVec 32 := v8539
  let v8542 : Index := Scalar.indexCast v8540
  let c0_4046 : Index := 0#32
  ![Nat.mul 2 v8542.toNat, 0]

def k0_chk380 (v8537 : BitVec 32) : Prop :=
  (8 ∣ (k0_mult382 v8537).toNat) ∧
  (∀ a, (k0_off757 v8537) a + S16x128.size a ≤ S20016x128.size a)
theorem k0_mult382_dvd : ∀ (v8537 : BitVec 32) (k0_hw380 : k0_chk380 v8537), 8 ∣ (k0_mult382 v8537).toNat := fun v8537 k0_hw380 => k0_hw380.1
theorem k0_off757_inb : ∀ (v8537 : BitVec 32) (k0_hw380 : k0_chk380 v8537), ∀ a, (k0_off757 v8537) a + S16x128.size a ≤ S20016x128.size a := fun v8537 k0_hw380 => k0_hw380.2

def k0_off758 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c123_i32_4049 : BitVec 32 := 123#32
  let v8548 : BitVec 32 := Scalar.addi v6320 c123_i32_4049
  let v8549 : Index := Scalar.indexCast v8548
  let c0_4050 : Index := 0#32
  ![v8549.toNat, 0]
def k0_off759 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c124_i32 : BitVec 32 := 124#32
  let v8553 : BitVec 32 := Scalar.addi v6320 c124_i32
  let v8554 : Index := Scalar.indexCast v8553
  ![v8554.toNat]
def k0_mult383 (v8555 : BitVec 32) : BitVec 32 :=
  let c3_i32_4051 : BitVec 32 := 3#32
  let v8556 : BitVec 32 := Scalar.shrsi v8555 c3_i32_4051
  let c3_i32_4052 : BitVec 32 := 3#32
  let v8557 : BitVec 32 := Scalar.shli v8556 c3_i32_4052
  v8557

def k0_off760 (v8555 : BitVec 32) : Fin 2 → Nat :=
  let c3_i32_4051 : BitVec 32 := 3#32
  let v8556 : BitVec 32 := Scalar.shrsi v8555 c3_i32_4051
  let c3_i32_4052 : BitVec 32 := 3#32
  let v8557 : BitVec 32 := Scalar.shli v8556 c3_i32_4052
  let v8558 : BitVec 32 := v8557
  let v8560 : Index := Scalar.indexCast v8558
  let c0_4053 : Index := 0#32
  ![Nat.mul 2 v8560.toNat, 0]

def k0_chk381 (v8555 : BitVec 32) : Prop :=
  (8 ∣ (k0_mult383 v8555).toNat) ∧
  (∀ a, (k0_off760 v8555) a + S16x128.size a ≤ S20016x128.size a)
theorem k0_mult383_dvd : ∀ (v8555 : BitVec 32) (k0_hw381 : k0_chk381 v8555), 8 ∣ (k0_mult383 v8555).toNat := fun v8555 k0_hw381 => k0_hw381.1
theorem k0_off760_inb : ∀ (v8555 : BitVec 32) (k0_hw381 : k0_chk381 v8555), ∀ a, (k0_off760 v8555) a + S16x128.size a ≤ S20016x128.size a := fun v8555 k0_hw381 => k0_hw381.2

def k0_off761 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c124_i32_4056 : BitVec 32 := 124#32
  let v8566 : BitVec 32 := Scalar.addi v6320 c124_i32_4056
  let v8567 : Index := Scalar.indexCast v8566
  let c0_4057 : Index := 0#32
  ![v8567.toNat, 0]
def k0_off762 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c125_i32 : BitVec 32 := 125#32
  let v8571 : BitVec 32 := Scalar.addi v6320 c125_i32
  let v8572 : Index := Scalar.indexCast v8571
  ![v8572.toNat]
def k0_mult384 (v8573 : BitVec 32) : BitVec 32 :=
  let c3_i32_4058 : BitVec 32 := 3#32
  let v8574 : BitVec 32 := Scalar.shrsi v8573 c3_i32_4058
  let c3_i32_4059 : BitVec 32 := 3#32
  let v8575 : BitVec 32 := Scalar.shli v8574 c3_i32_4059
  v8575

def k0_off763 (v8573 : BitVec 32) : Fin 2 → Nat :=
  let c3_i32_4058 : BitVec 32 := 3#32
  let v8574 : BitVec 32 := Scalar.shrsi v8573 c3_i32_4058
  let c3_i32_4059 : BitVec 32 := 3#32
  let v8575 : BitVec 32 := Scalar.shli v8574 c3_i32_4059
  let v8576 : BitVec 32 := v8575
  let v8578 : Index := Scalar.indexCast v8576
  let c0_4060 : Index := 0#32
  ![Nat.mul 2 v8578.toNat, 0]

def k0_chk382 (v8573 : BitVec 32) : Prop :=
  (8 ∣ (k0_mult384 v8573).toNat) ∧
  (∀ a, (k0_off763 v8573) a + S16x128.size a ≤ S20016x128.size a)
theorem k0_mult384_dvd : ∀ (v8573 : BitVec 32) (k0_hw382 : k0_chk382 v8573), 8 ∣ (k0_mult384 v8573).toNat := fun v8573 k0_hw382 => k0_hw382.1
theorem k0_off763_inb : ∀ (v8573 : BitVec 32) (k0_hw382 : k0_chk382 v8573), ∀ a, (k0_off763 v8573) a + S16x128.size a ≤ S20016x128.size a := fun v8573 k0_hw382 => k0_hw382.2

def k0_off764 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c125_i32_4063 : BitVec 32 := 125#32
  let v8584 : BitVec 32 := Scalar.addi v6320 c125_i32_4063
  let v8585 : Index := Scalar.indexCast v8584
  let c0_4064 : Index := 0#32
  ![v8585.toNat, 0]
def k0_off765 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c126_i32 : BitVec 32 := 126#32
  let v8589 : BitVec 32 := Scalar.addi v6320 c126_i32
  let v8590 : Index := Scalar.indexCast v8589
  ![v8590.toNat]
def k0_mult385 (v8591 : BitVec 32) : BitVec 32 :=
  let c3_i32_4065 : BitVec 32 := 3#32
  let v8592 : BitVec 32 := Scalar.shrsi v8591 c3_i32_4065
  let c3_i32_4066 : BitVec 32 := 3#32
  let v8593 : BitVec 32 := Scalar.shli v8592 c3_i32_4066
  v8593

def k0_off766 (v8591 : BitVec 32) : Fin 2 → Nat :=
  let c3_i32_4065 : BitVec 32 := 3#32
  let v8592 : BitVec 32 := Scalar.shrsi v8591 c3_i32_4065
  let c3_i32_4066 : BitVec 32 := 3#32
  let v8593 : BitVec 32 := Scalar.shli v8592 c3_i32_4066
  let v8594 : BitVec 32 := v8593
  let v8596 : Index := Scalar.indexCast v8594
  let c0_4067 : Index := 0#32
  ![Nat.mul 2 v8596.toNat, 0]

def k0_chk383 (v8591 : BitVec 32) : Prop :=
  (8 ∣ (k0_mult385 v8591).toNat) ∧
  (∀ a, (k0_off766 v8591) a + S16x128.size a ≤ S20016x128.size a)
theorem k0_mult385_dvd : ∀ (v8591 : BitVec 32) (k0_hw383 : k0_chk383 v8591), 8 ∣ (k0_mult385 v8591).toNat := fun v8591 k0_hw383 => k0_hw383.1
theorem k0_off766_inb : ∀ (v8591 : BitVec 32) (k0_hw383 : k0_chk383 v8591), ∀ a, (k0_off766 v8591) a + S16x128.size a ≤ S20016x128.size a := fun v8591 k0_hw383 => k0_hw383.2

def k0_off767 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c126_i32_4070 : BitVec 32 := 126#32
  let v8602 : BitVec 32 := Scalar.addi v6320 c126_i32_4070
  let v8603 : Index := Scalar.indexCast v8602
  let c0_4071 : Index := 0#32
  ![v8603.toNat, 0]
def k0_off768 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c127_i32 : BitVec 32 := 127#32
  let v8607 : BitVec 32 := Scalar.addi v6320 c127_i32
  let v8608 : Index := Scalar.indexCast v8607
  ![v8608.toNat]
def k0_mult386 (v8609 : BitVec 32) : BitVec 32 :=
  let c3_i32_4072 : BitVec 32 := 3#32
  let v8610 : BitVec 32 := Scalar.shrsi v8609 c3_i32_4072
  let c3_i32_4073 : BitVec 32 := 3#32
  let v8611 : BitVec 32 := Scalar.shli v8610 c3_i32_4073
  v8611

def k0_off769 (v8609 : BitVec 32) : Fin 2 → Nat :=
  let c3_i32_4072 : BitVec 32 := 3#32
  let v8610 : BitVec 32 := Scalar.shrsi v8609 c3_i32_4072
  let c3_i32_4073 : BitVec 32 := 3#32
  let v8611 : BitVec 32 := Scalar.shli v8610 c3_i32_4073
  let v8612 : BitVec 32 := v8611
  let v8614 : Index := Scalar.indexCast v8612
  let c0_4074 : Index := 0#32
  ![Nat.mul 2 v8614.toNat, 0]

def k0_chk384 (v8609 : BitVec 32) : Prop :=
  (8 ∣ (k0_mult386 v8609).toNat) ∧
  (∀ a, (k0_off769 v8609) a + S16x128.size a ≤ S20016x128.size a)
theorem k0_mult386_dvd : ∀ (v8609 : BitVec 32) (k0_hw384 : k0_chk384 v8609), 8 ∣ (k0_mult386 v8609).toNat := fun v8609 k0_hw384 => k0_hw384.1
theorem k0_off769_inb : ∀ (v8609 : BitVec 32) (k0_hw384 : k0_chk384 v8609), ∀ a, (k0_off769 v8609) a + S16x128.size a ≤ S20016x128.size a := fun v8609 k0_hw384 => k0_hw384.2

def k0_off770 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c127_i32_4077 : BitVec 32 := 127#32
  let v8620 : BitVec 32 := Scalar.addi v6320 c127_i32_4077
  let v8621 : Index := Scalar.indexCast v8620
  let c0_4078 : Index := 0#32
  ![v8621.toNat, 0]
abbrev stage0_0 : Fin 1 → Memref sig .tc .smem S13056 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S12800 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12800x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
abbrev S64x200 : Shape := ⟨2, ![64, 200]⟩
abbrev S10000x128 : Shape := ⟨2, ![10000, 128]⟩
abbrev S512x256 : Shape := ⟨2, ![512, 256]⟩
abbrev S512x128 : Shape := ⟨2, ![512, 128]⟩
abbrev S512 : Shape := ⟨1, ![512]⟩
abbrev S10000 : Shape := ⟨1, ![10000]⟩
abbrev S_ : Shape := ⟨0, ![]⟩
abbrev S16x128 : Shape := ⟨2, ![16, 128]⟩
abbrev S20016x128 : Shape := ⟨2, ![20016, 128]⟩
abbrev S20016x1x128 : Shape := ⟨3, ![20016, 1, 128]⟩
abbrev S20016x2x128 : Shape := ⟨3, ![20016, 2, 128]⟩
abbrev S40032x128 : Shape := ⟨2, ![40032, 128]⟩
abbrev S8x128 : Shape := ⟨2, ![8, 128]⟩
abbrev S10008x128 : Shape := ⟨2, ![10008, 128]⟩
abbrev S8 : Shape := ⟨1, ![8]⟩
abbrev S10008 : Shape := ⟨1, ![10008]⟩
abbrev S1 : Shape := ⟨1, ![1]⟩
abbrev S10008x1 : Shape := ⟨2, ![10008, 1]⟩
abbrev S10008x127 : Shape := ⟨2, ![10008, 127]⟩
abbrev S10008x1x128 : Shape := ⟨3, ![10008, 1, 128]⟩
abbrev S10008x2x128 : Shape := ⟨3, ![10008, 2, 128]⟩
abbrev S200x64 : Shape := ⟨2, ![200, 64]⟩
abbrev S12800 : Shape := ⟨1, ![12800]⟩
abbrev S256 : Shape := ⟨1, ![256]⟩
abbrev S13056 : Shape := ⟨1, ![13056]⟩
abbrev S64x199 : Shape := ⟨2, ![64, 199]⟩
abbrev S64x1 : Shape := ⟨2, ![64, 1]⟩
abbrev S256x512 : Shape := ⟨2, ![256, 512]⟩
abbrev S128x512 : Shape := ⟨2, ![128, 512]⟩
abbrev S1x512 : Shape := ⟨2, ![1, 512]⟩
abbrev S12800x1 : Shape := ⟨2, ![12800, 1]⟩
abbrev S64x256 : Shape := ⟨2, ![64, 256]⟩
abbrev S12800x128 : Shape := ⟨2, ![12800, 128]⟩
abbrev S12800x2x128 : Shape := ⟨3, ![12800, 2, 128]⟩
abbrev S12800x1x128 : Shape := ⟨3, ![12800, 1, 128]⟩
abbrev S2 : Shape := ⟨1, ![2]⟩
abbrev S8x2x128 : Shape := ⟨3, ![8, 2, 128]⟩
abbrev S8x1x128 : Shape := ⟨3, ![8, 1, 128]⟩
abbrev S1x128 : Shape := ⟨2, ![1, 128]⟩
abbrev S2x128 : Shape := ⟨2, ![2, 128]⟩
abbrev S64x128 : Shape := ⟨2, ![64, 128]⟩
abbrev S64x512 : Shape := ⟨2, ![64, 512]⟩
abbrev S1x2x128 : Shape := ⟨3, ![1, 2, 128]⟩
abbrev S1x1x128 : Shape := ⟨3, ![1, 1, 128]⟩
abbrev S512x2x128 : Shape := ⟨3, ![512, 2, 128]⟩
abbrev S512x1x128 : Shape := ⟨3, ![512, 1, 128]⟩
abbrev S1024x128 : Shape := ⟨2, ![1024, 128]⟩
abbrev S512x1 : Shape := ⟨2, ![512, 1]⟩
abbrev S199x64 : Shape := ⟨2, ![199, 64]⟩

abbrev nBuf : Space → Nat
  | .hbm => 84
  | .vmem => 10
  | .smem => 2
  | _ => 0

abbrev bufTy : (tb : Table) → Fin (tcTables nBuf tb) → BufTy
  | .hbm, ⟨0, _⟩ => ⟨S64x200, .i32⟩
  | .hbm, ⟨1, _⟩ => ⟨S64x200, .i32⟩
  | .hbm, ⟨2, _⟩ => ⟨S10000x128, .f32⟩
  | .hbm, ⟨3, _⟩ => ⟨S512x256, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S10000x128, .f32⟩
  | .hbm, ⟨8, _⟩ => ⟨S10000, .f32⟩
  | .hbm, ⟨9, _⟩ => ⟨S10000x128, .bf16⟩
  | .hbm, ⟨10, _⟩ => ⟨S_, .bf16⟩
  | .hbm, ⟨11, _⟩ => ⟨S10000x128, .bf16⟩
  | .hbm, ⟨12, _⟩ => ⟨S_, .bf16⟩
  | .hbm, ⟨13, _⟩ => ⟨S16x128, .bf16⟩
  | .hbm, ⟨14, _⟩ => ⟨S20016x128, .bf16⟩
  | .hbm, ⟨15, _⟩ => ⟨S_, .bf16⟩
  | .hbm, ⟨16, _⟩ => ⟨S16x128, .bf16⟩
  | .hbm, ⟨17, _⟩ => ⟨S20016x128, .bf16⟩
  | .hbm, ⟨18, _⟩ => ⟨S20016x1x128, .bf16⟩
  | .hbm, ⟨19, _⟩ => ⟨S20016x1x128, .bf16⟩
  | .hbm, ⟨20, _⟩ => ⟨S20016x2x128, .bf16⟩
  | .hbm, ⟨21, _⟩ => ⟨S40032x128, .bf16⟩
  | .hbm, ⟨22, _⟩ => ⟨S_, .f32⟩
  | .hbm, ⟨23, _⟩ => ⟨S8x128, .f32⟩
  | .hbm, ⟨24, _⟩ => ⟨S10008x128, .f32⟩
  | .hbm, ⟨25, _⟩ => ⟨S_, .f32⟩
  | .hbm, ⟨26, _⟩ => ⟨S8, .f32⟩
  | .hbm, ⟨27, _⟩ => ⟨S10008, .f32⟩
  | .hbm, ⟨28, _⟩ => ⟨S_, .i32⟩
  | .hbm, ⟨29, _⟩ => ⟨S1, .i32⟩
  | .hbm, ⟨30, _⟩ => ⟨S_, .f32⟩
  | .hbm, ⟨31, _⟩ => ⟨S10008, .f32⟩
  | .hbm, ⟨32, _⟩ => ⟨S10008, .bf16⟩
  | .hbm, ⟨33, _⟩ => ⟨S10008x1, .bf16⟩
  | .hbm, ⟨34, _⟩ => ⟨S_, .bf16⟩
  | .hbm, ⟨35, _⟩ => ⟨S10008x127, .bf16⟩
  | .hbm, ⟨36, _⟩ => ⟨S10008x128, .bf16⟩
  | .hbm, ⟨37, _⟩ => ⟨S10008x128, .bf16⟩
  | .hbm, ⟨38, _⟩ => ⟨S10008x1x128, .bf16⟩
  | .hbm, ⟨39, _⟩ => ⟨S10008x1x128, .bf16⟩
  | .hbm, ⟨40, _⟩ => ⟨S10008x2x128, .bf16⟩
  | .hbm, ⟨41, _⟩ => ⟨S20016x128, .bf16⟩
  | .hbm, ⟨42, _⟩ => ⟨S200x64, .i32⟩
  | .hbm, ⟨43, _⟩ => ⟨S_, .i32⟩
  | .hbm, ⟨44, _⟩ => ⟨S200x64, .i32⟩
  | .hbm, ⟨45, _⟩ => ⟨S200x64, .i1⟩
  | .hbm, ⟨46, _⟩ => ⟨S200x64, .i32⟩
  | .hbm, ⟨47, _⟩ => ⟨S_, .i32⟩
  | .hbm, ⟨48, _⟩ => ⟨S200x64, .i32⟩
  | .hbm, ⟨49, _⟩ => ⟨S200x64, .i32⟩
  | .hbm, ⟨50, _⟩ => ⟨S200x64, .i32⟩
  | .hbm, ⟨51, _⟩ => ⟨S_, .i32⟩
  | .hbm, ⟨52, _⟩ => ⟨S_, .i32⟩
  | .hbm, ⟨53, _⟩ => ⟨S200x64, .i32⟩
  | .hbm, ⟨54, _⟩ => ⟨S200x64, .i32⟩
  | .hbm, ⟨55, _⟩ => ⟨S12800, .i32⟩
  | .hbm, ⟨56, _⟩ => ⟨S_, .i32⟩
  | .hbm, ⟨57, _⟩ => ⟨S256, .i32⟩
  | .hbm, ⟨58, _⟩ => ⟨S13056, .i32⟩
  | .hbm, ⟨59, _⟩ => ⟨S64x199, .i32⟩
  | .hbm, ⟨60, _⟩ => ⟨S_, .i32⟩
  | .hbm, ⟨61, _⟩ => ⟨S64x1, .i32⟩
  | .hbm, ⟨62, _⟩ => ⟨S64x200, .i32⟩
  | .hbm, ⟨63, _⟩ => ⟨S200x64, .i32⟩
  | .hbm, ⟨64, _⟩ => ⟨S_, .i32⟩
  | .hbm, ⟨65, _⟩ => ⟨S200x64, .i32⟩
  | .hbm, ⟨66, _⟩ => ⟨S200x64, .i1⟩
  | .hbm, ⟨67, _⟩ => ⟨S200x64, .i32⟩
  | .hbm, ⟨68, _⟩ => ⟨S_, .i32⟩
  | .hbm, ⟨69, _⟩ => ⟨S200x64, .i32⟩
  | .hbm, ⟨70, _⟩ => ⟨S200x64, .i32⟩
  | .hbm, ⟨71, _⟩ => ⟨S_, .i32⟩
  | .hbm, ⟨72, _⟩ => ⟨S_, .i32⟩
  | .hbm, ⟨73, _⟩ => ⟨S200x64, .i32⟩
  | .hbm, ⟨74, _⟩ => ⟨S200x64, .i32⟩
  | .hbm, ⟨75, _⟩ => ⟨S12800, .i32⟩
  | .hbm, ⟨76, _⟩ => ⟨S256x512, .f32⟩
  | .hbm, ⟨77, _⟩ => ⟨S128x512, .f32⟩
  | .hbm, ⟨78, _⟩ => ⟨S512, .f32⟩
  | .hbm, ⟨79, _⟩ => ⟨S1x512, .f32⟩
  | .hbm, ⟨80, _⟩ => ⟨S12800x1, .f32⟩
  | .hbm, ⟨81, _⟩ => ⟨S200x64, .f32⟩
  | .hbm, ⟨82, _⟩ => ⟨S199x64, .f32⟩
  | .hbm, ⟨83, _⟩ => ⟨S64x199, .f32⟩
  | .local _ .vmem, ⟨0, _⟩ => ⟨S256x512, .f32⟩
  | .local _ .vmem, ⟨1, _⟩ => ⟨S128x512, .f32⟩
  | .local _ .vmem, ⟨2, _⟩ => ⟨S1x512, .f32⟩
  | .local _ .vmem, ⟨3, _⟩ => ⟨S12800x1, .f32⟩
  | .local _ .vmem, ⟨4, _⟩ => ⟨S20016x2x128, .bf16⟩
  | .local _ .vmem, ⟨5, _⟩ => ⟨S20016x128, .bf16⟩
  | .local _ .vmem, ⟨6, _⟩ => ⟨S64x256, .f32⟩
  | .local _ .vmem, ⟨7, _⟩ => ⟨S64x256, .f32⟩
  | .local _ .vmem, ⟨8, _⟩ => ⟨S12800x128, .f32⟩
  | .local _ .vmem, ⟨9, _⟩ => ⟨S12800x2x128, .bf16⟩
  | .local _ .smem, ⟨0, _⟩ => ⟨S13056, .i32⟩
  | .local _ .smem, ⟨1, _⟩ => ⟨S12800, .i32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_call0_v0 : Ref sig .tc := ⟨.hbm, 52, rfl⟩
abbrev main_call0_v1 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_c_13 : Ref sig .tc := ⟨.hbm, 71, rfl⟩
abbrev main_call1_v0 : Ref sig .tc := ⟨.hbm, 72, rfl⟩
abbrev main_call1_v1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_mult1 (v8 : BitVec 32) : BitVec 32 :=
  let c3_i32 : BitVec 32 := 3#32
  let v9 : BitVec 32 := Scalar.shrsi v8 c3_i32
  let c3_i32_1 : BitVec 32 := 3#32
  let v10 : BitVec 32 := Scalar.shli v9 c3_i32_1
  v10

def k0_off1 (v8 : BitVec 32) : Fin 3 → Nat :=
  let c3_i32 : BitVec 32 := 3#32
  let v9 : BitVec 32 := Scalar.shrsi v8 c3_i32
  let c3_i32_1 : BitVec 32 := 3#32
  let v10 : BitVec 32 := Scalar.shli v9 c3_i32_1
  let v11 : BitVec 32 := v10
  let v12 : Index := Scalar.indexCast v11
  let c0_2 : Index := 0#32
  ![v12.toNat, 0, 0]

def k0_chk1 (v8 : BitVec 32) : Prop :=
  (8 ∣ (k0_mult1 v8).toNat) ∧
  (∀ a, (k0_off1 v8) a + S8x2x128.size a ≤ S20016x2x128.size a)
theorem k0_mult1_dvd : ∀ (v8 : BitVec 32) (k0_hw1 : k0_chk1 v8), 8 ∣ (k0_mult1 v8).toNat := fun v8 k0_hw1 => k0_hw1.1
theorem k0_off1_inb : ∀ (v8 : BitVec 32) (k0_hw1 : k0_chk1 v8), ∀ a, (k0_off1 v8) a + S8x2x128.size a ≤ S20016x2x128.size a := fun v8 k0_hw1 => k0_hw1.2

def k0_mult2 (v30 : BitVec 32) : BitVec 32 :=
  let c3_i32_7 : BitVec 32 := 3#32
  let v31 : BitVec 32 := Scalar.shrsi v30 c3_i32_7
  let c3_i32_8 : BitVec 32 := 3#32
  let v32 : BitVec 32 := Scalar.shli v31 c3_i32_8
  v32

def k0_off2 (v30 : BitVec 32) : Fin 3 → Nat :=
  let c3_i32_7 : BitVec 32 := 3#32
  let v31 : BitVec 32 := Scalar.shrsi v30 c3_i32_7
  let c3_i32_8 : BitVec 32 := 3#32
  let v32 : BitVec 32 := Scalar.shli v31 c3_i32_8
  let v33 : BitVec 32 := v32
  let v34 : Index := Scalar.indexCast v33
  let c0_9 : Index := 0#32
  ![v34.toNat, 0, 0]

def k0_chk2 (v30 : BitVec 32) : Prop :=
  (8 ∣ (k0_mult2 v30).toNat) ∧
  (∀ a, (k0_off2 v30) a + S8x2x128.size a ≤ S20016x2x128.size a)
theorem k0_mult2_dvd : ∀ (v30 : BitVec 32) (k0_hw2 : k0_chk2 v30), 8 ∣ (k0_mult2 v30).toNat := fun v30 k0_hw2 => k0_hw2.1
theorem k0_off2_inb : ∀ (v30 : BitVec 32) (k0_hw2 : k0_chk2 v30), ∀ a, (k0_off2 v30) a + S8x2x128.size a ≤ S20016x2x128.size a := fun v30 k0_hw2 => k0_hw2.2

def k0_mult3 (v52 : BitVec 32) : BitVec 32 :=
  let c3_i32_18 : BitVec 32 := 3#32
  let v53 : BitVec 32 := Scalar.shrsi v52 c3_i32_18
  let c3_i32_19 : BitVec 32 := 3#32
  let v54 : BitVec 32 := Scalar.shli v53 c3_i32_19
  v54

def k0_off3 (v52 : BitVec 32) : Fin 3 → Nat :=
  let c3_i32_18 : BitVec 32 := 3#32
  let v53 : BitVec 32 := Scalar.shrsi v52 c3_i32_18
  let c3_i32_19 : BitVec 32 := 3#32
  let v54 : BitVec 32 := Scalar.shli v53 c3_i32_19
  let v55 : BitVec 32 := v54
  let v56 : Index := Scalar.indexCast v55
  let c0_20 : Index := 0#32
  ![v56.toNat, 0, 0]

def k0_chk3 (v52 : BitVec 32) : Prop :=
  (8 ∣ (k0_mult3 v52).toNat) ∧
  (∀ a, (k0_off3 v52) a + S8x2x128.size a ≤ S20016x2x128.size a)
theorem k0_mult3_dvd : ∀ (v52 : BitVec 32) (k0_hw3 : k0_chk3 v52), 8 ∣ (k0_mult3 v52).toNat := fun v52 k0_hw3 => k0_hw3.1
theorem k0_off3_inb : ∀ (v52 : BitVec 32) (k0_hw3 : k0_chk3 v52), ∀ a, (k0_off3 v52) a + S8x2x128.size a ≤ S20016x2x128.size a := fun v52 k0_hw3 => k0_hw3.2

def k0_mult4 (v74 : BitVec 32) : BitVec 32 :=
  let c3_i32_29 : BitVec 32 := 3#32
  let v75 : BitVec 32 := Scalar.shrsi v74 c3_i32_29
  let c3_i32_30 : BitVec 32 := 3#32
  let v76 : BitVec 32 := Scalar.shli v75 c3_i32_30
  v76

def k0_off4 (v74 : BitVec 32) : Fin 3 → Nat :=
  let c3_i32_29 : BitVec 32 := 3#32
  let v75 : BitVec 32 := Scalar.shrsi v74 c3_i32_29
  let c3_i32_30 : BitVec 32 := 3#32
  let v76 : BitVec 32 := Scalar.shli v75 c3_i32_30
  let v77 : BitVec 32 := v76
  let v78 : Index := Scalar.indexCast v77
  let c0_31 : Index := 0#32
  ![v78.toNat, 0, 0]

def k0_chk4 (v74 : BitVec 32) : Prop :=
  (8 ∣ (k0_mult4 v74).toNat) ∧
  (∀ a, (k0_off4 v74) a + S8x2x128.size a ≤ S20016x2x128.size a)
theorem k0_mult4_dvd : ∀ (v74 : BitVec 32) (k0_hw4 : k0_chk4 v74), 8 ∣ (k0_mult4 v74).toNat := fun v74 k0_hw4 => k0_hw4.1
theorem k0_off4_inb : ∀ (v74 : BitVec 32) (k0_hw4 : k0_chk4 v74), ∀ a, (k0_off4 v74) a + S8x2x128.size a ≤ S20016x2x128.size a := fun v74 k0_hw4 => k0_hw4.2

def k0_mult5 (v96 : BitVec 32) : BitVec 32 :=
  let c3_i32_40 : BitVec 32 := 3#32
  let v97 : BitVec 32 := Scalar.shrsi v96 c3_i32_40
  let c3_i32_41 : BitVec 32 := 3#32
  let v98 : BitVec 32 := Scalar.shli v97 c3_i32_41
  v98

def k0_off5 (v96 : BitVec 32) : Fin 3 → Nat :=
  let c3_i32_40 : BitVec 32 := 3#32
  let v97 : BitVec 32 := Scalar.shrsi v96 c3_i32_40
  let c3_i32_41 : BitVec 32 := 3#32
  let v98 : BitVec 32 := Scalar.shli v97 c3_i32_41
  let v99 : BitVec 32 := v98
  let v100 : Index := Scalar.indexCast v99
  let c0_42 : Index := 0#32
  ![v100.toNat, 0, 0]

def k0_chk5 (v96 : BitVec 32) : Prop :=
  (8 ∣ (k0_mult5 v96).toNat) ∧
  (∀ a, (k0_off5 v96) a + S8x2x128.size a ≤ S20016x2x128.size a)
theorem k0_mult5_dvd : ∀ (v96 : BitVec 32) (k0_hw5 : k0_chk5 v96), 8 ∣ (k0_mult5 v96).toNat := fun v96 k0_hw5 => k0_hw5.1
theorem k0_off5_inb : ∀ (v96 : BitVec 32) (k0_hw5 : k0_chk5 v96), ∀ a, (k0_off5 v96) a + S8x2x128.size a ≤ S20016x2x128.size a := fun v96 k0_hw5 => k0_hw5.2

def k0_mult6 (v118 : BitVec 32) : BitVec 32 :=
  let c3_i32_51 : BitVec 32 := 3#32
  let v119 : BitVec 32 := Scalar.shrsi v118 c3_i32_51
  let c3_i32_52 : BitVec 32 := 3#32
  let v120 : BitVec 32 := Scalar.shli v119 c3_i32_52
  v120

def k0_off6 (v118 : BitVec 32) : Fin 3 → Nat :=
  let c3_i32_51 : BitVec 32 := 3#32
  let v119 : BitVec 32 := Scalar.shrsi v118 c3_i32_51
  let c3_i32_52 : BitVec 32 := 3#32
  let v120 : BitVec 32 := Scalar.shli v119 c3_i32_52
  let v121 : BitVec 32 := v120
  let v122 : Index := Scalar.indexCast v121
  let c0_53 : Index := 0#32
  ![v122.toNat, 0, 0]

def k0_chk6 (v118 : BitVec 32) : Prop :=
  (8 ∣ (k0_mult6 v118).toNat) ∧
  (∀ a, (k0_off6 v118) a + S8x2x128.size a ≤ S20016x2x128.size a)
theorem k0_mult6_dvd : ∀ (v118 : BitVec 32) (k0_hw6 : k0_chk6 v118), 8 ∣ (k0_mult6 v118).toNat := fun v118 k0_hw6 => k0_hw6.1
theorem k0_off6_inb : ∀ (v118 : BitVec 32) (k0_hw6 : k0_chk6 v118), ∀ a, (k0_off6 v118) a + S8x2x128.size a ≤ S20016x2x128.size a := fun v118 k0_hw6 => k0_hw6.2

def k0_mult7 (v140 : BitVec 32) : BitVec 32 :=
  let c3_i32_62 : BitVec 32 := 3#32
  let v141 : BitVec 32 := Scalar.shrsi v140 c3_i32_62
  let c3_i32_63 : BitVec 32 := 3#32
  let v142 : BitVec 32 := Scalar.shli v141 c3_i32_63
  v142

def k0_off7 (v140 : BitVec 32) : Fin 3 → Nat :=
  let c3_i32_62 : BitVec 32 := 3#32
  let v141 : BitVec 32 := Scalar.shrsi v140 c3_i32_62
  let c3_i32_63 : BitVec 32 := 3#32
  let v142 : BitVec 32 := Scalar.shli v141 c3_i32_63
  let v143 : BitVec 32 := v142
  let v144 : Index := Scalar.indexCast v143
  let c0_64 : Index := 0#32
  ![v144.toNat, 0, 0]

def k0_chk7 (v140 : BitVec 32) : Prop :=
  (8 ∣ (k0_mult7 v140).toNat) ∧
  (∀ a, (k0_off7 v140) a + S8x2x128.size a ≤ S20016x2x128.size a)
theorem k0_mult7_dvd : ∀ (v140 : BitVec 32) (k0_hw7 : k0_chk7 v140), 8 ∣ (k0_mult7 v140).toNat := fun v140 k0_hw7 => k0_hw7.1
theorem k0_off7_inb : ∀ (v140 : BitVec 32) (k0_hw7 : k0_chk7 v140), ∀ a, (k0_off7 v140) a + S8x2x128.size a ≤ S20016x2x128.size a := fun v140 k0_hw7 => k0_hw7.2

def k0_mult8 (v162 : BitVec 32) : BitVec 32 :=
  let c3_i32_73 : BitVec 32 := 3#32
  let v163 : BitVec 32 := Scalar.shrsi v162 c3_i32_73
  let c3_i32_74 : BitVec 32 := 3#32
  let v164 : BitVec 32 := Scalar.shli v163 c3_i32_74
  v164

def k0_off8 (v162 : BitVec 32) : Fin 3 → Nat :=
  let c3_i32_73 : BitVec 32 := 3#32
  let v163 : BitVec 32 := Scalar.shrsi v162 c3_i32_73
  let c3_i32_74 : BitVec 32 := 3#32
  let v164 : BitVec 32 := Scalar.shli v163 c3_i32_74
  let v165 : BitVec 32 := v164
  let v166 : Index := Scalar.indexCast v165
  let c0_75 : Index := 0#32
  ![v166.toNat, 0, 0]

def k0_chk8 (v162 : BitVec 32) : Prop :=
  (8 ∣ (k0_mult8 v162).toNat) ∧
  (∀ a, (k0_off8 v162) a + S8x2x128.size a ≤ S20016x2x128.size a)
theorem k0_mult8_dvd : ∀ (v162 : BitVec 32) (k0_hw8 : k0_chk8 v162), 8 ∣ (k0_mult8 v162).toNat := fun v162 k0_hw8 => k0_hw8.1
theorem k0_off8_inb : ∀ (v162 : BitVec 32) (k0_hw8 : k0_chk8 v162), ∀ a, (k0_off8 v162) a + S8x2x128.size a ≤ S20016x2x128.size a := fun v162 k0_hw8 => k0_hw8.2

def k0_mult9 (v184 : BitVec 32) : BitVec 32 :=
  let c3_i32_84 : BitVec 32 := 3#32
  let v185 : BitVec 32 := Scalar.shrsi v184 c3_i32_84
  let c3_i32_85 : BitVec 32 := 3#32
  let v186 : BitVec 32 := Scalar.shli v185 c3_i32_85
  v186

def k0_off9 (v184 : BitVec 32) : Fin 3 → Nat :=
  let c3_i32_84 : BitVec 32 := 3#32
  let v185 : BitVec 32 := Scalar.shrsi v184 c3_i32_84
  let c3_i32_85 : BitVec 32 := 3#32
  let v186 : BitVec 32 := Scalar.shli v185 c3_i32_85
  let v187 : BitVec 32 := v186
  let v188 : Index := Scalar.indexCast v187
  let c0_86 : Index := 0#32
  ![v188.toNat, 0, 0]

def k0_chk9 (v184 : BitVec 32) : Prop :=
  (8 ∣ (k0_mult9 v184).toNat) ∧
  (∀ a, (k0_off9 v184) a + S8x2x128.size a ≤ S20016x2x128.size a)
theorem k0_mult9_dvd : ∀ (v184 : BitVec 32) (k0_hw9 : k0_chk9 v184), 8 ∣ (k0_mult9 v184).toNat := fun v184 k0_hw9 => k0_hw9.1
theorem k0_off9_inb : ∀ (v184 : BitVec 32) (k0_hw9 : k0_chk9 v184), ∀ a, (k0_off9 v184) a + S8x2x128.size a ≤ S20016x2x128.size a := fun v184 k0_hw9 => k0_hw9.2

def k0_mult10 (v206 : BitVec 32) : BitVec 32 :=
  let c3_i32_95 : BitVec 32 := 3#32
  let v207 : BitVec 32 := Scalar.shrsi v206 c3_i32_95
  let c3_i32_96 : BitVec 32 := 3#32
  let v208 : BitVec 32 := Scalar.shli v207 c3_i32_96
  v208

def k0_off10 (v206 : BitVec 32) : Fin 3 → Nat :=
  let c3_i32_95 : BitVec 32 := 3#32
  let v207 : BitVec 32 := Scalar.shrsi v206 c3_i32_95
  let c3_i32_96 : BitVec 32 := 3#32
  let v208 : BitVec 32 := Scalar.shli v207 c3_i32_96
  let v209 : BitVec 32 := v208
  let v210 : Index := Scalar.indexCast v209
  let c0_97 : Index := 0#32
  ![v210.toNat, 0, 0]

def k0_chk10 (v206 : BitVec 32) : Prop :=
  (8 ∣ (k0_mult10 v206).toNat) ∧
  (∀ a, (k0_off10 v206) a + S8x2x128.size a ≤ S20016x2x128.size a)
theorem k0_mult10_dvd : ∀ (v206 : BitVec 32) (k0_hw10 : k0_chk10 v206), 8 ∣ (k0_mult10 v206).toNat := fun v206 k0_hw10 => k0_hw10.1
theorem k0_off10_inb : ∀ (v206 : BitVec 32) (k0_hw10 : k0_chk10 v206), ∀ a, (k0_off10 v206) a + S8x2x128.size a ≤ S20016x2x128.size a := fun v206 k0_hw10 => k0_hw10.2

def k0_mult11 (v228 : BitVec 32) : BitVec 32 :=
  let c3_i32_106 : BitVec 32 := 3#32
  let v229 : BitVec 32 := Scalar.shrsi v228 c3_i32_106
  let c3_i32_107 : BitVec 32 := 3#32
  let v230 : BitVec 32 := Scalar.shli v229 c3_i32_107
  v230

def k0_off11 (v228 : BitVec 32) : Fin 3 → Nat :=
  let c3_i32_106 : BitVec 32 := 3#32
  let v229 : BitVec 32 := Scalar.shrsi v228 c3_i32_106
  let c3_i32_107 : BitVec 32 := 3#32
  let v230 : BitVec 32 := Scalar.shli v229 c3_i32_107
  let v231 : BitVec 32 := v230
  let v232 : Index := Scalar.indexCast v231
  let c0_108 : Index := 0#32
  ![v232.toNat, 0, 0]

def k0_chk11 (v228 : BitVec 32) : Prop :=
  (8 ∣ (k0_mult11 v228).toNat) ∧
  (∀ a, (k0_off11 v228) a + S8x2x128.size a ≤ S20016x2x128.size a)
theorem k0_mult11_dvd : ∀ (v228 : BitVec 32) (k0_hw11 : k0_chk11 v228), 8 ∣ (k0_mult11 v228).toNat := fun v228 k0_hw11 => k0_hw11.1
theorem k0_off11_inb : ∀ (v228 : BitVec 32) (k0_hw11 : k0_chk11 v228), ∀ a, (k0_off11 v228) a + S8x2x128.size a ≤ S20016x2x128.size a := fun v228 k0_hw11 => k0_hw11.2

def k0_mult12 (v250 : BitVec 32) : BitVec 32 :=
  let c3_i32_117 : BitVec 32 := 3#32
  let v251 : BitVec 32 := Scalar.shrsi v250 c3_i32_117
  let c3_i32_118 : BitVec 32 := 3#32
  let v252 : BitVec 32 := Scalar.shli v251 c3_i32_118
  v252

def k0_off12 (v250 : BitVec 32) : Fin 3 → Nat :=
  let c3_i32_117 : BitVec 32 := 3#32
  let v251 : BitVec 32 := Scalar.shrsi v250 c3_i32_117
  let c3_i32_118 : BitVec 32 := 3#32
  let v252 : BitVec 32 := Scalar.shli v251 c3_i32_118
  let v253 : BitVec 32 := v252
  let v254 : Index := Scalar.indexCast v253
  let c0_119 : Index := 0#32
  ![v254.toNat, 0, 0]

def k0_chk12 (v250 : BitVec 32) : Prop :=
  (8 ∣ (k0_mult12 v250).toNat) ∧
  (∀ a, (k0_off12 v250) a + S8x2x128.size a ≤ S20016x2x128.size a)
theorem k0_mult12_dvd : ∀ (v250 : BitVec 32) (k0_hw12 : k0_chk12 v250), 8 ∣ (k0_mult12 v250).toNat := fun v250 k0_hw12 => k0_hw12.1
theorem k0_off12_inb : ∀ (v250 : BitVec 32) (k0_hw12 : k0_chk12 v250), ∀ a, (k0_off12 v250) a + S8x2x128.size a ≤ S20016x2x128.size a := fun v250 k0_hw12 => k0_hw12.2

def k0_mult13 (v272 : BitVec 32) : BitVec 32 :=
  let c3_i32_128 : BitVec 32 := 3#32
  let v273 : BitVec 32 := Scalar.shrsi v272 c3_i32_128
  let c3_i32_129 : BitVec 32 := 3#32
  let v274 : BitVec 32 := Scalar.shli v273 c3_i32_129
  v274

def k0_off13 (v272 : BitVec 32) : Fin 3 → Nat :=
  let c3_i32_128 : BitVec 32 := 3#32
  let v273 : BitVec 32 := Scalar.shrsi v272 c3_i32_128
  let c3_i32_129 : BitVec 32 := 3#32
  let v274 : BitVec 32 := Scalar.shli v273 c3_i32_129
  let v275 : BitVec 32 := v274
  let v276 : Index := Scalar.indexCast v275
  let c0_130 : Index := 0#32
  ![v276.toNat, 0, 0]

def k0_chk13 (v272 : BitVec 32) : Prop :=
  (8 ∣ (k0_mult13 v272).toNat) ∧
  (∀ a, (k0_off13 v272) a + S8x2x128.size a ≤ S20016x2x128.size a)
theorem k0_mult13_dvd : ∀ (v272 : BitVec 32) (k0_hw13 : k0_chk13 v272), 8 ∣ (k0_mult13 v272).toNat := fun v272 k0_hw13 => k0_hw13.1
theorem k0_off13_inb : ∀ (v272 : BitVec 32) (k0_hw13 : k0_chk13 v272), ∀ a, (k0_off13 v272) a + S8x2x128.size a ≤ S20016x2x128.size a := fun v272 k0_hw13 => k0_hw13.2

def k0_mult14 (v294 : BitVec 32) : BitVec 32 :=
  let c3_i32_139 : BitVec 32 := 3#32
  let v295 : BitVec 32 := Scalar.shrsi v294 c3_i32_139
  let c3_i32_140 : BitVec 32 := 3#32
  let v296 : BitVec 32 := Scalar.shli v295 c3_i32_140
  v296

def k0_off14 (v294 : BitVec 32) : Fin 3 → Nat :=
  let c3_i32_139 : BitVec 32 := 3#32
  let v295 : BitVec 32 := Scalar.shrsi v294 c3_i32_139
  let c3_i32_140 : BitVec 32 := 3#32
  let v296 : BitVec 32 := Scalar.shli v295 c3_i32_140
  let v297 : BitVec 32 := v296
  let v298 : Index := Scalar.indexCast v297
  let c0_141 : Index := 0#32
  ![v298.toNat, 0, 0]

def k0_chk14 (v294 : BitVec 32) : Prop :=
  (8 ∣ (k0_mult14 v294).toNat) ∧
  (∀ a, (k0_off14 v294) a + S8x2x128.size a ≤ S20016x2x128.size a)
theorem k0_mult14_dvd : ∀ (v294 : BitVec 32) (k0_hw14 : k0_chk14 v294), 8 ∣ (k0_mult14 v294).toNat := fun v294 k0_hw14 => k0_hw14.1
theorem k0_off14_inb : ∀ (v294 : BitVec 32) (k0_hw14 : k0_chk14 v294), ∀ a, (k0_off14 v294) a + S8x2x128.size a ≤ S20016x2x128.size a := fun v294 k0_hw14 => k0_hw14.2

def k0_mult15 (v316 : BitVec 32) : BitVec 32 :=
  let c3_i32_150 : BitVec 32 := 3#32
  let v317 : BitVec 32 := Scalar.shrsi v316 c3_i32_150
  let c3_i32_151 : BitVec 32 := 3#32
  let v318 : BitVec 32 := Scalar.shli v317 c3_i32_151
  v318

def k0_off15 (v316 : BitVec 32) : Fin 3 → Nat :=
  let c3_i32_150 : BitVec 32 := 3#32
  let v317 : BitVec 32 := Scalar.shrsi v316 c3_i32_150
  let c3_i32_151 : BitVec 32 := 3#32
  let v318 : BitVec 32 := Scalar.shli v317 c3_i32_151
  let v319 : BitVec 32 := v318
  let v320 : Index := Scalar.indexCast v319
  let c0_152 : Index := 0#32
  ![v320.toNat, 0, 0]

def k0_chk15 (v316 : BitVec 32) : Prop :=
  (8 ∣ (k0_mult15 v316).toNat) ∧
  (∀ a, (k0_off15 v316) a + S8x2x128.size a ≤ S20016x2x128.size a)
theorem k0_mult15_dvd : ∀ (v316 : BitVec 32) (k0_hw15 : k0_chk15 v316), 8 ∣ (k0_mult15 v316).toNat := fun v316 k0_hw15 => k0_hw15.1
theorem k0_off15_inb : ∀ (v316 : BitVec 32) (k0_hw15 : k0_chk15 v316), ∀ a, (k0_off15 v316) a + S8x2x128.size a ≤ S20016x2x128.size a := fun v316 k0_hw15 => k0_hw15.2

def k0_mult16 (v338 : BitVec 32) : BitVec 32 :=
  let c3_i32_161 : BitVec 32 := 3#32
  let v339 : BitVec 32 := Scalar.shrsi v338 c3_i32_161
  let c3_i32_162 : BitVec 32 := 3#32
  let v340 : BitVec 32 := Scalar.shli v339 c3_i32_162
  v340

def k0_off16 (v338 : BitVec 32) : Fin 3 → Nat :=
  let c3_i32_161 : BitVec 32 := 3#32
  let v339 : BitVec 32 := Scalar.shrsi v338 c3_i32_161
  let c3_i32_162 : BitVec 32 := 3#32
  let v340 : BitVec 32 := Scalar.shli v339 c3_i32_162
  let v341 : BitVec 32 := v340
  let v342 : Index := Scalar.indexCast v341
  let c0_163 : Index := 0#32
  ![v342.toNat, 0, 0]

def k0_chk16 (v338 : BitVec 32) : Prop :=
  (8 ∣ (k0_mult16 v338).toNat) ∧
  (∀ a, (k0_off16 v338) a + S8x2x128.size a ≤ S20016x2x128.size a)
theorem k0_mult16_dvd : ∀ (v338 : BitVec 32) (k0_hw16 : k0_chk16 v338), 8 ∣ (k0_mult16 v338).toNat := fun v338 k0_hw16 => k0_hw16.1
theorem k0_off16_inb : ∀ (v338 : BitVec 32) (k0_hw16 : k0_chk16 v338), ∀ a, (k0_off16 v338) a + S8x2x128.size a ≤ S20016x2x128.size a := fun v338 k0_hw16 => k0_hw16.2

def k0_mult17 (v360 : BitVec 32) : BitVec 32 :=
  let c3_i32_172 : BitVec 32 := 3#32
  let v361 : BitVec 32 := Scalar.shrsi v360 c3_i32_172
  let c3_i32_173 : BitVec 32 := 3#32
  let v362 : BitVec 32 := Scalar.shli v361 c3_i32_173
  v362

def k0_off17 (v360 : BitVec 32) : Fin 3 → Nat :=
  let c3_i32_172 : BitVec 32 := 3#32
  let v361 : BitVec 32 := Scalar.shrsi v360 c3_i32_172
  let c3_i32_173 : BitVec 32 := 3#32
  let v362 : BitVec 32 := Scalar.shli v361 c3_i32_173
  let v363 : BitVec 32 := v362
  let v364 : Index := Scalar.indexCast v363
  let c0_174 : Index := 0#32
  ![v364.toNat, 0, 0]

def k0_chk17 (v360 : BitVec 32) : Prop :=
  (8 ∣ (k0_mult17 v360).toNat) ∧
  (∀ a, (k0_off17 v360) a + S8x2x128.size a ≤ S20016x2x128.size a)
theorem k0_mult17_dvd : ∀ (v360 : BitVec 32) (k0_hw17 : k0_chk17 v360), 8 ∣ (k0_mult17 v360).toNat := fun v360 k0_hw17 => k0_hw17.1
theorem k0_off17_inb : ∀ (v360 : BitVec 32) (k0_hw17 : k0_chk17 v360), ∀ a, (k0_off17 v360) a + S8x2x128.size a ≤ S20016x2x128.size a := fun v360 k0_hw17 => k0_hw17.2

def k0_mult18 (v382 : BitVec 32) : BitVec 32 :=
  let c3_i32_183 : BitVec 32 := 3#32
  let v383 : BitVec 32 := Scalar.shrsi v382 c3_i32_183
  let c3_i32_184 : BitVec 32 := 3#32
  let v384 : BitVec 32 := Scalar.shli v383 c3_i32_184
  v384

def k0_off18 (v382 : BitVec 32) : Fin 3 → Nat :=
  let c3_i32_183 : BitVec 32 := 3#32
  let v383 : BitVec 32 := Scalar.shrsi v382 c3_i32_183
  let c3_i32_184 : BitVec 32 := 3#32
  let v384 : BitVec 32 := Scalar.shli v383 c3_i32_184
  let v385 : BitVec 32 := v384
  let v386 : Index := Scalar.indexCast v385
  let c0_185 : Index := 0#32
  ![v386.toNat, 0, 0]

def k0_chk18 (v382 : BitVec 32) : Prop :=
  (8 ∣ (k0_mult18 v382).toNat) ∧
  (∀ a, (k0_off18 v382) a + S8x2x128.size a ≤ S20016x2x128.size a)
theorem k0_mult18_dvd : ∀ (v382 : BitVec 32) (k0_hw18 : k0_chk18 v382), 8 ∣ (k0_mult18 v382).toNat := fun v382 k0_hw18 => k0_hw18.1
theorem k0_off18_inb : ∀ (v382 : BitVec 32) (k0_hw18 : k0_chk18 v382), ∀ a, (k0_off18 v382) a + S8x2x128.size a ≤ S20016x2x128.size a := fun v382 k0_hw18 => k0_hw18.2

def k0_mult19 (v404 : BitVec 32) : BitVec 32 :=
  let c3_i32_194 : BitVec 32 := 3#32
  let v405 : BitVec 32 := Scalar.shrsi v404 c3_i32_194
  let c3_i32_195 : BitVec 32 := 3#32
  let v406 : BitVec 32 := Scalar.shli v405 c3_i32_195
  v406

def k0_off19 (v404 : BitVec 32) : Fin 3 → Nat :=
  let c3_i32_194 : BitVec 32 := 3#32
  let v405 : BitVec 32 := Scalar.shrsi v404 c3_i32_194
  let c3_i32_195 : BitVec 32 := 3#32
  let v406 : BitVec 32 := Scalar.shli v405 c3_i32_195
  let v407 : BitVec 32 := v406
  let v408 : Index := Scalar.indexCast v407
  let c0_196 : Index := 0#32
  ![v408.toNat, 0, 0]

def k0_chk19 (v404 : BitVec 32) : Prop :=
  (8 ∣ (k0_mult19 v404).toNat) ∧
  (∀ a, (k0_off19 v404) a + S8x2x128.size a ≤ S20016x2x128.size a)
theorem k0_mult19_dvd : ∀ (v404 : BitVec 32) (k0_hw19 : k0_chk19 v404), 8 ∣ (k0_mult19 v404).toNat := fun v404 k0_hw19 => k0_hw19.1
theorem k0_off19_inb : ∀ (v404 : BitVec 32) (k0_hw19 : k0_chk19 v404), ∀ a, (k0_off19 v404) a + S8x2x128.size a ≤ S20016x2x128.size a := fun v404 k0_hw19 => k0_hw19.2

def k0_mult20 (v426 : BitVec 32) : BitVec 32 :=
  let c3_i32_205 : BitVec 32 := 3#32
  let v427 : BitVec 32 := Scalar.shrsi v426 c3_i32_205
  let c3_i32_206 : BitVec 32 := 3#32
  let v428 : BitVec 32 := Scalar.shli v427 c3_i32_206
  v428

def k0_off20 (v426 : BitVec 32) : Fin 3 → Nat :=
  let c3_i32_205 : BitVec 32 := 3#32
  let v427 : BitVec 32 := Scalar.shrsi v426 c3_i32_205
  let c3_i32_206 : BitVec 32 := 3#32
  let v428 : BitVec 32 := Scalar.shli v427 c3_i32_206
  let v429 : BitVec 32 := v428
  let v430 : Index := Scalar.indexCast v429
  let c0_207 : Index := 0#32
  ![v430.toNat, 0, 0]

def k0_chk20 (v426 : BitVec 32) : Prop :=
  (8 ∣ (k0_mult20 v426).toNat) ∧
  (∀ a, (k0_off20 v426) a + S8x2x128.size a ≤ S20016x2x128.size a)
theorem k0_mult20_dvd : ∀ (v426 : BitVec 32) (k0_hw20 : k0_chk20 v426), 8 ∣ (k0_mult20 v426).toNat := fun v426 k0_hw20 => k0_hw20.1
theorem k0_off20_inb : ∀ (v426 : BitVec 32) (k0_hw20 : k0_chk20 v426), ∀ a, (k0_off20 v426) a + S8x2x128.size a ≤ S20016x2x128.size a := fun v426 k0_hw20 => k0_hw20.2

def k0_mult21 (v448 : BitVec 32) : BitVec 32 :=
  let c3_i32_216 : BitVec 32 := 3#32
  let v449 : BitVec 32 := Scalar.shrsi v448 c3_i32_216
  let c3_i32_217 : BitVec 32 := 3#32
  let v450 : BitVec 32 := Scalar.shli v449 c3_i32_217
  v450

def k0_off21 (v448 : BitVec 32) : Fin 3 → Nat :=
  let c3_i32_216 : BitVec 32 := 3#32
  let v449 : BitVec 32 := Scalar.shrsi v448 c3_i32_216
  let c3_i32_217 : BitVec 32 := 3#32
  let v450 : BitVec 32 := Scalar.shli v449 c3_i32_217
  let v451 : BitVec 32 := v450
  let v452 : Index := Scalar.indexCast v451
  let c0_218 : Index := 0#32
  ![v452.toNat, 0, 0]

def k0_chk21 (v448 : BitVec 32) : Prop :=
  (8 ∣ (k0_mult21 v448).toNat) ∧
  (∀ a, (k0_off21 v448) a + S8x2x128.size a ≤ S20016x2x128.size a)
theorem k0_mult21_dvd : ∀ (v448 : BitVec 32) (k0_hw21 : k0_chk21 v448), 8 ∣ (k0_mult21 v448).toNat := fun v448 k0_hw21 => k0_hw21.1
theorem k0_off21_inb : ∀ (v448 : BitVec 32) (k0_hw21 : k0_chk21 v448), ∀ a, (k0_off21 v448) a + S8x2x128.size a ≤ S20016x2x128.size a := fun v448 k0_hw21 => k0_hw21.2

def k0_mult22 (v470 : BitVec 32) : BitVec 32 :=
  let c3_i32_227 : BitVec 32 := 3#32
  let v471 : BitVec 32 := Scalar.shrsi v470 c3_i32_227
  let c3_i32_228 : BitVec 32 := 3#32
  let v472 : BitVec 32 := Scalar.shli v471 c3_i32_228
  v472

def k0_off22 (v470 : BitVec 32) : Fin 3 → Nat :=
  let c3_i32_227 : BitVec 32 := 3#32
  let v471 : BitVec 32 := Scalar.shrsi v470 c3_i32_227
  let c3_i32_228 : BitVec 32 := 3#32
  let v472 : BitVec 32 := Scalar.shli v471 c3_i32_228
  let v473 : BitVec 32 := v472
  let v474 : Index := Scalar.indexCast v473
  let c0_229 : Index := 0#32
  ![v474.toNat, 0, 0]

def k0_chk22 (v470 : BitVec 32) : Prop :=
  (8 ∣ (k0_mult22 v470).toNat) ∧
  (∀ a, (k0_off22 v470) a + S8x2x128.size a ≤ S20016x2x128.size a)
theorem k0_mult22_dvd : ∀ (v470 : BitVec 32) (k0_hw22 : k0_chk22 v470), 8 ∣ (k0_mult22 v470).toNat := fun v470 k0_hw22 => k0_hw22.1
theorem k0_off22_inb : ∀ (v470 : BitVec 32) (k0_hw22 : k0_chk22 v470), ∀ a, (k0_off22 v470) a + S8x2x128.size a ≤ S20016x2x128.size a := fun v470 k0_hw22 => k0_hw22.2

def k0_mult23 (v492 : BitVec 32) : BitVec 32 :=
  let c3_i32_238 : BitVec 32 := 3#32
  let v493 : BitVec 32 := Scalar.shrsi v492 c3_i32_238
  let c3_i32_239 : BitVec 32 := 3#32
  let v494 : BitVec 32 := Scalar.shli v493 c3_i32_239
  v494

def k0_off23 (v492 : BitVec 32) : Fin 3 → Nat :=
  let c3_i32_238 : BitVec 32 := 3#32
  let v493 : BitVec 32 := Scalar.shrsi v492 c3_i32_238
  let c3_i32_239 : BitVec 32 := 3#32
  let v494 : BitVec 32 := Scalar.shli v493 c3_i32_239
  let v495 : BitVec 32 := v494
  let v496 : Index := Scalar.indexCast v495
  let c0_240 : Index := 0#32
  ![v496.toNat, 0, 0]

def k0_chk23 (v492 : BitVec 32) : Prop :=
  (8 ∣ (k0_mult23 v492).toNat) ∧
  (∀ a, (k0_off23 v492) a + S8x2x128.size a ≤ S20016x2x128.size a)
theorem k0_mult23_dvd : ∀ (v492 : BitVec 32) (k0_hw23 : k0_chk23 v492), 8 ∣ (k0_mult23 v492).toNat := fun v492 k0_hw23 => k0_hw23.1
theorem k0_off23_inb : ∀ (v492 : BitVec 32) (k0_hw23 : k0_chk23 v492), ∀ a, (k0_off23 v492) a + S8x2x128.size a ≤ S20016x2x128.size a := fun v492 k0_hw23 => k0_hw23.2

def k0_mult24 (v514 : BitVec 32) : BitVec 32 :=
  let c3_i32_249 : BitVec 32 := 3#32
  let v515 : BitVec 32 := Scalar.shrsi v514 c3_i32_249
  let c3_i32_250 : BitVec 32 := 3#32
  let v516 : BitVec 32 := Scalar.shli v515 c3_i32_250
  v516

def k0_off24 (v514 : BitVec 32) : Fin 3 → Nat :=
  let c3_i32_249 : BitVec 32 := 3#32
  let v515 : BitVec 32 := Scalar.shrsi v514 c3_i32_249
  let c3_i32_250 : BitVec 32 := 3#32
  let v516 : BitVec 32 := Scalar.shli v515 c3_i32_250
  let v517 : BitVec 32 := v516
  let v518 : Index := Scalar.indexCast v517
  let c0_251 : Index := 0#32
  ![v518.toNat, 0, 0]

def k0_chk24 (v514 : BitVec 32) : Prop :=
  (8 ∣ (k0_mult24 v514).toNat) ∧
  (∀ a, (k0_off24 v514) a + S8x2x128.size a ≤ S20016x2x128.size a)
theorem k0_mult24_dvd : ∀ (v514 : BitVec 32) (k0_hw24 : k0_chk24 v514), 8 ∣ (k0_mult24 v514).toNat := fun v514 k0_hw24 => k0_hw24.1
theorem k0_off24_inb : ∀ (v514 : BitVec 32) (k0_hw24 : k0_chk24 v514), ∀ a, (k0_off24 v514) a + S8x2x128.size a ≤ S20016x2x128.size a := fun v514 k0_hw24 => k0_hw24.2

def k0_mult25 (v536 : BitVec 32) : BitVec 32 :=
  let c3_i32_260 : BitVec 32 := 3#32
  let v537 : BitVec 32 := Scalar.shrsi v536 c3_i32_260
  let c3_i32_261 : BitVec 32 := 3#32
  let v538 : BitVec 32 := Scalar.shli v537 c3_i32_261
  v538

def k0_off25 (v536 : BitVec 32) : Fin 3 → Nat :=
  let c3_i32_260 : BitVec 32 := 3#32
  let v537 : BitVec 32 := Scalar.shrsi v536 c3_i32_260
  let c3_i32_261 : BitVec 32 := 3#32
  let v538 : BitVec 32 := Scalar.shli v537 c3_i32_261
  let v539 : BitVec 32 := v538
  let v540 : Index := Scalar.indexCast v539
  let c0_262 : Index := 0#32
  ![v540.toNat, 0, 0]

def k0_chk25 (v536 : BitVec 32) : Prop :=
  (8 ∣ (k0_mult25 v536).toNat) ∧
  (∀ a, (k0_off25 v536) a + S8x2x128.size a ≤ S20016x2x128.size a)
theorem k0_mult25_dvd : ∀ (v536 : BitVec 32) (k0_hw25 : k0_chk25 v536), 8 ∣ (k0_mult25 v536).toNat := fun v536 k0_hw25 => k0_hw25.1
theorem k0_off25_inb : ∀ (v536 : BitVec 32) (k0_hw25 : k0_chk25 v536), ∀ a, (k0_off25 v536) a + S8x2x128.size a ≤ S20016x2x128.size a := fun v536 k0_hw25 => k0_hw25.2

def k0_mult26 (v558 : BitVec 32) : BitVec 32 :=
  let c3_i32_271 : BitVec 32 := 3#32
  let v559 : BitVec 32 := Scalar.shrsi v558 c3_i32_271
  let c3_i32_272 : BitVec 32 := 3#32
  let v560 : BitVec 32 := Scalar.shli v559 c3_i32_272
  v560

def k0_off26 (v558 : BitVec 32) : Fin 3 → Nat :=
  let c3_i32_271 : BitVec 32 := 3#32
  let v559 : BitVec 32 := Scalar.shrsi v558 c3_i32_271
  let c3_i32_272 : BitVec 32 := 3#32
  let v560 : BitVec 32 := Scalar.shli v559 c3_i32_272
  let v561 : BitVec 32 := v560
  let v562 : Index := Scalar.indexCast v561
  let c0_273 : Index := 0#32
  ![v562.toNat, 0, 0]

def k0_chk26 (v558 : BitVec 32) : Prop :=
  (8 ∣ (k0_mult26 v558).toNat) ∧
  (∀ a, (k0_off26 v558) a + S8x2x128.size a ≤ S20016x2x128.size a)
theorem k0_mult26_dvd : ∀ (v558 : BitVec 32) (k0_hw26 : k0_chk26 v558), 8 ∣ (k0_mult26 v558).toNat := fun v558 k0_hw26 => k0_hw26.1
theorem k0_off26_inb : ∀ (v558 : BitVec 32) (k0_hw26 : k0_chk26 v558), ∀ a, (k0_off26 v558) a + S8x2x128.size a ≤ S20016x2x128.size a := fun v558 k0_hw26 => k0_hw26.2

def k0_mult27 (v580 : BitVec 32) : BitVec 32 :=
  let c3_i32_282 : BitVec 32 := 3#32
  let v581 : BitVec 32 := Scalar.shrsi v580 c3_i32_282
  let c3_i32_283 : BitVec 32 := 3#32
  let v582 : BitVec 32 := Scalar.shli v581 c3_i32_283
  v582

def k0_off27 (v580 : BitVec 32) : Fin 3 → Nat :=
  let c3_i32_282 : BitVec 32 := 3#32
  let v581 : BitVec 32 := Scalar.shrsi v580 c3_i32_282
  let c3_i32_283 : BitVec 32 := 3#32
  let v582 : BitVec 32 := Scalar.shli v581 c3_i32_283
  let v583 : BitVec 32 := v582
  let v584 : Index := Scalar.indexCast v583
  let c0_284 : Index := 0#32
  ![v584.toNat, 0, 0]

def k0_chk27 (v580 : BitVec 32) : Prop :=
  (8 ∣ (k0_mult27 v580).toNat) ∧
  (∀ a, (k0_off27 v580) a + S8x2x128.size a ≤ S20016x2x128.size a)
theorem k0_mult27_dvd : ∀ (v580 : BitVec 32) (k0_hw27 : k0_chk27 v580), 8 ∣ (k0_mult27 v580).toNat := fun v580 k0_hw27 => k0_hw27.1
theorem k0_off27_inb : ∀ (v580 : BitVec 32) (k0_hw27 : k0_chk27 v580), ∀ a, (k0_off27 v580) a + S8x2x128.size a ≤ S20016x2x128.size a := fun v580 k0_hw27 => k0_hw27.2

def k0_mult28 (v602 : BitVec 32) : BitVec 32 :=
  let c3_i32_293 : BitVec 32 := 3#32
  let v603 : BitVec 32 := Scalar.shrsi v602 c3_i32_293
  let c3_i32_294 : BitVec 32 := 3#32
  let v604 : BitVec 32 := Scalar.shli v603 c3_i32_294
  v604

def k0_off28 (v602 : BitVec 32) : Fin 3 → Nat :=
  let c3_i32_293 : BitVec 32 := 3#32
  let v603 : BitVec 32 := Scalar.shrsi v602 c3_i32_293
  let c3_i32_294 : BitVec 32 := 3#32
  let v604 : BitVec 32 := Scalar.shli v603 c3_i32_294
  let v605 : BitVec 32 := v604
  let v606 : Index := Scalar.indexCast v605
  let c0_295 : Index := 0#32
  ![v606.toNat, 0, 0]

def k0_chk28 (v602 : BitVec 32) : Prop :=
  (8 ∣ (k0_mult28 v602).toNat) ∧
  (∀ a, (k0_off28 v602) a + S8x2x128.size a ≤ S20016x2x128.size a)
theorem k0_mult28_dvd : ∀ (v602 : BitVec 32) (k0_hw28 : k0_chk28 v602), 8 ∣ (k0_mult28 v602).toNat := fun v602 k0_hw28 => k0_hw28.1
theorem k0_off28_inb : ∀ (v602 : BitVec 32) (k0_hw28 : k0_chk28 v602), ∀ a, (k0_off28 v602) a + S8x2x128.size a ≤ S20016x2x128.size a := fun v602 k0_hw28 => k0_hw28.2

def k0_mult29 (v624 : BitVec 32) : BitVec 32 :=
  let c3_i32_304 : BitVec 32 := 3#32
  let v625 : BitVec 32 := Scalar.shrsi v624 c3_i32_304
  let c3_i32_305 : BitVec 32 := 3#32
  let v626 : BitVec 32 := Scalar.shli v625 c3_i32_305
  v626

def k0_off29 (v624 : BitVec 32) : Fin 3 → Nat :=
  let c3_i32_304 : BitVec 32 := 3#32
  let v625 : BitVec 32 := Scalar.shrsi v624 c3_i32_304
  let c3_i32_305 : BitVec 32 := 3#32
  let v626 : BitVec 32 := Scalar.shli v625 c3_i32_305
  let v627 : BitVec 32 := v626
  let v628 : Index := Scalar.indexCast v627
  let c0_306 : Index := 0#32
  ![v628.toNat, 0, 0]

def k0_chk29 (v624 : BitVec 32) : Prop :=
  (8 ∣ (k0_mult29 v624).toNat) ∧
  (∀ a, (k0_off29 v624) a + S8x2x128.size a ≤ S20016x2x128.size a)
theorem k0_mult29_dvd : ∀ (v624 : BitVec 32) (k0_hw29 : k0_chk29 v624), 8 ∣ (k0_mult29 v624).toNat := fun v624 k0_hw29 => k0_hw29.1
theorem k0_off29_inb : ∀ (v624 : BitVec 32) (k0_hw29 : k0_chk29 v624), ∀ a, (k0_off29 v624) a + S8x2x128.size a ≤ S20016x2x128.size a := fun v624 k0_hw29 => k0_hw29.2

def k0_mult30 (v646 : BitVec 32) : BitVec 32 :=
  let c3_i32_315 : BitVec 32 := 3#32
  let v647 : BitVec 32 := Scalar.shrsi v646 c3_i32_315
  let c3_i32_316 : BitVec 32 := 3#32
  let v648 : BitVec 32 := Scalar.shli v647 c3_i32_316
  v648

def k0_off30 (v646 : BitVec 32) : Fin 3 → Nat :=
  let c3_i32_315 : BitVec 32 := 3#32
  let v647 : BitVec 32 := Scalar.shrsi v646 c3_i32_315
  let c3_i32_316 : BitVec 32 := 3#32
  let v648 : BitVec 32 := Scalar.shli v647 c3_i32_316
  let v649 : BitVec 32 := v648
  let v650 : Index := Scalar.indexCast v649
  let c0_317 : Index := 0#32
  ![v650.toNat, 0, 0]

def k0_chk30 (v646 : BitVec 32) : Prop :=
  (8 ∣ (k0_mult30 v646).toNat) ∧
  (∀ a, (k0_off30 v646) a + S8x2x128.size a ≤ S20016x2x128.size a)
theorem k0_mult30_dvd : ∀ (v646 : BitVec 32) (k0_hw30 : k0_chk30 v646), 8 ∣ (k0_mult30 v646).toNat := fun v646 k0_hw30 => k0_hw30.1
theorem k0_off30_inb : ∀ (v646 : BitVec 32) (k0_hw30 : k0_chk30 v646), ∀ a, (k0_off30 v646) a + S8x2x128.size a ≤ S20016x2x128.size a := fun v646 k0_hw30 => k0_hw30.2

def k0_mult31 (v668 : BitVec 32) : BitVec 32 :=
  let c3_i32_326 : BitVec 32 := 3#32
  let v669 : BitVec 32 := Scalar.shrsi v668 c3_i32_326
  let c3_i32_327 : BitVec 32 := 3#32
  let v670 : BitVec 32 := Scalar.shli v669 c3_i32_327
  v670

def k0_off31 (v668 : BitVec 32) : Fin 3 → Nat :=
  let c3_i32_326 : BitVec 32 := 3#32
  let v669 : BitVec 32 := Scalar.shrsi v668 c3_i32_326
  let c3_i32_327 : BitVec 32 := 3#32
  let v670 : BitVec 32 := Scalar.shli v669 c3_i32_327
  let v671 : BitVec 32 := v670
  let v672 : Index := Scalar.indexCast v671
  let c0_328 : Index := 0#32
  ![v672.toNat, 0, 0]

def k0_chk31 (v668 : BitVec 32) : Prop :=
  (8 ∣ (k0_mult31 v668).toNat) ∧
  (∀ a, (k0_off31 v668) a + S8x2x128.size a ≤ S20016x2x128.size a)
theorem k0_mult31_dvd : ∀ (v668 : BitVec 32) (k0_hw31 : k0_chk31 v668), 8 ∣ (k0_mult31 v668).toNat := fun v668 k0_hw31 => k0_hw31.1
theorem k0_off31_inb : ∀ (v668 : BitVec 32) (k0_hw31 : k0_chk31 v668), ∀ a, (k0_off31 v668) a + S8x2x128.size a ≤ S20016x2x128.size a := fun v668 k0_hw31 => k0_hw31.2

def k0_mult32 (v690 : BitVec 32) : BitVec 32 :=
  let c3_i32_337 : BitVec 32 := 3#32
  let v691 : BitVec 32 := Scalar.shrsi v690 c3_i32_337
  let c3_i32_338 : BitVec 32 := 3#32
  let v692 : BitVec 32 := Scalar.shli v691 c3_i32_338
  v692

def k0_off32 (v690 : BitVec 32) : Fin 3 → Nat :=
  let c3_i32_337 : BitVec 32 := 3#32
  let v691 : BitVec 32 := Scalar.shrsi v690 c3_i32_337
  let c3_i32_338 : BitVec 32 := 3#32
  let v692 : BitVec 32 := Scalar.shli v691 c3_i32_338
  let v693 : BitVec 32 := v692
  let v694 : Index := Scalar.indexCast v693
  let c0_339 : Index := 0#32
  ![v694.toNat, 0, 0]

def k0_chk32 (v690 : BitVec 32) : Prop :=
  (8 ∣ (k0_mult32 v690).toNat) ∧
  (∀ a, (k0_off32 v690) a + S8x2x128.size a ≤ S20016x2x128.size a)
theorem k0_mult32_dvd : ∀ (v690 : BitVec 32) (k0_hw32 : k0_chk32 v690), 8 ∣ (k0_mult32 v690).toNat := fun v690 k0_hw32 => k0_hw32.1
theorem k0_off32_inb : ∀ (v690 : BitVec 32) (k0_hw32 : k0_chk32 v690), ∀ a, (k0_off32 v690) a + S8x2x128.size a ≤ S20016x2x128.size a := fun v690 k0_hw32 => k0_hw32.2

def k0_mult33 (v712 : BitVec 32) : BitVec 32 :=
  let c3_i32_348 : BitVec 32 := 3#32
  let v713 : BitVec 32 := Scalar.shrsi v712 c3_i32_348
  let c3_i32_349 : BitVec 32 := 3#32
  let v714 : BitVec 32 := Scalar.shli v713 c3_i32_349
  v714

def k0_off33 (v712 : BitVec 32) : Fin 3 → Nat :=
  let c3_i32_348 : BitVec 32 := 3#32
  let v713 : BitVec 32 := Scalar.shrsi v712 c3_i32_348
  let c3_i32_349 : BitVec 32 := 3#32
  let v714 : BitVec 32 := Scalar.shli v713 c3_i32_349
  let v715 : BitVec 32 := v714
  let v716 : Index := Scalar.indexCast v715
  let c0_350 : Index := 0#32
  ![v716.toNat, 0, 0]

def k0_chk33 (v712 : BitVec 32) : Prop :=
  (8 ∣ (k0_mult33 v712).toNat) ∧
  (∀ a, (k0_off33 v712) a + S8x2x128.size a ≤ S20016x2x128.size a)
theorem k0_mult33_dvd : ∀ (v712 : BitVec 32) (k0_hw33 : k0_chk33 v712), 8 ∣ (k0_mult33 v712).toNat := fun v712 k0_hw33 => k0_hw33.1
theorem k0_off33_inb : ∀ (v712 : BitVec 32) (k0_hw33 : k0_chk33 v712), ∀ a, (k0_off33 v712) a + S8x2x128.size a ≤ S20016x2x128.size a := fun v712 k0_hw33 => k0_hw33.2

def k0_mult34 (v734 : BitVec 32) : BitVec 32 :=
  let c3_i32_359 : BitVec 32 := 3#32
  let v735 : BitVec 32 := Scalar.shrsi v734 c3_i32_359
  let c3_i32_360 : BitVec 32 := 3#32
  let v736 : BitVec 32 := Scalar.shli v735 c3_i32_360
  v736

def k0_off34 (v734 : BitVec 32) : Fin 3 → Nat :=
  let c3_i32_359 : BitVec 32 := 3#32
  let v735 : BitVec 32 := Scalar.shrsi v734 c3_i32_359
  let c3_i32_360 : BitVec 32 := 3#32
  let v736 : BitVec 32 := Scalar.shli v735 c3_i32_360
  let v737 : BitVec 32 := v736
  let v738 : Index := Scalar.indexCast v737
  let c0_361 : Index := 0#32
  ![v738.toNat, 0, 0]

def k0_chk34 (v734 : BitVec 32) : Prop :=
  (8 ∣ (k0_mult34 v734).toNat) ∧
  (∀ a, (k0_off34 v734) a + S8x2x128.size a ≤ S20016x2x128.size a)
theorem k0_mult34_dvd : ∀ (v734 : BitVec 32) (k0_hw34 : k0_chk34 v734), 8 ∣ (k0_mult34 v734).toNat := fun v734 k0_hw34 => k0_hw34.1
theorem k0_off34_inb : ∀ (v734 : BitVec 32) (k0_hw34 : k0_chk34 v734), ∀ a, (k0_off34 v734) a + S8x2x128.size a ≤ S20016x2x128.size a := fun v734 k0_hw34 => k0_hw34.2

def k0_mult35 (v756 : BitVec 32) : BitVec 32 :=
  let c3_i32_370 : BitVec 32 := 3#32
  let v757 : BitVec 32 := Scalar.shrsi v756 c3_i32_370
  let c3_i32_371 : BitVec 32 := 3#32
  let v758 : BitVec 32 := Scalar.shli v757 c3_i32_371
  v758

def k0_off35 (v756 : BitVec 32) : Fin 3 → Nat :=
  let c3_i32_370 : BitVec 32 := 3#32
  let v757 : BitVec 32 := Scalar.shrsi v756 c3_i32_370
  let c3_i32_371 : BitVec 32 := 3#32
  let v758 : BitVec 32 := Scalar.shli v757 c3_i32_371
  let v759 : BitVec 32 := v758
  let v760 : Index := Scalar.indexCast v759
  let c0_372 : Index := 0#32
  ![v760.toNat, 0, 0]

def k0_chk35 (v756 : BitVec 32) : Prop :=
  (8 ∣ (k0_mult35 v756).toNat) ∧
  (∀ a, (k0_off35 v756) a + S8x2x128.size a ≤ S20016x2x128.size a)
theorem k0_mult35_dvd : ∀ (v756 : BitVec 32) (k0_hw35 : k0_chk35 v756), 8 ∣ (k0_mult35 v756).toNat := fun v756 k0_hw35 => k0_hw35.1
theorem k0_off35_inb : ∀ (v756 : BitVec 32) (k0_hw35 : k0_chk35 v756), ∀ a, (k0_off35 v756) a + S8x2x128.size a ≤ S20016x2x128.size a := fun v756 k0_hw35 => k0_hw35.2

def k0_mult36 (v778 : BitVec 32) : BitVec 32 :=
  let c3_i32_381 : BitVec 32 := 3#32
  let v779 : BitVec 32 := Scalar.shrsi v778 c3_i32_381
  let c3_i32_382 : BitVec 32 := 3#32
  let v780 : BitVec 32 := Scalar.shli v779 c3_i32_382
  v780

def k0_off36 (v778 : BitVec 32) : Fin 3 → Nat :=
  let c3_i32_381 : BitVec 32 := 3#32
  let v779 : BitVec 32 := Scalar.shrsi v778 c3_i32_381
  let c3_i32_382 : BitVec 32 := 3#32
  let v780 : BitVec 32 := Scalar.shli v779 c3_i32_382
  let v781 : BitVec 32 := v780
  let v782 : Index := Scalar.indexCast v781
  let c0_383 : Index := 0#32
  ![v782.toNat, 0, 0]

def k0_chk36 (v778 : BitVec 32) : Prop :=
  (8 ∣ (k0_mult36 v778).toNat) ∧
  (∀ a, (k0_off36 v778) a + S8x2x128.size a ≤ S20016x2x128.size a)
theorem k0_mult36_dvd : ∀ (v778 : BitVec 32) (k0_hw36 : k0_chk36 v778), 8 ∣ (k0_mult36 v778).toNat := fun v778 k0_hw36 => k0_hw36.1
theorem k0_off36_inb : ∀ (v778 : BitVec 32) (k0_hw36 : k0_chk36 v778), ∀ a, (k0_off36 v778) a + S8x2x128.size a ≤ S20016x2x128.size a := fun v778 k0_hw36 => k0_hw36.2

def k0_mult37 (v800 : BitVec 32) : BitVec 32 :=
  let c3_i32_392 : BitVec 32 := 3#32
  let v801 : BitVec 32 := Scalar.shrsi v800 c3_i32_392
  let c3_i32_393 : BitVec 32 := 3#32
  let v802 : BitVec 32 := Scalar.shli v801 c3_i32_393
  v802

def k0_off37 (v800 : BitVec 32) : Fin 3 → Nat :=
  let c3_i32_392 : BitVec 32 := 3#32
  let v801 : BitVec 32 := Scalar.shrsi v800 c3_i32_392
  let c3_i32_393 : BitVec 32 := 3#32
  let v802 : BitVec 32 := Scalar.shli v801 c3_i32_393
  let v803 : BitVec 32 := v802
  let v804 : Index := Scalar.indexCast v803
  let c0_394 : Index := 0#32
  ![v804.toNat, 0, 0]

def k0_chk37 (v800 : BitVec 32) : Prop :=
  (8 ∣ (k0_mult37 v800).toNat) ∧
  (∀ a, (k0_off37 v800) a + S8x2x128.size a ≤ S20016x2x128.size a)
theorem k0_mult37_dvd : ∀ (v800 : BitVec 32) (k0_hw37 : k0_chk37 v800), 8 ∣ (k0_mult37 v800).toNat := fun v800 k0_hw37 => k0_hw37.1
theorem k0_off37_inb : ∀ (v800 : BitVec 32) (k0_hw37 : k0_chk37 v800), ∀ a, (k0_off37 v800) a + S8x2x128.size a ≤ S20016x2x128.size a := fun v800 k0_hw37 => k0_hw37.2

def k0_mult38 (v822 : BitVec 32) : BitVec 32 :=
  let c3_i32_403 : BitVec 32 := 3#32
  let v823 : BitVec 32 := Scalar.shrsi v822 c3_i32_403
  let c3_i32_404 : BitVec 32 := 3#32
  let v824 : BitVec 32 := Scalar.shli v823 c3_i32_404
  v824

def k0_off38 (v822 : BitVec 32) : Fin 3 → Nat :=
  let c3_i32_403 : BitVec 32 := 3#32
  let v823 : BitVec 32 := Scalar.shrsi v822 c3_i32_403
  let c3_i32_404 : BitVec 32 := 3#32
  let v824 : BitVec 32 := Scalar.shli v823 c3_i32_404
  let v825 : BitVec 32 := v824
  let v826 : Index := Scalar.indexCast v825
  let c0_405 : Index := 0#32
  ![v826.toNat, 0, 0]

def k0_chk38 (v822 : BitVec 32) : Prop :=
  (8 ∣ (k0_mult38 v822).toNat) ∧
  (∀ a, (k0_off38 v822) a + S8x2x128.size a ≤ S20016x2x128.size a)
theorem k0_mult38_dvd : ∀ (v822 : BitVec 32) (k0_hw38 : k0_chk38 v822), 8 ∣ (k0_mult38 v822).toNat := fun v822 k0_hw38 => k0_hw38.1
theorem k0_off38_inb : ∀ (v822 : BitVec 32) (k0_hw38 : k0_chk38 v822), ∀ a, (k0_off38 v822) a + S8x2x128.size a ≤ S20016x2x128.size a := fun v822 k0_hw38 => k0_hw38.2

def k0_mult39 (v844 : BitVec 32) : BitVec 32 :=
  let c3_i32_414 : BitVec 32 := 3#32
  let v845 : BitVec 32 := Scalar.shrsi v844 c3_i32_414
  let c3_i32_415 : BitVec 32 := 3#32
  let v846 : BitVec 32 := Scalar.shli v845 c3_i32_415
  v846

def k0_off39 (v844 : BitVec 32) : Fin 3 → Nat :=
  let c3_i32_414 : BitVec 32 := 3#32
  let v845 : BitVec 32 := Scalar.shrsi v844 c3_i32_414
  let c3_i32_415 : BitVec 32 := 3#32
  let v846 : BitVec 32 := Scalar.shli v845 c3_i32_415
  let v847 : BitVec 32 := v846
  let v848 : Index := Scalar.indexCast v847
  let c0_416 : Index := 0#32
  ![v848.toNat, 0, 0]

def k0_chk39 (v844 : BitVec 32) : Prop :=
  (8 ∣ (k0_mult39 v844).toNat) ∧
  (∀ a, (k0_off39 v844) a + S8x2x128.size a ≤ S20016x2x128.size a)
theorem k0_mult39_dvd : ∀ (v844 : BitVec 32) (k0_hw39 : k0_chk39 v844), 8 ∣ (k0_mult39 v844).toNat := fun v844 k0_hw39 => k0_hw39.1
theorem k0_off39_inb : ∀ (v844 : BitVec 32) (k0_hw39 : k0_chk39 v844), ∀ a, (k0_off39 v844) a + S8x2x128.size a ≤ S20016x2x128.size a := fun v844 k0_hw39 => k0_hw39.2

def k0_mult40 (v866 : BitVec 32) : BitVec 32 :=
  let c3_i32_425 : BitVec 32 := 3#32
  let v867 : BitVec 32 := Scalar.shrsi v866 c3_i32_425
  let c3_i32_426 : BitVec 32 := 3#32
  let v868 : BitVec 32 := Scalar.shli v867 c3_i32_426
  v868

def k0_off40 (v866 : BitVec 32) : Fin 3 → Nat :=
  let c3_i32_425 : BitVec 32 := 3#32
  let v867 : BitVec 32 := Scalar.shrsi v866 c3_i32_425
  let c3_i32_426 : BitVec 32 := 3#32
  let v868 : BitVec 32 := Scalar.shli v867 c3_i32_426
  let v869 : BitVec 32 := v868
  let v870 : Index := Scalar.indexCast v869
  let c0_427 : Index := 0#32
  ![v870.toNat, 0, 0]

def k0_chk40 (v866 : BitVec 32) : Prop :=
  (8 ∣ (k0_mult40 v866).toNat) ∧
  (∀ a, (k0_off40 v866) a + S8x2x128.size a ≤ S20016x2x128.size a)
theorem k0_mult40_dvd : ∀ (v866 : BitVec 32) (k0_hw40 : k0_chk40 v866), 8 ∣ (k0_mult40 v866).toNat := fun v866 k0_hw40 => k0_hw40.1
theorem k0_off40_inb : ∀ (v866 : BitVec 32) (k0_hw40 : k0_chk40 v866), ∀ a, (k0_off40 v866) a + S8x2x128.size a ≤ S20016x2x128.size a := fun v866 k0_hw40 => k0_hw40.2

def k0_mult41 (v888 : BitVec 32) : BitVec 32 :=
  let c3_i32_436 : BitVec 32 := 3#32
  let v889 : BitVec 32 := Scalar.shrsi v888 c3_i32_436
  let c3_i32_437 : BitVec 32 := 3#32
  let v890 : BitVec 32 := Scalar.shli v889 c3_i32_437
  v890

def k0_off41 (v888 : BitVec 32) : Fin 3 → Nat :=
  let c3_i32_436 : BitVec 32 := 3#32
  let v889 : BitVec 32 := Scalar.shrsi v888 c3_i32_436
  let c3_i32_437 : BitVec 32 := 3#32
  let v890 : BitVec 32 := Scalar.shli v889 c3_i32_437
  let v891 : BitVec 32 := v890
  let v892 : Index := Scalar.indexCast v891
  let c0_438 : Index := 0#32
  ![v892.toNat, 0, 0]

def k0_chk41 (v888 : BitVec 32) : Prop :=
  (8 ∣ (k0_mult41 v888).toNat) ∧
  (∀ a, (k0_off41 v888) a + S8x2x128.size a ≤ S20016x2x128.size a)
theorem k0_mult41_dvd : ∀ (v888 : BitVec 32) (k0_hw41 : k0_chk41 v888), 8 ∣ (k0_mult41 v888).toNat := fun v888 k0_hw41 => k0_hw41.1
theorem k0_off41_inb : ∀ (v888 : BitVec 32) (k0_hw41 : k0_chk41 v888), ∀ a, (k0_off41 v888) a + S8x2x128.size a ≤ S20016x2x128.size a := fun v888 k0_hw41 => k0_hw41.2

def k0_mult42 (v910 : BitVec 32) : BitVec 32 :=
  let c3_i32_447 : BitVec 32 := 3#32
  let v911 : BitVec 32 := Scalar.shrsi v910 c3_i32_447
  let c3_i32_448 : BitVec 32 := 3#32
  let v912 : BitVec 32 := Scalar.shli v911 c3_i32_448
  v912

def k0_off42 (v910 : BitVec 32) : Fin 3 → Nat :=
  let c3_i32_447 : BitVec 32 := 3#32
  let v911 : BitVec 32 := Scalar.shrsi v910 c3_i32_447
  let c3_i32_448 : BitVec 32 := 3#32
  let v912 : BitVec 32 := Scalar.shli v911 c3_i32_448
  let v913 : BitVec 32 := v912
  let v914 : Index := Scalar.indexCast v913
  let c0_449 : Index := 0#32
  ![v914.toNat, 0, 0]

def k0_chk42 (v910 : BitVec 32) : Prop :=
  (8 ∣ (k0_mult42 v910).toNat) ∧
  (∀ a, (k0_off42 v910) a + S8x2x128.size a ≤ S20016x2x128.size a)
theorem k0_mult42_dvd : ∀ (v910 : BitVec 32) (k0_hw42 : k0_chk42 v910), 8 ∣ (k0_mult42 v910).toNat := fun v910 k0_hw42 => k0_hw42.1
theorem k0_off42_inb : ∀ (v910 : BitVec 32) (k0_hw42 : k0_chk42 v910), ∀ a, (k0_off42 v910) a + S8x2x128.size a ≤ S20016x2x128.size a := fun v910 k0_hw42 => k0_hw42.2

def k0_mult43 (v932 : BitVec 32) : BitVec 32 :=
  let c3_i32_458 : BitVec 32 := 3#32
  let v933 : BitVec 32 := Scalar.shrsi v932 c3_i32_458
  let c3_i32_459 : BitVec 32 := 3#32
  let v934 : BitVec 32 := Scalar.shli v933 c3_i32_459
  v934

def k0_off43 (v932 : BitVec 32) : Fin 3 → Nat :=
  let c3_i32_458 : BitVec 32 := 3#32
  let v933 : BitVec 32 := Scalar.shrsi v932 c3_i32_458
  let c3_i32_459 : BitVec 32 := 3#32
  let v934 : BitVec 32 := Scalar.shli v933 c3_i32_459
  let v935 : BitVec 32 := v934
  let v936 : Index := Scalar.indexCast v935
  let c0_460 : Index := 0#32
  ![v936.toNat, 0, 0]

def k0_chk43 (v932 : BitVec 32) : Prop :=
  (8 ∣ (k0_mult43 v932).toNat) ∧
  (∀ a, (k0_off43 v932) a + S8x2x128.size a ≤ S20016x2x128.size a)
theorem k0_mult43_dvd : ∀ (v932 : BitVec 32) (k0_hw43 : k0_chk43 v932), 8 ∣ (k0_mult43 v932).toNat := fun v932 k0_hw43 => k0_hw43.1
theorem k0_off43_inb : ∀ (v932 : BitVec 32) (k0_hw43 : k0_chk43 v932), ∀ a, (k0_off43 v932) a + S8x2x128.size a ≤ S20016x2x128.size a := fun v932 k0_hw43 => k0_hw43.2

def k0_mult44 (v954 : BitVec 32) : BitVec 32 :=
  let c3_i32_469 : BitVec 32 := 3#32
  let v955 : BitVec 32 := Scalar.shrsi v954 c3_i32_469
  let c3_i32_470 : BitVec 32 := 3#32
  let v956 : BitVec 32 := Scalar.shli v955 c3_i32_470
  v956

def k0_off44 (v954 : BitVec 32) : Fin 3 → Nat :=
  let c3_i32_469 : BitVec 32 := 3#32
  let v955 : BitVec 32 := Scalar.shrsi v954 c3_i32_469
  let c3_i32_470 : BitVec 32 := 3#32
  let v956 : BitVec 32 := Scalar.shli v955 c3_i32_470
  let v957 : BitVec 32 := v956
  let v958 : Index := Scalar.indexCast v957
  let c0_471 : Index := 0#32
  ![v958.toNat, 0, 0]

def k0_chk44 (v954 : BitVec 32) : Prop :=
  (8 ∣ (k0_mult44 v954).toNat) ∧
  (∀ a, (k0_off44 v954) a + S8x2x128.size a ≤ S20016x2x128.size a)
theorem k0_mult44_dvd : ∀ (v954 : BitVec 32) (k0_hw44 : k0_chk44 v954), 8 ∣ (k0_mult44 v954).toNat := fun v954 k0_hw44 => k0_hw44.1
theorem k0_off44_inb : ∀ (v954 : BitVec 32) (k0_hw44 : k0_chk44 v954), ∀ a, (k0_off44 v954) a + S8x2x128.size a ≤ S20016x2x128.size a := fun v954 k0_hw44 => k0_hw44.2

def k0_mult45 (v976 : BitVec 32) : BitVec 32 :=
  let c3_i32_480 : BitVec 32 := 3#32
  let v977 : BitVec 32 := Scalar.shrsi v976 c3_i32_480
  let c3_i32_481 : BitVec 32 := 3#32
  let v978 : BitVec 32 := Scalar.shli v977 c3_i32_481
  v978

def k0_off45 (v976 : BitVec 32) : Fin 3 → Nat :=
  let c3_i32_480 : BitVec 32 := 3#32
  let v977 : BitVec 32 := Scalar.shrsi v976 c3_i32_480
  let c3_i32_481 : BitVec 32 := 3#32
  let v978 : BitVec 32 := Scalar.shli v977 c3_i32_481
  let v979 : BitVec 32 := v978
  let v980 : Index := Scalar.indexCast v979
  let c0_482 : Index := 0#32
  ![v980.toNat, 0, 0]

def k0_chk45 (v976 : BitVec 32) : Prop :=
  (8 ∣ (k0_mult45 v976).toNat) ∧
  (∀ a, (k0_off45 v976) a + S8x2x128.size a ≤ S20016x2x128.size a)
theorem k0_mult45_dvd : ∀ (v976 : BitVec 32) (k0_hw45 : k0_chk45 v976), 8 ∣ (k0_mult45 v976).toNat := fun v976 k0_hw45 => k0_hw45.1
theorem k0_off45_inb : ∀ (v976 : BitVec 32) (k0_hw45 : k0_chk45 v976), ∀ a, (k0_off45 v976) a + S8x2x128.size a ≤ S20016x2x128.size a := fun v976 k0_hw45 => k0_hw45.2

def k0_mult46 (v998 : BitVec 32) : BitVec 32 :=
  let c3_i32_491 : BitVec 32 := 3#32
  let v999 : BitVec 32 := Scalar.shrsi v998 c3_i32_491
  let c3_i32_492 : BitVec 32 := 3#32
  let v1000 : BitVec 32 := Scalar.shli v999 c3_i32_492
  v1000

def k0_off46 (v998 : BitVec 32) : Fin 3 → Nat :=
  let c3_i32_491 : BitVec 32 := 3#32
  let v999 : BitVec 32 := Scalar.shrsi v998 c3_i32_491
  let c3_i32_492 : BitVec 32 := 3#32
  let v1000 : BitVec 32 := Scalar.shli v999 c3_i32_492
  let v1001 : BitVec 32 := v1000
  let v1002 : Index := Scalar.indexCast v1001
  let c0_493 : Index := 0#32
  ![v1002.toNat, 0, 0]

def k0_chk46 (v998 : BitVec 32) : Prop :=
  (8 ∣ (k0_mult46 v998).toNat) ∧
  (∀ a, (k0_off46 v998) a + S8x2x128.size a ≤ S20016x2x128.size a)
theorem k0_mult46_dvd : ∀ (v998 : BitVec 32) (k0_hw46 : k0_chk46 v998), 8 ∣ (k0_mult46 v998).toNat := fun v998 k0_hw46 => k0_hw46.1
theorem k0_off46_inb : ∀ (v998 : BitVec 32) (k0_hw46 : k0_chk46 v998), ∀ a, (k0_off46 v998) a + S8x2x128.size a ≤ S20016x2x128.size a := fun v998 k0_hw46 => k0_hw46.2

def k0_mult47 (v1020 : BitVec 32) : BitVec 32 :=
  let c3_i32_502 : BitVec 32 := 3#32
  let v1021 : BitVec 32 := Scalar.shrsi v1020 c3_i32_502
  let c3_i32_503 : BitVec 32 := 3#32
  let v1022 : BitVec 32 := Scalar.shli v1021 c3_i32_503
  v1022

def k0_off47 (v1020 : BitVec 32) : Fin 3 → Nat :=
  let c3_i32_502 : BitVec 32 := 3#32
  let v1021 : BitVec 32 := Scalar.shrsi v1020 c3_i32_502
  let c3_i32_503 : BitVec 32 := 3#32
  let v1022 : BitVec 32 := Scalar.shli v1021 c3_i32_503
  let v1023 : BitVec 32 := v1022
  let v1024 : Index := Scalar.indexCast v1023
  let c0_504 : Index := 0#32
  ![v1024.toNat, 0, 0]

def k0_chk47 (v1020 : BitVec 32) : Prop :=
  (8 ∣ (k0_mult47 v1020).toNat) ∧
  (∀ a, (k0_off47 v1020) a + S8x2x128.size a ≤ S20016x2x128.size a)
theorem k0_mult47_dvd : ∀ (v1020 : BitVec 32) (k0_hw47 : k0_chk47 v1020), 8 ∣ (k0_mult47 v1020).toNat := fun v1020 k0_hw47 => k0_hw47.1
theorem k0_off47_inb : ∀ (v1020 : BitVec 32) (k0_hw47 : k0_chk47 v1020), ∀ a, (k0_off47 v1020) a + S8x2x128.size a ≤ S20016x2x128.size a := fun v1020 k0_hw47 => k0_hw47.2

def k0_mult48 (v1042 : BitVec 32) : BitVec 32 :=
  let c3_i32_513 : BitVec 32 := 3#32
  let v1043 : BitVec 32 := Scalar.shrsi v1042 c3_i32_513
  let c3_i32_514 : BitVec 32 := 3#32
  let v1044 : BitVec 32 := Scalar.shli v1043 c3_i32_514
  v1044

def k0_off48 (v1042 : BitVec 32) : Fin 3 → Nat :=
  let c3_i32_513 : BitVec 32 := 3#32
  let v1043 : BitVec 32 := Scalar.shrsi v1042 c3_i32_513
  let c3_i32_514 : BitVec 32 := 3#32
  let v1044 : BitVec 32 := Scalar.shli v1043 c3_i32_514
  let v1045 : BitVec 32 := v1044
  let v1046 : Index := Scalar.indexCast v1045
  let c0_515 : Index := 0#32
  ![v1046.toNat, 0, 0]

def k0_chk48 (v1042 : BitVec 32) : Prop :=
  (8 ∣ (k0_mult48 v1042).toNat) ∧
  (∀ a, (k0_off48 v1042) a + S8x2x128.size a ≤ S20016x2x128.size a)
theorem k0_mult48_dvd : ∀ (v1042 : BitVec 32) (k0_hw48 : k0_chk48 v1042), 8 ∣ (k0_mult48 v1042).toNat := fun v1042 k0_hw48 => k0_hw48.1
theorem k0_off48_inb : ∀ (v1042 : BitVec 32) (k0_hw48 : k0_chk48 v1042), ∀ a, (k0_off48 v1042) a + S8x2x128.size a ≤ S20016x2x128.size a := fun v1042 k0_hw48 => k0_hw48.2

def k0_mult49 (v1064 : BitVec 32) : BitVec 32 :=
  let c3_i32_524 : BitVec 32 := 3#32
  let v1065 : BitVec 32 := Scalar.shrsi v1064 c3_i32_524
  let c3_i32_525 : BitVec 32 := 3#32
  let v1066 : BitVec 32 := Scalar.shli v1065 c3_i32_525
  v1066

def k0_off49 (v1064 : BitVec 32) : Fin 3 → Nat :=
  let c3_i32_524 : BitVec 32 := 3#32
  let v1065 : BitVec 32 := Scalar.shrsi v1064 c3_i32_524
  let c3_i32_525 : BitVec 32 := 3#32
  let v1066 : BitVec 32 := Scalar.shli v1065 c3_i32_525
  let v1067 : BitVec 32 := v1066
  let v1068 : Index := Scalar.indexCast v1067
  let c0_526 : Index := 0#32
  ![v1068.toNat, 0, 0]

def k0_chk49 (v1064 : BitVec 32) : Prop :=
  (8 ∣ (k0_mult49 v1064).toNat) ∧
  (∀ a, (k0_off49 v1064) a + S8x2x128.size a ≤ S20016x2x128.size a)
theorem k0_mult49_dvd : ∀ (v1064 : BitVec 32) (k0_hw49 : k0_chk49 v1064), 8 ∣ (k0_mult49 v1064).toNat := fun v1064 k0_hw49 => k0_hw49.1
theorem k0_off49_inb : ∀ (v1064 : BitVec 32) (k0_hw49 : k0_chk49 v1064), ∀ a, (k0_off49 v1064) a + S8x2x128.size a ≤ S20016x2x128.size a := fun v1064 k0_hw49 => k0_hw49.2

def k0_mult50 (v1086 : BitVec 32) : BitVec 32 :=
  let c3_i32_535 : BitVec 32 := 3#32
  let v1087 : BitVec 32 := Scalar.shrsi v1086 c3_i32_535
  let c3_i32_536 : BitVec 32 := 3#32
  let v1088 : BitVec 32 := Scalar.shli v1087 c3_i32_536
  v1088

def k0_off50 (v1086 : BitVec 32) : Fin 3 → Nat :=
  let c3_i32_535 : BitVec 32 := 3#32
  let v1087 : BitVec 32 := Scalar.shrsi v1086 c3_i32_535
  let c3_i32_536 : BitVec 32 := 3#32
  let v1088 : BitVec 32 := Scalar.shli v1087 c3_i32_536
  let v1089 : BitVec 32 := v1088
  let v1090 : Index := Scalar.indexCast v1089
  let c0_537 : Index := 0#32
  ![v1090.toNat, 0, 0]

def k0_chk50 (v1086 : BitVec 32) : Prop :=
  (8 ∣ (k0_mult50 v1086).toNat) ∧
  (∀ a, (k0_off50 v1086) a + S8x2x128.size a ≤ S20016x2x128.size a)
theorem k0_mult50_dvd : ∀ (v1086 : BitVec 32) (k0_hw50 : k0_chk50 v1086), 8 ∣ (k0_mult50 v1086).toNat := fun v1086 k0_hw50 => k0_hw50.1
theorem k0_off50_inb : ∀ (v1086 : BitVec 32) (k0_hw50 : k0_chk50 v1086), ∀ a, (k0_off50 v1086) a + S8x2x128.size a ≤ S20016x2x128.size a := fun v1086 k0_hw50 => k0_hw50.2

def k0_mult51 (v1108 : BitVec 32) : BitVec 32 :=
  let c3_i32_546 : BitVec 32 := 3#32
  let v1109 : BitVec 32 := Scalar.shrsi v1108 c3_i32_546
  let c3_i32_547 : BitVec 32 := 3#32
  let v1110 : BitVec 32 := Scalar.shli v1109 c3_i32_547
  v1110

def k0_off51 (v1108 : BitVec 32) : Fin 3 → Nat :=
  let c3_i32_546 : BitVec 32 := 3#32
  let v1109 : BitVec 32 := Scalar.shrsi v1108 c3_i32_546
  let c3_i32_547 : BitVec 32 := 3#32
  let v1110 : BitVec 32 := Scalar.shli v1109 c3_i32_547
  let v1111 : BitVec 32 := v1110
  let v1112 : Index := Scalar.indexCast v1111
  let c0_548 : Index := 0#32
  ![v1112.toNat, 0, 0]

def k0_chk51 (v1108 : BitVec 32) : Prop :=
  (8 ∣ (k0_mult51 v1108).toNat) ∧
  (∀ a, (k0_off51 v1108) a + S8x2x128.size a ≤ S20016x2x128.size a)
theorem k0_mult51_dvd : ∀ (v1108 : BitVec 32) (k0_hw51 : k0_chk51 v1108), 8 ∣ (k0_mult51 v1108).toNat := fun v1108 k0_hw51 => k0_hw51.1
theorem k0_off51_inb : ∀ (v1108 : BitVec 32) (k0_hw51 : k0_chk51 v1108), ∀ a, (k0_off51 v1108) a + S8x2x128.size a ≤ S20016x2x128.size a := fun v1108 k0_hw51 => k0_hw51.2

def k0_mult52 (v1130 : BitVec 32) : BitVec 32 :=
  let c3_i32_557 : BitVec 32 := 3#32
  let v1131 : BitVec 32 := Scalar.shrsi v1130 c3_i32_557
  let c3_i32_558 : BitVec 32 := 3#32
  let v1132 : BitVec 32 := Scalar.shli v1131 c3_i32_558
  v1132

def k0_off52 (v1130 : BitVec 32) : Fin 3 → Nat :=
  let c3_i32_557 : BitVec 32 := 3#32
  let v1131 : BitVec 32 := Scalar.shrsi v1130 c3_i32_557
  let c3_i32_558 : BitVec 32 := 3#32
  let v1132 : BitVec 32 := Scalar.shli v1131 c3_i32_558
  let v1133 : BitVec 32 := v1132
  let v1134 : Index := Scalar.indexCast v1133
  let c0_559 : Index := 0#32
  ![v1134.toNat, 0, 0]

def k0_chk52 (v1130 : BitVec 32) : Prop :=
  (8 ∣ (k0_mult52 v1130).toNat) ∧
  (∀ a, (k0_off52 v1130) a + S8x2x128.size a ≤ S20016x2x128.size a)
theorem k0_mult52_dvd : ∀ (v1130 : BitVec 32) (k0_hw52 : k0_chk52 v1130), 8 ∣ (k0_mult52 v1130).toNat := fun v1130 k0_hw52 => k0_hw52.1
theorem k0_off52_inb : ∀ (v1130 : BitVec 32) (k0_hw52 : k0_chk52 v1130), ∀ a, (k0_off52 v1130) a + S8x2x128.size a ≤ S20016x2x128.size a := fun v1130 k0_hw52 => k0_hw52.2

def k0_mult53 (v1152 : BitVec 32) : BitVec 32 :=
  let c3_i32_568 : BitVec 32 := 3#32
  let v1153 : BitVec 32 := Scalar.shrsi v1152 c3_i32_568
  let c3_i32_569 : BitVec 32 := 3#32
  let v1154 : BitVec 32 := Scalar.shli v1153 c3_i32_569
  v1154

def k0_off53 (v1152 : BitVec 32) : Fin 3 → Nat :=
  let c3_i32_568 : BitVec 32 := 3#32
  let v1153 : BitVec 32 := Scalar.shrsi v1152 c3_i32_568
  let c3_i32_569 : BitVec 32 := 3#32
  let v1154 : BitVec 32 := Scalar.shli v1153 c3_i32_569
  let v1155 : BitVec 32 := v1154
  let v1156 : Index := Scalar.indexCast v1155
  let c0_570 : Index := 0#32
  ![v1156.toNat, 0, 0]

def k0_chk53 (v1152 : BitVec 32) : Prop :=
  (8 ∣ (k0_mult53 v1152).toNat) ∧
  (∀ a, (k0_off53 v1152) a + S8x2x128.size a ≤ S20016x2x128.size a)
theorem k0_mult53_dvd : ∀ (v1152 : BitVec 32) (k0_hw53 : k0_chk53 v1152), 8 ∣ (k0_mult53 v1152).toNat := fun v1152 k0_hw53 => k0_hw53.1
theorem k0_off53_inb : ∀ (v1152 : BitVec 32) (k0_hw53 : k0_chk53 v1152), ∀ a, (k0_off53 v1152) a + S8x2x128.size a ≤ S20016x2x128.size a := fun v1152 k0_hw53 => k0_hw53.2

def k0_mult54 (v1174 : BitVec 32) : BitVec 32 :=
  let c3_i32_579 : BitVec 32 := 3#32
  let v1175 : BitVec 32 := Scalar.shrsi v1174 c3_i32_579
  let c3_i32_580 : BitVec 32 := 3#32
  let v1176 : BitVec 32 := Scalar.shli v1175 c3_i32_580
  v1176

def k0_off54 (v1174 : BitVec 32) : Fin 3 → Nat :=
  let c3_i32_579 : BitVec 32 := 3#32
  let v1175 : BitVec 32 := Scalar.shrsi v1174 c3_i32_579
  let c3_i32_580 : BitVec 32 := 3#32
  let v1176 : BitVec 32 := Scalar.shli v1175 c3_i32_580
  let v1177 : BitVec 32 := v1176
  let v1178 : Index := Scalar.indexCast v1177
  let c0_581 : Index := 0#32
  ![v1178.toNat, 0, 0]

def k0_chk54 (v1174 : BitVec 32) : Prop :=
  (8 ∣ (k0_mult54 v1174).toNat) ∧
  (∀ a, (k0_off54 v1174) a + S8x2x128.size a ≤ S20016x2x128.size a)
theorem k0_mult54_dvd : ∀ (v1174 : BitVec 32) (k0_hw54 : k0_chk54 v1174), 8 ∣ (k0_mult54 v1174).toNat := fun v1174 k0_hw54 => k0_hw54.1
theorem k0_off54_inb : ∀ (v1174 : BitVec 32) (k0_hw54 : k0_chk54 v1174), ∀ a, (k0_off54 v1174) a + S8x2x128.size a ≤ S20016x2x128.size a := fun v1174 k0_hw54 => k0_hw54.2

def k0_mult55 (v1196 : BitVec 32) : BitVec 32 :=
  let c3_i32_590 : BitVec 32 := 3#32
  let v1197 : BitVec 32 := Scalar.shrsi v1196 c3_i32_590
  let c3_i32_591 : BitVec 32 := 3#32
  let v1198 : BitVec 32 := Scalar.shli v1197 c3_i32_591
  v1198

def k0_off55 (v1196 : BitVec 32) : Fin 3 → Nat :=
  let c3_i32_590 : BitVec 32 := 3#32
  let v1197 : BitVec 32 := Scalar.shrsi v1196 c3_i32_590
  let c3_i32_591 : BitVec 32 := 3#32
  let v1198 : BitVec 32 := Scalar.shli v1197 c3_i32_591
  let v1199 : BitVec 32 := v1198
  let v1200 : Index := Scalar.indexCast v1199
  let c0_592 : Index := 0#32
  ![v1200.toNat, 0, 0]

def k0_chk55 (v1196 : BitVec 32) : Prop :=
  (8 ∣ (k0_mult55 v1196).toNat) ∧
  (∀ a, (k0_off55 v1196) a + S8x2x128.size a ≤ S20016x2x128.size a)
theorem k0_mult55_dvd : ∀ (v1196 : BitVec 32) (k0_hw55 : k0_chk55 v1196), 8 ∣ (k0_mult55 v1196).toNat := fun v1196 k0_hw55 => k0_hw55.1
theorem k0_off55_inb : ∀ (v1196 : BitVec 32) (k0_hw55 : k0_chk55 v1196), ∀ a, (k0_off55 v1196) a + S8x2x128.size a ≤ S20016x2x128.size a := fun v1196 k0_hw55 => k0_hw55.2

def k0_mult56 (v1218 : BitVec 32) : BitVec 32 :=
  let c3_i32_601 : BitVec 32 := 3#32
  let v1219 : BitVec 32 := Scalar.shrsi v1218 c3_i32_601
  let c3_i32_602 : BitVec 32 := 3#32
  let v1220 : BitVec 32 := Scalar.shli v1219 c3_i32_602
  v1220

def k0_off56 (v1218 : BitVec 32) : Fin 3 → Nat :=
  let c3_i32_601 : BitVec 32 := 3#32
  let v1219 : BitVec 32 := Scalar.shrsi v1218 c3_i32_601
  let c3_i32_602 : BitVec 32 := 3#32
  let v1220 : BitVec 32 := Scalar.shli v1219 c3_i32_602
  let v1221 : BitVec 32 := v1220
  let v1222 : Index := Scalar.indexCast v1221
  let c0_603 : Index := 0#32
  ![v1222.toNat, 0, 0]

def k0_chk56 (v1218 : BitVec 32) : Prop :=
  (8 ∣ (k0_mult56 v1218).toNat) ∧
  (∀ a, (k0_off56 v1218) a + S8x2x128.size a ≤ S20016x2x128.size a)
theorem k0_mult56_dvd : ∀ (v1218 : BitVec 32) (k0_hw56 : k0_chk56 v1218), 8 ∣ (k0_mult56 v1218).toNat := fun v1218 k0_hw56 => k0_hw56.1
theorem k0_off56_inb : ∀ (v1218 : BitVec 32) (k0_hw56 : k0_chk56 v1218), ∀ a, (k0_off56 v1218) a + S8x2x128.size a ≤ S20016x2x128.size a := fun v1218 k0_hw56 => k0_hw56.2

def k0_mult57 (v1240 : BitVec 32) : BitVec 32 :=
  let c3_i32_612 : BitVec 32 := 3#32
  let v1241 : BitVec 32 := Scalar.shrsi v1240 c3_i32_612
  let c3_i32_613 : BitVec 32 := 3#32
  let v1242 : BitVec 32 := Scalar.shli v1241 c3_i32_613
  v1242

def k0_off57 (v1240 : BitVec 32) : Fin 3 → Nat :=
  let c3_i32_612 : BitVec 32 := 3#32
  let v1241 : BitVec 32 := Scalar.shrsi v1240 c3_i32_612
  let c3_i32_613 : BitVec 32 := 3#32
  let v1242 : BitVec 32 := Scalar.shli v1241 c3_i32_613
  let v1243 : BitVec 32 := v1242
  let v1244 : Index := Scalar.indexCast v1243
  let c0_614 : Index := 0#32
  ![v1244.toNat, 0, 0]

def k0_chk57 (v1240 : BitVec 32) : Prop :=
  (8 ∣ (k0_mult57 v1240).toNat) ∧
  (∀ a, (k0_off57 v1240) a + S8x2x128.size a ≤ S20016x2x128.size a)
theorem k0_mult57_dvd : ∀ (v1240 : BitVec 32) (k0_hw57 : k0_chk57 v1240), 8 ∣ (k0_mult57 v1240).toNat := fun v1240 k0_hw57 => k0_hw57.1
theorem k0_off57_inb : ∀ (v1240 : BitVec 32) (k0_hw57 : k0_chk57 v1240), ∀ a, (k0_off57 v1240) a + S8x2x128.size a ≤ S20016x2x128.size a := fun v1240 k0_hw57 => k0_hw57.2

def k0_mult58 (v1262 : BitVec 32) : BitVec 32 :=
  let c3_i32_623 : BitVec 32 := 3#32
  let v1263 : BitVec 32 := Scalar.shrsi v1262 c3_i32_623
  let c3_i32_624 : BitVec 32 := 3#32
  let v1264 : BitVec 32 := Scalar.shli v1263 c3_i32_624
  v1264

def k0_off58 (v1262 : BitVec 32) : Fin 3 → Nat :=
  let c3_i32_623 : BitVec 32 := 3#32
  let v1263 : BitVec 32 := Scalar.shrsi v1262 c3_i32_623
  let c3_i32_624 : BitVec 32 := 3#32
  let v1264 : BitVec 32 := Scalar.shli v1263 c3_i32_624
  let v1265 : BitVec 32 := v1264
  let v1266 : Index := Scalar.indexCast v1265
  let c0_625 : Index := 0#32
  ![v1266.toNat, 0, 0]

def k0_chk58 (v1262 : BitVec 32) : Prop :=
  (8 ∣ (k0_mult58 v1262).toNat) ∧
  (∀ a, (k0_off58 v1262) a + S8x2x128.size a ≤ S20016x2x128.size a)
theorem k0_mult58_dvd : ∀ (v1262 : BitVec 32) (k0_hw58 : k0_chk58 v1262), 8 ∣ (k0_mult58 v1262).toNat := fun v1262 k0_hw58 => k0_hw58.1
theorem k0_off58_inb : ∀ (v1262 : BitVec 32) (k0_hw58 : k0_chk58 v1262), ∀ a, (k0_off58 v1262) a + S8x2x128.size a ≤ S20016x2x128.size a := fun v1262 k0_hw58 => k0_hw58.2

def k0_mult59 (v1284 : BitVec 32) : BitVec 32 :=
  let c3_i32_634 : BitVec 32 := 3#32
  let v1285 : BitVec 32 := Scalar.shrsi v1284 c3_i32_634
  let c3_i32_635 : BitVec 32 := 3#32
  let v1286 : BitVec 32 := Scalar.shli v1285 c3_i32_635
  v1286

def k0_off59 (v1284 : BitVec 32) : Fin 3 → Nat :=
  let c3_i32_634 : BitVec 32 := 3#32
  let v1285 : BitVec 32 := Scalar.shrsi v1284 c3_i32_634
  let c3_i32_635 : BitVec 32 := 3#32
  let v1286 : BitVec 32 := Scalar.shli v1285 c3_i32_635
  let v1287 : BitVec 32 := v1286
  let v1288 : Index := Scalar.indexCast v1287
  let c0_636 : Index := 0#32
  ![v1288.toNat, 0, 0]

def k0_chk59 (v1284 : BitVec 32) : Prop :=
  (8 ∣ (k0_mult59 v1284).toNat) ∧
  (∀ a, (k0_off59 v1284) a + S8x2x128.size a ≤ S20016x2x128.size a)
theorem k0_mult59_dvd : ∀ (v1284 : BitVec 32) (k0_hw59 : k0_chk59 v1284), 8 ∣ (k0_mult59 v1284).toNat := fun v1284 k0_hw59 => k0_hw59.1
theorem k0_off59_inb : ∀ (v1284 : BitVec 32) (k0_hw59 : k0_chk59 v1284), ∀ a, (k0_off59 v1284) a + S8x2x128.size a ≤ S20016x2x128.size a := fun v1284 k0_hw59 => k0_hw59.2

def k0_mult60 (v1306 : BitVec 32) : BitVec 32 :=
  let c3_i32_645 : BitVec 32 := 3#32
  let v1307 : BitVec 32 := Scalar.shrsi v1306 c3_i32_645
  let c3_i32_646 : BitVec 32 := 3#32
  let v1308 : BitVec 32 := Scalar.shli v1307 c3_i32_646
  v1308

def k0_off60 (v1306 : BitVec 32) : Fin 3 → Nat :=
  let c3_i32_645 : BitVec 32 := 3#32
  let v1307 : BitVec 32 := Scalar.shrsi v1306 c3_i32_645
  let c3_i32_646 : BitVec 32 := 3#32
  let v1308 : BitVec 32 := Scalar.shli v1307 c3_i32_646
  let v1309 : BitVec 32 := v1308
  let v1310 : Index := Scalar.indexCast v1309
  let c0_647 : Index := 0#32
  ![v1310.toNat, 0, 0]

def k0_chk60 (v1306 : BitVec 32) : Prop :=
  (8 ∣ (k0_mult60 v1306).toNat) ∧
  (∀ a, (k0_off60 v1306) a + S8x2x128.size a ≤ S20016x2x128.size a)
theorem k0_mult60_dvd : ∀ (v1306 : BitVec 32) (k0_hw60 : k0_chk60 v1306), 8 ∣ (k0_mult60 v1306).toNat := fun v1306 k0_hw60 => k0_hw60.1
theorem k0_off60_inb : ∀ (v1306 : BitVec 32) (k0_hw60 : k0_chk60 v1306), ∀ a, (k0_off60 v1306) a + S8x2x128.size a ≤ S20016x2x128.size a := fun v1306 k0_hw60 => k0_hw60.2

def k0_mult61 (v1328 : BitVec 32) : BitVec 32 :=
  let c3_i32_656 : BitVec 32 := 3#32
  let v1329 : BitVec 32 := Scalar.shrsi v1328 c3_i32_656
  let c3_i32_657 : BitVec 32 := 3#32
  let v1330 : BitVec 32 := Scalar.shli v1329 c3_i32_657
  v1330

def k0_off61 (v1328 : BitVec 32) : Fin 3 → Nat :=
  let c3_i32_656 : BitVec 32 := 3#32
  let v1329 : BitVec 32 := Scalar.shrsi v1328 c3_i32_656
  let c3_i32_657 : BitVec 32 := 3#32
  let v1330 : BitVec 32 := Scalar.shli v1329 c3_i32_657
  let v1331 : BitVec 32 := v1330
  let v1332 : Index := Scalar.indexCast v1331
  let c0_658 : Index := 0#32
  ![v1332.toNat, 0, 0]

def k0_chk61 (v1328 : BitVec 32) : Prop :=
  (8 ∣ (k0_mult61 v1328).toNat) ∧
  (∀ a, (k0_off61 v1328) a + S8x2x128.size a ≤ S20016x2x128.size a)
theorem k0_mult61_dvd : ∀ (v1328 : BitVec 32) (k0_hw61 : k0_chk61 v1328), 8 ∣ (k0_mult61 v1328).toNat := fun v1328 k0_hw61 => k0_hw61.1
theorem k0_off61_inb : ∀ (v1328 : BitVec 32) (k0_hw61 : k0_chk61 v1328), ∀ a, (k0_off61 v1328) a + S8x2x128.size a ≤ S20016x2x128.size a := fun v1328 k0_hw61 => k0_hw61.2

def k0_mult62 (v1350 : BitVec 32) : BitVec 32 :=
  let c3_i32_667 : BitVec 32 := 3#32
  let v1351 : BitVec 32 := Scalar.shrsi v1350 c3_i32_667
  let c3_i32_668 : BitVec 32 := 3#32
  let v1352 : BitVec 32 := Scalar.shli v1351 c3_i32_668
  v1352

def k0_off62 (v1350 : BitVec 32) : Fin 3 → Nat :=
  let c3_i32_667 : BitVec 32 := 3#32
  let v1351 : BitVec 32 := Scalar.shrsi v1350 c3_i32_667
  let c3_i32_668 : BitVec 32 := 3#32
  let v1352 : BitVec 32 := Scalar.shli v1351 c3_i32_668
  let v1353 : BitVec 32 := v1352
  let v1354 : Index := Scalar.indexCast v1353
  let c0_669 : Index := 0#32
  ![v1354.toNat, 0, 0]

def k0_chk62 (v1350 : BitVec 32) : Prop :=
  (8 ∣ (k0_mult62 v1350).toNat) ∧
  (∀ a, (k0_off62 v1350) a + S8x2x128.size a ≤ S20016x2x128.size a)
theorem k0_mult62_dvd : ∀ (v1350 : BitVec 32) (k0_hw62 : k0_chk62 v1350), 8 ∣ (k0_mult62 v1350).toNat := fun v1350 k0_hw62 => k0_hw62.1
theorem k0_off62_inb : ∀ (v1350 : BitVec 32) (k0_hw62 : k0_chk62 v1350), ∀ a, (k0_off62 v1350) a + S8x2x128.size a ≤ S20016x2x128.size a := fun v1350 k0_hw62 => k0_hw62.2

def k0_mult63 (v1372 : BitVec 32) : BitVec 32 :=
  let c3_i32_678 : BitVec 32 := 3#32
  let v1373 : BitVec 32 := Scalar.shrsi v1372 c3_i32_678
  let c3_i32_679 : BitVec 32 := 3#32
  let v1374 : BitVec 32 := Scalar.shli v1373 c3_i32_679
  v1374

def k0_off63 (v1372 : BitVec 32) : Fin 3 → Nat :=
  let c3_i32_678 : BitVec 32 := 3#32
  let v1373 : BitVec 32 := Scalar.shrsi v1372 c3_i32_678
  let c3_i32_679 : BitVec 32 := 3#32
  let v1374 : BitVec 32 := Scalar.shli v1373 c3_i32_679
  let v1375 : BitVec 32 := v1374
  let v1376 : Index := Scalar.indexCast v1375
  let c0_680 : Index := 0#32
  ![v1376.toNat, 0, 0]

def k0_chk63 (v1372 : BitVec 32) : Prop :=
  (8 ∣ (k0_mult63 v1372).toNat) ∧
  (∀ a, (k0_off63 v1372) a + S8x2x128.size a ≤ S20016x2x128.size a)
theorem k0_mult63_dvd : ∀ (v1372 : BitVec 32) (k0_hw63 : k0_chk63 v1372), 8 ∣ (k0_mult63 v1372).toNat := fun v1372 k0_hw63 => k0_hw63.1
theorem k0_off63_inb : ∀ (v1372 : BitVec 32) (k0_hw63 : k0_chk63 v1372), ∀ a, (k0_off63 v1372) a + S8x2x128.size a ≤ S20016x2x128.size a := fun v1372 k0_hw63 => k0_hw63.2

def k0_mult64 (v1394 : BitVec 32) : BitVec 32 :=
  let c3_i32_689 : BitVec 32 := 3#32
  let v1395 : BitVec 32 := Scalar.shrsi v1394 c3_i32_689
  let c3_i32_690 : BitVec 32 := 3#32
  let v1396 : BitVec 32 := Scalar.shli v1395 c3_i32_690
  v1396

def k0_off64 (v1394 : BitVec 32) : Fin 3 → Nat :=
  let c3_i32_689 : BitVec 32 := 3#32
  let v1395 : BitVec 32 := Scalar.shrsi v1394 c3_i32_689
  let c3_i32_690 : BitVec 32 := 3#32
  let v1396 : BitVec 32 := Scalar.shli v1395 c3_i32_690
  let v1397 : BitVec 32 := v1396
  let v1398 : Index := Scalar.indexCast v1397
  let c0_691 : Index := 0#32
  ![v1398.toNat, 0, 0]

def k0_chk64 (v1394 : BitVec 32) : Prop :=
  (8 ∣ (k0_mult64 v1394).toNat) ∧
  (∀ a, (k0_off64 v1394) a + S8x2x128.size a ≤ S20016x2x128.size a)
theorem k0_mult64_dvd : ∀ (v1394 : BitVec 32) (k0_hw64 : k0_chk64 v1394), 8 ∣ (k0_mult64 v1394).toNat := fun v1394 k0_hw64 => k0_hw64.1
theorem k0_off64_inb : ∀ (v1394 : BitVec 32) (k0_hw64 : k0_chk64 v1394), ∀ a, (k0_off64 v1394) a + S8x2x128.size a ≤ S20016x2x128.size a := fun v1394 k0_hw64 => k0_hw64.2

def k0_mult65 (v1416 : BitVec 32) : BitVec 32 :=
  let c3_i32_700 : BitVec 32 := 3#32
  let v1417 : BitVec 32 := Scalar.shrsi v1416 c3_i32_700
  let c3_i32_701 : BitVec 32 := 3#32
  let v1418 : BitVec 32 := Scalar.shli v1417 c3_i32_701
  v1418

def k0_off65 (v1416 : BitVec 32) : Fin 3 → Nat :=
  let c3_i32_700 : BitVec 32 := 3#32
  let v1417 : BitVec 32 := Scalar.shrsi v1416 c3_i32_700
  let c3_i32_701 : BitVec 32 := 3#32
  let v1418 : BitVec 32 := Scalar.shli v1417 c3_i32_701
  let v1419 : BitVec 32 := v1418
  let v1420 : Index := Scalar.indexCast v1419
  let c0_702 : Index := 0#32
  ![v1420.toNat, 0, 0]

def k0_chk65 (v1416 : BitVec 32) : Prop :=
  (8 ∣ (k0_mult65 v1416).toNat) ∧
  (∀ a, (k0_off65 v1416) a + S8x2x128.size a ≤ S20016x2x128.size a)
theorem k0_mult65_dvd : ∀ (v1416 : BitVec 32) (k0_hw65 : k0_chk65 v1416), 8 ∣ (k0_mult65 v1416).toNat := fun v1416 k0_hw65 => k0_hw65.1
theorem k0_off65_inb : ∀ (v1416 : BitVec 32) (k0_hw65 : k0_chk65 v1416), ∀ a, (k0_off65 v1416) a + S8x2x128.size a ≤ S20016x2x128.size a := fun v1416 k0_hw65 => k0_hw65.2

def k0_mult66 (v1438 : BitVec 32) : BitVec 32 :=
  let c3_i32_711 : BitVec 32 := 3#32
  let v1439 : BitVec 32 := Scalar.shrsi v1438 c3_i32_711
  let c3_i32_712 : BitVec 32 := 3#32
  let v1440 : BitVec 32 := Scalar.shli v1439 c3_i32_712
  v1440

def k0_off66 (v1438 : BitVec 32) : Fin 3 → Nat :=
  let c3_i32_711 : BitVec 32 := 3#32
  let v1439 : BitVec 32 := Scalar.shrsi v1438 c3_i32_711
  let c3_i32_712 : BitVec 32 := 3#32
  let v1440 : BitVec 32 := Scalar.shli v1439 c3_i32_712
  let v1441 : BitVec 32 := v1440
  let v1442 : Index := Scalar.indexCast v1441
  let c0_713 : Index := 0#32
  ![v1442.toNat, 0, 0]

def k0_chk66 (v1438 : BitVec 32) : Prop :=
  (8 ∣ (k0_mult66 v1438).toNat) ∧
  (∀ a, (k0_off66 v1438) a + S8x2x128.size a ≤ S20016x2x128.size a)
theorem k0_mult66_dvd : ∀ (v1438 : BitVec 32) (k0_hw66 : k0_chk66 v1438), 8 ∣ (k0_mult66 v1438).toNat := fun v1438 k0_hw66 => k0_hw66.1
theorem k0_off66_inb : ∀ (v1438 : BitVec 32) (k0_hw66 : k0_chk66 v1438), ∀ a, (k0_off66 v1438) a + S8x2x128.size a ≤ S20016x2x128.size a := fun v1438 k0_hw66 => k0_hw66.2

def k0_mult67 (v1460 : BitVec 32) : BitVec 32 :=
  let c3_i32_722 : BitVec 32 := 3#32
  let v1461 : BitVec 32 := Scalar.shrsi v1460 c3_i32_722
  let c3_i32_723 : BitVec 32 := 3#32
  let v1462 : BitVec 32 := Scalar.shli v1461 c3_i32_723
  v1462

def k0_off67 (v1460 : BitVec 32) : Fin 3 → Nat :=
  let c3_i32_722 : BitVec 32 := 3#32
  let v1461 : BitVec 32 := Scalar.shrsi v1460 c3_i32_722
  let c3_i32_723 : BitVec 32 := 3#32
  let v1462 : BitVec 32 := Scalar.shli v1461 c3_i32_723
  let v1463 : BitVec 32 := v1462
  let v1464 : Index := Scalar.indexCast v1463
  let c0_724 : Index := 0#32
  ![v1464.toNat, 0, 0]

def k0_chk67 (v1460 : BitVec 32) : Prop :=
  (8 ∣ (k0_mult67 v1460).toNat) ∧
  (∀ a, (k0_off67 v1460) a + S8x2x128.size a ≤ S20016x2x128.size a)
theorem k0_mult67_dvd : ∀ (v1460 : BitVec 32) (k0_hw67 : k0_chk67 v1460), 8 ∣ (k0_mult67 v1460).toNat := fun v1460 k0_hw67 => k0_hw67.1
theorem k0_off67_inb : ∀ (v1460 : BitVec 32) (k0_hw67 : k0_chk67 v1460), ∀ a, (k0_off67 v1460) a + S8x2x128.size a ≤ S20016x2x128.size a := fun v1460 k0_hw67 => k0_hw67.2

def k0_mult68 (v1482 : BitVec 32) : BitVec 32 :=
  let c3_i32_733 : BitVec 32 := 3#32
  let v1483 : BitVec 32 := Scalar.shrsi v1482 c3_i32_733
  let c3_i32_734 : BitVec 32 := 3#32
  let v1484 : BitVec 32 := Scalar.shli v1483 c3_i32_734
  v1484

def k0_off68 (v1482 : BitVec 32) : Fin 3 → Nat :=
  let c3_i32_733 : BitVec 32 := 3#32
  let v1483 : BitVec 32 := Scalar.shrsi v1482 c3_i32_733
  let c3_i32_734 : BitVec 32 := 3#32
  let v1484 : BitVec 32 := Scalar.shli v1483 c3_i32_734
  let v1485 : BitVec 32 := v1484
  let v1486 : Index := Scalar.indexCast v1485
  let c0_735 : Index := 0#32
  ![v1486.toNat, 0, 0]

def k0_chk68 (v1482 : BitVec 32) : Prop :=
  (8 ∣ (k0_mult68 v1482).toNat) ∧
  (∀ a, (k0_off68 v1482) a + S8x2x128.size a ≤ S20016x2x128.size a)
theorem k0_mult68_dvd : ∀ (v1482 : BitVec 32) (k0_hw68 : k0_chk68 v1482), 8 ∣ (k0_mult68 v1482).toNat := fun v1482 k0_hw68 => k0_hw68.1
theorem k0_off68_inb : ∀ (v1482 : BitVec 32) (k0_hw68 : k0_chk68 v1482), ∀ a, (k0_off68 v1482) a + S8x2x128.size a ≤ S20016x2x128.size a := fun v1482 k0_hw68 => k0_hw68.2

def k0_mult69 (v1504 : BitVec 32) : BitVec 32 :=
  let c3_i32_744 : BitVec 32 := 3#32
  let v1505 : BitVec 32 := Scalar.shrsi v1504 c3_i32_744
  let c3_i32_745 : BitVec 32 := 3#32
  let v1506 : BitVec 32 := Scalar.shli v1505 c3_i32_745
  v1506

def k0_off69 (v1504 : BitVec 32) : Fin 3 → Nat :=
  let c3_i32_744 : BitVec 32 := 3#32
  let v1505 : BitVec 32 := Scalar.shrsi v1504 c3_i32_744
  let c3_i32_745 : BitVec 32 := 3#32
  let v1506 : BitVec 32 := Scalar.shli v1505 c3_i32_745
  let v1507 : BitVec 32 := v1506
  let v1508 : Index := Scalar.indexCast v1507
  let c0_746 : Index := 0#32
  ![v1508.toNat, 0, 0]

def k0_chk69 (v1504 : BitVec 32) : Prop :=
  (8 ∣ (k0_mult69 v1504).toNat) ∧
  (∀ a, (k0_off69 v1504) a + S8x2x128.size a ≤ S20016x2x128.size a)
theorem k0_mult69_dvd : ∀ (v1504 : BitVec 32) (k0_hw69 : k0_chk69 v1504), 8 ∣ (k0_mult69 v1504).toNat := fun v1504 k0_hw69 => k0_hw69.1
theorem k0_off69_inb : ∀ (v1504 : BitVec 32) (k0_hw69 : k0_chk69 v1504), ∀ a, (k0_off69 v1504) a + S8x2x128.size a ≤ S20016x2x128.size a := fun v1504 k0_hw69 => k0_hw69.2

def k0_mult70 (v1526 : BitVec 32) : BitVec 32 :=
  let c3_i32_755 : BitVec 32 := 3#32
  let v1527 : BitVec 32 := Scalar.shrsi v1526 c3_i32_755
  let c3_i32_756 : BitVec 32 := 3#32
  let v1528 : BitVec 32 := Scalar.shli v1527 c3_i32_756
  v1528

def k0_off70 (v1526 : BitVec 32) : Fin 3 → Nat :=
  let c3_i32_755 : BitVec 32 := 3#32
  let v1527 : BitVec 32 := Scalar.shrsi v1526 c3_i32_755
  let c3_i32_756 : BitVec 32 := 3#32
  let v1528 : BitVec 32 := Scalar.shli v1527 c3_i32_756
  let v1529 : BitVec 32 := v1528
  let v1530 : Index := Scalar.indexCast v1529
  let c0_757 : Index := 0#32
  ![v1530.toNat, 0, 0]

def k0_chk70 (v1526 : BitVec 32) : Prop :=
  (8 ∣ (k0_mult70 v1526).toNat) ∧
  (∀ a, (k0_off70 v1526) a + S8x2x128.size a ≤ S20016x2x128.size a)
theorem k0_mult70_dvd : ∀ (v1526 : BitVec 32) (k0_hw70 : k0_chk70 v1526), 8 ∣ (k0_mult70 v1526).toNat := fun v1526 k0_hw70 => k0_hw70.1
theorem k0_off70_inb : ∀ (v1526 : BitVec 32) (k0_hw70 : k0_chk70 v1526), ∀ a, (k0_off70 v1526) a + S8x2x128.size a ≤ S20016x2x128.size a := fun v1526 k0_hw70 => k0_hw70.2

def k0_mult71 (v1548 : BitVec 32) : BitVec 32 :=
  let c3_i32_766 : BitVec 32 := 3#32
  let v1549 : BitVec 32 := Scalar.shrsi v1548 c3_i32_766
  let c3_i32_767 : BitVec 32 := 3#32
  let v1550 : BitVec 32 := Scalar.shli v1549 c3_i32_767
  v1550

def k0_off71 (v1548 : BitVec 32) : Fin 3 → Nat :=
  let c3_i32_766 : BitVec 32 := 3#32
  let v1549 : BitVec 32 := Scalar.shrsi v1548 c3_i32_766
  let c3_i32_767 : BitVec 32 := 3#32
  let v1550 : BitVec 32 := Scalar.shli v1549 c3_i32_767
  let v1551 : BitVec 32 := v1550
  let v1552 : Index := Scalar.indexCast v1551
  let c0_768 : Index := 0#32
  ![v1552.toNat, 0, 0]

def k0_chk71 (v1548 : BitVec 32) : Prop :=
  (8 ∣ (k0_mult71 v1548).toNat) ∧
  (∀ a, (k0_off71 v1548) a + S8x2x128.size a ≤ S20016x2x128.size a)
theorem k0_mult71_dvd : ∀ (v1548 : BitVec 32) (k0_hw71 : k0_chk71 v1548), 8 ∣ (k0_mult71 v1548).toNat := fun v1548 k0_hw71 => k0_hw71.1
theorem k0_off71_inb : ∀ (v1548 : BitVec 32) (k0_hw71 : k0_chk71 v1548), ∀ a, (k0_off71 v1548) a + S8x2x128.size a ≤ S20016x2x128.size a := fun v1548 k0_hw71 => k0_hw71.2

def k0_mult72 (v1570 : BitVec 32) : BitVec 32 :=
  let c3_i32_777 : BitVec 32 := 3#32
  let v1571 : BitVec 32 := Scalar.shrsi v1570 c3_i32_777
  let c3_i32_778 : BitVec 32 := 3#32
  let v1572 : BitVec 32 := Scalar.shli v1571 c3_i32_778
  v1572

def k0_off72 (v1570 : BitVec 32) : Fin 3 → Nat :=
  let c3_i32_777 : BitVec 32 := 3#32
  let v1571 : BitVec 32 := Scalar.shrsi v1570 c3_i32_777
  let c3_i32_778 : BitVec 32 := 3#32
  let v1572 : BitVec 32 := Scalar.shli v1571 c3_i32_778
  let v1573 : BitVec 32 := v1572
  let v1574 : Index := Scalar.indexCast v1573
  let c0_779 : Index := 0#32
  ![v1574.toNat, 0, 0]

def k0_chk72 (v1570 : BitVec 32) : Prop :=
  (8 ∣ (k0_mult72 v1570).toNat) ∧
  (∀ a, (k0_off72 v1570) a + S8x2x128.size a ≤ S20016x2x128.size a)
theorem k0_mult72_dvd : ∀ (v1570 : BitVec 32) (k0_hw72 : k0_chk72 v1570), 8 ∣ (k0_mult72 v1570).toNat := fun v1570 k0_hw72 => k0_hw72.1
theorem k0_off72_inb : ∀ (v1570 : BitVec 32) (k0_hw72 : k0_chk72 v1570), ∀ a, (k0_off72 v1570) a + S8x2x128.size a ≤ S20016x2x128.size a := fun v1570 k0_hw72 => k0_hw72.2

def k0_mult73 (v1592 : BitVec 32) : BitVec 32 :=
  let c3_i32_788 : BitVec 32 := 3#32
  let v1593 : BitVec 32 := Scalar.shrsi v1592 c3_i32_788
  let c3_i32_789 : BitVec 32 := 3#32
  let v1594 : BitVec 32 := Scalar.shli v1593 c3_i32_789
  v1594

def k0_off73 (v1592 : BitVec 32) : Fin 3 → Nat :=
  let c3_i32_788 : BitVec 32 := 3#32
  let v1593 : BitVec 32 := Scalar.shrsi v1592 c3_i32_788
  let c3_i32_789 : BitVec 32 := 3#32
  let v1594 : BitVec 32 := Scalar.shli v1593 c3_i32_789
  let v1595 : BitVec 32 := v1594
  let v1596 : Index := Scalar.indexCast v1595
  let c0_790 : Index := 0#32
  ![v1596.toNat, 0, 0]

def k0_chk73 (v1592 : BitVec 32) : Prop :=
  (8 ∣ (k0_mult73 v1592).toNat) ∧
  (∀ a, (k0_off73 v1592) a + S8x2x128.size a ≤ S20016x2x128.size a)
theorem k0_mult73_dvd : ∀ (v1592 : BitVec 32) (k0_hw73 : k0_chk73 v1592), 8 ∣ (k0_mult73 v1592).toNat := fun v1592 k0_hw73 => k0_hw73.1
theorem k0_off73_inb : ∀ (v1592 : BitVec 32) (k0_hw73 : k0_chk73 v1592), ∀ a, (k0_off73 v1592) a + S8x2x128.size a ≤ S20016x2x128.size a := fun v1592 k0_hw73 => k0_hw73.2

def k0_mult74 (v1614 : BitVec 32) : BitVec 32 :=
  let c3_i32_799 : BitVec 32 := 3#32
  let v1615 : BitVec 32 := Scalar.shrsi v1614 c3_i32_799
  let c3_i32_800 : BitVec 32 := 3#32
  let v1616 : BitVec 32 := Scalar.shli v1615 c3_i32_800
  v1616

def k0_off74 (v1614 : BitVec 32) : Fin 3 → Nat :=
  let c3_i32_799 : BitVec 32 := 3#32
  let v1615 : BitVec 32 := Scalar.shrsi v1614 c3_i32_799
  let c3_i32_800 : BitVec 32 := 3#32
  let v1616 : BitVec 32 := Scalar.shli v1615 c3_i32_800
  let v1617 : BitVec 32 := v1616
  let v1618 : Index := Scalar.indexCast v1617
  let c0_801 : Index := 0#32
  ![v1618.toNat, 0, 0]

def k0_chk74 (v1614 : BitVec 32) : Prop :=
  (8 ∣ (k0_mult74 v1614).toNat) ∧
  (∀ a, (k0_off74 v1614) a + S8x2x128.size a ≤ S20016x2x128.size a)
theorem k0_mult74_dvd : ∀ (v1614 : BitVec 32) (k0_hw74 : k0_chk74 v1614), 8 ∣ (k0_mult74 v1614).toNat := fun v1614 k0_hw74 => k0_hw74.1
theorem k0_off74_inb : ∀ (v1614 : BitVec 32) (k0_hw74 : k0_chk74 v1614), ∀ a, (k0_off74 v1614) a + S8x2x128.size a ≤ S20016x2x128.size a := fun v1614 k0_hw74 => k0_hw74.2

def k0_mult75 (v1636 : BitVec 32) : BitVec 32 :=
  let c3_i32_810 : BitVec 32 := 3#32
  let v1637 : BitVec 32 := Scalar.shrsi v1636 c3_i32_810
  let c3_i32_811 : BitVec 32 := 3#32
  let v1638 : BitVec 32 := Scalar.shli v1637 c3_i32_811
  v1638

def k0_off75 (v1636 : BitVec 32) : Fin 3 → Nat :=
  let c3_i32_810 : BitVec 32 := 3#32
  let v1637 : BitVec 32 := Scalar.shrsi v1636 c3_i32_810
  let c3_i32_811 : BitVec 32 := 3#32
  let v1638 : BitVec 32 := Scalar.shli v1637 c3_i32_811
  let v1639 : BitVec 32 := v1638
  let v1640 : Index := Scalar.indexCast v1639
  let c0_812 : Index := 0#32
  ![v1640.toNat, 0, 0]

def k0_chk75 (v1636 : BitVec 32) : Prop :=
  (8 ∣ (k0_mult75 v1636).toNat) ∧
  (∀ a, (k0_off75 v1636) a + S8x2x128.size a ≤ S20016x2x128.size a)
theorem k0_mult75_dvd : ∀ (v1636 : BitVec 32) (k0_hw75 : k0_chk75 v1636), 8 ∣ (k0_mult75 v1636).toNat := fun v1636 k0_hw75 => k0_hw75.1
theorem k0_off75_inb : ∀ (v1636 : BitVec 32) (k0_hw75 : k0_chk75 v1636), ∀ a, (k0_off75 v1636) a + S8x2x128.size a ≤ S20016x2x128.size a := fun v1636 k0_hw75 => k0_hw75.2

def k0_mult76 (v1658 : BitVec 32) : BitVec 32 :=
  let c3_i32_821 : BitVec 32 := 3#32
  let v1659 : BitVec 32 := Scalar.shrsi v1658 c3_i32_821
  let c3_i32_822 : BitVec 32 := 3#32
  let v1660 : BitVec 32 := Scalar.shli v1659 c3_i32_822
  v1660

def k0_off76 (v1658 : BitVec 32) : Fin 3 → Nat :=
  let c3_i32_821 : BitVec 32 := 3#32
  let v1659 : BitVec 32 := Scalar.shrsi v1658 c3_i32_821
  let c3_i32_822 : BitVec 32 := 3#32
  let v1660 : BitVec 32 := Scalar.shli v1659 c3_i32_822
  let v1661 : BitVec 32 := v1660
  let v1662 : Index := Scalar.indexCast v1661
  let c0_823 : Index := 0#32
  ![v1662.toNat, 0, 0]

def k0_chk76 (v1658 : BitVec 32) : Prop :=
  (8 ∣ (k0_mult76 v1658).toNat) ∧
  (∀ a, (k0_off76 v1658) a + S8x2x128.size a ≤ S20016x2x128.size a)
theorem k0_mult76_dvd : ∀ (v1658 : BitVec 32) (k0_hw76 : k0_chk76 v1658), 8 ∣ (k0_mult76 v1658).toNat := fun v1658 k0_hw76 => k0_hw76.1
theorem k0_off76_inb : ∀ (v1658 : BitVec 32) (k0_hw76 : k0_chk76 v1658), ∀ a, (k0_off76 v1658) a + S8x2x128.size a ≤ S20016x2x128.size a := fun v1658 k0_hw76 => k0_hw76.2

def k0_mult77 (v1680 : BitVec 32) : BitVec 32 :=
  let c3_i32_832 : BitVec 32 := 3#32
  let v1681 : BitVec 32 := Scalar.shrsi v1680 c3_i32_832
  let c3_i32_833 : BitVec 32 := 3#32
  let v1682 : BitVec 32 := Scalar.shli v1681 c3_i32_833
  v1682

def k0_off77 (v1680 : BitVec 32) : Fin 3 → Nat :=
  let c3_i32_832 : BitVec 32 := 3#32
  let v1681 : BitVec 32 := Scalar.shrsi v1680 c3_i32_832
  let c3_i32_833 : BitVec 32 := 3#32
  let v1682 : BitVec 32 := Scalar.shli v1681 c3_i32_833
  let v1683 : BitVec 32 := v1682
  let v1684 : Index := Scalar.indexCast v1683
  let c0_834 : Index := 0#32
  ![v1684.toNat, 0, 0]

def k0_chk77 (v1680 : BitVec 32) : Prop :=
  (8 ∣ (k0_mult77 v1680).toNat) ∧
  (∀ a, (k0_off77 v1680) a + S8x2x128.size a ≤ S20016x2x128.size a)
theorem k0_mult77_dvd : ∀ (v1680 : BitVec 32) (k0_hw77 : k0_chk77 v1680), 8 ∣ (k0_mult77 v1680).toNat := fun v1680 k0_hw77 => k0_hw77.1
theorem k0_off77_inb : ∀ (v1680 : BitVec 32) (k0_hw77 : k0_chk77 v1680), ∀ a, (k0_off77 v1680) a + S8x2x128.size a ≤ S20016x2x128.size a := fun v1680 k0_hw77 => k0_hw77.2

def k0_mult78 (v1702 : BitVec 32) : BitVec 32 :=
  let c3_i32_843 : BitVec 32 := 3#32
  let v1703 : BitVec 32 := Scalar.shrsi v1702 c3_i32_843
  let c3_i32_844 : BitVec 32 := 3#32
  let v1704 : BitVec 32 := Scalar.shli v1703 c3_i32_844
  v1704

def k0_off78 (v1702 : BitVec 32) : Fin 3 → Nat :=
  let c3_i32_843 : BitVec 32 := 3#32
  let v1703 : BitVec 32 := Scalar.shrsi v1702 c3_i32_843
  let c3_i32_844 : BitVec 32 := 3#32
  let v1704 : BitVec 32 := Scalar.shli v1703 c3_i32_844
  let v1705 : BitVec 32 := v1704
  let v1706 : Index := Scalar.indexCast v1705
  let c0_845 : Index := 0#32
  ![v1706.toNat, 0, 0]

def k0_chk78 (v1702 : BitVec 32) : Prop :=
  (8 ∣ (k0_mult78 v1702).toNat) ∧
  (∀ a, (k0_off78 v1702) a + S8x2x128.size a ≤ S20016x2x128.size a)
theorem k0_mult78_dvd : ∀ (v1702 : BitVec 32) (k0_hw78 : k0_chk78 v1702), 8 ∣ (k0_mult78 v1702).toNat := fun v1702 k0_hw78 => k0_hw78.1
theorem k0_off78_inb : ∀ (v1702 : BitVec 32) (k0_hw78 : k0_chk78 v1702), ∀ a, (k0_off78 v1702) a + S8x2x128.size a ≤ S20016x2x128.size a := fun v1702 k0_hw78 => k0_hw78.2

def k0_mult79 (v1724 : BitVec 32) : BitVec 32 :=
  let c3_i32_854 : BitVec 32 := 3#32
  let v1725 : BitVec 32 := Scalar.shrsi v1724 c3_i32_854
  let c3_i32_855 : BitVec 32 := 3#32
  let v1726 : BitVec 32 := Scalar.shli v1725 c3_i32_855
  v1726

def k0_off79 (v1724 : BitVec 32) : Fin 3 → Nat :=
  let c3_i32_854 : BitVec 32 := 3#32
  let v1725 : BitVec 32 := Scalar.shrsi v1724 c3_i32_854
  let c3_i32_855 : BitVec 32 := 3#32
  let v1726 : BitVec 32 := Scalar.shli v1725 c3_i32_855
  let v1727 : BitVec 32 := v1726
  let v1728 : Index := Scalar.indexCast v1727
  let c0_856 : Index := 0#32
  ![v1728.toNat, 0, 0]

def k0_chk79 (v1724 : BitVec 32) : Prop :=
  (8 ∣ (k0_mult79 v1724).toNat) ∧
  (∀ a, (k0_off79 v1724) a + S8x2x128.size a ≤ S20016x2x128.size a)
theorem k0_mult79_dvd : ∀ (v1724 : BitVec 32) (k0_hw79 : k0_chk79 v1724), 8 ∣ (k0_mult79 v1724).toNat := fun v1724 k0_hw79 => k0_hw79.1
theorem k0_off79_inb : ∀ (v1724 : BitVec 32) (k0_hw79 : k0_chk79 v1724), ∀ a, (k0_off79 v1724) a + S8x2x128.size a ≤ S20016x2x128.size a := fun v1724 k0_hw79 => k0_hw79.2

def k0_mult80 (v1746 : BitVec 32) : BitVec 32 :=
  let c3_i32_865 : BitVec 32 := 3#32
  let v1747 : BitVec 32 := Scalar.shrsi v1746 c3_i32_865
  let c3_i32_866 : BitVec 32 := 3#32
  let v1748 : BitVec 32 := Scalar.shli v1747 c3_i32_866
  v1748

def k0_off80 (v1746 : BitVec 32) : Fin 3 → Nat :=
  let c3_i32_865 : BitVec 32 := 3#32
  let v1747 : BitVec 32 := Scalar.shrsi v1746 c3_i32_865
  let c3_i32_866 : BitVec 32 := 3#32
  let v1748 : BitVec 32 := Scalar.shli v1747 c3_i32_866
  let v1749 : BitVec 32 := v1748
  let v1750 : Index := Scalar.indexCast v1749
  let c0_867 : Index := 0#32
  ![v1750.toNat, 0, 0]

def k0_chk80 (v1746 : BitVec 32) : Prop :=
  (8 ∣ (k0_mult80 v1746).toNat) ∧
  (∀ a, (k0_off80 v1746) a + S8x2x128.size a ≤ S20016x2x128.size a)
theorem k0_mult80_dvd : ∀ (v1746 : BitVec 32) (k0_hw80 : k0_chk80 v1746), 8 ∣ (k0_mult80 v1746).toNat := fun v1746 k0_hw80 => k0_hw80.1
theorem k0_off80_inb : ∀ (v1746 : BitVec 32) (k0_hw80 : k0_chk80 v1746), ∀ a, (k0_off80 v1746) a + S8x2x128.size a ≤ S20016x2x128.size a := fun v1746 k0_hw80 => k0_hw80.2

def k0_mult81 (v1768 : BitVec 32) : BitVec 32 :=
  let c3_i32_876 : BitVec 32 := 3#32
  let v1769 : BitVec 32 := Scalar.shrsi v1768 c3_i32_876
  let c3_i32_877 : BitVec 32 := 3#32
  let v1770 : BitVec 32 := Scalar.shli v1769 c3_i32_877
  v1770

def k0_off81 (v1768 : BitVec 32) : Fin 3 → Nat :=
  let c3_i32_876 : BitVec 32 := 3#32
  let v1769 : BitVec 32 := Scalar.shrsi v1768 c3_i32_876
  let c3_i32_877 : BitVec 32 := 3#32
  let v1770 : BitVec 32 := Scalar.shli v1769 c3_i32_877
  let v1771 : BitVec 32 := v1770
  let v1772 : Index := Scalar.indexCast v1771
  let c0_878 : Index := 0#32
  ![v1772.toNat, 0, 0]

def k0_chk81 (v1768 : BitVec 32) : Prop :=
  (8 ∣ (k0_mult81 v1768).toNat) ∧
  (∀ a, (k0_off81 v1768) a + S8x2x128.size a ≤ S20016x2x128.size a)
theorem k0_mult81_dvd : ∀ (v1768 : BitVec 32) (k0_hw81 : k0_chk81 v1768), 8 ∣ (k0_mult81 v1768).toNat := fun v1768 k0_hw81 => k0_hw81.1
theorem k0_off81_inb : ∀ (v1768 : BitVec 32) (k0_hw81 : k0_chk81 v1768), ∀ a, (k0_off81 v1768) a + S8x2x128.size a ≤ S20016x2x128.size a := fun v1768 k0_hw81 => k0_hw81.2

def k0_mult82 (v1790 : BitVec 32) : BitVec 32 :=
  let c3_i32_887 : BitVec 32 := 3#32
  let v1791 : BitVec 32 := Scalar.shrsi v1790 c3_i32_887
  let c3_i32_888 : BitVec 32 := 3#32
  let v1792 : BitVec 32 := Scalar.shli v1791 c3_i32_888
  v1792

def k0_off82 (v1790 : BitVec 32) : Fin 3 → Nat :=
  let c3_i32_887 : BitVec 32 := 3#32
  let v1791 : BitVec 32 := Scalar.shrsi v1790 c3_i32_887
  let c3_i32_888 : BitVec 32 := 3#32
  let v1792 : BitVec 32 := Scalar.shli v1791 c3_i32_888
  let v1793 : BitVec 32 := v1792
  let v1794 : Index := Scalar.indexCast v1793
  let c0_889 : Index := 0#32
  ![v1794.toNat, 0, 0]

def k0_chk82 (v1790 : BitVec 32) : Prop :=
  (8 ∣ (k0_mult82 v1790).toNat) ∧
  (∀ a, (k0_off82 v1790) a + S8x2x128.size a ≤ S20016x2x128.size a)
theorem k0_mult82_dvd : ∀ (v1790 : BitVec 32) (k0_hw82 : k0_chk82 v1790), 8 ∣ (k0_mult82 v1790).toNat := fun v1790 k0_hw82 => k0_hw82.1
theorem k0_off82_inb : ∀ (v1790 : BitVec 32) (k0_hw82 : k0_chk82 v1790), ∀ a, (k0_off82 v1790) a + S8x2x128.size a ≤ S20016x2x128.size a := fun v1790 k0_hw82 => k0_hw82.2

def k0_mult83 (v1812 : BitVec 32) : BitVec 32 :=
  let c3_i32_898 : BitVec 32 := 3#32
  let v1813 : BitVec 32 := Scalar.shrsi v1812 c3_i32_898
  let c3_i32_899 : BitVec 32 := 3#32
  let v1814 : BitVec 32 := Scalar.shli v1813 c3_i32_899
  v1814

def k0_off83 (v1812 : BitVec 32) : Fin 3 → Nat :=
  let c3_i32_898 : BitVec 32 := 3#32
  let v1813 : BitVec 32 := Scalar.shrsi v1812 c3_i32_898
  let c3_i32_899 : BitVec 32 := 3#32
  let v1814 : BitVec 32 := Scalar.shli v1813 c3_i32_899
  let v1815 : BitVec 32 := v1814
  let v1816 : Index := Scalar.indexCast v1815
  let c0_900 : Index := 0#32
  ![v1816.toNat, 0, 0]

def k0_chk83 (v1812 : BitVec 32) : Prop :=
  (8 ∣ (k0_mult83 v1812).toNat) ∧
  (∀ a, (k0_off83 v1812) a + S8x2x128.size a ≤ S20016x2x128.size a)
theorem k0_mult83_dvd : ∀ (v1812 : BitVec 32) (k0_hw83 : k0_chk83 v1812), 8 ∣ (k0_mult83 v1812).toNat := fun v1812 k0_hw83 => k0_hw83.1
theorem k0_off83_inb : ∀ (v1812 : BitVec 32) (k0_hw83 : k0_chk83 v1812), ∀ a, (k0_off83 v1812) a + S8x2x128.size a ≤ S20016x2x128.size a := fun v1812 k0_hw83 => k0_hw83.2

def k0_mult84 (v1834 : BitVec 32) : BitVec 32 :=
  let c3_i32_909 : BitVec 32 := 3#32
  let v1835 : BitVec 32 := Scalar.shrsi v1834 c3_i32_909
  let c3_i32_910 : BitVec 32 := 3#32
  let v1836 : BitVec 32 := Scalar.shli v1835 c3_i32_910
  v1836

def k0_off84 (v1834 : BitVec 32) : Fin 3 → Nat :=
  let c3_i32_909 : BitVec 32 := 3#32
  let v1835 : BitVec 32 := Scalar.shrsi v1834 c3_i32_909
  let c3_i32_910 : BitVec 32 := 3#32
  let v1836 : BitVec 32 := Scalar.shli v1835 c3_i32_910
  let v1837 : BitVec 32 := v1836
  let v1838 : Index := Scalar.indexCast v1837
  let c0_911 : Index := 0#32
  ![v1838.toNat, 0, 0]

def k0_chk84 (v1834 : BitVec 32) : Prop :=
  (8 ∣ (k0_mult84 v1834).toNat) ∧
  (∀ a, (k0_off84 v1834) a + S8x2x128.size a ≤ S20016x2x128.size a)
theorem k0_mult84_dvd : ∀ (v1834 : BitVec 32) (k0_hw84 : k0_chk84 v1834), 8 ∣ (k0_mult84 v1834).toNat := fun v1834 k0_hw84 => k0_hw84.1
theorem k0_off84_inb : ∀ (v1834 : BitVec 32) (k0_hw84 : k0_chk84 v1834), ∀ a, (k0_off84 v1834) a + S8x2x128.size a ≤ S20016x2x128.size a := fun v1834 k0_hw84 => k0_hw84.2

def k0_mult85 (v1856 : BitVec 32) : BitVec 32 :=
  let c3_i32_920 : BitVec 32 := 3#32
  let v1857 : BitVec 32 := Scalar.shrsi v1856 c3_i32_920
  let c3_i32_921 : BitVec 32 := 3#32
  let v1858 : BitVec 32 := Scalar.shli v1857 c3_i32_921
  v1858

def k0_off85 (v1856 : BitVec 32) : Fin 3 → Nat :=
  let c3_i32_920 : BitVec 32 := 3#32
  let v1857 : BitVec 32 := Scalar.shrsi v1856 c3_i32_920
  let c3_i32_921 : BitVec 32 := 3#32
  let v1858 : BitVec 32 := Scalar.shli v1857 c3_i32_921
  let v1859 : BitVec 32 := v1858
  let v1860 : Index := Scalar.indexCast v1859
  let c0_922 : Index := 0#32
  ![v1860.toNat, 0, 0]

def k0_chk85 (v1856 : BitVec 32) : Prop :=
  (8 ∣ (k0_mult85 v1856).toNat) ∧
  (∀ a, (k0_off85 v1856) a + S8x2x128.size a ≤ S20016x2x128.size a)
theorem k0_mult85_dvd : ∀ (v1856 : BitVec 32) (k0_hw85 : k0_chk85 v1856), 8 ∣ (k0_mult85 v1856).toNat := fun v1856 k0_hw85 => k0_hw85.1
theorem k0_off85_inb : ∀ (v1856 : BitVec 32) (k0_hw85 : k0_chk85 v1856), ∀ a, (k0_off85 v1856) a + S8x2x128.size a ≤ S20016x2x128.size a := fun v1856 k0_hw85 => k0_hw85.2

def k0_mult86 (v1878 : BitVec 32) : BitVec 32 :=
  let c3_i32_931 : BitVec 32 := 3#32
  let v1879 : BitVec 32 := Scalar.shrsi v1878 c3_i32_931
  let c3_i32_932 : BitVec 32 := 3#32
  let v1880 : BitVec 32 := Scalar.shli v1879 c3_i32_932
  v1880

def k0_off86 (v1878 : BitVec 32) : Fin 3 → Nat :=
  let c3_i32_931 : BitVec 32 := 3#32
  let v1879 : BitVec 32 := Scalar.shrsi v1878 c3_i32_931
  let c3_i32_932 : BitVec 32 := 3#32
  let v1880 : BitVec 32 := Scalar.shli v1879 c3_i32_932
  let v1881 : BitVec 32 := v1880
  let v1882 : Index := Scalar.indexCast v1881
  let c0_933 : Index := 0#32
  ![v1882.toNat, 0, 0]

def k0_chk86 (v1878 : BitVec 32) : Prop :=
  (8 ∣ (k0_mult86 v1878).toNat) ∧
  (∀ a, (k0_off86 v1878) a + S8x2x128.size a ≤ S20016x2x128.size a)
theorem k0_mult86_dvd : ∀ (v1878 : BitVec 32) (k0_hw86 : k0_chk86 v1878), 8 ∣ (k0_mult86 v1878).toNat := fun v1878 k0_hw86 => k0_hw86.1
theorem k0_off86_inb : ∀ (v1878 : BitVec 32) (k0_hw86 : k0_chk86 v1878), ∀ a, (k0_off86 v1878) a + S8x2x128.size a ≤ S20016x2x128.size a := fun v1878 k0_hw86 => k0_hw86.2

def k0_mult87 (v1900 : BitVec 32) : BitVec 32 :=
  let c3_i32_942 : BitVec 32 := 3#32
  let v1901 : BitVec 32 := Scalar.shrsi v1900 c3_i32_942
  let c3_i32_943 : BitVec 32 := 3#32
  let v1902 : BitVec 32 := Scalar.shli v1901 c3_i32_943
  v1902

def k0_off87 (v1900 : BitVec 32) : Fin 3 → Nat :=
  let c3_i32_942 : BitVec 32 := 3#32
  let v1901 : BitVec 32 := Scalar.shrsi v1900 c3_i32_942
  let c3_i32_943 : BitVec 32 := 3#32
  let v1902 : BitVec 32 := Scalar.shli v1901 c3_i32_943
  let v1903 : BitVec 32 := v1902
  let v1904 : Index := Scalar.indexCast v1903
  let c0_944 : Index := 0#32
  ![v1904.toNat, 0, 0]

def k0_chk87 (v1900 : BitVec 32) : Prop :=
  (8 ∣ (k0_mult87 v1900).toNat) ∧
  (∀ a, (k0_off87 v1900) a + S8x2x128.size a ≤ S20016x2x128.size a)
theorem k0_mult87_dvd : ∀ (v1900 : BitVec 32) (k0_hw87 : k0_chk87 v1900), 8 ∣ (k0_mult87 v1900).toNat := fun v1900 k0_hw87 => k0_hw87.1
theorem k0_off87_inb : ∀ (v1900 : BitVec 32) (k0_hw87 : k0_chk87 v1900), ∀ a, (k0_off87 v1900) a + S8x2x128.size a ≤ S20016x2x128.size a := fun v1900 k0_hw87 => k0_hw87.2

def k0_mult88 (v1922 : BitVec 32) : BitVec 32 :=
  let c3_i32_953 : BitVec 32 := 3#32
  let v1923 : BitVec 32 := Scalar.shrsi v1922 c3_i32_953
  let c3_i32_954 : BitVec 32 := 3#32
  let v1924 : BitVec 32 := Scalar.shli v1923 c3_i32_954
  v1924

def k0_off88 (v1922 : BitVec 32) : Fin 3 → Nat :=
  let c3_i32_953 : BitVec 32 := 3#32
  let v1923 : BitVec 32 := Scalar.shrsi v1922 c3_i32_953
  let c3_i32_954 : BitVec 32 := 3#32
  let v1924 : BitVec 32 := Scalar.shli v1923 c3_i32_954
  let v1925 : BitVec 32 := v1924
  let v1926 : Index := Scalar.indexCast v1925
  let c0_955 : Index := 0#32
  ![v1926.toNat, 0, 0]

def k0_chk88 (v1922 : BitVec 32) : Prop :=
  (8 ∣ (k0_mult88 v1922).toNat) ∧
  (∀ a, (k0_off88 v1922) a + S8x2x128.size a ≤ S20016x2x128.size a)
theorem k0_mult88_dvd : ∀ (v1922 : BitVec 32) (k0_hw88 : k0_chk88 v1922), 8 ∣ (k0_mult88 v1922).toNat := fun v1922 k0_hw88 => k0_hw88.1
theorem k0_off88_inb : ∀ (v1922 : BitVec 32) (k0_hw88 : k0_chk88 v1922), ∀ a, (k0_off88 v1922) a + S8x2x128.size a ≤ S20016x2x128.size a := fun v1922 k0_hw88 => k0_hw88.2

def k0_mult89 (v1944 : BitVec 32) : BitVec 32 :=
  let c3_i32_964 : BitVec 32 := 3#32
  let v1945 : BitVec 32 := Scalar.shrsi v1944 c3_i32_964
  let c3_i32_965 : BitVec 32 := 3#32
  let v1946 : BitVec 32 := Scalar.shli v1945 c3_i32_965
  v1946

def k0_off89 (v1944 : BitVec 32) : Fin 3 → Nat :=
  let c3_i32_964 : BitVec 32 := 3#32
  let v1945 : BitVec 32 := Scalar.shrsi v1944 c3_i32_964
  let c3_i32_965 : BitVec 32 := 3#32
  let v1946 : BitVec 32 := Scalar.shli v1945 c3_i32_965
  let v1947 : BitVec 32 := v1946
  let v1948 : Index := Scalar.indexCast v1947
  let c0_966 : Index := 0#32
  ![v1948.toNat, 0, 0]

def k0_chk89 (v1944 : BitVec 32) : Prop :=
  (8 ∣ (k0_mult89 v1944).toNat) ∧
  (∀ a, (k0_off89 v1944) a + S8x2x128.size a ≤ S20016x2x128.size a)
theorem k0_mult89_dvd : ∀ (v1944 : BitVec 32) (k0_hw89 : k0_chk89 v1944), 8 ∣ (k0_mult89 v1944).toNat := fun v1944 k0_hw89 => k0_hw89.1
theorem k0_off89_inb : ∀ (v1944 : BitVec 32) (k0_hw89 : k0_chk89 v1944), ∀ a, (k0_off89 v1944) a + S8x2x128.size a ≤ S20016x2x128.size a := fun v1944 k0_hw89 => k0_hw89.2

def k0_mult90 (v1966 : BitVec 32) : BitVec 32 :=
  let c3_i32_975 : BitVec 32 := 3#32
  let v1967 : BitVec 32 := Scalar.shrsi v1966 c3_i32_975
  let c3_i32_976 : BitVec 32 := 3#32
  let v1968 : BitVec 32 := Scalar.shli v1967 c3_i32_976
  v1968

def k0_off90 (v1966 : BitVec 32) : Fin 3 → Nat :=
  let c3_i32_975 : BitVec 32 := 3#32
  let v1967 : BitVec 32 := Scalar.shrsi v1966 c3_i32_975
  let c3_i32_976 : BitVec 32 := 3#32
  let v1968 : BitVec 32 := Scalar.shli v1967 c3_i32_976
  let v1969 : BitVec 32 := v1968
  let v1970 : Index := Scalar.indexCast v1969
  let c0_977 : Index := 0#32
  ![v1970.toNat, 0, 0]

def k0_chk90 (v1966 : BitVec 32) : Prop :=
  (8 ∣ (k0_mult90 v1966).toNat) ∧
  (∀ a, (k0_off90 v1966) a + S8x2x128.size a ≤ S20016x2x128.size a)
theorem k0_mult90_dvd : ∀ (v1966 : BitVec 32) (k0_hw90 : k0_chk90 v1966), 8 ∣ (k0_mult90 v1966).toNat := fun v1966 k0_hw90 => k0_hw90.1
theorem k0_off90_inb : ∀ (v1966 : BitVec 32) (k0_hw90 : k0_chk90 v1966), ∀ a, (k0_off90 v1966) a + S8x2x128.size a ≤ S20016x2x128.size a := fun v1966 k0_hw90 => k0_hw90.2

def k0_mult91 (v1988 : BitVec 32) : BitVec 32 :=
  let c3_i32_986 : BitVec 32 := 3#32
  let v1989 : BitVec 32 := Scalar.shrsi v1988 c3_i32_986
  let c3_i32_987 : BitVec 32 := 3#32
  let v1990 : BitVec 32 := Scalar.shli v1989 c3_i32_987
  v1990

def k0_off91 (v1988 : BitVec 32) : Fin 3 → Nat :=
  let c3_i32_986 : BitVec 32 := 3#32
  let v1989 : BitVec 32 := Scalar.shrsi v1988 c3_i32_986
  let c3_i32_987 : BitVec 32 := 3#32
  let v1990 : BitVec 32 := Scalar.shli v1989 c3_i32_987
  let v1991 : BitVec 32 := v1990
  let v1992 : Index := Scalar.indexCast v1991
  let c0_988 : Index := 0#32
  ![v1992.toNat, 0, 0]

def k0_chk91 (v1988 : BitVec 32) : Prop :=
  (8 ∣ (k0_mult91 v1988).toNat) ∧
  (∀ a, (k0_off91 v1988) a + S8x2x128.size a ≤ S20016x2x128.size a)
theorem k0_mult91_dvd : ∀ (v1988 : BitVec 32) (k0_hw91 : k0_chk91 v1988), 8 ∣ (k0_mult91 v1988).toNat := fun v1988 k0_hw91 => k0_hw91.1
theorem k0_off91_inb : ∀ (v1988 : BitVec 32) (k0_hw91 : k0_chk91 v1988), ∀ a, (k0_off91 v1988) a + S8x2x128.size a ≤ S20016x2x128.size a := fun v1988 k0_hw91 => k0_hw91.2

def k0_mult92 (v2010 : BitVec 32) : BitVec 32 :=
  let c3_i32_997 : BitVec 32 := 3#32
  let v2011 : BitVec 32 := Scalar.shrsi v2010 c3_i32_997
  let c3_i32_998 : BitVec 32 := 3#32
  let v2012 : BitVec 32 := Scalar.shli v2011 c3_i32_998
  v2012

def k0_off92 (v2010 : BitVec 32) : Fin 3 → Nat :=
  let c3_i32_997 : BitVec 32 := 3#32
  let v2011 : BitVec 32 := Scalar.shrsi v2010 c3_i32_997
  let c3_i32_998 : BitVec 32 := 3#32
  let v2012 : BitVec 32 := Scalar.shli v2011 c3_i32_998
  let v2013 : BitVec 32 := v2012
  let v2014 : Index := Scalar.indexCast v2013
  let c0_999 : Index := 0#32
  ![v2014.toNat, 0, 0]

def k0_chk92 (v2010 : BitVec 32) : Prop :=
  (8 ∣ (k0_mult92 v2010).toNat) ∧
  (∀ a, (k0_off92 v2010) a + S8x2x128.size a ≤ S20016x2x128.size a)
theorem k0_mult92_dvd : ∀ (v2010 : BitVec 32) (k0_hw92 : k0_chk92 v2010), 8 ∣ (k0_mult92 v2010).toNat := fun v2010 k0_hw92 => k0_hw92.1
theorem k0_off92_inb : ∀ (v2010 : BitVec 32) (k0_hw92 : k0_chk92 v2010), ∀ a, (k0_off92 v2010) a + S8x2x128.size a ≤ S20016x2x128.size a := fun v2010 k0_hw92 => k0_hw92.2

def k0_mult93 (v2032 : BitVec 32) : BitVec 32 :=
  let c3_i32_1008 : BitVec 32 := 3#32
  let v2033 : BitVec 32 := Scalar.shrsi v2032 c3_i32_1008
  let c3_i32_1009 : BitVec 32 := 3#32
  let v2034 : BitVec 32 := Scalar.shli v2033 c3_i32_1009
  v2034

def k0_off93 (v2032 : BitVec 32) : Fin 3 → Nat :=
  let c3_i32_1008 : BitVec 32 := 3#32
  let v2033 : BitVec 32 := Scalar.shrsi v2032 c3_i32_1008
  let c3_i32_1009 : BitVec 32 := 3#32
  let v2034 : BitVec 32 := Scalar.shli v2033 c3_i32_1009
  let v2035 : BitVec 32 := v2034
  let v2036 : Index := Scalar.indexCast v2035
  let c0_1010 : Index := 0#32
  ![v2036.toNat, 0, 0]

def k0_chk93 (v2032 : BitVec 32) : Prop :=
  (8 ∣ (k0_mult93 v2032).toNat) ∧
  (∀ a, (k0_off93 v2032) a + S8x2x128.size a ≤ S20016x2x128.size a)
theorem k0_mult93_dvd : ∀ (v2032 : BitVec 32) (k0_hw93 : k0_chk93 v2032), 8 ∣ (k0_mult93 v2032).toNat := fun v2032 k0_hw93 => k0_hw93.1
theorem k0_off93_inb : ∀ (v2032 : BitVec 32) (k0_hw93 : k0_chk93 v2032), ∀ a, (k0_off93 v2032) a + S8x2x128.size a ≤ S20016x2x128.size a := fun v2032 k0_hw93 => k0_hw93.2

def k0_mult94 (v2054 : BitVec 32) : BitVec 32 :=
  let c3_i32_1019 : BitVec 32 := 3#32
  let v2055 : BitVec 32 := Scalar.shrsi v2054 c3_i32_1019
  let c3_i32_1020 : BitVec 32 := 3#32
  let v2056 : BitVec 32 := Scalar.shli v2055 c3_i32_1020
  v2056

def k0_off94 (v2054 : BitVec 32) : Fin 3 → Nat :=
  let c3_i32_1019 : BitVec 32 := 3#32
  let v2055 : BitVec 32 := Scalar.shrsi v2054 c3_i32_1019
  let c3_i32_1020 : BitVec 32 := 3#32
  let v2056 : BitVec 32 := Scalar.shli v2055 c3_i32_1020
  let v2057 : BitVec 32 := v2056
  let v2058 : Index := Scalar.indexCast v2057
  let c0_1021 : Index := 0#32
  ![v2058.toNat, 0, 0]

def k0_chk94 (v2054 : BitVec 32) : Prop :=
  (8 ∣ (k0_mult94 v2054).toNat) ∧
  (∀ a, (k0_off94 v2054) a + S8x2x128.size a ≤ S20016x2x128.size a)
theorem k0_mult94_dvd : ∀ (v2054 : BitVec 32) (k0_hw94 : k0_chk94 v2054), 8 ∣ (k0_mult94 v2054).toNat := fun v2054 k0_hw94 => k0_hw94.1
theorem k0_off94_inb : ∀ (v2054 : BitVec 32) (k0_hw94 : k0_chk94 v2054), ∀ a, (k0_off94 v2054) a + S8x2x128.size a ≤ S20016x2x128.size a := fun v2054 k0_hw94 => k0_hw94.2

def k0_mult95 (v2076 : BitVec 32) : BitVec 32 :=
  let c3_i32_1030 : BitVec 32 := 3#32
  let v2077 : BitVec 32 := Scalar.shrsi v2076 c3_i32_1030
  let c3_i32_1031 : BitVec 32 := 3#32
  let v2078 : BitVec 32 := Scalar.shli v2077 c3_i32_1031
  v2078

def k0_off95 (v2076 : BitVec 32) : Fin 3 → Nat :=
  let c3_i32_1030 : BitVec 32 := 3#32
  let v2077 : BitVec 32 := Scalar.shrsi v2076 c3_i32_1030
  let c3_i32_1031 : BitVec 32 := 3#32
  let v2078 : BitVec 32 := Scalar.shli v2077 c3_i32_1031
  let v2079 : BitVec 32 := v2078
  let v2080 : Index := Scalar.indexCast v2079
  let c0_1032 : Index := 0#32
  ![v2080.toNat, 0, 0]

def k0_chk95 (v2076 : BitVec 32) : Prop :=
  (8 ∣ (k0_mult95 v2076).toNat) ∧
  (∀ a, (k0_off95 v2076) a + S8x2x128.size a ≤ S20016x2x128.size a)
theorem k0_mult95_dvd : ∀ (v2076 : BitVec 32) (k0_hw95 : k0_chk95 v2076), 8 ∣ (k0_mult95 v2076).toNat := fun v2076 k0_hw95 => k0_hw95.1
theorem k0_off95_inb : ∀ (v2076 : BitVec 32) (k0_hw95 : k0_chk95 v2076), ∀ a, (k0_off95 v2076) a + S8x2x128.size a ≤ S20016x2x128.size a := fun v2076 k0_hw95 => k0_hw95.2

def k0_mult96 (v2098 : BitVec 32) : BitVec 32 :=
  let c3_i32_1041 : BitVec 32 := 3#32
  let v2099 : BitVec 32 := Scalar.shrsi v2098 c3_i32_1041
  let c3_i32_1042 : BitVec 32 := 3#32
  let v2100 : BitVec 32 := Scalar.shli v2099 c3_i32_1042
  v2100

def k0_off96 (v2098 : BitVec 32) : Fin 3 → Nat :=
  let c3_i32_1041 : BitVec 32 := 3#32
  let v2099 : BitVec 32 := Scalar.shrsi v2098 c3_i32_1041
  let c3_i32_1042 : BitVec 32 := 3#32
  let v2100 : BitVec 32 := Scalar.shli v2099 c3_i32_1042
  let v2101 : BitVec 32 := v2100
  let v2102 : Index := Scalar.indexCast v2101
  let c0_1043 : Index := 0#32
  ![v2102.toNat, 0, 0]

def k0_chk96 (v2098 : BitVec 32) : Prop :=
  (8 ∣ (k0_mult96 v2098).toNat) ∧
  (∀ a, (k0_off96 v2098) a + S8x2x128.size a ≤ S20016x2x128.size a)
theorem k0_mult96_dvd : ∀ (v2098 : BitVec 32) (k0_hw96 : k0_chk96 v2098), 8 ∣ (k0_mult96 v2098).toNat := fun v2098 k0_hw96 => k0_hw96.1
theorem k0_off96_inb : ∀ (v2098 : BitVec 32) (k0_hw96 : k0_chk96 v2098), ∀ a, (k0_off96 v2098) a + S8x2x128.size a ≤ S20016x2x128.size a := fun v2098 k0_hw96 => k0_hw96.2

def k0_mult97 (v2120 : BitVec 32) : BitVec 32 :=
  let c3_i32_1052 : BitVec 32 := 3#32
  let v2121 : BitVec 32 := Scalar.shrsi v2120 c3_i32_1052
  let c3_i32_1053 : BitVec 32 := 3#32
  let v2122 : BitVec 32 := Scalar.shli v2121 c3_i32_1053
  v2122

def k0_off97 (v2120 : BitVec 32) : Fin 3 → Nat :=
  let c3_i32_1052 : BitVec 32 := 3#32
  let v2121 : BitVec 32 := Scalar.shrsi v2120 c3_i32_1052
  let c3_i32_1053 : BitVec 32 := 3#32
  let v2122 : BitVec 32 := Scalar.shli v2121 c3_i32_1053
  let v2123 : BitVec 32 := v2122
  let v2124 : Index := Scalar.indexCast v2123
  let c0_1054 : Index := 0#32
  ![v2124.toNat, 0, 0]

def k0_chk97 (v2120 : BitVec 32) : Prop :=
  (8 ∣ (k0_mult97 v2120).toNat) ∧
  (∀ a, (k0_off97 v2120) a + S8x2x128.size a ≤ S20016x2x128.size a)
theorem k0_mult97_dvd : ∀ (v2120 : BitVec 32) (k0_hw97 : k0_chk97 v2120), 8 ∣ (k0_mult97 v2120).toNat := fun v2120 k0_hw97 => k0_hw97.1
theorem k0_off97_inb : ∀ (v2120 : BitVec 32) (k0_hw97 : k0_chk97 v2120), ∀ a, (k0_off97 v2120) a + S8x2x128.size a ≤ S20016x2x128.size a := fun v2120 k0_hw97 => k0_hw97.2

def k0_mult98 (v2142 : BitVec 32) : BitVec 32 :=
  let c3_i32_1063 : BitVec 32 := 3#32
  let v2143 : BitVec 32 := Scalar.shrsi v2142 c3_i32_1063
  let c3_i32_1064 : BitVec 32 := 3#32
  let v2144 : BitVec 32 := Scalar.shli v2143 c3_i32_1064
  v2144

def k0_off98 (v2142 : BitVec 32) : Fin 3 → Nat :=
  let c3_i32_1063 : BitVec 32 := 3#32
  let v2143 : BitVec 32 := Scalar.shrsi v2142 c3_i32_1063
  let c3_i32_1064 : BitVec 32 := 3#32
  let v2144 : BitVec 32 := Scalar.shli v2143 c3_i32_1064
  let v2145 : BitVec 32 := v2144
  let v2146 : Index := Scalar.indexCast v2145
  let c0_1065 : Index := 0#32
  ![v2146.toNat, 0, 0]

def k0_chk98 (v2142 : BitVec 32) : Prop :=
  (8 ∣ (k0_mult98 v2142).toNat) ∧
  (∀ a, (k0_off98 v2142) a + S8x2x128.size a ≤ S20016x2x128.size a)
theorem k0_mult98_dvd : ∀ (v2142 : BitVec 32) (k0_hw98 : k0_chk98 v2142), 8 ∣ (k0_mult98 v2142).toNat := fun v2142 k0_hw98 => k0_hw98.1
theorem k0_off98_inb : ∀ (v2142 : BitVec 32) (k0_hw98 : k0_chk98 v2142), ∀ a, (k0_off98 v2142) a + S8x2x128.size a ≤ S20016x2x128.size a := fun v2142 k0_hw98 => k0_hw98.2

def k0_mult99 (v2164 : BitVec 32) : BitVec 32 :=
  let c3_i32_1074 : BitVec 32 := 3#32
  let v2165 : BitVec 32 := Scalar.shrsi v2164 c3_i32_1074
  let c3_i32_1075 : BitVec 32 := 3#32
  let v2166 : BitVec 32 := Scalar.shli v2165 c3_i32_1075
  v2166

def k0_off99 (v2164 : BitVec 32) : Fin 3 → Nat :=
  let c3_i32_1074 : BitVec 32 := 3#32
  let v2165 : BitVec 32 := Scalar.shrsi v2164 c3_i32_1074
  let c3_i32_1075 : BitVec 32 := 3#32
  let v2166 : BitVec 32 := Scalar.shli v2165 c3_i32_1075
  let v2167 : BitVec 32 := v2166
  let v2168 : Index := Scalar.indexCast v2167
  let c0_1076 : Index := 0#32
  ![v2168.toNat, 0, 0]

def k0_chk99 (v2164 : BitVec 32) : Prop :=
  (8 ∣ (k0_mult99 v2164).toNat) ∧
  (∀ a, (k0_off99 v2164) a + S8x2x128.size a ≤ S20016x2x128.size a)
theorem k0_mult99_dvd : ∀ (v2164 : BitVec 32) (k0_hw99 : k0_chk99 v2164), 8 ∣ (k0_mult99 v2164).toNat := fun v2164 k0_hw99 => k0_hw99.1
theorem k0_off99_inb : ∀ (v2164 : BitVec 32) (k0_hw99 : k0_chk99 v2164), ∀ a, (k0_off99 v2164) a + S8x2x128.size a ≤ S20016x2x128.size a := fun v2164 k0_hw99 => k0_hw99.2

def k0_mult100 (v2186 : BitVec 32) : BitVec 32 :=
  let c3_i32_1085 : BitVec 32 := 3#32
  let v2187 : BitVec 32 := Scalar.shrsi v2186 c3_i32_1085
  let c3_i32_1086 : BitVec 32 := 3#32
  let v2188 : BitVec 32 := Scalar.shli v2187 c3_i32_1086
  v2188

def k0_off100 (v2186 : BitVec 32) : Fin 3 → Nat :=
  let c3_i32_1085 : BitVec 32 := 3#32
  let v2187 : BitVec 32 := Scalar.shrsi v2186 c3_i32_1085
  let c3_i32_1086 : BitVec 32 := 3#32
  let v2188 : BitVec 32 := Scalar.shli v2187 c3_i32_1086
  let v2189 : BitVec 32 := v2188
  let v2190 : Index := Scalar.indexCast v2189
  let c0_1087 : Index := 0#32
  ![v2190.toNat, 0, 0]

def k0_chk100 (v2186 : BitVec 32) : Prop :=
  (8 ∣ (k0_mult100 v2186).toNat) ∧
  (∀ a, (k0_off100 v2186) a + S8x2x128.size a ≤ S20016x2x128.size a)
theorem k0_mult100_dvd : ∀ (v2186 : BitVec 32) (k0_hw100 : k0_chk100 v2186), 8 ∣ (k0_mult100 v2186).toNat := fun v2186 k0_hw100 => k0_hw100.1
theorem k0_off100_inb : ∀ (v2186 : BitVec 32) (k0_hw100 : k0_chk100 v2186), ∀ a, (k0_off100 v2186) a + S8x2x128.size a ≤ S20016x2x128.size a := fun v2186 k0_hw100 => k0_hw100.2

def k0_mult101 (v2208 : BitVec 32) : BitVec 32 :=
  let c3_i32_1096 : BitVec 32 := 3#32
  let v2209 : BitVec 32 := Scalar.shrsi v2208 c3_i32_1096
  let c3_i32_1097 : BitVec 32 := 3#32
  let v2210 : BitVec 32 := Scalar.shli v2209 c3_i32_1097
  v2210

def k0_off101 (v2208 : BitVec 32) : Fin 3 → Nat :=
  let c3_i32_1096 : BitVec 32 := 3#32
  let v2209 : BitVec 32 := Scalar.shrsi v2208 c3_i32_1096
  let c3_i32_1097 : BitVec 32 := 3#32
  let v2210 : BitVec 32 := Scalar.shli v2209 c3_i32_1097
  let v2211 : BitVec 32 := v2210
  let v2212 : Index := Scalar.indexCast v2211
  let c0_1098 : Index := 0#32
  ![v2212.toNat, 0, 0]

def k0_chk101 (v2208 : BitVec 32) : Prop :=
  (8 ∣ (k0_mult101 v2208).toNat) ∧
  (∀ a, (k0_off101 v2208) a + S8x2x128.size a ≤ S20016x2x128.size a)
theorem k0_mult101_dvd : ∀ (v2208 : BitVec 32) (k0_hw101 : k0_chk101 v2208), 8 ∣ (k0_mult101 v2208).toNat := fun v2208 k0_hw101 => k0_hw101.1
theorem k0_off101_inb : ∀ (v2208 : BitVec 32) (k0_hw101 : k0_chk101 v2208), ∀ a, (k0_off101 v2208) a + S8x2x128.size a ≤ S20016x2x128.size a := fun v2208 k0_hw101 => k0_hw101.2

def k0_mult102 (v2230 : BitVec 32) : BitVec 32 :=
  let c3_i32_1107 : BitVec 32 := 3#32
  let v2231 : BitVec 32 := Scalar.shrsi v2230 c3_i32_1107
  let c3_i32_1108 : BitVec 32 := 3#32
  let v2232 : BitVec 32 := Scalar.shli v2231 c3_i32_1108
  v2232

def k0_off102 (v2230 : BitVec 32) : Fin 3 → Nat :=
  let c3_i32_1107 : BitVec 32 := 3#32
  let v2231 : BitVec 32 := Scalar.shrsi v2230 c3_i32_1107
  let c3_i32_1108 : BitVec 32 := 3#32
  let v2232 : BitVec 32 := Scalar.shli v2231 c3_i32_1108
  let v2233 : BitVec 32 := v2232
  let v2234 : Index := Scalar.indexCast v2233
  let c0_1109 : Index := 0#32
  ![v2234.toNat, 0, 0]

def k0_chk102 (v2230 : BitVec 32) : Prop :=
  (8 ∣ (k0_mult102 v2230).toNat) ∧
  (∀ a, (k0_off102 v2230) a + S8x2x128.size a ≤ S20016x2x128.size a)
theorem k0_mult102_dvd : ∀ (v2230 : BitVec 32) (k0_hw102 : k0_chk102 v2230), 8 ∣ (k0_mult102 v2230).toNat := fun v2230 k0_hw102 => k0_hw102.1
theorem k0_off102_inb : ∀ (v2230 : BitVec 32) (k0_hw102 : k0_chk102 v2230), ∀ a, (k0_off102 v2230) a + S8x2x128.size a ≤ S20016x2x128.size a := fun v2230 k0_hw102 => k0_hw102.2

def k0_mult103 (v2252 : BitVec 32) : BitVec 32 :=
  let c3_i32_1118 : BitVec 32 := 3#32
  let v2253 : BitVec 32 := Scalar.shrsi v2252 c3_i32_1118
  let c3_i32_1119 : BitVec 32 := 3#32
  let v2254 : BitVec 32 := Scalar.shli v2253 c3_i32_1119
  v2254

def k0_off103 (v2252 : BitVec 32) : Fin 3 → Nat :=
  let c3_i32_1118 : BitVec 32 := 3#32
  let v2253 : BitVec 32 := Scalar.shrsi v2252 c3_i32_1118
  let c3_i32_1119 : BitVec 32 := 3#32
  let v2254 : BitVec 32 := Scalar.shli v2253 c3_i32_1119
  let v2255 : BitVec 32 := v2254
  let v2256 : Index := Scalar.indexCast v2255
  let c0_1120 : Index := 0#32
  ![v2256.toNat, 0, 0]

def k0_chk103 (v2252 : BitVec 32) : Prop :=
  (8 ∣ (k0_mult103 v2252).toNat) ∧
  (∀ a, (k0_off103 v2252) a + S8x2x128.size a ≤ S20016x2x128.size a)
theorem k0_mult103_dvd : ∀ (v2252 : BitVec 32) (k0_hw103 : k0_chk103 v2252), 8 ∣ (k0_mult103 v2252).toNat := fun v2252 k0_hw103 => k0_hw103.1
theorem k0_off103_inb : ∀ (v2252 : BitVec 32) (k0_hw103 : k0_chk103 v2252), ∀ a, (k0_off103 v2252) a + S8x2x128.size a ≤ S20016x2x128.size a := fun v2252 k0_hw103 => k0_hw103.2

def k0_mult104 (v2274 : BitVec 32) : BitVec 32 :=
  let c3_i32_1129 : BitVec 32 := 3#32
  let v2275 : BitVec 32 := Scalar.shrsi v2274 c3_i32_1129
  let c3_i32_1130 : BitVec 32 := 3#32
  let v2276 : BitVec 32 := Scalar.shli v2275 c3_i32_1130
  v2276

def k0_off104 (v2274 : BitVec 32) : Fin 3 → Nat :=
  let c3_i32_1129 : BitVec 32 := 3#32
  let v2275 : BitVec 32 := Scalar.shrsi v2274 c3_i32_1129
  let c3_i32_1130 : BitVec 32 := 3#32
  let v2276 : BitVec 32 := Scalar.shli v2275 c3_i32_1130
  let v2277 : BitVec 32 := v2276
  let v2278 : Index := Scalar.indexCast v2277
  let c0_1131 : Index := 0#32
  ![v2278.toNat, 0, 0]

def k0_chk104 (v2274 : BitVec 32) : Prop :=
  (8 ∣ (k0_mult104 v2274).toNat) ∧
  (∀ a, (k0_off104 v2274) a + S8x2x128.size a ≤ S20016x2x128.size a)
theorem k0_mult104_dvd : ∀ (v2274 : BitVec 32) (k0_hw104 : k0_chk104 v2274), 8 ∣ (k0_mult104 v2274).toNat := fun v2274 k0_hw104 => k0_hw104.1
theorem k0_off104_inb : ∀ (v2274 : BitVec 32) (k0_hw104 : k0_chk104 v2274), ∀ a, (k0_off104 v2274) a + S8x2x128.size a ≤ S20016x2x128.size a := fun v2274 k0_hw104 => k0_hw104.2

def k0_mult105 (v2296 : BitVec 32) : BitVec 32 :=
  let c3_i32_1140 : BitVec 32 := 3#32
  let v2297 : BitVec 32 := Scalar.shrsi v2296 c3_i32_1140
  let c3_i32_1141 : BitVec 32 := 3#32
  let v2298 : BitVec 32 := Scalar.shli v2297 c3_i32_1141
  v2298

def k0_off105 (v2296 : BitVec 32) : Fin 3 → Nat :=
  let c3_i32_1140 : BitVec 32 := 3#32
  let v2297 : BitVec 32 := Scalar.shrsi v2296 c3_i32_1140
  let c3_i32_1141 : BitVec 32 := 3#32
  let v2298 : BitVec 32 := Scalar.shli v2297 c3_i32_1141
  let v2299 : BitVec 32 := v2298
  let v2300 : Index := Scalar.indexCast v2299
  let c0_1142 : Index := 0#32
  ![v2300.toNat, 0, 0]

def k0_chk105 (v2296 : BitVec 32) : Prop :=
  (8 ∣ (k0_mult105 v2296).toNat) ∧
  (∀ a, (k0_off105 v2296) a + S8x2x128.size a ≤ S20016x2x128.size a)
theorem k0_mult105_dvd : ∀ (v2296 : BitVec 32) (k0_hw105 : k0_chk105 v2296), 8 ∣ (k0_mult105 v2296).toNat := fun v2296 k0_hw105 => k0_hw105.1
theorem k0_off105_inb : ∀ (v2296 : BitVec 32) (k0_hw105 : k0_chk105 v2296), ∀ a, (k0_off105 v2296) a + S8x2x128.size a ≤ S20016x2x128.size a := fun v2296 k0_hw105 => k0_hw105.2

def k0_mult106 (v2318 : BitVec 32) : BitVec 32 :=
  let c3_i32_1151 : BitVec 32 := 3#32
  let v2319 : BitVec 32 := Scalar.shrsi v2318 c3_i32_1151
  let c3_i32_1152 : BitVec 32 := 3#32
  let v2320 : BitVec 32 := Scalar.shli v2319 c3_i32_1152
  v2320

def k0_off106 (v2318 : BitVec 32) : Fin 3 → Nat :=
  let c3_i32_1151 : BitVec 32 := 3#32
  let v2319 : BitVec 32 := Scalar.shrsi v2318 c3_i32_1151
  let c3_i32_1152 : BitVec 32 := 3#32
  let v2320 : BitVec 32 := Scalar.shli v2319 c3_i32_1152
  let v2321 : BitVec 32 := v2320
  let v2322 : Index := Scalar.indexCast v2321
  let c0_1153 : Index := 0#32
  ![v2322.toNat, 0, 0]

def k0_chk106 (v2318 : BitVec 32) : Prop :=
  (8 ∣ (k0_mult106 v2318).toNat) ∧
  (∀ a, (k0_off106 v2318) a + S8x2x128.size a ≤ S20016x2x128.size a)
theorem k0_mult106_dvd : ∀ (v2318 : BitVec 32) (k0_hw106 : k0_chk106 v2318), 8 ∣ (k0_mult106 v2318).toNat := fun v2318 k0_hw106 => k0_hw106.1
theorem k0_off106_inb : ∀ (v2318 : BitVec 32) (k0_hw106 : k0_chk106 v2318), ∀ a, (k0_off106 v2318) a + S8x2x128.size a ≤ S20016x2x128.size a := fun v2318 k0_hw106 => k0_hw106.2

def k0_mult107 (v2340 : BitVec 32) : BitVec 32 :=
  let c3_i32_1162 : BitVec 32 := 3#32
  let v2341 : BitVec 32 := Scalar.shrsi v2340 c3_i32_1162
  let c3_i32_1163 : BitVec 32 := 3#32
  let v2342 : BitVec 32 := Scalar.shli v2341 c3_i32_1163
  v2342

def k0_off107 (v2340 : BitVec 32) : Fin 3 → Nat :=
  let c3_i32_1162 : BitVec 32 := 3#32
  let v2341 : BitVec 32 := Scalar.shrsi v2340 c3_i32_1162
  let c3_i32_1163 : BitVec 32 := 3#32
  let v2342 : BitVec 32 := Scalar.shli v2341 c3_i32_1163
  let v2343 : BitVec 32 := v2342
  let v2344 : Index := Scalar.indexCast v2343
  let c0_1164 : Index := 0#32
  ![v2344.toNat, 0, 0]

def k0_chk107 (v2340 : BitVec 32) : Prop :=
  (8 ∣ (k0_mult107 v2340).toNat) ∧
  (∀ a, (k0_off107 v2340) a + S8x2x128.size a ≤ S20016x2x128.size a)
theorem k0_mult107_dvd : ∀ (v2340 : BitVec 32) (k0_hw107 : k0_chk107 v2340), 8 ∣ (k0_mult107 v2340).toNat := fun v2340 k0_hw107 => k0_hw107.1
theorem k0_off107_inb : ∀ (v2340 : BitVec 32) (k0_hw107 : k0_chk107 v2340), ∀ a, (k0_off107 v2340) a + S8x2x128.size a ≤ S20016x2x128.size a := fun v2340 k0_hw107 => k0_hw107.2

def k0_mult108 (v2362 : BitVec 32) : BitVec 32 :=
  let c3_i32_1173 : BitVec 32 := 3#32
  let v2363 : BitVec 32 := Scalar.shrsi v2362 c3_i32_1173
  let c3_i32_1174 : BitVec 32 := 3#32
  let v2364 : BitVec 32 := Scalar.shli v2363 c3_i32_1174
  v2364

def k0_off108 (v2362 : BitVec 32) : Fin 3 → Nat :=
  let c3_i32_1173 : BitVec 32 := 3#32
  let v2363 : BitVec 32 := Scalar.shrsi v2362 c3_i32_1173
  let c3_i32_1174 : BitVec 32 := 3#32
  let v2364 : BitVec 32 := Scalar.shli v2363 c3_i32_1174
  let v2365 : BitVec 32 := v2364
  let v2366 : Index := Scalar.indexCast v2365
  let c0_1175 : Index := 0#32
  ![v2366.toNat, 0, 0]

def k0_chk108 (v2362 : BitVec 32) : Prop :=
  (8 ∣ (k0_mult108 v2362).toNat) ∧
  (∀ a, (k0_off108 v2362) a + S8x2x128.size a ≤ S20016x2x128.size a)
theorem k0_mult108_dvd : ∀ (v2362 : BitVec 32) (k0_hw108 : k0_chk108 v2362), 8 ∣ (k0_mult108 v2362).toNat := fun v2362 k0_hw108 => k0_hw108.1
theorem k0_off108_inb : ∀ (v2362 : BitVec 32) (k0_hw108 : k0_chk108 v2362), ∀ a, (k0_off108 v2362) a + S8x2x128.size a ≤ S20016x2x128.size a := fun v2362 k0_hw108 => k0_hw108.2

def k0_mult109 (v2384 : BitVec 32) : BitVec 32 :=
  let c3_i32_1184 : BitVec 32 := 3#32
  let v2385 : BitVec 32 := Scalar.shrsi v2384 c3_i32_1184
  let c3_i32_1185 : BitVec 32 := 3#32
  let v2386 : BitVec 32 := Scalar.shli v2385 c3_i32_1185
  v2386

def k0_off109 (v2384 : BitVec 32) : Fin 3 → Nat :=
  let c3_i32_1184 : BitVec 32 := 3#32
  let v2385 : BitVec 32 := Scalar.shrsi v2384 c3_i32_1184
  let c3_i32_1185 : BitVec 32 := 3#32
  let v2386 : BitVec 32 := Scalar.shli v2385 c3_i32_1185
  let v2387 : BitVec 32 := v2386
  let v2388 : Index := Scalar.indexCast v2387
  let c0_1186 : Index := 0#32
  ![v2388.toNat, 0, 0]

def k0_chk109 (v2384 : BitVec 32) : Prop :=
  (8 ∣ (k0_mult109 v2384).toNat) ∧
  (∀ a, (k0_off109 v2384) a + S8x2x128.size a ≤ S20016x2x128.size a)
theorem k0_mult109_dvd : ∀ (v2384 : BitVec 32) (k0_hw109 : k0_chk109 v2384), 8 ∣ (k0_mult109 v2384).toNat := fun v2384 k0_hw109 => k0_hw109.1
theorem k0_off109_inb : ∀ (v2384 : BitVec 32) (k0_hw109 : k0_chk109 v2384), ∀ a, (k0_off109 v2384) a + S8x2x128.size a ≤ S20016x2x128.size a := fun v2384 k0_hw109 => k0_hw109.2

def k0_mult110 (v2406 : BitVec 32) : BitVec 32 :=
  let c3_i32_1195 : BitVec 32 := 3#32
  let v2407 : BitVec 32 := Scalar.shrsi v2406 c3_i32_1195
  let c3_i32_1196 : BitVec 32 := 3#32
  let v2408 : BitVec 32 := Scalar.shli v2407 c3_i32_1196
  v2408

def k0_off110 (v2406 : BitVec 32) : Fin 3 → Nat :=
  let c3_i32_1195 : BitVec 32 := 3#32
  let v2407 : BitVec 32 := Scalar.shrsi v2406 c3_i32_1195
  let c3_i32_1196 : BitVec 32 := 3#32
  let v2408 : BitVec 32 := Scalar.shli v2407 c3_i32_1196
  let v2409 : BitVec 32 := v2408
  let v2410 : Index := Scalar.indexCast v2409
  let c0_1197 : Index := 0#32
  ![v2410.toNat, 0, 0]

def k0_chk110 (v2406 : BitVec 32) : Prop :=
  (8 ∣ (k0_mult110 v2406).toNat) ∧
  (∀ a, (k0_off110 v2406) a + S8x2x128.size a ≤ S20016x2x128.size a)
theorem k0_mult110_dvd : ∀ (v2406 : BitVec 32) (k0_hw110 : k0_chk110 v2406), 8 ∣ (k0_mult110 v2406).toNat := fun v2406 k0_hw110 => k0_hw110.1
theorem k0_off110_inb : ∀ (v2406 : BitVec 32) (k0_hw110 : k0_chk110 v2406), ∀ a, (k0_off110 v2406) a + S8x2x128.size a ≤ S20016x2x128.size a := fun v2406 k0_hw110 => k0_hw110.2

def k0_mult111 (v2428 : BitVec 32) : BitVec 32 :=
  let c3_i32_1206 : BitVec 32 := 3#32
  let v2429 : BitVec 32 := Scalar.shrsi v2428 c3_i32_1206
  let c3_i32_1207 : BitVec 32 := 3#32
  let v2430 : BitVec 32 := Scalar.shli v2429 c3_i32_1207
  v2430

def k0_off111 (v2428 : BitVec 32) : Fin 3 → Nat :=
  let c3_i32_1206 : BitVec 32 := 3#32
  let v2429 : BitVec 32 := Scalar.shrsi v2428 c3_i32_1206
  let c3_i32_1207 : BitVec 32 := 3#32
  let v2430 : BitVec 32 := Scalar.shli v2429 c3_i32_1207
  let v2431 : BitVec 32 := v2430
  let v2432 : Index := Scalar.indexCast v2431
  let c0_1208 : Index := 0#32
  ![v2432.toNat, 0, 0]

def k0_chk111 (v2428 : BitVec 32) : Prop :=
  (8 ∣ (k0_mult111 v2428).toNat) ∧
  (∀ a, (k0_off111 v2428) a + S8x2x128.size a ≤ S20016x2x128.size a)
theorem k0_mult111_dvd : ∀ (v2428 : BitVec 32) (k0_hw111 : k0_chk111 v2428), 8 ∣ (k0_mult111 v2428).toNat := fun v2428 k0_hw111 => k0_hw111.1
theorem k0_off111_inb : ∀ (v2428 : BitVec 32) (k0_hw111 : k0_chk111 v2428), ∀ a, (k0_off111 v2428) a + S8x2x128.size a ≤ S20016x2x128.size a := fun v2428 k0_hw111 => k0_hw111.2

def k0_mult112 (v2450 : BitVec 32) : BitVec 32 :=
  let c3_i32_1217 : BitVec 32 := 3#32
  let v2451 : BitVec 32 := Scalar.shrsi v2450 c3_i32_1217
  let c3_i32_1218 : BitVec 32 := 3#32
  let v2452 : BitVec 32 := Scalar.shli v2451 c3_i32_1218
  v2452

def k0_off112 (v2450 : BitVec 32) : Fin 3 → Nat :=
  let c3_i32_1217 : BitVec 32 := 3#32
  let v2451 : BitVec 32 := Scalar.shrsi v2450 c3_i32_1217
  let c3_i32_1218 : BitVec 32 := 3#32
  let v2452 : BitVec 32 := Scalar.shli v2451 c3_i32_1218
  let v2453 : BitVec 32 := v2452
  let v2454 : Index := Scalar.indexCast v2453
  let c0_1219 : Index := 0#32
  ![v2454.toNat, 0, 0]

def k0_chk112 (v2450 : BitVec 32) : Prop :=
  (8 ∣ (k0_mult112 v2450).toNat) ∧
  (∀ a, (k0_off112 v2450) a + S8x2x128.size a ≤ S20016x2x128.size a)
theorem k0_mult112_dvd : ∀ (v2450 : BitVec 32) (k0_hw112 : k0_chk112 v2450), 8 ∣ (k0_mult112 v2450).toNat := fun v2450 k0_hw112 => k0_hw112.1
theorem k0_off112_inb : ∀ (v2450 : BitVec 32) (k0_hw112 : k0_chk112 v2450), ∀ a, (k0_off112 v2450) a + S8x2x128.size a ≤ S20016x2x128.size a := fun v2450 k0_hw112 => k0_hw112.2

def k0_mult113 (v2472 : BitVec 32) : BitVec 32 :=
  let c3_i32_1228 : BitVec 32 := 3#32
  let v2473 : BitVec 32 := Scalar.shrsi v2472 c3_i32_1228
  let c3_i32_1229 : BitVec 32 := 3#32
  let v2474 : BitVec 32 := Scalar.shli v2473 c3_i32_1229
  v2474

def k0_off113 (v2472 : BitVec 32) : Fin 3 → Nat :=
  let c3_i32_1228 : BitVec 32 := 3#32
  let v2473 : BitVec 32 := Scalar.shrsi v2472 c3_i32_1228
  let c3_i32_1229 : BitVec 32 := 3#32
  let v2474 : BitVec 32 := Scalar.shli v2473 c3_i32_1229
  let v2475 : BitVec 32 := v2474
  let v2476 : Index := Scalar.indexCast v2475
  let c0_1230 : Index := 0#32
  ![v2476.toNat, 0, 0]

def k0_chk113 (v2472 : BitVec 32) : Prop :=
  (8 ∣ (k0_mult113 v2472).toNat) ∧
  (∀ a, (k0_off113 v2472) a + S8x2x128.size a ≤ S20016x2x128.size a)
theorem k0_mult113_dvd : ∀ (v2472 : BitVec 32) (k0_hw113 : k0_chk113 v2472), 8 ∣ (k0_mult113 v2472).toNat := fun v2472 k0_hw113 => k0_hw113.1
theorem k0_off113_inb : ∀ (v2472 : BitVec 32) (k0_hw113 : k0_chk113 v2472), ∀ a, (k0_off113 v2472) a + S8x2x128.size a ≤ S20016x2x128.size a := fun v2472 k0_hw113 => k0_hw113.2

def k0_mult114 (v2494 : BitVec 32) : BitVec 32 :=
  let c3_i32_1239 : BitVec 32 := 3#32
  let v2495 : BitVec 32 := Scalar.shrsi v2494 c3_i32_1239
  let c3_i32_1240 : BitVec 32 := 3#32
  let v2496 : BitVec 32 := Scalar.shli v2495 c3_i32_1240
  v2496

def k0_off114 (v2494 : BitVec 32) : Fin 3 → Nat :=
  let c3_i32_1239 : BitVec 32 := 3#32
  let v2495 : BitVec 32 := Scalar.shrsi v2494 c3_i32_1239
  let c3_i32_1240 : BitVec 32 := 3#32
  let v2496 : BitVec 32 := Scalar.shli v2495 c3_i32_1240
  let v2497 : BitVec 32 := v2496
  let v2498 : Index := Scalar.indexCast v2497
  let c0_1241 : Index := 0#32
  ![v2498.toNat, 0, 0]

def k0_chk114 (v2494 : BitVec 32) : Prop :=
  (8 ∣ (k0_mult114 v2494).toNat) ∧
  (∀ a, (k0_off114 v2494) a + S8x2x128.size a ≤ S20016x2x128.size a)
theorem k0_mult114_dvd : ∀ (v2494 : BitVec 32) (k0_hw114 : k0_chk114 v2494), 8 ∣ (k0_mult114 v2494).toNat := fun v2494 k0_hw114 => k0_hw114.1
theorem k0_off114_inb : ∀ (v2494 : BitVec 32) (k0_hw114 : k0_chk114 v2494), ∀ a, (k0_off114 v2494) a + S8x2x128.size a ≤ S20016x2x128.size a := fun v2494 k0_hw114 => k0_hw114.2

def k0_mult115 (v2516 : BitVec 32) : BitVec 32 :=
  let c3_i32_1250 : BitVec 32 := 3#32
  let v2517 : BitVec 32 := Scalar.shrsi v2516 c3_i32_1250
  let c3_i32_1251 : BitVec 32 := 3#32
  let v2518 : BitVec 32 := Scalar.shli v2517 c3_i32_1251
  v2518

def k0_off115 (v2516 : BitVec 32) : Fin 3 → Nat :=
  let c3_i32_1250 : BitVec 32 := 3#32
  let v2517 : BitVec 32 := Scalar.shrsi v2516 c3_i32_1250
  let c3_i32_1251 : BitVec 32 := 3#32
  let v2518 : BitVec 32 := Scalar.shli v2517 c3_i32_1251
  let v2519 : BitVec 32 := v2518
  let v2520 : Index := Scalar.indexCast v2519
  let c0_1252 : Index := 0#32
  ![v2520.toNat, 0, 0]

def k0_chk115 (v2516 : BitVec 32) : Prop :=
  (8 ∣ (k0_mult115 v2516).toNat) ∧
  (∀ a, (k0_off115 v2516) a + S8x2x128.size a ≤ S20016x2x128.size a)
theorem k0_mult115_dvd : ∀ (v2516 : BitVec 32) (k0_hw115 : k0_chk115 v2516), 8 ∣ (k0_mult115 v2516).toNat := fun v2516 k0_hw115 => k0_hw115.1
theorem k0_off115_inb : ∀ (v2516 : BitVec 32) (k0_hw115 : k0_chk115 v2516), ∀ a, (k0_off115 v2516) a + S8x2x128.size a ≤ S20016x2x128.size a := fun v2516 k0_hw115 => k0_hw115.2

def k0_mult116 (v2538 : BitVec 32) : BitVec 32 :=
  let c3_i32_1261 : BitVec 32 := 3#32
  let v2539 : BitVec 32 := Scalar.shrsi v2538 c3_i32_1261
  let c3_i32_1262 : BitVec 32 := 3#32
  let v2540 : BitVec 32 := Scalar.shli v2539 c3_i32_1262
  v2540

def k0_off116 (v2538 : BitVec 32) : Fin 3 → Nat :=
  let c3_i32_1261 : BitVec 32 := 3#32
  let v2539 : BitVec 32 := Scalar.shrsi v2538 c3_i32_1261
  let c3_i32_1262 : BitVec 32 := 3#32
  let v2540 : BitVec 32 := Scalar.shli v2539 c3_i32_1262
  let v2541 : BitVec 32 := v2540
  let v2542 : Index := Scalar.indexCast v2541
  let c0_1263 : Index := 0#32
  ![v2542.toNat, 0, 0]

def k0_chk116 (v2538 : BitVec 32) : Prop :=
  (8 ∣ (k0_mult116 v2538).toNat) ∧
  (∀ a, (k0_off116 v2538) a + S8x2x128.size a ≤ S20016x2x128.size a)
theorem k0_mult116_dvd : ∀ (v2538 : BitVec 32) (k0_hw116 : k0_chk116 v2538), 8 ∣ (k0_mult116 v2538).toNat := fun v2538 k0_hw116 => k0_hw116.1
theorem k0_off116_inb : ∀ (v2538 : BitVec 32) (k0_hw116 : k0_chk116 v2538), ∀ a, (k0_off116 v2538) a + S8x2x128.size a ≤ S20016x2x128.size a := fun v2538 k0_hw116 => k0_hw116.2

def k0_mult117 (v2560 : BitVec 32) : BitVec 32 :=
  let c3_i32_1272 : BitVec 32 := 3#32
  let v2561 : BitVec 32 := Scalar.shrsi v2560 c3_i32_1272
  let c3_i32_1273 : BitVec 32 := 3#32
  let v2562 : BitVec 32 := Scalar.shli v2561 c3_i32_1273
  v2562

def k0_off117 (v2560 : BitVec 32) : Fin 3 → Nat :=
  let c3_i32_1272 : BitVec 32 := 3#32
  let v2561 : BitVec 32 := Scalar.shrsi v2560 c3_i32_1272
  let c3_i32_1273 : BitVec 32 := 3#32
  let v2562 : BitVec 32 := Scalar.shli v2561 c3_i32_1273
  let v2563 : BitVec 32 := v2562
  let v2564 : Index := Scalar.indexCast v2563
  let c0_1274 : Index := 0#32
  ![v2564.toNat, 0, 0]

def k0_chk117 (v2560 : BitVec 32) : Prop :=
  (8 ∣ (k0_mult117 v2560).toNat) ∧
  (∀ a, (k0_off117 v2560) a + S8x2x128.size a ≤ S20016x2x128.size a)
theorem k0_mult117_dvd : ∀ (v2560 : BitVec 32) (k0_hw117 : k0_chk117 v2560), 8 ∣ (k0_mult117 v2560).toNat := fun v2560 k0_hw117 => k0_hw117.1
theorem k0_off117_inb : ∀ (v2560 : BitVec 32) (k0_hw117 : k0_chk117 v2560), ∀ a, (k0_off117 v2560) a + S8x2x128.size a ≤ S20016x2x128.size a := fun v2560 k0_hw117 => k0_hw117.2

def k0_mult118 (v2582 : BitVec 32) : BitVec 32 :=
  let c3_i32_1283 : BitVec 32 := 3#32
  let v2583 : BitVec 32 := Scalar.shrsi v2582 c3_i32_1283
  let c3_i32_1284 : BitVec 32 := 3#32
  let v2584 : BitVec 32 := Scalar.shli v2583 c3_i32_1284
  v2584

def k0_off118 (v2582 : BitVec 32) : Fin 3 → Nat :=
  let c3_i32_1283 : BitVec 32 := 3#32
  let v2583 : BitVec 32 := Scalar.shrsi v2582 c3_i32_1283
  let c3_i32_1284 : BitVec 32 := 3#32
  let v2584 : BitVec 32 := Scalar.shli v2583 c3_i32_1284
  let v2585 : BitVec 32 := v2584
  let v2586 : Index := Scalar.indexCast v2585
  let c0_1285 : Index := 0#32
  ![v2586.toNat, 0, 0]

def k0_chk118 (v2582 : BitVec 32) : Prop :=
  (8 ∣ (k0_mult118 v2582).toNat) ∧
  (∀ a, (k0_off118 v2582) a + S8x2x128.size a ≤ S20016x2x128.size a)
theorem k0_mult118_dvd : ∀ (v2582 : BitVec 32) (k0_hw118 : k0_chk118 v2582), 8 ∣ (k0_mult118 v2582).toNat := fun v2582 k0_hw118 => k0_hw118.1
theorem k0_off118_inb : ∀ (v2582 : BitVec 32) (k0_hw118 : k0_chk118 v2582), ∀ a, (k0_off118 v2582) a + S8x2x128.size a ≤ S20016x2x128.size a := fun v2582 k0_hw118 => k0_hw118.2

def k0_mult119 (v2604 : BitVec 32) : BitVec 32 :=
  let c3_i32_1294 : BitVec 32 := 3#32
  let v2605 : BitVec 32 := Scalar.shrsi v2604 c3_i32_1294
  let c3_i32_1295 : BitVec 32 := 3#32
  let v2606 : BitVec 32 := Scalar.shli v2605 c3_i32_1295
  v2606

def k0_off119 (v2604 : BitVec 32) : Fin 3 → Nat :=
  let c3_i32_1294 : BitVec 32 := 3#32
  let v2605 : BitVec 32 := Scalar.shrsi v2604 c3_i32_1294
  let c3_i32_1295 : BitVec 32 := 3#32
  let v2606 : BitVec 32 := Scalar.shli v2605 c3_i32_1295
  let v2607 : BitVec 32 := v2606
  let v2608 : Index := Scalar.indexCast v2607
  let c0_1296 : Index := 0#32
  ![v2608.toNat, 0, 0]

def k0_chk119 (v2604 : BitVec 32) : Prop :=
  (8 ∣ (k0_mult119 v2604).toNat) ∧
  (∀ a, (k0_off119 v2604) a + S8x2x128.size a ≤ S20016x2x128.size a)
theorem k0_mult119_dvd : ∀ (v2604 : BitVec 32) (k0_hw119 : k0_chk119 v2604), 8 ∣ (k0_mult119 v2604).toNat := fun v2604 k0_hw119 => k0_hw119.1
theorem k0_off119_inb : ∀ (v2604 : BitVec 32) (k0_hw119 : k0_chk119 v2604), ∀ a, (k0_off119 v2604) a + S8x2x128.size a ≤ S20016x2x128.size a := fun v2604 k0_hw119 => k0_hw119.2

def k0_mult120 (v2626 : BitVec 32) : BitVec 32 :=
  let c3_i32_1305 : BitVec 32 := 3#32
  let v2627 : BitVec 32 := Scalar.shrsi v2626 c3_i32_1305
  let c3_i32_1306 : BitVec 32 := 3#32
  let v2628 : BitVec 32 := Scalar.shli v2627 c3_i32_1306
  v2628

def k0_off120 (v2626 : BitVec 32) : Fin 3 → Nat :=
  let c3_i32_1305 : BitVec 32 := 3#32
  let v2627 : BitVec 32 := Scalar.shrsi v2626 c3_i32_1305
  let c3_i32_1306 : BitVec 32 := 3#32
  let v2628 : BitVec 32 := Scalar.shli v2627 c3_i32_1306
  let v2629 : BitVec 32 := v2628
  let v2630 : Index := Scalar.indexCast v2629
  let c0_1307 : Index := 0#32
  ![v2630.toNat, 0, 0]

def k0_chk120 (v2626 : BitVec 32) : Prop :=
  (8 ∣ (k0_mult120 v2626).toNat) ∧
  (∀ a, (k0_off120 v2626) a + S8x2x128.size a ≤ S20016x2x128.size a)
theorem k0_mult120_dvd : ∀ (v2626 : BitVec 32) (k0_hw120 : k0_chk120 v2626), 8 ∣ (k0_mult120 v2626).toNat := fun v2626 k0_hw120 => k0_hw120.1
theorem k0_off120_inb : ∀ (v2626 : BitVec 32) (k0_hw120 : k0_chk120 v2626), ∀ a, (k0_off120 v2626) a + S8x2x128.size a ≤ S20016x2x128.size a := fun v2626 k0_hw120 => k0_hw120.2

def k0_mult121 (v2648 : BitVec 32) : BitVec 32 :=
  let c3_i32_1316 : BitVec 32 := 3#32
  let v2649 : BitVec 32 := Scalar.shrsi v2648 c3_i32_1316
  let c3_i32_1317 : BitVec 32 := 3#32
  let v2650 : BitVec 32 := Scalar.shli v2649 c3_i32_1317
  v2650

def k0_off121 (v2648 : BitVec 32) : Fin 3 → Nat :=
  let c3_i32_1316 : BitVec 32 := 3#32
  let v2649 : BitVec 32 := Scalar.shrsi v2648 c3_i32_1316
  let c3_i32_1317 : BitVec 32 := 3#32
  let v2650 : BitVec 32 := Scalar.shli v2649 c3_i32_1317
  let v2651 : BitVec 32 := v2650
  let v2652 : Index := Scalar.indexCast v2651
  let c0_1318 : Index := 0#32
  ![v2652.toNat, 0, 0]

def k0_chk121 (v2648 : BitVec 32) : Prop :=
  (8 ∣ (k0_mult121 v2648).toNat) ∧
  (∀ a, (k0_off121 v2648) a + S8x2x128.size a ≤ S20016x2x128.size a)
theorem k0_mult121_dvd : ∀ (v2648 : BitVec 32) (k0_hw121 : k0_chk121 v2648), 8 ∣ (k0_mult121 v2648).toNat := fun v2648 k0_hw121 => k0_hw121.1
theorem k0_off121_inb : ∀ (v2648 : BitVec 32) (k0_hw121 : k0_chk121 v2648), ∀ a, (k0_off121 v2648) a + S8x2x128.size a ≤ S20016x2x128.size a := fun v2648 k0_hw121 => k0_hw121.2

def k0_mult122 (v2670 : BitVec 32) : BitVec 32 :=
  let c3_i32_1327 : BitVec 32 := 3#32
  let v2671 : BitVec 32 := Scalar.shrsi v2670 c3_i32_1327
  let c3_i32_1328 : BitVec 32 := 3#32
  let v2672 : BitVec 32 := Scalar.shli v2671 c3_i32_1328
  v2672

def k0_off122 (v2670 : BitVec 32) : Fin 3 → Nat :=
  let c3_i32_1327 : BitVec 32 := 3#32
  let v2671 : BitVec 32 := Scalar.shrsi v2670 c3_i32_1327
  let c3_i32_1328 : BitVec 32 := 3#32
  let v2672 : BitVec 32 := Scalar.shli v2671 c3_i32_1328
  let v2673 : BitVec 32 := v2672
  let v2674 : Index := Scalar.indexCast v2673
  let c0_1329 : Index := 0#32
  ![v2674.toNat, 0, 0]

def k0_chk122 (v2670 : BitVec 32) : Prop :=
  (8 ∣ (k0_mult122 v2670).toNat) ∧
  (∀ a, (k0_off122 v2670) a + S8x2x128.size a ≤ S20016x2x128.size a)
theorem k0_mult122_dvd : ∀ (v2670 : BitVec 32) (k0_hw122 : k0_chk122 v2670), 8 ∣ (k0_mult122 v2670).toNat := fun v2670 k0_hw122 => k0_hw122.1
theorem k0_off122_inb : ∀ (v2670 : BitVec 32) (k0_hw122 : k0_chk122 v2670), ∀ a, (k0_off122 v2670) a + S8x2x128.size a ≤ S20016x2x128.size a := fun v2670 k0_hw122 => k0_hw122.2

def k0_mult123 (v2692 : BitVec 32) : BitVec 32 :=
  let c3_i32_1338 : BitVec 32 := 3#32
  let v2693 : BitVec 32 := Scalar.shrsi v2692 c3_i32_1338
  let c3_i32_1339 : BitVec 32 := 3#32
  let v2694 : BitVec 32 := Scalar.shli v2693 c3_i32_1339
  v2694

def k0_off123 (v2692 : BitVec 32) : Fin 3 → Nat :=
  let c3_i32_1338 : BitVec 32 := 3#32
  let v2693 : BitVec 32 := Scalar.shrsi v2692 c3_i32_1338
  let c3_i32_1339 : BitVec 32 := 3#32
  let v2694 : BitVec 32 := Scalar.shli v2693 c3_i32_1339
  let v2695 : BitVec 32 := v2694
  let v2696 : Index := Scalar.indexCast v2695
  let c0_1340 : Index := 0#32
  ![v2696.toNat, 0, 0]

def k0_chk123 (v2692 : BitVec 32) : Prop :=
  (8 ∣ (k0_mult123 v2692).toNat) ∧
  (∀ a, (k0_off123 v2692) a + S8x2x128.size a ≤ S20016x2x128.size a)
theorem k0_mult123_dvd : ∀ (v2692 : BitVec 32) (k0_hw123 : k0_chk123 v2692), 8 ∣ (k0_mult123 v2692).toNat := fun v2692 k0_hw123 => k0_hw123.1
theorem k0_off123_inb : ∀ (v2692 : BitVec 32) (k0_hw123 : k0_chk123 v2692), ∀ a, (k0_off123 v2692) a + S8x2x128.size a ≤ S20016x2x128.size a := fun v2692 k0_hw123 => k0_hw123.2

def k0_mult124 (v2714 : BitVec 32) : BitVec 32 :=
  let c3_i32_1349 : BitVec 32 := 3#32
  let v2715 : BitVec 32 := Scalar.shrsi v2714 c3_i32_1349
  let c3_i32_1350 : BitVec 32 := 3#32
  let v2716 : BitVec 32 := Scalar.shli v2715 c3_i32_1350
  v2716

def k0_off124 (v2714 : BitVec 32) : Fin 3 → Nat :=
  let c3_i32_1349 : BitVec 32 := 3#32
  let v2715 : BitVec 32 := Scalar.shrsi v2714 c3_i32_1349
  let c3_i32_1350 : BitVec 32 := 3#32
  let v2716 : BitVec 32 := Scalar.shli v2715 c3_i32_1350
  let v2717 : BitVec 32 := v2716
  let v2718 : Index := Scalar.indexCast v2717
  let c0_1351 : Index := 0#32
  ![v2718.toNat, 0, 0]

def k0_chk124 (v2714 : BitVec 32) : Prop :=
  (8 ∣ (k0_mult124 v2714).toNat) ∧
  (∀ a, (k0_off124 v2714) a + S8x2x128.size a ≤ S20016x2x128.size a)
theorem k0_mult124_dvd : ∀ (v2714 : BitVec 32) (k0_hw124 : k0_chk124 v2714), 8 ∣ (k0_mult124 v2714).toNat := fun v2714 k0_hw124 => k0_hw124.1
theorem k0_off124_inb : ∀ (v2714 : BitVec 32) (k0_hw124 : k0_chk124 v2714), ∀ a, (k0_off124 v2714) a + S8x2x128.size a ≤ S20016x2x128.size a := fun v2714 k0_hw124 => k0_hw124.2

def k0_mult125 (v2736 : BitVec 32) : BitVec 32 :=
  let c3_i32_1360 : BitVec 32 := 3#32
  let v2737 : BitVec 32 := Scalar.shrsi v2736 c3_i32_1360
  let c3_i32_1361 : BitVec 32 := 3#32
  let v2738 : BitVec 32 := Scalar.shli v2737 c3_i32_1361
  v2738

def k0_off125 (v2736 : BitVec 32) : Fin 3 → Nat :=
  let c3_i32_1360 : BitVec 32 := 3#32
  let v2737 : BitVec 32 := Scalar.shrsi v2736 c3_i32_1360
  let c3_i32_1361 : BitVec 32 := 3#32
  let v2738 : BitVec 32 := Scalar.shli v2737 c3_i32_1361
  let v2739 : BitVec 32 := v2738
  let v2740 : Index := Scalar.indexCast v2739
  let c0_1362 : Index := 0#32
  ![v2740.toNat, 0, 0]

def k0_chk125 (v2736 : BitVec 32) : Prop :=
  (8 ∣ (k0_mult125 v2736).toNat) ∧
  (∀ a, (k0_off125 v2736) a + S8x2x128.size a ≤ S20016x2x128.size a)
theorem k0_mult125_dvd : ∀ (v2736 : BitVec 32) (k0_hw125 : k0_chk125 v2736), 8 ∣ (k0_mult125 v2736).toNat := fun v2736 k0_hw125 => k0_hw125.1
theorem k0_off125_inb : ∀ (v2736 : BitVec 32) (k0_hw125 : k0_chk125 v2736), ∀ a, (k0_off125 v2736) a + S8x2x128.size a ≤ S20016x2x128.size a := fun v2736 k0_hw125 => k0_hw125.2

def k0_mult126 (v2758 : BitVec 32) : BitVec 32 :=
  let c3_i32_1371 : BitVec 32 := 3#32
  let v2759 : BitVec 32 := Scalar.shrsi v2758 c3_i32_1371
  let c3_i32_1372 : BitVec 32 := 3#32
  let v2760 : BitVec 32 := Scalar.shli v2759 c3_i32_1372
  v2760

def k0_off126 (v2758 : BitVec 32) : Fin 3 → Nat :=
  let c3_i32_1371 : BitVec 32 := 3#32
  let v2759 : BitVec 32 := Scalar.shrsi v2758 c3_i32_1371
  let c3_i32_1372 : BitVec 32 := 3#32
  let v2760 : BitVec 32 := Scalar.shli v2759 c3_i32_1372
  let v2761 : BitVec 32 := v2760
  let v2762 : Index := Scalar.indexCast v2761
  let c0_1373 : Index := 0#32
  ![v2762.toNat, 0, 0]

def k0_chk126 (v2758 : BitVec 32) : Prop :=
  (8 ∣ (k0_mult126 v2758).toNat) ∧
  (∀ a, (k0_off126 v2758) a + S8x2x128.size a ≤ S20016x2x128.size a)
theorem k0_mult126_dvd : ∀ (v2758 : BitVec 32) (k0_hw126 : k0_chk126 v2758), 8 ∣ (k0_mult126 v2758).toNat := fun v2758 k0_hw126 => k0_hw126.1
theorem k0_off126_inb : ∀ (v2758 : BitVec 32) (k0_hw126 : k0_chk126 v2758), ∀ a, (k0_off126 v2758) a + S8x2x128.size a ≤ S20016x2x128.size a := fun v2758 k0_hw126 => k0_hw126.2

def k0_mult127 (v2780 : BitVec 32) : BitVec 32 :=
  let c3_i32_1382 : BitVec 32 := 3#32
  let v2781 : BitVec 32 := Scalar.shrsi v2780 c3_i32_1382
  let c3_i32_1383 : BitVec 32 := 3#32
  let v2782 : BitVec 32 := Scalar.shli v2781 c3_i32_1383
  v2782

def k0_off127 (v2780 : BitVec 32) : Fin 3 → Nat :=
  let c3_i32_1382 : BitVec 32 := 3#32
  let v2781 : BitVec 32 := Scalar.shrsi v2780 c3_i32_1382
  let c3_i32_1383 : BitVec 32 := 3#32
  let v2782 : BitVec 32 := Scalar.shli v2781 c3_i32_1383
  let v2783 : BitVec 32 := v2782
  let v2784 : Index := Scalar.indexCast v2783
  let c0_1384 : Index := 0#32
  ![v2784.toNat, 0, 0]

def k0_chk127 (v2780 : BitVec 32) : Prop :=
  (8 ∣ (k0_mult127 v2780).toNat) ∧
  (∀ a, (k0_off127 v2780) a + S8x2x128.size a ≤ S20016x2x128.size a)
theorem k0_mult127_dvd : ∀ (v2780 : BitVec 32) (k0_hw127 : k0_chk127 v2780), 8 ∣ (k0_mult127 v2780).toNat := fun v2780 k0_hw127 => k0_hw127.1
theorem k0_off127_inb : ∀ (v2780 : BitVec 32) (k0_hw127 : k0_chk127 v2780), ∀ a, (k0_off127 v2780) a + S8x2x128.size a ≤ S20016x2x128.size a := fun v2780 k0_hw127 => k0_hw127.2

def k0_mult128 (v2802 : BitVec 32) : BitVec 32 :=
  let c3_i32_1393 : BitVec 32 := 3#32
  let v2803 : BitVec 32 := Scalar.shrsi v2802 c3_i32_1393
  let c3_i32_1394 : BitVec 32 := 3#32
  let v2804 : BitVec 32 := Scalar.shli v2803 c3_i32_1394
  v2804

def k0_off128 (v2802 : BitVec 32) : Fin 3 → Nat :=
  let c3_i32_1393 : BitVec 32 := 3#32
  let v2803 : BitVec 32 := Scalar.shrsi v2802 c3_i32_1393
  let c3_i32_1394 : BitVec 32 := 3#32
  let v2804 : BitVec 32 := Scalar.shli v2803 c3_i32_1394
  let v2805 : BitVec 32 := v2804
  let v2806 : Index := Scalar.indexCast v2805
  let c0_1395 : Index := 0#32
  ![v2806.toNat, 0, 0]

def k0_chk128 (v2802 : BitVec 32) : Prop :=
  (8 ∣ (k0_mult128 v2802).toNat) ∧
  (∀ a, (k0_off128 v2802) a + S8x2x128.size a ≤ S20016x2x128.size a)
theorem k0_mult128_dvd : ∀ (v2802 : BitVec 32) (k0_hw128 : k0_chk128 v2802), 8 ∣ (k0_mult128 v2802).toNat := fun v2802 k0_hw128 => k0_hw128.1
theorem k0_off128_inb : ∀ (v2802 : BitVec 32) (k0_hw128 : k0_chk128 v2802), ∀ a, (k0_off128 v2802) a + S8x2x128.size a ≤ S20016x2x128.size a := fun v2802 k0_hw128 => k0_hw128.2

@[reducible] def k0_t1_loop : Scf.Loop 32 :=
  let c0_i32_1405 : BitVec 32 := 0#32
  let c100_i32 : BitVec 32 := 100#32
  let v2827 : BitVec 32 := Scalar.addi c0_i32_1405 c100_i32
  let c1_i32_1406 : BitVec 32 := 1#32
  ⟨c0_i32_1405, v2827, c1_i32_1406⟩
def k0_mult129 (k0_t1 : Fin k0_t1_loop.trips) : BitVec 32 :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c64_i32 : BitVec 32 := 64#32
  let v3205 : BitVec 32 := Scalar.muli v3179 c64_i32
  v3205
def k0_off129 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c64_i32 : BitVec 32 := 64#32
  let v3205 : BitVec 32 := Scalar.muli v3179 c64_i32
  let v3206 : BitVec 32 := v3205
  let v3207 : Index := Scalar.indexCast v3206
  let c0_1619 : Index := 0#32
  ![v3207.toNat, 0]
def k0_off130 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c0_i32_1622 : BitVec 32 := 0#32
  let v3213 : BitVec 32 := Scalar.addi v3212 c0_i32_1622
  let v3214 : Index := Scalar.indexCast v3213
  ![v3214.toNat]
def k0_mult130 (v3215 : BitVec 32) : BitVec 32 :=
  let c3_i32_1623 : BitVec 32 := 3#32
  let v3216 : BitVec 32 := Scalar.shrsi v3215 c3_i32_1623
  let c3_i32_1624 : BitVec 32 := 3#32
  let v3217 : BitVec 32 := Scalar.shli v3216 c3_i32_1624
  v3217

def k0_off131 (v3215 : BitVec 32) : Fin 3 → Nat :=
  let c3_i32_1623 : BitVec 32 := 3#32
  let v3216 : BitVec 32 := Scalar.shrsi v3215 c3_i32_1623
  let c3_i32_1624 : BitVec 32 := 3#32
  let v3217 : BitVec 32 := Scalar.shli v3216 c3_i32_1624
  let v3218 : BitVec 32 := v3217
  let v3219 : Index := Scalar.indexCast v3218
  let c0_1625 : Index := 0#32
  ![v3219.toNat, 0, 0]

def k0_chk129 (v3215 : BitVec 32) : Prop :=
  (8 ∣ (k0_mult130 v3215).toNat) ∧
  (∀ a, (k0_off131 v3215) a + S8x2x128.size a ≤ S20016x2x128.size a)
theorem k0_mult130_dvd : ∀ (v3215 : BitVec 32) (k0_hw129 : k0_chk129 v3215), 8 ∣ (k0_mult130 v3215).toNat := fun v3215 k0_hw129 => k0_hw129.1
theorem k0_off131_inb : ∀ (v3215 : BitVec 32) (k0_hw129 : k0_chk129 v3215), ∀ a, (k0_off131 v3215) a + S8x2x128.size a ≤ S20016x2x128.size a := fun v3215 k0_hw129 => k0_hw129.2

def k0_off132 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c1_i32_1634 : BitVec 32 := 1#32
  let v3237 : BitVec 32 := Scalar.addi v3212 c1_i32_1634
  let v3238 : Index := Scalar.indexCast v3237
  ![v3238.toNat]
def k0_mult131 (v3239 : BitVec 32) : BitVec 32 :=
  let c3_i32_1635 : BitVec 32 := 3#32
  let v3240 : BitVec 32 := Scalar.shrsi v3239 c3_i32_1635
  let c3_i32_1636 : BitVec 32 := 3#32
  let v3241 : BitVec 32 := Scalar.shli v3240 c3_i32_1636
  v3241

def k0_off133 (v3239 : BitVec 32) : Fin 3 → Nat :=
  let c3_i32_1635 : BitVec 32 := 3#32
  let v3240 : BitVec 32 := Scalar.shrsi v3239 c3_i32_1635
  let c3_i32_1636 : BitVec 32 := 3#32
  let v3241 : BitVec 32 := Scalar.shli v3240 c3_i32_1636
  let v3242 : BitVec 32 := v3241
  let v3243 : Index := Scalar.indexCast v3242
  let c0_1637 : Index := 0#32
  ![v3243.toNat, 0, 0]

def k0_chk130 (v3239 : BitVec 32) : Prop :=
  (8 ∣ (k0_mult131 v3239).toNat) ∧
  (∀ a, (k0_off133 v3239) a + S8x2x128.size a ≤ S20016x2x128.size a)
theorem k0_mult131_dvd : ∀ (v3239 : BitVec 32) (k0_hw130 : k0_chk130 v3239), 8 ∣ (k0_mult131 v3239).toNat := fun v3239 k0_hw130 => k0_hw130.1
theorem k0_off133_inb : ∀ (v3239 : BitVec 32) (k0_hw130 : k0_chk130 v3239), ∀ a, (k0_off133 v3239) a + S8x2x128.size a ≤ S20016x2x128.size a := fun v3239 k0_hw130 => k0_hw130.2

def k0_off134 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c2_i32_1646 : BitVec 32 := 2#32
  let v3261 : BitVec 32 := Scalar.addi v3212 c2_i32_1646
  let v3262 : Index := Scalar.indexCast v3261
  ![v3262.toNat]
def k0_mult132 (v3263 : BitVec 32) : BitVec 32 :=
  let c3_i32_1647 : BitVec 32 := 3#32
  let v3264 : BitVec 32 := Scalar.shrsi v3263 c3_i32_1647
  let c3_i32_1648 : BitVec 32 := 3#32
  let v3265 : BitVec 32 := Scalar.shli v3264 c3_i32_1648
  v3265

def k0_off135 (v3263 : BitVec 32) : Fin 3 → Nat :=
  let c3_i32_1647 : BitVec 32 := 3#32
  let v3264 : BitVec 32 := Scalar.shrsi v3263 c3_i32_1647
  let c3_i32_1648 : BitVec 32 := 3#32
  let v3265 : BitVec 32 := Scalar.shli v3264 c3_i32_1648
  let v3266 : BitVec 32 := v3265
  let v3267 : Index := Scalar.indexCast v3266
  let c0_1649 : Index := 0#32
  ![v3267.toNat, 0, 0]

def k0_chk131 (v3263 : BitVec 32) : Prop :=
  (8 ∣ (k0_mult132 v3263).toNat) ∧
  (∀ a, (k0_off135 v3263) a + S8x2x128.size a ≤ S20016x2x128.size a)
theorem k0_mult132_dvd : ∀ (v3263 : BitVec 32) (k0_hw131 : k0_chk131 v3263), 8 ∣ (k0_mult132 v3263).toNat := fun v3263 k0_hw131 => k0_hw131.1
theorem k0_off135_inb : ∀ (v3263 : BitVec 32) (k0_hw131 : k0_chk131 v3263), ∀ a, (k0_off135 v3263) a + S8x2x128.size a ≤ S20016x2x128.size a := fun v3263 k0_hw131 => k0_hw131.2

def k0_off136 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c3_i32_1658 : BitVec 32 := 3#32
  let v3285 : BitVec 32 := Scalar.addi v3212 c3_i32_1658
  let v3286 : Index := Scalar.indexCast v3285
  ![v3286.toNat]
def k0_mult133 (v3287 : BitVec 32) : BitVec 32 :=
  let c3_i32_1659 : BitVec 32 := 3#32
  let v3288 : BitVec 32 := Scalar.shrsi v3287 c3_i32_1659
  let c3_i32_1660 : BitVec 32 := 3#32
  let v3289 : BitVec 32 := Scalar.shli v3288 c3_i32_1660
  v3289

def k0_off137 (v3287 : BitVec 32) : Fin 3 → Nat :=
  let c3_i32_1659 : BitVec 32 := 3#32
  let v3288 : BitVec 32 := Scalar.shrsi v3287 c3_i32_1659
  let c3_i32_1660 : BitVec 32 := 3#32
  let v3289 : BitVec 32 := Scalar.shli v3288 c3_i32_1660
  let v3290 : BitVec 32 := v3289
  let v3291 : Index := Scalar.indexCast v3290
  let c0_1661 : Index := 0#32
  ![v3291.toNat, 0, 0]

def k0_chk132 (v3287 : BitVec 32) : Prop :=
  (8 ∣ (k0_mult133 v3287).toNat) ∧
  (∀ a, (k0_off137 v3287) a + S8x2x128.size a ≤ S20016x2x128.size a)
theorem k0_mult133_dvd : ∀ (v3287 : BitVec 32) (k0_hw132 : k0_chk132 v3287), 8 ∣ (k0_mult133 v3287).toNat := fun v3287 k0_hw132 => k0_hw132.1
theorem k0_off137_inb : ∀ (v3287 : BitVec 32) (k0_hw132 : k0_chk132 v3287), ∀ a, (k0_off137 v3287) a + S8x2x128.size a ≤ S20016x2x128.size a := fun v3287 k0_hw132 => k0_hw132.2

def k0_off138 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c4_i32 : BitVec 32 := 4#32
  let v3309 : BitVec 32 := Scalar.addi v3212 c4_i32
  let v3310 : Index := Scalar.indexCast v3309
  ![v3310.toNat]
def k0_mult134 (v3311 : BitVec 32) : BitVec 32 :=
  let c3_i32_1670 : BitVec 32 := 3#32
  let v3312 : BitVec 32 := Scalar.shrsi v3311 c3_i32_1670
  let c3_i32_1671 : BitVec 32 := 3#32
  let v3313 : BitVec 32 := Scalar.shli v3312 c3_i32_1671
  v3313

def k0_off139 (v3311 : BitVec 32) : Fin 3 → Nat :=
  let c3_i32_1670 : BitVec 32 := 3#32
  let v3312 : BitVec 32 := Scalar.shrsi v3311 c3_i32_1670
  let c3_i32_1671 : BitVec 32 := 3#32
  let v3313 : BitVec 32 := Scalar.shli v3312 c3_i32_1671
  let v3314 : BitVec 32 := v3313
  let v3315 : Index := Scalar.indexCast v3314
  let c0_1672 : Index := 0#32
  ![v3315.toNat, 0, 0]

def k0_chk133 (v3311 : BitVec 32) : Prop :=
  (8 ∣ (k0_mult134 v3311).toNat) ∧
  (∀ a, (k0_off139 v3311) a + S8x2x128.size a ≤ S20016x2x128.size a)
theorem k0_mult134_dvd : ∀ (v3311 : BitVec 32) (k0_hw133 : k0_chk133 v3311), 8 ∣ (k0_mult134 v3311).toNat := fun v3311 k0_hw133 => k0_hw133.1
theorem k0_off139_inb : ∀ (v3311 : BitVec 32) (k0_hw133 : k0_chk133 v3311), ∀ a, (k0_off139 v3311) a + S8x2x128.size a ≤ S20016x2x128.size a := fun v3311 k0_hw133 => k0_hw133.2

def k0_off140 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c5_i32 : BitVec 32 := 5#32
  let v3333 : BitVec 32 := Scalar.addi v3212 c5_i32
  let v3334 : Index := Scalar.indexCast v3333
  ![v3334.toNat]
def k0_mult135 (v3335 : BitVec 32) : BitVec 32 :=
  let c3_i32_1681 : BitVec 32 := 3#32
  let v3336 : BitVec 32 := Scalar.shrsi v3335 c3_i32_1681
  let c3_i32_1682 : BitVec 32 := 3#32
  let v3337 : BitVec 32 := Scalar.shli v3336 c3_i32_1682
  v3337

def k0_off141 (v3335 : BitVec 32) : Fin 3 → Nat :=
  let c3_i32_1681 : BitVec 32 := 3#32
  let v3336 : BitVec 32 := Scalar.shrsi v3335 c3_i32_1681
  let c3_i32_1682 : BitVec 32 := 3#32
  let v3337 : BitVec 32 := Scalar.shli v3336 c3_i32_1682
  let v3338 : BitVec 32 := v3337
  let v3339 : Index := Scalar.indexCast v3338
  let c0_1683 : Index := 0#32
  ![v3339.toNat, 0, 0]

def k0_chk134 (v3335 : BitVec 32) : Prop :=
  (8 ∣ (k0_mult135 v3335).toNat) ∧
  (∀ a, (k0_off141 v3335) a + S8x2x128.size a ≤ S20016x2x128.size a)
theorem k0_mult135_dvd : ∀ (v3335 : BitVec 32) (k0_hw134 : k0_chk134 v3335), 8 ∣ (k0_mult135 v3335).toNat := fun v3335 k0_hw134 => k0_hw134.1
theorem k0_off141_inb : ∀ (v3335 : BitVec 32) (k0_hw134 : k0_chk134 v3335), ∀ a, (k0_off141 v3335) a + S8x2x128.size a ≤ S20016x2x128.size a := fun v3335 k0_hw134 => k0_hw134.2

def k0_off142 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c6_i32 : BitVec 32 := 6#32
  let v3357 : BitVec 32 := Scalar.addi v3212 c6_i32
  let v3358 : Index := Scalar.indexCast v3357
  ![v3358.toNat]
def k0_mult136 (v3359 : BitVec 32) : BitVec 32 :=
  let c3_i32_1692 : BitVec 32 := 3#32
  let v3360 : BitVec 32 := Scalar.shrsi v3359 c3_i32_1692
  let c3_i32_1693 : BitVec 32 := 3#32
  let v3361 : BitVec 32 := Scalar.shli v3360 c3_i32_1693
  v3361

def k0_off143 (v3359 : BitVec 32) : Fin 3 → Nat :=
  let c3_i32_1692 : BitVec 32 := 3#32
  let v3360 : BitVec 32 := Scalar.shrsi v3359 c3_i32_1692
  let c3_i32_1693 : BitVec 32 := 3#32
  let v3361 : BitVec 32 := Scalar.shli v3360 c3_i32_1693
  let v3362 : BitVec 32 := v3361
  let v3363 : Index := Scalar.indexCast v3362
  let c0_1694 : Index := 0#32
  ![v3363.toNat, 0, 0]

def k0_chk135 (v3359 : BitVec 32) : Prop :=
  (8 ∣ (k0_mult136 v3359).toNat) ∧
  (∀ a, (k0_off143 v3359) a + S8x2x128.size a ≤ S20016x2x128.size a)
theorem k0_mult136_dvd : ∀ (v3359 : BitVec 32) (k0_hw135 : k0_chk135 v3359), 8 ∣ (k0_mult136 v3359).toNat := fun v3359 k0_hw135 => k0_hw135.1
theorem k0_off143_inb : ∀ (v3359 : BitVec 32) (k0_hw135 : k0_chk135 v3359), ∀ a, (k0_off143 v3359) a + S8x2x128.size a ≤ S20016x2x128.size a := fun v3359 k0_hw135 => k0_hw135.2

def k0_off144 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c7_i32_1703 : BitVec 32 := 7#32
  let v3381 : BitVec 32 := Scalar.addi v3212 c7_i32_1703
  let v3382 : Index := Scalar.indexCast v3381
  ![v3382.toNat]
def k0_mult137 (v3383 : BitVec 32) : BitVec 32 :=
  let c3_i32_1704 : BitVec 32 := 3#32
  let v3384 : BitVec 32 := Scalar.shrsi v3383 c3_i32_1704
  let c3_i32_1705 : BitVec 32 := 3#32
  let v3385 : BitVec 32 := Scalar.shli v3384 c3_i32_1705
  v3385

def k0_off145 (v3383 : BitVec 32) : Fin 3 → Nat :=
  let c3_i32_1704 : BitVec 32 := 3#32
  let v3384 : BitVec 32 := Scalar.shrsi v3383 c3_i32_1704
  let c3_i32_1705 : BitVec 32 := 3#32
  let v3385 : BitVec 32 := Scalar.shli v3384 c3_i32_1705
  let v3386 : BitVec 32 := v3385
  let v3387 : Index := Scalar.indexCast v3386
  let c0_1706 : Index := 0#32
  ![v3387.toNat, 0, 0]

def k0_chk136 (v3383 : BitVec 32) : Prop :=
  (8 ∣ (k0_mult137 v3383).toNat) ∧
  (∀ a, (k0_off145 v3383) a + S8x2x128.size a ≤ S20016x2x128.size a)
theorem k0_mult137_dvd : ∀ (v3383 : BitVec 32) (k0_hw136 : k0_chk136 v3383), 8 ∣ (k0_mult137 v3383).toNat := fun v3383 k0_hw136 => k0_hw136.1
theorem k0_off145_inb : ∀ (v3383 : BitVec 32) (k0_hw136 : k0_chk136 v3383), ∀ a, (k0_off145 v3383) a + S8x2x128.size a ≤ S20016x2x128.size a := fun v3383 k0_hw136 => k0_hw136.2

def k0_off146 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c8_i32 : BitVec 32 := 8#32
  let v3405 : BitVec 32 := Scalar.addi v3212 c8_i32
  let v3406 : Index := Scalar.indexCast v3405
  ![v3406.toNat]
def k0_mult138 (v3407 : BitVec 32) : BitVec 32 :=
  let c3_i32_1715 : BitVec 32 := 3#32
  let v3408 : BitVec 32 := Scalar.shrsi v3407 c3_i32_1715
  let c3_i32_1716 : BitVec 32 := 3#32
  let v3409 : BitVec 32 := Scalar.shli v3408 c3_i32_1716
  v3409

def k0_off147 (v3407 : BitVec 32) : Fin 3 → Nat :=
  let c3_i32_1715 : BitVec 32 := 3#32
  let v3408 : BitVec 32 := Scalar.shrsi v3407 c3_i32_1715
  let c3_i32_1716 : BitVec 32 := 3#32
  let v3409 : BitVec 32 := Scalar.shli v3408 c3_i32_1716
  let v3410 : BitVec 32 := v3409
  let v3411 : Index := Scalar.indexCast v3410
  let c0_1717 : Index := 0#32
  ![v3411.toNat, 0, 0]

def k0_chk137 (v3407 : BitVec 32) : Prop :=
  (8 ∣ (k0_mult138 v3407).toNat) ∧
  (∀ a, (k0_off147 v3407) a + S8x2x128.size a ≤ S20016x2x128.size a)
theorem k0_mult138_dvd : ∀ (v3407 : BitVec 32) (k0_hw137 : k0_chk137 v3407), 8 ∣ (k0_mult138 v3407).toNat := fun v3407 k0_hw137 => k0_hw137.1
theorem k0_off147_inb : ∀ (v3407 : BitVec 32) (k0_hw137 : k0_chk137 v3407), ∀ a, (k0_off147 v3407) a + S8x2x128.size a ≤ S20016x2x128.size a := fun v3407 k0_hw137 => k0_hw137.2

def k0_off148 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c9_i32 : BitVec 32 := 9#32
  let v3429 : BitVec 32 := Scalar.addi v3212 c9_i32
  let v3430 : Index := Scalar.indexCast v3429
  ![v3430.toNat]
def k0_mult139 (v3431 : BitVec 32) : BitVec 32 :=
  let c3_i32_1726 : BitVec 32 := 3#32
  let v3432 : BitVec 32 := Scalar.shrsi v3431 c3_i32_1726
  let c3_i32_1727 : BitVec 32 := 3#32
  let v3433 : BitVec 32 := Scalar.shli v3432 c3_i32_1727
  v3433

def k0_off149 (v3431 : BitVec 32) : Fin 3 → Nat :=
  let c3_i32_1726 : BitVec 32 := 3#32
  let v3432 : BitVec 32 := Scalar.shrsi v3431 c3_i32_1726
  let c3_i32_1727 : BitVec 32 := 3#32
  let v3433 : BitVec 32 := Scalar.shli v3432 c3_i32_1727
  let v3434 : BitVec 32 := v3433
  let v3435 : Index := Scalar.indexCast v3434
  let c0_1728 : Index := 0#32
  ![v3435.toNat, 0, 0]

def k0_chk138 (v3431 : BitVec 32) : Prop :=
  (8 ∣ (k0_mult139 v3431).toNat) ∧
  (∀ a, (k0_off149 v3431) a + S8x2x128.size a ≤ S20016x2x128.size a)
theorem k0_mult139_dvd : ∀ (v3431 : BitVec 32) (k0_hw138 : k0_chk138 v3431), 8 ∣ (k0_mult139 v3431).toNat := fun v3431 k0_hw138 => k0_hw138.1
theorem k0_off149_inb : ∀ (v3431 : BitVec 32) (k0_hw138 : k0_chk138 v3431), ∀ a, (k0_off149 v3431) a + S8x2x128.size a ≤ S20016x2x128.size a := fun v3431 k0_hw138 => k0_hw138.2

def k0_off150 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c10_i32 : BitVec 32 := 10#32
  let v3453 : BitVec 32 := Scalar.addi v3212 c10_i32
  let v3454 : Index := Scalar.indexCast v3453
  ![v3454.toNat]
def k0_mult140 (v3455 : BitVec 32) : BitVec 32 :=
  let c3_i32_1737 : BitVec 32 := 3#32
  let v3456 : BitVec 32 := Scalar.shrsi v3455 c3_i32_1737
  let c3_i32_1738 : BitVec 32 := 3#32
  let v3457 : BitVec 32 := Scalar.shli v3456 c3_i32_1738
  v3457

def k0_off151 (v3455 : BitVec 32) : Fin 3 → Nat :=
  let c3_i32_1737 : BitVec 32 := 3#32
  let v3456 : BitVec 32 := Scalar.shrsi v3455 c3_i32_1737
  let c3_i32_1738 : BitVec 32 := 3#32
  let v3457 : BitVec 32 := Scalar.shli v3456 c3_i32_1738
  let v3458 : BitVec 32 := v3457
  let v3459 : Index := Scalar.indexCast v3458
  let c0_1739 : Index := 0#32
  ![v3459.toNat, 0, 0]

def k0_chk139 (v3455 : BitVec 32) : Prop :=
  (8 ∣ (k0_mult140 v3455).toNat) ∧
  (∀ a, (k0_off151 v3455) a + S8x2x128.size a ≤ S20016x2x128.size a)
theorem k0_mult140_dvd : ∀ (v3455 : BitVec 32) (k0_hw139 : k0_chk139 v3455), 8 ∣ (k0_mult140 v3455).toNat := fun v3455 k0_hw139 => k0_hw139.1
theorem k0_off151_inb : ∀ (v3455 : BitVec 32) (k0_hw139 : k0_chk139 v3455), ∀ a, (k0_off151 v3455) a + S8x2x128.size a ≤ S20016x2x128.size a := fun v3455 k0_hw139 => k0_hw139.2

def k0_off152 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c11_i32 : BitVec 32 := 11#32
  let v3477 : BitVec 32 := Scalar.addi v3212 c11_i32
  let v3478 : Index := Scalar.indexCast v3477
  ![v3478.toNat]
def k0_mult141 (v3479 : BitVec 32) : BitVec 32 :=
  let c3_i32_1748 : BitVec 32 := 3#32
  let v3480 : BitVec 32 := Scalar.shrsi v3479 c3_i32_1748
  let c3_i32_1749 : BitVec 32 := 3#32
  let v3481 : BitVec 32 := Scalar.shli v3480 c3_i32_1749
  v3481

def k0_off153 (v3479 : BitVec 32) : Fin 3 → Nat :=
  let c3_i32_1748 : BitVec 32 := 3#32
  let v3480 : BitVec 32 := Scalar.shrsi v3479 c3_i32_1748
  let c3_i32_1749 : BitVec 32 := 3#32
  let v3481 : BitVec 32 := Scalar.shli v3480 c3_i32_1749
  let v3482 : BitVec 32 := v3481
  let v3483 : Index := Scalar.indexCast v3482
  let c0_1750 : Index := 0#32
  ![v3483.toNat, 0, 0]

def k0_chk140 (v3479 : BitVec 32) : Prop :=
  (8 ∣ (k0_mult141 v3479).toNat) ∧
  (∀ a, (k0_off153 v3479) a + S8x2x128.size a ≤ S20016x2x128.size a)
theorem k0_mult141_dvd : ∀ (v3479 : BitVec 32) (k0_hw140 : k0_chk140 v3479), 8 ∣ (k0_mult141 v3479).toNat := fun v3479 k0_hw140 => k0_hw140.1
theorem k0_off153_inb : ∀ (v3479 : BitVec 32) (k0_hw140 : k0_chk140 v3479), ∀ a, (k0_off153 v3479) a + S8x2x128.size a ≤ S20016x2x128.size a := fun v3479 k0_hw140 => k0_hw140.2

def k0_off154 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c12_i32 : BitVec 32 := 12#32
  let v3501 : BitVec 32 := Scalar.addi v3212 c12_i32
  let v3502 : Index := Scalar.indexCast v3501
  ![v3502.toNat]
def k0_mult142 (v3503 : BitVec 32) : BitVec 32 :=
  let c3_i32_1759 : BitVec 32 := 3#32
  let v3504 : BitVec 32 := Scalar.shrsi v3503 c3_i32_1759
  let c3_i32_1760 : BitVec 32 := 3#32
  let v3505 : BitVec 32 := Scalar.shli v3504 c3_i32_1760
  v3505

def k0_off155 (v3503 : BitVec 32) : Fin 3 → Nat :=
  let c3_i32_1759 : BitVec 32 := 3#32
  let v3504 : BitVec 32 := Scalar.shrsi v3503 c3_i32_1759
  let c3_i32_1760 : BitVec 32 := 3#32
  let v3505 : BitVec 32 := Scalar.shli v3504 c3_i32_1760
  let v3506 : BitVec 32 := v3505
  let v3507 : Index := Scalar.indexCast v3506
  let c0_1761 : Index := 0#32
  ![v3507.toNat, 0, 0]

def k0_chk141 (v3503 : BitVec 32) : Prop :=
  (8 ∣ (k0_mult142 v3503).toNat) ∧
  (∀ a, (k0_off155 v3503) a + S8x2x128.size a ≤ S20016x2x128.size a)
theorem k0_mult142_dvd : ∀ (v3503 : BitVec 32) (k0_hw141 : k0_chk141 v3503), 8 ∣ (k0_mult142 v3503).toNat := fun v3503 k0_hw141 => k0_hw141.1
theorem k0_off155_inb : ∀ (v3503 : BitVec 32) (k0_hw141 : k0_chk141 v3503), ∀ a, (k0_off155 v3503) a + S8x2x128.size a ≤ S20016x2x128.size a := fun v3503 k0_hw141 => k0_hw141.2

def k0_off156 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c13_i32 : BitVec 32 := 13#32
  let v3525 : BitVec 32 := Scalar.addi v3212 c13_i32
  let v3526 : Index := Scalar.indexCast v3525
  ![v3526.toNat]
def k0_mult143 (v3527 : BitVec 32) : BitVec 32 :=
  let c3_i32_1770 : BitVec 32 := 3#32
  let v3528 : BitVec 32 := Scalar.shrsi v3527 c3_i32_1770
  let c3_i32_1771 : BitVec 32 := 3#32
  let v3529 : BitVec 32 := Scalar.shli v3528 c3_i32_1771
  v3529

def k0_off157 (v3527 : BitVec 32) : Fin 3 → Nat :=
  let c3_i32_1770 : BitVec 32 := 3#32
  let v3528 : BitVec 32 := Scalar.shrsi v3527 c3_i32_1770
  let c3_i32_1771 : BitVec 32 := 3#32
  let v3529 : BitVec 32 := Scalar.shli v3528 c3_i32_1771
  let v3530 : BitVec 32 := v3529
  let v3531 : Index := Scalar.indexCast v3530
  let c0_1772 : Index := 0#32
  ![v3531.toNat, 0, 0]

def k0_chk142 (v3527 : BitVec 32) : Prop :=
  (8 ∣ (k0_mult143 v3527).toNat) ∧
  (∀ a, (k0_off157 v3527) a + S8x2x128.size a ≤ S20016x2x128.size a)
theorem k0_mult143_dvd : ∀ (v3527 : BitVec 32) (k0_hw142 : k0_chk142 v3527), 8 ∣ (k0_mult143 v3527).toNat := fun v3527 k0_hw142 => k0_hw142.1
theorem k0_off157_inb : ∀ (v3527 : BitVec 32) (k0_hw142 : k0_chk142 v3527), ∀ a, (k0_off157 v3527) a + S8x2x128.size a ≤ S20016x2x128.size a := fun v3527 k0_hw142 => k0_hw142.2

def k0_off158 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c14_i32 : BitVec 32 := 14#32
  let v3549 : BitVec 32 := Scalar.addi v3212 c14_i32
  let v3550 : Index := Scalar.indexCast v3549
  ![v3550.toNat]
def k0_mult144 (v3551 : BitVec 32) : BitVec 32 :=
  let c3_i32_1781 : BitVec 32 := 3#32
  let v3552 : BitVec 32 := Scalar.shrsi v3551 c3_i32_1781
  let c3_i32_1782 : BitVec 32 := 3#32
  let v3553 : BitVec 32 := Scalar.shli v3552 c3_i32_1782
  v3553

def k0_off159 (v3551 : BitVec 32) : Fin 3 → Nat :=
  let c3_i32_1781 : BitVec 32 := 3#32
  let v3552 : BitVec 32 := Scalar.shrsi v3551 c3_i32_1781
  let c3_i32_1782 : BitVec 32 := 3#32
  let v3553 : BitVec 32 := Scalar.shli v3552 c3_i32_1782
  let v3554 : BitVec 32 := v3553
  let v3555 : Index := Scalar.indexCast v3554
  let c0_1783 : Index := 0#32
  ![v3555.toNat, 0, 0]

def k0_chk143 (v3551 : BitVec 32) : Prop :=
  (8 ∣ (k0_mult144 v3551).toNat) ∧
  (∀ a, (k0_off159 v3551) a + S8x2x128.size a ≤ S20016x2x128.size a)
theorem k0_mult144_dvd : ∀ (v3551 : BitVec 32) (k0_hw143 : k0_chk143 v3551), 8 ∣ (k0_mult144 v3551).toNat := fun v3551 k0_hw143 => k0_hw143.1
theorem k0_off159_inb : ∀ (v3551 : BitVec 32) (k0_hw143 : k0_chk143 v3551), ∀ a, (k0_off159 v3551) a + S8x2x128.size a ≤ S20016x2x128.size a := fun v3551 k0_hw143 => k0_hw143.2

def k0_off160 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c15_i32 : BitVec 32 := 15#32
  let v3573 : BitVec 32 := Scalar.addi v3212 c15_i32
  let v3574 : Index := Scalar.indexCast v3573
  ![v3574.toNat]
def k0_mult145 (v3575 : BitVec 32) : BitVec 32 :=
  let c3_i32_1792 : BitVec 32 := 3#32
  let v3576 : BitVec 32 := Scalar.shrsi v3575 c3_i32_1792
  let c3_i32_1793 : BitVec 32 := 3#32
  let v3577 : BitVec 32 := Scalar.shli v3576 c3_i32_1793
  v3577

def k0_off161 (v3575 : BitVec 32) : Fin 3 → Nat :=
  let c3_i32_1792 : BitVec 32 := 3#32
  let v3576 : BitVec 32 := Scalar.shrsi v3575 c3_i32_1792
  let c3_i32_1793 : BitVec 32 := 3#32
  let v3577 : BitVec 32 := Scalar.shli v3576 c3_i32_1793
  let v3578 : BitVec 32 := v3577
  let v3579 : Index := Scalar.indexCast v3578
  let c0_1794 : Index := 0#32
  ![v3579.toNat, 0, 0]

def k0_chk144 (v3575 : BitVec 32) : Prop :=
  (8 ∣ (k0_mult145 v3575).toNat) ∧
  (∀ a, (k0_off161 v3575) a + S8x2x128.size a ≤ S20016x2x128.size a)
theorem k0_mult145_dvd : ∀ (v3575 : BitVec 32) (k0_hw144 : k0_chk144 v3575), 8 ∣ (k0_mult145 v3575).toNat := fun v3575 k0_hw144 => k0_hw144.1
theorem k0_off161_inb : ∀ (v3575 : BitVec 32) (k0_hw144 : k0_chk144 v3575), ∀ a, (k0_off161 v3575) a + S8x2x128.size a ≤ S20016x2x128.size a := fun v3575 k0_hw144 => k0_hw144.2

def k0_off162 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c16_i32_1803 : BitVec 32 := 16#32
  let v3597 : BitVec 32 := Scalar.addi v3212 c16_i32_1803
  let v3598 : Index := Scalar.indexCast v3597
  ![v3598.toNat]
def k0_mult146 (v3599 : BitVec 32) : BitVec 32 :=
  let c3_i32_1804 : BitVec 32 := 3#32
  let v3600 : BitVec 32 := Scalar.shrsi v3599 c3_i32_1804
  let c3_i32_1805 : BitVec 32 := 3#32
  let v3601 : BitVec 32 := Scalar.shli v3600 c3_i32_1805
  v3601

def k0_off163 (v3599 : BitVec 32) : Fin 3 → Nat :=
  let c3_i32_1804 : BitVec 32 := 3#32
  let v3600 : BitVec 32 := Scalar.shrsi v3599 c3_i32_1804
  let c3_i32_1805 : BitVec 32 := 3#32
  let v3601 : BitVec 32 := Scalar.shli v3600 c3_i32_1805
  let v3602 : BitVec 32 := v3601
  let v3603 : Index := Scalar.indexCast v3602
  let c0_1806 : Index := 0#32
  ![v3603.toNat, 0, 0]

def k0_chk145 (v3599 : BitVec 32) : Prop :=
  (8 ∣ (k0_mult146 v3599).toNat) ∧
  (∀ a, (k0_off163 v3599) a + S8x2x128.size a ≤ S20016x2x128.size a)
theorem k0_mult146_dvd : ∀ (v3599 : BitVec 32) (k0_hw145 : k0_chk145 v3599), 8 ∣ (k0_mult146 v3599).toNat := fun v3599 k0_hw145 => k0_hw145.1
theorem k0_off163_inb : ∀ (v3599 : BitVec 32) (k0_hw145 : k0_chk145 v3599), ∀ a, (k0_off163 v3599) a + S8x2x128.size a ≤ S20016x2x128.size a := fun v3599 k0_hw145 => k0_hw145.2

def k0_off164 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c17_i32 : BitVec 32 := 17#32
  let v3621 : BitVec 32 := Scalar.addi v3212 c17_i32
  let v3622 : Index := Scalar.indexCast v3621
  ![v3622.toNat]
def k0_mult147 (v3623 : BitVec 32) : BitVec 32 :=
  let c3_i32_1815 : BitVec 32 := 3#32
  let v3624 : BitVec 32 := Scalar.shrsi v3623 c3_i32_1815
  let c3_i32_1816 : BitVec 32 := 3#32
  let v3625 : BitVec 32 := Scalar.shli v3624 c3_i32_1816
  v3625

def k0_off165 (v3623 : BitVec 32) : Fin 3 → Nat :=
  let c3_i32_1815 : BitVec 32 := 3#32
  let v3624 : BitVec 32 := Scalar.shrsi v3623 c3_i32_1815
  let c3_i32_1816 : BitVec 32 := 3#32
  let v3625 : BitVec 32 := Scalar.shli v3624 c3_i32_1816
  let v3626 : BitVec 32 := v3625
  let v3627 : Index := Scalar.indexCast v3626
  let c0_1817 : Index := 0#32
  ![v3627.toNat, 0, 0]

def k0_chk146 (v3623 : BitVec 32) : Prop :=
  (8 ∣ (k0_mult147 v3623).toNat) ∧
  (∀ a, (k0_off165 v3623) a + S8x2x128.size a ≤ S20016x2x128.size a)
theorem k0_mult147_dvd : ∀ (v3623 : BitVec 32) (k0_hw146 : k0_chk146 v3623), 8 ∣ (k0_mult147 v3623).toNat := fun v3623 k0_hw146 => k0_hw146.1
theorem k0_off165_inb : ∀ (v3623 : BitVec 32) (k0_hw146 : k0_chk146 v3623), ∀ a, (k0_off165 v3623) a + S8x2x128.size a ≤ S20016x2x128.size a := fun v3623 k0_hw146 => k0_hw146.2

def k0_off166 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c18_i32 : BitVec 32 := 18#32
  let v3645 : BitVec 32 := Scalar.addi v3212 c18_i32
  let v3646 : Index := Scalar.indexCast v3645
  ![v3646.toNat]
def k0_mult148 (v3647 : BitVec 32) : BitVec 32 :=
  let c3_i32_1826 : BitVec 32 := 3#32
  let v3648 : BitVec 32 := Scalar.shrsi v3647 c3_i32_1826
  let c3_i32_1827 : BitVec 32 := 3#32
  let v3649 : BitVec 32 := Scalar.shli v3648 c3_i32_1827
  v3649

def k0_off167 (v3647 : BitVec 32) : Fin 3 → Nat :=
  let c3_i32_1826 : BitVec 32 := 3#32
  let v3648 : BitVec 32 := Scalar.shrsi v3647 c3_i32_1826
  let c3_i32_1827 : BitVec 32 := 3#32
  let v3649 : BitVec 32 := Scalar.shli v3648 c3_i32_1827
  let v3650 : BitVec 32 := v3649
  let v3651 : Index := Scalar.indexCast v3650
  let c0_1828 : Index := 0#32
  ![v3651.toNat, 0, 0]

def k0_chk147 (v3647 : BitVec 32) : Prop :=
  (8 ∣ (k0_mult148 v3647).toNat) ∧
  (∀ a, (k0_off167 v3647) a + S8x2x128.size a ≤ S20016x2x128.size a)
theorem k0_mult148_dvd : ∀ (v3647 : BitVec 32) (k0_hw147 : k0_chk147 v3647), 8 ∣ (k0_mult148 v3647).toNat := fun v3647 k0_hw147 => k0_hw147.1
theorem k0_off167_inb : ∀ (v3647 : BitVec 32) (k0_hw147 : k0_chk147 v3647), ∀ a, (k0_off167 v3647) a + S8x2x128.size a ≤ S20016x2x128.size a := fun v3647 k0_hw147 => k0_hw147.2

def k0_off168 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c19_i32 : BitVec 32 := 19#32
  let v3669 : BitVec 32 := Scalar.addi v3212 c19_i32
  let v3670 : Index := Scalar.indexCast v3669
  ![v3670.toNat]
def k0_mult149 (v3671 : BitVec 32) : BitVec 32 :=
  let c3_i32_1837 : BitVec 32 := 3#32
  let v3672 : BitVec 32 := Scalar.shrsi v3671 c3_i32_1837
  let c3_i32_1838 : BitVec 32 := 3#32
  let v3673 : BitVec 32 := Scalar.shli v3672 c3_i32_1838
  v3673

def k0_off169 (v3671 : BitVec 32) : Fin 3 → Nat :=
  let c3_i32_1837 : BitVec 32 := 3#32
  let v3672 : BitVec 32 := Scalar.shrsi v3671 c3_i32_1837
  let c3_i32_1838 : BitVec 32 := 3#32
  let v3673 : BitVec 32 := Scalar.shli v3672 c3_i32_1838
  let v3674 : BitVec 32 := v3673
  let v3675 : Index := Scalar.indexCast v3674
  let c0_1839 : Index := 0#32
  ![v3675.toNat, 0, 0]

def k0_chk148 (v3671 : BitVec 32) : Prop :=
  (8 ∣ (k0_mult149 v3671).toNat) ∧
  (∀ a, (k0_off169 v3671) a + S8x2x128.size a ≤ S20016x2x128.size a)
theorem k0_mult149_dvd : ∀ (v3671 : BitVec 32) (k0_hw148 : k0_chk148 v3671), 8 ∣ (k0_mult149 v3671).toNat := fun v3671 k0_hw148 => k0_hw148.1
theorem k0_off169_inb : ∀ (v3671 : BitVec 32) (k0_hw148 : k0_chk148 v3671), ∀ a, (k0_off169 v3671) a + S8x2x128.size a ≤ S20016x2x128.size a := fun v3671 k0_hw148 => k0_hw148.2

def k0_off170 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c20_i32 : BitVec 32 := 20#32
  let v3693 : BitVec 32 := Scalar.addi v3212 c20_i32
  let v3694 : Index := Scalar.indexCast v3693
  ![v3694.toNat]
def k0_mult150 (v3695 : BitVec 32) : BitVec 32 :=
  let c3_i32_1848 : BitVec 32 := 3#32
  let v3696 : BitVec 32 := Scalar.shrsi v3695 c3_i32_1848
  let c3_i32_1849 : BitVec 32 := 3#32
  let v3697 : BitVec 32 := Scalar.shli v3696 c3_i32_1849
  v3697

def k0_off171 (v3695 : BitVec 32) : Fin 3 → Nat :=
  let c3_i32_1848 : BitVec 32 := 3#32
  let v3696 : BitVec 32 := Scalar.shrsi v3695 c3_i32_1848
  let c3_i32_1849 : BitVec 32 := 3#32
  let v3697 : BitVec 32 := Scalar.shli v3696 c3_i32_1849
  let v3698 : BitVec 32 := v3697
  let v3699 : Index := Scalar.indexCast v3698
  let c0_1850 : Index := 0#32
  ![v3699.toNat, 0, 0]

def k0_chk149 (v3695 : BitVec 32) : Prop :=
  (8 ∣ (k0_mult150 v3695).toNat) ∧
  (∀ a, (k0_off171 v3695) a + S8x2x128.size a ≤ S20016x2x128.size a)
theorem k0_mult150_dvd : ∀ (v3695 : BitVec 32) (k0_hw149 : k0_chk149 v3695), 8 ∣ (k0_mult150 v3695).toNat := fun v3695 k0_hw149 => k0_hw149.1
theorem k0_off171_inb : ∀ (v3695 : BitVec 32) (k0_hw149 : k0_chk149 v3695), ∀ a, (k0_off171 v3695) a + S8x2x128.size a ≤ S20016x2x128.size a := fun v3695 k0_hw149 => k0_hw149.2

def k0_off172 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c21_i32 : BitVec 32 := 21#32
  let v3717 : BitVec 32 := Scalar.addi v3212 c21_i32
  let v3718 : Index := Scalar.indexCast v3717
  ![v3718.toNat]
def k0_mult151 (v3719 : BitVec 32) : BitVec 32 :=
  let c3_i32_1859 : BitVec 32 := 3#32
  let v3720 : BitVec 32 := Scalar.shrsi v3719 c3_i32_1859
  let c3_i32_1860 : BitVec 32 := 3#32
  let v3721 : BitVec 32 := Scalar.shli v3720 c3_i32_1860
  v3721

def k0_off173 (v3719 : BitVec 32) : Fin 3 → Nat :=
  let c3_i32_1859 : BitVec 32 := 3#32
  let v3720 : BitVec 32 := Scalar.shrsi v3719 c3_i32_1859
  let c3_i32_1860 : BitVec 32 := 3#32
  let v3721 : BitVec 32 := Scalar.shli v3720 c3_i32_1860
  let v3722 : BitVec 32 := v3721
  let v3723 : Index := Scalar.indexCast v3722
  let c0_1861 : Index := 0#32
  ![v3723.toNat, 0, 0]

def k0_chk150 (v3719 : BitVec 32) : Prop :=
  (8 ∣ (k0_mult151 v3719).toNat) ∧
  (∀ a, (k0_off173 v3719) a + S8x2x128.size a ≤ S20016x2x128.size a)
theorem k0_mult151_dvd : ∀ (v3719 : BitVec 32) (k0_hw150 : k0_chk150 v3719), 8 ∣ (k0_mult151 v3719).toNat := fun v3719 k0_hw150 => k0_hw150.1
theorem k0_off173_inb : ∀ (v3719 : BitVec 32) (k0_hw150 : k0_chk150 v3719), ∀ a, (k0_off173 v3719) a + S8x2x128.size a ≤ S20016x2x128.size a := fun v3719 k0_hw150 => k0_hw150.2

def k0_off174 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c22_i32 : BitVec 32 := 22#32
  let v3741 : BitVec 32 := Scalar.addi v3212 c22_i32
  let v3742 : Index := Scalar.indexCast v3741
  ![v3742.toNat]
def k0_mult152 (v3743 : BitVec 32) : BitVec 32 :=
  let c3_i32_1870 : BitVec 32 := 3#32
  let v3744 : BitVec 32 := Scalar.shrsi v3743 c3_i32_1870
  let c3_i32_1871 : BitVec 32 := 3#32
  let v3745 : BitVec 32 := Scalar.shli v3744 c3_i32_1871
  v3745

def k0_off175 (v3743 : BitVec 32) : Fin 3 → Nat :=
  let c3_i32_1870 : BitVec 32 := 3#32
  let v3744 : BitVec 32 := Scalar.shrsi v3743 c3_i32_1870
  let c3_i32_1871 : BitVec 32 := 3#32
  let v3745 : BitVec 32 := Scalar.shli v3744 c3_i32_1871
  let v3746 : BitVec 32 := v3745
  let v3747 : Index := Scalar.indexCast v3746
  let c0_1872 : Index := 0#32
  ![v3747.toNat, 0, 0]

def k0_chk151 (v3743 : BitVec 32) : Prop :=
  (8 ∣ (k0_mult152 v3743).toNat) ∧
  (∀ a, (k0_off175 v3743) a + S8x2x128.size a ≤ S20016x2x128.size a)
theorem k0_mult152_dvd : ∀ (v3743 : BitVec 32) (k0_hw151 : k0_chk151 v3743), 8 ∣ (k0_mult152 v3743).toNat := fun v3743 k0_hw151 => k0_hw151.1
theorem k0_off175_inb : ∀ (v3743 : BitVec 32) (k0_hw151 : k0_chk151 v3743), ∀ a, (k0_off175 v3743) a + S8x2x128.size a ≤ S20016x2x128.size a := fun v3743 k0_hw151 => k0_hw151.2

def k0_off176 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c23_i32 : BitVec 32 := 23#32
  let v3765 : BitVec 32 := Scalar.addi v3212 c23_i32
  let v3766 : Index := Scalar.indexCast v3765
  ![v3766.toNat]
def k0_mult153 (v3767 : BitVec 32) : BitVec 32 :=
  let c3_i32_1881 : BitVec 32 := 3#32
  let v3768 : BitVec 32 := Scalar.shrsi v3767 c3_i32_1881
  let c3_i32_1882 : BitVec 32 := 3#32
  let v3769 : BitVec 32 := Scalar.shli v3768 c3_i32_1882
  v3769

def k0_off177 (v3767 : BitVec 32) : Fin 3 → Nat :=
  let c3_i32_1881 : BitVec 32 := 3#32
  let v3768 : BitVec 32 := Scalar.shrsi v3767 c3_i32_1881
  let c3_i32_1882 : BitVec 32 := 3#32
  let v3769 : BitVec 32 := Scalar.shli v3768 c3_i32_1882
  let v3770 : BitVec 32 := v3769
  let v3771 : Index := Scalar.indexCast v3770
  let c0_1883 : Index := 0#32
  ![v3771.toNat, 0, 0]

def k0_chk152 (v3767 : BitVec 32) : Prop :=
  (8 ∣ (k0_mult153 v3767).toNat) ∧
  (∀ a, (k0_off177 v3767) a + S8x2x128.size a ≤ S20016x2x128.size a)
theorem k0_mult153_dvd : ∀ (v3767 : BitVec 32) (k0_hw152 : k0_chk152 v3767), 8 ∣ (k0_mult153 v3767).toNat := fun v3767 k0_hw152 => k0_hw152.1
theorem k0_off177_inb : ∀ (v3767 : BitVec 32) (k0_hw152 : k0_chk152 v3767), ∀ a, (k0_off177 v3767) a + S8x2x128.size a ≤ S20016x2x128.size a := fun v3767 k0_hw152 => k0_hw152.2

def k0_off178 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c24_i32 : BitVec 32 := 24#32
  let v3789 : BitVec 32 := Scalar.addi v3212 c24_i32
  let v3790 : Index := Scalar.indexCast v3789
  ![v3790.toNat]
def k0_mult154 (v3791 : BitVec 32) : BitVec 32 :=
  let c3_i32_1892 : BitVec 32 := 3#32
  let v3792 : BitVec 32 := Scalar.shrsi v3791 c3_i32_1892
  let c3_i32_1893 : BitVec 32 := 3#32
  let v3793 : BitVec 32 := Scalar.shli v3792 c3_i32_1893
  v3793

def k0_off179 (v3791 : BitVec 32) : Fin 3 → Nat :=
  let c3_i32_1892 : BitVec 32 := 3#32
  let v3792 : BitVec 32 := Scalar.shrsi v3791 c3_i32_1892
  let c3_i32_1893 : BitVec 32 := 3#32
  let v3793 : BitVec 32 := Scalar.shli v3792 c3_i32_1893
  let v3794 : BitVec 32 := v3793
  let v3795 : Index := Scalar.indexCast v3794
  let c0_1894 : Index := 0#32
  ![v3795.toNat, 0, 0]

def k0_chk153 (v3791 : BitVec 32) : Prop :=
  (8 ∣ (k0_mult154 v3791).toNat) ∧
  (∀ a, (k0_off179 v3791) a + S8x2x128.size a ≤ S20016x2x128.size a)
theorem k0_mult154_dvd : ∀ (v3791 : BitVec 32) (k0_hw153 : k0_chk153 v3791), 8 ∣ (k0_mult154 v3791).toNat := fun v3791 k0_hw153 => k0_hw153.1
theorem k0_off179_inb : ∀ (v3791 : BitVec 32) (k0_hw153 : k0_chk153 v3791), ∀ a, (k0_off179 v3791) a + S8x2x128.size a ≤ S20016x2x128.size a := fun v3791 k0_hw153 => k0_hw153.2

def k0_off180 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c25_i32 : BitVec 32 := 25#32
  let v3813 : BitVec 32 := Scalar.addi v3212 c25_i32
  let v3814 : Index := Scalar.indexCast v3813
  ![v3814.toNat]
def k0_mult155 (v3815 : BitVec 32) : BitVec 32 :=
  let c3_i32_1903 : BitVec 32 := 3#32
  let v3816 : BitVec 32 := Scalar.shrsi v3815 c3_i32_1903
  let c3_i32_1904 : BitVec 32 := 3#32
  let v3817 : BitVec 32 := Scalar.shli v3816 c3_i32_1904
  v3817

def k0_off181 (v3815 : BitVec 32) : Fin 3 → Nat :=
  let c3_i32_1903 : BitVec 32 := 3#32
  let v3816 : BitVec 32 := Scalar.shrsi v3815 c3_i32_1903
  let c3_i32_1904 : BitVec 32 := 3#32
  let v3817 : BitVec 32 := Scalar.shli v3816 c3_i32_1904
  let v3818 : BitVec 32 := v3817
  let v3819 : Index := Scalar.indexCast v3818
  let c0_1905 : Index := 0#32
  ![v3819.toNat, 0, 0]

def k0_chk154 (v3815 : BitVec 32) : Prop :=
  (8 ∣ (k0_mult155 v3815).toNat) ∧
  (∀ a, (k0_off181 v3815) a + S8x2x128.size a ≤ S20016x2x128.size a)
theorem k0_mult155_dvd : ∀ (v3815 : BitVec 32) (k0_hw154 : k0_chk154 v3815), 8 ∣ (k0_mult155 v3815).toNat := fun v3815 k0_hw154 => k0_hw154.1
theorem k0_off181_inb : ∀ (v3815 : BitVec 32) (k0_hw154 : k0_chk154 v3815), ∀ a, (k0_off181 v3815) a + S8x2x128.size a ≤ S20016x2x128.size a := fun v3815 k0_hw154 => k0_hw154.2

def k0_off182 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c26_i32 : BitVec 32 := 26#32
  let v3837 : BitVec 32 := Scalar.addi v3212 c26_i32
  let v3838 : Index := Scalar.indexCast v3837
  ![v3838.toNat]
def k0_mult156 (v3839 : BitVec 32) : BitVec 32 :=
  let c3_i32_1914 : BitVec 32 := 3#32
  let v3840 : BitVec 32 := Scalar.shrsi v3839 c3_i32_1914
  let c3_i32_1915 : BitVec 32 := 3#32
  let v3841 : BitVec 32 := Scalar.shli v3840 c3_i32_1915
  v3841

def k0_off183 (v3839 : BitVec 32) : Fin 3 → Nat :=
  let c3_i32_1914 : BitVec 32 := 3#32
  let v3840 : BitVec 32 := Scalar.shrsi v3839 c3_i32_1914
  let c3_i32_1915 : BitVec 32 := 3#32
  let v3841 : BitVec 32 := Scalar.shli v3840 c3_i32_1915
  let v3842 : BitVec 32 := v3841
  let v3843 : Index := Scalar.indexCast v3842
  let c0_1916 : Index := 0#32
  ![v3843.toNat, 0, 0]

def k0_chk155 (v3839 : BitVec 32) : Prop :=
  (8 ∣ (k0_mult156 v3839).toNat) ∧
  (∀ a, (k0_off183 v3839) a + S8x2x128.size a ≤ S20016x2x128.size a)
theorem k0_mult156_dvd : ∀ (v3839 : BitVec 32) (k0_hw155 : k0_chk155 v3839), 8 ∣ (k0_mult156 v3839).toNat := fun v3839 k0_hw155 => k0_hw155.1
theorem k0_off183_inb : ∀ (v3839 : BitVec 32) (k0_hw155 : k0_chk155 v3839), ∀ a, (k0_off183 v3839) a + S8x2x128.size a ≤ S20016x2x128.size a := fun v3839 k0_hw155 => k0_hw155.2

def k0_off184 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c27_i32 : BitVec 32 := 27#32
  let v3861 : BitVec 32 := Scalar.addi v3212 c27_i32
  let v3862 : Index := Scalar.indexCast v3861
  ![v3862.toNat]
def k0_mult157 (v3863 : BitVec 32) : BitVec 32 :=
  let c3_i32_1925 : BitVec 32 := 3#32
  let v3864 : BitVec 32 := Scalar.shrsi v3863 c3_i32_1925
  let c3_i32_1926 : BitVec 32 := 3#32
  let v3865 : BitVec 32 := Scalar.shli v3864 c3_i32_1926
  v3865

def k0_off185 (v3863 : BitVec 32) : Fin 3 → Nat :=
  let c3_i32_1925 : BitVec 32 := 3#32
  let v3864 : BitVec 32 := Scalar.shrsi v3863 c3_i32_1925
  let c3_i32_1926 : BitVec 32 := 3#32
  let v3865 : BitVec 32 := Scalar.shli v3864 c3_i32_1926
  let v3866 : BitVec 32 := v3865
  let v3867 : Index := Scalar.indexCast v3866
  let c0_1927 : Index := 0#32
  ![v3867.toNat, 0, 0]

def k0_chk156 (v3863 : BitVec 32) : Prop :=
  (8 ∣ (k0_mult157 v3863).toNat) ∧
  (∀ a, (k0_off185 v3863) a + S8x2x128.size a ≤ S20016x2x128.size a)
theorem k0_mult157_dvd : ∀ (v3863 : BitVec 32) (k0_hw156 : k0_chk156 v3863), 8 ∣ (k0_mult157 v3863).toNat := fun v3863 k0_hw156 => k0_hw156.1
theorem k0_off185_inb : ∀ (v3863 : BitVec 32) (k0_hw156 : k0_chk156 v3863), ∀ a, (k0_off185 v3863) a + S8x2x128.size a ≤ S20016x2x128.size a := fun v3863 k0_hw156 => k0_hw156.2

def k0_off186 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c28_i32 : BitVec 32 := 28#32
  let v3885 : BitVec 32 := Scalar.addi v3212 c28_i32
  let v3886 : Index := Scalar.indexCast v3885
  ![v3886.toNat]
def k0_mult158 (v3887 : BitVec 32) : BitVec 32 :=
  let c3_i32_1936 : BitVec 32 := 3#32
  let v3888 : BitVec 32 := Scalar.shrsi v3887 c3_i32_1936
  let c3_i32_1937 : BitVec 32 := 3#32
  let v3889 : BitVec 32 := Scalar.shli v3888 c3_i32_1937
  v3889

def k0_off187 (v3887 : BitVec 32) : Fin 3 → Nat :=
  let c3_i32_1936 : BitVec 32 := 3#32
  let v3888 : BitVec 32 := Scalar.shrsi v3887 c3_i32_1936
  let c3_i32_1937 : BitVec 32 := 3#32
  let v3889 : BitVec 32 := Scalar.shli v3888 c3_i32_1937
  let v3890 : BitVec 32 := v3889
  let v3891 : Index := Scalar.indexCast v3890
  let c0_1938 : Index := 0#32
  ![v3891.toNat, 0, 0]

def k0_chk157 (v3887 : BitVec 32) : Prop :=
  (8 ∣ (k0_mult158 v3887).toNat) ∧
  (∀ a, (k0_off187 v3887) a + S8x2x128.size a ≤ S20016x2x128.size a)
theorem k0_mult158_dvd : ∀ (v3887 : BitVec 32) (k0_hw157 : k0_chk157 v3887), 8 ∣ (k0_mult158 v3887).toNat := fun v3887 k0_hw157 => k0_hw157.1
theorem k0_off187_inb : ∀ (v3887 : BitVec 32) (k0_hw157 : k0_chk157 v3887), ∀ a, (k0_off187 v3887) a + S8x2x128.size a ≤ S20016x2x128.size a := fun v3887 k0_hw157 => k0_hw157.2

def k0_off188 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c29_i32 : BitVec 32 := 29#32
  let v3909 : BitVec 32 := Scalar.addi v3212 c29_i32
  let v3910 : Index := Scalar.indexCast v3909
  ![v3910.toNat]
def k0_mult159 (v3911 : BitVec 32) : BitVec 32 :=
  let c3_i32_1947 : BitVec 32 := 3#32
  let v3912 : BitVec 32 := Scalar.shrsi v3911 c3_i32_1947
  let c3_i32_1948 : BitVec 32 := 3#32
  let v3913 : BitVec 32 := Scalar.shli v3912 c3_i32_1948
  v3913

def k0_off189 (v3911 : BitVec 32) : Fin 3 → Nat :=
  let c3_i32_1947 : BitVec 32 := 3#32
  let v3912 : BitVec 32 := Scalar.shrsi v3911 c3_i32_1947
  let c3_i32_1948 : BitVec 32 := 3#32
  let v3913 : BitVec 32 := Scalar.shli v3912 c3_i32_1948
  let v3914 : BitVec 32 := v3913
  let v3915 : Index := Scalar.indexCast v3914
  let c0_1949 : Index := 0#32
  ![v3915.toNat, 0, 0]

def k0_chk158 (v3911 : BitVec 32) : Prop :=
  (8 ∣ (k0_mult159 v3911).toNat) ∧
  (∀ a, (k0_off189 v3911) a + S8x2x128.size a ≤ S20016x2x128.size a)
theorem k0_mult159_dvd : ∀ (v3911 : BitVec 32) (k0_hw158 : k0_chk158 v3911), 8 ∣ (k0_mult159 v3911).toNat := fun v3911 k0_hw158 => k0_hw158.1
theorem k0_off189_inb : ∀ (v3911 : BitVec 32) (k0_hw158 : k0_chk158 v3911), ∀ a, (k0_off189 v3911) a + S8x2x128.size a ≤ S20016x2x128.size a := fun v3911 k0_hw158 => k0_hw158.2

def k0_off190 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c30_i32 : BitVec 32 := 30#32
  let v3933 : BitVec 32 := Scalar.addi v3212 c30_i32
  let v3934 : Index := Scalar.indexCast v3933
  ![v3934.toNat]
def k0_mult160 (v3935 : BitVec 32) : BitVec 32 :=
  let c3_i32_1958 : BitVec 32 := 3#32
  let v3936 : BitVec 32 := Scalar.shrsi v3935 c3_i32_1958
  let c3_i32_1959 : BitVec 32 := 3#32
  let v3937 : BitVec 32 := Scalar.shli v3936 c3_i32_1959
  v3937

def k0_off191 (v3935 : BitVec 32) : Fin 3 → Nat :=
  let c3_i32_1958 : BitVec 32 := 3#32
  let v3936 : BitVec 32 := Scalar.shrsi v3935 c3_i32_1958
  let c3_i32_1959 : BitVec 32 := 3#32
  let v3937 : BitVec 32 := Scalar.shli v3936 c3_i32_1959
  let v3938 : BitVec 32 := v3937
  let v3939 : Index := Scalar.indexCast v3938
  let c0_1960 : Index := 0#32
  ![v3939.toNat, 0, 0]

def k0_chk159 (v3935 : BitVec 32) : Prop :=
  (8 ∣ (k0_mult160 v3935).toNat) ∧
  (∀ a, (k0_off191 v3935) a + S8x2x128.size a ≤ S20016x2x128.size a)
theorem k0_mult160_dvd : ∀ (v3935 : BitVec 32) (k0_hw159 : k0_chk159 v3935), 8 ∣ (k0_mult160 v3935).toNat := fun v3935 k0_hw159 => k0_hw159.1
theorem k0_off191_inb : ∀ (v3935 : BitVec 32) (k0_hw159 : k0_chk159 v3935), ∀ a, (k0_off191 v3935) a + S8x2x128.size a ≤ S20016x2x128.size a := fun v3935 k0_hw159 => k0_hw159.2

def k0_off192 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c31_i32 : BitVec 32 := 31#32
  let v3957 : BitVec 32 := Scalar.addi v3212 c31_i32
  let v3958 : Index := Scalar.indexCast v3957
  ![v3958.toNat]
def k0_mult161 (v3959 : BitVec 32) : BitVec 32 :=
  let c3_i32_1969 : BitVec 32 := 3#32
  let v3960 : BitVec 32 := Scalar.shrsi v3959 c3_i32_1969
  let c3_i32_1970 : BitVec 32 := 3#32
  let v3961 : BitVec 32 := Scalar.shli v3960 c3_i32_1970
  v3961

def k0_off193 (v3959 : BitVec 32) : Fin 3 → Nat :=
  let c3_i32_1969 : BitVec 32 := 3#32
  let v3960 : BitVec 32 := Scalar.shrsi v3959 c3_i32_1969
  let c3_i32_1970 : BitVec 32 := 3#32
  let v3961 : BitVec 32 := Scalar.shli v3960 c3_i32_1970
  let v3962 : BitVec 32 := v3961
  let v3963 : Index := Scalar.indexCast v3962
  let c0_1971 : Index := 0#32
  ![v3963.toNat, 0, 0]

def k0_chk160 (v3959 : BitVec 32) : Prop :=
  (8 ∣ (k0_mult161 v3959).toNat) ∧
  (∀ a, (k0_off193 v3959) a + S8x2x128.size a ≤ S20016x2x128.size a)
theorem k0_mult161_dvd : ∀ (v3959 : BitVec 32) (k0_hw160 : k0_chk160 v3959), 8 ∣ (k0_mult161 v3959).toNat := fun v3959 k0_hw160 => k0_hw160.1
theorem k0_off193_inb : ∀ (v3959 : BitVec 32) (k0_hw160 : k0_chk160 v3959), ∀ a, (k0_off193 v3959) a + S8x2x128.size a ≤ S20016x2x128.size a := fun v3959 k0_hw160 => k0_hw160.2

def k0_off194 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c32_i32 : BitVec 32 := 32#32
  let v3981 : BitVec 32 := Scalar.addi v3212 c32_i32
  let v3982 : Index := Scalar.indexCast v3981
  ![v3982.toNat]
def k0_mult162 (v3983 : BitVec 32) : BitVec 32 :=
  let c3_i32_1980 : BitVec 32 := 3#32
  let v3984 : BitVec 32 := Scalar.shrsi v3983 c3_i32_1980
  let c3_i32_1981 : BitVec 32 := 3#32
  let v3985 : BitVec 32 := Scalar.shli v3984 c3_i32_1981
  v3985

def k0_off195 (v3983 : BitVec 32) : Fin 3 → Nat :=
  let c3_i32_1980 : BitVec 32 := 3#32
  let v3984 : BitVec 32 := Scalar.shrsi v3983 c3_i32_1980
  let c3_i32_1981 : BitVec 32 := 3#32
  let v3985 : BitVec 32 := Scalar.shli v3984 c3_i32_1981
  let v3986 : BitVec 32 := v3985
  let v3987 : Index := Scalar.indexCast v3986
  let c0_1982 : Index := 0#32
  ![v3987.toNat, 0, 0]

def k0_chk161 (v3983 : BitVec 32) : Prop :=
  (8 ∣ (k0_mult162 v3983).toNat) ∧
  (∀ a, (k0_off195 v3983) a + S8x2x128.size a ≤ S20016x2x128.size a)
theorem k0_mult162_dvd : ∀ (v3983 : BitVec 32) (k0_hw161 : k0_chk161 v3983), 8 ∣ (k0_mult162 v3983).toNat := fun v3983 k0_hw161 => k0_hw161.1
theorem k0_off195_inb : ∀ (v3983 : BitVec 32) (k0_hw161 : k0_chk161 v3983), ∀ a, (k0_off195 v3983) a + S8x2x128.size a ≤ S20016x2x128.size a := fun v3983 k0_hw161 => k0_hw161.2

def k0_off196 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c33_i32 : BitVec 32 := 33#32
  let v4005 : BitVec 32 := Scalar.addi v3212 c33_i32
  let v4006 : Index := Scalar.indexCast v4005
  ![v4006.toNat]
def k0_mult163 (v4007 : BitVec 32) : BitVec 32 :=
  let c3_i32_1991 : BitVec 32 := 3#32
  let v4008 : BitVec 32 := Scalar.shrsi v4007 c3_i32_1991
  let c3_i32_1992 : BitVec 32 := 3#32
  let v4009 : BitVec 32 := Scalar.shli v4008 c3_i32_1992
  v4009

def k0_off197 (v4007 : BitVec 32) : Fin 3 → Nat :=
  let c3_i32_1991 : BitVec 32 := 3#32
  let v4008 : BitVec 32 := Scalar.shrsi v4007 c3_i32_1991
  let c3_i32_1992 : BitVec 32 := 3#32
  let v4009 : BitVec 32 := Scalar.shli v4008 c3_i32_1992
  let v4010 : BitVec 32 := v4009
  let v4011 : Index := Scalar.indexCast v4010
  let c0_1993 : Index := 0#32
  ![v4011.toNat, 0, 0]

def k0_chk162 (v4007 : BitVec 32) : Prop :=
  (8 ∣ (k0_mult163 v4007).toNat) ∧
  (∀ a, (k0_off197 v4007) a + S8x2x128.size a ≤ S20016x2x128.size a)
theorem k0_mult163_dvd : ∀ (v4007 : BitVec 32) (k0_hw162 : k0_chk162 v4007), 8 ∣ (k0_mult163 v4007).toNat := fun v4007 k0_hw162 => k0_hw162.1
theorem k0_off197_inb : ∀ (v4007 : BitVec 32) (k0_hw162 : k0_chk162 v4007), ∀ a, (k0_off197 v4007) a + S8x2x128.size a ≤ S20016x2x128.size a := fun v4007 k0_hw162 => k0_hw162.2

def k0_off198 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c34_i32 : BitVec 32 := 34#32
  let v4029 : BitVec 32 := Scalar.addi v3212 c34_i32
  let v4030 : Index := Scalar.indexCast v4029
  ![v4030.toNat]
def k0_mult164 (v4031 : BitVec 32) : BitVec 32 :=
  let c3_i32_2002 : BitVec 32 := 3#32
  let v4032 : BitVec 32 := Scalar.shrsi v4031 c3_i32_2002
  let c3_i32_2003 : BitVec 32 := 3#32
  let v4033 : BitVec 32 := Scalar.shli v4032 c3_i32_2003
  v4033

def k0_off199 (v4031 : BitVec 32) : Fin 3 → Nat :=
  let c3_i32_2002 : BitVec 32 := 3#32
  let v4032 : BitVec 32 := Scalar.shrsi v4031 c3_i32_2002
  let c3_i32_2003 : BitVec 32 := 3#32
  let v4033 : BitVec 32 := Scalar.shli v4032 c3_i32_2003
  let v4034 : BitVec 32 := v4033
  let v4035 : Index := Scalar.indexCast v4034
  let c0_2004 : Index := 0#32
  ![v4035.toNat, 0, 0]

def k0_chk163 (v4031 : BitVec 32) : Prop :=
  (8 ∣ (k0_mult164 v4031).toNat) ∧
  (∀ a, (k0_off199 v4031) a + S8x2x128.size a ≤ S20016x2x128.size a)
theorem k0_mult164_dvd : ∀ (v4031 : BitVec 32) (k0_hw163 : k0_chk163 v4031), 8 ∣ (k0_mult164 v4031).toNat := fun v4031 k0_hw163 => k0_hw163.1
theorem k0_off199_inb : ∀ (v4031 : BitVec 32) (k0_hw163 : k0_chk163 v4031), ∀ a, (k0_off199 v4031) a + S8x2x128.size a ≤ S20016x2x128.size a := fun v4031 k0_hw163 => k0_hw163.2

def k0_off200 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c35_i32 : BitVec 32 := 35#32
  let v4053 : BitVec 32 := Scalar.addi v3212 c35_i32
  let v4054 : Index := Scalar.indexCast v4053
  ![v4054.toNat]
def k0_mult165 (v4055 : BitVec 32) : BitVec 32 :=
  let c3_i32_2013 : BitVec 32 := 3#32
  let v4056 : BitVec 32 := Scalar.shrsi v4055 c3_i32_2013
  let c3_i32_2014 : BitVec 32 := 3#32
  let v4057 : BitVec 32 := Scalar.shli v4056 c3_i32_2014
  v4057

def k0_off201 (v4055 : BitVec 32) : Fin 3 → Nat :=
  let c3_i32_2013 : BitVec 32 := 3#32
  let v4056 : BitVec 32 := Scalar.shrsi v4055 c3_i32_2013
  let c3_i32_2014 : BitVec 32 := 3#32
  let v4057 : BitVec 32 := Scalar.shli v4056 c3_i32_2014
  let v4058 : BitVec 32 := v4057
  let v4059 : Index := Scalar.indexCast v4058
  let c0_2015 : Index := 0#32
  ![v4059.toNat, 0, 0]

def k0_chk164 (v4055 : BitVec 32) : Prop :=
  (8 ∣ (k0_mult165 v4055).toNat) ∧
  (∀ a, (k0_off201 v4055) a + S8x2x128.size a ≤ S20016x2x128.size a)
theorem k0_mult165_dvd : ∀ (v4055 : BitVec 32) (k0_hw164 : k0_chk164 v4055), 8 ∣ (k0_mult165 v4055).toNat := fun v4055 k0_hw164 => k0_hw164.1
theorem k0_off201_inb : ∀ (v4055 : BitVec 32) (k0_hw164 : k0_chk164 v4055), ∀ a, (k0_off201 v4055) a + S8x2x128.size a ≤ S20016x2x128.size a := fun v4055 k0_hw164 => k0_hw164.2

def k0_off202 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c36_i32 : BitVec 32 := 36#32
  let v4077 : BitVec 32 := Scalar.addi v3212 c36_i32
  let v4078 : Index := Scalar.indexCast v4077
  ![v4078.toNat]
def k0_mult166 (v4079 : BitVec 32) : BitVec 32 :=
  let c3_i32_2024 : BitVec 32 := 3#32
  let v4080 : BitVec 32 := Scalar.shrsi v4079 c3_i32_2024
  let c3_i32_2025 : BitVec 32 := 3#32
  let v4081 : BitVec 32 := Scalar.shli v4080 c3_i32_2025
  v4081

def k0_off203 (v4079 : BitVec 32) : Fin 3 → Nat :=
  let c3_i32_2024 : BitVec 32 := 3#32
  let v4080 : BitVec 32 := Scalar.shrsi v4079 c3_i32_2024
  let c3_i32_2025 : BitVec 32 := 3#32
  let v4081 : BitVec 32 := Scalar.shli v4080 c3_i32_2025
  let v4082 : BitVec 32 := v4081
  let v4083 : Index := Scalar.indexCast v4082
  let c0_2026 : Index := 0#32
  ![v4083.toNat, 0, 0]

def k0_chk165 (v4079 : BitVec 32) : Prop :=
  (8 ∣ (k0_mult166 v4079).toNat) ∧
  (∀ a, (k0_off203 v4079) a + S8x2x128.size a ≤ S20016x2x128.size a)
theorem k0_mult166_dvd : ∀ (v4079 : BitVec 32) (k0_hw165 : k0_chk165 v4079), 8 ∣ (k0_mult166 v4079).toNat := fun v4079 k0_hw165 => k0_hw165.1
theorem k0_off203_inb : ∀ (v4079 : BitVec 32) (k0_hw165 : k0_chk165 v4079), ∀ a, (k0_off203 v4079) a + S8x2x128.size a ≤ S20016x2x128.size a := fun v4079 k0_hw165 => k0_hw165.2

def k0_off204 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c37_i32 : BitVec 32 := 37#32
  let v4101 : BitVec 32 := Scalar.addi v3212 c37_i32
  let v4102 : Index := Scalar.indexCast v4101
  ![v4102.toNat]
def k0_mult167 (v4103 : BitVec 32) : BitVec 32 :=
  let c3_i32_2035 : BitVec 32 := 3#32
  let v4104 : BitVec 32 := Scalar.shrsi v4103 c3_i32_2035
  let c3_i32_2036 : BitVec 32 := 3#32
  let v4105 : BitVec 32 := Scalar.shli v4104 c3_i32_2036
  v4105

def k0_off205 (v4103 : BitVec 32) : Fin 3 → Nat :=
  let c3_i32_2035 : BitVec 32 := 3#32
  let v4104 : BitVec 32 := Scalar.shrsi v4103 c3_i32_2035
  let c3_i32_2036 : BitVec 32 := 3#32
  let v4105 : BitVec 32 := Scalar.shli v4104 c3_i32_2036
  let v4106 : BitVec 32 := v4105
  let v4107 : Index := Scalar.indexCast v4106
  let c0_2037 : Index := 0#32
  ![v4107.toNat, 0, 0]

def k0_chk166 (v4103 : BitVec 32) : Prop :=
  (8 ∣ (k0_mult167 v4103).toNat) ∧
  (∀ a, (k0_off205 v4103) a + S8x2x128.size a ≤ S20016x2x128.size a)
theorem k0_mult167_dvd : ∀ (v4103 : BitVec 32) (k0_hw166 : k0_chk166 v4103), 8 ∣ (k0_mult167 v4103).toNat := fun v4103 k0_hw166 => k0_hw166.1
theorem k0_off205_inb : ∀ (v4103 : BitVec 32) (k0_hw166 : k0_chk166 v4103), ∀ a, (k0_off205 v4103) a + S8x2x128.size a ≤ S20016x2x128.size a := fun v4103 k0_hw166 => k0_hw166.2

def k0_off206 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c38_i32 : BitVec 32 := 38#32
  let v4125 : BitVec 32 := Scalar.addi v3212 c38_i32
  let v4126 : Index := Scalar.indexCast v4125
  ![v4126.toNat]
def k0_mult168 (v4127 : BitVec 32) : BitVec 32 :=
  let c3_i32_2046 : BitVec 32 := 3#32
  let v4128 : BitVec 32 := Scalar.shrsi v4127 c3_i32_2046
  let c3_i32_2047 : BitVec 32 := 3#32
  let v4129 : BitVec 32 := Scalar.shli v4128 c3_i32_2047
  v4129

def k0_off207 (v4127 : BitVec 32) : Fin 3 → Nat :=
  let c3_i32_2046 : BitVec 32 := 3#32
  let v4128 : BitVec 32 := Scalar.shrsi v4127 c3_i32_2046
  let c3_i32_2047 : BitVec 32 := 3#32
  let v4129 : BitVec 32 := Scalar.shli v4128 c3_i32_2047
  let v4130 : BitVec 32 := v4129
  let v4131 : Index := Scalar.indexCast v4130
  let c0_2048 : Index := 0#32
  ![v4131.toNat, 0, 0]

def k0_chk167 (v4127 : BitVec 32) : Prop :=
  (8 ∣ (k0_mult168 v4127).toNat) ∧
  (∀ a, (k0_off207 v4127) a + S8x2x128.size a ≤ S20016x2x128.size a)
theorem k0_mult168_dvd : ∀ (v4127 : BitVec 32) (k0_hw167 : k0_chk167 v4127), 8 ∣ (k0_mult168 v4127).toNat := fun v4127 k0_hw167 => k0_hw167.1
theorem k0_off207_inb : ∀ (v4127 : BitVec 32) (k0_hw167 : k0_chk167 v4127), ∀ a, (k0_off207 v4127) a + S8x2x128.size a ≤ S20016x2x128.size a := fun v4127 k0_hw167 => k0_hw167.2

def k0_off208 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c39_i32 : BitVec 32 := 39#32
  let v4149 : BitVec 32 := Scalar.addi v3212 c39_i32
  let v4150 : Index := Scalar.indexCast v4149
  ![v4150.toNat]
def k0_mult169 (v4151 : BitVec 32) : BitVec 32 :=
  let c3_i32_2057 : BitVec 32 := 3#32
  let v4152 : BitVec 32 := Scalar.shrsi v4151 c3_i32_2057
  let c3_i32_2058 : BitVec 32 := 3#32
  let v4153 : BitVec 32 := Scalar.shli v4152 c3_i32_2058
  v4153

def k0_off209 (v4151 : BitVec 32) : Fin 3 → Nat :=
  let c3_i32_2057 : BitVec 32 := 3#32
  let v4152 : BitVec 32 := Scalar.shrsi v4151 c3_i32_2057
  let c3_i32_2058 : BitVec 32 := 3#32
  let v4153 : BitVec 32 := Scalar.shli v4152 c3_i32_2058
  let v4154 : BitVec 32 := v4153
  let v4155 : Index := Scalar.indexCast v4154
  let c0_2059 : Index := 0#32
  ![v4155.toNat, 0, 0]

def k0_chk168 (v4151 : BitVec 32) : Prop :=
  (8 ∣ (k0_mult169 v4151).toNat) ∧
  (∀ a, (k0_off209 v4151) a + S8x2x128.size a ≤ S20016x2x128.size a)
theorem k0_mult169_dvd : ∀ (v4151 : BitVec 32) (k0_hw168 : k0_chk168 v4151), 8 ∣ (k0_mult169 v4151).toNat := fun v4151 k0_hw168 => k0_hw168.1
theorem k0_off209_inb : ∀ (v4151 : BitVec 32) (k0_hw168 : k0_chk168 v4151), ∀ a, (k0_off209 v4151) a + S8x2x128.size a ≤ S20016x2x128.size a := fun v4151 k0_hw168 => k0_hw168.2

def k0_off210 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c40_i32 : BitVec 32 := 40#32
  let v4173 : BitVec 32 := Scalar.addi v3212 c40_i32
  let v4174 : Index := Scalar.indexCast v4173
  ![v4174.toNat]
def k0_mult170 (v4175 : BitVec 32) : BitVec 32 :=
  let c3_i32_2068 : BitVec 32 := 3#32
  let v4176 : BitVec 32 := Scalar.shrsi v4175 c3_i32_2068
  let c3_i32_2069 : BitVec 32 := 3#32
  let v4177 : BitVec 32 := Scalar.shli v4176 c3_i32_2069
  v4177

def k0_off211 (v4175 : BitVec 32) : Fin 3 → Nat :=
  let c3_i32_2068 : BitVec 32 := 3#32
  let v4176 : BitVec 32 := Scalar.shrsi v4175 c3_i32_2068
  let c3_i32_2069 : BitVec 32 := 3#32
  let v4177 : BitVec 32 := Scalar.shli v4176 c3_i32_2069
  let v4178 : BitVec 32 := v4177
  let v4179 : Index := Scalar.indexCast v4178
  let c0_2070 : Index := 0#32
  ![v4179.toNat, 0, 0]

def k0_chk169 (v4175 : BitVec 32) : Prop :=
  (8 ∣ (k0_mult170 v4175).toNat) ∧
  (∀ a, (k0_off211 v4175) a + S8x2x128.size a ≤ S20016x2x128.size a)
theorem k0_mult170_dvd : ∀ (v4175 : BitVec 32) (k0_hw169 : k0_chk169 v4175), 8 ∣ (k0_mult170 v4175).toNat := fun v4175 k0_hw169 => k0_hw169.1
theorem k0_off211_inb : ∀ (v4175 : BitVec 32) (k0_hw169 : k0_chk169 v4175), ∀ a, (k0_off211 v4175) a + S8x2x128.size a ≤ S20016x2x128.size a := fun v4175 k0_hw169 => k0_hw169.2

def k0_off212 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c41_i32 : BitVec 32 := 41#32
  let v4197 : BitVec 32 := Scalar.addi v3212 c41_i32
  let v4198 : Index := Scalar.indexCast v4197
  ![v4198.toNat]
def k0_mult171 (v4199 : BitVec 32) : BitVec 32 :=
  let c3_i32_2079 : BitVec 32 := 3#32
  let v4200 : BitVec 32 := Scalar.shrsi v4199 c3_i32_2079
  let c3_i32_2080 : BitVec 32 := 3#32
  let v4201 : BitVec 32 := Scalar.shli v4200 c3_i32_2080
  v4201

def k0_off213 (v4199 : BitVec 32) : Fin 3 → Nat :=
  let c3_i32_2079 : BitVec 32 := 3#32
  let v4200 : BitVec 32 := Scalar.shrsi v4199 c3_i32_2079
  let c3_i32_2080 : BitVec 32 := 3#32
  let v4201 : BitVec 32 := Scalar.shli v4200 c3_i32_2080
  let v4202 : BitVec 32 := v4201
  let v4203 : Index := Scalar.indexCast v4202
  let c0_2081 : Index := 0#32
  ![v4203.toNat, 0, 0]

def k0_chk170 (v4199 : BitVec 32) : Prop :=
  (8 ∣ (k0_mult171 v4199).toNat) ∧
  (∀ a, (k0_off213 v4199) a + S8x2x128.size a ≤ S20016x2x128.size a)
theorem k0_mult171_dvd : ∀ (v4199 : BitVec 32) (k0_hw170 : k0_chk170 v4199), 8 ∣ (k0_mult171 v4199).toNat := fun v4199 k0_hw170 => k0_hw170.1
theorem k0_off213_inb : ∀ (v4199 : BitVec 32) (k0_hw170 : k0_chk170 v4199), ∀ a, (k0_off213 v4199) a + S8x2x128.size a ≤ S20016x2x128.size a := fun v4199 k0_hw170 => k0_hw170.2

def k0_off214 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c42_i32 : BitVec 32 := 42#32
  let v4221 : BitVec 32 := Scalar.addi v3212 c42_i32
  let v4222 : Index := Scalar.indexCast v4221
  ![v4222.toNat]
def k0_mult172 (v4223 : BitVec 32) : BitVec 32 :=
  let c3_i32_2090 : BitVec 32 := 3#32
  let v4224 : BitVec 32 := Scalar.shrsi v4223 c3_i32_2090
  let c3_i32_2091 : BitVec 32 := 3#32
  let v4225 : BitVec 32 := Scalar.shli v4224 c3_i32_2091
  v4225

def k0_off215 (v4223 : BitVec 32) : Fin 3 → Nat :=
  let c3_i32_2090 : BitVec 32 := 3#32
  let v4224 : BitVec 32 := Scalar.shrsi v4223 c3_i32_2090
  let c3_i32_2091 : BitVec 32 := 3#32
  let v4225 : BitVec 32 := Scalar.shli v4224 c3_i32_2091
  let v4226 : BitVec 32 := v4225
  let v4227 : Index := Scalar.indexCast v4226
  let c0_2092 : Index := 0#32
  ![v4227.toNat, 0, 0]

def k0_chk171 (v4223 : BitVec 32) : Prop :=
  (8 ∣ (k0_mult172 v4223).toNat) ∧
  (∀ a, (k0_off215 v4223) a + S8x2x128.size a ≤ S20016x2x128.size a)
theorem k0_mult172_dvd : ∀ (v4223 : BitVec 32) (k0_hw171 : k0_chk171 v4223), 8 ∣ (k0_mult172 v4223).toNat := fun v4223 k0_hw171 => k0_hw171.1
theorem k0_off215_inb : ∀ (v4223 : BitVec 32) (k0_hw171 : k0_chk171 v4223), ∀ a, (k0_off215 v4223) a + S8x2x128.size a ≤ S20016x2x128.size a := fun v4223 k0_hw171 => k0_hw171.2

def k0_off216 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c43_i32 : BitVec 32 := 43#32
  let v4245 : BitVec 32 := Scalar.addi v3212 c43_i32
  let v4246 : Index := Scalar.indexCast v4245
  ![v4246.toNat]
def k0_mult173 (v4247 : BitVec 32) : BitVec 32 :=
  let c3_i32_2101 : BitVec 32 := 3#32
  let v4248 : BitVec 32 := Scalar.shrsi v4247 c3_i32_2101
  let c3_i32_2102 : BitVec 32 := 3#32
  let v4249 : BitVec 32 := Scalar.shli v4248 c3_i32_2102
  v4249

def k0_off217 (v4247 : BitVec 32) : Fin 3 → Nat :=
  let c3_i32_2101 : BitVec 32 := 3#32
  let v4248 : BitVec 32 := Scalar.shrsi v4247 c3_i32_2101
  let c3_i32_2102 : BitVec 32 := 3#32
  let v4249 : BitVec 32 := Scalar.shli v4248 c3_i32_2102
  let v4250 : BitVec 32 := v4249
  let v4251 : Index := Scalar.indexCast v4250
  let c0_2103 : Index := 0#32
  ![v4251.toNat, 0, 0]

def k0_chk172 (v4247 : BitVec 32) : Prop :=
  (8 ∣ (k0_mult173 v4247).toNat) ∧
  (∀ a, (k0_off217 v4247) a + S8x2x128.size a ≤ S20016x2x128.size a)
theorem k0_mult173_dvd : ∀ (v4247 : BitVec 32) (k0_hw172 : k0_chk172 v4247), 8 ∣ (k0_mult173 v4247).toNat := fun v4247 k0_hw172 => k0_hw172.1
theorem k0_off217_inb : ∀ (v4247 : BitVec 32) (k0_hw172 : k0_chk172 v4247), ∀ a, (k0_off217 v4247) a + S8x2x128.size a ≤ S20016x2x128.size a := fun v4247 k0_hw172 => k0_hw172.2

def k0_off218 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c44_i32 : BitVec 32 := 44#32
  let v4269 : BitVec 32 := Scalar.addi v3212 c44_i32
  let v4270 : Index := Scalar.indexCast v4269
  ![v4270.toNat]
def k0_mult174 (v4271 : BitVec 32) : BitVec 32 :=
  let c3_i32_2112 : BitVec 32 := 3#32
  let v4272 : BitVec 32 := Scalar.shrsi v4271 c3_i32_2112
  let c3_i32_2113 : BitVec 32 := 3#32
  let v4273 : BitVec 32 := Scalar.shli v4272 c3_i32_2113
  v4273

def k0_off219 (v4271 : BitVec 32) : Fin 3 → Nat :=
  let c3_i32_2112 : BitVec 32 := 3#32
  let v4272 : BitVec 32 := Scalar.shrsi v4271 c3_i32_2112
  let c3_i32_2113 : BitVec 32 := 3#32
  let v4273 : BitVec 32 := Scalar.shli v4272 c3_i32_2113
  let v4274 : BitVec 32 := v4273
  let v4275 : Index := Scalar.indexCast v4274
  let c0_2114 : Index := 0#32
  ![v4275.toNat, 0, 0]

def k0_chk173 (v4271 : BitVec 32) : Prop :=
  (8 ∣ (k0_mult174 v4271).toNat) ∧
  (∀ a, (k0_off219 v4271) a + S8x2x128.size a ≤ S20016x2x128.size a)
theorem k0_mult174_dvd : ∀ (v4271 : BitVec 32) (k0_hw173 : k0_chk173 v4271), 8 ∣ (k0_mult174 v4271).toNat := fun v4271 k0_hw173 => k0_hw173.1
theorem k0_off219_inb : ∀ (v4271 : BitVec 32) (k0_hw173 : k0_chk173 v4271), ∀ a, (k0_off219 v4271) a + S8x2x128.size a ≤ S20016x2x128.size a := fun v4271 k0_hw173 => k0_hw173.2

def k0_off220 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c45_i32 : BitVec 32 := 45#32
  let v4293 : BitVec 32 := Scalar.addi v3212 c45_i32
  let v4294 : Index := Scalar.indexCast v4293
  ![v4294.toNat]
def k0_mult175 (v4295 : BitVec 32) : BitVec 32 :=
  let c3_i32_2123 : BitVec 32 := 3#32
  let v4296 : BitVec 32 := Scalar.shrsi v4295 c3_i32_2123
  let c3_i32_2124 : BitVec 32 := 3#32
  let v4297 : BitVec 32 := Scalar.shli v4296 c3_i32_2124
  v4297

def k0_off221 (v4295 : BitVec 32) : Fin 3 → Nat :=
  let c3_i32_2123 : BitVec 32 := 3#32
  let v4296 : BitVec 32 := Scalar.shrsi v4295 c3_i32_2123
  let c3_i32_2124 : BitVec 32 := 3#32
  let v4297 : BitVec 32 := Scalar.shli v4296 c3_i32_2124
  let v4298 : BitVec 32 := v4297
  let v4299 : Index := Scalar.indexCast v4298
  let c0_2125 : Index := 0#32
  ![v4299.toNat, 0, 0]

def k0_chk174 (v4295 : BitVec 32) : Prop :=
  (8 ∣ (k0_mult175 v4295).toNat) ∧
  (∀ a, (k0_off221 v4295) a + S8x2x128.size a ≤ S20016x2x128.size a)
theorem k0_mult175_dvd : ∀ (v4295 : BitVec 32) (k0_hw174 : k0_chk174 v4295), 8 ∣ (k0_mult175 v4295).toNat := fun v4295 k0_hw174 => k0_hw174.1
theorem k0_off221_inb : ∀ (v4295 : BitVec 32) (k0_hw174 : k0_chk174 v4295), ∀ a, (k0_off221 v4295) a + S8x2x128.size a ≤ S20016x2x128.size a := fun v4295 k0_hw174 => k0_hw174.2

def k0_off222 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c46_i32 : BitVec 32 := 46#32
  let v4317 : BitVec 32 := Scalar.addi v3212 c46_i32
  let v4318 : Index := Scalar.indexCast v4317
  ![v4318.toNat]
def k0_mult176 (v4319 : BitVec 32) : BitVec 32 :=
  let c3_i32_2134 : BitVec 32 := 3#32
  let v4320 : BitVec 32 := Scalar.shrsi v4319 c3_i32_2134
  let c3_i32_2135 : BitVec 32 := 3#32
  let v4321 : BitVec 32 := Scalar.shli v4320 c3_i32_2135
  v4321

def k0_off223 (v4319 : BitVec 32) : Fin 3 → Nat :=
  let c3_i32_2134 : BitVec 32 := 3#32
  let v4320 : BitVec 32 := Scalar.shrsi v4319 c3_i32_2134
  let c3_i32_2135 : BitVec 32 := 3#32
  let v4321 : BitVec 32 := Scalar.shli v4320 c3_i32_2135
  let v4322 : BitVec 32 := v4321
  let v4323 : Index := Scalar.indexCast v4322
  let c0_2136 : Index := 0#32
  ![v4323.toNat, 0, 0]

def k0_chk175 (v4319 : BitVec 32) : Prop :=
  (8 ∣ (k0_mult176 v4319).toNat) ∧
  (∀ a, (k0_off223 v4319) a + S8x2x128.size a ≤ S20016x2x128.size a)
theorem k0_mult176_dvd : ∀ (v4319 : BitVec 32) (k0_hw175 : k0_chk175 v4319), 8 ∣ (k0_mult176 v4319).toNat := fun v4319 k0_hw175 => k0_hw175.1
theorem k0_off223_inb : ∀ (v4319 : BitVec 32) (k0_hw175 : k0_chk175 v4319), ∀ a, (k0_off223 v4319) a + S8x2x128.size a ≤ S20016x2x128.size a := fun v4319 k0_hw175 => k0_hw175.2

def k0_off224 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c47_i32 : BitVec 32 := 47#32
  let v4341 : BitVec 32 := Scalar.addi v3212 c47_i32
  let v4342 : Index := Scalar.indexCast v4341
  ![v4342.toNat]
def k0_mult177 (v4343 : BitVec 32) : BitVec 32 :=
  let c3_i32_2145 : BitVec 32 := 3#32
  let v4344 : BitVec 32 := Scalar.shrsi v4343 c3_i32_2145
  let c3_i32_2146 : BitVec 32 := 3#32
  let v4345 : BitVec 32 := Scalar.shli v4344 c3_i32_2146
  v4345

def k0_off225 (v4343 : BitVec 32) : Fin 3 → Nat :=
  let c3_i32_2145 : BitVec 32 := 3#32
  let v4344 : BitVec 32 := Scalar.shrsi v4343 c3_i32_2145
  let c3_i32_2146 : BitVec 32 := 3#32
  let v4345 : BitVec 32 := Scalar.shli v4344 c3_i32_2146
  let v4346 : BitVec 32 := v4345
  let v4347 : Index := Scalar.indexCast v4346
  let c0_2147 : Index := 0#32
  ![v4347.toNat, 0, 0]

def k0_chk176 (v4343 : BitVec 32) : Prop :=
  (8 ∣ (k0_mult177 v4343).toNat) ∧
  (∀ a, (k0_off225 v4343) a + S8x2x128.size a ≤ S20016x2x128.size a)
theorem k0_mult177_dvd : ∀ (v4343 : BitVec 32) (k0_hw176 : k0_chk176 v4343), 8 ∣ (k0_mult177 v4343).toNat := fun v4343 k0_hw176 => k0_hw176.1
theorem k0_off225_inb : ∀ (v4343 : BitVec 32) (k0_hw176 : k0_chk176 v4343), ∀ a, (k0_off225 v4343) a + S8x2x128.size a ≤ S20016x2x128.size a := fun v4343 k0_hw176 => k0_hw176.2

def k0_off226 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c48_i32 : BitVec 32 := 48#32
  let v4365 : BitVec 32 := Scalar.addi v3212 c48_i32
  let v4366 : Index := Scalar.indexCast v4365
  ![v4366.toNat]
def k0_mult178 (v4367 : BitVec 32) : BitVec 32 :=
  let c3_i32_2156 : BitVec 32 := 3#32
  let v4368 : BitVec 32 := Scalar.shrsi v4367 c3_i32_2156
  let c3_i32_2157 : BitVec 32 := 3#32
  let v4369 : BitVec 32 := Scalar.shli v4368 c3_i32_2157
  v4369

def k0_off227 (v4367 : BitVec 32) : Fin 3 → Nat :=
  let c3_i32_2156 : BitVec 32 := 3#32
  let v4368 : BitVec 32 := Scalar.shrsi v4367 c3_i32_2156
  let c3_i32_2157 : BitVec 32 := 3#32
  let v4369 : BitVec 32 := Scalar.shli v4368 c3_i32_2157
  let v4370 : BitVec 32 := v4369
  let v4371 : Index := Scalar.indexCast v4370
  let c0_2158 : Index := 0#32
  ![v4371.toNat, 0, 0]

def k0_chk177 (v4367 : BitVec 32) : Prop :=
  (8 ∣ (k0_mult178 v4367).toNat) ∧
  (∀ a, (k0_off227 v4367) a + S8x2x128.size a ≤ S20016x2x128.size a)
theorem k0_mult178_dvd : ∀ (v4367 : BitVec 32) (k0_hw177 : k0_chk177 v4367), 8 ∣ (k0_mult178 v4367).toNat := fun v4367 k0_hw177 => k0_hw177.1
theorem k0_off227_inb : ∀ (v4367 : BitVec 32) (k0_hw177 : k0_chk177 v4367), ∀ a, (k0_off227 v4367) a + S8x2x128.size a ≤ S20016x2x128.size a := fun v4367 k0_hw177 => k0_hw177.2

def k0_off228 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c49_i32 : BitVec 32 := 49#32
  let v4389 : BitVec 32 := Scalar.addi v3212 c49_i32
  let v4390 : Index := Scalar.indexCast v4389
  ![v4390.toNat]
def k0_mult179 (v4391 : BitVec 32) : BitVec 32 :=
  let c3_i32_2167 : BitVec 32 := 3#32
  let v4392 : BitVec 32 := Scalar.shrsi v4391 c3_i32_2167
  let c3_i32_2168 : BitVec 32 := 3#32
  let v4393 : BitVec 32 := Scalar.shli v4392 c3_i32_2168
  v4393

def k0_off229 (v4391 : BitVec 32) : Fin 3 → Nat :=
  let c3_i32_2167 : BitVec 32 := 3#32
  let v4392 : BitVec 32 := Scalar.shrsi v4391 c3_i32_2167
  let c3_i32_2168 : BitVec 32 := 3#32
  let v4393 : BitVec 32 := Scalar.shli v4392 c3_i32_2168
  let v4394 : BitVec 32 := v4393
  let v4395 : Index := Scalar.indexCast v4394
  let c0_2169 : Index := 0#32
  ![v4395.toNat, 0, 0]

def k0_chk178 (v4391 : BitVec 32) : Prop :=
  (8 ∣ (k0_mult179 v4391).toNat) ∧
  (∀ a, (k0_off229 v4391) a + S8x2x128.size a ≤ S20016x2x128.size a)
theorem k0_mult179_dvd : ∀ (v4391 : BitVec 32) (k0_hw178 : k0_chk178 v4391), 8 ∣ (k0_mult179 v4391).toNat := fun v4391 k0_hw178 => k0_hw178.1
theorem k0_off229_inb : ∀ (v4391 : BitVec 32) (k0_hw178 : k0_chk178 v4391), ∀ a, (k0_off229 v4391) a + S8x2x128.size a ≤ S20016x2x128.size a := fun v4391 k0_hw178 => k0_hw178.2

def k0_off230 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c50_i32 : BitVec 32 := 50#32
  let v4413 : BitVec 32 := Scalar.addi v3212 c50_i32
  let v4414 : Index := Scalar.indexCast v4413
  ![v4414.toNat]
def k0_mult180 (v4415 : BitVec 32) : BitVec 32 :=
  let c3_i32_2178 : BitVec 32 := 3#32
  let v4416 : BitVec 32 := Scalar.shrsi v4415 c3_i32_2178
  let c3_i32_2179 : BitVec 32 := 3#32
  let v4417 : BitVec 32 := Scalar.shli v4416 c3_i32_2179
  v4417

def k0_off231 (v4415 : BitVec 32) : Fin 3 → Nat :=
  let c3_i32_2178 : BitVec 32 := 3#32
  let v4416 : BitVec 32 := Scalar.shrsi v4415 c3_i32_2178
  let c3_i32_2179 : BitVec 32 := 3#32
  let v4417 : BitVec 32 := Scalar.shli v4416 c3_i32_2179
  let v4418 : BitVec 32 := v4417
  let v4419 : Index := Scalar.indexCast v4418
  let c0_2180 : Index := 0#32
  ![v4419.toNat, 0, 0]

def k0_chk179 (v4415 : BitVec 32) : Prop :=
  (8 ∣ (k0_mult180 v4415).toNat) ∧
  (∀ a, (k0_off231 v4415) a + S8x2x128.size a ≤ S20016x2x128.size a)
theorem k0_mult180_dvd : ∀ (v4415 : BitVec 32) (k0_hw179 : k0_chk179 v4415), 8 ∣ (k0_mult180 v4415).toNat := fun v4415 k0_hw179 => k0_hw179.1
theorem k0_off231_inb : ∀ (v4415 : BitVec 32) (k0_hw179 : k0_chk179 v4415), ∀ a, (k0_off231 v4415) a + S8x2x128.size a ≤ S20016x2x128.size a := fun v4415 k0_hw179 => k0_hw179.2

def k0_off232 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c51_i32 : BitVec 32 := 51#32
  let v4437 : BitVec 32 := Scalar.addi v3212 c51_i32
  let v4438 : Index := Scalar.indexCast v4437
  ![v4438.toNat]
def k0_mult181 (v4439 : BitVec 32) : BitVec 32 :=
  let c3_i32_2189 : BitVec 32 := 3#32
  let v4440 : BitVec 32 := Scalar.shrsi v4439 c3_i32_2189
  let c3_i32_2190 : BitVec 32 := 3#32
  let v4441 : BitVec 32 := Scalar.shli v4440 c3_i32_2190
  v4441

def k0_off233 (v4439 : BitVec 32) : Fin 3 → Nat :=
  let c3_i32_2189 : BitVec 32 := 3#32
  let v4440 : BitVec 32 := Scalar.shrsi v4439 c3_i32_2189
  let c3_i32_2190 : BitVec 32 := 3#32
  let v4441 : BitVec 32 := Scalar.shli v4440 c3_i32_2190
  let v4442 : BitVec 32 := v4441
  let v4443 : Index := Scalar.indexCast v4442
  let c0_2191 : Index := 0#32
  ![v4443.toNat, 0, 0]

def k0_chk180 (v4439 : BitVec 32) : Prop :=
  (8 ∣ (k0_mult181 v4439).toNat) ∧
  (∀ a, (k0_off233 v4439) a + S8x2x128.size a ≤ S20016x2x128.size a)
theorem k0_mult181_dvd : ∀ (v4439 : BitVec 32) (k0_hw180 : k0_chk180 v4439), 8 ∣ (k0_mult181 v4439).toNat := fun v4439 k0_hw180 => k0_hw180.1
theorem k0_off233_inb : ∀ (v4439 : BitVec 32) (k0_hw180 : k0_chk180 v4439), ∀ a, (k0_off233 v4439) a + S8x2x128.size a ≤ S20016x2x128.size a := fun v4439 k0_hw180 => k0_hw180.2

def k0_off234 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c52_i32 : BitVec 32 := 52#32
  let v4461 : BitVec 32 := Scalar.addi v3212 c52_i32
  let v4462 : Index := Scalar.indexCast v4461
  ![v4462.toNat]
def k0_mult182 (v4463 : BitVec 32) : BitVec 32 :=
  let c3_i32_2200 : BitVec 32 := 3#32
  let v4464 : BitVec 32 := Scalar.shrsi v4463 c3_i32_2200
  let c3_i32_2201 : BitVec 32 := 3#32
  let v4465 : BitVec 32 := Scalar.shli v4464 c3_i32_2201
  v4465

def k0_off235 (v4463 : BitVec 32) : Fin 3 → Nat :=
  let c3_i32_2200 : BitVec 32 := 3#32
  let v4464 : BitVec 32 := Scalar.shrsi v4463 c3_i32_2200
  let c3_i32_2201 : BitVec 32 := 3#32
  let v4465 : BitVec 32 := Scalar.shli v4464 c3_i32_2201
  let v4466 : BitVec 32 := v4465
  let v4467 : Index := Scalar.indexCast v4466
  let c0_2202 : Index := 0#32
  ![v4467.toNat, 0, 0]

def k0_chk181 (v4463 : BitVec 32) : Prop :=
  (8 ∣ (k0_mult182 v4463).toNat) ∧
  (∀ a, (k0_off235 v4463) a + S8x2x128.size a ≤ S20016x2x128.size a)
theorem k0_mult182_dvd : ∀ (v4463 : BitVec 32) (k0_hw181 : k0_chk181 v4463), 8 ∣ (k0_mult182 v4463).toNat := fun v4463 k0_hw181 => k0_hw181.1
theorem k0_off235_inb : ∀ (v4463 : BitVec 32) (k0_hw181 : k0_chk181 v4463), ∀ a, (k0_off235 v4463) a + S8x2x128.size a ≤ S20016x2x128.size a := fun v4463 k0_hw181 => k0_hw181.2

def k0_off236 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c53_i32 : BitVec 32 := 53#32
  let v4485 : BitVec 32 := Scalar.addi v3212 c53_i32
  let v4486 : Index := Scalar.indexCast v4485
  ![v4486.toNat]
def k0_mult183 (v4487 : BitVec 32) : BitVec 32 :=
  let c3_i32_2211 : BitVec 32 := 3#32
  let v4488 : BitVec 32 := Scalar.shrsi v4487 c3_i32_2211
  let c3_i32_2212 : BitVec 32 := 3#32
  let v4489 : BitVec 32 := Scalar.shli v4488 c3_i32_2212
  v4489

def k0_off237 (v4487 : BitVec 32) : Fin 3 → Nat :=
  let c3_i32_2211 : BitVec 32 := 3#32
  let v4488 : BitVec 32 := Scalar.shrsi v4487 c3_i32_2211
  let c3_i32_2212 : BitVec 32 := 3#32
  let v4489 : BitVec 32 := Scalar.shli v4488 c3_i32_2212
  let v4490 : BitVec 32 := v4489
  let v4491 : Index := Scalar.indexCast v4490
  let c0_2213 : Index := 0#32
  ![v4491.toNat, 0, 0]

def k0_chk182 (v4487 : BitVec 32) : Prop :=
  (8 ∣ (k0_mult183 v4487).toNat) ∧
  (∀ a, (k0_off237 v4487) a + S8x2x128.size a ≤ S20016x2x128.size a)
theorem k0_mult183_dvd : ∀ (v4487 : BitVec 32) (k0_hw182 : k0_chk182 v4487), 8 ∣ (k0_mult183 v4487).toNat := fun v4487 k0_hw182 => k0_hw182.1
theorem k0_off237_inb : ∀ (v4487 : BitVec 32) (k0_hw182 : k0_chk182 v4487), ∀ a, (k0_off237 v4487) a + S8x2x128.size a ≤ S20016x2x128.size a := fun v4487 k0_hw182 => k0_hw182.2

def k0_off238 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c54_i32 : BitVec 32 := 54#32
  let v4509 : BitVec 32 := Scalar.addi v3212 c54_i32
  let v4510 : Index := Scalar.indexCast v4509
  ![v4510.toNat]
def k0_mult184 (v4511 : BitVec 32) : BitVec 32 :=
  let c3_i32_2222 : BitVec 32 := 3#32
  let v4512 : BitVec 32 := Scalar.shrsi v4511 c3_i32_2222
  let c3_i32_2223 : BitVec 32 := 3#32
  let v4513 : BitVec 32 := Scalar.shli v4512 c3_i32_2223
  v4513

def k0_off239 (v4511 : BitVec 32) : Fin 3 → Nat :=
  let c3_i32_2222 : BitVec 32 := 3#32
  let v4512 : BitVec 32 := Scalar.shrsi v4511 c3_i32_2222
  let c3_i32_2223 : BitVec 32 := 3#32
  let v4513 : BitVec 32 := Scalar.shli v4512 c3_i32_2223
  let v4514 : BitVec 32 := v4513
  let v4515 : Index := Scalar.indexCast v4514
  let c0_2224 : Index := 0#32
  ![v4515.toNat, 0, 0]

def k0_chk183 (v4511 : BitVec 32) : Prop :=
  (8 ∣ (k0_mult184 v4511).toNat) ∧
  (∀ a, (k0_off239 v4511) a + S8x2x128.size a ≤ S20016x2x128.size a)
theorem k0_mult184_dvd : ∀ (v4511 : BitVec 32) (k0_hw183 : k0_chk183 v4511), 8 ∣ (k0_mult184 v4511).toNat := fun v4511 k0_hw183 => k0_hw183.1
theorem k0_off239_inb : ∀ (v4511 : BitVec 32) (k0_hw183 : k0_chk183 v4511), ∀ a, (k0_off239 v4511) a + S8x2x128.size a ≤ S20016x2x128.size a := fun v4511 k0_hw183 => k0_hw183.2

def k0_off240 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c55_i32 : BitVec 32 := 55#32
  let v4533 : BitVec 32 := Scalar.addi v3212 c55_i32
  let v4534 : Index := Scalar.indexCast v4533
  ![v4534.toNat]
def k0_mult185 (v4535 : BitVec 32) : BitVec 32 :=
  let c3_i32_2233 : BitVec 32 := 3#32
  let v4536 : BitVec 32 := Scalar.shrsi v4535 c3_i32_2233
  let c3_i32_2234 : BitVec 32 := 3#32
  let v4537 : BitVec 32 := Scalar.shli v4536 c3_i32_2234
  v4537

def k0_off241 (v4535 : BitVec 32) : Fin 3 → Nat :=
  let c3_i32_2233 : BitVec 32 := 3#32
  let v4536 : BitVec 32 := Scalar.shrsi v4535 c3_i32_2233
  let c3_i32_2234 : BitVec 32 := 3#32
  let v4537 : BitVec 32 := Scalar.shli v4536 c3_i32_2234
  let v4538 : BitVec 32 := v4537
  let v4539 : Index := Scalar.indexCast v4538
  let c0_2235 : Index := 0#32
  ![v4539.toNat, 0, 0]

def k0_chk184 (v4535 : BitVec 32) : Prop :=
  (8 ∣ (k0_mult185 v4535).toNat) ∧
  (∀ a, (k0_off241 v4535) a + S8x2x128.size a ≤ S20016x2x128.size a)
theorem k0_mult185_dvd : ∀ (v4535 : BitVec 32) (k0_hw184 : k0_chk184 v4535), 8 ∣ (k0_mult185 v4535).toNat := fun v4535 k0_hw184 => k0_hw184.1
theorem k0_off241_inb : ∀ (v4535 : BitVec 32) (k0_hw184 : k0_chk184 v4535), ∀ a, (k0_off241 v4535) a + S8x2x128.size a ≤ S20016x2x128.size a := fun v4535 k0_hw184 => k0_hw184.2

def k0_off242 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c56_i32 : BitVec 32 := 56#32
  let v4557 : BitVec 32 := Scalar.addi v3212 c56_i32
  let v4558 : Index := Scalar.indexCast v4557
  ![v4558.toNat]
def k0_mult186 (v4559 : BitVec 32) : BitVec 32 :=
  let c3_i32_2244 : BitVec 32 := 3#32
  let v4560 : BitVec 32 := Scalar.shrsi v4559 c3_i32_2244
  let c3_i32_2245 : BitVec 32 := 3#32
  let v4561 : BitVec 32 := Scalar.shli v4560 c3_i32_2245
  v4561

def k0_off243 (v4559 : BitVec 32) : Fin 3 → Nat :=
  let c3_i32_2244 : BitVec 32 := 3#32
  let v4560 : BitVec 32 := Scalar.shrsi v4559 c3_i32_2244
  let c3_i32_2245 : BitVec 32 := 3#32
  let v4561 : BitVec 32 := Scalar.shli v4560 c3_i32_2245
  let v4562 : BitVec 32 := v4561
  let v4563 : Index := Scalar.indexCast v4562
  let c0_2246 : Index := 0#32
  ![v4563.toNat, 0, 0]

def k0_chk185 (v4559 : BitVec 32) : Prop :=
  (8 ∣ (k0_mult186 v4559).toNat) ∧
  (∀ a, (k0_off243 v4559) a + S8x2x128.size a ≤ S20016x2x128.size a)
theorem k0_mult186_dvd : ∀ (v4559 : BitVec 32) (k0_hw185 : k0_chk185 v4559), 8 ∣ (k0_mult186 v4559).toNat := fun v4559 k0_hw185 => k0_hw185.1
theorem k0_off243_inb : ∀ (v4559 : BitVec 32) (k0_hw185 : k0_chk185 v4559), ∀ a, (k0_off243 v4559) a + S8x2x128.size a ≤ S20016x2x128.size a := fun v4559 k0_hw185 => k0_hw185.2

def k0_off244 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c57_i32 : BitVec 32 := 57#32
  let v4581 : BitVec 32 := Scalar.addi v3212 c57_i32
  let v4582 : Index := Scalar.indexCast v4581
  ![v4582.toNat]
def k0_mult187 (v4583 : BitVec 32) : BitVec 32 :=
  let c3_i32_2255 : BitVec 32 := 3#32
  let v4584 : BitVec 32 := Scalar.shrsi v4583 c3_i32_2255
  let c3_i32_2256 : BitVec 32 := 3#32
  let v4585 : BitVec 32 := Scalar.shli v4584 c3_i32_2256
  v4585

def k0_off245 (v4583 : BitVec 32) : Fin 3 → Nat :=
  let c3_i32_2255 : BitVec 32 := 3#32
  let v4584 : BitVec 32 := Scalar.shrsi v4583 c3_i32_2255
  let c3_i32_2256 : BitVec 32 := 3#32
  let v4585 : BitVec 32 := Scalar.shli v4584 c3_i32_2256
  let v4586 : BitVec 32 := v4585
  let v4587 : Index := Scalar.indexCast v4586
  let c0_2257 : Index := 0#32
  ![v4587.toNat, 0, 0]

def k0_chk186 (v4583 : BitVec 32) : Prop :=
  (8 ∣ (k0_mult187 v4583).toNat) ∧
  (∀ a, (k0_off245 v4583) a + S8x2x128.size a ≤ S20016x2x128.size a)
theorem k0_mult187_dvd : ∀ (v4583 : BitVec 32) (k0_hw186 : k0_chk186 v4583), 8 ∣ (k0_mult187 v4583).toNat := fun v4583 k0_hw186 => k0_hw186.1
theorem k0_off245_inb : ∀ (v4583 : BitVec 32) (k0_hw186 : k0_chk186 v4583), ∀ a, (k0_off245 v4583) a + S8x2x128.size a ≤ S20016x2x128.size a := fun v4583 k0_hw186 => k0_hw186.2

def k0_off246 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c58_i32 : BitVec 32 := 58#32
  let v4605 : BitVec 32 := Scalar.addi v3212 c58_i32
  let v4606 : Index := Scalar.indexCast v4605
  ![v4606.toNat]
def k0_mult188 (v4607 : BitVec 32) : BitVec 32 :=
  let c3_i32_2266 : BitVec 32 := 3#32
  let v4608 : BitVec 32 := Scalar.shrsi v4607 c3_i32_2266
  let c3_i32_2267 : BitVec 32 := 3#32
  let v4609 : BitVec 32 := Scalar.shli v4608 c3_i32_2267
  v4609

def k0_off247 (v4607 : BitVec 32) : Fin 3 → Nat :=
  let c3_i32_2266 : BitVec 32 := 3#32
  let v4608 : BitVec 32 := Scalar.shrsi v4607 c3_i32_2266
  let c3_i32_2267 : BitVec 32 := 3#32
  let v4609 : BitVec 32 := Scalar.shli v4608 c3_i32_2267
  let v4610 : BitVec 32 := v4609
  let v4611 : Index := Scalar.indexCast v4610
  let c0_2268 : Index := 0#32
  ![v4611.toNat, 0, 0]

def k0_chk187 (v4607 : BitVec 32) : Prop :=
  (8 ∣ (k0_mult188 v4607).toNat) ∧
  (∀ a, (k0_off247 v4607) a + S8x2x128.size a ≤ S20016x2x128.size a)
theorem k0_mult188_dvd : ∀ (v4607 : BitVec 32) (k0_hw187 : k0_chk187 v4607), 8 ∣ (k0_mult188 v4607).toNat := fun v4607 k0_hw187 => k0_hw187.1
theorem k0_off247_inb : ∀ (v4607 : BitVec 32) (k0_hw187 : k0_chk187 v4607), ∀ a, (k0_off247 v4607) a + S8x2x128.size a ≤ S20016x2x128.size a := fun v4607 k0_hw187 => k0_hw187.2

def k0_off248 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c59_i32 : BitVec 32 := 59#32
  let v4629 : BitVec 32 := Scalar.addi v3212 c59_i32
  let v4630 : Index := Scalar.indexCast v4629
  ![v4630.toNat]
def k0_mult189 (v4631 : BitVec 32) : BitVec 32 :=
  let c3_i32_2277 : BitVec 32 := 3#32
  let v4632 : BitVec 32 := Scalar.shrsi v4631 c3_i32_2277
  let c3_i32_2278 : BitVec 32 := 3#32
  let v4633 : BitVec 32 := Scalar.shli v4632 c3_i32_2278
  v4633

def k0_off249 (v4631 : BitVec 32) : Fin 3 → Nat :=
  let c3_i32_2277 : BitVec 32 := 3#32
  let v4632 : BitVec 32 := Scalar.shrsi v4631 c3_i32_2277
  let c3_i32_2278 : BitVec 32 := 3#32
  let v4633 : BitVec 32 := Scalar.shli v4632 c3_i32_2278
  let v4634 : BitVec 32 := v4633
  let v4635 : Index := Scalar.indexCast v4634
  let c0_2279 : Index := 0#32
  ![v4635.toNat, 0, 0]

def k0_chk188 (v4631 : BitVec 32) : Prop :=
  (8 ∣ (k0_mult189 v4631).toNat) ∧
  (∀ a, (k0_off249 v4631) a + S8x2x128.size a ≤ S20016x2x128.size a)
theorem k0_mult189_dvd : ∀ (v4631 : BitVec 32) (k0_hw188 : k0_chk188 v4631), 8 ∣ (k0_mult189 v4631).toNat := fun v4631 k0_hw188 => k0_hw188.1
theorem k0_off249_inb : ∀ (v4631 : BitVec 32) (k0_hw188 : k0_chk188 v4631), ∀ a, (k0_off249 v4631) a + S8x2x128.size a ≤ S20016x2x128.size a := fun v4631 k0_hw188 => k0_hw188.2

def k0_off250 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c60_i32 : BitVec 32 := 60#32
  let v4653 : BitVec 32 := Scalar.addi v3212 c60_i32
  let v4654 : Index := Scalar.indexCast v4653
  ![v4654.toNat]
def k0_mult190 (v4655 : BitVec 32) : BitVec 32 :=
  let c3_i32_2288 : BitVec 32 := 3#32
  let v4656 : BitVec 32 := Scalar.shrsi v4655 c3_i32_2288
  let c3_i32_2289 : BitVec 32 := 3#32
  let v4657 : BitVec 32 := Scalar.shli v4656 c3_i32_2289
  v4657

def k0_off251 (v4655 : BitVec 32) : Fin 3 → Nat :=
  let c3_i32_2288 : BitVec 32 := 3#32
  let v4656 : BitVec 32 := Scalar.shrsi v4655 c3_i32_2288
  let c3_i32_2289 : BitVec 32 := 3#32
  let v4657 : BitVec 32 := Scalar.shli v4656 c3_i32_2289
  let v4658 : BitVec 32 := v4657
  let v4659 : Index := Scalar.indexCast v4658
  let c0_2290 : Index := 0#32
  ![v4659.toNat, 0, 0]

def k0_chk189 (v4655 : BitVec 32) : Prop :=
  (8 ∣ (k0_mult190 v4655).toNat) ∧
  (∀ a, (k0_off251 v4655) a + S8x2x128.size a ≤ S20016x2x128.size a)
theorem k0_mult190_dvd : ∀ (v4655 : BitVec 32) (k0_hw189 : k0_chk189 v4655), 8 ∣ (k0_mult190 v4655).toNat := fun v4655 k0_hw189 => k0_hw189.1
theorem k0_off251_inb : ∀ (v4655 : BitVec 32) (k0_hw189 : k0_chk189 v4655), ∀ a, (k0_off251 v4655) a + S8x2x128.size a ≤ S20016x2x128.size a := fun v4655 k0_hw189 => k0_hw189.2

def k0_off252 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c61_i32 : BitVec 32 := 61#32
  let v4677 : BitVec 32 := Scalar.addi v3212 c61_i32
  let v4678 : Index := Scalar.indexCast v4677
  ![v4678.toNat]
def k0_mult191 (v4679 : BitVec 32) : BitVec 32 :=
  let c3_i32_2299 : BitVec 32 := 3#32
  let v4680 : BitVec 32 := Scalar.shrsi v4679 c3_i32_2299
  let c3_i32_2300 : BitVec 32 := 3#32
  let v4681 : BitVec 32 := Scalar.shli v4680 c3_i32_2300
  v4681

def k0_off253 (v4679 : BitVec 32) : Fin 3 → Nat :=
  let c3_i32_2299 : BitVec 32 := 3#32
  let v4680 : BitVec 32 := Scalar.shrsi v4679 c3_i32_2299
  let c3_i32_2300 : BitVec 32 := 3#32
  let v4681 : BitVec 32 := Scalar.shli v4680 c3_i32_2300
  let v4682 : BitVec 32 := v4681
  let v4683 : Index := Scalar.indexCast v4682
  let c0_2301 : Index := 0#32
  ![v4683.toNat, 0, 0]

def k0_chk190 (v4679 : BitVec 32) : Prop :=
  (8 ∣ (k0_mult191 v4679).toNat) ∧
  (∀ a, (k0_off253 v4679) a + S8x2x128.size a ≤ S20016x2x128.size a)
theorem k0_mult191_dvd : ∀ (v4679 : BitVec 32) (k0_hw190 : k0_chk190 v4679), 8 ∣ (k0_mult191 v4679).toNat := fun v4679 k0_hw190 => k0_hw190.1
theorem k0_off253_inb : ∀ (v4679 : BitVec 32) (k0_hw190 : k0_chk190 v4679), ∀ a, (k0_off253 v4679) a + S8x2x128.size a ≤ S20016x2x128.size a := fun v4679 k0_hw190 => k0_hw190.2

def k0_off254 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c62_i32 : BitVec 32 := 62#32
  let v4701 : BitVec 32 := Scalar.addi v3212 c62_i32
  let v4702 : Index := Scalar.indexCast v4701
  ![v4702.toNat]
def k0_mult192 (v4703 : BitVec 32) : BitVec 32 :=
  let c3_i32_2310 : BitVec 32 := 3#32
  let v4704 : BitVec 32 := Scalar.shrsi v4703 c3_i32_2310
  let c3_i32_2311 : BitVec 32 := 3#32
  let v4705 : BitVec 32 := Scalar.shli v4704 c3_i32_2311
  v4705

def k0_off255 (v4703 : BitVec 32) : Fin 3 → Nat :=
  let c3_i32_2310 : BitVec 32 := 3#32
  let v4704 : BitVec 32 := Scalar.shrsi v4703 c3_i32_2310
  let c3_i32_2311 : BitVec 32 := 3#32
  let v4705 : BitVec 32 := Scalar.shli v4704 c3_i32_2311
  let v4706 : BitVec 32 := v4705
  let v4707 : Index := Scalar.indexCast v4706
  let c0_2312 : Index := 0#32
  ![v4707.toNat, 0, 0]

def k0_chk191 (v4703 : BitVec 32) : Prop :=
  (8 ∣ (k0_mult192 v4703).toNat) ∧
  (∀ a, (k0_off255 v4703) a + S8x2x128.size a ≤ S20016x2x128.size a)
theorem k0_mult192_dvd : ∀ (v4703 : BitVec 32) (k0_hw191 : k0_chk191 v4703), 8 ∣ (k0_mult192 v4703).toNat := fun v4703 k0_hw191 => k0_hw191.1
theorem k0_off255_inb : ∀ (v4703 : BitVec 32) (k0_hw191 : k0_chk191 v4703), ∀ a, (k0_off255 v4703) a + S8x2x128.size a ≤ S20016x2x128.size a := fun v4703 k0_hw191 => k0_hw191.2

def k0_off256 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c2_i32_1620 : BitVec 32 := 2#32
  let v3211 : BitVec 32 := Scalar.addi v3179 c2_i32_1620
  let c64_i32_1621 : BitVec 32 := 64#32
  let v3212 : BitVec 32 := Scalar.muli v3211 c64_i32_1621
  let c63_i32 : BitVec 32 := 63#32
  let v4725 : BitVec 32 := Scalar.addi v3212 c63_i32
  let v4726 : Index := Scalar.indexCast v4725
  ![v4726.toNat]
def k0_mult193 (v4727 : BitVec 32) : BitVec 32 :=
  let c3_i32_2321 : BitVec 32 := 3#32
  let v4728 : BitVec 32 := Scalar.shrsi v4727 c3_i32_2321
  let c3_i32_2322 : BitVec 32 := 3#32
  let v4729 : BitVec 32 := Scalar.shli v4728 c3_i32_2322
  v4729

def k0_off257 (v4727 : BitVec 32) : Fin 3 → Nat :=
  let c3_i32_2321 : BitVec 32 := 3#32
  let v4728 : BitVec 32 := Scalar.shrsi v4727 c3_i32_2321
  let c3_i32_2322 : BitVec 32 := 3#32
  let v4729 : BitVec 32 := Scalar.shli v4728 c3_i32_2322
  let v4730 : BitVec 32 := v4729
  let v4731 : Index := Scalar.indexCast v4730
  let c0_2323 : Index := 0#32
  ![v4731.toNat, 0, 0]

def k0_chk192 (v4727 : BitVec 32) : Prop :=
  (8 ∣ (k0_mult193 v4727).toNat) ∧
  (∀ a, (k0_off257 v4727) a + S8x2x128.size a ≤ S20016x2x128.size a)
theorem k0_mult193_dvd : ∀ (v4727 : BitVec 32) (k0_hw192 : k0_chk192 v4727), 8 ∣ (k0_mult193 v4727).toNat := fun v4727 k0_hw192 => k0_hw192.1
theorem k0_off257_inb : ∀ (v4727 : BitVec 32) (k0_hw192 : k0_chk192 v4727), ∀ a, (k0_off257 v4727) a + S8x2x128.size a ≤ S20016x2x128.size a := fun v4727 k0_hw192 => k0_hw192.2

def k0_mult194 (k0_t1 : Fin k0_t1_loop.trips) : BitVec 32 :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c64_i32_2343 : BitVec 32 := 64#32
  let v4775 : BitVec 32 := Scalar.muli v4749 c64_i32_2343
  v4775
def k0_off258 (k0_t1 : Fin k0_t1_loop.trips) : Fin 2 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c64_i32_2343 : BitVec 32 := 64#32
  let v4775 : BitVec 32 := Scalar.muli v4749 c64_i32_2343
  let v4776 : BitVec 32 := v4775
  let v4777 : Index := Scalar.indexCast v4776
  let c0_2344 : Index := 0#32
  ![v4777.toNat, 0]
def k0_off259 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c0_i32_2347 : BitVec 32 := 0#32
  let v4783 : BitVec 32 := Scalar.addi v4782 c0_i32_2347
  let v4784 : Index := Scalar.indexCast v4783
  ![v4784.toNat]
def k0_mult195 (v4785 : BitVec 32) : BitVec 32 :=
  let c3_i32_2348 : BitVec 32 := 3#32
  let v4786 : BitVec 32 := Scalar.shrsi v4785 c3_i32_2348
  let c3_i32_2349 : BitVec 32 := 3#32
  let v4787 : BitVec 32 := Scalar.shli v4786 c3_i32_2349
  v4787

def k0_off260 (v4785 : BitVec 32) : Fin 3 → Nat :=
  let c3_i32_2348 : BitVec 32 := 3#32
  let v4786 : BitVec 32 := Scalar.shrsi v4785 c3_i32_2348
  let c3_i32_2349 : BitVec 32 := 3#32
  let v4787 : BitVec 32 := Scalar.shli v4786 c3_i32_2349
  let v4788 : BitVec 32 := v4787
  let v4789 : Index := Scalar.indexCast v4788
  let c0_2350 : Index := 0#32
  ![v4789.toNat, 0, 0]

def k0_chk193 (v4785 : BitVec 32) : Prop :=
  (8 ∣ (k0_mult195 v4785).toNat) ∧
  (∀ a, (k0_off260 v4785) a + S8x2x128.size a ≤ S20016x2x128.size a)
theorem k0_mult195_dvd : ∀ (v4785 : BitVec 32) (k0_hw193 : k0_chk193 v4785), 8 ∣ (k0_mult195 v4785).toNat := fun v4785 k0_hw193 => k0_hw193.1
theorem k0_off260_inb : ∀ (v4785 : BitVec 32) (k0_hw193 : k0_chk193 v4785), ∀ a, (k0_off260 v4785) a + S8x2x128.size a ≤ S20016x2x128.size a := fun v4785 k0_hw193 => k0_hw193.2

def k0_off261 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c1_i32_2359 : BitVec 32 := 1#32
  let v4807 : BitVec 32 := Scalar.addi v4782 c1_i32_2359
  let v4808 : Index := Scalar.indexCast v4807
  ![v4808.toNat]
def k0_mult196 (v4809 : BitVec 32) : BitVec 32 :=
  let c3_i32_2360 : BitVec 32 := 3#32
  let v4810 : BitVec 32 := Scalar.shrsi v4809 c3_i32_2360
  let c3_i32_2361 : BitVec 32 := 3#32
  let v4811 : BitVec 32 := Scalar.shli v4810 c3_i32_2361
  v4811

def k0_off262 (v4809 : BitVec 32) : Fin 3 → Nat :=
  let c3_i32_2360 : BitVec 32 := 3#32
  let v4810 : BitVec 32 := Scalar.shrsi v4809 c3_i32_2360
  let c3_i32_2361 : BitVec 32 := 3#32
  let v4811 : BitVec 32 := Scalar.shli v4810 c3_i32_2361
  let v4812 : BitVec 32 := v4811
  let v4813 : Index := Scalar.indexCast v4812
  let c0_2362 : Index := 0#32
  ![v4813.toNat, 0, 0]

def k0_chk194 (v4809 : BitVec 32) : Prop :=
  (8 ∣ (k0_mult196 v4809).toNat) ∧
  (∀ a, (k0_off262 v4809) a + S8x2x128.size a ≤ S20016x2x128.size a)
theorem k0_mult196_dvd : ∀ (v4809 : BitVec 32) (k0_hw194 : k0_chk194 v4809), 8 ∣ (k0_mult196 v4809).toNat := fun v4809 k0_hw194 => k0_hw194.1
theorem k0_off262_inb : ∀ (v4809 : BitVec 32) (k0_hw194 : k0_chk194 v4809), ∀ a, (k0_off262 v4809) a + S8x2x128.size a ≤ S20016x2x128.size a := fun v4809 k0_hw194 => k0_hw194.2

def k0_off263 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c2_i32_2371 : BitVec 32 := 2#32
  let v4831 : BitVec 32 := Scalar.addi v4782 c2_i32_2371
  let v4832 : Index := Scalar.indexCast v4831
  ![v4832.toNat]
def k0_mult197 (v4833 : BitVec 32) : BitVec 32 :=
  let c3_i32_2372 : BitVec 32 := 3#32
  let v4834 : BitVec 32 := Scalar.shrsi v4833 c3_i32_2372
  let c3_i32_2373 : BitVec 32 := 3#32
  let v4835 : BitVec 32 := Scalar.shli v4834 c3_i32_2373
  v4835

def k0_off264 (v4833 : BitVec 32) : Fin 3 → Nat :=
  let c3_i32_2372 : BitVec 32 := 3#32
  let v4834 : BitVec 32 := Scalar.shrsi v4833 c3_i32_2372
  let c3_i32_2373 : BitVec 32 := 3#32
  let v4835 : BitVec 32 := Scalar.shli v4834 c3_i32_2373
  let v4836 : BitVec 32 := v4835
  let v4837 : Index := Scalar.indexCast v4836
  let c0_2374 : Index := 0#32
  ![v4837.toNat, 0, 0]

def k0_chk195 (v4833 : BitVec 32) : Prop :=
  (8 ∣ (k0_mult197 v4833).toNat) ∧
  (∀ a, (k0_off264 v4833) a + S8x2x128.size a ≤ S20016x2x128.size a)
theorem k0_mult197_dvd : ∀ (v4833 : BitVec 32) (k0_hw195 : k0_chk195 v4833), 8 ∣ (k0_mult197 v4833).toNat := fun v4833 k0_hw195 => k0_hw195.1
theorem k0_off264_inb : ∀ (v4833 : BitVec 32) (k0_hw195 : k0_chk195 v4833), ∀ a, (k0_off264 v4833) a + S8x2x128.size a ≤ S20016x2x128.size a := fun v4833 k0_hw195 => k0_hw195.2

def k0_off265 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c3_i32_2383 : BitVec 32 := 3#32
  let v4855 : BitVec 32 := Scalar.addi v4782 c3_i32_2383
  let v4856 : Index := Scalar.indexCast v4855
  ![v4856.toNat]
def k0_mult198 (v4857 : BitVec 32) : BitVec 32 :=
  let c3_i32_2384 : BitVec 32 := 3#32
  let v4858 : BitVec 32 := Scalar.shrsi v4857 c3_i32_2384
  let c3_i32_2385 : BitVec 32 := 3#32
  let v4859 : BitVec 32 := Scalar.shli v4858 c3_i32_2385
  v4859

def k0_off266 (v4857 : BitVec 32) : Fin 3 → Nat :=
  let c3_i32_2384 : BitVec 32 := 3#32
  let v4858 : BitVec 32 := Scalar.shrsi v4857 c3_i32_2384
  let c3_i32_2385 : BitVec 32 := 3#32
  let v4859 : BitVec 32 := Scalar.shli v4858 c3_i32_2385
  let v4860 : BitVec 32 := v4859
  let v4861 : Index := Scalar.indexCast v4860
  let c0_2386 : Index := 0#32
  ![v4861.toNat, 0, 0]

def k0_chk196 (v4857 : BitVec 32) : Prop :=
  (8 ∣ (k0_mult198 v4857).toNat) ∧
  (∀ a, (k0_off266 v4857) a + S8x2x128.size a ≤ S20016x2x128.size a)
theorem k0_mult198_dvd : ∀ (v4857 : BitVec 32) (k0_hw196 : k0_chk196 v4857), 8 ∣ (k0_mult198 v4857).toNat := fun v4857 k0_hw196 => k0_hw196.1
theorem k0_off266_inb : ∀ (v4857 : BitVec 32) (k0_hw196 : k0_chk196 v4857), ∀ a, (k0_off266 v4857) a + S8x2x128.size a ≤ S20016x2x128.size a := fun v4857 k0_hw196 => k0_hw196.2

def k0_off267 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c4_i32_2395 : BitVec 32 := 4#32
  let v4879 : BitVec 32 := Scalar.addi v4782 c4_i32_2395
  let v4880 : Index := Scalar.indexCast v4879
  ![v4880.toNat]
def k0_mult199 (v4881 : BitVec 32) : BitVec 32 :=
  let c3_i32_2396 : BitVec 32 := 3#32
  let v4882 : BitVec 32 := Scalar.shrsi v4881 c3_i32_2396
  let c3_i32_2397 : BitVec 32 := 3#32
  let v4883 : BitVec 32 := Scalar.shli v4882 c3_i32_2397
  v4883

def k0_off268 (v4881 : BitVec 32) : Fin 3 → Nat :=
  let c3_i32_2396 : BitVec 32 := 3#32
  let v4882 : BitVec 32 := Scalar.shrsi v4881 c3_i32_2396
  let c3_i32_2397 : BitVec 32 := 3#32
  let v4883 : BitVec 32 := Scalar.shli v4882 c3_i32_2397
  let v4884 : BitVec 32 := v4883
  let v4885 : Index := Scalar.indexCast v4884
  let c0_2398 : Index := 0#32
  ![v4885.toNat, 0, 0]

def k0_chk197 (v4881 : BitVec 32) : Prop :=
  (8 ∣ (k0_mult199 v4881).toNat) ∧
  (∀ a, (k0_off268 v4881) a + S8x2x128.size a ≤ S20016x2x128.size a)
theorem k0_mult199_dvd : ∀ (v4881 : BitVec 32) (k0_hw197 : k0_chk197 v4881), 8 ∣ (k0_mult199 v4881).toNat := fun v4881 k0_hw197 => k0_hw197.1
theorem k0_off268_inb : ∀ (v4881 : BitVec 32) (k0_hw197 : k0_chk197 v4881), ∀ a, (k0_off268 v4881) a + S8x2x128.size a ≤ S20016x2x128.size a := fun v4881 k0_hw197 => k0_hw197.2

def k0_off269 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c5_i32_2407 : BitVec 32 := 5#32
  let v4903 : BitVec 32 := Scalar.addi v4782 c5_i32_2407
  let v4904 : Index := Scalar.indexCast v4903
  ![v4904.toNat]
def k0_mult200 (v4905 : BitVec 32) : BitVec 32 :=
  let c3_i32_2408 : BitVec 32 := 3#32
  let v4906 : BitVec 32 := Scalar.shrsi v4905 c3_i32_2408
  let c3_i32_2409 : BitVec 32 := 3#32
  let v4907 : BitVec 32 := Scalar.shli v4906 c3_i32_2409
  v4907

def k0_off270 (v4905 : BitVec 32) : Fin 3 → Nat :=
  let c3_i32_2408 : BitVec 32 := 3#32
  let v4906 : BitVec 32 := Scalar.shrsi v4905 c3_i32_2408
  let c3_i32_2409 : BitVec 32 := 3#32
  let v4907 : BitVec 32 := Scalar.shli v4906 c3_i32_2409
  let v4908 : BitVec 32 := v4907
  let v4909 : Index := Scalar.indexCast v4908
  let c0_2410 : Index := 0#32
  ![v4909.toNat, 0, 0]

def k0_chk198 (v4905 : BitVec 32) : Prop :=
  (8 ∣ (k0_mult200 v4905).toNat) ∧
  (∀ a, (k0_off270 v4905) a + S8x2x128.size a ≤ S20016x2x128.size a)
theorem k0_mult200_dvd : ∀ (v4905 : BitVec 32) (k0_hw198 : k0_chk198 v4905), 8 ∣ (k0_mult200 v4905).toNat := fun v4905 k0_hw198 => k0_hw198.1
theorem k0_off270_inb : ∀ (v4905 : BitVec 32) (k0_hw198 : k0_chk198 v4905), ∀ a, (k0_off270 v4905) a + S8x2x128.size a ≤ S20016x2x128.size a := fun v4905 k0_hw198 => k0_hw198.2

def k0_off271 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c6_i32_2419 : BitVec 32 := 6#32
  let v4927 : BitVec 32 := Scalar.addi v4782 c6_i32_2419
  let v4928 : Index := Scalar.indexCast v4927
  ![v4928.toNat]
def k0_mult201 (v4929 : BitVec 32) : BitVec 32 :=
  let c3_i32_2420 : BitVec 32 := 3#32
  let v4930 : BitVec 32 := Scalar.shrsi v4929 c3_i32_2420
  let c3_i32_2421 : BitVec 32 := 3#32
  let v4931 : BitVec 32 := Scalar.shli v4930 c3_i32_2421
  v4931

def k0_off272 (v4929 : BitVec 32) : Fin 3 → Nat :=
  let c3_i32_2420 : BitVec 32 := 3#32
  let v4930 : BitVec 32 := Scalar.shrsi v4929 c3_i32_2420
  let c3_i32_2421 : BitVec 32 := 3#32
  let v4931 : BitVec 32 := Scalar.shli v4930 c3_i32_2421
  let v4932 : BitVec 32 := v4931
  let v4933 : Index := Scalar.indexCast v4932
  let c0_2422 : Index := 0#32
  ![v4933.toNat, 0, 0]

def k0_chk199 (v4929 : BitVec 32) : Prop :=
  (8 ∣ (k0_mult201 v4929).toNat) ∧
  (∀ a, (k0_off272 v4929) a + S8x2x128.size a ≤ S20016x2x128.size a)
theorem k0_mult201_dvd : ∀ (v4929 : BitVec 32) (k0_hw199 : k0_chk199 v4929), 8 ∣ (k0_mult201 v4929).toNat := fun v4929 k0_hw199 => k0_hw199.1
theorem k0_off272_inb : ∀ (v4929 : BitVec 32) (k0_hw199 : k0_chk199 v4929), ∀ a, (k0_off272 v4929) a + S8x2x128.size a ≤ S20016x2x128.size a := fun v4929 k0_hw199 => k0_hw199.2

def k0_off273 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c7_i32_2431 : BitVec 32 := 7#32
  let v4951 : BitVec 32 := Scalar.addi v4782 c7_i32_2431
  let v4952 : Index := Scalar.indexCast v4951
  ![v4952.toNat]
def k0_mult202 (v4953 : BitVec 32) : BitVec 32 :=
  let c3_i32_2432 : BitVec 32 := 3#32
  let v4954 : BitVec 32 := Scalar.shrsi v4953 c3_i32_2432
  let c3_i32_2433 : BitVec 32 := 3#32
  let v4955 : BitVec 32 := Scalar.shli v4954 c3_i32_2433
  v4955

def k0_off274 (v4953 : BitVec 32) : Fin 3 → Nat :=
  let c3_i32_2432 : BitVec 32 := 3#32
  let v4954 : BitVec 32 := Scalar.shrsi v4953 c3_i32_2432
  let c3_i32_2433 : BitVec 32 := 3#32
  let v4955 : BitVec 32 := Scalar.shli v4954 c3_i32_2433
  let v4956 : BitVec 32 := v4955
  let v4957 : Index := Scalar.indexCast v4956
  let c0_2434 : Index := 0#32
  ![v4957.toNat, 0, 0]

def k0_chk200 (v4953 : BitVec 32) : Prop :=
  (8 ∣ (k0_mult202 v4953).toNat) ∧
  (∀ a, (k0_off274 v4953) a + S8x2x128.size a ≤ S20016x2x128.size a)
theorem k0_mult202_dvd : ∀ (v4953 : BitVec 32) (k0_hw200 : k0_chk200 v4953), 8 ∣ (k0_mult202 v4953).toNat := fun v4953 k0_hw200 => k0_hw200.1
theorem k0_off274_inb : ∀ (v4953 : BitVec 32) (k0_hw200 : k0_chk200 v4953), ∀ a, (k0_off274 v4953) a + S8x2x128.size a ≤ S20016x2x128.size a := fun v4953 k0_hw200 => k0_hw200.2

def k0_off275 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c8_i32_2443 : BitVec 32 := 8#32
  let v4975 : BitVec 32 := Scalar.addi v4782 c8_i32_2443
  let v4976 : Index := Scalar.indexCast v4975
  ![v4976.toNat]
def k0_mult203 (v4977 : BitVec 32) : BitVec 32 :=
  let c3_i32_2444 : BitVec 32 := 3#32
  let v4978 : BitVec 32 := Scalar.shrsi v4977 c3_i32_2444
  let c3_i32_2445 : BitVec 32 := 3#32
  let v4979 : BitVec 32 := Scalar.shli v4978 c3_i32_2445
  v4979

def k0_off276 (v4977 : BitVec 32) : Fin 3 → Nat :=
  let c3_i32_2444 : BitVec 32 := 3#32
  let v4978 : BitVec 32 := Scalar.shrsi v4977 c3_i32_2444
  let c3_i32_2445 : BitVec 32 := 3#32
  let v4979 : BitVec 32 := Scalar.shli v4978 c3_i32_2445
  let v4980 : BitVec 32 := v4979
  let v4981 : Index := Scalar.indexCast v4980
  let c0_2446 : Index := 0#32
  ![v4981.toNat, 0, 0]

def k0_chk201 (v4977 : BitVec 32) : Prop :=
  (8 ∣ (k0_mult203 v4977).toNat) ∧
  (∀ a, (k0_off276 v4977) a + S8x2x128.size a ≤ S20016x2x128.size a)
theorem k0_mult203_dvd : ∀ (v4977 : BitVec 32) (k0_hw201 : k0_chk201 v4977), 8 ∣ (k0_mult203 v4977).toNat := fun v4977 k0_hw201 => k0_hw201.1
theorem k0_off276_inb : ∀ (v4977 : BitVec 32) (k0_hw201 : k0_chk201 v4977), ∀ a, (k0_off276 v4977) a + S8x2x128.size a ≤ S20016x2x128.size a := fun v4977 k0_hw201 => k0_hw201.2

def k0_off277 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c9_i32_2455 : BitVec 32 := 9#32
  let v4999 : BitVec 32 := Scalar.addi v4782 c9_i32_2455
  let v5000 : Index := Scalar.indexCast v4999
  ![v5000.toNat]
def k0_mult204 (v5001 : BitVec 32) : BitVec 32 :=
  let c3_i32_2456 : BitVec 32 := 3#32
  let v5002 : BitVec 32 := Scalar.shrsi v5001 c3_i32_2456
  let c3_i32_2457 : BitVec 32 := 3#32
  let v5003 : BitVec 32 := Scalar.shli v5002 c3_i32_2457
  v5003

def k0_off278 (v5001 : BitVec 32) : Fin 3 → Nat :=
  let c3_i32_2456 : BitVec 32 := 3#32
  let v5002 : BitVec 32 := Scalar.shrsi v5001 c3_i32_2456
  let c3_i32_2457 : BitVec 32 := 3#32
  let v5003 : BitVec 32 := Scalar.shli v5002 c3_i32_2457
  let v5004 : BitVec 32 := v5003
  let v5005 : Index := Scalar.indexCast v5004
  let c0_2458 : Index := 0#32
  ![v5005.toNat, 0, 0]

def k0_chk202 (v5001 : BitVec 32) : Prop :=
  (8 ∣ (k0_mult204 v5001).toNat) ∧
  (∀ a, (k0_off278 v5001) a + S8x2x128.size a ≤ S20016x2x128.size a)
theorem k0_mult204_dvd : ∀ (v5001 : BitVec 32) (k0_hw202 : k0_chk202 v5001), 8 ∣ (k0_mult204 v5001).toNat := fun v5001 k0_hw202 => k0_hw202.1
theorem k0_off278_inb : ∀ (v5001 : BitVec 32) (k0_hw202 : k0_chk202 v5001), ∀ a, (k0_off278 v5001) a + S8x2x128.size a ≤ S20016x2x128.size a := fun v5001 k0_hw202 => k0_hw202.2

def k0_off279 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c10_i32_2467 : BitVec 32 := 10#32
  let v5023 : BitVec 32 := Scalar.addi v4782 c10_i32_2467
  let v5024 : Index := Scalar.indexCast v5023
  ![v5024.toNat]
def k0_mult205 (v5025 : BitVec 32) : BitVec 32 :=
  let c3_i32_2468 : BitVec 32 := 3#32
  let v5026 : BitVec 32 := Scalar.shrsi v5025 c3_i32_2468
  let c3_i32_2469 : BitVec 32 := 3#32
  let v5027 : BitVec 32 := Scalar.shli v5026 c3_i32_2469
  v5027

def k0_off280 (v5025 : BitVec 32) : Fin 3 → Nat :=
  let c3_i32_2468 : BitVec 32 := 3#32
  let v5026 : BitVec 32 := Scalar.shrsi v5025 c3_i32_2468
  let c3_i32_2469 : BitVec 32 := 3#32
  let v5027 : BitVec 32 := Scalar.shli v5026 c3_i32_2469
  let v5028 : BitVec 32 := v5027
  let v5029 : Index := Scalar.indexCast v5028
  let c0_2470 : Index := 0#32
  ![v5029.toNat, 0, 0]

def k0_chk203 (v5025 : BitVec 32) : Prop :=
  (8 ∣ (k0_mult205 v5025).toNat) ∧
  (∀ a, (k0_off280 v5025) a + S8x2x128.size a ≤ S20016x2x128.size a)
theorem k0_mult205_dvd : ∀ (v5025 : BitVec 32) (k0_hw203 : k0_chk203 v5025), 8 ∣ (k0_mult205 v5025).toNat := fun v5025 k0_hw203 => k0_hw203.1
theorem k0_off280_inb : ∀ (v5025 : BitVec 32) (k0_hw203 : k0_chk203 v5025), ∀ a, (k0_off280 v5025) a + S8x2x128.size a ≤ S20016x2x128.size a := fun v5025 k0_hw203 => k0_hw203.2

def k0_off281 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c11_i32_2479 : BitVec 32 := 11#32
  let v5047 : BitVec 32 := Scalar.addi v4782 c11_i32_2479
  let v5048 : Index := Scalar.indexCast v5047
  ![v5048.toNat]
def k0_mult206 (v5049 : BitVec 32) : BitVec 32 :=
  let c3_i32_2480 : BitVec 32 := 3#32
  let v5050 : BitVec 32 := Scalar.shrsi v5049 c3_i32_2480
  let c3_i32_2481 : BitVec 32 := 3#32
  let v5051 : BitVec 32 := Scalar.shli v5050 c3_i32_2481
  v5051

def k0_off282 (v5049 : BitVec 32) : Fin 3 → Nat :=
  let c3_i32_2480 : BitVec 32 := 3#32
  let v5050 : BitVec 32 := Scalar.shrsi v5049 c3_i32_2480
  let c3_i32_2481 : BitVec 32 := 3#32
  let v5051 : BitVec 32 := Scalar.shli v5050 c3_i32_2481
  let v5052 : BitVec 32 := v5051
  let v5053 : Index := Scalar.indexCast v5052
  let c0_2482 : Index := 0#32
  ![v5053.toNat, 0, 0]

def k0_chk204 (v5049 : BitVec 32) : Prop :=
  (8 ∣ (k0_mult206 v5049).toNat) ∧
  (∀ a, (k0_off282 v5049) a + S8x2x128.size a ≤ S20016x2x128.size a)
theorem k0_mult206_dvd : ∀ (v5049 : BitVec 32) (k0_hw204 : k0_chk204 v5049), 8 ∣ (k0_mult206 v5049).toNat := fun v5049 k0_hw204 => k0_hw204.1
theorem k0_off282_inb : ∀ (v5049 : BitVec 32) (k0_hw204 : k0_chk204 v5049), ∀ a, (k0_off282 v5049) a + S8x2x128.size a ≤ S20016x2x128.size a := fun v5049 k0_hw204 => k0_hw204.2

def k0_off283 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c12_i32_2491 : BitVec 32 := 12#32
  let v5071 : BitVec 32 := Scalar.addi v4782 c12_i32_2491
  let v5072 : Index := Scalar.indexCast v5071
  ![v5072.toNat]
def k0_mult207 (v5073 : BitVec 32) : BitVec 32 :=
  let c3_i32_2492 : BitVec 32 := 3#32
  let v5074 : BitVec 32 := Scalar.shrsi v5073 c3_i32_2492
  let c3_i32_2493 : BitVec 32 := 3#32
  let v5075 : BitVec 32 := Scalar.shli v5074 c3_i32_2493
  v5075

def k0_off284 (v5073 : BitVec 32) : Fin 3 → Nat :=
  let c3_i32_2492 : BitVec 32 := 3#32
  let v5074 : BitVec 32 := Scalar.shrsi v5073 c3_i32_2492
  let c3_i32_2493 : BitVec 32 := 3#32
  let v5075 : BitVec 32 := Scalar.shli v5074 c3_i32_2493
  let v5076 : BitVec 32 := v5075
  let v5077 : Index := Scalar.indexCast v5076
  let c0_2494 : Index := 0#32
  ![v5077.toNat, 0, 0]

def k0_chk205 (v5073 : BitVec 32) : Prop :=
  (8 ∣ (k0_mult207 v5073).toNat) ∧
  (∀ a, (k0_off284 v5073) a + S8x2x128.size a ≤ S20016x2x128.size a)
theorem k0_mult207_dvd : ∀ (v5073 : BitVec 32) (k0_hw205 : k0_chk205 v5073), 8 ∣ (k0_mult207 v5073).toNat := fun v5073 k0_hw205 => k0_hw205.1
theorem k0_off284_inb : ∀ (v5073 : BitVec 32) (k0_hw205 : k0_chk205 v5073), ∀ a, (k0_off284 v5073) a + S8x2x128.size a ≤ S20016x2x128.size a := fun v5073 k0_hw205 => k0_hw205.2

def k0_off285 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c13_i32_2503 : BitVec 32 := 13#32
  let v5095 : BitVec 32 := Scalar.addi v4782 c13_i32_2503
  let v5096 : Index := Scalar.indexCast v5095
  ![v5096.toNat]
def k0_mult208 (v5097 : BitVec 32) : BitVec 32 :=
  let c3_i32_2504 : BitVec 32 := 3#32
  let v5098 : BitVec 32 := Scalar.shrsi v5097 c3_i32_2504
  let c3_i32_2505 : BitVec 32 := 3#32
  let v5099 : BitVec 32 := Scalar.shli v5098 c3_i32_2505
  v5099

def k0_off286 (v5097 : BitVec 32) : Fin 3 → Nat :=
  let c3_i32_2504 : BitVec 32 := 3#32
  let v5098 : BitVec 32 := Scalar.shrsi v5097 c3_i32_2504
  let c3_i32_2505 : BitVec 32 := 3#32
  let v5099 : BitVec 32 := Scalar.shli v5098 c3_i32_2505
  let v5100 : BitVec 32 := v5099
  let v5101 : Index := Scalar.indexCast v5100
  let c0_2506 : Index := 0#32
  ![v5101.toNat, 0, 0]

def k0_chk206 (v5097 : BitVec 32) : Prop :=
  (8 ∣ (k0_mult208 v5097).toNat) ∧
  (∀ a, (k0_off286 v5097) a + S8x2x128.size a ≤ S20016x2x128.size a)
theorem k0_mult208_dvd : ∀ (v5097 : BitVec 32) (k0_hw206 : k0_chk206 v5097), 8 ∣ (k0_mult208 v5097).toNat := fun v5097 k0_hw206 => k0_hw206.1
theorem k0_off286_inb : ∀ (v5097 : BitVec 32) (k0_hw206 : k0_chk206 v5097), ∀ a, (k0_off286 v5097) a + S8x2x128.size a ≤ S20016x2x128.size a := fun v5097 k0_hw206 => k0_hw206.2

def k0_off287 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c14_i32_2515 : BitVec 32 := 14#32
  let v5119 : BitVec 32 := Scalar.addi v4782 c14_i32_2515
  let v5120 : Index := Scalar.indexCast v5119
  ![v5120.toNat]
def k0_mult209 (v5121 : BitVec 32) : BitVec 32 :=
  let c3_i32_2516 : BitVec 32 := 3#32
  let v5122 : BitVec 32 := Scalar.shrsi v5121 c3_i32_2516
  let c3_i32_2517 : BitVec 32 := 3#32
  let v5123 : BitVec 32 := Scalar.shli v5122 c3_i32_2517
  v5123

def k0_off288 (v5121 : BitVec 32) : Fin 3 → Nat :=
  let c3_i32_2516 : BitVec 32 := 3#32
  let v5122 : BitVec 32 := Scalar.shrsi v5121 c3_i32_2516
  let c3_i32_2517 : BitVec 32 := 3#32
  let v5123 : BitVec 32 := Scalar.shli v5122 c3_i32_2517
  let v5124 : BitVec 32 := v5123
  let v5125 : Index := Scalar.indexCast v5124
  let c0_2518 : Index := 0#32
  ![v5125.toNat, 0, 0]

def k0_chk207 (v5121 : BitVec 32) : Prop :=
  (8 ∣ (k0_mult209 v5121).toNat) ∧
  (∀ a, (k0_off288 v5121) a + S8x2x128.size a ≤ S20016x2x128.size a)
theorem k0_mult209_dvd : ∀ (v5121 : BitVec 32) (k0_hw207 : k0_chk207 v5121), 8 ∣ (k0_mult209 v5121).toNat := fun v5121 k0_hw207 => k0_hw207.1
theorem k0_off288_inb : ∀ (v5121 : BitVec 32) (k0_hw207 : k0_chk207 v5121), ∀ a, (k0_off288 v5121) a + S8x2x128.size a ≤ S20016x2x128.size a := fun v5121 k0_hw207 => k0_hw207.2

def k0_off289 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c15_i32_2527 : BitVec 32 := 15#32
  let v5143 : BitVec 32 := Scalar.addi v4782 c15_i32_2527
  let v5144 : Index := Scalar.indexCast v5143
  ![v5144.toNat]
def k0_mult210 (v5145 : BitVec 32) : BitVec 32 :=
  let c3_i32_2528 : BitVec 32 := 3#32
  let v5146 : BitVec 32 := Scalar.shrsi v5145 c3_i32_2528
  let c3_i32_2529 : BitVec 32 := 3#32
  let v5147 : BitVec 32 := Scalar.shli v5146 c3_i32_2529
  v5147

def k0_off290 (v5145 : BitVec 32) : Fin 3 → Nat :=
  let c3_i32_2528 : BitVec 32 := 3#32
  let v5146 : BitVec 32 := Scalar.shrsi v5145 c3_i32_2528
  let c3_i32_2529 : BitVec 32 := 3#32
  let v5147 : BitVec 32 := Scalar.shli v5146 c3_i32_2529
  let v5148 : BitVec 32 := v5147
  let v5149 : Index := Scalar.indexCast v5148
  let c0_2530 : Index := 0#32
  ![v5149.toNat, 0, 0]

def k0_chk208 (v5145 : BitVec 32) : Prop :=
  (8 ∣ (k0_mult210 v5145).toNat) ∧
  (∀ a, (k0_off290 v5145) a + S8x2x128.size a ≤ S20016x2x128.size a)
theorem k0_mult210_dvd : ∀ (v5145 : BitVec 32) (k0_hw208 : k0_chk208 v5145), 8 ∣ (k0_mult210 v5145).toNat := fun v5145 k0_hw208 => k0_hw208.1
theorem k0_off290_inb : ∀ (v5145 : BitVec 32) (k0_hw208 : k0_chk208 v5145), ∀ a, (k0_off290 v5145) a + S8x2x128.size a ≤ S20016x2x128.size a := fun v5145 k0_hw208 => k0_hw208.2

def k0_off291 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c16_i32_2539 : BitVec 32 := 16#32
  let v5167 : BitVec 32 := Scalar.addi v4782 c16_i32_2539
  let v5168 : Index := Scalar.indexCast v5167
  ![v5168.toNat]
def k0_mult211 (v5169 : BitVec 32) : BitVec 32 :=
  let c3_i32_2540 : BitVec 32 := 3#32
  let v5170 : BitVec 32 := Scalar.shrsi v5169 c3_i32_2540
  let c3_i32_2541 : BitVec 32 := 3#32
  let v5171 : BitVec 32 := Scalar.shli v5170 c3_i32_2541
  v5171

def k0_off292 (v5169 : BitVec 32) : Fin 3 → Nat :=
  let c3_i32_2540 : BitVec 32 := 3#32
  let v5170 : BitVec 32 := Scalar.shrsi v5169 c3_i32_2540
  let c3_i32_2541 : BitVec 32 := 3#32
  let v5171 : BitVec 32 := Scalar.shli v5170 c3_i32_2541
  let v5172 : BitVec 32 := v5171
  let v5173 : Index := Scalar.indexCast v5172
  let c0_2542 : Index := 0#32
  ![v5173.toNat, 0, 0]

def k0_chk209 (v5169 : BitVec 32) : Prop :=
  (8 ∣ (k0_mult211 v5169).toNat) ∧
  (∀ a, (k0_off292 v5169) a + S8x2x128.size a ≤ S20016x2x128.size a)
theorem k0_mult211_dvd : ∀ (v5169 : BitVec 32) (k0_hw209 : k0_chk209 v5169), 8 ∣ (k0_mult211 v5169).toNat := fun v5169 k0_hw209 => k0_hw209.1
theorem k0_off292_inb : ∀ (v5169 : BitVec 32) (k0_hw209 : k0_chk209 v5169), ∀ a, (k0_off292 v5169) a + S8x2x128.size a ≤ S20016x2x128.size a := fun v5169 k0_hw209 => k0_hw209.2

def k0_off293 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c17_i32_2551 : BitVec 32 := 17#32
  let v5191 : BitVec 32 := Scalar.addi v4782 c17_i32_2551
  let v5192 : Index := Scalar.indexCast v5191
  ![v5192.toNat]
def k0_mult212 (v5193 : BitVec 32) : BitVec 32 :=
  let c3_i32_2552 : BitVec 32 := 3#32
  let v5194 : BitVec 32 := Scalar.shrsi v5193 c3_i32_2552
  let c3_i32_2553 : BitVec 32 := 3#32
  let v5195 : BitVec 32 := Scalar.shli v5194 c3_i32_2553
  v5195

def k0_off294 (v5193 : BitVec 32) : Fin 3 → Nat :=
  let c3_i32_2552 : BitVec 32 := 3#32
  let v5194 : BitVec 32 := Scalar.shrsi v5193 c3_i32_2552
  let c3_i32_2553 : BitVec 32 := 3#32
  let v5195 : BitVec 32 := Scalar.shli v5194 c3_i32_2553
  let v5196 : BitVec 32 := v5195
  let v5197 : Index := Scalar.indexCast v5196
  let c0_2554 : Index := 0#32
  ![v5197.toNat, 0, 0]

def k0_chk210 (v5193 : BitVec 32) : Prop :=
  (8 ∣ (k0_mult212 v5193).toNat) ∧
  (∀ a, (k0_off294 v5193) a + S8x2x128.size a ≤ S20016x2x128.size a)
theorem k0_mult212_dvd : ∀ (v5193 : BitVec 32) (k0_hw210 : k0_chk210 v5193), 8 ∣ (k0_mult212 v5193).toNat := fun v5193 k0_hw210 => k0_hw210.1
theorem k0_off294_inb : ∀ (v5193 : BitVec 32) (k0_hw210 : k0_chk210 v5193), ∀ a, (k0_off294 v5193) a + S8x2x128.size a ≤ S20016x2x128.size a := fun v5193 k0_hw210 => k0_hw210.2

def k0_off295 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c18_i32_2563 : BitVec 32 := 18#32
  let v5215 : BitVec 32 := Scalar.addi v4782 c18_i32_2563
  let v5216 : Index := Scalar.indexCast v5215
  ![v5216.toNat]
def k0_mult213 (v5217 : BitVec 32) : BitVec 32 :=
  let c3_i32_2564 : BitVec 32 := 3#32
  let v5218 : BitVec 32 := Scalar.shrsi v5217 c3_i32_2564
  let c3_i32_2565 : BitVec 32 := 3#32
  let v5219 : BitVec 32 := Scalar.shli v5218 c3_i32_2565
  v5219

def k0_off296 (v5217 : BitVec 32) : Fin 3 → Nat :=
  let c3_i32_2564 : BitVec 32 := 3#32
  let v5218 : BitVec 32 := Scalar.shrsi v5217 c3_i32_2564
  let c3_i32_2565 : BitVec 32 := 3#32
  let v5219 : BitVec 32 := Scalar.shli v5218 c3_i32_2565
  let v5220 : BitVec 32 := v5219
  let v5221 : Index := Scalar.indexCast v5220
  let c0_2566 : Index := 0#32
  ![v5221.toNat, 0, 0]

def k0_chk211 (v5217 : BitVec 32) : Prop :=
  (8 ∣ (k0_mult213 v5217).toNat) ∧
  (∀ a, (k0_off296 v5217) a + S8x2x128.size a ≤ S20016x2x128.size a)
theorem k0_mult213_dvd : ∀ (v5217 : BitVec 32) (k0_hw211 : k0_chk211 v5217), 8 ∣ (k0_mult213 v5217).toNat := fun v5217 k0_hw211 => k0_hw211.1
theorem k0_off296_inb : ∀ (v5217 : BitVec 32) (k0_hw211 : k0_chk211 v5217), ∀ a, (k0_off296 v5217) a + S8x2x128.size a ≤ S20016x2x128.size a := fun v5217 k0_hw211 => k0_hw211.2

def k0_off297 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c19_i32_2575 : BitVec 32 := 19#32
  let v5239 : BitVec 32 := Scalar.addi v4782 c19_i32_2575
  let v5240 : Index := Scalar.indexCast v5239
  ![v5240.toNat]
def k0_mult214 (v5241 : BitVec 32) : BitVec 32 :=
  let c3_i32_2576 : BitVec 32 := 3#32
  let v5242 : BitVec 32 := Scalar.shrsi v5241 c3_i32_2576
  let c3_i32_2577 : BitVec 32 := 3#32
  let v5243 : BitVec 32 := Scalar.shli v5242 c3_i32_2577
  v5243

def k0_off298 (v5241 : BitVec 32) : Fin 3 → Nat :=
  let c3_i32_2576 : BitVec 32 := 3#32
  let v5242 : BitVec 32 := Scalar.shrsi v5241 c3_i32_2576
  let c3_i32_2577 : BitVec 32 := 3#32
  let v5243 : BitVec 32 := Scalar.shli v5242 c3_i32_2577
  let v5244 : BitVec 32 := v5243
  let v5245 : Index := Scalar.indexCast v5244
  let c0_2578 : Index := 0#32
  ![v5245.toNat, 0, 0]

def k0_chk212 (v5241 : BitVec 32) : Prop :=
  (8 ∣ (k0_mult214 v5241).toNat) ∧
  (∀ a, (k0_off298 v5241) a + S8x2x128.size a ≤ S20016x2x128.size a)
theorem k0_mult214_dvd : ∀ (v5241 : BitVec 32) (k0_hw212 : k0_chk212 v5241), 8 ∣ (k0_mult214 v5241).toNat := fun v5241 k0_hw212 => k0_hw212.1
theorem k0_off298_inb : ∀ (v5241 : BitVec 32) (k0_hw212 : k0_chk212 v5241), ∀ a, (k0_off298 v5241) a + S8x2x128.size a ≤ S20016x2x128.size a := fun v5241 k0_hw212 => k0_hw212.2

def k0_off299 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c20_i32_2587 : BitVec 32 := 20#32
  let v5263 : BitVec 32 := Scalar.addi v4782 c20_i32_2587
  let v5264 : Index := Scalar.indexCast v5263
  ![v5264.toNat]
def k0_mult215 (v5265 : BitVec 32) : BitVec 32 :=
  let c3_i32_2588 : BitVec 32 := 3#32
  let v5266 : BitVec 32 := Scalar.shrsi v5265 c3_i32_2588
  let c3_i32_2589 : BitVec 32 := 3#32
  let v5267 : BitVec 32 := Scalar.shli v5266 c3_i32_2589
  v5267

def k0_off300 (v5265 : BitVec 32) : Fin 3 → Nat :=
  let c3_i32_2588 : BitVec 32 := 3#32
  let v5266 : BitVec 32 := Scalar.shrsi v5265 c3_i32_2588
  let c3_i32_2589 : BitVec 32 := 3#32
  let v5267 : BitVec 32 := Scalar.shli v5266 c3_i32_2589
  let v5268 : BitVec 32 := v5267
  let v5269 : Index := Scalar.indexCast v5268
  let c0_2590 : Index := 0#32
  ![v5269.toNat, 0, 0]

def k0_chk213 (v5265 : BitVec 32) : Prop :=
  (8 ∣ (k0_mult215 v5265).toNat) ∧
  (∀ a, (k0_off300 v5265) a + S8x2x128.size a ≤ S20016x2x128.size a)
theorem k0_mult215_dvd : ∀ (v5265 : BitVec 32) (k0_hw213 : k0_chk213 v5265), 8 ∣ (k0_mult215 v5265).toNat := fun v5265 k0_hw213 => k0_hw213.1
theorem k0_off300_inb : ∀ (v5265 : BitVec 32) (k0_hw213 : k0_chk213 v5265), ∀ a, (k0_off300 v5265) a + S8x2x128.size a ≤ S20016x2x128.size a := fun v5265 k0_hw213 => k0_hw213.2

def k0_off301 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c21_i32_2599 : BitVec 32 := 21#32
  let v5287 : BitVec 32 := Scalar.addi v4782 c21_i32_2599
  let v5288 : Index := Scalar.indexCast v5287
  ![v5288.toNat]
def k0_mult216 (v5289 : BitVec 32) : BitVec 32 :=
  let c3_i32_2600 : BitVec 32 := 3#32
  let v5290 : BitVec 32 := Scalar.shrsi v5289 c3_i32_2600
  let c3_i32_2601 : BitVec 32 := 3#32
  let v5291 : BitVec 32 := Scalar.shli v5290 c3_i32_2601
  v5291

def k0_off302 (v5289 : BitVec 32) : Fin 3 → Nat :=
  let c3_i32_2600 : BitVec 32 := 3#32
  let v5290 : BitVec 32 := Scalar.shrsi v5289 c3_i32_2600
  let c3_i32_2601 : BitVec 32 := 3#32
  let v5291 : BitVec 32 := Scalar.shli v5290 c3_i32_2601
  let v5292 : BitVec 32 := v5291
  let v5293 : Index := Scalar.indexCast v5292
  let c0_2602 : Index := 0#32
  ![v5293.toNat, 0, 0]

def k0_chk214 (v5289 : BitVec 32) : Prop :=
  (8 ∣ (k0_mult216 v5289).toNat) ∧
  (∀ a, (k0_off302 v5289) a + S8x2x128.size a ≤ S20016x2x128.size a)
theorem k0_mult216_dvd : ∀ (v5289 : BitVec 32) (k0_hw214 : k0_chk214 v5289), 8 ∣ (k0_mult216 v5289).toNat := fun v5289 k0_hw214 => k0_hw214.1
theorem k0_off302_inb : ∀ (v5289 : BitVec 32) (k0_hw214 : k0_chk214 v5289), ∀ a, (k0_off302 v5289) a + S8x2x128.size a ≤ S20016x2x128.size a := fun v5289 k0_hw214 => k0_hw214.2

def k0_off303 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c22_i32_2611 : BitVec 32 := 22#32
  let v5311 : BitVec 32 := Scalar.addi v4782 c22_i32_2611
  let v5312 : Index := Scalar.indexCast v5311
  ![v5312.toNat]
def k0_mult217 (v5313 : BitVec 32) : BitVec 32 :=
  let c3_i32_2612 : BitVec 32 := 3#32
  let v5314 : BitVec 32 := Scalar.shrsi v5313 c3_i32_2612
  let c3_i32_2613 : BitVec 32 := 3#32
  let v5315 : BitVec 32 := Scalar.shli v5314 c3_i32_2613
  v5315

def k0_off304 (v5313 : BitVec 32) : Fin 3 → Nat :=
  let c3_i32_2612 : BitVec 32 := 3#32
  let v5314 : BitVec 32 := Scalar.shrsi v5313 c3_i32_2612
  let c3_i32_2613 : BitVec 32 := 3#32
  let v5315 : BitVec 32 := Scalar.shli v5314 c3_i32_2613
  let v5316 : BitVec 32 := v5315
  let v5317 : Index := Scalar.indexCast v5316
  let c0_2614 : Index := 0#32
  ![v5317.toNat, 0, 0]

def k0_chk215 (v5313 : BitVec 32) : Prop :=
  (8 ∣ (k0_mult217 v5313).toNat) ∧
  (∀ a, (k0_off304 v5313) a + S8x2x128.size a ≤ S20016x2x128.size a)
theorem k0_mult217_dvd : ∀ (v5313 : BitVec 32) (k0_hw215 : k0_chk215 v5313), 8 ∣ (k0_mult217 v5313).toNat := fun v5313 k0_hw215 => k0_hw215.1
theorem k0_off304_inb : ∀ (v5313 : BitVec 32) (k0_hw215 : k0_chk215 v5313), ∀ a, (k0_off304 v5313) a + S8x2x128.size a ≤ S20016x2x128.size a := fun v5313 k0_hw215 => k0_hw215.2

def k0_off305 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c23_i32_2623 : BitVec 32 := 23#32
  let v5335 : BitVec 32 := Scalar.addi v4782 c23_i32_2623
  let v5336 : Index := Scalar.indexCast v5335
  ![v5336.toNat]
def k0_mult218 (v5337 : BitVec 32) : BitVec 32 :=
  let c3_i32_2624 : BitVec 32 := 3#32
  let v5338 : BitVec 32 := Scalar.shrsi v5337 c3_i32_2624
  let c3_i32_2625 : BitVec 32 := 3#32
  let v5339 : BitVec 32 := Scalar.shli v5338 c3_i32_2625
  v5339

def k0_off306 (v5337 : BitVec 32) : Fin 3 → Nat :=
  let c3_i32_2624 : BitVec 32 := 3#32
  let v5338 : BitVec 32 := Scalar.shrsi v5337 c3_i32_2624
  let c3_i32_2625 : BitVec 32 := 3#32
  let v5339 : BitVec 32 := Scalar.shli v5338 c3_i32_2625
  let v5340 : BitVec 32 := v5339
  let v5341 : Index := Scalar.indexCast v5340
  let c0_2626 : Index := 0#32
  ![v5341.toNat, 0, 0]

def k0_chk216 (v5337 : BitVec 32) : Prop :=
  (8 ∣ (k0_mult218 v5337).toNat) ∧
  (∀ a, (k0_off306 v5337) a + S8x2x128.size a ≤ S20016x2x128.size a)
theorem k0_mult218_dvd : ∀ (v5337 : BitVec 32) (k0_hw216 : k0_chk216 v5337), 8 ∣ (k0_mult218 v5337).toNat := fun v5337 k0_hw216 => k0_hw216.1
theorem k0_off306_inb : ∀ (v5337 : BitVec 32) (k0_hw216 : k0_chk216 v5337), ∀ a, (k0_off306 v5337) a + S8x2x128.size a ≤ S20016x2x128.size a := fun v5337 k0_hw216 => k0_hw216.2

def k0_off307 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c24_i32_2635 : BitVec 32 := 24#32
  let v5359 : BitVec 32 := Scalar.addi v4782 c24_i32_2635
  let v5360 : Index := Scalar.indexCast v5359
  ![v5360.toNat]
def k0_mult219 (v5361 : BitVec 32) : BitVec 32 :=
  let c3_i32_2636 : BitVec 32 := 3#32
  let v5362 : BitVec 32 := Scalar.shrsi v5361 c3_i32_2636
  let c3_i32_2637 : BitVec 32 := 3#32
  let v5363 : BitVec 32 := Scalar.shli v5362 c3_i32_2637
  v5363

def k0_off308 (v5361 : BitVec 32) : Fin 3 → Nat :=
  let c3_i32_2636 : BitVec 32 := 3#32
  let v5362 : BitVec 32 := Scalar.shrsi v5361 c3_i32_2636
  let c3_i32_2637 : BitVec 32 := 3#32
  let v5363 : BitVec 32 := Scalar.shli v5362 c3_i32_2637
  let v5364 : BitVec 32 := v5363
  let v5365 : Index := Scalar.indexCast v5364
  let c0_2638 : Index := 0#32
  ![v5365.toNat, 0, 0]

def k0_chk217 (v5361 : BitVec 32) : Prop :=
  (8 ∣ (k0_mult219 v5361).toNat) ∧
  (∀ a, (k0_off308 v5361) a + S8x2x128.size a ≤ S20016x2x128.size a)
theorem k0_mult219_dvd : ∀ (v5361 : BitVec 32) (k0_hw217 : k0_chk217 v5361), 8 ∣ (k0_mult219 v5361).toNat := fun v5361 k0_hw217 => k0_hw217.1
theorem k0_off308_inb : ∀ (v5361 : BitVec 32) (k0_hw217 : k0_chk217 v5361), ∀ a, (k0_off308 v5361) a + S8x2x128.size a ≤ S20016x2x128.size a := fun v5361 k0_hw217 => k0_hw217.2

def k0_off309 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c25_i32_2647 : BitVec 32 := 25#32
  let v5383 : BitVec 32 := Scalar.addi v4782 c25_i32_2647
  let v5384 : Index := Scalar.indexCast v5383
  ![v5384.toNat]
def k0_mult220 (v5385 : BitVec 32) : BitVec 32 :=
  let c3_i32_2648 : BitVec 32 := 3#32
  let v5386 : BitVec 32 := Scalar.shrsi v5385 c3_i32_2648
  let c3_i32_2649 : BitVec 32 := 3#32
  let v5387 : BitVec 32 := Scalar.shli v5386 c3_i32_2649
  v5387

def k0_off310 (v5385 : BitVec 32) : Fin 3 → Nat :=
  let c3_i32_2648 : BitVec 32 := 3#32
  let v5386 : BitVec 32 := Scalar.shrsi v5385 c3_i32_2648
  let c3_i32_2649 : BitVec 32 := 3#32
  let v5387 : BitVec 32 := Scalar.shli v5386 c3_i32_2649
  let v5388 : BitVec 32 := v5387
  let v5389 : Index := Scalar.indexCast v5388
  let c0_2650 : Index := 0#32
  ![v5389.toNat, 0, 0]

def k0_chk218 (v5385 : BitVec 32) : Prop :=
  (8 ∣ (k0_mult220 v5385).toNat) ∧
  (∀ a, (k0_off310 v5385) a + S8x2x128.size a ≤ S20016x2x128.size a)
theorem k0_mult220_dvd : ∀ (v5385 : BitVec 32) (k0_hw218 : k0_chk218 v5385), 8 ∣ (k0_mult220 v5385).toNat := fun v5385 k0_hw218 => k0_hw218.1
theorem k0_off310_inb : ∀ (v5385 : BitVec 32) (k0_hw218 : k0_chk218 v5385), ∀ a, (k0_off310 v5385) a + S8x2x128.size a ≤ S20016x2x128.size a := fun v5385 k0_hw218 => k0_hw218.2

def k0_off311 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c26_i32_2659 : BitVec 32 := 26#32
  let v5407 : BitVec 32 := Scalar.addi v4782 c26_i32_2659
  let v5408 : Index := Scalar.indexCast v5407
  ![v5408.toNat]
def k0_mult221 (v5409 : BitVec 32) : BitVec 32 :=
  let c3_i32_2660 : BitVec 32 := 3#32
  let v5410 : BitVec 32 := Scalar.shrsi v5409 c3_i32_2660
  let c3_i32_2661 : BitVec 32 := 3#32
  let v5411 : BitVec 32 := Scalar.shli v5410 c3_i32_2661
  v5411

def k0_off312 (v5409 : BitVec 32) : Fin 3 → Nat :=
  let c3_i32_2660 : BitVec 32 := 3#32
  let v5410 : BitVec 32 := Scalar.shrsi v5409 c3_i32_2660
  let c3_i32_2661 : BitVec 32 := 3#32
  let v5411 : BitVec 32 := Scalar.shli v5410 c3_i32_2661
  let v5412 : BitVec 32 := v5411
  let v5413 : Index := Scalar.indexCast v5412
  let c0_2662 : Index := 0#32
  ![v5413.toNat, 0, 0]

def k0_chk219 (v5409 : BitVec 32) : Prop :=
  (8 ∣ (k0_mult221 v5409).toNat) ∧
  (∀ a, (k0_off312 v5409) a + S8x2x128.size a ≤ S20016x2x128.size a)
theorem k0_mult221_dvd : ∀ (v5409 : BitVec 32) (k0_hw219 : k0_chk219 v5409), 8 ∣ (k0_mult221 v5409).toNat := fun v5409 k0_hw219 => k0_hw219.1
theorem k0_off312_inb : ∀ (v5409 : BitVec 32) (k0_hw219 : k0_chk219 v5409), ∀ a, (k0_off312 v5409) a + S8x2x128.size a ≤ S20016x2x128.size a := fun v5409 k0_hw219 => k0_hw219.2

def k0_off313 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c27_i32_2671 : BitVec 32 := 27#32
  let v5431 : BitVec 32 := Scalar.addi v4782 c27_i32_2671
  let v5432 : Index := Scalar.indexCast v5431
  ![v5432.toNat]
def k0_mult222 (v5433 : BitVec 32) : BitVec 32 :=
  let c3_i32_2672 : BitVec 32 := 3#32
  let v5434 : BitVec 32 := Scalar.shrsi v5433 c3_i32_2672
  let c3_i32_2673 : BitVec 32 := 3#32
  let v5435 : BitVec 32 := Scalar.shli v5434 c3_i32_2673
  v5435

def k0_off314 (v5433 : BitVec 32) : Fin 3 → Nat :=
  let c3_i32_2672 : BitVec 32 := 3#32
  let v5434 : BitVec 32 := Scalar.shrsi v5433 c3_i32_2672
  let c3_i32_2673 : BitVec 32 := 3#32
  let v5435 : BitVec 32 := Scalar.shli v5434 c3_i32_2673
  let v5436 : BitVec 32 := v5435
  let v5437 : Index := Scalar.indexCast v5436
  let c0_2674 : Index := 0#32
  ![v5437.toNat, 0, 0]

def k0_chk220 (v5433 : BitVec 32) : Prop :=
  (8 ∣ (k0_mult222 v5433).toNat) ∧
  (∀ a, (k0_off314 v5433) a + S8x2x128.size a ≤ S20016x2x128.size a)
theorem k0_mult222_dvd : ∀ (v5433 : BitVec 32) (k0_hw220 : k0_chk220 v5433), 8 ∣ (k0_mult222 v5433).toNat := fun v5433 k0_hw220 => k0_hw220.1
theorem k0_off314_inb : ∀ (v5433 : BitVec 32) (k0_hw220 : k0_chk220 v5433), ∀ a, (k0_off314 v5433) a + S8x2x128.size a ≤ S20016x2x128.size a := fun v5433 k0_hw220 => k0_hw220.2

def k0_off315 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c28_i32_2683 : BitVec 32 := 28#32
  let v5455 : BitVec 32 := Scalar.addi v4782 c28_i32_2683
  let v5456 : Index := Scalar.indexCast v5455
  ![v5456.toNat]
def k0_mult223 (v5457 : BitVec 32) : BitVec 32 :=
  let c3_i32_2684 : BitVec 32 := 3#32
  let v5458 : BitVec 32 := Scalar.shrsi v5457 c3_i32_2684
  let c3_i32_2685 : BitVec 32 := 3#32
  let v5459 : BitVec 32 := Scalar.shli v5458 c3_i32_2685
  v5459

def k0_off316 (v5457 : BitVec 32) : Fin 3 → Nat :=
  let c3_i32_2684 : BitVec 32 := 3#32
  let v5458 : BitVec 32 := Scalar.shrsi v5457 c3_i32_2684
  let c3_i32_2685 : BitVec 32 := 3#32
  let v5459 : BitVec 32 := Scalar.shli v5458 c3_i32_2685
  let v5460 : BitVec 32 := v5459
  let v5461 : Index := Scalar.indexCast v5460
  let c0_2686 : Index := 0#32
  ![v5461.toNat, 0, 0]

def k0_chk221 (v5457 : BitVec 32) : Prop :=
  (8 ∣ (k0_mult223 v5457).toNat) ∧
  (∀ a, (k0_off316 v5457) a + S8x2x128.size a ≤ S20016x2x128.size a)
theorem k0_mult223_dvd : ∀ (v5457 : BitVec 32) (k0_hw221 : k0_chk221 v5457), 8 ∣ (k0_mult223 v5457).toNat := fun v5457 k0_hw221 => k0_hw221.1
theorem k0_off316_inb : ∀ (v5457 : BitVec 32) (k0_hw221 : k0_chk221 v5457), ∀ a, (k0_off316 v5457) a + S8x2x128.size a ≤ S20016x2x128.size a := fun v5457 k0_hw221 => k0_hw221.2

def k0_off317 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c29_i32_2695 : BitVec 32 := 29#32
  let v5479 : BitVec 32 := Scalar.addi v4782 c29_i32_2695
  let v5480 : Index := Scalar.indexCast v5479
  ![v5480.toNat]
def k0_mult224 (v5481 : BitVec 32) : BitVec 32 :=
  let c3_i32_2696 : BitVec 32 := 3#32
  let v5482 : BitVec 32 := Scalar.shrsi v5481 c3_i32_2696
  let c3_i32_2697 : BitVec 32 := 3#32
  let v5483 : BitVec 32 := Scalar.shli v5482 c3_i32_2697
  v5483

def k0_off318 (v5481 : BitVec 32) : Fin 3 → Nat :=
  let c3_i32_2696 : BitVec 32 := 3#32
  let v5482 : BitVec 32 := Scalar.shrsi v5481 c3_i32_2696
  let c3_i32_2697 : BitVec 32 := 3#32
  let v5483 : BitVec 32 := Scalar.shli v5482 c3_i32_2697
  let v5484 : BitVec 32 := v5483
  let v5485 : Index := Scalar.indexCast v5484
  let c0_2698 : Index := 0#32
  ![v5485.toNat, 0, 0]

def k0_chk222 (v5481 : BitVec 32) : Prop :=
  (8 ∣ (k0_mult224 v5481).toNat) ∧
  (∀ a, (k0_off318 v5481) a + S8x2x128.size a ≤ S20016x2x128.size a)
theorem k0_mult224_dvd : ∀ (v5481 : BitVec 32) (k0_hw222 : k0_chk222 v5481), 8 ∣ (k0_mult224 v5481).toNat := fun v5481 k0_hw222 => k0_hw222.1
theorem k0_off318_inb : ∀ (v5481 : BitVec 32) (k0_hw222 : k0_chk222 v5481), ∀ a, (k0_off318 v5481) a + S8x2x128.size a ≤ S20016x2x128.size a := fun v5481 k0_hw222 => k0_hw222.2

def k0_off319 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c30_i32_2707 : BitVec 32 := 30#32
  let v5503 : BitVec 32 := Scalar.addi v4782 c30_i32_2707
  let v5504 : Index := Scalar.indexCast v5503
  ![v5504.toNat]
def k0_mult225 (v5505 : BitVec 32) : BitVec 32 :=
  let c3_i32_2708 : BitVec 32 := 3#32
  let v5506 : BitVec 32 := Scalar.shrsi v5505 c3_i32_2708
  let c3_i32_2709 : BitVec 32 := 3#32
  let v5507 : BitVec 32 := Scalar.shli v5506 c3_i32_2709
  v5507

def k0_off320 (v5505 : BitVec 32) : Fin 3 → Nat :=
  let c3_i32_2708 : BitVec 32 := 3#32
  let v5506 : BitVec 32 := Scalar.shrsi v5505 c3_i32_2708
  let c3_i32_2709 : BitVec 32 := 3#32
  let v5507 : BitVec 32 := Scalar.shli v5506 c3_i32_2709
  let v5508 : BitVec 32 := v5507
  let v5509 : Index := Scalar.indexCast v5508
  let c0_2710 : Index := 0#32
  ![v5509.toNat, 0, 0]

def k0_chk223 (v5505 : BitVec 32) : Prop :=
  (8 ∣ (k0_mult225 v5505).toNat) ∧
  (∀ a, (k0_off320 v5505) a + S8x2x128.size a ≤ S20016x2x128.size a)
theorem k0_mult225_dvd : ∀ (v5505 : BitVec 32) (k0_hw223 : k0_chk223 v5505), 8 ∣ (k0_mult225 v5505).toNat := fun v5505 k0_hw223 => k0_hw223.1
theorem k0_off320_inb : ∀ (v5505 : BitVec 32) (k0_hw223 : k0_chk223 v5505), ∀ a, (k0_off320 v5505) a + S8x2x128.size a ≤ S20016x2x128.size a := fun v5505 k0_hw223 => k0_hw223.2

def k0_off321 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c31_i32_2719 : BitVec 32 := 31#32
  let v5527 : BitVec 32 := Scalar.addi v4782 c31_i32_2719
  let v5528 : Index := Scalar.indexCast v5527
  ![v5528.toNat]
def k0_mult226 (v5529 : BitVec 32) : BitVec 32 :=
  let c3_i32_2720 : BitVec 32 := 3#32
  let v5530 : BitVec 32 := Scalar.shrsi v5529 c3_i32_2720
  let c3_i32_2721 : BitVec 32 := 3#32
  let v5531 : BitVec 32 := Scalar.shli v5530 c3_i32_2721
  v5531

def k0_off322 (v5529 : BitVec 32) : Fin 3 → Nat :=
  let c3_i32_2720 : BitVec 32 := 3#32
  let v5530 : BitVec 32 := Scalar.shrsi v5529 c3_i32_2720
  let c3_i32_2721 : BitVec 32 := 3#32
  let v5531 : BitVec 32 := Scalar.shli v5530 c3_i32_2721
  let v5532 : BitVec 32 := v5531
  let v5533 : Index := Scalar.indexCast v5532
  let c0_2722 : Index := 0#32
  ![v5533.toNat, 0, 0]

def k0_chk224 (v5529 : BitVec 32) : Prop :=
  (8 ∣ (k0_mult226 v5529).toNat) ∧
  (∀ a, (k0_off322 v5529) a + S8x2x128.size a ≤ S20016x2x128.size a)
theorem k0_mult226_dvd : ∀ (v5529 : BitVec 32) (k0_hw224 : k0_chk224 v5529), 8 ∣ (k0_mult226 v5529).toNat := fun v5529 k0_hw224 => k0_hw224.1
theorem k0_off322_inb : ∀ (v5529 : BitVec 32) (k0_hw224 : k0_chk224 v5529), ∀ a, (k0_off322 v5529) a + S8x2x128.size a ≤ S20016x2x128.size a := fun v5529 k0_hw224 => k0_hw224.2

def k0_off323 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c32_i32_2731 : BitVec 32 := 32#32
  let v5551 : BitVec 32 := Scalar.addi v4782 c32_i32_2731
  let v5552 : Index := Scalar.indexCast v5551
  ![v5552.toNat]
def k0_mult227 (v5553 : BitVec 32) : BitVec 32 :=
  let c3_i32_2732 : BitVec 32 := 3#32
  let v5554 : BitVec 32 := Scalar.shrsi v5553 c3_i32_2732
  let c3_i32_2733 : BitVec 32 := 3#32
  let v5555 : BitVec 32 := Scalar.shli v5554 c3_i32_2733
  v5555

def k0_off324 (v5553 : BitVec 32) : Fin 3 → Nat :=
  let c3_i32_2732 : BitVec 32 := 3#32
  let v5554 : BitVec 32 := Scalar.shrsi v5553 c3_i32_2732
  let c3_i32_2733 : BitVec 32 := 3#32
  let v5555 : BitVec 32 := Scalar.shli v5554 c3_i32_2733
  let v5556 : BitVec 32 := v5555
  let v5557 : Index := Scalar.indexCast v5556
  let c0_2734 : Index := 0#32
  ![v5557.toNat, 0, 0]

def k0_chk225 (v5553 : BitVec 32) : Prop :=
  (8 ∣ (k0_mult227 v5553).toNat) ∧
  (∀ a, (k0_off324 v5553) a + S8x2x128.size a ≤ S20016x2x128.size a)
theorem k0_mult227_dvd : ∀ (v5553 : BitVec 32) (k0_hw225 : k0_chk225 v5553), 8 ∣ (k0_mult227 v5553).toNat := fun v5553 k0_hw225 => k0_hw225.1
theorem k0_off324_inb : ∀ (v5553 : BitVec 32) (k0_hw225 : k0_chk225 v5553), ∀ a, (k0_off324 v5553) a + S8x2x128.size a ≤ S20016x2x128.size a := fun v5553 k0_hw225 => k0_hw225.2

def k0_off325 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c33_i32_2743 : BitVec 32 := 33#32
  let v5575 : BitVec 32 := Scalar.addi v4782 c33_i32_2743
  let v5576 : Index := Scalar.indexCast v5575
  ![v5576.toNat]
def k0_mult228 (v5577 : BitVec 32) : BitVec 32 :=
  let c3_i32_2744 : BitVec 32 := 3#32
  let v5578 : BitVec 32 := Scalar.shrsi v5577 c3_i32_2744
  let c3_i32_2745 : BitVec 32 := 3#32
  let v5579 : BitVec 32 := Scalar.shli v5578 c3_i32_2745
  v5579

def k0_off326 (v5577 : BitVec 32) : Fin 3 → Nat :=
  let c3_i32_2744 : BitVec 32 := 3#32
  let v5578 : BitVec 32 := Scalar.shrsi v5577 c3_i32_2744
  let c3_i32_2745 : BitVec 32 := 3#32
  let v5579 : BitVec 32 := Scalar.shli v5578 c3_i32_2745
  let v5580 : BitVec 32 := v5579
  let v5581 : Index := Scalar.indexCast v5580
  let c0_2746 : Index := 0#32
  ![v5581.toNat, 0, 0]

def k0_chk226 (v5577 : BitVec 32) : Prop :=
  (8 ∣ (k0_mult228 v5577).toNat) ∧
  (∀ a, (k0_off326 v5577) a + S8x2x128.size a ≤ S20016x2x128.size a)
theorem k0_mult228_dvd : ∀ (v5577 : BitVec 32) (k0_hw226 : k0_chk226 v5577), 8 ∣ (k0_mult228 v5577).toNat := fun v5577 k0_hw226 => k0_hw226.1
theorem k0_off326_inb : ∀ (v5577 : BitVec 32) (k0_hw226 : k0_chk226 v5577), ∀ a, (k0_off326 v5577) a + S8x2x128.size a ≤ S20016x2x128.size a := fun v5577 k0_hw226 => k0_hw226.2

def k0_off327 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c34_i32_2755 : BitVec 32 := 34#32
  let v5599 : BitVec 32 := Scalar.addi v4782 c34_i32_2755
  let v5600 : Index := Scalar.indexCast v5599
  ![v5600.toNat]
def k0_mult229 (v5601 : BitVec 32) : BitVec 32 :=
  let c3_i32_2756 : BitVec 32 := 3#32
  let v5602 : BitVec 32 := Scalar.shrsi v5601 c3_i32_2756
  let c3_i32_2757 : BitVec 32 := 3#32
  let v5603 : BitVec 32 := Scalar.shli v5602 c3_i32_2757
  v5603

def k0_off328 (v5601 : BitVec 32) : Fin 3 → Nat :=
  let c3_i32_2756 : BitVec 32 := 3#32
  let v5602 : BitVec 32 := Scalar.shrsi v5601 c3_i32_2756
  let c3_i32_2757 : BitVec 32 := 3#32
  let v5603 : BitVec 32 := Scalar.shli v5602 c3_i32_2757
  let v5604 : BitVec 32 := v5603
  let v5605 : Index := Scalar.indexCast v5604
  let c0_2758 : Index := 0#32
  ![v5605.toNat, 0, 0]

def k0_chk227 (v5601 : BitVec 32) : Prop :=
  (8 ∣ (k0_mult229 v5601).toNat) ∧
  (∀ a, (k0_off328 v5601) a + S8x2x128.size a ≤ S20016x2x128.size a)
theorem k0_mult229_dvd : ∀ (v5601 : BitVec 32) (k0_hw227 : k0_chk227 v5601), 8 ∣ (k0_mult229 v5601).toNat := fun v5601 k0_hw227 => k0_hw227.1
theorem k0_off328_inb : ∀ (v5601 : BitVec 32) (k0_hw227 : k0_chk227 v5601), ∀ a, (k0_off328 v5601) a + S8x2x128.size a ≤ S20016x2x128.size a := fun v5601 k0_hw227 => k0_hw227.2

def k0_off329 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c35_i32_2767 : BitVec 32 := 35#32
  let v5623 : BitVec 32 := Scalar.addi v4782 c35_i32_2767
  let v5624 : Index := Scalar.indexCast v5623
  ![v5624.toNat]
def k0_mult230 (v5625 : BitVec 32) : BitVec 32 :=
  let c3_i32_2768 : BitVec 32 := 3#32
  let v5626 : BitVec 32 := Scalar.shrsi v5625 c3_i32_2768
  let c3_i32_2769 : BitVec 32 := 3#32
  let v5627 : BitVec 32 := Scalar.shli v5626 c3_i32_2769
  v5627

def k0_off330 (v5625 : BitVec 32) : Fin 3 → Nat :=
  let c3_i32_2768 : BitVec 32 := 3#32
  let v5626 : BitVec 32 := Scalar.shrsi v5625 c3_i32_2768
  let c3_i32_2769 : BitVec 32 := 3#32
  let v5627 : BitVec 32 := Scalar.shli v5626 c3_i32_2769
  let v5628 : BitVec 32 := v5627
  let v5629 : Index := Scalar.indexCast v5628
  let c0_2770 : Index := 0#32
  ![v5629.toNat, 0, 0]

def k0_chk228 (v5625 : BitVec 32) : Prop :=
  (8 ∣ (k0_mult230 v5625).toNat) ∧
  (∀ a, (k0_off330 v5625) a + S8x2x128.size a ≤ S20016x2x128.size a)
theorem k0_mult230_dvd : ∀ (v5625 : BitVec 32) (k0_hw228 : k0_chk228 v5625), 8 ∣ (k0_mult230 v5625).toNat := fun v5625 k0_hw228 => k0_hw228.1
theorem k0_off330_inb : ∀ (v5625 : BitVec 32) (k0_hw228 : k0_chk228 v5625), ∀ a, (k0_off330 v5625) a + S8x2x128.size a ≤ S20016x2x128.size a := fun v5625 k0_hw228 => k0_hw228.2

def k0_off331 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c36_i32_2779 : BitVec 32 := 36#32
  let v5647 : BitVec 32 := Scalar.addi v4782 c36_i32_2779
  let v5648 : Index := Scalar.indexCast v5647
  ![v5648.toNat]
def k0_mult231 (v5649 : BitVec 32) : BitVec 32 :=
  let c3_i32_2780 : BitVec 32 := 3#32
  let v5650 : BitVec 32 := Scalar.shrsi v5649 c3_i32_2780
  let c3_i32_2781 : BitVec 32 := 3#32
  let v5651 : BitVec 32 := Scalar.shli v5650 c3_i32_2781
  v5651

def k0_off332 (v5649 : BitVec 32) : Fin 3 → Nat :=
  let c3_i32_2780 : BitVec 32 := 3#32
  let v5650 : BitVec 32 := Scalar.shrsi v5649 c3_i32_2780
  let c3_i32_2781 : BitVec 32 := 3#32
  let v5651 : BitVec 32 := Scalar.shli v5650 c3_i32_2781
  let v5652 : BitVec 32 := v5651
  let v5653 : Index := Scalar.indexCast v5652
  let c0_2782 : Index := 0#32
  ![v5653.toNat, 0, 0]

def k0_chk229 (v5649 : BitVec 32) : Prop :=
  (8 ∣ (k0_mult231 v5649).toNat) ∧
  (∀ a, (k0_off332 v5649) a + S8x2x128.size a ≤ S20016x2x128.size a)
theorem k0_mult231_dvd : ∀ (v5649 : BitVec 32) (k0_hw229 : k0_chk229 v5649), 8 ∣ (k0_mult231 v5649).toNat := fun v5649 k0_hw229 => k0_hw229.1
theorem k0_off332_inb : ∀ (v5649 : BitVec 32) (k0_hw229 : k0_chk229 v5649), ∀ a, (k0_off332 v5649) a + S8x2x128.size a ≤ S20016x2x128.size a := fun v5649 k0_hw229 => k0_hw229.2

def k0_off333 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c37_i32_2791 : BitVec 32 := 37#32
  let v5671 : BitVec 32 := Scalar.addi v4782 c37_i32_2791
  let v5672 : Index := Scalar.indexCast v5671
  ![v5672.toNat]
def k0_mult232 (v5673 : BitVec 32) : BitVec 32 :=
  let c3_i32_2792 : BitVec 32 := 3#32
  let v5674 : BitVec 32 := Scalar.shrsi v5673 c3_i32_2792
  let c3_i32_2793 : BitVec 32 := 3#32
  let v5675 : BitVec 32 := Scalar.shli v5674 c3_i32_2793
  v5675

def k0_off334 (v5673 : BitVec 32) : Fin 3 → Nat :=
  let c3_i32_2792 : BitVec 32 := 3#32
  let v5674 : BitVec 32 := Scalar.shrsi v5673 c3_i32_2792
  let c3_i32_2793 : BitVec 32 := 3#32
  let v5675 : BitVec 32 := Scalar.shli v5674 c3_i32_2793
  let v5676 : BitVec 32 := v5675
  let v5677 : Index := Scalar.indexCast v5676
  let c0_2794 : Index := 0#32
  ![v5677.toNat, 0, 0]

def k0_chk230 (v5673 : BitVec 32) : Prop :=
  (8 ∣ (k0_mult232 v5673).toNat) ∧
  (∀ a, (k0_off334 v5673) a + S8x2x128.size a ≤ S20016x2x128.size a)
theorem k0_mult232_dvd : ∀ (v5673 : BitVec 32) (k0_hw230 : k0_chk230 v5673), 8 ∣ (k0_mult232 v5673).toNat := fun v5673 k0_hw230 => k0_hw230.1
theorem k0_off334_inb : ∀ (v5673 : BitVec 32) (k0_hw230 : k0_chk230 v5673), ∀ a, (k0_off334 v5673) a + S8x2x128.size a ≤ S20016x2x128.size a := fun v5673 k0_hw230 => k0_hw230.2

def k0_off335 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c38_i32_2803 : BitVec 32 := 38#32
  let v5695 : BitVec 32 := Scalar.addi v4782 c38_i32_2803
  let v5696 : Index := Scalar.indexCast v5695
  ![v5696.toNat]
def k0_mult233 (v5697 : BitVec 32) : BitVec 32 :=
  let c3_i32_2804 : BitVec 32 := 3#32
  let v5698 : BitVec 32 := Scalar.shrsi v5697 c3_i32_2804
  let c3_i32_2805 : BitVec 32 := 3#32
  let v5699 : BitVec 32 := Scalar.shli v5698 c3_i32_2805
  v5699

def k0_off336 (v5697 : BitVec 32) : Fin 3 → Nat :=
  let c3_i32_2804 : BitVec 32 := 3#32
  let v5698 : BitVec 32 := Scalar.shrsi v5697 c3_i32_2804
  let c3_i32_2805 : BitVec 32 := 3#32
  let v5699 : BitVec 32 := Scalar.shli v5698 c3_i32_2805
  let v5700 : BitVec 32 := v5699
  let v5701 : Index := Scalar.indexCast v5700
  let c0_2806 : Index := 0#32
  ![v5701.toNat, 0, 0]

def k0_chk231 (v5697 : BitVec 32) : Prop :=
  (8 ∣ (k0_mult233 v5697).toNat) ∧
  (∀ a, (k0_off336 v5697) a + S8x2x128.size a ≤ S20016x2x128.size a)
theorem k0_mult233_dvd : ∀ (v5697 : BitVec 32) (k0_hw231 : k0_chk231 v5697), 8 ∣ (k0_mult233 v5697).toNat := fun v5697 k0_hw231 => k0_hw231.1
theorem k0_off336_inb : ∀ (v5697 : BitVec 32) (k0_hw231 : k0_chk231 v5697), ∀ a, (k0_off336 v5697) a + S8x2x128.size a ≤ S20016x2x128.size a := fun v5697 k0_hw231 => k0_hw231.2

def k0_off337 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c39_i32_2815 : BitVec 32 := 39#32
  let v5719 : BitVec 32 := Scalar.addi v4782 c39_i32_2815
  let v5720 : Index := Scalar.indexCast v5719
  ![v5720.toNat]
def k0_mult234 (v5721 : BitVec 32) : BitVec 32 :=
  let c3_i32_2816 : BitVec 32 := 3#32
  let v5722 : BitVec 32 := Scalar.shrsi v5721 c3_i32_2816
  let c3_i32_2817 : BitVec 32 := 3#32
  let v5723 : BitVec 32 := Scalar.shli v5722 c3_i32_2817
  v5723

def k0_off338 (v5721 : BitVec 32) : Fin 3 → Nat :=
  let c3_i32_2816 : BitVec 32 := 3#32
  let v5722 : BitVec 32 := Scalar.shrsi v5721 c3_i32_2816
  let c3_i32_2817 : BitVec 32 := 3#32
  let v5723 : BitVec 32 := Scalar.shli v5722 c3_i32_2817
  let v5724 : BitVec 32 := v5723
  let v5725 : Index := Scalar.indexCast v5724
  let c0_2818 : Index := 0#32
  ![v5725.toNat, 0, 0]

def k0_chk232 (v5721 : BitVec 32) : Prop :=
  (8 ∣ (k0_mult234 v5721).toNat) ∧
  (∀ a, (k0_off338 v5721) a + S8x2x128.size a ≤ S20016x2x128.size a)
theorem k0_mult234_dvd : ∀ (v5721 : BitVec 32) (k0_hw232 : k0_chk232 v5721), 8 ∣ (k0_mult234 v5721).toNat := fun v5721 k0_hw232 => k0_hw232.1
theorem k0_off338_inb : ∀ (v5721 : BitVec 32) (k0_hw232 : k0_chk232 v5721), ∀ a, (k0_off338 v5721) a + S8x2x128.size a ≤ S20016x2x128.size a := fun v5721 k0_hw232 => k0_hw232.2

def k0_off339 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c40_i32_2827 : BitVec 32 := 40#32
  let v5743 : BitVec 32 := Scalar.addi v4782 c40_i32_2827
  let v5744 : Index := Scalar.indexCast v5743
  ![v5744.toNat]
def k0_mult235 (v5745 : BitVec 32) : BitVec 32 :=
  let c3_i32_2828 : BitVec 32 := 3#32
  let v5746 : BitVec 32 := Scalar.shrsi v5745 c3_i32_2828
  let c3_i32_2829 : BitVec 32 := 3#32
  let v5747 : BitVec 32 := Scalar.shli v5746 c3_i32_2829
  v5747

def k0_off340 (v5745 : BitVec 32) : Fin 3 → Nat :=
  let c3_i32_2828 : BitVec 32 := 3#32
  let v5746 : BitVec 32 := Scalar.shrsi v5745 c3_i32_2828
  let c3_i32_2829 : BitVec 32 := 3#32
  let v5747 : BitVec 32 := Scalar.shli v5746 c3_i32_2829
  let v5748 : BitVec 32 := v5747
  let v5749 : Index := Scalar.indexCast v5748
  let c0_2830 : Index := 0#32
  ![v5749.toNat, 0, 0]

def k0_chk233 (v5745 : BitVec 32) : Prop :=
  (8 ∣ (k0_mult235 v5745).toNat) ∧
  (∀ a, (k0_off340 v5745) a + S8x2x128.size a ≤ S20016x2x128.size a)
theorem k0_mult235_dvd : ∀ (v5745 : BitVec 32) (k0_hw233 : k0_chk233 v5745), 8 ∣ (k0_mult235 v5745).toNat := fun v5745 k0_hw233 => k0_hw233.1
theorem k0_off340_inb : ∀ (v5745 : BitVec 32) (k0_hw233 : k0_chk233 v5745), ∀ a, (k0_off340 v5745) a + S8x2x128.size a ≤ S20016x2x128.size a := fun v5745 k0_hw233 => k0_hw233.2

def k0_off341 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c41_i32_2839 : BitVec 32 := 41#32
  let v5767 : BitVec 32 := Scalar.addi v4782 c41_i32_2839
  let v5768 : Index := Scalar.indexCast v5767
  ![v5768.toNat]
def k0_mult236 (v5769 : BitVec 32) : BitVec 32 :=
  let c3_i32_2840 : BitVec 32 := 3#32
  let v5770 : BitVec 32 := Scalar.shrsi v5769 c3_i32_2840
  let c3_i32_2841 : BitVec 32 := 3#32
  let v5771 : BitVec 32 := Scalar.shli v5770 c3_i32_2841
  v5771

def k0_off342 (v5769 : BitVec 32) : Fin 3 → Nat :=
  let c3_i32_2840 : BitVec 32 := 3#32
  let v5770 : BitVec 32 := Scalar.shrsi v5769 c3_i32_2840
  let c3_i32_2841 : BitVec 32 := 3#32
  let v5771 : BitVec 32 := Scalar.shli v5770 c3_i32_2841
  let v5772 : BitVec 32 := v5771
  let v5773 : Index := Scalar.indexCast v5772
  let c0_2842 : Index := 0#32
  ![v5773.toNat, 0, 0]

def k0_chk234 (v5769 : BitVec 32) : Prop :=
  (8 ∣ (k0_mult236 v5769).toNat) ∧
  (∀ a, (k0_off342 v5769) a + S8x2x128.size a ≤ S20016x2x128.size a)
theorem k0_mult236_dvd : ∀ (v5769 : BitVec 32) (k0_hw234 : k0_chk234 v5769), 8 ∣ (k0_mult236 v5769).toNat := fun v5769 k0_hw234 => k0_hw234.1
theorem k0_off342_inb : ∀ (v5769 : BitVec 32) (k0_hw234 : k0_chk234 v5769), ∀ a, (k0_off342 v5769) a + S8x2x128.size a ≤ S20016x2x128.size a := fun v5769 k0_hw234 => k0_hw234.2

def k0_off343 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c42_i32_2851 : BitVec 32 := 42#32
  let v5791 : BitVec 32 := Scalar.addi v4782 c42_i32_2851
  let v5792 : Index := Scalar.indexCast v5791
  ![v5792.toNat]
def k0_mult237 (v5793 : BitVec 32) : BitVec 32 :=
  let c3_i32_2852 : BitVec 32 := 3#32
  let v5794 : BitVec 32 := Scalar.shrsi v5793 c3_i32_2852
  let c3_i32_2853 : BitVec 32 := 3#32
  let v5795 : BitVec 32 := Scalar.shli v5794 c3_i32_2853
  v5795

def k0_off344 (v5793 : BitVec 32) : Fin 3 → Nat :=
  let c3_i32_2852 : BitVec 32 := 3#32
  let v5794 : BitVec 32 := Scalar.shrsi v5793 c3_i32_2852
  let c3_i32_2853 : BitVec 32 := 3#32
  let v5795 : BitVec 32 := Scalar.shli v5794 c3_i32_2853
  let v5796 : BitVec 32 := v5795
  let v5797 : Index := Scalar.indexCast v5796
  let c0_2854 : Index := 0#32
  ![v5797.toNat, 0, 0]

def k0_chk235 (v5793 : BitVec 32) : Prop :=
  (8 ∣ (k0_mult237 v5793).toNat) ∧
  (∀ a, (k0_off344 v5793) a + S8x2x128.size a ≤ S20016x2x128.size a)
theorem k0_mult237_dvd : ∀ (v5793 : BitVec 32) (k0_hw235 : k0_chk235 v5793), 8 ∣ (k0_mult237 v5793).toNat := fun v5793 k0_hw235 => k0_hw235.1
theorem k0_off344_inb : ∀ (v5793 : BitVec 32) (k0_hw235 : k0_chk235 v5793), ∀ a, (k0_off344 v5793) a + S8x2x128.size a ≤ S20016x2x128.size a := fun v5793 k0_hw235 => k0_hw235.2

def k0_off345 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c43_i32_2863 : BitVec 32 := 43#32
  let v5815 : BitVec 32 := Scalar.addi v4782 c43_i32_2863
  let v5816 : Index := Scalar.indexCast v5815
  ![v5816.toNat]
def k0_mult238 (v5817 : BitVec 32) : BitVec 32 :=
  let c3_i32_2864 : BitVec 32 := 3#32
  let v5818 : BitVec 32 := Scalar.shrsi v5817 c3_i32_2864
  let c3_i32_2865 : BitVec 32 := 3#32
  let v5819 : BitVec 32 := Scalar.shli v5818 c3_i32_2865
  v5819

def k0_off346 (v5817 : BitVec 32) : Fin 3 → Nat :=
  let c3_i32_2864 : BitVec 32 := 3#32
  let v5818 : BitVec 32 := Scalar.shrsi v5817 c3_i32_2864
  let c3_i32_2865 : BitVec 32 := 3#32
  let v5819 : BitVec 32 := Scalar.shli v5818 c3_i32_2865
  let v5820 : BitVec 32 := v5819
  let v5821 : Index := Scalar.indexCast v5820
  let c0_2866 : Index := 0#32
  ![v5821.toNat, 0, 0]

def k0_chk236 (v5817 : BitVec 32) : Prop :=
  (8 ∣ (k0_mult238 v5817).toNat) ∧
  (∀ a, (k0_off346 v5817) a + S8x2x128.size a ≤ S20016x2x128.size a)
theorem k0_mult238_dvd : ∀ (v5817 : BitVec 32) (k0_hw236 : k0_chk236 v5817), 8 ∣ (k0_mult238 v5817).toNat := fun v5817 k0_hw236 => k0_hw236.1
theorem k0_off346_inb : ∀ (v5817 : BitVec 32) (k0_hw236 : k0_chk236 v5817), ∀ a, (k0_off346 v5817) a + S8x2x128.size a ≤ S20016x2x128.size a := fun v5817 k0_hw236 => k0_hw236.2

def k0_off347 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c44_i32_2875 : BitVec 32 := 44#32
  let v5839 : BitVec 32 := Scalar.addi v4782 c44_i32_2875
  let v5840 : Index := Scalar.indexCast v5839
  ![v5840.toNat]
def k0_mult239 (v5841 : BitVec 32) : BitVec 32 :=
  let c3_i32_2876 : BitVec 32 := 3#32
  let v5842 : BitVec 32 := Scalar.shrsi v5841 c3_i32_2876
  let c3_i32_2877 : BitVec 32 := 3#32
  let v5843 : BitVec 32 := Scalar.shli v5842 c3_i32_2877
  v5843

def k0_off348 (v5841 : BitVec 32) : Fin 3 → Nat :=
  let c3_i32_2876 : BitVec 32 := 3#32
  let v5842 : BitVec 32 := Scalar.shrsi v5841 c3_i32_2876
  let c3_i32_2877 : BitVec 32 := 3#32
  let v5843 : BitVec 32 := Scalar.shli v5842 c3_i32_2877
  let v5844 : BitVec 32 := v5843
  let v5845 : Index := Scalar.indexCast v5844
  let c0_2878 : Index := 0#32
  ![v5845.toNat, 0, 0]

def k0_chk237 (v5841 : BitVec 32) : Prop :=
  (8 ∣ (k0_mult239 v5841).toNat) ∧
  (∀ a, (k0_off348 v5841) a + S8x2x128.size a ≤ S20016x2x128.size a)
theorem k0_mult239_dvd : ∀ (v5841 : BitVec 32) (k0_hw237 : k0_chk237 v5841), 8 ∣ (k0_mult239 v5841).toNat := fun v5841 k0_hw237 => k0_hw237.1
theorem k0_off348_inb : ∀ (v5841 : BitVec 32) (k0_hw237 : k0_chk237 v5841), ∀ a, (k0_off348 v5841) a + S8x2x128.size a ≤ S20016x2x128.size a := fun v5841 k0_hw237 => k0_hw237.2

def k0_off349 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c45_i32_2887 : BitVec 32 := 45#32
  let v5863 : BitVec 32 := Scalar.addi v4782 c45_i32_2887
  let v5864 : Index := Scalar.indexCast v5863
  ![v5864.toNat]
def k0_mult240 (v5865 : BitVec 32) : BitVec 32 :=
  let c3_i32_2888 : BitVec 32 := 3#32
  let v5866 : BitVec 32 := Scalar.shrsi v5865 c3_i32_2888
  let c3_i32_2889 : BitVec 32 := 3#32
  let v5867 : BitVec 32 := Scalar.shli v5866 c3_i32_2889
  v5867

def k0_off350 (v5865 : BitVec 32) : Fin 3 → Nat :=
  let c3_i32_2888 : BitVec 32 := 3#32
  let v5866 : BitVec 32 := Scalar.shrsi v5865 c3_i32_2888
  let c3_i32_2889 : BitVec 32 := 3#32
  let v5867 : BitVec 32 := Scalar.shli v5866 c3_i32_2889
  let v5868 : BitVec 32 := v5867
  let v5869 : Index := Scalar.indexCast v5868
  let c0_2890 : Index := 0#32
  ![v5869.toNat, 0, 0]

def k0_chk238 (v5865 : BitVec 32) : Prop :=
  (8 ∣ (k0_mult240 v5865).toNat) ∧
  (∀ a, (k0_off350 v5865) a + S8x2x128.size a ≤ S20016x2x128.size a)
theorem k0_mult240_dvd : ∀ (v5865 : BitVec 32) (k0_hw238 : k0_chk238 v5865), 8 ∣ (k0_mult240 v5865).toNat := fun v5865 k0_hw238 => k0_hw238.1
theorem k0_off350_inb : ∀ (v5865 : BitVec 32) (k0_hw238 : k0_chk238 v5865), ∀ a, (k0_off350 v5865) a + S8x2x128.size a ≤ S20016x2x128.size a := fun v5865 k0_hw238 => k0_hw238.2

def k0_off351 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c46_i32_2899 : BitVec 32 := 46#32
  let v5887 : BitVec 32 := Scalar.addi v4782 c46_i32_2899
  let v5888 : Index := Scalar.indexCast v5887
  ![v5888.toNat]
def k0_mult241 (v5889 : BitVec 32) : BitVec 32 :=
  let c3_i32_2900 : BitVec 32 := 3#32
  let v5890 : BitVec 32 := Scalar.shrsi v5889 c3_i32_2900
  let c3_i32_2901 : BitVec 32 := 3#32
  let v5891 : BitVec 32 := Scalar.shli v5890 c3_i32_2901
  v5891

def k0_off352 (v5889 : BitVec 32) : Fin 3 → Nat :=
  let c3_i32_2900 : BitVec 32 := 3#32
  let v5890 : BitVec 32 := Scalar.shrsi v5889 c3_i32_2900
  let c3_i32_2901 : BitVec 32 := 3#32
  let v5891 : BitVec 32 := Scalar.shli v5890 c3_i32_2901
  let v5892 : BitVec 32 := v5891
  let v5893 : Index := Scalar.indexCast v5892
  let c0_2902 : Index := 0#32
  ![v5893.toNat, 0, 0]

def k0_chk239 (v5889 : BitVec 32) : Prop :=
  (8 ∣ (k0_mult241 v5889).toNat) ∧
  (∀ a, (k0_off352 v5889) a + S8x2x128.size a ≤ S20016x2x128.size a)
theorem k0_mult241_dvd : ∀ (v5889 : BitVec 32) (k0_hw239 : k0_chk239 v5889), 8 ∣ (k0_mult241 v5889).toNat := fun v5889 k0_hw239 => k0_hw239.1
theorem k0_off352_inb : ∀ (v5889 : BitVec 32) (k0_hw239 : k0_chk239 v5889), ∀ a, (k0_off352 v5889) a + S8x2x128.size a ≤ S20016x2x128.size a := fun v5889 k0_hw239 => k0_hw239.2

def k0_off353 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c47_i32_2911 : BitVec 32 := 47#32
  let v5911 : BitVec 32 := Scalar.addi v4782 c47_i32_2911
  let v5912 : Index := Scalar.indexCast v5911
  ![v5912.toNat]
def k0_mult242 (v5913 : BitVec 32) : BitVec 32 :=
  let c3_i32_2912 : BitVec 32 := 3#32
  let v5914 : BitVec 32 := Scalar.shrsi v5913 c3_i32_2912
  let c3_i32_2913 : BitVec 32 := 3#32
  let v5915 : BitVec 32 := Scalar.shli v5914 c3_i32_2913
  v5915

def k0_off354 (v5913 : BitVec 32) : Fin 3 → Nat :=
  let c3_i32_2912 : BitVec 32 := 3#32
  let v5914 : BitVec 32 := Scalar.shrsi v5913 c3_i32_2912
  let c3_i32_2913 : BitVec 32 := 3#32
  let v5915 : BitVec 32 := Scalar.shli v5914 c3_i32_2913
  let v5916 : BitVec 32 := v5915
  let v5917 : Index := Scalar.indexCast v5916
  let c0_2914 : Index := 0#32
  ![v5917.toNat, 0, 0]

def k0_chk240 (v5913 : BitVec 32) : Prop :=
  (8 ∣ (k0_mult242 v5913).toNat) ∧
  (∀ a, (k0_off354 v5913) a + S8x2x128.size a ≤ S20016x2x128.size a)
theorem k0_mult242_dvd : ∀ (v5913 : BitVec 32) (k0_hw240 : k0_chk240 v5913), 8 ∣ (k0_mult242 v5913).toNat := fun v5913 k0_hw240 => k0_hw240.1
theorem k0_off354_inb : ∀ (v5913 : BitVec 32) (k0_hw240 : k0_chk240 v5913), ∀ a, (k0_off354 v5913) a + S8x2x128.size a ≤ S20016x2x128.size a := fun v5913 k0_hw240 => k0_hw240.2

def k0_off355 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c48_i32_2923 : BitVec 32 := 48#32
  let v5935 : BitVec 32 := Scalar.addi v4782 c48_i32_2923
  let v5936 : Index := Scalar.indexCast v5935
  ![v5936.toNat]
def k0_mult243 (v5937 : BitVec 32) : BitVec 32 :=
  let c3_i32_2924 : BitVec 32 := 3#32
  let v5938 : BitVec 32 := Scalar.shrsi v5937 c3_i32_2924
  let c3_i32_2925 : BitVec 32 := 3#32
  let v5939 : BitVec 32 := Scalar.shli v5938 c3_i32_2925
  v5939

def k0_off356 (v5937 : BitVec 32) : Fin 3 → Nat :=
  let c3_i32_2924 : BitVec 32 := 3#32
  let v5938 : BitVec 32 := Scalar.shrsi v5937 c3_i32_2924
  let c3_i32_2925 : BitVec 32 := 3#32
  let v5939 : BitVec 32 := Scalar.shli v5938 c3_i32_2925
  let v5940 : BitVec 32 := v5939
  let v5941 : Index := Scalar.indexCast v5940
  let c0_2926 : Index := 0#32
  ![v5941.toNat, 0, 0]

def k0_chk241 (v5937 : BitVec 32) : Prop :=
  (8 ∣ (k0_mult243 v5937).toNat) ∧
  (∀ a, (k0_off356 v5937) a + S8x2x128.size a ≤ S20016x2x128.size a)
theorem k0_mult243_dvd : ∀ (v5937 : BitVec 32) (k0_hw241 : k0_chk241 v5937), 8 ∣ (k0_mult243 v5937).toNat := fun v5937 k0_hw241 => k0_hw241.1
theorem k0_off356_inb : ∀ (v5937 : BitVec 32) (k0_hw241 : k0_chk241 v5937), ∀ a, (k0_off356 v5937) a + S8x2x128.size a ≤ S20016x2x128.size a := fun v5937 k0_hw241 => k0_hw241.2

def k0_off357 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c49_i32_2935 : BitVec 32 := 49#32
  let v5959 : BitVec 32 := Scalar.addi v4782 c49_i32_2935
  let v5960 : Index := Scalar.indexCast v5959
  ![v5960.toNat]
def k0_mult244 (v5961 : BitVec 32) : BitVec 32 :=
  let c3_i32_2936 : BitVec 32 := 3#32
  let v5962 : BitVec 32 := Scalar.shrsi v5961 c3_i32_2936
  let c3_i32_2937 : BitVec 32 := 3#32
  let v5963 : BitVec 32 := Scalar.shli v5962 c3_i32_2937
  v5963

def k0_off358 (v5961 : BitVec 32) : Fin 3 → Nat :=
  let c3_i32_2936 : BitVec 32 := 3#32
  let v5962 : BitVec 32 := Scalar.shrsi v5961 c3_i32_2936
  let c3_i32_2937 : BitVec 32 := 3#32
  let v5963 : BitVec 32 := Scalar.shli v5962 c3_i32_2937
  let v5964 : BitVec 32 := v5963
  let v5965 : Index := Scalar.indexCast v5964
  let c0_2938 : Index := 0#32
  ![v5965.toNat, 0, 0]

def k0_chk242 (v5961 : BitVec 32) : Prop :=
  (8 ∣ (k0_mult244 v5961).toNat) ∧
  (∀ a, (k0_off358 v5961) a + S8x2x128.size a ≤ S20016x2x128.size a)
theorem k0_mult244_dvd : ∀ (v5961 : BitVec 32) (k0_hw242 : k0_chk242 v5961), 8 ∣ (k0_mult244 v5961).toNat := fun v5961 k0_hw242 => k0_hw242.1
theorem k0_off358_inb : ∀ (v5961 : BitVec 32) (k0_hw242 : k0_chk242 v5961), ∀ a, (k0_off358 v5961) a + S8x2x128.size a ≤ S20016x2x128.size a := fun v5961 k0_hw242 => k0_hw242.2

def k0_off359 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c50_i32_2947 : BitVec 32 := 50#32
  let v5983 : BitVec 32 := Scalar.addi v4782 c50_i32_2947
  let v5984 : Index := Scalar.indexCast v5983
  ![v5984.toNat]
def k0_mult245 (v5985 : BitVec 32) : BitVec 32 :=
  let c3_i32_2948 : BitVec 32 := 3#32
  let v5986 : BitVec 32 := Scalar.shrsi v5985 c3_i32_2948
  let c3_i32_2949 : BitVec 32 := 3#32
  let v5987 : BitVec 32 := Scalar.shli v5986 c3_i32_2949
  v5987

def k0_off360 (v5985 : BitVec 32) : Fin 3 → Nat :=
  let c3_i32_2948 : BitVec 32 := 3#32
  let v5986 : BitVec 32 := Scalar.shrsi v5985 c3_i32_2948
  let c3_i32_2949 : BitVec 32 := 3#32
  let v5987 : BitVec 32 := Scalar.shli v5986 c3_i32_2949
  let v5988 : BitVec 32 := v5987
  let v5989 : Index := Scalar.indexCast v5988
  let c0_2950 : Index := 0#32
  ![v5989.toNat, 0, 0]

def k0_chk243 (v5985 : BitVec 32) : Prop :=
  (8 ∣ (k0_mult245 v5985).toNat) ∧
  (∀ a, (k0_off360 v5985) a + S8x2x128.size a ≤ S20016x2x128.size a)
theorem k0_mult245_dvd : ∀ (v5985 : BitVec 32) (k0_hw243 : k0_chk243 v5985), 8 ∣ (k0_mult245 v5985).toNat := fun v5985 k0_hw243 => k0_hw243.1
theorem k0_off360_inb : ∀ (v5985 : BitVec 32) (k0_hw243 : k0_chk243 v5985), ∀ a, (k0_off360 v5985) a + S8x2x128.size a ≤ S20016x2x128.size a := fun v5985 k0_hw243 => k0_hw243.2

def k0_off361 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c51_i32_2959 : BitVec 32 := 51#32
  let v6007 : BitVec 32 := Scalar.addi v4782 c51_i32_2959
  let v6008 : Index := Scalar.indexCast v6007
  ![v6008.toNat]
def k0_mult246 (v6009 : BitVec 32) : BitVec 32 :=
  let c3_i32_2960 : BitVec 32 := 3#32
  let v6010 : BitVec 32 := Scalar.shrsi v6009 c3_i32_2960
  let c3_i32_2961 : BitVec 32 := 3#32
  let v6011 : BitVec 32 := Scalar.shli v6010 c3_i32_2961
  v6011

def k0_off362 (v6009 : BitVec 32) : Fin 3 → Nat :=
  let c3_i32_2960 : BitVec 32 := 3#32
  let v6010 : BitVec 32 := Scalar.shrsi v6009 c3_i32_2960
  let c3_i32_2961 : BitVec 32 := 3#32
  let v6011 : BitVec 32 := Scalar.shli v6010 c3_i32_2961
  let v6012 : BitVec 32 := v6011
  let v6013 : Index := Scalar.indexCast v6012
  let c0_2962 : Index := 0#32
  ![v6013.toNat, 0, 0]

def k0_chk244 (v6009 : BitVec 32) : Prop :=
  (8 ∣ (k0_mult246 v6009).toNat) ∧
  (∀ a, (k0_off362 v6009) a + S8x2x128.size a ≤ S20016x2x128.size a)
theorem k0_mult246_dvd : ∀ (v6009 : BitVec 32) (k0_hw244 : k0_chk244 v6009), 8 ∣ (k0_mult246 v6009).toNat := fun v6009 k0_hw244 => k0_hw244.1
theorem k0_off362_inb : ∀ (v6009 : BitVec 32) (k0_hw244 : k0_chk244 v6009), ∀ a, (k0_off362 v6009) a + S8x2x128.size a ≤ S20016x2x128.size a := fun v6009 k0_hw244 => k0_hw244.2

def k0_off363 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c52_i32_2971 : BitVec 32 := 52#32
  let v6031 : BitVec 32 := Scalar.addi v4782 c52_i32_2971
  let v6032 : Index := Scalar.indexCast v6031
  ![v6032.toNat]
def k0_mult247 (v6033 : BitVec 32) : BitVec 32 :=
  let c3_i32_2972 : BitVec 32 := 3#32
  let v6034 : BitVec 32 := Scalar.shrsi v6033 c3_i32_2972
  let c3_i32_2973 : BitVec 32 := 3#32
  let v6035 : BitVec 32 := Scalar.shli v6034 c3_i32_2973
  v6035

def k0_off364 (v6033 : BitVec 32) : Fin 3 → Nat :=
  let c3_i32_2972 : BitVec 32 := 3#32
  let v6034 : BitVec 32 := Scalar.shrsi v6033 c3_i32_2972
  let c3_i32_2973 : BitVec 32 := 3#32
  let v6035 : BitVec 32 := Scalar.shli v6034 c3_i32_2973
  let v6036 : BitVec 32 := v6035
  let v6037 : Index := Scalar.indexCast v6036
  let c0_2974 : Index := 0#32
  ![v6037.toNat, 0, 0]

def k0_chk245 (v6033 : BitVec 32) : Prop :=
  (8 ∣ (k0_mult247 v6033).toNat) ∧
  (∀ a, (k0_off364 v6033) a + S8x2x128.size a ≤ S20016x2x128.size a)
theorem k0_mult247_dvd : ∀ (v6033 : BitVec 32) (k0_hw245 : k0_chk245 v6033), 8 ∣ (k0_mult247 v6033).toNat := fun v6033 k0_hw245 => k0_hw245.1
theorem k0_off364_inb : ∀ (v6033 : BitVec 32) (k0_hw245 : k0_chk245 v6033), ∀ a, (k0_off364 v6033) a + S8x2x128.size a ≤ S20016x2x128.size a := fun v6033 k0_hw245 => k0_hw245.2

def k0_off365 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c53_i32_2983 : BitVec 32 := 53#32
  let v6055 : BitVec 32 := Scalar.addi v4782 c53_i32_2983
  let v6056 : Index := Scalar.indexCast v6055
  ![v6056.toNat]
def k0_mult248 (v6057 : BitVec 32) : BitVec 32 :=
  let c3_i32_2984 : BitVec 32 := 3#32
  let v6058 : BitVec 32 := Scalar.shrsi v6057 c3_i32_2984
  let c3_i32_2985 : BitVec 32 := 3#32
  let v6059 : BitVec 32 := Scalar.shli v6058 c3_i32_2985
  v6059

def k0_off366 (v6057 : BitVec 32) : Fin 3 → Nat :=
  let c3_i32_2984 : BitVec 32 := 3#32
  let v6058 : BitVec 32 := Scalar.shrsi v6057 c3_i32_2984
  let c3_i32_2985 : BitVec 32 := 3#32
  let v6059 : BitVec 32 := Scalar.shli v6058 c3_i32_2985
  let v6060 : BitVec 32 := v6059
  let v6061 : Index := Scalar.indexCast v6060
  let c0_2986 : Index := 0#32
  ![v6061.toNat, 0, 0]

def k0_chk246 (v6057 : BitVec 32) : Prop :=
  (8 ∣ (k0_mult248 v6057).toNat) ∧
  (∀ a, (k0_off366 v6057) a + S8x2x128.size a ≤ S20016x2x128.size a)
theorem k0_mult248_dvd : ∀ (v6057 : BitVec 32) (k0_hw246 : k0_chk246 v6057), 8 ∣ (k0_mult248 v6057).toNat := fun v6057 k0_hw246 => k0_hw246.1
theorem k0_off366_inb : ∀ (v6057 : BitVec 32) (k0_hw246 : k0_chk246 v6057), ∀ a, (k0_off366 v6057) a + S8x2x128.size a ≤ S20016x2x128.size a := fun v6057 k0_hw246 => k0_hw246.2

def k0_off367 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c54_i32_2995 : BitVec 32 := 54#32
  let v6079 : BitVec 32 := Scalar.addi v4782 c54_i32_2995
  let v6080 : Index := Scalar.indexCast v6079
  ![v6080.toNat]
def k0_mult249 (v6081 : BitVec 32) : BitVec 32 :=
  let c3_i32_2996 : BitVec 32 := 3#32
  let v6082 : BitVec 32 := Scalar.shrsi v6081 c3_i32_2996
  let c3_i32_2997 : BitVec 32 := 3#32
  let v6083 : BitVec 32 := Scalar.shli v6082 c3_i32_2997
  v6083

def k0_off368 (v6081 : BitVec 32) : Fin 3 → Nat :=
  let c3_i32_2996 : BitVec 32 := 3#32
  let v6082 : BitVec 32 := Scalar.shrsi v6081 c3_i32_2996
  let c3_i32_2997 : BitVec 32 := 3#32
  let v6083 : BitVec 32 := Scalar.shli v6082 c3_i32_2997
  let v6084 : BitVec 32 := v6083
  let v6085 : Index := Scalar.indexCast v6084
  let c0_2998 : Index := 0#32
  ![v6085.toNat, 0, 0]

def k0_chk247 (v6081 : BitVec 32) : Prop :=
  (8 ∣ (k0_mult249 v6081).toNat) ∧
  (∀ a, (k0_off368 v6081) a + S8x2x128.size a ≤ S20016x2x128.size a)
theorem k0_mult249_dvd : ∀ (v6081 : BitVec 32) (k0_hw247 : k0_chk247 v6081), 8 ∣ (k0_mult249 v6081).toNat := fun v6081 k0_hw247 => k0_hw247.1
theorem k0_off368_inb : ∀ (v6081 : BitVec 32) (k0_hw247 : k0_chk247 v6081), ∀ a, (k0_off368 v6081) a + S8x2x128.size a ≤ S20016x2x128.size a := fun v6081 k0_hw247 => k0_hw247.2

def k0_off369 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c55_i32_3007 : BitVec 32 := 55#32
  let v6103 : BitVec 32 := Scalar.addi v4782 c55_i32_3007
  let v6104 : Index := Scalar.indexCast v6103
  ![v6104.toNat]
def k0_mult250 (v6105 : BitVec 32) : BitVec 32 :=
  let c3_i32_3008 : BitVec 32 := 3#32
  let v6106 : BitVec 32 := Scalar.shrsi v6105 c3_i32_3008
  let c3_i32_3009 : BitVec 32 := 3#32
  let v6107 : BitVec 32 := Scalar.shli v6106 c3_i32_3009
  v6107

def k0_off370 (v6105 : BitVec 32) : Fin 3 → Nat :=
  let c3_i32_3008 : BitVec 32 := 3#32
  let v6106 : BitVec 32 := Scalar.shrsi v6105 c3_i32_3008
  let c3_i32_3009 : BitVec 32 := 3#32
  let v6107 : BitVec 32 := Scalar.shli v6106 c3_i32_3009
  let v6108 : BitVec 32 := v6107
  let v6109 : Index := Scalar.indexCast v6108
  let c0_3010 : Index := 0#32
  ![v6109.toNat, 0, 0]

def k0_chk248 (v6105 : BitVec 32) : Prop :=
  (8 ∣ (k0_mult250 v6105).toNat) ∧
  (∀ a, (k0_off370 v6105) a + S8x2x128.size a ≤ S20016x2x128.size a)
theorem k0_mult250_dvd : ∀ (v6105 : BitVec 32) (k0_hw248 : k0_chk248 v6105), 8 ∣ (k0_mult250 v6105).toNat := fun v6105 k0_hw248 => k0_hw248.1
theorem k0_off370_inb : ∀ (v6105 : BitVec 32) (k0_hw248 : k0_chk248 v6105), ∀ a, (k0_off370 v6105) a + S8x2x128.size a ≤ S20016x2x128.size a := fun v6105 k0_hw248 => k0_hw248.2

def k0_off371 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c56_i32_3019 : BitVec 32 := 56#32
  let v6127 : BitVec 32 := Scalar.addi v4782 c56_i32_3019
  let v6128 : Index := Scalar.indexCast v6127
  ![v6128.toNat]
def k0_mult251 (v6129 : BitVec 32) : BitVec 32 :=
  let c3_i32_3020 : BitVec 32 := 3#32
  let v6130 : BitVec 32 := Scalar.shrsi v6129 c3_i32_3020
  let c3_i32_3021 : BitVec 32 := 3#32
  let v6131 : BitVec 32 := Scalar.shli v6130 c3_i32_3021
  v6131

def k0_off372 (v6129 : BitVec 32) : Fin 3 → Nat :=
  let c3_i32_3020 : BitVec 32 := 3#32
  let v6130 : BitVec 32 := Scalar.shrsi v6129 c3_i32_3020
  let c3_i32_3021 : BitVec 32 := 3#32
  let v6131 : BitVec 32 := Scalar.shli v6130 c3_i32_3021
  let v6132 : BitVec 32 := v6131
  let v6133 : Index := Scalar.indexCast v6132
  let c0_3022 : Index := 0#32
  ![v6133.toNat, 0, 0]

def k0_chk249 (v6129 : BitVec 32) : Prop :=
  (8 ∣ (k0_mult251 v6129).toNat) ∧
  (∀ a, (k0_off372 v6129) a + S8x2x128.size a ≤ S20016x2x128.size a)
theorem k0_mult251_dvd : ∀ (v6129 : BitVec 32) (k0_hw249 : k0_chk249 v6129), 8 ∣ (k0_mult251 v6129).toNat := fun v6129 k0_hw249 => k0_hw249.1
theorem k0_off372_inb : ∀ (v6129 : BitVec 32) (k0_hw249 : k0_chk249 v6129), ∀ a, (k0_off372 v6129) a + S8x2x128.size a ≤ S20016x2x128.size a := fun v6129 k0_hw249 => k0_hw249.2

def k0_off373 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c57_i32_3031 : BitVec 32 := 57#32
  let v6151 : BitVec 32 := Scalar.addi v4782 c57_i32_3031
  let v6152 : Index := Scalar.indexCast v6151
  ![v6152.toNat]
def k0_mult252 (v6153 : BitVec 32) : BitVec 32 :=
  let c3_i32_3032 : BitVec 32 := 3#32
  let v6154 : BitVec 32 := Scalar.shrsi v6153 c3_i32_3032
  let c3_i32_3033 : BitVec 32 := 3#32
  let v6155 : BitVec 32 := Scalar.shli v6154 c3_i32_3033
  v6155

def k0_off374 (v6153 : BitVec 32) : Fin 3 → Nat :=
  let c3_i32_3032 : BitVec 32 := 3#32
  let v6154 : BitVec 32 := Scalar.shrsi v6153 c3_i32_3032
  let c3_i32_3033 : BitVec 32 := 3#32
  let v6155 : BitVec 32 := Scalar.shli v6154 c3_i32_3033
  let v6156 : BitVec 32 := v6155
  let v6157 : Index := Scalar.indexCast v6156
  let c0_3034 : Index := 0#32
  ![v6157.toNat, 0, 0]

def k0_chk250 (v6153 : BitVec 32) : Prop :=
  (8 ∣ (k0_mult252 v6153).toNat) ∧
  (∀ a, (k0_off374 v6153) a + S8x2x128.size a ≤ S20016x2x128.size a)
theorem k0_mult252_dvd : ∀ (v6153 : BitVec 32) (k0_hw250 : k0_chk250 v6153), 8 ∣ (k0_mult252 v6153).toNat := fun v6153 k0_hw250 => k0_hw250.1
theorem k0_off374_inb : ∀ (v6153 : BitVec 32) (k0_hw250 : k0_chk250 v6153), ∀ a, (k0_off374 v6153) a + S8x2x128.size a ≤ S20016x2x128.size a := fun v6153 k0_hw250 => k0_hw250.2

def k0_off375 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c58_i32_3043 : BitVec 32 := 58#32
  let v6175 : BitVec 32 := Scalar.addi v4782 c58_i32_3043
  let v6176 : Index := Scalar.indexCast v6175
  ![v6176.toNat]
def k0_mult253 (v6177 : BitVec 32) : BitVec 32 :=
  let c3_i32_3044 : BitVec 32 := 3#32
  let v6178 : BitVec 32 := Scalar.shrsi v6177 c3_i32_3044
  let c3_i32_3045 : BitVec 32 := 3#32
  let v6179 : BitVec 32 := Scalar.shli v6178 c3_i32_3045
  v6179

def k0_off376 (v6177 : BitVec 32) : Fin 3 → Nat :=
  let c3_i32_3044 : BitVec 32 := 3#32
  let v6178 : BitVec 32 := Scalar.shrsi v6177 c3_i32_3044
  let c3_i32_3045 : BitVec 32 := 3#32
  let v6179 : BitVec 32 := Scalar.shli v6178 c3_i32_3045
  let v6180 : BitVec 32 := v6179
  let v6181 : Index := Scalar.indexCast v6180
  let c0_3046 : Index := 0#32
  ![v6181.toNat, 0, 0]

def k0_chk251 (v6177 : BitVec 32) : Prop :=
  (8 ∣ (k0_mult253 v6177).toNat) ∧
  (∀ a, (k0_off376 v6177) a + S8x2x128.size a ≤ S20016x2x128.size a)
theorem k0_mult253_dvd : ∀ (v6177 : BitVec 32) (k0_hw251 : k0_chk251 v6177), 8 ∣ (k0_mult253 v6177).toNat := fun v6177 k0_hw251 => k0_hw251.1
theorem k0_off376_inb : ∀ (v6177 : BitVec 32) (k0_hw251 : k0_chk251 v6177), ∀ a, (k0_off376 v6177) a + S8x2x128.size a ≤ S20016x2x128.size a := fun v6177 k0_hw251 => k0_hw251.2

def k0_off377 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c59_i32_3055 : BitVec 32 := 59#32
  let v6199 : BitVec 32 := Scalar.addi v4782 c59_i32_3055
  let v6200 : Index := Scalar.indexCast v6199
  ![v6200.toNat]
def k0_mult254 (v6201 : BitVec 32) : BitVec 32 :=
  let c3_i32_3056 : BitVec 32 := 3#32
  let v6202 : BitVec 32 := Scalar.shrsi v6201 c3_i32_3056
  let c3_i32_3057 : BitVec 32 := 3#32
  let v6203 : BitVec 32 := Scalar.shli v6202 c3_i32_3057
  v6203

def k0_off378 (v6201 : BitVec 32) : Fin 3 → Nat :=
  let c3_i32_3056 : BitVec 32 := 3#32
  let v6202 : BitVec 32 := Scalar.shrsi v6201 c3_i32_3056
  let c3_i32_3057 : BitVec 32 := 3#32
  let v6203 : BitVec 32 := Scalar.shli v6202 c3_i32_3057
  let v6204 : BitVec 32 := v6203
  let v6205 : Index := Scalar.indexCast v6204
  let c0_3058 : Index := 0#32
  ![v6205.toNat, 0, 0]

def k0_chk252 (v6201 : BitVec 32) : Prop :=
  (8 ∣ (k0_mult254 v6201).toNat) ∧
  (∀ a, (k0_off378 v6201) a + S8x2x128.size a ≤ S20016x2x128.size a)
theorem k0_mult254_dvd : ∀ (v6201 : BitVec 32) (k0_hw252 : k0_chk252 v6201), 8 ∣ (k0_mult254 v6201).toNat := fun v6201 k0_hw252 => k0_hw252.1
theorem k0_off378_inb : ∀ (v6201 : BitVec 32) (k0_hw252 : k0_chk252 v6201), ∀ a, (k0_off378 v6201) a + S8x2x128.size a ≤ S20016x2x128.size a := fun v6201 k0_hw252 => k0_hw252.2

def k0_off379 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c60_i32_3067 : BitVec 32 := 60#32
  let v6223 : BitVec 32 := Scalar.addi v4782 c60_i32_3067
  let v6224 : Index := Scalar.indexCast v6223
  ![v6224.toNat]
def k0_mult255 (v6225 : BitVec 32) : BitVec 32 :=
  let c3_i32_3068 : BitVec 32 := 3#32
  let v6226 : BitVec 32 := Scalar.shrsi v6225 c3_i32_3068
  let c3_i32_3069 : BitVec 32 := 3#32
  let v6227 : BitVec 32 := Scalar.shli v6226 c3_i32_3069
  v6227

def k0_off380 (v6225 : BitVec 32) : Fin 3 → Nat :=
  let c3_i32_3068 : BitVec 32 := 3#32
  let v6226 : BitVec 32 := Scalar.shrsi v6225 c3_i32_3068
  let c3_i32_3069 : BitVec 32 := 3#32
  let v6227 : BitVec 32 := Scalar.shli v6226 c3_i32_3069
  let v6228 : BitVec 32 := v6227
  let v6229 : Index := Scalar.indexCast v6228
  let c0_3070 : Index := 0#32
  ![v6229.toNat, 0, 0]

def k0_chk253 (v6225 : BitVec 32) : Prop :=
  (8 ∣ (k0_mult255 v6225).toNat) ∧
  (∀ a, (k0_off380 v6225) a + S8x2x128.size a ≤ S20016x2x128.size a)
theorem k0_mult255_dvd : ∀ (v6225 : BitVec 32) (k0_hw253 : k0_chk253 v6225), 8 ∣ (k0_mult255 v6225).toNat := fun v6225 k0_hw253 => k0_hw253.1
theorem k0_off380_inb : ∀ (v6225 : BitVec 32) (k0_hw253 : k0_chk253 v6225), ∀ a, (k0_off380 v6225) a + S8x2x128.size a ≤ S20016x2x128.size a := fun v6225 k0_hw253 => k0_hw253.2

def k0_off381 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c61_i32_3079 : BitVec 32 := 61#32
  let v6247 : BitVec 32 := Scalar.addi v4782 c61_i32_3079
  let v6248 : Index := Scalar.indexCast v6247
  ![v6248.toNat]
def k0_mult256 (v6249 : BitVec 32) : BitVec 32 :=
  let c3_i32_3080 : BitVec 32 := 3#32
  let v6250 : BitVec 32 := Scalar.shrsi v6249 c3_i32_3080
  let c3_i32_3081 : BitVec 32 := 3#32
  let v6251 : BitVec 32 := Scalar.shli v6250 c3_i32_3081
  v6251

def k0_off382 (v6249 : BitVec 32) : Fin 3 → Nat :=
  let c3_i32_3080 : BitVec 32 := 3#32
  let v6250 : BitVec 32 := Scalar.shrsi v6249 c3_i32_3080
  let c3_i32_3081 : BitVec 32 := 3#32
  let v6251 : BitVec 32 := Scalar.shli v6250 c3_i32_3081
  let v6252 : BitVec 32 := v6251
  let v6253 : Index := Scalar.indexCast v6252
  let c0_3082 : Index := 0#32
  ![v6253.toNat, 0, 0]

def k0_chk254 (v6249 : BitVec 32) : Prop :=
  (8 ∣ (k0_mult256 v6249).toNat) ∧
  (∀ a, (k0_off382 v6249) a + S8x2x128.size a ≤ S20016x2x128.size a)
theorem k0_mult256_dvd : ∀ (v6249 : BitVec 32) (k0_hw254 : k0_chk254 v6249), 8 ∣ (k0_mult256 v6249).toNat := fun v6249 k0_hw254 => k0_hw254.1
theorem k0_off382_inb : ∀ (v6249 : BitVec 32) (k0_hw254 : k0_chk254 v6249), ∀ a, (k0_off382 v6249) a + S8x2x128.size a ≤ S20016x2x128.size a := fun v6249 k0_hw254 => k0_hw254.2

def k0_off383 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c62_i32_3091 : BitVec 32 := 62#32
  let v6271 : BitVec 32 := Scalar.addi v4782 c62_i32_3091
  let v6272 : Index := Scalar.indexCast v6271
  ![v6272.toNat]
def k0_mult257 (v6273 : BitVec 32) : BitVec 32 :=
  let c3_i32_3092 : BitVec 32 := 3#32
  let v6274 : BitVec 32 := Scalar.shrsi v6273 c3_i32_3092
  let c3_i32_3093 : BitVec 32 := 3#32
  let v6275 : BitVec 32 := Scalar.shli v6274 c3_i32_3093
  v6275

def k0_off384 (v6273 : BitVec 32) : Fin 3 → Nat :=
  let c3_i32_3092 : BitVec 32 := 3#32
  let v6274 : BitVec 32 := Scalar.shrsi v6273 c3_i32_3092
  let c3_i32_3093 : BitVec 32 := 3#32
  let v6275 : BitVec 32 := Scalar.shli v6274 c3_i32_3093
  let v6276 : BitVec 32 := v6275
  let v6277 : Index := Scalar.indexCast v6276
  let c0_3094 : Index := 0#32
  ![v6277.toNat, 0, 0]

def k0_chk255 (v6273 : BitVec 32) : Prop :=
  (8 ∣ (k0_mult257 v6273).toNat) ∧
  (∀ a, (k0_off384 v6273) a + S8x2x128.size a ≤ S20016x2x128.size a)
theorem k0_mult257_dvd : ∀ (v6273 : BitVec 32) (k0_hw255 : k0_chk255 v6273), 8 ∣ (k0_mult257 v6273).toNat := fun v6273 k0_hw255 => k0_hw255.1
theorem k0_off384_inb : ∀ (v6273 : BitVec 32) (k0_hw255 : k0_chk255 v6273), ∀ a, (k0_off384 v6273) a + S8x2x128.size a ≤ S20016x2x128.size a := fun v6273 k0_hw255 => k0_hw255.2

def k0_off385 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32 : BitVec 32 := 2#32
  let v3179 : BitVec 32 := Scalar.muli arg15 c2_i32
  let c1_i32_2332 : BitVec 32 := 1#32
  let v4749 : BitVec 32 := Scalar.addi v3179 c1_i32_2332
  let c2_i32_2345 : BitVec 32 := 2#32
  let v4781 : BitVec 32 := Scalar.addi v4749 c2_i32_2345
  let c64_i32_2346 : BitVec 32 := 64#32
  let v4782 : BitVec 32 := Scalar.muli v4781 c64_i32_2346
  let c63_i32_3103 : BitVec 32 := 63#32
  let v6295 : BitVec 32 := Scalar.addi v4782 c63_i32_3103
  let v6296 : Index := Scalar.indexCast v6295
  ![v6296.toNat]
def k0_mult258 (v6297 : BitVec 32) : BitVec 32 :=
  let c3_i32_3104 : BitVec 32 := 3#32
  let v6298 : BitVec 32 := Scalar.shrsi v6297 c3_i32_3104
  let c3_i32_3105 : BitVec 32 := 3#32
  let v6299 : BitVec 32 := Scalar.shli v6298 c3_i32_3105
  v6299

def k0_off386 (v6297 : BitVec 32) : Fin 3 → Nat :=
  let c3_i32_3104 : BitVec 32 := 3#32
  let v6298 : BitVec 32 := Scalar.shrsi v6297 c3_i32_3104
  let c3_i32_3105 : BitVec 32 := 3#32
  let v6299 : BitVec 32 := Scalar.shli v6298 c3_i32_3105
  let v6300 : BitVec 32 := v6299
  let v6301 : Index := Scalar.indexCast v6300
  let c0_3106 : Index := 0#32
  ![v6301.toNat, 0, 0]

def k0_chk256 (v6297 : BitVec 32) : Prop :=
  (8 ∣ (k0_mult258 v6297).toNat) ∧
  (∀ a, (k0_off386 v6297) a + S8x2x128.size a ≤ S20016x2x128.size a)
theorem k0_mult258_dvd : ∀ (v6297 : BitVec 32) (k0_hw256 : k0_chk256 v6297), 8 ∣ (k0_mult258 v6297).toNat := fun v6297 k0_hw256 => k0_hw256.1
theorem k0_off386_inb : ∀ (v6297 : BitVec 32) (k0_hw256 : k0_chk256 v6297), ∀ a, (k0_off386 v6297) a + S8x2x128.size a ≤ S20016x2x128.size a := fun v6297 k0_hw256 => k0_hw256.2

def k0_off387 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c0_i32_3117 : BitVec 32 := 0#32
  let v6321 : BitVec 32 := Scalar.addi v6320 c0_i32_3117
  let v6322 : Index := Scalar.indexCast v6321
  ![v6322.toNat]
def k0_mult259 (v6323 : BitVec 32) : BitVec 32 :=
  let c3_i32_3118 : BitVec 32 := 3#32
  let v6324 : BitVec 32 := Scalar.shrsi v6323 c3_i32_3118
  let c3_i32_3119 : BitVec 32 := 3#32
  let v6325 : BitVec 32 := Scalar.shli v6324 c3_i32_3119
  v6325

def k0_off388 (v6323 : BitVec 32) : Fin 2 → Nat :=
  let c3_i32_3118 : BitVec 32 := 3#32
  let v6324 : BitVec 32 := Scalar.shrsi v6323 c3_i32_3118
  let c3_i32_3119 : BitVec 32 := 3#32
  let v6325 : BitVec 32 := Scalar.shli v6324 c3_i32_3119
  let v6326 : BitVec 32 := v6325
  let v6328 : Index := Scalar.indexCast v6326
  let c0_3120 : Index := 0#32
  ![Nat.mul 2 v6328.toNat, 0]

def k0_chk257 (v6323 : BitVec 32) : Prop :=
  (8 ∣ (k0_mult259 v6323).toNat) ∧
  (∀ a, (k0_off388 v6323) a + S16x128.size a ≤ S20016x128.size a)
theorem k0_mult259_dvd : ∀ (v6323 : BitVec 32) (k0_hw257 : k0_chk257 v6323), 8 ∣ (k0_mult259 v6323).toNat := fun v6323 k0_hw257 => k0_hw257.1
theorem k0_off388_inb : ∀ (v6323 : BitVec 32) (k0_hw257 : k0_chk257 v6323), ∀ a, (k0_off388 v6323) a + S16x128.size a ≤ S20016x128.size a := fun v6323 k0_hw257 => k0_hw257.2

def k0_off389 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c0_i32_3123 : BitVec 32 := 0#32
  let v6334 : BitVec 32 := Scalar.addi v6320 c0_i32_3123
  let v6335 : Index := Scalar.indexCast v6334
  let c0_3124 : Index := 0#32
  ![v6335.toNat, 0, 0]
def k0_off390 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c1_i32_3125 : BitVec 32 := 1#32
  let v6339 : BitVec 32 := Scalar.addi v6320 c1_i32_3125
  let v6340 : Index := Scalar.indexCast v6339
  ![v6340.toNat]
def k0_mult260 (v6341 : BitVec 32) : BitVec 32 :=
  let c3_i32_3126 : BitVec 32 := 3#32
  let v6342 : BitVec 32 := Scalar.shrsi v6341 c3_i32_3126
  let c3_i32_3127 : BitVec 32 := 3#32
  let v6343 : BitVec 32 := Scalar.shli v6342 c3_i32_3127
  v6343

def k0_off391 (v6341 : BitVec 32) : Fin 2 → Nat :=
  let c3_i32_3126 : BitVec 32 := 3#32
  let v6342 : BitVec 32 := Scalar.shrsi v6341 c3_i32_3126
  let c3_i32_3127 : BitVec 32 := 3#32
  let v6343 : BitVec 32 := Scalar.shli v6342 c3_i32_3127
  let v6344 : BitVec 32 := v6343
  let v6346 : Index := Scalar.indexCast v6344
  let c0_3128 : Index := 0#32
  ![Nat.mul 2 v6346.toNat, 0]

def k0_chk258 (v6341 : BitVec 32) : Prop :=
  (8 ∣ (k0_mult260 v6341).toNat) ∧
  (∀ a, (k0_off391 v6341) a + S16x128.size a ≤ S20016x128.size a)
theorem k0_mult260_dvd : ∀ (v6341 : BitVec 32) (k0_hw258 : k0_chk258 v6341), 8 ∣ (k0_mult260 v6341).toNat := fun v6341 k0_hw258 => k0_hw258.1
theorem k0_off391_inb : ∀ (v6341 : BitVec 32) (k0_hw258 : k0_chk258 v6341), ∀ a, (k0_off391 v6341) a + S16x128.size a ≤ S20016x128.size a := fun v6341 k0_hw258 => k0_hw258.2

def k0_off392 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c1_i32_3131 : BitVec 32 := 1#32
  let v6352 : BitVec 32 := Scalar.addi v6320 c1_i32_3131
  let v6353 : Index := Scalar.indexCast v6352
  let c0_3132 : Index := 0#32
  ![v6353.toNat, 0, 0]
def k0_off393 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c2_i32_3133 : BitVec 32 := 2#32
  let v6357 : BitVec 32 := Scalar.addi v6320 c2_i32_3133
  let v6358 : Index := Scalar.indexCast v6357
  ![v6358.toNat]
def k0_mult261 (v6359 : BitVec 32) : BitVec 32 :=
  let c3_i32_3134 : BitVec 32 := 3#32
  let v6360 : BitVec 32 := Scalar.shrsi v6359 c3_i32_3134
  let c3_i32_3135 : BitVec 32 := 3#32
  let v6361 : BitVec 32 := Scalar.shli v6360 c3_i32_3135
  v6361

def k0_off394 (v6359 : BitVec 32) : Fin 2 → Nat :=
  let c3_i32_3134 : BitVec 32 := 3#32
  let v6360 : BitVec 32 := Scalar.shrsi v6359 c3_i32_3134
  let c3_i32_3135 : BitVec 32 := 3#32
  let v6361 : BitVec 32 := Scalar.shli v6360 c3_i32_3135
  let v6362 : BitVec 32 := v6361
  let v6364 : Index := Scalar.indexCast v6362
  let c0_3136 : Index := 0#32
  ![Nat.mul 2 v6364.toNat, 0]

def k0_chk259 (v6359 : BitVec 32) : Prop :=
  (8 ∣ (k0_mult261 v6359).toNat) ∧
  (∀ a, (k0_off394 v6359) a + S16x128.size a ≤ S20016x128.size a)
theorem k0_mult261_dvd : ∀ (v6359 : BitVec 32) (k0_hw259 : k0_chk259 v6359), 8 ∣ (k0_mult261 v6359).toNat := fun v6359 k0_hw259 => k0_hw259.1
theorem k0_off394_inb : ∀ (v6359 : BitVec 32) (k0_hw259 : k0_chk259 v6359), ∀ a, (k0_off394 v6359) a + S16x128.size a ≤ S20016x128.size a := fun v6359 k0_hw259 => k0_hw259.2

def k0_off395 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c2_i32_3139 : BitVec 32 := 2#32
  let v6370 : BitVec 32 := Scalar.addi v6320 c2_i32_3139
  let v6371 : Index := Scalar.indexCast v6370
  let c0_3140 : Index := 0#32
  ![v6371.toNat, 0, 0]
def k0_off396 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c3_i32_3141 : BitVec 32 := 3#32
  let v6375 : BitVec 32 := Scalar.addi v6320 c3_i32_3141
  let v6376 : Index := Scalar.indexCast v6375
  ![v6376.toNat]
def k0_mult262 (v6377 : BitVec 32) : BitVec 32 :=
  let c3_i32_3142 : BitVec 32 := 3#32
  let v6378 : BitVec 32 := Scalar.shrsi v6377 c3_i32_3142
  let c3_i32_3143 : BitVec 32 := 3#32
  let v6379 : BitVec 32 := Scalar.shli v6378 c3_i32_3143
  v6379

def k0_off397 (v6377 : BitVec 32) : Fin 2 → Nat :=
  let c3_i32_3142 : BitVec 32 := 3#32
  let v6378 : BitVec 32 := Scalar.shrsi v6377 c3_i32_3142
  let c3_i32_3143 : BitVec 32 := 3#32
  let v6379 : BitVec 32 := Scalar.shli v6378 c3_i32_3143
  let v6380 : BitVec 32 := v6379
  let v6382 : Index := Scalar.indexCast v6380
  let c0_3144 : Index := 0#32
  ![Nat.mul 2 v6382.toNat, 0]

def k0_chk260 (v6377 : BitVec 32) : Prop :=
  (8 ∣ (k0_mult262 v6377).toNat) ∧
  (∀ a, (k0_off397 v6377) a + S16x128.size a ≤ S20016x128.size a)
theorem k0_mult262_dvd : ∀ (v6377 : BitVec 32) (k0_hw260 : k0_chk260 v6377), 8 ∣ (k0_mult262 v6377).toNat := fun v6377 k0_hw260 => k0_hw260.1
theorem k0_off397_inb : ∀ (v6377 : BitVec 32) (k0_hw260 : k0_chk260 v6377), ∀ a, (k0_off397 v6377) a + S16x128.size a ≤ S20016x128.size a := fun v6377 k0_hw260 => k0_hw260.2

def k0_off398 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c3_i32_3147 : BitVec 32 := 3#32
  let v6388 : BitVec 32 := Scalar.addi v6320 c3_i32_3147
  let v6389 : Index := Scalar.indexCast v6388
  let c0_3148 : Index := 0#32
  ![v6389.toNat, 0, 0]
def k0_off399 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c4_i32_3149 : BitVec 32 := 4#32
  let v6393 : BitVec 32 := Scalar.addi v6320 c4_i32_3149
  let v6394 : Index := Scalar.indexCast v6393
  ![v6394.toNat]
def k0_mult263 (v6395 : BitVec 32) : BitVec 32 :=
  let c3_i32_3150 : BitVec 32 := 3#32
  let v6396 : BitVec 32 := Scalar.shrsi v6395 c3_i32_3150
  let c3_i32_3151 : BitVec 32 := 3#32
  let v6397 : BitVec 32 := Scalar.shli v6396 c3_i32_3151
  v6397

def k0_off400 (v6395 : BitVec 32) : Fin 2 → Nat :=
  let c3_i32_3150 : BitVec 32 := 3#32
  let v6396 : BitVec 32 := Scalar.shrsi v6395 c3_i32_3150
  let c3_i32_3151 : BitVec 32 := 3#32
  let v6397 : BitVec 32 := Scalar.shli v6396 c3_i32_3151
  let v6398 : BitVec 32 := v6397
  let v6400 : Index := Scalar.indexCast v6398
  let c0_3152 : Index := 0#32
  ![Nat.mul 2 v6400.toNat, 0]

def k0_chk261 (v6395 : BitVec 32) : Prop :=
  (8 ∣ (k0_mult263 v6395).toNat) ∧
  (∀ a, (k0_off400 v6395) a + S16x128.size a ≤ S20016x128.size a)
theorem k0_mult263_dvd : ∀ (v6395 : BitVec 32) (k0_hw261 : k0_chk261 v6395), 8 ∣ (k0_mult263 v6395).toNat := fun v6395 k0_hw261 => k0_hw261.1
theorem k0_off400_inb : ∀ (v6395 : BitVec 32) (k0_hw261 : k0_chk261 v6395), ∀ a, (k0_off400 v6395) a + S16x128.size a ≤ S20016x128.size a := fun v6395 k0_hw261 => k0_hw261.2

def k0_off401 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c4_i32_3155 : BitVec 32 := 4#32
  let v6406 : BitVec 32 := Scalar.addi v6320 c4_i32_3155
  let v6407 : Index := Scalar.indexCast v6406
  let c0_3156 : Index := 0#32
  ![v6407.toNat, 0, 0]
def k0_off402 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c5_i32_3157 : BitVec 32 := 5#32
  let v6411 : BitVec 32 := Scalar.addi v6320 c5_i32_3157
  let v6412 : Index := Scalar.indexCast v6411
  ![v6412.toNat]
def k0_mult264 (v6413 : BitVec 32) : BitVec 32 :=
  let c3_i32_3158 : BitVec 32 := 3#32
  let v6414 : BitVec 32 := Scalar.shrsi v6413 c3_i32_3158
  let c3_i32_3159 : BitVec 32 := 3#32
  let v6415 : BitVec 32 := Scalar.shli v6414 c3_i32_3159
  v6415

def k0_off403 (v6413 : BitVec 32) : Fin 2 → Nat :=
  let c3_i32_3158 : BitVec 32 := 3#32
  let v6414 : BitVec 32 := Scalar.shrsi v6413 c3_i32_3158
  let c3_i32_3159 : BitVec 32 := 3#32
  let v6415 : BitVec 32 := Scalar.shli v6414 c3_i32_3159
  let v6416 : BitVec 32 := v6415
  let v6418 : Index := Scalar.indexCast v6416
  let c0_3160 : Index := 0#32
  ![Nat.mul 2 v6418.toNat, 0]

def k0_chk262 (v6413 : BitVec 32) : Prop :=
  (8 ∣ (k0_mult264 v6413).toNat) ∧
  (∀ a, (k0_off403 v6413) a + S16x128.size a ≤ S20016x128.size a)
theorem k0_mult264_dvd : ∀ (v6413 : BitVec 32) (k0_hw262 : k0_chk262 v6413), 8 ∣ (k0_mult264 v6413).toNat := fun v6413 k0_hw262 => k0_hw262.1
theorem k0_off403_inb : ∀ (v6413 : BitVec 32) (k0_hw262 : k0_chk262 v6413), ∀ a, (k0_off403 v6413) a + S16x128.size a ≤ S20016x128.size a := fun v6413 k0_hw262 => k0_hw262.2

def k0_off404 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c5_i32_3163 : BitVec 32 := 5#32
  let v6424 : BitVec 32 := Scalar.addi v6320 c5_i32_3163
  let v6425 : Index := Scalar.indexCast v6424
  let c0_3164 : Index := 0#32
  ![v6425.toNat, 0, 0]
def k0_off405 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c6_i32_3165 : BitVec 32 := 6#32
  let v6429 : BitVec 32 := Scalar.addi v6320 c6_i32_3165
  let v6430 : Index := Scalar.indexCast v6429
  ![v6430.toNat]
def k0_mult265 (v6431 : BitVec 32) : BitVec 32 :=
  let c3_i32_3166 : BitVec 32 := 3#32
  let v6432 : BitVec 32 := Scalar.shrsi v6431 c3_i32_3166
  let c3_i32_3167 : BitVec 32 := 3#32
  let v6433 : BitVec 32 := Scalar.shli v6432 c3_i32_3167
  v6433

def k0_off406 (v6431 : BitVec 32) : Fin 2 → Nat :=
  let c3_i32_3166 : BitVec 32 := 3#32
  let v6432 : BitVec 32 := Scalar.shrsi v6431 c3_i32_3166
  let c3_i32_3167 : BitVec 32 := 3#32
  let v6433 : BitVec 32 := Scalar.shli v6432 c3_i32_3167
  let v6434 : BitVec 32 := v6433
  let v6436 : Index := Scalar.indexCast v6434
  let c0_3168 : Index := 0#32
  ![Nat.mul 2 v6436.toNat, 0]

def k0_chk263 (v6431 : BitVec 32) : Prop :=
  (8 ∣ (k0_mult265 v6431).toNat) ∧
  (∀ a, (k0_off406 v6431) a + S16x128.size a ≤ S20016x128.size a)
theorem k0_mult265_dvd : ∀ (v6431 : BitVec 32) (k0_hw263 : k0_chk263 v6431), 8 ∣ (k0_mult265 v6431).toNat := fun v6431 k0_hw263 => k0_hw263.1
theorem k0_off406_inb : ∀ (v6431 : BitVec 32) (k0_hw263 : k0_chk263 v6431), ∀ a, (k0_off406 v6431) a + S16x128.size a ≤ S20016x128.size a := fun v6431 k0_hw263 => k0_hw263.2

def k0_off407 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c6_i32_3171 : BitVec 32 := 6#32
  let v6442 : BitVec 32 := Scalar.addi v6320 c6_i32_3171
  let v6443 : Index := Scalar.indexCast v6442
  let c0_3172 : Index := 0#32
  ![v6443.toNat, 0, 0]
def k0_off408 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c7_i32_3173 : BitVec 32 := 7#32
  let v6447 : BitVec 32 := Scalar.addi v6320 c7_i32_3173
  let v6448 : Index := Scalar.indexCast v6447
  ![v6448.toNat]
def k0_mult266 (v6449 : BitVec 32) : BitVec 32 :=
  let c3_i32_3174 : BitVec 32 := 3#32
  let v6450 : BitVec 32 := Scalar.shrsi v6449 c3_i32_3174
  let c3_i32_3175 : BitVec 32 := 3#32
  let v6451 : BitVec 32 := Scalar.shli v6450 c3_i32_3175
  v6451

def k0_off409 (v6449 : BitVec 32) : Fin 2 → Nat :=
  let c3_i32_3174 : BitVec 32 := 3#32
  let v6450 : BitVec 32 := Scalar.shrsi v6449 c3_i32_3174
  let c3_i32_3175 : BitVec 32 := 3#32
  let v6451 : BitVec 32 := Scalar.shli v6450 c3_i32_3175
  let v6452 : BitVec 32 := v6451
  let v6454 : Index := Scalar.indexCast v6452
  let c0_3176 : Index := 0#32
  ![Nat.mul 2 v6454.toNat, 0]

def k0_chk264 (v6449 : BitVec 32) : Prop :=
  (8 ∣ (k0_mult266 v6449).toNat) ∧
  (∀ a, (k0_off409 v6449) a + S16x128.size a ≤ S20016x128.size a)
theorem k0_mult266_dvd : ∀ (v6449 : BitVec 32) (k0_hw264 : k0_chk264 v6449), 8 ∣ (k0_mult266 v6449).toNat := fun v6449 k0_hw264 => k0_hw264.1
theorem k0_off409_inb : ∀ (v6449 : BitVec 32) (k0_hw264 : k0_chk264 v6449), ∀ a, (k0_off409 v6449) a + S16x128.size a ≤ S20016x128.size a := fun v6449 k0_hw264 => k0_hw264.2

def k0_off410 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c7_i32_3179 : BitVec 32 := 7#32
  let v6460 : BitVec 32 := Scalar.addi v6320 c7_i32_3179
  let v6461 : Index := Scalar.indexCast v6460
  let c0_3180 : Index := 0#32
  ![v6461.toNat, 0, 0]
def k0_off411 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c8_i32_3181 : BitVec 32 := 8#32
  let v6465 : BitVec 32 := Scalar.addi v6320 c8_i32_3181
  let v6466 : Index := Scalar.indexCast v6465
  ![v6466.toNat]
def k0_mult267 (v6467 : BitVec 32) : BitVec 32 :=
  let c3_i32_3182 : BitVec 32 := 3#32
  let v6468 : BitVec 32 := Scalar.shrsi v6467 c3_i32_3182
  let c3_i32_3183 : BitVec 32 := 3#32
  let v6469 : BitVec 32 := Scalar.shli v6468 c3_i32_3183
  v6469

def k0_off412 (v6467 : BitVec 32) : Fin 2 → Nat :=
  let c3_i32_3182 : BitVec 32 := 3#32
  let v6468 : BitVec 32 := Scalar.shrsi v6467 c3_i32_3182
  let c3_i32_3183 : BitVec 32 := 3#32
  let v6469 : BitVec 32 := Scalar.shli v6468 c3_i32_3183
  let v6470 : BitVec 32 := v6469
  let v6472 : Index := Scalar.indexCast v6470
  let c0_3184 : Index := 0#32
  ![Nat.mul 2 v6472.toNat, 0]

def k0_chk265 (v6467 : BitVec 32) : Prop :=
  (8 ∣ (k0_mult267 v6467).toNat) ∧
  (∀ a, (k0_off412 v6467) a + S16x128.size a ≤ S20016x128.size a)
theorem k0_mult267_dvd : ∀ (v6467 : BitVec 32) (k0_hw265 : k0_chk265 v6467), 8 ∣ (k0_mult267 v6467).toNat := fun v6467 k0_hw265 => k0_hw265.1
theorem k0_off412_inb : ∀ (v6467 : BitVec 32) (k0_hw265 : k0_chk265 v6467), ∀ a, (k0_off412 v6467) a + S16x128.size a ≤ S20016x128.size a := fun v6467 k0_hw265 => k0_hw265.2

def k0_off413 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c8_i32_3187 : BitVec 32 := 8#32
  let v6478 : BitVec 32 := Scalar.addi v6320 c8_i32_3187
  let v6479 : Index := Scalar.indexCast v6478
  let c0_3188 : Index := 0#32
  ![v6479.toNat, 0, 0]
def k0_off414 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c9_i32_3189 : BitVec 32 := 9#32
  let v6483 : BitVec 32 := Scalar.addi v6320 c9_i32_3189
  let v6484 : Index := Scalar.indexCast v6483
  ![v6484.toNat]
def k0_mult268 (v6485 : BitVec 32) : BitVec 32 :=
  let c3_i32_3190 : BitVec 32 := 3#32
  let v6486 : BitVec 32 := Scalar.shrsi v6485 c3_i32_3190
  let c3_i32_3191 : BitVec 32 := 3#32
  let v6487 : BitVec 32 := Scalar.shli v6486 c3_i32_3191
  v6487

def k0_off415 (v6485 : BitVec 32) : Fin 2 → Nat :=
  let c3_i32_3190 : BitVec 32 := 3#32
  let v6486 : BitVec 32 := Scalar.shrsi v6485 c3_i32_3190
  let c3_i32_3191 : BitVec 32 := 3#32
  let v6487 : BitVec 32 := Scalar.shli v6486 c3_i32_3191
  let v6488 : BitVec 32 := v6487
  let v6490 : Index := Scalar.indexCast v6488
  let c0_3192 : Index := 0#32
  ![Nat.mul 2 v6490.toNat, 0]

def k0_chk266 (v6485 : BitVec 32) : Prop :=
  (8 ∣ (k0_mult268 v6485).toNat) ∧
  (∀ a, (k0_off415 v6485) a + S16x128.size a ≤ S20016x128.size a)
theorem k0_mult268_dvd : ∀ (v6485 : BitVec 32) (k0_hw266 : k0_chk266 v6485), 8 ∣ (k0_mult268 v6485).toNat := fun v6485 k0_hw266 => k0_hw266.1
theorem k0_off415_inb : ∀ (v6485 : BitVec 32) (k0_hw266 : k0_chk266 v6485), ∀ a, (k0_off415 v6485) a + S16x128.size a ≤ S20016x128.size a := fun v6485 k0_hw266 => k0_hw266.2

def k0_off416 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c9_i32_3195 : BitVec 32 := 9#32
  let v6496 : BitVec 32 := Scalar.addi v6320 c9_i32_3195
  let v6497 : Index := Scalar.indexCast v6496
  let c0_3196 : Index := 0#32
  ![v6497.toNat, 0, 0]
def k0_off417 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c10_i32_3197 : BitVec 32 := 10#32
  let v6501 : BitVec 32 := Scalar.addi v6320 c10_i32_3197
  let v6502 : Index := Scalar.indexCast v6501
  ![v6502.toNat]
def k0_mult269 (v6503 : BitVec 32) : BitVec 32 :=
  let c3_i32_3198 : BitVec 32 := 3#32
  let v6504 : BitVec 32 := Scalar.shrsi v6503 c3_i32_3198
  let c3_i32_3199 : BitVec 32 := 3#32
  let v6505 : BitVec 32 := Scalar.shli v6504 c3_i32_3199
  v6505

def k0_off418 (v6503 : BitVec 32) : Fin 2 → Nat :=
  let c3_i32_3198 : BitVec 32 := 3#32
  let v6504 : BitVec 32 := Scalar.shrsi v6503 c3_i32_3198
  let c3_i32_3199 : BitVec 32 := 3#32
  let v6505 : BitVec 32 := Scalar.shli v6504 c3_i32_3199
  let v6506 : BitVec 32 := v6505
  let v6508 : Index := Scalar.indexCast v6506
  let c0_3200 : Index := 0#32
  ![Nat.mul 2 v6508.toNat, 0]

def k0_chk267 (v6503 : BitVec 32) : Prop :=
  (8 ∣ (k0_mult269 v6503).toNat) ∧
  (∀ a, (k0_off418 v6503) a + S16x128.size a ≤ S20016x128.size a)
theorem k0_mult269_dvd : ∀ (v6503 : BitVec 32) (k0_hw267 : k0_chk267 v6503), 8 ∣ (k0_mult269 v6503).toNat := fun v6503 k0_hw267 => k0_hw267.1
theorem k0_off418_inb : ∀ (v6503 : BitVec 32) (k0_hw267 : k0_chk267 v6503), ∀ a, (k0_off418 v6503) a + S16x128.size a ≤ S20016x128.size a := fun v6503 k0_hw267 => k0_hw267.2

def k0_off419 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c10_i32_3203 : BitVec 32 := 10#32
  let v6514 : BitVec 32 := Scalar.addi v6320 c10_i32_3203
  let v6515 : Index := Scalar.indexCast v6514
  let c0_3204 : Index := 0#32
  ![v6515.toNat, 0, 0]
def k0_off420 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c11_i32_3205 : BitVec 32 := 11#32
  let v6519 : BitVec 32 := Scalar.addi v6320 c11_i32_3205
  let v6520 : Index := Scalar.indexCast v6519
  ![v6520.toNat]
def k0_mult270 (v6521 : BitVec 32) : BitVec 32 :=
  let c3_i32_3206 : BitVec 32 := 3#32
  let v6522 : BitVec 32 := Scalar.shrsi v6521 c3_i32_3206
  let c3_i32_3207 : BitVec 32 := 3#32
  let v6523 : BitVec 32 := Scalar.shli v6522 c3_i32_3207
  v6523

def k0_off421 (v6521 : BitVec 32) : Fin 2 → Nat :=
  let c3_i32_3206 : BitVec 32 := 3#32
  let v6522 : BitVec 32 := Scalar.shrsi v6521 c3_i32_3206
  let c3_i32_3207 : BitVec 32 := 3#32
  let v6523 : BitVec 32 := Scalar.shli v6522 c3_i32_3207
  let v6524 : BitVec 32 := v6523
  let v6526 : Index := Scalar.indexCast v6524
  let c0_3208 : Index := 0#32
  ![Nat.mul 2 v6526.toNat, 0]

def k0_chk268 (v6521 : BitVec 32) : Prop :=
  (8 ∣ (k0_mult270 v6521).toNat) ∧
  (∀ a, (k0_off421 v6521) a + S16x128.size a ≤ S20016x128.size a)
theorem k0_mult270_dvd : ∀ (v6521 : BitVec 32) (k0_hw268 : k0_chk268 v6521), 8 ∣ (k0_mult270 v6521).toNat := fun v6521 k0_hw268 => k0_hw268.1
theorem k0_off421_inb : ∀ (v6521 : BitVec 32) (k0_hw268 : k0_chk268 v6521), ∀ a, (k0_off421 v6521) a + S16x128.size a ≤ S20016x128.size a := fun v6521 k0_hw268 => k0_hw268.2

def k0_off422 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c11_i32_3211 : BitVec 32 := 11#32
  let v6532 : BitVec 32 := Scalar.addi v6320 c11_i32_3211
  let v6533 : Index := Scalar.indexCast v6532
  let c0_3212 : Index := 0#32
  ![v6533.toNat, 0, 0]
def k0_off423 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c12_i32_3213 : BitVec 32 := 12#32
  let v6537 : BitVec 32 := Scalar.addi v6320 c12_i32_3213
  let v6538 : Index := Scalar.indexCast v6537
  ![v6538.toNat]
def k0_mult271 (v6539 : BitVec 32) : BitVec 32 :=
  let c3_i32_3214 : BitVec 32 := 3#32
  let v6540 : BitVec 32 := Scalar.shrsi v6539 c3_i32_3214
  let c3_i32_3215 : BitVec 32 := 3#32
  let v6541 : BitVec 32 := Scalar.shli v6540 c3_i32_3215
  v6541

def k0_off424 (v6539 : BitVec 32) : Fin 2 → Nat :=
  let c3_i32_3214 : BitVec 32 := 3#32
  let v6540 : BitVec 32 := Scalar.shrsi v6539 c3_i32_3214
  let c3_i32_3215 : BitVec 32 := 3#32
  let v6541 : BitVec 32 := Scalar.shli v6540 c3_i32_3215
  let v6542 : BitVec 32 := v6541
  let v6544 : Index := Scalar.indexCast v6542
  let c0_3216 : Index := 0#32
  ![Nat.mul 2 v6544.toNat, 0]

def k0_chk269 (v6539 : BitVec 32) : Prop :=
  (8 ∣ (k0_mult271 v6539).toNat) ∧
  (∀ a, (k0_off424 v6539) a + S16x128.size a ≤ S20016x128.size a)
theorem k0_mult271_dvd : ∀ (v6539 : BitVec 32) (k0_hw269 : k0_chk269 v6539), 8 ∣ (k0_mult271 v6539).toNat := fun v6539 k0_hw269 => k0_hw269.1
theorem k0_off424_inb : ∀ (v6539 : BitVec 32) (k0_hw269 : k0_chk269 v6539), ∀ a, (k0_off424 v6539) a + S16x128.size a ≤ S20016x128.size a := fun v6539 k0_hw269 => k0_hw269.2

def k0_off425 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c12_i32_3219 : BitVec 32 := 12#32
  let v6550 : BitVec 32 := Scalar.addi v6320 c12_i32_3219
  let v6551 : Index := Scalar.indexCast v6550
  let c0_3220 : Index := 0#32
  ![v6551.toNat, 0, 0]
def k0_off426 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c13_i32_3221 : BitVec 32 := 13#32
  let v6555 : BitVec 32 := Scalar.addi v6320 c13_i32_3221
  let v6556 : Index := Scalar.indexCast v6555
  ![v6556.toNat]
def k0_mult272 (v6557 : BitVec 32) : BitVec 32 :=
  let c3_i32_3222 : BitVec 32 := 3#32
  let v6558 : BitVec 32 := Scalar.shrsi v6557 c3_i32_3222
  let c3_i32_3223 : BitVec 32 := 3#32
  let v6559 : BitVec 32 := Scalar.shli v6558 c3_i32_3223
  v6559

def k0_off427 (v6557 : BitVec 32) : Fin 2 → Nat :=
  let c3_i32_3222 : BitVec 32 := 3#32
  let v6558 : BitVec 32 := Scalar.shrsi v6557 c3_i32_3222
  let c3_i32_3223 : BitVec 32 := 3#32
  let v6559 : BitVec 32 := Scalar.shli v6558 c3_i32_3223
  let v6560 : BitVec 32 := v6559
  let v6562 : Index := Scalar.indexCast v6560
  let c0_3224 : Index := 0#32
  ![Nat.mul 2 v6562.toNat, 0]

def k0_chk270 (v6557 : BitVec 32) : Prop :=
  (8 ∣ (k0_mult272 v6557).toNat) ∧
  (∀ a, (k0_off427 v6557) a + S16x128.size a ≤ S20016x128.size a)
theorem k0_mult272_dvd : ∀ (v6557 : BitVec 32) (k0_hw270 : k0_chk270 v6557), 8 ∣ (k0_mult272 v6557).toNat := fun v6557 k0_hw270 => k0_hw270.1
theorem k0_off427_inb : ∀ (v6557 : BitVec 32) (k0_hw270 : k0_chk270 v6557), ∀ a, (k0_off427 v6557) a + S16x128.size a ≤ S20016x128.size a := fun v6557 k0_hw270 => k0_hw270.2

def k0_off428 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c13_i32_3227 : BitVec 32 := 13#32
  let v6568 : BitVec 32 := Scalar.addi v6320 c13_i32_3227
  let v6569 : Index := Scalar.indexCast v6568
  let c0_3228 : Index := 0#32
  ![v6569.toNat, 0, 0]
def k0_off429 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c14_i32_3229 : BitVec 32 := 14#32
  let v6573 : BitVec 32 := Scalar.addi v6320 c14_i32_3229
  let v6574 : Index := Scalar.indexCast v6573
  ![v6574.toNat]
def k0_mult273 (v6575 : BitVec 32) : BitVec 32 :=
  let c3_i32_3230 : BitVec 32 := 3#32
  let v6576 : BitVec 32 := Scalar.shrsi v6575 c3_i32_3230
  let c3_i32_3231 : BitVec 32 := 3#32
  let v6577 : BitVec 32 := Scalar.shli v6576 c3_i32_3231
  v6577

def k0_off430 (v6575 : BitVec 32) : Fin 2 → Nat :=
  let c3_i32_3230 : BitVec 32 := 3#32
  let v6576 : BitVec 32 := Scalar.shrsi v6575 c3_i32_3230
  let c3_i32_3231 : BitVec 32 := 3#32
  let v6577 : BitVec 32 := Scalar.shli v6576 c3_i32_3231
  let v6578 : BitVec 32 := v6577
  let v6580 : Index := Scalar.indexCast v6578
  let c0_3232 : Index := 0#32
  ![Nat.mul 2 v6580.toNat, 0]

def k0_chk271 (v6575 : BitVec 32) : Prop :=
  (8 ∣ (k0_mult273 v6575).toNat) ∧
  (∀ a, (k0_off430 v6575) a + S16x128.size a ≤ S20016x128.size a)
theorem k0_mult273_dvd : ∀ (v6575 : BitVec 32) (k0_hw271 : k0_chk271 v6575), 8 ∣ (k0_mult273 v6575).toNat := fun v6575 k0_hw271 => k0_hw271.1
theorem k0_off430_inb : ∀ (v6575 : BitVec 32) (k0_hw271 : k0_chk271 v6575), ∀ a, (k0_off430 v6575) a + S16x128.size a ≤ S20016x128.size a := fun v6575 k0_hw271 => k0_hw271.2

def k0_off431 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c14_i32_3235 : BitVec 32 := 14#32
  let v6586 : BitVec 32 := Scalar.addi v6320 c14_i32_3235
  let v6587 : Index := Scalar.indexCast v6586
  let c0_3236 : Index := 0#32
  ![v6587.toNat, 0, 0]
def k0_off432 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c15_i32_3237 : BitVec 32 := 15#32
  let v6591 : BitVec 32 := Scalar.addi v6320 c15_i32_3237
  let v6592 : Index := Scalar.indexCast v6591
  ![v6592.toNat]
def k0_mult274 (v6593 : BitVec 32) : BitVec 32 :=
  let c3_i32_3238 : BitVec 32 := 3#32
  let v6594 : BitVec 32 := Scalar.shrsi v6593 c3_i32_3238
  let c3_i32_3239 : BitVec 32 := 3#32
  let v6595 : BitVec 32 := Scalar.shli v6594 c3_i32_3239
  v6595

def k0_off433 (v6593 : BitVec 32) : Fin 2 → Nat :=
  let c3_i32_3238 : BitVec 32 := 3#32
  let v6594 : BitVec 32 := Scalar.shrsi v6593 c3_i32_3238
  let c3_i32_3239 : BitVec 32 := 3#32
  let v6595 : BitVec 32 := Scalar.shli v6594 c3_i32_3239
  let v6596 : BitVec 32 := v6595
  let v6598 : Index := Scalar.indexCast v6596
  let c0_3240 : Index := 0#32
  ![Nat.mul 2 v6598.toNat, 0]

def k0_chk272 (v6593 : BitVec 32) : Prop :=
  (8 ∣ (k0_mult274 v6593).toNat) ∧
  (∀ a, (k0_off433 v6593) a + S16x128.size a ≤ S20016x128.size a)
theorem k0_mult274_dvd : ∀ (v6593 : BitVec 32) (k0_hw272 : k0_chk272 v6593), 8 ∣ (k0_mult274 v6593).toNat := fun v6593 k0_hw272 => k0_hw272.1
theorem k0_off433_inb : ∀ (v6593 : BitVec 32) (k0_hw272 : k0_chk272 v6593), ∀ a, (k0_off433 v6593) a + S16x128.size a ≤ S20016x128.size a := fun v6593 k0_hw272 => k0_hw272.2

def k0_off434 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c15_i32_3243 : BitVec 32 := 15#32
  let v6604 : BitVec 32 := Scalar.addi v6320 c15_i32_3243
  let v6605 : Index := Scalar.indexCast v6604
  let c0_3244 : Index := 0#32
  ![v6605.toNat, 0, 0]
def k0_off435 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c16_i32_3245 : BitVec 32 := 16#32
  let v6609 : BitVec 32 := Scalar.addi v6320 c16_i32_3245
  let v6610 : Index := Scalar.indexCast v6609
  ![v6610.toNat]
def k0_mult275 (v6611 : BitVec 32) : BitVec 32 :=
  let c3_i32_3246 : BitVec 32 := 3#32
  let v6612 : BitVec 32 := Scalar.shrsi v6611 c3_i32_3246
  let c3_i32_3247 : BitVec 32 := 3#32
  let v6613 : BitVec 32 := Scalar.shli v6612 c3_i32_3247
  v6613

def k0_off436 (v6611 : BitVec 32) : Fin 2 → Nat :=
  let c3_i32_3246 : BitVec 32 := 3#32
  let v6612 : BitVec 32 := Scalar.shrsi v6611 c3_i32_3246
  let c3_i32_3247 : BitVec 32 := 3#32
  let v6613 : BitVec 32 := Scalar.shli v6612 c3_i32_3247
  let v6614 : BitVec 32 := v6613
  let v6616 : Index := Scalar.indexCast v6614
  let c0_3248 : Index := 0#32
  ![Nat.mul 2 v6616.toNat, 0]

def k0_chk273 (v6611 : BitVec 32) : Prop :=
  (8 ∣ (k0_mult275 v6611).toNat) ∧
  (∀ a, (k0_off436 v6611) a + S16x128.size a ≤ S20016x128.size a)
theorem k0_mult275_dvd : ∀ (v6611 : BitVec 32) (k0_hw273 : k0_chk273 v6611), 8 ∣ (k0_mult275 v6611).toNat := fun v6611 k0_hw273 => k0_hw273.1
theorem k0_off436_inb : ∀ (v6611 : BitVec 32) (k0_hw273 : k0_chk273 v6611), ∀ a, (k0_off436 v6611) a + S16x128.size a ≤ S20016x128.size a := fun v6611 k0_hw273 => k0_hw273.2

def k0_off437 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c16_i32_3251 : BitVec 32 := 16#32
  let v6622 : BitVec 32 := Scalar.addi v6320 c16_i32_3251
  let v6623 : Index := Scalar.indexCast v6622
  let c0_3252 : Index := 0#32
  ![v6623.toNat, 0, 0]
def k0_off438 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c17_i32_3253 : BitVec 32 := 17#32
  let v6627 : BitVec 32 := Scalar.addi v6320 c17_i32_3253
  let v6628 : Index := Scalar.indexCast v6627
  ![v6628.toNat]
def k0_mult276 (v6629 : BitVec 32) : BitVec 32 :=
  let c3_i32_3254 : BitVec 32 := 3#32
  let v6630 : BitVec 32 := Scalar.shrsi v6629 c3_i32_3254
  let c3_i32_3255 : BitVec 32 := 3#32
  let v6631 : BitVec 32 := Scalar.shli v6630 c3_i32_3255
  v6631

def k0_off439 (v6629 : BitVec 32) : Fin 2 → Nat :=
  let c3_i32_3254 : BitVec 32 := 3#32
  let v6630 : BitVec 32 := Scalar.shrsi v6629 c3_i32_3254
  let c3_i32_3255 : BitVec 32 := 3#32
  let v6631 : BitVec 32 := Scalar.shli v6630 c3_i32_3255
  let v6632 : BitVec 32 := v6631
  let v6634 : Index := Scalar.indexCast v6632
  let c0_3256 : Index := 0#32
  ![Nat.mul 2 v6634.toNat, 0]

def k0_chk274 (v6629 : BitVec 32) : Prop :=
  (8 ∣ (k0_mult276 v6629).toNat) ∧
  (∀ a, (k0_off439 v6629) a + S16x128.size a ≤ S20016x128.size a)
theorem k0_mult276_dvd : ∀ (v6629 : BitVec 32) (k0_hw274 : k0_chk274 v6629), 8 ∣ (k0_mult276 v6629).toNat := fun v6629 k0_hw274 => k0_hw274.1
theorem k0_off439_inb : ∀ (v6629 : BitVec 32) (k0_hw274 : k0_chk274 v6629), ∀ a, (k0_off439 v6629) a + S16x128.size a ≤ S20016x128.size a := fun v6629 k0_hw274 => k0_hw274.2

def k0_off440 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c17_i32_3259 : BitVec 32 := 17#32
  let v6640 : BitVec 32 := Scalar.addi v6320 c17_i32_3259
  let v6641 : Index := Scalar.indexCast v6640
  let c0_3260 : Index := 0#32
  ![v6641.toNat, 0, 0]
def k0_off441 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c18_i32_3261 : BitVec 32 := 18#32
  let v6645 : BitVec 32 := Scalar.addi v6320 c18_i32_3261
  let v6646 : Index := Scalar.indexCast v6645
  ![v6646.toNat]
def k0_mult277 (v6647 : BitVec 32) : BitVec 32 :=
  let c3_i32_3262 : BitVec 32 := 3#32
  let v6648 : BitVec 32 := Scalar.shrsi v6647 c3_i32_3262
  let c3_i32_3263 : BitVec 32 := 3#32
  let v6649 : BitVec 32 := Scalar.shli v6648 c3_i32_3263
  v6649

def k0_off442 (v6647 : BitVec 32) : Fin 2 → Nat :=
  let c3_i32_3262 : BitVec 32 := 3#32
  let v6648 : BitVec 32 := Scalar.shrsi v6647 c3_i32_3262
  let c3_i32_3263 : BitVec 32 := 3#32
  let v6649 : BitVec 32 := Scalar.shli v6648 c3_i32_3263
  let v6650 : BitVec 32 := v6649
  let v6652 : Index := Scalar.indexCast v6650
  let c0_3264 : Index := 0#32
  ![Nat.mul 2 v6652.toNat, 0]

def k0_chk275 (v6647 : BitVec 32) : Prop :=
  (8 ∣ (k0_mult277 v6647).toNat) ∧
  (∀ a, (k0_off442 v6647) a + S16x128.size a ≤ S20016x128.size a)
theorem k0_mult277_dvd : ∀ (v6647 : BitVec 32) (k0_hw275 : k0_chk275 v6647), 8 ∣ (k0_mult277 v6647).toNat := fun v6647 k0_hw275 => k0_hw275.1
theorem k0_off442_inb : ∀ (v6647 : BitVec 32) (k0_hw275 : k0_chk275 v6647), ∀ a, (k0_off442 v6647) a + S16x128.size a ≤ S20016x128.size a := fun v6647 k0_hw275 => k0_hw275.2

def k0_off443 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c18_i32_3267 : BitVec 32 := 18#32
  let v6658 : BitVec 32 := Scalar.addi v6320 c18_i32_3267
  let v6659 : Index := Scalar.indexCast v6658
  let c0_3268 : Index := 0#32
  ![v6659.toNat, 0, 0]
def k0_off444 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c19_i32_3269 : BitVec 32 := 19#32
  let v6663 : BitVec 32 := Scalar.addi v6320 c19_i32_3269
  let v6664 : Index := Scalar.indexCast v6663
  ![v6664.toNat]
def k0_mult278 (v6665 : BitVec 32) : BitVec 32 :=
  let c3_i32_3270 : BitVec 32 := 3#32
  let v6666 : BitVec 32 := Scalar.shrsi v6665 c3_i32_3270
  let c3_i32_3271 : BitVec 32 := 3#32
  let v6667 : BitVec 32 := Scalar.shli v6666 c3_i32_3271
  v6667

def k0_off445 (v6665 : BitVec 32) : Fin 2 → Nat :=
  let c3_i32_3270 : BitVec 32 := 3#32
  let v6666 : BitVec 32 := Scalar.shrsi v6665 c3_i32_3270
  let c3_i32_3271 : BitVec 32 := 3#32
  let v6667 : BitVec 32 := Scalar.shli v6666 c3_i32_3271
  let v6668 : BitVec 32 := v6667
  let v6670 : Index := Scalar.indexCast v6668
  let c0_3272 : Index := 0#32
  ![Nat.mul 2 v6670.toNat, 0]

def k0_chk276 (v6665 : BitVec 32) : Prop :=
  (8 ∣ (k0_mult278 v6665).toNat) ∧
  (∀ a, (k0_off445 v6665) a + S16x128.size a ≤ S20016x128.size a)
theorem k0_mult278_dvd : ∀ (v6665 : BitVec 32) (k0_hw276 : k0_chk276 v6665), 8 ∣ (k0_mult278 v6665).toNat := fun v6665 k0_hw276 => k0_hw276.1
theorem k0_off445_inb : ∀ (v6665 : BitVec 32) (k0_hw276 : k0_chk276 v6665), ∀ a, (k0_off445 v6665) a + S16x128.size a ≤ S20016x128.size a := fun v6665 k0_hw276 => k0_hw276.2

def k0_off446 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c19_i32_3275 : BitVec 32 := 19#32
  let v6676 : BitVec 32 := Scalar.addi v6320 c19_i32_3275
  let v6677 : Index := Scalar.indexCast v6676
  let c0_3276 : Index := 0#32
  ![v6677.toNat, 0, 0]
def k0_off447 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c20_i32_3277 : BitVec 32 := 20#32
  let v6681 : BitVec 32 := Scalar.addi v6320 c20_i32_3277
  let v6682 : Index := Scalar.indexCast v6681
  ![v6682.toNat]
def k0_mult279 (v6683 : BitVec 32) : BitVec 32 :=
  let c3_i32_3278 : BitVec 32 := 3#32
  let v6684 : BitVec 32 := Scalar.shrsi v6683 c3_i32_3278
  let c3_i32_3279 : BitVec 32 := 3#32
  let v6685 : BitVec 32 := Scalar.shli v6684 c3_i32_3279
  v6685

def k0_off448 (v6683 : BitVec 32) : Fin 2 → Nat :=
  let c3_i32_3278 : BitVec 32 := 3#32
  let v6684 : BitVec 32 := Scalar.shrsi v6683 c3_i32_3278
  let c3_i32_3279 : BitVec 32 := 3#32
  let v6685 : BitVec 32 := Scalar.shli v6684 c3_i32_3279
  let v6686 : BitVec 32 := v6685
  let v6688 : Index := Scalar.indexCast v6686
  let c0_3280 : Index := 0#32
  ![Nat.mul 2 v6688.toNat, 0]

def k0_chk277 (v6683 : BitVec 32) : Prop :=
  (8 ∣ (k0_mult279 v6683).toNat) ∧
  (∀ a, (k0_off448 v6683) a + S16x128.size a ≤ S20016x128.size a)
theorem k0_mult279_dvd : ∀ (v6683 : BitVec 32) (k0_hw277 : k0_chk277 v6683), 8 ∣ (k0_mult279 v6683).toNat := fun v6683 k0_hw277 => k0_hw277.1
theorem k0_off448_inb : ∀ (v6683 : BitVec 32) (k0_hw277 : k0_chk277 v6683), ∀ a, (k0_off448 v6683) a + S16x128.size a ≤ S20016x128.size a := fun v6683 k0_hw277 => k0_hw277.2

def k0_off449 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c20_i32_3283 : BitVec 32 := 20#32
  let v6694 : BitVec 32 := Scalar.addi v6320 c20_i32_3283
  let v6695 : Index := Scalar.indexCast v6694
  let c0_3284 : Index := 0#32
  ![v6695.toNat, 0, 0]
def k0_off450 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c21_i32_3285 : BitVec 32 := 21#32
  let v6699 : BitVec 32 := Scalar.addi v6320 c21_i32_3285
  let v6700 : Index := Scalar.indexCast v6699
  ![v6700.toNat]
def k0_mult280 (v6701 : BitVec 32) : BitVec 32 :=
  let c3_i32_3286 : BitVec 32 := 3#32
  let v6702 : BitVec 32 := Scalar.shrsi v6701 c3_i32_3286
  let c3_i32_3287 : BitVec 32 := 3#32
  let v6703 : BitVec 32 := Scalar.shli v6702 c3_i32_3287
  v6703

def k0_off451 (v6701 : BitVec 32) : Fin 2 → Nat :=
  let c3_i32_3286 : BitVec 32 := 3#32
  let v6702 : BitVec 32 := Scalar.shrsi v6701 c3_i32_3286
  let c3_i32_3287 : BitVec 32 := 3#32
  let v6703 : BitVec 32 := Scalar.shli v6702 c3_i32_3287
  let v6704 : BitVec 32 := v6703
  let v6706 : Index := Scalar.indexCast v6704
  let c0_3288 : Index := 0#32
  ![Nat.mul 2 v6706.toNat, 0]

def k0_chk278 (v6701 : BitVec 32) : Prop :=
  (8 ∣ (k0_mult280 v6701).toNat) ∧
  (∀ a, (k0_off451 v6701) a + S16x128.size a ≤ S20016x128.size a)
theorem k0_mult280_dvd : ∀ (v6701 : BitVec 32) (k0_hw278 : k0_chk278 v6701), 8 ∣ (k0_mult280 v6701).toNat := fun v6701 k0_hw278 => k0_hw278.1
theorem k0_off451_inb : ∀ (v6701 : BitVec 32) (k0_hw278 : k0_chk278 v6701), ∀ a, (k0_off451 v6701) a + S16x128.size a ≤ S20016x128.size a := fun v6701 k0_hw278 => k0_hw278.2

def k0_off452 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c21_i32_3291 : BitVec 32 := 21#32
  let v6712 : BitVec 32 := Scalar.addi v6320 c21_i32_3291
  let v6713 : Index := Scalar.indexCast v6712
  let c0_3292 : Index := 0#32
  ![v6713.toNat, 0, 0]
def k0_off453 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c22_i32_3293 : BitVec 32 := 22#32
  let v6717 : BitVec 32 := Scalar.addi v6320 c22_i32_3293
  let v6718 : Index := Scalar.indexCast v6717
  ![v6718.toNat]
def k0_mult281 (v6719 : BitVec 32) : BitVec 32 :=
  let c3_i32_3294 : BitVec 32 := 3#32
  let v6720 : BitVec 32 := Scalar.shrsi v6719 c3_i32_3294
  let c3_i32_3295 : BitVec 32 := 3#32
  let v6721 : BitVec 32 := Scalar.shli v6720 c3_i32_3295
  v6721

def k0_off454 (v6719 : BitVec 32) : Fin 2 → Nat :=
  let c3_i32_3294 : BitVec 32 := 3#32
  let v6720 : BitVec 32 := Scalar.shrsi v6719 c3_i32_3294
  let c3_i32_3295 : BitVec 32 := 3#32
  let v6721 : BitVec 32 := Scalar.shli v6720 c3_i32_3295
  let v6722 : BitVec 32 := v6721
  let v6724 : Index := Scalar.indexCast v6722
  let c0_3296 : Index := 0#32
  ![Nat.mul 2 v6724.toNat, 0]

def k0_chk279 (v6719 : BitVec 32) : Prop :=
  (8 ∣ (k0_mult281 v6719).toNat) ∧
  (∀ a, (k0_off454 v6719) a + S16x128.size a ≤ S20016x128.size a)
theorem k0_mult281_dvd : ∀ (v6719 : BitVec 32) (k0_hw279 : k0_chk279 v6719), 8 ∣ (k0_mult281 v6719).toNat := fun v6719 k0_hw279 => k0_hw279.1
theorem k0_off454_inb : ∀ (v6719 : BitVec 32) (k0_hw279 : k0_chk279 v6719), ∀ a, (k0_off454 v6719) a + S16x128.size a ≤ S20016x128.size a := fun v6719 k0_hw279 => k0_hw279.2

def k0_off455 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c22_i32_3299 : BitVec 32 := 22#32
  let v6730 : BitVec 32 := Scalar.addi v6320 c22_i32_3299
  let v6731 : Index := Scalar.indexCast v6730
  let c0_3300 : Index := 0#32
  ![v6731.toNat, 0, 0]
def k0_off456 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c23_i32_3301 : BitVec 32 := 23#32
  let v6735 : BitVec 32 := Scalar.addi v6320 c23_i32_3301
  let v6736 : Index := Scalar.indexCast v6735
  ![v6736.toNat]
def k0_mult282 (v6737 : BitVec 32) : BitVec 32 :=
  let c3_i32_3302 : BitVec 32 := 3#32
  let v6738 : BitVec 32 := Scalar.shrsi v6737 c3_i32_3302
  let c3_i32_3303 : BitVec 32 := 3#32
  let v6739 : BitVec 32 := Scalar.shli v6738 c3_i32_3303
  v6739

def k0_off457 (v6737 : BitVec 32) : Fin 2 → Nat :=
  let c3_i32_3302 : BitVec 32 := 3#32
  let v6738 : BitVec 32 := Scalar.shrsi v6737 c3_i32_3302
  let c3_i32_3303 : BitVec 32 := 3#32
  let v6739 : BitVec 32 := Scalar.shli v6738 c3_i32_3303
  let v6740 : BitVec 32 := v6739
  let v6742 : Index := Scalar.indexCast v6740
  let c0_3304 : Index := 0#32
  ![Nat.mul 2 v6742.toNat, 0]

def k0_chk280 (v6737 : BitVec 32) : Prop :=
  (8 ∣ (k0_mult282 v6737).toNat) ∧
  (∀ a, (k0_off457 v6737) a + S16x128.size a ≤ S20016x128.size a)
theorem k0_mult282_dvd : ∀ (v6737 : BitVec 32) (k0_hw280 : k0_chk280 v6737), 8 ∣ (k0_mult282 v6737).toNat := fun v6737 k0_hw280 => k0_hw280.1
theorem k0_off457_inb : ∀ (v6737 : BitVec 32) (k0_hw280 : k0_chk280 v6737), ∀ a, (k0_off457 v6737) a + S16x128.size a ≤ S20016x128.size a := fun v6737 k0_hw280 => k0_hw280.2

def k0_off458 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c23_i32_3307 : BitVec 32 := 23#32
  let v6748 : BitVec 32 := Scalar.addi v6320 c23_i32_3307
  let v6749 : Index := Scalar.indexCast v6748
  let c0_3308 : Index := 0#32
  ![v6749.toNat, 0, 0]
def k0_off459 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c24_i32_3309 : BitVec 32 := 24#32
  let v6753 : BitVec 32 := Scalar.addi v6320 c24_i32_3309
  let v6754 : Index := Scalar.indexCast v6753
  ![v6754.toNat]
def k0_mult283 (v6755 : BitVec 32) : BitVec 32 :=
  let c3_i32_3310 : BitVec 32 := 3#32
  let v6756 : BitVec 32 := Scalar.shrsi v6755 c3_i32_3310
  let c3_i32_3311 : BitVec 32 := 3#32
  let v6757 : BitVec 32 := Scalar.shli v6756 c3_i32_3311
  v6757

def k0_off460 (v6755 : BitVec 32) : Fin 2 → Nat :=
  let c3_i32_3310 : BitVec 32 := 3#32
  let v6756 : BitVec 32 := Scalar.shrsi v6755 c3_i32_3310
  let c3_i32_3311 : BitVec 32 := 3#32
  let v6757 : BitVec 32 := Scalar.shli v6756 c3_i32_3311
  let v6758 : BitVec 32 := v6757
  let v6760 : Index := Scalar.indexCast v6758
  let c0_3312 : Index := 0#32
  ![Nat.mul 2 v6760.toNat, 0]

def k0_chk281 (v6755 : BitVec 32) : Prop :=
  (8 ∣ (k0_mult283 v6755).toNat) ∧
  (∀ a, (k0_off460 v6755) a + S16x128.size a ≤ S20016x128.size a)
theorem k0_mult283_dvd : ∀ (v6755 : BitVec 32) (k0_hw281 : k0_chk281 v6755), 8 ∣ (k0_mult283 v6755).toNat := fun v6755 k0_hw281 => k0_hw281.1
theorem k0_off460_inb : ∀ (v6755 : BitVec 32) (k0_hw281 : k0_chk281 v6755), ∀ a, (k0_off460 v6755) a + S16x128.size a ≤ S20016x128.size a := fun v6755 k0_hw281 => k0_hw281.2

def k0_off461 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c24_i32_3315 : BitVec 32 := 24#32
  let v6766 : BitVec 32 := Scalar.addi v6320 c24_i32_3315
  let v6767 : Index := Scalar.indexCast v6766
  let c0_3316 : Index := 0#32
  ![v6767.toNat, 0, 0]
def k0_off462 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c25_i32_3317 : BitVec 32 := 25#32
  let v6771 : BitVec 32 := Scalar.addi v6320 c25_i32_3317
  let v6772 : Index := Scalar.indexCast v6771
  ![v6772.toNat]
def k0_mult284 (v6773 : BitVec 32) : BitVec 32 :=
  let c3_i32_3318 : BitVec 32 := 3#32
  let v6774 : BitVec 32 := Scalar.shrsi v6773 c3_i32_3318
  let c3_i32_3319 : BitVec 32 := 3#32
  let v6775 : BitVec 32 := Scalar.shli v6774 c3_i32_3319
  v6775

def k0_off463 (v6773 : BitVec 32) : Fin 2 → Nat :=
  let c3_i32_3318 : BitVec 32 := 3#32
  let v6774 : BitVec 32 := Scalar.shrsi v6773 c3_i32_3318
  let c3_i32_3319 : BitVec 32 := 3#32
  let v6775 : BitVec 32 := Scalar.shli v6774 c3_i32_3319
  let v6776 : BitVec 32 := v6775
  let v6778 : Index := Scalar.indexCast v6776
  let c0_3320 : Index := 0#32
  ![Nat.mul 2 v6778.toNat, 0]

def k0_chk282 (v6773 : BitVec 32) : Prop :=
  (8 ∣ (k0_mult284 v6773).toNat) ∧
  (∀ a, (k0_off463 v6773) a + S16x128.size a ≤ S20016x128.size a)
theorem k0_mult284_dvd : ∀ (v6773 : BitVec 32) (k0_hw282 : k0_chk282 v6773), 8 ∣ (k0_mult284 v6773).toNat := fun v6773 k0_hw282 => k0_hw282.1
theorem k0_off463_inb : ∀ (v6773 : BitVec 32) (k0_hw282 : k0_chk282 v6773), ∀ a, (k0_off463 v6773) a + S16x128.size a ≤ S20016x128.size a := fun v6773 k0_hw282 => k0_hw282.2

def k0_off464 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c25_i32_3323 : BitVec 32 := 25#32
  let v6784 : BitVec 32 := Scalar.addi v6320 c25_i32_3323
  let v6785 : Index := Scalar.indexCast v6784
  let c0_3324 : Index := 0#32
  ![v6785.toNat, 0, 0]
def k0_off465 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c26_i32_3325 : BitVec 32 := 26#32
  let v6789 : BitVec 32 := Scalar.addi v6320 c26_i32_3325
  let v6790 : Index := Scalar.indexCast v6789
  ![v6790.toNat]
def k0_mult285 (v6791 : BitVec 32) : BitVec 32 :=
  let c3_i32_3326 : BitVec 32 := 3#32
  let v6792 : BitVec 32 := Scalar.shrsi v6791 c3_i32_3326
  let c3_i32_3327 : BitVec 32 := 3#32
  let v6793 : BitVec 32 := Scalar.shli v6792 c3_i32_3327
  v6793

def k0_off466 (v6791 : BitVec 32) : Fin 2 → Nat :=
  let c3_i32_3326 : BitVec 32 := 3#32
  let v6792 : BitVec 32 := Scalar.shrsi v6791 c3_i32_3326
  let c3_i32_3327 : BitVec 32 := 3#32
  let v6793 : BitVec 32 := Scalar.shli v6792 c3_i32_3327
  let v6794 : BitVec 32 := v6793
  let v6796 : Index := Scalar.indexCast v6794
  let c0_3328 : Index := 0#32
  ![Nat.mul 2 v6796.toNat, 0]

def k0_chk283 (v6791 : BitVec 32) : Prop :=
  (8 ∣ (k0_mult285 v6791).toNat) ∧
  (∀ a, (k0_off466 v6791) a + S16x128.size a ≤ S20016x128.size a)
theorem k0_mult285_dvd : ∀ (v6791 : BitVec 32) (k0_hw283 : k0_chk283 v6791), 8 ∣ (k0_mult285 v6791).toNat := fun v6791 k0_hw283 => k0_hw283.1
theorem k0_off466_inb : ∀ (v6791 : BitVec 32) (k0_hw283 : k0_chk283 v6791), ∀ a, (k0_off466 v6791) a + S16x128.size a ≤ S20016x128.size a := fun v6791 k0_hw283 => k0_hw283.2

def k0_off467 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c26_i32_3331 : BitVec 32 := 26#32
  let v6802 : BitVec 32 := Scalar.addi v6320 c26_i32_3331
  let v6803 : Index := Scalar.indexCast v6802
  let c0_3332 : Index := 0#32
  ![v6803.toNat, 0, 0]
def k0_off468 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c27_i32_3333 : BitVec 32 := 27#32
  let v6807 : BitVec 32 := Scalar.addi v6320 c27_i32_3333
  let v6808 : Index := Scalar.indexCast v6807
  ![v6808.toNat]
def k0_mult286 (v6809 : BitVec 32) : BitVec 32 :=
  let c3_i32_3334 : BitVec 32 := 3#32
  let v6810 : BitVec 32 := Scalar.shrsi v6809 c3_i32_3334
  let c3_i32_3335 : BitVec 32 := 3#32
  let v6811 : BitVec 32 := Scalar.shli v6810 c3_i32_3335
  v6811

def k0_off469 (v6809 : BitVec 32) : Fin 2 → Nat :=
  let c3_i32_3334 : BitVec 32 := 3#32
  let v6810 : BitVec 32 := Scalar.shrsi v6809 c3_i32_3334
  let c3_i32_3335 : BitVec 32 := 3#32
  let v6811 : BitVec 32 := Scalar.shli v6810 c3_i32_3335
  let v6812 : BitVec 32 := v6811
  let v6814 : Index := Scalar.indexCast v6812
  let c0_3336 : Index := 0#32
  ![Nat.mul 2 v6814.toNat, 0]

def k0_chk284 (v6809 : BitVec 32) : Prop :=
  (8 ∣ (k0_mult286 v6809).toNat) ∧
  (∀ a, (k0_off469 v6809) a + S16x128.size a ≤ S20016x128.size a)
theorem k0_mult286_dvd : ∀ (v6809 : BitVec 32) (k0_hw284 : k0_chk284 v6809), 8 ∣ (k0_mult286 v6809).toNat := fun v6809 k0_hw284 => k0_hw284.1
theorem k0_off469_inb : ∀ (v6809 : BitVec 32) (k0_hw284 : k0_chk284 v6809), ∀ a, (k0_off469 v6809) a + S16x128.size a ≤ S20016x128.size a := fun v6809 k0_hw284 => k0_hw284.2

def k0_off470 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c27_i32_3339 : BitVec 32 := 27#32
  let v6820 : BitVec 32 := Scalar.addi v6320 c27_i32_3339
  let v6821 : Index := Scalar.indexCast v6820
  let c0_3340 : Index := 0#32
  ![v6821.toNat, 0, 0]
def k0_off471 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c28_i32_3341 : BitVec 32 := 28#32
  let v6825 : BitVec 32 := Scalar.addi v6320 c28_i32_3341
  let v6826 : Index := Scalar.indexCast v6825
  ![v6826.toNat]
def k0_mult287 (v6827 : BitVec 32) : BitVec 32 :=
  let c3_i32_3342 : BitVec 32 := 3#32
  let v6828 : BitVec 32 := Scalar.shrsi v6827 c3_i32_3342
  let c3_i32_3343 : BitVec 32 := 3#32
  let v6829 : BitVec 32 := Scalar.shli v6828 c3_i32_3343
  v6829

def k0_off472 (v6827 : BitVec 32) : Fin 2 → Nat :=
  let c3_i32_3342 : BitVec 32 := 3#32
  let v6828 : BitVec 32 := Scalar.shrsi v6827 c3_i32_3342
  let c3_i32_3343 : BitVec 32 := 3#32
  let v6829 : BitVec 32 := Scalar.shli v6828 c3_i32_3343
  let v6830 : BitVec 32 := v6829
  let v6832 : Index := Scalar.indexCast v6830
  let c0_3344 : Index := 0#32
  ![Nat.mul 2 v6832.toNat, 0]

def k0_chk285 (v6827 : BitVec 32) : Prop :=
  (8 ∣ (k0_mult287 v6827).toNat) ∧
  (∀ a, (k0_off472 v6827) a + S16x128.size a ≤ S20016x128.size a)
theorem k0_mult287_dvd : ∀ (v6827 : BitVec 32) (k0_hw285 : k0_chk285 v6827), 8 ∣ (k0_mult287 v6827).toNat := fun v6827 k0_hw285 => k0_hw285.1
theorem k0_off472_inb : ∀ (v6827 : BitVec 32) (k0_hw285 : k0_chk285 v6827), ∀ a, (k0_off472 v6827) a + S16x128.size a ≤ S20016x128.size a := fun v6827 k0_hw285 => k0_hw285.2

def k0_off473 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c28_i32_3347 : BitVec 32 := 28#32
  let v6838 : BitVec 32 := Scalar.addi v6320 c28_i32_3347
  let v6839 : Index := Scalar.indexCast v6838
  let c0_3348 : Index := 0#32
  ![v6839.toNat, 0, 0]
def k0_off474 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c29_i32_3349 : BitVec 32 := 29#32
  let v6843 : BitVec 32 := Scalar.addi v6320 c29_i32_3349
  let v6844 : Index := Scalar.indexCast v6843
  ![v6844.toNat]
def k0_mult288 (v6845 : BitVec 32) : BitVec 32 :=
  let c3_i32_3350 : BitVec 32 := 3#32
  let v6846 : BitVec 32 := Scalar.shrsi v6845 c3_i32_3350
  let c3_i32_3351 : BitVec 32 := 3#32
  let v6847 : BitVec 32 := Scalar.shli v6846 c3_i32_3351
  v6847

def k0_off475 (v6845 : BitVec 32) : Fin 2 → Nat :=
  let c3_i32_3350 : BitVec 32 := 3#32
  let v6846 : BitVec 32 := Scalar.shrsi v6845 c3_i32_3350
  let c3_i32_3351 : BitVec 32 := 3#32
  let v6847 : BitVec 32 := Scalar.shli v6846 c3_i32_3351
  let v6848 : BitVec 32 := v6847
  let v6850 : Index := Scalar.indexCast v6848
  let c0_3352 : Index := 0#32
  ![Nat.mul 2 v6850.toNat, 0]

def k0_chk286 (v6845 : BitVec 32) : Prop :=
  (8 ∣ (k0_mult288 v6845).toNat) ∧
  (∀ a, (k0_off475 v6845) a + S16x128.size a ≤ S20016x128.size a)
theorem k0_mult288_dvd : ∀ (v6845 : BitVec 32) (k0_hw286 : k0_chk286 v6845), 8 ∣ (k0_mult288 v6845).toNat := fun v6845 k0_hw286 => k0_hw286.1
theorem k0_off475_inb : ∀ (v6845 : BitVec 32) (k0_hw286 : k0_chk286 v6845), ∀ a, (k0_off475 v6845) a + S16x128.size a ≤ S20016x128.size a := fun v6845 k0_hw286 => k0_hw286.2

def k0_off476 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c29_i32_3355 : BitVec 32 := 29#32
  let v6856 : BitVec 32 := Scalar.addi v6320 c29_i32_3355
  let v6857 : Index := Scalar.indexCast v6856
  let c0_3356 : Index := 0#32
  ![v6857.toNat, 0, 0]
def k0_off477 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c30_i32_3357 : BitVec 32 := 30#32
  let v6861 : BitVec 32 := Scalar.addi v6320 c30_i32_3357
  let v6862 : Index := Scalar.indexCast v6861
  ![v6862.toNat]
def k0_mult289 (v6863 : BitVec 32) : BitVec 32 :=
  let c3_i32_3358 : BitVec 32 := 3#32
  let v6864 : BitVec 32 := Scalar.shrsi v6863 c3_i32_3358
  let c3_i32_3359 : BitVec 32 := 3#32
  let v6865 : BitVec 32 := Scalar.shli v6864 c3_i32_3359
  v6865

def k0_off478 (v6863 : BitVec 32) : Fin 2 → Nat :=
  let c3_i32_3358 : BitVec 32 := 3#32
  let v6864 : BitVec 32 := Scalar.shrsi v6863 c3_i32_3358
  let c3_i32_3359 : BitVec 32 := 3#32
  let v6865 : BitVec 32 := Scalar.shli v6864 c3_i32_3359
  let v6866 : BitVec 32 := v6865
  let v6868 : Index := Scalar.indexCast v6866
  let c0_3360 : Index := 0#32
  ![Nat.mul 2 v6868.toNat, 0]

def k0_chk287 (v6863 : BitVec 32) : Prop :=
  (8 ∣ (k0_mult289 v6863).toNat) ∧
  (∀ a, (k0_off478 v6863) a + S16x128.size a ≤ S20016x128.size a)
theorem k0_mult289_dvd : ∀ (v6863 : BitVec 32) (k0_hw287 : k0_chk287 v6863), 8 ∣ (k0_mult289 v6863).toNat := fun v6863 k0_hw287 => k0_hw287.1
theorem k0_off478_inb : ∀ (v6863 : BitVec 32) (k0_hw287 : k0_chk287 v6863), ∀ a, (k0_off478 v6863) a + S16x128.size a ≤ S20016x128.size a := fun v6863 k0_hw287 => k0_hw287.2

def k0_off479 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c30_i32_3363 : BitVec 32 := 30#32
  let v6874 : BitVec 32 := Scalar.addi v6320 c30_i32_3363
  let v6875 : Index := Scalar.indexCast v6874
  let c0_3364 : Index := 0#32
  ![v6875.toNat, 0, 0]
def k0_off480 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c31_i32_3365 : BitVec 32 := 31#32
  let v6879 : BitVec 32 := Scalar.addi v6320 c31_i32_3365
  let v6880 : Index := Scalar.indexCast v6879
  ![v6880.toNat]
def k0_mult290 (v6881 : BitVec 32) : BitVec 32 :=
  let c3_i32_3366 : BitVec 32 := 3#32
  let v6882 : BitVec 32 := Scalar.shrsi v6881 c3_i32_3366
  let c3_i32_3367 : BitVec 32 := 3#32
  let v6883 : BitVec 32 := Scalar.shli v6882 c3_i32_3367
  v6883

def k0_off481 (v6881 : BitVec 32) : Fin 2 → Nat :=
  let c3_i32_3366 : BitVec 32 := 3#32
  let v6882 : BitVec 32 := Scalar.shrsi v6881 c3_i32_3366
  let c3_i32_3367 : BitVec 32 := 3#32
  let v6883 : BitVec 32 := Scalar.shli v6882 c3_i32_3367
  let v6884 : BitVec 32 := v6883
  let v6886 : Index := Scalar.indexCast v6884
  let c0_3368 : Index := 0#32
  ![Nat.mul 2 v6886.toNat, 0]

def k0_chk288 (v6881 : BitVec 32) : Prop :=
  (8 ∣ (k0_mult290 v6881).toNat) ∧
  (∀ a, (k0_off481 v6881) a + S16x128.size a ≤ S20016x128.size a)
theorem k0_mult290_dvd : ∀ (v6881 : BitVec 32) (k0_hw288 : k0_chk288 v6881), 8 ∣ (k0_mult290 v6881).toNat := fun v6881 k0_hw288 => k0_hw288.1
theorem k0_off481_inb : ∀ (v6881 : BitVec 32) (k0_hw288 : k0_chk288 v6881), ∀ a, (k0_off481 v6881) a + S16x128.size a ≤ S20016x128.size a := fun v6881 k0_hw288 => k0_hw288.2

def k0_off482 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c31_i32_3371 : BitVec 32 := 31#32
  let v6892 : BitVec 32 := Scalar.addi v6320 c31_i32_3371
  let v6893 : Index := Scalar.indexCast v6892
  let c0_3372 : Index := 0#32
  ![v6893.toNat, 0, 0]
def k0_off483 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c32_i32_3373 : BitVec 32 := 32#32
  let v6897 : BitVec 32 := Scalar.addi v6320 c32_i32_3373
  let v6898 : Index := Scalar.indexCast v6897
  ![v6898.toNat]
def k0_mult291 (v6899 : BitVec 32) : BitVec 32 :=
  let c3_i32_3374 : BitVec 32 := 3#32
  let v6900 : BitVec 32 := Scalar.shrsi v6899 c3_i32_3374
  let c3_i32_3375 : BitVec 32 := 3#32
  let v6901 : BitVec 32 := Scalar.shli v6900 c3_i32_3375
  v6901

def k0_off484 (v6899 : BitVec 32) : Fin 2 → Nat :=
  let c3_i32_3374 : BitVec 32 := 3#32
  let v6900 : BitVec 32 := Scalar.shrsi v6899 c3_i32_3374
  let c3_i32_3375 : BitVec 32 := 3#32
  let v6901 : BitVec 32 := Scalar.shli v6900 c3_i32_3375
  let v6902 : BitVec 32 := v6901
  let v6904 : Index := Scalar.indexCast v6902
  let c0_3376 : Index := 0#32
  ![Nat.mul 2 v6904.toNat, 0]

def k0_chk289 (v6899 : BitVec 32) : Prop :=
  (8 ∣ (k0_mult291 v6899).toNat) ∧
  (∀ a, (k0_off484 v6899) a + S16x128.size a ≤ S20016x128.size a)
theorem k0_mult291_dvd : ∀ (v6899 : BitVec 32) (k0_hw289 : k0_chk289 v6899), 8 ∣ (k0_mult291 v6899).toNat := fun v6899 k0_hw289 => k0_hw289.1
theorem k0_off484_inb : ∀ (v6899 : BitVec 32) (k0_hw289 : k0_chk289 v6899), ∀ a, (k0_off484 v6899) a + S16x128.size a ≤ S20016x128.size a := fun v6899 k0_hw289 => k0_hw289.2

def k0_off485 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c32_i32_3379 : BitVec 32 := 32#32
  let v6910 : BitVec 32 := Scalar.addi v6320 c32_i32_3379
  let v6911 : Index := Scalar.indexCast v6910
  let c0_3380 : Index := 0#32
  ![v6911.toNat, 0, 0]
def k0_off486 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c33_i32_3381 : BitVec 32 := 33#32
  let v6915 : BitVec 32 := Scalar.addi v6320 c33_i32_3381
  let v6916 : Index := Scalar.indexCast v6915
  ![v6916.toNat]
def k0_mult292 (v6917 : BitVec 32) : BitVec 32 :=
  let c3_i32_3382 : BitVec 32 := 3#32
  let v6918 : BitVec 32 := Scalar.shrsi v6917 c3_i32_3382
  let c3_i32_3383 : BitVec 32 := 3#32
  let v6919 : BitVec 32 := Scalar.shli v6918 c3_i32_3383
  v6919

def k0_off487 (v6917 : BitVec 32) : Fin 2 → Nat :=
  let c3_i32_3382 : BitVec 32 := 3#32
  let v6918 : BitVec 32 := Scalar.shrsi v6917 c3_i32_3382
  let c3_i32_3383 : BitVec 32 := 3#32
  let v6919 : BitVec 32 := Scalar.shli v6918 c3_i32_3383
  let v6920 : BitVec 32 := v6919
  let v6922 : Index := Scalar.indexCast v6920
  let c0_3384 : Index := 0#32
  ![Nat.mul 2 v6922.toNat, 0]

def k0_chk290 (v6917 : BitVec 32) : Prop :=
  (8 ∣ (k0_mult292 v6917).toNat) ∧
  (∀ a, (k0_off487 v6917) a + S16x128.size a ≤ S20016x128.size a)
theorem k0_mult292_dvd : ∀ (v6917 : BitVec 32) (k0_hw290 : k0_chk290 v6917), 8 ∣ (k0_mult292 v6917).toNat := fun v6917 k0_hw290 => k0_hw290.1
theorem k0_off487_inb : ∀ (v6917 : BitVec 32) (k0_hw290 : k0_chk290 v6917), ∀ a, (k0_off487 v6917) a + S16x128.size a ≤ S20016x128.size a := fun v6917 k0_hw290 => k0_hw290.2

def k0_off488 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c33_i32_3387 : BitVec 32 := 33#32
  let v6928 : BitVec 32 := Scalar.addi v6320 c33_i32_3387
  let v6929 : Index := Scalar.indexCast v6928
  let c0_3388 : Index := 0#32
  ![v6929.toNat, 0, 0]
def k0_off489 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c34_i32_3389 : BitVec 32 := 34#32
  let v6933 : BitVec 32 := Scalar.addi v6320 c34_i32_3389
  let v6934 : Index := Scalar.indexCast v6933
  ![v6934.toNat]
def k0_mult293 (v6935 : BitVec 32) : BitVec 32 :=
  let c3_i32_3390 : BitVec 32 := 3#32
  let v6936 : BitVec 32 := Scalar.shrsi v6935 c3_i32_3390
  let c3_i32_3391 : BitVec 32 := 3#32
  let v6937 : BitVec 32 := Scalar.shli v6936 c3_i32_3391
  v6937

def k0_off490 (v6935 : BitVec 32) : Fin 2 → Nat :=
  let c3_i32_3390 : BitVec 32 := 3#32
  let v6936 : BitVec 32 := Scalar.shrsi v6935 c3_i32_3390
  let c3_i32_3391 : BitVec 32 := 3#32
  let v6937 : BitVec 32 := Scalar.shli v6936 c3_i32_3391
  let v6938 : BitVec 32 := v6937
  let v6940 : Index := Scalar.indexCast v6938
  let c0_3392 : Index := 0#32
  ![Nat.mul 2 v6940.toNat, 0]

def k0_chk291 (v6935 : BitVec 32) : Prop :=
  (8 ∣ (k0_mult293 v6935).toNat) ∧
  (∀ a, (k0_off490 v6935) a + S16x128.size a ≤ S20016x128.size a)
theorem k0_mult293_dvd : ∀ (v6935 : BitVec 32) (k0_hw291 : k0_chk291 v6935), 8 ∣ (k0_mult293 v6935).toNat := fun v6935 k0_hw291 => k0_hw291.1
theorem k0_off490_inb : ∀ (v6935 : BitVec 32) (k0_hw291 : k0_chk291 v6935), ∀ a, (k0_off490 v6935) a + S16x128.size a ≤ S20016x128.size a := fun v6935 k0_hw291 => k0_hw291.2

def k0_off491 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c34_i32_3395 : BitVec 32 := 34#32
  let v6946 : BitVec 32 := Scalar.addi v6320 c34_i32_3395
  let v6947 : Index := Scalar.indexCast v6946
  let c0_3396 : Index := 0#32
  ![v6947.toNat, 0, 0]
def k0_off492 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c35_i32_3397 : BitVec 32 := 35#32
  let v6951 : BitVec 32 := Scalar.addi v6320 c35_i32_3397
  let v6952 : Index := Scalar.indexCast v6951
  ![v6952.toNat]
def k0_mult294 (v6953 : BitVec 32) : BitVec 32 :=
  let c3_i32_3398 : BitVec 32 := 3#32
  let v6954 : BitVec 32 := Scalar.shrsi v6953 c3_i32_3398
  let c3_i32_3399 : BitVec 32 := 3#32
  let v6955 : BitVec 32 := Scalar.shli v6954 c3_i32_3399
  v6955

def k0_off493 (v6953 : BitVec 32) : Fin 2 → Nat :=
  let c3_i32_3398 : BitVec 32 := 3#32
  let v6954 : BitVec 32 := Scalar.shrsi v6953 c3_i32_3398
  let c3_i32_3399 : BitVec 32 := 3#32
  let v6955 : BitVec 32 := Scalar.shli v6954 c3_i32_3399
  let v6956 : BitVec 32 := v6955
  let v6958 : Index := Scalar.indexCast v6956
  let c0_3400 : Index := 0#32
  ![Nat.mul 2 v6958.toNat, 0]

def k0_chk292 (v6953 : BitVec 32) : Prop :=
  (8 ∣ (k0_mult294 v6953).toNat) ∧
  (∀ a, (k0_off493 v6953) a + S16x128.size a ≤ S20016x128.size a)
theorem k0_mult294_dvd : ∀ (v6953 : BitVec 32) (k0_hw292 : k0_chk292 v6953), 8 ∣ (k0_mult294 v6953).toNat := fun v6953 k0_hw292 => k0_hw292.1
theorem k0_off493_inb : ∀ (v6953 : BitVec 32) (k0_hw292 : k0_chk292 v6953), ∀ a, (k0_off493 v6953) a + S16x128.size a ≤ S20016x128.size a := fun v6953 k0_hw292 => k0_hw292.2

def k0_off494 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c35_i32_3403 : BitVec 32 := 35#32
  let v6964 : BitVec 32 := Scalar.addi v6320 c35_i32_3403
  let v6965 : Index := Scalar.indexCast v6964
  let c0_3404 : Index := 0#32
  ![v6965.toNat, 0, 0]
def k0_off495 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c36_i32_3405 : BitVec 32 := 36#32
  let v6969 : BitVec 32 := Scalar.addi v6320 c36_i32_3405
  let v6970 : Index := Scalar.indexCast v6969
  ![v6970.toNat]
def k0_mult295 (v6971 : BitVec 32) : BitVec 32 :=
  let c3_i32_3406 : BitVec 32 := 3#32
  let v6972 : BitVec 32 := Scalar.shrsi v6971 c3_i32_3406
  let c3_i32_3407 : BitVec 32 := 3#32
  let v6973 : BitVec 32 := Scalar.shli v6972 c3_i32_3407
  v6973

def k0_off496 (v6971 : BitVec 32) : Fin 2 → Nat :=
  let c3_i32_3406 : BitVec 32 := 3#32
  let v6972 : BitVec 32 := Scalar.shrsi v6971 c3_i32_3406
  let c3_i32_3407 : BitVec 32 := 3#32
  let v6973 : BitVec 32 := Scalar.shli v6972 c3_i32_3407
  let v6974 : BitVec 32 := v6973
  let v6976 : Index := Scalar.indexCast v6974
  let c0_3408 : Index := 0#32
  ![Nat.mul 2 v6976.toNat, 0]

def k0_chk293 (v6971 : BitVec 32) : Prop :=
  (8 ∣ (k0_mult295 v6971).toNat) ∧
  (∀ a, (k0_off496 v6971) a + S16x128.size a ≤ S20016x128.size a)
theorem k0_mult295_dvd : ∀ (v6971 : BitVec 32) (k0_hw293 : k0_chk293 v6971), 8 ∣ (k0_mult295 v6971).toNat := fun v6971 k0_hw293 => k0_hw293.1
theorem k0_off496_inb : ∀ (v6971 : BitVec 32) (k0_hw293 : k0_chk293 v6971), ∀ a, (k0_off496 v6971) a + S16x128.size a ≤ S20016x128.size a := fun v6971 k0_hw293 => k0_hw293.2

def k0_off497 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c36_i32_3411 : BitVec 32 := 36#32
  let v6982 : BitVec 32 := Scalar.addi v6320 c36_i32_3411
  let v6983 : Index := Scalar.indexCast v6982
  let c0_3412 : Index := 0#32
  ![v6983.toNat, 0, 0]
def k0_off498 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c37_i32_3413 : BitVec 32 := 37#32
  let v6987 : BitVec 32 := Scalar.addi v6320 c37_i32_3413
  let v6988 : Index := Scalar.indexCast v6987
  ![v6988.toNat]
def k0_mult296 (v6989 : BitVec 32) : BitVec 32 :=
  let c3_i32_3414 : BitVec 32 := 3#32
  let v6990 : BitVec 32 := Scalar.shrsi v6989 c3_i32_3414
  let c3_i32_3415 : BitVec 32 := 3#32
  let v6991 : BitVec 32 := Scalar.shli v6990 c3_i32_3415
  v6991

def k0_off499 (v6989 : BitVec 32) : Fin 2 → Nat :=
  let c3_i32_3414 : BitVec 32 := 3#32
  let v6990 : BitVec 32 := Scalar.shrsi v6989 c3_i32_3414
  let c3_i32_3415 : BitVec 32 := 3#32
  let v6991 : BitVec 32 := Scalar.shli v6990 c3_i32_3415
  let v6992 : BitVec 32 := v6991
  let v6994 : Index := Scalar.indexCast v6992
  let c0_3416 : Index := 0#32
  ![Nat.mul 2 v6994.toNat, 0]

def k0_chk294 (v6989 : BitVec 32) : Prop :=
  (8 ∣ (k0_mult296 v6989).toNat) ∧
  (∀ a, (k0_off499 v6989) a + S16x128.size a ≤ S20016x128.size a)
theorem k0_mult296_dvd : ∀ (v6989 : BitVec 32) (k0_hw294 : k0_chk294 v6989), 8 ∣ (k0_mult296 v6989).toNat := fun v6989 k0_hw294 => k0_hw294.1
theorem k0_off499_inb : ∀ (v6989 : BitVec 32) (k0_hw294 : k0_chk294 v6989), ∀ a, (k0_off499 v6989) a + S16x128.size a ≤ S20016x128.size a := fun v6989 k0_hw294 => k0_hw294.2

def k0_off500 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c37_i32_3419 : BitVec 32 := 37#32
  let v7000 : BitVec 32 := Scalar.addi v6320 c37_i32_3419
  let v7001 : Index := Scalar.indexCast v7000
  let c0_3420 : Index := 0#32
  ![v7001.toNat, 0, 0]
def k0_off501 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c38_i32_3421 : BitVec 32 := 38#32
  let v7005 : BitVec 32 := Scalar.addi v6320 c38_i32_3421
  let v7006 : Index := Scalar.indexCast v7005
  ![v7006.toNat]
def k0_mult297 (v7007 : BitVec 32) : BitVec 32 :=
  let c3_i32_3422 : BitVec 32 := 3#32
  let v7008 : BitVec 32 := Scalar.shrsi v7007 c3_i32_3422
  let c3_i32_3423 : BitVec 32 := 3#32
  let v7009 : BitVec 32 := Scalar.shli v7008 c3_i32_3423
  v7009

def k0_off502 (v7007 : BitVec 32) : Fin 2 → Nat :=
  let c3_i32_3422 : BitVec 32 := 3#32
  let v7008 : BitVec 32 := Scalar.shrsi v7007 c3_i32_3422
  let c3_i32_3423 : BitVec 32 := 3#32
  let v7009 : BitVec 32 := Scalar.shli v7008 c3_i32_3423
  let v7010 : BitVec 32 := v7009
  let v7012 : Index := Scalar.indexCast v7010
  let c0_3424 : Index := 0#32
  ![Nat.mul 2 v7012.toNat, 0]

def k0_chk295 (v7007 : BitVec 32) : Prop :=
  (8 ∣ (k0_mult297 v7007).toNat) ∧
  (∀ a, (k0_off502 v7007) a + S16x128.size a ≤ S20016x128.size a)
theorem k0_mult297_dvd : ∀ (v7007 : BitVec 32) (k0_hw295 : k0_chk295 v7007), 8 ∣ (k0_mult297 v7007).toNat := fun v7007 k0_hw295 => k0_hw295.1
theorem k0_off502_inb : ∀ (v7007 : BitVec 32) (k0_hw295 : k0_chk295 v7007), ∀ a, (k0_off502 v7007) a + S16x128.size a ≤ S20016x128.size a := fun v7007 k0_hw295 => k0_hw295.2

def k0_off503 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c38_i32_3427 : BitVec 32 := 38#32
  let v7018 : BitVec 32 := Scalar.addi v6320 c38_i32_3427
  let v7019 : Index := Scalar.indexCast v7018
  let c0_3428 : Index := 0#32
  ![v7019.toNat, 0, 0]
def k0_off504 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c39_i32_3429 : BitVec 32 := 39#32
  let v7023 : BitVec 32 := Scalar.addi v6320 c39_i32_3429
  let v7024 : Index := Scalar.indexCast v7023
  ![v7024.toNat]
def k0_mult298 (v7025 : BitVec 32) : BitVec 32 :=
  let c3_i32_3430 : BitVec 32 := 3#32
  let v7026 : BitVec 32 := Scalar.shrsi v7025 c3_i32_3430
  let c3_i32_3431 : BitVec 32 := 3#32
  let v7027 : BitVec 32 := Scalar.shli v7026 c3_i32_3431
  v7027

def k0_off505 (v7025 : BitVec 32) : Fin 2 → Nat :=
  let c3_i32_3430 : BitVec 32 := 3#32
  let v7026 : BitVec 32 := Scalar.shrsi v7025 c3_i32_3430
  let c3_i32_3431 : BitVec 32 := 3#32
  let v7027 : BitVec 32 := Scalar.shli v7026 c3_i32_3431
  let v7028 : BitVec 32 := v7027
  let v7030 : Index := Scalar.indexCast v7028
  let c0_3432 : Index := 0#32
  ![Nat.mul 2 v7030.toNat, 0]

def k0_chk296 (v7025 : BitVec 32) : Prop :=
  (8 ∣ (k0_mult298 v7025).toNat) ∧
  (∀ a, (k0_off505 v7025) a + S16x128.size a ≤ S20016x128.size a)
theorem k0_mult298_dvd : ∀ (v7025 : BitVec 32) (k0_hw296 : k0_chk296 v7025), 8 ∣ (k0_mult298 v7025).toNat := fun v7025 k0_hw296 => k0_hw296.1
theorem k0_off505_inb : ∀ (v7025 : BitVec 32) (k0_hw296 : k0_chk296 v7025), ∀ a, (k0_off505 v7025) a + S16x128.size a ≤ S20016x128.size a := fun v7025 k0_hw296 => k0_hw296.2

def k0_off506 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c39_i32_3435 : BitVec 32 := 39#32
  let v7036 : BitVec 32 := Scalar.addi v6320 c39_i32_3435
  let v7037 : Index := Scalar.indexCast v7036
  let c0_3436 : Index := 0#32
  ![v7037.toNat, 0, 0]
def k0_off507 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c40_i32_3437 : BitVec 32 := 40#32
  let v7041 : BitVec 32 := Scalar.addi v6320 c40_i32_3437
  let v7042 : Index := Scalar.indexCast v7041
  ![v7042.toNat]
def k0_mult299 (v7043 : BitVec 32) : BitVec 32 :=
  let c3_i32_3438 : BitVec 32 := 3#32
  let v7044 : BitVec 32 := Scalar.shrsi v7043 c3_i32_3438
  let c3_i32_3439 : BitVec 32 := 3#32
  let v7045 : BitVec 32 := Scalar.shli v7044 c3_i32_3439
  v7045

def k0_off508 (v7043 : BitVec 32) : Fin 2 → Nat :=
  let c3_i32_3438 : BitVec 32 := 3#32
  let v7044 : BitVec 32 := Scalar.shrsi v7043 c3_i32_3438
  let c3_i32_3439 : BitVec 32 := 3#32
  let v7045 : BitVec 32 := Scalar.shli v7044 c3_i32_3439
  let v7046 : BitVec 32 := v7045
  let v7048 : Index := Scalar.indexCast v7046
  let c0_3440 : Index := 0#32
  ![Nat.mul 2 v7048.toNat, 0]

def k0_chk297 (v7043 : BitVec 32) : Prop :=
  (8 ∣ (k0_mult299 v7043).toNat) ∧
  (∀ a, (k0_off508 v7043) a + S16x128.size a ≤ S20016x128.size a)
theorem k0_mult299_dvd : ∀ (v7043 : BitVec 32) (k0_hw297 : k0_chk297 v7043), 8 ∣ (k0_mult299 v7043).toNat := fun v7043 k0_hw297 => k0_hw297.1
theorem k0_off508_inb : ∀ (v7043 : BitVec 32) (k0_hw297 : k0_chk297 v7043), ∀ a, (k0_off508 v7043) a + S16x128.size a ≤ S20016x128.size a := fun v7043 k0_hw297 => k0_hw297.2

def k0_off509 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c40_i32_3443 : BitVec 32 := 40#32
  let v7054 : BitVec 32 := Scalar.addi v6320 c40_i32_3443
  let v7055 : Index := Scalar.indexCast v7054
  let c0_3444 : Index := 0#32
  ![v7055.toNat, 0, 0]
def k0_off510 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c41_i32_3445 : BitVec 32 := 41#32
  let v7059 : BitVec 32 := Scalar.addi v6320 c41_i32_3445
  let v7060 : Index := Scalar.indexCast v7059
  ![v7060.toNat]
def k0_mult300 (v7061 : BitVec 32) : BitVec 32 :=
  let c3_i32_3446 : BitVec 32 := 3#32
  let v7062 : BitVec 32 := Scalar.shrsi v7061 c3_i32_3446
  let c3_i32_3447 : BitVec 32 := 3#32
  let v7063 : BitVec 32 := Scalar.shli v7062 c3_i32_3447
  v7063

def k0_off511 (v7061 : BitVec 32) : Fin 2 → Nat :=
  let c3_i32_3446 : BitVec 32 := 3#32
  let v7062 : BitVec 32 := Scalar.shrsi v7061 c3_i32_3446
  let c3_i32_3447 : BitVec 32 := 3#32
  let v7063 : BitVec 32 := Scalar.shli v7062 c3_i32_3447
  let v7064 : BitVec 32 := v7063
  let v7066 : Index := Scalar.indexCast v7064
  let c0_3448 : Index := 0#32
  ![Nat.mul 2 v7066.toNat, 0]

def k0_chk298 (v7061 : BitVec 32) : Prop :=
  (8 ∣ (k0_mult300 v7061).toNat) ∧
  (∀ a, (k0_off511 v7061) a + S16x128.size a ≤ S20016x128.size a)
theorem k0_mult300_dvd : ∀ (v7061 : BitVec 32) (k0_hw298 : k0_chk298 v7061), 8 ∣ (k0_mult300 v7061).toNat := fun v7061 k0_hw298 => k0_hw298.1
theorem k0_off511_inb : ∀ (v7061 : BitVec 32) (k0_hw298 : k0_chk298 v7061), ∀ a, (k0_off511 v7061) a + S16x128.size a ≤ S20016x128.size a := fun v7061 k0_hw298 => k0_hw298.2

def k0_off512 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c41_i32_3451 : BitVec 32 := 41#32
  let v7072 : BitVec 32 := Scalar.addi v6320 c41_i32_3451
  let v7073 : Index := Scalar.indexCast v7072
  let c0_3452 : Index := 0#32
  ![v7073.toNat, 0, 0]
def k0_off513 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c42_i32_3453 : BitVec 32 := 42#32
  let v7077 : BitVec 32 := Scalar.addi v6320 c42_i32_3453
  let v7078 : Index := Scalar.indexCast v7077
  ![v7078.toNat]
def k0_mult301 (v7079 : BitVec 32) : BitVec 32 :=
  let c3_i32_3454 : BitVec 32 := 3#32
  let v7080 : BitVec 32 := Scalar.shrsi v7079 c3_i32_3454
  let c3_i32_3455 : BitVec 32 := 3#32
  let v7081 : BitVec 32 := Scalar.shli v7080 c3_i32_3455
  v7081

def k0_off514 (v7079 : BitVec 32) : Fin 2 → Nat :=
  let c3_i32_3454 : BitVec 32 := 3#32
  let v7080 : BitVec 32 := Scalar.shrsi v7079 c3_i32_3454
  let c3_i32_3455 : BitVec 32 := 3#32
  let v7081 : BitVec 32 := Scalar.shli v7080 c3_i32_3455
  let v7082 : BitVec 32 := v7081
  let v7084 : Index := Scalar.indexCast v7082
  let c0_3456 : Index := 0#32
  ![Nat.mul 2 v7084.toNat, 0]

def k0_chk299 (v7079 : BitVec 32) : Prop :=
  (8 ∣ (k0_mult301 v7079).toNat) ∧
  (∀ a, (k0_off514 v7079) a + S16x128.size a ≤ S20016x128.size a)
theorem k0_mult301_dvd : ∀ (v7079 : BitVec 32) (k0_hw299 : k0_chk299 v7079), 8 ∣ (k0_mult301 v7079).toNat := fun v7079 k0_hw299 => k0_hw299.1
theorem k0_off514_inb : ∀ (v7079 : BitVec 32) (k0_hw299 : k0_chk299 v7079), ∀ a, (k0_off514 v7079) a + S16x128.size a ≤ S20016x128.size a := fun v7079 k0_hw299 => k0_hw299.2

def k0_off515 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c42_i32_3459 : BitVec 32 := 42#32
  let v7090 : BitVec 32 := Scalar.addi v6320 c42_i32_3459
  let v7091 : Index := Scalar.indexCast v7090
  let c0_3460 : Index := 0#32
  ![v7091.toNat, 0, 0]
def k0_off516 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c43_i32_3461 : BitVec 32 := 43#32
  let v7095 : BitVec 32 := Scalar.addi v6320 c43_i32_3461
  let v7096 : Index := Scalar.indexCast v7095
  ![v7096.toNat]
def k0_mult302 (v7097 : BitVec 32) : BitVec 32 :=
  let c3_i32_3462 : BitVec 32 := 3#32
  let v7098 : BitVec 32 := Scalar.shrsi v7097 c3_i32_3462
  let c3_i32_3463 : BitVec 32 := 3#32
  let v7099 : BitVec 32 := Scalar.shli v7098 c3_i32_3463
  v7099

def k0_off517 (v7097 : BitVec 32) : Fin 2 → Nat :=
  let c3_i32_3462 : BitVec 32 := 3#32
  let v7098 : BitVec 32 := Scalar.shrsi v7097 c3_i32_3462
  let c3_i32_3463 : BitVec 32 := 3#32
  let v7099 : BitVec 32 := Scalar.shli v7098 c3_i32_3463
  let v7100 : BitVec 32 := v7099
  let v7102 : Index := Scalar.indexCast v7100
  let c0_3464 : Index := 0#32
  ![Nat.mul 2 v7102.toNat, 0]

def k0_chk300 (v7097 : BitVec 32) : Prop :=
  (8 ∣ (k0_mult302 v7097).toNat) ∧
  (∀ a, (k0_off517 v7097) a + S16x128.size a ≤ S20016x128.size a)
theorem k0_mult302_dvd : ∀ (v7097 : BitVec 32) (k0_hw300 : k0_chk300 v7097), 8 ∣ (k0_mult302 v7097).toNat := fun v7097 k0_hw300 => k0_hw300.1
theorem k0_off517_inb : ∀ (v7097 : BitVec 32) (k0_hw300 : k0_chk300 v7097), ∀ a, (k0_off517 v7097) a + S16x128.size a ≤ S20016x128.size a := fun v7097 k0_hw300 => k0_hw300.2

def k0_off518 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c43_i32_3467 : BitVec 32 := 43#32
  let v7108 : BitVec 32 := Scalar.addi v6320 c43_i32_3467
  let v7109 : Index := Scalar.indexCast v7108
  let c0_3468 : Index := 0#32
  ![v7109.toNat, 0, 0]
def k0_off519 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c44_i32_3469 : BitVec 32 := 44#32
  let v7113 : BitVec 32 := Scalar.addi v6320 c44_i32_3469
  let v7114 : Index := Scalar.indexCast v7113
  ![v7114.toNat]
def k0_mult303 (v7115 : BitVec 32) : BitVec 32 :=
  let c3_i32_3470 : BitVec 32 := 3#32
  let v7116 : BitVec 32 := Scalar.shrsi v7115 c3_i32_3470
  let c3_i32_3471 : BitVec 32 := 3#32
  let v7117 : BitVec 32 := Scalar.shli v7116 c3_i32_3471
  v7117

def k0_off520 (v7115 : BitVec 32) : Fin 2 → Nat :=
  let c3_i32_3470 : BitVec 32 := 3#32
  let v7116 : BitVec 32 := Scalar.shrsi v7115 c3_i32_3470
  let c3_i32_3471 : BitVec 32 := 3#32
  let v7117 : BitVec 32 := Scalar.shli v7116 c3_i32_3471
  let v7118 : BitVec 32 := v7117
  let v7120 : Index := Scalar.indexCast v7118
  let c0_3472 : Index := 0#32
  ![Nat.mul 2 v7120.toNat, 0]

def k0_chk301 (v7115 : BitVec 32) : Prop :=
  (8 ∣ (k0_mult303 v7115).toNat) ∧
  (∀ a, (k0_off520 v7115) a + S16x128.size a ≤ S20016x128.size a)
theorem k0_mult303_dvd : ∀ (v7115 : BitVec 32) (k0_hw301 : k0_chk301 v7115), 8 ∣ (k0_mult303 v7115).toNat := fun v7115 k0_hw301 => k0_hw301.1
theorem k0_off520_inb : ∀ (v7115 : BitVec 32) (k0_hw301 : k0_chk301 v7115), ∀ a, (k0_off520 v7115) a + S16x128.size a ≤ S20016x128.size a := fun v7115 k0_hw301 => k0_hw301.2

def k0_off521 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c44_i32_3475 : BitVec 32 := 44#32
  let v7126 : BitVec 32 := Scalar.addi v6320 c44_i32_3475
  let v7127 : Index := Scalar.indexCast v7126
  let c0_3476 : Index := 0#32
  ![v7127.toNat, 0, 0]
def k0_off522 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c45_i32_3477 : BitVec 32 := 45#32
  let v7131 : BitVec 32 := Scalar.addi v6320 c45_i32_3477
  let v7132 : Index := Scalar.indexCast v7131
  ![v7132.toNat]
def k0_mult304 (v7133 : BitVec 32) : BitVec 32 :=
  let c3_i32_3478 : BitVec 32 := 3#32
  let v7134 : BitVec 32 := Scalar.shrsi v7133 c3_i32_3478
  let c3_i32_3479 : BitVec 32 := 3#32
  let v7135 : BitVec 32 := Scalar.shli v7134 c3_i32_3479
  v7135

def k0_off523 (v7133 : BitVec 32) : Fin 2 → Nat :=
  let c3_i32_3478 : BitVec 32 := 3#32
  let v7134 : BitVec 32 := Scalar.shrsi v7133 c3_i32_3478
  let c3_i32_3479 : BitVec 32 := 3#32
  let v7135 : BitVec 32 := Scalar.shli v7134 c3_i32_3479
  let v7136 : BitVec 32 := v7135
  let v7138 : Index := Scalar.indexCast v7136
  let c0_3480 : Index := 0#32
  ![Nat.mul 2 v7138.toNat, 0]

def k0_chk302 (v7133 : BitVec 32) : Prop :=
  (8 ∣ (k0_mult304 v7133).toNat) ∧
  (∀ a, (k0_off523 v7133) a + S16x128.size a ≤ S20016x128.size a)
theorem k0_mult304_dvd : ∀ (v7133 : BitVec 32) (k0_hw302 : k0_chk302 v7133), 8 ∣ (k0_mult304 v7133).toNat := fun v7133 k0_hw302 => k0_hw302.1
theorem k0_off523_inb : ∀ (v7133 : BitVec 32) (k0_hw302 : k0_chk302 v7133), ∀ a, (k0_off523 v7133) a + S16x128.size a ≤ S20016x128.size a := fun v7133 k0_hw302 => k0_hw302.2

def k0_off524 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c45_i32_3483 : BitVec 32 := 45#32
  let v7144 : BitVec 32 := Scalar.addi v6320 c45_i32_3483
  let v7145 : Index := Scalar.indexCast v7144
  let c0_3484 : Index := 0#32
  ![v7145.toNat, 0, 0]
def k0_off525 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c46_i32_3485 : BitVec 32 := 46#32
  let v7149 : BitVec 32 := Scalar.addi v6320 c46_i32_3485
  let v7150 : Index := Scalar.indexCast v7149
  ![v7150.toNat]
def k0_mult305 (v7151 : BitVec 32) : BitVec 32 :=
  let c3_i32_3486 : BitVec 32 := 3#32
  let v7152 : BitVec 32 := Scalar.shrsi v7151 c3_i32_3486
  let c3_i32_3487 : BitVec 32 := 3#32
  let v7153 : BitVec 32 := Scalar.shli v7152 c3_i32_3487
  v7153

def k0_off526 (v7151 : BitVec 32) : Fin 2 → Nat :=
  let c3_i32_3486 : BitVec 32 := 3#32
  let v7152 : BitVec 32 := Scalar.shrsi v7151 c3_i32_3486
  let c3_i32_3487 : BitVec 32 := 3#32
  let v7153 : BitVec 32 := Scalar.shli v7152 c3_i32_3487
  let v7154 : BitVec 32 := v7153
  let v7156 : Index := Scalar.indexCast v7154
  let c0_3488 : Index := 0#32
  ![Nat.mul 2 v7156.toNat, 0]

def k0_chk303 (v7151 : BitVec 32) : Prop :=
  (8 ∣ (k0_mult305 v7151).toNat) ∧
  (∀ a, (k0_off526 v7151) a + S16x128.size a ≤ S20016x128.size a)
theorem k0_mult305_dvd : ∀ (v7151 : BitVec 32) (k0_hw303 : k0_chk303 v7151), 8 ∣ (k0_mult305 v7151).toNat := fun v7151 k0_hw303 => k0_hw303.1
theorem k0_off526_inb : ∀ (v7151 : BitVec 32) (k0_hw303 : k0_chk303 v7151), ∀ a, (k0_off526 v7151) a + S16x128.size a ≤ S20016x128.size a := fun v7151 k0_hw303 => k0_hw303.2

def k0_off527 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c46_i32_3491 : BitVec 32 := 46#32
  let v7162 : BitVec 32 := Scalar.addi v6320 c46_i32_3491
  let v7163 : Index := Scalar.indexCast v7162
  let c0_3492 : Index := 0#32
  ![v7163.toNat, 0, 0]
def k0_off528 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c47_i32_3493 : BitVec 32 := 47#32
  let v7167 : BitVec 32 := Scalar.addi v6320 c47_i32_3493
  let v7168 : Index := Scalar.indexCast v7167
  ![v7168.toNat]
def k0_mult306 (v7169 : BitVec 32) : BitVec 32 :=
  let c3_i32_3494 : BitVec 32 := 3#32
  let v7170 : BitVec 32 := Scalar.shrsi v7169 c3_i32_3494
  let c3_i32_3495 : BitVec 32 := 3#32
  let v7171 : BitVec 32 := Scalar.shli v7170 c3_i32_3495
  v7171

def k0_off529 (v7169 : BitVec 32) : Fin 2 → Nat :=
  let c3_i32_3494 : BitVec 32 := 3#32
  let v7170 : BitVec 32 := Scalar.shrsi v7169 c3_i32_3494
  let c3_i32_3495 : BitVec 32 := 3#32
  let v7171 : BitVec 32 := Scalar.shli v7170 c3_i32_3495
  let v7172 : BitVec 32 := v7171
  let v7174 : Index := Scalar.indexCast v7172
  let c0_3496 : Index := 0#32
  ![Nat.mul 2 v7174.toNat, 0]

def k0_chk304 (v7169 : BitVec 32) : Prop :=
  (8 ∣ (k0_mult306 v7169).toNat) ∧
  (∀ a, (k0_off529 v7169) a + S16x128.size a ≤ S20016x128.size a)
theorem k0_mult306_dvd : ∀ (v7169 : BitVec 32) (k0_hw304 : k0_chk304 v7169), 8 ∣ (k0_mult306 v7169).toNat := fun v7169 k0_hw304 => k0_hw304.1
theorem k0_off529_inb : ∀ (v7169 : BitVec 32) (k0_hw304 : k0_chk304 v7169), ∀ a, (k0_off529 v7169) a + S16x128.size a ≤ S20016x128.size a := fun v7169 k0_hw304 => k0_hw304.2

def k0_off530 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c47_i32_3499 : BitVec 32 := 47#32
  let v7180 : BitVec 32 := Scalar.addi v6320 c47_i32_3499
  let v7181 : Index := Scalar.indexCast v7180
  let c0_3500 : Index := 0#32
  ![v7181.toNat, 0, 0]
def k0_off531 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c48_i32_3501 : BitVec 32 := 48#32
  let v7185 : BitVec 32 := Scalar.addi v6320 c48_i32_3501
  let v7186 : Index := Scalar.indexCast v7185
  ![v7186.toNat]
def k0_mult307 (v7187 : BitVec 32) : BitVec 32 :=
  let c3_i32_3502 : BitVec 32 := 3#32
  let v7188 : BitVec 32 := Scalar.shrsi v7187 c3_i32_3502
  let c3_i32_3503 : BitVec 32 := 3#32
  let v7189 : BitVec 32 := Scalar.shli v7188 c3_i32_3503
  v7189

def k0_off532 (v7187 : BitVec 32) : Fin 2 → Nat :=
  let c3_i32_3502 : BitVec 32 := 3#32
  let v7188 : BitVec 32 := Scalar.shrsi v7187 c3_i32_3502
  let c3_i32_3503 : BitVec 32 := 3#32
  let v7189 : BitVec 32 := Scalar.shli v7188 c3_i32_3503
  let v7190 : BitVec 32 := v7189
  let v7192 : Index := Scalar.indexCast v7190
  let c0_3504 : Index := 0#32
  ![Nat.mul 2 v7192.toNat, 0]

def k0_chk305 (v7187 : BitVec 32) : Prop :=
  (8 ∣ (k0_mult307 v7187).toNat) ∧
  (∀ a, (k0_off532 v7187) a + S16x128.size a ≤ S20016x128.size a)
theorem k0_mult307_dvd : ∀ (v7187 : BitVec 32) (k0_hw305 : k0_chk305 v7187), 8 ∣ (k0_mult307 v7187).toNat := fun v7187 k0_hw305 => k0_hw305.1
theorem k0_off532_inb : ∀ (v7187 : BitVec 32) (k0_hw305 : k0_chk305 v7187), ∀ a, (k0_off532 v7187) a + S16x128.size a ≤ S20016x128.size a := fun v7187 k0_hw305 => k0_hw305.2

def k0_off533 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c48_i32_3507 : BitVec 32 := 48#32
  let v7198 : BitVec 32 := Scalar.addi v6320 c48_i32_3507
  let v7199 : Index := Scalar.indexCast v7198
  let c0_3508 : Index := 0#32
  ![v7199.toNat, 0, 0]
def k0_off534 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c49_i32_3509 : BitVec 32 := 49#32
  let v7203 : BitVec 32 := Scalar.addi v6320 c49_i32_3509
  let v7204 : Index := Scalar.indexCast v7203
  ![v7204.toNat]
def k0_mult308 (v7205 : BitVec 32) : BitVec 32 :=
  let c3_i32_3510 : BitVec 32 := 3#32
  let v7206 : BitVec 32 := Scalar.shrsi v7205 c3_i32_3510
  let c3_i32_3511 : BitVec 32 := 3#32
  let v7207 : BitVec 32 := Scalar.shli v7206 c3_i32_3511
  v7207

def k0_off535 (v7205 : BitVec 32) : Fin 2 → Nat :=
  let c3_i32_3510 : BitVec 32 := 3#32
  let v7206 : BitVec 32 := Scalar.shrsi v7205 c3_i32_3510
  let c3_i32_3511 : BitVec 32 := 3#32
  let v7207 : BitVec 32 := Scalar.shli v7206 c3_i32_3511
  let v7208 : BitVec 32 := v7207
  let v7210 : Index := Scalar.indexCast v7208
  let c0_3512 : Index := 0#32
  ![Nat.mul 2 v7210.toNat, 0]

def k0_chk306 (v7205 : BitVec 32) : Prop :=
  (8 ∣ (k0_mult308 v7205).toNat) ∧
  (∀ a, (k0_off535 v7205) a + S16x128.size a ≤ S20016x128.size a)
theorem k0_mult308_dvd : ∀ (v7205 : BitVec 32) (k0_hw306 : k0_chk306 v7205), 8 ∣ (k0_mult308 v7205).toNat := fun v7205 k0_hw306 => k0_hw306.1
theorem k0_off535_inb : ∀ (v7205 : BitVec 32) (k0_hw306 : k0_chk306 v7205), ∀ a, (k0_off535 v7205) a + S16x128.size a ≤ S20016x128.size a := fun v7205 k0_hw306 => k0_hw306.2

def k0_off536 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c49_i32_3515 : BitVec 32 := 49#32
  let v7216 : BitVec 32 := Scalar.addi v6320 c49_i32_3515
  let v7217 : Index := Scalar.indexCast v7216
  let c0_3516 : Index := 0#32
  ![v7217.toNat, 0, 0]
def k0_off537 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c50_i32_3517 : BitVec 32 := 50#32
  let v7221 : BitVec 32 := Scalar.addi v6320 c50_i32_3517
  let v7222 : Index := Scalar.indexCast v7221
  ![v7222.toNat]
def k0_mult309 (v7223 : BitVec 32) : BitVec 32 :=
  let c3_i32_3518 : BitVec 32 := 3#32
  let v7224 : BitVec 32 := Scalar.shrsi v7223 c3_i32_3518
  let c3_i32_3519 : BitVec 32 := 3#32
  let v7225 : BitVec 32 := Scalar.shli v7224 c3_i32_3519
  v7225

def k0_off538 (v7223 : BitVec 32) : Fin 2 → Nat :=
  let c3_i32_3518 : BitVec 32 := 3#32
  let v7224 : BitVec 32 := Scalar.shrsi v7223 c3_i32_3518
  let c3_i32_3519 : BitVec 32 := 3#32
  let v7225 : BitVec 32 := Scalar.shli v7224 c3_i32_3519
  let v7226 : BitVec 32 := v7225
  let v7228 : Index := Scalar.indexCast v7226
  let c0_3520 : Index := 0#32
  ![Nat.mul 2 v7228.toNat, 0]

def k0_chk307 (v7223 : BitVec 32) : Prop :=
  (8 ∣ (k0_mult309 v7223).toNat) ∧
  (∀ a, (k0_off538 v7223) a + S16x128.size a ≤ S20016x128.size a)
theorem k0_mult309_dvd : ∀ (v7223 : BitVec 32) (k0_hw307 : k0_chk307 v7223), 8 ∣ (k0_mult309 v7223).toNat := fun v7223 k0_hw307 => k0_hw307.1
theorem k0_off538_inb : ∀ (v7223 : BitVec 32) (k0_hw307 : k0_chk307 v7223), ∀ a, (k0_off538 v7223) a + S16x128.size a ≤ S20016x128.size a := fun v7223 k0_hw307 => k0_hw307.2

def k0_off539 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c50_i32_3523 : BitVec 32 := 50#32
  let v7234 : BitVec 32 := Scalar.addi v6320 c50_i32_3523
  let v7235 : Index := Scalar.indexCast v7234
  let c0_3524 : Index := 0#32
  ![v7235.toNat, 0, 0]
def k0_off540 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c51_i32_3525 : BitVec 32 := 51#32
  let v7239 : BitVec 32 := Scalar.addi v6320 c51_i32_3525
  let v7240 : Index := Scalar.indexCast v7239
  ![v7240.toNat]
def k0_mult310 (v7241 : BitVec 32) : BitVec 32 :=
  let c3_i32_3526 : BitVec 32 := 3#32
  let v7242 : BitVec 32 := Scalar.shrsi v7241 c3_i32_3526
  let c3_i32_3527 : BitVec 32 := 3#32
  let v7243 : BitVec 32 := Scalar.shli v7242 c3_i32_3527
  v7243

def k0_off541 (v7241 : BitVec 32) : Fin 2 → Nat :=
  let c3_i32_3526 : BitVec 32 := 3#32
  let v7242 : BitVec 32 := Scalar.shrsi v7241 c3_i32_3526
  let c3_i32_3527 : BitVec 32 := 3#32
  let v7243 : BitVec 32 := Scalar.shli v7242 c3_i32_3527
  let v7244 : BitVec 32 := v7243
  let v7246 : Index := Scalar.indexCast v7244
  let c0_3528 : Index := 0#32
  ![Nat.mul 2 v7246.toNat, 0]

def k0_chk308 (v7241 : BitVec 32) : Prop :=
  (8 ∣ (k0_mult310 v7241).toNat) ∧
  (∀ a, (k0_off541 v7241) a + S16x128.size a ≤ S20016x128.size a)
theorem k0_mult310_dvd : ∀ (v7241 : BitVec 32) (k0_hw308 : k0_chk308 v7241), 8 ∣ (k0_mult310 v7241).toNat := fun v7241 k0_hw308 => k0_hw308.1
theorem k0_off541_inb : ∀ (v7241 : BitVec 32) (k0_hw308 : k0_chk308 v7241), ∀ a, (k0_off541 v7241) a + S16x128.size a ≤ S20016x128.size a := fun v7241 k0_hw308 => k0_hw308.2

def k0_off542 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c51_i32_3531 : BitVec 32 := 51#32
  let v7252 : BitVec 32 := Scalar.addi v6320 c51_i32_3531
  let v7253 : Index := Scalar.indexCast v7252
  let c0_3532 : Index := 0#32
  ![v7253.toNat, 0, 0]
def k0_off543 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c52_i32_3533 : BitVec 32 := 52#32
  let v7257 : BitVec 32 := Scalar.addi v6320 c52_i32_3533
  let v7258 : Index := Scalar.indexCast v7257
  ![v7258.toNat]
def k0_mult311 (v7259 : BitVec 32) : BitVec 32 :=
  let c3_i32_3534 : BitVec 32 := 3#32
  let v7260 : BitVec 32 := Scalar.shrsi v7259 c3_i32_3534
  let c3_i32_3535 : BitVec 32 := 3#32
  let v7261 : BitVec 32 := Scalar.shli v7260 c3_i32_3535
  v7261

def k0_off544 (v7259 : BitVec 32) : Fin 2 → Nat :=
  let c3_i32_3534 : BitVec 32 := 3#32
  let v7260 : BitVec 32 := Scalar.shrsi v7259 c3_i32_3534
  let c3_i32_3535 : BitVec 32 := 3#32
  let v7261 : BitVec 32 := Scalar.shli v7260 c3_i32_3535
  let v7262 : BitVec 32 := v7261
  let v7264 : Index := Scalar.indexCast v7262
  let c0_3536 : Index := 0#32
  ![Nat.mul 2 v7264.toNat, 0]

def k0_chk309 (v7259 : BitVec 32) : Prop :=
  (8 ∣ (k0_mult311 v7259).toNat) ∧
  (∀ a, (k0_off544 v7259) a + S16x128.size a ≤ S20016x128.size a)
theorem k0_mult311_dvd : ∀ (v7259 : BitVec 32) (k0_hw309 : k0_chk309 v7259), 8 ∣ (k0_mult311 v7259).toNat := fun v7259 k0_hw309 => k0_hw309.1
theorem k0_off544_inb : ∀ (v7259 : BitVec 32) (k0_hw309 : k0_chk309 v7259), ∀ a, (k0_off544 v7259) a + S16x128.size a ≤ S20016x128.size a := fun v7259 k0_hw309 => k0_hw309.2

def k0_off545 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c52_i32_3539 : BitVec 32 := 52#32
  let v7270 : BitVec 32 := Scalar.addi v6320 c52_i32_3539
  let v7271 : Index := Scalar.indexCast v7270
  let c0_3540 : Index := 0#32
  ![v7271.toNat, 0, 0]
def k0_off546 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c53_i32_3541 : BitVec 32 := 53#32
  let v7275 : BitVec 32 := Scalar.addi v6320 c53_i32_3541
  let v7276 : Index := Scalar.indexCast v7275
  ![v7276.toNat]
def k0_mult312 (v7277 : BitVec 32) : BitVec 32 :=
  let c3_i32_3542 : BitVec 32 := 3#32
  let v7278 : BitVec 32 := Scalar.shrsi v7277 c3_i32_3542
  let c3_i32_3543 : BitVec 32 := 3#32
  let v7279 : BitVec 32 := Scalar.shli v7278 c3_i32_3543
  v7279

def k0_off547 (v7277 : BitVec 32) : Fin 2 → Nat :=
  let c3_i32_3542 : BitVec 32 := 3#32
  let v7278 : BitVec 32 := Scalar.shrsi v7277 c3_i32_3542
  let c3_i32_3543 : BitVec 32 := 3#32
  let v7279 : BitVec 32 := Scalar.shli v7278 c3_i32_3543
  let v7280 : BitVec 32 := v7279
  let v7282 : Index := Scalar.indexCast v7280
  let c0_3544 : Index := 0#32
  ![Nat.mul 2 v7282.toNat, 0]

def k0_chk310 (v7277 : BitVec 32) : Prop :=
  (8 ∣ (k0_mult312 v7277).toNat) ∧
  (∀ a, (k0_off547 v7277) a + S16x128.size a ≤ S20016x128.size a)
theorem k0_mult312_dvd : ∀ (v7277 : BitVec 32) (k0_hw310 : k0_chk310 v7277), 8 ∣ (k0_mult312 v7277).toNat := fun v7277 k0_hw310 => k0_hw310.1
theorem k0_off547_inb : ∀ (v7277 : BitVec 32) (k0_hw310 : k0_chk310 v7277), ∀ a, (k0_off547 v7277) a + S16x128.size a ≤ S20016x128.size a := fun v7277 k0_hw310 => k0_hw310.2

def k0_off548 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c53_i32_3547 : BitVec 32 := 53#32
  let v7288 : BitVec 32 := Scalar.addi v6320 c53_i32_3547
  let v7289 : Index := Scalar.indexCast v7288
  let c0_3548 : Index := 0#32
  ![v7289.toNat, 0, 0]
def k0_off549 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c54_i32_3549 : BitVec 32 := 54#32
  let v7293 : BitVec 32 := Scalar.addi v6320 c54_i32_3549
  let v7294 : Index := Scalar.indexCast v7293
  ![v7294.toNat]
def k0_mult313 (v7295 : BitVec 32) : BitVec 32 :=
  let c3_i32_3550 : BitVec 32 := 3#32
  let v7296 : BitVec 32 := Scalar.shrsi v7295 c3_i32_3550
  let c3_i32_3551 : BitVec 32 := 3#32
  let v7297 : BitVec 32 := Scalar.shli v7296 c3_i32_3551
  v7297

def k0_off550 (v7295 : BitVec 32) : Fin 2 → Nat :=
  let c3_i32_3550 : BitVec 32 := 3#32
  let v7296 : BitVec 32 := Scalar.shrsi v7295 c3_i32_3550
  let c3_i32_3551 : BitVec 32 := 3#32
  let v7297 : BitVec 32 := Scalar.shli v7296 c3_i32_3551
  let v7298 : BitVec 32 := v7297
  let v7300 : Index := Scalar.indexCast v7298
  let c0_3552 : Index := 0#32
  ![Nat.mul 2 v7300.toNat, 0]

def k0_chk311 (v7295 : BitVec 32) : Prop :=
  (8 ∣ (k0_mult313 v7295).toNat) ∧
  (∀ a, (k0_off550 v7295) a + S16x128.size a ≤ S20016x128.size a)
theorem k0_mult313_dvd : ∀ (v7295 : BitVec 32) (k0_hw311 : k0_chk311 v7295), 8 ∣ (k0_mult313 v7295).toNat := fun v7295 k0_hw311 => k0_hw311.1
theorem k0_off550_inb : ∀ (v7295 : BitVec 32) (k0_hw311 : k0_chk311 v7295), ∀ a, (k0_off550 v7295) a + S16x128.size a ≤ S20016x128.size a := fun v7295 k0_hw311 => k0_hw311.2

def k0_off551 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c54_i32_3555 : BitVec 32 := 54#32
  let v7306 : BitVec 32 := Scalar.addi v6320 c54_i32_3555
  let v7307 : Index := Scalar.indexCast v7306
  let c0_3556 : Index := 0#32
  ![v7307.toNat, 0, 0]
def k0_off552 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c55_i32_3557 : BitVec 32 := 55#32
  let v7311 : BitVec 32 := Scalar.addi v6320 c55_i32_3557
  let v7312 : Index := Scalar.indexCast v7311
  ![v7312.toNat]
def k0_mult314 (v7313 : BitVec 32) : BitVec 32 :=
  let c3_i32_3558 : BitVec 32 := 3#32
  let v7314 : BitVec 32 := Scalar.shrsi v7313 c3_i32_3558
  let c3_i32_3559 : BitVec 32 := 3#32
  let v7315 : BitVec 32 := Scalar.shli v7314 c3_i32_3559
  v7315

def k0_off553 (v7313 : BitVec 32) : Fin 2 → Nat :=
  let c3_i32_3558 : BitVec 32 := 3#32
  let v7314 : BitVec 32 := Scalar.shrsi v7313 c3_i32_3558
  let c3_i32_3559 : BitVec 32 := 3#32
  let v7315 : BitVec 32 := Scalar.shli v7314 c3_i32_3559
  let v7316 : BitVec 32 := v7315
  let v7318 : Index := Scalar.indexCast v7316
  let c0_3560 : Index := 0#32
  ![Nat.mul 2 v7318.toNat, 0]

def k0_chk312 (v7313 : BitVec 32) : Prop :=
  (8 ∣ (k0_mult314 v7313).toNat) ∧
  (∀ a, (k0_off553 v7313) a + S16x128.size a ≤ S20016x128.size a)
theorem k0_mult314_dvd : ∀ (v7313 : BitVec 32) (k0_hw312 : k0_chk312 v7313), 8 ∣ (k0_mult314 v7313).toNat := fun v7313 k0_hw312 => k0_hw312.1
theorem k0_off553_inb : ∀ (v7313 : BitVec 32) (k0_hw312 : k0_chk312 v7313), ∀ a, (k0_off553 v7313) a + S16x128.size a ≤ S20016x128.size a := fun v7313 k0_hw312 => k0_hw312.2

def k0_off554 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c55_i32_3563 : BitVec 32 := 55#32
  let v7324 : BitVec 32 := Scalar.addi v6320 c55_i32_3563
  let v7325 : Index := Scalar.indexCast v7324
  let c0_3564 : Index := 0#32
  ![v7325.toNat, 0, 0]
def k0_off555 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c56_i32_3565 : BitVec 32 := 56#32
  let v7329 : BitVec 32 := Scalar.addi v6320 c56_i32_3565
  let v7330 : Index := Scalar.indexCast v7329
  ![v7330.toNat]
def k0_mult315 (v7331 : BitVec 32) : BitVec 32 :=
  let c3_i32_3566 : BitVec 32 := 3#32
  let v7332 : BitVec 32 := Scalar.shrsi v7331 c3_i32_3566
  let c3_i32_3567 : BitVec 32 := 3#32
  let v7333 : BitVec 32 := Scalar.shli v7332 c3_i32_3567
  v7333

def k0_off556 (v7331 : BitVec 32) : Fin 2 → Nat :=
  let c3_i32_3566 : BitVec 32 := 3#32
  let v7332 : BitVec 32 := Scalar.shrsi v7331 c3_i32_3566
  let c3_i32_3567 : BitVec 32 := 3#32
  let v7333 : BitVec 32 := Scalar.shli v7332 c3_i32_3567
  let v7334 : BitVec 32 := v7333
  let v7336 : Index := Scalar.indexCast v7334
  let c0_3568 : Index := 0#32
  ![Nat.mul 2 v7336.toNat, 0]

def k0_chk313 (v7331 : BitVec 32) : Prop :=
  (8 ∣ (k0_mult315 v7331).toNat) ∧
  (∀ a, (k0_off556 v7331) a + S16x128.size a ≤ S20016x128.size a)
theorem k0_mult315_dvd : ∀ (v7331 : BitVec 32) (k0_hw313 : k0_chk313 v7331), 8 ∣ (k0_mult315 v7331).toNat := fun v7331 k0_hw313 => k0_hw313.1
theorem k0_off556_inb : ∀ (v7331 : BitVec 32) (k0_hw313 : k0_chk313 v7331), ∀ a, (k0_off556 v7331) a + S16x128.size a ≤ S20016x128.size a := fun v7331 k0_hw313 => k0_hw313.2

def k0_off557 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c56_i32_3571 : BitVec 32 := 56#32
  let v7342 : BitVec 32 := Scalar.addi v6320 c56_i32_3571
  let v7343 : Index := Scalar.indexCast v7342
  let c0_3572 : Index := 0#32
  ![v7343.toNat, 0, 0]
def k0_off558 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c57_i32_3573 : BitVec 32 := 57#32
  let v7347 : BitVec 32 := Scalar.addi v6320 c57_i32_3573
  let v7348 : Index := Scalar.indexCast v7347
  ![v7348.toNat]
def k0_mult316 (v7349 : BitVec 32) : BitVec 32 :=
  let c3_i32_3574 : BitVec 32 := 3#32
  let v7350 : BitVec 32 := Scalar.shrsi v7349 c3_i32_3574
  let c3_i32_3575 : BitVec 32 := 3#32
  let v7351 : BitVec 32 := Scalar.shli v7350 c3_i32_3575
  v7351

def k0_off559 (v7349 : BitVec 32) : Fin 2 → Nat :=
  let c3_i32_3574 : BitVec 32 := 3#32
  let v7350 : BitVec 32 := Scalar.shrsi v7349 c3_i32_3574
  let c3_i32_3575 : BitVec 32 := 3#32
  let v7351 : BitVec 32 := Scalar.shli v7350 c3_i32_3575
  let v7352 : BitVec 32 := v7351
  let v7354 : Index := Scalar.indexCast v7352
  let c0_3576 : Index := 0#32
  ![Nat.mul 2 v7354.toNat, 0]

def k0_chk314 (v7349 : BitVec 32) : Prop :=
  (8 ∣ (k0_mult316 v7349).toNat) ∧
  (∀ a, (k0_off559 v7349) a + S16x128.size a ≤ S20016x128.size a)
theorem k0_mult316_dvd : ∀ (v7349 : BitVec 32) (k0_hw314 : k0_chk314 v7349), 8 ∣ (k0_mult316 v7349).toNat := fun v7349 k0_hw314 => k0_hw314.1
theorem k0_off559_inb : ∀ (v7349 : BitVec 32) (k0_hw314 : k0_chk314 v7349), ∀ a, (k0_off559 v7349) a + S16x128.size a ≤ S20016x128.size a := fun v7349 k0_hw314 => k0_hw314.2

def k0_off560 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c57_i32_3579 : BitVec 32 := 57#32
  let v7360 : BitVec 32 := Scalar.addi v6320 c57_i32_3579
  let v7361 : Index := Scalar.indexCast v7360
  let c0_3580 : Index := 0#32
  ![v7361.toNat, 0, 0]
def k0_off561 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c58_i32_3581 : BitVec 32 := 58#32
  let v7365 : BitVec 32 := Scalar.addi v6320 c58_i32_3581
  let v7366 : Index := Scalar.indexCast v7365
  ![v7366.toNat]
def k0_mult317 (v7367 : BitVec 32) : BitVec 32 :=
  let c3_i32_3582 : BitVec 32 := 3#32
  let v7368 : BitVec 32 := Scalar.shrsi v7367 c3_i32_3582
  let c3_i32_3583 : BitVec 32 := 3#32
  let v7369 : BitVec 32 := Scalar.shli v7368 c3_i32_3583
  v7369

def k0_off562 (v7367 : BitVec 32) : Fin 2 → Nat :=
  let c3_i32_3582 : BitVec 32 := 3#32
  let v7368 : BitVec 32 := Scalar.shrsi v7367 c3_i32_3582
  let c3_i32_3583 : BitVec 32 := 3#32
  let v7369 : BitVec 32 := Scalar.shli v7368 c3_i32_3583
  let v7370 : BitVec 32 := v7369
  let v7372 : Index := Scalar.indexCast v7370
  let c0_3584 : Index := 0#32
  ![Nat.mul 2 v7372.toNat, 0]

def k0_chk315 (v7367 : BitVec 32) : Prop :=
  (8 ∣ (k0_mult317 v7367).toNat) ∧
  (∀ a, (k0_off562 v7367) a + S16x128.size a ≤ S20016x128.size a)
theorem k0_mult317_dvd : ∀ (v7367 : BitVec 32) (k0_hw315 : k0_chk315 v7367), 8 ∣ (k0_mult317 v7367).toNat := fun v7367 k0_hw315 => k0_hw315.1
theorem k0_off562_inb : ∀ (v7367 : BitVec 32) (k0_hw315 : k0_chk315 v7367), ∀ a, (k0_off562 v7367) a + S16x128.size a ≤ S20016x128.size a := fun v7367 k0_hw315 => k0_hw315.2

def k0_off563 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c58_i32_3587 : BitVec 32 := 58#32
  let v7378 : BitVec 32 := Scalar.addi v6320 c58_i32_3587
  let v7379 : Index := Scalar.indexCast v7378
  let c0_3588 : Index := 0#32
  ![v7379.toNat, 0, 0]
def k0_off564 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c59_i32_3589 : BitVec 32 := 59#32
  let v7383 : BitVec 32 := Scalar.addi v6320 c59_i32_3589
  let v7384 : Index := Scalar.indexCast v7383
  ![v7384.toNat]
def k0_mult318 (v7385 : BitVec 32) : BitVec 32 :=
  let c3_i32_3590 : BitVec 32 := 3#32
  let v7386 : BitVec 32 := Scalar.shrsi v7385 c3_i32_3590
  let c3_i32_3591 : BitVec 32 := 3#32
  let v7387 : BitVec 32 := Scalar.shli v7386 c3_i32_3591
  v7387

def k0_off565 (v7385 : BitVec 32) : Fin 2 → Nat :=
  let c3_i32_3590 : BitVec 32 := 3#32
  let v7386 : BitVec 32 := Scalar.shrsi v7385 c3_i32_3590
  let c3_i32_3591 : BitVec 32 := 3#32
  let v7387 : BitVec 32 := Scalar.shli v7386 c3_i32_3591
  let v7388 : BitVec 32 := v7387
  let v7390 : Index := Scalar.indexCast v7388
  let c0_3592 : Index := 0#32
  ![Nat.mul 2 v7390.toNat, 0]

def k0_chk316 (v7385 : BitVec 32) : Prop :=
  (8 ∣ (k0_mult318 v7385).toNat) ∧
  (∀ a, (k0_off565 v7385) a + S16x128.size a ≤ S20016x128.size a)
theorem k0_mult318_dvd : ∀ (v7385 : BitVec 32) (k0_hw316 : k0_chk316 v7385), 8 ∣ (k0_mult318 v7385).toNat := fun v7385 k0_hw316 => k0_hw316.1
theorem k0_off565_inb : ∀ (v7385 : BitVec 32) (k0_hw316 : k0_chk316 v7385), ∀ a, (k0_off565 v7385) a + S16x128.size a ≤ S20016x128.size a := fun v7385 k0_hw316 => k0_hw316.2

def k0_off566 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c59_i32_3595 : BitVec 32 := 59#32
  let v7396 : BitVec 32 := Scalar.addi v6320 c59_i32_3595
  let v7397 : Index := Scalar.indexCast v7396
  let c0_3596 : Index := 0#32
  ![v7397.toNat, 0, 0]
def k0_off567 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c60_i32_3597 : BitVec 32 := 60#32
  let v7401 : BitVec 32 := Scalar.addi v6320 c60_i32_3597
  let v7402 : Index := Scalar.indexCast v7401
  ![v7402.toNat]
def k0_mult319 (v7403 : BitVec 32) : BitVec 32 :=
  let c3_i32_3598 : BitVec 32 := 3#32
  let v7404 : BitVec 32 := Scalar.shrsi v7403 c3_i32_3598
  let c3_i32_3599 : BitVec 32 := 3#32
  let v7405 : BitVec 32 := Scalar.shli v7404 c3_i32_3599
  v7405

def k0_off568 (v7403 : BitVec 32) : Fin 2 → Nat :=
  let c3_i32_3598 : BitVec 32 := 3#32
  let v7404 : BitVec 32 := Scalar.shrsi v7403 c3_i32_3598
  let c3_i32_3599 : BitVec 32 := 3#32
  let v7405 : BitVec 32 := Scalar.shli v7404 c3_i32_3599
  let v7406 : BitVec 32 := v7405
  let v7408 : Index := Scalar.indexCast v7406
  let c0_3600 : Index := 0#32
  ![Nat.mul 2 v7408.toNat, 0]

def k0_chk317 (v7403 : BitVec 32) : Prop :=
  (8 ∣ (k0_mult319 v7403).toNat) ∧
  (∀ a, (k0_off568 v7403) a + S16x128.size a ≤ S20016x128.size a)
theorem k0_mult319_dvd : ∀ (v7403 : BitVec 32) (k0_hw317 : k0_chk317 v7403), 8 ∣ (k0_mult319 v7403).toNat := fun v7403 k0_hw317 => k0_hw317.1
theorem k0_off568_inb : ∀ (v7403 : BitVec 32) (k0_hw317 : k0_chk317 v7403), ∀ a, (k0_off568 v7403) a + S16x128.size a ≤ S20016x128.size a := fun v7403 k0_hw317 => k0_hw317.2

def k0_off569 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c60_i32_3603 : BitVec 32 := 60#32
  let v7414 : BitVec 32 := Scalar.addi v6320 c60_i32_3603
  let v7415 : Index := Scalar.indexCast v7414
  let c0_3604 : Index := 0#32
  ![v7415.toNat, 0, 0]
def k0_off570 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c61_i32_3605 : BitVec 32 := 61#32
  let v7419 : BitVec 32 := Scalar.addi v6320 c61_i32_3605
  let v7420 : Index := Scalar.indexCast v7419
  ![v7420.toNat]
def k0_mult320 (v7421 : BitVec 32) : BitVec 32 :=
  let c3_i32_3606 : BitVec 32 := 3#32
  let v7422 : BitVec 32 := Scalar.shrsi v7421 c3_i32_3606
  let c3_i32_3607 : BitVec 32 := 3#32
  let v7423 : BitVec 32 := Scalar.shli v7422 c3_i32_3607
  v7423

def k0_off571 (v7421 : BitVec 32) : Fin 2 → Nat :=
  let c3_i32_3606 : BitVec 32 := 3#32
  let v7422 : BitVec 32 := Scalar.shrsi v7421 c3_i32_3606
  let c3_i32_3607 : BitVec 32 := 3#32
  let v7423 : BitVec 32 := Scalar.shli v7422 c3_i32_3607
  let v7424 : BitVec 32 := v7423
  let v7426 : Index := Scalar.indexCast v7424
  let c0_3608 : Index := 0#32
  ![Nat.mul 2 v7426.toNat, 0]

def k0_chk318 (v7421 : BitVec 32) : Prop :=
  (8 ∣ (k0_mult320 v7421).toNat) ∧
  (∀ a, (k0_off571 v7421) a + S16x128.size a ≤ S20016x128.size a)
theorem k0_mult320_dvd : ∀ (v7421 : BitVec 32) (k0_hw318 : k0_chk318 v7421), 8 ∣ (k0_mult320 v7421).toNat := fun v7421 k0_hw318 => k0_hw318.1
theorem k0_off571_inb : ∀ (v7421 : BitVec 32) (k0_hw318 : k0_chk318 v7421), ∀ a, (k0_off571 v7421) a + S16x128.size a ≤ S20016x128.size a := fun v7421 k0_hw318 => k0_hw318.2

def k0_off572 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c61_i32_3611 : BitVec 32 := 61#32
  let v7432 : BitVec 32 := Scalar.addi v6320 c61_i32_3611
  let v7433 : Index := Scalar.indexCast v7432
  let c0_3612 : Index := 0#32
  ![v7433.toNat, 0, 0]
def k0_off573 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c62_i32_3613 : BitVec 32 := 62#32
  let v7437 : BitVec 32 := Scalar.addi v6320 c62_i32_3613
  let v7438 : Index := Scalar.indexCast v7437
  ![v7438.toNat]
def k0_mult321 (v7439 : BitVec 32) : BitVec 32 :=
  let c3_i32_3614 : BitVec 32 := 3#32
  let v7440 : BitVec 32 := Scalar.shrsi v7439 c3_i32_3614
  let c3_i32_3615 : BitVec 32 := 3#32
  let v7441 : BitVec 32 := Scalar.shli v7440 c3_i32_3615
  v7441

def k0_off574 (v7439 : BitVec 32) : Fin 2 → Nat :=
  let c3_i32_3614 : BitVec 32 := 3#32
  let v7440 : BitVec 32 := Scalar.shrsi v7439 c3_i32_3614
  let c3_i32_3615 : BitVec 32 := 3#32
  let v7441 : BitVec 32 := Scalar.shli v7440 c3_i32_3615
  let v7442 : BitVec 32 := v7441
  let v7444 : Index := Scalar.indexCast v7442
  let c0_3616 : Index := 0#32
  ![Nat.mul 2 v7444.toNat, 0]

def k0_chk319 (v7439 : BitVec 32) : Prop :=
  (8 ∣ (k0_mult321 v7439).toNat) ∧
  (∀ a, (k0_off574 v7439) a + S16x128.size a ≤ S20016x128.size a)
theorem k0_mult321_dvd : ∀ (v7439 : BitVec 32) (k0_hw319 : k0_chk319 v7439), 8 ∣ (k0_mult321 v7439).toNat := fun v7439 k0_hw319 => k0_hw319.1
theorem k0_off574_inb : ∀ (v7439 : BitVec 32) (k0_hw319 : k0_chk319 v7439), ∀ a, (k0_off574 v7439) a + S16x128.size a ≤ S20016x128.size a := fun v7439 k0_hw319 => k0_hw319.2

def k0_off575 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c62_i32_3619 : BitVec 32 := 62#32
  let v7450 : BitVec 32 := Scalar.addi v6320 c62_i32_3619
  let v7451 : Index := Scalar.indexCast v7450
  let c0_3620 : Index := 0#32
  ![v7451.toNat, 0, 0]
def k0_off576 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c63_i32_3621 : BitVec 32 := 63#32
  let v7455 : BitVec 32 := Scalar.addi v6320 c63_i32_3621
  let v7456 : Index := Scalar.indexCast v7455
  ![v7456.toNat]
def k0_mult322 (v7457 : BitVec 32) : BitVec 32 :=
  let c3_i32_3622 : BitVec 32 := 3#32
  let v7458 : BitVec 32 := Scalar.shrsi v7457 c3_i32_3622
  let c3_i32_3623 : BitVec 32 := 3#32
  let v7459 : BitVec 32 := Scalar.shli v7458 c3_i32_3623
  v7459

def k0_off577 (v7457 : BitVec 32) : Fin 2 → Nat :=
  let c3_i32_3622 : BitVec 32 := 3#32
  let v7458 : BitVec 32 := Scalar.shrsi v7457 c3_i32_3622
  let c3_i32_3623 : BitVec 32 := 3#32
  let v7459 : BitVec 32 := Scalar.shli v7458 c3_i32_3623
  let v7460 : BitVec 32 := v7459
  let v7462 : Index := Scalar.indexCast v7460
  let c0_3624 : Index := 0#32
  ![Nat.mul 2 v7462.toNat, 0]

def k0_chk320 (v7457 : BitVec 32) : Prop :=
  (8 ∣ (k0_mult322 v7457).toNat) ∧
  (∀ a, (k0_off577 v7457) a + S16x128.size a ≤ S20016x128.size a)
theorem k0_mult322_dvd : ∀ (v7457 : BitVec 32) (k0_hw320 : k0_chk320 v7457), 8 ∣ (k0_mult322 v7457).toNat := fun v7457 k0_hw320 => k0_hw320.1
theorem k0_off577_inb : ∀ (v7457 : BitVec 32) (k0_hw320 : k0_chk320 v7457), ∀ a, (k0_off577 v7457) a + S16x128.size a ≤ S20016x128.size a := fun v7457 k0_hw320 => k0_hw320.2

def k0_off578 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c63_i32_3627 : BitVec 32 := 63#32
  let v7468 : BitVec 32 := Scalar.addi v6320 c63_i32_3627
  let v7469 : Index := Scalar.indexCast v7468
  let c0_3628 : Index := 0#32
  ![v7469.toNat, 0, 0]
def k0_off579 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c64_i32_3629 : BitVec 32 := 64#32
  let v7473 : BitVec 32 := Scalar.addi v6320 c64_i32_3629
  let v7474 : Index := Scalar.indexCast v7473
  ![v7474.toNat]
def k0_mult323 (v7475 : BitVec 32) : BitVec 32 :=
  let c3_i32_3630 : BitVec 32 := 3#32
  let v7476 : BitVec 32 := Scalar.shrsi v7475 c3_i32_3630
  let c3_i32_3631 : BitVec 32 := 3#32
  let v7477 : BitVec 32 := Scalar.shli v7476 c3_i32_3631
  v7477

def k0_off580 (v7475 : BitVec 32) : Fin 2 → Nat :=
  let c3_i32_3630 : BitVec 32 := 3#32
  let v7476 : BitVec 32 := Scalar.shrsi v7475 c3_i32_3630
  let c3_i32_3631 : BitVec 32 := 3#32
  let v7477 : BitVec 32 := Scalar.shli v7476 c3_i32_3631
  let v7478 : BitVec 32 := v7477
  let v7480 : Index := Scalar.indexCast v7478
  let c0_3632 : Index := 0#32
  ![Nat.mul 2 v7480.toNat, 0]

def k0_chk321 (v7475 : BitVec 32) : Prop :=
  (8 ∣ (k0_mult323 v7475).toNat) ∧
  (∀ a, (k0_off580 v7475) a + S16x128.size a ≤ S20016x128.size a)
theorem k0_mult323_dvd : ∀ (v7475 : BitVec 32) (k0_hw321 : k0_chk321 v7475), 8 ∣ (k0_mult323 v7475).toNat := fun v7475 k0_hw321 => k0_hw321.1
theorem k0_off580_inb : ∀ (v7475 : BitVec 32) (k0_hw321 : k0_chk321 v7475), ∀ a, (k0_off580 v7475) a + S16x128.size a ≤ S20016x128.size a := fun v7475 k0_hw321 => k0_hw321.2

def k0_off581 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c64_i32_3635 : BitVec 32 := 64#32
  let v7486 : BitVec 32 := Scalar.addi v6320 c64_i32_3635
  let v7487 : Index := Scalar.indexCast v7486
  let c0_3636 : Index := 0#32
  ![v7487.toNat, 0, 0]
def k0_off582 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c65_i32 : BitVec 32 := 65#32
  let v7491 : BitVec 32 := Scalar.addi v6320 c65_i32
  let v7492 : Index := Scalar.indexCast v7491
  ![v7492.toNat]
def k0_mult324 (v7493 : BitVec 32) : BitVec 32 :=
  let c3_i32_3637 : BitVec 32 := 3#32
  let v7494 : BitVec 32 := Scalar.shrsi v7493 c3_i32_3637
  let c3_i32_3638 : BitVec 32 := 3#32
  let v7495 : BitVec 32 := Scalar.shli v7494 c3_i32_3638
  v7495

def k0_off583 (v7493 : BitVec 32) : Fin 2 → Nat :=
  let c3_i32_3637 : BitVec 32 := 3#32
  let v7494 : BitVec 32 := Scalar.shrsi v7493 c3_i32_3637
  let c3_i32_3638 : BitVec 32 := 3#32
  let v7495 : BitVec 32 := Scalar.shli v7494 c3_i32_3638
  let v7496 : BitVec 32 := v7495
  let v7498 : Index := Scalar.indexCast v7496
  let c0_3639 : Index := 0#32
  ![Nat.mul 2 v7498.toNat, 0]

def k0_chk322 (v7493 : BitVec 32) : Prop :=
  (8 ∣ (k0_mult324 v7493).toNat) ∧
  (∀ a, (k0_off583 v7493) a + S16x128.size a ≤ S20016x128.size a)
theorem k0_mult324_dvd : ∀ (v7493 : BitVec 32) (k0_hw322 : k0_chk322 v7493), 8 ∣ (k0_mult324 v7493).toNat := fun v7493 k0_hw322 => k0_hw322.1
theorem k0_off583_inb : ∀ (v7493 : BitVec 32) (k0_hw322 : k0_chk322 v7493), ∀ a, (k0_off583 v7493) a + S16x128.size a ≤ S20016x128.size a := fun v7493 k0_hw322 => k0_hw322.2

def k0_off584 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c65_i32_3642 : BitVec 32 := 65#32
  let v7504 : BitVec 32 := Scalar.addi v6320 c65_i32_3642
  let v7505 : Index := Scalar.indexCast v7504
  let c0_3643 : Index := 0#32
  ![v7505.toNat, 0, 0]
def k0_off585 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c66_i32 : BitVec 32 := 66#32
  let v7509 : BitVec 32 := Scalar.addi v6320 c66_i32
  let v7510 : Index := Scalar.indexCast v7509
  ![v7510.toNat]
def k0_mult325 (v7511 : BitVec 32) : BitVec 32 :=
  let c3_i32_3644 : BitVec 32 := 3#32
  let v7512 : BitVec 32 := Scalar.shrsi v7511 c3_i32_3644
  let c3_i32_3645 : BitVec 32 := 3#32
  let v7513 : BitVec 32 := Scalar.shli v7512 c3_i32_3645
  v7513

def k0_off586 (v7511 : BitVec 32) : Fin 2 → Nat :=
  let c3_i32_3644 : BitVec 32 := 3#32
  let v7512 : BitVec 32 := Scalar.shrsi v7511 c3_i32_3644
  let c3_i32_3645 : BitVec 32 := 3#32
  let v7513 : BitVec 32 := Scalar.shli v7512 c3_i32_3645
  let v7514 : BitVec 32 := v7513
  let v7516 : Index := Scalar.indexCast v7514
  let c0_3646 : Index := 0#32
  ![Nat.mul 2 v7516.toNat, 0]

def k0_chk323 (v7511 : BitVec 32) : Prop :=
  (8 ∣ (k0_mult325 v7511).toNat) ∧
  (∀ a, (k0_off586 v7511) a + S16x128.size a ≤ S20016x128.size a)
theorem k0_mult325_dvd : ∀ (v7511 : BitVec 32) (k0_hw323 : k0_chk323 v7511), 8 ∣ (k0_mult325 v7511).toNat := fun v7511 k0_hw323 => k0_hw323.1
theorem k0_off586_inb : ∀ (v7511 : BitVec 32) (k0_hw323 : k0_chk323 v7511), ∀ a, (k0_off586 v7511) a + S16x128.size a ≤ S20016x128.size a := fun v7511 k0_hw323 => k0_hw323.2

def k0_off587 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c66_i32_3649 : BitVec 32 := 66#32
  let v7522 : BitVec 32 := Scalar.addi v6320 c66_i32_3649
  let v7523 : Index := Scalar.indexCast v7522
  let c0_3650 : Index := 0#32
  ![v7523.toNat, 0, 0]
def k0_off588 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c67_i32 : BitVec 32 := 67#32
  let v7527 : BitVec 32 := Scalar.addi v6320 c67_i32
  let v7528 : Index := Scalar.indexCast v7527
  ![v7528.toNat]
def k0_mult326 (v7529 : BitVec 32) : BitVec 32 :=
  let c3_i32_3651 : BitVec 32 := 3#32
  let v7530 : BitVec 32 := Scalar.shrsi v7529 c3_i32_3651
  let c3_i32_3652 : BitVec 32 := 3#32
  let v7531 : BitVec 32 := Scalar.shli v7530 c3_i32_3652
  v7531

def k0_off589 (v7529 : BitVec 32) : Fin 2 → Nat :=
  let c3_i32_3651 : BitVec 32 := 3#32
  let v7530 : BitVec 32 := Scalar.shrsi v7529 c3_i32_3651
  let c3_i32_3652 : BitVec 32 := 3#32
  let v7531 : BitVec 32 := Scalar.shli v7530 c3_i32_3652
  let v7532 : BitVec 32 := v7531
  let v7534 : Index := Scalar.indexCast v7532
  let c0_3653 : Index := 0#32
  ![Nat.mul 2 v7534.toNat, 0]

def k0_chk324 (v7529 : BitVec 32) : Prop :=
  (8 ∣ (k0_mult326 v7529).toNat) ∧
  (∀ a, (k0_off589 v7529) a + S16x128.size a ≤ S20016x128.size a)
theorem k0_mult326_dvd : ∀ (v7529 : BitVec 32) (k0_hw324 : k0_chk324 v7529), 8 ∣ (k0_mult326 v7529).toNat := fun v7529 k0_hw324 => k0_hw324.1
theorem k0_off589_inb : ∀ (v7529 : BitVec 32) (k0_hw324 : k0_chk324 v7529), ∀ a, (k0_off589 v7529) a + S16x128.size a ≤ S20016x128.size a := fun v7529 k0_hw324 => k0_hw324.2

def k0_off590 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c67_i32_3656 : BitVec 32 := 67#32
  let v7540 : BitVec 32 := Scalar.addi v6320 c67_i32_3656
  let v7541 : Index := Scalar.indexCast v7540
  let c0_3657 : Index := 0#32
  ![v7541.toNat, 0, 0]
def k0_off591 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c68_i32 : BitVec 32 := 68#32
  let v7545 : BitVec 32 := Scalar.addi v6320 c68_i32
  let v7546 : Index := Scalar.indexCast v7545
  ![v7546.toNat]
def k0_mult327 (v7547 : BitVec 32) : BitVec 32 :=
  let c3_i32_3658 : BitVec 32 := 3#32
  let v7548 : BitVec 32 := Scalar.shrsi v7547 c3_i32_3658
  let c3_i32_3659 : BitVec 32 := 3#32
  let v7549 : BitVec 32 := Scalar.shli v7548 c3_i32_3659
  v7549

def k0_off592 (v7547 : BitVec 32) : Fin 2 → Nat :=
  let c3_i32_3658 : BitVec 32 := 3#32
  let v7548 : BitVec 32 := Scalar.shrsi v7547 c3_i32_3658
  let c3_i32_3659 : BitVec 32 := 3#32
  let v7549 : BitVec 32 := Scalar.shli v7548 c3_i32_3659
  let v7550 : BitVec 32 := v7549
  let v7552 : Index := Scalar.indexCast v7550
  let c0_3660 : Index := 0#32
  ![Nat.mul 2 v7552.toNat, 0]

def k0_chk325 (v7547 : BitVec 32) : Prop :=
  (8 ∣ (k0_mult327 v7547).toNat) ∧
  (∀ a, (k0_off592 v7547) a + S16x128.size a ≤ S20016x128.size a)
theorem k0_mult327_dvd : ∀ (v7547 : BitVec 32) (k0_hw325 : k0_chk325 v7547), 8 ∣ (k0_mult327 v7547).toNat := fun v7547 k0_hw325 => k0_hw325.1
theorem k0_off592_inb : ∀ (v7547 : BitVec 32) (k0_hw325 : k0_chk325 v7547), ∀ a, (k0_off592 v7547) a + S16x128.size a ≤ S20016x128.size a := fun v7547 k0_hw325 => k0_hw325.2

def k0_off593 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c68_i32_3663 : BitVec 32 := 68#32
  let v7558 : BitVec 32 := Scalar.addi v6320 c68_i32_3663
  let v7559 : Index := Scalar.indexCast v7558
  let c0_3664 : Index := 0#32
  ![v7559.toNat, 0, 0]
def k0_off594 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c69_i32 : BitVec 32 := 69#32
  let v7563 : BitVec 32 := Scalar.addi v6320 c69_i32
  let v7564 : Index := Scalar.indexCast v7563
  ![v7564.toNat]
def k0_mult328 (v7565 : BitVec 32) : BitVec 32 :=
  let c3_i32_3665 : BitVec 32 := 3#32
  let v7566 : BitVec 32 := Scalar.shrsi v7565 c3_i32_3665
  let c3_i32_3666 : BitVec 32 := 3#32
  let v7567 : BitVec 32 := Scalar.shli v7566 c3_i32_3666
  v7567

def k0_off595 (v7565 : BitVec 32) : Fin 2 → Nat :=
  let c3_i32_3665 : BitVec 32 := 3#32
  let v7566 : BitVec 32 := Scalar.shrsi v7565 c3_i32_3665
  let c3_i32_3666 : BitVec 32 := 3#32
  let v7567 : BitVec 32 := Scalar.shli v7566 c3_i32_3666
  let v7568 : BitVec 32 := v7567
  let v7570 : Index := Scalar.indexCast v7568
  let c0_3667 : Index := 0#32
  ![Nat.mul 2 v7570.toNat, 0]

def k0_chk326 (v7565 : BitVec 32) : Prop :=
  (8 ∣ (k0_mult328 v7565).toNat) ∧
  (∀ a, (k0_off595 v7565) a + S16x128.size a ≤ S20016x128.size a)
theorem k0_mult328_dvd : ∀ (v7565 : BitVec 32) (k0_hw326 : k0_chk326 v7565), 8 ∣ (k0_mult328 v7565).toNat := fun v7565 k0_hw326 => k0_hw326.1
theorem k0_off595_inb : ∀ (v7565 : BitVec 32) (k0_hw326 : k0_chk326 v7565), ∀ a, (k0_off595 v7565) a + S16x128.size a ≤ S20016x128.size a := fun v7565 k0_hw326 => k0_hw326.2

def k0_off596 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c69_i32_3670 : BitVec 32 := 69#32
  let v7576 : BitVec 32 := Scalar.addi v6320 c69_i32_3670
  let v7577 : Index := Scalar.indexCast v7576
  let c0_3671 : Index := 0#32
  ![v7577.toNat, 0, 0]
def k0_off597 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c70_i32 : BitVec 32 := 70#32
  let v7581 : BitVec 32 := Scalar.addi v6320 c70_i32
  let v7582 : Index := Scalar.indexCast v7581
  ![v7582.toNat]
def k0_mult329 (v7583 : BitVec 32) : BitVec 32 :=
  let c3_i32_3672 : BitVec 32 := 3#32
  let v7584 : BitVec 32 := Scalar.shrsi v7583 c3_i32_3672
  let c3_i32_3673 : BitVec 32 := 3#32
  let v7585 : BitVec 32 := Scalar.shli v7584 c3_i32_3673
  v7585

def k0_off598 (v7583 : BitVec 32) : Fin 2 → Nat :=
  let c3_i32_3672 : BitVec 32 := 3#32
  let v7584 : BitVec 32 := Scalar.shrsi v7583 c3_i32_3672
  let c3_i32_3673 : BitVec 32 := 3#32
  let v7585 : BitVec 32 := Scalar.shli v7584 c3_i32_3673
  let v7586 : BitVec 32 := v7585
  let v7588 : Index := Scalar.indexCast v7586
  let c0_3674 : Index := 0#32
  ![Nat.mul 2 v7588.toNat, 0]

def k0_chk327 (v7583 : BitVec 32) : Prop :=
  (8 ∣ (k0_mult329 v7583).toNat) ∧
  (∀ a, (k0_off598 v7583) a + S16x128.size a ≤ S20016x128.size a)
theorem k0_mult329_dvd : ∀ (v7583 : BitVec 32) (k0_hw327 : k0_chk327 v7583), 8 ∣ (k0_mult329 v7583).toNat := fun v7583 k0_hw327 => k0_hw327.1
theorem k0_off598_inb : ∀ (v7583 : BitVec 32) (k0_hw327 : k0_chk327 v7583), ∀ a, (k0_off598 v7583) a + S16x128.size a ≤ S20016x128.size a := fun v7583 k0_hw327 => k0_hw327.2

def k0_off599 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c70_i32_3677 : BitVec 32 := 70#32
  let v7594 : BitVec 32 := Scalar.addi v6320 c70_i32_3677
  let v7595 : Index := Scalar.indexCast v7594
  let c0_3678 : Index := 0#32
  ![v7595.toNat, 0, 0]
def k0_off600 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c71_i32 : BitVec 32 := 71#32
  let v7599 : BitVec 32 := Scalar.addi v6320 c71_i32
  let v7600 : Index := Scalar.indexCast v7599
  ![v7600.toNat]
def k0_mult330 (v7601 : BitVec 32) : BitVec 32 :=
  let c3_i32_3679 : BitVec 32 := 3#32
  let v7602 : BitVec 32 := Scalar.shrsi v7601 c3_i32_3679
  let c3_i32_3680 : BitVec 32 := 3#32
  let v7603 : BitVec 32 := Scalar.shli v7602 c3_i32_3680
  v7603

def k0_off601 (v7601 : BitVec 32) : Fin 2 → Nat :=
  let c3_i32_3679 : BitVec 32 := 3#32
  let v7602 : BitVec 32 := Scalar.shrsi v7601 c3_i32_3679
  let c3_i32_3680 : BitVec 32 := 3#32
  let v7603 : BitVec 32 := Scalar.shli v7602 c3_i32_3680
  let v7604 : BitVec 32 := v7603
  let v7606 : Index := Scalar.indexCast v7604
  let c0_3681 : Index := 0#32
  ![Nat.mul 2 v7606.toNat, 0]

def k0_chk328 (v7601 : BitVec 32) : Prop :=
  (8 ∣ (k0_mult330 v7601).toNat) ∧
  (∀ a, (k0_off601 v7601) a + S16x128.size a ≤ S20016x128.size a)
theorem k0_mult330_dvd : ∀ (v7601 : BitVec 32) (k0_hw328 : k0_chk328 v7601), 8 ∣ (k0_mult330 v7601).toNat := fun v7601 k0_hw328 => k0_hw328.1
theorem k0_off601_inb : ∀ (v7601 : BitVec 32) (k0_hw328 : k0_chk328 v7601), ∀ a, (k0_off601 v7601) a + S16x128.size a ≤ S20016x128.size a := fun v7601 k0_hw328 => k0_hw328.2

def k0_off602 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c71_i32_3684 : BitVec 32 := 71#32
  let v7612 : BitVec 32 := Scalar.addi v6320 c71_i32_3684
  let v7613 : Index := Scalar.indexCast v7612
  let c0_3685 : Index := 0#32
  ![v7613.toNat, 0, 0]
def k0_off603 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c72_i32 : BitVec 32 := 72#32
  let v7617 : BitVec 32 := Scalar.addi v6320 c72_i32
  let v7618 : Index := Scalar.indexCast v7617
  ![v7618.toNat]
def k0_mult331 (v7619 : BitVec 32) : BitVec 32 :=
  let c3_i32_3686 : BitVec 32 := 3#32
  let v7620 : BitVec 32 := Scalar.shrsi v7619 c3_i32_3686
  let c3_i32_3687 : BitVec 32 := 3#32
  let v7621 : BitVec 32 := Scalar.shli v7620 c3_i32_3687
  v7621

def k0_off604 (v7619 : BitVec 32) : Fin 2 → Nat :=
  let c3_i32_3686 : BitVec 32 := 3#32
  let v7620 : BitVec 32 := Scalar.shrsi v7619 c3_i32_3686
  let c3_i32_3687 : BitVec 32 := 3#32
  let v7621 : BitVec 32 := Scalar.shli v7620 c3_i32_3687
  let v7622 : BitVec 32 := v7621
  let v7624 : Index := Scalar.indexCast v7622
  let c0_3688 : Index := 0#32
  ![Nat.mul 2 v7624.toNat, 0]

def k0_chk329 (v7619 : BitVec 32) : Prop :=
  (8 ∣ (k0_mult331 v7619).toNat) ∧
  (∀ a, (k0_off604 v7619) a + S16x128.size a ≤ S20016x128.size a)
theorem k0_mult331_dvd : ∀ (v7619 : BitVec 32) (k0_hw329 : k0_chk329 v7619), 8 ∣ (k0_mult331 v7619).toNat := fun v7619 k0_hw329 => k0_hw329.1
theorem k0_off604_inb : ∀ (v7619 : BitVec 32) (k0_hw329 : k0_chk329 v7619), ∀ a, (k0_off604 v7619) a + S16x128.size a ≤ S20016x128.size a := fun v7619 k0_hw329 => k0_hw329.2

def k0_off605 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c72_i32_3691 : BitVec 32 := 72#32
  let v7630 : BitVec 32 := Scalar.addi v6320 c72_i32_3691
  let v7631 : Index := Scalar.indexCast v7630
  let c0_3692 : Index := 0#32
  ![v7631.toNat, 0, 0]
def k0_off606 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c73_i32 : BitVec 32 := 73#32
  let v7635 : BitVec 32 := Scalar.addi v6320 c73_i32
  let v7636 : Index := Scalar.indexCast v7635
  ![v7636.toNat]
def k0_mult332 (v7637 : BitVec 32) : BitVec 32 :=
  let c3_i32_3693 : BitVec 32 := 3#32
  let v7638 : BitVec 32 := Scalar.shrsi v7637 c3_i32_3693
  let c3_i32_3694 : BitVec 32 := 3#32
  let v7639 : BitVec 32 := Scalar.shli v7638 c3_i32_3694
  v7639

def k0_off607 (v7637 : BitVec 32) : Fin 2 → Nat :=
  let c3_i32_3693 : BitVec 32 := 3#32
  let v7638 : BitVec 32 := Scalar.shrsi v7637 c3_i32_3693
  let c3_i32_3694 : BitVec 32 := 3#32
  let v7639 : BitVec 32 := Scalar.shli v7638 c3_i32_3694
  let v7640 : BitVec 32 := v7639
  let v7642 : Index := Scalar.indexCast v7640
  let c0_3695 : Index := 0#32
  ![Nat.mul 2 v7642.toNat, 0]

def k0_chk330 (v7637 : BitVec 32) : Prop :=
  (8 ∣ (k0_mult332 v7637).toNat) ∧
  (∀ a, (k0_off607 v7637) a + S16x128.size a ≤ S20016x128.size a)
theorem k0_mult332_dvd : ∀ (v7637 : BitVec 32) (k0_hw330 : k0_chk330 v7637), 8 ∣ (k0_mult332 v7637).toNat := fun v7637 k0_hw330 => k0_hw330.1
theorem k0_off607_inb : ∀ (v7637 : BitVec 32) (k0_hw330 : k0_chk330 v7637), ∀ a, (k0_off607 v7637) a + S16x128.size a ≤ S20016x128.size a := fun v7637 k0_hw330 => k0_hw330.2

def k0_off608 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c73_i32_3698 : BitVec 32 := 73#32
  let v7648 : BitVec 32 := Scalar.addi v6320 c73_i32_3698
  let v7649 : Index := Scalar.indexCast v7648
  let c0_3699 : Index := 0#32
  ![v7649.toNat, 0, 0]
def k0_off609 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c74_i32 : BitVec 32 := 74#32
  let v7653 : BitVec 32 := Scalar.addi v6320 c74_i32
  let v7654 : Index := Scalar.indexCast v7653
  ![v7654.toNat]
def k0_mult333 (v7655 : BitVec 32) : BitVec 32 :=
  let c3_i32_3700 : BitVec 32 := 3#32
  let v7656 : BitVec 32 := Scalar.shrsi v7655 c3_i32_3700
  let c3_i32_3701 : BitVec 32 := 3#32
  let v7657 : BitVec 32 := Scalar.shli v7656 c3_i32_3701
  v7657

def k0_off610 (v7655 : BitVec 32) : Fin 2 → Nat :=
  let c3_i32_3700 : BitVec 32 := 3#32
  let v7656 : BitVec 32 := Scalar.shrsi v7655 c3_i32_3700
  let c3_i32_3701 : BitVec 32 := 3#32
  let v7657 : BitVec 32 := Scalar.shli v7656 c3_i32_3701
  let v7658 : BitVec 32 := v7657
  let v7660 : Index := Scalar.indexCast v7658
  let c0_3702 : Index := 0#32
  ![Nat.mul 2 v7660.toNat, 0]

def k0_chk331 (v7655 : BitVec 32) : Prop :=
  (8 ∣ (k0_mult333 v7655).toNat) ∧
  (∀ a, (k0_off610 v7655) a + S16x128.size a ≤ S20016x128.size a)
theorem k0_mult333_dvd : ∀ (v7655 : BitVec 32) (k0_hw331 : k0_chk331 v7655), 8 ∣ (k0_mult333 v7655).toNat := fun v7655 k0_hw331 => k0_hw331.1
theorem k0_off610_inb : ∀ (v7655 : BitVec 32) (k0_hw331 : k0_chk331 v7655), ∀ a, (k0_off610 v7655) a + S16x128.size a ≤ S20016x128.size a := fun v7655 k0_hw331 => k0_hw331.2

def k0_off611 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c74_i32_3705 : BitVec 32 := 74#32
  let v7666 : BitVec 32 := Scalar.addi v6320 c74_i32_3705
  let v7667 : Index := Scalar.indexCast v7666
  let c0_3706 : Index := 0#32
  ![v7667.toNat, 0, 0]
def k0_off612 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c75_i32 : BitVec 32 := 75#32
  let v7671 : BitVec 32 := Scalar.addi v6320 c75_i32
  let v7672 : Index := Scalar.indexCast v7671
  ![v7672.toNat]
def k0_mult334 (v7673 : BitVec 32) : BitVec 32 :=
  let c3_i32_3707 : BitVec 32 := 3#32
  let v7674 : BitVec 32 := Scalar.shrsi v7673 c3_i32_3707
  let c3_i32_3708 : BitVec 32 := 3#32
  let v7675 : BitVec 32 := Scalar.shli v7674 c3_i32_3708
  v7675

def k0_off613 (v7673 : BitVec 32) : Fin 2 → Nat :=
  let c3_i32_3707 : BitVec 32 := 3#32
  let v7674 : BitVec 32 := Scalar.shrsi v7673 c3_i32_3707
  let c3_i32_3708 : BitVec 32 := 3#32
  let v7675 : BitVec 32 := Scalar.shli v7674 c3_i32_3708
  let v7676 : BitVec 32 := v7675
  let v7678 : Index := Scalar.indexCast v7676
  let c0_3709 : Index := 0#32
  ![Nat.mul 2 v7678.toNat, 0]

def k0_chk332 (v7673 : BitVec 32) : Prop :=
  (8 ∣ (k0_mult334 v7673).toNat) ∧
  (∀ a, (k0_off613 v7673) a + S16x128.size a ≤ S20016x128.size a)
theorem k0_mult334_dvd : ∀ (v7673 : BitVec 32) (k0_hw332 : k0_chk332 v7673), 8 ∣ (k0_mult334 v7673).toNat := fun v7673 k0_hw332 => k0_hw332.1
theorem k0_off613_inb : ∀ (v7673 : BitVec 32) (k0_hw332 : k0_chk332 v7673), ∀ a, (k0_off613 v7673) a + S16x128.size a ≤ S20016x128.size a := fun v7673 k0_hw332 => k0_hw332.2

def k0_off614 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c75_i32_3712 : BitVec 32 := 75#32
  let v7684 : BitVec 32 := Scalar.addi v6320 c75_i32_3712
  let v7685 : Index := Scalar.indexCast v7684
  let c0_3713 : Index := 0#32
  ![v7685.toNat, 0, 0]
def k0_off615 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c76_i32 : BitVec 32 := 76#32
  let v7689 : BitVec 32 := Scalar.addi v6320 c76_i32
  let v7690 : Index := Scalar.indexCast v7689
  ![v7690.toNat]
def k0_mult335 (v7691 : BitVec 32) : BitVec 32 :=
  let c3_i32_3714 : BitVec 32 := 3#32
  let v7692 : BitVec 32 := Scalar.shrsi v7691 c3_i32_3714
  let c3_i32_3715 : BitVec 32 := 3#32
  let v7693 : BitVec 32 := Scalar.shli v7692 c3_i32_3715
  v7693

def k0_off616 (v7691 : BitVec 32) : Fin 2 → Nat :=
  let c3_i32_3714 : BitVec 32 := 3#32
  let v7692 : BitVec 32 := Scalar.shrsi v7691 c3_i32_3714
  let c3_i32_3715 : BitVec 32 := 3#32
  let v7693 : BitVec 32 := Scalar.shli v7692 c3_i32_3715
  let v7694 : BitVec 32 := v7693
  let v7696 : Index := Scalar.indexCast v7694
  let c0_3716 : Index := 0#32
  ![Nat.mul 2 v7696.toNat, 0]

def k0_chk333 (v7691 : BitVec 32) : Prop :=
  (8 ∣ (k0_mult335 v7691).toNat) ∧
  (∀ a, (k0_off616 v7691) a + S16x128.size a ≤ S20016x128.size a)
theorem k0_mult335_dvd : ∀ (v7691 : BitVec 32) (k0_hw333 : k0_chk333 v7691), 8 ∣ (k0_mult335 v7691).toNat := fun v7691 k0_hw333 => k0_hw333.1
theorem k0_off616_inb : ∀ (v7691 : BitVec 32) (k0_hw333 : k0_chk333 v7691), ∀ a, (k0_off616 v7691) a + S16x128.size a ≤ S20016x128.size a := fun v7691 k0_hw333 => k0_hw333.2

def k0_off617 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c76_i32_3719 : BitVec 32 := 76#32
  let v7702 : BitVec 32 := Scalar.addi v6320 c76_i32_3719
  let v7703 : Index := Scalar.indexCast v7702
  let c0_3720 : Index := 0#32
  ![v7703.toNat, 0, 0]
def k0_off618 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c77_i32 : BitVec 32 := 77#32
  let v7707 : BitVec 32 := Scalar.addi v6320 c77_i32
  let v7708 : Index := Scalar.indexCast v7707
  ![v7708.toNat]
def k0_mult336 (v7709 : BitVec 32) : BitVec 32 :=
  let c3_i32_3721 : BitVec 32 := 3#32
  let v7710 : BitVec 32 := Scalar.shrsi v7709 c3_i32_3721
  let c3_i32_3722 : BitVec 32 := 3#32
  let v7711 : BitVec 32 := Scalar.shli v7710 c3_i32_3722
  v7711

def k0_off619 (v7709 : BitVec 32) : Fin 2 → Nat :=
  let c3_i32_3721 : BitVec 32 := 3#32
  let v7710 : BitVec 32 := Scalar.shrsi v7709 c3_i32_3721
  let c3_i32_3722 : BitVec 32 := 3#32
  let v7711 : BitVec 32 := Scalar.shli v7710 c3_i32_3722
  let v7712 : BitVec 32 := v7711
  let v7714 : Index := Scalar.indexCast v7712
  let c0_3723 : Index := 0#32
  ![Nat.mul 2 v7714.toNat, 0]

def k0_chk334 (v7709 : BitVec 32) : Prop :=
  (8 ∣ (k0_mult336 v7709).toNat) ∧
  (∀ a, (k0_off619 v7709) a + S16x128.size a ≤ S20016x128.size a)
theorem k0_mult336_dvd : ∀ (v7709 : BitVec 32) (k0_hw334 : k0_chk334 v7709), 8 ∣ (k0_mult336 v7709).toNat := fun v7709 k0_hw334 => k0_hw334.1
theorem k0_off619_inb : ∀ (v7709 : BitVec 32) (k0_hw334 : k0_chk334 v7709), ∀ a, (k0_off619 v7709) a + S16x128.size a ≤ S20016x128.size a := fun v7709 k0_hw334 => k0_hw334.2

def k0_off620 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c77_i32_3726 : BitVec 32 := 77#32
  let v7720 : BitVec 32 := Scalar.addi v6320 c77_i32_3726
  let v7721 : Index := Scalar.indexCast v7720
  let c0_3727 : Index := 0#32
  ![v7721.toNat, 0, 0]
def k0_off621 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c78_i32 : BitVec 32 := 78#32
  let v7725 : BitVec 32 := Scalar.addi v6320 c78_i32
  let v7726 : Index := Scalar.indexCast v7725
  ![v7726.toNat]
def k0_mult337 (v7727 : BitVec 32) : BitVec 32 :=
  let c3_i32_3728 : BitVec 32 := 3#32
  let v7728 : BitVec 32 := Scalar.shrsi v7727 c3_i32_3728
  let c3_i32_3729 : BitVec 32 := 3#32
  let v7729 : BitVec 32 := Scalar.shli v7728 c3_i32_3729
  v7729

def k0_off622 (v7727 : BitVec 32) : Fin 2 → Nat :=
  let c3_i32_3728 : BitVec 32 := 3#32
  let v7728 : BitVec 32 := Scalar.shrsi v7727 c3_i32_3728
  let c3_i32_3729 : BitVec 32 := 3#32
  let v7729 : BitVec 32 := Scalar.shli v7728 c3_i32_3729
  let v7730 : BitVec 32 := v7729
  let v7732 : Index := Scalar.indexCast v7730
  let c0_3730 : Index := 0#32
  ![Nat.mul 2 v7732.toNat, 0]

def k0_chk335 (v7727 : BitVec 32) : Prop :=
  (8 ∣ (k0_mult337 v7727).toNat) ∧
  (∀ a, (k0_off622 v7727) a + S16x128.size a ≤ S20016x128.size a)
theorem k0_mult337_dvd : ∀ (v7727 : BitVec 32) (k0_hw335 : k0_chk335 v7727), 8 ∣ (k0_mult337 v7727).toNat := fun v7727 k0_hw335 => k0_hw335.1
theorem k0_off622_inb : ∀ (v7727 : BitVec 32) (k0_hw335 : k0_chk335 v7727), ∀ a, (k0_off622 v7727) a + S16x128.size a ≤ S20016x128.size a := fun v7727 k0_hw335 => k0_hw335.2

def k0_off623 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c78_i32_3733 : BitVec 32 := 78#32
  let v7738 : BitVec 32 := Scalar.addi v6320 c78_i32_3733
  let v7739 : Index := Scalar.indexCast v7738
  let c0_3734 : Index := 0#32
  ![v7739.toNat, 0, 0]
def k0_off624 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c79_i32 : BitVec 32 := 79#32
  let v7743 : BitVec 32 := Scalar.addi v6320 c79_i32
  let v7744 : Index := Scalar.indexCast v7743
  ![v7744.toNat]
def k0_mult338 (v7745 : BitVec 32) : BitVec 32 :=
  let c3_i32_3735 : BitVec 32 := 3#32
  let v7746 : BitVec 32 := Scalar.shrsi v7745 c3_i32_3735
  let c3_i32_3736 : BitVec 32 := 3#32
  let v7747 : BitVec 32 := Scalar.shli v7746 c3_i32_3736
  v7747

def k0_off625 (v7745 : BitVec 32) : Fin 2 → Nat :=
  let c3_i32_3735 : BitVec 32 := 3#32
  let v7746 : BitVec 32 := Scalar.shrsi v7745 c3_i32_3735
  let c3_i32_3736 : BitVec 32 := 3#32
  let v7747 : BitVec 32 := Scalar.shli v7746 c3_i32_3736
  let v7748 : BitVec 32 := v7747
  let v7750 : Index := Scalar.indexCast v7748
  let c0_3737 : Index := 0#32
  ![Nat.mul 2 v7750.toNat, 0]

def k0_chk336 (v7745 : BitVec 32) : Prop :=
  (8 ∣ (k0_mult338 v7745).toNat) ∧
  (∀ a, (k0_off625 v7745) a + S16x128.size a ≤ S20016x128.size a)
theorem k0_mult338_dvd : ∀ (v7745 : BitVec 32) (k0_hw336 : k0_chk336 v7745), 8 ∣ (k0_mult338 v7745).toNat := fun v7745 k0_hw336 => k0_hw336.1
theorem k0_off625_inb : ∀ (v7745 : BitVec 32) (k0_hw336 : k0_chk336 v7745), ∀ a, (k0_off625 v7745) a + S16x128.size a ≤ S20016x128.size a := fun v7745 k0_hw336 => k0_hw336.2

def k0_off626 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c79_i32_3740 : BitVec 32 := 79#32
  let v7756 : BitVec 32 := Scalar.addi v6320 c79_i32_3740
  let v7757 : Index := Scalar.indexCast v7756
  let c0_3741 : Index := 0#32
  ![v7757.toNat, 0, 0]
def k0_off627 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c80_i32 : BitVec 32 := 80#32
  let v7761 : BitVec 32 := Scalar.addi v6320 c80_i32
  let v7762 : Index := Scalar.indexCast v7761
  ![v7762.toNat]
def k0_mult339 (v7763 : BitVec 32) : BitVec 32 :=
  let c3_i32_3742 : BitVec 32 := 3#32
  let v7764 : BitVec 32 := Scalar.shrsi v7763 c3_i32_3742
  let c3_i32_3743 : BitVec 32 := 3#32
  let v7765 : BitVec 32 := Scalar.shli v7764 c3_i32_3743
  v7765

def k0_off628 (v7763 : BitVec 32) : Fin 2 → Nat :=
  let c3_i32_3742 : BitVec 32 := 3#32
  let v7764 : BitVec 32 := Scalar.shrsi v7763 c3_i32_3742
  let c3_i32_3743 : BitVec 32 := 3#32
  let v7765 : BitVec 32 := Scalar.shli v7764 c3_i32_3743
  let v7766 : BitVec 32 := v7765
  let v7768 : Index := Scalar.indexCast v7766
  let c0_3744 : Index := 0#32
  ![Nat.mul 2 v7768.toNat, 0]

def k0_chk337 (v7763 : BitVec 32) : Prop :=
  (8 ∣ (k0_mult339 v7763).toNat) ∧
  (∀ a, (k0_off628 v7763) a + S16x128.size a ≤ S20016x128.size a)
theorem k0_mult339_dvd : ∀ (v7763 : BitVec 32) (k0_hw337 : k0_chk337 v7763), 8 ∣ (k0_mult339 v7763).toNat := fun v7763 k0_hw337 => k0_hw337.1
theorem k0_off628_inb : ∀ (v7763 : BitVec 32) (k0_hw337 : k0_chk337 v7763), ∀ a, (k0_off628 v7763) a + S16x128.size a ≤ S20016x128.size a := fun v7763 k0_hw337 => k0_hw337.2

def k0_off629 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c80_i32_3747 : BitVec 32 := 80#32
  let v7774 : BitVec 32 := Scalar.addi v6320 c80_i32_3747
  let v7775 : Index := Scalar.indexCast v7774
  let c0_3748 : Index := 0#32
  ![v7775.toNat, 0, 0]
def k0_off630 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c81_i32 : BitVec 32 := 81#32
  let v7779 : BitVec 32 := Scalar.addi v6320 c81_i32
  let v7780 : Index := Scalar.indexCast v7779
  ![v7780.toNat]
def k0_mult340 (v7781 : BitVec 32) : BitVec 32 :=
  let c3_i32_3749 : BitVec 32 := 3#32
  let v7782 : BitVec 32 := Scalar.shrsi v7781 c3_i32_3749
  let c3_i32_3750 : BitVec 32 := 3#32
  let v7783 : BitVec 32 := Scalar.shli v7782 c3_i32_3750
  v7783

def k0_off631 (v7781 : BitVec 32) : Fin 2 → Nat :=
  let c3_i32_3749 : BitVec 32 := 3#32
  let v7782 : BitVec 32 := Scalar.shrsi v7781 c3_i32_3749
  let c3_i32_3750 : BitVec 32 := 3#32
  let v7783 : BitVec 32 := Scalar.shli v7782 c3_i32_3750
  let v7784 : BitVec 32 := v7783
  let v7786 : Index := Scalar.indexCast v7784
  let c0_3751 : Index := 0#32
  ![Nat.mul 2 v7786.toNat, 0]

def k0_chk338 (v7781 : BitVec 32) : Prop :=
  (8 ∣ (k0_mult340 v7781).toNat) ∧
  (∀ a, (k0_off631 v7781) a + S16x128.size a ≤ S20016x128.size a)
theorem k0_mult340_dvd : ∀ (v7781 : BitVec 32) (k0_hw338 : k0_chk338 v7781), 8 ∣ (k0_mult340 v7781).toNat := fun v7781 k0_hw338 => k0_hw338.1
theorem k0_off631_inb : ∀ (v7781 : BitVec 32) (k0_hw338 : k0_chk338 v7781), ∀ a, (k0_off631 v7781) a + S16x128.size a ≤ S20016x128.size a := fun v7781 k0_hw338 => k0_hw338.2

def k0_off632 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c81_i32_3754 : BitVec 32 := 81#32
  let v7792 : BitVec 32 := Scalar.addi v6320 c81_i32_3754
  let v7793 : Index := Scalar.indexCast v7792
  let c0_3755 : Index := 0#32
  ![v7793.toNat, 0, 0]
def k0_off633 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c82_i32 : BitVec 32 := 82#32
  let v7797 : BitVec 32 := Scalar.addi v6320 c82_i32
  let v7798 : Index := Scalar.indexCast v7797
  ![v7798.toNat]
def k0_mult341 (v7799 : BitVec 32) : BitVec 32 :=
  let c3_i32_3756 : BitVec 32 := 3#32
  let v7800 : BitVec 32 := Scalar.shrsi v7799 c3_i32_3756
  let c3_i32_3757 : BitVec 32 := 3#32
  let v7801 : BitVec 32 := Scalar.shli v7800 c3_i32_3757
  v7801

def k0_off634 (v7799 : BitVec 32) : Fin 2 → Nat :=
  let c3_i32_3756 : BitVec 32 := 3#32
  let v7800 : BitVec 32 := Scalar.shrsi v7799 c3_i32_3756
  let c3_i32_3757 : BitVec 32 := 3#32
  let v7801 : BitVec 32 := Scalar.shli v7800 c3_i32_3757
  let v7802 : BitVec 32 := v7801
  let v7804 : Index := Scalar.indexCast v7802
  let c0_3758 : Index := 0#32
  ![Nat.mul 2 v7804.toNat, 0]

def k0_chk339 (v7799 : BitVec 32) : Prop :=
  (8 ∣ (k0_mult341 v7799).toNat) ∧
  (∀ a, (k0_off634 v7799) a + S16x128.size a ≤ S20016x128.size a)
theorem k0_mult341_dvd : ∀ (v7799 : BitVec 32) (k0_hw339 : k0_chk339 v7799), 8 ∣ (k0_mult341 v7799).toNat := fun v7799 k0_hw339 => k0_hw339.1
theorem k0_off634_inb : ∀ (v7799 : BitVec 32) (k0_hw339 : k0_chk339 v7799), ∀ a, (k0_off634 v7799) a + S16x128.size a ≤ S20016x128.size a := fun v7799 k0_hw339 => k0_hw339.2

def k0_off635 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c82_i32_3761 : BitVec 32 := 82#32
  let v7810 : BitVec 32 := Scalar.addi v6320 c82_i32_3761
  let v7811 : Index := Scalar.indexCast v7810
  let c0_3762 : Index := 0#32
  ![v7811.toNat, 0, 0]
def k0_off636 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c83_i32 : BitVec 32 := 83#32
  let v7815 : BitVec 32 := Scalar.addi v6320 c83_i32
  let v7816 : Index := Scalar.indexCast v7815
  ![v7816.toNat]
def k0_mult342 (v7817 : BitVec 32) : BitVec 32 :=
  let c3_i32_3763 : BitVec 32 := 3#32
  let v7818 : BitVec 32 := Scalar.shrsi v7817 c3_i32_3763
  let c3_i32_3764 : BitVec 32 := 3#32
  let v7819 : BitVec 32 := Scalar.shli v7818 c3_i32_3764
  v7819

def k0_off637 (v7817 : BitVec 32) : Fin 2 → Nat :=
  let c3_i32_3763 : BitVec 32 := 3#32
  let v7818 : BitVec 32 := Scalar.shrsi v7817 c3_i32_3763
  let c3_i32_3764 : BitVec 32 := 3#32
  let v7819 : BitVec 32 := Scalar.shli v7818 c3_i32_3764
  let v7820 : BitVec 32 := v7819
  let v7822 : Index := Scalar.indexCast v7820
  let c0_3765 : Index := 0#32
  ![Nat.mul 2 v7822.toNat, 0]

def k0_chk340 (v7817 : BitVec 32) : Prop :=
  (8 ∣ (k0_mult342 v7817).toNat) ∧
  (∀ a, (k0_off637 v7817) a + S16x128.size a ≤ S20016x128.size a)
theorem k0_mult342_dvd : ∀ (v7817 : BitVec 32) (k0_hw340 : k0_chk340 v7817), 8 ∣ (k0_mult342 v7817).toNat := fun v7817 k0_hw340 => k0_hw340.1
theorem k0_off637_inb : ∀ (v7817 : BitVec 32) (k0_hw340 : k0_chk340 v7817), ∀ a, (k0_off637 v7817) a + S16x128.size a ≤ S20016x128.size a := fun v7817 k0_hw340 => k0_hw340.2

def k0_off638 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c83_i32_3768 : BitVec 32 := 83#32
  let v7828 : BitVec 32 := Scalar.addi v6320 c83_i32_3768
  let v7829 : Index := Scalar.indexCast v7828
  let c0_3769 : Index := 0#32
  ![v7829.toNat, 0, 0]
def k0_off639 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c84_i32 : BitVec 32 := 84#32
  let v7833 : BitVec 32 := Scalar.addi v6320 c84_i32
  let v7834 : Index := Scalar.indexCast v7833
  ![v7834.toNat]
def k0_mult343 (v7835 : BitVec 32) : BitVec 32 :=
  let c3_i32_3770 : BitVec 32 := 3#32
  let v7836 : BitVec 32 := Scalar.shrsi v7835 c3_i32_3770
  let c3_i32_3771 : BitVec 32 := 3#32
  let v7837 : BitVec 32 := Scalar.shli v7836 c3_i32_3771
  v7837

def k0_off640 (v7835 : BitVec 32) : Fin 2 → Nat :=
  let c3_i32_3770 : BitVec 32 := 3#32
  let v7836 : BitVec 32 := Scalar.shrsi v7835 c3_i32_3770
  let c3_i32_3771 : BitVec 32 := 3#32
  let v7837 : BitVec 32 := Scalar.shli v7836 c3_i32_3771
  let v7838 : BitVec 32 := v7837
  let v7840 : Index := Scalar.indexCast v7838
  let c0_3772 : Index := 0#32
  ![Nat.mul 2 v7840.toNat, 0]

def k0_chk341 (v7835 : BitVec 32) : Prop :=
  (8 ∣ (k0_mult343 v7835).toNat) ∧
  (∀ a, (k0_off640 v7835) a + S16x128.size a ≤ S20016x128.size a)
theorem k0_mult343_dvd : ∀ (v7835 : BitVec 32) (k0_hw341 : k0_chk341 v7835), 8 ∣ (k0_mult343 v7835).toNat := fun v7835 k0_hw341 => k0_hw341.1
theorem k0_off640_inb : ∀ (v7835 : BitVec 32) (k0_hw341 : k0_chk341 v7835), ∀ a, (k0_off640 v7835) a + S16x128.size a ≤ S20016x128.size a := fun v7835 k0_hw341 => k0_hw341.2

def k0_off641 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c84_i32_3775 : BitVec 32 := 84#32
  let v7846 : BitVec 32 := Scalar.addi v6320 c84_i32_3775
  let v7847 : Index := Scalar.indexCast v7846
  let c0_3776 : Index := 0#32
  ![v7847.toNat, 0, 0]
def k0_off642 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c85_i32 : BitVec 32 := 85#32
  let v7851 : BitVec 32 := Scalar.addi v6320 c85_i32
  let v7852 : Index := Scalar.indexCast v7851
  ![v7852.toNat]
def k0_mult344 (v7853 : BitVec 32) : BitVec 32 :=
  let c3_i32_3777 : BitVec 32 := 3#32
  let v7854 : BitVec 32 := Scalar.shrsi v7853 c3_i32_3777
  let c3_i32_3778 : BitVec 32 := 3#32
  let v7855 : BitVec 32 := Scalar.shli v7854 c3_i32_3778
  v7855

def k0_off643 (v7853 : BitVec 32) : Fin 2 → Nat :=
  let c3_i32_3777 : BitVec 32 := 3#32
  let v7854 : BitVec 32 := Scalar.shrsi v7853 c3_i32_3777
  let c3_i32_3778 : BitVec 32 := 3#32
  let v7855 : BitVec 32 := Scalar.shli v7854 c3_i32_3778
  let v7856 : BitVec 32 := v7855
  let v7858 : Index := Scalar.indexCast v7856
  let c0_3779 : Index := 0#32
  ![Nat.mul 2 v7858.toNat, 0]

def k0_chk342 (v7853 : BitVec 32) : Prop :=
  (8 ∣ (k0_mult344 v7853).toNat) ∧
  (∀ a, (k0_off643 v7853) a + S16x128.size a ≤ S20016x128.size a)
theorem k0_mult344_dvd : ∀ (v7853 : BitVec 32) (k0_hw342 : k0_chk342 v7853), 8 ∣ (k0_mult344 v7853).toNat := fun v7853 k0_hw342 => k0_hw342.1
theorem k0_off643_inb : ∀ (v7853 : BitVec 32) (k0_hw342 : k0_chk342 v7853), ∀ a, (k0_off643 v7853) a + S16x128.size a ≤ S20016x128.size a := fun v7853 k0_hw342 => k0_hw342.2

def k0_off644 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c85_i32_3782 : BitVec 32 := 85#32
  let v7864 : BitVec 32 := Scalar.addi v6320 c85_i32_3782
  let v7865 : Index := Scalar.indexCast v7864
  let c0_3783 : Index := 0#32
  ![v7865.toNat, 0, 0]
def k0_off645 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c86_i32 : BitVec 32 := 86#32
  let v7869 : BitVec 32 := Scalar.addi v6320 c86_i32
  let v7870 : Index := Scalar.indexCast v7869
  ![v7870.toNat]
def k0_mult345 (v7871 : BitVec 32) : BitVec 32 :=
  let c3_i32_3784 : BitVec 32 := 3#32
  let v7872 : BitVec 32 := Scalar.shrsi v7871 c3_i32_3784
  let c3_i32_3785 : BitVec 32 := 3#32
  let v7873 : BitVec 32 := Scalar.shli v7872 c3_i32_3785
  v7873

def k0_off646 (v7871 : BitVec 32) : Fin 2 → Nat :=
  let c3_i32_3784 : BitVec 32 := 3#32
  let v7872 : BitVec 32 := Scalar.shrsi v7871 c3_i32_3784
  let c3_i32_3785 : BitVec 32 := 3#32
  let v7873 : BitVec 32 := Scalar.shli v7872 c3_i32_3785
  let v7874 : BitVec 32 := v7873
  let v7876 : Index := Scalar.indexCast v7874
  let c0_3786 : Index := 0#32
  ![Nat.mul 2 v7876.toNat, 0]

def k0_chk343 (v7871 : BitVec 32) : Prop :=
  (8 ∣ (k0_mult345 v7871).toNat) ∧
  (∀ a, (k0_off646 v7871) a + S16x128.size a ≤ S20016x128.size a)
theorem k0_mult345_dvd : ∀ (v7871 : BitVec 32) (k0_hw343 : k0_chk343 v7871), 8 ∣ (k0_mult345 v7871).toNat := fun v7871 k0_hw343 => k0_hw343.1
theorem k0_off646_inb : ∀ (v7871 : BitVec 32) (k0_hw343 : k0_chk343 v7871), ∀ a, (k0_off646 v7871) a + S16x128.size a ≤ S20016x128.size a := fun v7871 k0_hw343 => k0_hw343.2

def k0_off647 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c86_i32_3789 : BitVec 32 := 86#32
  let v7882 : BitVec 32 := Scalar.addi v6320 c86_i32_3789
  let v7883 : Index := Scalar.indexCast v7882
  let c0_3790 : Index := 0#32
  ![v7883.toNat, 0, 0]
def k0_off648 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c87_i32 : BitVec 32 := 87#32
  let v7887 : BitVec 32 := Scalar.addi v6320 c87_i32
  let v7888 : Index := Scalar.indexCast v7887
  ![v7888.toNat]
def k0_mult346 (v7889 : BitVec 32) : BitVec 32 :=
  let c3_i32_3791 : BitVec 32 := 3#32
  let v7890 : BitVec 32 := Scalar.shrsi v7889 c3_i32_3791
  let c3_i32_3792 : BitVec 32 := 3#32
  let v7891 : BitVec 32 := Scalar.shli v7890 c3_i32_3792
  v7891

def k0_off649 (v7889 : BitVec 32) : Fin 2 → Nat :=
  let c3_i32_3791 : BitVec 32 := 3#32
  let v7890 : BitVec 32 := Scalar.shrsi v7889 c3_i32_3791
  let c3_i32_3792 : BitVec 32 := 3#32
  let v7891 : BitVec 32 := Scalar.shli v7890 c3_i32_3792
  let v7892 : BitVec 32 := v7891
  let v7894 : Index := Scalar.indexCast v7892
  let c0_3793 : Index := 0#32
  ![Nat.mul 2 v7894.toNat, 0]

def k0_chk344 (v7889 : BitVec 32) : Prop :=
  (8 ∣ (k0_mult346 v7889).toNat) ∧
  (∀ a, (k0_off649 v7889) a + S16x128.size a ≤ S20016x128.size a)
theorem k0_mult346_dvd : ∀ (v7889 : BitVec 32) (k0_hw344 : k0_chk344 v7889), 8 ∣ (k0_mult346 v7889).toNat := fun v7889 k0_hw344 => k0_hw344.1
theorem k0_off649_inb : ∀ (v7889 : BitVec 32) (k0_hw344 : k0_chk344 v7889), ∀ a, (k0_off649 v7889) a + S16x128.size a ≤ S20016x128.size a := fun v7889 k0_hw344 => k0_hw344.2

def k0_off650 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c87_i32_3796 : BitVec 32 := 87#32
  let v7900 : BitVec 32 := Scalar.addi v6320 c87_i32_3796
  let v7901 : Index := Scalar.indexCast v7900
  let c0_3797 : Index := 0#32
  ![v7901.toNat, 0, 0]
def k0_off651 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c88_i32 : BitVec 32 := 88#32
  let v7905 : BitVec 32 := Scalar.addi v6320 c88_i32
  let v7906 : Index := Scalar.indexCast v7905
  ![v7906.toNat]
def k0_mult347 (v7907 : BitVec 32) : BitVec 32 :=
  let c3_i32_3798 : BitVec 32 := 3#32
  let v7908 : BitVec 32 := Scalar.shrsi v7907 c3_i32_3798
  let c3_i32_3799 : BitVec 32 := 3#32
  let v7909 : BitVec 32 := Scalar.shli v7908 c3_i32_3799
  v7909

def k0_off652 (v7907 : BitVec 32) : Fin 2 → Nat :=
  let c3_i32_3798 : BitVec 32 := 3#32
  let v7908 : BitVec 32 := Scalar.shrsi v7907 c3_i32_3798
  let c3_i32_3799 : BitVec 32 := 3#32
  let v7909 : BitVec 32 := Scalar.shli v7908 c3_i32_3799
  let v7910 : BitVec 32 := v7909
  let v7912 : Index := Scalar.indexCast v7910
  let c0_3800 : Index := 0#32
  ![Nat.mul 2 v7912.toNat, 0]

def k0_chk345 (v7907 : BitVec 32) : Prop :=
  (8 ∣ (k0_mult347 v7907).toNat) ∧
  (∀ a, (k0_off652 v7907) a + S16x128.size a ≤ S20016x128.size a)
theorem k0_mult347_dvd : ∀ (v7907 : BitVec 32) (k0_hw345 : k0_chk345 v7907), 8 ∣ (k0_mult347 v7907).toNat := fun v7907 k0_hw345 => k0_hw345.1
theorem k0_off652_inb : ∀ (v7907 : BitVec 32) (k0_hw345 : k0_chk345 v7907), ∀ a, (k0_off652 v7907) a + S16x128.size a ≤ S20016x128.size a := fun v7907 k0_hw345 => k0_hw345.2

def k0_off653 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c88_i32_3803 : BitVec 32 := 88#32
  let v7918 : BitVec 32 := Scalar.addi v6320 c88_i32_3803
  let v7919 : Index := Scalar.indexCast v7918
  let c0_3804 : Index := 0#32
  ![v7919.toNat, 0, 0]
def k0_off654 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c89_i32 : BitVec 32 := 89#32
  let v7923 : BitVec 32 := Scalar.addi v6320 c89_i32
  let v7924 : Index := Scalar.indexCast v7923
  ![v7924.toNat]
def k0_mult348 (v7925 : BitVec 32) : BitVec 32 :=
  let c3_i32_3805 : BitVec 32 := 3#32
  let v7926 : BitVec 32 := Scalar.shrsi v7925 c3_i32_3805
  let c3_i32_3806 : BitVec 32 := 3#32
  let v7927 : BitVec 32 := Scalar.shli v7926 c3_i32_3806
  v7927

def k0_off655 (v7925 : BitVec 32) : Fin 2 → Nat :=
  let c3_i32_3805 : BitVec 32 := 3#32
  let v7926 : BitVec 32 := Scalar.shrsi v7925 c3_i32_3805
  let c3_i32_3806 : BitVec 32 := 3#32
  let v7927 : BitVec 32 := Scalar.shli v7926 c3_i32_3806
  let v7928 : BitVec 32 := v7927
  let v7930 : Index := Scalar.indexCast v7928
  let c0_3807 : Index := 0#32
  ![Nat.mul 2 v7930.toNat, 0]

def k0_chk346 (v7925 : BitVec 32) : Prop :=
  (8 ∣ (k0_mult348 v7925).toNat) ∧
  (∀ a, (k0_off655 v7925) a + S16x128.size a ≤ S20016x128.size a)
theorem k0_mult348_dvd : ∀ (v7925 : BitVec 32) (k0_hw346 : k0_chk346 v7925), 8 ∣ (k0_mult348 v7925).toNat := fun v7925 k0_hw346 => k0_hw346.1
theorem k0_off655_inb : ∀ (v7925 : BitVec 32) (k0_hw346 : k0_chk346 v7925), ∀ a, (k0_off655 v7925) a + S16x128.size a ≤ S20016x128.size a := fun v7925 k0_hw346 => k0_hw346.2

def k0_off656 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c89_i32_3810 : BitVec 32 := 89#32
  let v7936 : BitVec 32 := Scalar.addi v6320 c89_i32_3810
  let v7937 : Index := Scalar.indexCast v7936
  let c0_3811 : Index := 0#32
  ![v7937.toNat, 0, 0]
def k0_off657 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c90_i32 : BitVec 32 := 90#32
  let v7941 : BitVec 32 := Scalar.addi v6320 c90_i32
  let v7942 : Index := Scalar.indexCast v7941
  ![v7942.toNat]
def k0_mult349 (v7943 : BitVec 32) : BitVec 32 :=
  let c3_i32_3812 : BitVec 32 := 3#32
  let v7944 : BitVec 32 := Scalar.shrsi v7943 c3_i32_3812
  let c3_i32_3813 : BitVec 32 := 3#32
  let v7945 : BitVec 32 := Scalar.shli v7944 c3_i32_3813
  v7945

def k0_off658 (v7943 : BitVec 32) : Fin 2 → Nat :=
  let c3_i32_3812 : BitVec 32 := 3#32
  let v7944 : BitVec 32 := Scalar.shrsi v7943 c3_i32_3812
  let c3_i32_3813 : BitVec 32 := 3#32
  let v7945 : BitVec 32 := Scalar.shli v7944 c3_i32_3813
  let v7946 : BitVec 32 := v7945
  let v7948 : Index := Scalar.indexCast v7946
  let c0_3814 : Index := 0#32
  ![Nat.mul 2 v7948.toNat, 0]

def k0_chk347 (v7943 : BitVec 32) : Prop :=
  (8 ∣ (k0_mult349 v7943).toNat) ∧
  (∀ a, (k0_off658 v7943) a + S16x128.size a ≤ S20016x128.size a)
theorem k0_mult349_dvd : ∀ (v7943 : BitVec 32) (k0_hw347 : k0_chk347 v7943), 8 ∣ (k0_mult349 v7943).toNat := fun v7943 k0_hw347 => k0_hw347.1
theorem k0_off658_inb : ∀ (v7943 : BitVec 32) (k0_hw347 : k0_chk347 v7943), ∀ a, (k0_off658 v7943) a + S16x128.size a ≤ S20016x128.size a := fun v7943 k0_hw347 => k0_hw347.2

def k0_off659 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c90_i32_3817 : BitVec 32 := 90#32
  let v7954 : BitVec 32 := Scalar.addi v6320 c90_i32_3817
  let v7955 : Index := Scalar.indexCast v7954
  let c0_3818 : Index := 0#32
  ![v7955.toNat, 0, 0]
def k0_off660 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c91_i32 : BitVec 32 := 91#32
  let v7959 : BitVec 32 := Scalar.addi v6320 c91_i32
  let v7960 : Index := Scalar.indexCast v7959
  ![v7960.toNat]
def k0_mult350 (v7961 : BitVec 32) : BitVec 32 :=
  let c3_i32_3819 : BitVec 32 := 3#32
  let v7962 : BitVec 32 := Scalar.shrsi v7961 c3_i32_3819
  let c3_i32_3820 : BitVec 32 := 3#32
  let v7963 : BitVec 32 := Scalar.shli v7962 c3_i32_3820
  v7963

def k0_off661 (v7961 : BitVec 32) : Fin 2 → Nat :=
  let c3_i32_3819 : BitVec 32 := 3#32
  let v7962 : BitVec 32 := Scalar.shrsi v7961 c3_i32_3819
  let c3_i32_3820 : BitVec 32 := 3#32
  let v7963 : BitVec 32 := Scalar.shli v7962 c3_i32_3820
  let v7964 : BitVec 32 := v7963
  let v7966 : Index := Scalar.indexCast v7964
  let c0_3821 : Index := 0#32
  ![Nat.mul 2 v7966.toNat, 0]

def k0_chk348 (v7961 : BitVec 32) : Prop :=
  (8 ∣ (k0_mult350 v7961).toNat) ∧
  (∀ a, (k0_off661 v7961) a + S16x128.size a ≤ S20016x128.size a)
theorem k0_mult350_dvd : ∀ (v7961 : BitVec 32) (k0_hw348 : k0_chk348 v7961), 8 ∣ (k0_mult350 v7961).toNat := fun v7961 k0_hw348 => k0_hw348.1
theorem k0_off661_inb : ∀ (v7961 : BitVec 32) (k0_hw348 : k0_chk348 v7961), ∀ a, (k0_off661 v7961) a + S16x128.size a ≤ S20016x128.size a := fun v7961 k0_hw348 => k0_hw348.2

def k0_off662 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c91_i32_3824 : BitVec 32 := 91#32
  let v7972 : BitVec 32 := Scalar.addi v6320 c91_i32_3824
  let v7973 : Index := Scalar.indexCast v7972
  let c0_3825 : Index := 0#32
  ![v7973.toNat, 0, 0]
def k0_off663 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c92_i32 : BitVec 32 := 92#32
  let v7977 : BitVec 32 := Scalar.addi v6320 c92_i32
  let v7978 : Index := Scalar.indexCast v7977
  ![v7978.toNat]
def k0_mult351 (v7979 : BitVec 32) : BitVec 32 :=
  let c3_i32_3826 : BitVec 32 := 3#32
  let v7980 : BitVec 32 := Scalar.shrsi v7979 c3_i32_3826
  let c3_i32_3827 : BitVec 32 := 3#32
  let v7981 : BitVec 32 := Scalar.shli v7980 c3_i32_3827
  v7981

def k0_off664 (v7979 : BitVec 32) : Fin 2 → Nat :=
  let c3_i32_3826 : BitVec 32 := 3#32
  let v7980 : BitVec 32 := Scalar.shrsi v7979 c3_i32_3826
  let c3_i32_3827 : BitVec 32 := 3#32
  let v7981 : BitVec 32 := Scalar.shli v7980 c3_i32_3827
  let v7982 : BitVec 32 := v7981
  let v7984 : Index := Scalar.indexCast v7982
  let c0_3828 : Index := 0#32
  ![Nat.mul 2 v7984.toNat, 0]

def k0_chk349 (v7979 : BitVec 32) : Prop :=
  (8 ∣ (k0_mult351 v7979).toNat) ∧
  (∀ a, (k0_off664 v7979) a + S16x128.size a ≤ S20016x128.size a)
theorem k0_mult351_dvd : ∀ (v7979 : BitVec 32) (k0_hw349 : k0_chk349 v7979), 8 ∣ (k0_mult351 v7979).toNat := fun v7979 k0_hw349 => k0_hw349.1
theorem k0_off664_inb : ∀ (v7979 : BitVec 32) (k0_hw349 : k0_chk349 v7979), ∀ a, (k0_off664 v7979) a + S16x128.size a ≤ S20016x128.size a := fun v7979 k0_hw349 => k0_hw349.2

def k0_off665 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c92_i32_3831 : BitVec 32 := 92#32
  let v7990 : BitVec 32 := Scalar.addi v6320 c92_i32_3831
  let v7991 : Index := Scalar.indexCast v7990
  let c0_3832 : Index := 0#32
  ![v7991.toNat, 0, 0]
def k0_off666 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c93_i32 : BitVec 32 := 93#32
  let v7995 : BitVec 32 := Scalar.addi v6320 c93_i32
  let v7996 : Index := Scalar.indexCast v7995
  ![v7996.toNat]
def k0_mult352 (v7997 : BitVec 32) : BitVec 32 :=
  let c3_i32_3833 : BitVec 32 := 3#32
  let v7998 : BitVec 32 := Scalar.shrsi v7997 c3_i32_3833
  let c3_i32_3834 : BitVec 32 := 3#32
  let v7999 : BitVec 32 := Scalar.shli v7998 c3_i32_3834
  v7999

def k0_off667 (v7997 : BitVec 32) : Fin 2 → Nat :=
  let c3_i32_3833 : BitVec 32 := 3#32
  let v7998 : BitVec 32 := Scalar.shrsi v7997 c3_i32_3833
  let c3_i32_3834 : BitVec 32 := 3#32
  let v7999 : BitVec 32 := Scalar.shli v7998 c3_i32_3834
  let v8000 : BitVec 32 := v7999
  let v8002 : Index := Scalar.indexCast v8000
  let c0_3835 : Index := 0#32
  ![Nat.mul 2 v8002.toNat, 0]

def k0_chk350 (v7997 : BitVec 32) : Prop :=
  (8 ∣ (k0_mult352 v7997).toNat) ∧
  (∀ a, (k0_off667 v7997) a + S16x128.size a ≤ S20016x128.size a)
theorem k0_mult352_dvd : ∀ (v7997 : BitVec 32) (k0_hw350 : k0_chk350 v7997), 8 ∣ (k0_mult352 v7997).toNat := fun v7997 k0_hw350 => k0_hw350.1
theorem k0_off667_inb : ∀ (v7997 : BitVec 32) (k0_hw350 : k0_chk350 v7997), ∀ a, (k0_off667 v7997) a + S16x128.size a ≤ S20016x128.size a := fun v7997 k0_hw350 => k0_hw350.2

def k0_off668 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c93_i32_3838 : BitVec 32 := 93#32
  let v8008 : BitVec 32 := Scalar.addi v6320 c93_i32_3838
  let v8009 : Index := Scalar.indexCast v8008
  let c0_3839 : Index := 0#32
  ![v8009.toNat, 0, 0]
def k0_off669 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c94_i32 : BitVec 32 := 94#32
  let v8013 : BitVec 32 := Scalar.addi v6320 c94_i32
  let v8014 : Index := Scalar.indexCast v8013
  ![v8014.toNat]
def k0_mult353 (v8015 : BitVec 32) : BitVec 32 :=
  let c3_i32_3840 : BitVec 32 := 3#32
  let v8016 : BitVec 32 := Scalar.shrsi v8015 c3_i32_3840
  let c3_i32_3841 : BitVec 32 := 3#32
  let v8017 : BitVec 32 := Scalar.shli v8016 c3_i32_3841
  v8017

def k0_off670 (v8015 : BitVec 32) : Fin 2 → Nat :=
  let c3_i32_3840 : BitVec 32 := 3#32
  let v8016 : BitVec 32 := Scalar.shrsi v8015 c3_i32_3840
  let c3_i32_3841 : BitVec 32 := 3#32
  let v8017 : BitVec 32 := Scalar.shli v8016 c3_i32_3841
  let v8018 : BitVec 32 := v8017
  let v8020 : Index := Scalar.indexCast v8018
  let c0_3842 : Index := 0#32
  ![Nat.mul 2 v8020.toNat, 0]

def k0_chk351 (v8015 : BitVec 32) : Prop :=
  (8 ∣ (k0_mult353 v8015).toNat) ∧
  (∀ a, (k0_off670 v8015) a + S16x128.size a ≤ S20016x128.size a)
theorem k0_mult353_dvd : ∀ (v8015 : BitVec 32) (k0_hw351 : k0_chk351 v8015), 8 ∣ (k0_mult353 v8015).toNat := fun v8015 k0_hw351 => k0_hw351.1
theorem k0_off670_inb : ∀ (v8015 : BitVec 32) (k0_hw351 : k0_chk351 v8015), ∀ a, (k0_off670 v8015) a + S16x128.size a ≤ S20016x128.size a := fun v8015 k0_hw351 => k0_hw351.2

def k0_off671 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c94_i32_3845 : BitVec 32 := 94#32
  let v8026 : BitVec 32 := Scalar.addi v6320 c94_i32_3845
  let v8027 : Index := Scalar.indexCast v8026
  let c0_3846 : Index := 0#32
  ![v8027.toNat, 0, 0]
def k0_off672 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c95_i32 : BitVec 32 := 95#32
  let v8031 : BitVec 32 := Scalar.addi v6320 c95_i32
  let v8032 : Index := Scalar.indexCast v8031
  ![v8032.toNat]
def k0_mult354 (v8033 : BitVec 32) : BitVec 32 :=
  let c3_i32_3847 : BitVec 32 := 3#32
  let v8034 : BitVec 32 := Scalar.shrsi v8033 c3_i32_3847
  let c3_i32_3848 : BitVec 32 := 3#32
  let v8035 : BitVec 32 := Scalar.shli v8034 c3_i32_3848
  v8035

def k0_off673 (v8033 : BitVec 32) : Fin 2 → Nat :=
  let c3_i32_3847 : BitVec 32 := 3#32
  let v8034 : BitVec 32 := Scalar.shrsi v8033 c3_i32_3847
  let c3_i32_3848 : BitVec 32 := 3#32
  let v8035 : BitVec 32 := Scalar.shli v8034 c3_i32_3848
  let v8036 : BitVec 32 := v8035
  let v8038 : Index := Scalar.indexCast v8036
  let c0_3849 : Index := 0#32
  ![Nat.mul 2 v8038.toNat, 0]

def k0_chk352 (v8033 : BitVec 32) : Prop :=
  (8 ∣ (k0_mult354 v8033).toNat) ∧
  (∀ a, (k0_off673 v8033) a + S16x128.size a ≤ S20016x128.size a)
theorem k0_mult354_dvd : ∀ (v8033 : BitVec 32) (k0_hw352 : k0_chk352 v8033), 8 ∣ (k0_mult354 v8033).toNat := fun v8033 k0_hw352 => k0_hw352.1
theorem k0_off673_inb : ∀ (v8033 : BitVec 32) (k0_hw352 : k0_chk352 v8033), ∀ a, (k0_off673 v8033) a + S16x128.size a ≤ S20016x128.size a := fun v8033 k0_hw352 => k0_hw352.2

def k0_off674 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c95_i32_3852 : BitVec 32 := 95#32
  let v8044 : BitVec 32 := Scalar.addi v6320 c95_i32_3852
  let v8045 : Index := Scalar.indexCast v8044
  let c0_3853 : Index := 0#32
  ![v8045.toNat, 0, 0]
def k0_off675 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c96_i32 : BitVec 32 := 96#32
  let v8049 : BitVec 32 := Scalar.addi v6320 c96_i32
  let v8050 : Index := Scalar.indexCast v8049
  ![v8050.toNat]
def k0_mult355 (v8051 : BitVec 32) : BitVec 32 :=
  let c3_i32_3854 : BitVec 32 := 3#32
  let v8052 : BitVec 32 := Scalar.shrsi v8051 c3_i32_3854
  let c3_i32_3855 : BitVec 32 := 3#32
  let v8053 : BitVec 32 := Scalar.shli v8052 c3_i32_3855
  v8053

def k0_off676 (v8051 : BitVec 32) : Fin 2 → Nat :=
  let c3_i32_3854 : BitVec 32 := 3#32
  let v8052 : BitVec 32 := Scalar.shrsi v8051 c3_i32_3854
  let c3_i32_3855 : BitVec 32 := 3#32
  let v8053 : BitVec 32 := Scalar.shli v8052 c3_i32_3855
  let v8054 : BitVec 32 := v8053
  let v8056 : Index := Scalar.indexCast v8054
  let c0_3856 : Index := 0#32
  ![Nat.mul 2 v8056.toNat, 0]

def k0_chk353 (v8051 : BitVec 32) : Prop :=
  (8 ∣ (k0_mult355 v8051).toNat) ∧
  (∀ a, (k0_off676 v8051) a + S16x128.size a ≤ S20016x128.size a)
theorem k0_mult355_dvd : ∀ (v8051 : BitVec 32) (k0_hw353 : k0_chk353 v8051), 8 ∣ (k0_mult355 v8051).toNat := fun v8051 k0_hw353 => k0_hw353.1
theorem k0_off676_inb : ∀ (v8051 : BitVec 32) (k0_hw353 : k0_chk353 v8051), ∀ a, (k0_off676 v8051) a + S16x128.size a ≤ S20016x128.size a := fun v8051 k0_hw353 => k0_hw353.2

def k0_off677 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c96_i32_3859 : BitVec 32 := 96#32
  let v8062 : BitVec 32 := Scalar.addi v6320 c96_i32_3859
  let v8063 : Index := Scalar.indexCast v8062
  let c0_3860 : Index := 0#32
  ![v8063.toNat, 0, 0]
def k0_off678 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c97_i32 : BitVec 32 := 97#32
  let v8067 : BitVec 32 := Scalar.addi v6320 c97_i32
  let v8068 : Index := Scalar.indexCast v8067
  ![v8068.toNat]
def k0_mult356 (v8069 : BitVec 32) : BitVec 32 :=
  let c3_i32_3861 : BitVec 32 := 3#32
  let v8070 : BitVec 32 := Scalar.shrsi v8069 c3_i32_3861
  let c3_i32_3862 : BitVec 32 := 3#32
  let v8071 : BitVec 32 := Scalar.shli v8070 c3_i32_3862
  v8071

def k0_off679 (v8069 : BitVec 32) : Fin 2 → Nat :=
  let c3_i32_3861 : BitVec 32 := 3#32
  let v8070 : BitVec 32 := Scalar.shrsi v8069 c3_i32_3861
  let c3_i32_3862 : BitVec 32 := 3#32
  let v8071 : BitVec 32 := Scalar.shli v8070 c3_i32_3862
  let v8072 : BitVec 32 := v8071
  let v8074 : Index := Scalar.indexCast v8072
  let c0_3863 : Index := 0#32
  ![Nat.mul 2 v8074.toNat, 0]

def k0_chk354 (v8069 : BitVec 32) : Prop :=
  (8 ∣ (k0_mult356 v8069).toNat) ∧
  (∀ a, (k0_off679 v8069) a + S16x128.size a ≤ S20016x128.size a)
theorem k0_mult356_dvd : ∀ (v8069 : BitVec 32) (k0_hw354 : k0_chk354 v8069), 8 ∣ (k0_mult356 v8069).toNat := fun v8069 k0_hw354 => k0_hw354.1
theorem k0_off679_inb : ∀ (v8069 : BitVec 32) (k0_hw354 : k0_chk354 v8069), ∀ a, (k0_off679 v8069) a + S16x128.size a ≤ S20016x128.size a := fun v8069 k0_hw354 => k0_hw354.2

def k0_off680 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c97_i32_3866 : BitVec 32 := 97#32
  let v8080 : BitVec 32 := Scalar.addi v6320 c97_i32_3866
  let v8081 : Index := Scalar.indexCast v8080
  let c0_3867 : Index := 0#32
  ![v8081.toNat, 0, 0]
def k0_off681 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c98_i32 : BitVec 32 := 98#32
  let v8085 : BitVec 32 := Scalar.addi v6320 c98_i32
  let v8086 : Index := Scalar.indexCast v8085
  ![v8086.toNat]
def k0_mult357 (v8087 : BitVec 32) : BitVec 32 :=
  let c3_i32_3868 : BitVec 32 := 3#32
  let v8088 : BitVec 32 := Scalar.shrsi v8087 c3_i32_3868
  let c3_i32_3869 : BitVec 32 := 3#32
  let v8089 : BitVec 32 := Scalar.shli v8088 c3_i32_3869
  v8089

def k0_off682 (v8087 : BitVec 32) : Fin 2 → Nat :=
  let c3_i32_3868 : BitVec 32 := 3#32
  let v8088 : BitVec 32 := Scalar.shrsi v8087 c3_i32_3868
  let c3_i32_3869 : BitVec 32 := 3#32
  let v8089 : BitVec 32 := Scalar.shli v8088 c3_i32_3869
  let v8090 : BitVec 32 := v8089
  let v8092 : Index := Scalar.indexCast v8090
  let c0_3870 : Index := 0#32
  ![Nat.mul 2 v8092.toNat, 0]

def k0_chk355 (v8087 : BitVec 32) : Prop :=
  (8 ∣ (k0_mult357 v8087).toNat) ∧
  (∀ a, (k0_off682 v8087) a + S16x128.size a ≤ S20016x128.size a)
theorem k0_mult357_dvd : ∀ (v8087 : BitVec 32) (k0_hw355 : k0_chk355 v8087), 8 ∣ (k0_mult357 v8087).toNat := fun v8087 k0_hw355 => k0_hw355.1
theorem k0_off682_inb : ∀ (v8087 : BitVec 32) (k0_hw355 : k0_chk355 v8087), ∀ a, (k0_off682 v8087) a + S16x128.size a ≤ S20016x128.size a := fun v8087 k0_hw355 => k0_hw355.2

def k0_off683 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c98_i32_3873 : BitVec 32 := 98#32
  let v8098 : BitVec 32 := Scalar.addi v6320 c98_i32_3873
  let v8099 : Index := Scalar.indexCast v8098
  let c0_3874 : Index := 0#32
  ![v8099.toNat, 0, 0]
def k0_off684 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c99_i32 : BitVec 32 := 99#32
  let v8103 : BitVec 32 := Scalar.addi v6320 c99_i32
  let v8104 : Index := Scalar.indexCast v8103
  ![v8104.toNat]
def k0_mult358 (v8105 : BitVec 32) : BitVec 32 :=
  let c3_i32_3875 : BitVec 32 := 3#32
  let v8106 : BitVec 32 := Scalar.shrsi v8105 c3_i32_3875
  let c3_i32_3876 : BitVec 32 := 3#32
  let v8107 : BitVec 32 := Scalar.shli v8106 c3_i32_3876
  v8107

def k0_off685 (v8105 : BitVec 32) : Fin 2 → Nat :=
  let c3_i32_3875 : BitVec 32 := 3#32
  let v8106 : BitVec 32 := Scalar.shrsi v8105 c3_i32_3875
  let c3_i32_3876 : BitVec 32 := 3#32
  let v8107 : BitVec 32 := Scalar.shli v8106 c3_i32_3876
  let v8108 : BitVec 32 := v8107
  let v8110 : Index := Scalar.indexCast v8108
  let c0_3877 : Index := 0#32
  ![Nat.mul 2 v8110.toNat, 0]

def k0_chk356 (v8105 : BitVec 32) : Prop :=
  (8 ∣ (k0_mult358 v8105).toNat) ∧
  (∀ a, (k0_off685 v8105) a + S16x128.size a ≤ S20016x128.size a)
theorem k0_mult358_dvd : ∀ (v8105 : BitVec 32) (k0_hw356 : k0_chk356 v8105), 8 ∣ (k0_mult358 v8105).toNat := fun v8105 k0_hw356 => k0_hw356.1
theorem k0_off685_inb : ∀ (v8105 : BitVec 32) (k0_hw356 : k0_chk356 v8105), ∀ a, (k0_off685 v8105) a + S16x128.size a ≤ S20016x128.size a := fun v8105 k0_hw356 => k0_hw356.2

def k0_off686 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c99_i32_3880 : BitVec 32 := 99#32
  let v8116 : BitVec 32 := Scalar.addi v6320 c99_i32_3880
  let v8117 : Index := Scalar.indexCast v8116
  let c0_3881 : Index := 0#32
  ![v8117.toNat, 0, 0]
def k0_off687 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c100_i32_3882 : BitVec 32 := 100#32
  let v8121 : BitVec 32 := Scalar.addi v6320 c100_i32_3882
  let v8122 : Index := Scalar.indexCast v8121
  ![v8122.toNat]
def k0_mult359 (v8123 : BitVec 32) : BitVec 32 :=
  let c3_i32_3883 : BitVec 32 := 3#32
  let v8124 : BitVec 32 := Scalar.shrsi v8123 c3_i32_3883
  let c3_i32_3884 : BitVec 32 := 3#32
  let v8125 : BitVec 32 := Scalar.shli v8124 c3_i32_3884
  v8125

def k0_off688 (v8123 : BitVec 32) : Fin 2 → Nat :=
  let c3_i32_3883 : BitVec 32 := 3#32
  let v8124 : BitVec 32 := Scalar.shrsi v8123 c3_i32_3883
  let c3_i32_3884 : BitVec 32 := 3#32
  let v8125 : BitVec 32 := Scalar.shli v8124 c3_i32_3884
  let v8126 : BitVec 32 := v8125
  let v8128 : Index := Scalar.indexCast v8126
  let c0_3885 : Index := 0#32
  ![Nat.mul 2 v8128.toNat, 0]

def k0_chk357 (v8123 : BitVec 32) : Prop :=
  (8 ∣ (k0_mult359 v8123).toNat) ∧
  (∀ a, (k0_off688 v8123) a + S16x128.size a ≤ S20016x128.size a)
theorem k0_mult359_dvd : ∀ (v8123 : BitVec 32) (k0_hw357 : k0_chk357 v8123), 8 ∣ (k0_mult359 v8123).toNat := fun v8123 k0_hw357 => k0_hw357.1
theorem k0_off688_inb : ∀ (v8123 : BitVec 32) (k0_hw357 : k0_chk357 v8123), ∀ a, (k0_off688 v8123) a + S16x128.size a ≤ S20016x128.size a := fun v8123 k0_hw357 => k0_hw357.2

def k0_off689 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c100_i32_3888 : BitVec 32 := 100#32
  let v8134 : BitVec 32 := Scalar.addi v6320 c100_i32_3888
  let v8135 : Index := Scalar.indexCast v8134
  let c0_3889 : Index := 0#32
  ![v8135.toNat, 0, 0]
def k0_off690 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c101_i32 : BitVec 32 := 101#32
  let v8139 : BitVec 32 := Scalar.addi v6320 c101_i32
  let v8140 : Index := Scalar.indexCast v8139
  ![v8140.toNat]
def k0_mult360 (v8141 : BitVec 32) : BitVec 32 :=
  let c3_i32_3890 : BitVec 32 := 3#32
  let v8142 : BitVec 32 := Scalar.shrsi v8141 c3_i32_3890
  let c3_i32_3891 : BitVec 32 := 3#32
  let v8143 : BitVec 32 := Scalar.shli v8142 c3_i32_3891
  v8143

def k0_off691 (v8141 : BitVec 32) : Fin 2 → Nat :=
  let c3_i32_3890 : BitVec 32 := 3#32
  let v8142 : BitVec 32 := Scalar.shrsi v8141 c3_i32_3890
  let c3_i32_3891 : BitVec 32 := 3#32
  let v8143 : BitVec 32 := Scalar.shli v8142 c3_i32_3891
  let v8144 : BitVec 32 := v8143
  let v8146 : Index := Scalar.indexCast v8144
  let c0_3892 : Index := 0#32
  ![Nat.mul 2 v8146.toNat, 0]

def k0_chk358 (v8141 : BitVec 32) : Prop :=
  (8 ∣ (k0_mult360 v8141).toNat) ∧
  (∀ a, (k0_off691 v8141) a + S16x128.size a ≤ S20016x128.size a)
theorem k0_mult360_dvd : ∀ (v8141 : BitVec 32) (k0_hw358 : k0_chk358 v8141), 8 ∣ (k0_mult360 v8141).toNat := fun v8141 k0_hw358 => k0_hw358.1
theorem k0_off691_inb : ∀ (v8141 : BitVec 32) (k0_hw358 : k0_chk358 v8141), ∀ a, (k0_off691 v8141) a + S16x128.size a ≤ S20016x128.size a := fun v8141 k0_hw358 => k0_hw358.2

def k0_off692 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c101_i32_3895 : BitVec 32 := 101#32
  let v8152 : BitVec 32 := Scalar.addi v6320 c101_i32_3895
  let v8153 : Index := Scalar.indexCast v8152
  let c0_3896 : Index := 0#32
  ![v8153.toNat, 0, 0]
def k0_off693 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c102_i32 : BitVec 32 := 102#32
  let v8157 : BitVec 32 := Scalar.addi v6320 c102_i32
  let v8158 : Index := Scalar.indexCast v8157
  ![v8158.toNat]
def k0_mult361 (v8159 : BitVec 32) : BitVec 32 :=
  let c3_i32_3897 : BitVec 32 := 3#32
  let v8160 : BitVec 32 := Scalar.shrsi v8159 c3_i32_3897
  let c3_i32_3898 : BitVec 32 := 3#32
  let v8161 : BitVec 32 := Scalar.shli v8160 c3_i32_3898
  v8161

def k0_off694 (v8159 : BitVec 32) : Fin 2 → Nat :=
  let c3_i32_3897 : BitVec 32 := 3#32
  let v8160 : BitVec 32 := Scalar.shrsi v8159 c3_i32_3897
  let c3_i32_3898 : BitVec 32 := 3#32
  let v8161 : BitVec 32 := Scalar.shli v8160 c3_i32_3898
  let v8162 : BitVec 32 := v8161
  let v8164 : Index := Scalar.indexCast v8162
  let c0_3899 : Index := 0#32
  ![Nat.mul 2 v8164.toNat, 0]

def k0_chk359 (v8159 : BitVec 32) : Prop :=
  (8 ∣ (k0_mult361 v8159).toNat) ∧
  (∀ a, (k0_off694 v8159) a + S16x128.size a ≤ S20016x128.size a)
theorem k0_mult361_dvd : ∀ (v8159 : BitVec 32) (k0_hw359 : k0_chk359 v8159), 8 ∣ (k0_mult361 v8159).toNat := fun v8159 k0_hw359 => k0_hw359.1
theorem k0_off694_inb : ∀ (v8159 : BitVec 32) (k0_hw359 : k0_chk359 v8159), ∀ a, (k0_off694 v8159) a + S16x128.size a ≤ S20016x128.size a := fun v8159 k0_hw359 => k0_hw359.2

def k0_off695 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c102_i32_3902 : BitVec 32 := 102#32
  let v8170 : BitVec 32 := Scalar.addi v6320 c102_i32_3902
  let v8171 : Index := Scalar.indexCast v8170
  let c0_3903 : Index := 0#32
  ![v8171.toNat, 0, 0]
def k0_off696 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c103_i32 : BitVec 32 := 103#32
  let v8175 : BitVec 32 := Scalar.addi v6320 c103_i32
  let v8176 : Index := Scalar.indexCast v8175
  ![v8176.toNat]
def k0_mult362 (v8177 : BitVec 32) : BitVec 32 :=
  let c3_i32_3904 : BitVec 32 := 3#32
  let v8178 : BitVec 32 := Scalar.shrsi v8177 c3_i32_3904
  let c3_i32_3905 : BitVec 32 := 3#32
  let v8179 : BitVec 32 := Scalar.shli v8178 c3_i32_3905
  v8179

def k0_off697 (v8177 : BitVec 32) : Fin 2 → Nat :=
  let c3_i32_3904 : BitVec 32 := 3#32
  let v8178 : BitVec 32 := Scalar.shrsi v8177 c3_i32_3904
  let c3_i32_3905 : BitVec 32 := 3#32
  let v8179 : BitVec 32 := Scalar.shli v8178 c3_i32_3905
  let v8180 : BitVec 32 := v8179
  let v8182 : Index := Scalar.indexCast v8180
  let c0_3906 : Index := 0#32
  ![Nat.mul 2 v8182.toNat, 0]

def k0_chk360 (v8177 : BitVec 32) : Prop :=
  (8 ∣ (k0_mult362 v8177).toNat) ∧
  (∀ a, (k0_off697 v8177) a + S16x128.size a ≤ S20016x128.size a)
theorem k0_mult362_dvd : ∀ (v8177 : BitVec 32) (k0_hw360 : k0_chk360 v8177), 8 ∣ (k0_mult362 v8177).toNat := fun v8177 k0_hw360 => k0_hw360.1
theorem k0_off697_inb : ∀ (v8177 : BitVec 32) (k0_hw360 : k0_chk360 v8177), ∀ a, (k0_off697 v8177) a + S16x128.size a ≤ S20016x128.size a := fun v8177 k0_hw360 => k0_hw360.2

def k0_off698 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c103_i32_3909 : BitVec 32 := 103#32
  let v8188 : BitVec 32 := Scalar.addi v6320 c103_i32_3909
  let v8189 : Index := Scalar.indexCast v8188
  let c0_3910 : Index := 0#32
  ![v8189.toNat, 0, 0]
def k0_off699 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c104_i32 : BitVec 32 := 104#32
  let v8193 : BitVec 32 := Scalar.addi v6320 c104_i32
  let v8194 : Index := Scalar.indexCast v8193
  ![v8194.toNat]
def k0_mult363 (v8195 : BitVec 32) : BitVec 32 :=
  let c3_i32_3911 : BitVec 32 := 3#32
  let v8196 : BitVec 32 := Scalar.shrsi v8195 c3_i32_3911
  let c3_i32_3912 : BitVec 32 := 3#32
  let v8197 : BitVec 32 := Scalar.shli v8196 c3_i32_3912
  v8197

def k0_off700 (v8195 : BitVec 32) : Fin 2 → Nat :=
  let c3_i32_3911 : BitVec 32 := 3#32
  let v8196 : BitVec 32 := Scalar.shrsi v8195 c3_i32_3911
  let c3_i32_3912 : BitVec 32 := 3#32
  let v8197 : BitVec 32 := Scalar.shli v8196 c3_i32_3912
  let v8198 : BitVec 32 := v8197
  let v8200 : Index := Scalar.indexCast v8198
  let c0_3913 : Index := 0#32
  ![Nat.mul 2 v8200.toNat, 0]

def k0_chk361 (v8195 : BitVec 32) : Prop :=
  (8 ∣ (k0_mult363 v8195).toNat) ∧
  (∀ a, (k0_off700 v8195) a + S16x128.size a ≤ S20016x128.size a)
theorem k0_mult363_dvd : ∀ (v8195 : BitVec 32) (k0_hw361 : k0_chk361 v8195), 8 ∣ (k0_mult363 v8195).toNat := fun v8195 k0_hw361 => k0_hw361.1
theorem k0_off700_inb : ∀ (v8195 : BitVec 32) (k0_hw361 : k0_chk361 v8195), ∀ a, (k0_off700 v8195) a + S16x128.size a ≤ S20016x128.size a := fun v8195 k0_hw361 => k0_hw361.2

def k0_off701 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c104_i32_3916 : BitVec 32 := 104#32
  let v8206 : BitVec 32 := Scalar.addi v6320 c104_i32_3916
  let v8207 : Index := Scalar.indexCast v8206
  let c0_3917 : Index := 0#32
  ![v8207.toNat, 0, 0]
def k0_off702 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c105_i32 : BitVec 32 := 105#32
  let v8211 : BitVec 32 := Scalar.addi v6320 c105_i32
  let v8212 : Index := Scalar.indexCast v8211
  ![v8212.toNat]
def k0_mult364 (v8213 : BitVec 32) : BitVec 32 :=
  let c3_i32_3918 : BitVec 32 := 3#32
  let v8214 : BitVec 32 := Scalar.shrsi v8213 c3_i32_3918
  let c3_i32_3919 : BitVec 32 := 3#32
  let v8215 : BitVec 32 := Scalar.shli v8214 c3_i32_3919
  v8215

def k0_off703 (v8213 : BitVec 32) : Fin 2 → Nat :=
  let c3_i32_3918 : BitVec 32 := 3#32
  let v8214 : BitVec 32 := Scalar.shrsi v8213 c3_i32_3918
  let c3_i32_3919 : BitVec 32 := 3#32
  let v8215 : BitVec 32 := Scalar.shli v8214 c3_i32_3919
  let v8216 : BitVec 32 := v8215
  let v8218 : Index := Scalar.indexCast v8216
  let c0_3920 : Index := 0#32
  ![Nat.mul 2 v8218.toNat, 0]

def k0_chk362 (v8213 : BitVec 32) : Prop :=
  (8 ∣ (k0_mult364 v8213).toNat) ∧
  (∀ a, (k0_off703 v8213) a + S16x128.size a ≤ S20016x128.size a)
theorem k0_mult364_dvd : ∀ (v8213 : BitVec 32) (k0_hw362 : k0_chk362 v8213), 8 ∣ (k0_mult364 v8213).toNat := fun v8213 k0_hw362 => k0_hw362.1
theorem k0_off703_inb : ∀ (v8213 : BitVec 32) (k0_hw362 : k0_chk362 v8213), ∀ a, (k0_off703 v8213) a + S16x128.size a ≤ S20016x128.size a := fun v8213 k0_hw362 => k0_hw362.2

def k0_off704 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c105_i32_3923 : BitVec 32 := 105#32
  let v8224 : BitVec 32 := Scalar.addi v6320 c105_i32_3923
  let v8225 : Index := Scalar.indexCast v8224
  let c0_3924 : Index := 0#32
  ![v8225.toNat, 0, 0]
def k0_off705 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c106_i32 : BitVec 32 := 106#32
  let v8229 : BitVec 32 := Scalar.addi v6320 c106_i32
  let v8230 : Index := Scalar.indexCast v8229
  ![v8230.toNat]
def k0_mult365 (v8231 : BitVec 32) : BitVec 32 :=
  let c3_i32_3925 : BitVec 32 := 3#32
  let v8232 : BitVec 32 := Scalar.shrsi v8231 c3_i32_3925
  let c3_i32_3926 : BitVec 32 := 3#32
  let v8233 : BitVec 32 := Scalar.shli v8232 c3_i32_3926
  v8233

def k0_off706 (v8231 : BitVec 32) : Fin 2 → Nat :=
  let c3_i32_3925 : BitVec 32 := 3#32
  let v8232 : BitVec 32 := Scalar.shrsi v8231 c3_i32_3925
  let c3_i32_3926 : BitVec 32 := 3#32
  let v8233 : BitVec 32 := Scalar.shli v8232 c3_i32_3926
  let v8234 : BitVec 32 := v8233
  let v8236 : Index := Scalar.indexCast v8234
  let c0_3927 : Index := 0#32
  ![Nat.mul 2 v8236.toNat, 0]

def k0_chk363 (v8231 : BitVec 32) : Prop :=
  (8 ∣ (k0_mult365 v8231).toNat) ∧
  (∀ a, (k0_off706 v8231) a + S16x128.size a ≤ S20016x128.size a)
theorem k0_mult365_dvd : ∀ (v8231 : BitVec 32) (k0_hw363 : k0_chk363 v8231), 8 ∣ (k0_mult365 v8231).toNat := fun v8231 k0_hw363 => k0_hw363.1
theorem k0_off706_inb : ∀ (v8231 : BitVec 32) (k0_hw363 : k0_chk363 v8231), ∀ a, (k0_off706 v8231) a + S16x128.size a ≤ S20016x128.size a := fun v8231 k0_hw363 => k0_hw363.2

def k0_off707 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c106_i32_3930 : BitVec 32 := 106#32
  let v8242 : BitVec 32 := Scalar.addi v6320 c106_i32_3930
  let v8243 : Index := Scalar.indexCast v8242
  let c0_3931 : Index := 0#32
  ![v8243.toNat, 0, 0]
def k0_off708 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c107_i32 : BitVec 32 := 107#32
  let v8247 : BitVec 32 := Scalar.addi v6320 c107_i32
  let v8248 : Index := Scalar.indexCast v8247
  ![v8248.toNat]
def k0_mult366 (v8249 : BitVec 32) : BitVec 32 :=
  let c3_i32_3932 : BitVec 32 := 3#32
  let v8250 : BitVec 32 := Scalar.shrsi v8249 c3_i32_3932
  let c3_i32_3933 : BitVec 32 := 3#32
  let v8251 : BitVec 32 := Scalar.shli v8250 c3_i32_3933
  v8251

def k0_off709 (v8249 : BitVec 32) : Fin 2 → Nat :=
  let c3_i32_3932 : BitVec 32 := 3#32
  let v8250 : BitVec 32 := Scalar.shrsi v8249 c3_i32_3932
  let c3_i32_3933 : BitVec 32 := 3#32
  let v8251 : BitVec 32 := Scalar.shli v8250 c3_i32_3933
  let v8252 : BitVec 32 := v8251
  let v8254 : Index := Scalar.indexCast v8252
  let c0_3934 : Index := 0#32
  ![Nat.mul 2 v8254.toNat, 0]

def k0_chk364 (v8249 : BitVec 32) : Prop :=
  (8 ∣ (k0_mult366 v8249).toNat) ∧
  (∀ a, (k0_off709 v8249) a + S16x128.size a ≤ S20016x128.size a)
theorem k0_mult366_dvd : ∀ (v8249 : BitVec 32) (k0_hw364 : k0_chk364 v8249), 8 ∣ (k0_mult366 v8249).toNat := fun v8249 k0_hw364 => k0_hw364.1
theorem k0_off709_inb : ∀ (v8249 : BitVec 32) (k0_hw364 : k0_chk364 v8249), ∀ a, (k0_off709 v8249) a + S16x128.size a ≤ S20016x128.size a := fun v8249 k0_hw364 => k0_hw364.2

def k0_off710 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c107_i32_3937 : BitVec 32 := 107#32
  let v8260 : BitVec 32 := Scalar.addi v6320 c107_i32_3937
  let v8261 : Index := Scalar.indexCast v8260
  let c0_3938 : Index := 0#32
  ![v8261.toNat, 0, 0]
def k0_off711 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c108_i32 : BitVec 32 := 108#32
  let v8265 : BitVec 32 := Scalar.addi v6320 c108_i32
  let v8266 : Index := Scalar.indexCast v8265
  ![v8266.toNat]
def k0_mult367 (v8267 : BitVec 32) : BitVec 32 :=
  let c3_i32_3939 : BitVec 32 := 3#32
  let v8268 : BitVec 32 := Scalar.shrsi v8267 c3_i32_3939
  let c3_i32_3940 : BitVec 32 := 3#32
  let v8269 : BitVec 32 := Scalar.shli v8268 c3_i32_3940
  v8269

def k0_off712 (v8267 : BitVec 32) : Fin 2 → Nat :=
  let c3_i32_3939 : BitVec 32 := 3#32
  let v8268 : BitVec 32 := Scalar.shrsi v8267 c3_i32_3939
  let c3_i32_3940 : BitVec 32 := 3#32
  let v8269 : BitVec 32 := Scalar.shli v8268 c3_i32_3940
  let v8270 : BitVec 32 := v8269
  let v8272 : Index := Scalar.indexCast v8270
  let c0_3941 : Index := 0#32
  ![Nat.mul 2 v8272.toNat, 0]

def k0_chk365 (v8267 : BitVec 32) : Prop :=
  (8 ∣ (k0_mult367 v8267).toNat) ∧
  (∀ a, (k0_off712 v8267) a + S16x128.size a ≤ S20016x128.size a)
theorem k0_mult367_dvd : ∀ (v8267 : BitVec 32) (k0_hw365 : k0_chk365 v8267), 8 ∣ (k0_mult367 v8267).toNat := fun v8267 k0_hw365 => k0_hw365.1
theorem k0_off712_inb : ∀ (v8267 : BitVec 32) (k0_hw365 : k0_chk365 v8267), ∀ a, (k0_off712 v8267) a + S16x128.size a ≤ S20016x128.size a := fun v8267 k0_hw365 => k0_hw365.2

def k0_off713 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c108_i32_3944 : BitVec 32 := 108#32
  let v8278 : BitVec 32 := Scalar.addi v6320 c108_i32_3944
  let v8279 : Index := Scalar.indexCast v8278
  let c0_3945 : Index := 0#32
  ![v8279.toNat, 0, 0]
def k0_off714 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c109_i32 : BitVec 32 := 109#32
  let v8283 : BitVec 32 := Scalar.addi v6320 c109_i32
  let v8284 : Index := Scalar.indexCast v8283
  ![v8284.toNat]
def k0_mult368 (v8285 : BitVec 32) : BitVec 32 :=
  let c3_i32_3946 : BitVec 32 := 3#32
  let v8286 : BitVec 32 := Scalar.shrsi v8285 c3_i32_3946
  let c3_i32_3947 : BitVec 32 := 3#32
  let v8287 : BitVec 32 := Scalar.shli v8286 c3_i32_3947
  v8287

def k0_off715 (v8285 : BitVec 32) : Fin 2 → Nat :=
  let c3_i32_3946 : BitVec 32 := 3#32
  let v8286 : BitVec 32 := Scalar.shrsi v8285 c3_i32_3946
  let c3_i32_3947 : BitVec 32 := 3#32
  let v8287 : BitVec 32 := Scalar.shli v8286 c3_i32_3947
  let v8288 : BitVec 32 := v8287
  let v8290 : Index := Scalar.indexCast v8288
  let c0_3948 : Index := 0#32
  ![Nat.mul 2 v8290.toNat, 0]

def k0_chk366 (v8285 : BitVec 32) : Prop :=
  (8 ∣ (k0_mult368 v8285).toNat) ∧
  (∀ a, (k0_off715 v8285) a + S16x128.size a ≤ S20016x128.size a)
theorem k0_mult368_dvd : ∀ (v8285 : BitVec 32) (k0_hw366 : k0_chk366 v8285), 8 ∣ (k0_mult368 v8285).toNat := fun v8285 k0_hw366 => k0_hw366.1
theorem k0_off715_inb : ∀ (v8285 : BitVec 32) (k0_hw366 : k0_chk366 v8285), ∀ a, (k0_off715 v8285) a + S16x128.size a ≤ S20016x128.size a := fun v8285 k0_hw366 => k0_hw366.2

def k0_off716 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c109_i32_3951 : BitVec 32 := 109#32
  let v8296 : BitVec 32 := Scalar.addi v6320 c109_i32_3951
  let v8297 : Index := Scalar.indexCast v8296
  let c0_3952 : Index := 0#32
  ![v8297.toNat, 0, 0]
def k0_off717 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c110_i32 : BitVec 32 := 110#32
  let v8301 : BitVec 32 := Scalar.addi v6320 c110_i32
  let v8302 : Index := Scalar.indexCast v8301
  ![v8302.toNat]
def k0_mult369 (v8303 : BitVec 32) : BitVec 32 :=
  let c3_i32_3953 : BitVec 32 := 3#32
  let v8304 : BitVec 32 := Scalar.shrsi v8303 c3_i32_3953
  let c3_i32_3954 : BitVec 32 := 3#32
  let v8305 : BitVec 32 := Scalar.shli v8304 c3_i32_3954
  v8305

def k0_off718 (v8303 : BitVec 32) : Fin 2 → Nat :=
  let c3_i32_3953 : BitVec 32 := 3#32
  let v8304 : BitVec 32 := Scalar.shrsi v8303 c3_i32_3953
  let c3_i32_3954 : BitVec 32 := 3#32
  let v8305 : BitVec 32 := Scalar.shli v8304 c3_i32_3954
  let v8306 : BitVec 32 := v8305
  let v8308 : Index := Scalar.indexCast v8306
  let c0_3955 : Index := 0#32
  ![Nat.mul 2 v8308.toNat, 0]

def k0_chk367 (v8303 : BitVec 32) : Prop :=
  (8 ∣ (k0_mult369 v8303).toNat) ∧
  (∀ a, (k0_off718 v8303) a + S16x128.size a ≤ S20016x128.size a)
theorem k0_mult369_dvd : ∀ (v8303 : BitVec 32) (k0_hw367 : k0_chk367 v8303), 8 ∣ (k0_mult369 v8303).toNat := fun v8303 k0_hw367 => k0_hw367.1
theorem k0_off718_inb : ∀ (v8303 : BitVec 32) (k0_hw367 : k0_chk367 v8303), ∀ a, (k0_off718 v8303) a + S16x128.size a ≤ S20016x128.size a := fun v8303 k0_hw367 => k0_hw367.2

def k0_off719 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c110_i32_3958 : BitVec 32 := 110#32
  let v8314 : BitVec 32 := Scalar.addi v6320 c110_i32_3958
  let v8315 : Index := Scalar.indexCast v8314
  let c0_3959 : Index := 0#32
  ![v8315.toNat, 0, 0]
def k0_off720 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c111_i32 : BitVec 32 := 111#32
  let v8319 : BitVec 32 := Scalar.addi v6320 c111_i32
  let v8320 : Index := Scalar.indexCast v8319
  ![v8320.toNat]
def k0_mult370 (v8321 : BitVec 32) : BitVec 32 :=
  let c3_i32_3960 : BitVec 32 := 3#32
  let v8322 : BitVec 32 := Scalar.shrsi v8321 c3_i32_3960
  let c3_i32_3961 : BitVec 32 := 3#32
  let v8323 : BitVec 32 := Scalar.shli v8322 c3_i32_3961
  v8323

def k0_off721 (v8321 : BitVec 32) : Fin 2 → Nat :=
  let c3_i32_3960 : BitVec 32 := 3#32
  let v8322 : BitVec 32 := Scalar.shrsi v8321 c3_i32_3960
  let c3_i32_3961 : BitVec 32 := 3#32
  let v8323 : BitVec 32 := Scalar.shli v8322 c3_i32_3961
  let v8324 : BitVec 32 := v8323
  let v8326 : Index := Scalar.indexCast v8324
  let c0_3962 : Index := 0#32
  ![Nat.mul 2 v8326.toNat, 0]

def k0_chk368 (v8321 : BitVec 32) : Prop :=
  (8 ∣ (k0_mult370 v8321).toNat) ∧
  (∀ a, (k0_off721 v8321) a + S16x128.size a ≤ S20016x128.size a)
theorem k0_mult370_dvd : ∀ (v8321 : BitVec 32) (k0_hw368 : k0_chk368 v8321), 8 ∣ (k0_mult370 v8321).toNat := fun v8321 k0_hw368 => k0_hw368.1
theorem k0_off721_inb : ∀ (v8321 : BitVec 32) (k0_hw368 : k0_chk368 v8321), ∀ a, (k0_off721 v8321) a + S16x128.size a ≤ S20016x128.size a := fun v8321 k0_hw368 => k0_hw368.2

def k0_off722 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c111_i32_3965 : BitVec 32 := 111#32
  let v8332 : BitVec 32 := Scalar.addi v6320 c111_i32_3965
  let v8333 : Index := Scalar.indexCast v8332
  let c0_3966 : Index := 0#32
  ![v8333.toNat, 0, 0]
def k0_off723 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c112_i32 : BitVec 32 := 112#32
  let v8337 : BitVec 32 := Scalar.addi v6320 c112_i32
  let v8338 : Index := Scalar.indexCast v8337
  ![v8338.toNat]
def k0_mult371 (v8339 : BitVec 32) : BitVec 32 :=
  let c3_i32_3967 : BitVec 32 := 3#32
  let v8340 : BitVec 32 := Scalar.shrsi v8339 c3_i32_3967
  let c3_i32_3968 : BitVec 32 := 3#32
  let v8341 : BitVec 32 := Scalar.shli v8340 c3_i32_3968
  v8341

def k0_off724 (v8339 : BitVec 32) : Fin 2 → Nat :=
  let c3_i32_3967 : BitVec 32 := 3#32
  let v8340 : BitVec 32 := Scalar.shrsi v8339 c3_i32_3967
  let c3_i32_3968 : BitVec 32 := 3#32
  let v8341 : BitVec 32 := Scalar.shli v8340 c3_i32_3968
  let v8342 : BitVec 32 := v8341
  let v8344 : Index := Scalar.indexCast v8342
  let c0_3969 : Index := 0#32
  ![Nat.mul 2 v8344.toNat, 0]

def k0_chk369 (v8339 : BitVec 32) : Prop :=
  (8 ∣ (k0_mult371 v8339).toNat) ∧
  (∀ a, (k0_off724 v8339) a + S16x128.size a ≤ S20016x128.size a)
theorem k0_mult371_dvd : ∀ (v8339 : BitVec 32) (k0_hw369 : k0_chk369 v8339), 8 ∣ (k0_mult371 v8339).toNat := fun v8339 k0_hw369 => k0_hw369.1
theorem k0_off724_inb : ∀ (v8339 : BitVec 32) (k0_hw369 : k0_chk369 v8339), ∀ a, (k0_off724 v8339) a + S16x128.size a ≤ S20016x128.size a := fun v8339 k0_hw369 => k0_hw369.2

def k0_off725 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c112_i32_3972 : BitVec 32 := 112#32
  let v8350 : BitVec 32 := Scalar.addi v6320 c112_i32_3972
  let v8351 : Index := Scalar.indexCast v8350
  let c0_3973 : Index := 0#32
  ![v8351.toNat, 0, 0]
def k0_off726 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c113_i32 : BitVec 32 := 113#32
  let v8355 : BitVec 32 := Scalar.addi v6320 c113_i32
  let v8356 : Index := Scalar.indexCast v8355
  ![v8356.toNat]
def k0_mult372 (v8357 : BitVec 32) : BitVec 32 :=
  let c3_i32_3974 : BitVec 32 := 3#32
  let v8358 : BitVec 32 := Scalar.shrsi v8357 c3_i32_3974
  let c3_i32_3975 : BitVec 32 := 3#32
  let v8359 : BitVec 32 := Scalar.shli v8358 c3_i32_3975
  v8359

def k0_off727 (v8357 : BitVec 32) : Fin 2 → Nat :=
  let c3_i32_3974 : BitVec 32 := 3#32
  let v8358 : BitVec 32 := Scalar.shrsi v8357 c3_i32_3974
  let c3_i32_3975 : BitVec 32 := 3#32
  let v8359 : BitVec 32 := Scalar.shli v8358 c3_i32_3975
  let v8360 : BitVec 32 := v8359
  let v8362 : Index := Scalar.indexCast v8360
  let c0_3976 : Index := 0#32
  ![Nat.mul 2 v8362.toNat, 0]

def k0_chk370 (v8357 : BitVec 32) : Prop :=
  (8 ∣ (k0_mult372 v8357).toNat) ∧
  (∀ a, (k0_off727 v8357) a + S16x128.size a ≤ S20016x128.size a)
theorem k0_mult372_dvd : ∀ (v8357 : BitVec 32) (k0_hw370 : k0_chk370 v8357), 8 ∣ (k0_mult372 v8357).toNat := fun v8357 k0_hw370 => k0_hw370.1
theorem k0_off727_inb : ∀ (v8357 : BitVec 32) (k0_hw370 : k0_chk370 v8357), ∀ a, (k0_off727 v8357) a + S16x128.size a ≤ S20016x128.size a := fun v8357 k0_hw370 => k0_hw370.2

def k0_off728 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c113_i32_3979 : BitVec 32 := 113#32
  let v8368 : BitVec 32 := Scalar.addi v6320 c113_i32_3979
  let v8369 : Index := Scalar.indexCast v8368
  let c0_3980 : Index := 0#32
  ![v8369.toNat, 0, 0]
def k0_off729 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c114_i32 : BitVec 32 := 114#32
  let v8373 : BitVec 32 := Scalar.addi v6320 c114_i32
  let v8374 : Index := Scalar.indexCast v8373
  ![v8374.toNat]
def k0_mult373 (v8375 : BitVec 32) : BitVec 32 :=
  let c3_i32_3981 : BitVec 32 := 3#32
  let v8376 : BitVec 32 := Scalar.shrsi v8375 c3_i32_3981
  let c3_i32_3982 : BitVec 32 := 3#32
  let v8377 : BitVec 32 := Scalar.shli v8376 c3_i32_3982
  v8377

def k0_off730 (v8375 : BitVec 32) : Fin 2 → Nat :=
  let c3_i32_3981 : BitVec 32 := 3#32
  let v8376 : BitVec 32 := Scalar.shrsi v8375 c3_i32_3981
  let c3_i32_3982 : BitVec 32 := 3#32
  let v8377 : BitVec 32 := Scalar.shli v8376 c3_i32_3982
  let v8378 : BitVec 32 := v8377
  let v8380 : Index := Scalar.indexCast v8378
  let c0_3983 : Index := 0#32
  ![Nat.mul 2 v8380.toNat, 0]

def k0_chk371 (v8375 : BitVec 32) : Prop :=
  (8 ∣ (k0_mult373 v8375).toNat) ∧
  (∀ a, (k0_off730 v8375) a + S16x128.size a ≤ S20016x128.size a)
theorem k0_mult373_dvd : ∀ (v8375 : BitVec 32) (k0_hw371 : k0_chk371 v8375), 8 ∣ (k0_mult373 v8375).toNat := fun v8375 k0_hw371 => k0_hw371.1
theorem k0_off730_inb : ∀ (v8375 : BitVec 32) (k0_hw371 : k0_chk371 v8375), ∀ a, (k0_off730 v8375) a + S16x128.size a ≤ S20016x128.size a := fun v8375 k0_hw371 => k0_hw371.2

def k0_off731 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c114_i32_3986 : BitVec 32 := 114#32
  let v8386 : BitVec 32 := Scalar.addi v6320 c114_i32_3986
  let v8387 : Index := Scalar.indexCast v8386
  let c0_3987 : Index := 0#32
  ![v8387.toNat, 0, 0]
def k0_off732 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c115_i32 : BitVec 32 := 115#32
  let v8391 : BitVec 32 := Scalar.addi v6320 c115_i32
  let v8392 : Index := Scalar.indexCast v8391
  ![v8392.toNat]
def k0_mult374 (v8393 : BitVec 32) : BitVec 32 :=
  let c3_i32_3988 : BitVec 32 := 3#32
  let v8394 : BitVec 32 := Scalar.shrsi v8393 c3_i32_3988
  let c3_i32_3989 : BitVec 32 := 3#32
  let v8395 : BitVec 32 := Scalar.shli v8394 c3_i32_3989
  v8395

def k0_off733 (v8393 : BitVec 32) : Fin 2 → Nat :=
  let c3_i32_3988 : BitVec 32 := 3#32
  let v8394 : BitVec 32 := Scalar.shrsi v8393 c3_i32_3988
  let c3_i32_3989 : BitVec 32 := 3#32
  let v8395 : BitVec 32 := Scalar.shli v8394 c3_i32_3989
  let v8396 : BitVec 32 := v8395
  let v8398 : Index := Scalar.indexCast v8396
  let c0_3990 : Index := 0#32
  ![Nat.mul 2 v8398.toNat, 0]

def k0_chk372 (v8393 : BitVec 32) : Prop :=
  (8 ∣ (k0_mult374 v8393).toNat) ∧
  (∀ a, (k0_off733 v8393) a + S16x128.size a ≤ S20016x128.size a)
theorem k0_mult374_dvd : ∀ (v8393 : BitVec 32) (k0_hw372 : k0_chk372 v8393), 8 ∣ (k0_mult374 v8393).toNat := fun v8393 k0_hw372 => k0_hw372.1
theorem k0_off733_inb : ∀ (v8393 : BitVec 32) (k0_hw372 : k0_chk372 v8393), ∀ a, (k0_off733 v8393) a + S16x128.size a ≤ S20016x128.size a := fun v8393 k0_hw372 => k0_hw372.2

def k0_off734 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c115_i32_3993 : BitVec 32 := 115#32
  let v8404 : BitVec 32 := Scalar.addi v6320 c115_i32_3993
  let v8405 : Index := Scalar.indexCast v8404
  let c0_3994 : Index := 0#32
  ![v8405.toNat, 0, 0]
def k0_off735 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c116_i32 : BitVec 32 := 116#32
  let v8409 : BitVec 32 := Scalar.addi v6320 c116_i32
  let v8410 : Index := Scalar.indexCast v8409
  ![v8410.toNat]
def k0_mult375 (v8411 : BitVec 32) : BitVec 32 :=
  let c3_i32_3995 : BitVec 32 := 3#32
  let v8412 : BitVec 32 := Scalar.shrsi v8411 c3_i32_3995
  let c3_i32_3996 : BitVec 32 := 3#32
  let v8413 : BitVec 32 := Scalar.shli v8412 c3_i32_3996
  v8413

def k0_off736 (v8411 : BitVec 32) : Fin 2 → Nat :=
  let c3_i32_3995 : BitVec 32 := 3#32
  let v8412 : BitVec 32 := Scalar.shrsi v8411 c3_i32_3995
  let c3_i32_3996 : BitVec 32 := 3#32
  let v8413 : BitVec 32 := Scalar.shli v8412 c3_i32_3996
  let v8414 : BitVec 32 := v8413
  let v8416 : Index := Scalar.indexCast v8414
  let c0_3997 : Index := 0#32
  ![Nat.mul 2 v8416.toNat, 0]

def k0_chk373 (v8411 : BitVec 32) : Prop :=
  (8 ∣ (k0_mult375 v8411).toNat) ∧
  (∀ a, (k0_off736 v8411) a + S16x128.size a ≤ S20016x128.size a)
theorem k0_mult375_dvd : ∀ (v8411 : BitVec 32) (k0_hw373 : k0_chk373 v8411), 8 ∣ (k0_mult375 v8411).toNat := fun v8411 k0_hw373 => k0_hw373.1
theorem k0_off736_inb : ∀ (v8411 : BitVec 32) (k0_hw373 : k0_chk373 v8411), ∀ a, (k0_off736 v8411) a + S16x128.size a ≤ S20016x128.size a := fun v8411 k0_hw373 => k0_hw373.2

def k0_off737 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c116_i32_4000 : BitVec 32 := 116#32
  let v8422 : BitVec 32 := Scalar.addi v6320 c116_i32_4000
  let v8423 : Index := Scalar.indexCast v8422
  let c0_4001 : Index := 0#32
  ![v8423.toNat, 0, 0]
def k0_off738 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c117_i32 : BitVec 32 := 117#32
  let v8427 : BitVec 32 := Scalar.addi v6320 c117_i32
  let v8428 : Index := Scalar.indexCast v8427
  ![v8428.toNat]
def k0_mult376 (v8429 : BitVec 32) : BitVec 32 :=
  let c3_i32_4002 : BitVec 32 := 3#32
  let v8430 : BitVec 32 := Scalar.shrsi v8429 c3_i32_4002
  let c3_i32_4003 : BitVec 32 := 3#32
  let v8431 : BitVec 32 := Scalar.shli v8430 c3_i32_4003
  v8431

def k0_off739 (v8429 : BitVec 32) : Fin 2 → Nat :=
  let c3_i32_4002 : BitVec 32 := 3#32
  let v8430 : BitVec 32 := Scalar.shrsi v8429 c3_i32_4002
  let c3_i32_4003 : BitVec 32 := 3#32
  let v8431 : BitVec 32 := Scalar.shli v8430 c3_i32_4003
  let v8432 : BitVec 32 := v8431
  let v8434 : Index := Scalar.indexCast v8432
  let c0_4004 : Index := 0#32
  ![Nat.mul 2 v8434.toNat, 0]

def k0_chk374 (v8429 : BitVec 32) : Prop :=
  (8 ∣ (k0_mult376 v8429).toNat) ∧
  (∀ a, (k0_off739 v8429) a + S16x128.size a ≤ S20016x128.size a)
theorem k0_mult376_dvd : ∀ (v8429 : BitVec 32) (k0_hw374 : k0_chk374 v8429), 8 ∣ (k0_mult376 v8429).toNat := fun v8429 k0_hw374 => k0_hw374.1
theorem k0_off739_inb : ∀ (v8429 : BitVec 32) (k0_hw374 : k0_chk374 v8429), ∀ a, (k0_off739 v8429) a + S16x128.size a ≤ S20016x128.size a := fun v8429 k0_hw374 => k0_hw374.2

def k0_off740 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c117_i32_4007 : BitVec 32 := 117#32
  let v8440 : BitVec 32 := Scalar.addi v6320 c117_i32_4007
  let v8441 : Index := Scalar.indexCast v8440
  let c0_4008 : Index := 0#32
  ![v8441.toNat, 0, 0]
def k0_off741 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c118_i32 : BitVec 32 := 118#32
  let v8445 : BitVec 32 := Scalar.addi v6320 c118_i32
  let v8446 : Index := Scalar.indexCast v8445
  ![v8446.toNat]
def k0_mult377 (v8447 : BitVec 32) : BitVec 32 :=
  let c3_i32_4009 : BitVec 32 := 3#32
  let v8448 : BitVec 32 := Scalar.shrsi v8447 c3_i32_4009
  let c3_i32_4010 : BitVec 32 := 3#32
  let v8449 : BitVec 32 := Scalar.shli v8448 c3_i32_4010
  v8449

def k0_off742 (v8447 : BitVec 32) : Fin 2 → Nat :=
  let c3_i32_4009 : BitVec 32 := 3#32
  let v8448 : BitVec 32 := Scalar.shrsi v8447 c3_i32_4009
  let c3_i32_4010 : BitVec 32 := 3#32
  let v8449 : BitVec 32 := Scalar.shli v8448 c3_i32_4010
  let v8450 : BitVec 32 := v8449
  let v8452 : Index := Scalar.indexCast v8450
  let c0_4011 : Index := 0#32
  ![Nat.mul 2 v8452.toNat, 0]

def k0_chk375 (v8447 : BitVec 32) : Prop :=
  (8 ∣ (k0_mult377 v8447).toNat) ∧
  (∀ a, (k0_off742 v8447) a + S16x128.size a ≤ S20016x128.size a)
theorem k0_mult377_dvd : ∀ (v8447 : BitVec 32) (k0_hw375 : k0_chk375 v8447), 8 ∣ (k0_mult377 v8447).toNat := fun v8447 k0_hw375 => k0_hw375.1
theorem k0_off742_inb : ∀ (v8447 : BitVec 32) (k0_hw375 : k0_chk375 v8447), ∀ a, (k0_off742 v8447) a + S16x128.size a ≤ S20016x128.size a := fun v8447 k0_hw375 => k0_hw375.2

def k0_off743 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c118_i32_4014 : BitVec 32 := 118#32
  let v8458 : BitVec 32 := Scalar.addi v6320 c118_i32_4014
  let v8459 : Index := Scalar.indexCast v8458
  let c0_4015 : Index := 0#32
  ![v8459.toNat, 0, 0]
def k0_off744 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c119_i32 : BitVec 32 := 119#32
  let v8463 : BitVec 32 := Scalar.addi v6320 c119_i32
  let v8464 : Index := Scalar.indexCast v8463
  ![v8464.toNat]
def k0_mult378 (v8465 : BitVec 32) : BitVec 32 :=
  let c3_i32_4016 : BitVec 32 := 3#32
  let v8466 : BitVec 32 := Scalar.shrsi v8465 c3_i32_4016
  let c3_i32_4017 : BitVec 32 := 3#32
  let v8467 : BitVec 32 := Scalar.shli v8466 c3_i32_4017
  v8467

def k0_off745 (v8465 : BitVec 32) : Fin 2 → Nat :=
  let c3_i32_4016 : BitVec 32 := 3#32
  let v8466 : BitVec 32 := Scalar.shrsi v8465 c3_i32_4016
  let c3_i32_4017 : BitVec 32 := 3#32
  let v8467 : BitVec 32 := Scalar.shli v8466 c3_i32_4017
  let v8468 : BitVec 32 := v8467
  let v8470 : Index := Scalar.indexCast v8468
  let c0_4018 : Index := 0#32
  ![Nat.mul 2 v8470.toNat, 0]

def k0_chk376 (v8465 : BitVec 32) : Prop :=
  (8 ∣ (k0_mult378 v8465).toNat) ∧
  (∀ a, (k0_off745 v8465) a + S16x128.size a ≤ S20016x128.size a)
theorem k0_mult378_dvd : ∀ (v8465 : BitVec 32) (k0_hw376 : k0_chk376 v8465), 8 ∣ (k0_mult378 v8465).toNat := fun v8465 k0_hw376 => k0_hw376.1
theorem k0_off745_inb : ∀ (v8465 : BitVec 32) (k0_hw376 : k0_chk376 v8465), ∀ a, (k0_off745 v8465) a + S16x128.size a ≤ S20016x128.size a := fun v8465 k0_hw376 => k0_hw376.2

def k0_off746 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c119_i32_4021 : BitVec 32 := 119#32
  let v8476 : BitVec 32 := Scalar.addi v6320 c119_i32_4021
  let v8477 : Index := Scalar.indexCast v8476
  let c0_4022 : Index := 0#32
  ![v8477.toNat, 0, 0]
def k0_off747 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c120_i32 : BitVec 32 := 120#32
  let v8481 : BitVec 32 := Scalar.addi v6320 c120_i32
  let v8482 : Index := Scalar.indexCast v8481
  ![v8482.toNat]
def k0_mult379 (v8483 : BitVec 32) : BitVec 32 :=
  let c3_i32_4023 : BitVec 32 := 3#32
  let v8484 : BitVec 32 := Scalar.shrsi v8483 c3_i32_4023
  let c3_i32_4024 : BitVec 32 := 3#32
  let v8485 : BitVec 32 := Scalar.shli v8484 c3_i32_4024
  v8485

def k0_off748 (v8483 : BitVec 32) : Fin 2 → Nat :=
  let c3_i32_4023 : BitVec 32 := 3#32
  let v8484 : BitVec 32 := Scalar.shrsi v8483 c3_i32_4023
  let c3_i32_4024 : BitVec 32 := 3#32
  let v8485 : BitVec 32 := Scalar.shli v8484 c3_i32_4024
  let v8486 : BitVec 32 := v8485
  let v8488 : Index := Scalar.indexCast v8486
  let c0_4025 : Index := 0#32
  ![Nat.mul 2 v8488.toNat, 0]

def k0_chk377 (v8483 : BitVec 32) : Prop :=
  (8 ∣ (k0_mult379 v8483).toNat) ∧
  (∀ a, (k0_off748 v8483) a + S16x128.size a ≤ S20016x128.size a)
theorem k0_mult379_dvd : ∀ (v8483 : BitVec 32) (k0_hw377 : k0_chk377 v8483), 8 ∣ (k0_mult379 v8483).toNat := fun v8483 k0_hw377 => k0_hw377.1
theorem k0_off748_inb : ∀ (v8483 : BitVec 32) (k0_hw377 : k0_chk377 v8483), ∀ a, (k0_off748 v8483) a + S16x128.size a ≤ S20016x128.size a := fun v8483 k0_hw377 => k0_hw377.2

def k0_off749 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c120_i32_4028 : BitVec 32 := 120#32
  let v8494 : BitVec 32 := Scalar.addi v6320 c120_i32_4028
  let v8495 : Index := Scalar.indexCast v8494
  let c0_4029 : Index := 0#32
  ![v8495.toNat, 0, 0]
def k0_off750 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c121_i32 : BitVec 32 := 121#32
  let v8499 : BitVec 32 := Scalar.addi v6320 c121_i32
  let v8500 : Index := Scalar.indexCast v8499
  ![v8500.toNat]
def k0_mult380 (v8501 : BitVec 32) : BitVec 32 :=
  let c3_i32_4030 : BitVec 32 := 3#32
  let v8502 : BitVec 32 := Scalar.shrsi v8501 c3_i32_4030
  let c3_i32_4031 : BitVec 32 := 3#32
  let v8503 : BitVec 32 := Scalar.shli v8502 c3_i32_4031
  v8503

def k0_off751 (v8501 : BitVec 32) : Fin 2 → Nat :=
  let c3_i32_4030 : BitVec 32 := 3#32
  let v8502 : BitVec 32 := Scalar.shrsi v8501 c3_i32_4030
  let c3_i32_4031 : BitVec 32 := 3#32
  let v8503 : BitVec 32 := Scalar.shli v8502 c3_i32_4031
  let v8504 : BitVec 32 := v8503
  let v8506 : Index := Scalar.indexCast v8504
  let c0_4032 : Index := 0#32
  ![Nat.mul 2 v8506.toNat, 0]

def k0_chk378 (v8501 : BitVec 32) : Prop :=
  (8 ∣ (k0_mult380 v8501).toNat) ∧
  (∀ a, (k0_off751 v8501) a + S16x128.size a ≤ S20016x128.size a)
theorem k0_mult380_dvd : ∀ (v8501 : BitVec 32) (k0_hw378 : k0_chk378 v8501), 8 ∣ (k0_mult380 v8501).toNat := fun v8501 k0_hw378 => k0_hw378.1
theorem k0_off751_inb : ∀ (v8501 : BitVec 32) (k0_hw378 : k0_chk378 v8501), ∀ a, (k0_off751 v8501) a + S16x128.size a ≤ S20016x128.size a := fun v8501 k0_hw378 => k0_hw378.2

def k0_off752 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c121_i32_4035 : BitVec 32 := 121#32
  let v8512 : BitVec 32 := Scalar.addi v6320 c121_i32_4035
  let v8513 : Index := Scalar.indexCast v8512
  let c0_4036 : Index := 0#32
  ![v8513.toNat, 0, 0]
def k0_off753 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c122_i32 : BitVec 32 := 122#32
  let v8517 : BitVec 32 := Scalar.addi v6320 c122_i32
  let v8518 : Index := Scalar.indexCast v8517
  ![v8518.toNat]
def k0_mult381 (v8519 : BitVec 32) : BitVec 32 :=
  let c3_i32_4037 : BitVec 32 := 3#32
  let v8520 : BitVec 32 := Scalar.shrsi v8519 c3_i32_4037
  let c3_i32_4038 : BitVec 32 := 3#32
  let v8521 : BitVec 32 := Scalar.shli v8520 c3_i32_4038
  v8521

def k0_off754 (v8519 : BitVec 32) : Fin 2 → Nat :=
  let c3_i32_4037 : BitVec 32 := 3#32
  let v8520 : BitVec 32 := Scalar.shrsi v8519 c3_i32_4037
  let c3_i32_4038 : BitVec 32 := 3#32
  let v8521 : BitVec 32 := Scalar.shli v8520 c3_i32_4038
  let v8522 : BitVec 32 := v8521
  let v8524 : Index := Scalar.indexCast v8522
  let c0_4039 : Index := 0#32
  ![Nat.mul 2 v8524.toNat, 0]

def k0_chk379 (v8519 : BitVec 32) : Prop :=
  (8 ∣ (k0_mult381 v8519).toNat) ∧
  (∀ a, (k0_off754 v8519) a + S16x128.size a ≤ S20016x128.size a)
theorem k0_mult381_dvd : ∀ (v8519 : BitVec 32) (k0_hw379 : k0_chk379 v8519), 8 ∣ (k0_mult381 v8519).toNat := fun v8519 k0_hw379 => k0_hw379.1
theorem k0_off754_inb : ∀ (v8519 : BitVec 32) (k0_hw379 : k0_chk379 v8519), ∀ a, (k0_off754 v8519) a + S16x128.size a ≤ S20016x128.size a := fun v8519 k0_hw379 => k0_hw379.2

def k0_off755 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c122_i32_4042 : BitVec 32 := 122#32
  let v8530 : BitVec 32 := Scalar.addi v6320 c122_i32_4042
  let v8531 : Index := Scalar.indexCast v8530
  let c0_4043 : Index := 0#32
  ![v8531.toNat, 0, 0]
def k0_off756 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c123_i32 : BitVec 32 := 123#32
  let v8535 : BitVec 32 := Scalar.addi v6320 c123_i32
  let v8536 : Index := Scalar.indexCast v8535
  ![v8536.toNat]
def k0_mult382 (v8537 : BitVec 32) : BitVec 32 :=
  let c3_i32_4044 : BitVec 32 := 3#32
  let v8538 : BitVec 32 := Scalar.shrsi v8537 c3_i32_4044
  let c3_i32_4045 : BitVec 32 := 3#32
  let v8539 : BitVec 32 := Scalar.shli v8538 c3_i32_4045
  v8539

def k0_off757 (v8537 : BitVec 32) : Fin 2 → Nat :=
  let c3_i32_4044 : BitVec 32 := 3#32
  let v8538 : BitVec 32 := Scalar.shrsi v8537 c3_i32_4044
  let c3_i32_4045 : BitVec 32 := 3#32
  let v8539 : BitVec 32 := Scalar.shli v8538 c3_i32_4045
  let v8540 : BitVec 32 := v8539
  let v8542 : Index := Scalar.indexCast v8540
  let c0_4046 : Index := 0#32
  ![Nat.mul 2 v8542.toNat, 0]

def k0_chk380 (v8537 : BitVec 32) : Prop :=
  (8 ∣ (k0_mult382 v8537).toNat) ∧
  (∀ a, (k0_off757 v8537) a + S16x128.size a ≤ S20016x128.size a)
theorem k0_mult382_dvd : ∀ (v8537 : BitVec 32) (k0_hw380 : k0_chk380 v8537), 8 ∣ (k0_mult382 v8537).toNat := fun v8537 k0_hw380 => k0_hw380.1
theorem k0_off757_inb : ∀ (v8537 : BitVec 32) (k0_hw380 : k0_chk380 v8537), ∀ a, (k0_off757 v8537) a + S16x128.size a ≤ S20016x128.size a := fun v8537 k0_hw380 => k0_hw380.2

def k0_off758 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c123_i32_4049 : BitVec 32 := 123#32
  let v8548 : BitVec 32 := Scalar.addi v6320 c123_i32_4049
  let v8549 : Index := Scalar.indexCast v8548
  let c0_4050 : Index := 0#32
  ![v8549.toNat, 0, 0]
def k0_off759 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c124_i32 : BitVec 32 := 124#32
  let v8553 : BitVec 32 := Scalar.addi v6320 c124_i32
  let v8554 : Index := Scalar.indexCast v8553
  ![v8554.toNat]
def k0_mult383 (v8555 : BitVec 32) : BitVec 32 :=
  let c3_i32_4051 : BitVec 32 := 3#32
  let v8556 : BitVec 32 := Scalar.shrsi v8555 c3_i32_4051
  let c3_i32_4052 : BitVec 32 := 3#32
  let v8557 : BitVec 32 := Scalar.shli v8556 c3_i32_4052
  v8557

def k0_off760 (v8555 : BitVec 32) : Fin 2 → Nat :=
  let c3_i32_4051 : BitVec 32 := 3#32
  let v8556 : BitVec 32 := Scalar.shrsi v8555 c3_i32_4051
  let c3_i32_4052 : BitVec 32 := 3#32
  let v8557 : BitVec 32 := Scalar.shli v8556 c3_i32_4052
  let v8558 : BitVec 32 := v8557
  let v8560 : Index := Scalar.indexCast v8558
  let c0_4053 : Index := 0#32
  ![Nat.mul 2 v8560.toNat, 0]

def k0_chk381 (v8555 : BitVec 32) : Prop :=
  (8 ∣ (k0_mult383 v8555).toNat) ∧
  (∀ a, (k0_off760 v8555) a + S16x128.size a ≤ S20016x128.size a)
theorem k0_mult383_dvd : ∀ (v8555 : BitVec 32) (k0_hw381 : k0_chk381 v8555), 8 ∣ (k0_mult383 v8555).toNat := fun v8555 k0_hw381 => k0_hw381.1
theorem k0_off760_inb : ∀ (v8555 : BitVec 32) (k0_hw381 : k0_chk381 v8555), ∀ a, (k0_off760 v8555) a + S16x128.size a ≤ S20016x128.size a := fun v8555 k0_hw381 => k0_hw381.2

def k0_off761 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c124_i32_4056 : BitVec 32 := 124#32
  let v8566 : BitVec 32 := Scalar.addi v6320 c124_i32_4056
  let v8567 : Index := Scalar.indexCast v8566
  let c0_4057 : Index := 0#32
  ![v8567.toNat, 0, 0]
def k0_off762 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c125_i32 : BitVec 32 := 125#32
  let v8571 : BitVec 32 := Scalar.addi v6320 c125_i32
  let v8572 : Index := Scalar.indexCast v8571
  ![v8572.toNat]
def k0_mult384 (v8573 : BitVec 32) : BitVec 32 :=
  let c3_i32_4058 : BitVec 32 := 3#32
  let v8574 : BitVec 32 := Scalar.shrsi v8573 c3_i32_4058
  let c3_i32_4059 : BitVec 32 := 3#32
  let v8575 : BitVec 32 := Scalar.shli v8574 c3_i32_4059
  v8575

def k0_off763 (v8573 : BitVec 32) : Fin 2 → Nat :=
  let c3_i32_4058 : BitVec 32 := 3#32
  let v8574 : BitVec 32 := Scalar.shrsi v8573 c3_i32_4058
  let c3_i32_4059 : BitVec 32 := 3#32
  let v8575 : BitVec 32 := Scalar.shli v8574 c3_i32_4059
  let v8576 : BitVec 32 := v8575
  let v8578 : Index := Scalar.indexCast v8576
  let c0_4060 : Index := 0#32
  ![Nat.mul 2 v8578.toNat, 0]

def k0_chk382 (v8573 : BitVec 32) : Prop :=
  (8 ∣ (k0_mult384 v8573).toNat) ∧
  (∀ a, (k0_off763 v8573) a + S16x128.size a ≤ S20016x128.size a)
theorem k0_mult384_dvd : ∀ (v8573 : BitVec 32) (k0_hw382 : k0_chk382 v8573), 8 ∣ (k0_mult384 v8573).toNat := fun v8573 k0_hw382 => k0_hw382.1
theorem k0_off763_inb : ∀ (v8573 : BitVec 32) (k0_hw382 : k0_chk382 v8573), ∀ a, (k0_off763 v8573) a + S16x128.size a ≤ S20016x128.size a := fun v8573 k0_hw382 => k0_hw382.2

def k0_off764 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c125_i32_4063 : BitVec 32 := 125#32
  let v8584 : BitVec 32 := Scalar.addi v6320 c125_i32_4063
  let v8585 : Index := Scalar.indexCast v8584
  let c0_4064 : Index := 0#32
  ![v8585.toNat, 0, 0]
def k0_off765 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c126_i32 : BitVec 32 := 126#32
  let v8589 : BitVec 32 := Scalar.addi v6320 c126_i32
  let v8590 : Index := Scalar.indexCast v8589
  ![v8590.toNat]
def k0_mult385 (v8591 : BitVec 32) : BitVec 32 :=
  let c3_i32_4065 : BitVec 32 := 3#32
  let v8592 : BitVec 32 := Scalar.shrsi v8591 c3_i32_4065
  let c3_i32_4066 : BitVec 32 := 3#32
  let v8593 : BitVec 32 := Scalar.shli v8592 c3_i32_4066
  v8593

def k0_off766 (v8591 : BitVec 32) : Fin 2 → Nat :=
  let c3_i32_4065 : BitVec 32 := 3#32
  let v8592 : BitVec 32 := Scalar.shrsi v8591 c3_i32_4065
  let c3_i32_4066 : BitVec 32 := 3#32
  let v8593 : BitVec 32 := Scalar.shli v8592 c3_i32_4066
  let v8594 : BitVec 32 := v8593
  let v8596 : Index := Scalar.indexCast v8594
  let c0_4067 : Index := 0#32
  ![Nat.mul 2 v8596.toNat, 0]

def k0_chk383 (v8591 : BitVec 32) : Prop :=
  (8 ∣ (k0_mult385 v8591).toNat) ∧
  (∀ a, (k0_off766 v8591) a + S16x128.size a ≤ S20016x128.size a)
theorem k0_mult385_dvd : ∀ (v8591 : BitVec 32) (k0_hw383 : k0_chk383 v8591), 8 ∣ (k0_mult385 v8591).toNat := fun v8591 k0_hw383 => k0_hw383.1
theorem k0_off766_inb : ∀ (v8591 : BitVec 32) (k0_hw383 : k0_chk383 v8591), ∀ a, (k0_off766 v8591) a + S16x128.size a ≤ S20016x128.size a := fun v8591 k0_hw383 => k0_hw383.2

def k0_off767 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c126_i32_4070 : BitVec 32 := 126#32
  let v8602 : BitVec 32 := Scalar.addi v6320 c126_i32_4070
  let v8603 : Index := Scalar.indexCast v8602
  let c0_4071 : Index := 0#32
  ![v8603.toNat, 0, 0]
def k0_off768 (k0_t1 : Fin k0_t1_loop.trips) : Fin 1 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c127_i32 : BitVec 32 := 127#32
  let v8607 : BitVec 32 := Scalar.addi v6320 c127_i32
  let v8608 : Index := Scalar.indexCast v8607
  ![v8608.toNat]
def k0_mult386 (v8609 : BitVec 32) : BitVec 32 :=
  let c3_i32_4072 : BitVec 32 := 3#32
  let v8610 : BitVec 32 := Scalar.shrsi v8609 c3_i32_4072
  let c3_i32_4073 : BitVec 32 := 3#32
  let v8611 : BitVec 32 := Scalar.shli v8610 c3_i32_4073
  v8611

def k0_off769 (v8609 : BitVec 32) : Fin 2 → Nat :=
  let c3_i32_4072 : BitVec 32 := 3#32
  let v8610 : BitVec 32 := Scalar.shrsi v8609 c3_i32_4072
  let c3_i32_4073 : BitVec 32 := 3#32
  let v8611 : BitVec 32 := Scalar.shli v8610 c3_i32_4073
  let v8612 : BitVec 32 := v8611
  let v8614 : Index := Scalar.indexCast v8612
  let c0_4074 : Index := 0#32
  ![Nat.mul 2 v8614.toNat, 0]

def k0_chk384 (v8609 : BitVec 32) : Prop :=
  (8 ∣ (k0_mult386 v8609).toNat) ∧
  (∀ a, (k0_off769 v8609) a + S16x128.size a ≤ S20016x128.size a)
theorem k0_mult386_dvd : ∀ (v8609 : BitVec 32) (k0_hw384 : k0_chk384 v8609), 8 ∣ (k0_mult386 v8609).toNat := fun v8609 k0_hw384 => k0_hw384.1
theorem k0_off769_inb : ∀ (v8609 : BitVec 32) (k0_hw384 : k0_chk384 v8609), ∀ a, (k0_off769 v8609) a + S16x128.size a ≤ S20016x128.size a := fun v8609 k0_hw384 => k0_hw384.2

def k0_off770 (k0_t1 : Fin k0_t1_loop.trips) : Fin 3 → Nat :=
  let c0_i32_1405 : BitVec 32 := 0#32
  let c1_i32_1406 : BitVec 32 := 1#32
  let arg15 : BitVec 32 := Scf.iv c0_i32_1405 c1_i32_1406 k0_t1
  let c2_i32_3115 : BitVec 32 := 2#32
  let v6319 : BitVec 32 := Scalar.muli arg15 c2_i32_3115
  let c64_i32_3116 : BitVec 32 := 64#32
  let v6320 : BitVec 32 := Scalar.muli v6319 c64_i32_3116
  let c127_i32_4077 : BitVec 32 := 127#32
  let v8620 : BitVec 32 := Scalar.addi v6320 c127_i32_4077
  let v8621 : Index := Scalar.indexCast v8620
  let c0_4078 : Index := 0#32
  ![v8621.toNat, 0, 0]
abbrev stage0_0 : Fin 1 → Memref sig .tc .smem S13056 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S12800 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12800x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S64x200 : Shape := ⟨2, ![64, 200]⟩
abbrev S10000x128 : Shape := ⟨2, ![10000, 128]⟩
abbrev S512x256 : Shape := ⟨2, ![512, 256]⟩
abbrev S512x128 : Shape := ⟨2, ![512, 128]⟩
abbrev S512 : Shape := ⟨1, ![512]⟩
abbrev S10000 : Shape := ⟨1, ![10000]⟩
abbrev S_ : Shape := ⟨0, ![]⟩
abbrev S64x200x1 : Shape := ⟨3, ![64, 200, 1]⟩
abbrev S64x200x128 : Shape := ⟨3, ![64, 200, 128]⟩
abbrev S64x200x256 : Shape := ⟨3, ![64, 200, 256]⟩
abbrev S128 : Shape := ⟨1, ![128]⟩
abbrev S256 : Shape := ⟨1, ![256]⟩
abbrev S1x256 : Shape := ⟨2, ![1, 256]⟩
abbrev S3x256 : Shape := ⟨2, ![3, 256]⟩
abbrev S64x200x512 : Shape := ⟨3, ![64, 200, 512]⟩
abbrev S1x1x512 : Shape := ⟨3, ![1, 1, 512]⟩
abbrev S64x128 : Shape := ⟨2, ![64, 128]⟩
abbrev S200x64x512 : Shape := ⟨3, ![200, 64, 512]⟩
abbrev S200x64x128 : Shape := ⟨3, ![200, 64, 128]⟩
abbrev S1x64x512 : Shape := ⟨3, ![1, 64, 512]⟩
abbrev S64x512 : Shape := ⟨2, ![64, 512]⟩
abbrev S128x512 : Shape := ⟨2, ![128, 512]⟩
abbrev S1x512 : Shape := ⟨2, ![1, 512]⟩
abbrev S1x64x128 : Shape := ⟨3, ![1, 64, 128]⟩
abbrev S64x200x10000 : Shape := ⟨3, ![64, 200, 10000]⟩
abbrev S1x1x10000 : Shape := ⟨3, ![1, 1, 10000]⟩
abbrev S64x199 : Shape := ⟨2, ![64, 199]⟩
abbrev S64x199x10000 : Shape := ⟨3, ![64, 199, 10000]⟩
abbrev S64x199x1 : Shape := ⟨3, ![64, 199, 1]⟩
abbrev S64x199x1x1 : Shape := ⟨4, ![64, 199, 1, 1]⟩

abbrev nBuf : Space → Nat
  | .hbm => 161
  | .vmem => 0
  | .smem => 0
  | _ => 0

abbrev hbmTy0_0 (i : Nat) : BufTy := match i % 128 with
  | 0 => ⟨S64x200, .i32⟩
  | 1 => ⟨S64x200, .i32⟩
  | 2 => ⟨S10000x128, .f32⟩
  | 3 => ⟨S512x256, .f32⟩
  | 4 => ⟨S512x128, .f32⟩
  | 5 => ⟨S512, .f32⟩
  | 6 => ⟨S512, .f32⟩
  | 7 => ⟨S10000x128, .f32⟩
  | 8 => ⟨S10000, .f32⟩
  | 9 => ⟨S_, .i32⟩
  | 10 => ⟨S64x200, .i32⟩
  | 11 => ⟨S64x200, .i1⟩
  | 12 => ⟨S_, .i32⟩
  | 13 => ⟨S64x200, .i32⟩
  | 14 => ⟨S64x200, .i32⟩
  | 15 => ⟨S64x200, .i32⟩
  | 16 => ⟨S64x200x1, .i32⟩
  | 17 => ⟨S64x200x128, .f32⟩
  | 18 => ⟨S64x200x256, .f32⟩
  | 19 => ⟨S_, .i32⟩
  | 20 => ⟨S64x200, .i32⟩
  | 21 => ⟨S64x200, .i1⟩
  | 22 => ⟨S_, .i32⟩
  | 23 => ⟨S_, .i32⟩
  | 24 => ⟨S64x200, .i32⟩
  | 25 => ⟨S64x200, .i32⟩
  | 26 => ⟨S_, .f32⟩
  | 27 => ⟨S128, .f32⟩
  | 28 => ⟨S_, .f32⟩
  | 29 => ⟨S128, .f32⟩
  | 30 => ⟨S256, .f32⟩
  | 31 => ⟨S_, .f32⟩
  | 32 => ⟨S128, .f32⟩
  | 33 => ⟨S_, .f32⟩
  | 34 => ⟨S128, .f32⟩
  | 35 => ⟨S256, .f32⟩
  | 36 => ⟨S_, .f32⟩
  | 37 => ⟨S256, .f32⟩
  | 38 => ⟨S1x256, .f32⟩
  | 39 => ⟨S1x256, .f32⟩
  | 40 => ⟨S1x256, .f32⟩
  | 41 => ⟨S3x256, .f32⟩
  | 42 => ⟨S_, .i32⟩
  | 43 => ⟨S64x200, .i32⟩
  | 44 => ⟨S64x200, .i1⟩
  | 45 => ⟨S_, .i32⟩
  | 46 => ⟨S64x200, .i32⟩
  | 47 => ⟨S64x200, .i32⟩
  | 48 => ⟨S64x200, .i32⟩
  | 49 => ⟨S64x200x1, .i32⟩
  | 50 => ⟨S64x200x256, .f32⟩
  | 51 => ⟨S64x200x256, .f32⟩
  | 52 => ⟨S64x200x512, .f32⟩
  | 53 => ⟨S1x1x512, .f32⟩
  | 54 => ⟨S64x200x512, .f32⟩
  | 55 => ⟨S64x200x512, .f32⟩
  | 56 => ⟨S_, .f32⟩
  | 57 => ⟨S64x128, .f32⟩
  | 58 => ⟨S200x64x512, .f32⟩
  | 59 => ⟨S_, .f32⟩
  | 60 => ⟨S200x64x128, .f32⟩
  | 61 => ⟨S_, .i32⟩
  | 62 => ⟨S200x64x512, .f32⟩
  | 63 => ⟨S512x128, .f32⟩
  | 64 => ⟨S512, .f32⟩
  | 65 => ⟨S_, .i32⟩
  | 66 => ⟨S64x128, .f32⟩
  | 67 => ⟨S64x128, .f32⟩
  | 68 => ⟨S200x64x128, .f32⟩
  | 69 => ⟨S_, .i32⟩
  | 70 => ⟨S_, .i1⟩
  | 71 => ⟨S_, .i32⟩
  | 72 => ⟨S_, .i32⟩
  | 73 => ⟨S1x64x512, .f32⟩
  | 74 => ⟨S64x512, .f32⟩
  | 75 => ⟨S128x512, .f32⟩
  | 76 => ⟨S64x512, .f32⟩
  | 77 => ⟨S64x512, .f32⟩
  | 78 => ⟨S1x512, .f32⟩
  | 79 => ⟨S64x512, .f32⟩
  | 80 => ⟨S64x512, .f32⟩
  | 81 => ⟨S64x128, .f32⟩
  | 82 => ⟨S64x128, .f32⟩
  | 83 => ⟨S64x128, .f32⟩
  | 84 => ⟨S64x128, .f32⟩
  | 85 => ⟨S64x128, .f32⟩
  | 86 => ⟨S64x128, .f32⟩
  | 87 => ⟨S_, .f32⟩
  | 88 => ⟨S64x128, .f32⟩
  | 89 => ⟨S64x128, .f32⟩
  | 90 => ⟨S_, .f32⟩
  | 91 => ⟨S64x128, .f32⟩
  | 92 => ⟨S64x128, .f32⟩
  | 93 => ⟨S64x128, .f32⟩
  | 94 => ⟨S64x128, .f32⟩
  | 95 => ⟨S64x128, .f32⟩
  | 96 => ⟨S_, .f32⟩
  | 97 => ⟨S64x128, .f32⟩
  | 98 => ⟨S64x128, .f32⟩
  | 99 => ⟨S_, .f32⟩
  | 100 => ⟨S64x128, .f32⟩
  | 101 => ⟨S64x128, .f32⟩
  | 102 => ⟨S64x128, .f32⟩
  | 103 => ⟨S64x128, .f32⟩
  | 104 => ⟨S64x128, .f32⟩
  | 105 => ⟨S64x128, .f32⟩
  | 106 => ⟨S64x128, .f32⟩
  | 107 => ⟨S_, .f32⟩
  | 108 => ⟨S64x128, .f32⟩
  | 109 => ⟨S64x128, .f32⟩
  | 110 => ⟨S_, .f32⟩
  | 111 => ⟨S64x128, .f32⟩
  | 112 => ⟨S64x128, .f32⟩
  | 113 => ⟨S64x128, .f32⟩
  | 114 => ⟨S64x128, .f32⟩
  | 115 => ⟨S1x64x128, .f32⟩
  | 116 => ⟨S_, .i32⟩
  | 117 => ⟨S_, .i32⟩
  | 118 => ⟨S200x64x128, .f32⟩
  | 119 => ⟨S_, .i32⟩
  | 120 => ⟨S_, .i32⟩
  | 121 => ⟨S64x200x128, .f32⟩
  | 122 => ⟨S64x200x10000, .f32⟩
  | 123 => ⟨S1x1x10000, .f32⟩
  | 124 => ⟨S64x200x10000, .f32⟩
  | 125 => ⟨S64x200x10000, .f32⟩
  | 126 => ⟨S64x200x10000, .f32⟩
  | 127 => ⟨S64x200x10000, .f32⟩
  | _ => ⟨S64x200, .i32⟩

abbrev hbmTy0_1 (i : Nat) : BufTy := match i % 128 with
  | 0 => ⟨S_, .f32⟩
  | 1 => ⟨S64x200x10000, .f32⟩
  | 2 => ⟨S64x200x10000, .f32⟩
  | 3 => ⟨S_, .f32⟩
  | 4 => ⟨S64x200x10000, .f32⟩
  | 5 => ⟨S64x200x10000, .f32⟩
  | 6 => ⟨S64x199, .i32⟩
  | 7 => ⟨S64x199x10000, .f32⟩
  | 8 => ⟨S_, .i32⟩
  | 9 => ⟨S64x199, .i32⟩
  | 10 => ⟨S64x199, .i32⟩
  | 11 => ⟨S_, .i32⟩
  | 12 => ⟨S_, .i32⟩
  | 13 => ⟨S64x199, .i32⟩
  | 14 => ⟨S64x199, .i32⟩
  | 15 => ⟨S64x199x1, .i32⟩
  | 16 => ⟨S_, .i32⟩
  | 17 => ⟨S64x199x1, .i32⟩
  | 18 => ⟨S64x199x1, .i1⟩
  | 19 => ⟨S_, .i32⟩
  | 20 => ⟨S64x199x1, .i32⟩
  | 21 => ⟨S64x199x1, .i32⟩
  | 22 => ⟨S64x199x1, .i32⟩
  | 23 => ⟨S64x199x1x1, .i32⟩
  | 24 => ⟨S64x199x1, .f32⟩
  | 25 => ⟨S64x199, .f32⟩
  | 26 => ⟨S_, .i32⟩
  | 27 => ⟨S64x199, .i32⟩
  | 28 => ⟨S64x199, .i1⟩
  | 29 => ⟨S_, .f32⟩
  | 30 => ⟨S_, .f32⟩
  | 31 => ⟨S64x199, .f32⟩
  | 32 => ⟨S64x199, .f32⟩
  | _ => ⟨S64x200, .i32⟩

abbrev hbmTy (i : Nat) : BufTy := match i / 128 with
  | 0 => hbmTy0_0 i
  | 1 => hbmTy0_1 i
  | _ => ⟨S64x200, .i32⟩

abbrev bufTy : (tb : Table) → Fin (tcTables nBuf tb) → BufTy
  | .hbm, ⟨i, _⟩ => hbmTy i
  | _, _ => ⟨S64x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_c_11 : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_v37_3 : Ref sig .tc := ⟨.hbm, 65, rfl⟩
abbrev main_v37_4 : Ref sig .tc := ⟨.hbm, 66, rfl⟩
abbrev main_v37_5 : Ref sig .tc := ⟨.hbm, 67, rfl⟩
abbrev main_v37_6 : Ref sig .tc := ⟨.hbm, 68, rfl⟩
abbrev main_while0c_c_24 : Ref sig .tc := ⟨.hbm, 69, rfl⟩
abbrev main_while0c_v60 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_v0 : Ref sig .tc := ⟨.hbm, 73, rfl⟩
abbrev main_while0b_v60 : Ref sig .tc := ⟨.hbm, 74, rfl⟩
abbrev main_while0b_v61 : Ref sig .tc := ⟨.hbm, 75, rfl⟩
abbrev main_while0b_v62 : Ref sig .tc := ⟨.hbm, 76, rfl⟩
abbrev main_while0b_v63 : Ref sig .tc := ⟨.hbm, 77, rfl⟩
abbrev main_while0b_v64 : Ref sig .tc := ⟨.hbm, 78, rfl⟩
abbrev main_while0b_v65 : Ref sig .tc := ⟨.hbm, 79, rfl⟩
abbrev main_while0b_v66 : Ref sig .tc := ⟨.hbm, 80, rfl⟩
abbrev main_while0b_v67 : Ref sig .tc := ⟨.hbm, 81, rfl⟩
abbrev main_while0b_v68 : Ref sig .tc := ⟨.hbm, 82, rfl⟩
abbrev main_while0b_v69 : Ref sig .tc := ⟨.hbm, 83, rfl⟩
abbrev main_while0b_v70 : Ref sig .tc := ⟨.hbm, 84, rfl⟩
abbrev main_while0b_v71 : Ref sig .tc := ⟨.hbm, 85, rfl⟩
abbrev main_while0b_v72 : Ref sig .tc := ⟨.hbm, 86, rfl⟩
abbrev main_while0b_cst_24 : Ref sig .tc := ⟨.hbm, 87, rfl⟩
abbrev main_while0b_v73 : Ref sig .tc := ⟨.hbm, 88, rfl⟩
abbrev main_while0b_v74 : Ref sig .tc := ⟨.hbm, 89, rfl⟩
abbrev main_while0b_cst_25 : Ref sig .tc := ⟨.hbm, 90, rfl⟩
abbrev main_while0b_v75 : Ref sig .tc := ⟨.hbm, 91, rfl⟩
abbrev main_while0b_v76 : Ref sig .tc := ⟨.hbm, 92, rfl⟩
abbrev main_while0b_v77 : Ref sig .tc := ⟨.hbm, 93, rfl⟩
abbrev main_while0b_v78 : Ref sig .tc := ⟨.hbm, 94, rfl⟩
abbrev main_while0b_v79 : Ref sig .tc := ⟨.hbm, 95, rfl⟩
abbrev main_while0b_cst_26 : Ref sig .tc := ⟨.hbm, 96, rfl⟩
abbrev main_while0b_v80 : Ref sig .tc := ⟨.hbm, 97, rfl⟩
abbrev main_while0b_v81 : Ref sig .tc := ⟨.hbm, 98, rfl⟩
abbrev main_while0b_cst_27 : Ref sig .tc := ⟨.hbm, 99, rfl⟩
abbrev main_while0b_v82 : Ref sig .tc := ⟨.hbm, 100, rfl⟩
abbrev main_while0b_v83 : Ref sig .tc := ⟨.hbm, 101, rfl⟩
abbrev main_while0b_v84 : Ref sig .tc := ⟨.hbm, 102, rfl⟩
abbrev main_while0b_v85 : Ref sig .tc := ⟨.hbm, 103, rfl⟩
abbrev main_while0b_v86 : Ref sig .tc := ⟨.hbm, 104, rfl⟩
abbrev main_while0b_v87 : Ref sig .tc := ⟨.hbm, 105, rfl⟩
abbrev main_while0b_v88 : Ref sig .tc := ⟨.hbm, 106, rfl⟩
abbrev main_while0b_cst_28 : Ref sig .tc := ⟨.hbm, 107, rfl⟩
abbrev main_while0b_v89 : Ref sig .tc := ⟨.hbm, 108, rfl⟩
abbrev main_while0b_v90 : Ref sig .tc := ⟨.hbm, 109, rfl⟩
abbrev main_while0b_cst_29 : Ref sig .tc := ⟨.hbm, 110, rfl⟩
abbrev main_while0b_v91 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_call2_v0 : Ref sig .tc := ⟨.hbm, 115, rfl⟩
abbrev main_while0b_call2_c : Ref sig .tc := ⟨.hbm, 116, rfl⟩
abbrev main_while0b_call2_c_0 : Ref sig .tc := ⟨.hbm, 117, rfl⟩
abbrev main_while0b_v95 : Ref sig .tc := ⟨.hbm, 118, rfl⟩
abbrev main_while0b_c_30 : Ref sig .tc := ⟨.hbm, 119, rfl⟩
abbrev main_while0b_v96 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_cst_12 : Ref sig .tc := ⟨.hbm, 128, rfl⟩
abbrev main_v45 : Ref sig .tc := ⟨.hbm, 129, rfl⟩
abbrev main_v46 : Ref sig .tc := ⟨.hbm, 130, rfl⟩
abbrev main_cst_13 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_c_14 : Ref sig .tc := ⟨.hbm, 136, rfl⟩
abbrev main_v51 : Ref sig .tc := ⟨.hbm, 137, rfl⟩
abbrev main_v52 : Ref sig .tc := ⟨.hbm, 138, rfl⟩
abbrev main_c_15 : Ref sig .tc := ⟨.hbm, 139, rfl⟩
abbrev main_call3_v0 : Ref sig .tc := ⟨.hbm, 140, rfl⟩
abbrev main_call3_v1 : Ref sig .tc := ⟨.hbm, 141, rfl⟩
abbrev main_v53 : Ref sig .tc := ⟨.hbm, 142, rfl⟩
abbrev main_v54 : Ref sig .tc := ⟨.hbm, 143, rfl⟩
abbrev main_call4_c : Ref sig .tc := ⟨.hbm, 144, rfl⟩
abbrev main_call4_v0 : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_v55 : Ref sig .tc := ⟨.hbm, 152, rfl⟩
abbrev main_v56 : Ref sig .tc := ⟨.hbm, 153, rfl⟩
abbrev main_c_16 : Ref sig .tc := ⟨.hbm, 154, rfl⟩
abbrev main_v57 : Ref sig .tc := ⟨.hbm, 155, rfl⟩
abbrev main_v58 : Ref sig .tc := ⟨.hbm, 156, rfl⟩
abbrev main_cst_17 : Ref sig .tc := ⟨.hbm, 157, rfl⟩
abbrev main_call5_v0 : Ref sig .tc := ⟨.hbm, 158, rfl⟩
abbrev main_call5_v1 : Ref sig .tc := ⟨.hbm, 159, rfl⟩
abbrev main_v59 : Ref sig .tc := ⟨.hbm, 160, rfl⟩

abbrev nD : Nat := 1
abbrev τ : Topo := Topo.v7x

variable {F : FTy → Type} [FloatOps F]

abbrev main_while0_count : Scf.Loop 32 := ⟨0#32, 200#32, 1#32⟩
-- ==== Proof.TripKernel.lean ====
import proofs.«01_k».proof.Proof.Gen.Kernel.Skeleton
import Idealize.ShloMosaic.Lib.Exec
import Idealize.ShloMosaic.Lib.Tactic
import Idealize.ShloMosaic.Lib.Pipeline.Kit
import Idealize.ShloMosaic.Lib.Pipeline.FrameSuffix

/-! One trip of the kernel's counted loop, over a symbolic trip number. -/

set_option maxRecDepth 16384
set_option maxHeartbeats 40000000
set_option synthInstance.maxHeartbeats 0

noncomputable section

namespace Cert.Kernel.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄" => MT nD τ sig Unit (Elt F) ℕ (Pipeline.UD sig nD τ) ℕ

/-- Rounding an index down to a multiple of eight gives a multiple of eight, no larger than the index. -/
theorem round8 {v : BitVec 32} (h : v.toNat < 2 ^ 31) :
    (Scalar.shli (Scalar.shrsi v 3#32) 3#32).toNat = 8 * (v.toNat / 8) := by
  have h1 : (Scalar.shrsi v 3#32).toNat = v.toNat / 8 := by
    have : v.msb = false := by
      rw [BitVec.msb_eq_false_iff_two_mul_lt]; omega
    simp [Scalar.shrsi, IntOp.shrsi, BitVec.sshiftRight_eq_of_msb_false this, BitVec.toNat_ushiftRight, Nat.shiftRight_eq_div_pow]
  simp [Scalar.shli, IntOp.shli, BitVec.toNat_shiftLeft, h1, Nat.shiftLeft_eq]
  omega

/-- A rounded index is a multiple of eight. -/
theorem round8_dvd {v : BitVec 32} (h : v.toNat < 2 ^ 31) : 8 ∣ (k0_mult1 v).toNat :=
  (round8 h : (k0_mult1 v).toNat = _) ▸ Dvd.intro _ rfl

/-- An index of either table is a small number. -/
theorem word_lt {n : ℕ} (h : n ≤ 20008) : n < 2 ^ 31 := Nat.lt_of_le_of_lt h (by decide)

/-- The rows a gather of the exercise table reads lie inside the table. -/
theorem rowsE_in (a : Fin S8x128.rank) {v : BitVec 32} (h : v.toNat ≤ 20008) :
    k0_off1 v a + S8x128.size a ≤ S20016x128.size a := by
  have hr := round8 (v := v) (by omega)
  fin_cases a
  · show (Scalar.shli (Scalar.shrsi v 3#32) 3#32).toNat + 8 ≤ 20016
    rw [hr]; omega
  · exact Nat.le_refl _

/-- The rows a gather of the output weights reads lie inside the table. -/
theorem rowsW_in (a : Fin S16x128.rank) {v : BitVec 32} (h : v.toNat ≤ 10000) :
    k0_off388 v a + S16x128.size a ≤ S20016x128.size a := by
  have hr := round8 (v := v) (by omega)
  fin_cases a
  · show 2 * (Scalar.shli (Scalar.shrsi v 3#32) 3#32).toNat + 16 ≤ 20016
    rw [hr]; omega
  · exact Nat.le_refl _

/-- What one trip touches: what it reads, at its contents, and what it writes. -/
abbrev Held (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x128 .i32) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x128 .i32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- One trip of the loop: what it carries on and the pieces it writes. -/
def trip (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Σ' (R : FVec F S64x128 .f32 × FVec F S64x128 .f32) (L10 : List (View.Piece (Elt F) S64x256 .f32)) (L11 : List (View.Piece (Elt F) S64x256 .f32)) (L12 : List (View.Piece (Elt F) S12800x128 .f32)),
      { L13 : List (View.Piece (Elt F) S12800x128 .i32) // ∀ (E : Set ℕ),
      Held (F := F) c arg0 arg1 arg2 arg3 arg4 arg8 arg9 arg10 arg11 arg12 arg13 X0 X1 X2 X3 X4 X8 X9 f10 f11 f12 f13
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 v2811 v2818 k acc)
          (fun yld => iprop(⌜yld = R⌝ ∗ Held (F := F) c arg0 arg1 arg2 arg3 arg4 arg8 arg9 arg10 arg11 arg12 arg13 X0 X1 X2 X3 X4 X8 X9 (arg10.view.writes (Elt F) f10 L10) (arg11.view.writes (Elt F) f11 L11) (arg12.view.writes (Elt F) f12 L12) (arg13.view.writes (Elt F) f13 L13))) } := by
  have hk : k.val < 100 := Nat.lt_of_lt_of_le k.isLt k0_t1_abs.2.1
  refine ⟨?_, ?_, ?_, ?_, ?_, fun E => ?run⟩
  case run =>
    unfold k0_t1_body
    iintro ⟨HR0, HR1, HR2, HR3, HR4, HR8, HR9, HW10, HW11, HW12, HW13⟩
    sl_exec (disch := refine ⟨round8_dvd (word_lt ?_), fun a => ?_⟩; first
      | (· sl_unfold_run_names; with_reducible exact hE _ _); refine rowsE_in a ?_; sl_unfold_run_names; with_reducible exact hE _ _
      | (· sl_unfold_run_names; with_reducible exact (Nat.le_trans (hW _ _) (by decide))); refine rowsW_in a ?_; sl_unfold_run_names; with_reducible exact hW _ _)
    sl_step
    sl_close

end Cert.Kernel.Dkt
-- ==== Proof.TargetKernel.lean ====
import proofs.«01_k».proof.Proof.TripKernel
import Idealize.ShloMosaic.Lib.Writes
import Idealize.ShloMosaic.Lib.WholeRead

/-! What the kernel's buffers hold, written as functions of the tables and the index words. -/

set_option maxRecDepth 16384
set_option maxHeartbeats 4000000

noncomputable section

namespace Cert.Kernel.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

/-- A multi-index of two axes. -/
def ix2 {s : Fin 2 → ℕ} (a : Fin (s 0)) (b : Fin (s 1)) : Shape.Idx ⟨2, s⟩ := fun i => match i with | ⟨0, _⟩ => a | ⟨1, _⟩ => b

/-- A multi-index of three axes. -/
def ix3 {s : Fin 3 → ℕ} (a : Fin (s 0)) (b : Fin (s 1)) (d : Fin (s 2)) : Shape.Idx ⟨3, s⟩ :=
  fun i => match i with | ⟨0, _⟩ => a | ⟨1, _⟩ => b | ⟨2, _⟩ => d

/-- The index word at a position, zero past the end. -/
def wordAt {N : ℕ} (e : Shape.Idx ⟨1, ![N]⟩ → BitVec 32) (n : ℕ) : BitVec 32 :=
  if h : n < N then e (fun i => match i with | ⟨0, _⟩ => ⟨n, h⟩) else 0#32

/-- The eight table rows around the row a word names. -/
def winE (E8 : S20016x128.Idx → Elt F .i32) (w : BitVec 32) : Vec F S8x128 .i32 :=
  fun x => if h : ∀ a, k0_off1 w a + S8x128.size a ≤ S20016x128.size a then
    E8 ((Rect.unit (s := S20016x128) (k0_off1 w) S8x128.size h).toLoadRect.idx x) else E8 (Shape.Idx.first (by decide))

/-- The sixteen table rows around the row a word names. -/
def winW (E9 : S20016x128.Idx → Elt F .bf16) (w : BitVec 32) : Vec F S16x128 .bf16 :=
  fun x => if h : ∀ a, k0_off388 w a + S16x128.size a ≤ S20016x128.size a then
    E9 ((Rect.unit (s := S20016x128) (k0_off388 w) S16x128.size h).toLoadRect.idx x) else E9 (Shape.Idx.first (by decide))

/-- The network's input at a time step: for each batch row, the gathered table row. -/
def GX (e : S13056.Idx → BitVec 32) (E8 : S20016x128.Idx → Elt F .i32) (s : ℕ) : Vec F S64x256 .f32 := fun y =>
  if h : (y 1).val < 128 then k0_pay214 (wordAt e (64 * s + (y 0).val)) (winE E8 (wordAt e (64 * s + (y 0).val))) (ix2 (0 : Fin 1) (⟨(y 1).val, h⟩ : Fin 128))
  else k0_pay215 (wordAt e (64 * s + (y 0).val)) (winE E8 (wordAt e (64 * s + (y 0).val)))
    (ix2 (0 : Fin 1) (⟨(y 1).val - 128, by have : (y 1).val < 256 := (y 1).isLt; omega⟩ : Fin 128))

/-- The output weights, one gathered row for every time step and batch row. -/
def WT (e : S12800.Idx → BitVec 32) (E9 : S20016x128.Idx → Elt F .bf16) : Vec F S12800x128 .i32 := fun y =>
  k0_pay432 (wordAt e (y 0).val) (winW E9 (wordAt e (y 0).val)) (ix2 (0 : Fin 1) (y 1 : Fin 128))

/-- One step of the network. -/
def cell (W2 : Vec F S256x512 .f32) (W3 : Vec F S128x512 .f32) (W4 : Vec F S1x512 .f32) (x : Vec F S64x256 .f32)
    (hc : FVec F S64x128 .f32 × FVec F S64x128 .f32) : FVec F S64x128 .f32 × FVec F S64x128 .f32 :=
  (k0_pay4 hc.1 hc.2 x W2 W3 W4, k0_pay3 hc.1 hc.2 x W2 W3 W4)

/-- The state after a number of steps. -/
def state (W2 : Vec F S256x512 .f32) (W3 : Vec F S128x512 .f32) (W4 : Vec F S1x512 .f32) (x : ℕ → Vec F S64x256 .f32)
    (z : FVec F S64x128 .f32 × FVec F S64x128 .f32) : ℕ → FVec F S64x128 .f32 × FVec F S64x128 .f32
  | 0 => z
  | s + 1 => cell W2 W3 W4 (x s) (state W2 W3 W4 x z s)

/-- All hidden states, one block of 64 rows for every step. -/
def HS (st : ℕ → FVec F S64x128 .f32 × FVec F S64x128 .f32) : Vec F S12800x128 .f32 := fun y =>
  (st ((y 0).val / 64 + 1)).1 (ix2 (⟨(y 0).val % 64, Nat.mod_lt _ (by decide)⟩ : Fin 64) (y 1 : Fin 128))

theorem readAt_word {N : ℕ} {sp : Space} (m : Memref sig .tc sp ⟨1, ![N]⟩ .i32) (X : BufTy.Contents (Elt F) m.view.ty) (off : Fin 1 → ℕ) (inb) (n : ℕ) (h : off 0 = n)
    (z : (Rect.unit (s := ⟨1, ![N]⟩) off S1.size inb).toLoadRect.shape.Idx) :
    m.view.readAt (Elt F) (Rect.unit (s := ⟨1, ![N]⟩) off S1.size inb).toLoadRect X z = wordAt (m.view.read (Elt F) X) n := by
  have hn : n < N := by have := inb 0; rw [h] at this; exact this
  rw [View.readAt_apply, wordAt, dif_pos hn]
  congr 1
  funext i
  have h0 : i = 0 := Subsingleton.elim _ _
  subst h0
  refine Fin.ext ?_
  have hz : (z 0).val = 0 := Nat.lt_one_iff.1 (z 0).isLt
  show off 0 + 1 * (z 0).val = n
  rw [hz, h]; rfl

theorem readAt_winE {sp : Space} (m : Memref sig .tc sp S20016x128 .i32) (X : BufTy.Contents (Elt F) m.view.ty) (w : BitVec 32) (inb) :
    m.view.readAt (Elt F) (Rect.unit (s := S20016x128) (k0_off1 w) S8x128.size inb).toLoadRect X = winE (m.view.read (Elt F) X) w := by
  funext x
  rw [winE, dif_pos inb]; rfl

theorem readAt_winW {sp : Space} (m : Memref sig .tc sp S20016x128 .bf16) (X : BufTy.Contents (Elt F) m.view.ty) (w : BitVec 32) (inb) :
    m.view.readAt (Elt F) (Rect.unit (s := S20016x128) (k0_off388 w) S16x128.size inb).toLoadRect X = winW (m.view.read (Elt F) X) w := by
  funext x
  rw [winW, dif_pos inb]; rfl

theorem readAt_full {d : Fin 2 → ℕ} {e : EltTy} {sp : Space} (m : Memref sig .tc sp ⟨2, d⟩ e) (X : BufTy.Contents (Elt F) m.view.ty) (inb) :
    m.view.readAt (Elt F) (Rect.unit (s := ⟨2, d⟩) ![0, 0] d inb).toLoadRect X = m.view.read (Elt F) X := by
  funext x
  rw [View.readAt_apply]
  congr 1
  funext a
  refine Fin.ext ?_
  show (![0, 0] : Fin 2 → ℕ) a + 1 * (x a).val = (x a).val
  fin_cases a <;> simp

/-- Writes to an input buffer which go row by row, high half before low half, each agreeing with a target. -/
inductive Pairs (G : Vec F S64x256 .f32) : List (View.Piece (Elt F) S64x256 .f32) → ℕ → Prop
  | nil : Pairs G [] 0
  | cons {n : ℕ} {L inb1 inb0} {vh vl : Vec F S1x128 .f32} :
      (∀ x, vh x = G ((Rect.unit (s := S64x256) ![n, 128] S1x128.size inb1).emb x)) →
      (∀ x, vl x = G ((Rect.unit (s := S64x256) ![n, 0] S1x128.size inb0).emb x)) → Pairs G L n →
      Pairs G (⟨Rect.unit (s := S64x256) ![n, 128] S1x128.size inb1, vh⟩ :: ⟨Rect.unit (s := S64x256) ![n, 0] S1x128.size inb0, vl⟩ :: L) (n + 1)

theorem Pairs.agree {G : Vec F S64x256 .f32} {L n} (h : Pairs G L n) : ∀ p ∈ L, ∀ x, p.2 x = G (p.1.emb x) := by
  induction h with
  | nil => intro p hp; cases hp
  | cons h1 h0 _ ih => exact List.forall_mem_cons.2 ⟨h1, List.forall_mem_cons.2 ⟨h0, ih⟩⟩

theorem Pairs.cover {G : Vec F S64x256 .f32} {L n} (h : Pairs G L n) (y : S64x256.Idx) (hy : (y 0).val < n) : ∃ p ∈ L, y ∈ p.1.set := by
  induction h with
  | nil => omega
  | @cons n L inb1 inb0 vh vl h1 h0 _ ih =>
    by_cases hn : (y 0).val < n
    · obtain ⟨p, hp, hm⟩ := ih hn
      exact ⟨p, .tail _ (.tail _ hp), hm⟩
    · have hc : (y 1).val < 256 := (y 1).isLt
      by_cases hl : (y 1).val < 128
      · refine ⟨⟨Rect.unit (s := S64x256) ![n, 0] S1x128.size inb0, vl⟩, .tail _ (.head _), (Rect.mem_set_unit (inb := inb0)).2 fun a => ?_⟩
        fin_cases a
        · exact ⟨by show n ≤ (y 0).val; omega, by show (y 0).val < n + 1; omega⟩
        · exact ⟨by show 0 ≤ (y 1).val; omega, by show (y 1).val < 0 + 128; omega⟩
      · refine ⟨⟨Rect.unit (s := S64x256) ![n, 128] S1x128.size inb1, vh⟩, .head _, (Rect.mem_set_unit (inb := inb1)).2 fun a => ?_⟩
        fin_cases a
        · exact ⟨by show n ≤ (y 0).val; omega, by show (y 0).val < n + 1; omega⟩
        · exact ⟨by show 128 ≤ (y 1).val; omega, by show (y 1).val < 128 + 128; omega⟩

theorem Pairs.read {G : Vec F S64x256 .f32} {L} (h : Pairs G L 64) {sp : Space} (m : Memref sig .tc sp S64x256 .f32) (f : BufTy.Contents (Elt F) m.view.ty) :
    m.view.read (Elt F) (m.view.writes (Elt F) f L) = G :=
  funext fun y => View.read_writes_apply_of_pieces m.view f G L h.agree y (h.cover y (y 0).isLt)

/-- A gathered row, stored in its two halves, agrees with the input at its step. -/
theorem pair (arg0 : Memref sig .tc .smem S13056 .i32) (X0 : BufTy.Contents (Elt F) arg0.view.ty)
    (arg8 : Memref sig .tc .vmem S20016x128 .i32) (X8 : BufTy.Contents (Elt F) arg8.view.ty) (s n : ℕ) {L inb1 inb0}
    (off : Fin 1 → ℕ) (inb) (z) (w : BitVec 32) (hw : w = arg0.view.readAt (Elt F) (Rect.unit (s := S13056) off S1.size inb).toLoadRect X0 z)
    (inb') (raw : Vec F S8x128 .i32) (hraw : raw = arg8.view.readAt (Elt F) (Rect.unit (s := S20016x128) (k0_off1 w) S8x128.size inb').toLoadRect X8)
    (h : off 0 = 64 * s + n) (hL : Pairs (GX (arg0.view.read (Elt F) X0) (arg8.view.read (Elt F) X8) s) L n) :
    Pairs (GX (arg0.view.read (Elt F) X0) (arg8.view.read (Elt F) X8) s)
      (⟨Rect.unit (s := S64x256) ![n, 128] S1x128.size inb1, k0_pay215 w raw⟩ :: ⟨Rect.unit (s := S64x256) ![n, 0] S1x128.size inb0, k0_pay214 w raw⟩ :: L) (n + 1) := by
  rw [readAt_winE] at hraw
  rw [readAt_word arg0 X0 off inb _ h] at hw
  subst hraw; subst hw
  refine .cons (fun x => ?_) (fun x => ?_) hL
  · have hr : (x 0).val = 0 := Nat.lt_one_iff.1 (x 0).isLt
    have hx : (x 1).val < 128 := (x 1).isLt
    have e0 : (((Rect.unit (s := S64x256) ![n, 128] S1x128.size inb1).emb x) 0).val = n := by
      show n + 1 * (x 0).val = n
      omega
    have e1 : (((Rect.unit (s := S64x256) ![n, 128] S1x128.size inb1).emb x) 1).val = 128 + (x 1).val := by
      show 128 + 1 * (x 1).val = _
      omega
    rw [GX, dif_neg (by omega)]
    rw [e0]
    congr 1
    funext a
    fin_cases a
    · exact Subsingleton.elim (α := Fin 1) _ _
    · exact Fin.ext (show (x 1).val = _ - 128 by rw [e1]; omega)
  · have hr : (x 0).val = 0 := Nat.lt_one_iff.1 (x 0).isLt
    have hx : (x 1).val < 128 := (x 1).isLt
    have e0 : (((Rect.unit (s := S64x256) ![n, 0] S1x128.size inb0).emb x) 0).val = n := by
      show n + 1 * (x 0).val = n
      omega
    have e1 : (((Rect.unit (s := S64x256) ![n, 0] S1x128.size inb0).emb x) 1).val = (x 1).val := by
      show 0 + 1 * (x 1).val = _
      omega
    rw [GX, dif_pos (by omega)]
    rw [e0]
    congr 1
    funext a
    fin_cases a
    · exact Subsingleton.elim (α := Fin 1) _ _
    · exact Fin.ext (show (x 1).val = _ by rw [← e1]; rfl)

/-- Writes of gathered output weights which go row by row from a base row on, each agreeing with a target. -/
inductive Rows (G : Vec F S12800x128 .i32) (b : ℕ) : List (View.Piece (Elt F) S12800x128 .i32) → ℕ → Prop
  | nil : Rows G b [] 0
  | cons {n : ℕ} {L off inb} {v : Vec F S1x128 .i32} : off 0 = b + n → off 1 = 0 →
      (∀ x, v x = G ((Rect.unit (s := S12800x128) off S1x128.size inb).emb x)) → Rows G b L n →
      Rows G b (⟨Rect.unit (s := S12800x128) off S1x128.size inb, v⟩ :: L) (n + 1)

theorem Rows.agree {G : Vec F S12800x128 .i32} {b L n} (h : Rows G b L n) : ∀ p ∈ L, ∀ x, p.2 x = G (p.1.emb x) := by
  induction h with
  | nil => intro p hp; cases hp
  | cons _ _ h1 _ ih => exact List.forall_mem_cons.2 ⟨h1, ih⟩

theorem Rows.cover {G : Vec F S12800x128 .i32} {b L n} (h : Rows G b L n) (y : S12800x128.Idx) (hb : b ≤ (y 0).val) (hy : (y 0).val < b + n) : ∃ p ∈ L, y ∈ p.1.set := by
  induction h with
  | nil => omega
  | @cons n L off inb v h0 h1 _ _ ih =>
    by_cases hn : (y 0).val < b + n
    · obtain ⟨p, hp, hm⟩ := ih hn
      exact ⟨p, .tail _ hp, hm⟩
    · refine ⟨⟨Rect.unit (s := S12800x128) off S1x128.size inb, v⟩, .head _, (Rect.mem_set_unit (inb := inb)).2 fun a => ?_⟩
      fin_cases a
      · exact ⟨by show off 0 ≤ (y 0).val; omega, by show (y 0).val < off 0 + 1; omega⟩
      · exact ⟨by have := h1; show off 1 ≤ _; omega, by have := (y 1).isLt; show (y 1).val < off 1 + 128; rw [h1]; have : (y 1).val < 128 := (y 1).isLt; omega⟩

/-- One gathered row of output weights agrees with its target. -/
theorem rowOf (arg1 : Memref sig .tc .smem S12800 .i32) (X1 : BufTy.Contents (Elt F) arg1.view.ty)
    (arg9 : Memref sig .tc .vmem S20016x128 .bf16) (X9 : BufTy.Contents (Elt F) arg9.view.ty) (b n : ℕ) {L off inb}
    (offw : Fin 1 → ℕ) (inbw) (z) (w : BitVec 32) (hw : w = arg1.view.readAt (Elt F) (Rect.unit (s := S12800) offw S1.size inbw).toLoadRect X1 z)
    (inb') (raw : Vec F S16x128 .bf16) (hraw : raw = arg9.view.readAt (Elt F) (Rect.unit (s := S20016x128) (k0_off388 w) S16x128.size inb').toLoadRect X9)
    (h : offw 0 = b + n) (h0 : off 0 = b + n) (h1 : off 1 = 0)
    (hL : Rows (WT (arg1.view.read (Elt F) X1) (arg9.view.read (Elt F) X9)) b L n) :
    Rows (WT (arg1.view.read (Elt F) X1) (arg9.view.read (Elt F) X9)) b
      (⟨Rect.unit (s := S12800x128) off S1x128.size inb, k0_pay432 w raw⟩ :: L) (n + 1) := by
  rw [readAt_winW] at hraw
  rw [readAt_word arg1 X1 offw inbw _ h] at hw
  subst hraw; subst hw
  refine .cons h0 h1 (fun x => ?_) hL
  have hr : (x 0).val = 0 := Nat.lt_one_iff.1 (x 0).isLt
  have e0 : (((Rect.unit (s := S12800x128) off S1x128.size inb).emb x) 0).val = b + n := by
    show off 0 + 1 * (x 0).val = b + n
    omega
  rw [WT, e0]
  congr 1
  funext a
  fin_cases a
  · exact Subsingleton.elim (α := Fin 1) _ _
  · exact Fin.ext (show (x 1).val = off 1 + 1 * (x 1).val by rw [h1]; omega)

/-- Writes agreeing with a target keep a buffer agreeing with it wherever it did, and make it agree where they reach. -/
theorem read_grow {s : Shape} {e : EltTy} {sp : Space} (m : Memref sig .tc sp s e) (f : BufTy.Contents (Elt F) m.view.ty) (G : Vec F s e) (L : List (View.Piece (Elt F) s e))
    (hG : ∀ p ∈ L, ∀ x, p.2 x = G (p.1.emb x)) (y : s.Idx) (h : (∃ p ∈ L, y ∈ p.1.set) ∨ m.view.read (Elt F) f y = G y) :
    m.view.read (Elt F) (m.view.writes (Elt F) f L) y = G y := by
  by_cases hc : ∃ p ∈ L, y ∈ p.1.set
  · exact View.read_writes_apply_of_pieces m.view f G L hG y hc
  · rw [View.read_writes_apply_of_forall_not_mem m.view f y L (fun p hp hm => hc ⟨p, hp, hm⟩)]
    exact h.resolve_left hc

/-- A block of hidden states, stored at its rows, agrees with them all. -/
theorem block_HS (st : ℕ → FVec F S64x128 .f32 × FVec F S64x128 .f32) (s : ℕ) (off : Fin 2 → ℕ) (inb) (h0 : off 0 = 64 * s) (h1 : off 1 = 0)
    (v : Vec F S64x128 .f32) (hv : v = (st (s + 1)).1) (x) :
    v x = HS st ((Rect.unit (s := S12800x128) off S64x128.size inb).emb x) := by
  subst hv
  have hx : (x 0).val < 64 := (x 0).isLt
  have e0 : (((Rect.unit (s := S12800x128) off S64x128.size inb).emb x) 0).val = 64 * s + (x 0).val := by
    show off 0 + 1 * (x 0).val = _
    omega
  rw [HS]
  have hd : (((Rect.unit (s := S12800x128) off S64x128.size inb).emb x) 0).val / 64 = s := by rw [e0]; omega
  rw [hd]
  refine congrArg (st (s + 1)).1 (funext fun a => ?_)
  fin_cases a
  · exact Fin.ext (show (x 0).val = _ % 64 by rw [e0]; omega)
  · exact Fin.ext (show (x 1).val = off 1 + 1 * (x 1).val by rw [h1]; omega)

end Cert.Kernel.Dkt
-- ==== Proof.LoopKernel.lean ====
import proofs.«01_k».proof.Proof.TargetKernel

/-! What one trip of the counted loop leaves in the buffers. -/

set_option maxRecDepth 16384
set_option maxHeartbeats 4000000
set_option synthInstance.maxHeartbeats 0

noncomputable section

namespace Cert.Kernel.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄" => MT nD τ sig Unit (Elt F) ℕ (Pipeline.UD sig nD τ) ℕ

/-- Two chains of index arithmetic with one closed form agree. -/
theorem off_eq {n m : ℕ} (off : Fin (n + 1) → ℕ) [C : ClosedOff off] (h : C.form 0 = m) : off 0 = m :=
  (congrFun C.eq 0).trans h

/-- The input the trip leaves for its first step's successor. -/
theorem trip_10 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Pairs (GX (arg0.view.read (Elt F) X0) (arg8.view.read (Elt F) X8) (2 * k.val + 2)) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.1 64 := by
  unfold trip
  dsimp only
  repeat' (first
    | exact Pairs.nil
    | refine pair arg0 X0 arg8 X8 (2 * k.val + 2) _ _ _ _ _ rfl _ _ rfl (off_eq _ ?_) ?_
    | (show 128 * k.val + _ = _; omega))

/-- The input the trip leaves for its second step's successor. -/
theorem trip_11 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Pairs (GX (arg0.view.read (Elt F) X0) (arg8.view.read (Elt F) X8) (2 * k.val + 3)) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.2.1 64 := by
  unfold trip
  dsimp only
  repeat' (first
    | exact Pairs.nil
    | refine pair arg0 X0 arg8 X8 (2 * k.val + 3) _ _ _ _ _ rfl _ _ rfl (off_eq _ ?_) ?_
    | (show 128 * k.val + _ = _; omega))

/-- A gathered row whose payload is one function of the word and the window. -/
theorem rowC (arg1 : Memref sig .tc .smem S12800 .i32) (X1 : BufTy.Contents (Elt F) arg1.view.ty)
    (arg9 : Memref sig .tc .vmem S20016x128 .bf16) (X9 : BufTy.Contents (Elt F) arg9.view.ty) (b n : ℕ) {L off inb}
    (offw : Fin 1 → ℕ) (inbw) (z) (w : Elt F .i32) (inb') (raw : Vec F S16x128 .bf16) (f : Elt F .i32 → Vec F S16x128 .bf16 → IVec S1x128 32) (hf : ∀ w r, f w r = k0_pay432 (F := F) w r)
    (hw : w = arg1.view.readAt (Elt F) (Rect.unit (s := S12800) offw S1.size inbw).toLoadRect X1 z)
    (hraw : raw = arg9.view.readAt (Elt F) (Rect.unit (s := S20016x128) (k0_off388 w) S16x128.size inb').toLoadRect X9)
    (h : offw 0 = b + n) (h0 : off 0 = b + n) (h1 : off 1 = 0)
    (hL : Rows (WT (arg1.view.read (Elt F) X1) (arg9.view.read (Elt F) X9)) b L n) :
    Rows (WT (arg1.view.read (Elt F) X1) (arg9.view.read (Elt F) X9)) b
      (⟨Rect.unit (s := S12800x128) off S1x128.size inb, f w raw⟩ :: L) (n + 1) := by
  rw [hf]
  exact rowOf arg1 X1 arg9 X9 b n offw inbw z w hw inb' raw hraw h h0 h1 hL

/-- A gathered row whose payload is a function of the row cut out before it. -/
theorem rowA (arg1 : Memref sig .tc .smem S12800 .i32) (X1 : BufTy.Contents (Elt F) arg1.view.ty)
    (arg9 : Memref sig .tc .vmem S20016x128 .bf16) (X9 : BufTy.Contents (Elt F) arg9.view.ty) (b n : ℕ) {L off inb}
    (offw : Fin 1 → ℕ) (inbw) (z) (w : Elt F .i32) (inb') (raw : Vec F S16x128 .bf16) {t : Shape} (f : IVec t 32 → IVec S1x128 32) (g : Elt F .i32 → Vec F S16x128 .bf16 → IVec t 32)
    (hf : ∀ w r, f (g w r) = k0_pay432 (F := F) w r)
    (hw : w = arg1.view.readAt (Elt F) (Rect.unit (s := S12800) offw S1.size inbw).toLoadRect X1 z)
    (hraw : raw = arg9.view.readAt (Elt F) (Rect.unit (s := S20016x128) (k0_off388 w) S16x128.size inb').toLoadRect X9)
    (h : offw 0 = b + n) (h0 : off 0 = b + n) (h1 : off 1 = 0)
    (hL : Rows (WT (arg1.view.read (Elt F) X1) (arg9.view.read (Elt F) X9)) b L n) :
    Rows (WT (arg1.view.read (Elt F) X1) (arg9.view.read (Elt F) X9)) b
      (⟨Rect.unit (s := S12800x128) off S1x128.size inb, f (g w raw)⟩ :: L) (n + 1) :=
  rowC arg1 X1 arg9 X9 b n offw inbw z w inb' raw (fun w r => f (g w r)) hf hw hraw h h0 h1 hL

/-- A gathered row whose payload is a function of the window read as words before it. -/
theorem rowB (arg1 : Memref sig .tc .smem S12800 .i32) (X1 : BufTy.Contents (Elt F) arg1.view.ty)
    (arg9 : Memref sig .tc .vmem S20016x128 .bf16) (X9 : BufTy.Contents (Elt F) arg9.view.ty) (b n : ℕ) {L off inb}
    (offw : Fin 1 → ℕ) (inbw) (z) (w : Elt F .i32) (inb') (raw : Vec F S16x128 .bf16) (f : Elt F .i32 → IVec S8x128 32 → BitVec 32 → IVec S1x128 32) (g : Vec F S16x128 .bf16 → IVec S8x128 32) (q : BitVec 32)
    (hf : ∀ w r, f w (g r) q = k0_pay432 (F := F) w r)
    (hw : w = arg1.view.readAt (Elt F) (Rect.unit (s := S12800) offw S1.size inbw).toLoadRect X1 z)
    (hraw : raw = arg9.view.readAt (Elt F) (Rect.unit (s := S20016x128) (k0_off388 w) S16x128.size inb').toLoadRect X9)
    (h : offw 0 = b + n) (h0 : off 0 = b + n) (h1 : off 1 = 0)
    (hL : Rows (WT (arg1.view.read (Elt F) X1) (arg9.view.read (Elt F) X9)) b L n) :
    Rows (WT (arg1.view.read (Elt F) X1) (arg9.view.read (Elt F) X9)) b
      (⟨Rect.unit (s := S12800x128) off S1x128.size inb, f w (g raw) q⟩ :: L) (n + 1) :=
  rowC arg1 X1 arg9 X9 b n offw inbw z w inb' raw (fun w r => f w (g r) q) hf hw hraw h h0 h1 hL

/-- The output weights the trip gathers. -/
theorem trip_13 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Rows (WT (arg1.view.read (Elt F) X1) (arg9.view.read (Elt F) X9)) (128 * k.val) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.2.2.2.1 128 := by
  unfold trip
  dsimp only
  sl_unfold_run_names
  repeat' (first
    | exact Rows.nil
    | (with_reducible apply rowC arg1 X1 arg9 X9 (128 * k.val)
       case hf => exact fun _ _ => rfl
       case hw => exact rfl
       case hraw => exact rfl
       case h => exact off_eq _ rfl
       case h0 => exact off_eq _ rfl
       case h1 => exact congrFun ClosedOff.eq 1)
    | (with_reducible apply rowA arg1 X1 arg9 X9 (128 * k.val)
       case hf => exact fun _ _ => rfl
       case hw => exact rfl
       case hraw => exact rfl
       case h => exact off_eq _ rfl
       case h0 => exact off_eq _ rfl
       case h1 => exact congrFun ClosedOff.eq 1)
    | (with_reducible apply rowB arg1 X1 arg9 X9 (128 * k.val)
       case hf => exact fun _ _ => rfl
       case hw => exact rfl
       case hraw => exact rfl
       case h => exact off_eq _ rfl
       case h0 => exact off_eq _ rfl
       case h1 => exact congrFun ClosedOff.eq 1))

end Cert.Kernel.Dkt
-- ==== Proof.InvariantKernel.lean ====
import proofs.«01_k».proof.Proof.LoopKernel

/-! The counted loop, by its invariant. -/

set_option maxRecDepth 16384
set_option maxHeartbeats 4000000
set_option synthInstance.maxHeartbeats 0

noncomputable section

namespace Cert.Kernel.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄" => MT nD τ sig Unit (Elt F) ℕ (Pipeline.UD sig nD τ) ℕ

/-- The state the trip hands on is two steps further. -/
theorem trip_acc (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).1 = cell (arg2.view.read (Elt F) X2) (arg3.view.read (Elt F) X3) (arg4.view.read (Elt F) X4) (arg11.view.read (Elt F) f11) (cell (arg2.view.read (Elt F) X2) (arg3.view.read (Elt F) X3) (arg4.view.read (Elt F) X4) (arg10.view.read (Elt F) f10) acc) := by
  unfold trip
  dsimp only
  sl_unfold_run_names
  simp only [readAt_full]
  rfl

/-- The two blocks of hidden states the trip stores. -/
theorem trip_12 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    ∃ v1 v0 : Vec F S64x128 .f32, (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.2.2.1
        = [⟨Rect.unit (s := S12800x128) (k0_off258 k) S64x128.size (k0_off258_inb k), v1⟩, ⟨Rect.unit (s := S12800x128) (k0_off129 k) S64x128.size (k0_off129_inb k), v0⟩]
      ∧ v1 = (cell (arg2.view.read (Elt F) X2) (arg3.view.read (Elt F) X3) (arg4.view.read (Elt F) X4) (arg11.view.read (Elt F) f11) (cell (arg2.view.read (Elt F) X2) (arg3.view.read (Elt F) X3) (arg4.view.read (Elt F) X4) (arg10.view.read (Elt F) f10) acc)).1
      ∧ v0 = (cell (arg2.view.read (Elt F) X2) (arg3.view.read (Elt F) X3) (arg4.view.read (Elt F) X4) (arg10.view.read (Elt F) f10) acc).1 := by
  unfold trip
  dsimp only
  refine ⟨_, _, rfl, ?_, ?_⟩
  · sl_unfold_run_names
    simp only [readAt_full]
    exact shapeCast_self _ _
  · simp only [readAt_full]
    exact shapeCast_self _ _

/-- What the buffers hold before a trip. -/
def Good (e : S13056.Idx → BitVec 32) (w : S12800.Idx → BitVec 32) (W2 : Vec F S256x512 .f32) (W3 : Vec F S128x512 .f32) (W4 : Vec F S1x512 .f32) (E8 : Vec F S20016x128 .i32) (E9 : Vec F S20016x128 .bf16) (z : FVec F S64x128 .f32 × FVec F S64x128 .f32) (n : ℕ) (acc : FVec F S64x128 .f32 × FVec F S64x128 .f32) (x10 x11 : Vec F S64x256 .f32) (x12 : Vec F S12800x128 .f32) (x13 : Vec F S12800x128 .i32) : Prop :=
  x10 = GX e E8 (2 * n) ∧ x11 = GX e E8 (2 * n + 1) ∧ acc = state W2 W3 W4 (GX e E8) z (2 * n)
    ∧ (∀ y, (y 0).val < 128 * n → x12 y = HS (state W2 W3 W4 (GX e E8) z) y) ∧ (∀ y, (y 0).val < 128 * n → x13 y = WT w E9 y)

/-- A trip takes what the buffers should hold to what they should hold after it. -/
theorem trip_good (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) (z : FVec F S64x128 .f32 × FVec F S64x128 .f32)
    (hG : Good (arg0.view.read (Elt F) X0) (arg1.view.read (Elt F) X1) (arg2.view.read (Elt F) X2) (arg3.view.read (Elt F) X3) (arg4.view.read (Elt F) X4) (arg8.view.read (Elt F) X8) (arg9.view.read (Elt F) X9) z k.val acc (arg10.view.read (Elt F) f10) (arg11.view.read (Elt F) f11) (arg12.view.read (Elt F) f12) (arg13.view.read (Elt F) f13)) :
    Good (arg0.view.read (Elt F) X0) (arg1.view.read (Elt F) X1) (arg2.view.read (Elt F) X2) (arg3.view.read (Elt F) X3) (arg4.view.read (Elt F) X4) (arg8.view.read (Elt F) X8) (arg9.view.read (Elt F) X9) z (k.val + 1) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).1
      (arg10.view.read (Elt F) (arg10.view.writes (Elt F) f10 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.1))
      (arg11.view.read (Elt F) (arg11.view.writes (Elt F) f11 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.2.1))
      (arg12.view.read (Elt F) (arg12.view.writes (Elt F) f12 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.2.2.1))
      (arg13.view.read (Elt F) (arg13.view.writes (Elt F) f13 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).2.2.2.2.1)) := by
  obtain ⟨h10, h11, hacc, h12, h13⟩ := hG
  have s0 : cell (arg2.view.read (Elt F) X2) (arg3.view.read (Elt F) X3) (arg4.view.read (Elt F) X4) (arg10.view.read (Elt F) f10) acc = (state (arg2.view.read (Elt F) X2) (arg3.view.read (Elt F) X3) (arg4.view.read (Elt F) X4) (GX (arg0.view.read (Elt F) X0) (arg8.view.read (Elt F) X8)) z) (2 * k.val + 1) := by rw [h10, hacc]; rfl
  have s1 : cell (arg2.view.read (Elt F) X2) (arg3.view.read (Elt F) X3) (arg4.view.read (Elt F) X4) (arg11.view.read (Elt F) f11) (cell (arg2.view.read (Elt F) X2) (arg3.view.read (Elt F) X3) (arg4.view.read (Elt F) X4) (arg10.view.read (Elt F) f10) acc) = (state (arg2.view.read (Elt F) X2) (arg3.view.read (Elt F) X3) (arg4.view.read (Elt F) X4) (GX (arg0.view.read (Elt F) X0) (arg8.view.read (Elt F) X8)) z) (2 * k.val + 2) := by
    rw [s0, h11]; rfl
  refine ⟨?_, ?_, ?_, fun y hy => ?_, fun y hy => ?_⟩
  · exact (trip_10 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).read arg10 f10
  · exact (trip_11 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13).read arg11 f11
  · rw [trip_acc, s1]; rfl
  · obtain ⟨v1, v0, hL, e1, e0⟩ := trip_12 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13
    rw [hL]
    refine read_grow arg12 f12 _ _ (List.forall_mem_cons.2 ⟨?_, List.forall_mem_cons.2 ⟨?_, fun p hp => absurd hp List.not_mem_nil⟩⟩) y ?_
    · exact block_HS (state (arg2.view.read (Elt F) X2) (arg3.view.read (Elt F) X3) (arg4.view.read (Elt F) X4) (GX (arg0.view.read (Elt F) X0) (arg8.view.read (Elt F) X8)) z) (2 * k.val + 1) _ (k0_off258_inb k) (by rw [k0_off258_eq]; show 128 * k.val + 64 = _; omega) (by rw [k0_off258_eq]; rfl) v1 (e1.trans (congrArg Prod.fst s1))
    · exact block_HS (state (arg2.view.read (Elt F) X2) (arg3.view.read (Elt F) X3) (arg4.view.read (Elt F) X4) (GX (arg0.view.read (Elt F) X0) (arg8.view.read (Elt F) X8)) z) (2 * k.val) _ (k0_off129_inb k) (by rw [k0_off129_eq]; show 128 * k.val = _; omega) (by rw [k0_off129_eq]; rfl) v0 (e0.trans (congrArg Prod.fst s0))
    · by_cases hlt : (y 0).val < 128 * k.val
      · exact .inr (h12 y hlt)
      · left
        have hy1 : (y 1).val < 128 := (y 1).isLt
        by_cases hm : (y 0).val < 128 * k.val + 64
        · refine ⟨⟨Rect.unit (s := S12800x128) (k0_off129 k) S64x128.size (k0_off129_inb k), v0⟩, .tail _ (.head _), (Rect.mem_set_unit (inb := k0_off129_inb k)).2 fun a => ?_⟩
          rw [k0_off129_eq]
          fin_cases a
          · exact ⟨by show 128 * k.val ≤ (y 0).val; omega, by show (y 0).val < 128 * k.val + 64; omega⟩
          · exact ⟨by show 0 ≤ (y 1).val; omega, by show (y 1).val < 0 + 128; omega⟩
        · refine ⟨⟨Rect.unit (s := S12800x128) (k0_off258 k) S64x128.size (k0_off258_inb k), v1⟩, .head _, (Rect.mem_set_unit (inb := k0_off258_inb k)).2 fun a => ?_⟩
          rw [k0_off258_eq]
          fin_cases a
          · exact ⟨by show 128 * k.val + 64 ≤ (y 0).val; omega, by show (y 0).val < 128 * k.val + 64 + 64; omega⟩
          · exact ⟨by show 0 ≤ (y 1).val; omega, by show (y 1).val < 0 + 128; omega⟩
  · have h := trip_13 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 X8 X9 k hE hW acc f10 f11 f12 f13
    refine read_grow arg13 f13 _ _ h.agree y ?_
    by_cases hlt : (y 0).val < 128 * k.val
    · exact .inr (h13 y hlt)
    · exact .inl (h.cover y (by omega) (by omega))

/-- What the run holds before a trip. -/
def inv (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x128 .i32) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x128 .i32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x128 .i32) (E9 : Vec F S20016x128 .bf16) (z : FVec F S64x128 .f32 × FVec F S64x128 .f32) (n : ℕ) (acc : FVec F S64x128 .f32 × FVec F S64x128 .f32) : sProp 𝕄 :=
  iprop(∃ f8 f9 f10 f11 f12 f13, ⌜arg8.view.read (Elt F) f8 = E8 ∧ arg9.view.read (Elt F) f9 = E9
    ∧ Good (arg0.view.read (Elt F) X0) (arg1.view.read (Elt F) X1) (arg2.view.read (Elt F) X2) (arg3.view.read (Elt F) X3) (arg4.view.read (Elt F) X4) E8 E9 z n acc (arg10.view.read (Elt F) f10) (arg11.view.read (Elt F) f11) (arg12.view.read (Elt F) f12) (arg13.view.read (Elt F) f13)⌝
    ∗ Held (F := F) c arg0 arg1 arg2 arg3 arg4 arg8 arg9 arg10 arg11 arg12 arg13 X0 X1 X2 X3 X4 f8 f9 f10 f11 f12 f13)

/-- The loop by its invariant. -/
def loopInv (𝒱 : Variants) (c : Dev nD) (bd : Option 𝒱.V) (E : Set ℕ) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x128 .i32) (E9 : Vec F S20016x128 .bf16)
    (hE : ∀ r x, (arg0.view.readAt (Elt F) r X0 x : BitVec 32).toNat ≤ 20008)
    (hW : ∀ r x, (arg1.view.readAt (Elt F) r X1 x : BitVec 32).toNat ≤ 10000)
    (z : FVec F S64x128 .f32 × FVec F S64x128 .f32) :
    LoopInv (M := 𝕄) frame (wpE (defs₀ (F := F)) 𝒱 (c : Thread nD τ) bd) E k0_t1_loop.lb k0_t1_loop.ub k0_t1_loop.st k0_t1_ok z
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 v2811 v2818) where
  inv := inv c arg0 arg1 arg2 arg3 arg4 arg8 arg9 arg10 arg11 arg12 arg13 X0 X1 X2 X3 X4 E8 E9 z
  step k acc := by
    unfold inv
    iintro ⟨%f8, %f9, %f10, %f11, %f12, %f13, %hG, HR0, HR1, HR2, HR3, HR4, HR8, HR9, HW10, HW11, HW12, HW13⟩
    obtain ⟨h8, h9, hG⟩ := hG
    subst h8; subst h9
    iapply (wp_wand_r Idealize.ShloMosaic.frame (wpE (defs₀ (F := F)) 𝒱 (c : Thread nD τ) bd) E)
    isplitl [HR0 HR1 HR2 HR3 HR4 HR8 HR9 HW10 HW11 HW12 HW13]
    · iapply ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 f8 f9 k hE hW acc f10 f11 f12 f13).2.2.2.2.2 E)
      isplitl [HR0]; · iexact HR0
      isplitl [HR1]; · iexact HR1
      isplitl [HR2]; · iexact HR2
      isplitl [HR3]; · iexact HR3
      isplitl [HR4]; · iexact HR4
      isplitl [HR8]; · iexact HR8
      isplitl [HR9]; · iexact HR9
      isplitl [HW10]; · iexact HW10
      isplitl [HW11]; · iexact HW11
      isplitl [HW12]; · iexact HW12
      iexact HW13
    · iintro %yld ⟨%h_res, HR0, HR1, HR2, HR3, HR4, HR8, HR9, HW10, HW11, HW12, HW13⟩
      iexists f8, f9, _, _, _, _
      isplitr
      · ipureintro
        rw [h_res]
        exact ⟨rfl, rfl, trip_good 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 f8 f9 k hE hW acc f10 f11 f12 f13 z hG⟩
      isplitl [HR0]; · iexact HR0
      isplitl [HR1]; · iexact HR1
      isplitl [HR2]; · iexact HR2
      isplitl [HR3]; · iexact HR3
      isplitl [HR4]; · iexact HR4
      isplitl [HR8]; · iexact HR8
      isplitl [HR9]; · iexact HR9
      isplitl [HW10]; · iexact HW10
      isplitl [HW11]; · iexact HW11
      isplitl [HW12]; · iexact HW12
      iexact HW13

/-- What the run holds after the loop. -/
def after (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x128 .i32) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x128 .i32) (harg12 : arg12.IsWhole) (harg13 : arg13.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x128 .i32) (E9 : Vec F S20016x128 .bf16) (z : FVec F S64x128 .f32 × FVec F S64x128 .f32) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (arg12.view.loc (c : Thread nD τ) ↦[arg12.view.set]{fullShare} (harg12.unread (HS (state (arg2.view.read (Elt F) X2) (arg3.view.read (Elt F) X3) (arg4.view.read (Elt F) X4) (GX (arg0.view.read (Elt F) X0) E8) z)))) ∗ (arg13.view.loc (c : Thread nD τ) ↦[arg13.view.set]{fullShare} (harg13.unread (WT (arg1.view.read (Elt F) X1) E9))))

theorem inv_after (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x128 .i32) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x128 .i32) (harg12 : arg12.IsWhole) (harg13 : arg13.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x128 .i32) (E9 : Vec F S20016x128 .bf16) (z : FVec F S64x128 .f32 × FVec F S64x128 .f32) (acc : FVec F S64x128 .f32 × FVec F S64x128 .f32) :
    inv (F := F) c arg0 arg1 arg2 arg3 arg4 arg8 arg9 arg10 arg11 arg12 arg13 X0 X1 X2 X3 X4 E8 E9 z (Scf.trips k0_t1_loop.lb k0_t1_loop.ub k0_t1_loop.st) acc ⊢ after c arg0 arg1 arg2 arg3 arg4 arg8 arg9 arg10 arg11 arg12 arg13 harg12 harg13 X0 X1 X2 X3 X4 E8 E9 z := by
  show inv (F := F) c arg0 arg1 arg2 arg3 arg4 arg8 arg9 arg10 arg11 arg12 arg13 X0 X1 X2 X3 X4 E8 E9 z 100 acc ⊢ _
  unfold inv after
  iintro ⟨%f8, %f9, %f10, %f11, %f12, %f13, %hG, HR0, HR1, HR2, HR3, HR4, HR8, HR9, HW10, HW11, HW12, HW13⟩
  obtain ⟨-, -, -, -, -, h12, h13⟩ := hG
  rw [← harg12.eq_unread (funext fun y => h12 y (y 0).isLt), ← harg13.eq_unread (funext fun y => h13 y (y 0).isLt)]
  isplitl [HR0]; · iexact HR0
  isplitl [HR1]; · iexact HR1
  isplitl [HR2]; · iexact HR2
  isplitl [HR3]; · iexact HR3
  isplitl [HR4]; · iexact HR4
  isplitl [HR8]; · iexists _; iexact HR8
  isplitl [HR9]; · iexists _; iexact HR9
  isplitl [HW10]; · iexists _; iexact HW10
  isplitl [HW11]; · iexists _; iexact HW11
  isplitl [HW12]; · iexact HW12
  iexact HW13

end Cert.Kernel.Dkt
-- ==== Proof.BodyKernel.lean ====
import proofs.«01_k».proof.Proof.InvariantKernel
import proofs.«01_k».proof.Proof.Gen.Kernel.Launch
import proofs.«01_k».proof.Proof.Gen.Kernel.Points

/-! The kernel's body, run from its first line to its last. -/

set_option maxRecDepth 16384
set_option maxHeartbeats 40000000
set_option synthInstance.maxHeartbeats 0

noncomputable section

namespace Cert.Kernel.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [BitOps F]

local notation "𝕄" => MT nD τ sig Unit (Elt F) ℕ (Pipeline.UD sig nD τ) ℕ

/-- The exercise table as its copy into the kernel's memory reads it. -/
def tabE (arg5 : Memref sig .tc .hbm S40032x128 .bf16) (X5 : BufTy.Contents (Elt F) arg5.view.ty) : Vec F S20016x128 .i32 :=
  (ReadAs.bitcast bitcasts_S40032x128_w16_S20016x128_w32).apply (arg5.view.read (Elt F) X5)

/-- The output weights as their copy into the kernel's memory reads them. -/
def tabW (arg6 : Memref sig .tc .hbm S20016x128 .bf16) (X6 : BufTy.Contents (Elt F) arg6.view.ty) : Vec F S20016x128 .bf16 :=
  ReadAs.same.apply (arg6.view.read (Elt F) X6)

/-- Before its first trip the run holds what the invariant says. -/
theorem loop_zero (𝒱 : Variants) (c : Dev nD) (bd : Option 𝒱.V) (E : Set ℕ) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x128 .i32) (E9 : Vec F S20016x128 .bf16)
    (hE : ∀ r x, (arg0.view.readAt (Elt F) r X0 x : BitVec 32).toNat ≤ 20008)
    (hW : ∀ r x, (arg1.view.readAt (Elt F) r X1 x : BitVec 32).toNat ≤ 10000)
    (z : FVec F S64x128 .f32 × FVec F S64x128 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    iprop(Held (F := F) c arg0 arg1 arg2 arg3 arg4 arg8 arg9 arg10 arg11 arg12 arg13 X0 X1 X2 X3 X4 f8 f9 f10 f11 f12 f13
        ∗ ⌜arg8.view.read (Elt F) f8 = E8 ∧ arg9.view.read (Elt F) f9 = E9
          ∧ Good (arg0.view.read (Elt F) X0) (arg1.view.read (Elt F) X1) (arg2.view.read (Elt F) X2) (arg3.view.read (Elt F) X3) (arg4.view.read (Elt F) X4) E8 E9 z 0 z
            (arg10.view.read (Elt F) f10) (arg11.view.read (Elt F) f11) (arg12.view.read (Elt F) f12) (arg13.view.read (Elt F) f13)⌝)
      ⊢ (loopInv (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 E8 E9 hE hW z).inv 0 z := by
  show _ ⊢ inv (F := F) c arg0 arg1 arg2 arg3 arg4 arg8 arg9 arg10 arg11 arg12 arg13 X0 X1 X2 X3 X4 E8 E9 z 0 z
  unfold inv
  iintro ⟨H, %h⟩
  iexists f8, f9, f10, f11, f12, f13
  isplitr
  · ipureintro; exact h
  iexact H

/-- After its last trip the loop leaves what the invariant says. -/
theorem loop_after (𝒱 : Variants) (c : Dev nD) (bd : Option 𝒱.V) (E : Set ℕ) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole) (arg14 : DmaSems sig S2) (v2811 : IVec S1x128 32) (v2818 : IVec S1x128 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x128 .i32) (E9 : Vec F S20016x128 .bf16)
    (hE : ∀ r x, (arg0.view.readAt (Elt F) r X0 x : BitVec 32).toNat ≤ 20008)
    (hW : ∀ r x, (arg1.view.readAt (Elt F) r X1 x : BitVec 32).toNat ≤ 10000)
    (z acc : FVec F S64x128 .f32 × FVec F S64x128 .f32) :
    (loopInv (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 v2811 v2818 X0 X1 X2 X3 X4 E8 E9 hE hW z).inv (Scf.trips k0_t1_loop.lb k0_t1_loop.ub k0_t1_loop.st) acc
      ⊢ after c arg0 arg1 arg2 arg3 arg4 arg8 arg9 arg10 arg11 arg12 arg13 harg12 harg13 X0 X1 X2 X3 X4 E8 E9 z :=
  inv_after (F := F) c arg0 arg1 arg2 arg3 arg4 arg8 arg9 arg10 arg11 arg12 arg13 harg12 harg13 X0 X1 X2 X3 X4 E8 E9 z acc

/-- The body's run, and what it leaves in the result's buffer. -/
def body (c : Dev nD) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x128 .i32) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x128 .i32) (harg13 : arg13.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (hE : ∀ r x, (arg0.view.readAt (Elt F) r X0 x : BitVec 32).toNat ≤ 20008)
    (hW : ∀ r x, (arg1.view.readAt (Elt F) r X1 x : BitVec 32).toNat ≤ 10000) :
    { L7 : List (View.Piece (Elt F) S12800x1 .f32) //
      ∀ (W : Waits sig Unit) (K : PUnit → sProp 𝕄),
        iprop((arg0.view.loc (c : Thread nD τ) ↦[arg0.view.set]{fullShare} X0)
            ∗ (arg1.view.loc (c : Thread nD τ) ↦[arg1.view.set]{fullShare} X1)
            ∗ (arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (∃ f, (arg7.view.loc (c : Thread nD τ) ↦[arg7.view.set]{fullShare} f))
            ∗ (∃ f, (arg8.view.loc (c : Thread nD τ) ↦[arg8.view.set]{fullShare} f))
            ∗ (∃ f, (arg9.view.loc (c : Thread nD τ) ↦[arg9.view.set]{fullShare} f))
            ∗ (∃ f, (arg10.view.loc (c : Thread nD τ) ↦[arg10.view.set]{fullShare} f))
            ∗ (∃ f, (arg11.view.loc (c : Thread nD τ) ↦[arg11.view.set]{fullShare} f))
            ∗ (∃ f, (arg12.view.loc (c : Thread nD τ) ↦[arg12.view.set]{fullShare} f))
            ∗ (∃ f, (arg13.view.loc (c : Thread nD τ) ↦[arg13.view.set]{fullShare} f))
            ∗ semVal ((c : Thread nD τ), SemLoc.dma 6) 0
            ∗ semVal ((c : Thread nD τ), SemLoc.dma 7) 0
            ∗ owes (c : Thread nD τ) 0 W
            ∗ (iprop((arg0.view.loc (c : Thread nD τ) ↦[arg0.view.set]{fullShare} X0)
                ∗ (arg1.view.loc (c : Thread nD τ) ↦[arg1.view.set]{fullShare} X1)
                ∗ (arg2.view.loc (c : Thread nD τ) ↦[arg2.view.set]{fullShare} X2)
                ∗ (arg3.view.loc (c : Thread nD τ) ↦[arg3.view.set]{fullShare} X3)
                ∗ (arg4.view.loc (c : Thread nD τ) ↦[arg4.view.set]{fullShare} X4)
                ∗ (arg5.view.loc (c : Thread nD τ) ↦[arg5.view.set]{fullShare} X5)
                ∗ (arg6.view.loc (c : Thread nD τ) ↦[arg6.view.set]{fullShare} X6)
                ∗ (∃ f, (arg7.view.loc (c : Thread nD τ) ↦[arg7.view.set]{fullShare} arg7.view.writes (Elt F) f L7))
                ∗ (∃ f, (arg8.view.loc (c : Thread nD τ) ↦[arg8.view.set]{fullShare} f))
                ∗ (∃ f, (arg9.view.loc (c : Thread nD τ) ↦[arg9.view.set]{fullShare} f))
                ∗ (∃ f, (arg10.view.loc (c : Thread nD τ) ↦[arg10.view.set]{fullShare} f))
                ∗ (∃ f, (arg11.view.loc (c : Thread nD τ) ↦[arg11.view.set]{fullShare} f))
                ∗ (∃ f, (arg12.view.loc (c : Thread nD τ) ↦[arg12.view.set]{fullShare} f))
                ∗ (∃ f, (arg13.view.loc (c : Thread nD τ) ↦[arg13.view.set]{fullShare} f))
                ∗ semVal ((c : Thread nD τ), SemLoc.dma 6) 0
                ∗ semVal ((c : Thread nD τ), SemLoc.dma 7) 0
                ∗ (∃ W', owes (c : Thread nD τ) 0 W')) -∗ K ⟨⟩))
          ⊢ wp frame (wpE (defs₀ (F := F)) Variants.none c none) Set.univ
              (cc0_dkt_pebg_fused (F := F) arg0 harg0 arg1 harg1 arg2 harg2 arg3 harg3 arg4 harg4 arg5 harg5 arg6 harg6 arg7 harg7 arg8 harg8 arg9 harg9 arg10 harg10 arg11 harg11 arg12 harg12 arg13 harg13 cc0_scratch6) K } := by
  refine ⟨?_, fun W K => ?run⟩
  case run =>
    simp only [cc0_dkt_pebg_fused_eq_skeleton]; unfold cc0_dkt_pebg_fused_skel
    iintro ⟨H0, H1, H2, H3, H4, H5, H6, ⟨%f7, H7⟩, ⟨%f8, H8⟩, ⟨%f9, H9⟩, ⟨%f10, H10⟩, ⟨%f11, H11⟩, ⟨%f12, H12⟩, ⟨%f13, H13⟩, Hq0, Hq1, HW, Hk⟩
    sl_exec (disch := refine ⟨round8_dvd (word_lt ?_), fun a => ?_⟩; first
      | (· sl_unfold_run_names; with_reducible exact hE _ _); refine rowsE_in a ?_; sl_unfold_run_names; with_reducible exact hE _ _
      | (· sl_unfold_run_names; with_reducible exact (Nat.le_trans (hW _ _) (by decide))); refine rowsW_in a ?_; sl_unfold_run_names; with_reducible exact hW _ _)
    have h8 : arg8.view.read (Elt F) (arg8.view.writes (Elt F) arg8.view.junk [⟨Rect.whole S20016x128, tabE arg5 X5⟩]) = tabE arg5 X5 :=
      View.read_writes_whole arg8.view arg8.view.junk (tabE arg5 X5)
    have h9 : arg9.view.read (Elt F) (arg9.view.writes (Elt F) arg9.view.junk [⟨Rect.whole S20016x128, tabW arg6 X6⟩]) = tabW arg6 X6 :=
      View.read_writes_whole arg9.view arg9.view.junk (tabW arg6 X6)
    iapply (exec_loop Idealize.ShloMosaic.frame (wpE (defs₀ (F := F)) Variants.none (c : Thread nD τ) none) Set.univ _ _ _ _ _ _
      (loopInv (F := F) Variants.none c none Set.univ arg0 harg0 arg1 harg1 arg2 harg2 arg3 harg3 arg4 harg4 arg5 harg5 arg6 harg6 arg7 harg7 arg8 harg8 arg9 harg9 arg10 harg10 arg11 harg11 arg12 harg12 arg13 harg13 cc0_scratch6 _ _ X0 X1 X2 X3 X4 (tabE arg5 X5) (tabW arg6 X6) hE hW _)) $$ [H0 H1 H2 H3 H4 H8 H9 H10 H11 H12 H13]
    · iapply (loop_zero (F := F) Variants.none c none Set.univ arg0 harg0 arg1 harg1 arg2 harg2 arg3 harg3 arg4 harg4 arg5 harg5 arg6 harg6 arg7 harg7 arg8 harg8 arg9 harg9 arg10 harg10 arg11 harg11 arg12 harg12 arg13 harg13 cc0_scratch6 _ _ X0 X1 X2 X3 X4 (tabE arg5 X5) (tabW arg6 X6) hE hW _ _ _ _ _ _ _ ) $$ [H0 H1 H2 H3 H4 H8 H9 H10 H11 H12 H13]
      isplitl [H0 H1 H2 H3 H4 H8 H9 H10 H11 H12 H13]
      · isplitl [H0]; · iexact H0
        isplitl [H1]; · iexact H1
        isplitl [H2]; · iexact H2
        isplitl [H3]; · iexact H3
        isplitl [H4]; · iexact H4
        isplitl [H8]; · iexact H8
        isplitl [H9]; · iexact H9
        isplitl [H10]; · iexact H10
        isplitl [H11]; · iexact H11
        isplitl [H12]; · iexact H12
        iexact H13
      · ipureintro
        refine ⟨h8, h9, ?_⟩
        rw [← h8]
        refine ⟨Pairs.read ?_ arg10 _, Pairs.read ?_ arg11 _, rfl, fun y h => absurd h (Nat.not_lt_zero _), fun y h => absurd h (Nat.not_lt_zero _)⟩
        · sl_unfold_run_names
          repeat' (first
            | exact Pairs.nil
            | refine pair arg0 X0 arg8 _ (2 * 0) _ _ _ _ _ rfl _ _ rfl rfl ?_)
        · sl_unfold_run_names
          repeat' (first
            | exact Pairs.nil
            | refine pair arg0 X0 arg8 _ (2 * 0 + 1) _ _ _ _ _ rfl _ _ rfl rfl ?_)
    iintro %acc Hinv
    ihave Ha := (loop_after (F := F) Variants.none c none Set.univ arg0 harg0 arg1 harg1 arg2 harg2 arg3 harg3 arg4 harg4 arg5 harg5 arg6 harg6 arg7 harg7 arg8 harg8 arg9 harg9 arg10 harg10 arg11 harg11 arg12 harg12 arg13 harg13 cc0_scratch6 _ _ X0 X1 X2 X3 X4 (tabE arg5 X5) (tabW arg6 X6) hE hW _ acc) $$ Hinv
    unfold after
    icases Ha with ⟨H0, H1, H2, H3, H4, ⟨%g8, H8⟩, ⟨%g9, H9⟩, ⟨%g10, H10⟩, ⟨%g11, H11⟩, H12, H13⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [Hq0]; · iexact Hq0
    isplitl [Hq1]; · iexact Hq1
    iexists _; iexact HW

end Cert.Kernel.Dkt
-- ==== Proof.Words.lean ====
import proofs.«01_k».proof.Proof.Gen.KernelIdeal
import proofs.«01_k».proof.Proof.Gen.Pre_in_range
import Idealize.ShloMosaic.Lib.Pointwise
import Idealize.ShloMosaic.Lib.ReduceAll
import Idealize.ShloMosaic.Lib.Affine

/-! The two index arrays that the kernel is handed, as functions of the question numbers `x` and the
answers `y`: which table row each word names, and that it is a row of the table. -/

noncomputable section

namespace Cert.KernelIdeal.Dkt

open Idealize.ShloMosaic Idealize.ShloMosaic.TcCoe
open Idealize.SL.Sem
open Cert.KernelIdeal.Gen

/-- Both halves of a joined pair may be replaced by equals. -/
theorem cat2 {α : Type} {t s₁ s₂ : Shape} {a : Fin t.rank} {x x' : s₁.Idx → α} {y y' : s₂.Idx → α} (h h') (hx : x = x') (hy : y = y') :
    concatenate t a [⟨s₁, x⟩, ⟨s₂, y⟩] h = concatenate t a [⟨s₁, x'⟩, ⟨s₂, y'⟩] h' := by
  subst hx hy; rfl

/-- The rows of the embedding table, step by step: the question, moved on by the answer's half of the table,
or the row of zeros after both halves where the answer is missing. -/
def wordsE (x y : IVec S64x200 32) : IVec S12800 32 :=
  shapeCast S12800 (select (cmpi .eq (transpose S200x64 [1, 0] y transposes_S64x200_S200x64_1_0) (broadcastInDim S200x64 ![] bcast_S_S200x64 (constantI S_ 32 4294967295#32)))
    (broadcastInDim S200x64 ![] bcast_S_S200x64 (constantI S_ 32 20000#32))
    (addi (transpose S200x64 [1, 0] x transposes_S64x200_S200x64_1_0)
      (muli (transpose S200x64 [1, 0] y transposes_S64x200_S200x64_1_0) (broadcastInDim S200x64 ![] bcast_S_S200x64 (constantI S_ 32 10000#32))))) shapeCasts_S200x64_S12800

/-- The next step's questions, the last step's zero. -/
def nextX (x : IVec S64x200 32) : IVec S64x200 32 :=
  concatenate S64x200 1 [⟨S64x199, extractStridedSlice S64x199 ![0, 1] x slices_S64x200_S64x199_0_1⟩, ⟨S64x1, broadcastInDim S64x1 ![] bcast_S_S64x1 (constantI S_ 32 0#32)⟩] concatenates_S64x199_S64x1_S64x200_d1

/-- The rows of the output table: the class of the next step's question, or the masked row where there is none. -/
def wordsW (x : IVec S64x200 32) : IVec S12800 32 :=
  shapeCast S12800 (select (cmpi .eq (transpose S200x64 [1, 0] (nextX x) transposes_S64x200_S200x64_1_0) (broadcastInDim S200x64 ![] bcast_S_S200x64 (constantI S_ 32 0#32)))
    (broadcastInDim S200x64 ![] bcast_S_S200x64 (constantI S_ 32 10000#32))
    (subi (transpose S200x64 [1, 0] (nextX x) transposes_S64x200_S200x64_1_0) (broadcastInDim S200x64 ![] bcast_S_S200x64 (constantI S_ 32 1#32)))) shapeCasts_S200x64_S12800

/-- The questions and answers are in their ranges. -/
def InRange (x y : IVec S64x200 32) : Prop :=
  ∀ p, (0 ≤ (x p).toInt ∧ (x p).toInt < 10000) ∧ (-1 ≤ (y p).toInt ∧ (y p).toInt ≤ 1)

theorem inRange_of_pre {F : FTy → Type} [FloatOps F] (x y : IVec S64x200 32) (a2 a3 a4 a5 a6 a7 a8)
    (h : ∀ i, Cert.Pre_in_range.fn (F := F) x y a2 a3 a4 a5 a6 a7 a8 i = 1#1) : InRange x y := by
  intro p
  have h0 := h (Shape.Idx.first (by decide))
  dsimp only [Cert.Pre_in_range.fn] at h0
  obtain ⟨h1, h2⟩ := IntOp.andi_eq_one.mp h0
  have hx := Host.reduce_andi_all _ _ _ _ _ h1 p
  have hy := Host.reduce_andi_all _ _ _ _ _ h2 p
  obtain ⟨a, b⟩ := IntOp.andi_eq_one.mp hx
  obtain ⟨c, d⟩ := IntOp.andi_eq_one.mp hy
  exact ⟨⟨IntOp.cmpi_sge.mp a, IntOp.cmpi_slt.mp b⟩, IntOp.cmpi_sge.mp c, IntOp.cmpi_sle.mp d⟩

/-- The row that question `x` and answer `y` select. -/
def rowE (x y : BitVec 32) : ℕ := if y.toInt = -1 then 20000 else x.toNat + 10000 * y.toNat
/-- The row that the next question `x` selects. -/
def rowW (x : BitVec 32) : ℕ := if x = 0#32 then 10000 else x.toNat - 1

theorem toNat_of_nonneg (x : BitVec 32) (h : 0 ≤ x.toInt) : (x.toNat : ℤ) = x.toInt := by
  rw [BitVec.toInt_eq_toNat_cond] at h ⊢
  have := x.isLt
  split at h <;> rename_i h1
  · rw [if_pos h1]
  · omega

theorem rowE_word (x y : BitVec 32) (hx : 0 ≤ x.toInt ∧ x.toInt < 10000) (hy : -1 ≤ y.toInt ∧ y.toInt ≤ 1) :
    (Scalar.select (IntOp.cmpi CmpIPredicate.eq y 4294967295#32) (20000#32) (IntOp.addi x (IntOp.muli y 10000#32))).toNat = rowE x y := by
  have hxn := toNat_of_nonneg x hx.1
  have hy3 : y = 4294967295#32 ∨ y = 0#32 ∨ y = 1#32 := by
    rcases (by omega : y.toInt = -1 ∨ y.toInt = 0 ∨ y.toInt = 1) with h | h | h
    · exact Or.inl (BitVec.eq_of_toInt_eq h)
    · exact Or.inr (Or.inl (BitVec.eq_of_toInt_eq h))
    · exact Or.inr (Or.inr (BitVec.eq_of_toInt_eq h))
  unfold rowE
  rcases hy3 with rfl | rfl | rfl
  · rw [if_pos (by decide), show IntOp.cmpi CmpIPredicate.eq (4294967295#32 : BitVec 32) 4294967295#32 = 1#1 from by decide]
    rfl
  · rw [if_neg (by decide), show IntOp.cmpi CmpIPredicate.eq (0#32 : BitVec 32) 4294967295#32 = 0#1 from by decide,
      show IntOp.muli (0#32 : BitVec 32) 10000#32 = 0#32 from by decide]
    show (x + 0#32).toNat = _
    rw [BitVec.toNat_add, show (0#32 : BitVec 32).toNat = 0 from rfl]
    omega
  · rw [if_neg (by decide), show IntOp.cmpi CmpIPredicate.eq (1#32 : BitVec 32) 4294967295#32 = 0#1 from by decide,
      show IntOp.muli (1#32 : BitVec 32) 10000#32 = 10000#32 from by decide]
    show (x + 10000#32).toNat = _
    rw [BitVec.toNat_add, show (10000#32 : BitVec 32).toNat = 10000 from by decide, show (1#32 : BitVec 32).toNat = 1 from rfl]
    omega

theorem rowE_le (x y : BitVec 32) (hx : 0 ≤ x.toInt ∧ x.toInt < 10000) (hy : -1 ≤ y.toInt ∧ y.toInt ≤ 1) : rowE x y ≤ 20000 := by
  have hxn := toNat_of_nonneg x hx.1
  unfold rowE
  split
  · omega
  · have := toNat_of_nonneg y (by omega)
    omega

theorem rowW_word (x : BitVec 32) (hx : 0 ≤ x.toInt ∧ x.toInt < 10000) :
    (Scalar.select (IntOp.cmpi CmpIPredicate.eq x 0#32) (10000#32) (IntOp.subi x 1#32)).toNat = rowW x := by
  have hxn := toNat_of_nonneg x hx.1
  unfold rowW
  by_cases h : x = 0#32
  · subst h; rfl
  · rw [if_neg h]
    have hc : IntOp.cmpi CmpIPredicate.eq x 0#32 = 0#1 := by
      show BitVec.ofBool (x == 0#32) = 0#1
      rw [beq_eq_false_iff_ne.mpr h]; rfl
    rw [hc]
    show (x - 1#32).toNat = _
    have h0 : x.toNat ≠ 0 := fun h1 => h (BitVec.eq_of_toNat_eq h1)
    rw [BitVec.toNat_sub]
    show (2 ^ 32 - 1 + x.toNat) % _ = _
    omega

theorem rowW_le (x : BitVec 32) (hx : 0 ≤ x.toInt ∧ x.toInt < 10000) : rowW x ≤ 10000 := by
  have hxn := toNat_of_nonneg x hx.1
  unfold rowW
  split <;> omega

/-- Word `i` of the embedding rows is step `i / 64`, sequence `i % 64`. -/
theorem wordsE_at (x y : IVec S64x200 32) (h : InRange x y) (i : S12800.Idx) :
    (wordsE x y i).toNat = rowE (x (ix2 ⟨(i 0).val % 64, Nat.mod_lt _ (by decide)⟩ ⟨(i 0).val / 64, by have : (i 0).val < 12800 := (i 0).isLt; omega⟩))
      (y (ix2 ⟨(i 0).val % 64, Nat.mod_lt _ (by decide)⟩ ⟨(i 0).val / 64, by have : (i 0).val < 12800 := (i 0).isLt; omega⟩)) := by
  rw [← rowE_word _ _ (h _).1 (h _).2]
  congr 1
  unfold wordsE
  pointwise

/-- The next question of sequence `b` after step `s`. -/
def next (x : IVec S64x200 32) (b : Fin 64) (s : ℕ) : BitVec 32 :=
  if h : s < 199 then x (ix2 b ⟨1 + s, by omega⟩) else 0#32

theorem next_range (x y : IVec S64x200 32) (h : InRange x y) (b : Fin 64) (s : ℕ) : 0 ≤ (next x b s).toInt ∧ (next x b s).toInt < 10000 := by
  unfold next
  split
  · exact (h _).1
  · exact ⟨by decide, by decide⟩

theorem wordsW_at (x y : IVec S64x200 32) (h : InRange x y) (i : S12800.Idx) :
    (wordsW x i).toNat = rowW (next x ⟨(i 0).val % 64, Nat.mod_lt _ (by decide)⟩ ((i 0).val / 64)) := by
  rw [← rowW_word _ (next_range x y h _ _)]
  congr 1
  unfold wordsW nextX next
  pointwise

end Cert.KernelIdeal.Dkt
-- ==== Proof.TripKernelIdeal.lean ====
import proofs.«01_k».proof.Proof.Gen.KernelIdeal.Skeleton
import Idealize.ShloMosaic.Lib.Exec
import Idealize.ShloMosaic.Lib.Tactic
import Idealize.ShloMosaic.Lib.Pipeline.Kit
import Idealize.ShloMosaic.Lib.Pipeline.FrameSuffix

/-! One trip of the kernel's counted loop, over a symbolic trip number. -/

set_option maxRecDepth 16384
set_option maxHeartbeats 40000000
set_option synthInstance.maxHeartbeats 0

noncomputable section

namespace Cert.KernelIdeal.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- Rounding an index down to a multiple of eight gives a multiple of eight, no larger than the index. -/
theorem round8 {v : BitVec 32} (h : v.toNat < 2 ^ 31) :
    (Scalar.shli (Scalar.shrsi v 3#32) 3#32).toNat = 8 * (v.toNat / 8) := by
  have h1 : (Scalar.shrsi v 3#32).toNat = v.toNat / 8 := by
    have : v.msb = false := by
      rw [BitVec.msb_eq_false_iff_two_mul_lt]; omega
    simp [Scalar.shrsi, IntOp.shrsi, BitVec.sshiftRight_eq_of_msb_false this, BitVec.toNat_ushiftRight, Nat.shiftRight_eq_div_pow]
  simp [Scalar.shli, IntOp.shli, BitVec.toNat_shiftLeft, h1, Nat.shiftLeft_eq]
  omega

/-- A rounded index is a multiple of eight. -/
theorem round8_dvd {v : BitVec 32} (h : v.toNat < 2 ^ 31) : 8 ∣ (k0_mult1 v).toNat :=
  (round8 h : (k0_mult1 v).toNat = _) ▸ Dvd.intro _ rfl

/-- An index of either table is a small number. -/
theorem word_lt {n : ℕ} (h : n ≤ 20008) : n < 2 ^ 31 := Nat.lt_of_le_of_lt h (by decide)

/-- The rows a gather of the exercise table reads lie inside the table. -/
theorem rowsE_in (a : Fin S8x2x128.rank) {v : BitVec 32} (h : v.toNat ≤ 20008) :
    k0_off1 v a + S8x2x128.size a ≤ S20016x2x128.size a := by
  have hr := round8 (v := v) (by omega)
  fin_cases a
  · show (Scalar.shli (Scalar.shrsi v 3#32) 3#32).toNat + 8 ≤ 20016
    rw [hr]; omega
  · exact Nat.le_refl _
  · exact Nat.le_refl _

/-- The rows a gather of the output weights reads lie inside the table. -/
theorem rowsW_in (a : Fin S16x128.rank) {v : BitVec 32} (h : v.toNat ≤ 10000) :
    k0_off388 v a + S16x128.size a ≤ S20016x128.size a := by
  have hr := round8 (v := v) (by omega)
  fin_cases a
  · show 2 * (Scalar.shli (Scalar.shrsi v 3#32) 3#32).toNat + 16 ≤ 20016
    rw [hr]; omega
  · exact Nat.le_refl _

/-- What one trip touches: what it reads, at its contents, and what it writes. -/
abbrev Held (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x2x128 .bf16) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x2x128 .bf16) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- One trip of the loop: what it carries on and the pieces it writes. -/
def trip (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Σ' (R : FVec F S64x128 .f32 × FVec F S64x128 .f32) (L10 : List (View.Piece (Elt F) S64x256 .f32)) (L11 : List (View.Piece (Elt F) S64x256 .f32)) (L12 : List (View.Piece (Elt F) S12800x128 .f32)),
      { L13 : List (View.Piece (Elt F) S12800x2x128 .bf16) // ∀ (E : Set ℕ),
      Held (F := F) c arg0 arg1 arg2 arg3 arg4 arg8 arg9 arg10 arg11 arg12 arg13 X0 X1 X2 X3 X4 X8 X9 f10 f11 f12 f13
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 k acc)
          (fun yld => iprop(⌜yld = R⌝ ∗ Held (F := F) c arg0 arg1 arg2 arg3 arg4 arg8 arg9 arg10 arg11 arg12 arg13 X0 X1 X2 X3 X4 X8 X9 (arg10.view.writes (Elt F) f10 L10) (arg11.view.writes (Elt F) f11 L11) (arg12.view.writes (Elt F) f12 L12) (arg13.view.writes (Elt F) f13 L13))) } := by
  have hk : k.val < 100 := Nat.lt_of_lt_of_le k.isLt k0_t1_abs.2.1
  refine ⟨?_, ?_, ?_, ?_, ?_, fun E => ?run⟩
  case run =>
    unfold k0_t1_body
    iintro ⟨HR0, HR1, HR2, HR3, HR4, HR8, HR9, HW10, HW11, HW12, HW13⟩
    sl_exec (disch := refine ⟨round8_dvd (word_lt ?_), fun a => ?_⟩; first
      | (· sl_unfold_run_names; with_reducible exact hE _ _); refine rowsE_in a ?_; sl_unfold_run_names; with_reducible exact hE _ _
      | (· sl_unfold_run_names; with_reducible exact (Nat.le_trans (hW _ _) (by decide))); refine rowsW_in a ?_; sl_unfold_run_names; with_reducible exact hW _ _)
    sl_step
    sl_close

end Cert.KernelIdeal.Dkt
-- ==== Proof.TargetKernelIdeal.lean ====
import proofs.«01_k».proof.Proof.TripKernelIdeal
import Idealize.ShloMosaic.Lib.Writes
import Idealize.ShloMosaic.Lib.WholeRead

/-! What the kernel's buffers hold, written as functions of the tables and the index words. -/

set_option maxRecDepth 16384
set_option maxHeartbeats 4000000

noncomputable section

namespace Cert.KernelIdeal.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- A multi-index of two axes. -/
def ix2 {s : Fin 2 → ℕ} (a : Fin (s 0)) (b : Fin (s 1)) : Shape.Idx ⟨2, s⟩ := fun i => match i with | ⟨0, _⟩ => a | ⟨1, _⟩ => b

/-- A multi-index of three axes. -/
def ix3 {s : Fin 3 → ℕ} (a : Fin (s 0)) (b : Fin (s 1)) (d : Fin (s 2)) : Shape.Idx ⟨3, s⟩ :=
  fun i => match i with | ⟨0, _⟩ => a | ⟨1, _⟩ => b | ⟨2, _⟩ => d

/-- The index word at a position, zero past the end. -/
def wordAt {N : ℕ} (e : Shape.Idx ⟨1, ![N]⟩ → BitVec 32) (n : ℕ) : BitVec 32 :=
  if h : n < N then e (fun i => match i with | ⟨0, _⟩ => ⟨n, h⟩) else 0#32

/-- The eight table rows around the row a word names. -/
def winE (E8 : S20016x2x128.Idx → Elt F .bf16) (w : BitVec 32) : Vec F S8x2x128 .bf16 :=
  fun x => if h : ∀ a, k0_off1 w a + S8x2x128.size a ≤ S20016x2x128.size a then
    E8 ((Rect.unit (s := S20016x2x128) (k0_off1 w) S8x2x128.size h).toLoadRect.idx x) else E8 (Shape.Idx.first (by decide))

/-- The sixteen table rows around the row a word names. -/
def winW (E9 : S20016x128.Idx → Elt F .bf16) (w : BitVec 32) : Vec F S16x128 .bf16 :=
  fun x => if h : ∀ a, k0_off388 w a + S16x128.size a ≤ S20016x128.size a then
    E9 ((Rect.unit (s := S20016x128) (k0_off388 w) S16x128.size h).toLoadRect.idx x) else E9 (Shape.Idx.first (by decide))

/-- The network's input at a time step: for each batch row, the gathered table row. -/
def GX (e : S13056.Idx → BitVec 32) (E8 : S20016x2x128.Idx → Elt F .bf16) (s : ℕ) : Vec F S64x256 .f32 := fun y =>
  if h : (y 1).val < 128 then k0_pay176 (wordAt e (64 * s + (y 0).val)) (winE E8 (wordAt e (64 * s + (y 0).val))) (ix2 (0 : Fin 1) (⟨(y 1).val, h⟩ : Fin 128))
  else k0_pay177 (wordAt e (64 * s + (y 0).val)) (winE E8 (wordAt e (64 * s + (y 0).val)))
    (ix2 (0 : Fin 1) (⟨(y 1).val - 128, by have : (y 1).val < 256 := (y 1).isLt; omega⟩ : Fin 128))

/-- The output weights, one gathered row for every time step and batch row. -/
def WT (e : S12800.Idx → BitVec 32) (E9 : S20016x128.Idx → Elt F .bf16) : Vec F S12800x2x128 .bf16 := fun y =>
  k0_pay355 (wordAt e (y 0).val) (winW E9 (wordAt e (y 0).val)) (ix3 (0 : Fin 1) (y 1 : Fin 2) (y 2 : Fin 128))

/-- One step of the network. -/
def cell (W2 : Vec F S256x512 .f32) (W3 : Vec F S128x512 .f32) (W4 : Vec F S1x512 .f32) (x : Vec F S64x256 .f32)
    (hc : FVec F S64x128 .f32 × FVec F S64x128 .f32) : FVec F S64x128 .f32 × FVec F S64x128 .f32 :=
  (k0_pay4 hc.1 hc.2 x W2 W3 W4, k0_pay3 hc.1 hc.2 x W2 W3 W4)

/-- The state after a number of steps. -/
def state (W2 : Vec F S256x512 .f32) (W3 : Vec F S128x512 .f32) (W4 : Vec F S1x512 .f32) (x : ℕ → Vec F S64x256 .f32)
    (z : FVec F S64x128 .f32 × FVec F S64x128 .f32) : ℕ → FVec F S64x128 .f32 × FVec F S64x128 .f32
  | 0 => z
  | s + 1 => cell W2 W3 W4 (x s) (state W2 W3 W4 x z s)

/-- All hidden states, one block of 64 rows for every step. -/
def HS (st : ℕ → FVec F S64x128 .f32 × FVec F S64x128 .f32) : Vec F S12800x128 .f32 := fun y =>
  (st ((y 0).val / 64 + 1)).1 (ix2 (⟨(y 0).val % 64, Nat.mod_lt _ (by decide)⟩ : Fin 64) (y 1 : Fin 128))

theorem readAt_word {N : ℕ} {sp : Space} (m : Memref sig .tc sp ⟨1, ![N]⟩ .i32) (X : BufTy.Contents (Elt F) m.view.ty) (off : Fin 1 → ℕ) (inb) (n : ℕ) (h : off 0 = n)
    (z : (Rect.unit (s := ⟨1, ![N]⟩) off S1.size inb).toLoadRect.shape.Idx) :
    m.view.readAt (Elt F) (Rect.unit (s := ⟨1, ![N]⟩) off S1.size inb).toLoadRect X z = wordAt (m.view.read (Elt F) X) n := by
  have hn : n < N := by have := inb 0; rw [h] at this; exact this
  rw [View.readAt_apply, wordAt, dif_pos hn]
  congr 1
  funext i
  have h0 : i = 0 := Subsingleton.elim _ _
  subst h0
  refine Fin.ext ?_
  have hz : (z 0).val = 0 := Nat.lt_one_iff.1 (z 0).isLt
  show off 0 + 1 * (z 0).val = n
  rw [hz, h]; rfl

theorem readAt_winE {sp : Space} (m : Memref sig .tc sp S20016x2x128 .bf16) (X : BufTy.Contents (Elt F) m.view.ty) (w : BitVec 32) (inb) :
    m.view.readAt (Elt F) (Rect.unit (s := S20016x2x128) (k0_off1 w) S8x2x128.size inb).toLoadRect X = winE (m.view.read (Elt F) X) w := by
  funext x
  rw [winE, dif_pos inb]; rfl

theorem readAt_winW {sp : Space} (m : Memref sig .tc sp S20016x128 .bf16) (X : BufTy.Contents (Elt F) m.view.ty) (w : BitVec 32) (inb) :
    m.view.readAt (Elt F) (Rect.unit (s := S20016x128) (k0_off388 w) S16x128.size inb).toLoadRect X = winW (m.view.read (Elt F) X) w := by
  funext x
  rw [winW, dif_pos inb]; rfl

theorem readAt_full {d : Fin 2 → ℕ} {e : EltTy} {sp : Space} (m : Memref sig .tc sp ⟨2, d⟩ e) (X : BufTy.Contents (Elt F) m.view.ty) (inb) :
    m.view.readAt (Elt F) (Rect.unit (s := ⟨2, d⟩) ![0, 0] d inb).toLoadRect X = m.view.read (Elt F) X := by
  funext x
  rw [View.readAt_apply]
  congr 1
  funext a
  refine Fin.ext ?_
  show (![0, 0] : Fin 2 → ℕ) a + 1 * (x a).val = (x a).val
  fin_cases a <;> simp

/-- Writes to an input buffer which go row by row, high half before low half, each agreeing with a target. -/
inductive Pairs (G : Vec F S64x256 .f32) : List (View.Piece (Elt F) S64x256 .f32) → ℕ → Prop
  | nil : Pairs G [] 0
  | cons {n : ℕ} {L inb1 inb0} {vh vl : Vec F S1x128 .f32} :
      (∀ x, vh x = G ((Rect.unit (s := S64x256) ![n, 128] S1x128.size inb1).emb x)) →
      (∀ x, vl x = G ((Rect.unit (s := S64x256) ![n, 0] S1x128.size inb0).emb x)) → Pairs G L n →
      Pairs G (⟨Rect.unit (s := S64x256) ![n, 128] S1x128.size inb1, vh⟩ :: ⟨Rect.unit (s := S64x256) ![n, 0] S1x128.size inb0, vl⟩ :: L) (n + 1)

theorem Pairs.agree {G : Vec F S64x256 .f32} {L n} (h : Pairs G L n) : ∀ p ∈ L, ∀ x, p.2 x = G (p.1.emb x) := by
  induction h with
  | nil => intro p hp; cases hp
  | cons h1 h0 _ ih => exact List.forall_mem_cons.2 ⟨h1, List.forall_mem_cons.2 ⟨h0, ih⟩⟩

theorem Pairs.cover {G : Vec F S64x256 .f32} {L n} (h : Pairs G L n) (y : S64x256.Idx) (hy : (y 0).val < n) : ∃ p ∈ L, y ∈ p.1.set := by
  induction h with
  | nil => omega
  | @cons n L inb1 inb0 vh vl h1 h0 _ ih =>
    by_cases hn : (y 0).val < n
    · obtain ⟨p, hp, hm⟩ := ih hn
      exact ⟨p, .tail _ (.tail _ hp), hm⟩
    · have hc : (y 1).val < 256 := (y 1).isLt
      by_cases hl : (y 1).val < 128
      · refine ⟨⟨Rect.unit (s := S64x256) ![n, 0] S1x128.size inb0, vl⟩, .tail _ (.head _), (Rect.mem_set_unit (inb := inb0)).2 fun a => ?_⟩
        fin_cases a
        · exact ⟨by show n ≤ (y 0).val; omega, by show (y 0).val < n + 1; omega⟩
        · exact ⟨by show 0 ≤ (y 1).val; omega, by show (y 1).val < 0 + 128; omega⟩
      · refine ⟨⟨Rect.unit (s := S64x256) ![n, 128] S1x128.size inb1, vh⟩, .head _, (Rect.mem_set_unit (inb := inb1)).2 fun a => ?_⟩
        fin_cases a
        · exact ⟨by show n ≤ (y 0).val; omega, by show (y 0).val < n + 1; omega⟩
        · exact ⟨by show 128 ≤ (y 1).val; omega, by show (y 1).val < 128 + 128; omega⟩

theorem Pairs.read {G : Vec F S64x256 .f32} {L} (h : Pairs G L 64) {sp : Space} (m : Memref sig .tc sp S64x256 .f32) (f : BufTy.Contents (Elt F) m.view.ty) :
    m.view.read (Elt F) (m.view.writes (Elt F) f L) = G :=
  funext fun y => View.read_writes_apply_of_pieces m.view f G L h.agree y (h.cover y (y 0).isLt)

/-- A gathered row, stored in its two halves, agrees with the input at its step. -/
theorem pair (arg0 : Memref sig .tc .smem S13056 .i32) (X0 : BufTy.Contents (Elt F) arg0.view.ty)
    (arg8 : Memref sig .tc .vmem S20016x2x128 .bf16) (X8 : BufTy.Contents (Elt F) arg8.view.ty) (s n : ℕ) {L inb1 inb0}
    (off : Fin 1 → ℕ) (inb) (z) (w : BitVec 32) (hw : w = arg0.view.readAt (Elt F) (Rect.unit (s := S13056) off S1.size inb).toLoadRect X0 z)
    (inb') (raw : Vec F S8x2x128 .bf16) (hraw : raw = arg8.view.readAt (Elt F) (Rect.unit (s := S20016x2x128) (k0_off1 w) S8x2x128.size inb').toLoadRect X8)
    (h : off 0 = 64 * s + n) (hL : Pairs (GX (arg0.view.read (Elt F) X0) (arg8.view.read (Elt F) X8) s) L n) :
    Pairs (GX (arg0.view.read (Elt F) X0) (arg8.view.read (Elt F) X8) s)
      (⟨Rect.unit (s := S64x256) ![n, 128] S1x128.size inb1, k0_pay177 w raw⟩ :: ⟨Rect.unit (s := S64x256) ![n, 0] S1x128.size inb0, k0_pay176 w raw⟩ :: L) (n + 1) := by
  rw [readAt_winE] at hraw
  rw [readAt_word arg0 X0 off inb _ h] at hw
  subst hraw; subst hw
  refine .cons (fun x => ?_) (fun x => ?_) hL
  · have hr : (x 0).val = 0 := Nat.lt_one_iff.1 (x 0).isLt
    have hx : (x 1).val < 128 := (x 1).isLt
    have e0 : (((Rect.unit (s := S64x256) ![n, 128] S1x128.size inb1).emb x) 0).val = n := by
      show n + 1 * (x 0).val = n
      omega
    have e1 : (((Rect.unit (s := S64x256) ![n, 128] S1x128.size inb1).emb x) 1).val = 128 + (x 1).val := by
      show 128 + 1 * (x 1).val = _
      omega
    rw [GX, dif_neg (by omega)]
    rw [e0]
    congr 1
    funext a
    fin_cases a
    · exact Subsingleton.elim (α := Fin 1) _ _
    · exact Fin.ext (show (x 1).val = _ - 128 by rw [e1]; omega)
  · have hr : (x 0).val = 0 := Nat.lt_one_iff.1 (x 0).isLt
    have hx : (x 1).val < 128 := (x 1).isLt
    have e0 : (((Rect.unit (s := S64x256) ![n, 0] S1x128.size inb0).emb x) 0).val = n := by
      show n + 1 * (x 0).val = n
      omega
    have e1 : (((Rect.unit (s := S64x256) ![n, 0] S1x128.size inb0).emb x) 1).val = (x 1).val := by
      show 0 + 1 * (x 1).val = _
      omega
    rw [GX, dif_pos (by omega)]
    rw [e0]
    congr 1
    funext a
    fin_cases a
    · exact Subsingleton.elim (α := Fin 1) _ _
    · exact Fin.ext (show (x 1).val = _ by rw [← e1]; rfl)

/-- Writes of gathered output weights which go row by row from a base row on, each agreeing with a target. -/
inductive Rows (G : Vec F S12800x2x128 .bf16) (b : ℕ) : List (View.Piece (Elt F) S12800x2x128 .bf16) → ℕ → Prop
  | nil : Rows G b [] 0
  | cons {n : ℕ} {L off inb} {v : Vec F S1x2x128 .bf16} : off 0 = b + n → off 1 = 0 → off 2 = 0 →
      (∀ x, v x = G ((Rect.unit (s := S12800x2x128) off S1x2x128.size inb).emb x)) → Rows G b L n →
      Rows G b (⟨Rect.unit (s := S12800x2x128) off S1x2x128.size inb, v⟩ :: L) (n + 1)

theorem Rows.agree {G : Vec F S12800x2x128 .bf16} {b L n} (h : Rows G b L n) : ∀ p ∈ L, ∀ x, p.2 x = G (p.1.emb x) := by
  induction h with
  | nil => intro p hp; cases hp
  | cons _ _ _ h1 _ ih => exact List.forall_mem_cons.2 ⟨h1, ih⟩

theorem Rows.cover {G : Vec F S12800x2x128 .bf16} {b L n} (h : Rows G b L n) (y : S12800x2x128.Idx) (hb : b ≤ (y 0).val) (hy : (y 0).val < b + n) : ∃ p ∈ L, y ∈ p.1.set := by
  induction h with
  | nil => omega
  | @cons n L off inb v h0 h1 h2' _ _ ih =>
    by_cases hn : (y 0).val < b + n
    · obtain ⟨p, hp, hm⟩ := ih hn
      exact ⟨p, .tail _ hp, hm⟩
    · refine ⟨⟨Rect.unit (s := S12800x2x128) off S1x2x128.size inb, v⟩, .head _, (Rect.mem_set_unit (inb := inb)).2 fun a => ?_⟩
      fin_cases a
      · exact ⟨by show off 0 ≤ (y 0).val; omega, by show (y 0).val < off 0 + 1; omega⟩
      · exact ⟨by show off 1 ≤ _; omega, by show (y 1).val < off 1 + 2; rw [h1]; have : (y 1).val < 2 := (y 1).isLt; omega⟩
      · exact ⟨by show off 2 ≤ _; omega, by show (y 2).val < off 2 + 128; rw [h2']; have : (y 2).val < 128 := (y 2).isLt; omega⟩

/-- One gathered row of output weights agrees with its target. -/
theorem rowOf (arg1 : Memref sig .tc .smem S12800 .i32) (X1 : BufTy.Contents (Elt F) arg1.view.ty)
    (arg9 : Memref sig .tc .vmem S20016x128 .bf16) (X9 : BufTy.Contents (Elt F) arg9.view.ty) (b n : ℕ) {L off inb}
    (offw : Fin 1 → ℕ) (inbw) (z) (w : BitVec 32) (hw : w = arg1.view.readAt (Elt F) (Rect.unit (s := S12800) offw S1.size inbw).toLoadRect X1 z)
    (inb') (raw : Vec F S16x128 .bf16) (hraw : raw = arg9.view.readAt (Elt F) (Rect.unit (s := S20016x128) (k0_off388 w) S16x128.size inb').toLoadRect X9)
    (h : offw 0 = b + n) (h0 : off 0 = b + n) (h1 : off 1 = 0) (h2' : off 2 = 0)
    (hL : Rows (WT (arg1.view.read (Elt F) X1) (arg9.view.read (Elt F) X9)) b L n) :
    Rows (WT (arg1.view.read (Elt F) X1) (arg9.view.read (Elt F) X9)) b
      (⟨Rect.unit (s := S12800x2x128) off S1x2x128.size inb, k0_pay355 w raw⟩ :: L) (n + 1) := by
  rw [readAt_winW] at hraw
  rw [readAt_word arg1 X1 offw inbw _ h] at hw
  subst hraw; subst hw
  refine .cons h0 h1 h2' (fun x => ?_) hL
  have hr : (x 0).val = 0 := Nat.lt_one_iff.1 (x 0).isLt
  have e0 : (((Rect.unit (s := S12800x2x128) off S1x2x128.size inb).emb x) 0).val = b + n := by
    show off 0 + 1 * (x 0).val = b + n
    omega
  rw [WT, e0]
  congr 1
  funext a
  fin_cases a
  · exact Subsingleton.elim (α := Fin 1) _ _
  · exact Fin.ext (show (x 1).val = off 1 + 1 * (x 1).val by rw [h1]; omega)
  · exact Fin.ext (show (x 2).val = off 2 + 1 * (x 2).val by rw [h2']; omega)

/-- Writes agreeing with a target keep a buffer agreeing with it wherever it did, and make it agree where they reach. -/
theorem read_grow {s : Shape} {e : EltTy} {sp : Space} (m : Memref sig .tc sp s e) (f : BufTy.Contents (Elt F) m.view.ty) (G : Vec F s e) (L : List (View.Piece (Elt F) s e))
    (hG : ∀ p ∈ L, ∀ x, p.2 x = G (p.1.emb x)) (y : s.Idx) (h : (∃ p ∈ L, y ∈ p.1.set) ∨ m.view.read (Elt F) f y = G y) :
    m.view.read (Elt F) (m.view.writes (Elt F) f L) y = G y := by
  by_cases hc : ∃ p ∈ L, y ∈ p.1.set
  · exact View.read_writes_apply_of_pieces m.view f G L hG y hc
  · rw [View.read_writes_apply_of_forall_not_mem m.view f y L (fun p hp hm => hc ⟨p, hp, hm⟩)]
    exact h.resolve_left hc

/-- A block of hidden states, stored at its rows, agrees with them all. -/
theorem block_HS (st : ℕ → FVec F S64x128 .f32 × FVec F S64x128 .f32) (s : ℕ) (off : Fin 2 → ℕ) (inb) (h0 : off 0 = 64 * s) (h1 : off 1 = 0)
    (v : Vec F S64x128 .f32) (hv : v = (st (s + 1)).1) (x) :
    v x = HS st ((Rect.unit (s := S12800x128) off S64x128.size inb).emb x) := by
  subst hv
  have hx : (x 0).val < 64 := (x 0).isLt
  have e0 : (((Rect.unit (s := S12800x128) off S64x128.size inb).emb x) 0).val = 64 * s + (x 0).val := by
    show off 0 + 1 * (x 0).val = _
    omega
  rw [HS]
  have hd : (((Rect.unit (s := S12800x128) off S64x128.size inb).emb x) 0).val / 64 = s := by rw [e0]; omega
  rw [hd]
  refine congrArg (st (s + 1)).1 (funext fun a => ?_)
  fin_cases a
  · exact Fin.ext (show (x 0).val = _ % 64 by rw [e0]; omega)
  · exact Fin.ext (show (x 1).val = off 1 + 1 * (x 1).val by rw [h1]; omega)

end Cert.KernelIdeal.Dkt
-- ==== Proof.LoopKernelIdeal.lean ====
import proofs.«01_k».proof.Proof.TargetKernelIdeal

/-! What one trip of the counted loop leaves in the buffers. -/

set_option maxRecDepth 16384
set_option maxHeartbeats 4000000
set_option synthInstance.maxHeartbeats 0

noncomputable section

namespace Cert.KernelIdeal.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- Two chains of index arithmetic with one closed form agree. -/
theorem off_eq {n m : ℕ} (off : Fin (n + 1) → ℕ) [C : ClosedOff off] (h : C.form 0 = m) : off 0 = m :=
  (congrFun C.eq 0).trans h

/-- The input the trip leaves for its first step's successor. -/
theorem trip_10 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Pairs (GX (arg0.view.read (Elt F) X0) (arg8.view.read (Elt F) X8) (2 * k.val + 2)) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.1 64 := by
  unfold trip
  dsimp only
  repeat' (first
    | exact Pairs.nil
    | refine pair arg0 X0 arg8 X8 (2 * k.val + 2) _ _ _ _ _ rfl _ _ rfl (off_eq _ ?_) ?_
    | (show 128 * k.val + _ = _; omega))

/-- The input the trip leaves for its second step's successor. -/
theorem trip_11 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Pairs (GX (arg0.view.read (Elt F) X0) (arg8.view.read (Elt F) X8) (2 * k.val + 3)) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.2.1 64 := by
  unfold trip
  dsimp only
  repeat' (first
    | exact Pairs.nil
    | refine pair arg0 X0 arg8 X8 (2 * k.val + 3) _ _ _ _ _ rfl _ _ rfl (off_eq _ ?_) ?_
    | (show 128 * k.val + _ = _; omega))

/-- The output weights the trip gathers. -/
theorem trip_13 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    Rows (WT (arg1.view.read (Elt F) X1) (arg9.view.read (Elt F) X9)) (128 * k.val) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.2.2.2.1 128 := by
  unfold trip
  dsimp only
  repeat' (first
    | exact Rows.nil
    | refine rowOf arg1 X1 arg9 X9 (128 * k.val) _ _ _ _ _ rfl _ _ rfl (off_eq _ rfl) (off_eq _ rfl) (congrFun ClosedOff.eq 1) (congrFun ClosedOff.eq 2) ?_)

end Cert.KernelIdeal.Dkt
-- ==== Proof.InvariantKernelIdeal.lean ====
import proofs.«01_k».proof.Proof.LoopKernelIdeal

/-! The counted loop, by its invariant. -/

set_option maxRecDepth 16384
set_option maxHeartbeats 4000000
set_option synthInstance.maxHeartbeats 0

noncomputable section

namespace Cert.KernelIdeal.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The state the trip hands on is two steps further. -/
theorem trip_acc (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).1 = cell (arg2.view.read (Elt F) X2) (arg3.view.read (Elt F) X3) (arg4.view.read (Elt F) X4) (arg11.view.read (Elt F) f11) (cell (arg2.view.read (Elt F) X2) (arg3.view.read (Elt F) X3) (arg4.view.read (Elt F) X4) (arg10.view.read (Elt F) f10) acc) := by
  unfold trip
  dsimp only
  sl_unfold_run_names
  simp only [readAt_full]
  rfl

/-- The two blocks of hidden states the trip stores. -/
theorem trip_12 (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) :
    ∃ v1 v0 : Vec F S64x128 .f32, (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.2.2.1
        = [⟨Rect.unit (s := S12800x128) (k0_off258 k) S64x128.size (k0_off258_inb k), v1⟩, ⟨Rect.unit (s := S12800x128) (k0_off129 k) S64x128.size (k0_off129_inb k), v0⟩]
      ∧ v1 = (cell (arg2.view.read (Elt F) X2) (arg3.view.read (Elt F) X3) (arg4.view.read (Elt F) X4) (arg11.view.read (Elt F) f11) (cell (arg2.view.read (Elt F) X2) (arg3.view.read (Elt F) X3) (arg4.view.read (Elt F) X4) (arg10.view.read (Elt F) f10) acc)).1
      ∧ v0 = (cell (arg2.view.read (Elt F) X2) (arg3.view.read (Elt F) X3) (arg4.view.read (Elt F) X4) (arg10.view.read (Elt F) f10) acc).1 := by
  unfold trip
  dsimp only
  refine ⟨_, _, rfl, ?_, ?_⟩
  · sl_unfold_run_names
    simp only [readAt_full]
    exact shapeCast_self _ _
  · simp only [readAt_full]
    exact shapeCast_self _ _

/-- What the buffers hold before a trip. -/
def Good (e : S13056.Idx → BitVec 32) (w : S12800.Idx → BitVec 32) (W2 : Vec F S256x512 .f32) (W3 : Vec F S128x512 .f32) (W4 : Vec F S1x512 .f32) (E8 : Vec F S20016x2x128 .bf16) (E9 : Vec F S20016x128 .bf16) (z : FVec F S64x128 .f32 × FVec F S64x128 .f32) (n : ℕ) (acc : FVec F S64x128 .f32 × FVec F S64x128 .f32) (x10 x11 : Vec F S64x256 .f32) (x12 : Vec F S12800x128 .f32) (x13 : Vec F S12800x2x128 .bf16) : Prop :=
  x10 = GX e E8 (2 * n) ∧ x11 = GX e E8 (2 * n + 1) ∧ acc = state W2 W3 W4 (GX e E8) z (2 * n)
    ∧ (∀ y, (y 0).val < 128 * n → x12 y = HS (state W2 W3 W4 (GX e E8) z) y) ∧ (∀ y, (y 0).val < 128 * n → x13 y = WT w E9 y)

/-- A trip takes what the buffers should hold to what they should hold after it. -/
theorem trip_good (𝒱 : Variants) (c : Dev nD) (bd : Option 𝒱.V) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X8 : BufTy.Contents (Elt F) arg8.view.ty) (X9 : BufTy.Contents (Elt F) arg9.view.ty)
    (k : Fin k0_t1_loop.trips)
    (hE : ∀ r x, (arg0.view.readAt (Elt F) r X0 x : BitVec 32).toNat ≤ 20008)
    (hW : ∀ r x, (arg1.view.readAt (Elt F) r X1 x : BitVec 32).toNat ≤ 10000)
    (acc : FVec F S64x128 .f32 × FVec F S64x128 .f32) (f10 : BufTy.Contents (Elt F) arg10.view.ty) (f11 : BufTy.Contents (Elt F) arg11.view.ty) (f12 : BufTy.Contents (Elt F) arg12.view.ty) (f13 : BufTy.Contents (Elt F) arg13.view.ty) (z : FVec F S64x128 .f32 × FVec F S64x128 .f32)
    (hG : Good (arg0.view.read (Elt F) X0) (arg1.view.read (Elt F) X1) (arg2.view.read (Elt F) X2) (arg3.view.read (Elt F) X3) (arg4.view.read (Elt F) X4) (arg8.view.read (Elt F) X8) (arg9.view.read (Elt F) X9) z k.val acc (arg10.view.read (Elt F) f10) (arg11.view.read (Elt F) f11) (arg12.view.read (Elt F) f12) (arg13.view.read (Elt F) f13)) :
    Good (arg0.view.read (Elt F) X0) (arg1.view.read (Elt F) X1) (arg2.view.read (Elt F) X2) (arg3.view.read (Elt F) X3) (arg4.view.read (Elt F) X4) (arg8.view.read (Elt F) X8) (arg9.view.read (Elt F) X9) z (k.val + 1) (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).1
      (arg10.view.read (Elt F) (arg10.view.writes (Elt F) f10 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.1))
      (arg11.view.read (Elt F) (arg11.view.writes (Elt F) f11 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.2.1))
      (arg12.view.read (Elt F) (arg12.view.writes (Elt F) f12 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.2.2.1))
      (arg13.view.read (Elt F) (arg13.view.writes (Elt F) f13 (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).2.2.2.2.1)) := by
  obtain ⟨h10, h11, hacc, h12, h13⟩ := hG
  have s0 : cell (arg2.view.read (Elt F) X2) (arg3.view.read (Elt F) X3) (arg4.view.read (Elt F) X4) (arg10.view.read (Elt F) f10) acc = (state (arg2.view.read (Elt F) X2) (arg3.view.read (Elt F) X3) (arg4.view.read (Elt F) X4) (GX (arg0.view.read (Elt F) X0) (arg8.view.read (Elt F) X8)) z) (2 * k.val + 1) := by rw [h10, hacc]; rfl
  have s1 : cell (arg2.view.read (Elt F) X2) (arg3.view.read (Elt F) X3) (arg4.view.read (Elt F) X4) (arg11.view.read (Elt F) f11) (cell (arg2.view.read (Elt F) X2) (arg3.view.read (Elt F) X3) (arg4.view.read (Elt F) X4) (arg10.view.read (Elt F) f10) acc) = (state (arg2.view.read (Elt F) X2) (arg3.view.read (Elt F) X3) (arg4.view.read (Elt F) X4) (GX (arg0.view.read (Elt F) X0) (arg8.view.read (Elt F) X8)) z) (2 * k.val + 2) := by
    rw [s0, h11]; rfl
  refine ⟨?_, ?_, ?_, fun y hy => ?_, fun y hy => ?_⟩
  · exact (trip_10 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).read arg10 f10
  · exact (trip_11 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13).read arg11 f11
  · rw [trip_acc, s1]; rfl
  · obtain ⟨v1, v0, hL, e1, e0⟩ := trip_12 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13
    rw [hL]
    refine read_grow arg12 f12 _ _ (List.forall_mem_cons.2 ⟨?_, List.forall_mem_cons.2 ⟨?_, fun p hp => absurd hp List.not_mem_nil⟩⟩) y ?_
    · exact block_HS (state (arg2.view.read (Elt F) X2) (arg3.view.read (Elt F) X3) (arg4.view.read (Elt F) X4) (GX (arg0.view.read (Elt F) X0) (arg8.view.read (Elt F) X8)) z) (2 * k.val + 1) _ (k0_off258_inb k) (by rw [k0_off258_eq]; show 128 * k.val + 64 = _; omega) (by rw [k0_off258_eq]; rfl) v1 (e1.trans (congrArg Prod.fst s1))
    · exact block_HS (state (arg2.view.read (Elt F) X2) (arg3.view.read (Elt F) X3) (arg4.view.read (Elt F) X4) (GX (arg0.view.read (Elt F) X0) (arg8.view.read (Elt F) X8)) z) (2 * k.val) _ (k0_off129_inb k) (by rw [k0_off129_eq]; show 128 * k.val = _; omega) (by rw [k0_off129_eq]; rfl) v0 (e0.trans (congrArg Prod.fst s0))
    · by_cases hlt : (y 0).val < 128 * k.val
      · exact .inr (h12 y hlt)
      · left
        have hy1 : (y 1).val < 128 := (y 1).isLt
        by_cases hm : (y 0).val < 128 * k.val + 64
        · refine ⟨⟨Rect.unit (s := S12800x128) (k0_off129 k) S64x128.size (k0_off129_inb k), v0⟩, .tail _ (.head _), (Rect.mem_set_unit (inb := k0_off129_inb k)).2 fun a => ?_⟩
          rw [k0_off129_eq]
          fin_cases a
          · exact ⟨by show 128 * k.val ≤ (y 0).val; omega, by show (y 0).val < 128 * k.val + 64; omega⟩
          · exact ⟨by show 0 ≤ (y 1).val; omega, by show (y 1).val < 0 + 128; omega⟩
        · refine ⟨⟨Rect.unit (s := S12800x128) (k0_off258 k) S64x128.size (k0_off258_inb k), v1⟩, .head _, (Rect.mem_set_unit (inb := k0_off258_inb k)).2 fun a => ?_⟩
          rw [k0_off258_eq]
          fin_cases a
          · exact ⟨by show 128 * k.val + 64 ≤ (y 0).val; omega, by show (y 0).val < 128 * k.val + 64 + 64; omega⟩
          · exact ⟨by show 0 ≤ (y 1).val; omega, by show (y 1).val < 0 + 128; omega⟩
  · have h := trip_13 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 X8 X9 k hE hW acc f10 f11 f12 f13
    refine read_grow arg13 f13 _ _ h.agree y ?_
    by_cases hlt : (y 0).val < 128 * k.val
    · exact .inr (h13 y hlt)
    · exact .inl (h.cover y (by omega) (by omega))

/-- What the run holds before a trip. -/
def inv (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x2x128 .bf16) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x2x128 .bf16) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x2x128 .bf16) (E9 : Vec F S20016x128 .bf16) (z : FVec F S64x128 .f32 × FVec F S64x128 .f32) (n : ℕ) (acc : FVec F S64x128 .f32 × FVec F S64x128 .f32) : sProp 𝕄 :=
  iprop(∃ f8 f9 f10 f11 f12 f13, ⌜arg8.view.read (Elt F) f8 = E8 ∧ arg9.view.read (Elt F) f9 = E9
    ∧ Good (arg0.view.read (Elt F) X0) (arg1.view.read (Elt F) X1) (arg2.view.read (Elt F) X2) (arg3.view.read (Elt F) X3) (arg4.view.read (Elt F) X4) E8 E9 z n acc (arg10.view.read (Elt F) f10) (arg11.view.read (Elt F) f11) (arg12.view.read (Elt F) f12) (arg13.view.read (Elt F) f13)⌝
    ∗ Held (F := F) c arg0 arg1 arg2 arg3 arg4 arg8 arg9 arg10 arg11 arg12 arg13 X0 X1 X2 X3 X4 f8 f9 f10 f11 f12 f13)

/-- The loop by its invariant. -/
def loopInv (𝒱 : Variants) (c : Dev nD) (bd : Option 𝒱.V) (E : Set ℕ) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x2x128 .bf16) (E9 : Vec F S20016x128 .bf16)
    (hE : ∀ r x, (arg0.view.readAt (Elt F) r X0 x : BitVec 32).toNat ≤ 20008)
    (hW : ∀ r x, (arg1.view.readAt (Elt F) r X1 x : BitVec 32).toNat ≤ 10000)
    (z : FVec F S64x128 .f32 × FVec F S64x128 .f32) :
    LoopInv (M := 𝕄) frame (wpE (defs₀ (F := F)) 𝒱 (c : Thread nD τ) bd) E k0_t1_loop.lb k0_t1_loop.ub k0_t1_loop.st k0_t1_ok z
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808) where
  inv := inv c arg0 arg1 arg2 arg3 arg4 arg8 arg9 arg10 arg11 arg12 arg13 X0 X1 X2 X3 X4 E8 E9 z
  step k acc := by
    unfold inv
    iintro ⟨%f8, %f9, %f10, %f11, %f12, %f13, %hG, HR0, HR1, HR2, HR3, HR4, HR8, HR9, HW10, HW11, HW12, HW13⟩
    obtain ⟨h8, h9, hG⟩ := hG
    subst h8; subst h9
    iapply (wp_wand_r Idealize.ShloMosaic.frame (wpE (defs₀ (F := F)) 𝒱 (c : Thread nD τ) bd) E)
    isplitl [HR0 HR1 HR2 HR3 HR4 HR8 HR9 HW10 HW11 HW12 HW13]
    · iapply ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 f8 f9 k hE hW acc f10 f11 f12 f13).2.2.2.2.2 E)
      isplitl [HR0]; · iexact HR0
      isplitl [HR1]; · iexact HR1
      isplitl [HR2]; · iexact HR2
      isplitl [HR3]; · iexact HR3
      isplitl [HR4]; · iexact HR4
      isplitl [HR8]; · iexact HR8
      isplitl [HR9]; · iexact HR9
      isplitl [HW10]; · iexact HW10
      isplitl [HW11]; · iexact HW11
      isplitl [HW12]; · iexact HW12
      iexact HW13
    · iintro %yld ⟨%h_res, HR0, HR1, HR2, HR3, HR4, HR8, HR9, HW10, HW11, HW12, HW13⟩
      iexists f8, f9, _, _, _, _
      isplitr
      · ipureintro
        rw [h_res]
        exact ⟨rfl, rfl, trip_good 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 f8 f9 k hE hW acc f10 f11 f12 f13 z hG⟩
      isplitl [HR0]; · iexact HR0
      isplitl [HR1]; · iexact HR1
      isplitl [HR2]; · iexact HR2
      isplitl [HR3]; · iexact HR3
      isplitl [HR4]; · iexact HR4
      isplitl [HR8]; · iexact HR8
      isplitl [HR9]; · iexact HR9
      isplitl [HW10]; · iexact HW10
      isplitl [HW11]; · iexact HW11
      isplitl [HW12]; · iexact HW12
      iexact HW13

/-- What the run holds after the loop. -/
def after (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x2x128 .bf16) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x2x128 .bf16) (harg12 : arg12.IsWhole) (harg13 : arg13.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x2x128 .bf16) (E9 : Vec F S20016x128 .bf16) (z : FVec F S64x128 .f32 × FVec F S64x128 .f32) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (arg12.view.loc (c : Thread nD τ) ↦[arg12.view.set]{fullShare} (harg12.unread (HS (state (arg2.view.read (Elt F) X2) (arg3.view.read (Elt F) X3) (arg4.view.read (Elt F) X4) (GX (arg0.view.read (Elt F) X0) E8) z)))) ∗ (arg13.view.loc (c : Thread nD τ) ↦[arg13.view.set]{fullShare} (harg13.unread (WT (arg1.view.read (Elt F) X1) E9))))

theorem inv_after (c : Dev nD) (arg0 : Memref sig .tc .smem S13056 .i32) (arg1 : Memref sig .tc .smem S12800 .i32) (arg2 : Memref sig .tc .vmem S256x512 .f32) (arg3 : Memref sig .tc .vmem S128x512 .f32) (arg4 : Memref sig .tc .vmem S1x512 .f32) (arg8 : Memref sig .tc .vmem S20016x2x128 .bf16) (arg9 : Memref sig .tc .vmem S20016x128 .bf16) (arg10 : Memref sig .tc .vmem S64x256 .f32) (arg11 : Memref sig .tc .vmem S64x256 .f32) (arg12 : Memref sig .tc .vmem S12800x128 .f32) (arg13 : Memref sig .tc .vmem S12800x2x128 .bf16) (harg12 : arg12.IsWhole) (harg13 : arg13.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x2x128 .bf16) (E9 : Vec F S20016x128 .bf16) (z : FVec F S64x128 .f32 × FVec F S64x128 .f32) (acc : FVec F S64x128 .f32 × FVec F S64x128 .f32) :
    inv (F := F) c arg0 arg1 arg2 arg3 arg4 arg8 arg9 arg10 arg11 arg12 arg13 X0 X1 X2 X3 X4 E8 E9 z (Scf.trips k0_t1_loop.lb k0_t1_loop.ub k0_t1_loop.st) acc ⊢ after c arg0 arg1 arg2 arg3 arg4 arg8 arg9 arg10 arg11 arg12 arg13 harg12 harg13 X0 X1 X2 X3 X4 E8 E9 z := by
  show inv (F := F) c arg0 arg1 arg2 arg3 arg4 arg8 arg9 arg10 arg11 arg12 arg13 X0 X1 X2 X3 X4 E8 E9 z 100 acc ⊢ _
  unfold inv after
  iintro ⟨%f8, %f9, %f10, %f11, %f12, %f13, %hG, HR0, HR1, HR2, HR3, HR4, HR8, HR9, HW10, HW11, HW12, HW13⟩
  obtain ⟨-, -, -, -, -, h12, h13⟩ := hG
  rw [← harg12.eq_unread (funext fun y => h12 y (y 0).isLt), ← harg13.eq_unread (funext fun y => h13 y (y 0).isLt)]
  isplitl [HR0]; · iexact HR0
  isplitl [HR1]; · iexact HR1
  isplitl [HR2]; · iexact HR2
  isplitl [HR3]; · iexact HR3
  isplitl [HR4]; · iexact HR4
  isplitl [HR8]; · iexists _; iexact HR8
  isplitl [HR9]; · iexists _; iexact HR9
  isplitl [HW10]; · iexists _; iexact HW10
  isplitl [HW11]; · iexists _; iexact HW11
  isplitl [HW12]; · iexact HW12
  iexact HW13

end Cert.KernelIdeal.Dkt
-- ==== Proof.BodyKernelIdeal.lean ====
import proofs.«01_k».proof.Proof.InvariantKernelIdeal
import proofs.«01_k».proof.Proof.Gen.KernelIdeal.Launch
import proofs.«01_k».proof.Proof.Gen.KernelIdeal.Points

/-! The kernel's body, run from its first line to its last. -/

set_option maxRecDepth 16384
set_option maxHeartbeats 40000000
set_option synthInstance.maxHeartbeats 0

noncomputable section

namespace Cert.KernelIdeal.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The exercise table as its copy into the kernel's memory reads it. -/
def tabE (arg5 : Memref sig .tc .hbm S40032x128 .bf16) (harg5 : arg5.IsWhole) (X5 : BufTy.Contents (Elt F) arg5.view.ty) : Vec F S20016x2x128 .bf16 :=
  ReadAs.same.apply ((arg5.reshape S20016x2x128 reshapes_S40032x128_S20016x2x128.1 reshapes_S40032x128_S20016x2x128.2 harg5.contiguous).view.read (Elt F) X5)

/-- The output weights as their copy into the kernel's memory reads them. -/
def tabW (arg6 : Memref sig .tc .hbm S20016x128 .bf16) (X6 : BufTy.Contents (Elt F) arg6.view.ty) : Vec F S20016x128 .bf16 :=
  ReadAs.same.apply (arg6.view.read (Elt F) X6)

/-- Before its first trip the run holds what the invariant says. -/
theorem loop_zero (𝒱 : Variants) (c : Dev nD) (bd : Option 𝒱.V) (E : Set ℕ) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x2x128 .bf16) (E9 : Vec F S20016x128 .bf16)
    (hE : ∀ r x, (arg0.view.readAt (Elt F) r X0 x : BitVec 32).toNat ≤ 20008)
    (hW : ∀ r x, (arg1.view.readAt (Elt F) r X1 x : BitVec 32).toNat ≤ 10000)
    (z : FVec F S64x128 .f32 × FVec F S64x128 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    iprop(Held (F := F) c arg0 arg1 arg2 arg3 arg4 arg8 arg9 arg10 arg11 arg12 arg13 X0 X1 X2 X3 X4 f8 f9 f10 f11 f12 f13
        ∗ ⌜arg8.view.read (Elt F) f8 = E8 ∧ arg9.view.read (Elt F) f9 = E9
          ∧ Good (arg0.view.read (Elt F) X0) (arg1.view.read (Elt F) X1) (arg2.view.read (Elt F) X2) (arg3.view.read (Elt F) X3) (arg4.view.read (Elt F) X4) E8 E9 z 0 z
            (arg10.view.read (Elt F) f10) (arg11.view.read (Elt F) f11) (arg12.view.read (Elt F) f12) (arg13.view.read (Elt F) f13)⌝)
      ⊢ (loopInv (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 E8 E9 hE hW z).inv 0 z := by
  show _ ⊢ inv (F := F) c arg0 arg1 arg2 arg3 arg4 arg8 arg9 arg10 arg11 arg12 arg13 X0 X1 X2 X3 X4 E8 E9 z 0 z
  unfold inv
  iintro ⟨H, %h⟩
  iexists f8, f9, f10, f11, f12, f13
  isplitr
  · ipureintro; exact h
  iexact H

/-- After its last trip the loop leaves what the invariant says. -/
theorem loop_after (𝒱 : Variants) (c : Dev nD) (bd : Option 𝒱.V) (E : Set ℕ) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole) (arg14 : DmaSems sig S2) (v2807_lo : FVec F S8x128 .bf16) (v2807_hi : FVec F S8x128 .bf16) (v2808 : BitVec 32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (E8 : Vec F S20016x2x128 .bf16) (E9 : Vec F S20016x128 .bf16)
    (hE : ∀ r x, (arg0.view.readAt (Elt F) r X0 x : BitVec 32).toNat ≤ 20008)
    (hW : ∀ r x, (arg1.view.readAt (Elt F) r X1 x : BitVec 32).toNat ≤ 10000)
    (z acc : FVec F S64x128 .f32 × FVec F S64x128 .f32) :
    (loopInv (F := F) 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 v2807_lo v2807_hi v2808 X0 X1 X2 X3 X4 E8 E9 hE hW z).inv (Scf.trips k0_t1_loop.lb k0_t1_loop.ub k0_t1_loop.st) acc
      ⊢ after c arg0 arg1 arg2 arg3 arg4 arg8 arg9 arg10 arg11 arg12 arg13 harg12 harg13 X0 X1 X2 X3 X4 E8 E9 z :=
  inv_after (F := F) c arg0 arg1 arg2 arg3 arg4 arg8 arg9 arg10 arg11 arg12 arg13 harg12 harg13 X0 X1 X2 X3 X4 E8 E9 z acc

/-- The body's run, and what it leaves in the result's buffer. -/
def body (c : Dev nD) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (hE : ∀ r x, (arg0.view.readAt (Elt F) r X0 x : BitVec 32).toNat ≤ 20008)
    (hW : ∀ r x, (arg1.view.readAt (Elt F) r X1 x : BitVec 32).toNat ≤ 10000) :
    { L7 : List (View.Piece (Elt F) S12800x1 .f32) //
      ∀ (W : Waits sig Unit) (K : PUnit → sProp 𝕄),
        iprop((arg0.view.loc (c : Thread nD τ) ↦[arg0.view.set]{fullShare} X0)
            ∗ (arg1.view.loc (c : Thread nD τ) ↦[arg1.view.set]{fullShare} X1)
            ∗ (arg2.view.loc (c : Thread nD τ) ↦[arg2.view.set]{fullShare} X2)
            ∗ (arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (arg6.view.loc (c : Thread nD τ) ↦[arg6.view.set]{fullShare} X6)
            ∗ (∃ f, (arg7.view.loc (c : Thread nD τ) ↦[arg7.view.set]{fullShare} f))
            ∗ (∃ f, (arg8.view.loc (c : Thread nD τ) ↦[arg8.view.set]{fullShare} f))
            ∗ (∃ f, (arg9.view.loc (c : Thread nD τ) ↦[arg9.view.set]{fullShare} f))
            ∗ (∃ f, (arg10.view.loc (c : Thread nD τ) ↦[arg10.view.set]{fullShare} f))
            ∗ (∃ f, (arg11.view.loc (c : Thread nD τ) ↦[arg11.view.set]{fullShare} f))
            ∗ (∃ f, (arg12.view.loc (c : Thread nD τ) ↦[arg12.view.set]{fullShare} f))
            ∗ (∃ f, (arg13.view.loc (c : Thread nD τ) ↦[arg13.view.set]{fullShare} f))
            ∗ semVal ((c : Thread nD τ), SemLoc.dma 6) 0
            ∗ semVal ((c : Thread nD τ), SemLoc.dma 7) 0
            ∗ owes (c : Thread nD τ) 0 W
            ∗ (iprop((arg0.view.loc (c : Thread nD τ) ↦[arg0.view.set]{fullShare} X0)
                ∗ (arg1.view.loc (c : Thread nD τ) ↦[arg1.view.set]{fullShare} X1)
                ∗ (arg2.view.loc (c : Thread nD τ) ↦[arg2.view.set]{fullShare} X2)
                ∗ (arg3.view.loc (c : Thread nD τ) ↦[arg3.view.set]{fullShare} X3)
                ∗ (arg4.view.loc (c : Thread nD τ) ↦[arg4.view.set]{fullShare} X4)
                ∗ (arg5.view.loc (c : Thread nD τ) ↦[arg5.view.set]{fullShare} X5)
                ∗ (arg6.view.loc (c : Thread nD τ) ↦[arg6.view.set]{fullShare} X6)
                ∗ (∃ f, (arg7.view.loc (c : Thread nD τ) ↦[arg7.view.set]{fullShare} arg7.view.writes (Elt F) f L7))
                ∗ (∃ f, (arg8.view.loc (c : Thread nD τ) ↦[arg8.view.set]{fullShare} f))
                ∗ (∃ f, (arg9.view.loc (c : Thread nD τ) ↦[arg9.view.set]{fullShare} f))
                ∗ (∃ f, (arg10.view.loc (c : Thread nD τ) ↦[arg10.view.set]{fullShare} f))
                ∗ (∃ f, (arg11.view.loc (c : Thread nD τ) ↦[arg11.view.set]{fullShare} f))
                ∗ (∃ f, (arg12.view.loc (c : Thread nD τ) ↦[arg12.view.set]{fullShare} f))
                ∗ (∃ f, (arg13.view.loc (c : Thread nD τ) ↦[arg13.view.set]{fullShare} f))
                ∗ semVal ((c : Thread nD τ), SemLoc.dma 6) 0
                ∗ semVal ((c : Thread nD τ), SemLoc.dma 7) 0
                ∗ (∃ W', owes (c : Thread nD τ) 0 W')) -∗ K ⟨⟩))
          ⊢ wp frame (wpE (defs₀ (F := F)) Variants.none c none) Set.univ
              (cc0_dkt_pebg_fused (F := F) arg0 harg0 arg1 harg1 arg2 harg2 arg3 harg3 arg4 harg4 arg5 harg5 arg6 harg6 arg7 harg7 arg8 harg8 arg9 harg9 arg10 harg10 arg11 harg11 arg12 harg12 arg13 harg13 cc0_scratch6) K } := by
  refine ⟨?_, fun W K => ?run⟩
  case run =>
    simp only [cc0_dkt_pebg_fused_eq_skeleton]; unfold cc0_dkt_pebg_fused_skel
    iintro ⟨H0, H1, H2, H3, H4, H5, H6, ⟨%f7, H7⟩, ⟨%f8, H8⟩, ⟨%f9, H9⟩, ⟨%f10, H10⟩, ⟨%f11, H11⟩, ⟨%f12, H12⟩, ⟨%f13, H13⟩, Hq0, Hq1, HW, Hk⟩
    sl_exec (disch := refine ⟨round8_dvd (word_lt ?_), fun a => ?_⟩; first
      | (· sl_unfold_run_names; with_reducible exact hE _ _); refine rowsE_in a ?_; sl_unfold_run_names; with_reducible exact hE _ _
      | (· sl_unfold_run_names; with_reducible exact (Nat.le_trans (hW _ _) (by decide))); refine rowsW_in a ?_; sl_unfold_run_names; with_reducible exact hW _ _)
    have h8 : arg8.view.read (Elt F) (arg8.view.writes (Elt F) arg8.view.junk [⟨Rect.whole S20016x2x128, tabE arg5 harg5 X5⟩]) = tabE arg5 harg5 X5 :=
      View.read_writes_whole arg8.view arg8.view.junk (tabE arg5 harg5 X5)
    have h9 : arg9.view.read (Elt F) (arg9.view.writes (Elt F) arg9.view.junk [⟨Rect.whole S20016x128, tabW arg6 X6⟩]) = tabW arg6 X6 :=
      View.read_writes_whole arg9.view arg9.view.junk (tabW arg6 X6)
    iapply (exec_loop Idealize.ShloMosaic.frame (wpE (defs₀ (F := F)) Variants.none (c : Thread nD τ) none) Set.univ _ _ _ _ _ _
      (loopInv (F := F) Variants.none c none Set.univ arg0 harg0 arg1 harg1 arg2 harg2 arg3 harg3 arg4 harg4 arg5 harg5 arg6 harg6 arg7 harg7 arg8 harg8 arg9 harg9 arg10 harg10 arg11 harg11 arg12 harg12 arg13 harg13 cc0_scratch6 _ _ _ X0 X1 X2 X3 X4 (tabE arg5 harg5 X5) (tabW arg6 X6) hE hW _)) $$ [H0 H1 H2 H3 H4 H8 H9 H10 H11 H12 H13]
    · iapply (loop_zero (F := F) Variants.none c none Set.univ arg0 harg0 arg1 harg1 arg2 harg2 arg3 harg3 arg4 harg4 arg5 harg5 arg6 harg6 arg7 harg7 arg8 harg8 arg9 harg9 arg10 harg10 arg11 harg11 arg12 harg12 arg13 harg13 cc0_scratch6 _ _ _ X0 X1 X2 X3 X4 (tabE arg5 harg5 X5) (tabW arg6 X6) hE hW _ _ _ _ _ _ _ ) $$ [H0 H1 H2 H3 H4 H8 H9 H10 H11 H12 H13]
      isplitl [H0 H1 H2 H3 H4 H8 H9 H10 H11 H12 H13]
      · isplitl [H0]; · iexact H0
        isplitl [H1]; · iexact H1
        isplitl [H2]; · iexact H2
        isplitl [H3]; · iexact H3
        isplitl [H4]; · iexact H4
        isplitl [H8]; · iexact H8
        isplitl [H9]; · iexact H9
        isplitl [H10]; · iexact H10
        isplitl [H11]; · iexact H11
        isplitl [H12]; · iexact H12
        iexact H13
      · ipureintro
        refine ⟨h8, h9, ?_⟩
        rw [← h8]
        refine ⟨Pairs.read ?_ arg10 _, Pairs.read ?_ arg11 _, rfl, fun y h => absurd h (Nat.not_lt_zero _), fun y h => absurd h (Nat.not_lt_zero _)⟩
        · sl_unfold_run_names
          repeat' (first
            | exact Pairs.nil
            | refine pair arg0 X0 arg8 _ (2 * 0) _ _ _ _ _ rfl _ _ rfl rfl ?_)
        · sl_unfold_run_names
          repeat' (first
            | exact Pairs.nil
            | refine pair arg0 X0 arg8 _ (2 * 0 + 1) _ _ _ _ _ rfl _ _ rfl rfl ?_)
    iintro %acc Hinv
    ihave Ha := (loop_after (F := F) Variants.none c none Set.univ arg0 harg0 arg1 harg1 arg2 harg2 arg3 harg3 arg4 harg4 arg5 harg5 arg6 harg6 arg7 harg7 arg8 harg8 arg9 harg9 arg10 harg10 arg11 harg11 arg12 harg12 arg13 harg13 cc0_scratch6 _ _ _ X0 X1 X2 X3 X4 (tabE arg5 harg5 X5) (tabW arg6 X6) hE hW _ acc) $$ Hinv
    unfold after
    icases Ha with ⟨H0, H1, H2, H3, H4, ⟨%g8, H8⟩, ⟨%g9, H9⟩, ⟨%g10, H10⟩, ⟨%g11, H11⟩, H12, H13⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [Hq0]; · iexact Hq0
    isplitl [Hq1]; · iexact Hq1
    iexists _; iexact HW

end Cert.KernelIdeal.Dkt
-- ==== Proof.WholeKernelIdeal.lean ====
import proofs.«01_k».proof.Proof.BodyKernelIdeal
import proofs.«01_k».proof.Proof.Gen.KernelIdeal.Frame
import Idealize.ShloMosaic.Lib.WholeRead

/-! The whole program's run, given that the two index arrays stay inside the tables. -/

set_option maxRecDepth 16384
set_option maxHeartbeats 4000000

noncomputable section

namespace Cert.KernelIdeal.Dkt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The buffers the body is handed. -/

abbrev ms0 (t : Fin cfg0.N) : Memref sig .tc .smem S13056 .i32 := win0_0.stage (cfg0.slots t 0)
abbrev hs0 (t : Fin cfg0.N) : (ms0 t).IsWhole := hstage0_0 0
abbrev ms1 (t : Fin cfg0.N) : Memref sig .tc .smem S12800 .i32 := win0_1.stage (cfg0.slots t 1)
abbrev hs1 (t : Fin cfg0.N) : (ms1 t).IsWhole := hstage0_1 0
abbrev ms2 (t : Fin cfg0.N) : Memref sig .tc .vmem S256x512 .f32 := win0_2.stage (cfg0.slots t 2)
abbrev hs2 (t : Fin cfg0.N) : (ms2 t).IsWhole := hstage0_2 0
abbrev ms3 (t : Fin cfg0.N) : Memref sig .tc .vmem S128x512 .f32 := win0_3.stage (cfg0.slots t 3)
abbrev hs3 (t : Fin cfg0.N) : (ms3 t).IsWhole := hstage0_3 0
abbrev ms4 (t : Fin cfg0.N) : Memref sig .tc .vmem S1x512 .f32 := win0_4.stage (cfg0.slots t 4)
abbrev hs4 (t : Fin cfg0.N) : (ms4 t).IsWhole := hstage0_4 0
abbrev ms5 (t : Fin cfg0.N) : Memref sig .tc .vmem S12800x1 .f32 := win0_5.stage (cfg0.slots t 5)
abbrev hs5 (t : Fin cfg0.N) : (ms5 t).IsWhole := hstage0_5 0
abbrev sc0 : Memref sig .tc .vmem S20016x2x128 .bf16 := Memref.whole cc0_scratch0
abbrev sc1 : Memref sig .tc .vmem S20016x128 .bf16 := Memref.whole cc0_scratch1
abbrev sc2 : Memref sig .tc .vmem S64x256 .f32 := Memref.whole cc0_scratch2
abbrev sc3 : Memref sig .tc .vmem S64x256 .f32 := Memref.whole cc0_scratch3
abbrev sc4 : Memref sig .tc .vmem S12800x128 .f32 := Memref.whole cc0_scratch4
abbrev sc5 : Memref sig .tc .vmem S12800x2x128 .bf16 := Memref.whole cc0_scratch5
abbrev hbE : Memref sig .tc .hbm S40032x128 .bf16 := Memref.whole main_v9
abbrev hbW : Memref sig .tc .hbm S20016x128 .bf16 := Memref.whole main_v24

/-- The two cells the table copies count on. -/
abbrev cells : Fin 2 → SemLoc sig := fun j => (![SemLoc.dma 6, SemLoc.dma 7] : Fin 2 → SemLoc sig) j
theorem cells_own : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 6) 0 ∗ semVal ((c : Thread nD τ), SemLoc.dma 7) 0) := by
  rw [Pipeline.ownSems0_eq_of_list c cells [0, 1] (by decide) (by decide)]; rfl

/-- The two tables the kernel copies itself. -/
def tables : Finset (Ref sig .tc) := {main_v9, main_v24}
theorem tables_sub : tables ⊆ Pipeline.restRefs sig spec0 := by decide
theorem tables_eq (c : Dev nD) :
    (bigSep tables (fun b => ((c : Thread nD τ).loc b) ↦{fullShare} V m c b) : sProp 𝕄)
      = iprop(owns (c : Thread nD τ) hbE fullShare (V m c main_v9) ∗ owns (c : Thread nD τ) hbW fullShare (V m c main_v24)) := by
  rw [BI.bigSep_eq_bigSepL_of_eq [main_v9, main_v24] (by decide) (by decide)]; simp only [hbE, hbW, owns_whole]; rfl

/-- What the region keeps between its ends. -/
theorem kept_eq (c : Dev nD) :
    (Pipeline.ΦD cells spec0 tables (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)
          ∗ iprop(semVal ((c : Thread nD τ), SemLoc.dma 6) 0 ∗ semVal ((c : Thread nD τ), SemLoc.dma 7) 0)
          ∗ iprop(owns (c : Thread nD τ) hbE fullShare (V m c main_v9) ∗ owns (c : Thread nD τ) hbW fullShare (V m c main_v24))) := by
  rw [Pipeline.ΦD_eq, scopedRest0_eq, cells_eq, tables_eq]; simp only [sc0, sc1, sc2, sc3, sc4, sc5, owns_whole]; try rfl

variable (rE : ∀ (c : Dev nD) i, (V m c main_v35 i : BitVec 32).toNat ≤ 20008)
variable (rW : ∀ (c : Dev nD) i, (V m c main_v46 i : BitVec 32).toNat ≤ 10000)

include rE in
theorem wordE (c : Dev nD) (t : Fin cfg0.N) (r : LoadRect S13056) (x : r.shape.Idx) :
    ((ms0 t).view.readAt (Elt F) r ((hs0 t).unread (iblk m c 0 t)) x : BitVec 32).toNat ≤ 20008 := by
  rw [(hs0 t).readAt_unread]
  exact rE c _

include rW in
theorem wordW (c : Dev nD) (t : Fin cfg0.N) (r : LoadRect S12800) (x : r.shape.Idx) :
    ((ms1 t).view.readAt (Elt F) r ((hs1 t).unread (iblk m c 1 t)) x : BitVec 32).toNat ≤ 10000 := by
  rw [(hs1 t).readAt_unread]
  exact rW c _

/-- The stores the body makes into its result. -/
def pieces (c : Dev nD) (t : Fin cfg0.N) : List (View.Piece (Elt F) S12800x1 .f32) :=
  (body (F := F) c (ms0 t) (hs0 t) (ms1 t) (hs1 t) (ms2 t) (hs2 t) (ms3 t) (hs3 t) (ms4 t) (hs4 t) hbE (Memref.isWhole_whole _) hbW (Memref.isWhole_whole _) (ms5 t) (hs5 t) sc0 (Memref.isWhole_whole _) sc1 (Memref.isWhole_whole _) sc2 (Memref.isWhole_whole _) sc3 (Memref.isWhole_whole _) sc4 (Memref.isWhole_whole _) sc5 (Memref.isWhole_whole _) ((hs0 t).unread (iblk m c 0 t)) ((hs1 t).unread (iblk m c 1 t)) ((hs2 t).unread (iblk m c 2 t)) ((hs3 t).unread (iblk m c 3 t)) ((hs4 t).unread (iblk m c 4 t)) (V m c main_v9) (V m c main_v24) (wordE m rE c t) (wordW m rW c t)).1

theorem pieces_cover (c : Dev nD) (t : Fin cfg0.N) (y : S12800x1.Idx) : ∃ pc ∈ pieces m rE rW c t, y ∈ pc.1.set :=
  View.cover_of_tiledL (pieces m rE rW c t) S512x1.size (by sl_kernel_rfl) y

/-- What the body leaves in its result. -/
def result (c : Dev nD) (t : Fin cfg0.N) : Vec F S12800x1 .f32 :=
  (ms5 t).view.read (Elt F) ((ms5 t).view.writes (Elt F) (ms5 t).view.junk (pieces m rE rW c t))

/-- The proof data: the arrays as the region finds them, the inputs left in place, the result. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m rE rW c t
  Φ _ := Pipeline.ΦD cells spec0 tables (V m) c
  q _ := fullShare
  owed _ := 0

theorem A_eq (c : Dev nD) (w : Fin cfg0.W) : (dats m rE rW 0 c).A w = V m c (Pipeline.arrRef spec0 w) := by
  dsimp only [dats]

/-- An input window holds its block when the body is called. -/
theorem before_eq (c : Dev nD) (t : Fin cfg0.N) :
    (∀ d, (dats m rE rW 0 c).before 0 t d = iblk m c 0 t) ∧ (∀ d, (dats m rE rW 0 c).before 1 t d = iblk m c 1 t)
      ∧ (∀ d, (dats m rE rW 0 c).before 2 t d = iblk m c 2 t) ∧ (∀ d, (dats m rE rW 0 c).before 3 t d = iblk m c 3 t)
      ∧ (∀ d, (dats m rE rW 0 c).before 4 t d = iblk m c 4 t) := by
  refine ⟨fun d => ?_, fun d => ?_, fun d => ?_, fun d => ?_, fun d => ?_⟩ <;>
  exact ((dats m rE rW 0 c).before_in_eq_fetched _ rfl (fun _ => rfl) (fun _ _ _ => rfl) (fun t => rfl) t d).trans rfl

def bodyPre (c : Dev nD) (t : Fin cfg0.N) : sProp 𝕄 :=
  iprop((dats m rE rW 0 c).Φ t.castSucc ∗ (dats m rE rW 0 c).owesAt () t.castSucc
    ∗ (∃ d, owns (c : Thread nD τ) (ms0 t) fullShare ((dats m rE rW 0 c).before 0 t d)) ∗ (∃ d, owns (c : Thread nD τ) (ms1 t) fullShare ((dats m rE rW 0 c).before 1 t d)) ∗ (∃ d, owns (c : Thread nD τ) (ms2 t) fullShare ((dats m rE rW 0 c).before 2 t d)) ∗ (∃ d, owns (c : Thread nD τ) (ms3 t) fullShare ((dats m rE rW 0 c).before 3 t d)) ∗ (∃ d, owns (c : Thread nD τ) (ms4 t) fullShare ((dats m rE rW 0 c).before 4 t d)) ∗ (∃ d, owns (c : Thread nD τ) (ms5 t) fullShare ((dats m rE rW 0 c).before 5 t d)))
def bodyPost (c : Dev nD) (t : Fin cfg0.N) : sProp 𝕄 :=
  iprop((dats m rE rW 0 c).Φ t.succ ∗ (dats m rE rW 0 c).owesAt () t.succ
    ∗ owns (c : Thread nD τ) (ms0 t) fullShare ((dats m rE rW 0 c).after 0 t) ∗ owns (c : Thread nD τ) (ms1 t) fullShare ((dats m rE rW 0 c).after 1 t) ∗ owns (c : Thread nD τ) (ms2 t) fullShare ((dats m rE rW 0 c).after 2 t) ∗ owns (c : Thread nD τ) (ms3 t) fullShare ((dats m rE rW 0 c).after 3 t) ∗ owns (c : Thread nD τ) (ms4 t) fullShare ((dats m rE rW 0 c).after 4 t) ∗ owns (c : Thread nD τ) (ms5 t) fullShare ((dats m rE rW 0 c).after 5 t))

theorem owns_of_whole (c : Dev nD) {sp : Space} {S : Shape} {e : EltTy} (M : Memref sig .tc sp S e) (h : M.IsWhole) (d) :
    (owns (Ix := Unit) (Val := Elt F) (Name := ℕ) (U := Pipeline.UD sig nD τ) (Lvl := ℕ) (c : Thread nD τ) M fullShare d : sProp 𝕄)
      ⊢ (M.view.loc (c : Thread nD τ) ↦[M.view.set]{fullShare} h.unread d) := by
  unfold owns
  iintro ⟨%f, %hf, H⟩
  obtain rfl := h.eq_unread hf
  iexact H

theorem whole_owns (c : Dev nD) {sp : Space} {S : Shape} {e : EltTy} (M : Memref sig .tc sp S e) (h : M.IsWhole) (d) :
    (M.view.loc (c : Thread nD τ) ↦[M.view.set]{fullShare} h.unread d : sProp 𝕄)
      ⊢ owns (Ix := Unit) (Val := Elt F) (Name := ℕ) (U := Pipeline.UD sig nD τ) (Lvl := ℕ) (c : Thread nD τ) M fullShare d := by
  unfold owns
  iintro H
  iexists _
  isplitr
  swap
  · iexact H
  ipureintro
  exact h.read_unread d

theorem sound_body (c : Dev nD) (t : Fin cfg0.N) :
    bodyPre m rE rW c t ⊢ wp frame (wpE (defs₀ (F := F)) Variants.none c none) Set.univ (bodyAt0 t) (fun _ => bodyPost m rE rW c t) := by
  obtain ⟨h0, h1, h2, h3, h4⟩ := before_eq m rE rW c t
  unfold bodyPre bodyPost bodyAt0
  simp only [h0, h1, h2, h3, h4]
  rw [show (dats m rE rW 0 c).Φ t.succ = (dats m rE rW 0 c).Φ t.castSucc from rfl,
    show (dats m rE rW 0 c).Φ t.castSucc = Pipeline.ΦD cells spec0 tables (V m) c from rfl, kept_eq]
  unfold Dat.owesAt Pipeline.owesWithin
  rw [show (dats m rE rW 0 c).owed t.castSucc = 0 from rfl, show (dats m rE rW 0 c).owed t.succ = 0 from rfl]
  iintro ⟨⟨⟨HS0, HS1, HS2, HS3, HS4, HS5⟩, Hg, ⟨Hq0, Hq1⟩, HE, HV⟩, ⟨%W, -, HW⟩, ⟨%d0, H0⟩, ⟨%d1, H1⟩, ⟨%d2, H2⟩, ⟨%d3, H3⟩, ⟨%d4, H4⟩, ⟨%d5, H5⟩⟩
  unfold owns
  iapply ((body (F := F) c (ms0 t) (hs0 t) (ms1 t) (hs1 t) (ms2 t) (hs2 t) (ms3 t) (hs3 t) (ms4 t) (hs4 t) hbE (Memref.isWhole_whole _) hbW (Memref.isWhole_whole _) (ms5 t) (hs5 t) sc0 (Memref.isWhole_whole _) sc1 (Memref.isWhole_whole _) sc2 (Memref.isWhole_whole _) sc3 (Memref.isWhole_whole _) sc4 (Memref.isWhole_whole _) sc5 (Memref.isWhole_whole _) ((hs0 t).unread (iblk m c 0 t)) ((hs1 t).unread (iblk m c 1 t)) ((hs2 t).unread (iblk m c 2 t)) ((hs3 t).unread (iblk m c 3 t)) ((hs4 t).unread (iblk m c 4 t)) (V m c main_v9) (V m c main_v24) (wordE m rE c t) (wordW m rW c t)).2 W _)
  isplitl [H0]; · iapply (owns_of_whole c (ms0 t) (hs0 t)); unfold owns; iexact H0
  isplitl [H1]; · iapply (owns_of_whole c (ms1 t) (hs1 t)); unfold owns; iexact H1
  isplitl [H2]; · iapply (owns_of_whole c (ms2 t) (hs2 t)); unfold owns; iexact H2
  isplitl [H3]; · iapply (owns_of_whole c (ms3 t) (hs3 t)); unfold owns; iexact H3
  isplitl [H4]; · iapply (owns_of_whole c (ms4 t) (hs4 t)); unfold owns; iexact H4
  isplitl [HE]
  · icases HE with ⟨%fE, %hfE, HE⟩
    obtain rfl : fE = V m c main_v9 := hfE
    iexact HE
  isplitl [HV]
  · icases HV with ⟨%fV, %hfV, HV⟩
    obtain rfl : fV = V m c main_v24 := hfV
    iexact HV
  isplitl [H5]; · icases H5 with ⟨%f, -, H5⟩; iexists f; iexact H5
  isplitl [HS0]; · icases HS0 with ⟨%d, %f, -, HS0⟩; iexists f; iexact HS0
  isplitl [HS1]; · icases HS1 with ⟨%d, %f, -, HS1⟩; iexists f; iexact HS1
  isplitl [HS2]; · icases HS2 with ⟨%d, %f, -, HS2⟩; iexists f; iexact HS2
  isplitl [HS3]; · icases HS3 with ⟨%d, %f, -, HS3⟩; iexists f; iexact HS3
  isplitl [HS4]; · icases HS4 with ⟨%d, %f, -, HS4⟩; iexists f; iexact HS4
  isplitl [HS5]; · icases HS5 with ⟨%d, %f, -, HS5⟩; iexists f; iexact HS5
  isplitl [Hq0]; · iexact Hq0
  isplitl [Hq1]; · iexact Hq1
  isplitl [HW]; · iexact HW
  iintro ⟨H0, H1, H2, H3, H4, HE, HV, ⟨%f5, H5⟩, ⟨%g0, HS0⟩, ⟨%g1, HS1⟩, ⟨%g2, HS2⟩, ⟨%g3, HS3⟩, ⟨%g4, HS4⟩, ⟨%g5, HS5⟩, Hq0, Hq1, ⟨%W', HW'⟩⟩
  isplitl [HS0 HS1 HS2 HS3 HS4 HS5 Hg Hq0 Hq1 HE HV]
  · isplitl [HS0 HS1 HS2 HS3 HS4 HS5]
    isplitl [HS0]
    · iexists _, g0; isplitr; swap; · iexact HS0
      ipureintro; rfl
    isplitl [HS1]
    · iexists _, g1; isplitr; swap; · iexact HS1
      ipureintro; rfl
    isplitl [HS2]
    · iexists _, g2; isplitr; swap; · iexact HS2
      ipureintro; rfl
    isplitl [HS3]
    · iexists _, g3; isplitr; swap; · iexact HS3
      ipureintro; rfl
    isplitl [HS4]
    · iexists _, g4; isplitr; swap; · iexact HS4
      ipureintro; rfl
    iexists _, g5; isplitr; swap; · iexact HS5
    ipureintro; rfl
    isplitl [Hg]; · iexact Hg
    isplitl [Hq0 Hq1]
    · isplitl [Hq0]; · iexact Hq0
      iexact Hq1
    isplitl [HE]
    · iexists _; isplitr; swap; · iexact HE
      ipureintro; rfl
    iexists _; isplitr; swap; · iexact HV
    ipureintro; rfl
  isplitl [HW']
  · iexists W'; isplitr; · ipureintro; exact fun _ _ => Or.inl trivial
    iexact HW'
  isplitl [H0]
  · iexists _; isplitr; swap; · iexact H0
    ipureintro; exact (hs0 t).read_unread _
  isplitl [H1]
  · iexists _; isplitr; swap; · iexact H1
    ipureintro; exact (hs1 t).read_unread _
  isplitl [H2]
  · iexists _; isplitr; swap; · iexact H2
    ipureintro; exact (hs2 t).read_unread _
  isplitl [H3]
  · iexists _; isplitr; swap; · iexact H3
    ipureintro; exact (hs3 t).read_unread _
  isplitl [H4]
  · iexists _; isplitr; swap; · iexact H4
    ipureintro; exact (hs4 t).read_unread _
  iexists _; isplitr; swap; · iexact H5
  ipureintro; exact View.read_writes_of_cover (ms5 t).view f5 (ms5 t).view (ms5 t).view.junk _ (pieces_cover m rE rW c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m rE rW 0 c) (defs₀ (F := F)) Variants.none () Set.univ := fun t => by
  rw [bigSep_W0, bigSep_W0, defs₀_row]
  exact triple_restated (sound_body m rE rW c t) rfl .rfl fun _ => .rfl

/-- @main around its region. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch neither table. -/
theorem tail_sub : ∀ ops ∈ ([hostOps1] : List (List (HloOp τ sig (Elt F)))), ∀ op ∈ ops,
    op.bufs ⊆ Pipeline.tailRefsBut sig Pipeline.Prefetch.none spec0 tables := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  intro b hb
  simp only [tables, Finset.mem_insert, Finset.mem_singleton] at hb
  rcases hop with rfl | rfl | rfl <;> rcases hb with rfl | rfl <;>
    (simp only [StableHlo.reshape_bufs, StableHlo.unary_bufs, Finset.mem_insert, Finset.mem_singleton, not_or]; exact ⟨StableHlo.devRef_ne_of_ne (by decide), StableHlo.devRef_ne_of_ne (by decide)⟩)

set_option backward.isDefEq.respectTransparency.types false in
theorem run_main : θ_run defs (onTc (τ := τ) (main (F := F))) (s₀ m ρ)
    (fun r => Pipeline.FramePost cfgs (dats m rE rW) 0 (Pipeline.afterTail₀ cfgs (dats m rE rW) 0 (V0 m) [hostOps1]) r ∧ r.2.sem = fun _ => 0) :=
  Pipeline.θ_run_frame_dma_around (Q' := _) cfgs (dats m rE rW) (0 : Fin 1) launch0 cells defs₀ Variants.none cells_own tables tables_sub m ρ main
    (hbody := fun c => (body_obligation m rE rW c).loose) (hshare := fun c => (dats m rE rW 0 c).share_full fun _ => rfl)
    (howed := fun _ _ => rfl) (V₀ := V0 m) (opss := [hostOps1]) (hsub := tail_sub) (hfresh := sfx_fresh) (hkeep := sfx_keeps)
    (hmain := main_around m Variants.none) (hA := A_eq m rE rW) (hin := fun _ => .rfl) (hout := fun _ => .rfl)

/-- A buffer the lines after the region leave alone, and that is no window's array, ends as the region found it. -/
theorem tail_keeps (c : Dev nD) (b : Ref sig .tc) (hb : ∀ op ∈ (hostOps1 : List (HloOp τ sig (Elt F))), Proc.devRef .tc b ∉ op.writes)
    (hw : ∀ w, Pipeline.arrRef spec0 w ≠ b) :
    Pipeline.afterTail₀ cfgs (dats m rE rW) 0 (V0 m) [hostOps1] c b = V m c b := by
  unfold Pipeline.afterTail₀
  rw [StableHlo.after_of_forall_not_mem (b := Proc.devRef .tc b) _ _ (by simpa using hb), Pipeline.withArrays_of_ne _ c (V0 m c) _ b hw]

/-- The lines after the region write their own results only. -/
theorem tail_writes (b : Ref sig .tc) (h2 : b ≠ main_v52) (h3 : b ≠ main_v53) (h4 : b ≠ main_v54) :
    ∀ op ∈ (hostOps1 : List (HloOp τ sig (Elt F))), Proc.devRef .tc b ∉ op.writes := by
  intro op hop
  simp only [hostOps1, List.mem_cons, List.mem_nil_iff, or_false] at hop
  rcases hop with rfl | rfl | rfl <;>
    simp only [StableHlo.unary_writes, StableHlo.reshape_writes, Finset.mem_singleton] <;> exact StableHlo.devRef_ne_of_ne (by assumption)

end Cert.KernelIdeal.Dkt
-- ==== Proof.RangeKernelIdeal.lean ====
import proofs.«01_k».proof.Proof.WholeKernelIdeal
import proofs.«01_k».proof.Proof.Words
import Idealize.ShloMosaic.Lib.StableHlo.RunRead

/-! The two index arrays as the region finds them, their ranges, and the program's frame. -/

noncomputable section

namespace Cert.KernelIdeal.Dkt

open Idealize.ShloMosaic Idealize.ShloMosaic.TcCoe Idealize.ShloMosaic.StableHlo
open Idealize.SL.Sem
open Cert.KernelIdeal.Gen
open Cert.KernelIdeal.Dkt (InRange wordsE wordsW nextX wordsE_at wordsW_at rowE_le rowW_le cat2 next_range)

variable {F : FTy → Type} [FloatOps F]
variable (m : (ℓ : Loc nD τ sig) → Buf (Elt F) ℓ) (ρ : Dev nD → PrngReg)

/-- The questions and the answers, as launched. -/
abbrev qs (c : Dev nD) : IVec S64x200 32 := m (c, Proc.devRef .tc main_arg0)
abbrev ans (c : Dev nD) : IVec S64x200 32 := m (c, Proc.devRef .tc main_arg1)

/-- The operations before the region. -/
abbrev preOps : List (HloOp τ sig (Elt F)) := hostOps0 ++ (hostOps0_1 ++ (hostOps0_2 ++ (hostOps0_3 ++ hostOps0_4)))

set_option maxRecDepth 8192 in
theorem V_e (c : Dev nD) : V m c main_v35 = concatenate S13056 0 [⟨S12800, wordsE (qs m c) (ans m c)⟩,
    ⟨S256, broadcastInDim S256 ![] bcast_S_S256 (constantI S_ 32 0#32)⟩] concatenates_S12800_S256_S13056_d0 := by
  show StableHlo.after (hostOps0 ++ (hostOps0_1 ++ (hostOps0_2 ++ (hostOps0_3 ++ hostOps0_4)))) _ (Proc.devRef .tc main_v35) = _
  after_reads_simp
  refine cat2 _ _ ?_ ?_
  · after_reads_simp; rfl
  · after_reads_simp

set_option maxRecDepth 8192 in
theorem V_w (c : Dev nD) : V m c main_v46 = wordsW (qs m c) := by
  show StableHlo.after (hostOps0 ++ (hostOps0_1 ++ (hostOps0_2 ++ (hostOps0_3 ++ hostOps0_4)))) _ (Proc.devRef .tc main_v46) = _
  after_reads_simp
  have h36 : upto (hostOps0 ++ (hostOps0_1 ++ (hostOps0_2 ++ (hostOps0_3 ++ hostOps0_4)))) (fun b => m (c, b)) 53 (Proc.devRef .tc main_v36)
      = extractStridedSlice S64x199 ![0, 1] (qs m c) slices_S64x200_S64x199_0_1 := by
    after_reads_simp
  have h37 : upto (hostOps0 ++ (hostOps0_1 ++ (hostOps0_2 ++ (hostOps0_3 ++ hostOps0_4)))) (fun b => m (c, b)) 53 (Proc.devRef .tc main_v37)
      = broadcastInDim S64x1 ![] bcast_S_S64x1 (constantI S_ 32 0#32) := by
    after_reads_simp
  rw [cat2 _ concatenates_S64x199_S64x1_S64x200_d1 h36 h37]
  rfl

theorem e_le (c : Dev nD) (h : InRange (qs m c) (ans m c)) (i : S13056.Idx) : (V m c main_v35 i : BitVec 32).toNat ≤ 20008 := by
  rw [V_e]
  rw [concatenate_pair_apply]
  split
  · rw [wordsE_at _ _ h]
    exact (rowE_le _ _ (h _).1 (h _).2).trans (by decide)
  · exact Nat.zero_le _

theorem w_le (c : Dev nD) (h : InRange (qs m c) (ans m c)) (i : S12800.Idx) : (V m c main_v46 i : BitVec 32).toNat ≤ 10000 := by
  rw [V_w, wordsW_at _ _ h]
  exact rowW_le _ (next_range _ _ h _ _)

/-- The arguments end as they were. -/
theorem args_kept (rE rW) {r} (hr : Pipeline.FramePost cfgs (dats m rE rW) 0 (Pipeline.afterTail₀ cfgs (dats m rE rW) 0 (V0 m) [hostOps1]) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) := by
  have key : ∀ b : Ref sig .tc, b ∈ Pipeline.restRefs sig spec0 → b ≠ main_v52 → b ≠ main_v53 → b ≠ main_v54 → (∀ w, Pipeline.arrRef spec0 w ≠ b) →
      V m c b = m ((c : Thread nD τ).loc b) → r.2.mem ((c.tc : Thread nD τ).loc b) = m ((c.tc : Thread nD τ).loc b) := fun b hb h2 h3 h4 hw hV =>
    ((hr c).2 b hb).trans ((tail_keeps m _ _ c b (tail_writes b h2 h3 h4) hw).trans hV)
  exact ⟨key main_arg0 (Pipeline.mem_restRefs_of main_arg0 (by decide) (by decide)) (by decide) (by decide) (by decide) (by decide) (V_main_arg0 m c),
    key main_arg1 (Pipeline.mem_restRefs_of main_arg1 (by decide) (by decide)) (by decide) (by decide) (by decide) (by decide) (V_main_arg1 m c),
    key main_arg2 (Pipeline.mem_restRefs_of main_arg2 (by decide) (by decide)) (by decide) (by decide) (by decide) (by decide) (V_main_arg2 m c),
    key main_arg3 (Pipeline.mem_restRefs_of main_arg3 (by decide) (by decide)) (by decide) (by decide) (by decide) (by decide) (V_main_arg3 m c),
    key main_arg4 (Pipeline.mem_restRefs_of main_arg4 (by decide) (by decide)) (by decide) (by decide) (by decide) (by decide) (V_main_arg4 m c),
    key main_arg5 (Pipeline.mem_restRefs_of main_arg5 (by decide) (by decide)) (by decide) (by decide) (by decide) (by decide) (V_main_arg5 m c),
    key main_arg6 (Pipeline.mem_restRefs_of main_arg6 (by decide) (by decide)) (by decide) (by decide) (by decide) (by decide) (V_main_arg6 m c),
    key main_arg7 (Pipeline.mem_restRefs_of main_arg7 (by decide) (by decide)) (by decide) (by decide) (by decide) (by decide) (V_main_arg7 m c),
    key main_arg8 (Pipeline.mem_restRefs_of main_arg8 (by decide) (by decide)) (by decide) (by decide) (by decide) (by decide) (V_main_arg8 m c)⟩

/-- The frame: the arguments end as they were, and every counter is back at zero. -/
theorem frame_of_range (h : ∀ c, InRange (qs m c) (ans m c)) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) ∧ r.2.sem = fun _ => 0) :=
  (θ_run defs _ _).mono (fun r hr => ⟨args_kept m _ _ hr.1, hr.2⟩) (run_main m ρ (fun c => e_le m c (h c)) (fun c => w_le m c (h c)))

end Cert.KernelIdeal.Dkt
-- ==== Proof.Network.lean ====
import proofs.«01_k».proof.Proof.BodyKernelIdeal
import Idealize.ShloMosaic.Lib.Pointwise

/-! The recurrent network over the extended reals, and the kernel's steps as steps of it. -/

set_option maxRecDepth 8192

noncomputable section

namespace Cert.KernelIdeal.Net

open Idealize.ShloMosaic Idealize.ShloMosaic.TcCoe
open Cert.KernelIdeal Cert.KernelIdeal.Gen
open Cert.KernelIdeal.Dkt (GX WT HS winE winW wordAt cell state tabE tabW round8)
open scoped BigOperators

/-- The state of the network: for every batch row and unit, the hidden value and the cell's value. -/
abbrev NetState : Type := (Fin 64 → Fin 128 → EReal) × (Fin 64 → Fin 128 → EReal)

/-- The sum that a gate is applied to: the step's input part and the hidden values times the weights. -/
def gate (W : Fin 512 → Fin 128 → EReal) (g : Fin 64 → Fin 512 → EReal) (h : Fin 64 → Fin 128 → EReal) (b : Fin 64) (q : Fin 512) : EReal :=
  g b q + ∑ k, h b k * W q k

/-- The cell's next value. -/
def netC (W : Fin 512 → Fin 128 → EReal) (g : Fin 64 → Fin 512 → EReal) (s : NetState) (b : Fin 64) (j : Fin 128) : EReal :=
  Ideal.logistic (gate W g s.1 b ⟨128 + j.val, by omega⟩) * s.2 b j
    + Ideal.logistic (gate W g s.1 b ⟨j.val, by omega⟩) * Ideal.tanh (gate W g s.1 b ⟨256 + j.val, by omega⟩)

/-- The next hidden value. -/
def netH (W : Fin 512 → Fin 128 → EReal) (g : Fin 64 → Fin 512 → EReal) (s : NetState) (b : Fin 64) (j : Fin 128) : EReal :=
  Ideal.logistic (gate W g s.1 b ⟨384 + j.val, by omega⟩) * Ideal.tanh (netC W g s b j)

/-- The state after a number of steps, from zeros. -/
def net (W : Fin 512 → Fin 128 → EReal) (g : ℕ → Fin 64 → Fin 512 → EReal) : ℕ → NetState
  | 0 => (fun _ _ => 0, fun _ _ => 0)
  | s + 1 => (netH W (g s) (net W g s), netC W (g s) (net W g s))

/-- Two input parts that agree on the steps taken give one state. -/
theorem net_congr (W : Fin 512 → Fin 128 → EReal) {g g' : ℕ → Fin 64 → Fin 512 → EReal} (n : ℕ) (h : ∀ s < n, g s = g' s) : net W g n = net W g' n := by
  induction n with
  | zero => rfl
  | succ s ih => rw [net, net, ih (fun t ht => h t (by omega)), h s (by omega)]

/-- The network's state as a pair of arrays. -/
def asVec (s : NetState) : FVec Ideal S64x128 .f32 × FVec Ideal S64x128 .f32 := (fun i => s.1 (i 0) (i 1), fun i => s.2 (i 0) (i 1))

/-- The step's input part as the kernel computes it. -/
def gK (W2 : Vec Ideal S256x512 .f32) (W4 : Vec Ideal S1x512 .f32) (x : Vec Ideal S64x256 .f32) (b : Fin 64) (q : Fin 512) : EReal :=
  (∑ k : Fin 256, x (ix2 b k) * W2 (ix2 k q)) + W4 (ix2 0 q)

theorem pay2_apply (s : NetState) (x : Vec Ideal S64x256 .f32) (W2 : Vec Ideal S256x512 .f32) (W3 : Vec Ideal S128x512 .f32) (W4 : Vec Ideal S1x512 .f32) (b : Fin 64) (q : Fin 512) :
    k0_pay2 (asVec s).1 x W2 W3 W4 (ix2 b q) = gate (fun q k => W3 (ix2 k q)) (gK W2 W4 x) s.1 b q := by
  pointwise [k0_pay2]
  exact add_right_comm _ _ _

theorem pay3_apply (s : NetState) (x : Vec Ideal S64x256 .f32) (W2 : Vec Ideal S256x512 .f32) (W3 : Vec Ideal S128x512 .f32) (W4 : Vec Ideal S1x512 .f32) (b : Fin 64) (j : Fin 128) :
    k0_pay3 (asVec s).1 (asVec s).2 x W2 W3 W4 (ix2 b j) = netC (fun q k => W3 (ix2 k q)) (gK W2 W4 x) s b j := by
  pointwise [k0_pay3]
  rw [pay2_apply, pay2_apply, pay2_apply]
  rfl

theorem pay4_apply (s : NetState) (x : Vec Ideal S64x256 .f32) (W2 : Vec Ideal S256x512 .f32) (W3 : Vec Ideal S128x512 .f32) (W4 : Vec Ideal S1x512 .f32) (b : Fin 64) (j : Fin 128) :
    k0_pay4 (asVec s).1 (asVec s).2 x W2 W3 W4 (ix2 b j) = netH (fun q k => W3 (ix2 k q)) (gK W2 W4 x) s b j := by
  pointwise [k0_pay4]
  rw [pay2_apply, pay3_apply]
  rfl

theorem cell_eq (s : NetState) (x : Vec Ideal S64x256 .f32) (W2 : Vec Ideal S256x512 .f32) (W3 : Vec Ideal S128x512 .f32) (W4 : Vec Ideal S1x512 .f32) :
    cell W2 W3 W4 x (asVec s) = asVec (netH (fun q k => W3 (ix2 k q)) (gK W2 W4 x) s, netC (fun q k => W3 (ix2 k q)) (gK W2 W4 x) s) := by
  refine Prod.ext (funext fun i => ?_) (funext fun i => ?_)
  · rw [eq_ix2 i]
    exact pay4_apply s x W2 W3 W4 (i 0) (i 1)
  · rw [eq_ix2 i]
    exact pay3_apply s x W2 W3 W4 (i 0) (i 1)

/-- The kernel's states are the network's. -/
theorem state_eq (x : ℕ → Vec Ideal S64x256 .f32) (W2 : Vec Ideal S256x512 .f32) (W3 : Vec Ideal S128x512 .f32) (W4 : Vec Ideal S1x512 .f32)
    (z : FVec Ideal S64x128 .f32 × FVec Ideal S64x128 .f32) (hz : z = asVec (fun _ _ => 0, fun _ _ => 0)) (n : ℕ) :
    state W2 W3 W4 x z n = asVec (net (fun q k => W3 (ix2 k q)) (fun s => gK W2 W4 (x s)) n) := by
  induction n with
  | zero => exact hz
  | succ s ih => rw [state, ih, cell_eq]; rfl

/-- The distance that a row is rotated by brings the row named by the word's low digits to the front. -/
theorem turn (w : BitVec 32) : (8 - (Scalar.subi (0#32) (Scalar.andi w 7#32)).toNat % 8) % 8 = w.toNat % 8 := by
  have h : (Scalar.andi w 7#32).toNat = w.toNat % 8 := by
    show (w &&& 7#32).toNat = _
    rw [BitVec.toNat_and]
    exact Nat.and_two_pow_sub_one_eq_mod w.toNat 3
  have h2 : (Scalar.subi (0#32) (Scalar.andi w 7#32)).toNat = (2 ^ 32 - w.toNat % 8) % 2 ^ 32 := by
    show (0#32 - Scalar.andi w 7#32).toNat = _
    rw [BitVec.toNat_sub, h]; simp
  rw [h2]
  omega

theorem winE_row (E8 : S20016x2x128.Idx → EReal) (w : BitVec 32) (hw : w.toNat ≤ 20008) (p : Fin 2) (l : Fin 128) (h) :
    winE (F := Ideal) E8 w (ix3 ⟨w.toNat % 8, h⟩ p l) = E8 (ix3 ⟨w.toNat, by omega⟩ p l) := by
  rw [winE, dif_pos (fun a => Dkt.rowsE_in a hw)]
  congr 1
  have hr := round8 (v := w) (by omega)
  funext a
  refine Fin.ext ?_
  fin_cases a
  · show (Scalar.shli (Scalar.shrsi w 3#32) 3#32).toNat + 1 * (w.toNat % 8) = w.toNat
    omega
  · show 0 + 1 * p.val = p.val
    omega
  · show 0 + 1 * l.val = l.val
    omega

theorem winW_row (E9 : S20016x128.Idx → EReal) (w : BitVec 32) (hw : w.toNat ≤ 10000) (p : ℕ) (hp : p < 2) (l : Fin 128) (h) :
    winW (F := Ideal) E9 w (ix2 ⟨2 * (w.toNat % 8) + p, h⟩ l) = E9 (ix2 ⟨2 * w.toNat + p, by omega⟩ l) := by
  rw [winW, dif_pos (fun a => Dkt.rowsW_in a hw)]
  congr 1
  have hr := round8 (v := w) (by omega)
  funext a
  refine Fin.ext ?_
  fin_cases a
  · show 2 * (Scalar.shli (Scalar.shrsi w 3#32) 3#32).toNat + 1 * (2 * (w.toNat % 8) + p) = 2 * w.toNat + p
    omega
  · show 0 + 1 * l.val = l.val
    omega

/-- A gathered input: the low half from the even table, the high half from the odd one. -/
theorem GX_apply (e : S13056.Idx → BitVec 32) (E8 : S20016x2x128.Idx → EReal) (s : ℕ) (b : Fin 64) (k : Fin 256)
    (hw : (wordAt e (64 * s + b.val)).toNat ≤ 20008) :
    GX (F := Ideal) e E8 s (ix2 b k) = E8 (ix3 ⟨(wordAt e (64 * s + b.val)).toNat, by omega⟩ ⟨k.val / 128, by omega⟩ ⟨k.val % 128, by omega⟩) := by
  have key : ∀ (p : Fin 2) (l : Fin 128) (h), winE (F := Ideal) E8 (wordAt e (64 * s + b.val)) (ix3 ⟨(8 - (Scalar.subi (0#32) (Scalar.andi (wordAt e (64 * s + b.val)) 7#32)).toNat % 8) % 8, h⟩ p l)
      = E8 (ix3 ⟨(wordAt e (64 * s + b.val)).toNat, by omega⟩ p l) := by
    intro p l h
    rw [← winE_row E8 _ hw p l (by omega)]
    congr 2
    exact Fin.ext (turn _)
  rw [GX]
  split
  · next h =>
    have hk : k.val < 128 := h
    pointwise [k0_pay176]
    refine (key _ _ _).trans ?_
    congr 2
    · exact Fin.ext (show 0 = k.val / 128 by omega)
    · exact Fin.ext (show k.val = k.val % 128 by omega)
  · next h =>
    have hk : ¬ k.val < 128 := h
    pointwise [k0_pay177]
    refine (key _ _ _).trans ?_
    congr 2
    · exact Fin.ext (show 1 = k.val / 128 by omega)
    · exact Fin.ext (show k.val - 128 = k.val % 128 by omega)

/-- A gathered row of output weights. -/
theorem WT_apply (e : S12800.Idx → BitVec 32) (E9 : S20016x128.Idx → EReal) (i : Fin 12800) (p : Fin 2) (k : Fin 128)
    (hw : (wordAt e i.val).toNat ≤ 10000) :
    WT (F := Ideal) e E9 (ix3 i p k) = E9 (ix2 ⟨2 * (wordAt e i.val).toNat + p.val, by omega⟩ k) := by
  have key : ∀ (p : ℕ) (hp : p < 2) (h), winW (F := Ideal) E9 (wordAt e i.val) (ix2 ⟨2 * ((8 - (Scalar.subi (0#32) (Scalar.andi (wordAt e i.val) 7#32)).toNat % 8) % 8) + p, h⟩ k)
      = E9 (ix2 ⟨2 * (wordAt e i.val).toNat + p, by omega⟩ k) := by
    intro p hp h
    rw [← winW_row E9 _ hw p hp k (by omega)]
    congr 2
    exact Fin.ext (by show 2 * _ + p = 2 * _ + p; rw [turn])
  rw [WT]
  pointwise [k0_pay355]
  match p with
  | 0 => exact key 0 (by decide) _
  | 1 => exact key 1 (by decide) _

/-- The table of exercises as the kernel holds it: pairs of rows of the array. -/
theorem tabE_apply (T : S40032x128.Idx → EReal) (h) (r : Fin 20016) (p : Fin 2) (l : Fin 128) :
    tabE (F := Ideal) (Memref.whole main_v9) h T (ix3 r p l) = T (ix2 ⟨2 * r.val + p.val, by omega⟩ l) := by
  show shapeCast S20016x2x128 (T : S40032x128.Idx → EReal) reshapes_S40032x128_S20016x2x128.1 (ix3 r p l) = _
  pointwise
  congr 2
  exact Fin.ext (by show r.val * 2 + p.val = 2 * r.val + p.val; omega)

theorem tabW_eq (T : S20016x128.Idx → EReal) : tabW (F := Ideal) (Memref.whole main_v24) T = T := rfl

end Cert.KernelIdeal.Net
-- ==== Proof.Tables.lean ====
import proofs.«01_k».proof.Proof.RangeKernelIdeal
import Idealize.ShloMosaic.Lib.Pointwise
import Idealize.ShloMosaic.Lib.Routing.OpsSet
import Idealize.ShloMosaic.Lib.Routing.OpsPair

/-! The two tables that the region finds, entry by entry. -/

set_option maxRecDepth 16384
set_option maxHeartbeats 1000000

noncomputable section

namespace Cert.KernelIdeal.Net

open Idealize.ShloMosaic Idealize.ShloMosaic.TcCoe Idealize.ShloMosaic.StableHlo
open Idealize.SL.Sem
open Cert.KernelIdeal Cert.KernelIdeal.Gen
open Cert.KernelIdeal.Dkt (cat2)

/-- Three joined pieces may be replaced by equals. -/
theorem cat3 {α : Type} {t s₁ s₂ s₃ : Shape} {a : Fin t.rank} {x x' : s₁.Idx → α} {y y' : s₂.Idx → α} {z z' : s₃.Idx → α} (h h') (hx : x = x') (hy : y = y') (hz : z = z') :
    concatenate t a [⟨s₁, x⟩, ⟨s₂, y⟩, ⟨s₃, z⟩] h = concatenate t a [⟨s₁, x'⟩, ⟨s₂, y'⟩, ⟨s₃, z'⟩] h' := by
  subst hx hy hz; rfl

/-- Row `r` of a table, zero past its end. -/
def rowAt (T : S10000x128.Idx → EReal) (r : ℕ) (l : Fin 128) : EReal := if h : r < 10000 then T (ix2 ⟨r, h⟩ l) else 0

/-- The table as it is, then zeros. -/
def lowE (T : FVec Ideal S10000x128 .f32) : FVec Ideal S20016x128 .bf16 :=
  concatenate S20016x128 0 [⟨S10000x128, (truncf .bf16 T bitsLt_bf16_f32 : FVec Ideal S10000x128 .bf16)⟩,
    ⟨S10000x128, broadcastInDim S10000x128 ![] bcast_S_S10000x128 (constant (F := Ideal) S_ .bf16 0x0000#16)⟩,
    ⟨S16x128, broadcastInDim S16x128 ![] bcast_S_S16x128 (constant (F := Ideal) S_ .bf16 0x0000#16)⟩] concatenates_S10000x128_S10000x128_S16x128_S20016x128_d0

/-- Zeros, then the table, then zeros. -/
def highE (T : FVec Ideal S10000x128 .f32) : FVec Ideal S20016x128 .bf16 :=
  concatenate S20016x128 0 [⟨S10000x128, broadcastInDim S10000x128 ![] bcast_S_S10000x128 (constant (F := Ideal) S_ .bf16 0x0000#16)⟩,
    ⟨S10000x128, (truncf .bf16 T bitsLt_bf16_f32 : FVec Ideal S10000x128 .bf16)⟩,
    ⟨S16x128, broadcastInDim S16x128 ![] bcast_S_S16x128 (constant (F := Ideal) S_ .bf16 0x0000#16)⟩] concatenates_S10000x128_S10000x128_S16x128_S20016x128_d0

theorem lowE_at (T : FVec Ideal S10000x128 .f32) (r : Fin 20016) (l : Fin 128) : lowE T (ix2 r l) = rowAt T r.val l := by
  unfold lowE rowAt
  pointwise
  split
  · rfl
  · split <;> rfl

theorem highE_at (T : FVec Ideal S10000x128 .f32) (r : Fin 20016) (l : Fin 128) : highE T (ix2 r l) = if r.val < 10000 then 0 else rowAt T (r.val - 10000) l := by
  unfold highE rowAt
  pointwise
  by_cases h : r.val < 10000
  · rw [dif_pos h, if_pos h]
  · rw [dif_neg h, if_neg h]

/-- Two tables, their rows in turn. -/
def pairE (A B : FVec Ideal S20016x128 .bf16) : FVec Ideal S40032x128 .bf16 :=
  shapeCast S40032x128 (concatenate S20016x2x128 1 [⟨S20016x1x128, broadcastInDim S20016x1x128 ![0, 2] bcast_S20016x128_S20016x1x128_0_2 A⟩,
    ⟨S20016x1x128, broadcastInDim S20016x1x128 ![0, 2] bcast_S20016x128_S20016x1x128_0_2 B⟩] concatenates_S20016x1x128_S20016x1x128_S20016x2x128_d1) shapeCasts_S20016x2x128_S40032x128

theorem pairE_at (A B : FVec Ideal S20016x128 .bf16) (r : Fin 20016) (p : Fin 2) (l : Fin 128) : pairE A B (ix2 ⟨2 * r.val + p.val, by omega⟩ l) = if p.val = 0 then A (ix2 r l) else B (ix2 r l) := by
  unfold pairE
  pointwise
  simp only [Nat.lt_one_iff, dite_eq_ite]

/-- The output table's weights, then zeros. -/
def wide (W : FVec Ideal S10000x128 .f32) : FVec Ideal S10008x128 .f32 :=
  concatenate S10008x128 0 [⟨S10000x128, W⟩, ⟨S8x128, broadcastInDim S8x128 ![] bcast_S_S8x128 (constant (F := Ideal) S_ .f32 0x00000000#32)⟩] concatenates_S10000x128_S8x128_S10008x128_d0

theorem wide_at (W : FVec Ideal S10000x128 .f32) (r : Fin 10008) (l : Fin 128) : wide W (ix2 r l) = rowAt W r.val l := by
  unfold wide rowAt
  pointwise

/-- The output table's constants, then minus infinity once. -/
def marked (b : FVec Ideal S10000 .f32) : FVec Ideal S10008 .f32 :=
  Host.scatter scatter_S10008_S1_S__n_0_0_0 (fun _ b => b)
    (concatenate S10008 0 [⟨S10000, b⟩, ⟨S8, broadcastInDim S8 ![] bcast_S_S8 (constant (F := Ideal) S_ .f32 0x00000000#32)⟩] concatenates_S10000_S8_S10008_d0)
    (broadcastInDim S1 ![] bcast_S_S1 (constantI S_ 32 10000#32)) (constant (F := Ideal) S_ .f32 0xFF800000#32)

theorem marked_of (b : FVec Ideal S10000 .f32) (z : FVec Ideal S10008 .f32)
    (h : z = concatenate S10008 0 [⟨S10000, b⟩, ⟨S8, broadcastInDim S8 ![] bcast_S_S8 (constant (F := Ideal) S_ .f32 0x00000000#32)⟩] concatenates_S10000_S8_S10008_d0) :
    Host.scatter scatter_S10008_S1_S__n_0_0_0 (fun _ b => b) z (broadcastInDim S1 ![] bcast_S_S1 (constantI S_ 32 10000#32)) (constant (F := Ideal) S_ .f32 0xFF800000#32) = marked b := by
  subst h; rfl

theorem lands (k : S_.Idx) (i : S10008.Idx) :
    scatter_S10008_S1_S__n_0_0_0.resultIdx? k (broadcastInDim S1 ![] bcast_S_S1 (constantI S_ 32 10000#32)) = some i ↔ (i 0).val = 10000 := by
  rw [Routing.resultIdx?_eq_some]
  have h : ∀ a, scatter_S10008_S1_S__n_0_0_0.start k (broadcastInDim S1 ![] bcast_S_S1 (constantI S_ 32 10000#32)) a
      + (scatter_S10008_S1_S__n_0_0_0.window k a : Int) = 10000 := by
    intro a
    obtain rfl : a = 0 := Subsingleton.elim _ _
    rfl
  constructor
  · intro q
    have := (h 0).symm.trans (q 0)
    exact_mod_cast this.symm
  · intro q a
    rw [h a]
    obtain rfl : a = 0 := Subsingleton.elim _ _
    exact_mod_cast q.symm

theorem marked_low (b : FVec Ideal S10000 .f32) (r : Fin 10008) (h : r.val < 10000) : marked b (ix1 r) = b (ix1 ⟨r.val, h⟩) := by
  unfold marked
  rw [Routing.scatter_set_miss]
  · pointwise
    rw [dif_pos h]
  · intro k
    rw [Ne, lands]
    exact fun e => absurd h (by show ¬ r.val < 10000; have : r.val = 10000 := e; omega)

theorem marked_top (b : FVec Ideal S10000 .f32) : marked b (ix1 ⟨10000, by decide⟩) = ⊥ := by
  unfold marked
  rw [Routing.scatter_set_hit _ _ _ _ _ (⊥ : EReal) _ (fun a => a.elim0)]
  · rw [lands]; rfl
  · intro k _
    show Ideal.ofBits .f32 0xFF800000#32 = ⊥
    simp [Ideal.ofBits, Ideal.ieee]

/-- The constants as a table with one column in use. -/
def column (b : FVec Ideal S10008 .f32) : FVec Ideal S10008x128 .bf16 :=
  concatenate S10008x128 1 [⟨S10008x1, broadcastInDim S10008x1 ![0] bcast_S10008_S10008x1_0 (truncf .bf16 b bitsLt_bf16_f32 : FVec Ideal S10008 .bf16)⟩,
    ⟨S10008x127, broadcastInDim S10008x127 ![] bcast_S_S10008x127 (constant (F := Ideal) S_ .bf16 0x0000#16)⟩] concatenates_S10008x1_S10008x127_S10008x128_d1

theorem column_at (b : FVec Ideal S10008 .f32) (r : Fin 10008) (l : Fin 128) : column b (ix2 r l) = if l.val = 0 then b (ix1 r) else 0 := by
  unfold column
  pointwise
  simp only [Nat.lt_one_iff, dite_eq_ite]

def pairW (A B : FVec Ideal S10008x128 .bf16) : FVec Ideal S20016x128 .bf16 :=
  shapeCast S20016x128 (concatenate S10008x2x128 1 [⟨S10008x1x128, broadcastInDim S10008x1x128 ![0, 2] bcast_S10008x128_S10008x1x128_0_2 A⟩,
    ⟨S10008x1x128, broadcastInDim S10008x1x128 ![0, 2] bcast_S10008x128_S10008x1x128_0_2 B⟩] concatenates_S10008x1x128_S10008x1x128_S10008x2x128_d1) shapeCasts_S10008x2x128_S20016x128

theorem pairW_at (A B : FVec Ideal S10008x128 .bf16) (r : Fin 10008) (p : Fin 2) (l : Fin 128) : pairW A B (ix2 ⟨2 * r.val + p.val, by omega⟩ l) = if p.val = 0 then A (ix2 r l) else B (ix2 r l) := by
  unfold pairW
  pointwise
  simp only [Nat.lt_one_iff, dite_eq_ite]

variable (m : (ℓ : Loc nD τ sig) → Buf (Elt Ideal) ℓ)

theorem V_tabE (c : Dev nD) : V m c main_v9 = pairE (lowE (m (c, Proc.devRef .tc main_arg2))) (highE (m (c, Proc.devRef .tc main_arg2))) := by
  show StableHlo.after (hostOps0 ++ (hostOps0_1 ++ (hostOps0_2 ++ (hostOps0_3 ++ hostOps0_4)))) _ (Proc.devRef .tc main_v9) = _
  after_reads_simp
  refine congrArg (fun z => shapeCast S40032x128 z shapeCasts_S20016x2x128_S40032x128) (cat2 _ _ ?_ ?_)
  · after_reads_simp
    refine congrArg (fun z : FVec Ideal S20016x128 .bf16 => broadcastInDim S20016x1x128 ![0, 2] bcast_S20016x128_S20016x1x128_0_2 z) (cat3 _ _ ?_ ?_ ?_)
    · simp only [Matrix.cons_val_zero]; after_reads_simp
    · change upto _ _ _ (Proc.devRef .tc main_v1) = _; after_reads_simp
    · change upto _ _ _ (Proc.devRef .tc main_v2) = _; after_reads_simp
  · after_reads_simp
    refine congrArg (fun z : FVec Ideal S20016x128 .bf16 => broadcastInDim S20016x1x128 ![0, 2] bcast_S20016x128_S20016x1x128_0_2 z) (cat3 _ _ ?_ ?_ ?_)
    · simp only [Matrix.cons_val_zero]; after_reads_simp
    · change upto _ _ _ (Proc.devRef .tc main_v0) = _; after_reads_simp
    · change upto _ _ _ (Proc.devRef .tc main_v4) = _; after_reads_simp

theorem V_tabW (c : Dev nD) : V m c main_v24 = pairW (truncf .bf16 (wide (m (c, Proc.devRef .tc main_arg7))) bitsLt_bf16_f32) (column (marked (m (c, Proc.devRef .tc main_arg8)))) := by
  show StableHlo.after (hostOps0 ++ (hostOps0_1 ++ (hostOps0_2 ++ (hostOps0_3 ++ hostOps0_4)))) _ (Proc.devRef .tc main_v24) = _
  after_reads_simp
  refine congrArg (fun z => shapeCast S20016x128 z shapeCasts_S10008x2x128_S20016x128) (cat2 _ _ ?_ ?_)
  · after_reads_simp
    refine congrArg (fun z : FVec Ideal S10008x128 .f32 => broadcastInDim S10008x1x128 ![0, 2] bcast_S10008x128_S10008x1x128_0_2 (truncf .bf16 z bitsLt_bf16_f32)) (cat2 _ _ ?_ ?_)
    all_goals after_reads_simp
  · after_reads_simp
    refine congrArg (fun z : FVec Ideal S10008x128 .bf16 => broadcastInDim S10008x1x128 ![0, 2] bcast_S10008x128_S10008x1x128_0_2 z) (cat2 _ _ ?_ ?_)
    · after_reads_simp
      refine congrArg (fun z : FVec Ideal S10008 .f32 => broadcastInDim S10008x1 ![0] bcast_S10008_S10008x1_0 (truncf .bf16 z bitsLt_bf16_f32)) ?_
      refine marked_of _ _ ?_
      refine cat2 _ _ ?_ ?_
      · after_reads_simp
      · after_reads_simp
    · after_reads_simp

theorem V_wih (c : Dev nD) : V m c main_v47 = transpose S256x512 [1, 0] (m (c, Proc.devRef .tc main_arg3)) transposes_S512x256_S256x512_1_0 := by
  show StableHlo.after (hostOps0 ++ (hostOps0_1 ++ (hostOps0_2 ++ (hostOps0_3 ++ hostOps0_4)))) _ (Proc.devRef .tc main_v47) = _
  after_reads_simp

theorem V_whh (c : Dev nD) : V m c main_v48 = transpose S128x512 [1, 0] (m (c, Proc.devRef .tc main_arg4)) transposes_S512x128_S128x512_1_0 := by
  show StableHlo.after (hostOps0 ++ (hostOps0_1 ++ (hostOps0_2 ++ (hostOps0_3 ++ hostOps0_4)))) _ (Proc.devRef .tc main_v48) = _
  after_reads_simp

theorem V_bias (c : Dev nD) : V m c main_v50 = shapeCast S1x512 (addf (F := Ideal) (s := S512) (φ := .f32) (m (c, Proc.devRef .tc main_arg5)) (m (c, Proc.devRef .tc main_arg6))) shapeCasts_S512_S1x512 := by
  show StableHlo.after (hostOps0 ++ (hostOps0_1 ++ (hostOps0_2 ++ (hostOps0_3 ++ hostOps0_4)))) _ (Proc.devRef .tc main_v50) = _
  after_reads_simp
  rfl

end Cert.KernelIdeal.Net
-- ==== Proof.Spec.lean ====
import proofs.«01_k».proof.Proof.Network
import proofs.«01_k».proof.Proof.Tables

/-! The answer of both programs, as a formula of the launched arrays. -/

noncomputable section

namespace Cert.KernelIdeal.Net

open Idealize.ShloMosaic Idealize.ShloMosaic.TcCoe
open Cert.KernelIdeal Cert.KernelIdeal.Gen
open scoped BigOperators

/-- Entry `r` of a vector of constants, zero past its end. -/
def entryAt (T : S10000.Idx → EReal) (r : ℕ) : EReal := if h : r < 10000 then T (ix1 ⟨r, h⟩) else 0

/-- The input of a question `x` with answer `y`: the question's row in the half that the answer names, zeros elsewhere, and zeros where there is no answer. -/
def inp1 (T : S10000x128.Idx → EReal) (x y : BitVec 32) (k : Fin 256) : EReal :=
  if y.toInt = -1 then 0 else if k.val / 128 = y.toNat then rowAt T x.toNat ⟨k.val % 128, Nat.mod_lt _ (by decide)⟩ else 0

/-- A word of step `s`, zero past the last step. -/
def stepOf (x : IVec S64x200 32) (b : Fin 64) (s : ℕ) : BitVec 32 := if h : s < 200 then x (ix2 b ⟨s, h⟩) else 0#32

/-- A step's input part of the gates. -/
def gIn (T : S10000x128.Idx → EReal) (A : S512x256.Idx → EReal) (bi bh : S512.Idx → EReal) (x y : IVec S64x200 32) (s : ℕ) (b : Fin 64) (q : Fin 512) : EReal :=
  (∑ k : Fin 256, inp1 T (stepOf x b s) (stepOf y b s) k * A (ix2 q k)) + (bi (ix1 q) + bh (ix1 q))

/-- The network's states. -/
def states (T : S10000x128.Idx → EReal) (A : S512x256.Idx → EReal) (B : S512x128.Idx → EReal) (bi bh : S512.Idx → EReal) (x y : IVec S64x200 32) : ℕ → NetState :=
  net (fun q k => B (ix2 q k)) (gIn T A bi bh x y)

/-- The answer for a hidden row and the next question. -/
def ans1 (h : Fin 128 → EReal) (O : S10000x128.Idx → EReal) (o : S10000.Idx → EReal) (x : BitVec 32) : EReal :=
  if x = 0#32 then 0 else Ideal.logistic ((∑ k, h k * rowAt O (x.toNat - 1) k) + entryAt o (x.toNat - 1))

/-- The answers. -/
def answer (x y : IVec S64x200 32) (T : S10000x128.Idx → EReal) (A : S512x256.Idx → EReal) (B : S512x128.Idx → EReal) (bi bh : S512.Idx → EReal)
    (O : S10000x128.Idx → EReal) (o : S10000.Idx → EReal) : S64x199.Idx → EReal := fun i =>
  ans1 ((states T A B bi bh x y ((i 1).val + 1)).1 (i 0)) O o (stepOf x (i 0) ((i 1).val + 1))

end Cert.KernelIdeal.Net
-- ==== Proof.Result.lean ====
import proofs.«01_k».proof.Proof.Network

/-! What the body leaves in its result, entry by entry. -/

set_option maxRecDepth 16384
set_option maxHeartbeats 4000000

noncomputable section

namespace Cert.KernelIdeal.Net

open Idealize.ShloMosaic Idealize.ShloMosaic.TcCoe
open Cert.KernelIdeal Cert.KernelIdeal.Gen
open Cert.KernelIdeal.Dkt (GX WT HS state tabE tabW body)
open scoped BigOperators

/-- The output layer at a row: the row of hidden values against its gathered weights, the bias in the odd row. -/
def rowOut (A : S12800x128.Idx → EReal) (R : S12800x2x128.Idx → EReal) : Vec Ideal S12800x1 .f32 := fun y =>
  Ideal.logistic (∑ k : Fin 128, (A (ix2 (y 0) k) * R (ix3 (y 0) 0 k) + R (ix3 (y 0) 1 k)))

/-- One chunk of 512 rows. -/
theorem chunk (arg12 : Memref sig .tc .vmem S12800x128 .f32) (harg12 : arg12.IsWhole) (arg13 : Memref sig .tc .vmem S12800x2x128 .bf16) (harg13 : arg13.IsWhole)
    (A : S12800x128.Idx → EReal) (R : S12800x2x128.Idx → EReal) (o : ℕ) (inb inb12 inb13) (x : S512x1.Idx) :
    k0_pay879 (F := Ideal) (arg12.view.readAt (Elt Ideal) (Rect.unit (s := S12800x128) ![o, 0] ![512, 128] inb12).toLoadRect (harg12.unread A))
        (arg13.view.readAt (Elt Ideal) (Rect.unit (s := S12800x2x128) ![o, 0, 0] ![512, 2, 128] inb13).toLoadRect (harg13.unread R)) x
      = rowOut A R ((Rect.unit (s := S12800x1) ![o, 0] ![512, 1] inb).emb x) := by
  have h12 : ∀ z, arg12.view.readAt (Elt Ideal) (Rect.unit (s := S12800x128) ![o, 0] ![512, 128] inb12).toLoadRect (harg12.unread A) z = _ := fun z => harg12.readAt_unread _ _ z
  have h13 : ∀ z, arg13.view.readAt (Elt Ideal) (Rect.unit (s := S12800x2x128) ![o, 0, 0] ![512, 2, 128] inb13).toLoadRect (harg13.unread R) z = _ := fun z => harg13.readAt_unread _ _ z
  pointwise [k0_pay879]
  simp only [h12, h13]
  unfold rowOut
  refine congrArg Ideal.logistic (Finset.sum_congr rfl fun k _ => ?_)
  refine congrArg₂ (· + ·) (congrArg₂ (· * ·) (congrArg A ?_) (congrArg R ?_)) (congrArg R ?_)
  all_goals (funext a; fin_cases a <;> exact Fin.ext (by first | rfl | (show 0 + 1 * _ = _; simp)))

/-- The same for a stored piece that is such a chunk. -/
theorem chunk_of (arg12 : Memref sig .tc .vmem S12800x128 .f32) (harg12 : arg12.IsWhole) (arg13 : Memref sig .tc .vmem S12800x2x128 .bf16) (harg13 : arg13.IsWhole)
    (A : S12800x128.Idx → EReal) (R : S12800x2x128.Idx → EReal) (p : View.Piece (Elt Ideal) S12800x1 .f32) (o : ℕ)
    (inb : ∀ a : Fin 2, (![o, 0] : Fin 2 → ℕ) a + (![512, 1] : Fin 2 → ℕ) a ≤ S12800x1.size a)
    (inb12 : ∀ a : Fin 2, (![o, 0] : Fin 2 → ℕ) a + (![512, 128] : Fin 2 → ℕ) a ≤ S12800x128.size a)
    (inb13 : ∀ a : Fin 3, (![o, 0, 0] : Fin 3 → ℕ) a + (![512, 2, 128] : Fin 3 → ℕ) a ≤ S12800x2x128.size a)
    (h : p = ⟨Rect.unit (s := S12800x1) ![o, 0] ![512, 1] inb,
      k0_pay879 (F := Ideal) (arg12.view.readAt (Elt Ideal) (Rect.unit (s := S12800x128) ![o, 0] ![512, 128] inb12).toLoadRect (harg12.unread A))
        (arg13.view.readAt (Elt Ideal) (Rect.unit (s := S12800x2x128) ![o, 0, 0] ![512, 2, 128] inb13).toLoadRect (harg13.unread R))⟩) :
    ∀ x, p.2 x = rowOut A R (p.1.emb x) := by
  subst h
  exact chunk arg12 harg12 arg13 harg13 A R o inb inb12 inb13

theorem body_agree (c : Dev nD) (arg0 : Memref sig .tc .smem S13056 .i32) (harg0 : arg0.IsWhole) (arg1 : Memref sig .tc .smem S12800 .i32) (harg1 : arg1.IsWhole) (arg2 : Memref sig .tc .vmem S256x512 .f32) (harg2 : arg2.IsWhole) (arg3 : Memref sig .tc .vmem S128x512 .f32) (harg3 : arg3.IsWhole) (arg4 : Memref sig .tc .vmem S1x512 .f32) (harg4 : arg4.IsWhole) (arg5 : Memref sig .tc .hbm S40032x128 .bf16) (harg5 : arg5.IsWhole) (arg6 : Memref sig .tc .hbm S20016x128 .bf16) (harg6 : arg6.IsWhole) (arg7 : Memref sig .tc .vmem S12800x1 .f32) (harg7 : arg7.IsWhole) (arg8 : Memref sig .tc .vmem S20016x2x128 .bf16) (harg8 : arg8.IsWhole) (arg9 : Memref sig .tc .vmem S20016x128 .bf16) (harg9 : arg9.IsWhole) (arg10 : Memref sig .tc .vmem S64x256 .f32) (harg10 : arg10.IsWhole) (arg11 : Memref sig .tc .vmem S64x256 .f32) (harg11 : arg11.IsWhole) (arg12 : Memref sig .tc .vmem S12800x128 .f32) (harg12 : arg12.IsWhole) (arg13 : Memref sig .tc .vmem S12800x2x128 .bf16) (harg13 : arg13.IsWhole)
    (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (hE : ∀ r x, (arg0.view.readAt (Elt Ideal) r X0 x : BitVec 32).toNat ≤ 20008)
    (hW : ∀ r x, (arg1.view.readAt (Elt Ideal) r X1 x : BitVec 32).toNat ≤ 10000) :
    ∀ p ∈ (body (F := Ideal) c arg0 harg0 arg1 harg1 arg2 harg2 arg3 harg3 arg4 harg4 arg5 harg5 arg6 harg6 arg7 harg7 arg8 harg8 arg9 harg9 arg10 harg10 arg11 harg11 arg12 harg12 arg13 harg13 X0 X1 X2 X3 X4 X5 X6 hE hW).1,
      ∀ x, p.2 x = rowOut (HS (state (arg2.view.read (Elt Ideal) X2) (arg3.view.read (Elt Ideal) X3) (arg4.view.read (Elt Ideal) X4)
          (GX (arg0.view.read (Elt Ideal) X0) (tabE arg5 harg5 X5)) (k0_pay878 (F := Ideal), k0_pay878 (F := Ideal))))
        (WT (arg1.view.read (Elt Ideal) X1) (tabW arg6 X6)) (p.1.emb x) := by
  dsimp only [body]
  iterate 25 refine List.forall_mem_cons.2 ⟨chunk_of arg12 harg12 arg13 harg13 _ _ _ _ (by decide) (by decide) (by decide) rfl, ?_⟩
  exact List.forall_mem_nil _

end Cert.KernelIdeal.Net
-- ==== Proof.Answer.lean ====
import proofs.«01_k».proof.Proof.RangeKernelIdeal
import proofs.«01_k».proof.Proof.Result
import Idealize.ShloMosaic.Lib.Pipeline.Value

/-! What the whole program leaves in its result, in terms of the arrays that the region finds. -/

set_option maxRecDepth 16384
set_option maxHeartbeats 4000000

noncomputable section

namespace Cert.KernelIdeal.Net

open Idealize.ShloMosaic Idealize.ShloMosaic.TcCoe Idealize.ShloMosaic.StableHlo
open Idealize.SL.Sem
open Cert.KernelIdeal Cert.KernelIdeal.Gen
open Cert.KernelIdeal.Dkt (GX WT HS state tabE tabW body ms0 ms1 ms2 ms3 ms4 ms5 hs0 hs1 hs2 hs3 hs4 hs5 hbE hbW pieces pieces_cover result dats)

variable (m : (ℓ : Loc nD τ sig) → Buf (Elt Ideal) ℓ) (ρ : Dev nD → PrngReg)

/-! Each window's block is its whole array. -/

theorem blk0 (c : Dev nD) (t : Fin cfg0.N) : iblk m c 0 t = V m c main_v35 := by
  funext y
  exact congrArg (V m c main_v35) (funext fun a => Fin.ext (Pipeline.Window.rect_emb_val_of_index_zero (cfg0.win 0) t a (by fin_cases a <;> rfl) y))
theorem blk1 (c : Dev nD) (t : Fin cfg0.N) : iblk m c 1 t = V m c main_v46 := by
  funext y
  exact congrArg (V m c main_v46) (funext fun a => Fin.ext (Pipeline.Window.rect_emb_val_of_index_zero (cfg0.win 1) t a (by fin_cases a <;> rfl) y))
theorem blk2 (c : Dev nD) (t : Fin cfg0.N) : iblk m c 2 t = V m c main_v47 := by
  funext y
  exact congrArg (V m c main_v47) (funext fun a => Fin.ext (Pipeline.Window.rect_emb_val_of_index_zero (cfg0.win 2) t a (by fin_cases a <;> rfl) y))
theorem blk3 (c : Dev nD) (t : Fin cfg0.N) : iblk m c 3 t = V m c main_v48 := by
  funext y
  exact congrArg (V m c main_v48) (funext fun a => Fin.ext (Pipeline.Window.rect_emb_val_of_index_zero (cfg0.win 3) t a (by fin_cases a <;> rfl) y))
theorem blk4 (c : Dev nD) (t : Fin cfg0.N) : iblk m c 4 t = V m c main_v50 := by
  funext y
  exact congrArg (V m c main_v50) (funext fun a => Fin.ext (Pipeline.Window.rect_emb_val_of_index_zero (cfg0.win 4) t a (by fin_cases a <;> rfl) y))

variable (rE : ∀ (c : Dev nD) i, (V m c main_v35 i : BitVec 32).toNat ≤ 20008)
variable (rW : ∀ (c : Dev nD) i, (V m c main_v46 i : BitVec 32).toNat ≤ 10000)

/-- The rows of answers in terms of what the region finds. -/
def rows (c : Dev nD) : Vec Ideal S12800x1 .f32 :=
  rowOut (HS (state (V m c main_v47) (V m c main_v48) (V m c main_v50)
      (GX (V m c main_v35) (tabE hbE (Memref.isWhole_whole _) (V m c main_v9))) (k0_pay878 (F := Ideal), k0_pay878 (F := Ideal))))
    (WT (V m c main_v46) (tabW hbW (V m c main_v24)))

theorem result_eq (c : Dev nD) (t : Fin cfg0.N) : result m rE rW c t = rows m c := by
  have h := body_agree c (ms0 t) (hs0 t) (ms1 t) (hs1 t) (ms2 t) (hs2 t) (ms3 t) (hs3 t) (ms4 t) (hs4 t) hbE (Memref.isWhole_whole _) hbW (Memref.isWhole_whole _) (ms5 t) (hs5 t)
    Dkt.sc0 (Memref.isWhole_whole _) Dkt.sc1 (Memref.isWhole_whole _) Dkt.sc2 (Memref.isWhole_whole _) Dkt.sc3 (Memref.isWhole_whole _) Dkt.sc4 (Memref.isWhole_whole _) Dkt.sc5 (Memref.isWhole_whole _)
    ((hs0 t).unread (iblk m c 0 t)) ((hs1 t).unread (iblk m c 1 t)) ((hs2 t).unread (iblk m c 2 t)) ((hs3 t).unread (iblk m c 3 t)) ((hs4 t).unread (iblk m c 4 t))
    (V m c main_v9) (V m c main_v24) (Dkt.wordE m rE c t) (Dkt.wordW m rW c t)
  rw [(hs0 t).read_unread, (hs1 t).read_unread, (hs2 t).read_unread, (hs3 t).read_unread, (hs4 t).read_unread] at h
  have e : rows m c = rowOut (HS (state (iblk m c 2 t) (iblk m c 3 t) (iblk m c 4 t)
      (GX (iblk m c 0 t) (tabE hbE (Memref.isWhole_whole _) (V m c main_v9))) (k0_pay878 (F := Ideal), k0_pay878 (F := Ideal))))
    (WT (iblk m c 1 t) (tabW hbW (V m c main_v24))) := by rw [blk0, blk1, blk2, blk3, blk4]; rfl
  rw [e]
  funext y
  exact View.read_writes_apply_of_pieces _ _ _ _ h y (pieces_cover m rE rW c t y)

/-- The result array when the region is over. -/
theorem last (c : Dev nD) : (dats m rE rW 0 c).arrAt 5 cfg0.N = rows m c := by
  have h := (dats m rE rW 0 c).read_blk_arrAt_eq_flushed 5 (by decide) cfg0.N ⟨0, by decide⟩ (by decide) (by decide)
  refine Eq.trans (funext fun y => ?_) (h.trans (Eq.trans ?_ (result_eq m rE rW c ⟨0, by decide⟩)))
  swap
  · rfl
  exact (congrArg ((dats m rE rW 0 c).arrAt 5 cfg0.N) (funext fun a => Fin.ext
    (Pipeline.Window.rect_emb_val_of_index_zero (cfg0.win 5) ⟨0, by decide⟩ a (by fin_cases a <;> rfl) y))).symm

/-- The answers: the rows step by step, the last step dropped, turned. -/
theorem answers (c : Dev nD) : Pipeline.afterTail₀ cfgs (dats m rE rW) 0 (V0 m) [hostOps1] c main_v54
    = transpose S64x199 [1, 0] (extractStridedSlice S199x64 ![0, 0] (shapeCast S200x64 (rows m c) shapeCasts_S12800x1_S200x64) slices_S200x64_S199x64_0_0) transposes_S199x64_S64x199_1_0 := by
  have h := Pipeline.withArrays_arr spec0 (by decide) c (V0 m c) (fun w => (dats m rE rW 0 c).arrAt w cfg0.N) 5
  rw [last] at h
  unfold Pipeline.afterTail₀
  show StableHlo.after hostOps1 _ (Proc.devRef .tc main_v54) = _
  after_reads_simp
  erw [h]
  rfl

end Cert.KernelIdeal.Net
-- ==== Proof.KernelValue.lean ====
import proofs.«01_k».proof.Proof.Spec
import proofs.«01_k».proof.Proof.Answer

/-! The kernel's answers are the formula's. -/

set_option maxRecDepth 8192
set_option maxHeartbeats 1000000

noncomputable section

namespace Cert.KernelIdeal.Net

open Idealize.ShloMosaic Idealize.ShloMosaic.TcCoe Idealize.ShloMosaic.StableHlo
open Idealize.SL.Sem
open Cert.KernelIdeal Cert.KernelIdeal.Gen
open Cert.KernelIdeal.Dkt (GX WT HS state tabE tabW hbE hbW dats wordAt InRange qs ans rowE rowW wordsE wordsW rowE_le rowW_le next toNat_of_nonneg V_e V_w wordsE_at wordsW_at next_range)
open scoped BigOperators

/-- The embedding table's rows at the word of a question and answer. -/
theorem inp_word (T : FVec Ideal S10000x128 .f32) (x y : BitVec 32) (hx : 0 ≤ x.toInt ∧ x.toInt < 10000) (hy : -1 ≤ y.toInt ∧ y.toInt ≤ 1)
    (r : Fin 20016) (hr : r.val = rowE x y) (k : Fin 256) :
    pairE (lowE T) (highE T) (ix2 ⟨2 * r.val + k.val / 128, by omega⟩ ⟨k.val % 128, Nat.mod_lt _ (by decide)⟩) = inp1 T x y k := by
  have hxn := toNat_of_nonneg x hx.1
  have e := pairE_at (lowE T) (highE T) r ⟨k.val / 128, by omega⟩ ⟨k.val % 128, Nat.mod_lt _ (by decide)⟩
  refine e.trans ?_
  rw [lowE_at, highE_at]
  unfold inp1
  show (if k.val / 128 = 0 then _ else _) = _
  unfold rowE at hr
  by_cases h : y.toInt = -1
  · rw [if_pos h] at hr ⊢
    have h1 : rowAt T r.val ⟨k.val % 128, Nat.mod_lt _ (by decide)⟩ = 0 := dif_neg (by omega)
    have h2 : rowAt T (r.val - 10000) ⟨k.val % 128, Nat.mod_lt _ (by decide)⟩ = 0 := dif_neg (by omega)
    simp only [h1, h2, ite_self]
  · rw [if_neg h] at hr ⊢
    have hyn := toNat_of_nonneg y (by omega)
    by_cases h0 : y.toNat = 0
    · rw [h0] at hr ⊢
      by_cases hk : k.val / 128 = 0
      · rw [if_pos hk, if_pos hk, hr]; rfl
      · rw [if_neg hk, if_neg hk, if_pos (by omega)]
    · have h1 : y.toNat = 1 := by omega
      rw [h1] at hr ⊢
      by_cases hk : k.val / 128 = 0
      · rw [if_pos hk, if_neg (by omega)]
        exact dif_neg (by omega)
      · rw [if_neg hk, if_neg (show ¬ r.val < 10000 by omega), if_pos (show k.val / 128 = 1 by omega), hr, Nat.mul_one, Nat.add_sub_cancel]

/-- The output table's weights and constant at the word of a question. -/
theorem out_word (O : FVec Ideal S10000x128 .f32) (o : FVec Ideal S10000 .f32) (x : BitVec 32) (hx : 0 ≤ x.toInt ∧ x.toInt < 10000)
    (r : Fin 10008) (hr : r.val = rowW x) (h : Fin 128 → EReal) :
    Ideal.logistic (∑ k : Fin 128, (h k * pairW (truncf .bf16 (wide O) bitsLt_bf16_f32) (column (marked o)) (ix2 ⟨2 * r.val + (0 : Fin 2).val, by omega⟩ k)
        + pairW (truncf .bf16 (wide O) bitsLt_bf16_f32) (column (marked o)) (ix2 ⟨2 * r.val + (1 : Fin 2).val, by omega⟩ k)))
      = ans1 h O o x := by
  have hxn := toNat_of_nonneg x hx.1
  have e0 : ∀ k, pairW (truncf .bf16 (wide O) bitsLt_bf16_f32) (column (marked o)) (ix2 ⟨2 * r.val + (0 : Fin 2).val, by omega⟩ k) = rowAt O r.val k := by
    intro k
    exact (pairW_at _ _ r 0 k).trans ((if_pos rfl).trans (wide_at O r k))
  have e1 : ∀ k, pairW (truncf .bf16 (wide O) bitsLt_bf16_f32) (column (marked o)) (ix2 ⟨2 * r.val + (1 : Fin 2).val, by omega⟩ k) = if k.val = 0 then marked o (ix1 r) else 0 := by
    intro k
    exact (pairW_at _ _ r 1 k).trans ((if_neg (by decide)).trans (column_at _ r k))
  have hs : (∑ k : Fin 128, if k.val = 0 then marked o (ix1 r) else 0) = marked o (ix1 r) := by
    rw [Finset.sum_eq_single (0 : Fin 128)]
    · exact if_pos rfl
    · intro k _ hk
      exact if_neg fun e => hk (Fin.ext e)
    · exact fun h => absurd (Finset.mem_univ _) h
  simp only [e0, e1]
  rw [Finset.sum_add_distrib, hs]
  unfold ans1
  unfold rowW at hr
  by_cases h0 : x = 0#32
  · rw [if_pos h0] at hr ⊢
    have er : r = ⟨10000, by decide⟩ := Fin.ext hr
    rw [er, marked_top, EReal.add_bot]
    exact Ideal.logistic_bot
  · rw [if_neg h0] at hr ⊢
    have hlt : r.val < 10000 := by omega
    rw [marked_low o r hlt, ← hr]
    refine congrArg (fun z => Ideal.logistic (_ + z)) ?_
    unfold entryAt
    rw [dif_pos hlt]

variable (m : (ℓ : Loc nD τ sig) → Buf (Elt Ideal) ℓ)

theorem word_e (c : Dev nD) (h : InRange (qs m c) (ans m c)) (s : ℕ) (hs : s < 200) (b : Fin 64) :
    (wordAt (V m c main_v35) (64 * s + b.val)).toNat = rowE (stepOf (qs m c) b s) (stepOf (ans m c) b s) := by
  unfold wordAt stepOf
  rw [dif_pos (by omega), dif_pos hs, dif_pos hs, V_e, concatenate_pair_apply]
  rw [dif_pos (by show 64 * s + b.val < 12800; omega)]
  rw [wordsE_at _ _ h]
  have e1 : (64 * s + b.val) % 64 = b.val := by omega
  have e2 : (64 * s + b.val) / 64 = s := by omega
  exact congrArg₂ rowE (congrArg₂ (fun p q => qs m c (ix2 p q)) (Fin.ext e1) (Fin.ext e2)) (congrArg₂ (fun p q => ans m c (ix2 p q)) (Fin.ext e1) (Fin.ext e2))

theorem word_w (c : Dev nD) (h : InRange (qs m c) (ans m c)) (s : ℕ) (hs : s < 199) (b : Fin 64) :
    (wordAt (V m c main_v46) (64 * s + b.val)).toNat = rowW (stepOf (qs m c) b (s + 1)) := by
  unfold wordAt
  rw [dif_pos (by omega), V_w, wordsW_at _ _ h]
  have e1 : (64 * s + b.val) % 64 = b.val := by omega
  have e2 : (64 * s + b.val) / 64 = s := by omega
  refine congrArg rowW ((congrArg₂ (fun p q => next (qs m c) p q) (Fin.ext (a := ⟨(64 * s + b.val) % 64, by omega⟩) (b := b) e1) e2).trans ?_)
  unfold next stepOf
  rw [dif_pos hs, dif_pos (by omega)]
  exact congrArg (fun q => qs m c (ix2 b q)) (Fin.ext (Nat.add_comm _ _))

/-- The input part of a step. -/
theorem gK_at (c : Dev nD) (h : InRange (qs m c) (ans m c)) (s : ℕ) (hs : s < 200) :
    gK (V m c main_v47) (V m c main_v50) (GX (V m c main_v35) (tabE hbE (Memref.isWhole_whole _) (V m c main_v9)) s)
      = gIn (m (c, Proc.devRef .tc main_arg2)) (m (c, Proc.devRef .tc main_arg3)) (m (c, Proc.devRef .tc main_arg5)) (m (c, Proc.devRef .tc main_arg6)) (qs m c) (ans m c) s := by
  funext b q
  unfold gK gIn
  have hx : 0 ≤ (stepOf (qs m c) b s).toInt ∧ (stepOf (qs m c) b s).toInt < 10000 := by unfold stepOf; rw [dif_pos hs]; exact (h _).1
  have hy : -1 ≤ (stepOf (ans m c) b s).toInt ∧ (stepOf (ans m c) b s).toInt ≤ 1 := by unfold stepOf; rw [dif_pos hs]; exact (h _).2
  have hw := word_e m c h s hs b
  have hle := rowE_le _ _ hx hy
  refine congrArg₂ (· + ·) (Finset.sum_congr rfl fun k _ => congrArg₂ (· * ·) ?_ ?_) ?_
  · rw [GX_apply _ _ s b k (by omega)]
    refine (tabE_apply (V m c main_v9) _ ⟨(wordAt (V m c main_v35) (64 * s + b.val)).toNat, by omega⟩ ⟨k.val / 128, by omega⟩ ⟨k.val % 128, by omega⟩).trans ?_
    rw [V_tabE]
    exact inp_word _ _ _ hx hy ⟨(wordAt (V m c main_v35) (64 * s + b.val)).toNat, by omega⟩ hw k
  · rw [V_wih]
    pointwise
  · rw [V_bias]
    pointwise

/-- The hidden values that the kernel keeps. -/
theorem hidden_at (c : Dev nD) (h : InRange (qs m c) (ans m c)) (s : ℕ) (hs : s < 199) (b : Fin 64) (hn) (k : Fin 128) :
    HS (state (V m c main_v47) (V m c main_v48) (V m c main_v50)
      (GX (V m c main_v35) (tabE hbE (Memref.isWhole_whole _) (V m c main_v9))) (k0_pay878 (F := Ideal), k0_pay878 (F := Ideal))) (ix2 ⟨64 * s + b.val, hn⟩ k)
      = (states (m (c, Proc.devRef .tc main_arg2)) (m (c, Proc.devRef .tc main_arg3)) (m (c, Proc.devRef .tc main_arg4))
        (m (c, Proc.devRef .tc main_arg5)) (m (c, Proc.devRef .tc main_arg6)) (qs m c) (ans m c) (s + 1)).1 b k := by
  have e1 : (64 * s + b.val) % 64 = b.val := by omega
  have e2 : (64 * s + b.val) / 64 = s := by omega
  have hz : ((k0_pay878 (F := Ideal), k0_pay878 (F := Ideal)) : FVec Ideal S64x128 .f32 × FVec Ideal S64x128 .f32) = asVec (fun _ _ => 0, fun _ _ => 0) := by
    have : k0_pay878 (F := Ideal) = fun _ => (0 : EReal) := by
      funext i
      rw [eq_ix2 i]
      pointwise [k0_pay878]
    rw [this]; rfl
  show (state _ _ _ _ _ ((64 * s + b.val) / 64 + 1)).1 _ = _
  rw [e2, state_eq _ _ _ _ _ hz]
  unfold states
  have eW : (fun (q : Fin 512) (k : Fin 128) => V m c main_v48 (ix2 k q)) = fun q k => m (c, Proc.devRef .tc main_arg4) (ix2 q k) := by
    funext q k
    rw [V_whh]
    pointwise
  rw [eW, net_congr _ (s + 1) (fun t ht => gK_at m c h t (by omega))]
  exact congrArg (fun p => Prod.fst (net _ _ (s + 1)) p k) (Fin.ext e1)

/-- The rows of answers. -/
theorem rows_at (c : Dev nD) (h : InRange (qs m c) (ans m c)) (s : ℕ) (hs : s < 199) (b : Fin 64) (hn) :
    rows m c (ix2 ⟨64 * s + b.val, hn⟩ 0) = ans1 ((states (m (c, Proc.devRef .tc main_arg2)) (m (c, Proc.devRef .tc main_arg3)) (m (c, Proc.devRef .tc main_arg4))
        (m (c, Proc.devRef .tc main_arg5)) (m (c, Proc.devRef .tc main_arg6)) (qs m c) (ans m c) (s + 1)).1 b)
      (m (c, Proc.devRef .tc main_arg7)) (m (c, Proc.devRef .tc main_arg8)) (stepOf (qs m c) b (s + 1)) := by
  have hx : 0 ≤ (stepOf (qs m c) b (s + 1)).toInt ∧ (stepOf (qs m c) b (s + 1)).toInt < 10000 := by unfold stepOf; rw [dif_pos (by omega)]; exact (h _).1
  have hw := word_w m c h s hs b
  have hle := rowW_le _ hx
  unfold rows
  show Ideal.logistic (∑ k : Fin 128, (HS _ (ix2 ⟨64 * s + b.val, hn⟩ k) * WT _ _ (ix3 ⟨64 * s + b.val, hn⟩ 0 k) + WT _ _ (ix3 ⟨64 * s + b.val, hn⟩ 1 k))) = _
  have e : ∀ (p : Fin 2) (k : Fin 128), WT (V m c main_v46) (tabW hbW (V m c main_v24)) (ix3 ⟨64 * s + b.val, hn⟩ p k)
      = pairW (truncf .bf16 (wide (m (c, Proc.devRef .tc main_arg7))) bitsLt_bf16_f32) (column (marked (m (c, Proc.devRef .tc main_arg8))))
        (ix2 ⟨2 * (wordAt (V m c main_v46) (64 * s + b.val)).toNat + p.val, by omega⟩ k) := by
    intro p k
    rw [WT_apply _ _ ⟨64 * s + b.val, hn⟩ p k (by show (wordAt _ (64 * s + b.val)).toNat ≤ _; omega), tabW_eq, V_tabW]
  simp only [hidden_at m c h s hs b hn, e]
  exact out_word _ _ _ hx ⟨(wordAt (V m c main_v46) (64 * s + b.val)).toNat, by omega⟩ hw _

/-- The answers that the program leaves are the formula's. -/
theorem answers_eq (c : Dev nD) (h : InRange (qs m c) (ans m c)) (rE rW) :
    Pipeline.afterTail₀ cfgs (dats m rE rW) 0 (V0 m) [hostOps1] c main_v54
      = answer (qs m c) (ans m c) (m (c, Proc.devRef .tc main_arg2)) (m (c, Proc.devRef .tc main_arg3)) (m (c, Proc.devRef .tc main_arg4))
        (m (c, Proc.devRef .tc main_arg5)) (m (c, Proc.devRef .tc main_arg6)) (m (c, Proc.devRef .tc main_arg7)) (m (c, Proc.devRef .tc main_arg8)) := by
  rw [answers]
  funext i
  rw [eq_ix2 i]
  pointwise
  have i0 : (i 0).val < 64 := (i 0).isLt
  have i1 : (i 1).val < 199 := (i 1).isLt
  refine Eq.trans ?_ (rows_at m c h (i 1).val i1 (i 0) (by omega))
  exact congrArg (fun p => rows m c (ix2 p 0)) (Fin.ext (by show (i 1).val * 64 + (i 0).val = 64 * (i 1).val + (i 0).val; omega))

end Cert.KernelIdeal.Net
-- ==== Proof.Gathers.lean ====
import proofs.«01_k».proof.Proof.Gen.ReferenceIdeal
import Idealize.ShloMosaic.Lib.ValueIdxCore
import Idealize.ShloMosaic.Lib.Pointwise

/-! The reference's three look-ups, read at one entry. -/

noncomputable section

namespace Cert.ReferenceIdeal.Net

open Idealize.ShloMosaic
open Cert.ReferenceIdeal Cert.ReferenceIdeal.Gen

variable {α : Type}

/-- A looked-up embedding row. -/
theorem look_row (T : S10000x128.Idx → α) (idx : IVec S64x200x1 32) (b : Fin 64) (s : Fin 200) (l : Fin 128) :
    Host.gather gather_S10000x128_S64x200x1_S64x200x128_2_0_n_n_0_2_1128 T idx (ix3 b s l)
      = T (ix2 ⟨min (idx (ix3 b s 0)).toInt.toNat 9999, by omega⟩ l) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show (gather_S10000x128_S64x200x1_S64x200x128_2_0_n_n_0_2_1128).start (ix3 b s l) idx (0 : Fin 2) + (gather_S10000x128_S64x200x1_S64x200x128_2_0_n_n_0_2_1128).batchCoord (ix3 b s l) (0 : Fin 2) + (gather_S10000x128_S64x200x1_S64x200x128_2_0_n_n_0_2_1128).offCoord (ix3 b s l) (0 : Fin 2) = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S10000x128_S64x200x1_S64x200x128_2_0_n_n_0_2_1128).startIndexMap from List.mem_singleton.mpr rfl)]
    refine (congrArg (fun i => min (idx i).toInt.toNat 9999 + 0 + 0) ?_ :)
    funext k
    refine Fin.ext ?_
    match k with
    | ⟨0, _⟩ => rfl
    | ⟨1, _⟩ => rfl
    | ⟨2, _⟩ => rfl
  · show (gather_S10000x128_S64x200x1_S64x200x128_2_0_n_n_0_2_1128).start (ix3 b s l) idx (1 : Fin 2) + (gather_S10000x128_S64x200x1_S64x200x128_2_0_n_n_0_2_1128).batchCoord (ix3 b s l) (1 : Fin 2) + (gather_S10000x128_S64x200x1_S64x200x128_2_0_n_n_0_2_1128).offCoord (ix3 b s l) (1 : Fin 2) = _
    rw [GatherDims.batchCoord_eq_zero _ _ _ List.not_mem_nil]
    unfold GatherDims.start
    rw [dif_neg (show ¬ (1 : Fin 2) ∈ (gather_S10000x128_S64x200x1_S64x200x128_2_0_n_n_0_2_1128).startIndexMap from fun h => absurd (List.mem_singleton.mp h) (by decide))]
    exact (Nat.zero_add _ : 0 + l.val = l.val)

/-- A looked-up row of marks. -/
theorem look_mark (T : S3x256.Idx → α) (idx : IVec S64x200x1 32) (b : Fin 64) (s : Fin 200) (l : Fin 256) :
    Host.gather gather_S3x256_S64x200x1_S64x200x256_2_0_n_n_0_2_1256 T idx (ix3 b s l)
      = T (ix2 ⟨min (idx (ix3 b s 0)).toInt.toNat 2, by omega⟩ l) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show (gather_S3x256_S64x200x1_S64x200x256_2_0_n_n_0_2_1256).start (ix3 b s l) idx (0 : Fin 2) + (gather_S3x256_S64x200x1_S64x200x256_2_0_n_n_0_2_1256).batchCoord (ix3 b s l) (0 : Fin 2) + (gather_S3x256_S64x200x1_S64x200x256_2_0_n_n_0_2_1256).offCoord (ix3 b s l) (0 : Fin 2) = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gather_S3x256_S64x200x1_S64x200x256_2_0_n_n_0_2_1256).startIndexMap from List.mem_singleton.mpr rfl)]
    refine (congrArg (fun i => min (idx i).toInt.toNat 2 + 0 + 0) ?_ :)
    funext k
    refine Fin.ext ?_
    match k with
    | ⟨0, _⟩ => rfl
    | ⟨1, _⟩ => rfl
    | ⟨2, _⟩ => rfl
  · show (gather_S3x256_S64x200x1_S64x200x256_2_0_n_n_0_2_1256).start (ix3 b s l) idx (1 : Fin 2) + (gather_S3x256_S64x200x1_S64x200x256_2_0_n_n_0_2_1256).batchCoord (ix3 b s l) (1 : Fin 2) + (gather_S3x256_S64x200x1_S64x200x256_2_0_n_n_0_2_1256).offCoord (ix3 b s l) (1 : Fin 2) = _
    rw [GatherDims.batchCoord_eq_zero _ _ _ List.not_mem_nil]
    unfold GatherDims.start
    rw [dif_neg (show ¬ (1 : Fin 2) ∈ (gather_S3x256_S64x200x1_S64x200x256_2_0_n_n_0_2_1256).startIndexMap from fun h => absurd (List.mem_singleton.mp h) (by decide))]
    exact (Nat.zero_add _ : 0 + l.val = l.val)

/-- The answer that is picked among all questions of a step. -/
theorem look_answer (T : S64x199x10000.Idx → α) (idx : IVec S64x199x1x1 32) (b : Fin 64) (s : Fin 199) (z : Fin 1) :
    Host.gather gather_S64x199x10000_S64x199x1x1_S64x199x1_n_2_01_01_2_3_111 T idx (ix3 b s z)
      = T (ix3 b s ⟨min (idx (ix4 b s z 0)).toInt.toNat 9999, by omega⟩) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show (gather_S64x199x10000_S64x199x1x1_S64x199x1_n_2_01_01_2_3_111).start (ix3 b s z) idx (0 : Fin 3) + (gather_S64x199x10000_S64x199x1x1_S64x199x1_n_2_01_01_2_3_111).batchCoord (ix3 b s z) (0 : Fin 3) + (gather_S64x199x10000_S64x199x1x1_S64x199x1_n_2_01_01_2_3_111).offCoord (ix3 b s z) (0 : Fin 3) = _
    rw [GatherDims.start_batching _ _ _ _ (List.mem_cons_self ..),
      GatherDims.offCoord_eq_zero _ _ _ (fun h => ((GatherDims.mem_sKept _ _).mp h).2 (List.mem_cons_self ..))]
    unfold GatherDims.batchCoord
    rw [dif_pos (show (0 : Fin 3) ∈ (gather_S64x199x10000_S64x199x1x1_S64x199x1_n_2_01_01_2_3_111).operandBatchingDims from List.mem_cons_self ..)]
    exact (Nat.zero_add _ : 0 + b.val = b.val)
  · show (gather_S64x199x10000_S64x199x1x1_S64x199x1_n_2_01_01_2_3_111).start (ix3 b s z) idx (1 : Fin 3) + (gather_S64x199x10000_S64x199x1x1_S64x199x1_n_2_01_01_2_3_111).batchCoord (ix3 b s z) (1 : Fin 3) + (gather_S64x199x10000_S64x199x1x1_S64x199x1_n_2_01_01_2_3_111).offCoord (ix3 b s z) (1 : Fin 3) = _
    rw [GatherDims.start_batching _ _ _ _ (List.mem_cons_of_mem _ (List.mem_cons_self ..)),
      GatherDims.offCoord_eq_zero _ _ _ (fun h => ((GatherDims.mem_sKept _ _).mp h).2 (List.mem_cons_of_mem _ (List.mem_cons_self ..)))]
    unfold GatherDims.batchCoord
    rw [dif_pos (show (1 : Fin 3) ∈ (gather_S64x199x10000_S64x199x1x1_S64x199x1_n_2_01_01_2_3_111).operandBatchingDims from List.mem_cons_of_mem _ (List.mem_cons_self ..))]
    exact (Nat.zero_add _ : 0 + s.val = s.val)
  · show (gather_S64x199x10000_S64x199x1x1_S64x199x1_n_2_01_01_2_3_111).start (ix3 b s z) idx (2 : Fin 3) + (gather_S64x199x10000_S64x199x1x1_S64x199x1_n_2_01_01_2_3_111).batchCoord (ix3 b s z) (2 : Fin 3) + (gather_S64x199x10000_S64x199x1x1_S64x199x1_n_2_01_01_2_3_111).offCoord (ix3 b s z) (2 : Fin 3) = _
    rw [GatherDims.batchCoord_eq_zero _ _ _ (fun h => by revert h; decide),
      GatherDims.offCoord_eq_zero _ _ _ (fun h => ((GatherDims.mem_sKept _ _).mp h).1 (List.mem_singleton.mpr rfl))]
    unfold GatherDims.start
    rw [dif_pos (show (2 : Fin 3) ∈ (gather_S64x199x10000_S64x199x1x1_S64x199x1_n_2_01_01_2_3_111).startIndexMap from List.mem_singleton.mpr rfl)]
    refine (congrArg (fun i => min (idx i).toInt.toNat 9999 + 0 + 0) ?_ :)
    funext k
    refine Fin.ext ?_
    match k with
    | ⟨0, _⟩ => rfl
    | ⟨1, _⟩ => rfl
    | ⟨2, _⟩ => rfl
    | ⟨3, _⟩ => rfl

end Cert.ReferenceIdeal.Net
-- ==== Proof.RefEntry.lean ====
import proofs.«01_k».proof.Proof.Gen.ReferenceIdeal.Run
import proofs.«01_k».proof.Proof.Gathers
import proofs.«01_k».proof.Proof.Spec

/-! What the reference's loop starts from. -/

set_option maxRecDepth 16384
set_option maxHeartbeats 1000000

noncomputable section

namespace Cert.ReferenceIdeal.Net

open Idealize.ShloMosaic Idealize.ShloMosaic.TcCoe Idealize.ShloMosaic.StableHlo
open Idealize.SL.Sem
open Cert.ReferenceIdeal Cert.ReferenceIdeal.Gen Cert.ReferenceIdeal.Value
open Cert.KernelIdeal.Dkt (cat2)
open Cert.KernelIdeal.Net (cat3 rowAt inp1)
open scoped BigOperators

/-- Questions as row numbers. -/
def rowIdx (x : IVec S64x200 32) : IVec S64x200x1 32 :=
  broadcastInDim S64x200x1 ![0, 1] bcast_S64x200_S64x200x1_0_1
    (select (cmpi .slt x (broadcastInDim S64x200 ![] bcast_S_S64x200 (constantI S_ 32 0#32))) (addi x (broadcastInDim S64x200 ![] bcast_S_S64x200 (constantI S_ 32 10000#32))) x)

/-- Answers, with no answer as the third. -/
def three (y : IVec S64x200 32) : IVec S64x200 32 :=
  select (cmpi .eq y (broadcastInDim S64x200 ![] bcast_S_S64x200 (constantI S_ 32 4294967295#32))) (broadcastInDim S64x200 ![] bcast_S_S64x200 (id (constantI S_ 32 2#32))) y

/-- Answers as row numbers of the marks. -/
def markIdx (y : IVec S64x200 32) : IVec S64x200x1 32 :=
  broadcastInDim S64x200x1 ![0, 1] bcast_S64x200_S64x200x1_0_1
    (select (cmpi .slt (three y) (broadcastInDim S64x200 ![] bcast_S_S64x200 (constantI S_ 32 0#32))) (addi (three y) (broadcastInDim S64x200 ![] bcast_S_S64x200 (constantI S_ 32 3#32))) (three y))

/-- The three rows of marks. -/
def marks : FVec Ideal S3x256 .f32 :=
  concatenate S3x256 0
    [⟨S1x256, broadcastInDim S1x256 ![1] bcast_S256_S1x256_1 (concatenate S256 0 [⟨S128, broadcastInDim S128 ![] bcast_S_S128 (constant (F := Ideal) S_ .f32 0x3F800000#32)⟩, ⟨S128, broadcastInDim S128 ![] bcast_S_S128 (constant (F := Ideal) S_ .f32 0x00000000#32)⟩] concatenates_S128_S128_S256_d0)⟩,
     ⟨S1x256, broadcastInDim S1x256 ![1] bcast_S256_S1x256_1 (concatenate S256 0 [⟨S128, broadcastInDim S128 ![] bcast_S_S128 (constant (F := Ideal) S_ .f32 0x00000000#32)⟩, ⟨S128, broadcastInDim S128 ![] bcast_S_S128 (constant (F := Ideal) S_ .f32 0x3F800000#32)⟩] concatenates_S128_S128_S256_d0)⟩,
     ⟨S1x256, broadcastInDim S1x256 ![1] bcast_S256_S1x256_1 (broadcastInDim S256 ![] bcast_S_S256 (constant (F := Ideal) S_ .f32 0x00000000#32))⟩] concatenates_S1x256_S1x256_S1x256_S3x256_d0

/-- The looked-up rows, twice side by side. -/
def twice (T : FVec Ideal S10000x128 .f32) (x : IVec S64x200 32) : FVec Ideal S64x200x256 .f32 :=
  concatenate S64x200x256 2
    [⟨S64x200x128, Host.gather gather_S10000x128_S64x200x1_S64x200x128_2_0_n_n_0_2_1128 T (rowIdx x)⟩,
     ⟨S64x200x128, Host.gather gather_S10000x128_S64x200x1_S64x200x128_2_0_n_n_0_2_1128 T (rowIdx x)⟩] concatenates_S64x200x128_S64x200x128_S64x200x256_d2

/-- All steps' inputs, through the input weights. -/
def through (x y : IVec S64x200 32) (T : FVec Ideal S10000x128 .f32) (A : FVec Ideal S512x256 .f32) (bi : FVec Ideal S512 .f32) : FVec Ideal S200x64x512 .f32 :=
  transpose S200x64x512 [1, 0, 2]
    (addf (Host.dotGeneral dot_S64x200x256_S512x256_S64x200x512_2_1_01_0_n_n none
        (mulf (twice T x) (Host.gather gather_S3x256_S64x200x1_S64x200x256_2_0_n_n_0_2_1256 marks (markIdx y))) A)
      (broadcastInDim S64x200x512 ![0, 1, 2] bcast_S1x1x512_S64x200x512_0_1_2 (broadcastInDim S1x1x512 ![2] bcast_S512_S1x1x512_2 bi)))
    transposes_S64x200x512_S200x64x512_1_0_2

variable (m : (ℓ : Loc nD τ sig) → Buf (Elt Ideal) ℓ) (c : Dev nD)

theorem entry_arg4 : entryContents preI m c (Proc.devRef .tc main_v37_1) = m (c, Proc.devRef .tc main_arg4) := by
  simp only [entryContents, afterL_cons, afterL_nil]
  after_reads_simp
  rfl

theorem entry_arg6 : entryContents preI m c (Proc.devRef .tc main_v37_2) = m (c, Proc.devRef .tc main_arg6) := by
  simp only [entryContents, afterL_cons, afterL_nil]
  after_reads_simp
  rfl

theorem entry_h : entryContents preI m c (Proc.devRef .tc main_v37_4) = broadcastInDim S64x128 ![] bcast_S_S64x128 (constant (F := Ideal) S_ .f32 0x00000000#32) := by
  simp only [entryContents, afterL_cons, afterL_nil]
  after_reads_simp
  rfl

theorem entry_c : entryContents preI m c (Proc.devRef .tc main_v37_5) = broadcastInDim S64x128 ![] bcast_S_S64x128 (constant (F := Ideal) S_ .f32 0x00000000#32) := by
  simp only [entryContents, afterL_cons, afterL_nil]
  after_reads_simp
  rfl

theorem entry_through : entryContents preI m c (Proc.devRef .tc main_v37_0)
    = through (m (c, Proc.devRef .tc main_arg0)) (m (c, Proc.devRef .tc main_arg1)) (m (c, Proc.devRef .tc main_arg2)) (m (c, Proc.devRef .tc main_arg3)) (m (c, Proc.devRef .tc main_arg5)) := by
  simp only [entryContents, afterL_cons, afterL_nil]
  after_reads_simp
  refine congrArg (fun z : FVec Ideal S64x200x256 .f32 => transpose S200x64x512 [1, 0, 2]
    (addf (Host.dotGeneral dot_S64x200x256_S512x256_S64x200x512_2_1_01_0_n_n none z (m (c, Proc.devRef .tc main_arg3)))
      (broadcastInDim S64x200x512 ![0, 1, 2] bcast_S1x1x512_S64x200x512_0_1_2 (broadcastInDim S1x1x512 ![2] bcast_S512_S1x1x512_2 (m (c, Proc.devRef .tc main_arg5)))))
    transposes_S64x200x512_S200x64x512_1_0_2) ?_
  refine congrArg₂ (fun u v : FVec Ideal S64x200x256 .f32 => mulf u v) ?_ ?_
  · refine cat2 _ _ ?_ ?_
    · after_reads_simp
      rfl
    · after_reads_simp
      rfl
  · refine congrArg₂ (fun (u : FVec Ideal S3x256 .f32) v => Host.gather gather_S3x256_S64x200x1_S64x200x256_2_0_n_n_0_2_1256 u v) ?_ rfl
    refine cat3 _ _ ?_ ?_ ?_
    · change upto _ _ _ (Proc.devRef .tc main_v18) = _
      after_reads_simp
      refine congrArg (fun z : FVec Ideal S256 .f32 => broadcastInDim S1x256 ![1] bcast_S256_S1x256_1 z) ?_
      refine cat2 _ _ ?_ ?_
      · after_reads_simp
      · after_reads_simp
    · change upto _ _ _ (Proc.devRef .tc main_v19) = _
      after_reads_simp
      refine congrArg (fun z : FVec Ideal S256 .f32 => broadcastInDim S1x256 ![1] bcast_S256_S1x256_1 z) ?_
      refine cat2 _ _ ?_ ?_
      · after_reads_simp
      · after_reads_simp
    · change upto _ _ _ (Proc.devRef .tc main_v20) = _
      after_reads_simp

end Cert.ReferenceIdeal.Net
-- ==== Proof.RefInput.lean ====
import proofs.«01_k».proof.Proof.RefEntry
import proofs.«01_k».proof.Proof.Words

/-! A step's input part of the gates in the reference. -/

set_option maxRecDepth 16384
set_option maxHeartbeats 1000000

noncomputable section

namespace Cert.ReferenceIdeal.Net

open Idealize.ShloMosaic Idealize.ShloMosaic.TcCoe
open Cert.ReferenceIdeal Cert.ReferenceIdeal.Gen
open Cert.KernelIdeal.Dkt (InRange toNat_of_nonneg)
open Cert.KernelIdeal.Net (rowAt inp1)
open scoped BigOperators

/-- A word that is not negative is kept. -/
theorem select_nonneg (v w : BitVec 32) (h : 0 ≤ v.toInt) : Scalar.select (IntOp.cmpi CmpIPredicate.slt v 0#32) w v = v := by
  have e : v.slt 0#32 = false := by
    rw [BitVec.slt, decide_eq_false_iff_not, BitVec.toInt_zero]
    omega
  simp [Scalar.select, IntOp.cmpi, e]

theorem rowIdx_at (x : IVec S64x200 32) (b : Fin 64) (s : Fin 200) (h : 0 ≤ (x (ix2 b s)).toInt) : rowIdx x (ix3 b s 0) = x (ix2 b s) := by
  pointwise [rowIdx]
  exact select_nonneg _ _ h

theorem markIdx_at (y : IVec S64x200 32) (b : Fin 64) (s : Fin 200) (h : -1 ≤ (y (ix2 b s)).toInt) :
    markIdx y (ix3 b s 0) = if (y (ix2 b s)).toInt = -1 then 2#32 else y (ix2 b s) := by
  pointwise [markIdx, three]
  by_cases e : y (ix2 b s) = 4294967295#32
  · rw [if_pos (by rw [e]; decide), e]
    decide
  · have e1 : (y (ix2 b s)).toInt ≠ -1 := fun h1 => e (BitVec.eq_of_toInt_eq h1)
    rw [if_neg e1]
    have e2 : Scalar.select (IntOp.cmpi CmpIPredicate.eq (y (ix2 b s)) 4294967295#32) (id (constantI S_ 32 2#32) ix0) (y (ix2 b s)) = y (ix2 b s) := by
      have e0 : (y (ix2 b s) == 4294967295#32) = false := beq_eq_false_iff_ne.2 e
      simp [Scalar.select, IntOp.cmpi, e0]
    rw [e2]
    exact select_nonneg _ _ (by omega)

theorem twice_at (T : FVec Ideal S10000x128 .f32) (x : IVec S64x200 32) (b : Fin 64) (s : Fin 200) (k : Fin 256) (h : 0 ≤ (x (ix2 b s)).toInt ∧ (x (ix2 b s)).toInt < 10000) :
    twice T x (ix3 b s k) = rowAt T (x (ix2 b s)).toNat ⟨k.val % 128, Nat.mod_lt _ (by decide)⟩ := by
  pointwise [twice]
  have hn := toNat_of_nonneg _ h.1
  have key : ∀ l : Fin 128, l.val = k.val % 128 → Host.gather gather_S10000x128_S64x200x1_S64x200x128_2_0_n_n_0_2_1128 T (rowIdx x) (ix3 b s l)
      = rowAt T (x (ix2 b s)).toNat ⟨k.val % 128, Nat.mod_lt _ (by decide)⟩ := by
    intro l hl
    rw [look_row]
    unfold rowAt
    rw [dif_pos (by omega)]
    refine congrArg T ?_
    refine congrArg₂ ix2 (Fin.ext ?_) (Fin.ext hl)
    show min (rowIdx x (ix3 b s 0)).toInt.toNat 9999 = (x (ix2 b s)).toNat
    rw [rowIdx_at x b s h.1]
    omega
  by_cases hk : k.val < 128
  · rw [dif_pos hk]
    exact key _ (by show k.val = _; omega)
  · rw [dif_neg hk]
    exact key _ (by show k.val - 128 = _; omega)

theorem marks_at (r : Fin 3) (k : Fin 256) : marks (ix2 r k) = if k.val / 128 = r.val then 1 else 0 := by
  pointwise [marks]
  have hk := k.isLt
  have hr := r.isLt
  split_ifs <;> first | rfl | (exfalso; omega)

theorem through_sum (x y : IVec S64x200 32) (T : FVec Ideal S10000x128 .f32) (A : FVec Ideal S512x256 .f32) (bi : FVec Ideal S512 .f32) (h : InRange x y) (s : Fin 200) (b : Fin 64) (q : Fin 512) :
    through x y T A bi (ix3 s b q) = (∑ k : Fin 256, inp1 T (x (ix2 b s)) (y (ix2 b s)) k * A (ix2 q k)) + bi (ix1 q) := by
  pointwise [through]
  congr 1
  refine Finset.sum_congr rfl fun k _ => ?_
  rw [twice_at T x b s k (h (ix2 b s)).1, look_mark, marks_at]
  congr 1
  have hy := (h (ix2 b s)).2
  show _ * (if k.val / 128 = min (markIdx y (ix3 b s 0)).toInt.toNat 2 then (1 : EReal) else 0) = _
  rw [markIdx_at y b s hy.1]
  unfold inp1
  have hk := k.isLt
  by_cases e : (y (ix2 b s)).toInt = -1
  · rw [if_pos e, if_pos e, if_neg (by rw [show (2#32 : BitVec 32).toInt.toNat = 2 from rfl]; omega), mul_zero]
  · have hn := toNat_of_nonneg (y (ix2 b s)) (by omega)
    rw [if_neg e, if_neg e, show min (y (ix2 b s)).toInt.toNat 2 = (y (ix2 b s)).toNat by omega]
    split_ifs
    · rw [mul_one]
    · rw [mul_zero]

end Cert.ReferenceIdeal.Net
-- ==== Proof.RefLoop.lean ====
import proofs.«01_k».proof.Proof.RefInput
import Idealize.ShloMosaic.Lib.DynamicIndex
import Idealize.ShloMosaic.Lib.Pipeline.Value

/-! The reference's loop as steps of the network. -/

set_option maxRecDepth 16384
set_option maxHeartbeats 1000000

noncomputable section

namespace Cert.ReferenceIdeal.Net

open Idealize.ShloMosaic Idealize.ShloMosaic.TcCoe
open Idealize.SL.Sem
open Cert.ReferenceIdeal Cert.ReferenceIdeal.Gen Cert.ReferenceIdeal.Value
open Cert.KernelIdeal.Net (NetState gate netC netH net asVec)
open scoped BigOperators

/-- The places that a step's slices start at. -/
theorem starts (n : IVec S_ 32) (s : ℕ) (hs : s < 200) (hn : n = fun _ => BitVec.ofNat 32 s) (a : Fin 3) :
    (((![n, constantI S_ 32 0#32, constantI S_ 32 0#32] : Fin 3 → (⟨S_, .i32⟩ : BufTy).Contents (Elt Ideal))) a (Shape.Idx.first h_S_)).toInt = ((![s, 0, 0] : Fin 3 → ℕ) a : ℤ) := by
  subst hn
  fin_cases a
  · show (BitVec.ofNat 32 s).toInt = (s : ℤ)
    rw [BitVec.toInt_eq_toNat_cond, BitVec.toNat_ofNat, Nat.mod_eq_of_lt (by omega), if_pos (by omega)]
  · rfl
  · rfl

/-- A step's slice of the inputs. -/
theorem cut (X : FVec Ideal S200x64x512 .f32) (n : IVec S_ 32) (s : ℕ) (hs : s < 200) (hn : n = fun _ => BitVec.ofNat 32 s) (h) (z : Fin 1) (b : Fin 64) (q : Fin 512) :
    Host.dynamicSlice S1x64x512 X (fun a => (((![n, constantI S_ 32 0#32, constantI S_ 32 0#32] : Fin 3 → (⟨S_, .i32⟩ : BufTy).Contents (Elt Ideal))) a (Shape.Idx.first h_S_)).toInt) h (ix3 z b q)
      = X (ix3 ⟨s, hs⟩ b q) := by
  rw [Host.dynamicSlice_eq_extractStridedSlice S1x64x512 X _ ![s, 0, 0] h ⟨rfl, fun a => by fin_cases a <;> simp <;> omega⟩ (starts n s hs hn)]
  pointwise

/-- What the loop's buffers hold after `s` steps. -/
structure Held (X : FVec Ideal S200x64x512 .f32) (B : FVec Ideal S512x128 .f32) (bh : FVec Ideal S512 .f32) (st : ℕ → NetState) (s : ℕ) (V : Valuation τ sig (Elt Ideal)) : Prop where
  inp : V (Proc.devRef .tc main_v37_0) = X
  wts : V (Proc.devRef .tc main_v37_1) = B
  bias : V (Proc.devRef .tc main_v37_2) = bh
  ctr : V (Proc.devRef .tc main_v37_3) = fun _ => BitVec.ofNat 32 s
  hid : V (Proc.devRef .tc main_v37_4) = (asVec (st s)).1
  cel : V (Proc.devRef .tc main_v37_5) = (asVec (st s)).2
  all : ∀ t, (ht : t < s) → (h : t < 200) → ∀ b l, (V (Proc.devRef .tc main_v37_6) : FVec Ideal S200x64x128 .f32) (ix3 ⟨t, h⟩ b l) = (st (t + 1)).1 b l

variable {X : FVec Ideal S200x64x512 .f32} {B : FVec Ideal S512x128 .f32} {bh : FVec Ideal S512 .f32} {V : Valuation τ sig (Elt Ideal)} {s : ℕ}

/-- The step's input part with both biases. -/
def gR (X : FVec Ideal S200x64x512 .f32) (bh : FVec Ideal S512 .f32) (s : ℕ) (b : Fin 64) (q : Fin 512) : EReal :=
  if h : s < 200 then X (ix3 ⟨s, h⟩ b q) + bh (ix1 q) else 0

theorem v66_at (st : ℕ → NetState) (hV : Held X B bh st s V) (hs : s < 200) (b : Fin 64) (q : Fin 512) :
    (res_main_while0b_v66 V : FVec Ideal S64x512 .f32) (ix2 b q) = gate (fun q k => B (ix2 q k)) (gR X bh s) (st s).1 b q := by
  rw [res_main_while0b_v66, hV.inp, hV.wts, hV.bias, hV.hid]
  have hc := cut X (V (Proc.devRef .tc main_v37_3)) s hs hV.ctr sliceFits_S200x64x512_S1x64x512
  generalize hD : Host.dynamicSlice S1x64x512 X _ _ = D
  have hd : ∀ z b q, D (ix3 z b q) = X (ix3 ⟨s, hs⟩ b q) := fun z b q => by rw [← hD]; exact hc z b q
  clear hD
  pointwise
  rw [hd, gate, gR, dif_pos hs]
  exact add_right_comm (G := EReal) _ _ _

theorem v86_at (st : ℕ → NetState) (hV : Held X B bh st s V) (hs : s < 200) (b : Fin 64) (j : Fin 128) :
    (res_main_while0b_v86 V : FVec Ideal S64x128 .f32) (ix2 b j) = netC (fun q k => B (ix2 q k)) (gR X bh s) (st s) b j := by
  rw [res_main_while0b_v86, hV.cel]
  pointwise
  rw [v66_at st hV hs, v66_at st hV hs, v66_at st hV hs]
  rfl

theorem v94_at (st : ℕ → NetState) (hV : Held X B bh st s V) (hs : s < 200) (b : Fin 64) (j : Fin 128) :
    (res_main_while0b_v94 V : FVec Ideal S64x128 .f32) (ix2 b j) = netH (fun q k => B (ix2 q k)) (gR X bh s) (st s) b j := by
  rw [res_main_while0b_v94]
  pointwise
  rw [v66_at st hV hs, v86_at st hV hs]
  rfl

/-- A step's row of hidden values, written into the collection. -/
theorem put (Y : FVec Ideal S200x64x128 .f32) (u : FVec Ideal S1x64x128 .f32) (n : IVec S_ 32) (s : ℕ) (hs : s < 200) (hn : n = fun _ => BitVec.ofNat 32 s) (h) (t : Fin 200) (b : Fin 64) (l : Fin 128) :
    Host.dynamicUpdateSlice Y u (fun a => (((![n, constantI S_ 32 0#32, constantI S_ 32 0#32] : Fin 3 → (⟨S_, .i32⟩ : BufTy).Contents (Elt Ideal))) a (Shape.Idx.first h_S_)).toInt) h (ix3 t b l)
      = if t.val = s then u (ix3 0 b l) else Y (ix3 t b l) := by
  rw [Host.dynamicUpdateSlice_eq_updateSlice Y u _ h ![s, 0, 0] (fun a => by rw [starts n s hs hn]; fin_cases a <;> simp <;> omega) ⟨rfl, fun a => by fin_cases a <;> simp <;> omega⟩]
  pointwise
  by_cases e : t.val = s
  · rw [dif_pos (by omega), if_pos e]
    refine congrArg u (congrArg (ix3 · b l) (Fin.ext ?_))
    show t.val - s = 0
    omega
  · rw [dif_neg (by omega), if_neg e]

/-- One step. -/
theorem held_step (st : ℕ → NetState) (hst : ∀ s, st (s + 1) = (netH (fun q k => B (ix2 q k)) (gR X bh s) (st s), netC (fun q k => B (ix2 q k)) (gR X bh s) (st s)))
    (hV : Held X B bh st s V) (hs : s < 200) : Held X B bh st (s + 1) (STEP V) where
  inp := (STEP_main_v37_0 V).trans hV.inp
  wts := (STEP_main_v37_1 V).trans hV.wts
  bias := (STEP_main_v37_2 V).trans hV.bias
  ctr := by
    rw [STEP_main_v37_3, step_main_v37_3, hV.ctr]
    funext i
    show BitVec.ofNat 32 s + 1#32 = BitVec.ofNat 32 (s + 1)
    rw [BitVec.ofNat_add]
  hid := by
    rw [STEP_main_v37_4, hst]
    refine funext fun i => ?_
    rw [eq_ix2 i]
    exact v94_at st hV hs (i 0) (i 1)
  cel := by
    rw [STEP_main_v37_5, hst]
    refine funext fun i => ?_
    rw [eq_ix2 i]
    exact v86_at st hV hs (i 0) (i 1)
  all := by
    intro t ht h b l
    rw [STEP_main_v37_6]
    refine (put _ _ _ s hs hV.ctr updateFits_S200x64x128_S1x64x128 ⟨t, h⟩ b l).trans ?_
    by_cases e : t = s
    · rw [if_pos e]
      subst e
      pointwise
      rw [v94_at st hV hs, hst]
    · rw [if_neg e]
      exact hV.all t (by omega) h b l

/-- All steps up to the last. -/
theorem held_iter (st : ℕ → NetState) (hst : ∀ s, st (s + 1) = (netH (fun q k => B (ix2 q k)) (gR X bh s) (st s), netC (fun q k => B (ix2 q k)) (gR X bh s) (st s)))
    (hV : Held X B bh st 0 V) : ∀ n ≤ 200, Held X B bh st n (STEP^[n] V) := by
  intro n
  induction n with
  | zero => exact fun _ => hV
  | succ k ih =>
    intro hk
    rw [Function.iterate_succ_apply']
    exact held_step st hst (ih (by omega)) (by omega)

end Cert.ReferenceIdeal.Net
-- ==== Proof.RefOut.lean ====
import proofs.«01_k».proof.Proof.RefLoop

/-! What the reference returns. -/

set_option maxRecDepth 16384
set_option maxHeartbeats 1000000

noncomputable section

namespace Cert.ReferenceIdeal.Net

open Idealize.ShloMosaic Idealize.ShloMosaic.TcCoe Idealize.ShloMosaic.StableHlo
open Idealize.SL.Sem
open Cert.ReferenceIdeal Cert.ReferenceIdeal.Gen Cert.ReferenceIdeal.Value
open Cert.KernelIdeal.Dkt (InRange toNat_of_nonneg)
open Cert.KernelIdeal.Net (NetState gate netC netH net asVec rowAt entryAt stepOf gIn states ans1 answer net_congr)
open scoped BigOperators

/-- The place of the next question among all questions. -/
def pick (x : IVec S64x200 32) : IVec S64x199x1x1 32 :=
  shapeCast S64x199x1x1 (select (cmpi .slt (broadcastInDim S64x199x1 ![0, 1] bcast_S64x199_S64x199x1_0_1 (maxsi (broadcastInDim S64x199 ![] bcast_S_S64x199 (id (constantI S_ 32 0#32))) (subi (extractStridedSlice S64x199 ![0, 1] x slices_S64x200_S64x199_0_1) (broadcastInDim S64x199 ![] bcast_S_S64x199 (constantI S_ 32 1#32))))) (broadcastInDim S64x199x1 ![] bcast_S_S64x199x1 (constantI S_ 32 0#32))) (addi (broadcastInDim S64x199x1 ![0, 1] bcast_S64x199_S64x199x1_0_1 (maxsi (broadcastInDim S64x199 ![] bcast_S_S64x199 (id (constantI S_ 32 0#32))) (subi (extractStridedSlice S64x199 ![0, 1] x slices_S64x200_S64x199_0_1) (broadcastInDim S64x199 ![] bcast_S_S64x199 (constantI S_ 32 1#32))))) (broadcastInDim S64x199x1 ![] bcast_S_S64x199x1 (constantI S_ 32 10000#32))) (broadcastInDim S64x199x1 ![0, 1] bcast_S64x199_S64x199x1_0_1 (maxsi (broadcastInDim S64x199 ![] bcast_S_S64x199 (id (constantI S_ 32 0#32))) (subi (extractStridedSlice S64x199 ![0, 1] x slices_S64x200_S64x199_0_1) (broadcastInDim S64x199 ![] bcast_S_S64x199 (constantI S_ 32 1#32)))))) shapeCasts_S64x199x1_S64x199x1x1

/-- One less than a question, not below zero. -/
theorem pick_word (w : BitVec 32) (h : 0 ≤ w.toInt ∧ w.toInt < 10000) :
    (Scalar.select (IntOp.cmpi CmpIPredicate.slt (IntOp.maxsi 0#32 (IntOp.subi w 1#32)) 0#32)
      (IntOp.addi (IntOp.maxsi 0#32 (IntOp.subi w 1#32)) 10000#32) (IntOp.maxsi 0#32 (IntOp.subi w 1#32))).toInt.toNat = w.toNat - 1 := by
  have hn := toNat_of_nonneg w h.1
  by_cases e : w = 0#32
  · subst e
    decide
  · have hp : 0 < w.toNat := Nat.pos_of_ne_zero fun h0 => e (BitVec.eq_of_toNat_eq h0)
    have h1 : IntOp.subi w 1#32 = BitVec.ofNat 32 (w.toNat - 1) := by
      refine BitVec.eq_of_toNat_eq ?_
      show (w - 1#32).toNat = _
      rw [BitVec.toNat_sub, BitVec.toNat_ofNat, BitVec.toNat_ofNat]
      omega
    have h2 : (BitVec.ofNat 32 (w.toNat - 1)).toInt = ((w.toNat - 1 : ℕ) : ℤ) := by
      rw [BitVec.toInt_eq_toNat_cond, BitVec.toNat_ofNat, Nat.mod_eq_of_lt (by omega), if_pos (by omega)]
    have h3 : IntOp.maxsi 0#32 (BitVec.ofNat 32 (w.toNat - 1)) = BitVec.ofNat 32 (w.toNat - 1) := by
      unfold IntOp.maxsi
      rw [if_neg]
      rw [BitVec.slt, decide_eq_true_iff, h2, BitVec.toInt_zero]
      omega
    rw [h1, h3, select_nonneg _ _ (by rw [h2]; omega), h2]
    rfl

theorem pick_at (x : IVec S64x200 32) (b : Fin 64) (s : Fin 199) (h : 0 ≤ (x (ix2 b ⟨s.val + 1, by omega⟩)).toInt ∧ (x (ix2 b ⟨s.val + 1, by omega⟩)).toInt < 10000) :
    (pick x (ix4 b s 0 0)).toInt.toNat = (x (ix2 b ⟨s.val + 1, by omega⟩)).toNat - 1 := by
  pointwise [pick]
  rw [show (⟨1 + s.val, by omega⟩ : Fin 200) = ⟨s.val + 1, by omega⟩ from Fin.ext (Nat.add_comm _ _)]
  exact pick_word _ h

/-- All answers of all steps. -/
def allAns (Y : FVec Ideal S200x64x128 .f32) (O : FVec Ideal S10000x128 .f32) (o : FVec Ideal S10000 .f32) : FVec Ideal S64x199x10000 .f32 :=
  extractStridedSlice S64x199x10000 ![0, 0, 0] (Host.divf (broadcastInDim S64x200x10000 ![] bcast_S_S64x200x10000 (constant S_ .f32 0x3F800000#32)) (addf (broadcastInDim S64x200x10000 ![] bcast_S_S64x200x10000 (constant S_ .f32 0x3F800000#32)) (Host.exp (Host.negf (addf (Host.dotGeneral dot_S64x200x128_S10000x128_S64x200x10000_2_1_01_0_n_n none (transpose S64x200x128 [1, 0, 2] Y transposes_S200x64x128_S64x200x128_1_0_2) O) (broadcastInDim S64x200x10000 ![0, 1, 2] bcast_S1x1x10000_S64x200x10000_0_1_2 (broadcastInDim S1x1x10000 ![2] bcast_S10000_S1x1x10000_2 o))))))) slices_S64x200x10000_S64x199x10000_0_0_0

theorem allAns_at (Y : FVec Ideal S200x64x128 .f32) (O : FVec Ideal S10000x128 .f32) (o : FVec Ideal S10000 .f32) (b : Fin 64) (s : Fin 199) (r : Fin 10000) :
    allAns Y O o (ix3 b s r) = Ideal.logistic ((∑ k : Fin 128, Y (ix3 ⟨s.val, by omega⟩ b k) * O (ix2 r k)) + o (ix1 r)) := by
  pointwise [allAns]
  rfl

theorem out_eq (V : Valuation τ sig (Elt Ideal)) : out_main_v59 V
    = select (cmpi .eq (extractStridedSlice S64x199 ![0, 1] (V (Proc.devRef .tc main_arg0)) slices_S64x200_S64x199_0_1) (broadcastInDim S64x199 ![] bcast_S_S64x199 (constantI S_ 32 0#32)))
      (broadcastInDim S64x199 ![] bcast_S_S64x199 (id (constant (F := Ideal) S_ .f32 0x00000000#32)))
      (shapeCast S64x199 (Host.gather gather_S64x199x10000_S64x199x1x1_S64x199x1_n_2_01_01_2_3_111
        (allAns (V (Proc.devRef .tc main_v37_6)) (V (Proc.devRef .tc main_arg7)) (V (Proc.devRef .tc main_arg8))) (pick (V (Proc.devRef .tc main_arg0)))) shapeCasts_S64x199x1_S64x199) := rfl

theorem out_at (x : IVec S64x200 32) (Y : FVec Ideal S200x64x128 .f32) (O : FVec Ideal S10000x128 .f32) (o : FVec Ideal S10000 .f32) (b : Fin 64) (s : Fin 199)
    (h : 0 ≤ (x (ix2 b ⟨s.val + 1, by omega⟩)).toInt ∧ (x (ix2 b ⟨s.val + 1, by omega⟩)).toInt < 10000) :
    (select (cmpi .eq (extractStridedSlice S64x199 ![0, 1] x slices_S64x200_S64x199_0_1) (broadcastInDim S64x199 ![] bcast_S_S64x199 (constantI S_ 32 0#32)))
      (broadcastInDim S64x199 ![] bcast_S_S64x199 (id (constant (F := Ideal) S_ .f32 0x00000000#32)))
      (shapeCast S64x199 (Host.gather gather_S64x199x10000_S64x199x1x1_S64x199x1_n_2_01_01_2_3_111
        (allAns Y O o) (pick x)) shapeCasts_S64x199x1_S64x199) : FVec Ideal S64x199 .f32) (ix2 b s)
      = ans1 (fun k => Y (ix3 ⟨s.val, by omega⟩ b k)) O o (x (ix2 b ⟨s.val + 1, by omega⟩)) := by
  pointwise
  rw [show (⟨1 + s.val, by omega⟩ : Fin 200) = ⟨s.val + 1, by omega⟩ from Fin.ext (Nat.add_comm _ _)]
  have hn := toNat_of_nonneg _ h.1
  unfold ans1
  by_cases e : x (ix2 b ⟨s.val + 1, by omega⟩) = 0#32
  · rw [if_pos e, e]
    show Ideal.ofBits FTy.f32 0#32 = 0
    simp [Ideal.ofBits, Ideal.ieee]
  · have e0 : (x (ix2 b ⟨s.val + 1, by omega⟩) == 0#32) = false := beq_eq_false_iff_ne.2 e
    rw [if_neg e]
    refine Eq.trans (b := Host.gather gather_S64x199x10000_S64x199x1x1_S64x199x1_n_2_01_01_2_3_111 (allAns Y O o) (pick x) (ix3 b s 0)) ?_ ?_
    · simp [Scalar.select, IntOp.cmpi, e0]
    · rw [look_answer, allAns_at]
      have hp : min (pick x (ix4 b s 0 0)).toInt.toNat 9999 = (x (ix2 b ⟨s.val + 1, by omega⟩)).toNat - 1 := by
        rw [pick_at x b s h]
        omega
      unfold rowAt entryAt
      have hl : (x (ix2 b ⟨s.val + 1, by omega⟩)).toNat - 1 < 10000 := by omega
      rw [dif_pos hl]
      simp only [dif_pos hl, hp]

variable (m : (ℓ : Loc nD τ sig) → Buf (Elt Ideal) ℓ) (c : Dev nD)

/-- The states in the order in which the reference adds. -/
def runs : ℕ → NetState :=
  net (fun q k => (m (c, Proc.devRef .tc main_arg4) : FVec Ideal S512x128 .f32) (ix2 q k))
    (gR (through (m (c, Proc.devRef .tc main_arg0)) (m (c, Proc.devRef .tc main_arg1)) (m (c, Proc.devRef .tc main_arg2)) (m (c, Proc.devRef .tc main_arg3)) (m (c, Proc.devRef .tc main_arg5)))
      (m (c, Proc.devRef .tc main_arg6)))

theorem held_entry : Held (through (m (c, Proc.devRef .tc main_arg0)) (m (c, Proc.devRef .tc main_arg1)) (m (c, Proc.devRef .tc main_arg2)) (m (c, Proc.devRef .tc main_arg3)) (m (c, Proc.devRef .tc main_arg5)))
    (m (c, Proc.devRef .tc main_arg4)) (m (c, Proc.devRef .tc main_arg6)) (runs m c) 0 (entryContents preI m c) where
  inp := entry_through m c
  wts := entry_arg4 m c
  bias := entry_arg6 m c
  ctr := ctr_entry m c
  hid := by
    rw [entry_h]
    funext i
    show Ideal.ofBits FTy.f32 0#32 = 0
    simp [Ideal.ofBits, Ideal.ieee]
  cel := by
    rw [entry_c]
    funext i
    show Ideal.ofBits FTy.f32 0#32 = 0
    simp [Ideal.ofBits, Ideal.ieee]
  all := fun t ht => absurd ht (Nat.not_lt_zero t)

/-- Both orders of adding give the same states. -/
theorem runs_eq (h : InRange (m (c, Proc.devRef .tc main_arg0)) (m (c, Proc.devRef .tc main_arg1))) (n : ℕ) (hn : n ≤ 200) :
    runs m c n = states (m (c, Proc.devRef .tc main_arg2)) (m (c, Proc.devRef .tc main_arg3)) (m (c, Proc.devRef .tc main_arg4)) (m (c, Proc.devRef .tc main_arg5)) (m (c, Proc.devRef .tc main_arg6))
      (m (c, Proc.devRef .tc main_arg0)) (m (c, Proc.devRef .tc main_arg1)) n := by
  refine net_congr _ n fun s hs => funext fun b => funext fun q => ?_
  have hs2 : s < 200 := by omega
  unfold gR gIn stepOf
  rw [dif_pos hs2, through_sum _ _ _ _ _ h]
  simp only [dif_pos hs2]
  exact add_assoc (G := EReal) _ _ _

/-- The reference's result is the answer. -/
theorem result_eq (h : InRange (m (c, Proc.devRef .tc main_arg0)) (m (c, Proc.devRef .tc main_arg1))) :
    out_main_v59 (STEP^[200] (entryContents preI m c))
      = answer (m (c, Proc.devRef .tc main_arg0)) (m (c, Proc.devRef .tc main_arg1)) (m (c, Proc.devRef .tc main_arg2)) (m (c, Proc.devRef .tc main_arg3)) (m (c, Proc.devRef .tc main_arg4))
        (m (c, Proc.devRef .tc main_arg5)) (m (c, Proc.devRef .tc main_arg6)) (m (c, Proc.devRef .tc main_arg7)) (m (c, Proc.devRef .tc main_arg8)) := by
  have hk := held_iter (runs m c) (fun s => rfl) (held_entry m c) 200 (le_refl _)
  rw [out_eq, iter_main_arg0 m c 200, iter_main_arg7 m c 200, iter_main_arg8 m c 200]
  refine funext fun i => ?_
  obtain ⟨b, s, rfl⟩ : ∃ (b : Fin 64) (s : Fin 199), i = ix2 b s := ⟨i 0, i 1, eq_ix2 i⟩
  refine (out_at _ _ _ _ b s (h _).1).trans ?_
  show ans1 _ _ _ _ = ans1 ((states _ _ _ _ _ _ _ (s.val + 1)).1 b) _ _ (stepOf _ b (s.val + 1))
  rw [← runs_eq m c h (s.val + 1) (by omega)]
  unfold stepOf
  rw [dif_pos (show s.val + 1 < 200 by omega)]
  refine congrArg (ans1 · _ _ _) (funext fun k => ?_)
  exact hk.all s.val (by omega) (by omega) b k

end Cert.ReferenceIdeal.Net
-- ==== Proof.Values.lean ====
import proofs.«01_k».proof.Proof.KernelValue
import proofs.«01_k».proof.Proof.RefOut

/-! Both programs' runs end with the answer. -/

set_option maxRecDepth 8192

noncomputable section

namespace Cert.KernelIdeal.Net

open Idealize.ShloMosaic Idealize.ShloMosaic.TcCoe
open Idealize.SL.Sem
open Cert.KernelIdeal Cert.KernelIdeal.Gen
open Cert.KernelIdeal.Dkt (InRange qs ans run_main e_le w_le args_kept)

variable (m : (ℓ : Loc nD τ sig) → Buf (Elt Ideal) ℓ) (ρ : Dev nD → PrngReg)

/-- The answer for the launched arrays. -/
def answerOf (c : Dev nD) : S64x199.Idx → EReal :=
  answer (qs m c) (ans m c) (m (c, Proc.devRef .tc main_arg2)) (m (c, Proc.devRef .tc main_arg3)) (m (c, Proc.devRef .tc main_arg4))
    (m (c, Proc.devRef .tc main_arg5)) (m (c, Proc.devRef .tc main_arg6)) (m (c, Proc.devRef .tc main_arg7)) (m (c, Proc.devRef .tc main_arg8))

/-- The kernel's run ends with the answer, and its arguments are as they were. -/
theorem kernel_run (h : ∀ c, InRange (qs m c) (ans m c)) :
    θ_run defs (onTc (τ := τ) (main (F := Ideal))) ⟨m, fun _ => 0, ρ⟩ (fun r => ∀ c : Dev nD, r.2.mem ((c.tc : Thread nD τ).loc main_v54) = answerOf m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8)) :=
  (θ_run defs _ _).mono (fun r hr c => ⟨((hr.1 c).2 main_v54 (Pipeline.mem_restRefs_of main_v54 (by decide) (by decide))).trans (answers_eq m c (h c) _ _), args_kept m _ _ hr.1 c⟩)
    (run_main m ρ (fun c => e_le m c (h c)) (fun c => w_le m c (h c)))

end Cert.KernelIdeal.Net

namespace Cert.ReferenceIdeal.Net

open Idealize.ShloMosaic Idealize.ShloMosaic.TcCoe Idealize.ShloMosaic.StableHlo
open Idealize.SL.Sem
open Cert.ReferenceIdeal.Value

/-- The reference's result from the same arrays is the kernel's answer. -/
theorem result_as (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.KernelIdeal.Dkt.InRange (Cert.KernelIdeal.Dkt.qs m c) (Cert.KernelIdeal.Dkt.ans m c))
    (he : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    out_main_v59 (STEP^[200] (entryContents preI m' c)) = Cert.KernelIdeal.Net.answerOf m c := by
  obtain ⟨h0, h1, h2, h3, h4, h5, h6, h7, h8⟩ := he
  unfold Cert.KernelIdeal.Net.answerOf Cert.KernelIdeal.Dkt.qs Cert.KernelIdeal.Dkt.ans
  unfold Cert.KernelIdeal.Dkt.qs Cert.KernelIdeal.Dkt.ans at h
  erw [← h0, ← h1] at h
  erw [← h0, ← h1, ← h2, ← h3, ← h4, ← h5, ← h6, ← h7, ← h8]
  exact result_eq m' c h

end Cert.ReferenceIdeal.Net
-- ==== Proof.lean ====
import proofs.«01_k».proof.Defs
import proofs.«01_k».proof.Proof.Gen.Kernel
import proofs.«01_k».proof.Proof.Gen.KernelIdeal
import proofs.«01_k».proof.Proof.Gen.ReferenceIdeal
import proofs.«01_k».proof.Proof.Gen.ReferenceIdeal.Run
import proofs.«01_k».proof.Proof.Gen.Pre_in_range
import proofs.«01_k».proof.Proof.RangeKernel
import proofs.«01_k».proof.Proof.RangeKernelIdeal
import proofs.«01_k».proof.Proof.Values
import Idealize.ShloMosaic.Lib.Bf16Pair
import Idealize.ShloMosaic.Lib.Bf16PairInverse
import Idealize.ShloMosaic.Lib.Quiescent

/-! The claims, from the modules that prove their parts. -/

noncomputable section

namespace Cert.Proof

open Idealize.ShloMosaic Idealize.SL.Sem

/-- The kernel's frame: inside the ranges its index words stay inside the tables. -/
theorem frame_kernel : Cert.quiescent_Kernel := fun m g h =>
  Cert.Kernel.Dkt.frame_of_range (F := Bits) m g fun c => Cert.KernelIdeal.Dkt.inRange_of_pre (F := Bits) _ _ _ _ _ _ _ _ _ (congrFun (h c))

/-- The idealized kernel's frame. -/
theorem frame_ideal : Cert.quiescent_KernelIdeal := fun m g h =>
  Cert.KernelIdeal.Dkt.frame_of_range (F := Ideal) m g fun c => Cert.KernelIdeal.Dkt.inRange_of_pre (F := Ideal) _ _ _ _ _ _ _ _ _ (congrFun (h c))

/-- The reference's frame: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each rewrite is an instance of the two rules' own statements. -/
theorem rewrites : Cert.preserves_Kernel_KernelIdeal :=
  ⟨IdealRules.bf16_pair.bufferStatement _ _, IdealRules.bf16_pair.bufferStatement _ _, IdealRules.bf16_pair.statement _ _,
    IdealRules.bf16_pair.statement _ _, IdealRules.bf16_pair.statement _ _, IdealRules.bf16_pair.statement _ _,
    IdealRules.bf16_pair.statement _ _, IdealRules.bf16_pair.statement _ _, IdealRules.bf16_pair.statement _ _⟩

/-- The idealized kernel and the reference give the same answers. -/
theorem values : Cert.algebraic_KernelIdeal_ReferenceIdeal := fun m g m' g' hp he =>
  have hr : ∀ c, Cert.KernelIdeal.Dkt.InRange (Cert.KernelIdeal.Dkt.qs m c) (Cert.KernelIdeal.Dkt.ans m c) := fun c =>
    Cert.KernelIdeal.Dkt.inRange_of_pre (F := Ideal) _ _ _ _ _ _ _ _ _ (congrFun (hp c))
  ⟨Cert.KernelIdeal.Net.answerOf m, Cert.KernelIdeal.Net.kernel_run m g hr,
    (θ_run Cert.ReferenceIdeal.defs _ _).mono (fun _ h c => ⟨(h c).1.trans (Cert.ReferenceIdeal.Net.result_as m m' c (hr c) (he c)), (h c).2⟩)
      (Cert.ReferenceIdeal.Value.run (F := Ideal) m' g')⟩

theorem claim : Cert.Claim :=
  ⟨_, _, _, _, frame_kernel, frame_ideal, frame_reference, rewrites, values⟩

end Cert.Proof
